-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_ffn [hPre_finite_ffn : Cert.Pre_finite_ffn.Facts] (m : (ℓ : Loc Cert.KernelIdeal.nD Cert.KernelIdeal.τ Cert.KernelIdeal.sig) → Buf (Elt Ideal) ℓ) : Prop :=
  ∀ c : Dev Cert.KernelIdeal.nD,
    (Cert.Pre_finite_ffn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ffn [hPre_finite_ffn : Cert.Pre_finite_ffn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ffn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_attention [hPre_finite_attention : Cert.Pre_finite_attention.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_attention.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_attention [hPre_finite_attention : Cert.Pre_finite_attention.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_attention.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_pool [hPre_finite_pool : Cert.Pre_finite_pool.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_pool.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_pool [hPre_finite_pool : Cert.Pre_finite_pool.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_pool.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_pre [hPre_finite_pre : Cert.Pre_finite_pre.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_pre.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_pre [hPre_finite_pre : Cert.Pre_finite_pre.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_pre.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_post [hPre_finite_post : Cert.Pre_finite_post.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_post.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_post [hPre_finite_post : Cert.Pre_finite_post.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_post.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_mid [hPre_finite_mid : Cert.Pre_finite_mid.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_mid.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_mid [hPre_finite_mid : Cert.Pre_finite_mid.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_mid.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_mixer [hPre_finite_mixer : Cert.Pre_finite_mixer.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_mixer.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_mixer [hPre_finite_mixer : Cert.Pre_finite_mixer.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_mixer.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_ffn [hKernelIdeal : Cert.KernelIdeal.Facts] [hPre_finite_ffn : Cert.Pre_finite_ffn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_ffn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ffn [hReferenceIdeal : Cert.ReferenceIdeal.Facts] [hPre_finite_ffn : Cert.Pre_finite_ffn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ffn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite_attention [hKernel2Ideal : Cert.Kernel2Ideal.Facts] [hPre_finite_attention : Cert.Pre_finite_attention.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_attention m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite_attention [hReference2Ideal : Cert.Reference2Ideal.Facts] [hPre_finite_attention : Cert.Pre_finite_attention.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_attention m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite_pool [hKernel3Ideal : Cert.Kernel3Ideal.Facts] [hPre_finite_pool : Cert.Pre_finite_pool.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_pool m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite_pool [hReference3Ideal : Cert.Reference3Ideal.Facts] [hPre_finite_pool : Cert.Pre_finite_pool.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_pool m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel4Ideal_pre_finite_pre [hKernel4Ideal : Cert.Kernel4Ideal.Facts] [hPre_finite_pre : Cert.Pre_finite_pre.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_pre m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_finite_pre [hReference4Ideal : Cert.Reference4Ideal.Facts] [hPre_finite_pre : Cert.Pre_finite_pre.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_pre m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Kernel5Ideal_pre_finite_post [hKernel5Ideal : Cert.Kernel5Ideal.Facts] [hPre_finite_post : Cert.Pre_finite_post.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_post m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference5Ideal_pre_finite_post [hReference5Ideal : Cert.Reference5Ideal.Facts] [hPre_finite_post : Cert.Pre_finite_post.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_post m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Kernel6Ideal_pre_finite_mid [hKernel6Ideal : Cert.Kernel6Ideal.Facts] [hPre_finite_mid : Cert.Pre_finite_mid.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_mid m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def quiescent_Reference6Ideal_pre_finite_mid [hReference6Ideal : Cert.Reference6Ideal.Facts] [hPre_finite_mid : Cert.Pre_finite_mid.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_mid m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Kernel7Ideal_pre_finite_mixer [hKernel7Ideal : Cert.Kernel7Ideal.Facts] [hPre_finite_mixer : Cert.Pre_finite_mixer.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_mixer m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Reference7Ideal_pre_finite_mixer [hReference7Ideal : Cert.Reference7Ideal.Facts] [hPre_finite_mixer : Cert.Pre_finite_mixer.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_mixer m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8))
      ∧ r.2.sem = fun _ => 0)

def preserves_Kernel_KernelIdeal : Prop :=
  True

def algebraic_KernelIdeal_ReferenceIdeal_pre_finite_ffn [hKernelIdeal : Cert.KernelIdeal.Facts] [hReferenceIdeal : Cert.ReferenceIdeal.Facts] [hPre_finite_ffn : Cert.Pre_finite_ffn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_ffn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_v26) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite_attention [hKernel2Ideal : Cert.Kernel2Ideal.Facts] [hReference2Ideal : Cert.Reference2Ideal.Facts] [hPre_finite_attention : Cert.Pre_finite_attention.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_attention m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v24)) (v1 : (c : Dev Cert.Kernel2Ideal.nD) → Buf (Elt Ideal) ((c.tc : Thread Cert.Kernel2Ideal.nD Cert.Kernel2Ideal.τ).loc Cert.Kernel2Ideal.main_v25)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v24) = v0 c
          ∧ r.2.mem ((c.tc : Thread Cert.Kernel2Ideal.nD Cert.Kernel2Ideal.τ).loc Cert.Kernel2Ideal.main_v25) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v35) = v0 c
          ∧ r.2.mem ((c.tc : Thread Cert.Reference2Ideal.nD Cert.Reference2Ideal.τ).loc Cert.Reference2Ideal.main_v66) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal_pre_finite_pool [hKernel3Ideal : Cert.Kernel3Ideal.Facts] [hReference3Ideal : Cert.Reference3Ideal.Facts] [hPre_finite_pool : Cert.Pre_finite_pool.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_pool m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)) (v2 : (c : Dev Cert.Kernel3Ideal.nD) → Buf (Elt Ideal) ((c.tc : Thread Cert.Kernel3Ideal.nD Cert.Kernel3Ideal.τ).loc Cert.Kernel3Ideal.main_v1_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_v1_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v197) = v0 c
          ∧ r.2.mem ((c.tc : Thread Cert.Reference3Ideal.nD Cert.Reference3Ideal.τ).loc Cert.Reference3Ideal.main_v135) = v1 c
          ∧ r.2.mem ((c.tc : Thread Cert.Reference3Ideal.nD Cert.Reference3Ideal.τ).loc Cert.Reference3Ideal.main_v198) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal_pre_finite_pre [hKernel4Ideal : Cert.Kernel4Ideal.Facts] [hReference4Ideal : Cert.Reference4Ideal.Facts] [hPre_finite_pre : Cert.Pre_finite_pre.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_pre m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)) (v2 : (c : Dev Cert.Kernel4Ideal.nD) → Buf (Elt Ideal) ((c.tc : Thread Cert.Kernel4Ideal.nD Cert.Kernel4Ideal.τ).loc Cert.Kernel4Ideal.main_v4_2)) (v3 : (c : Dev Cert.Kernel4Ideal.nD) → Buf (Elt Ideal) ((c.tc : Thread Cert.Kernel4Ideal.nD Cert.Kernel4Ideal.τ).loc Cert.Kernel4Ideal.main_v4_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_v4_2) = v2 c
          ∧ r.2.mem ((c.tc : Thread Cert.Kernel4Ideal.nD Cert.Kernel4Ideal.τ).loc Cert.Kernel4Ideal.main_v4_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v61) = v0 c
          ∧ r.2.mem ((c.tc : Thread Cert.Reference4Ideal.nD Cert.Reference4Ideal.τ).loc Cert.Reference4Ideal.main_v34) = v1 c
          ∧ r.2.mem ((c.tc : Thread Cert.Reference4Ideal.nD Cert.Reference4Ideal.τ).loc Cert.Reference4Ideal.main_v37) = v2 c
          ∧ r.2.mem ((c.tc : Thread Cert.Reference4Ideal.nD Cert.Reference4Ideal.τ).loc Cert.Reference4Ideal.main_v62) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal_pre_finite_post [hKernel5Ideal : Cert.Kernel5Ideal.Facts] [hReference5Ideal : Cert.Reference5Ideal.Facts] [hPre_finite_post : Cert.Pre_finite_post.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_post m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)) (v2 : (c : Dev Cert.Kernel5Ideal.nD) → Buf (Elt Ideal) ((c.tc : Thread Cert.Kernel5Ideal.nD Cert.Kernel5Ideal.τ).loc Cert.Kernel5Ideal.main_v2_2)) (v3 : (c : Dev Cert.Kernel5Ideal.nD) → Buf (Elt Ideal) ((c.tc : Thread Cert.Kernel5Ideal.nD Cert.Kernel5Ideal.τ).loc Cert.Kernel5Ideal.main_v2_3)) (v4 : (c : Dev Cert.Kernel5Ideal.nD) → Buf (Elt Ideal) ((c.tc : Thread Cert.Kernel5Ideal.nD Cert.Kernel5Ideal.τ).loc Cert.Kernel5Ideal.main_v2_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_v2_2) = v2 c
          ∧ r.2.mem ((c.tc : Thread Cert.Kernel5Ideal.nD Cert.Kernel5Ideal.τ).loc Cert.Kernel5Ideal.main_v2_3) = v3 c
          ∧ r.2.mem ((c.tc : Thread Cert.Kernel5Ideal.nD Cert.Kernel5Ideal.τ).loc Cert.Kernel5Ideal.main_v2_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v68) = v0 c
          ∧ r.2.mem ((c.tc : Thread Cert.Reference5Ideal.nD Cert.Reference5Ideal.τ).loc Cert.Reference5Ideal.main_v69) = v1 c
          ∧ r.2.mem ((c.tc : Thread Cert.Reference5Ideal.nD Cert.Reference5Ideal.τ).loc Cert.Reference5Ideal.main_v71) = v2 c
          ∧ r.2.mem ((c.tc : Thread Cert.Reference5Ideal.nD Cert.Reference5Ideal.τ).loc Cert.Reference5Ideal.main_v46) = v3 c
          ∧ r.2.mem ((c.tc : Thread Cert.Reference5Ideal.nD Cert.Reference5Ideal.τ).loc Cert.Reference5Ideal.main_v72) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal_pre_finite_mid [hKernel6Ideal : Cert.Kernel6Ideal.Facts] [hReference6Ideal : Cert.Reference6Ideal.Facts] [hPre_finite_mid : Cert.Pre_finite_mid.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_mid m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)) →
    ∃ (v0 : (c : Dev Cert.Kernel6Ideal.nD) → Buf (Elt Ideal) ((c.tc : Thread Cert.Kernel6Ideal.nD Cert.Kernel6Ideal.τ).loc Cert.Kernel6Ideal.main_v34_0)) (v1 : (c : Dev Cert.Kernel6Ideal.nD) → Buf (Elt Ideal) ((c.tc : Thread Cert.Kernel6Ideal.nD Cert.Kernel6Ideal.τ).loc Cert.Kernel6Ideal.main_v34_1)) (v2 : (c : Dev Cert.Kernel6Ideal.nD) → Buf (Elt Ideal) ((c.tc : Thread Cert.Kernel6Ideal.nD Cert.Kernel6Ideal.τ).loc Cert.Kernel6Ideal.main_v34_2)) (v3 : (c : Dev Cert.Kernel6Ideal.nD) → Buf (Elt Ideal) ((c.tc : Thread Cert.Kernel6Ideal.nD Cert.Kernel6Ideal.τ).loc Cert.Kernel6Ideal.main_v34_3)) (v4 : (c : Dev Cert.Kernel6Ideal.nD) → Buf (Elt Ideal) ((c.tc : Thread Cert.Kernel6Ideal.nD Cert.Kernel6Ideal.τ).loc Cert.Kernel6Ideal.main_v34_4)) (v5 : (c : Dev Cert.Kernel6Ideal.nD) → Buf (Elt Ideal) ((c.tc : Thread Cert.Kernel6Ideal.nD Cert.Kernel6Ideal.τ).loc Cert.Kernel6Ideal.main_v34_5)) (v6 : (c : Dev Cert.Kernel6Ideal.nD) → Buf (Elt Ideal) ((c.tc : Thread Cert.Kernel6Ideal.nD Cert.Kernel6Ideal.τ).loc Cert.Kernel6Ideal.main_v34_6)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v34_0) = v0 c
          ∧ r.2.mem ((c.tc : Thread Cert.Kernel6Ideal.nD Cert.Kernel6Ideal.τ).loc Cert.Kernel6Ideal.main_v34_1) = v1 c
          ∧ r.2.mem ((c.tc : Thread Cert.Kernel6Ideal.nD Cert.Kernel6Ideal.τ).loc Cert.Kernel6Ideal.main_v34_2) = v2 c
          ∧ r.2.mem ((c.tc : Thread Cert.Kernel6Ideal.nD Cert.Kernel6Ideal.τ).loc Cert.Kernel6Ideal.main_v34_3) = v3 c
          ∧ r.2.mem ((c.tc : Thread Cert.Kernel6Ideal.nD Cert.Kernel6Ideal.τ).loc Cert.Kernel6Ideal.main_v34_4) = v4 c
          ∧ r.2.mem ((c.tc : Thread Cert.Kernel6Ideal.nD Cert.Kernel6Ideal.τ).loc Cert.Kernel6Ideal.main_v34_5) = v5 c
          ∧ r.2.mem ((c.tc : Thread Cert.Kernel6Ideal.nD Cert.Kernel6Ideal.τ).loc Cert.Kernel6Ideal.main_v34_6) = v6 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v119) = v0 c
          ∧ r.2.mem ((c.tc : Thread Cert.Reference6Ideal.nD Cert.Reference6Ideal.τ).loc Cert.Reference6Ideal.main_v121) = v1 c
          ∧ r.2.mem ((c.tc : Thread Cert.Reference6Ideal.nD Cert.Reference6Ideal.τ).loc Cert.Reference6Ideal.main_v67) = v2 c
          ∧ r.2.mem ((c.tc : Thread Cert.Reference6Ideal.nD Cert.Reference6Ideal.τ).loc Cert.Reference6Ideal.main_v70) = v3 c
          ∧ r.2.mem ((c.tc : Thread Cert.Reference6Ideal.nD Cert.Reference6Ideal.τ).loc Cert.Reference6Ideal.main_v98) = v4 c
          ∧ r.2.mem ((c.tc : Thread Cert.Reference6Ideal.nD Cert.Reference6Ideal.τ).loc Cert.Reference6Ideal.main_v122) = v5 c
          ∧ r.2.mem ((c.tc : Thread Cert.Reference6Ideal.nD Cert.Reference6Ideal.τ).loc Cert.Reference6Ideal.main_v123) = v6 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9))

def preserves_Kernel7_Kernel7Ideal : Prop :=
  True

def algebraic_Kernel7Ideal_Reference7Ideal_pre_finite_mixer [hKernel7Ideal : Cert.Kernel7Ideal.Facts] [hReference7Ideal : Cert.Reference7Ideal.Facts] [hPre_finite_mixer : Cert.Pre_finite_mixer.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_mixer m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v123) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v24) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)) →
    ∃ (v0 : (c : Dev Cert.Kernel10Ideal.nD) → Buf (Elt Ideal) ((c.tc : Thread Cert.Kernel10Ideal.nD Cert.Kernel10Ideal.τ).loc Cert.Kernel10Ideal.main_v3_0)) (v1 : (c : Dev Cert.Kernel10Ideal.nD) → Buf (Elt Ideal) ((c.tc : Thread Cert.Kernel10Ideal.nD Cert.Kernel10Ideal.τ).loc Cert.Kernel10Ideal.main_v3_1)) (v2 : (c : Dev Cert.Kernel10Ideal.nD) → Buf (Elt Ideal) ((c.tc : Thread Cert.Kernel10Ideal.nD Cert.Kernel10Ideal.τ).loc Cert.Kernel10Ideal.main_v3_2)) (v3 : (c : Dev Cert.Kernel10Ideal.nD) → Buf (Elt Ideal) ((c.tc : Thread Cert.Kernel10Ideal.nD Cert.Kernel10Ideal.τ).loc Cert.Kernel10Ideal.main_v3_3)) (v4 : (c : Dev Cert.Kernel10Ideal.nD) → Buf (Elt Ideal) ((c.tc : Thread Cert.Kernel10Ideal.nD Cert.Kernel10Ideal.τ).loc Cert.Kernel10Ideal.main_v3_4)) (v5 : (c : Dev Cert.Kernel10Ideal.nD) → Buf (Elt Ideal) ((c.tc : Thread Cert.Kernel10Ideal.nD Cert.Kernel10Ideal.τ).loc Cert.Kernel10Ideal.main_v3_5)) (v6 : (c : Dev Cert.Kernel10Ideal.nD) → Buf (Elt Ideal) ((c.tc : Thread Cert.Kernel10Ideal.nD Cert.Kernel10Ideal.τ).loc Cert.Kernel10Ideal.main_v3_6)) (v7 : (c : Dev Cert.Kernel10Ideal.nD) → Buf (Elt Ideal) ((c.tc : Thread Cert.Kernel10Ideal.nD Cert.Kernel10Ideal.τ).loc Cert.Kernel10Ideal.main_v3_7)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3_0) = v0 c
          ∧ r.2.mem ((c.tc : Thread Cert.Kernel10Ideal.nD Cert.Kernel10Ideal.τ).loc Cert.Kernel10Ideal.main_v3_1) = v1 c
          ∧ r.2.mem ((c.tc : Thread Cert.Kernel10Ideal.nD Cert.Kernel10Ideal.τ).loc Cert.Kernel10Ideal.main_v3_2) = v2 c
          ∧ r.2.mem ((c.tc : Thread Cert.Kernel10Ideal.nD Cert.Kernel10Ideal.τ).loc Cert.Kernel10Ideal.main_v3_3) = v3 c
          ∧ r.2.mem ((c.tc : Thread Cert.Kernel10Ideal.nD Cert.Kernel10Ideal.τ).loc Cert.Kernel10Ideal.main_v3_4) = v4 c
          ∧ r.2.mem ((c.tc : Thread Cert.Kernel10Ideal.nD Cert.Kernel10Ideal.τ).loc Cert.Kernel10Ideal.main_v3_5) = v5 c
          ∧ r.2.mem ((c.tc : Thread Cert.Kernel10Ideal.nD Cert.Kernel10Ideal.τ).loc Cert.Kernel10Ideal.main_v3_6) = v6 c
          ∧ r.2.mem ((c.tc : Thread Cert.Kernel10Ideal.nD Cert.Kernel10Ideal.τ).loc Cert.Kernel10Ideal.main_v3_7) = v7 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v11) = v0 c
          ∧ r.2.mem ((c.tc : Thread Cert.Reference10Ideal.nD Cert.Reference10Ideal.τ).loc Cert.Reference10Ideal.main_v39) = v1 c
          ∧ r.2.mem ((c.tc : Thread Cert.Reference10Ideal.nD Cert.Reference10Ideal.τ).loc Cert.Reference10Ideal.main_v20) = v2 c
          ∧ r.2.mem ((c.tc : Thread Cert.Reference10Ideal.nD Cert.Reference10Ideal.τ).loc Cert.Reference10Ideal.main_v26) = v3 c
          ∧ r.2.mem ((c.tc : Thread Cert.Reference10Ideal.nD Cert.Reference10Ideal.τ).loc Cert.Reference10Ideal.main_v15) = v4 c
          ∧ r.2.mem ((c.tc : Thread Cert.Reference10Ideal.nD Cert.Reference10Ideal.τ).loc Cert.Reference10Ideal.main_v63) = v5 c
          ∧ r.2.mem ((c.tc : Thread Cert.Reference10Ideal.nD Cert.Reference10Ideal.τ).loc Cert.Reference10Ideal.main_v44) = v6 c
          ∧ r.2.mem ((c.tc : Thread Cert.Reference10Ideal.nD Cert.Reference10Ideal.τ).loc Cert.Reference10Ideal.main_v50) = v7 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite_ffn : Cert.Pre_finite_ffn.Facts) (hPre_finite_attention : Cert.Pre_finite_attention.Facts) (hPre_finite_pool : Cert.Pre_finite_pool.Facts) (hPre_finite_pre : Cert.Pre_finite_pre.Facts) (hPre_finite_post : Cert.Pre_finite_post.Facts) (hPre_finite_mid : Cert.Pre_finite_mid.Facts) (hPre_finite_mixer : Cert.Pre_finite_mixer.Facts),
    quiescent_Kernel (hKernel := hKernel)
    ∧ quiescent_KernelIdeal (hKernelIdeal := hKernelIdeal)
    ∧ quiescent_KernelIdeal_pre_finite_ffn (hKernelIdeal := hKernelIdeal) (hPre_finite_ffn := hPre_finite_ffn)
    ∧ quiescent_ReferenceIdeal (hReferenceIdeal := hReferenceIdeal)
    ∧ quiescent_ReferenceIdeal_pre_finite_ffn (hReferenceIdeal := hReferenceIdeal) (hPre_finite_ffn := hPre_finite_ffn)
    ∧ quiescent_Kernel2 (hKernel2 := hKernel2)
    ∧ quiescent_Kernel2Ideal (hKernel2Ideal := hKernel2Ideal)
    ∧ quiescent_Kernel2Ideal_pre_finite_attention (hKernel2Ideal := hKernel2Ideal) (hPre_finite_attention := hPre_finite_attention)
    ∧ quiescent_Reference2Ideal (hReference2Ideal := hReference2Ideal)
    ∧ quiescent_Reference2Ideal_pre_finite_attention (hReference2Ideal := hReference2Ideal) (hPre_finite_attention := hPre_finite_attention)
    ∧ quiescent_Kernel3 (hKernel3 := hKernel3)
    ∧ quiescent_Kernel3Ideal (hKernel3Ideal := hKernel3Ideal)
    ∧ quiescent_Kernel3Ideal_pre_finite_pool (hKernel3Ideal := hKernel3Ideal) (hPre_finite_pool := hPre_finite_pool)
    ∧ quiescent_Reference3Ideal (hReference3Ideal := hReference3Ideal)
    ∧ quiescent_Reference3Ideal_pre_finite_pool (hReference3Ideal := hReference3Ideal) (hPre_finite_pool := hPre_finite_pool)
    ∧ quiescent_Kernel4 (hKernel4 := hKernel4)
    ∧ quiescent_Kernel4Ideal (hKernel4Ideal := hKernel4Ideal)
    ∧ quiescent_Kernel4Ideal_pre_finite_pre (hKernel4Ideal := hKernel4Ideal) (hPre_finite_pre := hPre_finite_pre)
    ∧ quiescent_Reference4Ideal (hReference4Ideal := hReference4Ideal)
    ∧ quiescent_Reference4Ideal_pre_finite_pre (hReference4Ideal := hReference4Ideal) (hPre_finite_pre := hPre_finite_pre)
    ∧ quiescent_Kernel5 (hKernel5 := hKernel5)
    ∧ quiescent_Kernel5Ideal (hKernel5Ideal := hKernel5Ideal)
    ∧ quiescent_Kernel5Ideal_pre_finite_post (hKernel5Ideal := hKernel5Ideal) (hPre_finite_post := hPre_finite_post)
    ∧ quiescent_Reference5Ideal (hReference5Ideal := hReference5Ideal)
    ∧ quiescent_Reference5Ideal_pre_finite_post (hReference5Ideal := hReference5Ideal) (hPre_finite_post := hPre_finite_post)
    ∧ quiescent_Kernel6 (hKernel6 := hKernel6)
    ∧ quiescent_Kernel6Ideal (hKernel6Ideal := hKernel6Ideal)
    ∧ quiescent_Kernel6Ideal_pre_finite_mid (hKernel6Ideal := hKernel6Ideal) (hPre_finite_mid := hPre_finite_mid)
    ∧ quiescent_Reference6Ideal (hReference6Ideal := hReference6Ideal)
    ∧ quiescent_Reference6Ideal_pre_finite_mid (hReference6Ideal := hReference6Ideal) (hPre_finite_mid := hPre_finite_mid)
    ∧ quiescent_Kernel7 (hKernel7 := hKernel7)
    ∧ quiescent_Kernel7Ideal (hKernel7Ideal := hKernel7Ideal)
    ∧ quiescent_Kernel7Ideal_pre_finite_mixer (hKernel7Ideal := hKernel7Ideal) (hPre_finite_mixer := hPre_finite_mixer)
    ∧ quiescent_Reference7Ideal (hReference7Ideal := hReference7Ideal)
    ∧ quiescent_Reference7Ideal_pre_finite_mixer (hReference7Ideal := hReference7Ideal) (hPre_finite_mixer := hPre_finite_mixer)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite_ffn (hKernelIdeal := hKernelIdeal) (hReferenceIdeal := hReferenceIdeal) (hPre_finite_ffn := hPre_finite_ffn)
    ∧ preserves_Kernel2_Kernel2Ideal
    ∧ algebraic_Kernel2Ideal_Reference2Ideal_pre_finite_attention (hKernel2Ideal := hKernel2Ideal) (hReference2Ideal := hReference2Ideal) (hPre_finite_attention := hPre_finite_attention)
    ∧ preserves_Kernel3_Kernel3Ideal
    ∧ algebraic_Kernel3Ideal_Reference3Ideal_pre_finite_pool (hKernel3Ideal := hKernel3Ideal) (hReference3Ideal := hReference3Ideal) (hPre_finite_pool := hPre_finite_pool)
    ∧ preserves_Kernel4_Kernel4Ideal
    ∧ algebraic_Kernel4Ideal_Reference4Ideal_pre_finite_pre (hKernel4Ideal := hKernel4Ideal) (hReference4Ideal := hReference4Ideal) (hPre_finite_pre := hPre_finite_pre)
    ∧ preserves_Kernel5_Kernel5Ideal
    ∧ algebraic_Kernel5Ideal_Reference5Ideal_pre_finite_post (hKernel5Ideal := hKernel5Ideal) (hReference5Ideal := hReference5Ideal) (hPre_finite_post := hPre_finite_post)
    ∧ preserves_Kernel6_Kernel6Ideal
    ∧ algebraic_Kernel6Ideal_Reference6Ideal_pre_finite_mid (hKernel6Ideal := hKernel6Ideal) (hReference6Ideal := hReference6Ideal) (hPre_finite_mid := hPre_finite_mid)
    ∧ preserves_Kernel7_Kernel7Ideal
    ∧ algebraic_Kernel7Ideal_Reference7Ideal_pre_finite_mixer (hKernel7Ideal := hKernel7Ideal) (hReference7Ideal := hReference7Ideal) (hPre_finite_mixer := hPre_finite_mixer)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite_attention.lean ====
abbrev S4096x512 : Shape := ⟨2, ![4096, 512]⟩
abbrev S_ : Shape := ⟨0, ![]⟩

class Facts : Prop where
  bitsLt_bf16_f32 : FTy.bits .bf16 < FTy.bits .f32
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn_part1 {F : FTy → Type} [FloatOps F] (main_v16 : IVec S_ 1) (main_v17 : FVec F S4096x512 .f32) : IVec S_ 1 :=
  let main_v18 : FVec F S4096x512 .f32 := Host.absf main_v17
  let main_cst_4 : FVec F S_ .f32 := constant S_ .f32 0x7F800000#32
  let main_v19 : FVec F S4096x512 .f32 := broadcastInDim S4096x512 ![] bcast_S_S4096x512 main_cst_4
  let main_v20 : IVec S4096x512 1 := cmpf .olt main_v18 main_v19
  let main_c_5 : IVec S_ 1 := constantI S_ 1 1#1
  let main_v21 : IVec S_ 1 := (fun x v => Host.reduce IntOp.andi x v reducesTo_S4096x512_S_d0_1 h_S_) main_v20 main_c_5
  let main_v22 : IVec S_ 1 := andi main_v16 main_v21
  main_v22

def fn {F : FTy → Type} [FloatOps F] (main_arg0 : FVec F S4096x512 .bf16) (main_arg1 : FVec F S4096x512 .bf16) (main_arg2 : FVec F S4096x512 .bf16) (main_arg3 : FVec F S4096x512 .bf16) : IVec S_ 1 :=
  let main_v0 : FVec F S4096x512 .f32 := (extf .f32 · bitsLt_bf16_f32) main_arg0
  let main_v1 : FVec F S4096x512 .f32 := Host.absf main_v0
  let main_cst : FVec F S_ .f32 := constant S_ .f32 0x7F800000#32
  let main_v2 : FVec F S4096x512 .f32 := broadcastInDim S4096x512 ![] bcast_S_S4096x512 main_cst
  let main_v3 : IVec S4096x512 1 := cmpf .olt main_v1 main_v2
  let main_c : IVec S_ 1 := constantI S_ 1 1#1
  let main_v4 : IVec S_ 1 := (fun x v => Host.reduce IntOp.andi x v reducesTo_S4096x512_S_d0_1 h_S_) main_v3 main_c
  let main_v5 : FVec F S4096x512 .f32 := (extf .f32 · bitsLt_bf16_f32) main_arg1
  let main_v6 : FVec F S4096x512 .f32 := Host.absf main_v5
  let main_cst_0 : FVec F S_ .f32 := constant S_ .f32 0x7F800000#32
  let main_v7 : FVec F S4096x512 .f32 := broadcastInDim S4096x512 ![] bcast_S_S4096x512 main_cst_0
  let main_v8 : IVec S4096x512 1 := cmpf .olt main_v6 main_v7
  let main_c_1 : IVec S_ 1 := constantI S_ 1 1#1
  let main_v9 : IVec S_ 1 := (fun x v => Host.reduce IntOp.andi x v reducesTo_S4096x512_S_d0_1 h_S_) main_v8 main_c_1
  let main_v10 : IVec S_ 1 := andi main_v4 main_v9
  let main_v11 : FVec F S4096x512 .f32 := (extf .f32 · bitsLt_bf16_f32) main_arg2
  let main_v12 : FVec F S4096x512 .f32 := Host.absf main_v11
  let main_cst_2 : FVec F S_ .f32 := constant S_ .f32 0x7F800000#32
  let main_v13 : FVec F S4096x512 .f32 := broadcastInDim S4096x512 ![] bcast_S_S4096x512 main_cst_2
  let main_v14 : IVec S4096x512 1 := cmpf .olt main_v12 main_v13
  let main_c_3 : IVec S_ 1 := constantI S_ 1 1#1
  let main_v15 : IVec S_ 1 := (fun x v => Host.reduce IntOp.andi x v reducesTo_S4096x512_S_d0_1 h_S_) main_v14 main_c_3
  let main_v16 : IVec S_ 1 := andi main_v10 main_v15
  let main_v17 : FVec F S4096x512 .f32 := (extf .f32 · bitsLt_bf16_f32) main_arg3
  fn_part1 (F := F) main_v16 main_v17
-- ==== Pre_finite_ffn.lean ====
abbrev S4096x1024 : Shape := ⟨2, ![4096, 1024]⟩
abbrev S1x1024x2816 : Shape := ⟨3, ![1, 1024, 2816]⟩
abbrev S1x2816x1024 : Shape := ⟨3, ![1, 2816, 1024]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024x2816 : S_.BroadcastsInDim S1x1024x2816 (![] : Fin 0 → Fin S1x1024x2816.rank)
  reducesTo_S1x1024x2816_S_d0_1_2 : S1x1024x2816.ReducesTo [0, 1, 2] S_
  bcast_S_S1x2816x1024 : S_.BroadcastsInDim S1x2816x1024 (![] : Fin 0 → Fin S1x2816x1024.rank)
  reducesTo_S1x2816x1024_S_d0_1_2 : S1x2816x1024.ReducesTo [0, 1, 2] S_

variable [Facts]

def fn_part1 {F : FTy → Type} [FloatOps F] (main_v14 : IVec S_ 1) (main_v16 : FVec F S4096x1024 .f32) (main_cst_4 : FVec F S_ .f32) : IVec S_ 1 :=
  let main_v17 : FVec F S4096x1024 .f32 := broadcastInDim S4096x1024 ![] bcast_S_S4096x1024 main_cst_4
  let main_v18 : IVec S4096x1024 1 := cmpf .olt main_v16 main_v17
  let main_c_5 : IVec S_ 1 := constantI S_ 1 1#1
  let main_v19 : IVec S_ 1 := (fun x v => Host.reduce IntOp.andi x v reducesTo_S4096x1024_S_d0_1 h_S_) main_v18 main_c_5
  let main_v20 : IVec S_ 1 := andi main_v14 main_v19
  main_v20

def fn {F : FTy → Type} [FloatOps F] (main_arg0 : FVec F S4096x1024 .bf16) (main_arg1 : FVec F S1x1024x2816 .f32) (main_arg2 : FVec F S1x1024x2816 .f32) (main_arg3 : FVec F S1x2816x1024 .f32) (main_arg4 : FVec F S4096x1024 .bf16) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S1x1024x2816 .f32 := Host.absf main_arg2
  let main_cst_0 : FVec F S_ .f32 := constant S_ .f32 0x7F800000#32
  let main_v6 : FVec F S1x1024x2816 .f32 := broadcastInDim S1x1024x2816 ![] bcast_S_S1x1024x2816 main_cst_0
  let main_v7 : IVec S1x1024x2816 1 := cmpf .olt main_v5 main_v6
  let main_c_1 : IVec S_ 1 := constantI S_ 1 1#1
  let main_v8 : IVec S_ 1 := (fun x v => Host.reduce IntOp.andi x v reducesTo_S1x1024x2816_S_d0_1_2 h_S_) main_v7 main_c_1
  let main_v9 : IVec S_ 1 := andi main_v4 main_v8
  let main_v10 : FVec F S1x2816x1024 .f32 := Host.absf main_arg3
  let main_cst_2 : FVec F S_ .f32 := constant S_ .f32 0x7F800000#32
  let main_v11 : FVec F S1x2816x1024 .f32 := broadcastInDim S1x2816x1024 ![] bcast_S_S1x2816x1024 main_cst_2
  let main_v12 : IVec S1x2816x1024 1 := cmpf .olt main_v10 main_v11
  let main_c_3 : IVec S_ 1 := constantI S_ 1 1#1
  let main_v13 : IVec S_ 1 := (fun x v => Host.reduce IntOp.andi x v reducesTo_S1x2816x1024_S_d0_1_2 h_S_) main_v12 main_c_3
  let main_v14 : IVec S_ 1 := andi main_v9 main_v13
  let main_v15 : FVec F S4096x1024 .f32 := (extf .f32 · bitsLt_bf16_f32) main_arg4
  let main_v16 : FVec F S4096x1024 .f32 := Host.absf main_v15
  let main_cst_4 : FVec F S_ .f32 := constant S_ .f32 0x7F800000#32
  fn_part1 (F := F) main_v14 main_v16 main_cst_4
-- ==== Pre_finite_mid.lean ====
abbrev S2x4096x2816 : Shape := ⟨3, ![2, 4096, 2816]⟩
abbrev S1x1024x2816 : Shape := ⟨3, ![1, 1024, 2816]⟩
abbrev S4096x1024 : Shape := ⟨2, ![4096, 1024]⟩
abbrev S2x4096x512 : Shape := ⟨3, ![2, 4096, 512]⟩
abbrev S1x1024x1024 : Shape := ⟨3, ![1, 1024, 1024]⟩
abbrev S1x1024 : Shape := ⟨2, ![1, 1024]⟩
abbrev S2x6x1024 : Shape := ⟨3, ![2, 6, 1024]⟩
abbrev S_ : Shape := ⟨0, ![]⟩

class Facts : Prop where
  bitsLt_bf16_f32 : FTy.bits .bf16 < FTy.bits .f32
  bcast_S_S2x4096x2816 : S_.BroadcastsInDim S2x4096x2816 (![] : Fin 0 → Fin S2x4096x2816.rank)
  reducesTo_S2x4096x2816_S_d0_1_2 : S2x4096x2816.ReducesTo [0, 1, 2] S_
  h_S_ : 0 < S_.numel
  bcast_S_S1x1024x2816 : S_.BroadcastsInDim S1x1024x2816 (![] : Fin 0 → Fin S1x1024x2816.rank)
  reducesTo_S1x1024x2816_S_d0_1_2 : S1x1024x2816.ReducesTo [0, 1, 2] S_
  bcast_S_S4096x1024 : S_.BroadcastsInDim S4096x1024 (![] : Fin 0 → Fin S4096x1024.rank)
  reducesTo_S4096x1024_S_d0_1 : S4096x1024.ReducesTo [0, 1] S_
  bcast_S_S2x4096x512 : S_.BroadcastsInDim S2x4096x512 (![] : Fin 0 → Fin S2x4096x512.rank)
  reducesTo_S2x4096x512_S_d0_1_2 : S2x4096x512.ReducesTo [0, 1, 2] S_
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S1x1024 : S_.BroadcastsInDim S1x1024 (![] : Fin 0 → Fin S1x1024.rank)
  reducesTo_S1x1024_S_d0_1 : S1x1024.ReducesTo [0, 1] S_
  bcast_S_S2x6x1024 : S_.BroadcastsInDim S2x6x1024 (![] : Fin 0 → Fin S2x6x1024.rank)
  reducesTo_S2x6x1024_S_d0_1_2 : S2x6x1024.ReducesTo [0, 1, 2] S_

variable [Facts]

def fn_part2 {F : FTy → Type} [FloatOps F] (main_arg7 : FVec F S1x1024 .f32) (main_arg8 : FVec F S1x1024 .f32) (main_arg9 : FVec F S2x6x1024 .f32) (main_v30 : IVec S_ 1) (main_v33 : IVec S4096x1024 1) (main_c_11 : IVec S_ 1) : IVec S_ 1 :=
  let main_v34 : IVec S_ 1 := (fun x v => Host.reduce IntOp.andi x v reducesTo_S4096x1024_S_d0_1 h_S_) main_v33 main_c_11
  let main_v35 : IVec S_ 1 := andi main_v30 main_v34
  let main_v36 : FVec F S1x1024 .f32 := Host.absf main_arg7
  let main_cst_12 : FVec F S_ .f32 := constant S_ .f32 0x7F800000#32
  let main_v37 : FVec F S1x1024 .f32 := broadcastInDim S1x1024 ![] bcast_S_S1x1024 main_cst_12
  let main_v38 : IVec S1x1024 1 := cmpf .olt main_v36 main_v37
  let main_c_13 : IVec S_ 1 := constantI S_ 1 1#1
  let main_v39 : IVec S_ 1 := (fun x v => Host.reduce IntOp.andi x v reducesTo_S1x1024_S_d0_1 h_S_) main_v38 main_c_13
  let main_v40 : IVec S_ 1 := andi main_v35 main_v39
  let main_v41 : FVec F S1x1024 .f32 := Host.absf main_arg8
  let main_cst_14 : FVec F S_ .f32 := constant S_ .f32 0x7F800000#32
  let main_v42 : FVec F S1x1024 .f32 := broadcastInDim S1x1024 ![] bcast_S_S1x1024 main_cst_14
  let main_v43 : IVec S1x1024 1 := cmpf .olt main_v41 main_v42
  let main_c_15 : IVec S_ 1 := constantI S_ 1 1#1
  let main_v44 : IVec S_ 1 := (fun x v => Host.reduce IntOp.andi x v reducesTo_S1x1024_S_d0_1 h_S_) main_v43 main_c_15
  let main_v45 : IVec S_ 1 := andi main_v40 main_v44
  let main_v46 : FVec F S2x6x1024 .f32 := Host.absf main_arg9
  let main_cst_16 : FVec F S_ .f32 := constant S_ .f32 0x7F800000#32
  let main_v47 : FVec F S2x6x1024 .f32 := broadcastInDim S2x6x1024 ![] bcast_S_S2x6x1024 main_cst_16
  let main_v48 : IVec S2x6x1024 1 := cmpf .olt main_v46 main_v47
  let main_c_17 : IVec S_ 1 := constantI S_ 1 1#1
  let main_v49 : IVec S_ 1 := (fun x v => Host.reduce IntOp.andi x v reducesTo_S2x6x1024_S_d0_1_2 h_S_) main_v48 main_c_17
  let main_v50 : IVec S_ 1 := andi main_v45 main_v49
  main_v50

def fn_part1 {F : FTy → Type} [FloatOps F] (main_arg4 : FVec F S2x4096x512 .bf16) (main_arg5 : FVec F S1x1024x1024 .f32) (main_arg6 : FVec F S4096x1024 .f32) (main_arg7 : FVec F S1x1024 .f32) (main_arg8 : FVec F S1x1024 .f32) (main_arg9 : FVec F S2x6x1024 .f32) (main_v14 : IVec S_ 1) (main_v15 : FVec F S4096x1024 .f32) (main_v16 : FVec F S4096x1024 .f32) : IVec S_ 1 :=
  let main_v17 : IVec S4096x1024 1 := cmpf .olt main_v15 main_v16
  let main_c_5 : IVec S_ 1 := constantI S_ 1 1#1
  let main_v18 : IVec S_ 1 := (fun x v => Host.reduce IntOp.andi x v reducesTo_S4096x1024_S_d0_1 h_S_) main_v17 main_c_5
  let main_v19 : IVec S_ 1 := andi main_v14 main_v18
  let main_v20 : FVec F S2x4096x512 .f32 := (extf .f32 · bitsLt_bf16_f32) main_arg4
  let main_v21 : FVec F S2x4096x512 .f32 := Host.absf main_v20
  let main_cst_6 : FVec F S_ .f32 := constant S_ .f32 0x7F800000#32
  let main_v22 : FVec F S2x4096x512 .f32 := broadcastInDim S2x4096x512 ![] bcast_S_S2x4096x512 main_cst_6
  let main_v23 : IVec S2x4096x512 1 := cmpf .olt main_v21 main_v22
  let main_c_7 : IVec S_ 1 := constantI S_ 1 1#1
  let main_v24 : IVec S_ 1 := (fun x v => Host.reduce IntOp.andi x v reducesTo_S2x4096x512_S_d0_1_2 h_S_) main_v23 main_c_7
  let main_v25 : IVec S_ 1 := andi main_v19 main_v24
  let main_v26 : FVec F S1x1024x1024 .f32 := Host.absf main_arg5
  let main_cst_8 : FVec F S_ .f32 := constant S_ .f32 0x7F800000#32
  let main_v27 : FVec F S1x1024x1024 .f32 := broadcastInDim S1x1024x1024 ![] bcast_S_S1x1024x1024 main_cst_8
  let main_v28 : IVec S1x1024x1024 1 := cmpf .olt main_v26 main_v27
  let main_c_9 : IVec S_ 1 := constantI S_ 1 1#1
  let main_v29 : IVec S_ 1 := (fun x v => Host.reduce IntOp.andi x v reducesTo_S1x1024x1024_S_d0_1_2 h_S_) main_v28 main_c_9
  let main_v30 : IVec S_ 1 := andi main_v25 main_v29
  let main_v31 : FVec F S4096x1024 .f32 := Host.absf main_arg6
  let main_cst_10 : FVec F S_ .f32 := constant S_ .f32 0x7F800000#32
  let main_v32 : FVec F S4096x1024 .f32 := broadcastInDim S4096x1024 ![] bcast_S_S4096x1024 main_cst_10
  let main_v33 : IVec S4096x1024 1 := cmpf .olt main_v31 main_v32
  let main_c_11 : IVec S_ 1 := constantI S_ 1 1#1
  fn_part2 (F := F) main_arg7 main_arg8 main_arg9 main_v30 main_v33 main_c_11

def fn {F : FTy → Type} [FloatOps F] (main_arg0 : FVec F S2x4096x2816 .bf16) (main_arg1 : FVec F S1x1024x2816 .f32) (main_arg2 : FVec F S1x1024x2816 .f32) (main_arg3 : FVec F S4096x1024 .f32) (main_arg4 : FVec F S2x4096x512 .bf16) (main_arg5 : FVec F S1x1024x1024 .f32) (main_arg6 : FVec F S4096x1024 .f32) (main_arg7 : FVec F S1x1024 .f32) (main_arg8 : FVec F S1x1024 .f32) (main_arg9 : FVec F S2x6x1024 .f32) : IVec S_ 1 :=
  let main_v0 : FVec F S2x4096x2816 .f32 := (extf .f32 · bitsLt_bf16_f32) main_arg0
  let main_v1 : FVec F S2x4096x2816 .f32 := Host.absf main_v0
  let main_cst : FVec F S_ .f32 := constant S_ .f32 0x7F800000#32
  let main_v2 : FVec F S2x4096x2816 .f32 := broadcastInDim S2x4096x2816 ![] bcast_S_S2x4096x2816 main_cst
  let main_v3 : IVec S2x4096x2816 1 := cmpf .olt main_v1 main_v2
  let main_c : IVec S_ 1 := constantI S_ 1 1#1
  let main_v4 : IVec S_ 1 := (fun x v => Host.reduce IntOp.andi x v reducesTo_S2x4096x2816_S_d0_1_2 h_S_) main_v3 main_c
  let main_v5 : FVec F S1x1024x2816 .f32 := Host.absf main_arg1
  let main_cst_0 : FVec F S_ .f32 := constant S_ .f32 0x7F800000#32
  let main_v6 : FVec F S1x1024x2816 .f32 := broadcastInDim S1x1024x2816 ![] bcast_S_S1x1024x2816 main_cst_0
  let main_v7 : IVec S1x1024x2816 1 := cmpf .olt main_v5 main_v6
  let main_c_1 : IVec S_ 1 := constantI S_ 1 1#1
  let main_v8 : IVec S_ 1 := (fun x v => Host.reduce IntOp.andi x v reducesTo_S1x1024x2816_S_d0_1_2 h_S_) main_v7 main_c_1
  let main_v9 : IVec S_ 1 := andi main_v4 main_v8
  let main_v10 : FVec F S1x1024x2816 .f32 := Host.absf main_arg2
  let main_cst_2 : FVec F S_ .f32 := constant S_ .f32 0x7F800000#32
  let main_v11 : FVec F S1x1024x2816 .f32 := broadcastInDim S1x1024x2816 ![] bcast_S_S1x1024x2816 main_cst_2
  let main_v12 : IVec S1x1024x2816 1 := cmpf .olt main_v10 main_v11
  let main_c_3 : IVec S_ 1 := constantI S_ 1 1#1
  let main_v13 : IVec S_ 1 := (fun x v => Host.reduce IntOp.andi x v reducesTo_S1x1024x2816_S_d0_1_2 h_S_) main_v12 main_c_3
  let main_v14 : IVec S_ 1 := andi main_v9 main_v13
  let main_v15 : FVec F S4096x1024 .f32 := Host.absf main_arg3
  let main_cst_4 : FVec F S_ .f32 := constant S_ .f32 0x7F800000#32
  let main_v16 : FVec F S4096x1024 .f32 := broadcastInDim S4096x1024 ![] bcast_S_S4096x1024 main_cst_4
  fn_part1 (F := F) main_arg4 main_arg5 main_arg6 main_arg7 main_arg8 main_arg9 main_v14 main_v15 main_v16
-- ==== Pre_finite_mixer.lean ====
abbrev S4096x2048 : Shape := ⟨2, ![4096, 2048]⟩
abbrev S1x4x128x128 : Shape := ⟨4, ![1, 4, 128, 128]⟩
abbrev S1x512 : Shape := ⟨2, ![1, 512]⟩
abbrev S2x4096x512 : Shape := ⟨3, ![2, 4096, 512]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S1x4x128x128 : S_.BroadcastsInDim S1x4x128x128 (![] : Fin 0 → Fin S1x4x128x128.rank)
  reducesTo_S1x4x128x128_S_d0_1_2_3 : S1x4x128x128.ReducesTo [0, 1, 2, 3] S_
  bcast_S_S1x512 : S_.BroadcastsInDim S1x512 (![] : Fin 0 → Fin S1x512.rank)
  reducesTo_S1x512_S_d0_1 : S1x512.ReducesTo [0, 1] S_

variable [Facts]

def fn {F : FTy → Type} [FloatOps F] (main_arg0 : FVec F S4096x2048 .bf16) (main_arg1 : FVec F S1x4x128x128 .f32) (main_arg2 : FVec F S1x512 .f32) (main_arg3 : FVec F S2x4096x512 .bf16) : IVec S_ 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_c : IVec S_ 1 := constantI S_ 1 1#1
  let main_v4 : IVec S_ 1 := (fun x v => Host.reduce IntOp.andi x v reducesTo_S4096x2048_S_d0_1 h_S_) main_v3 main_c
  let main_v5 : FVec F S1x4x128x128 .f32 := Host.absf main_arg1
  let main_cst_0 : FVec F S_ .f32 := constant S_ .f32 0x7F800000#32
  let main_v6 : FVec F S1x4x128x128 .f32 := broadcastInDim S1x4x128x128 ![] bcast_S_S1x4x128x128 main_cst_0
  let main_v7 : IVec S1x4x128x128 1 := cmpf .olt main_v5 main_v6
  let main_c_1 : IVec S_ 1 := constantI S_ 1 1#1
  let main_v8 : IVec S_ 1 := (fun x v => Host.reduce IntOp.andi x v reducesTo_S1x4x128x128_S_d0_1_2_3 h_S_) main_v7 main_c_1
  let main_v9 : IVec S_ 1 := andi main_v4 main_v8
  let main_v10 : FVec F S1x512 .f32 := Host.absf main_arg2
  let main_cst_2 : FVec F S_ .f32 := constant S_ .f32 0x7F800000#32
  let main_v11 : FVec F S1x512 .f32 := broadcastInDim S1x512 ![] bcast_S_S1x512 main_cst_2
  let main_v12 : IVec S1x512 1 := cmpf .olt main_v10 main_v11
  let main_c_3 : IVec S_ 1 := constantI S_ 1 1#1
  let main_v13 : IVec S_ 1 := (fun x v => Host.reduce IntOp.andi x v reducesTo_S1x512_S_d0_1 h_S_) main_v12 main_c_3
  let main_v14 : IVec S_ 1 := andi main_v9 main_v13
  main_v14
-- ==== Pre_finite_pool.lean ====
abbrev S4096x2048 : Shape := ⟨2, ![4096, 2048]⟩
abbrev S4096x1024 : Shape := ⟨2, ![4096, 1024]⟩
abbrev S1x4x128x128 : Shape := ⟨4, ![1, 4, 128, 128]⟩
abbrev S1x512 : Shape := ⟨2, ![1, 512]⟩
abbrev S4x4096x512 : Shape := ⟨3, ![4, 4096, 512]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1x4x128x128 : S_.BroadcastsInDim S1x4x128x128 (![] : Fin 0 → Fin S1x4x128x128.rank)
  reducesTo_S1x4x128x128_S_d0_1_2_3 : S1x4x128x128.ReducesTo [0, 1, 2, 3] S_
  bcast_S_S1x512 : S_.BroadcastsInDim S1x512 (![] : Fin 0 → Fin S1x512.rank)
  reducesTo_S1x512_S_d0_1 : S1x512.ReducesTo [0, 1] S_

variable [Facts]

def fn_part1 {F : FTy → Type} [FloatOps F] (main_v15 : IVec S_ 1) (main_v16 : FVec F S1x512 .f32) (main_cst_4 : FVec F S_ .f32) : IVec S_ 1 :=
  let main_v17 : FVec F S1x512 .f32 := broadcastInDim S1x512 ![] bcast_S_S1x512 main_cst_4
  let main_v18 : IVec S1x512 1 := cmpf .olt main_v16 main_v17
  let main_c_5 : IVec S_ 1 := constantI S_ 1 1#1
  let main_v19 : IVec S_ 1 := (fun x v => Host.reduce IntOp.andi x v reducesTo_S1x512_S_d0_1 h_S_) main_v18 main_c_5
  let main_v20 : IVec S_ 1 := andi main_v15 main_v19
  main_v20

def fn {F : FTy → Type} [FloatOps F] (main_arg0 : FVec F S4096x2048 .bf16) (main_arg1 : FVec F S4096x1024 .bf16) (main_arg2 : FVec F S1x4x128x128 .f32) (main_arg3 : FVec F S1x512 .f32) (main_arg4 : FVec F S4x4096x512 .bf16) : IVec S_ 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_c : IVec S_ 1 := constantI S_ 1 1#1
  let main_v4 : IVec S_ 1 := (fun x v => Host.reduce IntOp.andi x v reducesTo_S4096x2048_S_d0_1 h_S_) main_v3 main_c
  let main_v5 : FVec F S4096x1024 .f32 := (extf .f32 · bitsLt_bf16_f32) main_arg1
  let main_v6 : FVec F S4096x1024 .f32 := Host.absf main_v5
  let main_cst_0 : FVec F S_ .f32 := constant S_ .f32 0x7F800000#32
  let main_v7 : FVec F S4096x1024 .f32 := broadcastInDim S4096x1024 ![] bcast_S_S4096x1024 main_cst_0
  let main_v8 : IVec S4096x1024 1 := cmpf .olt main_v6 main_v7
  let main_c_1 : IVec S_ 1 := constantI S_ 1 1#1
  let main_v9 : IVec S_ 1 := (fun x v => Host.reduce IntOp.andi x v reducesTo_S4096x1024_S_d0_1 h_S_) main_v8 main_c_1
  let main_v10 : IVec S_ 1 := andi main_v4 main_v9
  let main_v11 : FVec F S1x4x128x128 .f32 := Host.absf main_arg2
  let main_cst_2 : FVec F S_ .f32 := constant S_ .f32 0x7F800000#32
  let main_v12 : FVec F S1x4x128x128 .f32 := broadcastInDim S1x4x128x128 ![] bcast_S_S1x4x128x128 main_cst_2
  let main_v13 : IVec S1x4x128x128 1 := cmpf .olt main_v11 main_v12
  let main_c_3 : IVec S_ 1 := constantI S_ 1 1#1
  let main_v14 : IVec S_ 1 := (fun x v => Host.reduce IntOp.andi x v reducesTo_S1x4x128x128_S_d0_1_2_3 h_S_) main_v13 main_c_3
  let main_v15 : IVec S_ 1 := andi main_v10 main_v14
  let main_v16 : FVec F S1x512 .f32 := Host.absf main_arg3
  let main_cst_4 : FVec F S_ .f32 := constant S_ .f32 0x7F800000#32
  fn_part1 (F := F) main_v15 main_v16 main_cst_4
-- ==== Pre_finite_post.lean ====
abbrev S4096x2816 : Shape := ⟨2, ![4096, 2816]⟩
abbrev S1x2816x1024 : Shape := ⟨3, ![1, 2816, 1024]⟩
abbrev S4096x1024 : Shape := ⟨2, ![4096, 1024]⟩
abbrev S1x1024 : Shape := ⟨2, ![1, 1024]⟩
abbrev S2x6x1024 : Shape := ⟨3, ![2, 6, 1024]⟩
abbrev S_ : Shape := ⟨0, ![]⟩

class Facts : Prop where
  bitsLt_bf16_f32 : FTy.bits .bf16 < FTy.bits .f32
  bcast_S_S4096x2816 : S_.BroadcastsInDim S4096x2816 (![] : Fin 0 → Fin S4096x2816.rank)
  reducesTo_S4096x2816_S_d0_1 : S4096x2816.ReducesTo [0, 1] S_
  h_S_ : 0 < S_.numel
  bcast_S_S1x2816x1024 : S_.BroadcastsInDim S1x2816x1024 (![] : Fin 0 → Fin S1x2816x1024.rank)
  reducesTo_S1x2816x1024_S_d0_1_2 : S1x2816x1024.ReducesTo [0, 1, 2] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S2x6x1024 : S_.BroadcastsInDim S2x6x1024 (![] : Fin 0 → Fin S2x6x1024.rank)
  reducesTo_S2x6x1024_S_d0_1_2 : S2x6x1024.ReducesTo [0, 1, 2] S_

variable [Facts]

def fn_part1 {F : FTy → Type} [FloatOps F] (main_arg4 : FVec F S1x1024 .f32) (main_arg5 : FVec F S2x6x1024 .f32) (main_v14 : IVec S_ 1) (main_v15 : FVec F S4096x1024 .f32) (main_v16 : FVec F S4096x1024 .f32) : IVec S_ 1 :=
  let main_v17 : IVec S4096x1024 1 := cmpf .olt main_v15 main_v16
  let main_c_5 : IVec S_ 1 := constantI S_ 1 1#1
  let main_v18 : IVec S_ 1 := (fun x v => Host.reduce IntOp.andi x v reducesTo_S4096x1024_S_d0_1 h_S_) main_v17 main_c_5
  let main_v19 : IVec S_ 1 := andi main_v14 main_v18
  let main_v20 : FVec F S1x1024 .f32 := Host.absf main_arg4
  let main_cst_6 : FVec F S_ .f32 := constant S_ .f32 0x7F800000#32
  let main_v21 : FVec F S1x1024 .f32 := broadcastInDim S1x1024 ![] bcast_S_S1x1024 main_cst_6
  let main_v22 : IVec S1x1024 1 := cmpf .olt main_v20 main_v21
  let main_c_7 : IVec S_ 1 := constantI S_ 1 1#1
  let main_v23 : IVec S_ 1 := (fun x v => Host.reduce IntOp.andi x v reducesTo_S1x1024_S_d0_1 h_S_) main_v22 main_c_7
  let main_v24 : IVec S_ 1 := andi main_v19 main_v23
  let main_v25 : FVec F S2x6x1024 .f32 := Host.absf main_arg5
  let main_cst_8 : FVec F S_ .f32 := constant S_ .f32 0x7F800000#32
  let main_v26 : FVec F S2x6x1024 .f32 := broadcastInDim S2x6x1024 ![] bcast_S_S2x6x1024 main_cst_8
  let main_v27 : IVec S2x6x1024 1 := cmpf .olt main_v25 main_v26
  let main_c_9 : IVec S_ 1 := constantI S_ 1 1#1
  let main_v28 : IVec S_ 1 := (fun x v => Host.reduce IntOp.andi x v reducesTo_S2x6x1024_S_d0_1_2 h_S_) main_v27 main_c_9
  let main_v29 : IVec S_ 1 := andi main_v24 main_v28
  main_v29

def fn {F : FTy → Type} [FloatOps F] (main_arg0 : FVec F S4096x2816 .bf16) (main_arg1 : FVec F S1x2816x1024 .f32) (main_arg2 : FVec F S4096x1024 .f32) (main_arg3 : FVec F S4096x1024 .f32) (main_arg4 : FVec F S1x1024 .f32) (main_arg5 : FVec F S2x6x1024 .f32) : IVec S_ 1 :=
  let main_v0 : FVec F S4096x2816 .f32 := (extf .f32 · bitsLt_bf16_f32) main_arg0
  let main_v1 : FVec F S4096x2816 .f32 := Host.absf main_v0
  let main_cst : FVec F S_ .f32 := constant S_ .f32 0x7F800000#32
  let main_v2 : FVec F S4096x2816 .f32 := broadcastInDim S4096x2816 ![] bcast_S_S4096x2816 main_cst
  let main_v3 : IVec S4096x2816 1 := cmpf .olt main_v1 main_v2
  let main_c : IVec S_ 1 := constantI S_ 1 1#1
  let main_v4 : IVec S_ 1 := (fun x v => Host.reduce IntOp.andi x v reducesTo_S4096x2816_S_d0_1 h_S_) main_v3 main_c
  let main_v5 : FVec F S1x2816x1024 .f32 := Host.absf main_arg1
  let main_cst_0 : FVec F S_ .f32 := constant S_ .f32 0x7F800000#32
  let main_v6 : FVec F S1x2816x1024 .f32 := broadcastInDim S1x2816x1024 ![] bcast_S_S1x2816x1024 main_cst_0
  let main_v7 : IVec S1x2816x1024 1 := cmpf .olt main_v5 main_v6
  let main_c_1 : IVec S_ 1 := constantI S_ 1 1#1
  let main_v8 : IVec S_ 1 := (fun x v => Host.reduce IntOp.andi x v reducesTo_S1x2816x1024_S_d0_1_2 h_S_) main_v7 main_c_1
  let main_v9 : IVec S_ 1 := andi main_v4 main_v8
  let main_v10 : FVec F S4096x1024 .f32 := Host.absf main_arg2
  let main_cst_2 : FVec F S_ .f32 := constant S_ .f32 0x7F800000#32
  let main_v11 : FVec F S4096x1024 .f32 := broadcastInDim S4096x1024 ![] bcast_S_S4096x1024 main_cst_2
  let main_v12 : IVec S4096x1024 1 := cmpf .olt main_v10 main_v11
  let main_c_3 : IVec S_ 1 := constantI S_ 1 1#1
  let main_v13 : IVec S_ 1 := (fun x v => Host.reduce IntOp.andi x v reducesTo_S4096x1024_S_d0_1 h_S_) main_v12 main_c_3
  let main_v14 : IVec S_ 1 := andi main_v9 main_v13
  let main_v15 : FVec F S4096x1024 .f32 := Host.absf main_arg3
  let main_cst_4 : FVec F S_ .f32 := constant S_ .f32 0x7F800000#32
  let main_v16 : FVec F S4096x1024 .f32 := broadcastInDim S4096x1024 ![] bcast_S_S4096x1024 main_cst_4
  fn_part1 (F := F) main_arg4 main_arg5 main_v14 main_v15 main_v16
-- ==== Pre_finite_pre.lean ====
abbrev S4x4096x512 : Shape := ⟨3, ![4, 4096, 512]⟩
abbrev S1x1024x2048 : Shape := ⟨3, ![1, 1024, 2048]⟩
abbrev S4096x1024 : Shape := ⟨2, ![4096, 1024]⟩
abbrev S1x1024 : Shape := ⟨2, ![1, 1024]⟩
abbrev S2x6x1024 : Shape := ⟨3, ![2, 6, 1024]⟩
abbrev S_ : Shape := ⟨0, ![]⟩

class Facts : Prop where
  bitsLt_bf16_f32 : FTy.bits .bf16 < FTy.bits .f32
  bcast_S_S4x4096x512 : S_.BroadcastsInDim S4x4096x512 (![] : Fin 0 → Fin S4x4096x512.rank)
  reducesTo_S4x4096x512_S_d0_1_2 : S4x4096x512.ReducesTo [0, 1, 2] S_
  h_S_ : 0 < S_.numel
  bcast_S_S1x1024x2048 : S_.BroadcastsInDim S1x1024x2048 (![] : Fin 0 → Fin S1x1024x2048.rank)
  reducesTo_S1x1024x2048_S_d0_1_2 : S1x1024x2048.ReducesTo [0, 1, 2] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S2x6x1024 : S_.BroadcastsInDim S2x6x1024 (![] : Fin 0 → Fin S2x6x1024.rank)
  reducesTo_S2x6x1024_S_d0_1_2 : S2x6x1024.ReducesTo [0, 1, 2] S_

variable [Facts]

def fn_part1 {F : FTy → Type} [FloatOps F] (main_arg4 : FVec F S1x1024 .f32) (main_arg5 : FVec F S2x6x1024 .f32) (main_v14 : IVec S_ 1) (main_v15 : FVec F S4096x1024 .f32) (main_v16 : FVec F S4096x1024 .f32) : IVec S_ 1 :=
  let main_v17 : IVec S4096x1024 1 := cmpf .olt main_v15 main_v16
  let main_c_5 : IVec S_ 1 := constantI S_ 1 1#1
  let main_v18 : IVec S_ 1 := (fun x v => Host.reduce IntOp.andi x v reducesTo_S4096x1024_S_d0_1 h_S_) main_v17 main_c_5
  let main_v19 : IVec S_ 1 := andi main_v14 main_v18
  let main_v20 : FVec F S1x1024 .f32 := Host.absf main_arg4
  let main_cst_6 : FVec F S_ .f32 := constant S_ .f32 0x7F800000#32
  let main_v21 : FVec F S1x1024 .f32 := broadcastInDim S1x1024 ![] bcast_S_S1x1024 main_cst_6
  let main_v22 : IVec S1x1024 1 := cmpf .olt main_v20 main_v21
  let main_c_7 : IVec S_ 1 := constantI S_ 1 1#1
  let main_v23 : IVec S_ 1 := (fun x v => Host.reduce IntOp.andi x v reducesTo_S1x1024_S_d0_1 h_S_) main_v22 main_c_7
  let main_v24 : IVec S_ 1 := andi main_v19 main_v23
  let main_v25 : FVec F S2x6x1024 .f32 := Host.absf main_arg5
  let main_cst_8 : FVec F S_ .f32 := constant S_ .f32 0x7F800000#32
  let main_v26 : FVec F S2x6x1024 .f32 := broadcastInDim S2x6x1024 ![] bcast_S_S2x6x1024 main_cst_8
  let main_v27 : IVec S2x6x1024 1 := cmpf .olt main_v25 main_v26
  let main_c_9 : IVec S_ 1 := constantI S_ 1 1#1
  let main_v28 : IVec S_ 1 := (fun x v => Host.reduce IntOp.andi x v reducesTo_S2x6x1024_S_d0_1_2 h_S_) main_v27 main_c_9
  let main_v29 : IVec S_ 1 := andi main_v24 main_v28
  main_v29

def fn {F : FTy → Type} [FloatOps F] (main_arg0 : FVec F S4x4096x512 .bf16) (main_arg1 : FVec F S1x1024x2048 .f32) (main_arg2 : FVec F S4096x1024 .f32) (main_arg3 : FVec F S4096x1024 .f32) (main_arg4 : FVec F S1x1024 .f32) (main_arg5 : FVec F S2x6x1024 .f32) : IVec S_ 1 :=
  let main_v0 : FVec F S4x4096x512 .f32 := (extf .f32 · bitsLt_bf16_f32) main_arg0
  let main_v1 : FVec F S4x4096x512 .f32 := Host.absf main_v0
  let main_cst : FVec F S_ .f32 := constant S_ .f32 0x7F800000#32
  let main_v2 : FVec F S4x4096x512 .f32 := broadcastInDim S4x4096x512 ![] bcast_S_S4x4096x512 main_cst
  let main_v3 : IVec S4x4096x512 1 := cmpf .olt main_v1 main_v2
  let main_c : IVec S_ 1 := constantI S_ 1 1#1
  let main_v4 : IVec S_ 1 := (fun x v => Host.reduce IntOp.andi x v reducesTo_S4x4096x512_S_d0_1_2 h_S_) main_v3 main_c
  let main_v5 : FVec F S1x1024x2048 .f32 := Host.absf main_arg1
  let main_cst_0 : FVec F S_ .f32 := constant S_ .f32 0x7F800000#32
  let main_v6 : FVec F S1x1024x2048 .f32 := broadcastInDim S1x1024x2048 ![] bcast_S_S1x1024x2048 main_cst_0
  let main_v7 : IVec S1x1024x2048 1 := cmpf .olt main_v5 main_v6
  let main_c_1 : IVec S_ 1 := constantI S_ 1 1#1
  let main_v8 : IVec S_ 1 := (fun x v => Host.reduce IntOp.andi x v reducesTo_S1x1024x2048_S_d0_1_2 h_S_) main_v7 main_c_1
  let main_v9 : IVec S_ 1 := andi main_v4 main_v8
  let main_v10 : FVec F S4096x1024 .f32 := Host.absf main_arg2
  let main_cst_2 : FVec F S_ .f32 := constant S_ .f32 0x7F800000#32
  let main_v11 : FVec F S4096x1024 .f32 := broadcastInDim S4096x1024 ![] bcast_S_S4096x1024 main_cst_2
  let main_v12 : IVec S4096x1024 1 := cmpf .olt main_v10 main_v11
  let main_c_3 : IVec S_ 1 := constantI S_ 1 1#1
  let main_v13 : IVec S_ 1 := (fun x v => Host.reduce IntOp.andi x v reducesTo_S4096x1024_S_d0_1 h_S_) main_v12 main_c_3
  let main_v14 : IVec S_ 1 := andi main_v9 main_v13
  let main_v15 : FVec F S4096x1024 .f32 := Host.absf main_arg3
  let main_cst_4 : FVec F S_ .f32 := constant S_ .f32 0x7F800000#32
  let main_v16 : FVec F S4096x1024 .f32 := broadcastInDim S4096x1024 ![] bcast_S_S4096x1024 main_cst_4
  fn_part1 (F := F) main_arg4 main_arg5 main_v14 main_v15 main_v16
-- ==== Kernel.lean ====
abbrev S4096x1024 : Shape := ⟨2, ![4096, 1024]⟩
abbrev S1x1024x2816 : Shape := ⟨3, ![1, 1024, 2816]⟩
abbrev S1x2816x1024 : Shape := ⟨3, ![1, 2816, 1024]⟩
abbrev S1024x2816 : Shape := ⟨2, ![1024, 2816]⟩
abbrev S2816x1024 : Shape := ⟨2, ![2816, 1024]⟩
abbrev S2x2816x1024 : Shape := ⟨3, ![2, 2816, 1024]⟩
abbrev S2x4096x2816 : Shape := ⟨3, ![2, 4096, 2816]⟩
abbrev S4096x2816 : Shape := ⟨2, ![4096, 2816]⟩
abbrev S512x1024 : Shape := ⟨2, ![512, 1024]⟩
abbrev S2x1408x1024 : Shape := ⟨3, ![2, 1408, 1024]⟩
abbrev S2x512x1408 : Shape := ⟨3, ![2, 512, 1408]⟩
abbrev S512x1408 : Shape := ⟨2, ![512, 1408]⟩
abbrev S1x1408x1024 : Shape := ⟨3, ![1, 1408, 1024]⟩
abbrev S1408x1024 : Shape := ⟨2, ![1408, 1024]⟩
abbrev S1x512x1408 : Shape := ⟨3, ![1, 512, 1408]⟩

abbrev nBuf : Space → Nat
  | .hbm => 19
  | .vmem => 16
  | .smem => 0
  | _ => 0

abbrev bufTy : (tb : Table) → Fin (tcTables nBuf tb) → BufTy
  | .hbm, ⟨0, _⟩ => ⟨S4096x1024, .bf16⟩
  | .hbm, ⟨1, _⟩ => ⟨S1x1024x2816, .f32⟩
  | .hbm, ⟨2, _⟩ => ⟨S1x1024x2816, .f32⟩
  | .hbm, ⟨3, _⟩ => ⟨S1x2816x1024, .f32⟩
  | .hbm, ⟨4, _⟩ => ⟨S4096x1024, .bf16⟩
  | .hbm, ⟨5, _⟩ => ⟨S1024x2816, .f32⟩
  | .hbm, ⟨6, _⟩ => ⟨S2816x1024, .f32⟩
  | .hbm, ⟨7, _⟩ => ⟨S2816x1024, .bf16⟩
  | .hbm, ⟨8, _⟩ => ⟨S1024x2816, .f32⟩
  | .hbm, ⟨9, _⟩ => ⟨S2816x1024, .f32⟩
  | .hbm, ⟨10, _⟩ => ⟨S2816x1024, .bf16⟩
  | .hbm, ⟨11, _⟩ => ⟨S1x2816x1024, .bf16⟩
  | .hbm, ⟨12, _⟩ => ⟨S1x2816x1024, .bf16⟩
  | .hbm, ⟨13, _⟩ => ⟨S2x2816x1024, .bf16⟩
  | .hbm, ⟨14, _⟩ => ⟨S2x4096x2816, .bf16⟩
  | .hbm, ⟨15, _⟩ => ⟨S4096x2816, .bf16⟩
  | .hbm, ⟨16, _⟩ => ⟨S2816x1024, .f32⟩
  | .hbm, ⟨17, _⟩ => ⟨S2816x1024, .bf16⟩
  | .hbm, ⟨18, _⟩ => ⟨S2x4096x2816, .bf16⟩
  | .local _ .vmem, ⟨0, _⟩ => ⟨S512x1024, .bf16⟩
  | .local _ .vmem, ⟨1, _⟩ => ⟨S512x1024, .bf16⟩
  | .local _ .vmem, ⟨2, _⟩ => ⟨S2x1408x1024, .bf16⟩
  | .local _ .vmem, ⟨3, _⟩ => ⟨S2x1408x1024, .bf16⟩
  | .local _ .vmem, ⟨4, _⟩ => ⟨S2x512x1408, .bf16⟩
  | .local _ .vmem, ⟨5, _⟩ => ⟨S2x512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1024, .bf16⟩
  | .local _ .vmem, ⟨9, _⟩ => ⟨S512x1024, .bf16⟩
  | .local _ .vmem, ⟨10, _⟩ => ⟨S1408x1024, .bf16⟩
  | .local _ .vmem, ⟨11, _⟩ => ⟨S1408x1024, .bf16⟩
  | .local _ .vmem, ⟨12, _⟩ => ⟨S2x512x1408, .bf16⟩
  | .local _ .vmem, ⟨13, _⟩ => ⟨S2x512x1408, .bf16⟩
  | .local _ .vmem, ⟨14, _⟩ => ⟨S2x512x1408, .bf16⟩
  | .local _ .vmem, ⟨15, _⟩ => ⟨S2x512x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![2, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1408x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2x512x1408 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S2x512x1408 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== ReferenceIdeal.lean ====
abbrev S4096x1024 : Shape := ⟨2, ![4096, 1024]⟩
abbrev S1x1024x2816 : Shape := ⟨3, ![1, 1024, 2816]⟩
abbrev S1x2816x1024 : Shape := ⟨3, ![1, 2816, 1024]⟩
abbrev S1024x2816 : Shape := ⟨2, ![1024, 2816]⟩
abbrev S4096x2816 : Shape := ⟨2, ![4096, 2816]⟩
abbrev S2816x1024 : Shape := ⟨2, ![2816, 1024]⟩
abbrev S_ : Shape := ⟨0, ![]⟩
abbrev S1x4096x2816 : Shape := ⟨3, ![1, 4096, 2816]⟩
abbrev S2x4096x2816 : Shape := ⟨3, ![2, 4096, 2816]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x1024x2816, .f32⟩
  | .hbm, ⟨2, _⟩ => ⟨S1x1024x2816, .f32⟩
  | .hbm, ⟨3, _⟩ => ⟨S1x2816x1024, .f32⟩
  | .hbm, ⟨4, _⟩ => ⟨S4096x1024, .bf16⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S4096x2816, .f32⟩
  | .hbm, ⟨9, _⟩ => ⟨S1024x2816, .f32⟩
  | .hbm, ⟨10, _⟩ => ⟨S4096x2816, .f32⟩
  | .hbm, ⟨11, _⟩ => ⟨S2816x1024, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S_, .f32⟩
  | .hbm, ⟨18, _⟩ => ⟨S4096x2816, .f32⟩
  | .hbm, ⟨19, _⟩ => ⟨S4096x2816, .f32⟩
  | .hbm, ⟨20, _⟩ => ⟨S_, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x1024, .f32⟩
  | .hbm, ⟨27, _⟩ => ⟨S1024x2816, .f32⟩
  | .hbm, ⟨28, _⟩ => ⟨S2816x1024, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S_, .f32⟩
  | .hbm, ⟨39, _⟩ => ⟨S4096x2816, .f32⟩
  | .hbm, ⟨40, _⟩ => ⟨S4096x2816, .f32⟩
  | .hbm, ⟨41, _⟩ => ⟨S_, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S1x4096x2816, .f32⟩
  | .hbm, ⟨47, _⟩ => ⟨S1x4096x2816, .f32⟩
  | .hbm, ⟨48, _⟩ => ⟨S2x4096x2816, .f32⟩
  | .hbm, ⟨49, _⟩ => ⟨S2x4096x2816, .bf16⟩
  | .hbm, ⟨50, _⟩ => ⟨S4096x2816, .bf16⟩
  | .hbm, ⟨51, _⟩ => ⟨S1x4096x2816, .f32⟩
  | .hbm, ⟨52, _⟩ => ⟨S1x4096x2816, .f32⟩
  | .hbm, ⟨53, _⟩ => ⟨S2x4096x2816, .f32⟩
  | .hbm, ⟨54, _⟩ => ⟨S2x4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_v7_2 : Ref sig .tc := ⟨.hbm, 19, rfl⟩
abbrev main_call0_cst_1 : Ref sig .tc := ⟨.hbm, 20, rfl⟩
abbrev main_call0_v6 : Ref sig .tc := ⟨.hbm, 21, rfl⟩
abbrev main_call0_v7 : Ref sig .tc := ⟨.hbm, 22, rfl⟩
abbrev main_v7_1 : Ref sig .tc := ⟨.hbm, 23, rfl⟩
abbrev main_v7_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v15 : Ref sig .tc := ⟨.hbm, 35, rfl⟩
abbrev main_call2_v0 : Ref sig .tc := ⟨.hbm, 36, rfl⟩
abbrev main_call2_v1 : Ref sig .tc := ⟨.hbm, 37, rfl⟩
abbrev main_call2_cst : Ref sig .tc := ⟨.hbm, 38, rfl⟩
abbrev main_call2_v2 : Ref sig .tc := ⟨.hbm, 39, rfl⟩
abbrev main_call2_v3 : Ref sig .tc := ⟨.hbm, 40, rfl⟩
abbrev main_call2_cst_0 : Ref sig .tc := ⟨.hbm, 41, rfl⟩
abbrev main_call2_v4 : Ref sig .tc := ⟨.hbm, 42, rfl⟩
abbrev main_call2_v5 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩

abbrev nD : Nat := 1
abbrev τ : Topo := Topo.v7x

variable {F : FTy → Type} [FloatOps F]
-- ==== Kernel2.lean ====
abbrev S4096x512 : Shape := ⟨2, ![4096, 512]⟩
abbrev S_ : Shape := ⟨0, ![]⟩
abbrev S4096x2048 : Shape := ⟨2, ![4096, 2048]⟩
abbrev S4096x1024 : Shape := ⟨2, ![4096, 1024]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x256x1x256 : Shape := ⟨4, ![1, 256, 1, 256]⟩
abbrev S2x256x1x256 : Shape := ⟨4, ![2, 256, 1, 256]⟩
abbrev S512x256 : Shape := ⟨2, ![512, 256]⟩
abbrev S2x4096x512 : Shape := ⟨3, ![2, 4096, 512]⟩
abbrev S2048x256 : Shape := ⟨2, ![2048, 256]⟩
abbrev S1x2048x256 : Shape := ⟨3, ![1, 2048, 256]⟩
abbrev S2048x512 : Shape := ⟨2, ![2048, 512]⟩
abbrev S2x512x128 : Shape := ⟨3, ![2, 512, 128]⟩
abbrev S2x512x1 : Shape := ⟨3, ![2, 512, 1]⟩
abbrev S1x128 : Shape := ⟨2, ![1, 128]⟩
abbrev S256x128 : Shape := ⟨2, ![256, 128]⟩
abbrev S512x128 : Shape := ⟨2, ![512, 128]⟩
abbrev S1x512x1 : Shape := ⟨3, ![1, 512, 1]⟩
abbrev S512x1 : Shape := ⟨2, ![512, 1]⟩
abbrev S1x512x128 : Shape := ⟨3, ![1, 512, 128]⟩
abbrev S512x512 : Shape := ⟨2, ![512, 512]⟩
abbrev S512 : Shape := ⟨1, ![512]⟩
abbrev S1x256x128 : Shape := ⟨3, ![1, 256, 128]⟩
abbrev S4x4096x512 : Shape := ⟨3, ![4, 4096, 512]⟩
abbrev S3x2048x256 : Shape := ⟨3, ![3, 2048, 256]⟩
abbrev S2x2048x128 : Shape := ⟨3, ![2, 2048, 128]⟩
abbrev S1x2048x128 : Shape := ⟨3, ![1, 2048, 128]⟩
abbrev S2048x128 : Shape := ⟨2, ![2048, 128]⟩
abbrev S1x4096x512 : Shape := ⟨3, ![1, 4096, 512]⟩
abbrev S3x4096x512 : Shape := ⟨3, ![3, 4096, 512]⟩

abbrev nBuf : Space → Nat
  | .hbm => 33
  | .vmem => 32
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S_, .bf16⟩
  | .hbm, ⟨5, _⟩ => ⟨S4096x512, .bf16⟩
  | .hbm, ⟨6, _⟩ => ⟨S4096x2048, .bf16⟩
  | .hbm, ⟨7, _⟩ => ⟨S_, .bf16⟩
  | .hbm, ⟨8, _⟩ => ⟨S4096x512, .bf16⟩
  | .hbm, ⟨9, _⟩ => ⟨S4096x1024, .bf16⟩
  | .hbm, ⟨10, _⟩ => ⟨S256, .i32⟩
  | .hbm, ⟨11, _⟩ => ⟨S256x1, .i32⟩
  | .hbm, ⟨12, _⟩ => ⟨S1x256, .i32⟩
  | .hbm, ⟨13, _⟩ => ⟨S256x256, .i32⟩
  | .hbm, ⟨14, _⟩ => ⟨S256x256, .i32⟩
  | .hbm, ⟨15, _⟩ => ⟨S256x256, .i1⟩
  | .hbm, ⟨16, _⟩ => ⟨S256x256, .bf16⟩
  | .hbm, ⟨17, _⟩ => ⟨S256x256, .bf16⟩
  | .hbm, ⟨18, _⟩ => ⟨S1x256x1x256, .bf16⟩
  | .hbm, ⟨19, _⟩ => ⟨S2x256x1x256, .bf16⟩
  | .hbm, ⟨20, _⟩ => ⟨S512x256, .bf16⟩
  | .hbm, ⟨21, _⟩ => ⟨S256x1, .i32⟩
  | .hbm, ⟨22, _⟩ => ⟨S1x256, .i32⟩
  | .hbm, ⟨23, _⟩ => ⟨S256x256, .i32⟩
  | .hbm, ⟨24, _⟩ => ⟨S256x256, .i32⟩
  | .hbm, ⟨25, _⟩ => ⟨S256x256, .i1⟩
  | .hbm, ⟨26, _⟩ => ⟨S256x256, .bf16⟩
  | .hbm, ⟨27, _⟩ => ⟨S2x4096x512, .bf16⟩
  | .hbm, ⟨28, _⟩ => ⟨S4096x1024, .f32⟩
  | .hbm, ⟨29, _⟩ => ⟨S4x4096x512, .bf16⟩
  | .hbm, ⟨30, _⟩ => ⟨S1x4096x512, .bf16⟩
  | .hbm, ⟨31, _⟩ => ⟨S4096x512, .bf16⟩
  | .hbm, ⟨32, _⟩ => ⟨S3x4096x512, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S512x256, .bf16⟩
  | .local _ .vmem, ⟨7, _⟩ => ⟨S1x2048x256, .bf16⟩
  | .local _ .vmem, ⟨8, _⟩ => ⟨S1x2048x256, .bf16⟩
  | .local _ .vmem, ⟨9, _⟩ => ⟨S2048x512, .f32⟩
  | .local _ .vmem, ⟨10, _⟩ => ⟨S2048x512, .f32⟩
  | .local _ .vmem, ⟨11, _⟩ => ⟨S2x512x128, .f32⟩
  | .local _ .vmem, ⟨12, _⟩ => ⟨S2x512x128, .f32⟩
  | .local _ .vmem, ⟨13, _⟩ => ⟨S2x512x1, .f32⟩
  | .local _ .vmem, ⟨14, _⟩ => ⟨S2048x256, .bf16⟩
  | .local _ .vmem, ⟨15, _⟩ => ⟨S2048x256, .bf16⟩
  | .local _ .vmem, ⟨16, _⟩ => ⟨S2048x256, .bf16⟩
  | .local _ .vmem, ⟨17, _⟩ => ⟨S2048x256, .bf16⟩
  | .local _ .vmem, ⟨18, _⟩ => ⟨S2048x256, .bf16⟩
  | .local _ .vmem, ⟨19, _⟩ => ⟨S2048x256, .bf16⟩
  | .local _ .vmem, ⟨20, _⟩ => ⟨S2048x256, .bf16⟩
  | .local _ .vmem, ⟨21, _⟩ => ⟨S2048x256, .bf16⟩
  | .local _ .vmem, ⟨22, _⟩ => ⟨S2048x512, .f32⟩
  | .local _ .vmem, ⟨23, _⟩ => ⟨S2048x512, .f32⟩
  | .local _ .vmem, ⟨24, _⟩ => ⟨S512x256, .bf16⟩
  | .local _ .vmem, ⟨25, _⟩ => ⟨S256x256, .bf16⟩
  | .local _ .vmem, ⟨26, _⟩ => ⟨S3x2048x256, .bf16⟩
  | .local _ .vmem, ⟨27, _⟩ => ⟨S3x2048x256, .bf16⟩
  | .local _ .vmem, ⟨28, _⟩ => ⟨S2x512x128, .f32⟩
  | .local _ .vmem, ⟨29, _⟩ => ⟨S2x2048x128, .f32⟩
  | .local _ .vmem, ⟨30, _⟩ => ⟨S2x2048x128, .f32⟩
  | .local _ .vmem, ⟨31, _⟩ => ⟨S2x512x1, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21_0 : Ref sig .tc := ⟨.hbm, 27, rfl⟩
abbrev main_v21_1 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg7_1 : Ref sig .tc := ⟨.vmem, 27, rfl⟩
abbrev cc1_scratch0 : Ref sig .tc := ⟨.vmem, 28, rfl⟩
abbrev cc1_scratch1 : Ref sig .tc := ⟨.vmem, 29, rfl⟩
abbrev cc1_scratch2 : Ref sig .tc := ⟨.vmem, 30, rfl⟩
abbrev cc1_scratch3 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20
abbrev cc1_sem5_0 : DmaSem sig := 21
abbrev cc1_sem6_0 : DmaSem sig := 22
abbrev cc1_sem7_0 : DmaSem sig := 23
abbrev cc1_sem7_1 : DmaSem sig := 24

abbrev nD : Nat := 1
abbrev τ : Topo := Topo.v7x

variable {F : FTy → Type} [FloatOps F]

abbrev grid0 : Pipeline.Grid := ⟨2, ![2, 2], ![false, false]⟩

@[reducible] def k0_t1_loop : Scf.Loop 32 :=
  let c0_i32 : BitVec 32 := 0#32
  let c8_i32 : BitVec 32 := 8#32
  let v11 : BitVec 32 := Scalar.addi c0_i32 c8_i32
  let c1_i32 : BitVec 32 := 1#32
  ⟨c0_i32, v11, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c256_i32_3 : BitVec 32 := 256#32
  let v12 : BitVec 32 := Scalar.muli arg11 c256_i32_3
  v12
def k0_off1 (k0_t1 : Fin k0_t1_loop.trips) : Fin 2 → Nat :=
  let c0_i32 : BitVec 32 := 0#32
  let c1_i32 : BitVec 32 := 1#32
  let arg11 : BitVec 32 := Scf.iv c0_i32 c1_i32 k0_t1
  let c256_i32_3 : BitVec 32 := 256#32
  let v12 : BitVec 32 := Scalar.muli arg11 c256_i32_3
  let v13 : BitVec 32 := v12
  let v14 : Index := Scalar.indexCast v13
  let c0_4 : Index := 0#32
  ![v14.toNat, 0]
def k0_off2 (k0_t1 : Fin k0_t1_loop.trips) : Fin 2 → Nat :=
  let c0_i32 : BitVec 32 := 0#32
  let c1_i32 : BitVec 32 := 1#32
  let arg11 : BitVec 32 := Scf.iv c0_i32 c1_i32 k0_t1
  let c256_i32_3 : BitVec 32 := 256#32
  let v12 : BitVec 32 := Scalar.muli arg11 c256_i32_3
  let v13 : BitVec 32 := v12
  let v31 : Index := Scalar.indexCast v13
  let c128 : Index := 128#32
  ![v31.toNat, 128]
def k0_cond1 (k0_t1 : Fin k0_t1_loop.trips) : BitVec 1 :=
  let c0_i32 : BitVec 32 := 0#32
  let c1_i32 : BitVec 32 := 1#32
  let arg11 : BitVec 32 := Scf.iv c0_i32 c1_i32 k0_t1
  let c2_i32 : BitVec 32 := 2#32
  let c0_i32_23 : BitVec 32 := 0#32
  let v60 : BitVec 1 := Scalar.cmpi .eq c2_i32 c0_i32_23
  let c1_i32_24 : BitVec 32 := 1#32
  let v61 : BitVec 32 := Scalar.select v60 c1_i32_24 c2_i32
  let v62 : BitVec 32 := Scalar.remsi arg11 v61
  let c0_i32_26 : BitVec 32 := 0#32
  let v64 : BitVec 1 := Scalar.cmpi .slt v62 c0_i32_26
  let c0_i32_27 : BitVec 32 := 0#32
  let v65 : BitVec 1 := Scalar.cmpi .slt v61 c0_i32_27
  let v66 : BitVec 1 := Scalar.xori v64 v65
  let c0_i32_25 : BitVec 32 := 0#32
  let v63 : BitVec 1 := Scalar.cmpi .ne v62 c0_i32_25
  let v67 : BitVec 1 := Scalar.andi v66 v63
  let v68 : BitVec 32 := Scalar.addi v62 v61
  let v69 : BitVec 32 := Scalar.select v67 v68 v62
  let c0_i32_28 : BitVec 32 := 0#32
  let v70 : BitVec 1 := Scalar.cmpi .eq v69 c0_i32_28
  let v71 : BitVec 32 := Scalar.extui v70
  let c0_i32_29 : BitVec 32 := 0#32
  let v72 : BitVec 1 := Scalar.cmpi .ne v71 c0_i32_29
  v72

def k0_mult2 (k0_t1 : Fin k0_t1_loop.trips) : BitVec 32 :=
  let c0_i32 : BitVec 32 := 0#32
  let c1_i32 : BitVec 32 := 1#32
  let arg11 : BitVec 32 := Scf.iv c0_i32 c1_i32 k0_t1
  let c256_i32_87 : BitVec 32 := 256#32
  let v152 : BitVec 32 := Scalar.muli arg11 c256_i32_87
  v152
def k0_off3 (k0_t1 : Fin k0_t1_loop.trips) : Fin 2 → Nat :=
  let c0_i32 : BitVec 32 := 0#32
  let c1_i32 : BitVec 32 := 1#32
  let arg11 : BitVec 32 := Scf.iv c0_i32 c1_i32 k0_t1
  let c256_i32_87 : BitVec 32 := 256#32
  let v152 : BitVec 32 := Scalar.muli arg11 c256_i32_87
  let v153 : BitVec 32 := v152
  let v154 : Index := Scalar.indexCast v153
  let c0_88 : Index := 0#32
  ![v154.toNat, 0]
def k0_off4 (k0_t1 : Fin k0_t1_loop.trips) : Fin 2 → Nat :=
  let c0_i32 : BitVec 32 := 0#32
  let c1_i32 : BitVec 32 := 1#32
  let arg11 : BitVec 32 := Scf.iv c0_i32 c1_i32 k0_t1
  let c256_i32_87 : BitVec 32 := 256#32
  let v152 : BitVec 32 := Scalar.muli arg11 c256_i32_87
  let v153 : BitVec 32 := v152
  let v185 : Index := Scalar.indexCast v153
  let c128_95 : Index := 128#32
  ![v185.toNat, 128]
def k0_cond2 (k0_t1 : Fin k0_t1_loop.trips) : BitVec 1 :=
  let c0_i32 : BitVec 32 := 0#32
  let c1_i32 : BitVec 32 := 1#32
  let arg11 : BitVec 32 := Scf.iv c0_i32 c1_i32 k0_t1
  let c2_i32 : BitVec 32 := 2#32
  let c0_i32_23 : BitVec 32 := 0#32
  let v60 : BitVec 1 := Scalar.cmpi .eq c2_i32 c0_i32_23
  let c1_i32_24 : BitVec 32 := 1#32
  let v61 : BitVec 32 := Scalar.select v60 c1_i32_24 c2_i32
  let v62 : BitVec 32 := Scalar.remsi arg11 v61
  let c0_i32_26 : BitVec 32 := 0#32
  let v64 : BitVec 1 := Scalar.cmpi .slt v62 c0_i32_26
  let c0_i32_27 : BitVec 32 := 0#32
  let v65 : BitVec 1 := Scalar.cmpi .slt v61 c0_i32_27
  let v66 : BitVec 1 := Scalar.xori v64 v65
  let c0_i32_25 : BitVec 32 := 0#32
  let v63 : BitVec 1 := Scalar.cmpi .ne v62 c0_i32_25
  let v67 : BitVec 1 := Scalar.andi v66 v63
  let v68 : BitVec 32 := Scalar.addi v62 v61
  let v69 : BitVec 32 := Scalar.select v67 v68 v62
  let c1_i32_30 : BitVec 32 := 1#32
  let v73 : BitVec 1 := Scalar.cmpi .eq v69 c1_i32_30
  let v74 : BitVec 32 := Scalar.extui v73
  let c0_i32_31 : BitVec 32 := 0#32
  let v75 : BitVec 1 := Scalar.cmpi .ne v74 c0_i32_31
  v75

def k0_mult3 (k0_t1 : Fin k0_t1_loop.trips) : BitVec 32 :=
  let c0_i32 : BitVec 32 := 0#32
  let c1_i32 : BitVec 32 := 1#32
  let arg11 : BitVec 32 := Scf.iv c0_i32 c1_i32 k0_t1
  let c256_i32_88 : BitVec 32 := 256#32
  let v153 : BitVec 32 := Scalar.muli arg11 c256_i32_88
  v153
def k0_mult4 (k0_t1 : Fin k0_t1_loop.trips) : BitVec 32 :=
  let c0_i32 : BitVec 32 := 0#32
  let c1_i32 : BitVec 32 := 1#32
  let arg11 : BitVec 32 := Scf.iv c0_i32 c1_i32 k0_t1
  let c1_i32_75 : BitVec 32 := 1#32
  let v144 : BitVec 32 := Scalar.subi arg11 c1_i32_75
  let c256_i32_89 : BitVec 32 := 256#32
  let v155 : BitVec 32 := Scalar.muli v144 c256_i32_89
  v155
def k0_off5 (k0_t1 : Fin k0_t1_loop.trips) : Fin 2 → Nat :=
  let c0_i32 : BitVec 32 := 0#32
  let c1_i32 : BitVec 32 := 1#32
  let arg11 : BitVec 32 := Scf.iv c0_i32 c1_i32 k0_t1
  let c256_i32_88 : BitVec 32 := 256#32
  let v153 : BitVec 32 := Scalar.muli arg11 c256_i32_88
  let v154 : BitVec 32 := v153
  let v157 : Index := Scalar.indexCast v154
  let c0_90 : Index := 0#32
  ![v157.toNat, 0]
def k0_off6 (k0_t1 : Fin k0_t1_loop.trips) : Fin 2 → Nat :=
  let c0_i32 : BitVec 32 := 0#32
  let c1_i32 : BitVec 32 := 1#32
  let arg11 : BitVec 32 := Scf.iv c0_i32 c1_i32 k0_t1
  let c256_i32_88 : BitVec 32 := 256#32
  let v153 : BitVec 32 := Scalar.muli arg11 c256_i32_88
  let v154 : BitVec 32 := v153
  let v188 : Index := Scalar.indexCast v154
  let c128_97 : Index := 128#32
  ![v188.toNat, 128]
def k0_off7 (k0_t1 : Fin k0_t1_loop.trips) : Fin 2 → Nat :=
  let c0_i32 : BitVec 32 := 0#32
  let c1_i32 : BitVec 32 := 1#32
  let arg11 : BitVec 32 := Scf.iv c0_i32 c1_i32 k0_t1
  let c1_i32_75 : BitVec 32 := 1#32
  let v144 : BitVec 32 := Scalar.subi arg11 c1_i32_75
  let c256_i32_89 : BitVec 32 := 256#32
  let v155 : BitVec 32 := Scalar.muli v144 c256_i32_89
  let v156 : BitVec 32 := v155
  let v220 : Index := Scalar.indexCast v156
  let c0_105 : Index := 0#32
  ![v220.toNat, 0]
def k0_off8 (k0_t1 : Fin k0_t1_loop.trips) : Fin 2 → Nat :=
  let c0_i32 : BitVec 32 := 0#32
  let c1_i32 : BitVec 32 := 1#32
  let arg11 : BitVec 32 := Scf.iv c0_i32 c1_i32 k0_t1
  let c1_i32_75 : BitVec 32 := 1#32
  let v144 : BitVec 32 := Scalar.subi arg11 c1_i32_75
  let c256_i32_89 : BitVec 32 := 256#32
  let v155 : BitVec 32 := Scalar.muli v144 c256_i32_89
  let v156 : BitVec 32 := v155
  let v257 : Index := Scalar.indexCast v156
  let c128_113 : Index := 128#32
  ![v257.toNat, 128]
@[reducible] def k0_t2_loop (k0_t1 : Fin k0_t1_loop.trips) : Scf.Loop 32 :=
  let c0_i32_39 : BitVec 32 := 0#32
  let c0_i32 : BitVec 32 := 0#32
  let c1_i32 : BitVec 32 := 1#32
  let arg11 : BitVec 32 := Scf.iv c0_i32 c1_i32 k0_t1
  let c0_i32_33 : BitVec 32 := 0#32
  let v77 : BitVec 1 := Scalar.cmpi .sgt arg11 c0_i32_33
  let v78 : BitVec 32 := Scalar.extui v77
  let c0_i32_34 : BitVec 32 := 0#32
  let v79 : BitVec 1 := Scalar.cmpi .slt arg11 c0_i32_34
  let v80 : BitVec 32 := Scalar.extui v79
  let v81 : BitVec 32 := Scalar.subi v78 v80
  let c2_i32_32 : BitVec 32 := 2#32
  let c0_i32_35 : BitVec 32 := 0#32
  let v82 : BitVec 1 := Scalar.cmpi .sgt c2_i32_32 c0_i32_35
  let v83 : BitVec 32 := Scalar.extui v82
  let c0_i32_36 : BitVec 32 := 0#32
  let v84 : BitVec 1 := Scalar.cmpi .slt c2_i32_32 c0_i32_36
  let v85 : BitVec 32 := Scalar.extui v84
  let v86 : BitVec 32 := Scalar.subi v83 v85
  let v87 : BitVec 1 := Scalar.cmpi .ne v81 v86
  let v88 : BitVec 32 := Scalar.remsi arg11 c2_i32_32
  let c0_i32_37 : BitVec 32 := 0#32
  let v89 : BitVec 1 := Scalar.cmpi .ne v88 c0_i32_37
  let v90 : BitVec 1 := Scalar.andi v87 v89
  let v76 : BitVec 32 := Scalar.divsi arg11 c2_i32_32
  let c1_i32_38 : BitVec 32 := 1#32
  let v91 : BitVec 32 := Scalar.subi v76 c1_i32_38
  let v92 : BitVec 32 := Scalar.select v90 v91 v76
  let v93 : BitVec 32 := Scalar.subi v92 c0_i32_39
  let c1_i32_41 : BitVec 32 := 1#32
  let v95 : BitVec 32 := Scalar.divsi v93 c1_i32_41
  let v96 : BitVec 32 := Scalar.muli v95 c1_i32_41
  let v97 : BitVec 32 := Scalar.addi c0_i32_39 v96
  let c1_i32_42 : BitVec 32 := 1#32
  ⟨c0_i32_39, v97, c1_i32_42⟩
def k0_mult5 (k0_t1 : Fin k0_t1_loop.trips) (k0_t2 : Fin (k0_t2_loop k0_t1).trips) : BitVec 32 :=
  let c0_i32 : BitVec 32 := 0#32
  let c1_i32 : BitVec 32 := 1#32
  let arg11 : BitVec 32 := Scf.iv c0_i32 c1_i32 k0_t1
  let c1_i32_75 : BitVec 32 := 1#32
  let v144 : BitVec 32 := Scalar.subi arg11 c1_i32_75
  let c2_i32 : BitVec 32 := 2#32
  let c0_i32_23 : BitVec 32 := 0#32
  let v60 : BitVec 1 := Scalar.cmpi .eq c2_i32 c0_i32_23
  let c1_i32_24 : BitVec 32 := 1#32
  let v61 : BitVec 32 := Scalar.select v60 c1_i32_24 c2_i32
  let v62 : BitVec 32 := Scalar.remsi arg11 v61
  let c0_i32_26 : BitVec 32 := 0#32
  let v64 : BitVec 1 := Scalar.cmpi .slt v62 c0_i32_26
  let c0_i32_27 : BitVec 32 := 0#32
  let v65 : BitVec 1 := Scalar.cmpi .slt v61 c0_i32_27
  let v66 : BitVec 1 := Scalar.xori v64 v65
  let c0_i32_25 : BitVec 32 := 0#32
  let v63 : BitVec 1 := Scalar.cmpi .ne v62 c0_i32_25
  let v67 : BitVec 1 := Scalar.andi v66 v63
  let v68 : BitVec 32 := Scalar.addi v62 v61
  let v69 : BitVec 32 := Scalar.select v67 v68 v62
  let v145 : BitVec 32 := Scalar.subi v144 v69
  let c2_i32_76 : BitVec 32 := 2#32
  let c0_i32_39 : BitVec 32 := 0#32
  let c1_i32_42 : BitVec 32 := 1#32
  let arg12 : BitVec 32 := Scf.iv c0_i32_39 c1_i32_42 k0_t2
  let v146 : BitVec 32 := Scalar.muli c2_i32_76 arg12
  let v147 : BitVec 32 := Scalar.subi v145 v146
  let c256_i32_90 : BitVec 32 := 256#32
  let v157 : BitVec 32 := Scalar.muli v147 c256_i32_90
  v157
def k0_mult6 (k0_t1 : Fin k0_t1_loop.trips) (k0_t2 : Fin (k0_t2_loop k0_t1).trips) : BitVec 32 :=
  let c0_i32 : BitVec 32 := 0#32
  let c1_i32 : BitVec 32 := 1#32
  let arg11 : BitVec 32 := Scf.iv c0_i32 c1_i32 k0_t1
  let c1_i32_75 : BitVec 32 := 1#32
  let v144 : BitVec 32 := Scalar.subi arg11 c1_i32_75
  let c2_i32 : BitVec 32 := 2#32
  let c0_i32_23 : BitVec 32 := 0#32
  let v60 : BitVec 1 := Scalar.cmpi .eq c2_i32 c0_i32_23
  let c1_i32_24 : BitVec 32 := 1#32
  let v61 : BitVec 32 := Scalar.select v60 c1_i32_24 c2_i32
  let v62 : BitVec 32 := Scalar.remsi arg11 v61
  let c0_i32_26 : BitVec 32 := 0#32
  let v64 : BitVec 1 := Scalar.cmpi .slt v62 c0_i32_26
  let c0_i32_27 : BitVec 32 := 0#32
  let v65 : BitVec 1 := Scalar.cmpi .slt v61 c0_i32_27
  let v66 : BitVec 1 := Scalar.xori v64 v65
  let c0_i32_25 : BitVec 32 := 0#32
  let v63 : BitVec 1 := Scalar.cmpi .ne v62 c0_i32_25
  let v67 : BitVec 1 := Scalar.andi v66 v63
  let v68 : BitVec 32 := Scalar.addi v62 v61
  let v69 : BitVec 32 := Scalar.select v67 v68 v62
  let v145 : BitVec 32 := Scalar.subi v144 v69
  let c2_i32_76 : BitVec 32 := 2#32
  let c0_i32_39 : BitVec 32 := 0#32
  let c1_i32_42 : BitVec 32 := 1#32
  let arg12 : BitVec 32 := Scf.iv c0_i32_39 c1_i32_42 k0_t2
  let v146 : BitVec 32 := Scalar.muli c2_i32_76 arg12
  let v147 : BitVec 32 := Scalar.subi v145 v146
  let c1_i32_77 : BitVec 32 := 1#32
  let v148 : BitVec 32 := Scalar.subi v147 c1_i32_77
  let c256_i32_91 : BitVec 32 := 256#32
  let v159 : BitVec 32 := Scalar.muli v148 c256_i32_91
  v159
def k0_off9 (k0_t1 : Fin k0_t1_loop.trips) (k0_t2 : Fin (k0_t2_loop k0_t1).trips) : Fin 2 → Nat :=
  let c0_i32 : BitVec 32 := 0#32
  let c1_i32 : BitVec 32 := 1#32
  let arg11 : BitVec 32 := Scf.iv c0_i32 c1_i32 k0_t1
  let c1_i32_75 : BitVec 32 := 1#32
  let v144 : BitVec 32 := Scalar.subi arg11 c1_i32_75
  let c2_i32 : BitVec 32 := 2#32
  let c0_i32_23 : BitVec 32 := 0#32
  let v60 : BitVec 1 := Scalar.cmpi .eq c2_i32 c0_i32_23
  let c1_i32_24 : BitVec 32 := 1#32
  let v61 : BitVec 32 := Scalar.select v60 c1_i32_24 c2_i32
  let v62 : BitVec 32 := Scalar.remsi arg11 v61
  let c0_i32_26 : BitVec 32 := 0#32
  let v64 : BitVec 1 := Scalar.cmpi .slt v62 c0_i32_26
  let c0_i32_27 : BitVec 32 := 0#32
  let v65 : BitVec 1 := Scalar.cmpi .slt v61 c0_i32_27
  let v66 : BitVec 1 := Scalar.xori v64 v65
  let c0_i32_25 : BitVec 32 := 0#32
  let v63 : BitVec 1 := Scalar.cmpi .ne v62 c0_i32_25
  let v67 : BitVec 1 := Scalar.andi v66 v63
  let v68 : BitVec 32 := Scalar.addi v62 v61
  let v69 : BitVec 32 := Scalar.select v67 v68 v62
  let v145 : BitVec 32 := Scalar.subi v144 v69
  let c2_i32_76 : BitVec 32 := 2#32
  let c0_i32_39 : BitVec 32 := 0#32
  let c1_i32_42 : BitVec 32 := 1#32
  let arg12 : BitVec 32 := Scf.iv c0_i32_39 c1_i32_42 k0_t2
  let v146 : BitVec 32 := Scalar.muli c2_i32_76 arg12
  let v147 : BitVec 32 := Scalar.subi v145 v146
  let c256_i32_90 : BitVec 32 := 256#32
  let v157 : BitVec 32 := Scalar.muli v147 c256_i32_90
  let v158 : BitVec 32 := v157
  let v161 : Index := Scalar.indexCast v158
  let c0_92 : Index := 0#32
  ![v161.toNat, 0]
def k0_off10 (k0_t1 : Fin k0_t1_loop.trips) (k0_t2 : Fin (k0_t2_loop k0_t1).trips) : Fin 2 → Nat :=
  let c0_i32 : BitVec 32 := 0#32
  let c1_i32 : BitVec 32 := 1#32
  let arg11 : BitVec 32 := Scf.iv c0_i32 c1_i32 k0_t1
  let c1_i32_75 : BitVec 32 := 1#32
  let v144 : BitVec 32 := Scalar.subi arg11 c1_i32_75
  let c2_i32 : BitVec 32 := 2#32
  let c0_i32_23 : BitVec 32 := 0#32
  let v60 : BitVec 1 := Scalar.cmpi .eq c2_i32 c0_i32_23
  let c1_i32_24 : BitVec 32 := 1#32
  let v61 : BitVec 32 := Scalar.select v60 c1_i32_24 c2_i32
  let v62 : BitVec 32 := Scalar.remsi arg11 v61
  let c0_i32_26 : BitVec 32 := 0#32
  let v64 : BitVec 1 := Scalar.cmpi .slt v62 c0_i32_26
  let c0_i32_27 : BitVec 32 := 0#32
  let v65 : BitVec 1 := Scalar.cmpi .slt v61 c0_i32_27
  let v66 : BitVec 1 := Scalar.xori v64 v65
  let c0_i32_25 : BitVec 32 := 0#32
  let v63 : BitVec 1 := Scalar.cmpi .ne v62 c0_i32_25
  let v67 : BitVec 1 := Scalar.andi v66 v63
  let v68 : BitVec 32 := Scalar.addi v62 v61
  let v69 : BitVec 32 := Scalar.select v67 v68 v62
  let v145 : BitVec 32 := Scalar.subi v144 v69
  let c2_i32_76 : BitVec 32 := 2#32
  let c0_i32_39 : BitVec 32 := 0#32
  let c1_i32_42 : BitVec 32 := 1#32
  let arg12 : BitVec 32 := Scf.iv c0_i32_39 c1_i32_42 k0_t2
  let v146 : BitVec 32 := Scalar.muli c2_i32_76 arg12
  let v147 : BitVec 32 := Scalar.subi v145 v146
  let c256_i32_90 : BitVec 32 := 256#32
  let v157 : BitVec 32 := Scalar.muli v147 c256_i32_90
  let v158 : BitVec 32 := v157
  let v190 : Index := Scalar.indexCast v158
  let c128_98 : Index := 128#32
  ![v190.toNat, 128]
def k0_off11 (k0_t1 : Fin k0_t1_loop.trips) (k0_t2 : Fin (k0_t2_loop k0_t1).trips) : Fin 2 → Nat :=
  let c0_i32 : BitVec 32 := 0#32
  let c1_i32 : BitVec 32 := 1#32
  let arg11 : BitVec 32 := Scf.iv c0_i32 c1_i32 k0_t1
  let c1_i32_75 : BitVec 32 := 1#32
  let v144 : BitVec 32 := Scalar.subi arg11 c1_i32_75
  let c2_i32 : BitVec 32 := 2#32
  let c0_i32_23 : BitVec 32 := 0#32
  let v60 : BitVec 1 := Scalar.cmpi .eq c2_i32 c0_i32_23
  let c1_i32_24 : BitVec 32 := 1#32
  let v61 : BitVec 32 := Scalar.select v60 c1_i32_24 c2_i32
  let v62 : BitVec 32 := Scalar.remsi arg11 v61
  let c0_i32_26 : BitVec 32 := 0#32
  let v64 : BitVec 1 := Scalar.cmpi .slt v62 c0_i32_26
  let c0_i32_27 : BitVec 32 := 0#32
  let v65 : BitVec 1 := Scalar.cmpi .slt v61 c0_i32_27
  let v66 : BitVec 1 := Scalar.xori v64 v65
  let c0_i32_25 : BitVec 32 := 0#32
  let v63 : BitVec 1 := Scalar.cmpi .ne v62 c0_i32_25
  let v67 : BitVec 1 := Scalar.andi v66 v63
  let v68 : BitVec 32 := Scalar.addi v62 v61
  let v69 : BitVec 32 := Scalar.select v67 v68 v62
  let v145 : BitVec 32 := Scalar.subi v144 v69
  let c2_i32_76 : BitVec 32 := 2#32
  let c0_i32_39 : BitVec 32 := 0#32
  let c1_i32_42 : BitVec 32 := 1#32
  let arg12 : BitVec 32 := Scf.iv c0_i32_39 c1_i32_42 k0_t2
  let v146 : BitVec 32 := Scalar.muli c2_i32_76 arg12
  let v147 : BitVec 32 := Scalar.subi v145 v146
  let c1_i32_77 : BitVec 32 := 1#32
  let v148 : BitVec 32 := Scalar.subi v147 c1_i32_77
  let c256_i32_91 : BitVec 32 := 256#32
  let v159 : BitVec 32 := Scalar.muli v148 c256_i32_91
  let v160 : BitVec 32 := v159
  let v220 : Index := Scalar.indexCast v160
  let c0_105 : Index := 0#32
  ![v220.toNat, 0]
def k0_off12 (k0_t1 : Fin k0_t1_loop.trips) (k0_t2 : Fin (k0_t2_loop k0_t1).trips) : Fin 2 → Nat :=
  let c0_i32 : BitVec 32 := 0#32
  let c1_i32 : BitVec 32 := 1#32
  let arg11 : BitVec 32 := Scf.iv c0_i32 c1_i32 k0_t1
  let c1_i32_75 : BitVec 32 := 1#32
  let v144 : BitVec 32 := Scalar.subi arg11 c1_i32_75
  let c2_i32 : BitVec 32 := 2#32
  let c0_i32_23 : BitVec 32 := 0#32
  let v60 : BitVec 1 := Scalar.cmpi .eq c2_i32 c0_i32_23
  let c1_i32_24 : BitVec 32 := 1#32
  let v61 : BitVec 32 := Scalar.select v60 c1_i32_24 c2_i32
  let v62 : BitVec 32 := Scalar.remsi arg11 v61
  let c0_i32_26 : BitVec 32 := 0#32
  let v64 : BitVec 1 := Scalar.cmpi .slt v62 c0_i32_26
  let c0_i32_27 : BitVec 32 := 0#32
  let v65 : BitVec 1 := Scalar.cmpi .slt v61 c0_i32_27
  let v66 : BitVec 1 := Scalar.xori v64 v65
  let c0_i32_25 : BitVec 32 := 0#32
  let v63 : BitVec 1 := Scalar.cmpi .ne v62 c0_i32_25
  let v67 : BitVec 1 := Scalar.andi v66 v63
  let v68 : BitVec 32 := Scalar.addi v62 v61
  let v69 : BitVec 32 := Scalar.select v67 v68 v62
  let v145 : BitVec 32 := Scalar.subi v144 v69
  let c2_i32_76 : BitVec 32 := 2#32
  let c0_i32_39 : BitVec 32 := 0#32
  let c1_i32_42 : BitVec 32 := 1#32
  let arg12 : BitVec 32 := Scf.iv c0_i32_39 c1_i32_42 k0_t2
  let v146 : BitVec 32 := Scalar.muli c2_i32_76 arg12
  let v147 : BitVec 32 := Scalar.subi v145 v146
  let c1_i32_77 : BitVec 32 := 1#32
  let v148 : BitVec 32 := Scalar.subi v147 c1_i32_77
  let c256_i32_91 : BitVec 32 := 256#32
  let v159 : BitVec 32 := Scalar.muli v148 c256_i32_91
  let v160 : BitVec 32 := v159
  let v255 : Index := Scalar.indexCast v160
  let c128_112 : Index := 128#32
  ![v255.toNat, 128]
@[reducible] def k0_t3_loop (k0_t1 : Fin k0_t1_loop.trips) : Scf.Loop 32 :=
  let c0_i32_39 : BitVec 32 := 0#32
  let c0_i32 : BitVec 32 := 0#32
  let c1_i32 : BitVec 32 := 1#32
  let arg11 : BitVec 32 := Scf.iv c0_i32 c1_i32 k0_t1
  let c0_i32_33 : BitVec 32 := 0#32
  let v77 : BitVec 1 := Scalar.cmpi .sgt arg11 c0_i32_33
  let v78 : BitVec 32 := Scalar.extui v77
  let c0_i32_34 : BitVec 32 := 0#32
  let v79 : BitVec 1 := Scalar.cmpi .slt arg11 c0_i32_34
  let v80 : BitVec 32 := Scalar.extui v79
  let v81 : BitVec 32 := Scalar.subi v78 v80
  let c2_i32_32 : BitVec 32 := 2#32
  let c0_i32_35 : BitVec 32 := 0#32
  let v82 : BitVec 1 := Scalar.cmpi .sgt c2_i32_32 c0_i32_35
  let v83 : BitVec 32 := Scalar.extui v82
  let c0_i32_36 : BitVec 32 := 0#32
  let v84 : BitVec 1 := Scalar.cmpi .slt c2_i32_32 c0_i32_36
  let v85 : BitVec 32 := Scalar.extui v84
  let v86 : BitVec 32 := Scalar.subi v83 v85
  let v87 : BitVec 1 := Scalar.cmpi .ne v81 v86
  let v88 : BitVec 32 := Scalar.remsi arg11 c2_i32_32
  let c0_i32_37 : BitVec 32 := 0#32
  let v89 : BitVec 1 := Scalar.cmpi .ne v88 c0_i32_37
  let v90 : BitVec 1 := Scalar.andi v87 v89
  let v76 : BitVec 32 := Scalar.divsi arg11 c2_i32_32
  let c1_i32_38 : BitVec 32 := 1#32
  let v91 : BitVec 32 := Scalar.subi v76 c1_i32_38
  let v92 : BitVec 32 := Scalar.select v90 v91 v76
  let v93 : BitVec 32 := Scalar.subi v92 c0_i32_39
  let c1_i32_41 : BitVec 32 := 1#32
  let v95 : BitVec 32 := Scalar.divsi v93 c1_i32_41
  let v96 : BitVec 32 := Scalar.muli v95 c1_i32_41
  let v97 : BitVec 32 := Scalar.addi c0_i32_39 v96
  let v94 : BitVec 32 := Scalar.addi c0_i32_39 v93
  let c1_i32_43 : BitVec 32 := 1#32
  ⟨v97, v94, c1_i32_43⟩
def k0_mult7 (k0_t1 : Fin k0_t1_loop.trips) (k0_t3 : Fin (k0_t3_loop k0_t1).trips) : BitVec 32 :=
  let c0_i32 : BitVec 32 := 0#32
  let c1_i32 : BitVec 32 := 1#32
  let arg11 : BitVec 32 := Scf.iv c0_i32 c1_i32 k0_t1
  let c1_i32_75 : BitVec 32 := 1#32
  let v144 : BitVec 32 := Scalar.subi arg11 c1_i32_75
  let c2_i32 : BitVec 32 := 2#32
  let c0_i32_23 : BitVec 32 := 0#32
  let v60 : BitVec 1 := Scalar.cmpi .eq c2_i32 c0_i32_23
  let c1_i32_24 : BitVec 32 := 1#32
  let v61 : BitVec 32 := Scalar.select v60 c1_i32_24 c2_i32
  let v62 : BitVec 32 := Scalar.remsi arg11 v61
  let c0_i32_26 : BitVec 32 := 0#32
  let v64 : BitVec 1 := Scalar.cmpi .slt v62 c0_i32_26
  let c0_i32_27 : BitVec 32 := 0#32
  let v65 : BitVec 1 := Scalar.cmpi .slt v61 c0_i32_27
  let v66 : BitVec 1 := Scalar.xori v64 v65
  let c0_i32_25 : BitVec 32 := 0#32
  let v63 : BitVec 1 := Scalar.cmpi .ne v62 c0_i32_25
  let v67 : BitVec 1 := Scalar.andi v66 v63
  let v68 : BitVec 32 := Scalar.addi v62 v61
  let v69 : BitVec 32 := Scalar.select v67 v68 v62
  let v145 : BitVec 32 := Scalar.subi v144 v69
  let c2_i32_76 : BitVec 32 := 2#32
  let c0_i32_39 : BitVec 32 := 0#32
  let c0_i32_33 : BitVec 32 := 0#32
  let v77 : BitVec 1 := Scalar.cmpi .sgt arg11 c0_i32_33
  let v78 : BitVec 32 := Scalar.extui v77
  let c0_i32_34 : BitVec 32 := 0#32
  let v79 : BitVec 1 := Scalar.cmpi .slt arg11 c0_i32_34
  let v80 : BitVec 32 := Scalar.extui v79
  let v81 : BitVec 32 := Scalar.subi v78 v80
  let c2_i32_32 : BitVec 32 := 2#32
  let c0_i32_35 : BitVec 32 := 0#32
  let v82 : BitVec 1 := Scalar.cmpi .sgt c2_i32_32 c0_i32_35
  let v83 : BitVec 32 := Scalar.extui v82
  let c0_i32_36 : BitVec 32 := 0#32
  let v84 : BitVec 1 := Scalar.cmpi .slt c2_i32_32 c0_i32_36
  let v85 : BitVec 32 := Scalar.extui v84
  let v86 : BitVec 32 := Scalar.subi v83 v85
  let v87 : BitVec 1 := Scalar.cmpi .ne v81 v86
  let v88 : BitVec 32 := Scalar.remsi arg11 c2_i32_32
  let c0_i32_37 : BitVec 32 := 0#32
  let v89 : BitVec 1 := Scalar.cmpi .ne v88 c0_i32_37
  let v90 : BitVec 1 := Scalar.andi v87 v89
  let v76 : BitVec 32 := Scalar.divsi arg11 c2_i32_32
  let c1_i32_38 : BitVec 32 := 1#32
  let v91 : BitVec 32 := Scalar.subi v76 c1_i32_38
  let v92 : BitVec 32 := Scalar.select v90 v91 v76
  let v93 : BitVec 32 := Scalar.subi v92 c0_i32_39
  let c1_i32_41 : BitVec 32 := 1#32
  let v95 : BitVec 32 := Scalar.divsi v93 c1_i32_41
  let v96 : BitVec 32 := Scalar.muli v95 c1_i32_41
  let v97 : BitVec 32 := Scalar.addi c0_i32_39 v96
  let c1_i32_43 : BitVec 32 := 1#32
  let arg12 : BitVec 32 := Scf.iv v97 c1_i32_43 k0_t3
  let v146 : BitVec 32 := Scalar.muli c2_i32_76 arg12
  let v147 : BitVec 32 := Scalar.subi v145 v146
  let c256_i32_90 : BitVec 32 := 256#32
  let v157 : BitVec 32 := Scalar.muli v147 c256_i32_90
  v157
def k0_mult8 (k0_t1 : Fin k0_t1_loop.trips) (k0_t3 : Fin (k0_t3_loop k0_t1).trips) : BitVec 32 :=
  let c0_i32 : BitVec 32 := 0#32
  let c1_i32 : BitVec 32 := 1#32
  let arg11 : BitVec 32 := Scf.iv c0_i32 c1_i32 k0_t1
  let c1_i32_75 : BitVec 32 := 1#32
  let v144 : BitVec 32 := Scalar.subi arg11 c1_i32_75
  let c2_i32 : BitVec 32 := 2#32
  let c0_i32_23 : BitVec 32 := 0#32
  let v60 : BitVec 1 := Scalar.cmpi .eq c2_i32 c0_i32_23
  let c1_i32_24 : BitVec 32 := 1#32
  let v61 : BitVec 32 := Scalar.select v60 c1_i32_24 c2_i32
  let v62 : BitVec 32 := Scalar.remsi arg11 v61
  let c0_i32_26 : BitVec 32 := 0#32
  let v64 : BitVec 1 := Scalar.cmpi .slt v62 c0_i32_26
  let c0_i32_27 : BitVec 32 := 0#32
  let v65 : BitVec 1 := Scalar.cmpi .slt v61 c0_i32_27
  let v66 : BitVec 1 := Scalar.xori v64 v65
  let c0_i32_25 : BitVec 32 := 0#32
  let v63 : BitVec 1 := Scalar.cmpi .ne v62 c0_i32_25
  let v67 : BitVec 1 := Scalar.andi v66 v63
  let v68 : BitVec 32 := Scalar.addi v62 v61
  let v69 : BitVec 32 := Scalar.select v67 v68 v62
  let v145 : BitVec 32 := Scalar.subi v144 v69
  let c2_i32_76 : BitVec 32 := 2#32
  let c0_i32_39 : BitVec 32 := 0#32
  let c0_i32_33 : BitVec 32 := 0#32
  let v77 : BitVec 1 := Scalar.cmpi .sgt arg11 c0_i32_33
  let v78 : BitVec 32 := Scalar.extui v77
  let c0_i32_34 : BitVec 32 := 0#32
  let v79 : BitVec 1 := Scalar.cmpi .slt arg11 c0_i32_34
  let v80 : BitVec 32 := Scalar.extui v79
  let v81 : BitVec 32 := Scalar.subi v78 v80
  let c2_i32_32 : BitVec 32 := 2#32
  let c0_i32_35 : BitVec 32 := 0#32
  let v82 : BitVec 1 := Scalar.cmpi .sgt c2_i32_32 c0_i32_35
  let v83 : BitVec 32 := Scalar.extui v82
  let c0_i32_36 : BitVec 32 := 0#32
  let v84 : BitVec 1 := Scalar.cmpi .slt c2_i32_32 c0_i32_36
  let v85 : BitVec 32 := Scalar.extui v84
  let v86 : BitVec 32 := Scalar.subi v83 v85
  let v87 : BitVec 1 := Scalar.cmpi .ne v81 v86
  let v88 : BitVec 32 := Scalar.remsi arg11 c2_i32_32
  let c0_i32_37 : BitVec 32 := 0#32
  let v89 : BitVec 1 := Scalar.cmpi .ne v88 c0_i32_37
  let v90 : BitVec 1 := Scalar.andi v87 v89
  let v76 : BitVec 32 := Scalar.divsi arg11 c2_i32_32
  let c1_i32_38 : BitVec 32 := 1#32
  let v91 : BitVec 32 := Scalar.subi v76 c1_i32_38
  let v92 : BitVec 32 := Scalar.select v90 v91 v76
  let v93 : BitVec 32 := Scalar.subi v92 c0_i32_39
  let c1_i32_41 : BitVec 32 := 1#32
  let v95 : BitVec 32 := Scalar.divsi v93 c1_i32_41
  let v96 : BitVec 32 := Scalar.muli v95 c1_i32_41
  let v97 : BitVec 32 := Scalar.addi c0_i32_39 v96
  let c1_i32_43 : BitVec 32 := 1#32
  let arg12 : BitVec 32 := Scf.iv v97 c1_i32_43 k0_t3
  let v146 : BitVec 32 := Scalar.muli c2_i32_76 arg12
  let v147 : BitVec 32 := Scalar.subi v145 v146
  let c1_i32_77 : BitVec 32 := 1#32
  let v148 : BitVec 32 := Scalar.subi v147 c1_i32_77
  let c256_i32_91 : BitVec 32 := 256#32
  let v159 : BitVec 32 := Scalar.muli v148 c256_i32_91
  v159
def k0_off13 (k0_t1 : Fin k0_t1_loop.trips) (k0_t3 : Fin (k0_t3_loop k0_t1).trips) : Fin 2 → Nat :=
  let c0_i32 : BitVec 32 := 0#32
  let c1_i32 : BitVec 32 := 1#32
  let arg11 : BitVec 32 := Scf.iv c0_i32 c1_i32 k0_t1
  let c1_i32_75 : BitVec 32 := 1#32
  let v144 : BitVec 32 := Scalar.subi arg11 c1_i32_75
  let c2_i32 : BitVec 32 := 2#32
  let c0_i32_23 : BitVec 32 := 0#32
  let v60 : BitVec 1 := Scalar.cmpi .eq c2_i32 c0_i32_23
  let c1_i32_24 : BitVec 32 := 1#32
  let v61 : BitVec 32 := Scalar.select v60 c1_i32_24 c2_i32
  let v62 : BitVec 32 := Scalar.remsi arg11 v61
  let c0_i32_26 : BitVec 32 := 0#32
  let v64 : BitVec 1 := Scalar.cmpi .slt v62 c0_i32_26
  let c0_i32_27 : BitVec 32 := 0#32
  let v65 : BitVec 1 := Scalar.cmpi .slt v61 c0_i32_27
  let v66 : BitVec 1 := Scalar.xori v64 v65
  let c0_i32_25 : BitVec 32 := 0#32
  let v63 : BitVec 1 := Scalar.cmpi .ne v62 c0_i32_25
  let v67 : BitVec 1 := Scalar.andi v66 v63
  let v68 : BitVec 32 := Scalar.addi v62 v61
  let v69 : BitVec 32 := Scalar.select v67 v68 v62
  let v145 : BitVec 32 := Scalar.subi v144 v69
  let c2_i32_76 : BitVec 32 := 2#32
  let c0_i32_39 : BitVec 32 := 0#32
  let c0_i32_33 : BitVec 32 := 0#32
  let v77 : BitVec 1 := Scalar.cmpi .sgt arg11 c0_i32_33
  let v78 : BitVec 32 := Scalar.extui v77
  let c0_i32_34 : BitVec 32 := 0#32
  let v79 : BitVec 1 := Scalar.cmpi .slt arg11 c0_i32_34
  let v80 : BitVec 32 := Scalar.extui v79
  let v81 : BitVec 32 := Scalar.subi v78 v80
  let c2_i32_32 : BitVec 32 := 2#32
  let c0_i32_35 : BitVec 32 := 0#32
  let v82 : BitVec 1 := Scalar.cmpi .sgt c2_i32_32 c0_i32_35
  let v83 : BitVec 32 := Scalar.extui v82
  let c0_i32_36 : BitVec 32 := 0#32
  let v84 : BitVec 1 := Scalar.cmpi .slt c2_i32_32 c0_i32_36
  let v85 : BitVec 32 := Scalar.extui v84
  let v86 : BitVec 32 := Scalar.subi v83 v85
  let v87 : BitVec 1 := Scalar.cmpi .ne v81 v86
  let v88 : BitVec 32 := Scalar.remsi arg11 c2_i32_32
  let c0_i32_37 : BitVec 32 := 0#32
  let v89 : BitVec 1 := Scalar.cmpi .ne v88 c0_i32_37
  let v90 : BitVec 1 := Scalar.andi v87 v89
  let v76 : BitVec 32 := Scalar.divsi arg11 c2_i32_32
  let c1_i32_38 : BitVec 32 := 1#32
  let v91 : BitVec 32 := Scalar.subi v76 c1_i32_38
  let v92 : BitVec 32 := Scalar.select v90 v91 v76
  let v93 : BitVec 32 := Scalar.subi v92 c0_i32_39
  let c1_i32_41 : BitVec 32 := 1#32
  let v95 : BitVec 32 := Scalar.divsi v93 c1_i32_41
  let v96 : BitVec 32 := Scalar.muli v95 c1_i32_41
  let v97 : BitVec 32 := Scalar.addi c0_i32_39 v96
  let c1_i32_43 : BitVec 32 := 1#32
  let arg12 : BitVec 32 := Scf.iv v97 c1_i32_43 k0_t3
  let v146 : BitVec 32 := Scalar.muli c2_i32_76 arg12
  let v147 : BitVec 32 := Scalar.subi v145 v146
  let c256_i32_90 : BitVec 32 := 256#32
  let v157 : BitVec 32 := Scalar.muli v147 c256_i32_90
  let v158 : BitVec 32 := v157
  let v161 : Index := Scalar.indexCast v158
  let c0_92 : Index := 0#32
  ![v161.toNat, 0]
def k0_off14 (k0_t1 : Fin k0_t1_loop.trips) (k0_t3 : Fin (k0_t3_loop k0_t1).trips) : Fin 2 → Nat :=
  let c0_i32 : BitVec 32 := 0#32
  let c1_i32 : BitVec 32 := 1#32
  let arg11 : BitVec 32 := Scf.iv c0_i32 c1_i32 k0_t1
  let c1_i32_75 : BitVec 32 := 1#32
  let v144 : BitVec 32 := Scalar.subi arg11 c1_i32_75
  let c2_i32 : BitVec 32 := 2#32
  let c0_i32_23 : BitVec 32 := 0#32
  let v60 : BitVec 1 := Scalar.cmpi .eq c2_i32 c0_i32_23
  let c1_i32_24 : BitVec 32 := 1#32
  let v61 : BitVec 32 := Scalar.select v60 c1_i32_24 c2_i32
  let v62 : BitVec 32 := Scalar.remsi arg11 v61
  let c0_i32_26 : BitVec 32 := 0#32
  let v64 : BitVec 1 := Scalar.cmpi .slt v62 c0_i32_26
  let c0_i32_27 : BitVec 32 := 0#32
  let v65 : BitVec 1 := Scalar.cmpi .slt v61 c0_i32_27
  let v66 : BitVec 1 := Scalar.xori v64 v65
  let c0_i32_25 : BitVec 32 := 0#32
  let v63 : BitVec 1 := Scalar.cmpi .ne v62 c0_i32_25
  let v67 : BitVec 1 := Scalar.andi v66 v63
  let v68 : BitVec 32 := Scalar.addi v62 v61
  let v69 : BitVec 32 := Scalar.select v67 v68 v62
  let v145 : BitVec 32 := Scalar.subi v144 v69
  let c2_i32_76 : BitVec 32 := 2#32
  let c0_i32_39 : BitVec 32 := 0#32
  let c0_i32_33 : BitVec 32 := 0#32
  let v77 : BitVec 1 := Scalar.cmpi .sgt arg11 c0_i32_33
  let v78 : BitVec 32 := Scalar.extui v77
  let c0_i32_34 : BitVec 32 := 0#32
  let v79 : BitVec 1 := Scalar.cmpi .slt arg11 c0_i32_34
  let v80 : BitVec 32 := Scalar.extui v79
  let v81 : BitVec 32 := Scalar.subi v78 v80
  let c2_i32_32 : BitVec 32 := 2#32
  let c0_i32_35 : BitVec 32 := 0#32
  let v82 : BitVec 1 := Scalar.cmpi .sgt c2_i32_32 c0_i32_35
  let v83 : BitVec 32 := Scalar.extui v82
  let c0_i32_36 : BitVec 32 := 0#32
  let v84 : BitVec 1 := Scalar.cmpi .slt c2_i32_32 c0_i32_36
  let v85 : BitVec 32 := Scalar.extui v84
  let v86 : BitVec 32 := Scalar.subi v83 v85
  let v87 : BitVec 1 := Scalar.cmpi .ne v81 v86
  let v88 : BitVec 32 := Scalar.remsi arg11 c2_i32_32
  let c0_i32_37 : BitVec 32 := 0#32
  let v89 : BitVec 1 := Scalar.cmpi .ne v88 c0_i32_37
  let v90 : BitVec 1 := Scalar.andi v87 v89
  let v76 : BitVec 32 := Scalar.divsi arg11 c2_i32_32
  let c1_i32_38 : BitVec 32 := 1#32
  let v91 : BitVec 32 := Scalar.subi v76 c1_i32_38
  let v92 : BitVec 32 := Scalar.select v90 v91 v76
  let v93 : BitVec 32 := Scalar.subi v92 c0_i32_39
  let c1_i32_41 : BitVec 32 := 1#32
  let v95 : BitVec 32 := Scalar.divsi v93 c1_i32_41
  let v96 : BitVec 32 := Scalar.muli v95 c1_i32_41
  let v97 : BitVec 32 := Scalar.addi c0_i32_39 v96
  let c1_i32_43 : BitVec 32 := 1#32
  let arg12 : BitVec 32 := Scf.iv v97 c1_i32_43 k0_t3
  let v146 : BitVec 32 := Scalar.muli c2_i32_76 arg12
  let v147 : BitVec 32 := Scalar.subi v145 v146
  let c256_i32_90 : BitVec 32 := 256#32
  let v157 : BitVec 32 := Scalar.muli v147 c256_i32_90
  let v158 : BitVec 32 := v157
  let v190 : Index := Scalar.indexCast v158
  let c128_98 : Index := 128#32
  ![v190.toNat, 128]
def k0_off15 (k0_t1 : Fin k0_t1_loop.trips) (k0_t3 : Fin (k0_t3_loop k0_t1).trips) : Fin 2 → Nat :=
  let c0_i32 : BitVec 32 := 0#32
  let c1_i32 : BitVec 32 := 1#32
  let arg11 : BitVec 32 := Scf.iv c0_i32 c1_i32 k0_t1
  let c1_i32_75 : BitVec 32 := 1#32
  let v144 : BitVec 32 := Scalar.subi arg11 c1_i32_75
  let c2_i32 : BitVec 32 := 2#32
  let c0_i32_23 : BitVec 32 := 0#32
  let v60 : BitVec 1 := Scalar.cmpi .eq c2_i32 c0_i32_23
  let c1_i32_24 : BitVec 32 := 1#32
  let v61 : BitVec 32 := Scalar.select v60 c1_i32_24 c2_i32
  let v62 : BitVec 32 := Scalar.remsi arg11 v61
  let c0_i32_26 : BitVec 32 := 0#32
  let v64 : BitVec 1 := Scalar.cmpi .slt v62 c0_i32_26
  let c0_i32_27 : BitVec 32 := 0#32
  let v65 : BitVec 1 := Scalar.cmpi .slt v61 c0_i32_27
  let v66 : BitVec 1 := Scalar.xori v64 v65
  let c0_i32_25 : BitVec 32 := 0#32
  let v63 : BitVec 1 := Scalar.cmpi .ne v62 c0_i32_25
  let v67 : BitVec 1 := Scalar.andi v66 v63
  let v68 : BitVec 32 := Scalar.addi v62 v61
  let v69 : BitVec 32 := Scalar.select v67 v68 v62
  let v145 : BitVec 32 := Scalar.subi v144 v69
  let c2_i32_76 : BitVec 32 := 2#32
  let c0_i32_39 : BitVec 32 := 0#32
  let c0_i32_33 : BitVec 32 := 0#32
  let v77 : BitVec 1 := Scalar.cmpi .sgt arg11 c0_i32_33
  let v78 : BitVec 32 := Scalar.extui v77
  let c0_i32_34 : BitVec 32 := 0#32
  let v79 : BitVec 1 := Scalar.cmpi .slt arg11 c0_i32_34
  let v80 : BitVec 32 := Scalar.extui v79
  let v81 : BitVec 32 := Scalar.subi v78 v80
  let c2_i32_32 : BitVec 32 := 2#32
  let c0_i32_35 : BitVec 32 := 0#32
  let v82 : BitVec 1 := Scalar.cmpi .sgt c2_i32_32 c0_i32_35
  let v83 : BitVec 32 := Scalar.extui v82
  let c0_i32_36 : BitVec 32 := 0#32
  let v84 : BitVec 1 := Scalar.cmpi .slt c2_i32_32 c0_i32_36
  let v85 : BitVec 32 := Scalar.extui v84
  let v86 : BitVec 32 := Scalar.subi v83 v85
  let v87 : BitVec 1 := Scalar.cmpi .ne v81 v86
  let v88 : BitVec 32 := Scalar.remsi arg11 c2_i32_32
  let c0_i32_37 : BitVec 32 := 0#32
  let v89 : BitVec 1 := Scalar.cmpi .ne v88 c0_i32_37
  let v90 : BitVec 1 := Scalar.andi v87 v89
  let v76 : BitVec 32 := Scalar.divsi arg11 c2_i32_32
  let c1_i32_38 : BitVec 32 := 1#32
  let v91 : BitVec 32 := Scalar.subi v76 c1_i32_38
  let v92 : BitVec 32 := Scalar.select v90 v91 v76
  let v93 : BitVec 32 := Scalar.subi v92 c0_i32_39
  let c1_i32_41 : BitVec 32 := 1#32
  let v95 : BitVec 32 := Scalar.divsi v93 c1_i32_41
  let v96 : BitVec 32 := Scalar.muli v95 c1_i32_41
  let v97 : BitVec 32 := Scalar.addi c0_i32_39 v96
  let c1_i32_43 : BitVec 32 := 1#32
  let arg12 : BitVec 32 := Scf.iv v97 c1_i32_43 k0_t3
  let v146 : BitVec 32 := Scalar.muli c2_i32_76 arg12
  let v147 : BitVec 32 := Scalar.subi v145 v146
  let c1_i32_77 : BitVec 32 := 1#32
  let v148 : BitVec 32 := Scalar.subi v147 c1_i32_77
  let c256_i32_91 : BitVec 32 := 256#32
  let v159 : BitVec 32 := Scalar.muli v148 c256_i32_91
  let v160 : BitVec 32 := v159
  let v220 : Index := Scalar.indexCast v160
  let c0_105 : Index := 0#32
  ![v220.toNat, 0]
def k0_off16 (k0_t1 : Fin k0_t1_loop.trips) (k0_t3 : Fin (k0_t3_loop k0_t1).trips) : Fin 2 → Nat :=
  let c0_i32 : BitVec 32 := 0#32
  let c1_i32 : BitVec 32 := 1#32
  let arg11 : BitVec 32 := Scf.iv c0_i32 c1_i32 k0_t1
  let c1_i32_75 : BitVec 32 := 1#32
  let v144 : BitVec 32 := Scalar.subi arg11 c1_i32_75
  let c2_i32 : BitVec 32 := 2#32
  let c0_i32_23 : BitVec 32 := 0#32
  let v60 : BitVec 1 := Scalar.cmpi .eq c2_i32 c0_i32_23
  let c1_i32_24 : BitVec 32 := 1#32
  let v61 : BitVec 32 := Scalar.select v60 c1_i32_24 c2_i32
  let v62 : BitVec 32 := Scalar.remsi arg11 v61
  let c0_i32_26 : BitVec 32 := 0#32
  let v64 : BitVec 1 := Scalar.cmpi .slt v62 c0_i32_26
  let c0_i32_27 : BitVec 32 := 0#32
  let v65 : BitVec 1 := Scalar.cmpi .slt v61 c0_i32_27
  let v66 : BitVec 1 := Scalar.xori v64 v65
  let c0_i32_25 : BitVec 32 := 0#32
  let v63 : BitVec 1 := Scalar.cmpi .ne v62 c0_i32_25
  let v67 : BitVec 1 := Scalar.andi v66 v63
  let v68 : BitVec 32 := Scalar.addi v62 v61
  let v69 : BitVec 32 := Scalar.select v67 v68 v62
  let v145 : BitVec 32 := Scalar.subi v144 v69
  let c2_i32_76 : BitVec 32 := 2#32
  let c0_i32_39 : BitVec 32 := 0#32
  let c0_i32_33 : BitVec 32 := 0#32
  let v77 : BitVec 1 := Scalar.cmpi .sgt arg11 c0_i32_33
  let v78 : BitVec 32 := Scalar.extui v77
  let c0_i32_34 : BitVec 32 := 0#32
  let v79 : BitVec 1 := Scalar.cmpi .slt arg11 c0_i32_34
  let v80 : BitVec 32 := Scalar.extui v79
  let v81 : BitVec 32 := Scalar.subi v78 v80
  let c2_i32_32 : BitVec 32 := 2#32
  let c0_i32_35 : BitVec 32 := 0#32
  let v82 : BitVec 1 := Scalar.cmpi .sgt c2_i32_32 c0_i32_35
  let v83 : BitVec 32 := Scalar.extui v82
  let c0_i32_36 : BitVec 32 := 0#32
  let v84 : BitVec 1 := Scalar.cmpi .slt c2_i32_32 c0_i32_36
  let v85 : BitVec 32 := Scalar.extui v84
  let v86 : BitVec 32 := Scalar.subi v83 v85
  let v87 : BitVec 1 := Scalar.cmpi .ne v81 v86
  let v88 : BitVec 32 := Scalar.remsi arg11 c2_i32_32
  let c0_i32_37 : BitVec 32 := 0#32
  let v89 : BitVec 1 := Scalar.cmpi .ne v88 c0_i32_37
  let v90 : BitVec 1 := Scalar.andi v87 v89
  let v76 : BitVec 32 := Scalar.divsi arg11 c2_i32_32
  let c1_i32_38 : BitVec 32 := 1#32
  let v91 : BitVec 32 := Scalar.subi v76 c1_i32_38
  let v92 : BitVec 32 := Scalar.select v90 v91 v76
  let v93 : BitVec 32 := Scalar.subi v92 c0_i32_39
  let c1_i32_41 : BitVec 32 := 1#32
  let v95 : BitVec 32 := Scalar.divsi v93 c1_i32_41
  let v96 : BitVec 32 := Scalar.muli v95 c1_i32_41
  let v97 : BitVec 32 := Scalar.addi c0_i32_39 v96
  let c1_i32_43 : BitVec 32 := 1#32
  let arg12 : BitVec 32 := Scf.iv v97 c1_i32_43 k0_t3
  let v146 : BitVec 32 := Scalar.muli c2_i32_76 arg12
  let v147 : BitVec 32 := Scalar.subi v145 v146
  let c1_i32_77 : BitVec 32 := 1#32
  let v148 : BitVec 32 := Scalar.subi v147 c1_i32_77
  let c256_i32_91 : BitVec 32 := 256#32
  let v159 : BitVec 32 := Scalar.muli v148 c256_i32_91
  let v160 : BitVec 32 := v159
  let v255 : Index := Scalar.indexCast v160
  let c128_112 : Index := 128#32
  ![v255.toNat, 128]
def k0_off17 (k0_t1 : Fin k0_t1_loop.trips) : Fin 2 → Nat :=
  let c0_i32 : BitVec 32 := 0#32
  let c1_i32 : BitVec 32 := 1#32
  let arg11 : BitVec 32 := Scf.iv c0_i32 c1_i32 k0_t1
  let c256_i32_3 : BitVec 32 := 256#32
  let v12 : BitVec 32 := Scalar.muli arg11 c256_i32_3
  let v13 : BitVec 32 := v12
  let v102 : Index := Scalar.indexCast v13
  let c0_47 : Index := 0#32
  ![v102.toNat, 0]
def k0_off18 (k0_t1 : Fin k0_t1_loop.trips) : Fin 2 → Nat :=
  let c0_i32 : BitVec 32 := 0#32
  let c1_i32 : BitVec 32 := 1#32
  let arg11 : BitVec 32 := Scf.iv c0_i32 c1_i32 k0_t1
  let c256_i32_3 : BitVec 32 := 256#32
  let v12 : BitVec 32 := Scalar.muli arg11 c256_i32_3
  let v13 : BitVec 32 := v12
  let v106 : Index := Scalar.indexCast v13
  let c128_50 : Index := 128#32
  ![v106.toNat, 128]
def k0_off19 (k0_t1 : Fin k0_t1_loop.trips) : Fin 3 → Nat :=
  let c0_58 : Index := 0#32
  let c0_i32 : BitVec 32 := 0#32
  let c1_i32 : BitVec 32 := 1#32
  let arg11 : BitVec 32 := Scf.iv c0_i32 c1_i32 k0_t1
  let c256_i32_3 : BitVec 32 := 256#32
  let v12 : BitVec 32 := Scalar.muli arg11 c256_i32_3
  let v13 : BitVec 32 := v12
  let v118 : Index := Scalar.indexCast v13
  let c0_59 : Index := 0#32
  ![0, v118.toNat, 0]
def k0_off20 (k0_t1 : Fin k0_t1_loop.trips) : Fin 2 → Nat :=
  let c0_i32 : BitVec 32 := 0#32
  let c1_i32 : BitVec 32 := 1#32
  let arg11 : BitVec 32 := Scf.iv c0_i32 c1_i32 k0_t1
  let c256_i32_3 : BitVec 32 := 256#32
  let v12 : BitVec 32 := Scalar.muli arg11 c256_i32_3
  let v13 : BitVec 32 := v12
  let v124 : Index := Scalar.indexCast v13
  let c256_62 : Index := 256#32
  ![v124.toNat, 256]
def k0_off21 (k0_t1 : Fin k0_t1_loop.trips) : Fin 2 → Nat :=
  let c0_i32 : BitVec 32 := 0#32
  let c1_i32 : BitVec 32 := 1#32
  let arg11 : BitVec 32 := Scf.iv c0_i32 c1_i32 k0_t1
  let c256_i32_3 : BitVec 32 := 256#32
  let v12 : BitVec 32 := Scalar.muli arg11 c256_i32_3
  let v13 : BitVec 32 := v12
  let v128 : Index := Scalar.indexCast v13
  let c384 : Index := 384#32
  ![v128.toNat, 384]
def k0_off22 (k0_t1 : Fin k0_t1_loop.trips) : Fin 3 → Nat :=
  let c0_73 : Index := 0#32
  let c0_i32 : BitVec 32 := 0#32
  let c1_i32 : BitVec 32 := 1#32
  let arg11 : BitVec 32 := Scf.iv c0_i32 c1_i32 k0_t1
  let c256_i32_3 : BitVec 32 := 256#32
  let v12 : BitVec 32 := Scalar.muli arg11 c256_i32_3
  let v13 : BitVec 32 := v12
  let v140 : Index := Scalar.indexCast v13
  let c128_74 : Index := 128#32
  ![0, v140.toNat, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![2, 2], ![false, false]⟩

@[reducible] def k1_t1_loop : Scf.Loop 32 :=
  let c0_i32 : BitVec 32 := 0#32
  let c8_i32 : BitVec 32 := 8#32
  let v21 : BitVec 32 := Scalar.addi c0_i32 c8_i32
  let c1_i32 : BitVec 32 := 1#32
  ⟨c0_i32, v21, c1_i32⟩
def k1_mult1 (k1_t1 : Fin k1_t1_loop.trips) : BitVec 32 :=
  let c0_i32 : BitVec 32 := 0#32
  let c1_i32 : BitVec 32 := 1#32
  let arg14 : BitVec 32 := Scf.iv c0_i32 c1_i32 k1_t1
  let c256_i32_33 : BitVec 32 := 256#32
  let v46 : BitVec 32 := Scalar.muli arg14 c256_i32_33
  v46
def k1_off1 (k1_t1 : Fin k1_t1_loop.trips) : Fin 2 → Nat :=
  let c0_i32 : BitVec 32 := 0#32
  let c1_i32 : BitVec 32 := 1#32
  let arg14 : BitVec 32 := Scf.iv c0_i32 c1_i32 k1_t1
  let c256_i32_33 : BitVec 32 := 256#32
  let v46 : BitVec 32 := Scalar.muli arg14 c256_i32_33
  let v47 : BitVec 32 := v46
  let v48 : Index := Scalar.indexCast v47
  let c0_34 : Index := 0#32
  ![v48.toNat, 0]
def k1_off2 (k1_t1 : Fin k1_t1_loop.trips) : Fin 2 → Nat :=
  let c0_i32 : BitVec 32 := 0#32
  let c1_i32 : BitVec 32 := 1#32
  let arg14 : BitVec 32 := Scf.iv c0_i32 c1_i32 k1_t1
  let c256_i32_33 : BitVec 32 := 256#32
  let v46 : BitVec 32 := Scalar.muli arg14 c256_i32_33
  let v47 : BitVec 32 := v46
  let v80 : Index := Scalar.indexCast v47
  let c0_42 : Index := 0#32
  ![v80.toNat, 0]
def k1_off3 (k1_t1 : Fin k1_t1_loop.trips) : Fin 2 → Nat :=
  let c0_i32 : BitVec 32 := 0#32
  let c1_i32 : BitVec 32 := 1#32
  let arg14 : BitVec 32 := Scf.iv c0_i32 c1_i32 k1_t1
  let c256_i32_33 : BitVec 32 := 256#32
  let v46 : BitVec 32 := Scalar.muli arg14 c256_i32_33
  let v47 : BitVec 32 := v46
  let v83 : Index := Scalar.indexCast v47
  let c128_43 : Index := 128#32
  ![v83.toNat, 128]
def k1_off4 (k1_t1 : Fin k1_t1_loop.trips) : Fin 2 → Nat :=
  let c0_i32 : BitVec 32 := 0#32
  let c1_i32 : BitVec 32 := 1#32
  let arg14 : BitVec 32 := Scf.iv c0_i32 c1_i32 k1_t1
  let c256_i32_33 : BitVec 32 := 256#32
  let v46 : BitVec 32 := Scalar.muli arg14 c256_i32_33
  let v47 : BitVec 32 := v46
  let v87 : Index := Scalar.indexCast v47
  let c128_44 : Index := 128#32
  ![v87.toNat, 128]
def k1_off5 (k1_t1 : Fin k1_t1_loop.trips) : Fin 2 → Nat :=
  let c0_i32 : BitVec 32 := 0#32
  let c1_i32 : BitVec 32 := 1#32
  let arg14 : BitVec 32 := Scf.iv c0_i32 c1_i32 k1_t1
  let c256_i32_33 : BitVec 32 := 256#32
  let v46 : BitVec 32 := Scalar.muli arg14 c256_i32_33
  let v47 : BitVec 32 := v46
  let v119 : Index := Scalar.indexCast v47
  let c256 : Index := 256#32
  ![v119.toNat, 256]
def k1_off6 (k1_t1 : Fin k1_t1_loop.trips) : Fin 2 → Nat :=
  let c0_i32 : BitVec 32 := 0#32
  let c1_i32 : BitVec 32 := 1#32
  let arg14 : BitVec 32 := Scf.iv c0_i32 c1_i32 k1_t1
  let c256_i32_33 : BitVec 32 := 256#32
  let v46 : BitVec 32 := Scalar.muli arg14 c256_i32_33
  let v47 : BitVec 32 := v46
  let v122 : Index := Scalar.indexCast v47
  let c384 : Index := 384#32
  ![v122.toNat, 384]
@[reducible] def k1_t2_loop (k1_t1 : Fin k1_t1_loop.trips) : Scf.Loop 32 :=
  let c0_i32_67 : BitVec 32 := 0#32
  let c0_i32 : BitVec 32 := 0#32
  let c1_i32 : BitVec 32 := 1#32
  let arg14 : BitVec 32 := Scf.iv c0_i32 c1_i32 k1_t1
  let c0_i32_61 : BitVec 32 := 0#32
  let v135 : BitVec 1 := Scalar.cmpi .sgt arg14 c0_i32_61
  let v136 : BitVec 32 := Scalar.extui v135
  let c0_i32_62 : BitVec 32 := 0#32
  let v137 : BitVec 1 := Scalar.cmpi .slt arg14 c0_i32_62
  let v138 : BitVec 32 := Scalar.extui v137
  let v139 : BitVec 32 := Scalar.subi v136 v138
  let c2_i32 : BitVec 32 := 2#32
  let c0_i32_63 : BitVec 32 := 0#32
  let v140 : BitVec 1 := Scalar.cmpi .sgt c2_i32 c0_i32_63
  let v141 : BitVec 32 := Scalar.extui v140
  let c0_i32_64 : BitVec 32 := 0#32
  let v142 : BitVec 1 := Scalar.cmpi .slt c2_i32 c0_i32_64
  let v143 : BitVec 32 := Scalar.extui v142
  let v144 : BitVec 32 := Scalar.subi v141 v143
  let v145 : BitVec 1 := Scalar.cmpi .ne v139 v144
  let v146 : BitVec 32 := Scalar.remsi arg14 c2_i32
  let c0_i32_65 : BitVec 32 := 0#32
  let v147 : BitVec 1 := Scalar.cmpi .ne v146 c0_i32_65
  let v148 : BitVec 1 := Scalar.andi v145 v147
  let v134 : BitVec 32 := Scalar.divsi arg14 c2_i32
  let c1_i32_66 : BitVec 32 := 1#32
  let v149 : BitVec 32 := Scalar.subi v134 c1_i32_66
  let v150 : BitVec 32 := Scalar.select v148 v149 v134
  let v151 : BitVec 32 := Scalar.subi v150 c0_i32_67
  let c1_i32_69 : BitVec 32 := 1#32
  let v153 : BitVec 32 := Scalar.divsi v151 c1_i32_69
  let v154 : BitVec 32 := Scalar.muli v153 c1_i32_69
  let v155 : BitVec 32 := Scalar.addi c0_i32_67 v154
  let c1_i32_70 : BitVec 32 := 1#32
  ⟨c0_i32_67, v155, c1_i32_70⟩
def k1_mult2 (k1_t1 : Fin k1_t1_loop.trips) (k1_t2 : Fin (k1_t2_loop k1_t1).trips) : BitVec 32 :=
  let c2_i32_102 : BitVec 32 := 2#32
  let c0_i32_67 : BitVec 32 := 0#32
  let c1_i32_70 : BitVec 32 := 1#32
  let arg15 : BitVec 32 := Scf.iv c0_i32_67 c1_i32_70 k1_t2
  let v206 : BitVec 32 := Scalar.muli c2_i32_102 arg15
  let c256_i32_111 : BitVec 32 := 256#32
  let v213 : BitVec 32 := Scalar.muli v206 c256_i32_111
  v213
def k1_mult3 (k1_t1 : Fin k1_t1_loop.trips) (k1_t2 : Fin (k1_t2_loop k1_t1).trips) : BitVec 32 :=
  let c2_i32_103 : BitVec 32 := 2#32
  let c0_i32_67 : BitVec 32 := 0#32
  let c1_i32_70 : BitVec 32 := 1#32
  let arg15 : BitVec 32 := Scf.iv c0_i32_67 c1_i32_70 k1_t2
  let v207 : BitVec 32 := Scalar.muli c2_i32_103 arg15
  let c1_i32_104 : BitVec 32 := 1#32
  let v208 : BitVec 32 := Scalar.addi v207 c1_i32_104
  let c256_i32_112 : BitVec 32 := 256#32
  let v215 : BitVec 32 := Scalar.muli v208 c256_i32_112
  v215
def k1_off7 (k1_t1 : Fin k1_t1_loop.trips) (k1_t2 : Fin (k1_t2_loop k1_t1).trips) : Fin 2 → Nat :=
  let c2_i32_102 : BitVec 32 := 2#32
  let c0_i32_67 : BitVec 32 := 0#32
  let c1_i32_70 : BitVec 32 := 1#32
  let arg15 : BitVec 32 := Scf.iv c0_i32_67 c1_i32_70 k1_t2
  let v206 : BitVec 32 := Scalar.muli c2_i32_102 arg15
  let c256_i32_111 : BitVec 32 := 256#32
  let v213 : BitVec 32 := Scalar.muli v206 c256_i32_111
  let v214 : BitVec 32 := v213
  let v217 : Index := Scalar.indexCast v214
  let c0_113 : Index := 0#32
  ![v217.toNat, 0]
def k1_off8 (k1_t1 : Fin k1_t1_loop.trips) (k1_t2 : Fin (k1_t2_loop k1_t1).trips) : Fin 2 → Nat :=
  let c2_i32_102 : BitVec 32 := 2#32
  let c0_i32_67 : BitVec 32 := 0#32
  let c1_i32_70 : BitVec 32 := 1#32
  let arg15 : BitVec 32 := Scf.iv c0_i32_67 c1_i32_70 k1_t2
  let v206 : BitVec 32 := Scalar.muli c2_i32_102 arg15
  let c256_i32_111 : BitVec 32 := 256#32
  let v213 : BitVec 32 := Scalar.muli v206 c256_i32_111
  let v214 : BitVec 32 := v213
  let v248 : Index := Scalar.indexCast v214
  let c128_122 : Index := 128#32
  ![v248.toNat, 128]
def k1_off9 (k1_t1 : Fin k1_t1_loop.trips) (k1_t2 : Fin (k1_t2_loop k1_t1).trips) : Fin 2 → Nat :=
  let c2_i32_103 : BitVec 32 := 2#32
  let c0_i32_67 : BitVec 32 := 0#32
  let c1_i32_70 : BitVec 32 := 1#32
  let arg15 : BitVec 32 := Scf.iv c0_i32_67 c1_i32_70 k1_t2
  let v207 : BitVec 32 := Scalar.muli c2_i32_103 arg15
  let c1_i32_104 : BitVec 32 := 1#32
  let v208 : BitVec 32 := Scalar.addi v207 c1_i32_104
  let c256_i32_112 : BitVec 32 := 256#32
  let v215 : BitVec 32 := Scalar.muli v208 c256_i32_112
  let v216 : BitVec 32 := v215
  let v280 : Index := Scalar.indexCast v216
  let c0_132 : Index := 0#32
  ![v280.toNat, 0]
def k1_off10 (k1_t1 : Fin k1_t1_loop.trips) (k1_t2 : Fin (k1_t2_loop k1_t1).trips) : Fin 2 → Nat :=
  let c2_i32_103 : BitVec 32 := 2#32
  let c0_i32_67 : BitVec 32 := 0#32
  let c1_i32_70 : BitVec 32 := 1#32
  let arg15 : BitVec 32 := Scf.iv c0_i32_67 c1_i32_70 k1_t2
  let v207 : BitVec 32 := Scalar.muli c2_i32_103 arg15
  let c1_i32_104 : BitVec 32 := 1#32
  let v208 : BitVec 32 := Scalar.addi v207 c1_i32_104
  let c256_i32_112 : BitVec 32 := 256#32
  let v215 : BitVec 32 := Scalar.muli v208 c256_i32_112
  let v216 : BitVec 32 := v215
  let v321 : Index := Scalar.indexCast v216
  let c128_143 : Index := 128#32
  ![v321.toNat, 128]
def k1_off11 (k1_t1 : Fin k1_t1_loop.trips) (k1_t2 : Fin (k1_t2_loop k1_t1).trips) : Fin 2 → Nat :=
  let c2_i32_102 : BitVec 32 := 2#32
  let c0_i32_67 : BitVec 32 := 0#32
  let c1_i32_70 : BitVec 32 := 1#32
  let arg15 : BitVec 32 := Scf.iv c0_i32_67 c1_i32_70 k1_t2
  let v206 : BitVec 32 := Scalar.muli c2_i32_102 arg15
  let c256_i32_111 : BitVec 32 := 256#32
  let v213 : BitVec 32 := Scalar.muli v206 c256_i32_111
  let v214 : BitVec 32 := v213
  let v389 : Index := Scalar.indexCast v214
  let c0_163 : Index := 0#32
  ![v389.toNat, 0]
def k1_off12 (k1_t1 : Fin k1_t1_loop.trips) (k1_t2 : Fin (k1_t2_loop k1_t1).trips) : Fin 2 → Nat :=
  let c2_i32_103 : BitVec 32 := 2#32
  let c0_i32_67 : BitVec 32 := 0#32
  let c1_i32_70 : BitVec 32 := 1#32
  let arg15 : BitVec 32 := Scf.iv c0_i32_67 c1_i32_70 k1_t2
  let v207 : BitVec 32 := Scalar.muli c2_i32_103 arg15
  let c1_i32_104 : BitVec 32 := 1#32
  let v208 : BitVec 32 := Scalar.addi v207 c1_i32_104
  let c256_i32_112 : BitVec 32 := 256#32
  let v215 : BitVec 32 := Scalar.muli v208 c256_i32_112
  let v216 : BitVec 32 := v215
  let v473 : Index := Scalar.indexCast v216
  let c0_206 : Index := 0#32
  ![v473.toNat, 0]
@[reducible] def k1_t3_loop (k1_t1 : Fin k1_t1_loop.trips) : Scf.Loop 32 :=
  let c0_i32_67 : BitVec 32 := 0#32
  let c0_i32 : BitVec 32 := 0#32
  let c1_i32 : BitVec 32 := 1#32
  let arg14 : BitVec 32 := Scf.iv c0_i32 c1_i32 k1_t1
  let c0_i32_61 : BitVec 32 := 0#32
  let v135 : BitVec 1 := Scalar.cmpi .sgt arg14 c0_i32_61
  let v136 : BitVec 32 := Scalar.extui v135
  let c0_i32_62 : BitVec 32 := 0#32
  let v137 : BitVec 1 := Scalar.cmpi .slt arg14 c0_i32_62
  let v138 : BitVec 32 := Scalar.extui v137
  let v139 : BitVec 32 := Scalar.subi v136 v138
  let c2_i32 : BitVec 32 := 2#32
  let c0_i32_63 : BitVec 32 := 0#32
  let v140 : BitVec 1 := Scalar.cmpi .sgt c2_i32 c0_i32_63
  let v141 : BitVec 32 := Scalar.extui v140
  let c0_i32_64 : BitVec 32 := 0#32
  let v142 : BitVec 1 := Scalar.cmpi .slt c2_i32 c0_i32_64
  let v143 : BitVec 32 := Scalar.extui v142
  let v144 : BitVec 32 := Scalar.subi v141 v143
  let v145 : BitVec 1 := Scalar.cmpi .ne v139 v144
  let v146 : BitVec 32 := Scalar.remsi arg14 c2_i32
  let c0_i32_65 : BitVec 32 := 0#32
  let v147 : BitVec 1 := Scalar.cmpi .ne v146 c0_i32_65
  let v148 : BitVec 1 := Scalar.andi v145 v147
  let v134 : BitVec 32 := Scalar.divsi arg14 c2_i32
  let c1_i32_66 : BitVec 32 := 1#32
  let v149 : BitVec 32 := Scalar.subi v134 c1_i32_66
  let v150 : BitVec 32 := Scalar.select v148 v149 v134
  let v151 : BitVec 32 := Scalar.subi v150 c0_i32_67
  let c1_i32_69 : BitVec 32 := 1#32
  let v153 : BitVec 32 := Scalar.divsi v151 c1_i32_69
  let v154 : BitVec 32 := Scalar.muli v153 c1_i32_69
  let v155 : BitVec 32 := Scalar.addi c0_i32_67 v154
  let v152 : BitVec 32 := Scalar.addi c0_i32_67 v151
  let c1_i32_71 : BitVec 32 := 1#32
  ⟨v155, v152, c1_i32_71⟩
def k1_mult4 (k1_t1 : Fin k1_t1_loop.trips) (k1_t3 : Fin (k1_t3_loop k1_t1).trips) : BitVec 32 :=
  let c2_i32_102 : BitVec 32 := 2#32
  let c0_i32_67 : BitVec 32 := 0#32
  let c0_i32 : BitVec 32 := 0#32
  let c1_i32 : BitVec 32 := 1#32
  let arg14 : BitVec 32 := Scf.iv c0_i32 c1_i32 k1_t1
  let c0_i32_61 : BitVec 32 := 0#32
  let v135 : BitVec 1 := Scalar.cmpi .sgt arg14 c0_i32_61
  let v136 : BitVec 32 := Scalar.extui v135
  let c0_i32_62 : BitVec 32 := 0#32
  let v137 : BitVec 1 := Scalar.cmpi .slt arg14 c0_i32_62
  let v138 : BitVec 32 := Scalar.extui v137
  let v139 : BitVec 32 := Scalar.subi v136 v138
  let c2_i32 : BitVec 32 := 2#32
  let c0_i32_63 : BitVec 32 := 0#32
  let v140 : BitVec 1 := Scalar.cmpi .sgt c2_i32 c0_i32_63
  let v141 : BitVec 32 := Scalar.extui v140
  let c0_i32_64 : BitVec 32 := 0#32
  let v142 : BitVec 1 := Scalar.cmpi .slt c2_i32 c0_i32_64
  let v143 : BitVec 32 := Scalar.extui v142
  let v144 : BitVec 32 := Scalar.subi v141 v143
  let v145 : BitVec 1 := Scalar.cmpi .ne v139 v144
  let v146 : BitVec 32 := Scalar.remsi arg14 c2_i32
  let c0_i32_65 : BitVec 32 := 0#32
  let v147 : BitVec 1 := Scalar.cmpi .ne v146 c0_i32_65
  let v148 : BitVec 1 := Scalar.andi v145 v147
  let v134 : BitVec 32 := Scalar.divsi arg14 c2_i32
  let c1_i32_66 : BitVec 32 := 1#32
  let v149 : BitVec 32 := Scalar.subi v134 c1_i32_66
  let v150 : BitVec 32 := Scalar.select v148 v149 v134
  let v151 : BitVec 32 := Scalar.subi v150 c0_i32_67
  let c1_i32_69 : BitVec 32 := 1#32
  let v153 : BitVec 32 := Scalar.divsi v151 c1_i32_69
  let v154 : BitVec 32 := Scalar.muli v153 c1_i32_69
  let v155 : BitVec 32 := Scalar.addi c0_i32_67 v154
  let c1_i32_71 : BitVec 32 := 1#32
  let arg15 : BitVec 32 := Scf.iv v155 c1_i32_71 k1_t3
  let v206 : BitVec 32 := Scalar.muli c2_i32_102 arg15
  let c256_i32_111 : BitVec 32 := 256#32
  let v213 : BitVec 32 := Scalar.muli v206 c256_i32_111
  v213
def k1_mult5 (k1_t1 : Fin k1_t1_loop.trips) (k1_t3 : Fin (k1_t3_loop k1_t1).trips) : BitVec 32 :=
  let c2_i32_103 : BitVec 32 := 2#32
  let c0_i32_67 : BitVec 32 := 0#32
  let c0_i32 : BitVec 32 := 0#32
  let c1_i32 : BitVec 32 := 1#32
  let arg14 : BitVec 32 := Scf.iv c0_i32 c1_i32 k1_t1
  let c0_i32_61 : BitVec 32 := 0#32
  let v135 : BitVec 1 := Scalar.cmpi .sgt arg14 c0_i32_61
  let v136 : BitVec 32 := Scalar.extui v135
  let c0_i32_62 : BitVec 32 := 0#32
  let v137 : BitVec 1 := Scalar.cmpi .slt arg14 c0_i32_62
  let v138 : BitVec 32 := Scalar.extui v137
  let v139 : BitVec 32 := Scalar.subi v136 v138
  let c2_i32 : BitVec 32 := 2#32
  let c0_i32_63 : BitVec 32 := 0#32
  let v140 : BitVec 1 := Scalar.cmpi .sgt c2_i32 c0_i32_63
  let v141 : BitVec 32 := Scalar.extui v140
  let c0_i32_64 : BitVec 32 := 0#32
  let v142 : BitVec 1 := Scalar.cmpi .slt c2_i32 c0_i32_64
  let v143 : BitVec 32 := Scalar.extui v142
  let v144 : BitVec 32 := Scalar.subi v141 v143
  let v145 : BitVec 1 := Scalar.cmpi .ne v139 v144
  let v146 : BitVec 32 := Scalar.remsi arg14 c2_i32
  let c0_i32_65 : BitVec 32 := 0#32
  let v147 : BitVec 1 := Scalar.cmpi .ne v146 c0_i32_65
  let v148 : BitVec 1 := Scalar.andi v145 v147
  let v134 : BitVec 32 := Scalar.divsi arg14 c2_i32
  let c1_i32_66 : BitVec 32 := 1#32
  let v149 : BitVec 32 := Scalar.subi v134 c1_i32_66
  let v150 : BitVec 32 := Scalar.select v148 v149 v134
  let v151 : BitVec 32 := Scalar.subi v150 c0_i32_67
  let c1_i32_69 : BitVec 32 := 1#32
  let v153 : BitVec 32 := Scalar.divsi v151 c1_i32_69
  let v154 : BitVec 32 := Scalar.muli v153 c1_i32_69
  let v155 : BitVec 32 := Scalar.addi c0_i32_67 v154
  let c1_i32_71 : BitVec 32 := 1#32
  let arg15 : BitVec 32 := Scf.iv v155 c1_i32_71 k1_t3
  let v207 : BitVec 32 := Scalar.muli c2_i32_103 arg15
  let c1_i32_104 : BitVec 32 := 1#32
  let v208 : BitVec 32 := Scalar.addi v207 c1_i32_104
  let c256_i32_112 : BitVec 32 := 256#32
  let v215 : BitVec 32 := Scalar.muli v208 c256_i32_112
  v215
def k1_off13 (k1_t1 : Fin k1_t1_loop.trips) (k1_t3 : Fin (k1_t3_loop k1_t1).trips) : Fin 2 → Nat :=
  let c2_i32_102 : BitVec 32 := 2#32
  let c0_i32_67 : BitVec 32 := 0#32
  let c0_i32 : BitVec 32 := 0#32
  let c1_i32 : BitVec 32 := 1#32
  let arg14 : BitVec 32 := Scf.iv c0_i32 c1_i32 k1_t1
  let c0_i32_61 : BitVec 32 := 0#32
  let v135 : BitVec 1 := Scalar.cmpi .sgt arg14 c0_i32_61
  let v136 : BitVec 32 := Scalar.extui v135
  let c0_i32_62 : BitVec 32 := 0#32
  let v137 : BitVec 1 := Scalar.cmpi .slt arg14 c0_i32_62
  let v138 : BitVec 32 := Scalar.extui v137
  let v139 : BitVec 32 := Scalar.subi v136 v138
  let c2_i32 : BitVec 32 := 2#32
  let c0_i32_63 : BitVec 32 := 0#32
  let v140 : BitVec 1 := Scalar.cmpi .sgt c2_i32 c0_i32_63
  let v141 : BitVec 32 := Scalar.extui v140
  let c0_i32_64 : BitVec 32 := 0#32
  let v142 : BitVec 1 := Scalar.cmpi .slt c2_i32 c0_i32_64
  let v143 : BitVec 32 := Scalar.extui v142
  let v144 : BitVec 32 := Scalar.subi v141 v143
  let v145 : BitVec 1 := Scalar.cmpi .ne v139 v144
  let v146 : BitVec 32 := Scalar.remsi arg14 c2_i32
  let c0_i32_65 : BitVec 32 := 0#32
  let v147 : BitVec 1 := Scalar.cmpi .ne v146 c0_i32_65
  let v148 : BitVec 1 := Scalar.andi v145 v147
  let v134 : BitVec 32 := Scalar.divsi arg14 c2_i32
  let c1_i32_66 : BitVec 32 := 1#32
  let v149 : BitVec 32 := Scalar.subi v134 c1_i32_66
  let v150 : BitVec 32 := Scalar.select v148 v149 v134
  let v151 : BitVec 32 := Scalar.subi v150 c0_i32_67
  let c1_i32_69 : BitVec 32 := 1#32
  let v153 : BitVec 32 := Scalar.divsi v151 c1_i32_69
  let v154 : BitVec 32 := Scalar.muli v153 c1_i32_69
  let v155 : BitVec 32 := Scalar.addi c0_i32_67 v154
  let c1_i32_71 : BitVec 32 := 1#32
  let arg15 : BitVec 32 := Scf.iv v155 c1_i32_71 k1_t3
  let v206 : BitVec 32 := Scalar.muli c2_i32_102 arg15
  let c256_i32_111 : BitVec 32 := 256#32
  let v213 : BitVec 32 := Scalar.muli v206 c256_i32_111
  let v214 : BitVec 32 := v213
  let v217 : Index := Scalar.indexCast v214
  let c0_113 : Index := 0#32
  ![v217.toNat, 0]
def k1_off14 (k1_t1 : Fin k1_t1_loop.trips) (k1_t3 : Fin (k1_t3_loop k1_t1).trips) : Fin 2 → Nat :=
  let c2_i32_102 : BitVec 32 := 2#32
  let c0_i32_67 : BitVec 32 := 0#32
  let c0_i32 : BitVec 32 := 0#32
  let c1_i32 : BitVec 32 := 1#32
  let arg14 : BitVec 32 := Scf.iv c0_i32 c1_i32 k1_t1
  let c0_i32_61 : BitVec 32 := 0#32
  let v135 : BitVec 1 := Scalar.cmpi .sgt arg14 c0_i32_61
  let v136 : BitVec 32 := Scalar.extui v135
  let c0_i32_62 : BitVec 32 := 0#32
  let v137 : BitVec 1 := Scalar.cmpi .slt arg14 c0_i32_62
  let v138 : BitVec 32 := Scalar.extui v137
  let v139 : BitVec 32 := Scalar.subi v136 v138
  let c2_i32 : BitVec 32 := 2#32
  let c0_i32_63 : BitVec 32 := 0#32
  let v140 : BitVec 1 := Scalar.cmpi .sgt c2_i32 c0_i32_63
  let v141 : BitVec 32 := Scalar.extui v140
  let c0_i32_64 : BitVec 32 := 0#32
  let v142 : BitVec 1 := Scalar.cmpi .slt c2_i32 c0_i32_64
  let v143 : BitVec 32 := Scalar.extui v142
  let v144 : BitVec 32 := Scalar.subi v141 v143
  let v145 : BitVec 1 := Scalar.cmpi .ne v139 v144
  let v146 : BitVec 32 := Scalar.remsi arg14 c2_i32
  let c0_i32_65 : BitVec 32 := 0#32
  let v147 : BitVec 1 := Scalar.cmpi .ne v146 c0_i32_65
  let v148 : BitVec 1 := Scalar.andi v145 v147
  let v134 : BitVec 32 := Scalar.divsi arg14 c2_i32
  let c1_i32_66 : BitVec 32 := 1#32
  let v149 : BitVec 32 := Scalar.subi v134 c1_i32_66
  let v150 : BitVec 32 := Scalar.select v148 v149 v134
  let v151 : BitVec 32 := Scalar.subi v150 c0_i32_67
  let c1_i32_69 : BitVec 32 := 1#32
  let v153 : BitVec 32 := Scalar.divsi v151 c1_i32_69
  let v154 : BitVec 32 := Scalar.muli v153 c1_i32_69
  let v155 : BitVec 32 := Scalar.addi c0_i32_67 v154
  let c1_i32_71 : BitVec 32 := 1#32
  let arg15 : BitVec 32 := Scf.iv v155 c1_i32_71 k1_t3
  let v206 : BitVec 32 := Scalar.muli c2_i32_102 arg15
  let c256_i32_111 : BitVec 32 := 256#32
  let v213 : BitVec 32 := Scalar.muli v206 c256_i32_111
  let v214 : BitVec 32 := v213
  let v248 : Index := Scalar.indexCast v214
  let c128_122 : Index := 128#32
  ![v248.toNat, 128]
def k1_off15 (k1_t1 : Fin k1_t1_loop.trips) (k1_t3 : Fin (k1_t3_loop k1_t1).trips) : Fin 2 → Nat :=
  let c2_i32_103 : BitVec 32 := 2#32
  let c0_i32_67 : BitVec 32 := 0#32
  let c0_i32 : BitVec 32 := 0#32
  let c1_i32 : BitVec 32 := 1#32
  let arg14 : BitVec 32 := Scf.iv c0_i32 c1_i32 k1_t1
  let c0_i32_61 : BitVec 32 := 0#32
  let v135 : BitVec 1 := Scalar.cmpi .sgt arg14 c0_i32_61
  let v136 : BitVec 32 := Scalar.extui v135
  let c0_i32_62 : BitVec 32 := 0#32
  let v137 : BitVec 1 := Scalar.cmpi .slt arg14 c0_i32_62
  let v138 : BitVec 32 := Scalar.extui v137
  let v139 : BitVec 32 := Scalar.subi v136 v138
  let c2_i32 : BitVec 32 := 2#32
  let c0_i32_63 : BitVec 32 := 0#32
  let v140 : BitVec 1 := Scalar.cmpi .sgt c2_i32 c0_i32_63
  let v141 : BitVec 32 := Scalar.extui v140
  let c0_i32_64 : BitVec 32 := 0#32
  let v142 : BitVec 1 := Scalar.cmpi .slt c2_i32 c0_i32_64
  let v143 : BitVec 32 := Scalar.extui v142
  let v144 : BitVec 32 := Scalar.subi v141 v143
  let v145 : BitVec 1 := Scalar.cmpi .ne v139 v144
  let v146 : BitVec 32 := Scalar.remsi arg14 c2_i32
  let c0_i32_65 : BitVec 32 := 0#32
  let v147 : BitVec 1 := Scalar.cmpi .ne v146 c0_i32_65
  let v148 : BitVec 1 := Scalar.andi v145 v147
  let v134 : BitVec 32 := Scalar.divsi arg14 c2_i32
  let c1_i32_66 : BitVec 32 := 1#32
  let v149 : BitVec 32 := Scalar.subi v134 c1_i32_66
  let v150 : BitVec 32 := Scalar.select v148 v149 v134
  let v151 : BitVec 32 := Scalar.subi v150 c0_i32_67
  let c1_i32_69 : BitVec 32 := 1#32
  let v153 : BitVec 32 := Scalar.divsi v151 c1_i32_69
  let v154 : BitVec 32 := Scalar.muli v153 c1_i32_69
  let v155 : BitVec 32 := Scalar.addi c0_i32_67 v154
  let c1_i32_71 : BitVec 32 := 1#32
  let arg15 : BitVec 32 := Scf.iv v155 c1_i32_71 k1_t3
  let v207 : BitVec 32 := Scalar.muli c2_i32_103 arg15
  let c1_i32_104 : BitVec 32 := 1#32
  let v208 : BitVec 32 := Scalar.addi v207 c1_i32_104
  let c256_i32_112 : BitVec 32 := 256#32
  let v215 : BitVec 32 := Scalar.muli v208 c256_i32_112
  let v216 : BitVec 32 := v215
  let v280 : Index := Scalar.indexCast v216
  let c0_132 : Index := 0#32
  ![v280.toNat, 0]
def k1_off16 (k1_t1 : Fin k1_t1_loop.trips) (k1_t3 : Fin (k1_t3_loop k1_t1).trips) : Fin 2 → Nat :=
  let c2_i32_103 : BitVec 32 := 2#32
  let c0_i32_67 : BitVec 32 := 0#32
  let c0_i32 : BitVec 32 := 0#32
  let c1_i32 : BitVec 32 := 1#32
  let arg14 : BitVec 32 := Scf.iv c0_i32 c1_i32 k1_t1
  let c0_i32_61 : BitVec 32 := 0#32
  let v135 : BitVec 1 := Scalar.cmpi .sgt arg14 c0_i32_61
  let v136 : BitVec 32 := Scalar.extui v135
  let c0_i32_62 : BitVec 32 := 0#32
  let v137 : BitVec 1 := Scalar.cmpi .slt arg14 c0_i32_62
  let v138 : BitVec 32 := Scalar.extui v137
  let v139 : BitVec 32 := Scalar.subi v136 v138
  let c2_i32 : BitVec 32 := 2#32
  let c0_i32_63 : BitVec 32 := 0#32
  let v140 : BitVec 1 := Scalar.cmpi .sgt c2_i32 c0_i32_63
  let v141 : BitVec 32 := Scalar.extui v140
  let c0_i32_64 : BitVec 32 := 0#32
  let v142 : BitVec 1 := Scalar.cmpi .slt c2_i32 c0_i32_64
  let v143 : BitVec 32 := Scalar.extui v142
  let v144 : BitVec 32 := Scalar.subi v141 v143
  let v145 : BitVec 1 := Scalar.cmpi .ne v139 v144
  let v146 : BitVec 32 := Scalar.remsi arg14 c2_i32
  let c0_i32_65 : BitVec 32 := 0#32
  let v147 : BitVec 1 := Scalar.cmpi .ne v146 c0_i32_65
  let v148 : BitVec 1 := Scalar.andi v145 v147
  let v134 : BitVec 32 := Scalar.divsi arg14 c2_i32
  let c1_i32_66 : BitVec 32 := 1#32
  let v149 : BitVec 32 := Scalar.subi v134 c1_i32_66
  let v150 : BitVec 32 := Scalar.select v148 v149 v134
  let v151 : BitVec 32 := Scalar.subi v150 c0_i32_67
  let c1_i32_69 : BitVec 32 := 1#32
  let v153 : BitVec 32 := Scalar.divsi v151 c1_i32_69
  let v154 : BitVec 32 := Scalar.muli v153 c1_i32_69
  let v155 : BitVec 32 := Scalar.addi c0_i32_67 v154
  let c1_i32_71 : BitVec 32 := 1#32
  let arg15 : BitVec 32 := Scf.iv v155 c1_i32_71 k1_t3
  let v207 : BitVec 32 := Scalar.muli c2_i32_103 arg15
  let c1_i32_104 : BitVec 32 := 1#32
  let v208 : BitVec 32 := Scalar.addi v207 c1_i32_104
  let c256_i32_112 : BitVec 32 := 256#32
  let v215 : BitVec 32 := Scalar.muli v208 c256_i32_112
  let v216 : BitVec 32 := v215
  let v321 : Index := Scalar.indexCast v216
  let c128_143 : Index := 128#32
  ![v321.toNat, 128]
def k1_off17 (k1_t1 : Fin k1_t1_loop.trips) (k1_t3 : Fin (k1_t3_loop k1_t1).trips) : Fin 2 → Nat :=
  let c2_i32_102 : BitVec 32 := 2#32
  let c0_i32_67 : BitVec 32 := 0#32
  let c0_i32 : BitVec 32 := 0#32
  let c1_i32 : BitVec 32 := 1#32
  let arg14 : BitVec 32 := Scf.iv c0_i32 c1_i32 k1_t1
  let c0_i32_61 : BitVec 32 := 0#32
  let v135 : BitVec 1 := Scalar.cmpi .sgt arg14 c0_i32_61
  let v136 : BitVec 32 := Scalar.extui v135
  let c0_i32_62 : BitVec 32 := 0#32
  let v137 : BitVec 1 := Scalar.cmpi .slt arg14 c0_i32_62
  let v138 : BitVec 32 := Scalar.extui v137
  let v139 : BitVec 32 := Scalar.subi v136 v138
  let c2_i32 : BitVec 32 := 2#32
  let c0_i32_63 : BitVec 32 := 0#32
  let v140 : BitVec 1 := Scalar.cmpi .sgt c2_i32 c0_i32_63
  let v141 : BitVec 32 := Scalar.extui v140
  let c0_i32_64 : BitVec 32 := 0#32
  let v142 : BitVec 1 := Scalar.cmpi .slt c2_i32 c0_i32_64
  let v143 : BitVec 32 := Scalar.extui v142
  let v144 : BitVec 32 := Scalar.subi v141 v143
  let v145 : BitVec 1 := Scalar.cmpi .ne v139 v144
  let v146 : BitVec 32 := Scalar.remsi arg14 c2_i32
  let c0_i32_65 : BitVec 32 := 0#32
  let v147 : BitVec 1 := Scalar.cmpi .ne v146 c0_i32_65
  let v148 : BitVec 1 := Scalar.andi v145 v147
  let v134 : BitVec 32 := Scalar.divsi arg14 c2_i32
  let c1_i32_66 : BitVec 32 := 1#32
  let v149 : BitVec 32 := Scalar.subi v134 c1_i32_66
  let v150 : BitVec 32 := Scalar.select v148 v149 v134
  let v151 : BitVec 32 := Scalar.subi v150 c0_i32_67
  let c1_i32_69 : BitVec 32 := 1#32
  let v153 : BitVec 32 := Scalar.divsi v151 c1_i32_69
  let v154 : BitVec 32 := Scalar.muli v153 c1_i32_69
  let v155 : BitVec 32 := Scalar.addi c0_i32_67 v154
  let c1_i32_71 : BitVec 32 := 1#32
  let arg15 : BitVec 32 := Scf.iv v155 c1_i32_71 k1_t3
  let v206 : BitVec 32 := Scalar.muli c2_i32_102 arg15
  let c256_i32_111 : BitVec 32 := 256#32
  let v213 : BitVec 32 := Scalar.muli v206 c256_i32_111
  let v214 : BitVec 32 := v213
  let v389 : Index := Scalar.indexCast v214
  let c0_163 : Index := 0#32
  ![v389.toNat, 0]
def k1_off18 (k1_t1 : Fin k1_t1_loop.trips) (k1_t3 : Fin (k1_t3_loop k1_t1).trips) : Fin 2 → Nat :=
  let c2_i32_103 : BitVec 32 := 2#32
  let c0_i32_67 : BitVec 32 := 0#32
  let c0_i32 : BitVec 32 := 0#32
  let c1_i32 : BitVec 32 := 1#32
  let arg14 : BitVec 32 := Scf.iv c0_i32 c1_i32 k1_t1
  let c0_i32_61 : BitVec 32 := 0#32
  let v135 : BitVec 1 := Scalar.cmpi .sgt arg14 c0_i32_61
  let v136 : BitVec 32 := Scalar.extui v135
  let c0_i32_62 : BitVec 32 := 0#32
  let v137 : BitVec 1 := Scalar.cmpi .slt arg14 c0_i32_62
  let v138 : BitVec 32 := Scalar.extui v137
  let v139 : BitVec 32 := Scalar.subi v136 v138
  let c2_i32 : BitVec 32 := 2#32
  let c0_i32_63 : BitVec 32 := 0#32
  let v140 : BitVec 1 := Scalar.cmpi .sgt c2_i32 c0_i32_63
  let v141 : BitVec 32 := Scalar.extui v140
  let c0_i32_64 : BitVec 32 := 0#32
  let v142 : BitVec 1 := Scalar.cmpi .slt c2_i32 c0_i32_64
  let v143 : BitVec 32 := Scalar.extui v142
  let v144 : BitVec 32 := Scalar.subi v141 v143
  let v145 : BitVec 1 := Scalar.cmpi .ne v139 v144
  let v146 : BitVec 32 := Scalar.remsi arg14 c2_i32
  let c0_i32_65 : BitVec 32 := 0#32
  let v147 : BitVec 1 := Scalar.cmpi .ne v146 c0_i32_65
  let v148 : BitVec 1 := Scalar.andi v145 v147
  let v134 : BitVec 32 := Scalar.divsi arg14 c2_i32
  let c1_i32_66 : BitVec 32 := 1#32
  let v149 : BitVec 32 := Scalar.subi v134 c1_i32_66
  let v150 : BitVec 32 := Scalar.select v148 v149 v134
  let v151 : BitVec 32 := Scalar.subi v150 c0_i32_67
  let c1_i32_69 : BitVec 32 := 1#32
  let v153 : BitVec 32 := Scalar.divsi v151 c1_i32_69
  let v154 : BitVec 32 := Scalar.muli v153 c1_i32_69
  let v155 : BitVec 32 := Scalar.addi c0_i32_67 v154
  let c1_i32_71 : BitVec 32 := 1#32
  let arg15 : BitVec 32 := Scf.iv v155 c1_i32_71 k1_t3
  let v207 : BitVec 32 := Scalar.muli c2_i32_103 arg15
  let c1_i32_104 : BitVec 32 := 1#32
  let v208 : BitVec 32 := Scalar.addi v207 c1_i32_104
  let c256_i32_112 : BitVec 32 := 256#32
  let v215 : BitVec 32 := Scalar.muli v208 c256_i32_112
  let v216 : BitVec 32 := v215
  let v473 : Index := Scalar.indexCast v216
  let c0_206 : Index := 0#32
  ![v473.toNat, 0]
def k1_cond1 (k1_t1 : Fin k1_t1_loop.trips) : BitVec 1 :=
  let c0_i32 : BitVec 32 := 0#32
  let c1_i32 : BitVec 32 := 1#32
  let arg14 : BitVec 32 := Scf.iv c0_i32 c1_i32 k1_t1
  let c2_i32_72 : BitVec 32 := 2#32
  let c0_i32_73 : BitVec 32 := 0#32
  let v158 : BitVec 1 := Scalar.cmpi .eq c2_i32_72 c0_i32_73
  let c1_i32_74 : BitVec 32 := 1#32
  let v159 : BitVec 32 := Scalar.select v158 c1_i32_74 c2_i32_72
  let v160 : BitVec 32 := Scalar.remsi arg14 v159
  let c0_i32_76 : BitVec 32 := 0#32
  let v162 : BitVec 1 := Scalar.cmpi .slt v160 c0_i32_76
  let c0_i32_77 : BitVec 32 := 0#32
  let v163 : BitVec 1 := Scalar.cmpi .slt v159 c0_i32_77
  let v164 : BitVec 1 := Scalar.xori v162 v163
  let c0_i32_75 : BitVec 32 := 0#32
  let v161 : BitVec 1 := Scalar.cmpi .ne v160 c0_i32_75
  let v165 : BitVec 1 := Scalar.andi v164 v161
  let v166 : BitVec 32 := Scalar.addi v160 v159
  let v167 : BitVec 32 := Scalar.select v165 v166 v160
  let c0_i32_78 : BitVec 32 := 0#32
  let v168 : BitVec 1 := Scalar.cmpi .eq v167 c0_i32_78
  let v169 : BitVec 32 := Scalar.extui v168
  let c0_i32_79 : BitVec 32 := 0#32
  let v170 : BitVec 1 := Scalar.cmpi .ne v169 c0_i32_79
  v170

def k1_mult6 (k1_t1 : Fin k1_t1_loop.trips) : BitVec 32 :=
  let c0_i32 : BitVec 32 := 0#32
  let c1_i32 : BitVec 32 := 1#32
  let arg14 : BitVec 32 := Scf.iv c0_i32 c1_i32 k1_t1
  let c256_i32_108 : BitVec 32 := 256#32
  let v210 : BitVec 32 := Scalar.muli arg14 c256_i32_108
  v210
def k1_off19 (k1_t1 : Fin k1_t1_loop.trips) : Fin 2 → Nat :=
  let c0_i32 : BitVec 32 := 0#32
  let c1_i32 : BitVec 32 := 1#32
  let arg14 : BitVec 32 := Scf.iv c0_i32 c1_i32 k1_t1
  let c256_i32_108 : BitVec 32 := 256#32
  let v210 : BitVec 32 := Scalar.muli arg14 c256_i32_108
  let v211 : BitVec 32 := v210
  let v212 : Index := Scalar.indexCast v211
  let c0_109 : Index := 0#32
  ![v212.toNat, 0]
def k1_off20 (k1_t1 : Fin k1_t1_loop.trips) : Fin 2 → Nat :=
  let c0_i32 : BitVec 32 := 0#32
  let c1_i32 : BitVec 32 := 1#32
  let arg14 : BitVec 32 := Scf.iv c0_i32 c1_i32 k1_t1
  let c256_i32_108 : BitVec 32 := 256#32
  let v210 : BitVec 32 := Scalar.muli arg14 c256_i32_108
  let v211 : BitVec 32 := v210
  let v245 : Index := Scalar.indexCast v211
  let c128_119 : Index := 128#32
  ![v245.toNat, 128]
def k1_off21 (k1_t1 : Fin k1_t1_loop.trips) : Fin 2 → Nat :=
  let c0_i32 : BitVec 32 := 0#32
  let c1_i32 : BitVec 32 := 1#32
  let arg14 : BitVec 32 := Scf.iv c0_i32 c1_i32 k1_t1
  let c256_i32_108 : BitVec 32 := 256#32
  let v210 : BitVec 32 := Scalar.muli arg14 c256_i32_108
  let v211 : BitVec 32 := v210
  let v321 : Index := Scalar.indexCast v211
  let c0_143 : Index := 0#32
  ![v321.toNat, 0]
def k1_cond2 (k1_t1 : Fin k1_t1_loop.trips) : BitVec 1 :=
  let c0_i32 : BitVec 32 := 0#32
  let c1_i32 : BitVec 32 := 1#32
  let arg14 : BitVec 32 := Scf.iv c0_i32 c1_i32 k1_t1
  let c2_i32_72 : BitVec 32 := 2#32
  let c0_i32_73 : BitVec 32 := 0#32
  let v158 : BitVec 1 := Scalar.cmpi .eq c2_i32_72 c0_i32_73
  let c1_i32_74 : BitVec 32 := 1#32
  let v159 : BitVec 32 := Scalar.select v158 c1_i32_74 c2_i32_72
  let v160 : BitVec 32 := Scalar.remsi arg14 v159
  let c0_i32_76 : BitVec 32 := 0#32
  let v162 : BitVec 1 := Scalar.cmpi .slt v160 c0_i32_76
  let c0_i32_77 : BitVec 32 := 0#32
  let v163 : BitVec 1 := Scalar.cmpi .slt v159 c0_i32_77
  let v164 : BitVec 1 := Scalar.xori v162 v163
  let c0_i32_75 : BitVec 32 := 0#32
  let v161 : BitVec 1 := Scalar.cmpi .ne v160 c0_i32_75
  let v165 : BitVec 1 := Scalar.andi v164 v161
  let v166 : BitVec 32 := Scalar.addi v160 v159
  let v167 : BitVec 32 := Scalar.select v165 v166 v160
  let c1_i32_80 : BitVec 32 := 1#32
  let v171 : BitVec 1 := Scalar.cmpi .eq v167 c1_i32_80
  let v172 : BitVec 32 := Scalar.extui v171
  let c0_i32_81 : BitVec 32 := 0#32
  let v173 : BitVec 1 := Scalar.cmpi .ne v172 c0_i32_81
  v173

def k1_mult7 (k1_t1 : Fin k1_t1_loop.trips) : BitVec 32 :=
  let c0_i32 : BitVec 32 := 0#32
  let c1_i32 : BitVec 32 := 1#32
  let arg14 : BitVec 32 := Scf.iv c0_i32 c1_i32 k1_t1
  let c1_i32_102 : BitVec 32 := 1#32
  let v206 : BitVec 32 := Scalar.subi arg14 c1_i32_102
  let c256_i32_109 : BitVec 32 := 256#32
  let v211 : BitVec 32 := Scalar.muli v206 c256_i32_109
  v211
def k1_mult8 (k1_t1 : Fin k1_t1_loop.trips) : BitVec 32 :=
  let c0_i32 : BitVec 32 := 0#32
  let c1_i32 : BitVec 32 := 1#32
  let arg14 : BitVec 32 := Scf.iv c0_i32 c1_i32 k1_t1
  let c256_i32_110 : BitVec 32 := 256#32
  let v213 : BitVec 32 := Scalar.muli arg14 c256_i32_110
  v213
def k1_off22 (k1_t1 : Fin k1_t1_loop.trips) : Fin 2 → Nat :=
  let c0_i32 : BitVec 32 := 0#32
  let c1_i32 : BitVec 32 := 1#32
  let arg14 : BitVec 32 := Scf.iv c0_i32 c1_i32 k1_t1
  let c1_i32_102 : BitVec 32 := 1#32
  let v206 : BitVec 32 := Scalar.subi arg14 c1_i32_102
  let c256_i32_109 : BitVec 32 := 256#32
  let v211 : BitVec 32 := Scalar.muli v206 c256_i32_109
  let v212 : BitVec 32 := v211
  let v215 : Index := Scalar.indexCast v212
  let c0_111 : Index := 0#32
  ![v215.toNat, 0]
def k1_off23 (k1_t1 : Fin k1_t1_loop.trips) : Fin 2 → Nat :=
  let c0_i32 : BitVec 32 := 0#32
  let c1_i32 : BitVec 32 := 1#32
  let arg14 : BitVec 32 := Scf.iv c0_i32 c1_i32 k1_t1
  let c1_i32_102 : BitVec 32 := 1#32
  let v206 : BitVec 32 := Scalar.subi arg14 c1_i32_102
  let c256_i32_109 : BitVec 32 := 256#32
  let v211 : BitVec 32 := Scalar.muli v206 c256_i32_109
  let v212 : BitVec 32 := v211
  let v246 : Index := Scalar.indexCast v212
  let c128_120 : Index := 128#32
  ![v246.toNat, 128]
def k1_off24 (k1_t1 : Fin k1_t1_loop.trips) : Fin 2 → Nat :=
  let c0_i32 : BitVec 32 := 0#32
  let c1_i32 : BitVec 32 := 1#32
  let arg14 : BitVec 32 := Scf.iv c0_i32 c1_i32 k1_t1
  let c256_i32_110 : BitVec 32 := 256#32
  let v213 : BitVec 32 := Scalar.muli arg14 c256_i32_110
  let v214 : BitVec 32 := v213
  let v278 : Index := Scalar.indexCast v214
  let c0_130 : Index := 0#32
  ![v278.toNat, 0]
def k1_off25 (k1_t1 : Fin k1_t1_loop.trips) : Fin 2 → Nat :=
  let c0_i32 : BitVec 32 := 0#32
  let c1_i32 : BitVec 32 := 1#32
  let arg14 : BitVec 32 := Scf.iv c0_i32 c1_i32 k1_t1
  let c256_i32_110 : BitVec 32 := 256#32
  let v213 : BitVec 32 := Scalar.muli arg14 c256_i32_110
  let v214 : BitVec 32 := v213
  let v321 : Index := Scalar.indexCast v214
  let c128_142 : Index := 128#32
  ![v321.toNat, 128]
def k1_off26 (k1_t1 : Fin k1_t1_loop.trips) : Fin 2 → Nat :=
  let c0_i32 : BitVec 32 := 0#32
  let c1_i32 : BitVec 32 := 1#32
  let arg14 : BitVec 32 := Scf.iv c0_i32 c1_i32 k1_t1
  let c1_i32_102 : BitVec 32 := 1#32
  let v206 : BitVec 32 := Scalar.subi arg14 c1_i32_102
  let c256_i32_109 : BitVec 32 := 256#32
  let v211 : BitVec 32 := Scalar.muli v206 c256_i32_109
  let v212 : BitVec 32 := v211
  let v393 : Index := Scalar.indexCast v212
  let c0_164 : Index := 0#32
  ![v393.toNat, 0]
def k1_off27 (k1_t1 : Fin k1_t1_loop.trips) : Fin 2 → Nat :=
  let c0_i32 : BitVec 32 := 0#32
  let c1_i32 : BitVec 32 := 1#32
  let arg14 : BitVec 32 := Scf.iv c0_i32 c1_i32 k1_t1
  let c256_i32_110 : BitVec 32 := 256#32
  let v213 : BitVec 32 := Scalar.muli arg14 c256_i32_110
  let v214 : BitVec 32 := v213
  let v481 : Index := Scalar.indexCast v214
  let c0_209 : Index := 0#32
  ![v481.toNat, 0]
def k1_off28 (k1_t1 : Fin k1_t1_loop.trips) : Fin 3 → Nat :=
  let c0_90 : Index := 0#32
  let c0_i32 : BitVec 32 := 0#32
  let c1_i32 : BitVec 32 := 1#32
  let arg14 : BitVec 32 := Scf.iv c0_i32 c1_i32 k1_t1
  let c256_i32_33 : BitVec 32 := 256#32
  let v46 : BitVec 32 := Scalar.muli arg14 c256_i32_33
  let v47 : BitVec 32 := v46
  let v186 : Index := Scalar.indexCast v47
  let c0_91 : Index := 0#32
  ![0, v186.toNat, 0]
def k1_off29 (k1_t1 : Fin k1_t1_loop.trips) : Fin 3 → Nat :=
  let c0_100 : Index := 0#32
  let c0_i32 : BitVec 32 := 0#32
  let c1_i32 : BitVec 32 := 1#32
  let arg14 : BitVec 32 := Scf.iv c0_i32 c1_i32 k1_t1
  let c256_i32_33 : BitVec 32 := 256#32
  let v46 : BitVec 32 := Scalar.muli arg14 c256_i32_33
  let v47 : BitVec 32 := v46
  let v202 : Index := Scalar.indexCast v47
  let c128_101 : Index := 128#32
  ![0, v202.toNat, 128]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc1_transform_1 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc1_transform_2 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage1_0 : Fin 2 → Memref sig .tc .vmem S2048x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S2048x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S2048x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S2048x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 1 → Memref sig .tc .vmem S512x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S256x256 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S3x2048x256 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]
-- ==== Reference2Ideal.lean ====
abbrev S4096x512 : Shape := ⟨2, ![4096, 512]⟩
abbrev S2x2048x8x64 : Shape := ⟨4, ![2, 2048, 8, 64]⟩
abbrev S2x8x2048x64 : Shape := ⟨4, ![2, 8, 2048, 64]⟩
abbrev S2x8x2048x2048 : Shape := ⟨4, ![2, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x8x64x2048 : Shape := ⟨4, ![2, 8, 64, 2048]⟩
abbrev S1x4096x512 : Shape := ⟨3, ![1, 4096, 512]⟩
abbrev S3x4096x512 : Shape := ⟨3, ![3, 4096, 512]⟩

abbrev nBuf : Space → Nat
  | .hbm => 195
  | .vmem => 0
  | .smem => 0
  | _ => 0

abbrev hbmTy0_0 (i : Nat) : BufTy := match i % 128 with
  | 0 => ⟨S4096x512, .bf16⟩
  | 1 => ⟨S4096x512, .bf16⟩
  | 2 => ⟨S4096x512, .bf16⟩
  | 3 => ⟨S4096x512, .bf16⟩
  | 4 => ⟨S4096x512, .f32⟩
  | 5 => ⟨S2x2048x8x64, .f32⟩
  | 6 => ⟨S2x8x2048x64, .f32⟩
  | 7 => ⟨S4096x512, .f32⟩
  | 8 => ⟨S2x2048x8x64, .f32⟩
  | 9 => ⟨S2x8x2048x64, .f32⟩
  | 10 => ⟨S4096x512, .f32⟩
  | 11 => ⟨S2x2048x8x64, .f32⟩
  | 12 => ⟨S2x8x2048x64, .f32⟩
  | 13 => ⟨S4096x512, .f32⟩
  | 14 => ⟨S2x2048x8x64, .f32⟩
  | 15 => ⟨S2x8x2048x64, .f32⟩
  | 16 => ⟨S2x8x2048x2048, .f32⟩
  | 17 => ⟨S_, .f32⟩
  | 18 => ⟨S2x8x2048x2048, .f32⟩
  | 19 => ⟨S2x8x2048x2048, .f32⟩
  | 20 => ⟨S2048, .i32⟩
  | 21 => ⟨S1x2048, .i32⟩
  | 22 => ⟨S2048, .i32⟩
  | 23 => ⟨S2048x1, .i32⟩
  | 24 => ⟨S2048x2048, .i32⟩
  | 25 => ⟨S2048x2048, .i32⟩
  | 26 => ⟨S2048x2048, .i1⟩
  | 27 => ⟨S_, .f32⟩
  | 28 => ⟨S2x8x2048x2048, .f32⟩
  | 29 => ⟨S2x8x2048x2048, .f32⟩
  | 30 => ⟨S2x8x2048x2048, .f32⟩
  | 31 => ⟨S2x8x2048x2048, .f32⟩
  | 32 => ⟨S2x8x2048x2048, .i1⟩
  | 33 => ⟨S2x8x2048x2048, .f32⟩
  | 34 => ⟨S2x8x2048x2048, .f32⟩
  | 35 => ⟨S2x8x2048x2048, .f32⟩
  | 36 => ⟨S2x8x2048x2048, .f32⟩
  | 37 => ⟨S2x8x2048x2048, .f32⟩
  | 38 => ⟨S2x8x2048x2048, .f32⟩
  | 39 => ⟨S2x8x2048x2048, .f32⟩
  | 40 => ⟨S2x8x2048x2048, .f32⟩
  | 41 => ⟨S_, .f32⟩
  | 42 => ⟨S2x8x2048x2048, .f32⟩
  | 43 => ⟨S2x8x2048x2048, .i1⟩
  | 44 => ⟨S_, .f32⟩
  | 45 => ⟨S2x8x2048x2048, .f32⟩
  | 46 => ⟨S2x8x2048x2048, .f32⟩
  | 47 => ⟨S_, .f32⟩
  | 48 => ⟨S2x8x2048x2048, .f32⟩
  | 49 => ⟨S2x8x2048x2048, .i1⟩
  | 50 => ⟨S_, .f32⟩
  | 51 => ⟨S2x8x2048x2048, .f32⟩
  | 52 => ⟨S2x8x2048x2048, .f32⟩
  | 53 => ⟨S2x8x2048x2048, .f32⟩
  | 54 => ⟨S2x8x2048x2048, .f32⟩
  | 55 => ⟨S_, .f32⟩
  | 56 => ⟨S_, .f32⟩
  | 57 => ⟨S_, .i1⟩
  | 58 => ⟨S_, .f32⟩
  | 59 => ⟨S_, .f32⟩
  | 60 => ⟨S_, .f32⟩
  | 61 => ⟨S_, .f32⟩
  | 62 => ⟨S2x8x2048x2048, .f32⟩
  | 63 => ⟨S2x8x2048x2048, .i1⟩
  | 64 => ⟨S_, .f32⟩
  | 65 => ⟨S2x8x2048x2048, .f32⟩
  | 66 => ⟨S2x8x2048x2048, .f32⟩
  | 67 => ⟨S2x8x2048x2048, .f32⟩
  | 68 => ⟨S2x8x2048x2048, .f32⟩
  | 69 => ⟨S2x8x2048x2048, .f32⟩
  | 70 => ⟨S_, .f32⟩
  | 71 => ⟨S2x8x2048x2048, .f32⟩
  | 72 => ⟨S2x8x2048x2048, .f32⟩
  | 73 => ⟨S2x8x2048x2048, .f32⟩
  | 74 => ⟨S_, .f32⟩
  | 75 => ⟨S_, .f32⟩
  | 76 => ⟨S2x8x2048x2048, .i1⟩
  | 77 => ⟨S2x8x2048x2048, .f32⟩
  | 78 => ⟨S2x8x2048x2048, .f32⟩
  | 79 => ⟨S_, .f32⟩
  | 80 => ⟨S2x8x2048x2048, .f32⟩
  | 81 => ⟨S_, .f32⟩
  | 82 => ⟨S_, .f32⟩
  | 83 => ⟨S2x8x2048x2048, .f32⟩
  | 84 => ⟨S2x8x2048x2048, .f32⟩
  | 85 => ⟨S2x8x2048x2048, .f32⟩
  | 86 => ⟨S_, .f32⟩
  | 87 => ⟨S2x8x2048x2048, .f32⟩
  | 88 => ⟨S2x8x2048x2048, .f32⟩
  | 89 => ⟨S2x8x2048x2048, .f32⟩
  | 90 => ⟨S2x8x2048x2048, .f32⟩
  | 91 => ⟨S2x8x2048x2048, .i1⟩
  | 92 => ⟨S2x8x2048x2048, .f32⟩
  | 93 => ⟨S2x8x2048x2048, .f32⟩
  | 94 => ⟨S2x8x2048x2048, .f32⟩
  | 95 => ⟨S2x8x2048x2048, .f32⟩
  | 96 => ⟨S2x8x2048x2048, .f32⟩
  | 97 => ⟨S2x8x2048x2048, .f32⟩
  | 98 => ⟨S2x8x2048x2048, .f32⟩
  | 99 => ⟨S2x8x2048x2048, .f32⟩
  | 100 => ⟨S_, .f32⟩
  | 101 => ⟨S2x8x2048x2048, .f32⟩
  | 102 => ⟨S2x8x2048x2048, .i1⟩
  | 103 => ⟨S_, .f32⟩
  | 104 => ⟨S2x8x2048x2048, .f32⟩
  | 105 => ⟨S2x8x2048x2048, .f32⟩
  | 106 => ⟨S_, .f32⟩
  | 107 => ⟨S2x8x2048x2048, .f32⟩
  | 108 => ⟨S2x8x2048x2048, .i1⟩
  | 109 => ⟨S_, .f32⟩
  | 110 => ⟨S2x8x2048x2048, .f32⟩
  | 111 => ⟨S2x8x2048x2048, .f32⟩
  | 112 => ⟨S2x8x2048x2048, .f32⟩
  | 113 => ⟨S2x8x2048x2048, .f32⟩
  | 114 => ⟨S_, .f32⟩
  | 115 => ⟨S_, .f32⟩
  | 116 => ⟨S_, .i1⟩
  | 117 => ⟨S_, .f32⟩
  | 118 => ⟨S_, .f32⟩
  | 119 => ⟨S_, .f32⟩
  | 120 => ⟨S_, .f32⟩
  | 121 => ⟨S2x8x2048x2048, .f32⟩
  | 122 => ⟨S2x8x2048x2048, .i1⟩
  | 123 => ⟨S_, .f32⟩
  | 124 => ⟨S2x8x2048x2048, .f32⟩
  | 125 => ⟨S2x8x2048x2048, .f32⟩
  | 126 => ⟨S2x8x2048x2048, .f32⟩
  | 127 => ⟨S2x8x2048x2048, .f32⟩
  | _ => ⟨S4096x512, .bf16⟩

abbrev hbmTy0_1 (i : Nat) : BufTy := match i % 128 with
  | 0 => ⟨S2x8x2048x2048, .f32⟩
  | 1 => ⟨S_, .f32⟩
  | 2 => ⟨S2x8x2048x2048, .f32⟩
  | 3 => ⟨S2x8x2048x2048, .f32⟩
  | 4 => ⟨S2x8x2048x2048, .f32⟩
  | 5 => ⟨S2x8x2048x2048, .f32⟩
  | 6 => ⟨S_, .f32⟩
  | 7 => ⟨S_, .f32⟩
  | 8 => ⟨S2x8x2048x2048, .i1⟩
  | 9 => ⟨S2x8x2048x2048, .f32⟩
  | 10 => ⟨S2x8x2048x2048, .f32⟩
  | 11 => ⟨S_, .f32⟩
  | 12 => ⟨S2x8x2048x2048, .f32⟩
  | 13 => ⟨S2x8x2048x2048, .f32⟩
  | 14 => ⟨S_, .f32⟩
  | 15 => ⟨S_, .f32⟩
  | 16 => ⟨S2x8x2048x2048, .i1⟩
  | 17 => ⟨S2x8x2048x2048, .f32⟩
  | 18 => ⟨S2x8x2048x2048, .f32⟩
  | 19 => ⟨S_, .f32⟩
  | 20 => ⟨S2x8x2048x2048, .f32⟩
  | 21 => ⟨S2x8x2048x64, .f32⟩
  | 22 => ⟨S2x2048x8x64, .f32⟩
  | 23 => ⟨S4096x512, .f32⟩
  | 24 => ⟨S4096x512, .bf16⟩
  | 25 => ⟨S2x8x64x2048, .f32⟩
  | 26 => ⟨S2x8x2048x64, .f32⟩
  | 27 => ⟨S2x8x2048x2048, .f32⟩
  | 28 => ⟨S_, .f32⟩
  | 29 => ⟨S2x8x2048x2048, .f32⟩
  | 30 => ⟨S2x8x2048x2048, .f32⟩
  | 31 => ⟨S2x8x2048x2048, .f32⟩
  | 32 => ⟨S_, .f32⟩
  | 33 => ⟨S2x8x2048x2048, .f32⟩
  | 34 => ⟨S2x8x2048x2048, .f32⟩
  | 35 => ⟨S2x8x2048x2048, .f32⟩
  | 36 => ⟨S2x8x2048x2048, .f32⟩
  | 37 => ⟨S2x8x2048x2048, .f32⟩
  | 38 => ⟨S2x8x2048x2048, .f32⟩
  | 39 => ⟨S_, .f32⟩
  | 40 => ⟨S_, .f32⟩
  | 41 => ⟨S2x8x2048x2048, .f32⟩
  | 42 => ⟨S2x8x2048x2048, .f32⟩
  | 43 => ⟨S_, .f32⟩
  | 44 => ⟨S2x8x2048x2048, .f32⟩
  | 45 => ⟨S2x8x2048x2048, .f32⟩
  | 46 => ⟨S2x8x2048x2048, .f32⟩
  | 47 => ⟨S2x8x2048x2048, .f32⟩
  | 48 => ⟨S2x8x2048x2048, .f32⟩
  | 49 => ⟨S_, .f32⟩
  | 50 => ⟨S2x8x2048x2048, .f32⟩
  | 51 => ⟨S2x8x2048x2048, .f32⟩
  | 52 => ⟨S2x8x2048x64, .f32⟩
  | 53 => ⟨S2x8x2048x64, .f32⟩
  | 54 => ⟨S2x2048x8x64, .f32⟩
  | 55 => ⟨S4096x512, .f32⟩
  | 56 => ⟨S4096x512, .bf16⟩
  | 57 => ⟨S2x2048x8x64, .f32⟩
  | 58 => ⟨S4096x512, .f32⟩
  | 59 => ⟨S4096x512, .bf16⟩
  | 60 => ⟨S2x2048x8x64, .f32⟩
  | 61 => ⟨S4096x512, .f32⟩
  | 62 => ⟨S4096x512, .bf16⟩
  | 63 => ⟨S1x4096x512, .bf16⟩
  | 64 => ⟨S1x4096x512, .bf16⟩
  | 65 => ⟨S1x4096x512, .bf16⟩
  | 66 => ⟨S3x4096x512, .bf16⟩
  | _ => ⟨S4096x512, .bf16⟩

abbrev hbmTy (i : Nat) : BufTy := match i / 128 with
  | 0 => hbmTy0_0 i
  | 1 => hbmTy0_1 i
  | _ => ⟨S4096x512, .bf16⟩

abbrev bufTy : (tb : Table) → Fin (tcTables nBuf tb) → BufTy
  | .hbm, ⟨i, _⟩ => hbmTy i
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_call0_cst : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_v22_0 : Ref sig .tc := ⟨.hbm, 40, rfl⟩
abbrev main_call0_cst_0 : Ref sig .tc := ⟨.hbm, 41, rfl⟩
abbrev main_call0_v13 : Ref sig .tc := ⟨.hbm, 42, rfl⟩
abbrev main_call0_v14 : Ref sig .tc := ⟨.hbm, 43, rfl⟩
abbrev main_call0_cst_1 : Ref sig .tc := ⟨.hbm, 44, rfl⟩
abbrev main_call0_v15 : Ref sig .tc := ⟨.hbm, 45, rfl⟩
abbrev main_call0_v16 : Ref sig .tc := ⟨.hbm, 46, rfl⟩
abbrev main_call0_cst_2 : Ref sig .tc := ⟨.hbm, 47, rfl⟩
abbrev main_call0_v17 : Ref sig .tc := ⟨.hbm, 48, rfl⟩
abbrev main_call0_v18 : Ref sig .tc := ⟨.hbm, 49, rfl⟩
abbrev main_call0_cst_3 : Ref sig .tc := ⟨.hbm, 50, rfl⟩
abbrev main_call0_v19 : Ref sig .tc := ⟨.hbm, 51, rfl⟩
abbrev main_call0_v20 : Ref sig .tc := ⟨.hbm, 52, rfl⟩
abbrev main_call0_v21 : Ref sig .tc := ⟨.hbm, 53, rfl⟩
abbrev main_v22_1 : Ref sig .tc := ⟨.hbm, 54, rfl⟩
abbrev main_call0_cst_4 : Ref sig .tc := ⟨.hbm, 55, rfl⟩
abbrev main_call0_cst_5 : Ref sig .tc := ⟨.hbm, 56, rfl⟩
abbrev main_call0_v23 : Ref sig .tc := ⟨.hbm, 57, rfl⟩
abbrev main_call0_cst_6 : Ref sig .tc := ⟨.hbm, 58, rfl⟩
abbrev main_call0_cst_7 : Ref sig .tc := ⟨.hbm, 59, rfl⟩
abbrev main_call0_v24 : Ref sig .tc := ⟨.hbm, 60, rfl⟩
abbrev main_call0_cst_8 : Ref sig .tc := ⟨.hbm, 61, rfl⟩
abbrev main_call0_v25 : Ref sig .tc := ⟨.hbm, 62, rfl⟩
abbrev main_call0_v26 : Ref sig .tc := ⟨.hbm, 63, rfl⟩
abbrev main_call0_cst_9 : Ref sig .tc := ⟨.hbm, 64, rfl⟩
abbrev main_call0_v27 : Ref sig .tc := ⟨.hbm, 65, rfl⟩
abbrev main_call0_v28 : Ref sig .tc := ⟨.hbm, 66, rfl⟩
abbrev main_call0_v29 : Ref sig .tc := ⟨.hbm, 67, rfl⟩
abbrev main_call0_v30 : Ref sig .tc := ⟨.hbm, 68, rfl⟩
abbrev main_call0_v31 : Ref sig .tc := ⟨.hbm, 69, rfl⟩
abbrev main_call0_cst_10 : Ref sig .tc := ⟨.hbm, 70, rfl⟩
abbrev main_call0_v32 : Ref sig .tc := ⟨.hbm, 71, rfl⟩
abbrev main_v22_2 : Ref sig .tc := ⟨.hbm, 72, rfl⟩
abbrev main_v23 : Ref sig .tc := ⟨.hbm, 73, rfl⟩
abbrev main_cst_0 : Ref sig .tc := ⟨.hbm, 74, rfl⟩
abbrev main_call1_v0 : Ref sig .tc := ⟨.hbm, 75, rfl⟩
abbrev main_v24_1 : Ref sig .tc := ⟨.hbm, 76, rfl⟩
abbrev main_call1_v2 : Ref sig .tc := ⟨.hbm, 77, rfl⟩
abbrev main_v24_0 : Ref sig .tc := ⟨.hbm, 78, rfl⟩
abbrev main_call1_cst : Ref sig .tc := ⟨.hbm, 79, rfl⟩
abbrev main_v24_2 : Ref sig .tc := ⟨.hbm, 80, rfl⟩
abbrev main_call2_cst : Ref sig .tc := ⟨.hbm, 81, rfl⟩
abbrev main_call2_v0 : Ref sig .tc := ⟨.hbm, 82, rfl⟩
abbrev main_v25 : Ref sig .tc := ⟨.hbm, 83, rfl⟩
abbrev main_v26 : Ref sig .tc := ⟨.hbm, 84, rfl⟩
abbrev main_call3_v0 : Ref sig .tc := ⟨.hbm, 85, rfl⟩
abbrev main_call3_call0_cst : Ref sig .tc := ⟨.hbm, 86, rfl⟩
abbrev main_call3_call0_v0 : Ref sig .tc := ⟨.hbm, 87, rfl⟩
abbrev main_call3_call0_v1 : Ref sig .tc := ⟨.hbm, 88, rfl⟩
abbrev main_call3_call0_v2 : Ref sig .tc := ⟨.hbm, 89, rfl⟩
abbrev main_call3_call0_v3 : Ref sig .tc := ⟨.hbm, 90, rfl⟩
abbrev main_call3_call0_v4 : Ref sig .tc := ⟨.hbm, 91, rfl⟩
abbrev main_call3_call0_v5 : Ref sig .tc := ⟨.hbm, 92, rfl⟩
abbrev main_call3_call0_v6 : Ref sig .tc := ⟨.hbm, 93, rfl⟩
abbrev main_call3_call0_v7 : Ref sig .tc := ⟨.hbm, 94, rfl⟩
abbrev main_call3_call0_v8 : Ref sig .tc := ⟨.hbm, 95, rfl⟩
abbrev main_call3_call0_v9 : Ref sig .tc := ⟨.hbm, 96, rfl⟩
abbrev main_call3_call0_v10 : Ref sig .tc := ⟨.hbm, 97, rfl⟩
abbrev main_call3_call0_v11 : Ref sig .tc := ⟨.hbm, 98, rfl⟩
abbrev main_call3_v1_0 : Ref sig .tc := ⟨.hbm, 99, rfl⟩
abbrev main_call3_call0_cst_0 : Ref sig .tc := ⟨.hbm, 100, rfl⟩
abbrev main_call3_call0_v13 : Ref sig .tc := ⟨.hbm, 101, rfl⟩
abbrev main_call3_call0_v14 : Ref sig .tc := ⟨.hbm, 102, rfl⟩
abbrev main_call3_call0_cst_1 : Ref sig .tc := ⟨.hbm, 103, rfl⟩
abbrev main_call3_call0_v15 : Ref sig .tc := ⟨.hbm, 104, rfl⟩
abbrev main_call3_call0_v16 : Ref sig .tc := ⟨.hbm, 105, rfl⟩
abbrev main_call3_call0_cst_2 : Ref sig .tc := ⟨.hbm, 106, rfl⟩
abbrev main_call3_call0_v17 : Ref sig .tc := ⟨.hbm, 107, rfl⟩
abbrev main_call3_call0_v18 : Ref sig .tc := ⟨.hbm, 108, rfl⟩
abbrev main_call3_call0_cst_3 : Ref sig .tc := ⟨.hbm, 109, rfl⟩
abbrev main_call3_call0_v19 : Ref sig .tc := ⟨.hbm, 110, rfl⟩
abbrev main_call3_call0_v20 : Ref sig .tc := ⟨.hbm, 111, rfl⟩
abbrev main_call3_call0_v21 : Ref sig .tc := ⟨.hbm, 112, rfl⟩
abbrev main_v27_1 : Ref sig .tc := ⟨.hbm, 113, rfl⟩
abbrev main_call3_call0_cst_4 : Ref sig .tc := ⟨.hbm, 114, rfl⟩
abbrev main_call3_call0_cst_5 : Ref sig .tc := ⟨.hbm, 115, rfl⟩
abbrev main_call3_call0_v23 : Ref sig .tc := ⟨.hbm, 116, rfl⟩
abbrev main_call3_call0_cst_6 : Ref sig .tc := ⟨.hbm, 117, rfl⟩
abbrev main_call3_call0_cst_7 : Ref sig .tc := ⟨.hbm, 118, rfl⟩
abbrev main_call3_call0_v24 : Ref sig .tc := ⟨.hbm, 119, rfl⟩
abbrev main_call3_call0_cst_8 : Ref sig .tc := ⟨.hbm, 120, rfl⟩
abbrev main_call3_call0_v25 : Ref sig .tc := ⟨.hbm, 121, rfl⟩
abbrev main_call3_call0_v26 : Ref sig .tc := ⟨.hbm, 122, rfl⟩
abbrev main_call3_call0_cst_9 : Ref sig .tc := ⟨.hbm, 123, rfl⟩
abbrev main_call3_call0_v27 : Ref sig .tc := ⟨.hbm, 124, rfl⟩
abbrev main_call3_call0_v28 : Ref sig .tc := ⟨.hbm, 125, rfl⟩
abbrev main_call3_call0_v29 : Ref sig .tc := ⟨.hbm, 126, rfl⟩
abbrev main_call3_call0_v30 : Ref sig .tc := ⟨.hbm, 127, rfl⟩
abbrev main_call3_call0_v31 : Ref sig .tc := ⟨.hbm, 128, rfl⟩
abbrev main_call3_call0_cst_10 : Ref sig .tc := ⟨.hbm, 129, rfl⟩
abbrev main_call3_call0_v32 : Ref sig .tc := ⟨.hbm, 130, rfl⟩
abbrev main_v27_2 : Ref sig .tc := ⟨.hbm, 131, rfl⟩
abbrev main_v27_0 : Ref sig .tc := ⟨.hbm, 132, rfl⟩
abbrev main_v28 : Ref sig .tc := ⟨.hbm, 133, rfl⟩
abbrev main_cst_1 : Ref sig .tc := ⟨.hbm, 134, rfl⟩
abbrev main_call4_v0 : Ref sig .tc := ⟨.hbm, 135, rfl⟩
abbrev main_v29_1 : Ref sig .tc := ⟨.hbm, 136, rfl⟩
abbrev main_call4_v2 : Ref sig .tc := ⟨.hbm, 137, rfl⟩
abbrev main_v29_0 : Ref sig .tc := ⟨.hbm, 138, rfl⟩
abbrev main_call4_cst : Ref sig .tc := ⟨.hbm, 139, rfl⟩
abbrev main_v29_2 : Ref sig .tc := ⟨.hbm, 140, rfl⟩
abbrev main_v30 : Ref sig .tc := ⟨.hbm, 141, rfl⟩
abbrev main_cst_2 : Ref sig .tc := ⟨.hbm, 142, rfl⟩
abbrev main_call5_v0 : Ref sig .tc := ⟨.hbm, 143, rfl⟩
abbrev main_v31_1 : Ref sig .tc := ⟨.hbm, 144, rfl⟩
abbrev main_call5_v2 : Ref sig .tc := ⟨.hbm, 145, rfl⟩
abbrev main_v31_0 : Ref sig .tc := ⟨.hbm, 146, rfl⟩
abbrev main_call5_cst : Ref sig .tc := ⟨.hbm, 147, rfl⟩
abbrev main_v31_2 : Ref sig .tc := ⟨.hbm, 148, rfl⟩
abbrev main_v32 : Ref sig .tc := ⟨.hbm, 149, rfl⟩
abbrev main_v33 : Ref sig .tc := ⟨.hbm, 150, rfl⟩
abbrev main_v34 : Ref sig .tc := ⟨.hbm, 151, rfl⟩
abbrev main_v35 : Ref sig .tc := ⟨.hbm, 152, rfl⟩
abbrev main_v36 : Ref sig .tc := ⟨.hbm, 153, rfl⟩
abbrev main_v37 : Ref sig .tc := ⟨.hbm, 154, rfl⟩
abbrev main_v38 : Ref sig .tc := ⟨.hbm, 155, rfl⟩
abbrev main_call6_cst : Ref sig .tc := ⟨.hbm, 156, rfl⟩
abbrev main_call6_v0 : Ref sig .tc := ⟨.hbm, 157, rfl⟩
abbrev main_v39 : Ref sig .tc := ⟨.hbm, 158, rfl⟩
abbrev main_v40 : Ref sig .tc := ⟨.hbm, 159, rfl⟩
abbrev main_call7_cst : Ref sig .tc := ⟨.hbm, 160, rfl⟩
abbrev main_call7_v0 : Ref sig .tc := ⟨.hbm, 161, rfl⟩
abbrev main_v41 : Ref sig .tc := ⟨.hbm, 162, rfl⟩
abbrev main_call8_v0 : Ref sig .tc := ⟨.hbm, 163, rfl⟩
abbrev main_call8_v1 : Ref sig .tc := ⟨.hbm, 164, rfl⟩
abbrev main_v42 : Ref sig .tc := ⟨.hbm, 165, rfl⟩
abbrev main_v43 : Ref sig .tc := ⟨.hbm, 166, rfl⟩
abbrev main_call9_cst : Ref sig .tc := ⟨.hbm, 167, rfl⟩
abbrev main_call9_v0 : Ref sig .tc := ⟨.hbm, 168, rfl⟩
abbrev main_v44 : Ref sig .tc := ⟨.hbm, 169, rfl⟩
abbrev main_v45 : Ref sig .tc := ⟨.hbm, 170, rfl⟩
abbrev main_call10_cst : Ref sig .tc := ⟨.hbm, 171, rfl⟩
abbrev main_call10_v0 : Ref sig .tc := ⟨.hbm, 172, rfl⟩
abbrev main_v46 : Ref sig .tc := ⟨.hbm, 173, rfl⟩
abbrev main_v47 : Ref sig .tc := ⟨.hbm, 174, rfl⟩
abbrev main_v48 : Ref sig .tc := ⟨.hbm, 175, rfl⟩
abbrev main_v49 : Ref sig .tc := ⟨.hbm, 176, rfl⟩
abbrev main_cst_3 : Ref sig .tc := ⟨.hbm, 177, rfl⟩
abbrev main_v50 : Ref sig .tc := ⟨.hbm, 178, rfl⟩
abbrev main_v51 : Ref sig .tc := ⟨.hbm, 179, rfl⟩
abbrev main_v52 : Ref sig .tc := ⟨.hbm, 180, rfl⟩
abbrev main_v53 : Ref sig .tc := ⟨.hbm, 181, rfl⟩
abbrev main_v54 : Ref sig .tc := ⟨.hbm, 182, rfl⟩
abbrev main_v55 : Ref sig .tc := ⟨.hbm, 183, rfl⟩
abbrev main_v56 : Ref sig .tc := ⟨.hbm, 184, rfl⟩
abbrev main_v57 : Ref sig .tc := ⟨.hbm, 185, rfl⟩
abbrev main_v58 : Ref sig .tc := ⟨.hbm, 186, rfl⟩
abbrev main_v59 : Ref sig .tc := ⟨.hbm, 187, rfl⟩
abbrev main_v60 : Ref sig .tc := ⟨.hbm, 188, rfl⟩
abbrev main_v61 : Ref sig .tc := ⟨.hbm, 189, rfl⟩
abbrev main_v62 : Ref sig .tc := ⟨.hbm, 190, rfl⟩
abbrev main_v63 : Ref sig .tc := ⟨.hbm, 191, rfl⟩
abbrev main_v64 : Ref sig .tc := ⟨.hbm, 192, rfl⟩
abbrev main_v65 : Ref sig .tc := ⟨.hbm, 193, rfl⟩
abbrev main_v66 : Ref sig .tc := ⟨.hbm, 194, rfl⟩

abbrev nD : Nat := 1
abbrev τ : Topo := Topo.v7x

variable {F : FTy → Type} [FloatOps F]
-- ==== Kernel3.lean ====
abbrev S4096x2048 : Shape := ⟨2, ![4096, 2048]⟩
abbrev S4096x1024 : Shape := ⟨2, ![4096, 1024]⟩
abbrev S1x4x128x128 : Shape := ⟨4, ![1, 4, 128, 128]⟩
abbrev S1x512 : Shape := ⟨2, ![1, 512]⟩
abbrev S4x4096x512 : Shape := ⟨3, ![4, 4096, 512]⟩
abbrev S4x128x128 : Shape := ⟨3, ![4, 128, 128]⟩
abbrev S2048x512 : Shape := ⟨2, ![2048, 512]⟩
abbrev S1x2048x512 : Shape := ⟨3, ![1, 2048, 512]⟩
abbrev S2048x1 : Shape := ⟨2, ![2048, 1]⟩
abbrev S2048x128 : Shape := ⟨2, ![2048, 128]⟩
abbrev S1x128x128 : Shape := ⟨3, ![1, 128, 128]⟩
abbrev S128x128 : Shape := ⟨2, ![128, 128]⟩
abbrev S128 : Shape := ⟨1, ![128]⟩
abbrev S1x128 : Shape := ⟨2, ![1, 128]⟩
abbrev S1x2048x128 : Shape := ⟨3, ![1, 2048, 128]⟩

abbrev nBuf : Space → Nat
  | .hbm => 9
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S1x4x128x128, .f32⟩
  | .hbm, ⟨3, _⟩ => ⟨S1x512, .f32⟩
  | .hbm, ⟨4, _⟩ => ⟨S4x4096x512, .bf16⟩
  | .hbm, ⟨5, _⟩ => ⟨S4x128x128, .f32⟩
  | .hbm, ⟨6, _⟩ => ⟨S4x4096x512, .bf16⟩
  | .hbm, ⟨7, _⟩ => ⟨S4x128x128, .f32⟩
  | .hbm, ⟨8, _⟩ => ⟨S1x512, .f32⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S4x128x128, .f32⟩
  | .local _ .vmem, ⟨5, _⟩ => ⟨S1x512, .f32⟩
  | .local _ .vmem, ⟨6, _⟩ => ⟨S1x2048x512, .bf16⟩
  | .local _ .vmem, ⟨7, _⟩ => ⟨S1x2048x512, .bf16⟩
  | .local _ .vmem, ⟨8, _⟩ => ⟨S4x128x128, .f32⟩
  | .local _ .vmem, ⟨9, _⟩ => ⟨S1x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![2], ![false]⟩

def k0_cond3 (i : grid0.Coords) : BitVec 1 :=
  let arg0 : BitVec 32 := BitVec.ofNat 32 (i 0).val
  let c0_i32_15 : BitVec 32 := 0#32
  let v40 : BitVec 1 := Scalar.cmpi .eq arg0 c0_i32_15
  let v41 : BitVec 32 := Scalar.extui v40
  let c0_i32_17 : BitVec 32 := 0#32
  let v42 : BitVec 1 := Scalar.cmpi .ne v41 c0_i32_17
  v42

def k0_cond4 (i : grid0.Coords) : BitVec 1 :=
  let arg0 : BitVec 32 := BitVec.ofNat 32 (i 0).val
  let c0_i32_15 : BitVec 32 := 0#32
  let v40 : BitVec 1 := Scalar.cmpi .eq arg0 c0_i32_15
  let true_18 : BitVec 1 := 1#1
  let v43 : BitVec 1 := Scalar.xori v40 true_18
  let v44 : BitVec 32 := Scalar.extui v43
  let c0_i32_20 : BitVec 32 := 0#32
  let v45 : BitVec 1 := Scalar.cmpi .ne v44 c0_i32_20
  v45

def k0_cond7 (i : grid0.Coords) : BitVec 1 :=
  let arg0 : BitVec 32 := BitVec.ofNat 32 (i 0).val
  let c0_i32_50 : BitVec 32 := 0#32
  let v114 : BitVec 1 := Scalar.cmpi .eq arg0 c0_i32_50
  let v115 : BitVec 32 := Scalar.extui v114
  let c0_i32_52 : BitVec 32 := 0#32
  let v116 : BitVec 1 := Scalar.cmpi .ne v115 c0_i32_52
  v116

def k0_cond8 (i : grid0.Coords) : BitVec 1 :=
  let arg0 : BitVec 32 := BitVec.ofNat 32 (i 0).val
  let c0_i32_50 : BitVec 32 := 0#32
  let v114 : BitVec 1 := Scalar.cmpi .eq arg0 c0_i32_50
  let true_53 : BitVec 1 := 1#1
  let v117 : BitVec 1 := Scalar.xori v114 true_53
  let v118 : BitVec 32 := Scalar.extui v117
  let c0_i32_55 : BitVec 32 := 0#32
  let v119 : BitVec 1 := Scalar.cmpi .ne v118 c0_i32_55
  v119

def k0_cond11 (i : grid0.Coords) : BitVec 1 :=
  let arg0 : BitVec 32 := BitVec.ofNat 32 (i 0).val
  let c0_i32_91 : BitVec 32 := 0#32
  let v204 : BitVec 1 := Scalar.cmpi .eq arg0 c0_i32_91
  let v205 : BitVec 32 := Scalar.extui v204
  let c0_i32_93 : BitVec 32 := 0#32
  let v206 : BitVec 1 := Scalar.cmpi .ne v205 c0_i32_93
  v206

def k0_cond12 (i : grid0.Coords) : BitVec 1 :=
  let arg0 : BitVec 32 := BitVec.ofNat 32 (i 0).val
  let c0_i32_91 : BitVec 32 := 0#32
  let v204 : BitVec 1 := Scalar.cmpi .eq arg0 c0_i32_91
  let true_94 : BitVec 1 := 1#1
  let v207 : BitVec 1 := Scalar.xori v204 true_94
  let v208 : BitVec 32 := Scalar.extui v207
  let c0_i32_96 : BitVec 32 := 0#32
  let v209 : BitVec 1 := Scalar.cmpi .ne v208 c0_i32_96
  v209

def k0_cond15 (i : grid0.Coords) : BitVec 1 :=
  let arg0 : BitVec 32 := BitVec.ofNat 32 (i 0).val
  let c0_i32_138 : BitVec 32 := 0#32
  let v310 : BitVec 1 := Scalar.cmpi .eq arg0 c0_i32_138
  let v311 : BitVec 32 := Scalar.extui v310
  let c0_i32_139 : BitVec 32 := 0#32
  let v312 : BitVec 1 := Scalar.cmpi .ne v311 c0_i32_139
  v312

def k0_cond16 (i : grid0.Coords) : BitVec 1 :=
  let arg0 : BitVec 32 := BitVec.ofNat 32 (i 0).val
  let c0_i32_138 : BitVec 32 := 0#32
  let v310 : BitVec 1 := Scalar.cmpi .eq arg0 c0_i32_138
  let true_140 : BitVec 1 := 1#1
  let v313 : BitVec 1 := Scalar.xori v310 true_140
  let v314 : BitVec 32 := Scalar.extui v313
  let c0_i32_142 : BitVec 32 := 0#32
  let v315 : BitVec 1 := Scalar.cmpi .ne v314 c0_i32_142
  v315

def k0_cond1 (i : grid0.Coords) : BitVec 1 :=
  let arg0 : BitVec 32 := BitVec.ofNat 32 (i 0).val
  let c0_i32 : BitVec 32 := 0#32
  let v29 : BitVec 1 := Scalar.cmpi .eq arg0 c0_i32
  let v30 : BitVec 32 := Scalar.extui v29
  let c0_i32_10 : BitVec 32 := 0#32
  let v31 : BitVec 1 := Scalar.cmpi .ne v30 c0_i32_10
  v31

def k0_cond2 (i : grid0.Coords) : BitVec 1 :=
  let arg0 : BitVec 32 := BitVec.ofNat 32 (i 0).val
  let c0_i32 : BitVec 32 := 0#32
  let v29 : BitVec 1 := Scalar.cmpi .eq arg0 c0_i32
  let v_true : BitVec 1 := 1#1
  let v32 : BitVec 1 := Scalar.xori v29 v_true
  let v33 : BitVec 32 := Scalar.extui v32
  let c0_i32_11 : BitVec 32 := 0#32
  let v34 : BitVec 1 := Scalar.cmpi .ne v33 c0_i32_11
  v34

def k0_cond5 (i : grid0.Coords) : BitVec 1 :=
  let arg0 : BitVec 32 := BitVec.ofNat 32 (i 0).val
  let c0_i32_43 : BitVec 32 := 0#32
  let v103 : BitVec 1 := Scalar.cmpi .eq arg0 c0_i32_43
  let v104 : BitVec 32 := Scalar.extui v103
  let c0_i32_44 : BitVec 32 := 0#32
  let v105 : BitVec 1 := Scalar.cmpi .ne v104 c0_i32_44
  v105

def k0_cond6 (i : grid0.Coords) : BitVec 1 :=
  let arg0 : BitVec 32 := BitVec.ofNat 32 (i 0).val
  let c0_i32_43 : BitVec 32 := 0#32
  let v103 : BitVec 1 := Scalar.cmpi .eq arg0 c0_i32_43
  let true_45 : BitVec 1 := 1#1
  let v106 : BitVec 1 := Scalar.xori v103 true_45
  let v107 : BitVec 32 := Scalar.extui v106
  let c0_i32_46 : BitVec 32 := 0#32
  let v108 : BitVec 1 := Scalar.cmpi .ne v107 c0_i32_46
  v108

def k0_cond9 (i : grid0.Coords) : BitVec 1 :=
  let arg0 : BitVec 32 := BitVec.ofNat 32 (i 0).val
  let c0_i32_84 : BitVec 32 := 0#32
  let v193 : BitVec 1 := Scalar.cmpi .eq arg0 c0_i32_84
  let v194 : BitVec 32 := Scalar.extui v193
  let c0_i32_85 : BitVec 32 := 0#32
  let v195 : BitVec 1 := Scalar.cmpi .ne v194 c0_i32_85
  v195

def k0_cond10 (i : grid0.Coords) : BitVec 1 :=
  let arg0 : BitVec 32 := BitVec.ofNat 32 (i 0).val
  let c0_i32_84 : BitVec 32 := 0#32
  let v193 : BitVec 1 := Scalar.cmpi .eq arg0 c0_i32_84
  let true_86 : BitVec 1 := 1#1
  let v196 : BitVec 1 := Scalar.xori v193 true_86
  let v197 : BitVec 32 := Scalar.extui v196
  let c0_i32_87 : BitVec 32 := 0#32
  let v198 : BitVec 1 := Scalar.cmpi .ne v197 c0_i32_87
  v198

def k0_cond13 (i : grid0.Coords) : BitVec 1 :=
  let arg0 : BitVec 32 := BitVec.ofNat 32 (i 0).val
  let c0_i32_131 : BitVec 32 := 0#32
  let v299 : BitVec 1 := Scalar.cmpi .eq arg0 c0_i32_131
  let v300 : BitVec 32 := Scalar.extui v299
  let c0_i32_132 : BitVec 32 := 0#32
  let v301 : BitVec 1 := Scalar.cmpi .ne v300 c0_i32_132
  v301

def k0_cond14 (i : grid0.Coords) : BitVec 1 :=
  let arg0 : BitVec 32 := BitVec.ofNat 32 (i 0).val
  let c0_i32_131 : BitVec 32 := 0#32
  let v299 : BitVec 1 := Scalar.cmpi .eq arg0 c0_i32_131
  let true_133 : BitVec 1 := 1#1
  let v302 : BitVec 1 := Scalar.xori v299 true_133
  let v303 : BitVec 32 := Scalar.extui v302
  let c0_i32_134 : BitVec 32 := 0#32
  let v304 : BitVec 1 := Scalar.cmpi .ne v303 c0_i32_134
  v304

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference3Ideal.lean ====
abbrev S4096x2048 : Shape := ⟨2, ![4096, 2048]⟩
abbrev S4096x1024 : Shape := ⟨2, ![4096, 1024]⟩
abbrev S1x4x128x128 : Shape := ⟨4, ![1, 4, 128, 128]⟩
abbrev S1x512 : Shape := ⟨2, ![1, 512]⟩
abbrev S4x4096x512 : Shape := ⟨3, ![4, 4096, 512]⟩
abbrev S4096x512 : Shape := ⟨2, ![4096, 512]⟩
abbrev S2x2048x512 : Shape := ⟨3, ![2, 2048, 512]⟩
abbrev S4x128x128 : Shape := ⟨3, ![4, 128, 128]⟩
abbrev S512 : Shape := ⟨1, ![512]⟩
abbrev S_ : Shape := ⟨0, ![]⟩
abbrev S2x1x512 : Shape := ⟨3, ![2, 1, 512]⟩
abbrev S2x2049x512 : Shape := ⟨3, ![2, 2049, 512]⟩
abbrev S2048 : Shape := ⟨1, ![2048]⟩
abbrev S2x2049x128 : Shape := ⟨3, ![2, 2049, 128]⟩
abbrev S2x2048x128 : Shape := ⟨3, ![2, 2048, 128]⟩
abbrev S2048x1 : Shape := ⟨2, ![2048, 1]⟩
abbrev S1x2048x1 : Shape := ⟨3, ![1, 2048, 1]⟩
abbrev S2x2048x1x128 : Shape := ⟨4, ![2, 2048, 1, 128]⟩
abbrev S2x2048x4x128 : Shape := ⟨4, ![2, 2048, 4, 128]⟩
abbrev S4x128x2x2048 : Shape := ⟨4, ![4, 128, 2, 2048]⟩
abbrev S1x1x512 : Shape := ⟨3, ![1, 1, 512]⟩
abbrev S4x2x2048x128 : Shape := ⟨4, ![4, 2, 2048, 128]⟩
abbrev S3x4096x512 : Shape := ⟨3, ![3, 4096, 512]⟩
abbrev S1x4096x512 : Shape := ⟨3, ![1, 4096, 512]⟩

abbrev nBuf : Space → Nat
  | .hbm => 252
  | .vmem => 0
  | .smem => 0
  | _ => 0

abbrev hbmTy0_0 (i : Nat) : BufTy := match i % 128 with
  | 0 => ⟨S4096x2048, .bf16⟩
  | 1 => ⟨S4096x1024, .bf16⟩
  | 2 => ⟨S1x4x128x128, .f32⟩
  | 3 => ⟨S1x512, .f32⟩
  | 4 => ⟨S4x4096x512, .bf16⟩
  | 5 => ⟨S4096x512, .bf16⟩
  | 6 => ⟨S4096x512, .f32⟩
  | 7 => ⟨S2x2048x512, .f32⟩
  | 8 => ⟨S4096x512, .bf16⟩
  | 9 => ⟨S4096x512, .f32⟩
  | 10 => ⟨S2x2048x512, .f32⟩
  | 11 => ⟨S4x128x128, .f32⟩
  | 12 => ⟨S512, .f32⟩
  | 13 => ⟨S_, .f32⟩
  | 14 => ⟨S2x1x512, .f32⟩
  | 15 => ⟨S_, .f32⟩
  | 16 => ⟨S_, .f32⟩
  | 17 => ⟨S2x2048x512, .f32⟩
  | 18 => ⟨S2x2049x512, .f32⟩
  | 19 => ⟨S_, .f32⟩
  | 20 => ⟨S2x1x512, .f32⟩
  | 21 => ⟨S2048, .i32⟩
  | 22 => ⟨S_, .i32⟩
  | 23 => ⟨S2048, .i32⟩
  | 24 => ⟨S2048, .i32⟩
  | 25 => ⟨S_, .i32⟩
  | 26 => ⟨S2048, .i32⟩
  | 27 => ⟨S2048, .i32⟩
  | 28 => ⟨S_, .i32⟩
  | 29 => ⟨S2048, .i32⟩
  | 30 => ⟨S2048, .i32⟩
  | 31 => ⟨S_, .i32⟩
  | 32 => ⟨S2048, .i32⟩
  | 33 => ⟨S2048, .i32⟩
  | 34 => ⟨S2048, .i32⟩
  | 35 => ⟨S2048, .f32⟩
  | 36 => ⟨S2x2049x128, .f32⟩
  | 37 => ⟨S2x2048x128, .f32⟩
  | 38 => ⟨S_, .i32⟩
  | 39 => ⟨S2048, .i32⟩
  | 40 => ⟨S2048, .i1⟩
  | 41 => ⟨S_, .i32⟩
  | 42 => ⟨S2048, .i32⟩
  | 43 => ⟨S2048, .i32⟩
  | 44 => ⟨S2048, .i32⟩
  | 45 => ⟨S2048x1, .i32⟩
  | 46 => ⟨S2x2048x128, .f32⟩
  | 47 => ⟨S2x2048x128, .f32⟩
  | 48 => ⟨S1x2048x1, .f32⟩
  | 49 => ⟨S2x2048x128, .f32⟩
  | 50 => ⟨S2x2048x128, .f32⟩
  | 51 => ⟨S2x2048x128, .f32⟩
  | 52 => ⟨S2x2048x128, .f32⟩
  | 53 => ⟨S_, .i32⟩
  | 54 => ⟨S2048, .i32⟩
  | 55 => ⟨S2048, .i32⟩
  | 56 => ⟨S_, .i32⟩
  | 57 => ⟨S2048, .i32⟩
  | 58 => ⟨S2048, .i32⟩
  | 59 => ⟨S_, .i32⟩
  | 60 => ⟨S2048, .i32⟩
  | 61 => ⟨S2048, .i32⟩
  | 62 => ⟨S_, .i32⟩
  | 63 => ⟨S2048, .i32⟩
  | 64 => ⟨S2048, .i32⟩
  | 65 => ⟨S2048, .i32⟩
  | 66 => ⟨S2048, .f32⟩
  | 67 => ⟨S2x2049x128, .f32⟩
  | 68 => ⟨S2x2048x128, .f32⟩
  | 69 => ⟨S_, .i32⟩
  | 70 => ⟨S2048, .i32⟩
  | 71 => ⟨S2048, .i1⟩
  | 72 => ⟨S_, .i32⟩
  | 73 => ⟨S2048, .i32⟩
  | 74 => ⟨S2048, .i32⟩
  | 75 => ⟨S2048, .i32⟩
  | 76 => ⟨S2048x1, .i32⟩
  | 77 => ⟨S2x2048x128, .f32⟩
  | 78 => ⟨S2x2048x128, .f32⟩
  | 79 => ⟨S1x2048x1, .f32⟩
  | 80 => ⟨S2x2048x128, .f32⟩
  | 81 => ⟨S2x2048x128, .f32⟩
  | 82 => ⟨S2x2048x128, .f32⟩
  | 83 => ⟨S2x2048x128, .f32⟩
  | 84 => ⟨S_, .i32⟩
  | 85 => ⟨S2048, .i32⟩
  | 86 => ⟨S2048, .i32⟩
  | 87 => ⟨S_, .i32⟩
  | 88 => ⟨S2048, .i32⟩
  | 89 => ⟨S2048, .i32⟩
  | 90 => ⟨S_, .i32⟩
  | 91 => ⟨S2048, .i32⟩
  | 92 => ⟨S2048, .i32⟩
  | 93 => ⟨S_, .i32⟩
  | 94 => ⟨S2048, .i32⟩
  | 95 => ⟨S2048, .i32⟩
  | 96 => ⟨S2048, .i32⟩
  | 97 => ⟨S2048, .f32⟩
  | 98 => ⟨S2x2049x128, .f32⟩
  | 99 => ⟨S2x2048x128, .f32⟩
  | 100 => ⟨S_, .i32⟩
  | 101 => ⟨S2048, .i32⟩
  | 102 => ⟨S2048, .i1⟩
  | 103 => ⟨S_, .i32⟩
  | 104 => ⟨S2048, .i32⟩
  | 105 => ⟨S2048, .i32⟩
  | 106 => ⟨S2048, .i32⟩
  | 107 => ⟨S2048x1, .i32⟩
  | 108 => ⟨S2x2048x128, .f32⟩
  | 109 => ⟨S2x2048x128, .f32⟩
  | 110 => ⟨S1x2048x1, .f32⟩
  | 111 => ⟨S2x2048x128, .f32⟩
  | 112 => ⟨S2x2048x128, .f32⟩
  | 113 => ⟨S2x2048x128, .f32⟩
  | 114 => ⟨S2x2048x128, .f32⟩
  | 115 => ⟨S_, .i32⟩
  | 116 => ⟨S2048, .i32⟩
  | 117 => ⟨S2048, .i32⟩
  | 118 => ⟨S_, .i32⟩
  | 119 => ⟨S2048, .i32⟩
  | 120 => ⟨S2048, .i32⟩
  | 121 => ⟨S_, .i32⟩
  | 122 => ⟨S2048, .i32⟩
  | 123 => ⟨S2048, .i32⟩
  | 124 => ⟨S_, .i32⟩
  | 125 => ⟨S2048, .i32⟩
  | 126 => ⟨S2048, .i32⟩
  | 127 => ⟨S2048, .i32⟩
  | _ => ⟨S4096x2048, .bf16⟩

abbrev hbmTy0_1 (i : Nat) : BufTy := match i % 128 with
  | 0 => ⟨S2048, .f32⟩
  | 1 => ⟨S2x2049x128, .f32⟩
  | 2 => ⟨S2x2048x128, .f32⟩
  | 3 => ⟨S_, .i32⟩
  | 4 => ⟨S2048, .i32⟩
  | 5 => ⟨S2048, .i1⟩
  | 6 => ⟨S_, .i32⟩
  | 7 => ⟨S2048, .i32⟩
  | 8 => ⟨S2048, .i32⟩
  | 9 => ⟨S2048, .i32⟩
  | 10 => ⟨S2048x1, .i32⟩
  | 11 => ⟨S2x2048x128, .f32⟩
  | 12 => ⟨S2x2048x128, .f32⟩
  | 13 => ⟨S1x2048x1, .f32⟩
  | 14 => ⟨S2x2048x128, .f32⟩
  | 15 => ⟨S2x2048x128, .f32⟩
  | 16 => ⟨S2x2048x128, .f32⟩
  | 17 => ⟨S2x2048x128, .f32⟩
  | 18 => ⟨S2x2048x1x128, .f32⟩
  | 19 => ⟨S2x2048x1x128, .f32⟩
  | 20 => ⟨S2x2048x1x128, .f32⟩
  | 21 => ⟨S2x2048x1x128, .f32⟩
  | 22 => ⟨S2x2048x4x128, .f32⟩
  | 23 => ⟨S4x128x2x2048, .f32⟩
  | 24 => ⟨S2x2048x4x128, .f32⟩
  | 25 => ⟨S2x2048x512, .f32⟩
  | 26 => ⟨S1x1x512, .f32⟩
  | 27 => ⟨S2x2048x512, .f32⟩
  | 28 => ⟨S2x2048x512, .f32⟩
  | 29 => ⟨S2x2048x512, .f32⟩
  | 30 => ⟨S_, .f32⟩
  | 31 => ⟨S512, .f32⟩
  | 32 => ⟨S1x1x512, .f32⟩
  | 33 => ⟨S2x2048x512, .f32⟩
  | 34 => ⟨S2x2048x512, .f32⟩
  | 35 => ⟨S_, .f32⟩
  | 36 => ⟨S512, .f32⟩
  | 37 => ⟨S2x2048x4x128, .f32⟩
  | 38 => ⟨S4x128x2x2048, .f32⟩
  | 39 => ⟨S4x2x2048x128, .f32⟩
  | 40 => ⟨S2x2048x4x128, .f32⟩
  | 41 => ⟨S4x128x128, .f32⟩
  | 42 => ⟨S4x128x128, .f32⟩
  | 43 => ⟨S2x2048x1x128, .f32⟩
  | 44 => ⟨S2x2048x128, .f32⟩
  | 45 => ⟨S2x2048x1x128, .f32⟩
  | 46 => ⟨S2x2048x128, .f32⟩
  | 47 => ⟨S2x2048x1x128, .f32⟩
  | 48 => ⟨S2x2048x128, .f32⟩
  | 49 => ⟨S2x2048x1x128, .f32⟩
  | 50 => ⟨S2x2048x128, .f32⟩
  | 51 => ⟨S2x2048x128, .f32⟩
  | 52 => ⟨S_, .f32⟩
  | 53 => ⟨S2x2048x512, .f32⟩
  | 54 => ⟨S2x2048x128, .f32⟩
  | 55 => ⟨S2x2048x128, .f32⟩
  | 56 => ⟨S2x2048x128, .f32⟩
  | 57 => ⟨S_, .f32⟩
  | 58 => ⟨S2x2049x128, .f32⟩
  | 59 => ⟨S2x2049x128, .f32⟩
  | 60 => ⟨S_, .f32⟩
  | 61 => ⟨S2x2049x128, .f32⟩
  | 62 => ⟨S2x2049x128, .f32⟩
  | 63 => ⟨S_, .f32⟩
  | 64 => ⟨S2x2049x512, .f32⟩
  | 65 => ⟨S2x2048x128, .f32⟩
  | 66 => ⟨S_, .f32⟩
  | 67 => ⟨S2x2048x512, .f32⟩
  | 68 => ⟨S2x2048x512, .f32⟩
  | 69 => ⟨S2x2048x128, .f32⟩
  | 70 => ⟨S2x2048x128, .f32⟩
  | 71 => ⟨S2x2048x128, .f32⟩
  | 72 => ⟨S_, .f32⟩
  | 73 => ⟨S2x2049x128, .f32⟩
  | 74 => ⟨S2x2049x128, .f32⟩
  | 75 => ⟨S_, .f32⟩
  | 76 => ⟨S2x2049x128, .f32⟩
  | 77 => ⟨S2x2049x128, .f32⟩
  | 78 => ⟨S_, .f32⟩
  | 79 => ⟨S2x2049x512, .f32⟩
  | 80 => ⟨S2x2049x512, .f32⟩
  | 81 => ⟨S2x2048x128, .f32⟩
  | 82 => ⟨S_, .f32⟩
  | 83 => ⟨S2x2048x512, .f32⟩
  | 84 => ⟨S2x2048x512, .f32⟩
  | 85 => ⟨S2x2048x128, .f32⟩
  | 86 => ⟨S2x2048x128, .f32⟩
  | 87 => ⟨S2x2048x128, .f32⟩
  | 88 => ⟨S_, .f32⟩
  | 89 => ⟨S2x2049x128, .f32⟩
  | 90 => ⟨S2x2049x128, .f32⟩
  | 91 => ⟨S_, .f32⟩
  | 92 => ⟨S2x2049x128, .f32⟩
  | 93 => ⟨S2x2049x128, .f32⟩
  | 94 => ⟨S_, .f32⟩
  | 95 => ⟨S2x2049x512, .f32⟩
  | 96 => ⟨S2x2049x512, .f32⟩
  | 97 => ⟨S2x2048x128, .f32⟩
  | 98 => ⟨S_, .f32⟩
  | 99 => ⟨S2x2048x512, .f32⟩
  | 100 => ⟨S2x2048x512, .f32⟩
  | 101 => ⟨S2x2048x128, .f32⟩
  | 102 => ⟨S2x2048x128, .f32⟩
  | 103 => ⟨S2x2048x128, .f32⟩
  | 104 => ⟨S_, .f32⟩
  | 105 => ⟨S2x2049x128, .f32⟩
  | 106 => ⟨S2x2049x128, .f32⟩
  | 107 => ⟨S_, .f32⟩
  | 108 => ⟨S2x2049x128, .f32⟩
  | 109 => ⟨S2x2049x128, .f32⟩
  | 110 => ⟨S_, .f32⟩
  | 111 => ⟨S2x2049x512, .f32⟩
  | 112 => ⟨S2x2049x512, .f32⟩
  | 113 => ⟨S2x1x512, .f32⟩
  | 114 => ⟨S2x2048x512, .f32⟩
  | 115 => ⟨S_, .f32⟩
  | 116 => ⟨S_, .f32⟩
  | 117 => ⟨S2x2048x512, .f32⟩
  | 118 => ⟨S2x2048x512, .f32⟩
  | 119 => ⟨S3x4096x512, .bf16⟩
  | 120 => ⟨S1x4096x512, .f32⟩
  | 121 => ⟨S1x4096x512, .bf16⟩
  | 122 => ⟨S4x4096x512, .bf16⟩
  | 123 => ⟨S1x512, .f32⟩
  | _ => ⟨S4096x2048, .bf16⟩

abbrev hbmTy (i : Nat) : BufTy := match i / 128 with
  | 0 => hbmTy0_0 i
  | 1 => hbmTy0_1 i
  | _ => ⟨S4096x2048, .bf16⟩

abbrev bufTy : (tb : Table) → Fin (tcTables nBuf tb) → BufTy
  | .hbm, ⟨i, _⟩ => hbmTy i
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_call0_call0_cst : Ref sig .tc := ⟨.hbm, 15, rfl⟩
abbrev main_call0_call0_v0 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_4 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c_6 : Ref sig .tc := ⟨.hbm, 53, rfl⟩
abbrev main_v38 : Ref sig .tc := ⟨.hbm, 54, rfl⟩
abbrev main_v39 : Ref sig .tc := ⟨.hbm, 55, rfl⟩
abbrev main_c_7 : Ref sig .tc := ⟨.hbm, 56, rfl⟩
abbrev main_v40 : Ref sig .tc := ⟨.hbm, 57, rfl⟩
abbrev main_v41 : Ref sig .tc := ⟨.hbm, 58, rfl⟩
abbrev main_c_8 : Ref sig .tc := ⟨.hbm, 59, rfl⟩
abbrev main_v42 : Ref sig .tc := ⟨.hbm, 60, rfl⟩
abbrev main_v43 : Ref sig .tc := ⟨.hbm, 61, rfl⟩
abbrev main_c_9 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_c_10 : Ref sig .tc := ⟨.hbm, 69, rfl⟩
abbrev main_v50 : Ref sig .tc := ⟨.hbm, 70, rfl⟩
abbrev main_v51 : Ref sig .tc := ⟨.hbm, 71, rfl⟩
abbrev main_c_11 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_c_12 : Ref sig .tc := ⟨.hbm, 84, rfl⟩
abbrev main_v63 : Ref sig .tc := ⟨.hbm, 85, rfl⟩
abbrev main_v64 : Ref sig .tc := ⟨.hbm, 86, rfl⟩
abbrev main_c_13 : Ref sig .tc := ⟨.hbm, 87, rfl⟩
abbrev main_v65 : Ref sig .tc := ⟨.hbm, 88, rfl⟩
abbrev main_v66 : Ref sig .tc := ⟨.hbm, 89, rfl⟩
abbrev main_c_14 : Ref sig .tc := ⟨.hbm, 90, rfl⟩
abbrev main_v67 : Ref sig .tc := ⟨.hbm, 91, rfl⟩
abbrev main_v68 : Ref sig .tc := ⟨.hbm, 92, rfl⟩
abbrev main_c_15 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_c_16 : Ref sig .tc := ⟨.hbm, 100, rfl⟩
abbrev main_v75 : Ref sig .tc := ⟨.hbm, 101, rfl⟩
abbrev main_v76 : Ref sig .tc := ⟨.hbm, 102, rfl⟩
abbrev main_c_17 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_c_18 : Ref sig .tc := ⟨.hbm, 115, rfl⟩
abbrev main_v88 : Ref sig .tc := ⟨.hbm, 116, rfl⟩
abbrev main_v89 : Ref sig .tc := ⟨.hbm, 117, rfl⟩
abbrev main_c_19 : Ref sig .tc := ⟨.hbm, 118, rfl⟩
abbrev main_v90 : Ref sig .tc := ⟨.hbm, 119, rfl⟩
abbrev main_v91 : Ref sig .tc := ⟨.hbm, 120, rfl⟩
abbrev main_c_20 : Ref sig .tc := ⟨.hbm, 121, rfl⟩
abbrev main_v92 : Ref sig .tc := ⟨.hbm, 122, rfl⟩
abbrev main_v93 : Ref sig .tc := ⟨.hbm, 123, rfl⟩
abbrev main_c_21 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_c_22 : Ref sig .tc := ⟨.hbm, 131, rfl⟩
abbrev main_v100 : Ref sig .tc := ⟨.hbm, 132, rfl⟩
abbrev main_v101 : Ref sig .tc := ⟨.hbm, 133, rfl⟩
abbrev main_c_23 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_cst_24 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_cst_25 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_cst_26 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_cst_27 : Ref sig .tc := ⟨.hbm, 185, rfl⟩
abbrev main_v149 : Ref sig .tc := ⟨.hbm, 186, rfl⟩
abbrev main_v150 : Ref sig .tc := ⟨.hbm, 187, rfl⟩
abbrev main_cst_28 : Ref sig .tc := ⟨.hbm, 188, rfl⟩
abbrev main_v151 : Ref sig .tc := ⟨.hbm, 189, rfl⟩
abbrev main_v152 : Ref sig .tc := ⟨.hbm, 190, rfl⟩
abbrev main_cst_29 : Ref sig .tc := ⟨.hbm, 191, rfl⟩
abbrev main_v153 : Ref sig .tc := ⟨.hbm, 192, rfl⟩
abbrev main_v154 : Ref sig .tc := ⟨.hbm, 193, rfl⟩
abbrev main_cst_30 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_cst_31 : Ref sig .tc := ⟨.hbm, 200, rfl⟩
abbrev main_v160 : Ref sig .tc := ⟨.hbm, 201, rfl⟩
abbrev main_v161 : Ref sig .tc := ⟨.hbm, 202, rfl⟩
abbrev main_cst_32 : Ref sig .tc := ⟨.hbm, 203, rfl⟩
abbrev main_v162 : Ref sig .tc := ⟨.hbm, 204, rfl⟩
abbrev main_v163 : Ref sig .tc := ⟨.hbm, 205, rfl⟩
abbrev main_cst_33 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_cst_34 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_cst_35 : Ref sig .tc := ⟨.hbm, 216, rfl⟩
abbrev main_v172 : Ref sig .tc := ⟨.hbm, 217, rfl⟩
abbrev main_v173 : Ref sig .tc := ⟨.hbm, 218, rfl⟩
abbrev main_cst_36 : Ref sig .tc := ⟨.hbm, 219, rfl⟩
abbrev main_v174 : Ref sig .tc := ⟨.hbm, 220, rfl⟩
abbrev main_v175 : Ref sig .tc := ⟨.hbm, 221, rfl⟩
abbrev main_cst_37 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_cst_38 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_cst_39 : Ref sig .tc := ⟨.hbm, 232, rfl⟩
abbrev main_v184 : Ref sig .tc := ⟨.hbm, 233, rfl⟩
abbrev main_v185 : Ref sig .tc := ⟨.hbm, 234, rfl⟩
abbrev main_cst_40 : Ref sig .tc := ⟨.hbm, 235, rfl⟩
abbrev main_v186 : Ref sig .tc := ⟨.hbm, 236, rfl⟩
abbrev main_v187 : Ref sig .tc := ⟨.hbm, 237, rfl⟩
abbrev main_cst_41 : Ref sig .tc := ⟨.hbm, 238, rfl⟩
abbrev main_v188 : Ref sig .tc := ⟨.hbm, 239, rfl⟩
abbrev main_v189 : Ref sig .tc := ⟨.hbm, 240, rfl⟩
abbrev main_v190 : Ref sig .tc := ⟨.hbm, 241, rfl⟩
abbrev main_v191 : Ref sig .tc := ⟨.hbm, 242, rfl⟩
abbrev main_call1_call0_cst : Ref sig .tc := ⟨.hbm, 243, rfl⟩
abbrev main_call1_call0_v0 : Ref sig .tc := ⟨.hbm, 244, rfl⟩
abbrev main_v192 : Ref sig .tc := ⟨.hbm, 245, rfl⟩
abbrev main_v193 : Ref sig .tc := ⟨.hbm, 246, rfl⟩
abbrev main_v194 : Ref sig .tc := ⟨.hbm, 247, rfl⟩
abbrev main_v195 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩

abbrev nD : Nat := 1
abbrev τ : Topo := Topo.v7x

variable {F : FTy → Type} [FloatOps F]
-- ==== Kernel4.lean ====
abbrev S4x4096x512 : Shape := ⟨3, ![4, 4096, 512]⟩
abbrev S1x1024x2048 : Shape := ⟨3, ![1, 1024, 2048]⟩
abbrev S4096x1024 : Shape := ⟨2, ![4096, 1024]⟩
abbrev S1x1024 : Shape := ⟨2, ![1, 1024]⟩
abbrev S2x6x1024 : Shape := ⟨3, ![2, 6, 1024]⟩
abbrev S1024x2048 : Shape := ⟨2, ![1024, 2048]⟩
abbrev S2048x1024 : Shape := ⟨2, ![2048, 1024]⟩
abbrev S4x512x1024 : Shape := ⟨3, ![4, 512, 1024]⟩
abbrev S2x1x1024 : Shape := ⟨3, ![2, 1, 1024]⟩
abbrev S4x512x512 : Shape := ⟨3, ![4, 512, 512]⟩
abbrev S512x1024 : Shape := ⟨2, ![512, 1024]⟩
abbrev S1x6x1024 : Shape := ⟨3, ![1, 6, 1024]⟩
abbrev S1x1x1024 : Shape := ⟨3, ![1, 1, 1024]⟩
abbrev S1x512x512 : Shape := ⟨3, ![1, 512, 512]⟩
abbrev S512x512 : Shape := ⟨2, ![512, 512]⟩
abbrev S1x512x256 : Shape := ⟨3, ![1, 512, 256]⟩
abbrev S512x256 : Shape := ⟨2, ![512, 256]⟩
abbrev S64x1024 : Shape := ⟨2, ![64, 1024]⟩
abbrev S64 : Shape := ⟨1, ![64]⟩
abbrev S64x1 : Shape := ⟨2, ![64, 1]⟩
abbrev S1024 : Shape := ⟨1, ![1024]⟩

abbrev nBuf : Space → Nat
  | .hbm => 14
  | .vmem => 18
  | .smem => 0
  | _ => 0

abbrev bufTy : (tb : Table) → Fin (tcTables nBuf tb) → BufTy
  | .hbm, ⟨0, _⟩ => ⟨S4x4096x512, .bf16⟩
  | .hbm, ⟨1, _⟩ => ⟨S1x1024x2048, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S2x6x1024, .f32⟩
  | .hbm, ⟨6, _⟩ => ⟨S1024x2048, .f32⟩
  | .hbm, ⟨7, _⟩ => ⟨S2048x1024, .f32⟩
  | .hbm, ⟨8, _⟩ => ⟨S2048x1024, .bf16⟩
  | .hbm, ⟨9, _⟩ => ⟨S4x512x1024, .bf16⟩
  | .hbm, ⟨10, _⟩ => ⟨S4096x1024, .f32⟩
  | .hbm, ⟨11, _⟩ => ⟨S2x1x1024, .f32⟩
  | .hbm, ⟨12, _⟩ => ⟨S2x1x1024, .f32⟩
  | .hbm, ⟨13, _⟩ => ⟨S1x1024, .f32⟩
  | .local _ .vmem, ⟨0, _⟩ => ⟨S4x512x512, .bf16⟩
  | .local _ .vmem, ⟨1, _⟩ => ⟨S4x512x512, .bf16⟩
  | .local _ .vmem, ⟨2, _⟩ => ⟨S4x512x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x6x1024, .f32⟩
  | .local _ .vmem, ⟨9, _⟩ => ⟨S1x6x1024, .f32⟩
  | .local _ .vmem, ⟨10, _⟩ => ⟨S512x1024, .f32⟩
  | .local _ .vmem, ⟨11, _⟩ => ⟨S512x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1024, .f32⟩
  | .local _ .vmem, ⟨17, _⟩ => ⟨S512x1024, .f32⟩
  | _, _ => ⟨S4x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![9], ![false]⟩

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c8_i32 : BitVec 32 := 8#32
  let v4 : BitVec 1 := Scalar.cmpi .slt arg0 c8_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond9 (i : grid0.Coords) : BitVec 1 :=
  let arg0 : BitVec 32 := BitVec.ofNat 32 (i 0).val
  let c8_i32_3 : BitVec 32 := 8#32
  let v8 : BitVec 1 := Scalar.cmpi .eq arg0 c8_i32_3
  let v9 : BitVec 32 := Scalar.extui v8
  let c0_i32_4 : BitVec 32 := 0#32
  let v10 : BitVec 1 := Scalar.cmpi .ne v9 c0_i32_4
  v10

def k0_cond3 (i : grid0.Coords) : BitVec 1 :=
  let arg0 : BitVec 32 := BitVec.ofNat 32 (i 0).val
  let c1_i32 : BitVec 32 := 1#32
  let v12 : BitVec 32 := Scalar.subi arg0 c1_i32
  let c4_i32 : BitVec 32 := 4#32
  let c0_i32_6 : BitVec 32 := 0#32
  let v13 : BitVec 1 := Scalar.cmpi .eq c4_i32 c0_i32_6
  let c1_i32_7 : BitVec 32 := 1#32
  let v14 : BitVec 32 := Scalar.select v13 c1_i32_7 c4_i32
  let v15 : BitVec 32 := Scalar.remsi v12 v14
  let c0_i32_9 : BitVec 32 := 0#32
  let v17 : BitVec 1 := Scalar.cmpi .slt v15 c0_i32_9
  let c0_i32_10 : BitVec 32 := 0#32
  let v18 : BitVec 1 := Scalar.cmpi .slt v14 c0_i32_10
  let v19 : BitVec 1 := Scalar.xori v17 v18
  let c0_i32_8 : BitVec 32 := 0#32
  let v16 : BitVec 1 := Scalar.cmpi .ne v15 c0_i32_8
  let v20 : BitVec 1 := Scalar.andi v19 v16
  let v21 : BitVec 32 := Scalar.addi v15 v14
  let v22 : BitVec 32 := Scalar.select v20 v21 v15
  let c0_i32_11 : BitVec 32 := 0#32
  let v23 : BitVec 1 := Scalar.cmpi .eq v22 c0_i32_11
  let v38 : BitVec 32 := Scalar.extui v23
  let c0_i32_19 : BitVec 32 := 0#32
  let v39 : BitVec 1 := Scalar.cmpi .ne v38 c0_i32_19
  v39

def k0_cond4 (i : grid0.Coords) : BitVec 1 :=
  let arg0 : BitVec 32 := BitVec.ofNat 32 (i 0).val
  let c1_i32 : BitVec 32 := 1#32
  let v12 : BitVec 32 := Scalar.subi arg0 c1_i32
  let c4_i32 : BitVec 32 := 4#32
  let c0_i32_6 : BitVec 32 := 0#32
  let v13 : BitVec 1 := Scalar.cmpi .eq c4_i32 c0_i32_6
  let c1_i32_7 : BitVec 32 := 1#32
  let v14 : BitVec 32 := Scalar.select v13 c1_i32_7 c4_i32
  let v15 : BitVec 32 := Scalar.remsi v12 v14
  let c0_i32_9 : BitVec 32 := 0#32
  let v17 : BitVec 1 := Scalar.cmpi .slt v15 c0_i32_9
  let c0_i32_10 : BitVec 32 := 0#32
  let v18 : BitVec 1 := Scalar.cmpi .slt v14 c0_i32_10
  let v19 : BitVec 1 := Scalar.xori v17 v18
  let c0_i32_8 : BitVec 32 := 0#32
  let v16 : BitVec 1 := Scalar.cmpi .ne v15 c0_i32_8
  let v20 : BitVec 1 := Scalar.andi v19 v16
  let v21 : BitVec 32 := Scalar.addi v15 v14
  let v22 : BitVec 32 := Scalar.select v20 v21 v15
  let c0_i32_11 : BitVec 32 := 0#32
  let v23 : BitVec 1 := Scalar.cmpi .eq v22 c0_i32_11
  let v_true : BitVec 1 := 1#1
  let v40 : BitVec 1 := Scalar.xori v23 v_true
  let v41 : BitVec 32 := Scalar.extui v40
  let c0_i32_20 : BitVec 32 := 0#32
  let v42 : BitVec 1 := Scalar.cmpi .ne v41 c0_i32_20
  v42

def k0_cond10 (i : grid0.Coords) : BitVec 1 :=
  let arg0 : BitVec 32 := BitVec.ofNat 32 (i 0).val
  let c1_i32 : BitVec 32 := 1#32
  let v12 : BitVec 32 := Scalar.subi arg0 c1_i32
  let c4_i32 : BitVec 32 := 4#32
  let c0_i32_6 : BitVec 32 := 0#32
  let v13 : BitVec 1 := Scalar.cmpi .eq c4_i32 c0_i32_6
  let c1_i32_7 : BitVec 32 := 1#32
  let v14 : BitVec 32 := Scalar.select v13 c1_i32_7 c4_i32
  let v15 : BitVec 32 := Scalar.remsi v12 v14
  let c0_i32_9 : BitVec 32 := 0#32
  let v17 : BitVec 1 := Scalar.cmpi .slt v15 c0_i32_9
  let c0_i32_10 : BitVec 32 := 0#32
  let v18 : BitVec 1 := Scalar.cmpi .slt v14 c0_i32_10
  let v19 : BitVec 1 := Scalar.xori v17 v18
  let c0_i32_8 : BitVec 32 := 0#32
  let v16 : BitVec 1 := Scalar.cmpi .ne v15 c0_i32_8
  let v20 : BitVec 1 := Scalar.andi v19 v16
  let v21 : BitVec 32 := Scalar.addi v15 v14
  let v22 : BitVec 32 := Scalar.select v20 v21 v15
  let c0_i32_11 : BitVec 32 := 0#32
  let v23 : BitVec 1 := Scalar.cmpi .eq v22 c0_i32_11
  let v38 : BitVec 32 := Scalar.extui v23
  let c0_i32_19 : BitVec 32 := 0#32
  let v39 : BitVec 1 := Scalar.cmpi .ne v38 c0_i32_19
  v39

def k0_cond11 (i : grid0.Coords) : BitVec 1 :=
  let arg0 : BitVec 32 := BitVec.ofNat 32 (i 0).val
  let c1_i32 : BitVec 32 := 1#32
  let v12 : BitVec 32 := Scalar.subi arg0 c1_i32
  let c4_i32 : BitVec 32 := 4#32
  let c0_i32_6 : BitVec 32 := 0#32
  let v13 : BitVec 1 := Scalar.cmpi .eq c4_i32 c0_i32_6
  let c1_i32_7 : BitVec 32 := 1#32
  let v14 : BitVec 32 := Scalar.select v13 c1_i32_7 c4_i32
  let v15 : BitVec 32 := Scalar.remsi v12 v14
  let c0_i32_9 : BitVec 32 := 0#32
  let v17 : BitVec 1 := Scalar.cmpi .slt v15 c0_i32_9
  let c0_i32_10 : BitVec 32 := 0#32
  let v18 : BitVec 1 := Scalar.cmpi .slt v14 c0_i32_10
  let v19 : BitVec 1 := Scalar.xori v17 v18
  let c0_i32_8 : BitVec 32 := 0#32
  let v16 : BitVec 1 := Scalar.cmpi .ne v15 c0_i32_8
  let v20 : BitVec 1 := Scalar.andi v19 v16
  let v21 : BitVec 32 := Scalar.addi v15 v14
  let v22 : BitVec 32 := Scalar.select v20 v21 v15
  let c0_i32_11 : BitVec 32 := 0#32
  let v23 : BitVec 1 := Scalar.cmpi .eq v22 c0_i32_11
  let v_true : BitVec 1 := 1#1
  let v40 : BitVec 1 := Scalar.xori v23 v_true
  let v41 : BitVec 32 := Scalar.extui v40
  let c0_i32_20 : BitVec 32 := 0#32
  let v42 : BitVec 1 := Scalar.cmpi .ne v41 c0_i32_20
  v42

def k0_cond5 (i : grid0.Coords) : BitVec 1 :=
  let arg0 : BitVec 32 := BitVec.ofNat 32 (i 0).val
  let c1_i32 : BitVec 32 := 1#32
  let v12 : BitVec 32 := Scalar.subi arg0 c1_i32
  let c4_i32 : BitVec 32 := 4#32
  let c0_i32_6 : BitVec 32 := 0#32
  let v13 : BitVec 1 := Scalar.cmpi .eq c4_i32 c0_i32_6
  let c1_i32_7 : BitVec 32 := 1#32
  let v14 : BitVec 32 := Scalar.select v13 c1_i32_7 c4_i32
  let v15 : BitVec 32 := Scalar.remsi v12 v14
  let c0_i32_9 : BitVec 32 := 0#32
  let v17 : BitVec 1 := Scalar.cmpi .slt v15 c0_i32_9
  let c0_i32_10 : BitVec 32 := 0#32
  let v18 : BitVec 1 := Scalar.cmpi .slt v14 c0_i32_10
  let v19 : BitVec 1 := Scalar.xori v17 v18
  let c0_i32_8 : BitVec 32 := 0#32
  let v16 : BitVec 1 := Scalar.cmpi .ne v15 c0_i32_8
  let v20 : BitVec 1 := Scalar.andi v19 v16
  let v21 : BitVec 32 := Scalar.addi v15 v14
  let v22 : BitVec 32 := Scalar.select v20 v21 v15
  let c0_i32_11 : BitVec 32 := 0#32
  let v23 : BitVec 1 := Scalar.cmpi .eq v22 c0_i32_11
  let v48 : BitVec 32 := Scalar.extui v23
  let c0_i32_22 : BitVec 32 := 0#32
  let v49 : BitVec 1 := Scalar.cmpi .ne v48 c0_i32_22
  v49

def k0_cond6 (i : grid0.Coords) : BitVec 1 :=
  let arg0 : BitVec 32 := BitVec.ofNat 32 (i 0).val
  let c1_i32 : BitVec 32 := 1#32
  let v12 : BitVec 32 := Scalar.subi arg0 c1_i32
  let c4_i32 : BitVec 32 := 4#32
  let c0_i32_6 : BitVec 32 := 0#32
  let v13 : BitVec 1 := Scalar.cmpi .eq c4_i32 c0_i32_6
  let c1_i32_7 : BitVec 32 := 1#32
  let v14 : BitVec 32 := Scalar.select v13 c1_i32_7 c4_i32
  let v15 : BitVec 32 := Scalar.remsi v12 v14
  let c0_i32_9 : BitVec 32 := 0#32
  let v17 : BitVec 1 := Scalar.cmpi .slt v15 c0_i32_9
  let c0_i32_10 : BitVec 32 := 0#32
  let v18 : BitVec 1 := Scalar.cmpi .slt v14 c0_i32_10
  let v19 : BitVec 1 := Scalar.xori v17 v18
  let c0_i32_8 : BitVec 32 := 0#32
  let v16 : BitVec 1 := Scalar.cmpi .ne v15 c0_i32_8
  let v20 : BitVec 1 := Scalar.andi v19 v16
  let v21 : BitVec 32 := Scalar.addi v15 v14
  let v22 : BitVec 32 := Scalar.select v20 v21 v15
  let c0_i32_11 : BitVec 32 := 0#32
  let v23 : BitVec 1 := Scalar.cmpi .eq v22 c0_i32_11
  let true_23 : BitVec 1 := 1#1
  let v50 : BitVec 1 := Scalar.xori v23 true_23
  let v51 : BitVec 32 := Scalar.extui v50
  let c0_i32_24 : BitVec 32 := 0#32
  let v52 : BitVec 1 := Scalar.cmpi .ne v51 c0_i32_24
  v52

def k0_cond12 (i : grid0.Coords) : BitVec 1 :=
  let arg0 : BitVec 32 := BitVec.ofNat 32 (i 0).val
  let c1_i32 : BitVec 32 := 1#32
  let v12 : BitVec 32 := Scalar.subi arg0 c1_i32
  let c4_i32 : BitVec 32 := 4#32
  let c0_i32_6 : BitVec 32 := 0#32
  let v13 : BitVec 1 := Scalar.cmpi .eq c4_i32 c0_i32_6
  let c1_i32_7 : BitVec 32 := 1#32
  let v14 : BitVec 32 := Scalar.select v13 c1_i32_7 c4_i32
  let v15 : BitVec 32 := Scalar.remsi v12 v14
  let c0_i32_9 : BitVec 32 := 0#32
  let v17 : BitVec 1 := Scalar.cmpi .slt v15 c0_i32_9
  let c0_i32_10 : BitVec 32 := 0#32
  let v18 : BitVec 1 := Scalar.cmpi .slt v14 c0_i32_10
  let v19 : BitVec 1 := Scalar.xori v17 v18
  let c0_i32_8 : BitVec 32 := 0#32
  let v16 : BitVec 1 := Scalar.cmpi .ne v15 c0_i32_8
  let v20 : BitVec 1 := Scalar.andi v19 v16
  let v21 : BitVec 32 := Scalar.addi v15 v14
  let v22 : BitVec 32 := Scalar.select v20 v21 v15
  let c0_i32_11 : BitVec 32 := 0#32
  let v23 : BitVec 1 := Scalar.cmpi .eq v22 c0_i32_11
  let v48 : BitVec 32 := Scalar.extui v23
  let c0_i32_22 : BitVec 32 := 0#32
  let v49 : BitVec 1 := Scalar.cmpi .ne v48 c0_i32_22
  v49

def k0_cond13 (i : grid0.Coords) : BitVec 1 :=
  let arg0 : BitVec 32 := BitVec.ofNat 32 (i 0).val
  let c1_i32 : BitVec 32 := 1#32
  let v12 : BitVec 32 := Scalar.subi arg0 c1_i32
  let c4_i32 : BitVec 32 := 4#32
  let c0_i32_6 : BitVec 32 := 0#32
  let v13 : BitVec 1 := Scalar.cmpi .eq c4_i32 c0_i32_6
  let c1_i32_7 : BitVec 32 := 1#32
  let v14 : BitVec 32 := Scalar.select v13 c1_i32_7 c4_i32
  let v15 : BitVec 32 := Scalar.remsi v12 v14
  let c0_i32_9 : BitVec 32 := 0#32
  let v17 : BitVec 1 := Scalar.cmpi .slt v15 c0_i32_9
  let c0_i32_10 : BitVec 32 := 0#32
  let v18 : BitVec 1 := Scalar.cmpi .slt v14 c0_i32_10
  let v19 : BitVec 1 := Scalar.xori v17 v18
  let c0_i32_8 : BitVec 32 := 0#32
  let v16 : BitVec 1 := Scalar.cmpi .ne v15 c0_i32_8
  let v20 : BitVec 1 := Scalar.andi v19 v16
  let v21 : BitVec 32 := Scalar.addi v15 v14
  let v22 : BitVec 32 := Scalar.select v20 v21 v15
  let c0_i32_11 : BitVec 32 := 0#32
  let v23 : BitVec 1 := Scalar.cmpi .eq v22 c0_i32_11
  let true_23 : BitVec 1 := 1#1
  let v50 : BitVec 1 := Scalar.xori v23 true_23
  let v51 : BitVec 32 := Scalar.extui v50
  let c0_i32_24 : BitVec 32 := 0#32
  let v52 : BitVec 1 := Scalar.cmpi .ne v51 c0_i32_24
  v52

def k0_cond7 (i : grid0.Coords) : BitVec 1 :=
  let arg0 : BitVec 32 := BitVec.ofNat 32 (i 0).val
  let c1_i32 : BitVec 32 := 1#32
  let v12 : BitVec 32 := Scalar.subi arg0 c1_i32
  let c0_i32_29 : BitVec 32 := 0#32
  let v62 : BitVec 1 := Scalar.cmpi .eq v12 c0_i32_29
  let v63 : BitVec 32 := Scalar.extui v62
  let c0_i32_30 : BitVec 32 := 0#32
  let v64 : BitVec 1 := Scalar.cmpi .ne v63 c0_i32_30
  v64

def k0_cond8 (i : grid0.Coords) : BitVec 1 :=
  let arg0 : BitVec 32 := BitVec.ofNat 32 (i 0).val
  let c1_i32 : BitVec 32 := 1#32
  let v12 : BitVec 32 := Scalar.subi arg0 c1_i32
  let c0_i32_29 : BitVec 32 := 0#32
  let v62 : BitVec 1 := Scalar.cmpi .eq v12 c0_i32_29
  let true_31 : BitVec 1 := 1#1
  let v65 : BitVec 1 := Scalar.xori v62 true_31
  let v66 : BitVec 32 := Scalar.extui v65
  let c0_i32_32 : BitVec 32 := 0#32
  let v67 : BitVec 1 := Scalar.cmpi .ne v66 c0_i32_32
  v67

def k0_cond14 (i : grid0.Coords) : BitVec 1 :=
  let arg0 : BitVec 32 := BitVec.ofNat 32 (i 0).val
  let c1_i32 : BitVec 32 := 1#32
  let v12 : BitVec 32 := Scalar.subi arg0 c1_i32
  let c0_i32_29 : BitVec 32 := 0#32
  let v62 : BitVec 1 := Scalar.cmpi .eq v12 c0_i32_29
  let v63 : BitVec 32 := Scalar.extui v62
  let c0_i32_30 : BitVec 32 := 0#32
  let v64 : BitVec 1 := Scalar.cmpi .ne v63 c0_i32_30
  v64

def k0_cond15 (i : grid0.Coords) : BitVec 1 :=
  let arg0 : BitVec 32 := BitVec.ofNat 32 (i 0).val
  let c1_i32 : BitVec 32 := 1#32
  let v12 : BitVec 32 := Scalar.subi arg0 c1_i32
  let c0_i32_29 : BitVec 32 := 0#32
  let v62 : BitVec 1 := Scalar.cmpi .eq v12 c0_i32_29
  let true_31 : BitVec 1 := 1#1
  let v65 : BitVec 1 := Scalar.xori v62 true_31
  let v66 : BitVec 32 := Scalar.extui v65
  let c0_i32_32 : BitVec 32 := 0#32
  let v67 : BitVec 1 := Scalar.cmpi .ne v66 c0_i32_32
  v67

def cc0_transform_0 (i : grid0.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  let c0_i32_8 : BitVec 32 := 0#32
  ![v18.toNat, c0_i32_6.toNat, c0_i32_7.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  let c0_i32_8 : BitVec 32 := 0#32
  ![v18.toNat, c0_i32_6.toNat, c0_i32_7.toNat]

def cc0_transform_8 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  let c0_i32_8 : BitVec 32 := 0#32
  ![v18.toNat, c0_i32_6.toNat, c0_i32_7.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference4Ideal.lean ====
abbrev S4x4096x512 : Shape := ⟨3, ![4, 4096, 512]⟩
abbrev S1x1024x2048 : Shape := ⟨3, ![1, 1024, 2048]⟩
abbrev S4096x1024 : Shape := ⟨2, ![4096, 1024]⟩
abbrev S1x1024 : Shape := ⟨2, ![1, 1024]⟩
abbrev S2x6x1024 : Shape := ⟨3, ![2, 6, 1024]⟩
abbrev S4096x4x512 : Shape := ⟨3, ![4096, 4, 512]⟩
abbrev S2x2048x2048 : Shape := ⟨3, ![2, 2048, 2048]⟩
abbrev S2x2048x1024 : Shape := ⟨3, ![2, 2048, 1024]⟩
abbrev S1024 : Shape := ⟨1, ![1024]⟩
abbrev S2x1x1024 : Shape := ⟨3, ![2, 1, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024x2048 : Shape := ⟨2, ![1024, 2048]⟩
abbrev S2x1024 : Shape := ⟨2, ![2, 1024]⟩

abbrev nBuf : Space → Nat
  | .hbm => 81
  | .vmem => 0
  | .smem => 0
  | _ => 0

abbrev bufTy : (tb : Table) → Fin (tcTables nBuf tb) → BufTy
  | .hbm, ⟨0, _⟩ => ⟨S4x4096x512, .bf16⟩
  | .hbm, ⟨1, _⟩ => ⟨S1x1024x2048, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S2x6x1024, .f32⟩
  | .hbm, ⟨6, _⟩ => ⟨S4x4096x512, .f32⟩
  | .hbm, ⟨7, _⟩ => ⟨S4096x4x512, .f32⟩
  | .hbm, ⟨8, _⟩ => ⟨S2x2048x2048, .f32⟩
  | .hbm, ⟨9, _⟩ => ⟨S2x2048x1024, .f32⟩
  | .hbm, ⟨10, _⟩ => ⟨S1024, .f32⟩
  | .hbm, ⟨11, _⟩ => ⟨S2x1x1024, .f32⟩
  | .hbm, ⟨12, _⟩ => ⟨S2x1x1024, .f32⟩
  | .hbm, ⟨13, _⟩ => ⟨S2x2048x1024, .f32⟩
  | .hbm, ⟨14, _⟩ => ⟨S_, .f32⟩
  | .hbm, ⟨15, _⟩ => ⟨S2x2048, .f32⟩
  | .hbm, ⟨16, _⟩ => ⟨S2x2048x1, .f32⟩
  | .hbm, ⟨17, _⟩ => ⟨S_, .f32⟩
  | .hbm, ⟨18, _⟩ => ⟨S2x2048x1, .f32⟩
  | .hbm, ⟨19, _⟩ => ⟨S2x2048x1, .f32⟩
  | .hbm, ⟨20, _⟩ => ⟨S_, .f32⟩
  | .hbm, ⟨21, _⟩ => ⟨S2x2048x1, .f32⟩
  | .hbm, ⟨22, _⟩ => ⟨S2x2048x1, .f32⟩
  | .hbm, ⟨23, _⟩ => ⟨S2x2048x1, .f32⟩
  | .hbm, ⟨24, _⟩ => ⟨S2x2048x1, .f32⟩
  | .hbm, ⟨25, _⟩ => ⟨S_, .f32⟩
  | .hbm, ⟨26, _⟩ => ⟨S2x2048x1, .f32⟩
  | .hbm, ⟨27, _⟩ => ⟨S2x2048x1, .f32⟩
  | .hbm, ⟨28, _⟩ => ⟨S2x2048x1024, .f32⟩
  | .hbm, ⟨29, _⟩ => ⟨S2x2048x1024, .f32⟩
  | .hbm, ⟨30, _⟩ => ⟨S1x1x1024, .f32⟩
  | .hbm, ⟨31, _⟩ => ⟨S2x2048x1024, .f32⟩
  | .hbm, ⟨32, _⟩ => ⟨S2x2048x1024, .f32⟩
  | .hbm, ⟨33, _⟩ => ⟨S_, .f32⟩
  | .hbm, ⟨34, _⟩ => ⟨S2x1x1024, .f32⟩
  | .hbm, ⟨35, _⟩ => ⟨S2x1x1024, .f32⟩
  | .hbm, ⟨36, _⟩ => ⟨S2x2048x1024, .f32⟩
  | .hbm, ⟨37, _⟩ => ⟨S2x2048x1024, .f32⟩
  | .hbm, ⟨38, _⟩ => ⟨S2x2048x1024, .f32⟩
  | .hbm, ⟨39, _⟩ => ⟨S2x2048x1024, .f32⟩
  | .hbm, ⟨40, _⟩ => ⟨S1024x2048, .f32⟩
  | .hbm, ⟨41, _⟩ => ⟨S2x2048x2048, .f32⟩
  | .hbm, ⟨42, _⟩ => ⟨S2x2048x1024, .f32⟩
  | .hbm, ⟨43, _⟩ => ⟨S2x2048x1024, .f32⟩
  | .hbm, ⟨44, _⟩ => ⟨S_, .f32⟩
  | .hbm, ⟨45, _⟩ => ⟨S2x1024, .f32⟩
  | .hbm, ⟨46, _⟩ => ⟨S2x1x1024, .f32⟩
  | .hbm, ⟨47, _⟩ => ⟨S2x2048x1024, .f32⟩
  | .hbm, ⟨48, _⟩ => ⟨S_, .f32⟩
  | .hbm, ⟨49, _⟩ => ⟨S2x1024, .f32⟩
  | .hbm, ⟨50, _⟩ => ⟨S2x1x1024, .f32⟩
  | .hbm, ⟨51, _⟩ => ⟨S2x2048x1024, .f32⟩
  | .hbm, ⟨52, _⟩ => ⟨S2x2048x1024, .f32⟩
  | .hbm, ⟨53, _⟩ => ⟨S2x2048x1024, .f32⟩
  | .hbm, ⟨54, _⟩ => ⟨S_, .f32⟩
  | .hbm, ⟨55, _⟩ => ⟨S1024, .f32⟩
  | .hbm, ⟨56, _⟩ => ⟨S1x1x1024, .f32⟩
  | .hbm, ⟨57, _⟩ => ⟨S2x2048x1024, .f32⟩
  | .hbm, ⟨58, _⟩ => ⟨S2x2048x1024, .f32⟩
  | .hbm, ⟨59, _⟩ => ⟨S_, .f32⟩
  | .hbm, ⟨60, _⟩ => ⟨S1024, .f32⟩
  | .hbm, ⟨61, _⟩ => ⟨S2x2048x1024, .f32⟩
  | .hbm, ⟨62, _⟩ => ⟨S_, .f32⟩
  | .hbm, ⟨63, _⟩ => ⟨S2x2048, .f32⟩
  | .hbm, ⟨64, _⟩ => ⟨S2x2048x1, .f32⟩
  | .hbm, ⟨65, _⟩ => ⟨S2x2048x1024, .f32⟩
  | .hbm, ⟨66, _⟩ => ⟨S2x2048x1024, .f32⟩
  | .hbm, ⟨67, _⟩ => ⟨S2x2048x1024, .f32⟩
  | .hbm, ⟨68, _⟩ => ⟨S2x2048x1, .f32⟩
  | .hbm, ⟨69, _⟩ => ⟨S_, .f32⟩
  | .hbm, ⟨70, _⟩ => ⟨S2x2048x1, .f32⟩
  | .hbm, ⟨71, _⟩ => ⟨S2x2048x1, .f32⟩
  | .hbm, ⟨72, _⟩ => ⟨S_, .f32⟩
  | .hbm, ⟨73, _⟩ => ⟨S2x2048, .f32⟩
  | .hbm, ⟨74, _⟩ => ⟨S2x2048x1024, .f32⟩
  | .hbm, ⟨75, _⟩ => ⟨S2x2048x1024, .f32⟩
  | .hbm, ⟨76, _⟩ => ⟨S2x2048x1024, .f32⟩
  | .hbm, ⟨77, _⟩ => ⟨S2x2048x1024, .f32⟩
  | .hbm, ⟨78, _⟩ => ⟨S2x2048x1024, .f32⟩
  | .hbm, ⟨79, _⟩ => ⟨S4096x1024, .f32⟩
  | .hbm, ⟨80, _⟩ => ⟨S1x1024, .f32⟩
  | _, _ => ⟨S4x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_6 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_7 : Ref sig .tc := ⟨.hbm, 59, rfl⟩
abbrev main_v45 : Ref sig .tc := ⟨.hbm, 60, rfl⟩
abbrev main_v46 : Ref sig .tc := ⟨.hbm, 61, rfl⟩
abbrev main_cst_8 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_9 : Ref sig .tc := ⟨.hbm, 69, rfl⟩
abbrev main_v53 : Ref sig .tc := ⟨.hbm, 70, rfl⟩
abbrev main_v54 : Ref sig .tc := ⟨.hbm, 71, rfl⟩
abbrev main_cst_10 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩

abbrev nD : Nat := 1
abbrev τ : Topo := Topo.v7x

variable {F : FTy → Type} [FloatOps F]
-- ==== Kernel5.lean ====
abbrev S4096x2816 : Shape := ⟨2, ![4096, 2816]⟩
abbrev S1x2816x1024 : Shape := ⟨3, ![1, 2816, 1024]⟩
abbrev S4096x1024 : Shape := ⟨2, ![4096, 1024]⟩
abbrev S1x1024 : Shape := ⟨2, ![1, 1024]⟩
abbrev S2x6x1024 : Shape := ⟨3, ![2, 6, 1024]⟩
abbrev S2816x1024 : Shape := ⟨2, ![2816, 1024]⟩
abbrev S1x128 : Shape := ⟨2, ![1, 128]⟩
abbrev S2x1x1024 : Shape := ⟨3, ![2, 1, 1024]⟩
abbrev S512x2816 : Shape := ⟨2, ![512, 2816]⟩
abbrev S512x1024 : Shape := ⟨2, ![512, 1024]⟩
abbrev S1x6x1024 : Shape := ⟨3, ![1, 6, 1024]⟩
abbrev S1x1x1024 : Shape := ⟨3, ![1, 1, 1024]⟩
abbrev S2816x256 : Shape := ⟨2, ![2816, 256]⟩
abbrev S512x256 : Shape := ⟨2, ![512, 256]⟩
abbrev S64x1024 : Shape := ⟨2, ![64, 1024]⟩
abbrev S64 : Shape := ⟨1, ![64]⟩
abbrev S64x1 : Shape := ⟨2, ![64, 1]⟩
abbrev S1024 : Shape := ⟨1, ![1024]⟩
abbrev S1 : Shape := ⟨1, ![1]⟩
abbrev S1x1 : Shape := ⟨2, ![1, 1]⟩

abbrev nBuf : Space → Nat
  | .hbm => 13
  | .vmem => 19
  | .smem => 0
  | _ => 0

abbrev bufTy : (tb : Table) → Fin (tcTables nBuf tb) → BufTy
  | .hbm, ⟨0, _⟩ => ⟨S4096x2816, .bf16⟩
  | .hbm, ⟨1, _⟩ => ⟨S1x2816x1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S2x6x1024, .f32⟩
  | .hbm, ⟨6, _⟩ => ⟨S2816x1024, .f32⟩
  | .hbm, ⟨7, _⟩ => ⟨S2816x1024, .bf16⟩
  | .hbm, ⟨8, _⟩ => ⟨S1x128, .f32⟩
  | .hbm, ⟨9, _⟩ => ⟨S4096x1024, .f32⟩
  | .hbm, ⟨10, _⟩ => ⟨S4096x1024, .bf16⟩
  | .hbm, ⟨11, _⟩ => ⟨S2x1x1024, .f32⟩
  | .hbm, ⟨12, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x6x1024, .f32⟩
  | .local _ .vmem, ⟨9, _⟩ => ⟨S1x6x1024, .f32⟩
  | .local _ .vmem, ⟨10, _⟩ => ⟨S1x128, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1x1024, .f32⟩
  | .local _ .vmem, ⟨16, _⟩ => ⟨S1x1x1024, .f32⟩
  | .local _ .vmem, ⟨17, _⟩ => ⟨S1x1024, .f32⟩
  | .local _ .vmem, ⟨18, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨1, ![9], ![false]⟩

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c8_i32 : BitVec 32 := 8#32
  let v4 : BitVec 1 := Scalar.cmpi .slt arg0 c8_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg0 : BitVec 32 := BitVec.ofNat 32 (i 0).val
  let c1_i32 : BitVec 32 := 1#32
  let v12 : BitVec 32 := Scalar.subi arg0 c1_i32
  let c0_i32_19 : BitVec 32 := 0#32
  let v42 : BitVec 1 := Scalar.cmpi .eq v12 c0_i32_19
  let v43 : BitVec 32 := Scalar.extui v42
  let c0_i32_20 : BitVec 32 := 0#32
  let v44 : BitVec 1 := Scalar.cmpi .ne v43 c0_i32_20
  v44

def k0_cond4 (i : grid0.Coords) : BitVec 1 :=
  let arg0 : BitVec 32 := BitVec.ofNat 32 (i 0).val
  let c1_i32 : BitVec 32 := 1#32
  let v12 : BitVec 32 := Scalar.subi arg0 c1_i32
  let c0_i32_19 : BitVec 32 := 0#32
  let v42 : BitVec 1 := Scalar.cmpi .eq v12 c0_i32_19
  let v_true : BitVec 1 := 1#1
  let v45 : BitVec 1 := Scalar.xori v42 v_true
  let v46 : BitVec 32 := Scalar.extui v45
  let c0_i32_21 : BitVec 32 := 0#32
  let v47 : BitVec 1 := Scalar.cmpi .ne v46 c0_i32_21
  v47

def k0_cond9 (i : grid0.Coords) : BitVec 1 :=
  let arg0 : BitVec 32 := BitVec.ofNat 32 (i 0).val
  let c8_i32_3 : BitVec 32 := 8#32
  let v8 : BitVec 1 := Scalar.cmpi .eq arg0 c8_i32_3
  let v9 : BitVec 32 := Scalar.extui v8
  let c0_i32_4 : BitVec 32 := 0#32
  let v10 : BitVec 1 := Scalar.cmpi .ne v9 c0_i32_4
  v10

def k0_cond10 (i : grid0.Coords) : BitVec 1 :=
  let arg0 : BitVec 32 := BitVec.ofNat 32 (i 0).val
  let c1_i32 : BitVec 32 := 1#32
  let v12 : BitVec 32 := Scalar.subi arg0 c1_i32
  let c0_i32_19 : BitVec 32 := 0#32
  let v42 : BitVec 1 := Scalar.cmpi .eq v12 c0_i32_19
  let v43 : BitVec 32 := Scalar.extui v42
  let c0_i32_20 : BitVec 32 := 0#32
  let v44 : BitVec 1 := Scalar.cmpi .ne v43 c0_i32_20
  v44

def k0_cond11 (i : grid0.Coords) : BitVec 1 :=
  let arg0 : BitVec 32 := BitVec.ofNat 32 (i 0).val
  let c1_i32 : BitVec 32 := 1#32
  let v12 : BitVec 32 := Scalar.subi arg0 c1_i32
  let c0_i32_19 : BitVec 32 := 0#32
  let v42 : BitVec 1 := Scalar.cmpi .eq v12 c0_i32_19
  let v_true : BitVec 1 := 1#1
  let v45 : BitVec 1 := Scalar.xori v42 v_true
  let v46 : BitVec 32 := Scalar.extui v45
  let c0_i32_21 : BitVec 32 := 0#32
  let v47 : BitVec 1 := Scalar.cmpi .ne v46 c0_i32_21
  v47

def k0_cond5 (i : grid0.Coords) : BitVec 1 :=
  let arg0 : BitVec 32 := BitVec.ofNat 32 (i 0).val
  let c1_i32 : BitVec 32 := 1#32
  let v12 : BitVec 32 := Scalar.subi arg0 c1_i32
  let c4_i32 : BitVec 32 := 4#32
  let c0_i32_26 : BitVec 32 := 0#32
  let v54 : BitVec 1 := Scalar.cmpi .eq c4_i32 c0_i32_26
  let c1_i32_27 : BitVec 32 := 1#32
  let v55 : BitVec 32 := Scalar.select v54 c1_i32_27 c4_i32
  let v56 : BitVec 32 := Scalar.remsi v12 v55
  let c0_i32_29 : BitVec 32 := 0#32
  let v58 : BitVec 1 := Scalar.cmpi .slt v56 c0_i32_29
  let c0_i32_30 : BitVec 32 := 0#32
  let v59 : BitVec 1 := Scalar.cmpi .slt v55 c0_i32_30
  let v60 : BitVec 1 := Scalar.xori v58 v59
  let c0_i32_28 : BitVec 32 := 0#32
  let v57 : BitVec 1 := Scalar.cmpi .ne v56 c0_i32_28
  let v61 : BitVec 1 := Scalar.andi v60 v57
  let v62 : BitVec 32 := Scalar.addi v56 v55
  let v63 : BitVec 32 := Scalar.select v61 v62 v56
  let c0_i32_31 : BitVec 32 := 0#32
  let v64 : BitVec 1 := Scalar.cmpi .eq v63 c0_i32_31
  let v65 : BitVec 32 := Scalar.extui v64
  let c0_i32_32 : BitVec 32 := 0#32
  let v66 : BitVec 1 := Scalar.cmpi .ne v65 c0_i32_32
  v66

def k0_cond6 (i : grid0.Coords) : BitVec 1 :=
  let arg0 : BitVec 32 := BitVec.ofNat 32 (i 0).val
  let c1_i32 : BitVec 32 := 1#32
  let v12 : BitVec 32 := Scalar.subi arg0 c1_i32
  let c4_i32 : BitVec 32 := 4#32
  let c0_i32_26 : BitVec 32 := 0#32
  let v54 : BitVec 1 := Scalar.cmpi .eq c4_i32 c0_i32_26
  let c1_i32_27 : BitVec 32 := 1#32
  let v55 : BitVec 32 := Scalar.select v54 c1_i32_27 c4_i32
  let v56 : BitVec 32 := Scalar.remsi v12 v55
  let c0_i32_29 : BitVec 32 := 0#32
  let v58 : BitVec 1 := Scalar.cmpi .slt v56 c0_i32_29
  let c0_i32_30 : BitVec 32 := 0#32
  let v59 : BitVec 1 := Scalar.cmpi .slt v55 c0_i32_30
  let v60 : BitVec 1 := Scalar.xori v58 v59
  let c0_i32_28 : BitVec 32 := 0#32
  let v57 : BitVec 1 := Scalar.cmpi .ne v56 c0_i32_28
  let v61 : BitVec 1 := Scalar.andi v60 v57
  let v62 : BitVec 32 := Scalar.addi v56 v55
  let v63 : BitVec 32 := Scalar.select v61 v62 v56
  let c0_i32_31 : BitVec 32 := 0#32
  let v64 : BitVec 1 := Scalar.cmpi .eq v63 c0_i32_31
  let true_33 : BitVec 1 := 1#1
  let v67 : BitVec 1 := Scalar.xori v64 true_33
  let v68 : BitVec 32 := Scalar.extui v67
  let c0_i32_34 : BitVec 32 := 0#32
  let v69 : BitVec 1 := Scalar.cmpi .ne v68 c0_i32_34
  v69

def k0_cond12 (i : grid0.Coords) : BitVec 1 :=
  let arg0 : BitVec 32 := BitVec.ofNat 32 (i 0).val
  let c1_i32 : BitVec 32 := 1#32
  let v12 : BitVec 32 := Scalar.subi arg0 c1_i32
  let c4_i32 : BitVec 32 := 4#32
  let c0_i32_26 : BitVec 32 := 0#32
  let v54 : BitVec 1 := Scalar.cmpi .eq c4_i32 c0_i32_26
  let c1_i32_27 : BitVec 32 := 1#32
  let v55 : BitVec 32 := Scalar.select v54 c1_i32_27 c4_i32
  let v56 : BitVec 32 := Scalar.remsi v12 v55
  let c0_i32_29 : BitVec 32 := 0#32
  let v58 : BitVec 1 := Scalar.cmpi .slt v56 c0_i32_29
  let c0_i32_30 : BitVec 32 := 0#32
  let v59 : BitVec 1 := Scalar.cmpi .slt v55 c0_i32_30
  let v60 : BitVec 1 := Scalar.xori v58 v59
  let c0_i32_28 : BitVec 32 := 0#32
  let v57 : BitVec 1 := Scalar.cmpi .ne v56 c0_i32_28
  let v61 : BitVec 1 := Scalar.andi v60 v57
  let v62 : BitVec 32 := Scalar.addi v56 v55
  let v63 : BitVec 32 := Scalar.select v61 v62 v56
  let c0_i32_31 : BitVec 32 := 0#32
  let v64 : BitVec 1 := Scalar.cmpi .eq v63 c0_i32_31
  let v65 : BitVec 32 := Scalar.extui v64
  let c0_i32_32 : BitVec 32 := 0#32
  let v66 : BitVec 1 := Scalar.cmpi .ne v65 c0_i32_32
  v66

def k0_cond13 (i : grid0.Coords) : BitVec 1 :=
  let arg0 : BitVec 32 := BitVec.ofNat 32 (i 0).val
  let c1_i32 : BitVec 32 := 1#32
  let v12 : BitVec 32 := Scalar.subi arg0 c1_i32
  let c4_i32 : BitVec 32 := 4#32
  let c0_i32_26 : BitVec 32 := 0#32
  let v54 : BitVec 1 := Scalar.cmpi .eq c4_i32 c0_i32_26
  let c1_i32_27 : BitVec 32 := 1#32
  let v55 : BitVec 32 := Scalar.select v54 c1_i32_27 c4_i32
  let v56 : BitVec 32 := Scalar.remsi v12 v55
  let c0_i32_29 : BitVec 32 := 0#32
  let v58 : BitVec 1 := Scalar.cmpi .slt v56 c0_i32_29
  let c0_i32_30 : BitVec 32 := 0#32
  let v59 : BitVec 1 := Scalar.cmpi .slt v55 c0_i32_30
  let v60 : BitVec 1 := Scalar.xori v58 v59
  let c0_i32_28 : BitVec 32 := 0#32
  let v57 : BitVec 1 := Scalar.cmpi .ne v56 c0_i32_28
  let v61 : BitVec 1 := Scalar.andi v60 v57
  let v62 : BitVec 32 := Scalar.addi v56 v55
  let v63 : BitVec 32 := Scalar.select v61 v62 v56
  let c0_i32_31 : BitVec 32 := 0#32
  let v64 : BitVec 1 := Scalar.cmpi .eq v63 c0_i32_31
  let true_33 : BitVec 1 := 1#1
  let v67 : BitVec 1 := Scalar.xori v64 true_33
  let v68 : BitVec 32 := Scalar.extui v67
  let c0_i32_34 : BitVec 32 := 0#32
  let v69 : BitVec 1 := Scalar.cmpi .ne v68 c0_i32_34
  v69

def k0_cond7 (i : grid0.Coords) : BitVec 1 :=
  let arg0 : BitVec 32 := BitVec.ofNat 32 (i 0).val
  let c1_i32 : BitVec 32 := 1#32
  let v12 : BitVec 32 := Scalar.subi arg0 c1_i32
  let c0_i32_36 : BitVec 32 := 0#32
  let v75 : BitVec 1 := Scalar.cmpi .eq v12 c0_i32_36
  let v76 : BitVec 32 := Scalar.extui v75
  let c0_i32_37 : BitVec 32 := 0#32
  let v77 : BitVec 1 := Scalar.cmpi .ne v76 c0_i32_37
  v77

def k0_cond8 (i : grid0.Coords) : BitVec 1 :=
  let arg0 : BitVec 32 := BitVec.ofNat 32 (i 0).val
  let c1_i32 : BitVec 32 := 1#32
  let v12 : BitVec 32 := Scalar.subi arg0 c1_i32
  let c0_i32_36 : BitVec 32 := 0#32
  let v75 : BitVec 1 := Scalar.cmpi .eq v12 c0_i32_36
  let true_38 : BitVec 1 := 1#1
  let v78 : BitVec 1 := Scalar.xori v75 true_38
  let v79 : BitVec 32 := Scalar.extui v78
  let c0_i32_39 : BitVec 32 := 0#32
  let v80 : BitVec 1 := Scalar.cmpi .ne v79 c0_i32_39
  v80

def k0_cond14 (i : grid0.Coords) : BitVec 1 :=
  let arg0 : BitVec 32 := BitVec.ofNat 32 (i 0).val
  let c1_i32 : BitVec 32 := 1#32
  let v12 : BitVec 32 := Scalar.subi arg0 c1_i32
  let c0_i32_36 : BitVec 32 := 0#32
  let v75 : BitVec 1 := Scalar.cmpi .eq v12 c0_i32_36
  let v76 : BitVec 32 := Scalar.extui v75
  let c0_i32_37 : BitVec 32 := 0#32
  let v77 : BitVec 1 := Scalar.cmpi .ne v76 c0_i32_37
  v77

def k0_cond15 (i : grid0.Coords) : BitVec 1 :=
  let arg0 : BitVec 32 := BitVec.ofNat 32 (i 0).val
  let c1_i32 : BitVec 32 := 1#32
  let v12 : BitVec 32 := Scalar.subi arg0 c1_i32
  let c0_i32_36 : BitVec 32 := 0#32
  let v75 : BitVec 1 := Scalar.cmpi .eq v12 c0_i32_36
  let true_38 : BitVec 1 := 1#1
  let v78 : BitVec 1 := Scalar.xori v75 true_38
  let v79 : BitVec 32 := Scalar.extui v78
  let c0_i32_39 : BitVec 32 := 0#32
  let v80 : BitVec 1 := Scalar.cmpi .ne v79 c0_i32_39
  v80

def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  let c0_i32_8 : BitVec 32 := 0#32
  ![v18.toNat, c0_i32_6.toNat, c0_i32_7.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  let c0_i32_8 : BitVec 32 := 0#32
  ![v18.toNat, c0_i32_6.toNat, c0_i32_7.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference5Ideal.lean ====
abbrev S4096x2816 : Shape := ⟨2, ![4096, 2816]⟩
abbrev S1x2816x1024 : Shape := ⟨3, ![1, 2816, 1024]⟩
abbrev S4096x1024 : Shape := ⟨2, ![4096, 1024]⟩
abbrev S1x1024 : Shape := ⟨2, ![1, 1024]⟩
abbrev S2x6x1024 : Shape := ⟨3, ![2, 6, 1024]⟩
abbrev S2x2048x2816 : Shape := ⟨3, ![2, 2048, 2816]⟩
abbrev S2816x1024 : Shape := ⟨2, ![2816, 1024]⟩
abbrev S2x2048x1024 : Shape := ⟨3, ![2, 2048, 1024]⟩
abbrev S1024 : Shape := ⟨1, ![1024]⟩
abbrev S2x1x1024 : Shape := ⟨3, ![2, 1, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x1024 : Shape := ⟨2, ![2, 1024]⟩
abbrev S1x128 : Shape := ⟨2, ![1, 128]⟩

abbrev nBuf : Space → Nat
  | .hbm => 98
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S1x2816x1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S2x6x1024, .f32⟩
  | .hbm, ⟨6, _⟩ => ⟨S4096x2816, .f32⟩
  | .hbm, ⟨7, _⟩ => ⟨S2x2048x2816, .f32⟩
  | .hbm, ⟨8, _⟩ => ⟨S2816x1024, .f32⟩
  | .hbm, ⟨9, _⟩ => ⟨S2x2048x1024, .f32⟩
  | .hbm, ⟨10, _⟩ => ⟨S2x2048x1024, .f32⟩
  | .hbm, ⟨11, _⟩ => ⟨S1024, .f32⟩
  | .hbm, ⟨12, _⟩ => ⟨S2x1x1024, .f32⟩
  | .hbm, ⟨13, _⟩ => ⟨S2x2048x1024, .f32⟩
  | .hbm, ⟨14, _⟩ => ⟨S_, .f32⟩
  | .hbm, ⟨15, _⟩ => ⟨S2x2048, .f32⟩
  | .hbm, ⟨16, _⟩ => ⟨S2x2048x1, .f32⟩
  | .hbm, ⟨17, _⟩ => ⟨S_, .f32⟩
  | .hbm, ⟨18, _⟩ => ⟨S2x2048x1, .f32⟩
  | .hbm, ⟨19, _⟩ => ⟨S2x2048x1, .f32⟩
  | .hbm, ⟨20, _⟩ => ⟨S_, .f32⟩
  | .hbm, ⟨21, _⟩ => ⟨S2x2048x1, .f32⟩
  | .hbm, ⟨22, _⟩ => ⟨S2x2048x1, .f32⟩
  | .hbm, ⟨23, _⟩ => ⟨S2x2048x1, .f32⟩
  | .hbm, ⟨24, _⟩ => ⟨S2x2048x1, .f32⟩
  | .hbm, ⟨25, _⟩ => ⟨S_, .f32⟩
  | .hbm, ⟨26, _⟩ => ⟨S2x2048x1, .f32⟩
  | .hbm, ⟨27, _⟩ => ⟨S2x2048x1, .f32⟩
  | .hbm, ⟨28, _⟩ => ⟨S2x2048x1024, .f32⟩
  | .hbm, ⟨29, _⟩ => ⟨S2x2048x1024, .f32⟩
  | .hbm, ⟨30, _⟩ => ⟨S1x1x1024, .f32⟩
  | .hbm, ⟨31, _⟩ => ⟨S2x2048x1024, .f32⟩
  | .hbm, ⟨32, _⟩ => ⟨S2x2048x1024, .f32⟩
  | .hbm, ⟨33, _⟩ => ⟨S2x2048x1024, .f32⟩
  | .hbm, ⟨34, _⟩ => ⟨S2x2048x1024, .f32⟩
  | .hbm, ⟨35, _⟩ => ⟨S2x2048x1024, .f32⟩
  | .hbm, ⟨36, _⟩ => ⟨S2x2048x1024, .f32⟩
  | .hbm, ⟨37, _⟩ => ⟨S2x2048x1024, .f32⟩
  | .hbm, ⟨38, _⟩ => ⟨S2x2048x1024, .f32⟩
  | .hbm, ⟨39, _⟩ => ⟨S_, .f32⟩
  | .hbm, ⟨40, _⟩ => ⟨S2x2048x1024, .f32⟩
  | .hbm, ⟨41, _⟩ => ⟨S2x2048x1024, .f32⟩
  | .hbm, ⟨42, _⟩ => ⟨S_, .f32⟩
  | .hbm, ⟨43, _⟩ => ⟨S2x2048, .f32⟩
  | .hbm, ⟨44, _⟩ => ⟨S_, .f32⟩
  | .hbm, ⟨45, _⟩ => ⟨S2x2048, .f32⟩
  | .hbm, ⟨46, _⟩ => ⟨S2x2048, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S2x2048, .f32⟩
  | .hbm, ⟨55, _⟩ => ⟨S_, .f32⟩
  | .hbm, ⟨56, _⟩ => ⟨S2x2048, .f32⟩
  | .hbm, ⟨57, _⟩ => ⟨S2x2048, .f32⟩
  | .hbm, ⟨58, _⟩ => ⟨S2x2048x1024, .f32⟩
  | .hbm, ⟨59, _⟩ => ⟨S2x2048x1024, .f32⟩
  | .hbm, ⟨60, _⟩ => ⟨S2x2048x1024, .f32⟩
  | .hbm, ⟨61, _⟩ => ⟨S2x2048x1024, .f32⟩
  | .hbm, ⟨62, _⟩ => ⟨S2x2048x1024, .f32⟩
  | .hbm, ⟨63, _⟩ => ⟨S_, .f32⟩
  | .hbm, ⟨64, _⟩ => ⟨S2x1024, .f32⟩
  | .hbm, ⟨65, _⟩ => ⟨S2x1x1024, .f32⟩
  | .hbm, ⟨66, _⟩ => ⟨S2x2048x1024, .f32⟩
  | .hbm, ⟨67, _⟩ => ⟨S_, .f32⟩
  | .hbm, ⟨68, _⟩ => ⟨S1024, .f32⟩
  | .hbm, ⟨69, _⟩ => ⟨S1x1x1024, .f32⟩
  | .hbm, ⟨70, _⟩ => ⟨S2x2048x1024, .f32⟩
  | .hbm, ⟨71, _⟩ => ⟨S2x2048x1024, .f32⟩
  | .hbm, ⟨72, _⟩ => ⟨S_, .f32⟩
  | .hbm, ⟨73, _⟩ => ⟨S1024, .f32⟩
  | .hbm, ⟨74, _⟩ => ⟨S2x2048x1024, .f32⟩
  | .hbm, ⟨75, _⟩ => ⟨S_, .f32⟩
  | .hbm, ⟨76, _⟩ => ⟨S2x2048, .f32⟩
  | .hbm, ⟨77, _⟩ => ⟨S2x2048x1, .f32⟩
  | .hbm, ⟨78, _⟩ => ⟨S2x2048x1024, .f32⟩
  | .hbm, ⟨79, _⟩ => ⟨S2x2048x1024, .f32⟩
  | .hbm, ⟨80, _⟩ => ⟨S2x2048x1, .f32⟩
  | .hbm, ⟨81, _⟩ => ⟨S_, .f32⟩
  | .hbm, ⟨82, _⟩ => ⟨S2x2048x1, .f32⟩
  | .hbm, ⟨83, _⟩ => ⟨S2x2048x1, .f32⟩
  | .hbm, ⟨84, _⟩ => ⟨S_, .f32⟩
  | .hbm, ⟨85, _⟩ => ⟨S2x2048, .f32⟩
  | .hbm, ⟨86, _⟩ => ⟨S2x2048x1024, .f32⟩
  | .hbm, ⟨87, _⟩ => ⟨S2x2048x1024, .f32⟩
  | .hbm, ⟨88, _⟩ => ⟨S2x2048x1024, .f32⟩
  | .hbm, ⟨89, _⟩ => ⟨S2x2048x1024, .f32⟩
  | .hbm, ⟨90, _⟩ => ⟨S2x2048x1024, .f32⟩
  | .hbm, ⟨91, _⟩ => ⟨S_, .f32⟩
  | .hbm, ⟨92, _⟩ => ⟨S_, .f32⟩
  | .hbm, ⟨93, _⟩ => ⟨S1x128, .f32⟩
  | .hbm, ⟨94, _⟩ => ⟨S4096x1024, .f32⟩
  | .hbm, ⟨95, _⟩ => ⟨S4096x1024, .f32⟩
  | .hbm, ⟨96, _⟩ => ⟨S4096x1024, .bf16⟩
  | .hbm, ⟨97, _⟩ => ⟨S1x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_cst_8 : Ref sig .tc := ⟨.hbm, 51, rfl⟩
abbrev main_cst_9 : Ref sig .tc := ⟨.hbm, 52, rfl⟩
abbrev main_v36 : Ref sig .tc := ⟨.hbm, 53, rfl⟩
abbrev main_v37 : Ref sig .tc := ⟨.hbm, 54, rfl⟩
abbrev main_cst_10 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_11 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_12 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_13 : Ref sig .tc := ⟨.hbm, 72, rfl⟩
abbrev main_v52 : Ref sig .tc := ⟨.hbm, 73, rfl⟩
abbrev main_v53 : Ref sig .tc := ⟨.hbm, 74, rfl⟩
abbrev main_cst_14 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_15 : Ref sig .tc := ⟨.hbm, 81, rfl⟩
abbrev main_v59 : Ref sig .tc := ⟨.hbm, 82, rfl⟩
abbrev main_v60 : Ref sig .tc := ⟨.hbm, 83, rfl⟩
abbrev main_cst_16 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_17 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩

abbrev nD : Nat := 1
abbrev τ : Topo := Topo.v7x

variable {F : FTy → Type} [FloatOps F]
-- ==== Kernel6.lean ====
abbrev S2x4096x2816 : Shape := ⟨3, ![2, 4096, 2816]⟩
abbrev S1x1024x2816 : Shape := ⟨3, ![1, 1024, 2816]⟩
abbrev S4096x1024 : Shape := ⟨2, ![4096, 1024]⟩
abbrev S2x4096x512 : Shape := ⟨3, ![2, 4096, 512]⟩
abbrev S1x1024x1024 : Shape := ⟨3, ![1, 1024, 1024]⟩
abbrev S1x1024 : Shape := ⟨2, ![1, 1024]⟩
abbrev S2x6x1024 : Shape := ⟨3, ![2, 6, 1024]⟩
abbrev S1024x2816 : Shape := ⟨2, ![1024, 2816]⟩
abbrev S2816x1024 : Shape := ⟨2, ![2816, 1024]⟩
abbrev S1x2816x1024 : Shape := ⟨3, ![1, 2816, 1024]⟩
abbrev S2x2816x1024 : Shape := ⟨3, ![2, 2816, 1024]⟩
abbrev S4096x2x512 : Shape := ⟨3, ![4096, 2, 512]⟩
abbrev S2x2048x1024 : Shape := ⟨3, ![2, 2048, 1024]⟩
abbrev S1024x1024 : Shape := ⟨2, ![1024, 1024]⟩
abbrev S1024 : Shape := ⟨1, ![1024]⟩
abbrev S2x1x1024 : Shape := ⟨3, ![2, 1, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x512x2816 : Shape := ⟨3, ![2, 512, 2816]⟩
abbrev S512x1024 : Shape := ⟨2, ![512, 1024]⟩
abbrev S1x6x1024 : Shape := ⟨3, ![1, 6, 1024]⟩
abbrev S1x512x2816 : Shape := ⟨3, ![1, 512, 2816]⟩
abbrev S512x2816 : Shape := ⟨2, ![512, 2816]⟩
abbrev S1x2816x256 : Shape := ⟨3, ![1, 2816, 256]⟩
abbrev S2816x256 : Shape := ⟨2, ![2816, 256]⟩
abbrev S512x256 : Shape := ⟨2, ![512, 256]⟩
abbrev S64x1024 : Shape := ⟨2, ![64, 1024]⟩
abbrev S64 : Shape := ⟨1, ![64]⟩
abbrev S64x1 : Shape := ⟨2, ![64, 1]⟩

abbrev nBuf : Space → Nat
  | .hbm => 54
  | .vmem => 26
  | .smem => 0
  | _ => 0

abbrev bufTy : (tb : Table) → Fin (tcTables nBuf tb) → BufTy
  | .hbm, ⟨0, _⟩ => ⟨S2x4096x2816, .bf16⟩
  | .hbm, ⟨1, _⟩ => ⟨S1x1024x2816, .f32⟩
  | .hbm, ⟨2, _⟩ => ⟨S1x1024x2816, .f32⟩
  | .hbm, ⟨3, _⟩ => ⟨S4096x1024, .f32⟩
  | .hbm, ⟨4, _⟩ => ⟨S2x4096x512, .bf16⟩
  | .hbm, ⟨5, _⟩ => ⟨S1x1024x1024, .f32⟩
  | .hbm, ⟨6, _⟩ => ⟨S4096x1024, .f32⟩
  | .hbm, ⟨7, _⟩ => ⟨S1x1024, .f32⟩
  | .hbm, ⟨8, _⟩ => ⟨S1x1024, .f32⟩
  | .hbm, ⟨9, _⟩ => ⟨S2x6x1024, .f32⟩
  | .hbm, ⟨10, _⟩ => ⟨S1024x2816, .f32⟩
  | .hbm, ⟨11, _⟩ => ⟨S2816x1024, .f32⟩
  | .hbm, ⟨12, _⟩ => ⟨S1024x2816, .f32⟩
  | .hbm, ⟨13, _⟩ => ⟨S2816x1024, .f32⟩
  | .hbm, ⟨14, _⟩ => ⟨S1x2816x1024, .f32⟩
  | .hbm, ⟨15, _⟩ => ⟨S1x2816x1024, .f32⟩
  | .hbm, ⟨16, _⟩ => ⟨S2x2816x1024, .f32⟩
  | .hbm, ⟨17, _⟩ => ⟨S2x2816x1024, .bf16⟩
  | .hbm, ⟨18, _⟩ => ⟨S2x4096x512, .f32⟩
  | .hbm, ⟨19, _⟩ => ⟨S4096x2x512, .f32⟩
  | .hbm, ⟨20, _⟩ => ⟨S2x2048x1024, .f32⟩
  | .hbm, ⟨21, _⟩ => ⟨S1024x1024, .f32⟩
  | .hbm, ⟨22, _⟩ => ⟨S2x2048x1024, .f32⟩
  | .hbm, ⟨23, _⟩ => ⟨S1024, .f32⟩
  | .hbm, ⟨24, _⟩ => ⟨S2x1x1024, .f32⟩
  | .hbm, ⟨25, _⟩ => ⟨S2x2048x1024, .f32⟩
  | .hbm, ⟨26, _⟩ => ⟨S2x2048x1024, .f32⟩
  | .hbm, ⟨27, _⟩ => ⟨S_, .f32⟩
  | .hbm, ⟨28, _⟩ => ⟨S2x2048, .f32⟩
  | .hbm, ⟨29, _⟩ => ⟨S2x2048x1, .f32⟩
  | .hbm, ⟨30, _⟩ => ⟨S_, .f32⟩
  | .hbm, ⟨31, _⟩ => ⟨S2x2048x1, .f32⟩
  | .hbm, ⟨32, _⟩ => ⟨S2x2048x1, .f32⟩
  | .hbm, ⟨33, _⟩ => ⟨S_, .f32⟩
  | .hbm, ⟨34, _⟩ => ⟨S2x2048x1, .f32⟩
  | .hbm, ⟨35, _⟩ => ⟨S2x2048x1, .f32⟩
  | .hbm, ⟨36, _⟩ => ⟨S2x2048x1, .f32⟩
  | .hbm, ⟨37, _⟩ => ⟨S2x2048x1024, .f32⟩
  | .hbm, ⟨38, _⟩ => ⟨S2x2048x1024, .f32⟩
  | .hbm, ⟨39, _⟩ => ⟨S1x1x1024, .f32⟩
  | .hbm, ⟨40, _⟩ => ⟨S2x2048x1024, .f32⟩
  | .hbm, ⟨41, _⟩ => ⟨S2x2048x1024, .f32⟩
  | .hbm, ⟨42, _⟩ => ⟨S2x2048x1024, .f32⟩
  | .hbm, ⟨43, _⟩ => ⟨S2x2048x1024, .f32⟩
  | .hbm, ⟨44, _⟩ => ⟨S2x2048x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .bf16⟩
  | .hbm, ⟨49, _⟩ => ⟨S2x1x1024, .f32⟩
  | .hbm, ⟨50, _⟩ => ⟨S2x1x1024, .f32⟩
  | .hbm, ⟨51, _⟩ => ⟨S2x1x1024, .f32⟩
  | .hbm, ⟨52, _⟩ => ⟨S1x1024, .f32⟩
  | .hbm, ⟨53, _⟩ => ⟨S1x1024, .f32⟩
  | .local _ .vmem, ⟨0, _⟩ => ⟨S2x512x2816, .bf16⟩
  | .local _ .vmem, ⟨1, _⟩ => ⟨S2x512x2816, .bf16⟩
  | .local _ .vmem, ⟨2, _⟩ => ⟨S2x2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S1x1024, .f32⟩
  | .local _ .vmem, ⟨11, _⟩ => ⟨S1x6x1024, .f32⟩
  | .local _ .vmem, ⟨12, _⟩ => ⟨S1x6x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S1x1x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x1x1024, .f32⟩
  | .local _ .vmem, ⟨21, _⟩ => ⟨S1x1x1024, .f32⟩
  | .local _ .vmem, ⟨22, _⟩ => ⟨S1x1x1024, .f32⟩
  | .local _ .vmem, ⟨23, _⟩ => ⟨S1x1024, .f32⟩
  | .local _ .vmem, ⟨24, _⟩ => ⟨S1x1024, .f32⟩
  | .local _ .vmem, ⟨25, _⟩ => ⟨S512x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_cst_0 : Ref sig .tc := ⟨.hbm, 30, rfl⟩
abbrev main_v19 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34_0 : Ref sig .tc := ⟨.hbm, 47, rfl⟩
abbrev main_v34_1 : Ref sig .tc := ⟨.hbm, 48, rfl⟩
abbrev main_v34_2 : Ref sig .tc := ⟨.hbm, 49, rfl⟩
abbrev main_v34_3 : Ref sig .tc := ⟨.hbm, 50, rfl⟩
abbrev main_v34_4 : Ref sig .tc := ⟨.hbm, 51, rfl⟩
abbrev main_v34_5 : Ref sig .tc := ⟨.hbm, 52, rfl⟩
abbrev main_v34_6 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg14_0 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem14_0 : DmaSem sig := 24

abbrev nD : Nat := 1
abbrev τ : Topo := Topo.v7x

variable {F : FTy → Type} [FloatOps F]

abbrev grid0 : Pipeline.Grid := ⟨1, ![9], ![false]⟩

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c8_i32 : BitVec 32 := 8#32
  let v4 : BitVec 1 := Scalar.cmpi .slt arg0 c8_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond13 (i : grid0.Coords) : BitVec 1 :=
  let arg0 : BitVec 32 := BitVec.ofNat 32 (i 0).val
  let c8_i32_3 : BitVec 32 := 8#32
  let v8 : BitVec 1 := Scalar.cmpi .eq arg0 c8_i32_3
  let v9 : BitVec 32 := Scalar.extui v8
  let c0_i32_4 : BitVec 32 := 0#32
  let v10 : BitVec 1 := Scalar.cmpi .ne v9 c0_i32_4
  v10

def k0_cond3 (i : grid0.Coords) : BitVec 1 :=
  let arg0 : BitVec 32 := BitVec.ofNat 32 (i 0).val
  let c1_i32 : BitVec 32 := 1#32
  let v12 : BitVec 32 := Scalar.subi arg0 c1_i32
  let c4_i32 : BitVec 32 := 4#32
  let c0_i32_6 : BitVec 32 := 0#32
  let v13 : BitVec 1 := Scalar.cmpi .eq c4_i32 c0_i32_6
  let c1_i32_7 : BitVec 32 := 1#32
  let v14 : BitVec 32 := Scalar.select v13 c1_i32_7 c4_i32
  let v15 : BitVec 32 := Scalar.remsi v12 v14
  let c0_i32_9 : BitVec 32 := 0#32
  let v17 : BitVec 1 := Scalar.cmpi .slt v15 c0_i32_9
  let c0_i32_10 : BitVec 32 := 0#32
  let v18 : BitVec 1 := Scalar.cmpi .slt v14 c0_i32_10
  let v19 : BitVec 1 := Scalar.xori v17 v18
  let c0_i32_8 : BitVec 32 := 0#32
  let v16 : BitVec 1 := Scalar.cmpi .ne v15 c0_i32_8
  let v20 : BitVec 1 := Scalar.andi v19 v16
  let v21 : BitVec 32 := Scalar.addi v15 v14
  let v22 : BitVec 32 := Scalar.select v20 v21 v15
  let c0_i32_11 : BitVec 32 := 0#32
  let v23 : BitVec 1 := Scalar.cmpi .eq v22 c0_i32_11
  let v40 : BitVec 32 := Scalar.extui v23
  let c0_i32_20 : BitVec 32 := 0#32
  let v41 : BitVec 1 := Scalar.cmpi .ne v40 c0_i32_20
  v41

def k0_cond4 (i : grid0.Coords) : BitVec 1 :=
  let arg0 : BitVec 32 := BitVec.ofNat 32 (i 0).val
  let c1_i32 : BitVec 32 := 1#32
  let v12 : BitVec 32 := Scalar.subi arg0 c1_i32
  let c4_i32 : BitVec 32 := 4#32
  let c0_i32_6 : BitVec 32 := 0#32
  let v13 : BitVec 1 := Scalar.cmpi .eq c4_i32 c0_i32_6
  let c1_i32_7 : BitVec 32 := 1#32
  let v14 : BitVec 32 := Scalar.select v13 c1_i32_7 c4_i32
  let v15 : BitVec 32 := Scalar.remsi v12 v14
  let c0_i32_9 : BitVec 32 := 0#32
  let v17 : BitVec 1 := Scalar.cmpi .slt v15 c0_i32_9
  let c0_i32_10 : BitVec 32 := 0#32
  let v18 : BitVec 1 := Scalar.cmpi .slt v14 c0_i32_10
  let v19 : BitVec 1 := Scalar.xori v17 v18
  let c0_i32_8 : BitVec 32 := 0#32
  let v16 : BitVec 1 := Scalar.cmpi .ne v15 c0_i32_8
  let v20 : BitVec 1 := Scalar.andi v19 v16
  let v21 : BitVec 32 := Scalar.addi v15 v14
  let v22 : BitVec 32 := Scalar.select v20 v21 v15
  let c0_i32_11 : BitVec 32 := 0#32
  let v23 : BitVec 1 := Scalar.cmpi .eq v22 c0_i32_11
  let v_true : BitVec 1 := 1#1
  let v42 : BitVec 1 := Scalar.xori v23 v_true
  let v43 : BitVec 32 := Scalar.extui v42
  let c0_i32_21 : BitVec 32 := 0#32
  let v44 : BitVec 1 := Scalar.cmpi .ne v43 c0_i32_21
  v44

def k0_cond14 (i : grid0.Coords) : BitVec 1 :=
  let arg0 : BitVec 32 := BitVec.ofNat 32 (i 0).val
  let c1_i32 : BitVec 32 := 1#32
  let v12 : BitVec 32 := Scalar.subi arg0 c1_i32
  let c4_i32 : BitVec 32 := 4#32
  let c0_i32_6 : BitVec 32 := 0#32
  let v13 : BitVec 1 := Scalar.cmpi .eq c4_i32 c0_i32_6
  let c1_i32_7 : BitVec 32 := 1#32
  let v14 : BitVec 32 := Scalar.select v13 c1_i32_7 c4_i32
  let v15 : BitVec 32 := Scalar.remsi v12 v14
  let c0_i32_9 : BitVec 32 := 0#32
  let v17 : BitVec 1 := Scalar.cmpi .slt v15 c0_i32_9
  let c0_i32_10 : BitVec 32 := 0#32
  let v18 : BitVec 1 := Scalar.cmpi .slt v14 c0_i32_10
  let v19 : BitVec 1 := Scalar.xori v17 v18
  let c0_i32_8 : BitVec 32 := 0#32
  let v16 : BitVec 1 := Scalar.cmpi .ne v15 c0_i32_8
  let v20 : BitVec 1 := Scalar.andi v19 v16
  let v21 : BitVec 32 := Scalar.addi v15 v14
  let v22 : BitVec 32 := Scalar.select v20 v21 v15
  let c0_i32_11 : BitVec 32 := 0#32
  let v23 : BitVec 1 := Scalar.cmpi .eq v22 c0_i32_11
  let v40 : BitVec 32 := Scalar.extui v23
  let c0_i32_20 : BitVec 32 := 0#32
  let v41 : BitVec 1 := Scalar.cmpi .ne v40 c0_i32_20
  v41

def k0_cond15 (i : grid0.Coords) : BitVec 1 :=
  let arg0 : BitVec 32 := BitVec.ofNat 32 (i 0).val
  let c1_i32 : BitVec 32 := 1#32
  let v12 : BitVec 32 := Scalar.subi arg0 c1_i32
  let c4_i32 : BitVec 32 := 4#32
  let c0_i32_6 : BitVec 32 := 0#32
  let v13 : BitVec 1 := Scalar.cmpi .eq c4_i32 c0_i32_6
  let c1_i32_7 : BitVec 32 := 1#32
  let v14 : BitVec 32 := Scalar.select v13 c1_i32_7 c4_i32
  let v15 : BitVec 32 := Scalar.remsi v12 v14
  let c0_i32_9 : BitVec 32 := 0#32
  let v17 : BitVec 1 := Scalar.cmpi .slt v15 c0_i32_9
  let c0_i32_10 : BitVec 32 := 0#32
  let v18 : BitVec 1 := Scalar.cmpi .slt v14 c0_i32_10
  let v19 : BitVec 1 := Scalar.xori v17 v18
  let c0_i32_8 : BitVec 32 := 0#32
  let v16 : BitVec 1 := Scalar.cmpi .ne v15 c0_i32_8
  let v20 : BitVec 1 := Scalar.andi v19 v16
  let v21 : BitVec 32 := Scalar.addi v15 v14
  let v22 : BitVec 32 := Scalar.select v20 v21 v15
  let c0_i32_11 : BitVec 32 := 0#32
  let v23 : BitVec 1 := Scalar.cmpi .eq v22 c0_i32_11
  let v_true : BitVec 1 := 1#1
  let v42 : BitVec 1 := Scalar.xori v23 v_true
  let v43 : BitVec 32 := Scalar.extui v42
  let c0_i32_21 : BitVec 32 := 0#32
  let v44 : BitVec 1 := Scalar.cmpi .ne v43 c0_i32_21
  v44

def k0_cond5 (i : grid0.Coords) : BitVec 1 :=
  let arg0 : BitVec 32 := BitVec.ofNat 32 (i 0).val
  let c1_i32 : BitVec 32 := 1#32
  let v12 : BitVec 32 := Scalar.subi arg0 c1_i32
  let c4_i32 : BitVec 32 := 4#32
  let c0_i32_6 : BitVec 32 := 0#32
  let v13 : BitVec 1 := Scalar.cmpi .eq c4_i32 c0_i32_6
  let c1_i32_7 : BitVec 32 := 1#32
  let v14 : BitVec 32 := Scalar.select v13 c1_i32_7 c4_i32
  let v15 : BitVec 32 := Scalar.remsi v12 v14
  let c0_i32_9 : BitVec 32 := 0#32
  let v17 : BitVec 1 := Scalar.cmpi .slt v15 c0_i32_9
  let c0_i32_10 : BitVec 32 := 0#32
  let v18 : BitVec 1 := Scalar.cmpi .slt v14 c0_i32_10
  let v19 : BitVec 1 := Scalar.xori v17 v18
  let c0_i32_8 : BitVec 32 := 0#32
  let v16 : BitVec 1 := Scalar.cmpi .ne v15 c0_i32_8
  let v20 : BitVec 1 := Scalar.andi v19 v16
  let v21 : BitVec 32 := Scalar.addi v15 v14
  let v22 : BitVec 32 := Scalar.select v20 v21 v15
  let c0_i32_11 : BitVec 32 := 0#32
  let v23 : BitVec 1 := Scalar.cmpi .eq v22 c0_i32_11
  let v50 : BitVec 32 := Scalar.extui v23
  let c0_i32_23 : BitVec 32 := 0#32
  let v51 : BitVec 1 := Scalar.cmpi .ne v50 c0_i32_23
  v51

def k0_cond6 (i : grid0.Coords) : BitVec 1 :=
  let arg0 : BitVec 32 := BitVec.ofNat 32 (i 0).val
  let c1_i32 : BitVec 32 := 1#32
  let v12 : BitVec 32 := Scalar.subi arg0 c1_i32
  let c4_i32 : BitVec 32 := 4#32
  let c0_i32_6 : BitVec 32 := 0#32
  let v13 : BitVec 1 := Scalar.cmpi .eq c4_i32 c0_i32_6
  let c1_i32_7 : BitVec 32 := 1#32
  let v14 : BitVec 32 := Scalar.select v13 c1_i32_7 c4_i32
  let v15 : BitVec 32 := Scalar.remsi v12 v14
  let c0_i32_9 : BitVec 32 := 0#32
  let v17 : BitVec 1 := Scalar.cmpi .slt v15 c0_i32_9
  let c0_i32_10 : BitVec 32 := 0#32
  let v18 : BitVec 1 := Scalar.cmpi .slt v14 c0_i32_10
  let v19 : BitVec 1 := Scalar.xori v17 v18
  let c0_i32_8 : BitVec 32 := 0#32
  let v16 : BitVec 1 := Scalar.cmpi .ne v15 c0_i32_8
  let v20 : BitVec 1 := Scalar.andi v19 v16
  let v21 : BitVec 32 := Scalar.addi v15 v14
  let v22 : BitVec 32 := Scalar.select v20 v21 v15
  let c0_i32_11 : BitVec 32 := 0#32
  let v23 : BitVec 1 := Scalar.cmpi .eq v22 c0_i32_11
  let true_24 : BitVec 1 := 1#1
  let v52 : BitVec 1 := Scalar.xori v23 true_24
  let v53 : BitVec 32 := Scalar.extui v52
  let c0_i32_25 : BitVec 32 := 0#32
  let v54 : BitVec 1 := Scalar.cmpi .ne v53 c0_i32_25
  v54

def k0_cond16 (i : grid0.Coords) : BitVec 1 :=
  let arg0 : BitVec 32 := BitVec.ofNat 32 (i 0).val
  let c1_i32 : BitVec 32 := 1#32
  let v12 : BitVec 32 := Scalar.subi arg0 c1_i32
  let c4_i32 : BitVec 32 := 4#32
  let c0_i32_6 : BitVec 32 := 0#32
  let v13 : BitVec 1 := Scalar.cmpi .eq c4_i32 c0_i32_6
  let c1_i32_7 : BitVec 32 := 1#32
  let v14 : BitVec 32 := Scalar.select v13 c1_i32_7 c4_i32
  let v15 : BitVec 32 := Scalar.remsi v12 v14
  let c0_i32_9 : BitVec 32 := 0#32
  let v17 : BitVec 1 := Scalar.cmpi .slt v15 c0_i32_9
  let c0_i32_10 : BitVec 32 := 0#32
  let v18 : BitVec 1 := Scalar.cmpi .slt v14 c0_i32_10
  let v19 : BitVec 1 := Scalar.xori v17 v18
  let c0_i32_8 : BitVec 32 := 0#32
  let v16 : BitVec 1 := Scalar.cmpi .ne v15 c0_i32_8
  let v20 : BitVec 1 := Scalar.andi v19 v16
  let v21 : BitVec 32 := Scalar.addi v15 v14
  let v22 : BitVec 32 := Scalar.select v20 v21 v15
  let c0_i32_11 : BitVec 32 := 0#32
  let v23 : BitVec 1 := Scalar.cmpi .eq v22 c0_i32_11
  let v50 : BitVec 32 := Scalar.extui v23
  let c0_i32_23 : BitVec 32 := 0#32
  let v51 : BitVec 1 := Scalar.cmpi .ne v50 c0_i32_23
  v51

def k0_cond17 (i : grid0.Coords) : BitVec 1 :=
  let arg0 : BitVec 32 := BitVec.ofNat 32 (i 0).val
  let c1_i32 : BitVec 32 := 1#32
  let v12 : BitVec 32 := Scalar.subi arg0 c1_i32
  let c4_i32 : BitVec 32 := 4#32
  let c0_i32_6 : BitVec 32 := 0#32
  let v13 : BitVec 1 := Scalar.cmpi .eq c4_i32 c0_i32_6
  let c1_i32_7 : BitVec 32 := 1#32
  let v14 : BitVec 32 := Scalar.select v13 c1_i32_7 c4_i32
  let v15 : BitVec 32 := Scalar.remsi v12 v14
  let c0_i32_9 : BitVec 32 := 0#32
  let v17 : BitVec 1 := Scalar.cmpi .slt v15 c0_i32_9
  let c0_i32_10 : BitVec 32 := 0#32
  let v18 : BitVec 1 := Scalar.cmpi .slt v14 c0_i32_10
  let v19 : BitVec 1 := Scalar.xori v17 v18
  let c0_i32_8 : BitVec 32 := 0#32
  let v16 : BitVec 1 := Scalar.cmpi .ne v15 c0_i32_8
  let v20 : BitVec 1 := Scalar.andi v19 v16
  let v21 : BitVec 32 := Scalar.addi v15 v14
  let v22 : BitVec 32 := Scalar.select v20 v21 v15
  let c0_i32_11 : BitVec 32 := 0#32
  let v23 : BitVec 1 := Scalar.cmpi .eq v22 c0_i32_11
  let true_24 : BitVec 1 := 1#1
  let v52 : BitVec 1 := Scalar.xori v23 true_24
  let v53 : BitVec 32 := Scalar.extui v52
  let c0_i32_25 : BitVec 32 := 0#32
  let v54 : BitVec 1 := Scalar.cmpi .ne v53 c0_i32_25
  v54

def k0_cond9 (i : grid0.Coords) : BitVec 1 :=
  let arg0 : BitVec 32 := BitVec.ofNat 32 (i 0).val
  let c1_i32 : BitVec 32 := 1#32
  let v12 : BitVec 32 := Scalar.subi arg0 c1_i32
  let c4_i32 : BitVec 32 := 4#32
  let c0_i32_6 : BitVec 32 := 0#32
  let v13 : BitVec 1 := Scalar.cmpi .eq c4_i32 c0_i32_6
  let c1_i32_7 : BitVec 32 := 1#32
  let v14 : BitVec 32 := Scalar.select v13 c1_i32_7 c4_i32
  let v15 : BitVec 32 := Scalar.remsi v12 v14
  let c0_i32_9 : BitVec 32 := 0#32
  let v17 : BitVec 1 := Scalar.cmpi .slt v15 c0_i32_9
  let c0_i32_10 : BitVec 32 := 0#32
  let v18 : BitVec 1 := Scalar.cmpi .slt v14 c0_i32_10
  let v19 : BitVec 1 := Scalar.xori v17 v18
  let c0_i32_8 : BitVec 32 := 0#32
  let v16 : BitVec 1 := Scalar.cmpi .ne v15 c0_i32_8
  let v20 : BitVec 1 := Scalar.andi v19 v16
  let v21 : BitVec 32 := Scalar.addi v15 v14
  let v22 : BitVec 32 := Scalar.select v20 v21 v15
  let c0_i32_11 : BitVec 32 := 0#32
  let v23 : BitVec 1 := Scalar.cmpi .eq v22 c0_i32_11
  let v102 : BitVec 32 := Scalar.extui v23
  let c0_i32_47 : BitVec 32 := 0#32
  let v103 : BitVec 1 := Scalar.cmpi .ne v102 c0_i32_47
  v103

def k0_cond10 (i : grid0.Coords) : BitVec 1 :=
  let arg0 : BitVec 32 := BitVec.ofNat 32 (i 0).val
  let c1_i32 : BitVec 32 := 1#32
  let v12 : BitVec 32 := Scalar.subi arg0 c1_i32
  let c4_i32 : BitVec 32 := 4#32
  let c0_i32_6 : BitVec 32 := 0#32
  let v13 : BitVec 1 := Scalar.cmpi .eq c4_i32 c0_i32_6
  let c1_i32_7 : BitVec 32 := 1#32
  let v14 : BitVec 32 := Scalar.select v13 c1_i32_7 c4_i32
  let v15 : BitVec 32 := Scalar.remsi v12 v14
  let c0_i32_9 : BitVec 32 := 0#32
  let v17 : BitVec 1 := Scalar.cmpi .slt v15 c0_i32_9
  let c0_i32_10 : BitVec 32 := 0#32
  let v18 : BitVec 1 := Scalar.cmpi .slt v14 c0_i32_10
  let v19 : BitVec 1 := Scalar.xori v17 v18
  let c0_i32_8 : BitVec 32 := 0#32
  let v16 : BitVec 1 := Scalar.cmpi .ne v15 c0_i32_8
  let v20 : BitVec 1 := Scalar.andi v19 v16
  let v21 : BitVec 32 := Scalar.addi v15 v14
  let v22 : BitVec 32 := Scalar.select v20 v21 v15
  let c0_i32_11 : BitVec 32 := 0#32
  let v23 : BitVec 1 := Scalar.cmpi .eq v22 c0_i32_11
  let true_48 : BitVec 1 := 1#1
  let v104 : BitVec 1 := Scalar.xori v23 true_48
  let v105 : BitVec 32 := Scalar.extui v104
  let c0_i32_49 : BitVec 32 := 0#32
  let v106 : BitVec 1 := Scalar.cmpi .ne v105 c0_i32_49
  v106

def k0_cond20 (i : grid0.Coords) : BitVec 1 :=
  let arg0 : BitVec 32 := BitVec.ofNat 32 (i 0).val
  let c1_i32 : BitVec 32 := 1#32
  let v12 : BitVec 32 := Scalar.subi arg0 c1_i32
  let c4_i32 : BitVec 32 := 4#32
  let c0_i32_6 : BitVec 32 := 0#32
  let v13 : BitVec 1 := Scalar.cmpi .eq c4_i32 c0_i32_6
  let c1_i32_7 : BitVec 32 := 1#32
  let v14 : BitVec 32 := Scalar.select v13 c1_i32_7 c4_i32
  let v15 : BitVec 32 := Scalar.remsi v12 v14
  let c0_i32_9 : BitVec 32 := 0#32
  let v17 : BitVec 1 := Scalar.cmpi .slt v15 c0_i32_9
  let c0_i32_10 : BitVec 32 := 0#32
  let v18 : BitVec 1 := Scalar.cmpi .slt v14 c0_i32_10
  let v19 : BitVec 1 := Scalar.xori v17 v18
  let c0_i32_8 : BitVec 32 := 0#32
  let v16 : BitVec 1 := Scalar.cmpi .ne v15 c0_i32_8
  let v20 : BitVec 1 := Scalar.andi v19 v16
  let v21 : BitVec 32 := Scalar.addi v15 v14
  let v22 : BitVec 32 := Scalar.select v20 v21 v15
  let c0_i32_11 : BitVec 32 := 0#32
  let v23 : BitVec 1 := Scalar.cmpi .eq v22 c0_i32_11
  let v102 : BitVec 32 := Scalar.extui v23
  let c0_i32_47 : BitVec 32 := 0#32
  let v103 : BitVec 1 := Scalar.cmpi .ne v102 c0_i32_47
  v103

def k0_cond21 (i : grid0.Coords) : BitVec 1 :=
  let arg0 : BitVec 32 := BitVec.ofNat 32 (i 0).val
  let c1_i32 : BitVec 32 := 1#32
  let v12 : BitVec 32 := Scalar.subi arg0 c1_i32
  let c4_i32 : BitVec 32 := 4#32
  let c0_i32_6 : BitVec 32 := 0#32
  let v13 : BitVec 1 := Scalar.cmpi .eq c4_i32 c0_i32_6
  let c1_i32_7 : BitVec 32 := 1#32
  let v14 : BitVec 32 := Scalar.select v13 c1_i32_7 c4_i32
  let v15 : BitVec 32 := Scalar.remsi v12 v14
  let c0_i32_9 : BitVec 32 := 0#32
  let v17 : BitVec 1 := Scalar.cmpi .slt v15 c0_i32_9
  let c0_i32_10 : BitVec 32 := 0#32
  let v18 : BitVec 1 := Scalar.cmpi .slt v14 c0_i32_10
  let v19 : BitVec 1 := Scalar.xori v17 v18
  let c0_i32_8 : BitVec 32 := 0#32
  let v16 : BitVec 1 := Scalar.cmpi .ne v15 c0_i32_8
  let v20 : BitVec 1 := Scalar.andi v19 v16
  let v21 : BitVec 32 := Scalar.addi v15 v14
  let v22 : BitVec 32 := Scalar.select v20 v21 v15
  let c0_i32_11 : BitVec 32 := 0#32
  let v23 : BitVec 1 := Scalar.cmpi .eq v22 c0_i32_11
  let true_48 : BitVec 1 := 1#1
  let v104 : BitVec 1 := Scalar.xori v23 true_48
  let v105 : BitVec 32 := Scalar.extui v104
  let c0_i32_49 : BitVec 32 := 0#32
  let v106 : BitVec 1 := Scalar.cmpi .ne v105 c0_i32_49
  v106

def k0_cond7 (i : grid0.Coords) : BitVec 1 :=
  let arg0 : BitVec 32 := BitVec.ofNat 32 (i 0).val
  let c1_i32 : BitVec 32 := 1#32
  let v12 : BitVec 32 := Scalar.subi arg0 c1_i32
  let c0_i32_12 : BitVec 32 := 0#32
  let v24 : BitVec 1 := Scalar.cmpi .eq v12 c0_i32_12
  let v64 : BitVec 32 := Scalar.extui v24
  let c0_i32_30 : BitVec 32 := 0#32
  let v65 : BitVec 1 := Scalar.cmpi .ne v64 c0_i32_30
  v65

def k0_cond8 (i : grid0.Coords) : BitVec 1 :=
  let arg0 : BitVec 32 := BitVec.ofNat 32 (i 0).val
  let c1_i32 : BitVec 32 := 1#32
  let v12 : BitVec 32 := Scalar.subi arg0 c1_i32
  let c0_i32_12 : BitVec 32 := 0#32
  let v24 : BitVec 1 := Scalar.cmpi .eq v12 c0_i32_12
  let true_31 : BitVec 1 := 1#1
  let v66 : BitVec 1 := Scalar.xori v24 true_31
  let v67 : BitVec 32 := Scalar.extui v66
  let c0_i32_32 : BitVec 32 := 0#32
  let v68 : BitVec 1 := Scalar.cmpi .ne v67 c0_i32_32
  v68

def k0_cond18 (i : grid0.Coords) : BitVec 1 :=
  let arg0 : BitVec 32 := BitVec.ofNat 32 (i 0).val
  let c1_i32 : BitVec 32 := 1#32
  let v12 : BitVec 32 := Scalar.subi arg0 c1_i32
  let c0_i32_12 : BitVec 32 := 0#32
  let v24 : BitVec 1 := Scalar.cmpi .eq v12 c0_i32_12
  let v64 : BitVec 32 := Scalar.extui v24
  let c0_i32_30 : BitVec 32 := 0#32
  let v65 : BitVec 1 := Scalar.cmpi .ne v64 c0_i32_30
  v65

def k0_cond19 (i : grid0.Coords) : BitVec 1 :=
  let arg0 : BitVec 32 := BitVec.ofNat 32 (i 0).val
  let c1_i32 : BitVec 32 := 1#32
  let v12 : BitVec 32 := Scalar.subi arg0 c1_i32
  let c0_i32_12 : BitVec 32 := 0#32
  let v24 : BitVec 1 := Scalar.cmpi .eq v12 c0_i32_12
  let true_31 : BitVec 1 := 1#1
  let v66 : BitVec 1 := Scalar.xori v24 true_31
  let v67 : BitVec 32 := Scalar.extui v66
  let c0_i32_32 : BitVec 32 := 0#32
  let v68 : BitVec 1 := Scalar.cmpi .ne v67 c0_i32_32
  v68

def k0_cond11 (i : grid0.Coords) : BitVec 1 :=
  let arg0 : BitVec 32 := BitVec.ofNat 32 (i 0).val
  let c1_i32 : BitVec 32 := 1#32
  let v12 : BitVec 32 := Scalar.subi arg0 c1_i32
  let c0_i32_12 : BitVec 32 := 0#32
  let v24 : BitVec 1 := Scalar.cmpi .eq v12 c0_i32_12
  let v114 : BitVec 32 := Scalar.extui v24
  let c0_i32_53 : BitVec 32 := 0#32
  let v115 : BitVec 1 := Scalar.cmpi .ne v114 c0_i32_53
  v115

def k0_cond12 (i : grid0.Coords) : BitVec 1 :=
  let arg0 : BitVec 32 := BitVec.ofNat 32 (i 0).val
  let c1_i32 : BitVec 32 := 1#32
  let v12 : BitVec 32 := Scalar.subi arg0 c1_i32
  let c0_i32_12 : BitVec 32 := 0#32
  let v24 : BitVec 1 := Scalar.cmpi .eq v12 c0_i32_12
  let true_54 : BitVec 1 := 1#1
  let v116 : BitVec 1 := Scalar.xori v24 true_54
  let v117 : BitVec 32 := Scalar.extui v116
  let c0_i32_55 : BitVec 32 := 0#32
  let v118 : BitVec 1 := Scalar.cmpi .ne v117 c0_i32_55
  v118

def k0_cond22 (i : grid0.Coords) : BitVec 1 :=
  let arg0 : BitVec 32 := BitVec.ofNat 32 (i 0).val
  let c1_i32 : BitVec 32 := 1#32
  let v12 : BitVec 32 := Scalar.subi arg0 c1_i32
  let c0_i32_12 : BitVec 32 := 0#32
  let v24 : BitVec 1 := Scalar.cmpi .eq v12 c0_i32_12
  let v114 : BitVec 32 := Scalar.extui v24
  let c0_i32_53 : BitVec 32 := 0#32
  let v115 : BitVec 1 := Scalar.cmpi .ne v114 c0_i32_53
  v115

def k0_cond23 (i : grid0.Coords) : BitVec 1 :=
  let arg0 : BitVec 32 := BitVec.ofNat 32 (i 0).val
  let c1_i32 : BitVec 32 := 1#32
  let v12 : BitVec 32 := Scalar.subi arg0 c1_i32
  let c0_i32_12 : BitVec 32 := 0#32
  let v24 : BitVec 1 := Scalar.cmpi .eq v12 c0_i32_12
  let true_54 : BitVec 1 := 1#1
  let v116 : BitVec 1 := Scalar.xori v24 true_54
  let v117 : BitVec 32 := Scalar.extui v116
  let c0_i32_55 : BitVec 32 := 0#32
  let v118 : BitVec 1 := Scalar.cmpi .ne v117 c0_i32_55
  v118

def cc0_transform_0 (i : grid0.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  let c0_i32_8 : BitVec 32 := 0#32
  ![v18.toNat, c0_i32_6.toNat, c0_i32_7.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_10 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  let c0_i32_8 : BitVec 32 := 0#32
  ![v18.toNat, c0_i32_6.toNat, c0_i32_7.toNat]

def cc0_transform_11 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  let c0_i32_8 : BitVec 32 := 0#32
  ![v18.toNat, c0_i32_6.toNat, c0_i32_7.toNat]

def cc0_transform_12 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  let c0_i32_8 : BitVec 32 := 0#32
  ![v18.toNat, c0_i32_6.toNat, c0_i32_7.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x6x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference6Ideal.lean ====
abbrev S2x4096x2816 : Shape := ⟨3, ![2, 4096, 2816]⟩
abbrev S1x1024x2816 : Shape := ⟨3, ![1, 1024, 2816]⟩
abbrev S4096x1024 : Shape := ⟨2, ![4096, 1024]⟩
abbrev S2x4096x512 : Shape := ⟨3, ![2, 4096, 512]⟩
abbrev S1x1024x1024 : Shape := ⟨3, ![1, 1024, 1024]⟩
abbrev S1x1024 : Shape := ⟨2, ![1, 1024]⟩
abbrev S2x6x1024 : Shape := ⟨3, ![2, 6, 1024]⟩
abbrev S2x2x2048x2816 : Shape := ⟨4, ![2, 2, 2048, 2816]⟩
abbrev S4096x2x512 : Shape := ⟨3, ![4096, 2, 512]⟩
abbrev S2x2048x1024 : Shape := ⟨3, ![2, 2048, 1024]⟩
abbrev S1024x1024 : Shape := ⟨2, ![1024, 1024]⟩
abbrev S1024 : Shape := ⟨1, ![1024]⟩
abbrev S2x1x1024 : Shape := ⟨3, ![2, 1, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024x2816 : Shape := ⟨2, ![1024, 2816]⟩
abbrev S2x2048x2816 : Shape := ⟨3, ![2, 2048, 2816]⟩
abbrev S1x2x2048x2816 : Shape := ⟨4, ![1, 2, 2048, 2816]⟩
abbrev S2x1024 : Shape := ⟨2, ![2, 1024]⟩

abbrev nBuf : Space → Nat
  | .hbm => 156
  | .vmem => 0
  | .smem => 0
  | _ => 0

abbrev hbmTy0_0 (i : Nat) : BufTy := match i % 128 with
  | 0 => ⟨S2x4096x2816, .bf16⟩
  | 1 => ⟨S1x1024x2816, .f32⟩
  | 2 => ⟨S1x1024x2816, .f32⟩
  | 3 => ⟨S4096x1024, .f32⟩
  | 4 => ⟨S2x4096x512, .bf16⟩
  | 5 => ⟨S1x1024x1024, .f32⟩
  | 6 => ⟨S4096x1024, .f32⟩
  | 7 => ⟨S1x1024, .f32⟩
  | 8 => ⟨S1x1024, .f32⟩
  | 9 => ⟨S2x6x1024, .f32⟩
  | 10 => ⟨S2x4096x2816, .f32⟩
  | 11 => ⟨S2x2x2048x2816, .f32⟩
  | 12 => ⟨S2x4096x512, .f32⟩
  | 13 => ⟨S4096x2x512, .f32⟩
  | 14 => ⟨S2x2048x1024, .f32⟩
  | 15 => ⟨S1024x1024, .f32⟩
  | 16 => ⟨S2x2048x1024, .f32⟩
  | 17 => ⟨S2x2048x1024, .f32⟩
  | 18 => ⟨S1024, .f32⟩
  | 19 => ⟨S2x1x1024, .f32⟩
  | 20 => ⟨S1024, .f32⟩
  | 21 => ⟨S2x1x1024, .f32⟩
  | 22 => ⟨S2x1x1024, .f32⟩
  | 23 => ⟨S2x2048x1024, .f32⟩
  | 24 => ⟨S_, .f32⟩
  | 25 => ⟨S2x2048, .f32⟩
  | 26 => ⟨S2x2048x1, .f32⟩
  | 27 => ⟨S_, .f32⟩
  | 28 => ⟨S2x2048x1, .f32⟩
  | 29 => ⟨S2x2048x1, .f32⟩
  | 30 => ⟨S_, .f32⟩
  | 31 => ⟨S2x2048x1, .f32⟩
  | 32 => ⟨S2x2048x1, .f32⟩
  | 33 => ⟨S2x2048x1, .f32⟩
  | 34 => ⟨S2x2048x1, .f32⟩
  | 35 => ⟨S_, .f32⟩
  | 36 => ⟨S2x2048x1, .f32⟩
  | 37 => ⟨S2x2048x1, .f32⟩
  | 38 => ⟨S2x2048x1024, .f32⟩
  | 39 => ⟨S2x2048x1024, .f32⟩
  | 40 => ⟨S1x1x1024, .f32⟩
  | 41 => ⟨S2x2048x1024, .f32⟩
  | 42 => ⟨S2x2048x1024, .f32⟩
  | 43 => ⟨S2x2048x1024, .f32⟩
  | 44 => ⟨S2x2048x1024, .f32⟩
  | 45 => ⟨S2x2048x1024, .f32⟩
  | 46 => ⟨S2x2048x1024, .f32⟩
  | 47 => ⟨S_, .f32⟩
  | 48 => ⟨S2x2048, .f32⟩
  | 49 => ⟨S2x2048x1, .f32⟩
  | 50 => ⟨S_, .f32⟩
  | 51 => ⟨S2x2048x1, .f32⟩
  | 52 => ⟨S2x2048x1, .f32⟩
  | 53 => ⟨S_, .f32⟩
  | 54 => ⟨S2x2048x1, .f32⟩
  | 55 => ⟨S2x2048x1, .f32⟩
  | 56 => ⟨S2x2048x1, .f32⟩
  | 57 => ⟨S2x2048x1, .f32⟩
  | 58 => ⟨S_, .f32⟩
  | 59 => ⟨S2x2048x1, .f32⟩
  | 60 => ⟨S2x2048x1, .f32⟩
  | 61 => ⟨S2x2048x1024, .f32⟩
  | 62 => ⟨S2x2048x1024, .f32⟩
  | 63 => ⟨S1x1x1024, .f32⟩
  | 64 => ⟨S2x2048x1024, .f32⟩
  | 65 => ⟨S2x2048x1024, .f32⟩
  | 66 => ⟨S_, .f32⟩
  | 67 => ⟨S2x1x1024, .f32⟩
  | 68 => ⟨S2x1x1024, .f32⟩
  | 69 => ⟨S2x2048x1024, .f32⟩
  | 70 => ⟨S2x2048x1024, .f32⟩
  | 71 => ⟨S2x2048x1024, .f32⟩
  | 72 => ⟨S2x2048x1024, .f32⟩
  | 73 => ⟨S1024x2816, .f32⟩
  | 74 => ⟨S2x2048x2816, .f32⟩
  | 75 => ⟨S1024x2816, .f32⟩
  | 76 => ⟨S2x2048x2816, .f32⟩
  | 77 => ⟨S1x2x2048x2816, .f32⟩
  | 78 => ⟨S2x2048x2816, .f32⟩
  | 79 => ⟨S1x2x2048x2816, .f32⟩
  | 80 => ⟨S2x2048x2816, .f32⟩
  | 81 => ⟨S2x2048x1024, .f32⟩
  | 82 => ⟨S2x2048x1024, .f32⟩
  | 83 => ⟨S2x2048x1024, .f32⟩
  | 84 => ⟨S2x2048x1024, .f32⟩
  | 85 => ⟨S_, .f32⟩
  | 86 => ⟨S2x1024, .f32⟩
  | 87 => ⟨S2x1x1024, .f32⟩
  | 88 => ⟨S2x2048x1024, .f32⟩
  | 89 => ⟨S_, .f32⟩
  | 90 => ⟨S2x1024, .f32⟩
  | 91 => ⟨S2x1x1024, .f32⟩
  | 92 => ⟨S2x2048x1024, .f32⟩
  | 93 => ⟨S2x2048x1024, .f32⟩
  | 94 => ⟨S2x2048x1024, .f32⟩
  | 95 => ⟨S_, .f32⟩
  | 96 => ⟨S1024, .f32⟩
  | 97 => ⟨S1x1x1024, .f32⟩
  | 98 => ⟨S2x2048x1024, .f32⟩
  | 99 => ⟨S2x2048x1024, .f32⟩
  | 100 => ⟨S_, .f32⟩
  | 101 => ⟨S1024, .f32⟩
  | 102 => ⟨S2x2048x1024, .f32⟩
  | 103 => ⟨S_, .f32⟩
  | 104 => ⟨S2x2048, .f32⟩
  | 105 => ⟨S2x2048x1, .f32⟩
  | 106 => ⟨S2x2048x1024, .f32⟩
  | 107 => ⟨S2x2048x1024, .f32⟩
  | 108 => ⟨S2x2048x1024, .f32⟩
  | 109 => ⟨S2x2048x1, .f32⟩
  | 110 => ⟨S_, .f32⟩
  | 111 => ⟨S2x2048x1, .f32⟩
  | 112 => ⟨S2x2048x1, .f32⟩
  | 113 => ⟨S_, .f32⟩
  | 114 => ⟨S2x2048, .f32⟩
  | 115 => ⟨S2x2048x1024, .f32⟩
  | 116 => ⟨S2x2048x1024, .f32⟩
  | 117 => ⟨S2x2048x1024, .f32⟩
  | 118 => ⟨S2x2048x1024, .f32⟩
  | 119 => ⟨S2x2048x1024, .f32⟩
  | 120 => ⟨S2x2048x1024, .f32⟩
  | 121 => ⟨S2x2048x1024, .f32⟩
  | 122 => ⟨S2x2048x1024, .f32⟩
  | 123 => ⟨S_, .f32⟩
  | 124 => ⟨S2x1024, .f32⟩
  | 125 => ⟨S2x1x1024, .f32⟩
  | 126 => ⟨S2x2048x1024, .f32⟩
  | 127 => ⟨S_, .f32⟩
  | _ => ⟨S2x4096x2816, .bf16⟩

abbrev hbmTy0_1 (i : Nat) : BufTy := match i % 128 with
  | 0 => ⟨S1024, .f32⟩
  | 1 => ⟨S1x1x1024, .f32⟩
  | 2 => ⟨S2x2048x1024, .f32⟩
  | 3 => ⟨S2x2048x1024, .f32⟩
  | 4 => ⟨S_, .f32⟩
  | 5 => ⟨S1024, .f32⟩
  | 6 => ⟨S2x2048x1024, .f32⟩
  | 7 => ⟨S_, .f32⟩
  | 8 => ⟨S2x2048, .f32⟩
  | 9 => ⟨S2x2048x1, .f32⟩
  | 10 => ⟨S2x2048x1024, .f32⟩
  | 11 => ⟨S2x2048x1024, .f32⟩
  | 12 => ⟨S2x2048x1, .f32⟩
  | 13 => ⟨S_, .f32⟩
  | 14 => ⟨S2x2048x1, .f32⟩
  | 15 => ⟨S2x2048x1, .f32⟩
  | 16 => ⟨S_, .f32⟩
  | 17 => ⟨S2x2048, .f32⟩
  | 18 => ⟨S2x2048x1024, .f32⟩
  | 19 => ⟨S2x2048x1024, .f32⟩
  | 20 => ⟨S2x2048x1024, .f32⟩
  | 21 => ⟨S2x2048x1024, .f32⟩
  | 22 => ⟨S2x2048x1024, .f32⟩
  | 23 => ⟨S4096x1024, .f32⟩
  | 24 => ⟨S4096x1024, .f32⟩
  | 25 => ⟨S4096x1024, .bf16⟩
  | 26 => ⟨S1x1024, .f32⟩
  | 27 => ⟨S1x1024, .f32⟩
  | _ => ⟨S2x4096x2816, .bf16⟩

abbrev hbmTy (i : Nat) : BufTy := match i / 128 with
  | 0 => hbmTy0_0 i
  | 1 => hbmTy0_1 i
  | _ => ⟨S2x4096x2816, .bf16⟩

abbrev bufTy : (tb : Table) → Fin (tcTables nBuf tb) → BufTy
  | .hbm, ⟨i, _⟩ => hbmTy i
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_cst_4 : Ref sig .tc := ⟨.hbm, 50, rfl⟩
abbrev main_v35 : Ref sig .tc := ⟨.hbm, 51, rfl⟩
abbrev main_v36 : Ref sig .tc := ⟨.hbm, 52, rfl⟩
abbrev main_cst_5 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_6 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_7 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_8 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_9 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_cst_10 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_cst_11 : Ref sig .tc := ⟨.hbm, 100, rfl⟩
abbrev main_v78 : Ref sig .tc := ⟨.hbm, 101, rfl⟩
abbrev main_v79 : Ref sig .tc := ⟨.hbm, 102, rfl⟩
abbrev main_cst_12 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_cst_13 : Ref sig .tc := ⟨.hbm, 110, rfl⟩
abbrev main_v86 : Ref sig .tc := ⟨.hbm, 111, rfl⟩
abbrev main_v87 : Ref sig .tc := ⟨.hbm, 112, rfl⟩
abbrev main_cst_14 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_cst_15 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_cst_16 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_cst_17 : Ref sig .tc := ⟨.hbm, 132, rfl⟩
abbrev main_v104 : Ref sig .tc := ⟨.hbm, 133, rfl⟩
abbrev main_v105 : Ref sig .tc := ⟨.hbm, 134, rfl⟩
abbrev main_cst_18 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_cst_19 : Ref sig .tc := ⟨.hbm, 141, rfl⟩
abbrev main_v111 : Ref sig .tc := ⟨.hbm, 142, rfl⟩
abbrev main_v112 : Ref sig .tc := ⟨.hbm, 143, rfl⟩
abbrev main_cst_20 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩

abbrev nD : Nat := 1
abbrev τ : Topo := Topo.v7x

variable {F : FTy → Type} [FloatOps F]
-- ==== Kernel7.lean ====
abbrev S4096x2048 : Shape := ⟨2, ![4096, 2048]⟩
abbrev S1x4x128x128 : Shape := ⟨4, ![1, 4, 128, 128]⟩
abbrev S1x512 : Shape := ⟨2, ![1, 512]⟩
abbrev S2x4096x512 : Shape := ⟨3, ![2, 4096, 512]⟩
abbrev S4x128x128 : Shape := ⟨3, ![4, 128, 128]⟩
abbrev S2048x512 : Shape := ⟨2, ![2048, 512]⟩
abbrev S1x2048x512 : Shape := ⟨3, ![1, 2048, 512]⟩
abbrev S2048x1 : Shape := ⟨2, ![2048, 1]⟩
abbrev S2048x128 : Shape := ⟨2, ![2048, 128]⟩
abbrev S1x128x128 : Shape := ⟨3, ![1, 128, 128]⟩
abbrev S128x128 : Shape := ⟨2, ![128, 128]⟩
abbrev S1x128 : Shape := ⟨2, ![1, 128]⟩
abbrev S1x2048x128 : Shape := ⟨3, ![1, 2048, 128]⟩

abbrev nBuf : Space → Nat
  | .hbm => 6
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S1x4x128x128, .f32⟩
  | .hbm, ⟨2, _⟩ => ⟨S1x512, .f32⟩
  | .hbm, ⟨3, _⟩ => ⟨S2x4096x512, .bf16⟩
  | .hbm, ⟨4, _⟩ => ⟨S4x128x128, .f32⟩
  | .hbm, ⟨5, _⟩ => ⟨S2x4096x512, .bf16⟩
  | .local _ .vmem, ⟨0, _⟩ => ⟨S2048x512, .bf16⟩
  | .local _ .vmem, ⟨1, _⟩ => ⟨S2048x512, .bf16⟩
  | .local _ .vmem, ⟨2, _⟩ => ⟨S4x128x128, .f32⟩
  | .local _ .vmem, ⟨3, _⟩ => ⟨S1x512, .f32⟩
  | .local _ .vmem, ⟨4, _⟩ => ⟨S1x2048x512, .bf16⟩
  | .local _ .vmem, ⟨5, _⟩ => ⟨S1x2048x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S4096x2048 : Shape := ⟨2, ![4096, 2048]⟩
abbrev S1x4x128x128 : Shape := ⟨4, ![1, 4, 128, 128]⟩
abbrev S1x512 : Shape := ⟨2, ![1, 512]⟩
abbrev S2x4096x512 : Shape := ⟨3, ![2, 4096, 512]⟩
abbrev S4096x512 : Shape := ⟨2, ![4096, 512]⟩
abbrev S2x2048x512 : Shape := ⟨3, ![2, 2048, 512]⟩
abbrev S4x128x128 : Shape := ⟨3, ![4, 128, 128]⟩
abbrev S512 : Shape := ⟨1, ![512]⟩
abbrev S_ : Shape := ⟨0, ![]⟩
abbrev S2x1x512 : Shape := ⟨3, ![2, 1, 512]⟩
abbrev S2x2049x512 : Shape := ⟨3, ![2, 2049, 512]⟩
abbrev S2048 : Shape := ⟨1, ![2048]⟩
abbrev S2x2049x128 : Shape := ⟨3, ![2, 2049, 128]⟩
abbrev S2x2048x128 : Shape := ⟨3, ![2, 2048, 128]⟩
abbrev S2048x1 : Shape := ⟨2, ![2048, 1]⟩
abbrev S1x2048x1 : Shape := ⟨3, ![1, 2048, 1]⟩
abbrev S2x2048x1x128 : Shape := ⟨4, ![2, 2048, 1, 128]⟩
abbrev S2x2048x4x128 : Shape := ⟨4, ![2, 2048, 4, 128]⟩
abbrev S4x128x2x2048 : Shape := ⟨4, ![4, 128, 2, 2048]⟩
abbrev S1x1x512 : Shape := ⟨3, ![1, 1, 512]⟩
abbrev S1x4096x512 : Shape := ⟨3, ![1, 4096, 512]⟩

abbrev nBuf : Space → Nat
  | .hbm => 155
  | .vmem => 0
  | .smem => 0
  | _ => 0

abbrev hbmTy0_0 (i : Nat) : BufTy := match i % 128 with
  | 0 => ⟨S4096x2048, .bf16⟩
  | 1 => ⟨S1x4x128x128, .f32⟩
  | 2 => ⟨S1x512, .f32⟩
  | 3 => ⟨S2x4096x512, .bf16⟩
  | 4 => ⟨S4096x512, .bf16⟩
  | 5 => ⟨S4096x512, .f32⟩
  | 6 => ⟨S2x2048x512, .f32⟩
  | 7 => ⟨S4x128x128, .f32⟩
  | 8 => ⟨S512, .f32⟩
  | 9 => ⟨S_, .f32⟩
  | 10 => ⟨S2x1x512, .f32⟩
  | 11 => ⟨S_, .f32⟩
  | 12 => ⟨S_, .f32⟩
  | 13 => ⟨S2x2048x512, .f32⟩
  | 14 => ⟨S2x2049x512, .f32⟩
  | 15 => ⟨S2048, .i32⟩
  | 16 => ⟨S_, .i32⟩
  | 17 => ⟨S2048, .i32⟩
  | 18 => ⟨S2048, .i32⟩
  | 19 => ⟨S_, .i32⟩
  | 20 => ⟨S2048, .i32⟩
  | 21 => ⟨S2048, .i32⟩
  | 22 => ⟨S_, .i32⟩
  | 23 => ⟨S2048, .i32⟩
  | 24 => ⟨S2048, .i32⟩
  | 25 => ⟨S_, .i32⟩
  | 26 => ⟨S2048, .i32⟩
  | 27 => ⟨S2048, .i32⟩
  | 28 => ⟨S2048, .i32⟩
  | 29 => ⟨S2048, .f32⟩
  | 30 => ⟨S2x2049x128, .f32⟩
  | 31 => ⟨S2x2048x128, .f32⟩
  | 32 => ⟨S_, .i32⟩
  | 33 => ⟨S2048, .i32⟩
  | 34 => ⟨S2048, .i1⟩
  | 35 => ⟨S_, .i32⟩
  | 36 => ⟨S2048, .i32⟩
  | 37 => ⟨S2048, .i32⟩
  | 38 => ⟨S2048, .i32⟩
  | 39 => ⟨S2048x1, .i32⟩
  | 40 => ⟨S2x2048x128, .f32⟩
  | 41 => ⟨S2x2048x128, .f32⟩
  | 42 => ⟨S1x2048x1, .f32⟩
  | 43 => ⟨S2x2048x128, .f32⟩
  | 44 => ⟨S2x2048x128, .f32⟩
  | 45 => ⟨S2x2048x128, .f32⟩
  | 46 => ⟨S2x2048x128, .f32⟩
  | 47 => ⟨S_, .i32⟩
  | 48 => ⟨S2048, .i32⟩
  | 49 => ⟨S2048, .i32⟩
  | 50 => ⟨S_, .i32⟩
  | 51 => ⟨S2048, .i32⟩
  | 52 => ⟨S2048, .i32⟩
  | 53 => ⟨S_, .i32⟩
  | 54 => ⟨S2048, .i32⟩
  | 55 => ⟨S2048, .i32⟩
  | 56 => ⟨S_, .i32⟩
  | 57 => ⟨S2048, .i32⟩
  | 58 => ⟨S2048, .i32⟩
  | 59 => ⟨S2048, .i32⟩
  | 60 => ⟨S2048, .f32⟩
  | 61 => ⟨S2x2049x128, .f32⟩
  | 62 => ⟨S2x2048x128, .f32⟩
  | 63 => ⟨S_, .i32⟩
  | 64 => ⟨S2048, .i32⟩
  | 65 => ⟨S2048, .i1⟩
  | 66 => ⟨S_, .i32⟩
  | 67 => ⟨S2048, .i32⟩
  | 68 => ⟨S2048, .i32⟩
  | 69 => ⟨S2048, .i32⟩
  | 70 => ⟨S2048x1, .i32⟩
  | 71 => ⟨S2x2048x128, .f32⟩
  | 72 => ⟨S2x2048x128, .f32⟩
  | 73 => ⟨S1x2048x1, .f32⟩
  | 74 => ⟨S2x2048x128, .f32⟩
  | 75 => ⟨S2x2048x128, .f32⟩
  | 76 => ⟨S2x2048x128, .f32⟩
  | 77 => ⟨S2x2048x128, .f32⟩
  | 78 => ⟨S_, .i32⟩
  | 79 => ⟨S2048, .i32⟩
  | 80 => ⟨S2048, .i32⟩
  | 81 => ⟨S_, .i32⟩
  | 82 => ⟨S2048, .i32⟩
  | 83 => ⟨S2048, .i32⟩
  | 84 => ⟨S_, .i32⟩
  | 85 => ⟨S2048, .i32⟩
  | 86 => ⟨S2048, .i32⟩
  | 87 => ⟨S_, .i32⟩
  | 88 => ⟨S2048, .i32⟩
  | 89 => ⟨S2048, .i32⟩
  | 90 => ⟨S2048, .i32⟩
  | 91 => ⟨S2048, .f32⟩
  | 92 => ⟨S2x2049x128, .f32⟩
  | 93 => ⟨S2x2048x128, .f32⟩
  | 94 => ⟨S_, .i32⟩
  | 95 => ⟨S2048, .i32⟩
  | 96 => ⟨S2048, .i1⟩
  | 97 => ⟨S_, .i32⟩
  | 98 => ⟨S2048, .i32⟩
  | 99 => ⟨S2048, .i32⟩
  | 100 => ⟨S2048, .i32⟩
  | 101 => ⟨S2048x1, .i32⟩
  | 102 => ⟨S2x2048x128, .f32⟩
  | 103 => ⟨S2x2048x128, .f32⟩
  | 104 => ⟨S1x2048x1, .f32⟩
  | 105 => ⟨S2x2048x128, .f32⟩
  | 106 => ⟨S2x2048x128, .f32⟩
  | 107 => ⟨S2x2048x128, .f32⟩
  | 108 => ⟨S2x2048x128, .f32⟩
  | 109 => ⟨S_, .i32⟩
  | 110 => ⟨S2048, .i32⟩
  | 111 => ⟨S2048, .i32⟩
  | 112 => ⟨S_, .i32⟩
  | 113 => ⟨S2048, .i32⟩
  | 114 => ⟨S2048, .i32⟩
  | 115 => ⟨S_, .i32⟩
  | 116 => ⟨S2048, .i32⟩
  | 117 => ⟨S2048, .i32⟩
  | 118 => ⟨S_, .i32⟩
  | 119 => ⟨S2048, .i32⟩
  | 120 => ⟨S2048, .i32⟩
  | 121 => ⟨S2048, .i32⟩
  | 122 => ⟨S2048, .f32⟩
  | 123 => ⟨S2x2049x128, .f32⟩
  | 124 => ⟨S2x2048x128, .f32⟩
  | 125 => ⟨S_, .i32⟩
  | 126 => ⟨S2048, .i32⟩
  | 127 => ⟨S2048, .i1⟩
  | _ => ⟨S4096x2048, .bf16⟩

abbrev hbmTy0_1 (i : Nat) : BufTy := match i % 128 with
  | 0 => ⟨S_, .i32⟩
  | 1 => ⟨S2048, .i32⟩
  | 2 => ⟨S2048, .i32⟩
  | 3 => ⟨S2048, .i32⟩
  | 4 => ⟨S2048x1, .i32⟩
  | 5 => ⟨S2x2048x128, .f32⟩
  | 6 => ⟨S2x2048x128, .f32⟩
  | 7 => ⟨S1x2048x1, .f32⟩
  | 8 => ⟨S2x2048x128, .f32⟩
  | 9 => ⟨S2x2048x128, .f32⟩
  | 10 => ⟨S2x2048x128, .f32⟩
  | 11 => ⟨S2x2048x128, .f32⟩
  | 12 => ⟨S2x2048x1x128, .f32⟩
  | 13 => ⟨S2x2048x1x128, .f32⟩
  | 14 => ⟨S2x2048x1x128, .f32⟩
  | 15 => ⟨S2x2048x1x128, .f32⟩
  | 16 => ⟨S2x2048x4x128, .f32⟩
  | 17 => ⟨S4x128x2x2048, .f32⟩
  | 18 => ⟨S2x2048x4x128, .f32⟩
  | 19 => ⟨S2x2048x512, .f32⟩
  | 20 => ⟨S1x1x512, .f32⟩
  | 21 => ⟨S2x2048x512, .f32⟩
  | 22 => ⟨S2x2048x512, .f32⟩
  | 23 => ⟨S1x4096x512, .bf16⟩
  | 24 => ⟨S1x4096x512, .f32⟩
  | 25 => ⟨S1x4096x512, .bf16⟩
  | 26 => ⟨S2x4096x512, .bf16⟩
  | _ => ⟨S4096x2048, .bf16⟩

abbrev hbmTy (i : Nat) : BufTy := match i / 128 with
  | 0 => hbmTy0_0 i
  | 1 => hbmTy0_1 i
  | _ => ⟨S4096x2048, .bf16⟩

abbrev bufTy : (tb : Table) → Fin (tcTables nBuf tb) → BufTy
  | .hbm, ⟨i, _⟩ => hbmTy i
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_call0_call0_cst : Ref sig .tc := ⟨.hbm, 11, rfl⟩
abbrev main_call0_call0_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c_5 : Ref sig .tc := ⟨.hbm, 47, rfl⟩
abbrev main_v34 : Ref sig .tc := ⟨.hbm, 48, rfl⟩
abbrev main_v35 : Ref sig .tc := ⟨.hbm, 49, rfl⟩
abbrev main_c_6 : Ref sig .tc := ⟨.hbm, 50, rfl⟩
abbrev main_v36 : Ref sig .tc := ⟨.hbm, 51, rfl⟩
abbrev main_v37 : Ref sig .tc := ⟨.hbm, 52, rfl⟩
abbrev main_c_7 : Ref sig .tc := ⟨.hbm, 53, rfl⟩
abbrev main_v38 : Ref sig .tc := ⟨.hbm, 54, rfl⟩
abbrev main_v39 : Ref sig .tc := ⟨.hbm, 55, rfl⟩
abbrev main_c_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_c_9 : Ref sig .tc := ⟨.hbm, 63, rfl⟩
abbrev main_v46 : Ref sig .tc := ⟨.hbm, 64, rfl⟩
abbrev main_v47 : Ref sig .tc := ⟨.hbm, 65, rfl⟩
abbrev main_c_10 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_c_11 : Ref sig .tc := ⟨.hbm, 78, rfl⟩
abbrev main_v59 : Ref sig .tc := ⟨.hbm, 79, rfl⟩
abbrev main_v60 : Ref sig .tc := ⟨.hbm, 80, rfl⟩
abbrev main_c_12 : Ref sig .tc := ⟨.hbm, 81, rfl⟩
abbrev main_v61 : Ref sig .tc := ⟨.hbm, 82, rfl⟩
abbrev main_v62 : Ref sig .tc := ⟨.hbm, 83, rfl⟩
abbrev main_c_13 : Ref sig .tc := ⟨.hbm, 84, rfl⟩
abbrev main_v63 : Ref sig .tc := ⟨.hbm, 85, rfl⟩
abbrev main_v64 : Ref sig .tc := ⟨.hbm, 86, rfl⟩
abbrev main_c_14 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_c_15 : Ref sig .tc := ⟨.hbm, 94, rfl⟩
abbrev main_v71 : Ref sig .tc := ⟨.hbm, 95, rfl⟩
abbrev main_v72 : Ref sig .tc := ⟨.hbm, 96, rfl⟩
abbrev main_c_16 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_c_17 : Ref sig .tc := ⟨.hbm, 109, rfl⟩
abbrev main_v84 : Ref sig .tc := ⟨.hbm, 110, rfl⟩
abbrev main_v85 : Ref sig .tc := ⟨.hbm, 111, rfl⟩
abbrev main_c_18 : Ref sig .tc := ⟨.hbm, 112, rfl⟩
abbrev main_v86 : Ref sig .tc := ⟨.hbm, 113, rfl⟩
abbrev main_v87 : Ref sig .tc := ⟨.hbm, 114, rfl⟩
abbrev main_c_19 : Ref sig .tc := ⟨.hbm, 115, rfl⟩
abbrev main_v88 : Ref sig .tc := ⟨.hbm, 116, rfl⟩
abbrev main_v89 : Ref sig .tc := ⟨.hbm, 117, rfl⟩
abbrev main_c_20 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_c_21 : Ref sig .tc := ⟨.hbm, 125, rfl⟩
abbrev main_v96 : Ref sig .tc := ⟨.hbm, 126, rfl⟩
abbrev main_v97 : Ref sig .tc := ⟨.hbm, 127, rfl⟩
abbrev main_c_22 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩

abbrev nD : Nat := 1
abbrev τ : Topo := Topo.v7x

variable {F : FTy → Type} [FloatOps F]
-- ==== Kernel8.lean ====
abbrev S4096x1024 : Shape := ⟨2, ![4096, 1024]⟩
abbrev S1x1024 : Shape := ⟨2, ![1, 1024]⟩
abbrev S2x6x1024 : Shape := ⟨3, ![2, 6, 1024]⟩
abbrev S256x1024 : Shape := ⟨2, ![256, 1024]⟩
abbrev S1x6x1024 : Shape := ⟨3, ![1, 6, 1024]⟩
abbrev S256 : Shape := ⟨1, ![256]⟩
abbrev S256x1 : Shape := ⟨2, ![256, 1]⟩
abbrev S1x1x1024 : Shape := ⟨3, ![1, 1, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S2x6x1024, .f32⟩
  | .hbm, ⟨3, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x6x1024, .f32⟩
  | .local _ .vmem, ⟨4, _⟩ => ⟨S1x6x1024, .f32⟩
  | .local _ .vmem, ⟨5, _⟩ => ⟨S256x1024, .bf16⟩
  | .local _ .vmem, ⟨6, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference8Ideal.lean ====
abbrev S4096x1024 : Shape := ⟨2, ![4096, 1024]⟩
abbrev S1x1024 : Shape := ⟨2, ![1, 1024]⟩
abbrev S2x6x1024 : Shape := ⟨3, ![2, 6, 1024]⟩
abbrev S2x2048x1024 : Shape := ⟨3, ![2, 2048, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x1x1024 : Shape := ⟨3, ![2, 1, 1024]⟩

abbrev nBuf : Space → Nat
  | .hbm => 32
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S2x6x1024, .f32⟩
  | .hbm, ⟨3, _⟩ => ⟨S2x2048x1024, .f32⟩
  | .hbm, ⟨4, _⟩ => ⟨S1024, .f32⟩
  | .hbm, ⟨5, _⟩ => ⟨S2x2048x1024, .f32⟩
  | .hbm, ⟨6, _⟩ => ⟨S_, .f32⟩
  | .hbm, ⟨7, _⟩ => ⟨S2x2048, .f32⟩
  | .hbm, ⟨8, _⟩ => ⟨S2x2048x1, .f32⟩
  | .hbm, ⟨9, _⟩ => ⟨S_, .f32⟩
  | .hbm, ⟨10, _⟩ => ⟨S2x2048x1, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S2x2048x1, .f32⟩
  | .hbm, ⟨16, _⟩ => ⟨S2x2048x1024, .f32⟩
  | .hbm, ⟨17, _⟩ => ⟨S2x2048x1024, .f32⟩
  | .hbm, ⟨18, _⟩ => ⟨S1x1x1024, .f32⟩
  | .hbm, ⟨19, _⟩ => ⟨S2x2048x1024, .f32⟩
  | .hbm, ⟨20, _⟩ => ⟨S2x2048x1024, .f32⟩
  | .hbm, ⟨21, _⟩ => ⟨S2x1x1024, .f32⟩
  | .hbm, ⟨22, _⟩ => ⟨S_, .f32⟩
  | .hbm, ⟨23, _⟩ => ⟨S2x1x1024, .f32⟩
  | .hbm, ⟨24, _⟩ => ⟨S2x1x1024, .f32⟩
  | .hbm, ⟨25, _⟩ => ⟨S2x2048x1024, .f32⟩
  | .hbm, ⟨26, _⟩ => ⟨S2x2048x1024, .f32⟩
  | .hbm, ⟨27, _⟩ => ⟨S2x1x1024, .f32⟩
  | .hbm, ⟨28, _⟩ => ⟨S2x2048x1024, .f32⟩
  | .hbm, ⟨29, _⟩ => ⟨S2x2048x1024, .f32⟩
  | .hbm, ⟨30, _⟩ => ⟨S4096x1024, .f32⟩
  | .hbm, ⟨31, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Kernel9.lean ====
abbrev S16x1024 : Shape := ⟨2, ![16, 1024]⟩
abbrev S1x1024x768 : Shape := ⟨3, ![1, 1024, 768]⟩
abbrev S1x768 : Shape := ⟨2, ![1, 768]⟩
abbrev S1024x768 : Shape := ⟨2, ![1024, 768]⟩
abbrev S16x768 : Shape := ⟨2, ![16, 768]⟩

abbrev nBuf : Space → Nat
  | .hbm => 5
  | .vmem => 4
  | .smem => 0
  | _ => 0

abbrev bufTy : (tb : Table) → Fin (tcTables nBuf tb) → BufTy
  | .hbm, ⟨0, _⟩ => ⟨S16x1024, .f32⟩
  | .hbm, ⟨1, _⟩ => ⟨S1x1024x768, .f32⟩
  | .hbm, ⟨2, _⟩ => ⟨S1x768, .f32⟩
  | .hbm, ⟨3, _⟩ => ⟨S1024x768, .f32⟩
  | .hbm, ⟨4, _⟩ => ⟨S16x768, .f32⟩
  | .local _ .vmem, ⟨0, _⟩ => ⟨S16x1024, .f32⟩
  | .local _ .vmem, ⟨1, _⟩ => ⟨S1024x768, .f32⟩
  | .local _ .vmem, ⟨2, _⟩ => ⟨S1x768, .f32⟩
  | .local _ .vmem, ⟨3, _⟩ => ⟨S16x768, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Reference9Ideal.lean ====
abbrev S16x1024 : Shape := ⟨2, ![16, 1024]⟩
abbrev S1x1024x768 : Shape := ⟨3, ![1, 1024, 768]⟩
abbrev S1x768 : Shape := ⟨2, ![1, 768]⟩
abbrev S_ : Shape := ⟨0, ![]⟩
abbrev S1024x768 : Shape := ⟨2, ![1024, 768]⟩
abbrev S16x768 : Shape := ⟨2, ![16, 768]⟩

abbrev nBuf : Space → Nat
  | .hbm => 16
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1x1024x768, .f32⟩
  | .hbm, ⟨2, _⟩ => ⟨S1x768, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S1024x768, .f32⟩
  | .hbm, ⟨13, _⟩ => ⟨S16x768, .f32⟩
  | .hbm, ⟨14, _⟩ => ⟨S16x768, .f32⟩
  | .hbm, ⟨15, _⟩ => ⟨S16x768, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel10.lean ====
abbrev S16x1024 : Shape := ⟨2, ![16, 1024]⟩
abbrev S16x6144 : Shape := ⟨2, ![16, 6144]⟩
abbrev S16x768 : Shape := ⟨2, ![16, 768]⟩
abbrev S1x1024x768 : Shape := ⟨3, ![1, 1024, 768]⟩
abbrev S1x6144 : Shape := ⟨2, ![1, 6144]⟩
abbrev S1024x768 : Shape := ⟨2, ![1024, 768]⟩
abbrev S6144 : Shape := ⟨1, ![6144]⟩

abbrev nBuf : Space → Nat
  | .hbm => 20
  | .vmem => 17
  | .smem => 0
  | _ => 0

abbrev bufTy : (tb : Table) → Fin (tcTables nBuf tb) → BufTy
  | .hbm, ⟨0, _⟩ => ⟨S16x1024, .f32⟩
  | .hbm, ⟨1, _⟩ => ⟨S16x6144, .f32⟩
  | .hbm, ⟨2, _⟩ => ⟨S16x768, .f32⟩
  | .hbm, ⟨3, _⟩ => ⟨S1x1024x768, .f32⟩
  | .hbm, ⟨4, _⟩ => ⟨S1x1024x768, .f32⟩
  | .hbm, ⟨5, _⟩ => ⟨S1x1024x768, .f32⟩
  | .hbm, ⟨6, _⟩ => ⟨S1x6144, .f32⟩
  | .hbm, ⟨7, _⟩ => ⟨S1x6144, .f32⟩
  | .hbm, ⟨8, _⟩ => ⟨S1x6144, .f32⟩
  | .hbm, ⟨9, _⟩ => ⟨S1024x768, .f32⟩
  | .hbm, ⟨10, _⟩ => ⟨S1024x768, .f32⟩
  | .hbm, ⟨11, _⟩ => ⟨S1024x768, .f32⟩
  | .hbm, ⟨12, _⟩ => ⟨S1024x768, .f32⟩
  | .hbm, ⟨13, _⟩ => ⟨S1024x768, .f32⟩
  | .hbm, ⟨14, _⟩ => ⟨S1024x768, .f32⟩
  | .hbm, ⟨15, _⟩ => ⟨S1024x768, .f32⟩
  | .hbm, ⟨16, _⟩ => ⟨S1x6144, .f32⟩
  | .hbm, ⟨17, _⟩ => ⟨S1x6144, .f32⟩
  | .hbm, ⟨18, _⟩ => ⟨S1x6144, .f32⟩
  | .hbm, ⟨19, _⟩ => ⟨S1x6144, .f32⟩
  | .local _ .vmem, ⟨0, _⟩ => ⟨S16x1024, .f32⟩
  | .local _ .vmem, ⟨1, _⟩ => ⟨S16x6144, .f32⟩
  | .local _ .vmem, ⟨2, _⟩ => ⟨S16x768, .f32⟩
  | .local _ .vmem, ⟨3, _⟩ => ⟨S1024x768, .f32⟩
  | .local _ .vmem, ⟨4, _⟩ => ⟨S1024x768, .f32⟩
  | .local _ .vmem, ⟨5, _⟩ => ⟨S1024x768, .f32⟩
  | .local _ .vmem, ⟨6, _⟩ => ⟨S1x6144, .f32⟩
  | .local _ .vmem, ⟨7, _⟩ => ⟨S1x6144, .f32⟩
  | .local _ .vmem, ⟨8, _⟩ => ⟨S1x6144, .f32⟩
  | .local _ .vmem, ⟨9, _⟩ => ⟨S1024x768, .f32⟩
  | .local _ .vmem, ⟨10, _⟩ => ⟨S1024x768, .f32⟩
  | .local _ .vmem, ⟨11, _⟩ => ⟨S1024x768, .f32⟩
  | .local _ .vmem, ⟨12, _⟩ => ⟨S1024x768, .f32⟩
  | .local _ .vmem, ⟨13, _⟩ => ⟨S1x6144, .f32⟩
  | .local _ .vmem, ⟨14, _⟩ => ⟨S1x6144, .f32⟩
  | .local _ .vmem, ⟨15, _⟩ => ⟨S1x6144, .f32⟩
  | .local _ .vmem, ⟨16, _⟩ => ⟨S1x6144, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev main_v3_3 : Ref sig .tc := ⟨.hbm, 15, rfl⟩
abbrev main_v3_4 : Ref sig .tc := ⟨.hbm, 16, rfl⟩
abbrev main_v3_5 : Ref sig .tc := ⟨.hbm, 17, rfl⟩
abbrev main_v3_6 : Ref sig .tc := ⟨.hbm, 18, rfl⟩
abbrev main_v3_7 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := .none

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x6144 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x6144 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1024x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1024x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1024x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1024x768 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x6144 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x6144 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x6144 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x6144 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
-- ==== Reference10Ideal.lean ====
abbrev S16x1024 : Shape := ⟨2, ![16, 1024]⟩
abbrev S16x6144 : Shape := ⟨2, ![16, 6144]⟩
abbrev S16x768 : Shape := ⟨2, ![16, 768]⟩
abbrev S1x1024x768 : Shape := ⟨3, ![1, 1024, 768]⟩
abbrev S1x6144 : Shape := ⟨2, ![1, 6144]⟩
abbrev S1024x768 : Shape := ⟨2, ![1024, 768]⟩
abbrev S_ : Shape := ⟨0, ![]⟩
abbrev S6144 : Shape := ⟨1, ![6144]⟩
abbrev S768x1024 : Shape := ⟨2, ![768, 1024]⟩

abbrev nBuf : Space → Nat
  | .hbm => 102
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S16x6144, .f32⟩
  | .hbm, ⟨2, _⟩ => ⟨S16x768, .f32⟩
  | .hbm, ⟨3, _⟩ => ⟨S1x1024x768, .f32⟩
  | .hbm, ⟨4, _⟩ => ⟨S1x1024x768, .f32⟩
  | .hbm, ⟨5, _⟩ => ⟨S1x1024x768, .f32⟩
  | .hbm, ⟨6, _⟩ => ⟨S1x6144, .f32⟩
  | .hbm, ⟨7, _⟩ => ⟨S1x6144, .f32⟩
  | .hbm, ⟨8, _⟩ => ⟨S1x6144, .f32⟩
  | .hbm, ⟨9, _⟩ => ⟨S1024x768, .f32⟩
  | .hbm, ⟨10, _⟩ => ⟨S1024x768, .f32⟩
  | .hbm, ⟨11, _⟩ => ⟨S1024x768, .f32⟩
  | .hbm, ⟨12, _⟩ => ⟨S16x1024, .f32⟩
  | .hbm, ⟨13, _⟩ => ⟨S16x1024, .f32⟩
  | .hbm, ⟨14, _⟩ => ⟨S_, .f32⟩
  | .hbm, ⟨15, _⟩ => ⟨S16x1024, .f32⟩
  | .hbm, ⟨16, _⟩ => ⟨S16x1024, .f32⟩
  | .hbm, ⟨17, _⟩ => ⟨S_, .f32⟩
  | .hbm, ⟨18, _⟩ => ⟨S16x1024, .f32⟩
  | .hbm, ⟨19, _⟩ => ⟨S16x1024, .f32⟩
  | .hbm, ⟨20, _⟩ => ⟨S16x1024, .f32⟩
  | .hbm, ⟨21, _⟩ => ⟨S16x768, .f32⟩
  | .hbm, ⟨22, _⟩ => ⟨S_, .f32⟩
  | .hbm, ⟨23, _⟩ => ⟨S16x6144, .f32⟩
  | .hbm, ⟨24, _⟩ => ⟨S6144, .f32⟩
  | .hbm, ⟨25, _⟩ => ⟨S1x6144, .f32⟩
  | .hbm, ⟨26, _⟩ => ⟨S16x6144, .f32⟩
  | .hbm, ⟨27, _⟩ => ⟨S16x6144, .f32⟩
  | .hbm, ⟨28, _⟩ => ⟨S768x1024, .f32⟩
  | .hbm, ⟨29, _⟩ => ⟨S1024x768, .f32⟩
  | .hbm, ⟨30, _⟩ => ⟨S_, .f32⟩
  | .hbm, ⟨31, _⟩ => ⟨S6144, .f32⟩
  | .hbm, ⟨32, _⟩ => ⟨S1x6144, .f32⟩
  | .hbm, ⟨33, _⟩ => ⟨S_, .f32⟩
  | .hbm, ⟨34, _⟩ => ⟨S6144, .f32⟩
  | .hbm, ⟨35, _⟩ => ⟨S1x6144, .f32⟩
  | .hbm, ⟨36, _⟩ => ⟨S_, .f32⟩
  | .hbm, ⟨37, _⟩ => ⟨S1024x768, .f32⟩
  | .hbm, ⟨38, _⟩ => ⟨S1024x768, .f32⟩
  | .hbm, ⟨39, _⟩ => ⟨S_, .f32⟩
  | .hbm, ⟨40, _⟩ => ⟨S1024x768, .f32⟩
  | .hbm, ⟨41, _⟩ => ⟨S1024x768, .f32⟩
  | .hbm, ⟨42, _⟩ => ⟨S1024x768, .f32⟩
  | .hbm, ⟨43, _⟩ => ⟨S_, .f32⟩
  | .hbm, ⟨44, _⟩ => ⟨S1024x768, .f32⟩
  | .hbm, ⟨45, _⟩ => ⟨S1024x768, .f32⟩
  | .hbm, ⟨46, _⟩ => ⟨S1024x768, .f32⟩
  | .hbm, ⟨47, _⟩ => ⟨S_, .f32⟩
  | .hbm, ⟨48, _⟩ => ⟨S1024x768, .f32⟩
  | .hbm, ⟨49, _⟩ => ⟨S1024x768, .f32⟩
  | .hbm, ⟨50, _⟩ => ⟨S1024x768, .f32⟩
  | .hbm, ⟨51, _⟩ => ⟨S_, .f32⟩
  | .hbm, ⟨52, _⟩ => ⟨S1024x768, .f32⟩
  | .hbm, ⟨53, _⟩ => ⟨S1024x768, .f32⟩
  | .hbm, ⟨54, _⟩ => ⟨S_, .f32⟩
  | .hbm, ⟨55, _⟩ => ⟨S1024x768, .f32⟩
  | .hbm, ⟨56, _⟩ => ⟨S1024x768, .f32⟩
  | .hbm, ⟨57, _⟩ => ⟨S1024x768, .f32⟩
  | .hbm, ⟨58, _⟩ => ⟨S_, .f32⟩
  | .hbm, ⟨59, _⟩ => ⟨S1024x768, .f32⟩
  | .hbm, ⟨60, _⟩ => ⟨S1024x768, .f32⟩
  | .hbm, ⟨61, _⟩ => ⟨S1024x768, .f32⟩
  | .hbm, ⟨62, _⟩ => ⟨S_, .f32⟩
  | .hbm, ⟨63, _⟩ => ⟨S1024x768, .f32⟩
  | .hbm, ⟨64, _⟩ => ⟨S1024x768, .f32⟩
  | .hbm, ⟨65, _⟩ => ⟨S1024x768, .f32⟩
  | .hbm, ⟨66, _⟩ => ⟨S_, .f32⟩
  | .hbm, ⟨67, _⟩ => ⟨S1024x768, .f32⟩
  | .hbm, ⟨68, _⟩ => ⟨S1024x768, .f32⟩
  | .hbm, ⟨69, _⟩ => ⟨S_, .f32⟩
  | .hbm, ⟨70, _⟩ => ⟨S1x6144, .f32⟩
  | .hbm, ⟨71, _⟩ => ⟨S1x6144, .f32⟩
  | .hbm, ⟨72, _⟩ => ⟨S_, .f32⟩
  | .hbm, ⟨73, _⟩ => ⟨S1x6144, .f32⟩
  | .hbm, ⟨74, _⟩ => ⟨S1x6144, .f32⟩
  | .hbm, ⟨75, _⟩ => ⟨S1x6144, .f32⟩
  | .hbm, ⟨76, _⟩ => ⟨S_, .f32⟩
  | .hbm, ⟨77, _⟩ => ⟨S1x6144, .f32⟩
  | .hbm, ⟨78, _⟩ => ⟨S1x6144, .f32⟩
  | .hbm, ⟨79, _⟩ => ⟨S1x6144, .f32⟩
  | .hbm, ⟨80, _⟩ => ⟨S_, .f32⟩
  | .hbm, ⟨81, _⟩ => ⟨S1x6144, .f32⟩
  | .hbm, ⟨82, _⟩ => ⟨S1x6144, .f32⟩
  | .hbm, ⟨83, _⟩ => ⟨S1x6144, .f32⟩
  | .hbm, ⟨84, _⟩ => ⟨S_, .f32⟩
  | .hbm, ⟨85, _⟩ => ⟨S1x6144, .f32⟩
  | .hbm, ⟨86, _⟩ => ⟨S1x6144, .f32⟩
  | .hbm, ⟨87, _⟩ => ⟨S_, .f32⟩
  | .hbm, ⟨88, _⟩ => ⟨S1x6144, .f32⟩
  | .hbm, ⟨89, _⟩ => ⟨S1x6144, .f32⟩
  | .hbm, ⟨90, _⟩ => ⟨S1x6144, .f32⟩
  | .hbm, ⟨91, _⟩ => ⟨S_, .f32⟩
  | .hbm, ⟨92, _⟩ => ⟨S1x6144, .f32⟩
  | .hbm, ⟨93, _⟩ => ⟨S1x6144, .f32⟩
  | .hbm, ⟨94, _⟩ => ⟨S1x6144, .f32⟩
  | .hbm, ⟨95, _⟩ => ⟨S_, .f32⟩
  | .hbm, ⟨96, _⟩ => ⟨S1x6144, .f32⟩
  | .hbm, ⟨97, _⟩ => ⟨S1x6144, .f32⟩
  | .hbm, ⟨98, _⟩ => ⟨S1x6144, .f32⟩
  | .hbm, ⟨99, _⟩ => ⟨S_, .f32⟩
  | .hbm, ⟨100, _⟩ => ⟨S1x6144, .f32⟩
  | .hbm, ⟨101, _⟩ => ⟨S1x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v3 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_0 : Ref sig .tc := ⟨.hbm, 30, rfl⟩
abbrev main_v12 : Ref sig .tc := ⟨.hbm, 31, rfl⟩
abbrev main_v13 : Ref sig .tc := ⟨.hbm, 32, rfl⟩
abbrev main_cst_1 : Ref sig .tc := ⟨.hbm, 33, rfl⟩
abbrev main_v14 : Ref sig .tc := ⟨.hbm, 34, rfl⟩
abbrev main_v15 : Ref sig .tc := ⟨.hbm, 35, rfl⟩
abbrev main_cst_2 : Ref sig .tc := ⟨.hbm, 36, rfl⟩
abbrev main_v16 : Ref sig .tc := ⟨.hbm, 37, rfl⟩
abbrev main_v17 : Ref sig .tc := ⟨.hbm, 38, rfl⟩
abbrev main_cst_3 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_4 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_5 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_6 : Ref sig .tc := ⟨.hbm, 51, rfl⟩
abbrev main_v27 : Ref sig .tc := ⟨.hbm, 52, rfl⟩
abbrev main_v28 : Ref sig .tc := ⟨.hbm, 53, rfl⟩
abbrev main_cst_7 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_8 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_9 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_10 : Ref sig .tc := ⟨.hbm, 66, rfl⟩
abbrev main_v38 : Ref sig .tc := ⟨.hbm, 67, rfl⟩
abbrev main_v39 : Ref sig .tc := ⟨.hbm, 68, rfl⟩
abbrev main_cst_11 : Ref sig .tc := ⟨.hbm, 69, rfl⟩
abbrev main_v40 : Ref sig .tc := ⟨.hbm, 70, rfl⟩
abbrev main_v41 : Ref sig .tc := ⟨.hbm, 71, rfl⟩
abbrev main_cst_12 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_13 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_cst_14 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_cst_15 : Ref sig .tc := ⟨.hbm, 84, rfl⟩
abbrev main_v51 : Ref sig .tc := ⟨.hbm, 85, rfl⟩
abbrev main_v52 : Ref sig .tc := ⟨.hbm, 86, rfl⟩
abbrev main_cst_16 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_cst_17 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_18 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_cst_19 : Ref sig .tc := ⟨.hbm, 99, rfl⟩
abbrev main_v62 : Ref sig .tc := ⟨.hbm, 100, rfl⟩
abbrev main_v63 : Ref sig .tc := ⟨.hbm, 101, rfl⟩

abbrev nD : Nat := 1
abbrev τ : Topo := Topo.v7x

variable {F : FTy → Type} [FloatOps F]
-- ==== Proof.FfnUp.lean ====
module

public import proofs.«01_k».proof.Defs
public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Ffn

open Cert.KernelIdeal Cert.KernelIdeal.Gen

variable (m : (ℓ : Loc nD τ sig) → Buf (Elt Ideal) ℓ) (ρ : Dev nD → PrngReg)

/-- One entry of a product of activations with a weight in the caller's layout. -/
def lin (H : FVec Ideal S4096x1024 .bf16) (W : FVec Ideal S1x1024x2816 .f32) (i : Fin 4096) (j : Fin 2816) : EReal :=
  ∑ k : Fin 1024, H (ix2 i k) * W (ix3 0 k j)

/-- The two stacked projections of the feed-forward layer. -/
def guOf (H : FVec Ideal S4096x1024 .bf16) (G U : FVec Ideal S1x1024x2816 .f32) : FVec Ideal S2x4096x2816 .bf16 :=
  fun i => if (i 0 : Nat) < 1 then lin H G (i 1) (i 2) else lin H U (i 1) (i 2)

/-- The gated activation `silu g * u`. -/
def actOf (H : FVec Ideal S4096x1024 .bf16) (G U : FVec Ideal S1x1024x2816 .f32) : FVec Ideal S4096x2816 .bf16 :=
  fun i => lin H G (i 0) (i 1) * Ideal.logistic (lin H G (i 0) (i 1)) * lin H U (i 0) (i 1)

/-- The stacked, transposed gate and up weights as the first region finds them. -/
def wguOf (G U : FVec Ideal S1x1024x2816 .f32) : FVec Ideal S2x2816x1024 .bf16 :=
  fun i => if (i 0 : Nat) < 1 then G (ix3 0 (i 2) (i 1)) else U (ix3 0 (i 2) (i 1))

theorem entry_wgu (c : Dev nD) : V1 m ρ c main_v8
    = wguOf (m ((c : Thread nD τ).loc main_arg1)) (m ((c : Thread nD τ).loc main_arg2)) := by
  funext i
  show StableHlo.after hostOps0 (W0 m ρ c) (Proc.devRef .tc main_v8) i = _
  entry_read
  idx_vars i
  pointwise [wguOf]
  rfl

theorem entry_h (c : Dev nD) : V1 m ρ c main_arg0 = m ((c : Thread nD τ).loc main_arg0) :=
  W1_args m ρ c _ (by decide)

theorem idx0 : ∀ t : Fin cfg0.N, win0_0.index t = ![t.val % 8, 0] ∧ win0_1.index t = ![0, t.val / 8, 0]
    ∧ win0_2.index t = ![0, t.val % 8, t.val / 8] ∧ win0_3.index t = ![t.val % 8, t.val / 8] ∧ t.val < 16 :=
  (by decide +kernel : ∀ t : Fin grid0.N, _)

section Up

variable (V : (c : Dev nD) → (b : Ref sig .tc) → Buf (Elt Ideal) ((c : Thread nD τ).loc b))
variable (H : FVec Ideal S4096x1024 .bf16) (G U : FVec Ideal S1x1024x2816 .f32)

/-- Row `a` of the block of activations at point `t`, and column `b` of its block of either weight. -/
def row0 (t : Fin cfg0.N) (a : Fin 512) : Fin 4096 := ⟨t.val % 8 * 512 + a.val, by omega⟩
def col0 (t : Fin cfg0.N) (b : Fin 1408) : Fin 2816 := ⟨t.val / 8 * 1408 + b.val, by have := (idx0 t).2.2.2.2; omega⟩

theorem blk_h (c : Dev nD) (t : Fin cfg0.N) (hH : V c main_arg0 = H) (a : Fin 512) (k : Fin 1024) :
    iblk0 V c 0 t (ix2 a k) = H (ix2 (row0 t a) k) := by
  blk_simp [iblk0, hH]
  blk_ext [idx0 t, row0]

theorem blk_g (c : Dev nD) (t : Fin cfg0.N) (hW : V c main_v8 = wguOf G U) (b : Fin 1408) (k : Fin 1024) :
    iblk0 V c 1 t (ix3 0 b k) = G (ix3 0 k (col0 t b)) := by
  blk_simp [iblk0, hW, wguOf, idx0 t]
  rw [if_pos (by decide)]
  blk_ext [idx0 t, col0]

theorem blk_u (c : Dev nD) (t : Fin cfg0.N) (hW : V c main_v8 = wguOf G U) (b : Fin 1408) (k : Fin 1024) :
    iblk0 V c 1 t (ix3 1 b k) = U (ix3 0 k (col0 t b)) := by
  blk_simp [iblk0, hW, wguOf, idx0 t]
  rw [if_neg (by decide)]
  blk_ext [idx0 t, col0]

theorem act_point (c : Dev nD) (t : Fin cfg0.N) (a : Fin 512) (b : Fin 1408)
    (hH : V c main_arg0 = H) (hW : V c main_v8 = wguOf G U) :
    out0_3 (iblk0 V c 0 t) (iblk0 V c 1 t) (ix2 a b) = actOf H G U (ix2 (row0 t a) (col0 t b)) := by
  frame_out
  pointwise [k0_pay5, k0_pay1, k0_pay2, actOf, lin, blk_h V H c t hH, blk_g V G U c t hW, blk_u V G U c t hW]

theorem gu_point (c : Dev nD) (t : Fin cfg0.N) (e : Fin 2) (a : Fin 512) (b : Fin 1408)
    (hH : V c main_arg0 = H) (hW : V c main_v8 = wguOf G U) :
    out0_2 (iblk0 V c 0 t) (iblk0 V c 1 t) (ix3 e a b) = guOf H G U (ix3 e (row0 t a) (col0 t b)) := by
  unfold out0_2
  canon_tiles x h
  all_goals
    idx_vars x
    obtain rfl : a = x1 := Fin.ext h1
    obtain rfl : b = x2 := Fin.ext h2
  · have he : ¬ (e : Nat) < 1 := by change (e : Nat) = 1 + _ at h0; omega
    pointwise [k0_pay4, k0_pay2, guOf, lin, blk_h V H c t hH, blk_u V G U c t hW, he]
  · have he : (e : Nat) < 1 := by change (e : Nat) = _ at h0; omega
    pointwise [k0_pay3, k0_pay1, guOf, lin, blk_h V H c t hH, blk_g V G U c t hW, he]

theorem act_final (c : Dev nD) (hH : V c main_arg0 = H) (hW : V c main_v8 = wguOf G U) :
    (dat0 V c).arrAt 3 cfg0.N = actOf H G U := by
  refine (dat0 V c).arrAt_eq_of_covers 3 _ (by decide +kernel) fun t _ y => ?_
  blk_simp
  rw [after0_3]
  idx_vars y
  refine (act_point V H G U c t y0 y1 hH hW).trans ?_
  blk_ext [idx0 t, row0, col0]

theorem gu_final (c : Dev nD) (hH : V c main_arg0 = H) (hW : V c main_v8 = wguOf G U) :
    (dat0 V c).arrAt 2 cfg0.N = guOf H G U := by
  refine (dat0 V c).arrAt_eq_of_covers 2 _ (by decide +kernel) fun t _ y => ?_
  blk_simp
  rw [after0_2]
  idx_vars y
  refine (gu_point V H G U c t y0 y1 y2 hH hW).trans ?_
  blk_ext [idx0 t, row0, col0]

end Up

end Cert.KernelIdeal.Ffn
end
-- ==== Proof.FfnBack.lean ====
module

public import proofs.«01_k».proof.Defs
public import proofs.«01_k».proof.Proof.FfnUp
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Ffn

open Cert.KernelIdeal Cert.KernelIdeal.Gen

variable (m : (ℓ : Loc nD τ sig) → Buf (Elt Ideal) ℓ) (ρ : Dev nD → PrngReg)

/-- The product of the cotangent with the transposed output weight. -/
def back (DF : FVec Ideal S4096x1024 .bf16) (D : FVec Ideal S1x2816x1024 .f32) (i : Fin 4096) (j : Fin 2816) : EReal :=
  ∑ k : Fin 1024, DF (ix2 i k) * D (ix3 0 j k)

/-- The gradients at the two projections as the second region computes them. -/
def dguOf (H : FVec Ideal S4096x1024 .bf16) (G U : FVec Ideal S1x1024x2816 .f32) (D : FVec Ideal S1x2816x1024 .f32)
    (DF : FVec Ideal S4096x1024 .bf16) : FVec Ideal S2x4096x2816 .bf16 := fun i =>
  if (i 0 : Nat) < 1 then
    back DF D (i 1) (i 2) * lin H U (i 1) (i 2) * (Ideal.logistic (lin H G (i 1) (i 2))
      + lin H G (i 1) (i 2) * Ideal.logistic (lin H G (i 1) (i 2)) * (1 - Ideal.logistic (lin H G (i 1) (i 2))))
  else back DF D (i 1) (i 2) * (lin H G (i 1) (i 2) * Ideal.logistic (lin H G (i 1) (i 2)))

/-- The output weight without its leading unit axis. -/
def wdOf (D : FVec Ideal S1x2816x1024 .f32) : FVec Ideal S2816x1024 .bf16 := fun i => D (ix3 0 (i 0) (i 1))

theorem entry_df (c : Dev nD) : V3 m ρ c main_arg4 = m ((c : Thread nD τ).loc main_arg4) :=
  W3_args m ρ c _ (by decide)

theorem entry_gu (c : Dev nD) : V3 m ρ c main_v9_0
    = guOf (m ((c : Thread nD τ).loc main_arg0)) (m ((c : Thread nD τ).loc main_arg1)) (m ((c : Thread nD τ).loc main_arg2)) :=
  (W3_of m ρ c main_v9_0 (by decide)).trans ((W2_arr m ρ c 2).trans
    (gu_final (V1 m ρ) _ _ _ c (entry_h m ρ c) (entry_wgu m ρ c)))

theorem entry_wd (c : Dev nD) : V3 m ρ c main_v11 = wdOf (m ((c : Thread nD τ).loc main_arg3)) := by
  funext i
  show StableHlo.after hostOps1 (W2 m ρ c) (Proc.devRef .tc main_v11) i = _
  entry_read
  idx_vars i
  rw [W2_args m ρ c main_arg3 (by decide)]
  pointwise [wdOf]

theorem idx1 : ∀ t : Fin cfg1.N, win1_0.index t = ![t.val % 8, 0] ∧ win1_1.index t = ![t.val / 8, 0]
    ∧ win1_2.index t = ![0, t.val % 8, t.val / 8] ∧ win1_3.index t = ![0, t.val % 8, t.val / 8] ∧ t.val < 16 :=
  (by decide +kernel : ∀ t : Fin grid1.N, _)

section Back

variable (V : (c : Dev nD) → (b : Ref sig .tc) → Buf (Elt Ideal) ((c : Thread nD τ).loc b))
variable (H : FVec Ideal S4096x1024 .bf16) (G U : FVec Ideal S1x1024x2816 .f32) (D : FVec Ideal S1x2816x1024 .f32)
  (DF : FVec Ideal S4096x1024 .bf16)

/-- Row `a` of the blocks at point `t` of the second region, and column `b`. -/
def row1 (t : Fin cfg1.N) (a : Fin 512) : Fin 4096 := ⟨t.val % 8 * 512 + a.val, by omega⟩
def col1 (t : Fin cfg1.N) (b : Fin 1408) : Fin 2816 := ⟨t.val / 8 * 1408 + b.val, by have := (idx1 t).2.2.2.2; omega⟩

theorem blk_df (c : Dev nD) (t : Fin cfg1.N) (hD : V c main_arg4 = DF) (a : Fin 512) (k : Fin 1024) :
    iblk1 V c 0 t (ix2 a k) = DF (ix2 (row1 t a) k) := by
  blk_simp [iblk1, hD]
  blk_ext [idx1 t, row1]

theorem blk_wd (c : Dev nD) (t : Fin cfg1.N) (hW : V c main_v11 = wdOf D) (b : Fin 1408) (k : Fin 1024) :
    iblk1 V c 1 t (ix2 b k) = D (ix3 0 (col1 t b) k) := by
  blk_simp [iblk1, hW, wdOf]
  blk_ext [idx1 t, col1]

theorem blk_gu (c : Dev nD) (t : Fin cfg1.N) (hG : V c main_v9_0 = guOf H G U) (e : Fin 2) (a : Fin 512) (b : Fin 1408) :
    iblk1 V c 2 t (ix3 e a b) = guOf H G U (ix3 e (row1 t a) (col1 t b)) := by
  blk_simp [iblk1, hG]
  blk_ext [idx1 t, row1, col1]

theorem dgu_point (c : Dev nD) (t : Fin cfg1.N) (e : Fin 2) (a : Fin 512) (b : Fin 1408)
    (hD : V c main_arg4 = DF) (hW : V c main_v11 = wdOf D) (hG : V c main_v9_0 = guOf H G U) :
    out1_3 (iblk1 V c 0 t) (iblk1 V c 1 t) (iblk1 V c 2 t) (ix3 e a b) = dguOf H G U D DF (ix3 e (row1 t a) (col1 t b)) := by
  unfold out1_3
  canon_tiles x h
  all_goals
    idx_vars x
    obtain rfl : a = x1 := Fin.ext h1
    obtain rfl : b = x2 := Fin.ext h2
  · have he : ¬ (e : Nat) < 1 := by change (e : Nat) = 1 + _ at h0; omega
    open_payloads
    pointwise [dguOf, guOf, back, blk_df V DF c t hD, blk_wd V D c t hW, blk_gu V H G U c t hG, he]
  · have he : (e : Nat) < 1 := by change (e : Nat) = _ at h0; omega
    open_payloads
    pointwise [dguOf, guOf, back, blk_df V DF c t hD, blk_wd V D c t hW, blk_gu V H G U c t hG, he]

theorem dgu_final (c : Dev nD) (hD : V c main_arg4 = DF) (hW : V c main_v11 = wdOf D) (hG : V c main_v9_0 = guOf H G U) :
    (dat1 V c).arrAt 3 cfg1.N = dguOf H G U D DF := by
  refine (dat1 V c).arrAt_eq_of_covers 3 _ (by decide +kernel) fun t _ y => ?_
  blk_simp
  rw [after1_3]
  idx_vars y
  refine (dgu_point V H G U D DF c t y0 y1 y2 hD hW hG).trans ?_
  blk_ext [idx1 t, row1, col1]

end Back

/-- What the three result arrays hold at the last boundary. -/
theorem W4_gu (c : Dev nD) : W4 m ρ c (Proc.devRef .tc main_v9_0)
    = guOf (m ((c : Thread nD τ).loc main_arg0)) (m ((c : Thread nD τ).loc main_arg1)) (m ((c : Thread nD τ).loc main_arg2)) :=
  (W4_of m ρ c main_v9_0 (by decide +kernel)).trans (entry_gu m ρ c)

theorem W4_act (c : Dev nD) : W4 m ρ c (Proc.devRef .tc main_v9_1)
    = actOf (m ((c : Thread nD τ).loc main_arg0)) (m ((c : Thread nD τ).loc main_arg1)) (m ((c : Thread nD τ).loc main_arg2)) :=
  (W4_of m ρ c main_v9_1 (by decide +kernel)).trans <| (W3_of m ρ c main_v9_1 (by decide)).trans <| (W2_arr m ρ c 3).trans
    (act_final (V1 m ρ) _ _ _ c (entry_h m ρ c) (entry_wgu m ρ c))

theorem W4_dgu (c : Dev nD) : W4 m ρ c (Proc.devRef .tc main_v12)
    = dguOf (m ((c : Thread nD τ).loc main_arg0)) (m ((c : Thread nD τ).loc main_arg1)) (m ((c : Thread nD τ).loc main_arg2))
      (m ((c : Thread nD τ).loc main_arg3)) (m ((c : Thread nD τ).loc main_arg4)) :=
  (W4_arr m ρ c 3).trans (dgu_final (V3 m ρ) _ _ _ _ _ c (entry_df m ρ c) (entry_wd m ρ c) (entry_gu m ρ c))

end Cert.KernelIdeal.Ffn
end
-- ==== Proof.FfnRun.lean ====
module

public import proofs.«01_k».proof.Proof.FfnBack
public import Idealize.ShloMosaic.Lib.Claim

@[expose] public section

set_option maxRecDepth 16384

noncomputable section

namespace Cert.KernelIdeal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

set_option backward.isDefEq.respectTransparency.types false in
/-- The run, read at every array no kernel scopes: each ends at the last boundary's contents. -/
theorem run_arrays (m : (ℓ : Loc nD τ sig) → Buf (Elt F) ℓ) (ρ : Dev nD → PrngReg) :
    θ_run defs (onTc (τ := τ) (main (F := F))) ⟨m, fun _ => 0, ρ⟩ (fun r => ∀ (c : Dev nD) (b : Ref sig .tc),
      (Proc.devRef .tc b : DevRef τ sig) ∈ Pipeline.ucRefs τ sig → r.2.mem ((c.tc : Thread nD τ).loc b) = W4 m ρ c (Proc.devRef .tc b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c b hb => h c _ hb)

/-- The run at `Ideal`: the results as functions of the arguments. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v9_0) = guOf (m ((c : Thread nD τ).loc main_arg0)) (m ((c : Thread nD τ).loc main_arg1))
        (m ((c : Thread nD τ).loc main_arg2))
      ∧ r.2.mem ((c.tc : Thread nD τ).loc main_v9_1) = actOf (m ((c : Thread nD τ).loc main_arg0)) (m ((c : Thread nD τ).loc main_arg1))
        (m ((c : Thread nD τ).loc main_arg2))
      ∧ r.2.mem ((c.tc : Thread nD τ).loc main_v12) = dguOf (m ((c : Thread nD τ).loc main_arg0)) (m ((c : Thread nD τ).loc main_arg1))
        (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c main_v9_0 (mem_uc main_v9_0 (by decide))).trans (W4_gu m ρ c), (h c main_v9_1 (mem_uc main_v9_1 (by decide))).trans (W4_act m ρ c),
     (h c main_v12 (mem_uc main_v12 (by decide))).trans (W4_dgu m ρ c),
     (h c main_arg0 (mem_uc main_arg0 (by decide))).trans (W4_main_arg0 m ρ c), (h c main_arg1 (mem_uc main_arg1 (by decide))).trans (W4_main_arg1 m ρ c),
     (h c main_arg2 (mem_uc main_arg2 (by decide))).trans (W4_main_arg2 m ρ c), (h c main_arg3 (mem_uc main_arg3 (by decide))).trans (W4_main_arg3 m ρ c),
     (h c main_arg4 (mem_uc main_arg4 (by decide))).trans (W4_main_arg4 m ρ c)⟩) (run_arrays m ρ)

end Cert.KernelIdeal.Ffn
end
-- ==== Proof.Equations.lean ====
module

public import proofs.«01_k».proof.Proof.FfnBack
public import proofs.«01_k».proof.Proof.Gen.ReferenceIdeal.Run
public import Idealize.ShloMosaic.Lib.ReduceAll
public import Idealize.ShloMosaic.Lib.Claim

@[expose] public section

noncomputable section

namespace Cert.Equations

open Idealize.ShloMosaic Idealize.ShloMosaic.Host Cert.KernelIdeal.Ffn

/-- A value other than the two infinities. -/
def IsReal (x : EReal) : Prop := ∃ r : ℝ, x = r

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sum {n : Nat} (f : Fin n → EReal) (h : ∀ i, IsReal (f i)) : IsReal (∑ i, f i) := by
  choose g hg using h
  refine ⟨∑ i, g i, ?_⟩
  rw [show (fun i => f i) = fun i => ((g i : ℝ) : EReal) from funext hg]
  exact (map_sum (⟨⟨Real.toEReal, EReal.coe_zero⟩, EReal.coe_add⟩ : ℝ →+ EReal) g Finset.univ).symm

theorem real_of_abs_lt (x : EReal) (h : Ideal.cmp .olt (max x (-x)) (Ideal.ofBits .f32 0x7F800000#32) = 1#1) : IsReal x := by
  have hi : Ideal.ofBits .f32 0x7F800000#32 = ⊤ := by simp [Ideal.ofBits, Ideal.ieee]
  rw [hi] at h
  induction x using EReal.rec with
  | bot => simp [Ideal.cmp] at h
  | top => simp [Ideal.cmp] at h
  | coe r => exact ⟨r, rfl⟩

/-- What the precondition says of one array. -/
theorem real_of_all {s t u : Shape} [Subsingleton t.Idx] {axes : List (Fin s.rank)} (x : FVec Ideal s .f32) (hb : (⟨0, ![]⟩ : Shape).BroadcastsInDim s ![])
    (init : u.Idx → BitVec 1) (hr : s.ReducesTo axes t) (hu : 0 < u.numel) (j : t.Idx)
    (e : Host.reduce IntOp.andi (cmpf .olt (Host.absf x) (broadcastInDim s ![] hb (constant ⟨0, ![]⟩ .f32 0x7F800000#32))) init hr hu j = 1#1)
    (i : s.Idx) : IsReal (x i) :=
  real_of_abs_lt _ (Host.reduce_andi_all _ init hr hu j e i)

theorem finite (f : Cert.Pre_finite_ffn.Facts) (x0 x1 x2 x3 x4)
    (h : Cert.Pre_finite_ffn.fn (F := Ideal) x0 x1 x2 x3 x4 = fun _ => 1#1) :
    (∀ i, IsReal (x0 i)) ∧ (∀ i, IsReal (x2 i)) ∧ (∀ i, IsReal (x3 i)) ∧ (∀ i, IsReal (x4 i)) := by
  haveI : Subsingleton Cert.Pre_finite_ffn.S_.Idx := ⟨fun a b => funext fun i => i.elim0⟩
  have h := congrFun h ((fun i => i.elim0 : Cert.Pre_finite_ffn.S_.Idx))
  dsimp only [Cert.Pre_finite_ffn.fn, Cert.Pre_finite_ffn.fn_part1] at h
  have h2 : ∀ p q : BitVec 1, p &&& q = 1#1 → p = 1#1 ∧ q = 1#1 := by decide
  obtain ⟨h, e4⟩ := h2 _ _ h
  obtain ⟨h, e3⟩ := h2 _ _ h
  obtain ⟨e0, e2⟩ := h2 _ _ h
  exact ⟨real_of_all _ _ _ _ _ _ e0, real_of_all _ _ _ _ _ _ e2, real_of_all _ _ _ _ _ _ e3, real_of_all _ _ _ _ _ _ e4⟩

/-- The two spellings of the gate's gradient agree when the cotangent is finite. -/
theorem gate_eq (da g u : EReal) (hd : IsReal da) (hu : IsReal u) :
    da * u * (Ideal.logistic g + g * Ideal.logistic g * (1 - Ideal.logistic g))
      = da * u * Ideal.logistic g + g * (da * u) * (Ideal.logistic g * (1 - Ideal.logistic g)) := by
  obtain ⟨t, ht⟩ := hd.mul hu
  rw [ht]
  induction g using EReal.rec with
  | bot => simp only [Ideal.logistic_bot]; simp
  | top =>
    have h0 : (1 : EReal) - 1 = 0 := EReal.sub_self (by decide) (by decide)
    simp only [Ideal.logistic_top, h0]; simp
  | coe r =>
    rw [Ideal.logistic_coe]
    generalize (1 + Real.exp (-r))⁻¹ = s
    norm_cast
    ring

section Reference

open Cert.KernelIdeal

variable (H : FVec Ideal S4096x1024 .bf16) (G U : FVec Ideal S1x1024x2816 .f32) (D : FVec Ideal S1x2816x1024 .f32)
  (DF : FVec Ideal S4096x1024 .bf16)

/-- The gradients as the reference's derivative computes them. -/
def dguRef : FVec Ideal S2x4096x2816 .bf16 := fun i =>
  if (i 0 : Nat) < 1 then
    back DF D (i 1) (i 2) * lin H U (i 1) (i 2) * Ideal.logistic (lin H G (i 1) (i 2))
      + lin H G (i 1) (i 2) * (back DF D (i 1) (i 2) * lin H U (i 1) (i 2))
        * (Ideal.logistic (lin H G (i 1) (i 2)) * (1 - Ideal.logistic (lin H G (i 1) (i 2))))
  else lin H G (i 1) (i 2) * Ideal.logistic (lin H G (i 1) (i 2)) * back DF D (i 1) (i 2)

theorem dgu_eq (h0 : ∀ i, IsReal (H i)) (h2 : ∀ i, IsReal (U i)) (h3 : ∀ i, IsReal (D i)) (h4 : ∀ i, IsReal (DF i)) :
    dguRef H G U D DF = dguOf H G U D DF := by
  funext i
  simp only [dguRef, dguOf]
  split
  · exact (gate_eq _ _ _ (IsReal.sum _ fun k => (h4 _).mul (h3 _)) (IsReal.sum _ fun k => (h0 _).mul (h2 _))).symm
  · exact mul_comm _ _

theorem ref_lin (a : Fin 4096) (b : Fin 2816) (h1 h2) :
    Host.dotGeneral Cert.ReferenceIdeal.dot_S4096x1024_S1024x2816_S4096x2816_1_0_0_1_n_n none (extf .f32 H h1 : FVec Ideal S4096x1024 .f32)
      (shapeCast Cert.ReferenceIdeal.S1024x2816 G h2) (ix2 a b) = lin H G a b := by
  pointwise [lin]

theorem ref_back (a : Fin 4096) (b : Fin 2816) (h1 h2) :
    Host.dotGeneral Cert.ReferenceIdeal.dot_S4096x1024_S2816x1024_S4096x2816_1_1_0_0_n_n none (extf .f32 DF h1 : FVec Ideal S4096x1024 .f32)
      (shapeCast Cert.ReferenceIdeal.S2816x1024 D h2) (ix2 a b) = back DF D a b := by
  pointwise [back]

theorem ref_stack (X Y : FVec Ideal Cert.ReferenceIdeal.S4096x2816 .f32) (hb hc ht) (e : Fin 2) (a : Fin 4096) (b : Fin 2816) :
    truncf .bf16 (concatenate Cert.ReferenceIdeal.S2x4096x2816 0
      [⟨Cert.ReferenceIdeal.S1x4096x2816, broadcastInDim Cert.ReferenceIdeal.S1x4096x2816 ![1, 2] hb X⟩,
       ⟨Cert.ReferenceIdeal.S1x4096x2816, broadcastInDim Cert.ReferenceIdeal.S1x4096x2816 ![1, 2] hb Y⟩] hc) ht (ix3 e a b)
      = if (e : Nat) < 1 then X (ix2 a b) else Y (ix2 a b) := by
  pointwise
  exact dite_eq_ite

theorem ref_sigmoid (X : FVec Ideal Cert.ReferenceIdeal.S4096x2816 .f32) (h1) (a : Fin 4096) (b : Fin 2816) :
    Host.divf (broadcastInDim Cert.ReferenceIdeal.S4096x2816 ![] h1 (constant Cert.ReferenceIdeal.S_ .f32 0x3F800000#32))
      (addf (broadcastInDim Cert.ReferenceIdeal.S4096x2816 ![] h1 (constant Cert.ReferenceIdeal.S_ .f32 0x3F800000#32)) (Host.exp (Host.negf X))) (ix2 a b)
      = Ideal.logistic (X (ix2 a b)) := by
  pointwise
  rfl

/-- The derivative of the gate as the reference prints it, from what its three factors are at an index. -/
theorem ref_dg (X P Q : FVec Ideal Cert.ReferenceIdeal.S4096x2816 .f32) (h1) (a : Fin 4096) (b : Fin 2816) {g u d : EReal}
    (hg : X (ix2 a b) = g) (hu : P (ix2 a b) = u) (hd : Q (ix2 a b) = d) :
    let one : FVec Ideal Cert.ReferenceIdeal.S4096x2816 .f32 :=
      broadcastInDim Cert.ReferenceIdeal.S4096x2816 ![] h1 (constant Cert.ReferenceIdeal.S_ .f32 0x3F800000#32)
    let s := Host.divf one (addf one (Host.exp (Host.negf X)))
    addf (mulf (mulf Q P) s) (mulf (mulf X (mulf Q P)) (mulf s (subf one s))) (ix2 a b)
      = d * u * Ideal.logistic g + g * (d * u) * (Ideal.logistic g * (1 - Ideal.logistic g)) := by
  intro one s
  have hs : s (ix2 a b) = Ideal.logistic g := (ref_sigmoid X h1 a b).trans (congrArg _ hg)
  have h1 : one (ix2 a b) = 1 := Ideal.ofBits_one_f32
  subst hg hu hd
  exact congrArg₂ HAdd.hAdd (congrArg₂ HMul.hMul rfl hs)
    (congrArg₂ HMul.hMul rfl (congrArg₂ HMul.hMul hs (congrArg₂ HSub.hSub h1 hs)))

theorem ref_du (X Q : FVec Ideal Cert.ReferenceIdeal.S4096x2816 .f32) (h1) (a : Fin 4096) (b : Fin 2816) {g d : EReal}
    (hg : X (ix2 a b) = g) (hd : Q (ix2 a b) = d) :
    let one : FVec Ideal Cert.ReferenceIdeal.S4096x2816 .f32 :=
      broadcastInDim Cert.ReferenceIdeal.S4096x2816 ![] h1 (constant Cert.ReferenceIdeal.S_ .f32 0x3F800000#32)
    mulf (mulf X (Host.divf one (addf one (Host.exp (Host.negf X))))) Q (ix2 a b) = g * Ideal.logistic g * d := by
  intro one
  subst hg hd
  exact congrArg₂ HMul.hMul (congrArg₂ HMul.hMul rfl (ref_sigmoid X h1 a b)) rfl

end Reference

end Cert.Equations
end
-- ==== Proof.AttnFwd.lean ====
module

public import proofs.«01_k».proof.Proof.Gen.Kernel2Ideal.Loops
public import proofs.«01_k».proof.Proof.Gen.Kernel2Ideal.Regions
public import Idealize.ShloMosaic.Lib.Claim

@[expose] public section

set_option maxRecDepth 16384

noncomputable section

namespace Cert.Kernel2Ideal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal.Gen

variable {F : FTy → Type} [FloatOps F]

local notation "𝕄" => MT nD τ sig Unit (Elt F) ℕ (UR sig nD τ) ℕ

section Fwd

variable (c : Dev nD) (i : grid0.Coords) (arg2 : Memref sig .tc .vmem S2048x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S512x256 .bf16) (harg5 : arg5.IsWhole) (arg6 : Memref sig .tc .vmem S1x2048x256 .bf16) (harg6 : arg6.IsWhole) (arg7 : Memref sig .tc .vmem S2048x512 .f32) (harg7 : arg7.IsWhole) (arg8 : Memref sig .tc .vmem S2x512x128 .f32) (harg8 : arg8.IsWhole) (arg9 : Memref sig .tc .vmem S2x512x128 .f32) (harg9 : arg9.IsWhole) (arg10 : Memref sig .tc .vmem S2x512x1 .f32) (harg10 : arg10.IsWhole)
variable (v0 : IVec S1x128 32) (v1 : Vec F S512x256 .bf16)
variable (x2 : BufTy.Contents (Elt F) arg2.view.ty) (x3 : BufTy.Contents (Elt F) arg3.view.ty) (x4 : BufTy.Contents (Elt F) arg4.view.ty)

/-- What one query tile of the forward kernel touches: the queries, keys and values at their contents, the two results
    at `f6` and `f7`, the three accumulators at anything (a tile clears them first). -/
abbrev FTrip (f6 : BufTy.Contents (Elt F) arg6.view.ty) (f7 : BufTy.Contents (Elt F) arg7.view.ty) : sProp 𝕄 :=
  iprop((arg2.view.loc (c : Thread nD τ) ↦[arg2.view.set]{fullShare} x2) ∗ (arg3.view.loc (c : Thread nD τ) ↦[arg3.view.set]{fullShare} x3)
    ∗ (arg4.view.loc (c : Thread nD τ) ↦[arg4.view.set]{fullShare} x4) ∗ (arg6.view.loc (c : Thread nD τ) ↦[arg6.view.set]{fullShare} f6)
    ∗ (arg7.view.loc (c : Thread nD τ) ↦[arg7.view.set]{fullShare} f7) ∗ (∃ f8, arg8.view.loc (c : Thread nD τ) ↦[arg8.view.set]{fullShare} f8)
    ∗ (∃ f9, arg9.view.loc (c : Thread nD τ) ↦[arg9.view.set]{fullShare} f9) ∗ (∃ f10, arg10.view.loc (c : Thread nD τ) ↦[arg10.view.set]{fullShare} f10))

/-- The pieces one query tile writes into the two results, with the run that writes them. -/
abbrev FRun (k : Fin k0_t1_loop.trips) : Type _ :=
  Σ' (L6 : List (View.Piece (Elt F) S1x2048x256 .bf16)), { L7 : List (View.Piece (Elt F) S2048x512 .f32) //
    ∀ (E : Set ℕ) (f6 : BufTy.Contents (Elt F) arg6.view.ty) (f7 : BufTy.Contents (Elt F) arg7.view.ty),
      FTrip (F := F) c arg2 arg3 arg4 arg6 arg7 arg8 arg9 arg10 x2 x3 x4 f6 f7
      ⊢ wp frame (wpE (defs₀ (F := F)) Variants.none (c : Thread nD τ) none) E (k0_t1_body (F := F) i arg2 harg2 arg3 harg3 arg4 harg4 arg5 harg5 arg6 harg6 arg7 harg7 arg8 harg8 arg9 harg9 arg10 harg10 v0 v1 k ())
          (fun _ => FTrip (F := F) c arg2 arg3 arg4 arg6 arg7 arg8 arg9 arg10 x2 x3 x4
            (arg6.view.writes (Elt F) f6 L6) (arg7.view.writes (Elt F) f7 L7)) }

/-- A tile of even number: the diagonal block alone, then the pairs before it. -/
@[irreducible] def fEven (k : Fin k0_t1_loop.trips) (h1 : k0_cond1 k = 1#1) (h2 : ¬ k0_cond2 k = 1#1) :
    FRun (F := F) c i arg2 harg2 arg3 harg3 arg4 harg4 arg5 harg5 arg6 harg6 arg7 harg7 arg8 harg8 arg9 harg9 arg10 harg10 v0 v1 x2 x3 x4 k := by
  refine ⟨?_, ?_, fun E f6 f7 => ?run⟩
  case run =>
    unfold k0_t1_body
    iintro ⟨H2, H3, H4, H6, H7, ⟨%f8, H8⟩, ⟨%f9, H9⟩, ⟨%f10, H10⟩⟩
    sl_exec
    sl_step
    sl_close

/-- A tile of odd number: the diagonal block and the one before it, then the pairs before those. -/
@[irreducible] def fOdd (k : Fin k0_t1_loop.trips) (h1 : ¬ k0_cond1 k = 1#1) (h2 : k0_cond2 k = 1#1) :
    FRun (F := F) c i arg2 harg2 arg3 harg3 arg4 harg4 arg5 harg5 arg6 harg6 arg7 harg7 arg8 harg8 arg9 harg9 arg10 harg10 v0 v1 x2 x3 x4 k := by
  refine ⟨?_, ?_, fun E f6 f7 => ?run⟩
  case run =>
    unfold k0_t1_body
    iintro ⟨H2, H3, H4, H6, H7, ⟨%f8, H8⟩, ⟨%f9, H9⟩, ⟨%f10, H10⟩⟩
    sl_exec
    sl_step
    sl_close

/-- Exactly one of the two conditions holds at every tile. -/
theorem fParity : ∀ k : Fin k0_t1_loop.trips, (k0_cond1 k = 1#1 → ¬ k0_cond2 k = 1#1) ∧ (¬ k0_cond1 k = 1#1 → k0_cond2 k = 1#1) := by decide +kernel

/-- One query tile, of either parity. -/
def fRun (k : Fin k0_t1_loop.trips) : FRun (F := F) c i arg2 harg2 arg3 harg3 arg4 harg4 arg5 harg5 arg6 harg6 arg7 harg7 arg8 harg8 arg9 harg9 arg10 harg10 v0 v1 x2 x3 x4 k :=
  if h : k0_cond1 k = 1#1 then fEven c i arg2 harg2 arg3 harg3 arg4 harg4 arg5 harg5 arg6 harg6 arg7 harg7 arg8 harg8 arg9 harg9 arg10 harg10 v0 v1 x2 x3 x4 k h ((fParity k).1 h) else fOdd c i arg2 harg2 arg3 harg3 arg4 harg4 arg5 harg5 arg6 harg6 arg7 harg7 arg8 harg8 arg9 harg9 arg10 harg10 v0 v1 x2 x3 x4 k h ((fParity k).2 h)

/-- What the first `n` query tiles write into the attention's output. -/
def fO : ℕ → List (View.Piece (Elt F) S1x2048x256 .bf16)
  | 0 => []
  | n + 1 => (if h : n < k0_t1_loop.trips then (fRun (F := F) c i arg2 harg2 arg3 harg3 arg4 harg4 arg5 harg5 arg6 harg6 arg7 harg7 arg8 harg8 arg9 harg9 arg10 harg10 v0 v1 x2 x3 x4 ⟨n, h⟩).1 else []) ++ fO n
/-- What the first `n` query tiles write into the carried sums. -/
def fC : ℕ → List (View.Piece (Elt F) S2048x512 .f32)
  | 0 => []
  | n + 1 => (if h : n < k0_t1_loop.trips then (fRun (F := F) c i arg2 harg2 arg3 harg3 arg4 harg4 arg5 harg5 arg6 harg6 arg7 harg7 arg8 harg8 arg9 harg9 arg10 harg10 v0 v1 x2 x3 x4 ⟨n, h⟩).2.1 else []) ++ fC n

theorem fO_succ (k : Fin k0_t1_loop.trips) : fO c i arg2 harg2 arg3 harg3 arg4 harg4 arg5 harg5 arg6 harg6 arg7 harg7 arg8 harg8 arg9 harg9 arg10 harg10 v0 v1 x2 x3 x4 (k.val + 1)
    = (fRun (F := F) c i arg2 harg2 arg3 harg3 arg4 harg4 arg5 harg5 arg6 harg6 arg7 harg7 arg8 harg8 arg9 harg9 arg10 harg10 v0 v1 x2 x3 x4 k).1 ++ fO c i arg2 harg2 arg3 harg3 arg4 harg4 arg5 harg5 arg6 harg6 arg7 harg7 arg8 harg8 arg9 harg9 arg10 harg10 v0 v1 x2 x3 x4 k.val := by
  rw [fO.eq_2]; exact congrArg (· ++ _) (dif_pos k.isLt)
theorem fC_succ (k : Fin k0_t1_loop.trips) : fC c i arg2 harg2 arg3 harg3 arg4 harg4 arg5 harg5 arg6 harg6 arg7 harg7 arg8 harg8 arg9 harg9 arg10 harg10 v0 v1 x2 x3 x4 (k.val + 1)
    = (fRun (F := F) c i arg2 harg2 arg3 harg3 arg4 harg4 arg5 harg5 arg6 harg6 arg7 harg7 arg8 harg8 arg9 harg9 arg10 harg10 v0 v1 x2 x3 x4 k).2.1 ++ fC c i arg2 harg2 arg3 harg3 arg4 harg4 arg5 harg5 arg6 harg6 arg7 harg7 arg8 harg8 arg9 harg9 arg10 harg10 v0 v1 x2 x3 x4 k.val := by
  rw [fC.eq_2]; exact congrArg (· ++ _) (dif_pos k.isLt)

variable (G6 : BufTy.Contents (Elt F) arg6.view.ty) (G7 : BufTy.Contents (Elt F) arg7.view.ty)

/-- Before query tile `k` the two results hold what the tiles before it wrote. -/
abbrev fInv (k : ℕ) (_ : Unit) : sProp 𝕄 :=
  iprop((arg2.view.loc (c : Thread nD τ) ↦[arg2.view.set]{fullShare} x2) ∗ (arg3.view.loc (c : Thread nD τ) ↦[arg3.view.set]{fullShare} x3)
    ∗ (arg4.view.loc (c : Thread nD τ) ↦[arg4.view.set]{fullShare} x4)
    ∗ (∃ f, (arg6.view.loc (c : Thread nD τ) ↦[arg6.view.set]{fullShare} f) ∗ ⌜f = arg6.view.writes (Elt F) G6 (fO (F := F) c i arg2 harg2 arg3 harg3 arg4 harg4 arg5 harg5 arg6 harg6 arg7 harg7 arg8 harg8 arg9 harg9 arg10 harg10 v0 v1 x2 x3 x4 k)⌝)
    ∗ (∃ f, (arg7.view.loc (c : Thread nD τ) ↦[arg7.view.set]{fullShare} f) ∗ ⌜f = arg7.view.writes (Elt F) G7 (fC (F := F) c i arg2 harg2 arg3 harg3 arg4 harg4 arg5 harg5 arg6 harg6 arg7 harg7 arg8 harg8 arg9 harg9 arg10 harg10 v0 v1 x2 x3 x4 k)⌝)
    ∗ (∃ f8, arg8.view.loc (c : Thread nD τ) ↦[arg8.view.set]{fullShare} f8)
    ∗ (∃ f9, arg9.view.loc (c : Thread nD τ) ↦[arg9.view.set]{fullShare} f9) ∗ (∃ f10, arg10.view.loc (c : Thread nD τ) ↦[arg10.view.set]{fullShare} f10))

set_option warn.classDefReducibility false in
@[sl_loop] def fLoop : LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 v0 v1 where
  inv := fInv (F := F) c i arg2 harg2 arg3 harg3 arg4 harg4 arg5 harg5 arg6 harg6 arg7 harg7 arg8 harg8 arg9 harg9 arg10 harg10 v0 v1 x2 x3 x4 G6 G7
  step k acc := by
    iintro ⟨H2, H3, H4, ⟨%f6, H6, %h6⟩, ⟨%f7, H7, %h7⟩, H8, H9, H10⟩
    iapply (wp_wand_r Idealize.ShloMosaic.frame (wpE (defs₀ (F := F)) Variants.none (c : Thread nD τ) none) Set.univ)
    isplitl [H2 H3 H4 H6 H7 H8 H9 H10]
    · iapply ((fRun (F := F) c i arg2 harg2 arg3 harg3 arg4 harg4 arg5 harg5 arg6 harg6 arg7 harg7 arg8 harg8 arg9 harg9 arg10 harg10 v0 v1 x2 x3 x4 k).2.2 Set.univ f6 f7)
      isplitl [H2]; · iexact H2
      isplitl [H3]; · iexact H3
      isplitl [H4]; · iexact H4
      isplitl [H6]; · iexact H6
      isplitl [H7]; · iexact H7
      isplitl [H8]; · iexact H8
      isplitl [H9]; · iexact H9
      iexact H10
    · iintro %yld ⟨H2, H3, H4, H6, H7, H8, H9, H10⟩
      isplitl [H2]; · iexact H2
      isplitl [H3]; · iexact H3
      isplitl [H4]; · iexact H4
      simp only [fO_succ, fC_succ]
      isplitl [H6]
      · iexists _; isplitl [H6]; · iexact H6
        ipureintro; rw [h6, ← View.writes_append]
      isplitl [H7]
      · iexists _; isplitl [H7]; · iexact H7
        ipureintro; rw [h7, ← View.writes_append]
      isplitl [H8]; · iexact H8
      isplitl [H9]; · iexact H9
      iexact H10

/-- The forward kernel's body: the pieces it writes into its two results, with the run that writes them. -/
def fBody (y2 y3 y4 : Vec F S2048x256 .bf16) (y5 : Vec F S512x256 .bf16) :
    Σ' (L6 : List (View.Piece (Elt F) S1x2048x256 .bf16)), { L7 : List (View.Piece (Elt F) S2048x512 .f32) // ∀ (K : PUnit → sProp 𝕄),
    iprop(owns (c : Thread nD τ) arg2 fullShare y2 ∗ owns (c : Thread nD τ) arg3 fullShare y3 ∗ owns (c : Thread nD τ) arg4 fullShare y4
        ∗ owns (c : Thread nD τ) arg5 fullShare y5 ∗ (∃ d, owns (c : Thread nD τ) arg6 fullShare d) ∗ (∃ d, owns (c : Thread nD τ) arg7 fullShare d)
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare y2 ∗ owns (c : Thread nD τ) arg3 fullShare y3 ∗ owns (c : Thread nD τ) arg4 fullShare y4
        ∗ owns (c : Thread nD τ) arg5 fullShare y5
        ∗ (∃ f, arg6.view.loc (c : Thread nD τ) ↦[arg6.view.set]{fullShare} arg6.view.writes (Elt F) f L6)
        ∗ (∃ f, arg7.view.loc (c : Thread nD τ) ↦[arg7.view.set]{fullShare} arg7.view.writes (Elt F) f L7)
        ∗ (∃ d, owns (c : Thread nD τ) arg8 fullShare d) ∗ (∃ d, owns (c : Thread nD τ) arg9 fullShare d) ∗ (∃ d, owns (c : Thread nD τ) arg10 fullShare d)) -∗ K ⟨⟩))
      ⊢ wp frame (wpE (defs₀ (F := F)) Variants.none c none) Set.univ (cc0_attn_fwd i arg2 harg2 arg3 harg3 arg4 harg4 arg5 harg5 arg6 harg6 arg7 harg7 arg8 harg8 arg9 harg9 arg10 harg10) K } := by
  refine ⟨?_, ?_, fun K => ?run⟩
  case run =>
    simp only [cc0_attn_fwd_eq_skeleton]; unfold cc0_attn_fwd_skel
    unfold owns
    iintro ⟨⟨%f2, %hf2, H2⟩, ⟨%f3, %hf3, H3⟩, ⟨%f4, %hf4, H4⟩, ⟨%f5, %hf5, H5⟩, ⟨%d6, %f6, -, H6⟩, ⟨%d7, %f7, -, H7⟩,
      ⟨%d8, %f8, -, H8⟩, ⟨%d9, %f9, -, H9⟩, ⟨%d10, %f10, -, H10⟩, Hk⟩
    obtain rfl := harg2.eq_unread hf2; obtain rfl := harg3.eq_unread hf3; obtain rfl := harg4.eq_unread hf4; obtain rfl := harg5.eq_unread hf5
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexists _; isplitr; swap; · iexact H8
                    ipureintro; rfl
    isplitl [H9]; · iexists _; iexists _; isplitr; swap; · iexact H9
                    ipureintro; rfl
    iexists _; iexists _; isplitr; swap; · iexact H10
    ipureintro; rfl

end Fwd

end Cert.Kernel2Ideal.Attn
-- ==== Proof.AttnBwd.lean ====
module

public import proofs.«01_k».proof.Proof.Gen.Kernel2Ideal.Loops
public import proofs.«01_k».proof.Proof.Gen.Kernel2Ideal.Regions
public import Idealize.ShloMosaic.Lib.Claim

@[expose] public section

set_option maxRecDepth 16384

noncomputable section

namespace Cert.Kernel2Ideal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal.Gen

variable {F : FTy → Type} [FloatOps F]

local notation "𝕄" => MT nD τ sig Unit (Elt F) ℕ (UR sig nD τ) ℕ

section Bwd

variable (c : Dev nD) (i : grid1.Coords)
  (arg2 : Memref sig .tc .vmem S2048x256 .bf16) (harg2 : arg2.IsWhole) (arg3 : Memref sig .tc .vmem S2048x256 .bf16) (harg3 : arg3.IsWhole)
  (arg4 : Memref sig .tc .vmem S2048x256 .bf16) (harg4 : arg4.IsWhole) (arg5 : Memref sig .tc .vmem S2048x256 .bf16) (harg5 : arg5.IsWhole)
  (arg6 : Memref sig .tc .vmem S2048x512 .f32) (harg6 : arg6.IsWhole) (arg7 : Memref sig .tc .vmem S512x256 .bf16) (harg7 : arg7.IsWhole)
  (arg8 : Memref sig .tc .vmem S256x256 .bf16) (harg8 : arg8.IsWhole) (arg9 : Memref sig .tc .vmem S3x2048x256 .bf16) (harg9 : arg9.IsWhole)
  (arg10 : Memref sig .tc .vmem S2x512x128 .f32) (harg10 : arg10.IsWhole) (arg11 : Memref sig .tc .vmem S2x2048x128 .f32) (harg11 : arg11.IsWhole)
  (arg12 : Memref sig .tc .vmem S2x2048x128 .f32) (harg12 : arg12.IsWhole) (arg13 : Memref sig .tc .vmem S2x512x1 .f32) (harg13 : arg13.IsWhole)

section Pairs

variable (v0 : IVec S1x128 32) (v2 : FVec F S512x256 .bf16) (v4 : FVec F S256x256 .bf16) (v12 : IVec S512x256 1) (k1_t1 : Fin k1_t1_loop.trips) (arg14 : BitVec 32)
  (v64 v79 : FVec F S512x128 .bf16) (v86 : FVec F S512x128 .f32) (v103 v118 : FVec F S512x128 .bf16) (v125 : FVec F S512x128 .f32) (v130 : FVec F S2x512x128 .f32)
variable (x3 : BufTy.Contents (Elt F) arg3.view.ty) (x4 : BufTy.Contents (Elt F) arg4.view.ty)

/-- What the four accumulators of the backward kernel hold. -/
abbrev BSt : Type _ := BufTy.Contents (Elt F) arg10.view.ty × BufTy.Contents (Elt F) arg11.view.ty × BufTy.Contents (Elt F) arg12.view.ty × BufTy.Contents (Elt F) arg13.view.ty

/-- What one pair of key blocks touches: keys and values at their contents, the four accumulators at `s`. -/
abbrev PTrip (s : BSt (F := F) arg10 arg11 arg12 arg13) : sProp 𝕄 :=
  iprop((arg3.view.loc (c : Thread nD τ) ↦[arg3.view.set]{fullShare} x3) ∗ (arg4.view.loc (c : Thread nD τ) ↦[arg4.view.set]{fullShare} x4)
    ∗ (arg10.view.loc (c : Thread nD τ) ↦[arg10.view.set]{fullShare} s.1) ∗ (arg11.view.loc (c : Thread nD τ) ↦[arg11.view.set]{fullShare} s.2.1)
    ∗ (arg12.view.loc (c : Thread nD τ) ↦[arg12.view.set]{fullShare} s.2.2.1) ∗ (arg13.view.loc (c : Thread nD τ) ↦[arg13.view.set]{fullShare} s.2.2.2))

set_option sl_exec.squeezeSlice true in
/-- What one pair of key blocks leaves in the accumulators, with the run that leaves it. -/
@[irreducible] def pTrip (k : Fin (k1_t2_loop k1_t1).trips) :
    Σ' (L10 : BufTy.Contents (Elt F) arg10.view.ty → BufTy.Contents (Elt F) arg11.view.ty → BufTy.Contents (Elt F) arg12.view.ty → BufTy.Contents (Elt F) arg13.view.ty → List (View.Piece (Elt F) S2x512x128 .f32)) (L11 : BufTy.Contents (Elt F) arg10.view.ty → BufTy.Contents (Elt F) arg11.view.ty → BufTy.Contents (Elt F) arg12.view.ty → BufTy.Contents (Elt F) arg13.view.ty → List (View.Piece (Elt F) S2x2048x128 .f32)) (L12 : BufTy.Contents (Elt F) arg10.view.ty → BufTy.Contents (Elt F) arg11.view.ty → BufTy.Contents (Elt F) arg12.view.ty → BufTy.Contents (Elt F) arg13.view.ty → List (View.Piece (Elt F) S2x2048x128 .f32)), { L13 : BufTy.Contents (Elt F) arg10.view.ty → BufTy.Contents (Elt F) arg11.view.ty → BufTy.Contents (Elt F) arg12.view.ty → BufTy.Contents (Elt F) arg13.view.ty → List (View.Piece (Elt F) S2x512x1 .f32) //
      ∀ (E : Set ℕ) (acc : BitVec 32) (f10 : BufTy.Contents (Elt F) arg10.view.ty) (f11 : BufTy.Contents (Elt F) arg11.view.ty) (f12 : BufTy.Contents (Elt F) arg12.view.ty) (f13 : BufTy.Contents (Elt F) arg13.view.ty),
        PTrip (F := F) c arg3 arg4 arg10 arg11 arg12 arg13 x3 x4 (f10, f11, f12, f13)
        ⊢ wp frame (wpE (defs₀ (F := F)) Variants.none (c : Thread nD τ) none) E (k1_t2_body (F := F) i arg2 harg2 arg3 harg3 arg4 harg4 arg5 harg5 arg6 harg6 arg7 harg7 arg8 harg8 arg9 harg9 arg10 harg10 arg11 harg11 arg12 harg12 arg13 harg13 v0 v2 v4 v12 k1_t1 arg14 v64 v79 v86 v103 v118 v125 v130 k acc)
          (fun _ => PTrip (F := F) c arg3 arg4 arg10 arg11 arg12 arg13 x3 x4 (arg10.view.writes (Elt F) f10 (L10 f10 f11 f12 f13), arg11.view.writes (Elt F) f11 (L11 f10 f11 f12 f13),
            arg12.view.writes (Elt F) f12 (L12 f10 f11 f12 f13), arg13.view.writes (Elt F) f13 (L13 f10 f11 f12 f13))) } := by
  refine ⟨?_, ?_, ?_, ?_, fun E acc f10 f11 f12 f13 => ?run⟩
  case run =>
    unfold k1_t2_body
    dsimp only
    iintro ⟨H3, H4, H10, H11, H12, H13⟩
    sl_exec
    sl_step
    sl_close

variable (f10 : BufTy.Contents (Elt F) arg10.view.ty) (f11 : BufTy.Contents (Elt F) arg11.view.ty) (f12 : BufTy.Contents (Elt F) arg12.view.ty) (f13 : BufTy.Contents (Elt F) arg13.view.ty)

/-- What pair `k` adds to the pieces `p` of the pairs before it. -/
@[irreducible] def pNext (k : ℕ) (p : List (View.Piece (Elt F) S2x512x128 .f32) × List (View.Piece (Elt F) S2x2048x128 .f32) × List (View.Piece (Elt F) S2x2048x128 .f32) × List (View.Piece (Elt F) S2x512x1 .f32)) : List (View.Piece (Elt F) S2x512x128 .f32) × List (View.Piece (Elt F) S2x2048x128 .f32) × List (View.Piece (Elt F) S2x2048x128 .f32) × List (View.Piece (Elt F) S2x512x1 .f32) :=
  if h : k < (k1_t2_loop k1_t1).trips then
      ((pTrip (F := F) c i arg2 harg2 arg3 harg3 arg4 harg4 arg5 harg5 arg6 harg6 arg7 harg7 arg8 harg8 arg9 harg9 arg10 harg10 arg11 harg11 arg12 harg12 arg13 harg13 v0 v2 v4 v12 k1_t1 arg14 v64 v79 v86 v103 v118 v125 v130 x3 x4 ⟨k, h⟩).1 (arg10.view.writes (Elt F) f10 p.1) (arg11.view.writes (Elt F) f11 p.2.1) (arg12.view.writes (Elt F) f12 p.2.2.1) (arg13.view.writes (Elt F) f13 p.2.2.2) ++ p.1,
       (pTrip (F := F) c i arg2 harg2 arg3 harg3 arg4 harg4 arg5 harg5 arg6 harg6 arg7 harg7 arg8 harg8 arg9 harg9 arg10 harg10 arg11 harg11 arg12 harg12 arg13 harg13 v0 v2 v4 v12 k1_t1 arg14 v64 v79 v86 v103 v118 v125 v130 x3 x4 ⟨k, h⟩).2.1 (arg10.view.writes (Elt F) f10 p.1) (arg11.view.writes (Elt F) f11 p.2.1) (arg12.view.writes (Elt F) f12 p.2.2.1) (arg13.view.writes (Elt F) f13 p.2.2.2) ++ p.2.1,
       (pTrip (F := F) c i arg2 harg2 arg3 harg3 arg4 harg4 arg5 harg5 arg6 harg6 arg7 harg7 arg8 harg8 arg9 harg9 arg10 harg10 arg11 harg11 arg12 harg12 arg13 harg13 v0 v2 v4 v12 k1_t1 arg14 v64 v79 v86 v103 v118 v125 v130 x3 x4 ⟨k, h⟩).2.2.1 (arg10.view.writes (Elt F) f10 p.1) (arg11.view.writes (Elt F) f11 p.2.1) (arg12.view.writes (Elt F) f12 p.2.2.1) (arg13.view.writes (Elt F) f13 p.2.2.2) ++ p.2.2.1,
       (pTrip (F := F) c i arg2 harg2 arg3 harg3 arg4 harg4 arg5 harg5 arg6 harg6 arg7 harg7 arg8 harg8 arg9 harg9 arg10 harg10 arg11 harg11 arg12 harg12 arg13 harg13 v0 v2 v4 v12 k1_t1 arg14 v64 v79 v86 v103 v118 v125 v130 x3 x4 ⟨k, h⟩).2.2.2.1 (arg10.view.writes (Elt F) f10 p.1) (arg11.view.writes (Elt F) f11 p.2.1) (arg12.view.writes (Elt F) f12 p.2.2.1) (arg13.view.writes (Elt F) f13 p.2.2.2) ++ p.2.2.2)
  else p

/-- The pieces the pairs before `n` have written into the accumulators. -/
def pPc : ℕ → List (View.Piece (Elt F) S2x512x128 .f32) × List (View.Piece (Elt F) S2x2048x128 .f32) × List (View.Piece (Elt F) S2x2048x128 .f32) × List (View.Piece (Elt F) S2x512x1 .f32)
  | 0 => ([], [], [], [])
  | n + 1 => pNext c i arg2 harg2 arg3 harg3 arg4 harg4 arg5 harg5 arg6 harg6 arg7 harg7 arg8 harg8 arg9 harg9 arg10 harg10 arg11 harg11 arg12 harg12 arg13 harg13 v0 v2 v4 v12 k1_t1 arg14 v64 v79 v86 v103 v118 v125 v130 x3 x4 f10 f11 f12 f13 n (pPc n)

theorem pPc_succ (k : Fin (k1_t2_loop k1_t1).trips) :
    pPc c i arg2 harg2 arg3 harg3 arg4 harg4 arg5 harg5 arg6 harg6 arg7 harg7 arg8 harg8 arg9 harg9 arg10 harg10 arg11 harg11 arg12 harg12 arg13 harg13 v0 v2 v4 v12 k1_t1 arg14 v64 v79 v86 v103 v118 v125 v130 x3 x4 f10 f11 f12 f13 (k.val + 1)
      = ((pTrip (F := F) c i arg2 harg2 arg3 harg3 arg4 harg4 arg5 harg5 arg6 harg6 arg7 harg7 arg8 harg8 arg9 harg9 arg10 harg10 arg11 harg11 arg12 harg12 arg13 harg13 v0 v2 v4 v12 k1_t1 arg14 v64 v79 v86 v103 v118 v125 v130 x3 x4 k).1 (arg10.view.writes (Elt F) f10 (pPc c i arg2 harg2 arg3 harg3 arg4 harg4 arg5 harg5 arg6 harg6 arg7 harg7 arg8 harg8 arg9 harg9 arg10 harg10 arg11 harg11 arg12 harg12 arg13 harg13 v0 v2 v4 v12 k1_t1 arg14 v64 v79 v86 v103 v118 v125 v130 x3 x4 f10 f11 f12 f13 k.val).1) (arg11.view.writes (Elt F) f11 (pPc c i arg2 harg2 arg3 harg3 arg4 harg4 arg5 harg5 arg6 harg6 arg7 harg7 arg8 harg8 arg9 harg9 arg10 harg10 arg11 harg11 arg12 harg12 arg13 harg13 v0 v2 v4 v12 k1_t1 arg14 v64 v79 v86 v103 v118 v125 v130 x3 x4 f10 f11 f12 f13 k.val).2.1) (arg12.view.writes (Elt F) f12 (pPc c i arg2 harg2 arg3 harg3 arg4 harg4 arg5 harg5 arg6 harg6 arg7 harg7 arg8 harg8 arg9 harg9 arg10 harg10 arg11 harg11 arg12 harg12 arg13 harg13 v0 v2 v4 v12 k1_t1 arg14 v64 v79 v86 v103 v118 v125 v130 x3 x4 f10 f11 f12 f13 k.val).2.2.1) (arg13.view.writes (Elt F) f13 (pPc c i arg2 harg2 arg3 harg3 arg4 harg4 arg5 harg5 arg6 harg6 arg7 harg7 arg8 harg8 arg9 harg9 arg10 harg10 arg11 harg11 arg12 harg12 arg13 harg13 v0 v2 v4 v12 k1_t1 arg14 v64 v79 v86 v103 v118 v125 v130 x3 x4 f10 f11 f12 f13 k.val).2.2.2) ++ (pPc c i arg2 harg2 arg3 harg3 arg4 harg4 arg5 harg5 arg6 harg6 arg7 harg7 arg8 harg8 arg9 harg9 arg10 harg10 arg11 harg11 arg12 harg12 arg13 harg13 v0 v2 v4 v12 k1_t1 arg14 v64 v79 v86 v103 v118 v125 v130 x3 x4 f10 f11 f12 f13 k.val).1,
       (pTrip (F := F) c i arg2 harg2 arg3 harg3 arg4 harg4 arg5 harg5 arg6 harg6 arg7 harg7 arg8 harg8 arg9 harg9 arg10 harg10 arg11 harg11 arg12 harg12 arg13 harg13 v0 v2 v4 v12 k1_t1 arg14 v64 v79 v86 v103 v118 v125 v130 x3 x4 k).2.1 (arg10.view.writes (Elt F) f10 (pPc c i arg2 harg2 arg3 harg3 arg4 harg4 arg5 harg5 arg6 harg6 arg7 harg7 arg8 harg8 arg9 harg9 arg10 harg10 arg11 harg11 arg12 harg12 arg13 harg13 v0 v2 v4 v12 k1_t1 arg14 v64 v79 v86 v103 v118 v125 v130 x3 x4 f10 f11 f12 f13 k.val).1) (arg11.view.writes (Elt F) f11 (pPc c i arg2 harg2 arg3 harg3 arg4 harg4 arg5 harg5 arg6 harg6 arg7 harg7 arg8 harg8 arg9 harg9 arg10 harg10 arg11 harg11 arg12 harg12 arg13 harg13 v0 v2 v4 v12 k1_t1 arg14 v64 v79 v86 v103 v118 v125 v130 x3 x4 f10 f11 f12 f13 k.val).2.1) (arg12.view.writes (Elt F) f12 (pPc c i arg2 harg2 arg3 harg3 arg4 harg4 arg5 harg5 arg6 harg6 arg7 harg7 arg8 harg8 arg9 harg9 arg10 harg10 arg11 harg11 arg12 harg12 arg13 harg13 v0 v2 v4 v12 k1_t1 arg14 v64 v79 v86 v103 v118 v125 v130 x3 x4 f10 f11 f12 f13 k.val).2.2.1) (arg13.view.writes (Elt F) f13 (pPc c i arg2 harg2 arg3 harg3 arg4 harg4 arg5 harg5 arg6 harg6 arg7 harg7 arg8 harg8 arg9 harg9 arg10 harg10 arg11 harg11 arg12 harg12 arg13 harg13 v0 v2 v4 v12 k1_t1 arg14 v64 v79 v86 v103 v118 v125 v130 x3 x4 f10 f11 f12 f13 k.val).2.2.2) ++ (pPc c i arg2 harg2 arg3 harg3 arg4 harg4 arg5 harg5 arg6 harg6 arg7 harg7 arg8 harg8 arg9 harg9 arg10 harg10 arg11 harg11 arg12 harg12 arg13 harg13 v0 v2 v4 v12 k1_t1 arg14 v64 v79 v86 v103 v118 v125 v130 x3 x4 f10 f11 f12 f13 k.val).2.1,
       (pTrip (F := F) c i arg2 harg2 arg3 harg3 arg4 harg4 arg5 harg5 arg6 harg6 arg7 harg7 arg8 harg8 arg9 harg9 arg10 harg10 arg11 harg11 arg12 harg12 arg13 harg13 v0 v2 v4 v12 k1_t1 arg14 v64 v79 v86 v103 v118 v125 v130 x3 x4 k).2.2.1 (arg10.view.writes (Elt F) f10 (pPc c i arg2 harg2 arg3 harg3 arg4 harg4 arg5 harg5 arg6 harg6 arg7 harg7 arg8 harg8 arg9 harg9 arg10 harg10 arg11 harg11 arg12 harg12 arg13 harg13 v0 v2 v4 v12 k1_t1 arg14 v64 v79 v86 v103 v118 v125 v130 x3 x4 f10 f11 f12 f13 k.val).1) (arg11.view.writes (Elt F) f11 (pPc c i arg2 harg2 arg3 harg3 arg4 harg4 arg5 harg5 arg6 harg6 arg7 harg7 arg8 harg8 arg9 harg9 arg10 harg10 arg11 harg11 arg12 harg12 arg13 harg13 v0 v2 v4 v12 k1_t1 arg14 v64 v79 v86 v103 v118 v125 v130 x3 x4 f10 f11 f12 f13 k.val).2.1) (arg12.view.writes (Elt F) f12 (pPc c i arg2 harg2 arg3 harg3 arg4 harg4 arg5 harg5 arg6 harg6 arg7 harg7 arg8 harg8 arg9 harg9 arg10 harg10 arg11 harg11 arg12 harg12 arg13 harg13 v0 v2 v4 v12 k1_t1 arg14 v64 v79 v86 v103 v118 v125 v130 x3 x4 f10 f11 f12 f13 k.val).2.2.1) (arg13.view.writes (Elt F) f13 (pPc c i arg2 harg2 arg3 harg3 arg4 harg4 arg5 harg5 arg6 harg6 arg7 harg7 arg8 harg8 arg9 harg9 arg10 harg10 arg11 harg11 arg12 harg12 arg13 harg13 v0 v2 v4 v12 k1_t1 arg14 v64 v79 v86 v103 v118 v125 v130 x3 x4 f10 f11 f12 f13 k.val).2.2.2) ++ (pPc c i arg2 harg2 arg3 harg3 arg4 harg4 arg5 harg5 arg6 harg6 arg7 harg7 arg8 harg8 arg9 harg9 arg10 harg10 arg11 harg11 arg12 harg12 arg13 harg13 v0 v2 v4 v12 k1_t1 arg14 v64 v79 v86 v103 v118 v125 v130 x3 x4 f10 f11 f12 f13 k.val).2.2.1,
       (pTrip (F := F) c i arg2 harg2 arg3 harg3 arg4 harg4 arg5 harg5 arg6 harg6 arg7 harg7 arg8 harg8 arg9 harg9 arg10 harg10 arg11 harg11 arg12 harg12 arg13 harg13 v0 v2 v4 v12 k1_t1 arg14 v64 v79 v86 v103 v118 v125 v130 x3 x4 k).2.2.2.1 (arg10.view.writes (Elt F) f10 (pPc c i arg2 harg2 arg3 harg3 arg4 harg4 arg5 harg5 arg6 harg6 arg7 harg7 arg8 harg8 arg9 harg9 arg10 harg10 arg11 harg11 arg12 harg12 arg13 harg13 v0 v2 v4 v12 k1_t1 arg14 v64 v79 v86 v103 v118 v125 v130 x3 x4 f10 f11 f12 f13 k.val).1) (arg11.view.writes (Elt F) f11 (pPc c i arg2 harg2 arg3 harg3 arg4 harg4 arg5 harg5 arg6 harg6 arg7 harg7 arg8 harg8 arg9 harg9 arg10 harg10 arg11 harg11 arg12 harg12 arg13 harg13 v0 v2 v4 v12 k1_t1 arg14 v64 v79 v86 v103 v118 v125 v130 x3 x4 f10 f11 f12 f13 k.val).2.1) (arg12.view.writes (Elt F) f12 (pPc c i arg2 harg2 arg3 harg3 arg4 harg4 arg5 harg5 arg6 harg6 arg7 harg7 arg8 harg8 arg9 harg9 arg10 harg10 arg11 harg11 arg12 harg12 arg13 harg13 v0 v2 v4 v12 k1_t1 arg14 v64 v79 v86 v103 v118 v125 v130 x3 x4 f10 f11 f12 f13 k.val).2.2.1) (arg13.view.writes (Elt F) f13 (pPc c i arg2 harg2 arg3 harg3 arg4 harg4 arg5 harg5 arg6 harg6 arg7 harg7 arg8 harg8 arg9 harg9 arg10 harg10 arg11 harg11 arg12 harg12 arg13 harg13 v0 v2 v4 v12 k1_t1 arg14 v64 v79 v86 v103 v118 v125 v130 x3 x4 f10 f11 f12 f13 k.val).2.2.2) ++ (pPc c i arg2 harg2 arg3 harg3 arg4 harg4 arg5 harg5 arg6 harg6 arg7 harg7 arg8 harg8 arg9 harg9 arg10 harg10 arg11 harg11 arg12 harg12 arg13 harg13 v0 v2 v4 v12 k1_t1 arg14 v64 v79 v86 v103 v118 v125 v130 x3 x4 f10 f11 f12 f13 k.val).2.2.2) := by
  rw [pPc.eq_2]; unfold pNext; exact dif_pos k.isLt

/-- Before pair `k` the accumulators hold what the pairs before it left. -/
abbrev pInv (k : ℕ) (_ : BitVec 32) : sProp 𝕄 :=
  iprop((arg3.view.loc (c : Thread nD τ) ↦[arg3.view.set]{fullShare} x3) ∗ (arg4.view.loc (c : Thread nD τ) ↦[arg4.view.set]{fullShare} x4)
    ∗ (∃ f, (arg10.view.loc (c : Thread nD τ) ↦[arg10.view.set]{fullShare} f) ∗ ⌜f = (arg10.view.writes (Elt F) f10 (pPc c i arg2 harg2 arg3 harg3 arg4 harg4 arg5 harg5 arg6 harg6 arg7 harg7 arg8 harg8 arg9 harg9 arg10 harg10 arg11 harg11 arg12 harg12 arg13 harg13 v0 v2 v4 v12 k1_t1 arg14 v64 v79 v86 v103 v118 v125 v130 x3 x4 f10 f11 f12 f13 k).1)⌝)
    ∗ (∃ f, (arg11.view.loc (c : Thread nD τ) ↦[arg11.view.set]{fullShare} f) ∗ ⌜f = (arg11.view.writes (Elt F) f11 (pPc c i arg2 harg2 arg3 harg3 arg4 harg4 arg5 harg5 arg6 harg6 arg7 harg7 arg8 harg8 arg9 harg9 arg10 harg10 arg11 harg11 arg12 harg12 arg13 harg13 v0 v2 v4 v12 k1_t1 arg14 v64 v79 v86 v103 v118 v125 v130 x3 x4 f10 f11 f12 f13 k).2.1)⌝)
    ∗ (∃ f, (arg12.view.loc (c : Thread nD τ) ↦[arg12.view.set]{fullShare} f) ∗ ⌜f = (arg12.view.writes (Elt F) f12 (pPc c i arg2 harg2 arg3 harg3 arg4 harg4 arg5 harg5 arg6 harg6 arg7 harg7 arg8 harg8 arg9 harg9 arg10 harg10 arg11 harg11 arg12 harg12 arg13 harg13 v0 v2 v4 v12 k1_t1 arg14 v64 v79 v86 v103 v118 v125 v130 x3 x4 f10 f11 f12 f13 k).2.2.1)⌝)
    ∗ (∃ f, (arg13.view.loc (c : Thread nD τ) ↦[arg13.view.set]{fullShare} f) ∗ ⌜f = (arg13.view.writes (Elt F) f13 (pPc c i arg2 harg2 arg3 harg3 arg4 harg4 arg5 harg5 arg6 harg6 arg7 harg7 arg8 harg8 arg9 harg9 arg10 harg10 arg11 harg11 arg12 harg12 arg13 harg13 v0 v2 v4 v12 k1_t1 arg14 v64 v79 v86 v103 v118 v125 v130 x3 x4 f10 f11 f12 f13 k).2.2.2)⌝))

set_option warn.classDefReducibility false in
@[sl_loop] def pLoop (E : Set ℕ) (init : BitVec 32) :
    LoopInvTy_k1_t2 (F := F) Unit ℕ (UR sig nD τ) ℕ Variants.none c none E i arg2 harg2 arg3 harg3 arg4 harg4 arg5 harg5 arg6 harg6 arg7 harg7 arg8 harg8 arg9 harg9 arg10 harg10 arg11 harg11 arg12 harg12 arg13 harg13 v0 v2 v4 v12 k1_t1 arg14 v64 v79 v86 v103 v118 v125 v130 init where
  inv := pInv (F := F) c i arg2 harg2 arg3 harg3 arg4 harg4 arg5 harg5 arg6 harg6 arg7 harg7 arg8 harg8 arg9 harg9 arg10 harg10 arg11 harg11 arg12 harg12 arg13 harg13 v0 v2 v4 v12 k1_t1 arg14 v64 v79 v86 v103 v118 v125 v130 x3 x4 f10 f11 f12 f13
  step k acc := by
    iintro ⟨H3, H4, ⟨%g10, H10, %h10⟩, ⟨%g11, H11, %h11⟩, ⟨%g12, H12, %h12⟩, ⟨%g13, H13, %h13⟩⟩
    iapply (wp_wand_r Idealize.ShloMosaic.frame (wpE (defs₀ (F := F)) Variants.none (c : Thread nD τ) none) E)
    isplitl [H3 H4 H10 H11 H12 H13]
    · iapply ((pTrip (F := F) c i arg2 harg2 arg3 harg3 arg4 harg4 arg5 harg5 arg6 harg6 arg7 harg7 arg8 harg8 arg9 harg9 arg10 harg10 arg11 harg11 arg12 harg12 arg13 harg13 v0 v2 v4 v12 k1_t1 arg14 v64 v79 v86 v103 v118 v125 v130 x3 x4 k).2.2.2.2 E acc g10 g11 g12 g13)
      isplitl [H3]; · iexact H3
      isplitl [H4]; · iexact H4
      isplitl [H10]; · iexact H10
      isplitl [H11]; · iexact H11
      isplitl [H12]; · iexact H12
      iexact H13
    · iintro %yld ⟨H3, H4, H10, H11, H12, H13⟩
      isplitl [H3]; · iexact H3
      isplitl [H4]; · iexact H4
      simp only [pPc_succ]
      isplitl [H10]
      · iexists _; isplitl [H10]; · iexact H10
        ipureintro; rw [h10, h11, h12, h13, ← View.writes_append]
      isplitl [H11]
      · iexists _; isplitl [H11]; · iexact H11
        ipureintro; rw [h10, h11, h12, h13, ← View.writes_append]
      isplitl [H12]
      · iexists _; isplitl [H12]; · iexact H12
        ipureintro; rw [h10, h11, h12, h13, ← View.writes_append]
      iexists _; isplitl [H13]; · iexact H13
      ipureintro; rw [h10, h11, h12, h13, ← View.writes_append]

/-- The remainder loop of the counted pairs makes no trip at any query tile. -/
theorem rest_trips : ∀ k : Fin k1_t1_loop.trips, (k1_t3_loop k).trips = 0 := by decide +kernel

end Pairs

variable (v0 : IVec S1x128 32) (v1 : Vec F S512x256 .bf16) (v3 : Vec F S256x256 .bf16)
variable (x2 : BufTy.Contents (Elt F) arg2.view.ty) (x3 : BufTy.Contents (Elt F) arg3.view.ty) (x4 : BufTy.Contents (Elt F) arg4.view.ty) (x5 : BufTy.Contents (Elt F) arg5.view.ty) (x6 : BufTy.Contents (Elt F) arg6.view.ty)

/-- What one query tile of the backward kernel touches: the five inputs at their contents, the result at `f9`, the key and value
    accumulators at `f11` and `f12`, the query accumulator and the carried sums at anything (a tile clears them first). -/
abbrev QTrip (f9 : BufTy.Contents (Elt F) arg9.view.ty) (f11 : BufTy.Contents (Elt F) arg11.view.ty) (f12 : BufTy.Contents (Elt F) arg12.view.ty) : sProp 𝕄 :=
  iprop((arg2.view.loc (c : Thread nD τ) ↦[arg2.view.set]{fullShare} x2) ∗ (arg3.view.loc (c : Thread nD τ) ↦[arg3.view.set]{fullShare} x3) ∗ (arg4.view.loc (c : Thread nD τ) ↦[arg4.view.set]{fullShare} x4)
    ∗ (arg5.view.loc (c : Thread nD τ) ↦[arg5.view.set]{fullShare} x5) ∗ (arg6.view.loc (c : Thread nD τ) ↦[arg6.view.set]{fullShare} x6) ∗ (arg9.view.loc (c : Thread nD τ) ↦[arg9.view.set]{fullShare} f9)
    ∗ (∃ f10, (arg10.view.loc (c : Thread nD τ) ↦[arg10.view.set]{fullShare} f10)) ∗ (arg11.view.loc (c : Thread nD τ) ↦[arg11.view.set]{fullShare} f11)
    ∗ (arg12.view.loc (c : Thread nD τ) ↦[arg12.view.set]{fullShare} f12) ∗ (∃ f13, (arg13.view.loc (c : Thread nD τ) ↦[arg13.view.set]{fullShare} f13)))

/-- What one query tile leaves in the result and the two accumulators, with the run that leaves it. -/
abbrev QRun (k : Fin k1_t1_loop.trips) : Type _ :=
  Σ' (L9 : BufTy.Contents (Elt F) arg11.view.ty → BufTy.Contents (Elt F) arg12.view.ty → List (View.Piece (Elt F) S3x2048x256 .bf16)) (L11 : BufTy.Contents (Elt F) arg11.view.ty → BufTy.Contents (Elt F) arg12.view.ty → List (View.Piece (Elt F) S2x2048x128 .f32)), { L12 : BufTy.Contents (Elt F) arg11.view.ty → BufTy.Contents (Elt F) arg12.view.ty → List (View.Piece (Elt F) S2x2048x128 .f32) //
    ∀ (E : Set ℕ) (f9 : BufTy.Contents (Elt F) arg9.view.ty) (f11 : BufTy.Contents (Elt F) arg11.view.ty) (f12 : BufTy.Contents (Elt F) arg12.view.ty),
      QTrip (F := F) c arg2 arg3 arg4 arg5 arg6 arg9 arg10 arg11 arg12 arg13 x2 x3 x4 x5 x6 f9 f11 f12
      ⊢ wp frame (wpE (defs₀ (F := F)) Variants.none (c : Thread nD τ) none) E (k1_t1_body (F := F) i arg2 harg2 arg3 harg3 arg4 harg4 arg5 harg5 arg6 harg6 arg7 harg7 arg8 harg8 arg9 harg9 arg10 harg10 arg11 harg11 arg12 harg12 arg13 harg13 v0 v1 v3 k ())
          (fun _ => QTrip (F := F) c arg2 arg3 arg4 arg5 arg6 arg9 arg10 arg11 arg12 arg13 x2 x3 x4 x5 x6
            (arg9.view.writes (Elt F) f9 (L9 f11 f12)) (arg11.view.writes (Elt F) f11 (L11 f11 f12)) (arg12.view.writes (Elt F) f12 (L12 f11 f12))) }

set_option sl_exec.squeezeSlice true in
/-- A tile of even number: the pairs before it, then the diagonal block. -/
@[irreducible] def qEven (k : Fin k1_t1_loop.trips) (h1 : k1_cond1 k = 1#1) (h2 : ¬ k1_cond2 k = 1#1) :
    QRun (F := F) c i arg2 harg2 arg3 harg3 arg4 harg4 arg5 harg5 arg6 harg6 arg7 harg7 arg8 harg8 arg9 harg9 arg10 harg10 arg11 harg11 arg12 harg12 arg13 harg13 v0 v1 v3 x2 x3 x4 x5 x6 k := by
  refine ⟨?_, ?_, ?_, fun E f9 f11 f12 => ?run⟩
  case run =>
    have h3 := rest_trips k
    unfold k1_t1_body
    iintro ⟨H2, H3, H4, H5, H6, H9, ⟨%f10, H10⟩, H11, H12, ⟨%f13, H13⟩⟩
    sl_exec
    sl_step
    sl_close

set_option sl_exec.squeezeSlice true in
/-- A tile of odd number: the pairs before it, then the block before it and the diagonal one. -/
@[irreducible] def qOdd (k : Fin k1_t1_loop.trips) (h1 : ¬ k1_cond1 k = 1#1) (h2 : k1_cond2 k = 1#1) :
    QRun (F := F) c i arg2 harg2 arg3 harg3 arg4 harg4 arg5 harg5 arg6 harg6 arg7 harg7 arg8 harg8 arg9 harg9 arg10 harg10 arg11 harg11 arg12 harg12 arg13 harg13 v0 v1 v3 x2 x3 x4 x5 x6 k := by
  refine ⟨?_, ?_, ?_, fun E f9 f11 f12 => ?run⟩
  case run =>
    have h3 := rest_trips k
    unfold k1_t1_body
    iintro ⟨H2, H3, H4, H5, H6, H9, ⟨%f10, H10⟩, H11, H12, ⟨%f13, H13⟩⟩
    sl_exec
    sl_step
    sl_close

/-- Exactly one of the two conditions holds at every tile. -/
theorem qParity : ∀ k : Fin k1_t1_loop.trips, (k1_cond1 k = 1#1 → ¬ k1_cond2 k = 1#1) ∧ (¬ k1_cond1 k = 1#1 → k1_cond2 k = 1#1) := by decide +kernel

/-- One query tile, of either parity. -/
def qRun (k : Fin k1_t1_loop.trips) : QRun (F := F) c i arg2 harg2 arg3 harg3 arg4 harg4 arg5 harg5 arg6 harg6 arg7 harg7 arg8 harg8 arg9 harg9 arg10 harg10 arg11 harg11 arg12 harg12 arg13 harg13 v0 v1 v3 x2 x3 x4 x5 x6 k :=
  if h : k1_cond1 k = 1#1 then qEven c i arg2 harg2 arg3 harg3 arg4 harg4 arg5 harg5 arg6 harg6 arg7 harg7 arg8 harg8 arg9 harg9 arg10 harg10 arg11 harg11 arg12 harg12 arg13 harg13 v0 v1 v3 x2 x3 x4 x5 x6 k h ((qParity k).1 h) else qOdd c i arg2 harg2 arg3 harg3 arg4 harg4 arg5 harg5 arg6 harg6 arg7 harg7 arg8 harg8 arg9 harg9 arg10 harg10 arg11 harg11 arg12 harg12 arg13 harg13 v0 v1 v3 x2 x3 x4 x5 x6 k h ((qParity k).2 h)

variable (f11 : BufTy.Contents (Elt F) arg11.view.ty) (f12 : BufTy.Contents (Elt F) arg12.view.ty)

/-- What query tile `k` adds to the pieces `p` of the tiles before it. -/
@[irreducible] def qNext (k : ℕ) (p : List (View.Piece (Elt F) S3x2048x256 .bf16) × List (View.Piece (Elt F) S2x2048x128 .f32) × List (View.Piece (Elt F) S2x2048x128 .f32)) : List (View.Piece (Elt F) S3x2048x256 .bf16) × List (View.Piece (Elt F) S2x2048x128 .f32) × List (View.Piece (Elt F) S2x2048x128 .f32) :=
  if h : k < k1_t1_loop.trips then
      ((qRun (F := F) c i arg2 harg2 arg3 harg3 arg4 harg4 arg5 harg5 arg6 harg6 arg7 harg7 arg8 harg8 arg9 harg9 arg10 harg10 arg11 harg11 arg12 harg12 arg13 harg13 v0 v1 v3 x2 x3 x4 x5 x6 ⟨k, h⟩).1 (arg11.view.writes (Elt F) f11 p.2.1) (arg12.view.writes (Elt F) f12 p.2.2) ++ p.1,
       (qRun (F := F) c i arg2 harg2 arg3 harg3 arg4 harg4 arg5 harg5 arg6 harg6 arg7 harg7 arg8 harg8 arg9 harg9 arg10 harg10 arg11 harg11 arg12 harg12 arg13 harg13 v0 v1 v3 x2 x3 x4 x5 x6 ⟨k, h⟩).2.1 (arg11.view.writes (Elt F) f11 p.2.1) (arg12.view.writes (Elt F) f12 p.2.2) ++ p.2.1,
       (qRun (F := F) c i arg2 harg2 arg3 harg3 arg4 harg4 arg5 harg5 arg6 harg6 arg7 harg7 arg8 harg8 arg9 harg9 arg10 harg10 arg11 harg11 arg12 harg12 arg13 harg13 v0 v1 v3 x2 x3 x4 x5 x6 ⟨k, h⟩).2.2.1 (arg11.view.writes (Elt F) f11 p.2.1) (arg12.view.writes (Elt F) f12 p.2.2) ++ p.2.2)
  else p

/-- The pieces the query tiles before `n` have written into the result and the key and value accumulators. -/
def qPc : ℕ → List (View.Piece (Elt F) S3x2048x256 .bf16) × List (View.Piece (Elt F) S2x2048x128 .f32) × List (View.Piece (Elt F) S2x2048x128 .f32)
  | 0 => ([], [], [])
  | n + 1 => qNext c i arg2 harg2 arg3 harg3 arg4 harg4 arg5 harg5 arg6 harg6 arg7 harg7 arg8 harg8 arg9 harg9 arg10 harg10 arg11 harg11 arg12 harg12 arg13 harg13 v0 v1 v3 x2 x3 x4 x5 x6 f11 f12 n (qPc n)

theorem qPc_succ (k : Fin k1_t1_loop.trips) :
    qPc c i arg2 harg2 arg3 harg3 arg4 harg4 arg5 harg5 arg6 harg6 arg7 harg7 arg8 harg8 arg9 harg9 arg10 harg10 arg11 harg11 arg12 harg12 arg13 harg13 v0 v1 v3 x2 x3 x4 x5 x6 f11 f12 (k.val + 1)
      = ((qRun (F := F) c i arg2 harg2 arg3 harg3 arg4 harg4 arg5 harg5 arg6 harg6 arg7 harg7 arg8 harg8 arg9 harg9 arg10 harg10 arg11 harg11 arg12 harg12 arg13 harg13 v0 v1 v3 x2 x3 x4 x5 x6 k).1 (arg11.view.writes (Elt F) f11 (qPc c i arg2 harg2 arg3 harg3 arg4 harg4 arg5 harg5 arg6 harg6 arg7 harg7 arg8 harg8 arg9 harg9 arg10 harg10 arg11 harg11 arg12 harg12 arg13 harg13 v0 v1 v3 x2 x3 x4 x5 x6 f11 f12 k.val).2.1) (arg12.view.writes (Elt F) f12 (qPc c i arg2 harg2 arg3 harg3 arg4 harg4 arg5 harg5 arg6 harg6 arg7 harg7 arg8 harg8 arg9 harg9 arg10 harg10 arg11 harg11 arg12 harg12 arg13 harg13 v0 v1 v3 x2 x3 x4 x5 x6 f11 f12 k.val).2.2) ++ (qPc c i arg2 harg2 arg3 harg3 arg4 harg4 arg5 harg5 arg6 harg6 arg7 harg7 arg8 harg8 arg9 harg9 arg10 harg10 arg11 harg11 arg12 harg12 arg13 harg13 v0 v1 v3 x2 x3 x4 x5 x6 f11 f12 k.val).1,
       (qRun (F := F) c i arg2 harg2 arg3 harg3 arg4 harg4 arg5 harg5 arg6 harg6 arg7 harg7 arg8 harg8 arg9 harg9 arg10 harg10 arg11 harg11 arg12 harg12 arg13 harg13 v0 v1 v3 x2 x3 x4 x5 x6 k).2.1 (arg11.view.writes (Elt F) f11 (qPc c i arg2 harg2 arg3 harg3 arg4 harg4 arg5 harg5 arg6 harg6 arg7 harg7 arg8 harg8 arg9 harg9 arg10 harg10 arg11 harg11 arg12 harg12 arg13 harg13 v0 v1 v3 x2 x3 x4 x5 x6 f11 f12 k.val).2.1) (arg12.view.writes (Elt F) f12 (qPc c i arg2 harg2 arg3 harg3 arg4 harg4 arg5 harg5 arg6 harg6 arg7 harg7 arg8 harg8 arg9 harg9 arg10 harg10 arg11 harg11 arg12 harg12 arg13 harg13 v0 v1 v3 x2 x3 x4 x5 x6 f11 f12 k.val).2.2) ++ (qPc c i arg2 harg2 arg3 harg3 arg4 harg4 arg5 harg5 arg6 harg6 arg7 harg7 arg8 harg8 arg9 harg9 arg10 harg10 arg11 harg11 arg12 harg12 arg13 harg13 v0 v1 v3 x2 x3 x4 x5 x6 f11 f12 k.val).2.1,
       (qRun (F := F) c i arg2 harg2 arg3 harg3 arg4 harg4 arg5 harg5 arg6 harg6 arg7 harg7 arg8 harg8 arg9 harg9 arg10 harg10 arg11 harg11 arg12 harg12 arg13 harg13 v0 v1 v3 x2 x3 x4 x5 x6 k).2.2.1 (arg11.view.writes (Elt F) f11 (qPc c i arg2 harg2 arg3 harg3 arg4 harg4 arg5 harg5 arg6 harg6 arg7 harg7 arg8 harg8 arg9 harg9 arg10 harg10 arg11 harg11 arg12 harg12 arg13 harg13 v0 v1 v3 x2 x3 x4 x5 x6 f11 f12 k.val).2.1) (arg12.view.writes (Elt F) f12 (qPc c i arg2 harg2 arg3 harg3 arg4 harg4 arg5 harg5 arg6 harg6 arg7 harg7 arg8 harg8 arg9 harg9 arg10 harg10 arg11 harg11 arg12 harg12 arg13 harg13 v0 v1 v3 x2 x3 x4 x5 x6 f11 f12 k.val).2.2) ++ (qPc c i arg2 harg2 arg3 harg3 arg4 harg4 arg5 harg5 arg6 harg6 arg7 harg7 arg8 harg8 arg9 harg9 arg10 harg10 arg11 harg11 arg12 harg12 arg13 harg13 v0 v1 v3 x2 x3 x4 x5 x6 f11 f12 k.val).2.2) := by
  rw [qPc.eq_2]; unfold qNext; exact dif_pos k.isLt

variable (f9 : BufTy.Contents (Elt F) arg9.view.ty)

/-- Before query tile `k` the result and the two accumulators hold what the tiles before it wrote. -/
abbrev qInv (k : ℕ) (_ : Unit) : sProp 𝕄 :=
  iprop((arg2.view.loc (c : Thread nD τ) ↦[arg2.view.set]{fullShare} x2) ∗ (arg3.view.loc (c : Thread nD τ) ↦[arg3.view.set]{fullShare} x3) ∗ (arg4.view.loc (c : Thread nD τ) ↦[arg4.view.set]{fullShare} x4)
    ∗ (arg5.view.loc (c : Thread nD τ) ↦[arg5.view.set]{fullShare} x5) ∗ (arg6.view.loc (c : Thread nD τ) ↦[arg6.view.set]{fullShare} x6)
    ∗ (∃ f, (arg9.view.loc (c : Thread nD τ) ↦[arg9.view.set]{fullShare} f) ∗ ⌜f = (arg9.view.writes (Elt F) f9 (qPc c i arg2 harg2 arg3 harg3 arg4 harg4 arg5 harg5 arg6 harg6 arg7 harg7 arg8 harg8 arg9 harg9 arg10 harg10 arg11 harg11 arg12 harg12 arg13 harg13 v0 v1 v3 x2 x3 x4 x5 x6 f11 f12 k).1)⌝)
    ∗ (∃ f10, (arg10.view.loc (c : Thread nD τ) ↦[arg10.view.set]{fullShare} f10))
    ∗ (∃ f, (arg11.view.loc (c : Thread nD τ) ↦[arg11.view.set]{fullShare} f) ∗ ⌜f = (arg11.view.writes (Elt F) f11 (qPc c i arg2 harg2 arg3 harg3 arg4 harg4 arg5 harg5 arg6 harg6 arg7 harg7 arg8 harg8 arg9 harg9 arg10 harg10 arg11 harg11 arg12 harg12 arg13 harg13 v0 v1 v3 x2 x3 x4 x5 x6 f11 f12 k).2.1)⌝)
    ∗ (∃ f, (arg12.view.loc (c : Thread nD τ) ↦[arg12.view.set]{fullShare} f) ∗ ⌜f = (arg12.view.writes (Elt F) f12 (qPc c i arg2 harg2 arg3 harg3 arg4 harg4 arg5 harg5 arg6 harg6 arg7 harg7 arg8 harg8 arg9 harg9 arg10 harg10 arg11 harg11 arg12 harg12 arg13 harg13 v0 v1 v3 x2 x3 x4 x5 x6 f11 f12 k).2.2)⌝)
    ∗ (∃ f13, (arg13.view.loc (c : Thread nD τ) ↦[arg13.view.set]{fullShare} f13)))

set_option warn.classDefReducibility false in
@[sl_loop] def qLoop : LoopInvTy_k1_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 v0 v1 v3 where
  inv := qInv (F := F) c i arg2 harg2 arg3 harg3 arg4 harg4 arg5 harg5 arg6 harg6 arg7 harg7 arg8 harg8 arg9 harg9 arg10 harg10 arg11 harg11 arg12 harg12 arg13 harg13 v0 v1 v3 x2 x3 x4 x5 x6 f11 f12 f9
  step k acc := by
    iintro ⟨H2, H3, H4, H5, H6, ⟨%g9, H9, %h9⟩, H10, ⟨%g11, H11, %h11⟩, ⟨%g12, H12, %h12⟩, H13⟩
    iapply (wp_wand_r Idealize.ShloMosaic.frame (wpE (defs₀ (F := F)) Variants.none (c : Thread nD τ) none) Set.univ)
    isplitl [H2 H3 H4 H5 H6 H9 H10 H11 H12 H13]
    · iapply ((qRun (F := F) c i arg2 harg2 arg3 harg3 arg4 harg4 arg5 harg5 arg6 harg6 arg7 harg7 arg8 harg8 arg9 harg9 arg10 harg10 arg11 harg11 arg12 harg12 arg13 harg13 v0 v1 v3 x2 x3 x4 x5 x6 k).2.2.2 Set.univ g9 g11 g12)
      isplitl [H2]; · iexact H2
      isplitl [H3]; · iexact H3
      isplitl [H4]; · iexact H4
      isplitl [H5]; · iexact H5
      isplitl [H6]; · iexact H6
      isplitl [H9]; · iexact H9
      isplitl [H10]; · iexact H10
      isplitl [H11]; · iexact H11
      isplitl [H12]; · iexact H12
      iexact H13
    · iintro %yld ⟨H2, H3, H4, H5, H6, H9, H10, H11, H12, H13⟩
      isplitl [H2]; · iexact H2
      isplitl [H3]; · iexact H3
      isplitl [H4]; · iexact H4
      isplitl [H5]; · iexact H5
      isplitl [H6]; · iexact H6
      simp only [qPc_succ]
      isplitl [H9]
      · iexists _; isplitl [H9]; · iexact H9
        ipureintro; rw [h9, h11, h12, ← View.writes_append]
      isplitl [H10]; · iexact H10
      isplitl [H11]
      · iexists _; isplitl [H11]; · iexact H11
        ipureintro; rw [h11, h12, ← View.writes_append]
      isplitl [H12]
      · iexists _; isplitl [H12]; · iexact H12
        ipureintro; rw [h11, h12, ← View.writes_append]
      iexact H13

set_option sl_exec.squeezeSlice true in
/-- The backward kernel's body: the pieces it writes into its result, with the run that writes them. -/
def qBody (y2 y3 y4 y5 : Vec F S2048x256 .bf16) (y6 : Vec F S2048x512 .f32) (y7 : Vec F S512x256 .bf16) (y8 : Vec F S256x256 .bf16) :
    { L9 : List (View.Piece (Elt F) S3x2048x256 .bf16) // ∀ (K : PUnit → sProp 𝕄),
    iprop(owns (c : Thread nD τ) arg2 fullShare y2 ∗ owns (c : Thread nD τ) arg3 fullShare y3 ∗ owns (c : Thread nD τ) arg4 fullShare y4 ∗ owns (c : Thread nD τ) arg5 fullShare y5 ∗ owns (c : Thread nD τ) arg6 fullShare y6 ∗ owns (c : Thread nD τ) arg7 fullShare y7 ∗ owns (c : Thread nD τ) arg8 fullShare y8
        ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare y2 ∗ owns (c : Thread nD τ) arg3 fullShare y3 ∗ owns (c : Thread nD τ) arg4 fullShare y4 ∗ owns (c : Thread nD τ) arg5 fullShare y5 ∗ owns (c : Thread nD τ) arg6 fullShare y6 ∗ owns (c : Thread nD τ) arg7 fullShare y7 ∗ owns (c : Thread nD τ) arg8 fullShare y8
        ∗ (∃ f, arg9.view.loc (c : Thread nD τ) ↦[arg9.view.set]{fullShare} arg9.view.writes (Elt F) f L9)
        ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) Set.univ (cc1_attn_bwd i arg2 harg2 arg3 harg3 arg4 harg4 arg5 harg5 arg6 harg6 arg7 harg7 arg8 harg8 arg9 harg9 arg10 harg10 arg11 harg11 arg12 harg12 arg13 harg13) K } := by
  refine ⟨?_, fun K => ?run⟩
  case run =>
    simp only [cc1_attn_bwd_eq_skeleton]; unfold cc1_attn_bwd_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [H10]
    · iexists _; iexists _; isplitr; swap; · iexact H10
      ipureintro; rfl
    isplitl [H11]
    · iexists _; iexists _; isplitr; swap; · iexact H11
      ipureintro; rfl
    isplitl [H12]
    · iexists _; iexists _; isplitr; swap; · iexact H12
      ipureintro; rfl
    iexists _; iexists _; isplitr; swap; · iexact H13
    ipureintro; rfl

end Bwd

end Cert.Kernel2Ideal.Attn
-- ==== Proof.AttnRun.lean ====
module

public import proofs.«01_k».proof.Proof.AttnFwd
public import proofs.«01_k».proof.Proof.AttnBwd
public import proofs.«01_k».proof.Proof.Gen.Kernel2Ideal.Points
public import Idealize.ShloMosaic.Lib.Pipeline.FrameBody
public import Idealize.ShloMosaic.Lib.Pipeline.RegionsLoop
public import Idealize.ShloMosaic.Lib.Pipeline.FrameSuffix
public import Idealize.ShloMosaic.Lib.Ring

@[expose] public section

set_option maxRecDepth 16384

noncomputable section

namespace Cert.Kernel2Ideal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.Kernel2Ideal.Gen

variable {F : FTy → Type} [FloatOps F]

local notation "𝕄" => MT nD τ sig Unit (Elt F) ℕ (UR sig nD τ) ℕ

section Points

variable (V : (c : Dev nD) → (b : Ref sig .tc) → Buf (Elt F) ((c : Thread nD τ).loc b))

/-- Window `w`'s block at point `t` of the forward kernel's grid, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (arrRef spec0 w))

/-- The forward kernel's body at point `t`, with what it writes. -/
abbrev fAt (c : Dev nD) (t : Fin cfg0.N) (y0 : Vec F S2048x256 .bf16) (y1 : Vec F S2048x256 .bf16) (y2 : Vec F S2048x256 .bf16) (y3 : Vec F S512x256 .bf16) :=
  fBody (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5))
    (Memref.whole cc0_scratch0) (Memref.isWhole_whole _) (Memref.whole cc0_scratch1) (Memref.isWhole_whole _) (Memref.whole cc0_scratch2) (Memref.isWhole_whole _) y0 y1 y2 y3

/-- The forward kernel's block of result 0 at point `t`. -/
def out0_4 (c : Dev nD) (t : Fin cfg0.N) (y0 : Vec F S2048x256 .bf16) (y1 : Vec F S2048x256 .bf16) (y2 : Vec F S2048x256 .bf16) (y3 : Vec F S512x256 .bf16) : Vec F S1x2048x256 .bf16 := View.canon (fAt c t y0 y1 y2 y3).1
set_option maxHeartbeats 4000000 in
theorem cover0_4 (c : Dev nD) (t : Fin cfg0.N) (y0 : Vec F S2048x256 .bf16) (y1 : Vec F S2048x256 .bf16) (y2 : Vec F S2048x256 .bf16) (y3 : Vec F S512x256 .bf16) : ∀ y, ∃ p ∈ (fAt c t y0 y1 y2 y3).1, y ∈ p.1.set :=
  View.cover_of_tiledL _ S1x256x128.size (by sl_kernel_rfl)

/-- The forward kernel's block of result 1 at point `t`. -/
def out0_5 (c : Dev nD) (t : Fin cfg0.N) (y0 : Vec F S2048x256 .bf16) (y1 : Vec F S2048x256 .bf16) (y2 : Vec F S2048x256 .bf16) (y3 : Vec F S512x256 .bf16) : Vec F S2048x512 .f32 := View.canon (fAt c t y0 y1 y2 y3).2.1
set_option maxHeartbeats 4000000 in
theorem cover0_5 (c : Dev nD) (t : Fin cfg0.N) (y0 : Vec F S2048x256 .bf16) (y1 : Vec F S2048x256 .bf16) (y2 : Vec F S2048x256 .bf16) (y3 : Vec F S512x256 .bf16) : ∀ y, ∃ p ∈ (fAt c t y0 y1 y2 y3).2.1, y ∈ p.1.set :=
  View.cover_of_tiledL _ S256x128.size (by sl_kernel_rfl)

/-- The forward kernel's proof data on core `c`. -/
def dat0 (c : Dev nD) : Dat τ (Elt F) Unit ℕ (UR sig nD τ) ℕ cfg0 c where
  A w := V c (arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 c t (iblk0 V c 0 t) (iblk0 V c 1 t) (iblk0 V c 2 t) (iblk0 V c 3 t)
    | ⟨5, _⟩ => out0_5 c t (iblk0 V c 0 t) (iblk0 V c 1 t) (iblk0 V c 2 t) (iblk0 V c 3 t)
  Φ _ := ΦA spec0 c
  q w := shareOf spec0 w
  owed _ := 0

theorem A_eq0 (c : Dev nD) (w : Fin cfg0.W) : (dat0 V c).A w = V c (arrRef spec0 w) := by dsimp only [dat0]
theorem before0_0 (c : Dev nD) (t : Fin cfg0.N) (d) : (dat0 V c).before 0 t d = iblk0 V c 0 t :=
  ((dat0 V c).before_in_eq_fetched 0 rfl (fun _ => rfl) (fun _ _ _ => rfl) (fun t => by dsimp only [dat0]; rfl) t d).trans (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by dsimp only [dat0]; rfl) t d).trans (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by dsimp only [dat0]; rfl) t d).trans (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by dsimp only [dat0]; rfl) t d).trans (by unfold Dat.fetched Dat.blockOf iblk0; rw [A_eq0]; try rfl)
theorem after0_4 (c : Dev nD) (t : Fin cfg0.N) : (dat0 V c).after 4 t = out0_4 c t (iblk0 V c 0 t) (iblk0 V c 1 t) (iblk0 V c 2 t) (iblk0 V c 3 t) := by dsimp only [dat0]
theorem after0_5 (c : Dev nD) (t : Fin cfg0.N) : (dat0 V c).after 5 t = out0_5 c t (iblk0 V c 0 t) (iblk0 V c 1 t) (iblk0 V c 2 t) (iblk0 V c 3 t) := by dsimp only [dat0]

set_option maxHeartbeats 1000000 in
/-- The body at any point: the inputs' buffers hold their blocks, the accumulators come out of the invariant and go back. -/
theorem sound0 (c : Dev nD) (t : Fin cfg0.N) :
    iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d))
      ∗ (∃ d, owns (c : Thread nD τ) (st0_3 t) fullShare ((dat0 V c).before 3 t d))
      ∗ (∃ d, owns (c : Thread nD τ) (st0_4 t) fullShare ((dat0 V c).before 4 t d))
      ∗ (∃ d, owns (c : Thread nD τ) (st0_5 t) fullShare ((dat0 V c).before 5 t d)))
    ⊢ wp frame (wpE (defs₀ (F := F)) Variants.none c none) Set.univ (bodyAt0 t) (fun _ =>
      iprop((dat0 V c).Φ t.succ ∗ (dat0 V c).owesAt () t.succ
        ∗ owns (c : Thread nD τ) (st0_0 t) fullShare ((dat0 V c).after 0 t)
        ∗ owns (c : Thread nD τ) (st0_1 t) fullShare ((dat0 V c).after 1 t)
        ∗ owns (c : Thread nD τ) (st0_2 t) fullShare ((dat0 V c).after 2 t)
        ∗ owns (c : Thread nD τ) (st0_3 t) fullShare ((dat0 V c).after 3 t)
        ∗ owns (c : Thread nD τ) (st0_4 t) fullShare ((dat0 V c).after 4 t)
        ∗ owns (c : Thread nD τ) (st0_5 t) fullShare ((dat0 V c).after 5 t))) := by
  unfold bodyAt0
  simp only [before0_0, before0_1, before0_2, before0_3]
  rw [show (dat0 V c).Φ t.succ = (dat0 V c).Φ t.castSucc from rfl, show (dat0 V c).owesAt () t.succ = (dat0 V c).owesAt () t.castSucc from rfl,
    show (dat0 V c).Φ t.castSucc = ΦA spec0 c from rfl]
  unfold ΦA
  rw [scopedRest0_eq]
  iintro ⟨⟨⟨⟨%g0, S0⟩, ⟨%g1, S1⟩, ⟨%g2, S2⟩, R3, R4, R5, R6, R7, R8, R9, R10, R11, R12, R13, R14, R15, R16, R17, R18, R19, R20⟩, Hp⟩, Ho, ⟨%d0, H0⟩, ⟨%d1, H1⟩, ⟨%d2, H2⟩, ⟨%d3, H3⟩, ⟨%d4, H4⟩, ⟨%d5, H5⟩⟩
  iapply ((fAt c t (iblk0 V c 0 t) (iblk0 V c 1 t) (iblk0 V c 2 t) (iblk0 V c 3 t)).2.2 _)
  isplitl [H0]; · iexact H0
  isplitl [H1]; · iexact H1
  isplitl [H2]; · iexact H2
  isplitl [H3]; · iexact H3
  isplitl [H4]; · iexists _; iexact H4
  isplitl [H5]; · iexists _; iexact H5
  isplitl [S0]; · iexists _; iapply (Entails.of_eq (owns_whole (c : Thread nD τ) cc0_scratch0 fullShare g0).symm); iexact S0
  isplitl [S1]; · iexists _; iapply (Entails.of_eq (owns_whole (c : Thread nD τ) cc0_scratch1 fullShare g1).symm); iexact S1
  isplitl [S2]; · iexists _; iapply (Entails.of_eq (owns_whole (c : Thread nD τ) cc0_scratch2 fullShare g2).symm); iexact S2
  iintro ⟨H0, H1, H2, H3, ⟨%f4, H4⟩, ⟨%f5, H5⟩, ⟨%e0, T0⟩, ⟨%e1, T1⟩, ⟨%e2, T2⟩⟩
  isplitl [T0 T1 T2 R3 R4 R5 R6 R7 R8 R9 R10 R11 R12 R13 R14 R15 R16 R17 R18 R19 R20 Hp]
  · isplitr [Hp]; swap; · iexact Hp
    isplitl [T0]; · iexists e0; iapply (Entails.of_eq (owns_whole (c : Thread nD τ) cc0_scratch0 fullShare e0)); iexact T0
    isplitl [T1]; · iexists e1; iapply (Entails.of_eq (owns_whole (c : Thread nD τ) cc0_scratch1 fullShare e1)); iexact T1
    isplitl [T2]; · iexists e2; iapply (Entails.of_eq (owns_whole (c : Thread nD τ) cc0_scratch2 fullShare e2)); iexact T2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    isplitl [R15]; · iexact R15
    isplitl [R16]; · iexact R16
    isplitl [R17]; · iexact R17
    isplitl [R18]; · iexact R18
    isplitl [R19]; · iexact R19
    iexact R20
  isplitl [Ho]; · iexact Ho
  isplitl [H0]; · iexact H0
  isplitl [H1]; · iexact H1
  isplitl [H2]; · iexact H2
  isplitl [H3]; · iexact H3
  isplitl [H4]
  · rw [after0_4]; unfold owns; iexists _; isplitr; swap; · iexact H4
    ipureintro; exact View.read_writes_eq_canon _ _ _ (cover0_4 c t _ _ _ _)
  rw [after0_5]; unfold owns; iexists _; isplitr; swap; · iexact H5
  ipureintro; exact View.read_writes_eq_canon _ _ _ (cover0_5 c t _ _ _ _)

theorem obligation0 (c : Dev nD) : BodyObligation (dat0 (F := F) V c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (sound0 V c t) rfl .rfl fun _ => .rfl

/-- Window `w`'s block at point `t` of the backward kernel's grid, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (arrRef spec1 w))

/-- The backward kernel's body at point `t`, with what it writes. -/
abbrev qAt (c : Dev nD) (t : Fin cfg1.N) (y0 : Vec F S2048x256 .bf16) (y1 : Vec F S2048x256 .bf16) (y2 : Vec F S2048x256 .bf16) (y3 : Vec F S2048x256 .bf16) (y4 : Vec F S2048x512 .f32) (y5 : Vec F S512x256 .bf16) (y6 : Vec F S256x256 .bf16) :=
  qBody (F := F) c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7))
    (Memref.whole cc1_scratch0) (Memref.isWhole_whole _) (Memref.whole cc1_scratch1) (Memref.isWhole_whole _) (Memref.whole cc1_scratch2) (Memref.isWhole_whole _) (Memref.whole cc1_scratch3) (Memref.isWhole_whole _) y0 y1 y2 y3 y4 y5 y6

/-- The backward kernel's block of result 0 at point `t`. -/
def out1_7 (c : Dev nD) (t : Fin cfg1.N) (y0 : Vec F S2048x256 .bf16) (y1 : Vec F S2048x256 .bf16) (y2 : Vec F S2048x256 .bf16) (y3 : Vec F S2048x256 .bf16) (y4 : Vec F S2048x512 .f32) (y5 : Vec F S512x256 .bf16) (y6 : Vec F S256x256 .bf16) : Vec F S3x2048x256 .bf16 := View.canon (qAt c t y0 y1 y2 y3 y4 y5 y6).1
set_option maxHeartbeats 4000000 in
theorem cover1_7 (c : Dev nD) (t : Fin cfg1.N) (y0 : Vec F S2048x256 .bf16) (y1 : Vec F S2048x256 .bf16) (y2 : Vec F S2048x256 .bf16) (y3 : Vec F S2048x256 .bf16) (y4 : Vec F S2048x512 .f32) (y5 : Vec F S512x256 .bf16) (y6 : Vec F S256x256 .bf16) : ∀ y, ∃ p ∈ (qAt c t y0 y1 y2 y3 y4 y5 y6).1, y ∈ p.1.set :=
  View.cover_of_tiledBy _ S1x256x128.size (by sl_kernel_rfl)

/-- The backward kernel's proof data on core `c`. -/
def dat1 (c : Dev nD) : Dat τ (Elt F) Unit ℕ (UR sig nD τ) ℕ cfg1 c where
  A w := V c (arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 c t (iblk1 V c 0 t) (iblk1 V c 1 t) (iblk1 V c 2 t) (iblk1 V c 3 t) (iblk1 V c 4 t) (iblk1 V c 5 t) (iblk1 V c 6 t)
  Φ _ := ΦA spec1 c
  q w := shareOf spec1 w
  owed _ := 0

theorem A_eq1 (c : Dev nD) (w : Fin cfg1.W) : (dat1 V c).A w = V c (arrRef spec1 w) := by dsimp only [dat1]
theorem before1_0 (c : Dev nD) (t : Fin cfg1.N) (d) : (dat1 V c).before 0 t d = iblk1 V c 0 t :=
  ((dat1 V c).before_in_eq_fetched 0 rfl (fun _ => rfl) (fun _ _ _ => rfl) (fun t => by dsimp only [dat1]; rfl) t d).trans (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by dsimp only [dat1]; rfl) t d).trans (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by dsimp only [dat1]; rfl) t d).trans (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by dsimp only [dat1]; rfl) t d).trans (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by dsimp only [dat1]; rfl) t d).trans (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by dsimp only [dat1]; rfl) t d).trans (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl) (fun t => by dsimp only [dat1]; rfl) t d).trans (by unfold Dat.fetched Dat.blockOf iblk1; rw [A_eq1]; try rfl)
theorem after1_7 (c : Dev nD) (t : Fin cfg1.N) : (dat1 V c).after 7 t = out1_7 c t (iblk1 V c 0 t) (iblk1 V c 1 t) (iblk1 V c 2 t) (iblk1 V c 3 t) (iblk1 V c 4 t) (iblk1 V c 5 t) (iblk1 V c 6 t) := by dsimp only [dat1]

set_option maxHeartbeats 1000000 in
/-- The body at any point: the inputs' buffers hold their blocks, the accumulators come out of the invariant and go back. -/
theorem sound1 (c : Dev nD) (t : Fin cfg1.N) :
    iprop((dat1 V c).Φ t.castSucc ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d))
      ∗ (∃ d, owns (c : Thread nD τ) (st1_3 t) fullShare ((dat1 V c).before 3 t d))
      ∗ (∃ d, owns (c : Thread nD τ) (st1_4 t) fullShare ((dat1 V c).before 4 t d))
      ∗ (∃ d, owns (c : Thread nD τ) (st1_5 t) fullShare ((dat1 V c).before 5 t d))
      ∗ (∃ d, owns (c : Thread nD τ) (st1_6 t) fullShare ((dat1 V c).before 6 t d))
      ∗ (∃ d, owns (c : Thread nD τ) (st1_7 t) fullShare ((dat1 V c).before 7 t d)))
    ⊢ wp frame (wpE (defs₀ (F := F)) Variants.none c none) Set.univ (bodyAt1 t) (fun _ =>
      iprop((dat1 V c).Φ t.succ ∗ (dat1 V c).owesAt () t.succ
        ∗ owns (c : Thread nD τ) (st1_0 t) fullShare ((dat1 V c).after 0 t)
        ∗ owns (c : Thread nD τ) (st1_1 t) fullShare ((dat1 V c).after 1 t)
        ∗ owns (c : Thread nD τ) (st1_2 t) fullShare ((dat1 V c).after 2 t)
        ∗ owns (c : Thread nD τ) (st1_3 t) fullShare ((dat1 V c).after 3 t)
        ∗ owns (c : Thread nD τ) (st1_4 t) fullShare ((dat1 V c).after 4 t)
        ∗ owns (c : Thread nD τ) (st1_5 t) fullShare ((dat1 V c).after 5 t)
        ∗ owns (c : Thread nD τ) (st1_6 t) fullShare ((dat1 V c).after 6 t)
        ∗ owns (c : Thread nD τ) (st1_7 t) fullShare ((dat1 V c).after 7 t))) := by
  unfold bodyAt1
  simp only [before1_0, before1_1, before1_2, before1_3, before1_4, before1_5, before1_6]
  rw [show (dat1 V c).Φ t.succ = (dat1 V c).Φ t.castSucc from rfl, show (dat1 V c).owesAt () t.succ = (dat1 V c).owesAt () t.castSucc from rfl,
    show (dat1 V c).Φ t.castSucc = ΦA spec1 c from rfl]
  unfold ΦA
  rw [scopedRest1_eq]
  iintro ⟨⟨⟨R0, R1, R2, R3, R4, R5, R6, R7, R8, R9, R10, R11, R12, R13, ⟨%g14, S14⟩, ⟨%g15, S15⟩, ⟨%g16, S16⟩, ⟨%g17, S17⟩⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((qAt c t (iblk1 V c 0 t) (iblk1 V c 1 t) (iblk1 V c 2 t) (iblk1 V c 3 t) (iblk1 V c 4 t) (iblk1 V c 5 t) (iblk1 V c 6 t)).2 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [S14]; · iexists _; iapply (Entails.of_eq (owns_whole (c : Thread nD τ) cc1_scratch0 fullShare g14).symm); iexact S14
  isplitl [S15]; · iexists _; iapply (Entails.of_eq (owns_whole (c : Thread nD τ) cc1_scratch1 fullShare g15).symm); iexact S15
  isplitl [S16]; · iexists _; iapply (Entails.of_eq (owns_whole (c : Thread nD τ) cc1_scratch2 fullShare g16).symm); iexact S16
  isplitl [S17]; · iexists _; iapply (Entails.of_eq (owns_whole (c : Thread nD τ) cc1_scratch3 fullShare g17).symm); iexact S17
  iintro ⟨H0, H1, H2, H3, H4, H5, H6, ⟨%f7, H7⟩, ⟨%e0, T0⟩, ⟨%e1, T1⟩, ⟨%e2, T2⟩, ⟨%e3, T3⟩⟩
  isplitl [R0 R1 R2 R3 R4 R5 R6 R7 R8 R9 R10 R11 R12 R13 T0 T1 T2 T3 Hp]
  · isplitr [Hp]; swap; · iexact Hp
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [T0]; · iexists e0; iapply (Entails.of_eq (owns_whole (c : Thread nD τ) cc1_scratch0 fullShare e0)); iexact T0
    isplitl [T1]; · iexists e1; iapply (Entails.of_eq (owns_whole (c : Thread nD τ) cc1_scratch1 fullShare e1)); iexact T1
    isplitl [T2]; · iexists e2; iapply (Entails.of_eq (owns_whole (c : Thread nD τ) cc1_scratch2 fullShare e2)); iexact T2
    iexists e3; iapply (Entails.of_eq (owns_whole (c : Thread nD τ) cc1_scratch3 fullShare e3)); iexact T3
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  rw [after1_7]; unfold owns; iexists _; isplitr; swap; · iexact H7
  ipureintro; exact View.read_writes_eq_canon _ _ _ (cover1_7 c t _ _ _ _ _ _ _)

theorem obligation1 (c : Dev nD) : BodyObligation (dat1 (F := F) V c) (defs₀ (F := F)) Variants.none () Set.univ := fun t => by
  rw [bigSep_W1, bigSep_W1, show defs₀ (F := F) .tc cfg1.body (cfg1.bodyArgs t (cfg1.slots t)) = bodyAt1 t from by unfold defs₀; rw [Defs.onTc_tc]]
  exact triple_restated (sound1 V c t) rfl .rfl fun _ => .rfl

end Points

section Regions

/-- No core owes another anything: no level is assigned. -/
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)

set_option backward.isDefEq.respectTransparency.types false in
/-- A kernel of this program as a segment from the buffers at `W` to the buffers at `W'`, from its proof data: the arrays
    come out of the buffers (windows on one array share it) and go back at their exit contents; the accumulators stay inside. -/
def region (p : Fin 2) (d : (p : Fin 2) → (c : Dev nD) → Dat τ (Elt F) Unit ℕ (UR sig nD τ) ℕ (pin (pcfgs (F := F)) adm p) c)
    (W W' : Dev nD → Valuation τ sig (Elt F))
    (hw : WinFacts₀ (pin (pcfgs (F := F)) adm p).spec) (hsh : SharedIn (pin (pcfgs (F := F)) adm p).spec)
    (hpos : ∀ w, 0 < ((pin (pcfgs (F := F)) adm p).spec w).block.numel) (harr : ∀ w, ((pin (pcfgs (F := F)) adm p).spec w).arr.IsWhole)
    (hst : ∀ w s, (((pin (pcfgs (F := F)) adm p).spec w).stage s).IsWhole)
    (hbody : ∀ c, BodyObligation (d p c) (defs₀ (F := F)) Variants.none () Set.univ)
    (howed : ∀ c t, (d p c).owed t = 0) (hΦ : ∀ c t, (d p c).Φ t = ΦA (pin (pcfgs (F := F)) adm p).spec c)
    (hq : ∀ c w, (d p c).q w = shareOf (pin (pcfgs (F := F)) adm p).spec w)
    (hA : ∀ c w, (d p c).A w = W c (Proc.devRef .tc (arrRef (pin (pcfgs (F := F)) adm p).spec w)))
    (hF : ∀ c w, (d p c).arrAt w (pin (pcfgs (F := F)) adm p).N = W' c (Proc.devRef .tc (arrRef (pin (pcfgs (F := F)) adm p).spec w)))
    (hrest : ∀ (c : Dev nD) (b : Ref sig .tc), b ∉ Finset.univ.image (arrRef (pin (pcfgs (F := F)) adm p).spec) → W' c (Proc.devRef .tc b) = W c (Proc.devRef .tc b))
    (hrec : ∀ c x, x ∈ (d p c).recorded 0) (hpref : IsEmpty (Fin (pcfgs (F := F) p).pre.K)) :
    RegionSeg (pcfgs (F := F)) adm d () defs₀ Variants.none L lv p where
  win := hw
  block_pos := hpos
  stage_whole := hst
  K := PEmpty
  osem k := k.elim
  ho := OwnSemFacts.none _
  hbody c := (hbody c).loose
  hwaits := hwaits_of_owed_zero _ _ _ _ L lv p howed
  pre c := iprop(StableHlo.held (c : Thread nD τ) (ucRefs τ sig) (W c) ∗ R c)
  post c := iprop(StableHlo.held (c : Thread nD τ) (ucRefs τ sig) (W' c) ∗ R c)
  X c := iprop(∃ r, prngReg c r)
  Y c := iprop(∃ r, prngReg c r)
  Z c := unscopedRest (Ix := Unit) (Name := ℕ) (U := UR sig nD τ) (Lvl := ℕ) (pin (pcfgs (F := F)) adm p).spec c (fun b => W c (Proc.devRef .tc b))
  hentry c := by
    rw [ownSems0_none]
    have hsplit := arrays_of_unscopedBufs_shared (p := p) (pcfgs (F := F)) adm d hw hsh harr c (fun w _ => hq c w) (fun b => W c (Proc.devRef .tc b)) (hA c)
    rw [unscopedBufs_held] at hsplit
    iintro ⟨⟨Hub, Hp, HO⟩, -, -⟩
    ihave H := hsplit $$ Hub
    icases H with ⟨Ha, Hrest⟩
    imodintro
    isplitl [Ha]; · iexact Ha
    isplitr
    · unfold prefHeld
      rw [show (Finset.univ : Finset (Fin (pcfgs (F := F) p).pre.K)) = ∅ from Finset.univ_eq_empty_iff.mpr hpref, BI.bigSep_empty]
      iempintro
    isplitl [HO]
    · unfold Dat.owesAt owesWithin
      icases HO with ⟨%O, HO⟩; iexists O; isplitr; · ipureintro; exact fun _ _ => Or.inl (hrec c _)
      rw [howed]; iexact HO
    isplitl [Hp]; · iexact Hp
    iexact Hrest
  hin c := by
    rw [hΦ]; unfold ΦA
    iintro ⟨Hp, -, Hr⟩
    isplitl [Hr]; · iexact Hr
    iexact Hp
  hout c := by
    rw [ownSems0_none, hΦ]; unfold ΦA
    iintro ⟨Hr, Hp⟩
    isplitl [Hp]; · iexact Hp
    isplitr; · iempintro
    iexact Hr
  hexit c := by
    have hjoin := unscopedBufs_of_arrays_shared (p := p) (pcfgs (F := F)) adm (Ix := Unit) (Name := ℕ) (U := UR sig nD τ) (Lvl := ℕ)
      hw hsh harr c d (fun w _ => hq c w) (fun b => W c (Proc.devRef .tc b)) (fun b => W' c (Proc.devRef .tc b)) _ (hF c) (hrest c)
    rw [unscopedBufs_held] at hjoin
    iintro ⟨Ha, HO, HY, Hrest⟩
    imodintro
    isplitl [Ha Hrest]
    · iapply hjoin; isplitl [Ha] <;> iassumption
    isplitl [HY]; · iexact HY
    unfold Dat.owesAt owesWithin
    icases HO with ⟨%O, -, HO⟩; iexists O; rw [howed]; iexact HO

variable (m : (ℓ : Loc nD τ sig) → Buf (Elt F) ℓ)

/-- Core `c`'s buffers at launch, after the host's preparation, after each kernel, at the end. -/
abbrev W0 (c : Dev nD) : Valuation τ sig (Elt F) := fun b => m (c, b)
abbrev W1 (c : Dev nD) : Valuation τ sig (Elt F) := StableHlo.after hostOps0 (W0 m c)
def W2 (c : Dev nD) : Valuation τ sig (Elt F) :=
  withArrays spec0 c (W1 m c) fun w => (dat0 (fun c b => W1 m c (Proc.devRef .tc b)) c).arrAt w cfg0.N
def W3 (c : Dev nD) : Valuation τ sig (Elt F) :=
  withArrays spec1 c (W2 m c) fun w => (dat1 (fun c b => W2 m c (Proc.devRef .tc b)) c).arrAt w cfg1.N
abbrev W4 (c : Dev nD) : Valuation τ sig (Elt F) := StableHlo.after hostOps2 (W3 m c)

theorem W2_arr (c : Dev nD) (w : Fin cfg0.W) : W2 m c (Proc.devRef .tc (arrRef spec0 w)) = (dat0 (fun c b => W1 m c (Proc.devRef .tc b)) c).arrAt w cfg0.N :=
  (dat0 (fun c b => W1 m c (Proc.devRef .tc b)) c).withArrays_arrAt sharedIn0 (W1 m c) (A_eq0 _ c) w
theorem W3_arr (c : Dev nD) (w : Fin cfg1.W) : W3 m c (Proc.devRef .tc (arrRef spec1 w)) = (dat1 (fun c b => W2 m c (Proc.devRef .tc b)) c).arrAt w cfg1.N :=
  (dat1 (fun c b => W2 m c (Proc.devRef .tc b)) c).withArrays_arrAt sharedIn1 (W2 m c) (A_eq1 _ c) w
theorem W2_rest (c : Dev nD) (b : Ref sig .tc) (hb : b ∉ Finset.univ.image (arrRef spec0)) : W2 m c (Proc.devRef .tc b) = W1 m c (Proc.devRef .tc b) :=
  withArrays_of_ne spec0 c _ _ b fun w e => hb (Finset.mem_image.mpr ⟨w, Finset.mem_univ _, e⟩)
theorem W3_rest (c : Dev nD) (b : Ref sig .tc) (hb : b ∉ Finset.univ.image (arrRef spec1)) : W3 m c (Proc.devRef .tc b) = W2 m c (Proc.devRef .tc b) :=
  withArrays_of_ne spec1 c _ _ b fun w e => hb (Finset.mem_image.mpr ⟨w, Finset.mem_univ _, e⟩)

/-- The arrays a kernel only reads, and those it does not touch, are as before it. -/
theorem W2_in (c : Dev nD) (w : Fin cfg0.W) (h : (cfg0.win w).isOut = false) : W2 m c (Proc.devRef .tc (arrRef spec0 w)) = W1 m c (Proc.devRef .tc (arrRef spec0 w)) :=
  (W2_arr m c w).trans (((dat0 _ c).arrAt_in w h _).trans (A_eq0 _ c w))

/-- Both kernels' proof data, each at its entry. -/
def pdats : (p : Fin 2) → (c : Dev nD) → Dat τ (Elt F) Unit ℕ (UR sig nD τ) ℕ (pin (pcfgs (F := F)) adm p) c
  | ⟨0, _⟩ => fun c => dat0 (fun c b => W1 m c (Proc.devRef .tc b)) c
  | ⟨1, _⟩ => fun c => dat1 (fun c b => W2 m c (Proc.devRef .tc b)) c

set_option maxHeartbeats 1000000 in
def reg0 : RegionSeg (pcfgs (F := F)) adm (pdats m) () defs₀ Variants.none L lv 0 :=
  region 0 (pdats m) (W1 m) (W2 m) winFacts₀0 sharedIn0 block_pos0 arr_whole0 stage_whole0 (obligation0 fun c b => W1 m c (Proc.devRef .tc b))
    (fun _ _ => rfl) (fun _ _ => rfl) (fun _ _ => rfl) (A_eq0 fun c b => W1 m c (Proc.devRef .tc b)) (fun c w => (W2_arr m c w).symm) (W2_rest m) (fun _ _ => trivial) Fin.isEmpty
set_option maxHeartbeats 1000000 in
def reg1 : RegionSeg (pcfgs (F := F)) adm (pdats m) () defs₀ Variants.none L lv 1 :=
  region 1 (pdats m) (W2 m) (W3 m) winFacts₀1 sharedIn1 block_pos1 arr_whole1 stage_whole1 (obligation1 fun c b => W2 m c (Proc.devRef .tc b))
    (fun _ _ => rfl) (fun _ _ => rfl) (fun _ _ => rfl) (A_eq1 fun c b => W2 m c (Proc.devRef .tc b)) (fun c w => (W3_arr m c w).symm) (W3_rest m) (fun _ _ => trivial) Fin.isEmpty

abbrev items : List (Seg (pcfgs (F := F)) adm (pdats m) () defs₀ Variants.none L lv) :=
  [.host (HostSeg.ofOps _ _ _ _ _ (ucRefs τ sig) hostOps0 (fun op h => sub_ucRefs op ((List.forall_iff_forall_mem.mp hostOps0_sub) op h))
      (fun op h => (List.forall_iff_forall_mem.mp hostOps0_fresh) op h) (W0 m) R),
    .region (reg0 m), .region (reg1 m),
    .host (HostSeg.ofOps _ _ _ _ _ (ucRefs τ sig) hostOps2 (fun op h => sub_ucRefs op ((List.forall_iff_forall_mem.mp hostOps2_sub) op h))
      (fun op h => (List.forall_iff_forall_mem.mp hostOps2_fresh) op h) (W3 m) R)]
theorem main_items (c : Dev nD) : main (F := F) c = Seg.run (items m) := (main_chain c).trans (by chain_rfl)

theorem mem_uc (b : Ref sig .tc) (h : ¬ (Proc.devRef .tc b : DevRef τ sig).isScoped) : Proc.devRef .tc b ∈ ucRefs τ sig :=
  Finset.mem_filter.mpr ⟨StableHlo.devRef_mem_tcRefs b, h⟩

set_option backward.isDefEq.respectTransparency.types false in
/-- The run, read at every array no kernel scopes, at any reading of the floats. -/
theorem run_arrays (ρ : Dev nD → PrngReg) :
    θ_run defs (onTc (τ := τ) (main (F := F))) ⟨m, fun _ => 0, ρ⟩ (fun r => (∀ (c : Dev nD) (b : Ref sig .tc),
      (Proc.devRef .tc b : DevRef τ sig) ∈ ucRefs τ sig → r.2.mem ((c.tc : Thread nD τ).loc b) = W4 m c (Proc.devRef .tc b)) ∧ r.2.sem = fun _ => 0) :=
  θ_run_regions_kit_sems (pcfgs (F := F)) adm (pdats m) () cellOf_inj emb₁ defs₀ Variants.none L lv m ρ main (items m)
    (fun c Q => by rw [main_items m c])
    (by simp only [items, Seg.pipes_host, Seg.pipes_region, Seg.pipes_nil]; decide)
    (O₀ := 0) (hL := fun _ _ => rfl) (G := fun _ => iprop(emp))
    (u₀ := initOf (cells cfgs cellOf_inj) (launchToks cfgs cellOf_inj))
    (hu₀ := by
      iintro Hu; imodintro
      isplitl [Hu]
      · iapply (show (ownU (initOf (cells cfgs cellOf_inj) (launchToks cfgs cellOf_inj)) : sProp 𝕄)
            ⊢ BI.own (emb₁ (initOf (cells cfgs cellOf_inj) (launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (ucRefs τ sig) (W0 m c) ∗ R c))
    (Tₙ := fun c => iprop(StableHlo.held (c : Thread nD τ) (ucRefs τ sig) (W4 m c) ∗ ∃ r, prngReg c r))
    (hch := ⟨fun _ => .rfl, fun _ => .rfl, fun _ => .rfl, fun _ => .rfl, fun c => by
      show iprop(StableHlo.held (c : Thread nD τ) (ucRefs τ sig) (W4 m c) ∗ R c) ⊢ _
      iintro ⟨Hh, Hp, HO⟩
      isplitl [Hh Hp]
      · isplitl [Hh]; · iexact Hh
        iexact Hp
      iexact HO⟩)
    (hinit := by
      refine initEach L lv fun c => ?_
      rw [show unscopedBufs c (fun b => m ((c : Thread nD τ).loc b)) = StableHlo.held (c : Thread nD τ) (ucRefs τ sig) (W0 m c)
        from unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ ucRefs τ sig, s.mem (((c : Thread nD τ)).1, b) = W4 m c b)
    (hfin := fun c s' => by
      iintro ⟨⟨Hh, -⟩, HSI⟩
      unfold StableHlo.held
      imodintro
      iapply (pointsTo_read_all (ucRefs τ sig) (fun b => (((c : Thread nD τ)).1, b)) (W4 m c) s')
      isplitl [Hh] <;> iassumption)
    (hQ := fun s h hz => ⟨fun c b hb => h c _ hb, funext fun g => hz g (.inr (regions_no_unscoped g.2))⟩)

/-- No item writes an argument. -/
theorem W4_arg (c : Dev nD) (b : Ref sig .tc) (h0 : b ∉ hostOps0_W) (h1 : b ∉ Finset.univ.image (arrRef spec0))
    (h2 : b ∉ Finset.univ.image (arrRef spec1)) (h3 : b ∉ hostOps2_W) : W4 m c (Proc.devRef .tc b) = m ((c : Thread nD τ).loc b) :=
  (StableHlo.after_of_writes_sub hostOps2 _ hostOps2_writes h3).trans <| (W3_rest m c b h2).trans <| (W2_rest m c b h1).trans <|
    (StableHlo.after_of_writes_sub hostOps0 _ hostOps0_writes h0).trans rfl

/-- The program terminates without a fault, its arguments as they were and every counter at zero, at any reading of the floats. -/
theorem frame (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨(h.1 c main_arg0 (mem_uc _ (by decide))).trans (W4_arg m c main_arg0 (by decide) (by decide) (by decide) (by decide)),
     (h.1 c main_arg1 (mem_uc _ (by decide))).trans (W4_arg m c main_arg1 (by decide) (by decide) (by decide) (by decide)),
     (h.1 c main_arg2 (mem_uc _ (by decide))).trans (W4_arg m c main_arg2 (by decide) (by decide) (by decide) (by decide)),
     (h.1 c main_arg3 (mem_uc _ (by decide))).trans (W4_arg m c main_arg3 (by decide) (by decide) (by decide) (by decide))⟩, h.2⟩) (run_arrays m ρ)

end Regions

end Cert.Kernel2Ideal.Attn
-- ==== Proof.AttnTile.lean ====
module

public import proofs.«01_k».proof.Proof.AttnRun

@[expose] public section

set_option maxRecDepth 16384

noncomputable section

namespace Cert.Kernel2Ideal.Attn

open Idealize.ShloMosaic Idealize.ShloMosaic.TcCoe Idealize.ShloMosaic.Tactic
open Cert.Kernel2Ideal.Gen

variable {F : FTy → Type} [FloatOps F]

/-! # What one block of 512 stacked queries against 256 keys computes

The two heads of a lane pair lie one above the other, so a query tile has 512 rows; `m` is what the block does to the
entries of keys that a query does not see (`see` on the diagonal, `keep` before it). -/

abbrev zeroT : FVec F S512x256 .f32 := broadcast S512x256 (Scalar.ofBits .f32 0x00000000#32)
/-- On the diagonal block: zero where the key is not before the query. -/
def see (x : FVec F S512x256 .f32) : FVec F S512x256 .f32 := select k0_pay2 x zeroT
/-- Before the diagonal block every key is seen. -/
def keep (x : FVec F S512x256 .f32) : FVec F S512x256 .f32 := x

/-- A query tile's rows at the two heads of a lane pair, scaled by the eighth. -/
def qStack (x : Vec F S256x128 .bf16) : FVec F S512x128 .bf16 := k0_pay120 (iota .tc S1x128 32 [1] iota_S1x128_d1_w32) x

def tZ (q : FVec F S512x128 .bf16) (kt : Vec F S256x128 .bf16) : FVec F S512x256 .f32 :=
  matmul dot_S512x128_S256x128_S512x256_1_1_0_0_n_n none q (shapeCast S256x128 kt shapeCasts_S256x128_S256x128 : FVec F S256x128 .bf16)
    (constant S512x256 .f32 0x00000000#32)
def tSp (z : FVec F S512x256 .f32) : FVec F S512x256 .f32 :=
  addf (maximumf z zeroT) (log (addf (broadcast S512x256 (Scalar.ofBits .f32 0x3F800000#32)) (exp (subf zeroT (absf z)))))
def tParts (sp : FVec F S512x256 .f32) : FVec F S512x512 .bf16 :=
  concatenate S512x512 1 [⟨S512x256, truncf .bf16 sp bitsLt_bf16_f32⟩,
    ⟨S512x256, truncf .bf16 (subf sp (extf .f32 (truncf .bf16 sp bitsLt_bf16_f32) bitsLt_bf16_f32)) bitsLt_bf16_f32⟩] concatenates_S512x256_S512x256_S512x512_d1

variable (m m' : FVec F S512x256 .f32 → FVec F S512x256 .f32) (ntri : FVec F S512x256 .bf16) (q : FVec F S512x128 .bf16)

def tSums (z : FVec F S512x256 .f32) : FVec F S512x256 .f32 :=
  matmul dot_S512x512_S512x256_S512x256_1_0_0_1_n_n none (tParts (m (tSp z))) ntri (constant S512x256 .f32 0x00000000#32)
def tW (z : FVec F S512x256 .f32) (cur : FVec F S512x1 .f32) : FVec F S512x256 .f32 :=
  m (exp (addf (addf z (tSums m ntri z)) (broadcastTo S512x256 cur broadcasts_S512x1_S512x256)))
def tPV (kt vt : Vec F S256x128 .bf16) (cur : FVec F S512x1 .f32) : FVec F S512x128 .f32 :=
  matmul dot_S512x256_S256x128_S512x128_1_0_0_1_n_n none (truncf .bf16 (tW m ntri (tZ q kt) cur) bitsLt_bf16_f32)
    (shapeCast S256x128 vt shapeCasts_S256x128_S256x128 : FVec F S256x128 .bf16) (constant S512x128 .f32 0x00000000#32)
def tSum (x : FVec F S512x256 .f32) : FVec F S512x1 .f32 :=
  shapeCast S512x1 (multiReduction .add [1] S512 x 0x00000000#32 reduces_S512x256_S512 (.inl rfl) rfl) shapeCasts_S512_S512x1
def tCur (kt : Vec F S256x128 .bf16) (cur : FVec F S512x1 .f32) : FVec F S512x1 .f32 := subf cur (tSum (m (tSp (tZ q kt))))
/-- The lane of number `kb` takes the sum carried into the block. -/
def tCm (kb : BitVec 32) (cur : FVec F S512x1 .f32) (cm : FVec F S512x128 .f32) : FVec F S512x128 .f32 :=
  select (broadcastTo S512x128 (shapeCast S1x128 (cmpi .eq (iota .tc S1x128 32 [1] iota_S1x128_d1_w32) (broadcast S1x128 kb)) shapeCasts_S1x128_S1x128) broadcasts_S1x128_S512x128)
    (broadcastTo S512x128 (shapeCast S512x1 cur shapeCasts_S512x1_S512x1) broadcasts_S512x1_S512x128) cm

abbrev inC (x : Vec F S1x512x1 .f32) : FVec F S512x1 .f32 := shapeCast S512x1 x shapeCasts_S1x512x1_S512x1
abbrev inO (x : Vec F S1x512x128 .f32) : FVec F S512x128 .f32 := shapeCast S512x128 x shapeCasts_S1x512x128_S512x128
abbrev outC (x : FVec F S512x1 .f32) : FVec F S1x512x1 .f32 := shapeCast S1x512x1 x shapeCasts_S512x1_S1x512x1
abbrev outO (x : FVec F S512x128 .f32) : FVec F S1x512x128 .f32 := shapeCast S1x512x128 x shapeCasts_S512x128_S1x512x128

/-- A turn of one block. -/
def oneO (kt vt : Vec F S256x128 .bf16) (c : Vec F S1x512x1 .f32) (o : Vec F S1x512x128 .f32) : FVec F S1x512x128 .f32 :=
  outO (addf (inO o) (tPV m ntri q kt vt (inC c)))
def oneM (kb : BitVec 32) (c : Vec F S1x512x1 .f32) (o : Vec F S1x512x128 .f32) : FVec F S1x512x128 .f32 := outO (tCm kb (inC c) (inO o))
def oneC (kt : Vec F S256x128 .bf16) (c : Vec F S1x512x1 .f32) : FVec F S1x512x1 .f32 := outC (tCur m q kt (inC c))
/-- A turn of two blocks, the second's sum carried from the first. -/
def twoO (kt vt kt' vt' : Vec F S256x128 .bf16) (c : Vec F S1x512x1 .f32) (o : Vec F S1x512x128 .f32) : FVec F S1x512x128 .f32 :=
  outO (addf (inO o) (addf (tPV m ntri q kt vt (inC c)) (tPV m' ntri q kt' vt' (tCur m q kt (inC c)))))
def twoM (kb kb' : BitVec 32) (kt : Vec F S256x128 .bf16) (c : Vec F S1x512x1 .f32) (o : Vec F S1x512x128 .f32) : FVec F S1x512x128 .f32 :=
  outO (tCm kb' (tCur m q kt (inC c)) (tCm kb (inC c) (inO o)))
def twoC (kt kt' : Vec F S256x128 .bf16) (c : Vec F S1x512x1 .f32) : FVec F S1x512x1 .f32 := outC (tCur m' q kt' (tCur m q kt (inC c)))

end Cert.Kernel2Ideal.Attn
-- ==== Proof.AttnPoint.lean ====
module

public import proofs.«01_k».proof.Proof.AttnTile
public import Idealize.ShloMosaic.Lib.Pipeline.ValueKit

@[expose] public section

set_option maxRecDepth 16384

noncomputable section

namespace Cert.Kernel2Ideal.Attn

open Idealize.ShloMosaic Idealize.ShloMosaic.TcCoe Idealize.ShloMosaic.Tactic
open Cert.Kernel2Ideal.Gen

/-! # The block's operations at one entry, in extended reals -/

theorem coe_sum {α : Type*} (s : Finset α) (f : α → ℝ) : ((∑ i ∈ s, f i : ℝ) : EReal) = ∑ i ∈ s, (f i : EReal) :=
  map_sum (⟨⟨Real.toEReal, EReal.coe_zero⟩, EReal.coe_add⟩ : ℝ →+ EReal) f s

/-- The softplus of the kernel and its value at a real number. -/
def spR (x : ℝ) : ℝ := max x 0 + Real.log (1 + Real.exp (-|x|))

variable (m m' : FVec Ideal S512x256 .f32 → FVec Ideal S512x256 .f32) (ntri : FVec Ideal S512x256 .bf16) (q : FVec Ideal S512x128 .bf16)

theorem tZ_at (kt : Vec Ideal S256x128 .bf16) (r : Fin 512) (j : Fin 256) : tZ q kt (ix2 r j) = ∑ l : Fin 128, q (ix2 r l) * kt (ix2 j l) := by
  unfold tZ; pointwise

theorem tSp_at (z : FVec Ideal S512x256 .f32) (r : Fin 512) (j : Fin 256) (x : ℝ) (h : z (ix2 r j) = (x : EReal)) : tSp z (ix2 r j) = (spR x : EReal) := by
  unfold tSp; pointwise [h]
  have ha : (FloatOps.absf (F := Ideal) (φ := .f32) (x : EReal) : EReal) = ((|x| : ℝ) : EReal) := by
    show max (x : EReal) (-x) = _; exact (EReal.coe_strictMono.monotone.map_max (a := x) (b := -x)).symm
  have hp : 0 < 1 + Real.exp (-|x|) := by positivity
  rw [ha, zero_sub, ← EReal.coe_neg, Ideal.exp_coe]
  unfold spR
  rw [EReal.coe_add, EReal.coe_strictMono.monotone.map_max, EReal.coe_zero]
  congr 1
  rw [← EReal.coe_one, ← EReal.coe_add, Ideal.log_coe]
  simp [hp]

theorem tPV_at (kt vt : Vec Ideal S256x128 .bf16) (cur : FVec Ideal S512x1 .f32) (r : Fin 512) (l : Fin 128) :
    tPV m ntri q kt vt cur (ix2 r l) = ∑ j : Fin 256, tW m ntri (tZ q kt) cur (ix2 r j) * vt (ix2 j l) := by
  unfold tPV; pointwise

theorem tSum_at (x : FVec Ideal S512x256 .f32) (r : Fin 512) : tSum x (ix2 r 0) = ∑ j : Fin 256, x (ix2 r j) := by
  unfold tSum; pointwise

theorem tSums_at (z : FVec Ideal S512x256 .f32) (r : Fin 512) (j : Fin 256) :
    tSums m ntri z (ix2 r j) = ∑ p : Fin 512, tParts (m (tSp z)) (ix2 r p) * ntri (ix2 p j) := by
  unfold tSums; pointwise

theorem tParts_at (s : FVec Ideal S512x256 .f32) (r : Fin 512) (p : Fin 512) :
    tParts s (ix2 r p) = if h : p.val < 256 then s (ix2 r ⟨p, h⟩) else s (ix2 r ⟨p.val - 256, by omega⟩) - s (ix2 r ⟨p.val - 256, by omega⟩) := by
  unfold tParts; pointwise

theorem tW_at (z : FVec Ideal S512x256 .f32) (cur : FVec Ideal S512x1 .f32) (r : Fin 512) (j : Fin 256) :
    (exp (addf (addf z (tSums m ntri z)) (broadcastTo S512x256 cur broadcasts_S512x1_S512x256)) : FVec Ideal S512x256 .f32) (ix2 r j)
      = Ideal.exp (z (ix2 r j) + tSums m ntri z (ix2 r j) + cur (ix2 r 0)) := by
  pointwise

theorem sel_eq {c : BitVec 1} {P : Prop} [Decidable P] {α : Type} (h : c = 1#1 ↔ P) (a b : α) : Scalar.select c a b = if P then a else b := by
  unfold Scalar.select; exact if_congr h rfl rfl

theorem word_eq (a b : BitVec 32) : IntOp.cmpi .eq a b = 1#1 ↔ a = b := by
  by_cases h : a = b
  · simp [IntOp.cmpi, h]
  · simp [IntOp.cmpi, h, beq_eq_false_iff_ne.mpr h]
theorem word_row : ∀ r : Fin 512, Scalar.select (IntOp.cmpi .sge (BitVec.ofNat 32 r.val) 256#32) (IntOp.subi (BitVec.ofNat 32 r.val) 256#32) (BitVec.ofNat 32 r.val)
    = BitVec.ofNat 32 (r.val % 256) := by decide +kernel
theorem word_lt : ∀ a b : Fin 256, IntOp.cmpi .slt (BitVec.ofNat 32 a.val) (BitVec.ofNat 32 b.val) = 1#1 ↔ a.val < b.val := by
  have hi : ∀ a : Fin 256, (BitVec.ofNat 32 a.val).toInt = a.val := by decide +kernel
  intro a b
  show BitVec.ofBool ((BitVec.ofNat 32 a.val).slt (BitVec.ofNat 32 b.val)) = 1#1 ↔ _
  rw [BitVec.slt, hi, hi]
  by_cases h : a.val < b.val <;> simp [h]
theorem word_half : ∀ l : Fin 128, IntOp.cmpi .slt (BitVec.ofNat 32 l.val) 64#32 = 1#1 ↔ l.val < 64 := by decide +kernel
theorem word_half' : ∀ l : Fin 128, IntOp.cmpi .sge (BitVec.ofNat 32 l.val) 64#32 = 1#1 ↔ 64 ≤ l.val := by decide +kernel

theorem tCm_at (kb : BitVec 32) (cur : FVec Ideal S512x1 .f32) (cm : FVec Ideal S512x128 .f32) (r : Fin 512) (l : Fin 128) :
    tCm kb cur cm (ix2 r l) = if BitVec.ofNat 32 l.val = kb then cur (ix2 r 0) else cm (ix2 r l) := by
  unfold tCm; pointwise
  exact sel_eq (word_eq _ _) _ _

theorem see_at (x : FVec Ideal S512x256 .f32) (r : Fin 512) (j : Fin 256) :
    see x (ix2 r j) = if j.val < r.val % 256 then x (ix2 r j) else 0 := by
  unfold see k0_pay2; pointwise
  rw [word_row r]
  exact sel_eq (word_lt j ⟨r.val % 256, Nat.mod_lt _ (by decide)⟩) _ _

theorem qStack_at (x : Vec Ideal S256x128 .bf16) (r : Fin 512) (l : Fin 128) :
    qStack x (ix2 r l) = if l.val / 64 = r.val / 256 then x (ix2 ⟨r.val % 256, by omega⟩ l) * Ideal.ofBits .bf16 0x3E00#16 else 0 := by
  unfold qStack k0_pay120; pointwise
  split
  · rename_i h
    refine (sel_eq (word_half l) _ _).trans (if_congr ?_ ?_ rfl)
    · have := l.isLt; omega
    · congr 3; exact Fin.ext (by simp; omega)
  · rename_i h
    refine (sel_eq (word_half' l) _ _).trans (if_congr ?_ ?_ rfl)
    · have := l.isLt; have := r.isLt; omega
    · congr 3; exact Fin.ext (by simp; omega)

end Cert.Kernel2Ideal.Attn
-- ==== Proof.AttnStep.lean ====
module

public import proofs.«01_k».proof.Proof.AttnTile
public import Idealize.ShloMosaic.Lib.WritesUnit
public import Idealize.ShloMosaic.Lib.Pipeline.ReadBack
import all proofs.«01_k».proof.Proof.AttnTile
import all proofs.«01_k».proof.Proof.AttnFwd
import all proofs.«01_k».proof.Proof.Gen.Kernel2Ideal.Loops
import all proofs.«01_k».proof.Proof.Gen.Kernel2Ideal.Skeleton

@[expose] public section

set_option maxRecDepth 16384

noncomputable section

namespace Cert.Kernel2Ideal.Attn

open Idealize.ShloMosaic Idealize.ShloMosaic.TcCoe Idealize.ShloMosaic.Tactic
open Cert.Kernel2Ideal.Gen

variable {F : FTy → Type} [FloatOps F]

/-! # The forward kernel's accumulators, turn by turn -/

/-- One lane pair's accumulators: the output so far, the sums carried into each block, the sum carried on. -/
@[ext] structure St (F : FTy → Type) [FloatOps F] where
  o : Vec F S1x512x128 .f32
  m : Vec F S1x512x128 .f32
  c : Vec F S1x512x1 .f32

def St.zero : St F := ⟨fun _ => Scalar.ofBits .f32 0x00000000#32, fun _ => Scalar.ofBits .f32 0x00000000#32, fun _ => Scalar.ofBits .f32 0x00000000#32⟩

section
variable (m m' : FVec F S512x256 .f32 → FVec F S512x256 .f32) (ntri : FVec F S512x256 .bf16) (q : FVec F S512x128 .bf16)
def St.one (kb : BitVec 32) (kt vt : Vec F S256x128 .bf16) (s : St F) : St F :=
  ⟨oneO m ntri q kt vt s.c s.o, oneM kb s.c s.m, oneC m q kt s.c⟩
def St.two (kb kb' : BitVec 32) (kt vt kt' vt' : Vec F S256x128 .bf16) (s : St F) : St F :=
  ⟨twoO m m' ntri q kt vt kt' vt' s.c s.o, twoM m q kb kb' kt s.c s.m, twoC m m' q kt kt' s.c⟩
end

abbrev slabO0 : Rect S2x512x128 := Rect.unit (s := S2x512x128) ![0, 0, 0] S1x512x128.size inb_S2x512x128_S1x512x128_0_0_0
abbrev slabO1 : Rect S2x512x128 := Rect.unit (s := S2x512x128) ![1, 0, 0] S1x512x128.size inb_S2x512x128_S1x512x128_1_0_0
abbrev slabC0 : Rect S2x512x1 := Rect.unit (s := S2x512x1) ![0, 0, 0] S1x512x1.size inb_S2x512x1_S1x512x1_0_0_0
abbrev slabC1 : Rect S2x512x1 := Rect.unit (s := S2x512x1) ![1, 0, 0] S1x512x1.size inb_S2x512x1_S1x512x1_1_0_0
abbrev pcO (p0 p1 : Vec F S1x512x128 .f32) : List (View.Piece (Elt F) S2x512x128 .f32) := [⟨slabO1, p1⟩, ⟨slabO0, p0⟩]
abbrev pcC (p0 p1 : Vec F S1x512x1 .f32) : List (View.Piece (Elt F) S2x512x1 .f32) := [⟨slabC1, p1⟩, ⟨slabC0, p0⟩]

section Read
variable {κ : Kind} {sp : Space} (w : View sig κ sp S2x512x128 .f32) (wc : View sig κ sp S2x512x1 .f32)
variable (f : w.ty.Contents (Elt F)) (fc : wc.ty.Contents (Elt F)) (p0 p1 : Vec F S1x512x128 .f32) (d0 d1 : Vec F S1x512x1 .f32)

theorem rdO1 (L : List (View.Piece (Elt F) S2x512x128 .f32)) : w.readAt (Elt F) slabO1.toLoadRect (w.writes (Elt F) f (⟨slabO1, p1⟩ :: L)) = p1 :=
  funext fun x => View.read_writes_cons_emb w f slabO1 p1 L x
theorem rdO0 (L : List (View.Piece (Elt F) S2x512x128 .f32)) :
    w.readAt (Elt F) slabO0.toLoadRect (w.writes (Elt F) f (⟨slabO1, p1⟩ :: L)) = w.readAt (Elt F) slabO0.toLoadRect (w.writes (Elt F) f L) :=
  funext fun x => View.read_writes_cons_unit_of_not_mem w f _ p1 L (slabO0.emb x) rfl 0 (.inl (by
    have := (x 0).isLt; show 0 + 1 * (x 0).val < 1; change (x 0).val < 1 at this; omega))
theorem rdO0' (L : List (View.Piece (Elt F) S2x512x128 .f32)) : w.readAt (Elt F) slabO0.toLoadRect (w.writes (Elt F) f (⟨slabO0, p0⟩ :: L)) = p0 :=
  funext fun x => View.read_writes_cons_emb w f slabO0 p0 L x
theorem rdC1 (L : List (View.Piece (Elt F) S2x512x1 .f32)) : wc.readAt (Elt F) slabC1.toLoadRect (wc.writes (Elt F) fc (⟨slabC1, d1⟩ :: L)) = d1 :=
  funext fun x => View.read_writes_cons_emb wc fc slabC1 d1 L x
theorem rdC0 (L : List (View.Piece (Elt F) S2x512x1 .f32)) :
    wc.readAt (Elt F) slabC0.toLoadRect (wc.writes (Elt F) fc (⟨slabC1, d1⟩ :: L)) = wc.readAt (Elt F) slabC0.toLoadRect (wc.writes (Elt F) fc L) :=
  funext fun x => View.read_writes_cons_unit_of_not_mem wc fc _ d1 L (slabC0.emb x) rfl 0 (.inl (by
    have := (x 0).isLt; show 0 + 1 * (x 0).val < 1; change (x 0).val < 1 at this; omega))
theorem rdC0' (L : List (View.Piece (Elt F) S2x512x1 .f32)) : wc.readAt (Elt F) slabC0.toLoadRect (wc.writes (Elt F) fc (⟨slabC0, d0⟩ :: L)) = d0 :=
  funext fun x => View.read_writes_cons_emb wc fc slabC0 d0 L x
end Read

section Fwd

variable (c : Dev nD) (i : grid0.Coords) (arg2 : Memref sig .tc .vmem S2048x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S512x256 .bf16) (harg5 : arg5.IsWhole) (arg6 : Memref sig .tc .vmem S1x2048x256 .bf16) (harg6 : arg6.IsWhole) (arg7 : Memref sig .tc .vmem S2048x512 .f32) (harg7 : arg7.IsWhole) (arg8 : Memref sig .tc .vmem S2x512x128 .f32) (harg8 : arg8.IsWhole) (arg9 : Memref sig .tc .vmem S2x512x128 .f32) (harg9 : arg9.IsWhole) (arg10 : Memref sig .tc .vmem S2x512x1 .f32) (harg10 : arg10.IsWhole)
variable (v2 : FVec F S512x256 .bf16) (t : Fin k0_t1_loop.trips) (a11 a13 a69 a2 a76 : BitVec 32) (a87 : BitVec 1) (q0 q1 : FVec F S512x128 .bf16)
variable (x3 : BufTy.Contents (Elt F) arg3.view.ty) (x4 : BufTy.Contents (Elt F) arg4.view.ty)

def st0 (f8 : BufTy.Contents (Elt F) arg8.view.ty) (f9 : BufTy.Contents (Elt F) arg9.view.ty) (f10 : BufTy.Contents (Elt F) arg10.view.ty) : St F :=
  ⟨arg8.view.readAt (Elt F) slabO0.toLoadRect f8, arg9.view.readAt (Elt F) slabO0.toLoadRect f9, arg10.view.readAt (Elt F) slabC0.toLoadRect f10⟩
def st1 (f8 : BufTy.Contents (Elt F) arg8.view.ty) (f9 : BufTy.Contents (Elt F) arg9.view.ty) (f10 : BufTy.Contents (Elt F) arg10.view.ty) : St F :=
  ⟨arg8.view.readAt (Elt F) slabO1.toLoadRect f8, arg9.view.readAt (Elt F) slabO1.toLoadRect f9, arg10.view.readAt (Elt F) slabC1.toLoadRect f10⟩

/-- The keys' block number at turn `k` of the pairs. -/
def kbT (k : ℕ) : BitVec 32 := Scalar.subi (Scalar.subi (Scalar.subi a11 1#32) a69) (Scalar.muli 2#32 (Scf.iv 0#32 1#32 k))

section
variable (k : Fin (k0_t2_loop t).trips)
abbrev tK (x : BufTy.Contents (Elt F) arg3.view.ty) (off : Fin 2 → ℕ) (h : ∀ a, off a + S256x128.size a ≤ S2048x256.size a) : Vec F S256x128 .bf16 :=
  arg3.view.readAt (Elt F) (Rect.unit (s := S2048x256) off S256x128.size h).toLoadRect x

def two0 (s : St F) : St F := St.two keep keep v2 q0 (kbT a11 a69 k) (Scalar.subi (kbT a11 a69 k) 1#32)
  (tK arg3 x3 _ (k0_off9_inb t k)) (tK arg4 x4 _ (k0_off9_inb t k)) (tK arg3 x3 _ (k0_off11_inb t k)) (tK arg4 x4 _ (k0_off11_inb t k)) s
def two1 (s : St F) : St F := St.two keep keep v2 q1 (kbT a11 a69 k) (Scalar.subi (kbT a11 a69 k) 1#32)
  (tK arg3 x3 _ (k0_off10_inb t k)) (tK arg4 x4 _ (k0_off10_inb t k)) (tK arg3 x3 _ (k0_off12_inb t k)) (tK arg4 x4 _ (k0_off12_inb t k)) s

variable (acc : BitVec 32) (f8 : BufTy.Contents (Elt F) arg8.view.ty) (f9 : BufTy.Contents (Elt F) arg9.view.ty) (f10 : BufTy.Contents (Elt F) arg10.view.ty)

/-- The pieces a pair of blocks before the diagonal writes. -/
theorem trip2_pieces : tripL_k0_t2 (F := F) Variants.none c none i arg2 harg2 arg3 harg3 arg4 harg4 arg5 harg5 arg6 harg6 arg7 harg7 arg8 harg8 arg9 harg9 arg10 harg10 (iota .tc S1x128 32 [1] iota_S1x128_d1_w32) v2 t a11 a13 q0 q1 a69 a2 a76 a87 x3 x4 k acc f8 f9 f10
    = (pcO (two0 arg3 arg4 v2 t a11 a69 q0 x3 x4 k (st0 arg8 arg9 arg10 f8 f9 f10)).o (two1 arg3 arg4 v2 t a11 a69 q1 x3 x4 k (st1 arg8 arg9 arg10 f8 f9 f10)).o,
       pcO (two0 arg3 arg4 v2 t a11 a69 q0 x3 x4 k (st0 arg8 arg9 arg10 f8 f9 f10)).m (two1 arg3 arg4 v2 t a11 a69 q1 x3 x4 k (st1 arg8 arg9 arg10 f8 f9 f10)).m,
       pcC (two0 arg3 arg4 v2 t a11 a69 q0 x3 x4 k (st0 arg8 arg9 arg10 f8 f9 f10)).c (two1 arg3 arg4 v2 t a11 a69 q1 x3 x4 k (st1 arg8 arg9 arg10 f8 f9 f10)).c) := by
  unfold tripL_k0_t2 trip_k0_t2
  rfl
end

/-- The accumulators after the first `n` pairs. -/
def it0 : ℕ → St F → St F
  | 0, s => s
  | n + 1, s => if h : n < (k0_t2_loop t).trips then two0 arg3 arg4 v2 t a11 a69 q0 x3 x4 ⟨n, h⟩ (it0 n s) else it0 n s
def it1 : ℕ → St F → St F
  | 0, s => s
  | n + 1, s => if h : n < (k0_t2_loop t).trips then two1 arg3 arg4 v2 t a11 a69 q1 x3 x4 ⟨n, h⟩ (it1 n s) else it1 n s

variable (G8 : BufTy.Contents (Elt F) arg8.view.ty) (G9 : BufTy.Contents (Elt F) arg9.view.ty) (G10 : BufTy.Contents (Elt F) arg10.view.ty) (init : BitVec 32)

abbrev s2 (n : ℕ) := st_k0_t2 (F := F) Variants.none c none i arg2 harg2 arg3 harg3 arg4 harg4 arg5 harg5 arg6 harg6 arg7 harg7 arg8 harg8 arg9 harg9 arg10 harg10 (iota .tc S1x128 32 [1] iota_S1x128_d1_w32) v2 t a11 a13 q0 q1 a69 a2 a76 a87 x3 x4 G8 G9 G10 init n
abbrev w8 (n : ℕ) := arg8.view.writes (Elt F) G8 (s2 c i arg2 harg2 arg3 harg3 arg4 harg4 arg5 harg5 arg6 harg6 arg7 harg7 arg8 harg8 arg9 harg9 arg10 harg10 v2 t a11 a13 a69 a2 a76 a87 q0 q1 x3 x4 G8 G9 G10 init n).2.1
abbrev w9 (n : ℕ) := arg9.view.writes (Elt F) G9 (s2 c i arg2 harg2 arg3 harg3 arg4 harg4 arg5 harg5 arg6 harg6 arg7 harg7 arg8 harg8 arg9 harg9 arg10 harg10 v2 t a11 a13 a69 a2 a76 a87 q0 q1 x3 x4 G8 G9 G10 init n).2.2.1
abbrev w10 (n : ℕ) := arg10.view.writes (Elt F) G10 (s2 c i arg2 harg2 arg3 harg3 arg4 harg4 arg5 harg5 arg6 harg6 arg7 harg7 arg8 harg8 arg9 harg9 arg10 harg10 v2 t a11 a13 a69 a2 a76 a87 q0 q1 x3 x4 G8 G9 G10 init n).2.2.2

theorem loop2 : ∀ n, n ≤ (k0_t2_loop t).trips →
    st0 arg8 arg9 arg10 (w8 c i arg2 harg2 arg3 harg3 arg4 harg4 arg5 harg5 arg6 harg6 arg7 harg7 arg8 harg8 arg9 harg9 arg10 harg10 v2 t a11 a13 a69 a2 a76 a87 q0 q1 x3 x4 G8 G9 G10 init n) (w9 c i arg2 harg2 arg3 harg3 arg4 harg4 arg5 harg5 arg6 harg6 arg7 harg7 arg8 harg8 arg9 harg9 arg10 harg10 v2 t a11 a13 a69 a2 a76 a87 q0 q1 x3 x4 G8 G9 G10 init n) (w10 c i arg2 harg2 arg3 harg3 arg4 harg4 arg5 harg5 arg6 harg6 arg7 harg7 arg8 harg8 arg9 harg9 arg10 harg10 v2 t a11 a13 a69 a2 a76 a87 q0 q1 x3 x4 G8 G9 G10 init n) = it0 arg3 arg4 v2 t a11 a69 q0 x3 x4 n (st0 arg8 arg9 arg10 G8 G9 G10)
    ∧ st1 arg8 arg9 arg10 (w8 c i arg2 harg2 arg3 harg3 arg4 harg4 arg5 harg5 arg6 harg6 arg7 harg7 arg8 harg8 arg9 harg9 arg10 harg10 v2 t a11 a13 a69 a2 a76 a87 q0 q1 x3 x4 G8 G9 G10 init n) (w9 c i arg2 harg2 arg3 harg3 arg4 harg4 arg5 harg5 arg6 harg6 arg7 harg7 arg8 harg8 arg9 harg9 arg10 harg10 v2 t a11 a13 a69 a2 a76 a87 q0 q1 x3 x4 G8 G9 G10 init n) (w10 c i arg2 harg2 arg3 harg3 arg4 harg4 arg5 harg5 arg6 harg6 arg7 harg7 arg8 harg8 arg9 harg9 arg10 harg10 v2 t a11 a13 a69 a2 a76 a87 q0 q1 x3 x4 G8 G9 G10 init n) = it1 arg3 arg4 v2 t a11 a69 q1 x3 x4 n (st1 arg8 arg9 arg10 G8 G9 G10)
  | 0, _ => ⟨rfl, rfl⟩
  | n + 1, hn => by
    obtain ⟨h0, h1⟩ := loop2 n (by omega)
    have hs := st_k0_t2_succ (F := F) Variants.none c none i arg2 harg2 arg3 harg3 arg4 harg4 arg5 harg5 arg6 harg6 arg7 harg7 arg8 harg8 arg9 harg9 arg10 harg10 (iota .tc S1x128 32 [1] iota_S1x128_d1_w32) v2 t a11 a13 q0 q1 a69 a2 a76 a87 x3 x4 G8 G9 G10 init ⟨n, by omega⟩
    have hp := trip2_pieces c i arg2 harg2 arg3 harg3 arg4 harg4 arg5 harg5 arg6 harg6 arg7 harg7 arg8 harg8 arg9 harg9 arg10 harg10 v2 t a11 a13 a69 a2 a76 a87 q0 q1 x3 x4 ⟨n, by omega⟩ (s2 c i arg2 harg2 arg3 harg3 arg4 harg4 arg5 harg5 arg6 harg6 arg7 harg7 arg8 harg8 arg9 harg9 arg10 harg10 v2 t a11 a13 a69 a2 a76 a87 q0 q1 x3 x4 G8 G9 G10 init n).1 (w8 c i arg2 harg2 arg3 harg3 arg4 harg4 arg5 harg5 arg6 harg6 arg7 harg7 arg8 harg8 arg9 harg9 arg10 harg10 v2 t a11 a13 a69 a2 a76 a87 q0 q1 x3 x4 G8 G9 G10 init n) (w9 c i arg2 harg2 arg3 harg3 arg4 harg4 arg5 harg5 arg6 harg6 arg7 harg7 arg8 harg8 arg9 harg9 arg10 harg10 v2 t a11 a13 a69 a2 a76 a87 q0 q1 x3 x4 G8 G9 G10 init n) (w10 c i arg2 harg2 arg3 harg3 arg4 harg4 arg5 harg5 arg6 harg6 arg7 harg7 arg8 harg8 arg9 harg9 arg10 harg10 v2 t a11 a13 a69 a2 a76 a87 q0 q1 x3 x4 G8 G9 G10 init n)
    have e8 : w8 c i arg2 harg2 arg3 harg3 arg4 harg4 arg5 harg5 arg6 harg6 arg7 harg7 arg8 harg8 arg9 harg9 arg10 harg10 v2 t a11 a13 a69 a2 a76 a87 q0 q1 x3 x4 G8 G9 G10 init (n + 1) = arg8.view.writes (Elt F) (w8 c i arg2 harg2 arg3 harg3 arg4 harg4 arg5 harg5 arg6 harg6 arg7 harg7 arg8 harg8 arg9 harg9 arg10 harg10 v2 t a11 a13 a69 a2 a76 a87 q0 q1 x3 x4 G8 G9 G10 init n) (pcO (two0 arg3 arg4 v2 t a11 a69 q0 x3 x4 ⟨n, by omega⟩ (st0 arg8 arg9 arg10 (w8 c i arg2 harg2 arg3 harg3 arg4 harg4 arg5 harg5 arg6 harg6 arg7 harg7 arg8 harg8 arg9 harg9 arg10 harg10 v2 t a11 a13 a69 a2 a76 a87 q0 q1 x3 x4 G8 G9 G10 init n) (w9 c i arg2 harg2 arg3 harg3 arg4 harg4 arg5 harg5 arg6 harg6 arg7 harg7 arg8 harg8 arg9 harg9 arg10 harg10 v2 t a11 a13 a69 a2 a76 a87 q0 q1 x3 x4 G8 G9 G10 init n) (w10 c i arg2 harg2 arg3 harg3 arg4 harg4 arg5 harg5 arg6 harg6 arg7 harg7 arg8 harg8 arg9 harg9 arg10 harg10 v2 t a11 a13 a69 a2 a76 a87 q0 q1 x3 x4 G8 G9 G10 init n))).o (two1 arg3 arg4 v2 t a11 a69 q1 x3 x4 ⟨n, by omega⟩ (st1 arg8 arg9 arg10 (w8 c i arg2 harg2 arg3 harg3 arg4 harg4 arg5 harg5 arg6 harg6 arg7 harg7 arg8 harg8 arg9 harg9 arg10 harg10 v2 t a11 a13 a69 a2 a76 a87 q0 q1 x3 x4 G8 G9 G10 init n) (w9 c i arg2 harg2 arg3 harg3 arg4 harg4 arg5 harg5 arg6 harg6 arg7 harg7 arg8 harg8 arg9 harg9 arg10 harg10 v2 t a11 a13 a69 a2 a76 a87 q0 q1 x3 x4 G8 G9 G10 init n) (w10 c i arg2 harg2 arg3 harg3 arg4 harg4 arg5 harg5 arg6 harg6 arg7 harg7 arg8 harg8 arg9 harg9 arg10 harg10 v2 t a11 a13 a69 a2 a76 a87 q0 q1 x3 x4 G8 G9 G10 init n))).o) := by
      unfold w8 s2; rw [hs]; exact (View.writes_append ..).trans (congrArg (fun L => arg8.view.writes (Elt F) (w8 c i arg2 harg2 arg3 harg3 arg4 harg4 arg5 harg5 arg6 harg6 arg7 harg7 arg8 harg8 arg9 harg9 arg10 harg10 v2 t a11 a13 a69 a2 a76 a87 q0 q1 x3 x4 G8 G9 G10 init n) L.1) hp)
    have e9 : w9 c i arg2 harg2 arg3 harg3 arg4 harg4 arg5 harg5 arg6 harg6 arg7 harg7 arg8 harg8 arg9 harg9 arg10 harg10 v2 t a11 a13 a69 a2 a76 a87 q0 q1 x3 x4 G8 G9 G10 init (n + 1) = arg9.view.writes (Elt F) (w9 c i arg2 harg2 arg3 harg3 arg4 harg4 arg5 harg5 arg6 harg6 arg7 harg7 arg8 harg8 arg9 harg9 arg10 harg10 v2 t a11 a13 a69 a2 a76 a87 q0 q1 x3 x4 G8 G9 G10 init n) (pcO (two0 arg3 arg4 v2 t a11 a69 q0 x3 x4 ⟨n, by omega⟩ (st0 arg8 arg9 arg10 (w8 c i arg2 harg2 arg3 harg3 arg4 harg4 arg5 harg5 arg6 harg6 arg7 harg7 arg8 harg8 arg9 harg9 arg10 harg10 v2 t a11 a13 a69 a2 a76 a87 q0 q1 x3 x4 G8 G9 G10 init n) (w9 c i arg2 harg2 arg3 harg3 arg4 harg4 arg5 harg5 arg6 harg6 arg7 harg7 arg8 harg8 arg9 harg9 arg10 harg10 v2 t a11 a13 a69 a2 a76 a87 q0 q1 x3 x4 G8 G9 G10 init n) (w10 c i arg2 harg2 arg3 harg3 arg4 harg4 arg5 harg5 arg6 harg6 arg7 harg7 arg8 harg8 arg9 harg9 arg10 harg10 v2 t a11 a13 a69 a2 a76 a87 q0 q1 x3 x4 G8 G9 G10 init n))).m (two1 arg3 arg4 v2 t a11 a69 q1 x3 x4 ⟨n, by omega⟩ (st1 arg8 arg9 arg10 (w8 c i arg2 harg2 arg3 harg3 arg4 harg4 arg5 harg5 arg6 harg6 arg7 harg7 arg8 harg8 arg9 harg9 arg10 harg10 v2 t a11 a13 a69 a2 a76 a87 q0 q1 x3 x4 G8 G9 G10 init n) (w9 c i arg2 harg2 arg3 harg3 arg4 harg4 arg5 harg5 arg6 harg6 arg7 harg7 arg8 harg8 arg9 harg9 arg10 harg10 v2 t a11 a13 a69 a2 a76 a87 q0 q1 x3 x4 G8 G9 G10 init n) (w10 c i arg2 harg2 arg3 harg3 arg4 harg4 arg5 harg5 arg6 harg6 arg7 harg7 arg8 harg8 arg9 harg9 arg10 harg10 v2 t a11 a13 a69 a2 a76 a87 q0 q1 x3 x4 G8 G9 G10 init n))).m) := by
      unfold w9 s2; rw [hs]; exact (View.writes_append ..).trans (congrArg (fun L => arg9.view.writes (Elt F) (w9 c i arg2 harg2 arg3 harg3 arg4 harg4 arg5 harg5 arg6 harg6 arg7 harg7 arg8 harg8 arg9 harg9 arg10 harg10 v2 t a11 a13 a69 a2 a76 a87 q0 q1 x3 x4 G8 G9 G10 init n) L.2.1) hp)
    have e10 : w10 c i arg2 harg2 arg3 harg3 arg4 harg4 arg5 harg5 arg6 harg6 arg7 harg7 arg8 harg8 arg9 harg9 arg10 harg10 v2 t a11 a13 a69 a2 a76 a87 q0 q1 x3 x4 G8 G9 G10 init (n + 1) = arg10.view.writes (Elt F) (w10 c i arg2 harg2 arg3 harg3 arg4 harg4 arg5 harg5 arg6 harg6 arg7 harg7 arg8 harg8 arg9 harg9 arg10 harg10 v2 t a11 a13 a69 a2 a76 a87 q0 q1 x3 x4 G8 G9 G10 init n) (pcC (two0 arg3 arg4 v2 t a11 a69 q0 x3 x4 ⟨n, by omega⟩ (st0 arg8 arg9 arg10 (w8 c i arg2 harg2 arg3 harg3 arg4 harg4 arg5 harg5 arg6 harg6 arg7 harg7 arg8 harg8 arg9 harg9 arg10 harg10 v2 t a11 a13 a69 a2 a76 a87 q0 q1 x3 x4 G8 G9 G10 init n) (w9 c i arg2 harg2 arg3 harg3 arg4 harg4 arg5 harg5 arg6 harg6 arg7 harg7 arg8 harg8 arg9 harg9 arg10 harg10 v2 t a11 a13 a69 a2 a76 a87 q0 q1 x3 x4 G8 G9 G10 init n) (w10 c i arg2 harg2 arg3 harg3 arg4 harg4 arg5 harg5 arg6 harg6 arg7 harg7 arg8 harg8 arg9 harg9 arg10 harg10 v2 t a11 a13 a69 a2 a76 a87 q0 q1 x3 x4 G8 G9 G10 init n))).c (two1 arg3 arg4 v2 t a11 a69 q1 x3 x4 ⟨n, by omega⟩ (st1 arg8 arg9 arg10 (w8 c i arg2 harg2 arg3 harg3 arg4 harg4 arg5 harg5 arg6 harg6 arg7 harg7 arg8 harg8 arg9 harg9 arg10 harg10 v2 t a11 a13 a69 a2 a76 a87 q0 q1 x3 x4 G8 G9 G10 init n) (w9 c i arg2 harg2 arg3 harg3 arg4 harg4 arg5 harg5 arg6 harg6 arg7 harg7 arg8 harg8 arg9 harg9 arg10 harg10 v2 t a11 a13 a69 a2 a76 a87 q0 q1 x3 x4 G8 G9 G10 init n) (w10 c i arg2 harg2 arg3 harg3 arg4 harg4 arg5 harg5 arg6 harg6 arg7 harg7 arg8 harg8 arg9 harg9 arg10 harg10 v2 t a11 a13 a69 a2 a76 a87 q0 q1 x3 x4 G8 G9 G10 init n))).c) := by
      unfold w10 s2; rw [hs]; exact (View.writes_append ..).trans (congrArg (fun L => arg10.view.writes (Elt F) (w10 c i arg2 harg2 arg3 harg3 arg4 harg4 arg5 harg5 arg6 harg6 arg7 harg7 arg8 harg8 arg9 harg9 arg10 harg10 v2 t a11 a13 a69 a2 a76 a87 q0 q1 x3 x4 G8 G9 G10 init n) L.2.2) hp)
    rw [e8, e9, e10, it0, it1, dif_pos (by omega), dif_pos (by omega), ← h0, ← h1]
    exact ⟨St.ext ((rdO0 ..).trans (rdO0' ..)) ((rdO0 ..).trans (rdO0' ..)) ((rdC0 ..).trans (rdC0' ..)), St.ext (rdO1 ..) (rdO1 ..) (rdC1 ..)⟩

end Fwd

/-- The upper and the lower half of a slab's rows: the two heads of the lane pair. -/
def half0 (x : Vec F S1x512x128 .f32) : Vec F S1x256x128 .f32 := fun j => x (Rect.emb (Rect.unit (s := S1x512x128) ![0, 0, 0] S1x256x128.size (by decide)) j)
def half1 (x : Vec F S1x512x128 .f32) : Vec F S1x256x128 .f32 := fun j => x (Rect.emb (Rect.unit (s := S1x512x128) ![0, 256, 0] S1x256x128.size (by decide)) j)

section Halves
variable {κ : Kind} {sp : Space} (w : View sig κ sp S2x512x128 .f32) (f : w.ty.Contents (Elt F))
theorem rdH00 : w.readAt (Elt F) (Rect.unit (s := S2x512x128) ![0, 0, 0] S1x256x128.size inb_S2x512x128_S1x256x128_0_0_0).toLoadRect f = half0 (w.readAt (Elt F) slabO0.toLoadRect f) :=
  funext fun j => congrArg (w.read (Elt F) f) (funext fun a => Fin.ext (by fin_cases a <;> simp))
theorem rdH01 : w.readAt (Elt F) (Rect.unit (s := S2x512x128) ![0, 256, 0] S1x256x128.size inb_S2x512x128_S1x256x128_0_256_0).toLoadRect f = half1 (w.readAt (Elt F) slabO0.toLoadRect f) :=
  funext fun j => congrArg (w.read (Elt F) f) (funext fun a => Fin.ext (by fin_cases a <;> simp))
theorem rdH10 : w.readAt (Elt F) (Rect.unit (s := S2x512x128) ![1, 0, 0] S1x256x128.size inb_S2x512x128_S1x256x128_1_0_0).toLoadRect f = half0 (w.readAt (Elt F) slabO1.toLoadRect f) :=
  funext fun j => congrArg (w.read (Elt F) f) (funext fun a => Fin.ext (by fin_cases a <;> simp))
theorem rdH11 : w.readAt (Elt F) (Rect.unit (s := S2x512x128) ![1, 256, 0] S1x256x128.size inb_S2x512x128_S1x256x128_1_256_0).toLoadRect f = half1 (w.readAt (Elt F) slabO1.toLoadRect f) :=
  funext fun j => congrArg (w.read (Elt F) f) (funext fun a => Fin.ext (by fin_cases a <;> simp))
end Halves

theorem no_trip3 : ∀ t : Fin k0_t1_loop.trips, Scf.trips (k0_t3_loop t).lb (k0_t3_loop t).ub (k0_t3_loop t).st = 0 := by decide +kernel

section Turn
variable (c : Dev nD) (i : grid0.Coords) (arg2 : Memref sig .tc .vmem S2048x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S512x256 .bf16) (harg5 : arg5.IsWhole) (arg6 : Memref sig .tc .vmem S1x2048x256 .bf16) (harg6 : arg6.IsWhole) (arg7 : Memref sig .tc .vmem S2048x512 .f32) (harg7 : arg7.IsWhole) (arg8 : Memref sig .tc .vmem S2x512x128 .f32) (harg8 : arg8.IsWhole) (arg9 : Memref sig .tc .vmem S2x512x128 .f32) (harg9 : arg9.IsWhole) (arg10 : Memref sig .tc .vmem S2x512x1 .f32) (harg10 : arg10.IsWhole)
variable (v1 : Vec F S512x256 .bf16) (k : Fin k0_t1_loop.trips)
variable (x2 : BufTy.Contents (Elt F) arg2.view.ty) (x3 : BufTy.Contents (Elt F) arg3.view.ty) (x4 : BufTy.Contents (Elt F) arg4.view.ty)

abbrev lanes : IVec S1x128 32 := iota .tc S1x128 32 [1] iota_S1x128_d1_w32
abbrev tq0 : FVec F S512x128 .bf16 := qStack (tK arg2 x2 _ (k0_off1_inb k))
abbrev tq1 : FVec F S512x128 .bf16 := qStack (tK arg2 x2 _ (k0_off2_inb k))

section Even
variable (h1 : k0_cond1 k = 1#1) (h2 : ¬ k0_cond2 k = 1#1)
abbrev ev8 := arg8.view.writes (Elt F) arg8.view.junk (fEven.sl.H8_3 arg2 arg3 arg4 arg8 arg10 lanes v1 x2 x3 x4 k h1)
abbrev ev9 := arg9.view.writes (Elt F) arg9.view.junk (fEven.sl.H9_3 (F := F) arg9 arg10 lanes k)
abbrev ev10 := arg10.view.writes (Elt F) arg10.view.junk (fEven.sl.H10_3 arg2 arg3 arg10 lanes x2 x3 k h1)

theorem even_z : fEven.sl.v144 (F := F) arg10 = St.zero.c ∧ fEven.sl.v148 (F := F) arg10 = St.zero.c ∧ fEven.sl.v146 (F := F) arg9 = St.zero.m
    ∧ fEven.sl.v150 (F := F) arg9 = St.zero.m ∧ fEven.sl.v240 (F := F) arg8 = St.zero.o :=
  ⟨View.readCov_fill _ _ _ _ _ (by decide), View.readCov_fill _ _ _ _ _ (by decide), View.readCov_fill _ _ _ _ _ (by decide),
    View.readCov_fill _ _ _ _ _ (by decide), View.readCov_fill _ _ _ _ _ (by decide)⟩
end Even
end Turn

end Cert.Kernel2Ideal.Attn
-- ==== Proof.AttnMath.lean ====
module

public import proofs.«01_k».proof.Proof.AttnPoint
public import proofs.«01_k».proof.Proof.AttnStep

@[expose] public section

set_option maxRecDepth 16384

noncomputable section

namespace Cert.Kernel2Ideal.Attn

open Idealize.ShloMosaic Idealize.ShloMosaic.TcCoe Idealize.ShloMosaic.Tactic
open Cert.Kernel2Ideal.Gen

/-! # A tile's accumulators over the real numbers

The queries of tile `n` (rows of both heads, one above the other) see the keys before their own position. `zR` is the logit,
`sR` the softplus where a key is seen, `tR` its sum from a key to the end of the tile's own block, `wR` the weight. -/

section Sums
variable (f : ℕ → ℝ)

theorem sum_tile (b : ℕ) : ∑ j ∈ Finset.Ico (256 * b) (256 * (b + 1)), f j = ∑ j : Fin 256, f (256 * b + j.val) := by
  rw [Finset.sum_Ico_eq_sum_range, show 256 * (b + 1) - 256 * b = 256 by omega, Finset.sum_range]

theorem sum_tile_from (b : ℕ) (i : Fin 256) :
    ∑ j ∈ Finset.Ico (256 * b + i.val) (256 * (b + 1)), f j = ∑ j : Fin 256, if i.val ≤ j.val then f (256 * b + j.val) else 0 := by
  have h := sum_tile (fun x => if 256 * b + i.val ≤ x then f x else 0) b
  rw [← Finset.sum_filter] at h
  simp only [add_le_add_iff_left] at h
  rw [← h]
  refine Finset.sum_congr (Finset.ext fun x => ?_) fun _ _ => rfl
  simp only [Finset.mem_Ico, Finset.mem_filter]; omega

theorem sum_from {b n : ℕ} (hb : b ≤ n) : ∑ j ∈ Finset.Ico (256 * b) (256 * (n + 1)), f j
    = (∑ j ∈ Finset.Ico (256 * b) (256 * (b + 1)), f j) + ∑ j ∈ Finset.Ico (256 * (b + 1)) (256 * (n + 1)), f j :=
  (Finset.sum_Ico_consecutive _ (by omega) (by omega)).symm
end Sums

variable (n : ℕ) (Q : Fin 512 → Fin 128 → ℝ) (K V : ℕ → Fin 128 → ℝ)

def zR (r : Fin 512) (j : ℕ) : ℝ := ∑ l : Fin 128, Q r l * K j l
def sR (r : Fin 512) (j : ℕ) : ℝ := if j < 256 * n + r.val % 256 then spR (zR Q K r j) else 0
def tR (r : Fin 512) (a : ℕ) : ℝ := ∑ j ∈ Finset.Ico a (256 * (n + 1)), sR n Q K r j
def wR (r : Fin 512) (j : ℕ) : ℝ := if j < 256 * n + r.val % 256 then Real.exp (zR Q K r j - tR n Q K r j) else 0

theorem tR_tile (r : Fin 512) (b : ℕ) (hb : b ≤ n) (i : Fin 256) :
    tR n Q K r (256 * b + i.val) = (∑ j : Fin 256, if i.val ≤ j.val then sR n Q K r (256 * b + j.val) else 0) + tR n Q K r (256 * (b + 1)) := by
  unfold tR
  rw [← Finset.sum_Ico_consecutive _ (show 256 * b + i.val ≤ 256 * (b + 1) by omega) (by omega), sum_tile_from]

theorem tR_step (r : Fin 512) (b : ℕ) (hb : b ≤ n) :
    tR n Q K r (256 * b) = (∑ j : Fin 256, sR n Q K r (256 * b + j.val)) + tR n Q K r (256 * (b + 1)) := by
  have h := tR_tile n Q K r b hb 0
  simpa using h

/-- The block's mask leaves the keys that a query sees. -/
def Msk (b : ℕ) (m : FVec Ideal S512x256 .f32 → FVec Ideal S512x256 .f32) : Prop :=
  ∀ x (r : Fin 512) (j : Fin 256), m x (ix2 r j) = if 256 * b + j.val < 256 * n + r.val % 256 then x (ix2 r j) else 0
/-- A tile of keys or values holds the rows of block `b`. -/
def Blk (X : ℕ → Fin 128 → ℝ) (b : ℕ) (x : Vec Ideal S256x128 .bf16) : Prop := ∀ (j : Fin 256) (l : Fin 128), x (ix2 j l) = ((X (256 * b + j.val) l : ℝ) : EReal)
/-- The triangle of the sums that follow. -/
def Tri (t : FVec Ideal S512x256 .bf16) : Prop := ∀ (p : Fin 512) (j : Fin 256), t (ix2 p j) = ((if j.val ≤ p.val % 256 then -1 else 0 : ℝ) : EReal)
def Qry (q : FVec Ideal S512x128 .bf16) : Prop := ∀ (r : Fin 512) (l : Fin 128), q (ix2 r l) = ((Q r l : ℝ) : EReal)

theorem see_msk : Msk n n see := fun x r j => by rw [see_at]; exact if_congr (by omega) rfl rfl
theorem keep_msk (b : ℕ) (hb : b < n) : Msk n b keep := fun x r j => (if_pos (by omega)).symm

section Tile
variable {n Q K V} {b : ℕ} {m : FVec Ideal S512x256 .f32 → FVec Ideal S512x256 .f32} {t : FVec Ideal S512x256 .bf16} {q : FVec Ideal S512x128 .bf16}
  {kt vt : Vec Ideal S256x128 .bf16} {cur : FVec Ideal S512x1 .f32}
  (hm : Msk n b m) (ht : Tri t) (hq : Qry Q q) (hk : Blk K b kt) (hv : Blk V b vt) (hb : b ≤ n)

include hq hk in
theorem z_tile (r : Fin 512) (j : Fin 256) : tZ q kt (ix2 r j) = ((zR Q K r (256 * b + j.val) : ℝ) : EReal) := by
  rw [tZ_at, zR, coe_sum]
  exact Finset.sum_congr rfl fun l _ => by rw [hq, hk, EReal.coe_mul]

include hm hq hk in
theorem s_tile (r : Fin 512) (j : Fin 256) : m (tSp (tZ q kt)) (ix2 r j) = ((sR n Q K r (256 * b + j.val) : ℝ) : EReal) := by
  rw [hm, sR]
  split
  · exact tSp_at _ r j _ (z_tile hq hk r j)
  · rfl

include hm ht hq hk in
theorem sums_tile (r : Fin 512) (j : Fin 256) :
    tSums m t (tZ q kt) (ix2 r j) = ((-(∑ p : Fin 256, if j.val ≤ p.val then sR n Q K r (256 * b + p.val) else 0) : ℝ) : EReal) := by
  have e : ∀ p : Fin 512, tParts (m (tSp (tZ q kt))) (ix2 r p) * t (ix2 p j)
      = (((if p.val < 256 then (if j.val ≤ p.val then -sR n Q K r (256 * b + p.val) else 0) else 0 : ℝ)) : EReal) := fun p => by
    rw [tParts_at, ht]
    by_cases h : p.val < 256
    · rw [dif_pos h, if_pos h, s_tile hm hq hk, ← EReal.coe_mul, Nat.mod_eq_of_lt h]
      congr 1; split <;> simp
    · rw [dif_neg h, if_neg h, s_tile hm hq hk, ← EReal.coe_sub, sub_self, EReal.coe_zero, zero_mul]
  rw [tSums_at, Finset.sum_congr rfl fun p _ => e p, ← coe_sum]
  congr 1
  rw [← Finset.sum_neg_distrib, Finset.sum_fin_eq_sum_range, Finset.sum_fin_eq_sum_range, ← Finset.sum_range_add_sum_Ico _ (show 256 ≤ 512 by decide)]
  rw [Finset.sum_eq_zero (s := Finset.Ico 256 512), add_zero]
  · refine Finset.sum_congr rfl fun x hx => ?_
    have hx := Finset.mem_range.1 hx
    rw [dif_pos (show x < 512 by omega), dif_pos hx]
    simp only [hx, if_true]
    split <;> simp
  · intro x hx
    have hx := Finset.mem_Ico.1 hx
    rw [dif_pos hx.2]
    exact if_neg (by simpa using hx.1)

include hm ht hq hk hb in
theorem w_tile (hc : ∀ r, cur (ix2 r 0) = ((-tR n Q K r (256 * (b + 1)) : ℝ) : EReal)) (r : Fin 512) (j : Fin 256) :
    tW m t (tZ q kt) cur (ix2 r j) = ((wR n Q K r (256 * b + j.val) : ℝ) : EReal) := by
  unfold tW
  rw [hm, wR]
  split
  · rw [tW_at, z_tile hq hk, sums_tile hm ht hq hk, hc, ← EReal.coe_add, ← EReal.coe_add, Ideal.exp_coe, tR_tile n Q K r b hb j]
    congr 2; ring
  · rfl

include hm ht hq hk hv hb in
theorem pv_tile (hc : ∀ r, cur (ix2 r 0) = ((-tR n Q K r (256 * (b + 1)) : ℝ) : EReal)) (r : Fin 512) (l : Fin 128) :
    tPV m t q kt vt cur (ix2 r l) = ((∑ j ∈ Finset.Ico (256 * b) (256 * (b + 1)), wR n Q K r j * V j l : ℝ) : EReal) := by
  rw [tPV_at, sum_tile, coe_sum]
  exact Finset.sum_congr rfl fun j _ => by rw [w_tile hm ht hq hk hb hc, hv, EReal.coe_mul]

include hm hq hk hb in
theorem cur_tile (hc : ∀ r, cur (ix2 r 0) = ((-tR n Q K r (256 * (b + 1)) : ℝ) : EReal)) (r : Fin 512) :
    tCur m q kt cur (ix2 r 0) = ((-tR n Q K r (256 * b) : ℝ) : EReal) := by
  unfold tCur
  have e : (subf cur (tSum (m (tSp (tZ q kt)))) : FVec Ideal S512x1 .f32) (ix2 r 0) = cur (ix2 r 0) - tSum (m (tSp (tZ q kt))) (ix2 r 0) := by pointwise
  rw [e, hc, tSum_at, Finset.sum_congr rfl fun j _ => s_tile hm hq hk r j, ← coe_sum, ← EReal.coe_sub, tR_step n Q K r b hb]
  congr 1; ring
end Tile

/-- The accumulators once every block from `b` on is done. -/
structure Inv (b : ℕ) (s : St Ideal) : Prop where
  o : ∀ r l, s.o (ix3 0 r l) = ((∑ j ∈ Finset.Ico (256 * b) (256 * (n + 1)), wR n Q K r j * V j l : ℝ) : EReal)
  m : ∀ (r : Fin 512) (l : Fin 128), s.m (ix3 0 r l) = ((if b ≤ l.val ∧ l.val ≤ n then -tR n Q K r (256 * (l.val + 1)) else 0 : ℝ) : EReal)
  c : ∀ r, s.c (ix3 0 r 0) = ((-tR n Q K r (256 * b) : ℝ) : EReal)

theorem inv_zero : Inv n Q K V (n + 1) St.zero := by
  constructor
  · intro r l; simp [St.zero]
  · intro r l; rw [if_neg (by omega)]; simp [St.zero]
  · intro r; simp [St.zero, tR]

section Steps
variable {n Q K V} {b : ℕ} {m m' : FVec Ideal S512x256 .f32 → FVec Ideal S512x256 .f32} {t : FVec Ideal S512x256 .bf16} {q : FVec Ideal S512x128 .bf16}
  {kt vt kt' vt' : Vec Ideal S256x128 .bf16} {s : St Ideal} {kb kb' : BitVec 32}

theorem inC_at (x : Vec Ideal S1x512x1 .f32) (r : Fin 512) : inC x (ix2 r 0) = x (ix3 0 r 0) := by unfold inC; pointwise
theorem inO_at (x : Vec Ideal S1x512x128 .f32) (r : Fin 512) (l : Fin 128) : inO x (ix2 r l) = x (ix3 0 r l) := by unfold inO; pointwise
theorem outC_at (x : FVec Ideal S512x1 .f32) (r : Fin 512) : outC x (ix3 0 r 0) = x (ix2 r 0) := by unfold outC; pointwise
theorem outO_at (x : FVec Ideal S512x128 .f32) (r : Fin 512) (l : Fin 128) : outO x (ix3 0 r l) = x (ix2 r l) := by unfold outO; pointwise

theorem cm_step (hkb : kb = BitVec.ofNat 32 b) (hn : n < 8) (hb : b ≤ n) {cur : FVec Ideal S512x1 .f32} (hc : ∀ r, cur (ix2 r 0) = ((-tR n Q K r (256 * (b + 1)) : ℝ) : EReal))
    {cm : FVec Ideal S512x128 .f32} (hcm : ∀ (r : Fin 512) (l : Fin 128), cm (ix2 r l) = ((if b + 1 ≤ l.val ∧ l.val ≤ n then -tR n Q K r (256 * (l.val + 1)) else 0 : ℝ) : EReal))
    (r : Fin 512) (l : Fin 128) : tCm kb cur cm (ix2 r l) = ((if b ≤ l.val ∧ l.val ≤ n then -tR n Q K r (256 * (l.val + 1)) else 0 : ℝ) : EReal) := by
  have e : BitVec.ofNat 32 l.val = kb ↔ l.val = b := by
    subst hkb
    constructor
    · intro h
      have := congrArg BitVec.toNat h
      simp only [BitVec.toNat_ofNat] at this
      have := l.isLt; omega
    · intro h; rw [h]
  rw [tCm_at, hc, hcm]
  by_cases h : l.val = b
  · rw [if_pos (e.2 h), if_pos (by omega), h]
  · rw [if_neg (mt e.1 h)]; congr 1; exact if_congr (by omega) rfl rfl

theorem inv_one (hkb : kb = BitVec.ofNat 32 b) (hn : n < 8) (hb : b ≤ n) (hm : Msk n b m) (ht : Tri t) (hq : Qry Q q) (hk : Blk K b kt) (hv : Blk V b vt)
    (h : Inv n Q K V (b + 1) s) : Inv n Q K V b (St.one m t q kb kt vt s) := by
  have hc : ∀ r, inC s.c (ix2 r 0) = ((-tR n Q K r (256 * (b + 1)) : ℝ) : EReal) := fun r => (inC_at _ r).trans (h.c r)
  constructor
  · intro r l
    have e : (addf (inO s.o) (tPV m t q kt vt (inC s.c)) : FVec Ideal S512x128 .f32) (ix2 r l) = inO s.o (ix2 r l) + tPV m t q kt vt (inC s.c) (ix2 r l) := by pointwise
    refine (outO_at _ r l).trans (e.trans ?_)
    rw [inO_at, h.o, pv_tile hm ht hq hk hv hb hc, ← EReal.coe_add, sum_from _ hb, add_comm]
  · intro r l
    exact (outO_at _ r l).trans (cm_step hkb hn hb hc (fun r l => (inO_at _ r l).trans (h.m r l)) r l)
  · intro r
    exact (outC_at _ r).trans (cur_tile hm hq hk hb hc r)

theorem inv_two (hkb : kb = BitVec.ofNat 32 (b + 1)) (hkb' : kb' = BitVec.ofNat 32 b) (hn : n < 8) (hb : b + 1 ≤ n) (hm : Msk n (b + 1) m) (hm' : Msk n b m') (ht : Tri t)
    (hq : Qry Q q) (hk : Blk K (b + 1) kt) (hv : Blk V (b + 1) vt) (hk' : Blk K b kt') (hv' : Blk V b vt')
    (h : Inv n Q K V (b + 2) s) : Inv n Q K V b (St.two m m' t q kb kb' kt vt kt' vt' s) := by
  have hc : ∀ r, inC s.c (ix2 r 0) = ((-tR n Q K r (256 * (b + 1 + 1)) : ℝ) : EReal) := fun r => (inC_at _ r).trans (h.c r)
  have hc' := fun r => cur_tile hm hq hk hb hc r
  constructor
  · intro r l
    have e : (addf (inO s.o) (addf (tPV m t q kt vt (inC s.c)) (tPV m' t q kt' vt' (tCur m q kt (inC s.c)))) : FVec Ideal S512x128 .f32) (ix2 r l)
      = inO s.o (ix2 r l) + (tPV m t q kt vt (inC s.c) (ix2 r l) + tPV m' t q kt' vt' (tCur m q kt (inC s.c)) (ix2 r l)) := by pointwise
    refine (outO_at _ r l).trans (e.trans ?_)
    rw [inO_at, h.o, pv_tile hm ht hq hk hv hb hc, pv_tile hm' ht hq hk' hv' (by omega) hc', ← EReal.coe_add, ← EReal.coe_add,
      sum_from _ (show b ≤ n by omega), sum_from _ hb]
    congr 1; ring
  · intro r l
    exact (outO_at _ r l).trans (cm_step hkb' hn (by omega) hc' (cm_step hkb hn hb hc (fun r l => (inO_at _ r l).trans (h.m r l))) r l)
  · intro r
    exact (outC_at _ r).trans (cur_tile hm' hq hk' (by omega) hc' r)
end Steps

end Cert.Kernel2Ideal.Attn
-- ==== Proof.AttnTurn.lean ====
module

public import proofs.«01_k».proof.Proof.AttnStep
import all proofs.«01_k».proof.Proof.AttnStep
import all proofs.«01_k».proof.Proof.AttnTile
import all proofs.«01_k».proof.Proof.AttnFwd
import all proofs.«01_k».proof.Proof.Gen.Kernel2Ideal.Loops
import all proofs.«01_k».proof.Proof.Gen.Kernel2Ideal.Skeleton

@[expose] public section

set_option maxRecDepth 16384

noncomputable section

namespace Cert.Kernel2Ideal.Attn

open Idealize.ShloMosaic Idealize.ShloMosaic.TcCoe Idealize.ShloMosaic.Tactic
open Cert.Kernel2Ideal.Gen

variable {F : FTy → Type} [FloatOps F]

/-! # One query tile of the forward kernel: the first turn, the pairs before it, and what is written -/

variable (c : Dev nD) (i : grid0.Coords) (arg2 : Memref sig .tc .vmem S2048x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S512x256 .bf16) (harg5 : arg5.IsWhole) (arg6 : Memref sig .tc .vmem S1x2048x256 .bf16) (harg6 : arg6.IsWhole) (arg7 : Memref sig .tc .vmem S2048x512 .f32) (harg7 : arg7.IsWhole) (arg8 : Memref sig .tc .vmem S2x512x128 .f32) (harg8 : arg8.IsWhole) (arg9 : Memref sig .tc .vmem S2x512x128 .f32) (harg9 : arg9.IsWhole) (arg10 : Memref sig .tc .vmem S2x512x1 .f32) (harg10 : arg10.IsWhole)
variable (v1 : Vec F S512x256 .bf16) (k : Fin k0_t1_loop.trips)
variable (x2 : BufTy.Contents (Elt F) arg2.view.ty) (x3 : BufTy.Contents (Elt F) arg3.view.ty) (x4 : BufTy.Contents (Elt F) arg4.view.ty)

/-- The query tile's number. -/
abbrev qi : BitVec 32 := Scf.iv 0#32 1#32 k
abbrev qodd : BitVec 32 := fEven.sl.v69 k

section Even
variable (h1 : k0_cond1 k = 1#1) (h2 : ¬ k0_cond2 k = 1#1)

/-- The first turn of an even tile: the diagonal block. -/
def ev0 : St F := St.one see (k0_pay1 v1) (tq0 arg2 k x2) (qi k) (tK arg3 x3 _ (k0_off3_inb k h1)) (tK arg4 x4 _ (k0_off3_inb k h1)) St.zero
def ev1 : St F := St.one see (k0_pay1 v1) (tq1 arg2 k x2) (qi k) (tK arg3 x3 _ (k0_off4_inb k h1)) (tK arg4 x4 _ (k0_off4_inb k h1)) St.zero

theorem even_st0 : st0 arg8 arg9 arg10 (ev8 arg2 arg3 arg4 arg8 arg10 v1 k x2 x3 x4 h1) (ev9 arg9 arg10 k) (ev10 arg2 arg3 arg10 k x2 x3 h1) = ev0 arg2 arg3 arg4 v1 k x2 x3 x4 h1 := by
  obtain ⟨a, b, d, e, z⟩ := even_z (F := F) arg8 arg9 arg10
  refine St.ext ((rdO0 ..).trans ((rdO0' ..).trans ?_)) ((rdO0 ..).trans ((rdO0' ..).trans ?_)) ((rdC0 ..).trans ((rdC0' ..).trans ?_))
  · show oneO see (k0_pay1 v1) _ _ _ (fEven.sl.v144 arg10) (fEven.sl.v240 arg8) = _; rw [a, z]; rfl
  · show oneM _ (fEven.sl.v144 arg10) (fEven.sl.v146 arg9) = _; rw [a, d]; rfl
  · show oneC see _ _ (fEven.sl.v144 arg10) = _; rw [a]; rfl

theorem even_st1 : st1 arg8 arg9 arg10 (ev8 arg2 arg3 arg4 arg8 arg10 v1 k x2 x3 x4 h1) (ev9 arg9 arg10 k) (ev10 arg2 arg3 arg10 k x2 x3 h1) = ev1 arg2 arg3 arg4 v1 k x2 x3 x4 h1 := by
  obtain ⟨a, b, d, e, z⟩ := even_z (F := F) arg8 arg9 arg10
  have z' : fEven.sl.v252 arg2 arg3 arg4 arg8 arg10 lanes v1 x2 x3 x4 k h1 = St.zero.o :=
    (View.readCov_skip _ _ _ _ _ (by decide)).trans (View.readCov_fill _ _ _ _ _ (by decide))
  refine St.ext ((rdO1 ..).trans ?_) ((rdO1 ..).trans ?_) ((rdC1 ..).trans ?_)
  · show oneO see (k0_pay1 v1) _ _ _ (fEven.sl.v148 arg10) (fEven.sl.v252 arg2 arg3 arg4 arg8 arg10 lanes v1 x2 x3 x4 k h1) = _; rw [b, z']; rfl
  · show oneM _ (fEven.sl.v148 arg10) (fEven.sl.v150 arg9) = _; rw [b, e]; rfl
  · show oneC see _ _ (fEven.sl.v148 arg10) = _; rw [b]; rfl
end Even

/-- How many pairs lie before the first turn. -/
abbrev pairs : ℕ := Scf.trips (k0_t2_loop k).lb (k0_t2_loop k).ub (k0_t2_loop k).st

/-- The tile's accumulators at its end, from those after its first turn. -/
def end0 (s : St F) : St F := it0 arg3 arg4 (k0_pay1 v1) k (qi k) (qodd k) (tq0 arg2 k x2) x3 x4 (pairs k) s
def end1 (s : St F) : St F := it1 arg3 arg4 (k0_pay1 v1) k (qi k) (qodd k) (tq1 arg2 k x2) x3 x4 (pairs k) s

/-- What a tile writes into the output: the two lane pairs, each head from its own half. -/
def oPc (a0 b0 a1 b1 : Vec F S1x256x128 .f32) : List (View.Piece (Elt F) S1x2048x256 .bf16) :=
  [⟨Rect.unit (s := S1x2048x256) (k0_off22 k) S1x256x128.size (k0_off22_inb k), k0_pay5 a1 b1⟩,
   ⟨Rect.unit (s := S1x2048x256) (k0_off19 k) S1x256x128.size (k0_off19_inb k), k0_pay147 lanes a0 b0⟩]
/-- What a tile writes into the carried sums. -/
def cPc (a0 b0 a1 b1 : Vec F S1x256x128 .f32) : List (View.Piece (Elt F) S2048x512 .f32) :=
  [⟨Rect.unit (s := S2048x512) (k0_off21 k) S256x128.size (k0_off21_inb k), k0_pay4 b1⟩,
   ⟨Rect.unit (s := S2048x512) (k0_off20 k) S256x128.size (k0_off20_inb k), k0_pay4 a1⟩,
   ⟨Rect.unit (s := S2048x512) (k0_off18 k) S256x128.size (k0_off18_inb k), k0_pay4 b0⟩,
   ⟨Rect.unit (s := S2048x512) (k0_off17 k) S256x128.size (k0_off17_inb k), k0_pay4 a0⟩]
def oPieces (s0 s1 : St F) := oPc k (half0 s0.o) (half1 s0.o) (half0 s1.o) (half1 s1.o)
def cPieces (s0 s1 : St F) := cPc k (half0 s0.m) (half1 s0.m) (half0 s1.m) (half1 s1.m)

section Final
variable (a12 a76 a97 : BitVec 32) (a87 : BitVec 1) (L8 L9 : List (View.Piece (Elt F) S2x512x128 .f32)) (L10 : List (View.Piece (Elt F) S2x512x1 .f32))
abbrev j8 := arg8.view.writes (Elt F) arg8.view.junk L8
abbrev j9 := arg9.view.writes (Elt F) arg9.view.junk L9
abbrev j10 := arg10.view.writes (Elt F) arg10.view.junk L10
abbrev sEnd := st_k0_t2 (F := F) Variants.none c none i arg2 harg2 arg3 harg3 arg4 harg4 arg5 harg5 arg6 harg6 arg7 harg7 arg8 harg8 arg9 harg9 arg10 harg10 lanes (k0_pay1 v1) k (qi k) a12 (tq0 arg2 k x2) (tq1 arg2 k x2) (qodd k) 2#32 a76 a87 x3 x4 (j8 arg8 L8) (j9 arg9 L9) (j10 arg10 L10) 0#32 (pairs k)
abbrev s3 := st_k0_t3 (F := F) Variants.none c none i arg2 harg2 arg3 harg3 arg4 harg4 arg5 harg5 arg6 harg6 arg7 harg7 arg8 harg8 arg9 harg9 arg10 harg10 lanes (k0_pay1 v1) k (qi k) a12 (tq0 arg2 k x2) (tq1 arg2 k x2) (qodd k) 2#32 a76 a87 a97 x3 x4
  (arg8.view.writes (Elt F) arg8.view.junk ((sEnd c i arg2 harg2 arg3 harg3 arg4 harg4 arg5 harg5 arg6 harg6 arg7 harg7 arg8 harg8 arg9 harg9 arg10 harg10 v1 k x2 x3 x4 a12 a76 a87 L8 L9 L10).2.1 ++ L8)) (arg9.view.writes (Elt F) arg9.view.junk ((sEnd c i arg2 harg2 arg3 harg3 arg4 harg4 arg5 harg5 arg6 harg6 arg7 harg7 arg8 harg8 arg9 harg9 arg10 harg10 v1 k x2 x3 x4 a12 a76 a87 L8 L9 L10).2.2.1 ++ L9)) (arg10.view.writes (Elt F) arg10.view.junk ((sEnd c i arg2 harg2 arg3 harg3 arg4 harg4 arg5 harg5 arg6 harg6 arg7 harg7 arg8 harg8 arg9 harg9 arg10 harg10 v1 k x2 x3 x4 a12 a76 a87 L8 L9 L10).2.2.2 ++ L10))
  (sEnd c i arg2 harg2 arg3 harg3 arg4 harg4 arg5 harg5 arg6 harg6 arg7 harg7 arg8 harg8 arg9 harg9 arg10 harg10 v1 k x2 x3 x4 a12 a76 a87 L8 L9 L10).1 (Scf.trips (k0_t3_loop k).lb (k0_t3_loop k).ub (k0_t3_loop k).st)
abbrev e8 := arg8.view.writes (Elt F) arg8.view.junk ((s3 c i arg2 harg2 arg3 harg3 arg4 harg4 arg5 harg5 arg6 harg6 arg7 harg7 arg8 harg8 arg9 harg9 arg10 harg10 v1 k x2 x3 x4 a12 a76 a97 a87 L8 L9 L10).2.1 ++ ((sEnd c i arg2 harg2 arg3 harg3 arg4 harg4 arg5 harg5 arg6 harg6 arg7 harg7 arg8 harg8 arg9 harg9 arg10 harg10 v1 k x2 x3 x4 a12 a76 a87 L8 L9 L10).2.1 ++ L8))
abbrev e9 := arg9.view.writes (Elt F) arg9.view.junk ((s3 c i arg2 harg2 arg3 harg3 arg4 harg4 arg5 harg5 arg6 harg6 arg7 harg7 arg8 harg8 arg9 harg9 arg10 harg10 v1 k x2 x3 x4 a12 a76 a97 a87 L8 L9 L10).2.2.1 ++ ((sEnd c i arg2 harg2 arg3 harg3 arg4 harg4 arg5 harg5 arg6 harg6 arg7 harg7 arg8 harg8 arg9 harg9 arg10 harg10 v1 k x2 x3 x4 a12 a76 a87 L8 L9 L10).2.2.1 ++ L9))
abbrev e10 := arg10.view.writes (Elt F) arg10.view.junk ((s3 c i arg2 harg2 arg3 harg3 arg4 harg4 arg5 harg5 arg6 harg6 arg7 harg7 arg8 harg8 arg9 harg9 arg10 harg10 v1 k x2 x3 x4 a12 a76 a97 a87 L8 L9 L10).2.2.2 ++ ((sEnd c i arg2 harg2 arg3 harg3 arg4 harg4 arg5 harg5 arg6 harg6 arg7 harg7 arg8 harg8 arg9 harg9 arg10 harg10 v1 k x2 x3 x4 a12 a76 a87 L8 L9 L10).2.2.2 ++ L10))

theorem final : st0 arg8 arg9 arg10 (e8 c i arg2 harg2 arg3 harg3 arg4 harg4 arg5 harg5 arg6 harg6 arg7 harg7 arg8 harg8 arg9 harg9 arg10 harg10 v1 k x2 x3 x4 a12 a76 a97 a87 L8 L9 L10) (e9 c i arg2 harg2 arg3 harg3 arg4 harg4 arg5 harg5 arg6 harg6 arg7 harg7 arg8 harg8 arg9 harg9 arg10 harg10 v1 k x2 x3 x4 a12 a76 a97 a87 L8 L9 L10) (e10 c i arg2 harg2 arg3 harg3 arg4 harg4 arg5 harg5 arg6 harg6 arg7 harg7 arg8 harg8 arg9 harg9 arg10 harg10 v1 k x2 x3 x4 a12 a76 a97 a87 L8 L9 L10) = end0 arg2 arg3 arg4 v1 k x2 x3 x4 (st0 arg8 arg9 arg10 (j8 arg8 L8) (j9 arg9 L9) (j10 arg10 L10))
    ∧ st1 arg8 arg9 arg10 (e8 c i arg2 harg2 arg3 harg3 arg4 harg4 arg5 harg5 arg6 harg6 arg7 harg7 arg8 harg8 arg9 harg9 arg10 harg10 v1 k x2 x3 x4 a12 a76 a97 a87 L8 L9 L10) (e9 c i arg2 harg2 arg3 harg3 arg4 harg4 arg5 harg5 arg6 harg6 arg7 harg7 arg8 harg8 arg9 harg9 arg10 harg10 v1 k x2 x3 x4 a12 a76 a97 a87 L8 L9 L10) (e10 c i arg2 harg2 arg3 harg3 arg4 harg4 arg5 harg5 arg6 harg6 arg7 harg7 arg8 harg8 arg9 harg9 arg10 harg10 v1 k x2 x3 x4 a12 a76 a97 a87 L8 L9 L10) = end1 arg2 arg3 arg4 v1 k x2 x3 x4 (st1 arg8 arg9 arg10 (j8 arg8 L8) (j9 arg9 L9) (j10 arg10 L10)) := by
  have h3 : s3 c i arg2 harg2 arg3 harg3 arg4 harg4 arg5 harg5 arg6 harg6 arg7 harg7 arg8 harg8 arg9 harg9 arg10 harg10 v1 k x2 x3 x4 a12 a76 a97 a87 L8 L9 L10 = ((sEnd c i arg2 harg2 arg3 harg3 arg4 harg4 arg5 harg5 arg6 harg6 arg7 harg7 arg8 harg8 arg9 harg9 arg10 harg10 v1 k x2 x3 x4 a12 a76 a87 L8 L9 L10).1, [], [], []) := by unfold s3; rw [no_trip3 k]; rfl
  unfold e8 e9 e10
  rw [h3]
  simp only [List.nil_append, View.writes_append]
  exact loop2 c i arg2 harg2 arg3 harg3 arg4 harg4 arg5 harg5 arg6 harg6 arg7 harg7 arg8 harg8 arg9 harg9 arg10 harg10 (k0_pay1 v1) k (qi k) a12 (qodd k) 2#32 a76 a87 (tq0 arg2 k x2) (tq1 arg2 k x2) x3 x4 (j8 arg8 L8) (j9 arg9 L9) (j10 arg10 L10) 0#32 (pairs k) le_rfl
end Final

section Even
variable (h1 : k0_cond1 k = 1#1) (h2 : ¬ k0_cond2 k = 1#1)
set_option maxHeartbeats 1000000 in
theorem even_pieces : (fEven c i arg2 harg2 arg3 harg3 arg4 harg4 arg5 harg5 arg6 harg6 arg7 harg7 arg8 harg8 arg9 harg9 arg10 harg10 lanes v1 x2 x3 x4 k h1 h2).1 = oPieces k (end0 arg2 arg3 arg4 v1 k x2 x3 x4 (ev0 arg2 arg3 arg4 v1 k x2 x3 x4 h1)) (end1 arg2 arg3 arg4 v1 k x2 x3 x4 (ev1 arg2 arg3 arg4 v1 k x2 x3 x4 h1))
    ∧ (fEven c i arg2 harg2 arg3 harg3 arg4 harg4 arg5 harg5 arg6 harg6 arg7 harg7 arg8 harg8 arg9 harg9 arg10 harg10 lanes v1 x2 x3 x4 k h1 h2).2.1 = cPieces k (end0 arg2 arg3 arg4 v1 k x2 x3 x4 (ev0 arg2 arg3 arg4 v1 k x2 x3 x4 h1)) (end1 arg2 arg3 arg4 v1 k x2 x3 x4 (ev1 arg2 arg3 arg4 v1 k x2 x3 x4 h1)) := by
  obtain ⟨f0, f1⟩ := final c i arg2 harg2 arg3 harg3 arg4 harg4 arg5 harg5 arg6 harg6 arg7 harg7 arg8 harg8 arg9 harg9 arg10 harg10 v1 k x2 x3 x4 (fEven.sl.v12 k) (fEven.sl.v76 k) (fEven.sl.v97 k) (fEven.sl.v87 k)
    (fEven.sl.H8_3 arg2 arg3 arg4 arg8 arg10 lanes v1 x2 x3 x4 k h1) (fEven.sl.H9_3 (F := F) arg9 arg10 lanes k) (fEven.sl.H10_3 arg2 arg3 arg10 lanes x2 x3 k h1)
  rw [even_st0] at f0; rw [even_st1] at f1
  rw [← f0, ← f1]
  constructor
  · unfold fEven
    have e00 : fEven.sl.v110 c i arg2 harg2 arg3 harg3 arg4 harg4 arg5 harg5 arg6 harg6 arg7 harg7 arg8 harg8 arg9 harg9 arg10 harg10 lanes v1 x2 x3 x4 k h1 = _ := rdH00 arg8.view (e8 c i arg2 harg2 arg3 harg3 arg4 harg4 arg5 harg5 arg6 harg6 arg7 harg7 arg8 harg8 arg9 harg9 arg10 harg10 v1 k x2 x3 x4 (fEven.sl.v12 k) (fEven.sl.v76 k) (fEven.sl.v97 k) (fEven.sl.v87 k) (fEven.sl.H8_3 arg2 arg3 arg4 arg8 arg10 lanes v1 x2 x3 x4 k h1) (fEven.sl.H9_3 (F := F) arg9 arg10 lanes k) (fEven.sl.H10_3 arg2 arg3 arg10 lanes x2 x3 k h1))
    have e01 : fEven.sl.v112 c i arg2 harg2 arg3 harg3 arg4 harg4 arg5 harg5 arg6 harg6 arg7 harg7 arg8 harg8 arg9 harg9 arg10 harg10 lanes v1 x2 x3 x4 k h1 = _ := rdH01 arg8.view (e8 c i arg2 harg2 arg3 harg3 arg4 harg4 arg5 harg5 arg6 harg6 arg7 harg7 arg8 harg8 arg9 harg9 arg10 harg10 v1 k x2 x3 x4 (fEven.sl.v12 k) (fEven.sl.v76 k) (fEven.sl.v97 k) (fEven.sl.v87 k) (fEven.sl.H8_3 arg2 arg3 arg4 arg8 arg10 lanes v1 x2 x3 x4 k h1) (fEven.sl.H9_3 (F := F) arg9 arg10 lanes k) (fEven.sl.H10_3 arg2 arg3 arg10 lanes x2 x3 k h1))
    have e10 : fEven.sl.v132 c i arg2 harg2 arg3 harg3 arg4 harg4 arg5 harg5 arg6 harg6 arg7 harg7 arg8 harg8 arg9 harg9 arg10 harg10 lanes v1 x2 x3 x4 k h1 = _ := rdH10 arg8.view (e8 c i arg2 harg2 arg3 harg3 arg4 harg4 arg5 harg5 arg6 harg6 arg7 harg7 arg8 harg8 arg9 harg9 arg10 harg10 v1 k x2 x3 x4 (fEven.sl.v12 k) (fEven.sl.v76 k) (fEven.sl.v97 k) (fEven.sl.v87 k) (fEven.sl.H8_3 arg2 arg3 arg4 arg8 arg10 lanes v1 x2 x3 x4 k h1) (fEven.sl.H9_3 (F := F) arg9 arg10 lanes k) (fEven.sl.H10_3 arg2 arg3 arg10 lanes x2 x3 k h1))
    have e11 : fEven.sl.v134 c i arg2 harg2 arg3 harg3 arg4 harg4 arg5 harg5 arg6 harg6 arg7 harg7 arg8 harg8 arg9 harg9 arg10 harg10 lanes v1 x2 x3 x4 k h1 = _ := rdH11 arg8.view (e8 c i arg2 harg2 arg3 harg3 arg4 harg4 arg5 harg5 arg6 harg6 arg7 harg7 arg8 harg8 arg9 harg9 arg10 harg10 v1 k x2 x3 x4 (fEven.sl.v12 k) (fEven.sl.v76 k) (fEven.sl.v97 k) (fEven.sl.v87 k) (fEven.sl.H8_3 arg2 arg3 arg4 arg8 arg10 lanes v1 x2 x3 x4 k h1) (fEven.sl.H9_3 (F := F) arg9 arg10 lanes k) (fEven.sl.H10_3 arg2 arg3 arg10 lanes x2 x3 k h1))
    exact congr (congr (congr (congrArg (oPc k) e00) e01) e10) e11
  · unfold fEven
    have e00 : fEven.sl.v100 c i arg2 harg2 arg3 harg3 arg4 harg4 arg5 harg5 arg6 harg6 arg7 harg7 arg8 harg8 arg9 harg9 arg10 harg10 lanes v1 x2 x3 x4 k h1 = _ := rdH00 arg9.view (e9 c i arg2 harg2 arg3 harg3 arg4 harg4 arg5 harg5 arg6 harg6 arg7 harg7 arg8 harg8 arg9 harg9 arg10 harg10 v1 k x2 x3 x4 (fEven.sl.v12 k) (fEven.sl.v76 k) (fEven.sl.v97 k) (fEven.sl.v87 k) (fEven.sl.H8_3 arg2 arg3 arg4 arg8 arg10 lanes v1 x2 x3 x4 k h1) (fEven.sl.H9_3 (F := F) arg9 arg10 lanes k) (fEven.sl.H10_3 arg2 arg3 arg10 lanes x2 x3 k h1))
    have e01 : fEven.sl.v104 c i arg2 harg2 arg3 harg3 arg4 harg4 arg5 harg5 arg6 harg6 arg7 harg7 arg8 harg8 arg9 harg9 arg10 harg10 lanes v1 x2 x3 x4 k h1 = _ := rdH01 arg9.view (e9 c i arg2 harg2 arg3 harg3 arg4 harg4 arg5 harg5 arg6 harg6 arg7 harg7 arg8 harg8 arg9 harg9 arg10 harg10 v1 k x2 x3 x4 (fEven.sl.v12 k) (fEven.sl.v76 k) (fEven.sl.v97 k) (fEven.sl.v87 k) (fEven.sl.H8_3 arg2 arg3 arg4 arg8 arg10 lanes v1 x2 x3 x4 k h1) (fEven.sl.H9_3 (F := F) arg9 arg10 lanes k) (fEven.sl.H10_3 arg2 arg3 arg10 lanes x2 x3 k h1))
    have e10 : fEven.sl.v122 c i arg2 harg2 arg3 harg3 arg4 harg4 arg5 harg5 arg6 harg6 arg7 harg7 arg8 harg8 arg9 harg9 arg10 harg10 lanes v1 x2 x3 x4 k h1 = _ := rdH10 arg9.view (e9 c i arg2 harg2 arg3 harg3 arg4 harg4 arg5 harg5 arg6 harg6 arg7 harg7 arg8 harg8 arg9 harg9 arg10 harg10 v1 k x2 x3 x4 (fEven.sl.v12 k) (fEven.sl.v76 k) (fEven.sl.v97 k) (fEven.sl.v87 k) (fEven.sl.H8_3 arg2 arg3 arg4 arg8 arg10 lanes v1 x2 x3 x4 k h1) (fEven.sl.H9_3 (F := F) arg9 arg10 lanes k) (fEven.sl.H10_3 arg2 arg3 arg10 lanes x2 x3 k h1))
    have e11 : fEven.sl.v126 c i arg2 harg2 arg3 harg3 arg4 harg4 arg5 harg5 arg6 harg6 arg7 harg7 arg8 harg8 arg9 harg9 arg10 harg10 lanes v1 x2 x3 x4 k h1 = _ := rdH11 arg9.view (e9 c i arg2 harg2 arg3 harg3 arg4 harg4 arg5 harg5 arg6 harg6 arg7 harg7 arg8 harg8 arg9 harg9 arg10 harg10 v1 k x2 x3 x4 (fEven.sl.v12 k) (fEven.sl.v76 k) (fEven.sl.v97 k) (fEven.sl.v87 k) (fEven.sl.H8_3 arg2 arg3 arg4 arg8 arg10 lanes v1 x2 x3 x4 k h1) (fEven.sl.H9_3 (F := F) arg9 arg10 lanes k) (fEven.sl.H10_3 arg2 arg3 arg10 lanes x2 x3 k h1))
    exact congr (congr (congr (congrArg (cPc k) e00) e01) e10) e11
end Even

section Odd
variable (h1 : ¬ k0_cond1 k = 1#1) (h2 : k0_cond2 k = 1#1)

/-- The first turn of an odd tile: the diagonal block and the one before it. -/
def od0 : St F := St.two see keep (k0_pay1 v1) (tq0 arg2 k x2) (qi k) (Scalar.subi (qi k) 1#32) (tK arg3 x3 _ (k0_off5_inb k h2)) (tK arg4 x4 _ (k0_off5_inb k h2))
  (tK arg3 x3 _ (k0_off7_inb k h2)) (tK arg4 x4 _ (k0_off7_inb k h2)) St.zero
def od1 : St F := St.two see keep (k0_pay1 v1) (tq1 arg2 k x2) (qi k) (Scalar.subi (qi k) 1#32) (tK arg3 x3 _ (k0_off6_inb k h2)) (tK arg4 x4 _ (k0_off6_inb k h2))
  (tK arg3 x3 _ (k0_off8_inb k h2)) (tK arg4 x4 _ (k0_off8_inb k h2)) St.zero

theorem odd_st : st0 arg8 arg9 arg10 (j8 arg8 (fOdd.sl.H8_3 arg2 arg3 arg4 arg8 arg10 lanes v1 x2 x3 x4 k h2)) (j9 arg9 (fOdd.sl.H9_3 arg2 arg3 arg9 arg10 lanes x2 x3 k h2)) (j10 arg10 (fOdd.sl.H10_3 arg2 arg3 arg10 lanes x2 x3 k h2)) = od0 arg2 arg3 arg4 v1 k x2 x3 x4 h2
    ∧ st1 arg8 arg9 arg10 (j8 arg8 (fOdd.sl.H8_3 arg2 arg3 arg4 arg8 arg10 lanes v1 x2 x3 x4 k h2)) (j9 arg9 (fOdd.sl.H9_3 arg2 arg3 arg9 arg10 lanes x2 x3 k h2)) (j10 arg10 (fOdd.sl.H10_3 arg2 arg3 arg10 lanes x2 x3 k h2)) = od1 arg2 arg3 arg4 v1 k x2 x3 x4 h2 := by
  have a : fOdd.sl.v145 (F := F) arg10 = St.zero.c := View.readCov_fill _ _ _ _ _ (by decide)
  have b : fOdd.sl.v149 (F := F) arg10 = St.zero.c := View.readCov_fill _ _ _ _ _ (by decide)
  have d : fOdd.sl.v147 (F := F) arg9 = St.zero.m := View.readCov_fill _ _ _ _ _ (by decide)
  have e : fOdd.sl.v151 (F := F) arg9 = St.zero.m := View.readCov_fill _ _ _ _ _ (by decide)
  have z : fOdd.sl.v323 (F := F) arg8 = St.zero.o := View.readCov_fill _ _ _ _ _ (by decide)
  have z' : fOdd.sl.v335 arg2 arg3 arg4 arg8 arg10 lanes v1 x2 x3 x4 k h2 = St.zero.o :=
    (View.readCov_skip _ _ _ _ _ (by decide)).trans (View.readCov_fill _ _ _ _ _ (by decide))
  constructor
  · refine St.ext ((rdO0 ..).trans ((rdO0' ..).trans ?_)) ((rdO0 ..).trans ((rdO0' ..).trans ?_)) ((rdC0 ..).trans ((rdC0' ..).trans ?_))
    · show twoO see keep (k0_pay1 v1) _ _ _ _ _ (fOdd.sl.v145 arg10) (fOdd.sl.v323 arg8) = _; rw [a, z]; rfl
    · show twoM see _ _ _ _ (fOdd.sl.v145 arg10) (fOdd.sl.v147 arg9) = _; rw [a, d]; rfl
    · show twoC see keep _ _ _ (fOdd.sl.v145 arg10) = _; rw [a]; rfl
  · refine St.ext ((rdO1 ..).trans ?_) ((rdO1 ..).trans ?_) ((rdC1 ..).trans ?_)
    · show twoO see keep (k0_pay1 v1) _ _ _ _ _ (fOdd.sl.v149 arg10) (fOdd.sl.v335 arg2 arg3 arg4 arg8 arg10 lanes v1 x2 x3 x4 k h2) = _; rw [b, z']; rfl
    · show twoM see _ _ _ _ (fOdd.sl.v149 arg10) (fOdd.sl.v151 arg9) = _; rw [b, e]; rfl
    · show twoC see keep _ _ _ (fOdd.sl.v149 arg10) = _; rw [b]; rfl

set_option maxHeartbeats 1000000 in
theorem odd_pieces : (fOdd c i arg2 harg2 arg3 harg3 arg4 harg4 arg5 harg5 arg6 harg6 arg7 harg7 arg8 harg8 arg9 harg9 arg10 harg10 lanes v1 x2 x3 x4 k h1 h2).1 = oPieces k (end0 arg2 arg3 arg4 v1 k x2 x3 x4 (od0 arg2 arg3 arg4 v1 k x2 x3 x4 h2)) (end1 arg2 arg3 arg4 v1 k x2 x3 x4 (od1 arg2 arg3 arg4 v1 k x2 x3 x4 h2))
    ∧ (fOdd c i arg2 harg2 arg3 harg3 arg4 harg4 arg5 harg5 arg6 harg6 arg7 harg7 arg8 harg8 arg9 harg9 arg10 harg10 lanes v1 x2 x3 x4 k h1 h2).2.1 = cPieces k (end0 arg2 arg3 arg4 v1 k x2 x3 x4 (od0 arg2 arg3 arg4 v1 k x2 x3 x4 h2)) (end1 arg2 arg3 arg4 v1 k x2 x3 x4 (od1 arg2 arg3 arg4 v1 k x2 x3 x4 h2)) := by
  obtain ⟨f0, f1⟩ := final c i arg2 harg2 arg3 harg3 arg4 harg4 arg5 harg5 arg6 harg6 arg7 harg7 arg8 harg8 arg9 harg9 arg10 harg10 v1 k x2 x3 x4 (fOdd.sl.v12 k) (fOdd.sl.v76 k) (fOdd.sl.v97 k) (fOdd.sl.v87 k) (fOdd.sl.H8_3 arg2 arg3 arg4 arg8 arg10 lanes v1 x2 x3 x4 k h2) (fOdd.sl.H9_3 arg2 arg3 arg9 arg10 lanes x2 x3 k h2) (fOdd.sl.H10_3 arg2 arg3 arg10 lanes x2 x3 k h2)
  obtain ⟨g0, g1⟩ := odd_st arg2 arg3 arg4 arg8 arg9 arg10 v1 k x2 x3 x4 h2
  rw [g0] at f0; rw [g1] at f1
  rw [← f0, ← f1]
  constructor
  · unfold fOdd
    have e00 : fOdd.sl.v110 c i arg2 harg2 arg3 harg3 arg4 harg4 arg5 harg5 arg6 harg6 arg7 harg7 arg8 harg8 arg9 harg9 arg10 harg10 lanes v1 x2 x3 x4 k h2 = _ := rdH00 arg8.view (e8 c i arg2 harg2 arg3 harg3 arg4 harg4 arg5 harg5 arg6 harg6 arg7 harg7 arg8 harg8 arg9 harg9 arg10 harg10 v1 k x2 x3 x4 (fOdd.sl.v12 k) (fOdd.sl.v76 k) (fOdd.sl.v97 k) (fOdd.sl.v87 k) (fOdd.sl.H8_3 arg2 arg3 arg4 arg8 arg10 lanes v1 x2 x3 x4 k h2) (fOdd.sl.H9_3 arg2 arg3 arg9 arg10 lanes x2 x3 k h2) (fOdd.sl.H10_3 arg2 arg3 arg10 lanes x2 x3 k h2))
    have e01 : fOdd.sl.v112 c i arg2 harg2 arg3 harg3 arg4 harg4 arg5 harg5 arg6 harg6 arg7 harg7 arg8 harg8 arg9 harg9 arg10 harg10 lanes v1 x2 x3 x4 k h2 = _ := rdH01 arg8.view (e8 c i arg2 harg2 arg3 harg3 arg4 harg4 arg5 harg5 arg6 harg6 arg7 harg7 arg8 harg8 arg9 harg9 arg10 harg10 v1 k x2 x3 x4 (fOdd.sl.v12 k) (fOdd.sl.v76 k) (fOdd.sl.v97 k) (fOdd.sl.v87 k) (fOdd.sl.H8_3 arg2 arg3 arg4 arg8 arg10 lanes v1 x2 x3 x4 k h2) (fOdd.sl.H9_3 arg2 arg3 arg9 arg10 lanes x2 x3 k h2) (fOdd.sl.H10_3 arg2 arg3 arg10 lanes x2 x3 k h2))
    have e10 : fOdd.sl.v132 c i arg2 harg2 arg3 harg3 arg4 harg4 arg5 harg5 arg6 harg6 arg7 harg7 arg8 harg8 arg9 harg9 arg10 harg10 lanes v1 x2 x3 x4 k h2 = _ := rdH10 arg8.view (e8 c i arg2 harg2 arg3 harg3 arg4 harg4 arg5 harg5 arg6 harg6 arg7 harg7 arg8 harg8 arg9 harg9 arg10 harg10 v1 k x2 x3 x4 (fOdd.sl.v12 k) (fOdd.sl.v76 k) (fOdd.sl.v97 k) (fOdd.sl.v87 k) (fOdd.sl.H8_3 arg2 arg3 arg4 arg8 arg10 lanes v1 x2 x3 x4 k h2) (fOdd.sl.H9_3 arg2 arg3 arg9 arg10 lanes x2 x3 k h2) (fOdd.sl.H10_3 arg2 arg3 arg10 lanes x2 x3 k h2))
    have e11 : fOdd.sl.v134 c i arg2 harg2 arg3 harg3 arg4 harg4 arg5 harg5 arg6 harg6 arg7 harg7 arg8 harg8 arg9 harg9 arg10 harg10 lanes v1 x2 x3 x4 k h2 = _ := rdH11 arg8.view (e8 c i arg2 harg2 arg3 harg3 arg4 harg4 arg5 harg5 arg6 harg6 arg7 harg7 arg8 harg8 arg9 harg9 arg10 harg10 v1 k x2 x3 x4 (fOdd.sl.v12 k) (fOdd.sl.v76 k) (fOdd.sl.v97 k) (fOdd.sl.v87 k) (fOdd.sl.H8_3 arg2 arg3 arg4 arg8 arg10 lanes v1 x2 x3 x4 k h2) (fOdd.sl.H9_3 arg2 arg3 arg9 arg10 lanes x2 x3 k h2) (fOdd.sl.H10_3 arg2 arg3 arg10 lanes x2 x3 k h2))
    exact congr (congr (congr (congrArg (oPc k) e00) e01) e10) e11
  · unfold fOdd
    have e00 : fOdd.sl.v100 c i arg2 harg2 arg3 harg3 arg4 harg4 arg5 harg5 arg6 harg6 arg7 harg7 arg8 harg8 arg9 harg9 arg10 harg10 lanes v1 x2 x3 x4 k h2 = _ := rdH00 arg9.view (e9 c i arg2 harg2 arg3 harg3 arg4 harg4 arg5 harg5 arg6 harg6 arg7 harg7 arg8 harg8 arg9 harg9 arg10 harg10 v1 k x2 x3 x4 (fOdd.sl.v12 k) (fOdd.sl.v76 k) (fOdd.sl.v97 k) (fOdd.sl.v87 k) (fOdd.sl.H8_3 arg2 arg3 arg4 arg8 arg10 lanes v1 x2 x3 x4 k h2) (fOdd.sl.H9_3 arg2 arg3 arg9 arg10 lanes x2 x3 k h2) (fOdd.sl.H10_3 arg2 arg3 arg10 lanes x2 x3 k h2))
    have e01 : fOdd.sl.v104 c i arg2 harg2 arg3 harg3 arg4 harg4 arg5 harg5 arg6 harg6 arg7 harg7 arg8 harg8 arg9 harg9 arg10 harg10 lanes v1 x2 x3 x4 k h2 = _ := rdH01 arg9.view (e9 c i arg2 harg2 arg3 harg3 arg4 harg4 arg5 harg5 arg6 harg6 arg7 harg7 arg8 harg8 arg9 harg9 arg10 harg10 v1 k x2 x3 x4 (fOdd.sl.v12 k) (fOdd.sl.v76 k) (fOdd.sl.v97 k) (fOdd.sl.v87 k) (fOdd.sl.H8_3 arg2 arg3 arg4 arg8 arg10 lanes v1 x2 x3 x4 k h2) (fOdd.sl.H9_3 arg2 arg3 arg9 arg10 lanes x2 x3 k h2) (fOdd.sl.H10_3 arg2 arg3 arg10 lanes x2 x3 k h2))
    have e10 : fOdd.sl.v122 c i arg2 harg2 arg3 harg3 arg4 harg4 arg5 harg5 arg6 harg6 arg7 harg7 arg8 harg8 arg9 harg9 arg10 harg10 lanes v1 x2 x3 x4 k h2 = _ := rdH10 arg9.view (e9 c i arg2 harg2 arg3 harg3 arg4 harg4 arg5 harg5 arg6 harg6 arg7 harg7 arg8 harg8 arg9 harg9 arg10 harg10 v1 k x2 x3 x4 (fOdd.sl.v12 k) (fOdd.sl.v76 k) (fOdd.sl.v97 k) (fOdd.sl.v87 k) (fOdd.sl.H8_3 arg2 arg3 arg4 arg8 arg10 lanes v1 x2 x3 x4 k h2) (fOdd.sl.H9_3 arg2 arg3 arg9 arg10 lanes x2 x3 k h2) (fOdd.sl.H10_3 arg2 arg3 arg10 lanes x2 x3 k h2))
    have e11 : fOdd.sl.v126 c i arg2 harg2 arg3 harg3 arg4 harg4 arg5 harg5 arg6 harg6 arg7 harg7 arg8 harg8 arg9 harg9 arg10 harg10 lanes v1 x2 x3 x4 k h2 = _ := rdH11 arg9.view (e9 c i arg2 harg2 arg3 harg3 arg4 harg4 arg5 harg5 arg6 harg6 arg7 harg7 arg8 harg8 arg9 harg9 arg10 harg10 v1 k x2 x3 x4 (fOdd.sl.v12 k) (fOdd.sl.v76 k) (fOdd.sl.v97 k) (fOdd.sl.v87 k) (fOdd.sl.H8_3 arg2 arg3 arg4 arg8 arg10 lanes v1 x2 x3 x4 k h2) (fOdd.sl.H9_3 arg2 arg3 arg9 arg10 lanes x2 x3 k h2) (fOdd.sl.H10_3 arg2 arg3 arg10 lanes x2 x3 k h2))
    exact congr (congr (congr (congrArg (cPc k) e00) e01) e10) e11
end Odd

/-- A tile's accumulators at its end, whatever its parity. -/
def fin0 : St F := end0 arg2 arg3 arg4 v1 k x2 x3 x4 (if h : k0_cond1 k = 1#1 then ev0 arg2 arg3 arg4 v1 k x2 x3 x4 h else od0 arg2 arg3 arg4 v1 k x2 x3 x4 ((fParity k).2 h))
def fin1 : St F := end1 arg2 arg3 arg4 v1 k x2 x3 x4 (if h : k0_cond1 k = 1#1 then ev1 arg2 arg3 arg4 v1 k x2 x3 x4 h else od1 arg2 arg3 arg4 v1 k x2 x3 x4 ((fParity k).2 h))

theorem run_pieces : (fRun c i arg2 harg2 arg3 harg3 arg4 harg4 arg5 harg5 arg6 harg6 arg7 harg7 arg8 harg8 arg9 harg9 arg10 harg10 lanes v1 x2 x3 x4 k).1 = oPieces k (fin0 arg2 arg3 arg4 v1 k x2 x3 x4) (fin1 arg2 arg3 arg4 v1 k x2 x3 x4)
    ∧ (fRun c i arg2 harg2 arg3 harg3 arg4 harg4 arg5 harg5 arg6 harg6 arg7 harg7 arg8 harg8 arg9 harg9 arg10 harg10 lanes v1 x2 x3 x4 k).2.1 = cPieces k (fin0 arg2 arg3 arg4 v1 k x2 x3 x4) (fin1 arg2 arg3 arg4 v1 k x2 x3 x4) := by
  unfold fRun fin0 fin1
  by_cases h : k0_cond1 k = 1#1
  · rw [dif_pos h, dif_pos h, dif_pos h]; exact even_pieces c i arg2 harg2 arg3 harg3 arg4 harg4 arg5 harg5 arg6 harg6 arg7 harg7 arg8 harg8 arg9 harg9 arg10 harg10 v1 k x2 x3 x4 h ((fParity k).1 h)
  · rw [dif_neg h, dif_neg h, dif_neg h]; exact odd_pieces c i arg2 harg2 arg3 harg3 arg4 harg4 arg5 harg5 arg6 harg6 arg7 harg7 arg8 harg8 arg9 harg9 arg10 harg10 v1 k x2 x3 x4 h ((fParity k).2 h)

end Cert.Kernel2Ideal.Attn
-- ==== Proof.AttnInv.lean ====
module

public import proofs.«01_k».proof.Proof.AttnMath
public import proofs.«01_k».proof.Proof.AttnTurn

@[expose] public section

set_option maxRecDepth 16384

noncomputable section

namespace Cert.Kernel2Ideal.Attn

open Idealize.ShloMosaic Idealize.ShloMosaic.TcCoe Idealize.ShloMosaic.Tactic
open Cert.Kernel2Ideal.Gen

/-! # Every query tile of the forward kernel ends with the whole sums

The block numbers and the slices of a tile's turns in closed form, decided over the eight tiles and their pairs of blocks. -/

section Closed
theorem trips1 : k0_t1_loop.trips = 8 := by decide +kernel
theorem trips2 : ∀ k : Fin k0_t1_loop.trips, (k0_t2_loop k).trips = k.val / 2 := by decide +kernel
theorem cond_even : ∀ k : Fin k0_t1_loop.trips, k0_cond1 k = 1#1 ↔ k.val % 2 = 0 := by decide +kernel
theorem qi_val : ∀ k : Fin k0_t1_loop.trips, qi k = BitVec.ofNat 32 k.val := by decide +kernel
theorem qi_pred : ∀ k : Fin k0_t1_loop.trips, k.val % 2 = 1 → Scalar.subi (qi k) 1#32 = BitVec.ofNat 32 (k.val - 1) := by decide +kernel
theorem offs : ∀ k : Fin k0_t1_loop.trips, k0_off1 k = ![256 * k.val, 0] ∧ k0_off2 k = ![256 * k.val, 128] ∧ k0_off3 k = ![256 * k.val, 0] ∧ k0_off4 k = ![256 * k.val, 128]
    ∧ k0_off5 k = ![256 * k.val, 0] ∧ k0_off6 k = ![256 * k.val, 128] := by decide +kernel
theorem offs_odd : ∀ k : Fin k0_t1_loop.trips, k.val % 2 = 1 → k0_off7 k = ![256 * (k.val - 1), 0] ∧ k0_off8 k = ![256 * (k.val - 1), 128] := by decide +kernel
theorem offs_pair : ∀ (k : Fin k0_t1_loop.trips) (j : Fin (k0_t2_loop k).trips),
    k0_off9 k j = ![256 * (k.val - k.val % 2 - 2 * j.val - 1), 0] ∧ k0_off10 k j = ![256 * (k.val - k.val % 2 - 2 * j.val - 1), 128]
    ∧ k0_off11 k j = ![256 * (k.val - k.val % 2 - 2 * j.val - 2), 0] ∧ k0_off12 k j = ![256 * (k.val - k.val % 2 - 2 * j.val - 2), 128] := by decide +kernel
theorem kb_pair : ∀ (k : Fin k0_t1_loop.trips) (j : Fin (k0_t2_loop k).trips),
    Scalar.subi (Scalar.subi (Scalar.subi (qi k) 1#32) (fEven.sl.v69 k)) (Scalar.muli 2#32 (Scf.iv 0#32 1#32 j.val)) = BitVec.ofNat 32 (k.val - k.val % 2 - 2 * j.val - 1)
    ∧ Scalar.subi (Scalar.subi (Scalar.subi (Scalar.subi (qi k) 1#32) (fEven.sl.v69 k)) (Scalar.muli 2#32 (Scf.iv 0#32 1#32 j.val))) 1#32 = BitVec.ofNat 32 (k.val - k.val % 2 - 2 * j.val - 2) := by
  unfold fEven.sl.v69; decide +kernel
end Closed

/-- Rows and lanes of one sequence's block, as real numbers. -/
def Mat (X : ℕ → ℕ → ℝ) (y : Vec Ideal S2048x256 .bf16) : Prop := ∀ (a : Fin 2048) (b : Fin 256), y (ix2 a b) = ((X a.val b.val : ℝ) : EReal)
/-- Lane pair `pp` of the rows. -/
def lanesOf (X : ℕ → ℕ → ℝ) (pp : ℕ) : ℕ → Fin 128 → ℝ := fun j l => X j (128 * pp + l.val)
/-- The stacked queries of tile `n`. -/
def stackOf (X : ℕ → ℕ → ℝ) (n pp : ℕ) : Fin 512 → Fin 128 → ℝ :=
  fun r l => if l.val / 64 = r.val / 256 then X (256 * n + r.val % 256) (128 * pp + l.val) * (1 / 8) else 0

section Read
variable {κ : Kind} {sp : Space} {w : Memref sig κ sp S2048x256 .bf16} {x : w.view.ty.Contents (Elt Ideal)} {y : Vec Ideal S2048x256 .bf16}
  (hx : w.view.read (Elt Ideal) x = y) {X : ℕ → ℕ → ℝ} (hy : Mat X y)

include hx hy in
theorem load_at {off : Fin 2 → ℕ} (h : ∀ a, off a + S256x128.size a ≤ S2048x256.size a) {n pp : ℕ} (e : off = ![256 * n, 128 * pp]) (j : Fin 256) (l : Fin 128) :
    w.view.readAt (Elt Ideal) (Rect.unit (s := S2048x256) off S256x128.size h).toLoadRect x (ix2 j l) = ((X (256 * n + j.val) (128 * pp + l.val) : ℝ) : EReal) := by
  subst e
  have h0 : 256 * n + 256 ≤ 2048 := h 0
  have h1 : 128 * pp + 128 ≤ 256 := h 1
  have hj := j.isLt; have hl := l.isLt
  rw [View.readAt_eq_ld, hx]
  refine Eq.trans ?_ (hy ⟨256 * n + j.val, by omega⟩ ⟨128 * pp + l.val, by omega⟩)
  refine congrArg y (funext fun a => Fin.ext ?_)
  fin_cases a
  · exact (LoadRect.idx_apply ..).trans (congrArg (256 * n + ·) (one_mul j.val))
  · exact (LoadRect.idx_apply ..).trans (congrArg (128 * pp + ·) (one_mul l.val))

include hx hy in
theorem load_blk {off : Fin 2 → ℕ} (h : ∀ a, off a + S256x128.size a ≤ S2048x256.size a) {n pp : ℕ} (e : off = ![256 * n, 128 * pp]) :
    Blk (lanesOf X pp) n (w.view.readAt (Elt Ideal) (Rect.unit (s := S2048x256) off S256x128.size h).toLoadRect x) := fun j l => load_at hx hy h e j l

theorem eighth : Ideal.ofBits .bf16 0x3E00#16 = ((1 / 8 : ℝ) : EReal) := by
  simp [Ideal.ofBits, Ideal.ieee]; rw [← EReal.coe_mul]; norm_num

include hx hy in
theorem load_qry {off : Fin 2 → ℕ} (h : ∀ a, off a + S256x128.size a ≤ S2048x256.size a) {n pp : ℕ} (e : off = ![256 * n, 128 * pp]) :
    Qry (stackOf X n pp) (qStack (w.view.readAt (Elt Ideal) (Rect.unit (s := S2048x256) off S256x128.size h).toLoadRect x)) := fun r l => by
  rw [qStack_at, stackOf]
  split
  · rw [load_at hx hy h e, eighth, ← EReal.coe_mul]
  · rfl
end Read

theorem pairs_inv {n : ℕ} {Q : Fin 512 → Fin 128 → ℝ} {K V : ℕ → Fin 128 → ℝ} {T : ℕ} (hT : T = n / 2) (f : ℕ → St Ideal) (h0 : Inv n Q K V (n - n % 2) (f 0))
    (hs : ∀ j < T, Inv n Q K V (n - n % 2 - 2 * j - 2 + 2) (f j) → Inv n Q K V (n - n % 2 - 2 * j - 2) (f (j + 1))) : Inv n Q K V 0 (f T) := by
  have H : ∀ j ≤ T, Inv n Q K V (n - n % 2 - 2 * j) (f j) := fun j => by
    induction j with
    | zero => exact fun _ => h0
    | succ j ih =>
      intro hj
      have := hs j (by omega) (by rw [show n - n % 2 - 2 * j - 2 + 2 = n - n % 2 - 2 * j by omega]; exact ih (by omega))
      rwa [show n - n % 2 - 2 * (j + 1) = n - n % 2 - 2 * j - 2 by omega]
  have := H T le_rfl
  rwa [show n - n % 2 - 2 * T = 0 by omega] at this

section Tiles
variable (arg2 arg3 arg4 : Memref sig .tc .vmem S2048x256 .bf16) (v1 : Vec Ideal S512x256 .bf16) (k : Fin k0_t1_loop.trips)
  (x2 : BufTy.Contents (Elt Ideal) arg2.view.ty) (x3 : BufTy.Contents (Elt Ideal) arg3.view.ty) (x4 : BufTy.Contents (Elt Ideal) arg4.view.ty)
  {y2 y3 y4 : Vec Ideal S2048x256 .bf16} (h2 : arg2.view.read (Elt Ideal) x2 = y2) (h3 : arg3.view.read (Elt Ideal) x3 = y3) (h4 : arg4.view.read (Elt Ideal) x4 = y4)
  {Xq Xk Xv : ℕ → ℕ → ℝ} (hq : Mat Xq y2) (hk : Mat Xk y3) (hv : Mat Xv y4) (ht : Tri (k0_pay1 v1))

include h2 h3 h4 hq hk hv ht in
theorem fin0_inv : Inv k.val (stackOf Xq k.val 0) (lanesOf Xk 0) (lanesOf Xv 0) 0 (fin0 arg2 arg3 arg4 v1 k x2 x3 x4) := by
  have hn : k.val < 8 := trips1 ▸ k.isLt
  have Q := load_qry h2 hq (k0_off1_inb k) (n := k.val) (pp := 0) (offs k).1
  refine pairs_inv (T := pairs k) (trips2 k) (fun j => it0 arg3 arg4 (k0_pay1 v1) k (qi k) (qodd k) (tq0 arg2 k x2) x3 x4 j _) ?_ ?_
  · show Inv _ _ _ _ _ (dite _ _ _)
    by_cases h : k0_cond1 k = 1#1
    · rw [dif_pos h, (cond_even k).1 h]
      exact inv_one (qi_val k) hn le_rfl (see_msk _) ht Q (load_blk h3 hk _ (pp := 0) (offs k).2.2.1) (load_blk h4 hv _ (pp := 0) (offs k).2.2.1) (inv_zero _ _ _ _)
    · have ho : k.val % 2 = 1 := by have := mt (cond_even k).2 h; omega
      rw [dif_neg h, ho]
      have hs : k.val - 1 + 1 = k.val := by omega
      refine inv_two (b := k.val - 1) (by rw [hs]; exact qi_val k) (qi_pred k ho) hn (by omega) (by rw [hs]; exact see_msk _) (keep_msk _ _ (by omega)) ht Q
        (by rw [hs]; exact load_blk h3 hk _ (pp := 0) (offs k).2.2.2.2.1) (by rw [hs]; exact load_blk h4 hv _ (pp := 0) (offs k).2.2.2.2.1)
        (load_blk h3 hk _ (pp := 0) (offs_odd k ho).1) (load_blk h4 hv _ (pp := 0) (offs_odd k ho).1) ?_
      rw [show k.val - 1 + 2 = k.val + 1 by omega]; exact inv_zero _ _ _ _
  · intro j hj h
    have hj' : j < (k0_t2_loop k).trips := hj
    have hj2 : j < k.val / 2 := trips2 k ▸ hj'
    have o := offs_pair k ⟨j, hj'⟩; have kb := kb_pair k ⟨j, hj'⟩
    have hs : k.val - k.val % 2 - 2 * j - 2 + 1 = k.val - k.val % 2 - 2 * j - 1 := by omega
    show Inv _ _ _ _ _ (it0 _ _ _ _ _ _ _ _ _ (j + 1) _)
    rw [it0, dif_pos hj']
    exact inv_two (by rw [hs]; exact kb.1) kb.2 hn (by omega) (keep_msk _ _ (by omega)) (keep_msk _ _ (by omega)) ht Q
      (by rw [hs]; exact load_blk h3 hk _ (pp := 0) o.1) (by rw [hs]; exact load_blk h4 hv _ (pp := 0) o.1)
      (load_blk h3 hk _ (pp := 0) o.2.2.1) (load_blk h4 hv _ (pp := 0) o.2.2.1) h

include h2 h3 h4 hq hk hv ht in
theorem fin1_inv : Inv k.val (stackOf Xq k.val 1) (lanesOf Xk 1) (lanesOf Xv 1) 0 (fin1 arg2 arg3 arg4 v1 k x2 x3 x4) := by
  have hn : k.val < 8 := trips1 ▸ k.isLt
  have Q := load_qry h2 hq (k0_off2_inb k) (n := k.val) (pp := 1) (offs k).2.1
  refine pairs_inv (T := pairs k) (trips2 k) (fun j => it1 arg3 arg4 (k0_pay1 v1) k (qi k) (qodd k) (tq1 arg2 k x2) x3 x4 j _) ?_ ?_
  · show Inv _ _ _ _ _ (dite _ _ _)
    by_cases h : k0_cond1 k = 1#1
    · rw [dif_pos h, (cond_even k).1 h]
      exact inv_one (qi_val k) hn le_rfl (see_msk _) ht Q (load_blk h3 hk _ (pp := 1) (offs k).2.2.2.1) (load_blk h4 hv _ (pp := 1) (offs k).2.2.2.1) (inv_zero _ _ _ _)
    · have ho : k.val % 2 = 1 := by have := mt (cond_even k).2 h; omega
      rw [dif_neg h, ho]
      have hs : k.val - 1 + 1 = k.val := by omega
      refine inv_two (b := k.val - 1) (by rw [hs]; exact qi_val k) (qi_pred k ho) hn (by omega) (by rw [hs]; exact see_msk _) (keep_msk _ _ (by omega)) ht Q
        (by rw [hs]; exact load_blk h3 hk _ (pp := 1) (offs k).2.2.2.2.2) (by rw [hs]; exact load_blk h4 hv _ (pp := 1) (offs k).2.2.2.2.2)
        (load_blk h3 hk _ (pp := 1) (offs_odd k ho).2) (load_blk h4 hv _ (pp := 1) (offs_odd k ho).2) ?_
      rw [show k.val - 1 + 2 = k.val + 1 by omega]; exact inv_zero _ _ _ _
  · intro j hj h
    have hj' : j < (k0_t2_loop k).trips := hj
    have hj2 : j < k.val / 2 := trips2 k ▸ hj'
    have o := offs_pair k ⟨j, hj'⟩; have kb := kb_pair k ⟨j, hj'⟩
    have hs : k.val - k.val % 2 - 2 * j - 2 + 1 = k.val - k.val % 2 - 2 * j - 1 := by omega
    show Inv _ _ _ _ _ (it1 _ _ _ _ _ _ _ _ _ (j + 1) _)
    rw [it1, dif_pos hj']
    exact inv_two (by rw [hs]; exact kb.1) kb.2 hn (by omega) (keep_msk _ _ (by omega)) (keep_msk _ _ (by omega)) ht Q
      (by rw [hs]; exact load_blk h3 hk _ (pp := 1) o.2.1) (by rw [hs]; exact load_blk h4 hv _ (pp := 1) o.2.1)
      (load_blk h3 hk _ (pp := 1) o.2.2.2) (load_blk h4 hv _ (pp := 1) o.2.2.2) h

end Tiles

end Cert.Kernel2Ideal.Attn
-- ==== Proof.BwdTile.lean ====
module

public import proofs.«01_k».proof.Proof.AttnStep
import all proofs.«01_k».proof.Proof.AttnBwd

@[expose] public section

set_option maxRecDepth 16384

noncomputable section

namespace Cert.Kernel2Ideal.Attn

open Idealize.ShloMosaic Idealize.ShloMosaic.TcCoe Idealize.ShloMosaic.Tactic
open Cert.Kernel2Ideal.Gen

variable {F : FTy → Type} [FloatOps F]

/-! # What one block does in the backward kernel, and one pair of blocks

`Side` is one lane pair's stacked queries, cotangents and carried sums. -/

structure Side (F : FTy → Type) [FloatOps F] where
  q : FVec F S512x128 .bf16
  d : FVec F S512x128 .bf16
  cs : FVec F S512x128 .f32

section Tile
variable (m : FVec F S512x256 .f32 → FVec F S512x256 .f32) (ntri : FVec F S512x256 .bf16) (tri : FVec F S256x256 .bf16) (T : Side F) (kb : BitVec 32)
  (kt vt : Vec F S256x128 .bf16) (ec : FVec F S512x1 .f32)

/-- The sum carried into block `kb`, taken from its lane. -/
def bCur : FVec F S512x1 .f32 := shapeCast S512x1 (multiReduction .add [1] S512
  (select (broadcastTo S512x128 (shapeCast S1x128 (cmpi .eq lanes (broadcast S1x128 kb)) shapeCasts_S1x128_S1x128) broadcasts_S1x128_S512x128) T.cs
    (broadcast S512x128 (Scalar.ofBits .f32 0x00000000#32))) 0x00000000#32 reduces_S512x128_S512 (.inl rfl) rfl) shapeCasts_S512_S512x1
def bW : FVec F S512x256 .f32 := tW m ntri (tZ T.q kt) (bCur T kb)
def bE : FVec F S512x256 .f32 := mulf (bW m ntri T kb kt) (tZ T.d vt)
def bEc : FVec F S512x1 .f32 := addf ec (tSum (bE m ntri T kb kt vt))
def bInc : FVec F S512x256 .f32 := matmul dot_S512x256_S256x256_S512x256_1_0_0_1_n_n none (truncf .bf16 (bE m ntri T kb kt vt) bitsLt_bf16_f32) tri (constant S512x256 .f32 0x00000000#32)
/-- The gradient at the logits. -/
def bZ : FVec F S512x256 .bf16 := truncf .bf16 (m (subf (bE m ntri T kb kt vt)
  (mulf (exp (subf (tZ T.q kt) (m (tSp (tZ T.q kt))))) (addf (bInc m ntri tri T kb kt vt) (broadcastTo S512x256 ec broadcasts_S512x1_S512x256))))) bitsLt_bf16_f32
def bQ : FVec F S512x128 .f32 := matmul dot_S512x256_S256x128_S512x128_1_0_0_1_n_n none (bZ m ntri tri T kb kt vt ec)
  (shapeCast S256x128 kt shapeCasts_S256x128_S256x128 : FVec F S256x128 .bf16) (constant S512x128 .f32 0x00000000#32)
def bK (a : Vec F S256x128 .f32) : FVec F S256x128 .f32 := shapeCast S256x128 (addf a (matmul dot_S512x256_S512x128_S256x128_0_0_1_1_n_n none (bZ m ntri tri T kb kt vt ec) T.q
  (constant S256x128 .f32 0x00000000#32))) shapeCasts_S256x128_S256x128
def bV (a : Vec F S256x128 .f32) : FVec F S256x128 .f32 := shapeCast S256x128 (addf a (matmul dot_S512x256_S512x128_S256x128_0_0_1_1_n_n none (truncf .bf16 (bW m ntri T kb kt) bitsLt_bf16_f32) T.d
  (constant S256x128 .f32 0x00000000#32))) shapeCasts_S256x128_S256x128
end Tile

/-! The accumulators of keys and values take 256 rows of one lane pair at a time. -/

theorem slab_inb {p : ℕ} (hp : p < 2) : ∀ a, (![p, 0, 0] : Fin 3 → ℕ) a + S1x2048x128.size a ≤ S2x2048x128.size a := fun a => by
  fin_cases a
  · show p + 1 ≤ 2; omega
  · show 0 + 2048 ≤ 2048; omega
  · show 0 + 128 ≤ 128; omega

section Rows
variable (p : ℕ) (hp : p < 2) (off : Fin 2 → ℕ) (h : ∀ a, off a + S256x128.size a ≤ S2048x128.size a)
abbrev rowsIn : Rect S2x2048x128 := (Rect.unit (s := S2x2048x128) ![p, 0, 0] S1x2048x128.size (slab_inb hp)).within
  ((Rect.unit (s := S2048x128) off S256x128.size h).consLift ![1, 2048, 128] rfl (fun i => by fin_cases i <;> rfl)) (fun _ => rfl)
abbrev rowsOut : LoadRect S2x2048x128 := (Rect.unit (s := S2x2048x128) ![p, 0, 0] S1x2048x128.size (slab_inb hp)).withinL
  ((Rect.unit (s := S2048x128) off S256x128.size h).toLoadRect.consLift ![1, 2048, 128] rfl (fun i => by fin_cases i <;> rfl)) (fun _ => rfl)
theorem rowsIn_numel : (rowsIn p hp off h).shape.numel = S256x128.numel := Rect.numel_consLift (Rect.unit (s := S2048x128) off S256x128.size h) ![1, 2048, 128] rfl (fun i => by fin_cases i <;> rfl)
theorem rowsOut_numel : S256x128.numel = (rowsOut p hp off h).shape.numel := LoadRect.numel_consLift (Rect.unit (s := S2048x128) off S256x128.size h).toLoadRect ![1, 2048, 128] rfl (fun i => by fin_cases i <;> rfl)
def rowsPc (x : FVec F S256x128 .f32) : View.Piece (Elt F) S2x2048x128 .f32 := ⟨rowsIn p hp off h, Rect.payAlong (r := Rect.unit (s := S2048x128) off S256x128.size h) (rowsIn_numel p hp off h) x⟩
def rowsRd {κ : Kind} {sp : Space} (w : View sig κ sp S2x2048x128 .f32) (f : w.ty.Contents (Elt F)) : Vec F S256x128 .f32 :=
  LoadRect.valAlong (lr := (Rect.unit (s := S256x128) ![0, 0] S256x128.size (by decide)).toLoadRect) (rowsOut_numel p hp off h) (w.readAt (Elt F) (rowsOut p hp off h) f)
/-- Rows read, changed by `g` and written back, over the pieces `L`. -/
def upd {κ : Kind} {sp : Space} (w : View sig κ sp S2x2048x128 .f32) (f : w.ty.Contents (Elt F)) (g : Vec F S256x128 .f32 → FVec F S256x128 .f32)
    (L : List (View.Piece (Elt F) S2x2048x128 .f32)) : List (View.Piece (Elt F) S2x2048x128 .f32) :=
  rowsPc p hp off h (g (rowsRd p hp off h w (w.writes (Elt F) f L))) :: L
end Rows

section Pair
variable (c : Dev nD) (i : grid1.Coords)
  (arg2 : Memref sig .tc .vmem S2048x256 .bf16) (harg2 : arg2.IsWhole) (arg3 : Memref sig .tc .vmem S2048x256 .bf16) (harg3 : arg3.IsWhole)
  (arg4 : Memref sig .tc .vmem S2048x256 .bf16) (harg4 : arg4.IsWhole) (arg5 : Memref sig .tc .vmem S2048x256 .bf16) (harg5 : arg5.IsWhole)
  (arg6 : Memref sig .tc .vmem S2048x512 .f32) (harg6 : arg6.IsWhole) (arg7 : Memref sig .tc .vmem S512x256 .bf16) (harg7 : arg7.IsWhole)
  (arg8 : Memref sig .tc .vmem S256x256 .bf16) (harg8 : arg8.IsWhole) (arg9 : Memref sig .tc .vmem S3x2048x256 .bf16) (harg9 : arg9.IsWhole)
  (arg10 : Memref sig .tc .vmem S2x512x128 .f32) (harg10 : arg10.IsWhole) (arg11 : Memref sig .tc .vmem S2x2048x128 .f32) (harg11 : arg11.IsWhole)
  (arg12 : Memref sig .tc .vmem S2x2048x128 .f32) (harg12 : arg12.IsWhole) (arg13 : Memref sig .tc .vmem S2x512x1 .f32) (harg13 : arg13.IsWhole)
variable (v2 : FVec F S512x256 .bf16) (v4 : FVec F S256x256 .bf16) (v12 : IVec S512x256 1) (k1_t1 : Fin k1_t1_loop.trips) (arg14 : BitVec 32)
  (v64 v79 : FVec F S512x128 .bf16) (v86 : FVec F S512x128 .f32) (v103 v118 : FVec F S512x128 .bf16) (v125 : FVec F S512x128 .f32) (v130 : FVec F S2x512x128 .f32)
variable (x3 : BufTy.Contents (Elt F) arg3.view.ty) (x4 : BufTy.Contents (Elt F) arg4.view.ty)
variable (k : Fin (k1_t2_loop k1_t1).trips)
variable (f10 : BufTy.Contents (Elt F) arg10.view.ty) (f11 : BufTy.Contents (Elt F) arg11.view.ty) (f12 : BufTy.Contents (Elt F) arg12.view.ty) (f13 : BufTy.Contents (Elt F) arg13.view.ty)

abbrev kbA : BitVec 32 := Scalar.muli 2#32 (Scf.iv 0#32 1#32 k)
abbrev kbB : BitVec 32 := Scalar.addi (Scalar.muli 2#32 (Scf.iv 0#32 1#32 k)) 1#32
abbrev S0 : Side F := ⟨v64, v79, v86⟩
abbrev S1 : Side F := ⟨v103, v118, v125⟩
abbrev e0 : FVec F S512x1 .f32 := inC (arg13.view.readAt (Elt F) slabC0.toLoadRect f13)
abbrev e1 : FVec F S512x1 .f32 := inC (arg13.view.readAt (Elt F) slabC1.toLoadRect f13)
abbrev eA0 := bEc keep v2 (S0 v64 v79 v86) (kbA k1_t1 k) (tK arg3 x3 _ (k1_off7_inb k1_t1 k)) (tK arg4 x4 _ (k1_off7_inb k1_t1 k)) (e0 arg13 f13)
abbrev eA1 := bEc keep v2 (S1 v103 v118 v125) (kbA k1_t1 k) (tK arg3 x3 _ (k1_off8_inb k1_t1 k)) (tK arg4 x4 _ (k1_off8_inb k1_t1 k)) (e1 arg13 f13)

abbrev theTrip := pTrip (F := F) c i arg2 harg2 arg3 harg3 arg4 harg4 arg5 harg5 arg6 harg6 arg7 harg7 arg8 harg8 arg9 harg9 arg10 harg10 arg11 harg11 arg12 harg12 arg13 harg13 lanes v2 v4 v12 k1_t1 arg14 v64 v79 v86 v103 v118 v125 v130 x3 x4 k
set_option maxHeartbeats 1000000 in
theorem trip_ec : (theTrip c i arg2 harg2 arg3 harg3 arg4 harg4 arg5 harg5 arg6 harg6 arg7 harg7 arg8 harg8 arg9 harg9 arg10 harg10 arg11 harg11 arg12 harg12 arg13 harg13 v2 v4 v12 k1_t1 arg14 v64 v79 v86 v103 v118 v125 v130 x3 x4 k).2.2.2.1 f10 f11 f12 f13 = pcC
    (outC (bEc keep v2 (S0 v64 v79 v86) (kbB k1_t1 k) (tK arg3 x3 _ (k1_off9_inb k1_t1 k)) (tK arg4 x4 _ (k1_off9_inb k1_t1 k)) (eA0 arg3 arg4 arg13 v2 k1_t1 v64 v79 v86 x3 x4 k f13)))
    (outC (bEc keep v2 (S1 v103 v118 v125) (kbB k1_t1 k) (tK arg3 x3 _ (k1_off10_inb k1_t1 k)) (tK arg4 x4 _ (k1_off10_inb k1_t1 k)) (eA1 arg3 arg4 arg13 v2 k1_t1 v103 v118 v125 x3 x4 k f13))) := by
  unfold theTrip pTrip; rfl
set_option maxHeartbeats 1000000 in
theorem trip_dq : (theTrip c i arg2 harg2 arg3 harg3 arg4 harg4 arg5 harg5 arg6 harg6 arg7 harg7 arg8 harg8 arg9 harg9 arg10 harg10 arg11 harg11 arg12 harg12 arg13 harg13 v2 v4 v12 k1_t1 arg14 v64 v79 v86 v103 v118 v125 v130 x3 x4 k).1 f10 f11 f12 f13 = pcO
    (outO (addf (inO (arg10.view.readAt (Elt F) slabO0.toLoadRect f10)) (addf (bQ keep v2 v4 (S0 v64 v79 v86) (kbA k1_t1 k) (tK arg3 x3 _ (k1_off7_inb k1_t1 k)) (tK arg4 x4 _ (k1_off7_inb k1_t1 k)) (e0 arg13 f13))
      (bQ keep v2 v4 (S0 v64 v79 v86) (kbB k1_t1 k) (tK arg3 x3 _ (k1_off9_inb k1_t1 k)) (tK arg4 x4 _ (k1_off9_inb k1_t1 k)) (eA0 arg3 arg4 arg13 v2 k1_t1 v64 v79 v86 x3 x4 k f13)))))
    (outO (addf (inO (arg10.view.readAt (Elt F) slabO1.toLoadRect f10)) (addf (bQ keep v2 v4 (S1 v103 v118 v125) (kbA k1_t1 k) (tK arg3 x3 _ (k1_off8_inb k1_t1 k)) (tK arg4 x4 _ (k1_off8_inb k1_t1 k)) (e1 arg13 f13))
      (bQ keep v2 v4 (S1 v103 v118 v125) (kbB k1_t1 k) (tK arg3 x3 _ (k1_off10_inb k1_t1 k)) (tK arg4 x4 _ (k1_off10_inb k1_t1 k)) (eA1 arg3 arg4 arg13 v2 k1_t1 v103 v118 v125 x3 x4 k f13))))) := by
  unfold theTrip pTrip; rfl
set_option maxHeartbeats 1000000 in
theorem trip_dk : (theTrip c i arg2 harg2 arg3 harg3 arg4 harg4 arg5 harg5 arg6 harg6 arg7 harg7 arg8 harg8 arg9 harg9 arg10 harg10 arg11 harg11 arg12 harg12 arg13 harg13 v2 v4 v12 k1_t1 arg14 v64 v79 v86 v103 v118 v125 v130 x3 x4 k).2.1 f10 f11 f12 f13 = (upd 1 (by decide) _ (k1_off12_inb k1_t1 k) arg11.view f11
    (bK keep v2 v4 (S1 v103 v118 v125) (kbB k1_t1 k) (tK arg3 x3 _ (k1_off10_inb k1_t1 k)) (tK arg4 x4 _ (k1_off10_inb k1_t1 k)) (eA1 arg3 arg4 arg13 v2 k1_t1 v103 v118 v125 x3 x4 k f13)) (upd 0 (by decide) _ (k1_off12_inb k1_t1 k) arg11.view f11
    (bK keep v2 v4 (S0 v64 v79 v86) (kbB k1_t1 k) (tK arg3 x3 _ (k1_off9_inb k1_t1 k)) (tK arg4 x4 _ (k1_off9_inb k1_t1 k)) (eA0 arg3 arg4 arg13 v2 k1_t1 v64 v79 v86 x3 x4 k f13)) (upd 1 (by decide) _ (k1_off11_inb k1_t1 k) arg11.view f11
    (bK keep v2 v4 (S1 v103 v118 v125) (kbA k1_t1 k) (tK arg3 x3 _ (k1_off8_inb k1_t1 k)) (tK arg4 x4 _ (k1_off8_inb k1_t1 k)) (e1 arg13 f13)) (upd 0 (by decide) _ (k1_off11_inb k1_t1 k) arg11.view f11
    (bK keep v2 v4 (S0 v64 v79 v86) (kbA k1_t1 k) (tK arg3 x3 _ (k1_off7_inb k1_t1 k)) (tK arg4 x4 _ (k1_off7_inb k1_t1 k)) (e0 arg13 f13)) [])))) := by
  unfold theTrip pTrip; rfl
set_option maxHeartbeats 1000000 in
theorem trip_dv : (theTrip c i arg2 harg2 arg3 harg3 arg4 harg4 arg5 harg5 arg6 harg6 arg7 harg7 arg8 harg8 arg9 harg9 arg10 harg10 arg11 harg11 arg12 harg12 arg13 harg13 v2 v4 v12 k1_t1 arg14 v64 v79 v86 v103 v118 v125 v130 x3 x4 k).2.2.1 f10 f11 f12 f13 = (upd 1 (by decide) _ (k1_off12_inb k1_t1 k) arg12.view f12
    (bV keep v2 (S1 v103 v118 v125) (kbB k1_t1 k) (tK arg3 x3 _ (k1_off10_inb k1_t1 k))) (upd 0 (by decide) _ (k1_off12_inb k1_t1 k) arg12.view f12
    (bV keep v2 (S0 v64 v79 v86) (kbB k1_t1 k) (tK arg3 x3 _ (k1_off9_inb k1_t1 k))) (upd 1 (by decide) _ (k1_off11_inb k1_t1 k) arg12.view f12
    (bV keep v2 (S1 v103 v118 v125) (kbA k1_t1 k) (tK arg3 x3 _ (k1_off8_inb k1_t1 k))) (upd 0 (by decide) _ (k1_off11_inb k1_t1 k) arg12.view f12
    (bV keep v2 (S0 v64 v79 v86) (kbA k1_t1 k) (tK arg3 x3 _ (k1_off7_inb k1_t1 k))) [])))) := by
  unfold theTrip pTrip; rfl

end Pair

end Cert.Kernel2Ideal.Attn
-- ==== Proof.BwdMath.lean ====
module

public import proofs.«01_k».proof.Proof.AttnInv
public import proofs.«01_k».proof.Proof.BwdTile

@[expose] public section

set_option maxRecDepth 16384

noncomputable section

namespace Cert.Kernel2Ideal.Attn

open Idealize.ShloMosaic Idealize.ShloMosaic.TcCoe Idealize.ShloMosaic.Tactic
open Cert.Kernel2Ideal.Gen

/-! # The backward blocks in real numbers -/

section Model
variable (n : ℕ) (Q D : Fin 512 → Fin 128 → ℝ) (K V : ℕ → Fin 128 → ℝ)

/-- The cotangent at the weight, times the weight. -/
def eR (r : Fin 512) (j : ℕ) : ℝ := wR n Q K r j * zR D V r j
/-- Its sums over the keys before `a`. -/
def pR (r : Fin 512) (a : ℕ) : ℝ := ∑ j ∈ Finset.range a, eR n Q D K V r j
/-- The gradient at the logit. -/
def gR (r : Fin 512) (j : ℕ) : ℝ := if j < 256 * n + r.val % 256 then
  eR n Q D K V r j - Real.exp (zR Q K r j - spR (zR Q K r j)) * pR n Q D K V r (j + 1) else 0
/-- What a query tile adds to the gradients of the keys and of the values. -/
def kR (j : ℕ) (l : Fin 128) : ℝ := ∑ r, gR n Q D K V r j * Q r l
def vR (j : ℕ) (l : Fin 128) : ℝ := ∑ r, wR n Q K r j * D r l

theorem wR_out {r : Fin 512} {j : ℕ} (h : 256 * (n + 1) ≤ j) : wR n Q K r j = 0 := if_neg (by omega)
theorem gR_out {r : Fin 512} {j : ℕ} (h : 256 * (n + 1) ≤ j) : gR n Q D K V r j = 0 := if_neg (by omega)

theorem kR_out {j : ℕ} {l : Fin 128} (h : 256 * (n + 1) ≤ j) : kR n Q D K V j l = 0 := Finset.sum_eq_zero fun r _ => by rw [gR_out _ _ _ _ _ h, zero_mul]
theorem vR_out {j : ℕ} {l : Fin 128} (h : 256 * (n + 1) ≤ j) : vR n Q D K j l = 0 := Finset.sum_eq_zero fun r _ => by rw [wR_out _ _ _ h, zero_mul]

theorem sum_upto (f : ℕ → ℝ) (b : ℕ) (j : Fin 256) : ∑ x ∈ Finset.range (256 * b + j.val + 1), f x
    = (∑ i : Fin 256, if i.val ≤ j.val then f (256 * b + i.val) else 0) + ∑ x ∈ Finset.range (256 * b), f x := by
  have h := sum_tile (fun x => if x < 256 * b + j.val + 1 then f x else 0) b
  rw [← Finset.sum_filter] at h
  rw [← Finset.sum_range_add_sum_Ico _ (show 256 * b ≤ 256 * b + j.val + 1 by omega), add_comm]
  congr 1
  rw [show Finset.Ico (256 * b) (256 * b + j.val + 1) = (Finset.Ico (256 * b) (256 * (b + 1))).filter (fun x => x < 256 * b + j.val + 1) from
    Finset.ext fun x => by simp only [Finset.mem_Ico, Finset.mem_filter]; omega, h]
  exact Finset.sum_congr rfl fun i _ => if_congr (by omega) rfl rfl

/-- The triangle of the sums up to a key. -/
def Upto (t : FVec Ideal S256x256 .bf16) : Prop := ∀ p j : Fin 256, t (ix2 p j) = ((if p.val ≤ j.val then 1 else 0 : ℝ) : EReal)
/-- A lane pair's queries, cotangents and carried sums. -/
structure SideOk (T : Side Ideal) : Prop where
  q : Qry Q T.q
  d : Qry D T.d
  cs : ∀ (r : Fin 512) (l : Fin 128), l.val ≤ n → T.cs (ix2 r l) = ((-tR n Q K r (256 * (l.val + 1)) : ℝ) : EReal)
end Model

section At
variable (m : FVec Ideal S512x256 .f32 → FVec Ideal S512x256 .f32) (ntri : FVec Ideal S512x256 .bf16) (tri : FVec Ideal S256x256 .bf16) (T : Side Ideal) (kb : BitVec 32)
  (kt vt : Vec Ideal S256x128 .bf16) (ec : FVec Ideal S512x1 .f32) (r : Fin 512)

theorem bCur_at : bCur T kb (ix2 r 0) = ∑ l : Fin 128, Scalar.select (IntOp.cmpi .eq (BitVec.ofNat 32 l.val) kb) (T.cs (ix2 r l)) 0 := by
  unfold bCur; pointwise
theorem bE_at (j : Fin 256) : bE m ntri T kb kt vt (ix2 r j) = bW m ntri T kb kt (ix2 r j) * tZ T.d vt (ix2 r j) := by
  unfold bE; pointwise
theorem bEc_at : bEc m ntri T kb kt vt ec (ix2 r 0) = ec (ix2 r 0) + tSum (bE m ntri T kb kt vt) (ix2 r 0) := by
  unfold bEc; pointwise
theorem bInc_at (j : Fin 256) : bInc m ntri tri T kb kt vt (ix2 r j) = ∑ p : Fin 256, bE m ntri T kb kt vt (ix2 r p) * tri (ix2 p j) := by
  unfold bInc; pointwise
theorem bZ_at (j : Fin 256) : (subf (bE m ntri T kb kt vt) (mulf (exp (subf (tZ T.q kt) (m (tSp (tZ T.q kt)))))
      (addf (bInc m ntri tri T kb kt vt) (broadcastTo S512x256 ec broadcasts_S512x1_S512x256))) : FVec Ideal S512x256 .f32) (ix2 r j)
    = bE m ntri T kb kt vt (ix2 r j) - Ideal.exp (tZ T.q kt (ix2 r j) - m (tSp (tZ T.q kt)) (ix2 r j)) * (bInc m ntri tri T kb kt vt (ix2 r j) + ec (ix2 r 0)) := by
  pointwise
theorem bZ_cast (x : FVec Ideal S512x256 .f32) (j : Fin 256) : (truncf .bf16 x bitsLt_bf16_f32 : FVec Ideal S512x256 .bf16) (ix2 r j) = x (ix2 r j) := by pointwise
theorem bQ_at (l : Fin 128) : bQ m ntri tri T kb kt vt ec (ix2 r l) = ∑ j : Fin 256, bZ m ntri tri T kb kt vt ec (ix2 r j) * kt (ix2 j l) := by
  unfold bQ; pointwise
theorem bK_at (a : Vec Ideal S256x128 .f32) (j : Fin 256) (l : Fin 128) :
    bK m ntri tri T kb kt vt ec a (ix2 j l) = a (ix2 j l) + ∑ r : Fin 512, bZ m ntri tri T kb kt vt ec (ix2 r j) * T.q (ix2 r l) := by
  unfold bK; pointwise
theorem bV_at (a : Vec Ideal S256x128 .f32) (j : Fin 256) (l : Fin 128) :
    bV m ntri T kb kt a (ix2 j l) = a (ix2 j l) + ∑ r : Fin 512, bW m ntri T kb kt (ix2 r j) * T.d (ix2 r l) := by
  unfold bV; pointwise
end At

section Tile
variable {n : ℕ} {Q D : Fin 512 → Fin 128 → ℝ} {K V : ℕ → Fin 128 → ℝ} {b : ℕ} {m : FVec Ideal S512x256 .f32 → FVec Ideal S512x256 .f32} {ntri : FVec Ideal S512x256 .bf16}
  {tri : FVec Ideal S256x256 .bf16} {T : Side Ideal} {kb : BitVec 32} {kt vt : Vec Ideal S256x128 .bf16} {ec : FVec Ideal S512x1 .f32}
  (hm : Msk n b m) (ht : Tri ntri) (hu : Upto tri) (hT : SideOk n Q D K T) (hkb : kb = BitVec.ofNat 32 b) (hk : Blk K b kt) (hv : Blk V b vt) (hb : b ≤ n) (hn : n < 8)
  (he : ∀ r, ec (ix2 r 0) = ((pR n Q D K V r (256 * b) : ℝ) : EReal))

include hT hkb hb hn in
theorem cur_block (r : Fin 512) : bCur T kb (ix2 r 0) = ((-tR n Q K r (256 * (b + 1)) : ℝ) : EReal) := by
  rw [bCur_at, Finset.sum_eq_single (⟨b, by omega⟩ : Fin 128)]
  · rw [sel_eq (word_eq _ _), if_pos hkb.symm, hT.cs r ⟨b, by omega⟩ hb]
  · intro l _ hl
    rw [sel_eq (word_eq _ _), if_neg]
    intro h
    have := congrArg BitVec.toNat (h.trans hkb)
    simp only [BitVec.toNat_ofNat] at this
    have := l.isLt
    exact hl (Fin.ext (by show l.val = b; omega))
  · intro h; exact absurd (Finset.mem_univ _) h
include hm ht hT hkb hk hb hn in
theorem w_block (r : Fin 512) (j : Fin 256) : bW m ntri T kb kt (ix2 r j) = ((wR n Q K r (256 * b + j.val) : ℝ) : EReal) :=
  w_tile hm ht hT.q hk hb (cur_block hT hkb hb hn) r j
include hm ht hT hkb hk hv hb hn in
theorem e_block (r : Fin 512) (j : Fin 256) : bE m ntri T kb kt vt (ix2 r j) = ((eR n Q D K V r (256 * b + j.val) : ℝ) : EReal) := by
  rw [bE_at, w_block hm ht hT hkb hk hb hn, z_tile hT.d hv, eR, EReal.coe_mul]
include hm ht hT hkb hk hv hb hn he in
theorem ec_block (r : Fin 512) : bEc m ntri T kb kt vt ec (ix2 r 0) = ((pR n Q D K V r (256 * (b + 1)) : ℝ) : EReal) := by
  rw [bEc_at, he, tSum_at, Finset.sum_congr rfl fun j _ => e_block hm ht hT hkb hk hv hb hn r j, ← coe_sum, ← EReal.coe_add, ← sum_tile (eR n Q D K V r), pR, pR,
    Finset.sum_range_add_sum_Ico _ (by omega)]
include hm ht hu hT hkb hk hv hb hn he in
theorem z_block (r : Fin 512) (j : Fin 256) : bZ m ntri tri T kb kt vt ec (ix2 r j) = ((gR n Q D K V r (256 * b + j.val) : ℝ) : EReal) := by
  unfold bZ
  rw [bZ_cast, hm, gR]
  split
  · rename_i hs
    have hsp : m (tSp (tZ T.q kt)) (ix2 r j) = ((spR (zR Q K r (256 * b + j.val)) : ℝ) : EReal) := by
      rw [s_tile hm hT.q hk, sR, if_pos hs]
    have hi : bInc m ntri tri T kb kt vt (ix2 r j) = ((∑ i : Fin 256, if i.val ≤ j.val then eR n Q D K V r (256 * b + i.val) else 0 : ℝ) : EReal) := by
      rw [bInc_at, coe_sum]
      refine Finset.sum_congr rfl fun p _ => ?_
      rw [e_block hm ht hT hkb hk hv hb hn, hu, ← EReal.coe_mul]
      congr 1; split <;> simp
    rw [bZ_at, hsp, hi, e_block hm ht hT hkb hk hv hb hn, z_tile hT.q hk, he, ← EReal.coe_sub, Ideal.exp_coe, ← EReal.coe_add, ← EReal.coe_mul, ← EReal.coe_sub, pR, pR, sum_upto]
  · rfl
include hm ht hu hT hkb hk hv hb hn he in
theorem q_block (r : Fin 512) (l : Fin 128) : bQ m ntri tri T kb kt vt ec (ix2 r l)
    = ((∑ j ∈ Finset.Ico (256 * b) (256 * (b + 1)), gR n Q D K V r j * K j l : ℝ) : EReal) := by
  rw [bQ_at, sum_tile, coe_sum]
  exact Finset.sum_congr rfl fun j _ => by rw [z_block hm ht hu hT hkb hk hv hb hn he, hk, EReal.coe_mul]
include hm ht hu hT hkb hk hv hb hn he in
theorem k_block (a : Vec Ideal S256x128 .f32) (x : ℝ) (j : Fin 256) (l : Fin 128) (ha : a (ix2 j l) = (x : EReal)) :
    bK m ntri tri T kb kt vt ec a (ix2 j l) = ((x + kR n Q D K V (256 * b + j.val) l : ℝ) : EReal) := by
  rw [bK_at, ha, Finset.sum_congr rfl fun r _ => (by rw [z_block hm ht hu hT hkb hk hv hb hn he, hT.q, ← EReal.coe_mul] :
    bZ m ntri tri T kb kt vt ec (ix2 r j) * T.q (ix2 r l) = ((gR n Q D K V r (256 * b + j.val) * Q r l : ℝ) : EReal)), ← coe_sum, ← EReal.coe_add, kR]
include hm ht hT hkb hk hb hn in
theorem v_block (a : Vec Ideal S256x128 .f32) (x : ℝ) (j : Fin 256) (l : Fin 128) (ha : a (ix2 j l) = (x : EReal)) :
    bV m ntri T kb kt a (ix2 j l) = ((x + vR n Q D K (256 * b + j.val) l : ℝ) : EReal) := by
  rw [bV_at, ha, Finset.sum_congr rfl fun r _ => (by rw [w_block hm ht hT hkb hk hb hn, hT.d, ← EReal.coe_mul] :
    bW m ntri T kb kt (ix2 r j) * T.d (ix2 r l) = ((wR n Q K r (256 * b + j.val) * D r l : ℝ) : EReal)), ← coe_sum, ← EReal.coe_add, vR]
end Tile

/-! The accumulators of keys and values take two lane pairs of a block at a time. -/

section Acc
variable {κ : Kind} {sp : Space} (w : View sig κ sp S2x2048x128 .f32) (f : w.ty.Contents (Elt Ideal))
def Acc (A : ℕ → ℕ → Fin 128 → ℝ) : Prop := ∀ (p : Fin 2) (j : Fin 2048) (l : Fin 128), w.read (Elt Ideal) f (ix3 p j l) = ((A p.val j.val l : ℝ) : EReal)
/-- What the blocks before `b` have added. -/
def part (A G : ℕ → ℕ → Fin 128 → ℝ) (b : ℕ) : ℕ → ℕ → Fin 128 → ℝ := fun p j l => A p j l + if j < 256 * b then G p j l else 0

variable {f}
theorem rowsRd_at (p : ℕ) (hp : p < 2) {b : ℕ} {off : Fin 2 → ℕ} (e : off = ![256 * b, 0]) (h : ∀ a, off a + S256x128.size a ≤ S2048x128.size a) (j : Fin 256) (l : Fin 128)
    (hj : 256 * b + j.val < 2048) : rowsRd p hp off h w f (ix2 j l) = w.read (Elt Ideal) f (ix3 ⟨p, hp⟩ ⟨256 * b + j.val, hj⟩ l) := by
  subst e
  have hh : Shape.reshapeEquiv (rowsOut_numel p hp _ h) (ix2 j l) = (Fin.cons ⟨0, Nat.one_pos⟩ (ix2 j l) : (rowsOut p hp _ h).shape.Idx) :=
    Shape.reshapeEquiv_cons_one _ _
  show w.readAt (Elt Ideal) (rowsOut p hp _ h) f (Shape.reshapeEquiv (rowsOut_numel p hp _ h) (ix2 j l)) = _
  refine (congrArg (w.readAt (Elt Ideal) (rowsOut p hp _ h) f) hh).trans (congrArg (w.read (Elt Ideal) f) (funext fun a => Fin.ext ?_))
  fin_cases a
  · exact (LoadRect.idx_apply ..)
  · exact (LoadRect.idx_apply ..).trans (by show 0 + 256 * b + 1 * j.val = 256 * b + j.val; omega)
  · exact (LoadRect.idx_apply ..).trans (by show 0 + 0 + 1 * l.val = l.val; omega)

/-- A write of one lane pair's rows, read: the rows it covers and the others. -/
theorem rowsPc_at (p : ℕ) (hp : p < 2) {b : ℕ} {off : Fin 2 → ℕ} (e : off = ![256 * b, 0]) (h : ∀ a, off a + S256x128.size a ≤ S2048x128.size a) (x : FVec Ideal S256x128 .f32)
    (L : List (View.Piece (Elt Ideal) S2x2048x128 .f32)) (p' : Fin 2) (j : Fin 2048) (l : Fin 128) :
    w.read (Elt Ideal) (w.writes (Elt Ideal) f (rowsPc p hp off h x :: L)) (ix3 p' j l)
      = if p'.val = p ∧ j.val / 256 = b then x (ix2 ⟨j.val % 256, Nat.mod_lt _ (by decide)⟩ l) else w.read (Elt Ideal) (w.writes (Elt Ideal) f L) (ix3 p' j l) := by
  subst e
  split
  · rename_i hh
    obtain ⟨h1, h2⟩ := hh
    let z : (rowsIn p hp _ h).shape.Idx := (Fin.cons ⟨0, Nat.one_pos⟩ (ix2 (⟨j.val % 256, Nat.mod_lt _ (by decide)⟩ : Fin 256) l) : (rowsOut p hp _ h).shape.Idx)
    refine (View.read_writes_cons_hit_of_coords w f (rowsIn p hp _ h) (rowsPc p hp _ h x).2 L z (ix3 p' j l) ?_).trans ?_
    · intro a
      fin_cases a
      · show p'.val = p + 0 + 1 * 0; omega
      · show j.val = 0 + 256 * b + 1 * (j.val % 256); omega
      · show l.val = 0 + 0 + 1 * l.val; omega
    · exact Rect.payAlong_consLift (Rect.unit (s := S2048x128) _ S256x128.size h) ![1, 2048, 128] rfl (fun i => by fin_cases i <;> rfl) x (rowsIn_numel p hp _ h) z _
        (fun i => by fin_cases i <;> rfl)
  · rename_i hh
    by_cases h1 : p'.val = p
    · exact View.read_writes_cons_miss_of_axis w f (rowsPc p hp _ h x) L (ix3 p' j l) 1 (0 + 256 * b) 256 rfl rfl rfl
        (by show j.val < 0 + 256 * b ∨ 0 + 256 * b + 256 ≤ j.val; have : ¬ j.val / 256 = b := fun h => hh ⟨h1, h⟩; omega)
    · exact View.read_writes_cons_miss_of_axis w f (rowsPc p hp _ h x) L (ix3 p' j l) 0 (p + 0) 1 rfl rfl rfl
        (by show p'.val < p + 0 ∨ p + 0 + 1 ≤ p'.val; omega)

/-- One block's rows of both lane pairs. -/
theorem acc_block {b : ℕ} {off : Fin 2 → ℕ} (e : off = ![256 * b, 0]) (h : ∀ a, off a + S256x128.size a ≤ S2048x128.size a)
    {g0 g1 : Vec Ideal S256x128 .f32 → FVec Ideal S256x128 .f32} {L : List (View.Piece (Elt Ideal) S2x2048x128 .f32)} {A G : ℕ → ℕ → Fin 128 → ℝ}
    (hA : Acc w (w.writes (Elt Ideal) f L) (part A G b))
    (h0 : ∀ a (x : ℝ) (j : Fin 256) (l : Fin 128), a (ix2 j l) = (x : EReal) → g0 a (ix2 j l) = ((x + G 0 (256 * b + j.val) l : ℝ) : EReal))
    (h1 : ∀ a (x : ℝ) (j : Fin 256) (l : Fin 128), a (ix2 j l) = (x : EReal) → g1 a (ix2 j l) = ((x + G 1 (256 * b + j.val) l : ℝ) : EReal)) :
    Acc w (w.writes (Elt Ideal) f (upd 1 (by decide) off h w f g1 (upd 0 (by decide) off h w f g0 L))) (part A G (b + 1)) := by
  intro p j l
  have hj := j.isLt
  have hb : 256 * b + 256 ≤ 2048 := by subst e; exact h 0
  have ej : j.val / 256 = b → 256 * b + j.val % 256 = j.val := fun h => by omega
  have rd : ∀ (p : ℕ) (hp : p < 2) (L' : List (View.Piece (Elt Ideal) S2x2048x128 .f32)), j.val / 256 = b →
      rowsRd p hp off h w (w.writes (Elt Ideal) f L') (ix2 ⟨j.val % 256, Nat.mod_lt _ (by decide)⟩ l) = w.read (Elt Ideal) (w.writes (Elt Ideal) f L') (ix3 ⟨p, hp⟩ j l) := fun p hp L' hh => by
    rw [rowsRd_at w p hp e h _ l (by show 256 * b + j.val % 256 < 2048; omega)]
    congr 2; exact Fin.ext (ej hh)
  have v1 : j.val / 256 = b → part A G (b + 1) p.val j.val l = part A G b p.val j.val l + G p.val (256 * b + j.val % 256) l := fun hh => by
    unfold part; rw [if_pos (by omega), if_neg (by omega), add_zero, ej hh]
  have v2 : ¬ j.val / 256 = b → part A G (b + 1) p.val j.val l = part A G b p.val j.val l := fun hh => by
    unfold part; congr 1; exact if_congr (by omega) rfl rfl
  have d0 := rowsPc_at w (f := f) 0 (by decide) e h (g0 (rowsRd 0 (by decide) off h w (w.writes (Elt Ideal) f L))) L
  unfold upd
  rw [rowsPc_at w 1 (by decide) e h]
  by_cases hh : j.val / 256 = b
  · by_cases hp : p.val = 1
    · have : p = ⟨1, by decide⟩ := Fin.ext hp
      subst this
      rw [if_pos ⟨rfl, hh⟩, v1 hh]
      refine h1 _ _ _ l ((rd 1 (by decide) _ hh).trans ?_)
      exact (d0 _ _ _).trans ((if_neg (by simp)).trans (hA _ _ _))
    · have : p = ⟨0, by decide⟩ := Fin.ext (show p.val = 0 by have := p.isLt; omega)
      subst this
      rw [if_neg (by simp), d0, if_pos ⟨rfl, hh⟩, v1 hh]
      exact h0 _ _ _ l ((rd 0 (by decide) _ hh).trans (hA _ _ _))
  · rw [if_neg (fun h => hh h.2), d0, if_neg (fun h => hh h.2), v2 hh]
    exact hA _ _ _
end Acc

end Cert.Kernel2Ideal.Attn
-- ==== Proof.BwdTurn.lean ====
module

public import proofs.«01_k».proof.Proof.BwdTile
import all proofs.«01_k».proof.Proof.BwdTile
import all proofs.«01_k».proof.Proof.AttnBwd
import all proofs.«01_k».proof.Proof.AttnStep

@[expose] public section

set_option maxRecDepth 16384

noncomputable section

namespace Cert.Kernel2Ideal.Attn

open Idealize.ShloMosaic Idealize.ShloMosaic.TcCoe Idealize.ShloMosaic.Tactic
open Cert.Kernel2Ideal.Gen

variable {F : FTy → Type} [FloatOps F]

/-! # One query tile of the backward kernel: the pairs before it, then its own last blocks -/

section Turn
variable (c : Dev nD) (i : grid1.Coords)
  (arg2 : Memref sig .tc .vmem S2048x256 .bf16) (harg2 : arg2.IsWhole) (arg3 : Memref sig .tc .vmem S2048x256 .bf16) (harg3 : arg3.IsWhole)
  (arg4 : Memref sig .tc .vmem S2048x256 .bf16) (harg4 : arg4.IsWhole) (arg5 : Memref sig .tc .vmem S2048x256 .bf16) (harg5 : arg5.IsWhole)
  (arg6 : Memref sig .tc .vmem S2048x512 .f32) (harg6 : arg6.IsWhole) (arg7 : Memref sig .tc .vmem S512x256 .bf16) (harg7 : arg7.IsWhole)
  (arg8 : Memref sig .tc .vmem S256x256 .bf16) (harg8 : arg8.IsWhole) (arg9 : Memref sig .tc .vmem S3x2048x256 .bf16) (harg9 : arg9.IsWhole)
  (arg10 : Memref sig .tc .vmem S2x512x128 .f32) (harg10 : arg10.IsWhole) (arg11 : Memref sig .tc .vmem S2x2048x128 .f32) (harg11 : arg11.IsWhole)
  (arg12 : Memref sig .tc .vmem S2x2048x128 .f32) (harg12 : arg12.IsWhole) (arg13 : Memref sig .tc .vmem S2x512x1 .f32) (harg13 : arg13.IsWhole)
variable (v1 : Vec F S512x256 .bf16) (v3 : Vec F S256x256 .bf16) (k : Fin k1_t1_loop.trips)
variable (x2 : BufTy.Contents (Elt F) arg2.view.ty) (x3 : BufTy.Contents (Elt F) arg3.view.ty) (x4 : BufTy.Contents (Elt F) arg4.view.ty) (x5 : BufTy.Contents (Elt F) arg5.view.ty) (x6 : BufTy.Contents (Elt F) arg6.view.ty)
variable (f11 : BufTy.Contents (Elt F) arg11.view.ty) (f12 : BufTy.Contents (Elt F) arg12.view.ty)

/-- The tile's number. -/
abbrev bqi : BitVec 32 := Scf.iv 0#32 1#32 k
abbrev sd0 : Side F := ⟨k1_pay220 lanes (arg2.view.readAt (Elt F) (Rect.unit (s := S2048x256) (k1_off1 k) S256x128.size (k1_off1_inb k)).toLoadRect x2), k1_pay221 lanes (arg5.view.readAt (Elt F) (Rect.unit (s := S2048x256) (k1_off1 k) S256x128.size (k1_off1_inb k)).toLoadRect x5), k1_pay222 (arg6.view.readAt (Elt F) (Rect.unit (s := S2048x512) (k1_off2 k) S256x128.size (k1_off2_inb k)).toLoadRect x6) (arg6.view.readAt (Elt F) (Rect.unit (s := S2048x512) (k1_off3 k) S256x128.size (k1_off3_inb k)).toLoadRect x6)⟩
abbrev sd1 : Side F := ⟨k1_pay225 lanes (k1_pay223 (arg2.view.readAt (Elt F) (Rect.unit (s := S2048x256) (k1_off4 k) S256x128.size (k1_off4_inb k)).toLoadRect x2)) k1_pay224, k1_pay226 lanes (arg5.view.readAt (Elt F) (Rect.unit (s := S2048x256) (k1_off4 k) S256x128.size (k1_off4_inb k)).toLoadRect x5), k1_pay227 (arg6.view.readAt (Elt F) (Rect.unit (s := S2048x512) (k1_off5 k) S256x128.size (k1_off5_inb k)).toLoadRect x6) (arg6.view.readAt (Elt F) (Rect.unit (s := S2048x512) (k1_off6 k) S256x128.size (k1_off6_inb k)).toLoadRect x6)⟩
/-- The accumulators of queries and carried sums start at zero. -/
abbrev z10 : BufTy.Contents (Elt F) arg10.view.ty := arg10.view.writes (Elt F) arg10.view.junk (qEven.sl.H10_1 (F := F))
abbrev z13 : BufTy.Contents (Elt F) arg13.view.ty := arg13.view.writes (Elt F) arg13.view.junk (qEven.sl.H13_1 (F := F))
/-- How many pairs lie before the tile. -/
abbrev bpairs : ℕ := Scf.trips (k1_t2_loop k).lb (k1_t2_loop k).ub (k1_t2_loop k).st
def prs := pPc (F := F) c i arg2 harg2 arg3 harg3 arg4 harg4 arg5 harg5 arg6 harg6 arg7 harg7 arg8 harg8 arg9 harg9 arg10 harg10 arg11 harg11 arg12 harg12 arg13 harg13 lanes (k1_pay251 v1) (k1_pay252 v3) k1_pay253 k (bqi k) (sd0 arg2 arg5 arg6 k x2 x5 x6).q (sd0 arg2 arg5 arg6 k x2 x5 x6).d (sd0 arg2 arg5 arg6 k x2 x5 x6).cs
  (sd1 arg2 arg5 arg6 k x2 x5 x6).q (sd1 arg2 arg5 arg6 k x2 x5 x6).d (sd1 arg2 arg5 arg6 k x2 x5 x6).cs k1_pay229 x3 x4 (z10 arg10) f11 f12 (z13 arg13) (bpairs k)

abbrev c10 := arg10.view.writes (Elt F) (z10 arg10) (prs c i arg2 harg2 arg3 harg3 arg4 harg4 arg5 harg5 arg6 harg6 arg7 harg7 arg8 harg8 arg9 harg9 arg10 harg10 arg11 harg11 arg12 harg12 arg13 harg13 v1 v3 k x2 x3 x4 x5 x6 f11 f12).1
abbrev c13 := arg13.view.writes (Elt F) (z13 arg13) (prs c i arg2 harg2 arg3 harg3 arg4 harg4 arg5 harg5 arg6 harg6 arg7 harg7 arg8 harg8 arg9 harg9 arg10 harg10 arg11 harg11 arg12 harg12 arg13 harg13 v1 v3 k x2 x3 x4 x5 x6 f11 f12).2.2.2
abbrev ce0 : FVec F S512x1 .f32 := inC (arg13.view.readAt (Elt F) slabC0.toLoadRect (c13 c i arg2 harg2 arg3 harg3 arg4 harg4 arg5 harg5 arg6 harg6 arg7 harg7 arg8 harg8 arg9 harg9 arg10 harg10 arg11 harg11 arg12 harg12 arg13 harg13 v1 v3 k x2 x3 x4 x5 x6 f11 f12))
abbrev ce1 : FVec F S512x1 .f32 := inC (arg13.view.readAt (Elt F) slabC1.toLoadRect (c13 c i arg2 harg2 arg3 harg3 arg4 harg4 arg5 harg5 arg6 harg6 arg7 harg7 arg8 harg8 arg9 harg9 arg10 harg10 arg11 harg11 arg12 harg12 arg13 harg13 v1 v3 k x2 x3 x4 x5 x6 f11 f12))
abbrev cq0 : FVec F S512x128 .f32 := inO (arg10.view.readAt (Elt F) slabO0.toLoadRect (c10 c i arg2 harg2 arg3 harg3 arg4 harg4 arg5 harg5 arg6 harg6 arg7 harg7 arg8 harg8 arg9 harg9 arg10 harg10 arg11 harg11 arg12 harg12 arg13 harg13 v1 v3 k x2 x3 x4 x5 x6 f11 f12))
abbrev cq1 : FVec F S512x128 .f32 := inO (arg10.view.readAt (Elt F) slabO1.toLoadRect (c10 c i arg2 harg2 arg3 harg3 arg4 harg4 arg5 harg5 arg6 harg6 arg7 harg7 arg8 harg8 arg9 harg9 arg10 harg10 arg11 harg11 arg12 harg12 arg13 harg13 v1 v3 k x2 x3 x4 x5 x6 f11 f12))

/-- What a tile writes into the gradient of the queries. -/
def dPc (a0 b0 a1 b1 : Vec F S1x256x128 .f32) : List (View.Piece (Elt F) S3x2048x256 .bf16) :=
  [⟨Rect.unit (s := S3x2048x256) (k1_off29 k) S1x256x128.size (k1_off29_inb k), k1_pay250 lanes a1 b1⟩,
   ⟨Rect.unit (s := S3x2048x256) (k1_off28 k) S1x256x128.size (k1_off28_inb k), k1_pay249 lanes a0 b0⟩]
def dPieces (s0 s1 : Vec F S1x512x128 .f32) : List (View.Piece (Elt F) S3x2048x256 .bf16) := dPc k (half0 s0) (half1 s0) (half0 s1) (half1 s1)

/-- A read of the second lane pair passes over a write of the first. -/
theorem rdO1s {κ : Kind} {sp : Space} (w : View sig κ sp S2x512x128 .f32) (f : w.ty.Contents (Elt F)) (p0 : Vec F S1x512x128 .f32) (L : List (View.Piece (Elt F) S2x512x128 .f32)) :
    w.readAt (Elt F) slabO1.toLoadRect (w.writes (Elt F) f (⟨slabO0, p0⟩ :: L)) = w.readAt (Elt F) slabO1.toLoadRect (w.writes (Elt F) f L) :=
  funext fun x => View.read_writes_cons_unit_of_not_mem w f _ p0 L (slabO1.emb x) rfl 0 (.inr (by
    show 0 + 1 ≤ 1 + 1 * (x 0).val; omega))

section qEven
variable (h1 : k1_cond1 k = 1#1) (h2 : ¬ k1_cond2 k = 1#1)
theorem qEven_ec : inC (qEven.sl.v206 c i arg2 harg2 arg3 harg3 arg4 harg4 arg5 harg5 arg6 harg6 arg7 harg7 arg8 harg8 arg9 harg9 arg10 harg10 arg11 harg11 arg12 harg12 arg13 harg13 lanes v1 v3 x2 x3 x4 x5 x6 k f11 f12) = ce0 c i arg2 harg2 arg3 harg3 arg4 harg4 arg5 harg5 arg6 harg6 arg7 harg7 arg8 harg8 arg9 harg9 arg10 harg10 arg11 harg11 arg12 harg12 arg13 harg13 v1 v3 k x2 x3 x4 x5 x6 f11 f12 ∧ inC (qEven.sl.v208 c i arg2 harg2 arg3 harg3 arg4 harg4 arg5 harg5 arg6 harg6 arg7 harg7 arg8 harg8 arg9 harg9 arg10 harg10 arg11 harg11 arg12 harg12 arg13 harg13 lanes v1 v3 x2 x3 x4 x5 x6 k f11 f12) = ce1 c i arg2 harg2 arg3 harg3 arg4 harg4 arg5 harg5 arg6 harg6 arg7 harg7 arg8 harg8 arg9 harg9 arg10 harg10 arg11 harg11 arg12 harg12 arg13 harg13 v1 v3 k x2 x3 x4 x5 x6 f11 f12 :=
  ⟨congrArg (fun f => inC (arg13.view.readAt (Elt F) slabC0.toLoadRect f)) (View.writes_append ..), congrArg (fun f => inC (arg13.view.readAt (Elt F) slabC1.toLoadRect f)) (View.writes_append ..)⟩
set_option maxHeartbeats 1000000 in
theorem qEven_dk : (qEven c i arg2 harg2 arg3 harg3 arg4 harg4 arg5 harg5 arg6 harg6 arg7 harg7 arg8 harg8 arg9 harg9 arg10 harg10 arg11 harg11 arg12 harg12 arg13 harg13 lanes v1 v3 x2 x3 x4 x5 x6 k h1 h2).2.1 f11 f12 = (upd 1 (by decide) _ (k1_off21_inb k h1) arg11.view f11
      (bK see (k1_pay251 v1) (k1_pay252 v3) (sd1 arg2 arg5 arg6 k x2 x5 x6) (bqi k) (tK arg3 x3 _ (k1_off20_inb k h1)) (tK arg4 x4 _ (k1_off20_inb k h1)) (ce1 c i arg2 harg2 arg3 harg3 arg4 harg4 arg5 harg5 arg6 harg6 arg7 harg7 arg8 harg8 arg9 harg9 arg10 harg10 arg11 harg11 arg12 harg12 arg13 harg13 v1 v3 k x2 x3 x4 x5 x6 f11 f12)) (upd 0 (by decide) _ (k1_off21_inb k h1) arg11.view f11
      (bK see (k1_pay251 v1) (k1_pay252 v3) (sd0 arg2 arg5 arg6 k x2 x5 x6) (bqi k) (tK arg3 x3 _ (k1_off19_inb k h1)) (tK arg4 x4 _ (k1_off19_inb k h1)) (ce0 c i arg2 harg2 arg3 harg3 arg4 harg4 arg5 harg5 arg6 harg6 arg7 harg7 arg8 harg8 arg9 harg9 arg10 harg10 arg11 harg11 arg12 harg12 arg13 harg13 v1 v3 k x2 x3 x4 x5 x6 f11 f12)) (prs c i arg2 harg2 arg3 harg3 arg4 harg4 arg5 harg5 arg6 harg6 arg7 harg7 arg8 harg8 arg9 harg9 arg10 harg10 arg11 harg11 arg12 harg12 arg13 harg13 v1 v3 k x2 x3 x4 x5 x6 f11 f12).2.1)) := by
  rw [← (qEven_ec c i arg2 harg2 arg3 harg3 arg4 harg4 arg5 harg5 arg6 harg6 arg7 harg7 arg8 harg8 arg9 harg9 arg10 harg10 arg11 harg11 arg12 harg12 arg13 harg13 v1 v3 k x2 x3 x4 x5 x6 f11 f12).1, ← (qEven_ec c i arg2 harg2 arg3 harg3 arg4 harg4 arg5 harg5 arg6 harg6 arg7 harg7 arg8 harg8 arg9 harg9 arg10 harg10 arg11 harg11 arg12 harg12 arg13 harg13 v1 v3 k x2 x3 x4 x5 x6 f11 f12).2]
  unfold qEven; rfl
set_option maxHeartbeats 1000000 in
theorem qEven_dv : (qEven c i arg2 harg2 arg3 harg3 arg4 harg4 arg5 harg5 arg6 harg6 arg7 harg7 arg8 harg8 arg9 harg9 arg10 harg10 arg11 harg11 arg12 harg12 arg13 harg13 lanes v1 v3 x2 x3 x4 x5 x6 k h1 h2).2.2.1 f11 f12 = (upd 1 (by decide) _ (k1_off21_inb k h1) arg12.view f12
      (bV see (k1_pay251 v1) (sd1 arg2 arg5 arg6 k x2 x5 x6) (bqi k) (tK arg3 x3 _ (k1_off20_inb k h1))) (upd 0 (by decide) _ (k1_off21_inb k h1) arg12.view f12
      (bV see (k1_pay251 v1) (sd0 arg2 arg5 arg6 k x2 x5 x6) (bqi k) (tK arg3 x3 _ (k1_off19_inb k h1))) (prs c i arg2 harg2 arg3 harg3 arg4 harg4 arg5 harg5 arg6 harg6 arg7 harg7 arg8 harg8 arg9 harg9 arg10 harg10 arg11 harg11 arg12 harg12 arg13 harg13 v1 v3 k x2 x3 x4 x5 x6 f11 f12).2.2.1)) := by
  unfold qEven; rfl
/-- The tile's query gradient, one lane pair at a time. -/
def qEven_q0 : Vec F S1x512x128 .f32 := (outO (addf (cq0 c i arg2 harg2 arg3 harg3 arg4 harg4 arg5 harg5 arg6 harg6 arg7 harg7 arg8 harg8 arg9 harg9 arg10 harg10 arg11 harg11 arg12 harg12 arg13 harg13 v1 v3 k x2 x3 x4 x5 x6 f11 f12) (bQ see (k1_pay251 v1) (k1_pay252 v3) (sd0 arg2 arg5 arg6 k x2 x5 x6) (bqi k) (tK arg3 x3 _ (k1_off19_inb k h1)) (tK arg4 x4 _ (k1_off19_inb k h1)) (ce0 c i arg2 harg2 arg3 harg3 arg4 harg4 arg5 harg5 arg6 harg6 arg7 harg7 arg8 harg8 arg9 harg9 arg10 harg10 arg11 harg11 arg12 harg12 arg13 harg13 v1 v3 k x2 x3 x4 x5 x6 f11 f12))))
def qEven_q1 : Vec F S1x512x128 .f32 := (outO (addf (cq1 c i arg2 harg2 arg3 harg3 arg4 harg4 arg5 harg5 arg6 harg6 arg7 harg7 arg8 harg8 arg9 harg9 arg10 harg10 arg11 harg11 arg12 harg12 arg13 harg13 v1 v3 k x2 x3 x4 x5 x6 f11 f12) (bQ see (k1_pay251 v1) (k1_pay252 v3) (sd1 arg2 arg5 arg6 k x2 x5 x6) (bqi k) (tK arg3 x3 _ (k1_off20_inb k h1)) (tK arg4 x4 _ (k1_off20_inb k h1)) (ce1 c i arg2 harg2 arg3 harg3 arg4 harg4 arg5 harg5 arg6 harg6 arg7 harg7 arg8 harg8 arg9 harg9 arg10 harg10 arg11 harg11 arg12 harg12 arg13 harg13 v1 v3 k x2 x3 x4 x5 x6 f11 f12))))
theorem qEven_ac : inO (qEven.sl.v380 c i arg2 harg2 arg3 harg3 arg4 harg4 arg5 harg5 arg6 harg6 arg7 harg7 arg8 harg8 arg9 harg9 arg10 harg10 arg11 harg11 arg12 harg12 arg13 harg13 lanes v1 v3 x2 x3 x4 x5 x6 k f11 f12) = cq0 c i arg2 harg2 arg3 harg3 arg4 harg4 arg5 harg5 arg6 harg6 arg7 harg7 arg8 harg8 arg9 harg9 arg10 harg10 arg11 harg11 arg12 harg12 arg13 harg13 v1 v3 k x2 x3 x4 x5 x6 f11 f12 ∧ inO (qEven.sl.v389 c i arg2 harg2 arg3 harg3 arg4 harg4 arg5 harg5 arg6 harg6 arg7 harg7 arg8 harg8 arg9 harg9 arg10 harg10 arg11 harg11 arg12 harg12 arg13 harg13 lanes v1 v3 x2 x3 x4 x5 x6 k h1 f11 f12) = cq1 c i arg2 harg2 arg3 harg3 arg4 harg4 arg5 harg5 arg6 harg6 arg7 harg7 arg8 harg8 arg9 harg9 arg10 harg10 arg11 harg11 arg12 harg12 arg13 harg13 v1 v3 k x2 x3 x4 x5 x6 f11 f12 :=
  ⟨congrArg (fun f => inO (arg10.view.readAt (Elt F) slabO0.toLoadRect f)) (View.writes_append ..),
   by
    unfold qEven.sl.v389 qEven.sl.H10_1_1
    exact congrArg inO ((rdO1s arg10.view arg10.view.junk _ ((prs c i arg2 harg2 arg3 harg3 arg4 harg4 arg5 harg5 arg6 harg6 arg7 harg7 arg8 harg8 arg9 harg9 arg10 harg10 arg11 harg11 arg12 harg12 arg13 harg13 v1 v3 k x2 x3 x4 x5 x6 f11 f12).1 ++ qEven.sl.H10_1 (F := F))).trans (congrArg (fun f => arg10.view.readAt (Elt F) slabO1.toLoadRect f) (View.writes_append ..)))⟩
theorem qEven_e0 : arg10.view.readAt (Elt F) slabO0.toLoadRect (arg10.view.writes (Elt F) arg10.view.junk (qEven.sl.H10_2 c i arg2 harg2 arg3 harg3 arg4 harg4 arg5 harg5 arg6 harg6 arg7 harg7 arg8 harg8 arg9 harg9 arg10 harg10 arg11 harg11 arg12 harg12 arg13 harg13 lanes v1 v3 x2 x3 x4 x5 x6 k h1 f11 f12)) = qEven_q0 c i arg2 harg2 arg3 harg3 arg4 harg4 arg5 harg5 arg6 harg6 arg7 harg7 arg8 harg8 arg9 harg9 arg10 harg10 arg11 harg11 arg12 harg12 arg13 harg13 v1 v3 k x2 x3 x4 x5 x6 f11 f12 h1 := by
  refine (rdO0 ..).trans ((rdO0' ..).trans ?_)
  unfold qEven_q0
  rw [← (qEven_ec c i arg2 harg2 arg3 harg3 arg4 harg4 arg5 harg5 arg6 harg6 arg7 harg7 arg8 harg8 arg9 harg9 arg10 harg10 arg11 harg11 arg12 harg12 arg13 harg13 v1 v3 k x2 x3 x4 x5 x6 f11 f12).1, ← (qEven_ac c i arg2 harg2 arg3 harg3 arg4 harg4 arg5 harg5 arg6 harg6 arg7 harg7 arg8 harg8 arg9 harg9 arg10 harg10 arg11 harg11 arg12 harg12 arg13 harg13 v1 v3 k x2 x3 x4 x5 x6 f11 f12 h1).1]
  rfl
theorem qEven_e1 : arg10.view.readAt (Elt F) slabO1.toLoadRect (arg10.view.writes (Elt F) arg10.view.junk (qEven.sl.H10_2 c i arg2 harg2 arg3 harg3 arg4 harg4 arg5 harg5 arg6 harg6 arg7 harg7 arg8 harg8 arg9 harg9 arg10 harg10 arg11 harg11 arg12 harg12 arg13 harg13 lanes v1 v3 x2 x3 x4 x5 x6 k h1 f11 f12)) = qEven_q1 c i arg2 harg2 arg3 harg3 arg4 harg4 arg5 harg5 arg6 harg6 arg7 harg7 arg8 harg8 arg9 harg9 arg10 harg10 arg11 harg11 arg12 harg12 arg13 harg13 v1 v3 k x2 x3 x4 x5 x6 f11 f12 h1 := by
  refine (rdO1 ..).trans ?_
  unfold qEven_q1
  rw [← (qEven_ec c i arg2 harg2 arg3 harg3 arg4 harg4 arg5 harg5 arg6 harg6 arg7 harg7 arg8 harg8 arg9 harg9 arg10 harg10 arg11 harg11 arg12 harg12 arg13 harg13 v1 v3 k x2 x3 x4 x5 x6 f11 f12).2, ← (qEven_ac c i arg2 harg2 arg3 harg3 arg4 harg4 arg5 harg5 arg6 harg6 arg7 harg7 arg8 harg8 arg9 harg9 arg10 harg10 arg11 harg11 arg12 harg12 arg13 harg13 v1 v3 k x2 x3 x4 x5 x6 f11 f12 h1).2]
  rfl
theorem qEven_dq : (qEven c i arg2 harg2 arg3 harg3 arg4 harg4 arg5 harg5 arg6 harg6 arg7 harg7 arg8 harg8 arg9 harg9 arg10 harg10 arg11 harg11 arg12 harg12 arg13 harg13 lanes v1 v3 x2 x3 x4 x5 x6 k h1 h2).1 f11 f12 = dPieces k (qEven_q0 c i arg2 harg2 arg3 harg3 arg4 harg4 arg5 harg5 arg6 harg6 arg7 harg7 arg8 harg8 arg9 harg9 arg10 harg10 arg11 harg11 arg12 harg12 arg13 harg13 v1 v3 k x2 x3 x4 x5 x6 f11 f12 h1) (qEven_q1 c i arg2 harg2 arg3 harg3 arg4 harg4 arg5 harg5 arg6 harg6 arg7 harg7 arg8 harg8 arg9 harg9 arg10 harg10 arg11 harg11 arg12 harg12 arg13 harg13 v1 v3 k x2 x3 x4 x5 x6 f11 f12 h1) := by
  rw [← qEven_e0 c i arg2 harg2 arg3 harg3 arg4 harg4 arg5 harg5 arg6 harg6 arg7 harg7 arg8 harg8 arg9 harg9 arg10 harg10 arg11 harg11 arg12 harg12 arg13 harg13 v1 v3 k x2 x3 x4 x5 x6 f11 f12 h1, ← qEven_e1 c i arg2 harg2 arg3 harg3 arg4 harg4 arg5 harg5 arg6 harg6 arg7 harg7 arg8 harg8 arg9 harg9 arg10 harg10 arg11 harg11 arg12 harg12 arg13 harg13 v1 v3 k x2 x3 x4 x5 x6 f11 f12 h1]
  unfold qEven
  have e00 : qEven.sl.v176 c i arg2 harg2 arg3 harg3 arg4 harg4 arg5 harg5 arg6 harg6 arg7 harg7 arg8 harg8 arg9 harg9 arg10 harg10 arg11 harg11 arg12 harg12 arg13 harg13 lanes v1 v3 x2 x3 x4 x5 x6 k h1 f11 f12 = _ := rdH00 arg10.view (arg10.view.writes (Elt F) arg10.view.junk (qEven.sl.H10_2 c i arg2 harg2 arg3 harg3 arg4 harg4 arg5 harg5 arg6 harg6 arg7 harg7 arg8 harg8 arg9 harg9 arg10 harg10 arg11 harg11 arg12 harg12 arg13 harg13 lanes v1 v3 x2 x3 x4 x5 x6 k h1 f11 f12))
  have e01 : qEven.sl.v178 c i arg2 harg2 arg3 harg3 arg4 harg4 arg5 harg5 arg6 harg6 arg7 harg7 arg8 harg8 arg9 harg9 arg10 harg10 arg11 harg11 arg12 harg12 arg13 harg13 lanes v1 v3 x2 x3 x4 x5 x6 k h1 f11 f12 = _ := rdH01 arg10.view (arg10.view.writes (Elt F) arg10.view.junk (qEven.sl.H10_2 c i arg2 harg2 arg3 harg3 arg4 harg4 arg5 harg5 arg6 harg6 arg7 harg7 arg8 harg8 arg9 harg9 arg10 harg10 arg11 harg11 arg12 harg12 arg13 harg13 lanes v1 v3 x2 x3 x4 x5 x6 k h1 f11 f12))
  have e10 : qEven.sl.v192 c i arg2 harg2 arg3 harg3 arg4 harg4 arg5 harg5 arg6 harg6 arg7 harg7 arg8 harg8 arg9 harg9 arg10 harg10 arg11 harg11 arg12 harg12 arg13 harg13 lanes v1 v3 x2 x3 x4 x5 x6 k h1 f11 f12 = _ := rdH10 arg10.view (arg10.view.writes (Elt F) arg10.view.junk (qEven.sl.H10_2 c i arg2 harg2 arg3 harg3 arg4 harg4 arg5 harg5 arg6 harg6 arg7 harg7 arg8 harg8 arg9 harg9 arg10 harg10 arg11 harg11 arg12 harg12 arg13 harg13 lanes v1 v3 x2 x3 x4 x5 x6 k h1 f11 f12))
  have e11 : qEven.sl.v194 c i arg2 harg2 arg3 harg3 arg4 harg4 arg5 harg5 arg6 harg6 arg7 harg7 arg8 harg8 arg9 harg9 arg10 harg10 arg11 harg11 arg12 harg12 arg13 harg13 lanes v1 v3 x2 x3 x4 x5 x6 k h1 f11 f12 = _ := rdH11 arg10.view (arg10.view.writes (Elt F) arg10.view.junk (qEven.sl.H10_2 c i arg2 harg2 arg3 harg3 arg4 harg4 arg5 harg5 arg6 harg6 arg7 harg7 arg8 harg8 arg9 harg9 arg10 harg10 arg11 harg11 arg12 harg12 arg13 harg13 lanes v1 v3 x2 x3 x4 x5 x6 k h1 f11 f12))
  exact congr (congr (congr (congrArg (dPc k) e00) e01) e10) e11
end qEven

section qOdd
variable (h1 : ¬ k1_cond1 k = 1#1) (h2 : k1_cond2 k = 1#1)
theorem qOdd_ec : inC (qOdd.sl.v207 c i arg2 harg2 arg3 harg3 arg4 harg4 arg5 harg5 arg6 harg6 arg7 harg7 arg8 harg8 arg9 harg9 arg10 harg10 arg11 harg11 arg12 harg12 arg13 harg13 lanes v1 v3 x2 x3 x4 x5 x6 k f11 f12) = ce0 c i arg2 harg2 arg3 harg3 arg4 harg4 arg5 harg5 arg6 harg6 arg7 harg7 arg8 harg8 arg9 harg9 arg10 harg10 arg11 harg11 arg12 harg12 arg13 harg13 v1 v3 k x2 x3 x4 x5 x6 f11 f12 ∧ inC (qOdd.sl.v209 c i arg2 harg2 arg3 harg3 arg4 harg4 arg5 harg5 arg6 harg6 arg7 harg7 arg8 harg8 arg9 harg9 arg10 harg10 arg11 harg11 arg12 harg12 arg13 harg13 lanes v1 v3 x2 x3 x4 x5 x6 k f11 f12) = ce1 c i arg2 harg2 arg3 harg3 arg4 harg4 arg5 harg5 arg6 harg6 arg7 harg7 arg8 harg8 arg9 harg9 arg10 harg10 arg11 harg11 arg12 harg12 arg13 harg13 v1 v3 k x2 x3 x4 x5 x6 f11 f12 :=
  ⟨congrArg (fun f => inC (arg13.view.readAt (Elt F) slabC0.toLoadRect f)) (View.writes_append ..), congrArg (fun f => inC (arg13.view.readAt (Elt F) slabC1.toLoadRect f)) (View.writes_append ..)⟩
set_option maxHeartbeats 1000000 in
theorem qOdd_dk : (qOdd c i arg2 harg2 arg3 harg3 arg4 harg4 arg5 harg5 arg6 harg6 arg7 harg7 arg8 harg8 arg9 harg9 arg10 harg10 arg11 harg11 arg12 harg12 arg13 harg13 lanes v1 v3 x2 x3 x4 x5 x6 k h1 h2).2.1 f11 f12 = (upd 1 (by decide) _ (k1_off27_inb k h2) arg11.view f11
      (bK see (k1_pay251 v1) (k1_pay252 v3) (sd1 arg2 arg5 arg6 k x2 x5 x6) (bqi k) (tK arg3 x3 _ (k1_off25_inb k h2)) (tK arg4 x4 _ (k1_off25_inb k h2)) (bEc keep (k1_pay251 v1) (sd1 arg2 arg5 arg6 k x2 x5 x6) (Scalar.subi (bqi k) 1#32) (tK arg3 x3 _ (k1_off23_inb k h2)) (tK arg4 x4 _ (k1_off23_inb k h2)) (ce1 c i arg2 harg2 arg3 harg3 arg4 harg4 arg5 harg5 arg6 harg6 arg7 harg7 arg8 harg8 arg9 harg9 arg10 harg10 arg11 harg11 arg12 harg12 arg13 harg13 v1 v3 k x2 x3 x4 x5 x6 f11 f12))) (upd 0 (by decide) _ (k1_off27_inb k h2) arg11.view f11
      (bK see (k1_pay251 v1) (k1_pay252 v3) (sd0 arg2 arg5 arg6 k x2 x5 x6) (bqi k) (tK arg3 x3 _ (k1_off24_inb k h2)) (tK arg4 x4 _ (k1_off24_inb k h2)) (bEc keep (k1_pay251 v1) (sd0 arg2 arg5 arg6 k x2 x5 x6) (Scalar.subi (bqi k) 1#32) (tK arg3 x3 _ (k1_off22_inb k h2)) (tK arg4 x4 _ (k1_off22_inb k h2)) (ce0 c i arg2 harg2 arg3 harg3 arg4 harg4 arg5 harg5 arg6 harg6 arg7 harg7 arg8 harg8 arg9 harg9 arg10 harg10 arg11 harg11 arg12 harg12 arg13 harg13 v1 v3 k x2 x3 x4 x5 x6 f11 f12))) (upd 1 (by decide) _ (k1_off26_inb k h2) arg11.view f11
      (bK keep (k1_pay251 v1) (k1_pay252 v3) (sd1 arg2 arg5 arg6 k x2 x5 x6) (Scalar.subi (bqi k) 1#32) (tK arg3 x3 _ (k1_off23_inb k h2)) (tK arg4 x4 _ (k1_off23_inb k h2)) (ce1 c i arg2 harg2 arg3 harg3 arg4 harg4 arg5 harg5 arg6 harg6 arg7 harg7 arg8 harg8 arg9 harg9 arg10 harg10 arg11 harg11 arg12 harg12 arg13 harg13 v1 v3 k x2 x3 x4 x5 x6 f11 f12)) (upd 0 (by decide) _ (k1_off26_inb k h2) arg11.view f11
      (bK keep (k1_pay251 v1) (k1_pay252 v3) (sd0 arg2 arg5 arg6 k x2 x5 x6) (Scalar.subi (bqi k) 1#32) (tK arg3 x3 _ (k1_off22_inb k h2)) (tK arg4 x4 _ (k1_off22_inb k h2)) (ce0 c i arg2 harg2 arg3 harg3 arg4 harg4 arg5 harg5 arg6 harg6 arg7 harg7 arg8 harg8 arg9 harg9 arg10 harg10 arg11 harg11 arg12 harg12 arg13 harg13 v1 v3 k x2 x3 x4 x5 x6 f11 f12)) (prs c i arg2 harg2 arg3 harg3 arg4 harg4 arg5 harg5 arg6 harg6 arg7 harg7 arg8 harg8 arg9 harg9 arg10 harg10 arg11 harg11 arg12 harg12 arg13 harg13 v1 v3 k x2 x3 x4 x5 x6 f11 f12).2.1)))) := by
  rw [← (qOdd_ec c i arg2 harg2 arg3 harg3 arg4 harg4 arg5 harg5 arg6 harg6 arg7 harg7 arg8 harg8 arg9 harg9 arg10 harg10 arg11 harg11 arg12 harg12 arg13 harg13 v1 v3 k x2 x3 x4 x5 x6 f11 f12).1, ← (qOdd_ec c i arg2 harg2 arg3 harg3 arg4 harg4 arg5 harg5 arg6 harg6 arg7 harg7 arg8 harg8 arg9 harg9 arg10 harg10 arg11 harg11 arg12 harg12 arg13 harg13 v1 v3 k x2 x3 x4 x5 x6 f11 f12).2]
  unfold qOdd; rfl
set_option maxHeartbeats 1000000 in
theorem qOdd_dv : (qOdd c i arg2 harg2 arg3 harg3 arg4 harg4 arg5 harg5 arg6 harg6 arg7 harg7 arg8 harg8 arg9 harg9 arg10 harg10 arg11 harg11 arg12 harg12 arg13 harg13 lanes v1 v3 x2 x3 x4 x5 x6 k h1 h2).2.2.1 f11 f12 = (upd 1 (by decide) _ (k1_off27_inb k h2) arg12.view f12
      (bV see (k1_pay251 v1) (sd1 arg2 arg5 arg6 k x2 x5 x6) (bqi k) (tK arg3 x3 _ (k1_off25_inb k h2))) (upd 0 (by decide) _ (k1_off27_inb k h2) arg12.view f12
      (bV see (k1_pay251 v1) (sd0 arg2 arg5 arg6 k x2 x5 x6) (bqi k) (tK arg3 x3 _ (k1_off24_inb k h2))) (upd 1 (by decide) _ (k1_off26_inb k h2) arg12.view f12
      (bV keep (k1_pay251 v1) (sd1 arg2 arg5 arg6 k x2 x5 x6) (Scalar.subi (bqi k) 1#32) (tK arg3 x3 _ (k1_off23_inb k h2))) (upd 0 (by decide) _ (k1_off26_inb k h2) arg12.view f12
      (bV keep (k1_pay251 v1) (sd0 arg2 arg5 arg6 k x2 x5 x6) (Scalar.subi (bqi k) 1#32) (tK arg3 x3 _ (k1_off22_inb k h2))) (prs c i arg2 harg2 arg3 harg3 arg4 harg4 arg5 harg5 arg6 harg6 arg7 harg7 arg8 harg8 arg9 harg9 arg10 harg10 arg11 harg11 arg12 harg12 arg13 harg13 v1 v3 k x2 x3 x4 x5 x6 f11 f12).2.2.1)))) := by
  unfold qOdd; rfl
/-- The tile's query gradient, one lane pair at a time. -/
def qOdd_q0 : Vec F S1x512x128 .f32 := (outO (addf (cq0 c i arg2 harg2 arg3 harg3 arg4 harg4 arg5 harg5 arg6 harg6 arg7 harg7 arg8 harg8 arg9 harg9 arg10 harg10 arg11 harg11 arg12 harg12 arg13 harg13 v1 v3 k x2 x3 x4 x5 x6 f11 f12) (addf (bQ keep (k1_pay251 v1) (k1_pay252 v3) (sd0 arg2 arg5 arg6 k x2 x5 x6) (Scalar.subi (bqi k) 1#32) (tK arg3 x3 _ (k1_off22_inb k h2)) (tK arg4 x4 _ (k1_off22_inb k h2)) (ce0 c i arg2 harg2 arg3 harg3 arg4 harg4 arg5 harg5 arg6 harg6 arg7 harg7 arg8 harg8 arg9 harg9 arg10 harg10 arg11 harg11 arg12 harg12 arg13 harg13 v1 v3 k x2 x3 x4 x5 x6 f11 f12))
      (bQ see (k1_pay251 v1) (k1_pay252 v3) (sd0 arg2 arg5 arg6 k x2 x5 x6) (bqi k) (tK arg3 x3 _ (k1_off24_inb k h2)) (tK arg4 x4 _ (k1_off24_inb k h2)) (bEc keep (k1_pay251 v1) (sd0 arg2 arg5 arg6 k x2 x5 x6) (Scalar.subi (bqi k) 1#32) (tK arg3 x3 _ (k1_off22_inb k h2)) (tK arg4 x4 _ (k1_off22_inb k h2)) (ce0 c i arg2 harg2 arg3 harg3 arg4 harg4 arg5 harg5 arg6 harg6 arg7 harg7 arg8 harg8 arg9 harg9 arg10 harg10 arg11 harg11 arg12 harg12 arg13 harg13 v1 v3 k x2 x3 x4 x5 x6 f11 f12))))))
def qOdd_q1 : Vec F S1x512x128 .f32 := (outO (addf (cq1 c i arg2 harg2 arg3 harg3 arg4 harg4 arg5 harg5 arg6 harg6 arg7 harg7 arg8 harg8 arg9 harg9 arg10 harg10 arg11 harg11 arg12 harg12 arg13 harg13 v1 v3 k x2 x3 x4 x5 x6 f11 f12) (addf (bQ keep (k1_pay251 v1) (k1_pay252 v3) (sd1 arg2 arg5 arg6 k x2 x5 x6) (Scalar.subi (bqi k) 1#32) (tK arg3 x3 _ (k1_off23_inb k h2)) (tK arg4 x4 _ (k1_off23_inb k h2)) (ce1 c i arg2 harg2 arg3 harg3 arg4 harg4 arg5 harg5 arg6 harg6 arg7 harg7 arg8 harg8 arg9 harg9 arg10 harg10 arg11 harg11 arg12 harg12 arg13 harg13 v1 v3 k x2 x3 x4 x5 x6 f11 f12))
      (bQ see (k1_pay251 v1) (k1_pay252 v3) (sd1 arg2 arg5 arg6 k x2 x5 x6) (bqi k) (tK arg3 x3 _ (k1_off25_inb k h2)) (tK arg4 x4 _ (k1_off25_inb k h2)) (bEc keep (k1_pay251 v1) (sd1 arg2 arg5 arg6 k x2 x5 x6) (Scalar.subi (bqi k) 1#32) (tK arg3 x3 _ (k1_off23_inb k h2)) (tK arg4 x4 _ (k1_off23_inb k h2)) (ce1 c i arg2 harg2 arg3 harg3 arg4 harg4 arg5 harg5 arg6 harg6 arg7 harg7 arg8 harg8 arg9 harg9 arg10 harg10 arg11 harg11 arg12 harg12 arg13 harg13 v1 v3 k x2 x3 x4 x5 x6 f11 f12))))))
theorem qOdd_ac : inO (qOdd.sl.v541 c i arg2 harg2 arg3 harg3 arg4 harg4 arg5 harg5 arg6 harg6 arg7 harg7 arg8 harg8 arg9 harg9 arg10 harg10 arg11 harg11 arg12 harg12 arg13 harg13 lanes v1 v3 x2 x3 x4 x5 x6 k f11 f12) = cq0 c i arg2 harg2 arg3 harg3 arg4 harg4 arg5 harg5 arg6 harg6 arg7 harg7 arg8 harg8 arg9 harg9 arg10 harg10 arg11 harg11 arg12 harg12 arg13 harg13 v1 v3 k x2 x3 x4 x5 x6 f11 f12 ∧ inO (qOdd.sl.v550 c i arg2 harg2 arg3 harg3 arg4 harg4 arg5 harg5 arg6 harg6 arg7 harg7 arg8 harg8 arg9 harg9 arg10 harg10 arg11 harg11 arg12 harg12 arg13 harg13 lanes v1 v3 x2 x3 x4 x5 x6 k h2 f11 f12) = cq1 c i arg2 harg2 arg3 harg3 arg4 harg4 arg5 harg5 arg6 harg6 arg7 harg7 arg8 harg8 arg9 harg9 arg10 harg10 arg11 harg11 arg12 harg12 arg13 harg13 v1 v3 k x2 x3 x4 x5 x6 f11 f12 :=
  ⟨congrArg (fun f => inO (arg10.view.readAt (Elt F) slabO0.toLoadRect f)) (View.writes_append ..),
   by
    unfold qOdd.sl.v550 qOdd.sl.H10_1_1
    exact congrArg inO ((rdO1s arg10.view arg10.view.junk _ ((prs c i arg2 harg2 arg3 harg3 arg4 harg4 arg5 harg5 arg6 harg6 arg7 harg7 arg8 harg8 arg9 harg9 arg10 harg10 arg11 harg11 arg12 harg12 arg13 harg13 v1 v3 k x2 x3 x4 x5 x6 f11 f12).1 ++ qEven.sl.H10_1 (F := F))).trans (congrArg (fun f => arg10.view.readAt (Elt F) slabO1.toLoadRect f) (View.writes_append ..)))⟩
theorem qOdd_e0 : arg10.view.readAt (Elt F) slabO0.toLoadRect (arg10.view.writes (Elt F) arg10.view.junk (qOdd.sl.H10_2 c i arg2 harg2 arg3 harg3 arg4 harg4 arg5 harg5 arg6 harg6 arg7 harg7 arg8 harg8 arg9 harg9 arg10 harg10 arg11 harg11 arg12 harg12 arg13 harg13 lanes v1 v3 x2 x3 x4 x5 x6 k h2 f11 f12)) = qOdd_q0 c i arg2 harg2 arg3 harg3 arg4 harg4 arg5 harg5 arg6 harg6 arg7 harg7 arg8 harg8 arg9 harg9 arg10 harg10 arg11 harg11 arg12 harg12 arg13 harg13 v1 v3 k x2 x3 x4 x5 x6 f11 f12 h2 := by
  refine (rdO0 ..).trans ((rdO0' ..).trans ?_)
  unfold qOdd_q0
  rw [← (qOdd_ec c i arg2 harg2 arg3 harg3 arg4 harg4 arg5 harg5 arg6 harg6 arg7 harg7 arg8 harg8 arg9 harg9 arg10 harg10 arg11 harg11 arg12 harg12 arg13 harg13 v1 v3 k x2 x3 x4 x5 x6 f11 f12).1, ← (qOdd_ac c i arg2 harg2 arg3 harg3 arg4 harg4 arg5 harg5 arg6 harg6 arg7 harg7 arg8 harg8 arg9 harg9 arg10 harg10 arg11 harg11 arg12 harg12 arg13 harg13 v1 v3 k x2 x3 x4 x5 x6 f11 f12 h2).1]
  rfl
theorem qOdd_e1 : arg10.view.readAt (Elt F) slabO1.toLoadRect (arg10.view.writes (Elt F) arg10.view.junk (qOdd.sl.H10_2 c i arg2 harg2 arg3 harg3 arg4 harg4 arg5 harg5 arg6 harg6 arg7 harg7 arg8 harg8 arg9 harg9 arg10 harg10 arg11 harg11 arg12 harg12 arg13 harg13 lanes v1 v3 x2 x3 x4 x5 x6 k h2 f11 f12)) = qOdd_q1 c i arg2 harg2 arg3 harg3 arg4 harg4 arg5 harg5 arg6 harg6 arg7 harg7 arg8 harg8 arg9 harg9 arg10 harg10 arg11 harg11 arg12 harg12 arg13 harg13 v1 v3 k x2 x3 x4 x5 x6 f11 f12 h2 := by
  refine (rdO1 ..).trans ?_
  unfold qOdd_q1
  rw [← (qOdd_ec c i arg2 harg2 arg3 harg3 arg4 harg4 arg5 harg5 arg6 harg6 arg7 harg7 arg8 harg8 arg9 harg9 arg10 harg10 arg11 harg11 arg12 harg12 arg13 harg13 v1 v3 k x2 x3 x4 x5 x6 f11 f12).2, ← (qOdd_ac c i arg2 harg2 arg3 harg3 arg4 harg4 arg5 harg5 arg6 harg6 arg7 harg7 arg8 harg8 arg9 harg9 arg10 harg10 arg11 harg11 arg12 harg12 arg13 harg13 v1 v3 k x2 x3 x4 x5 x6 f11 f12 h2).2]
  rfl
theorem qOdd_dq : (qOdd c i arg2 harg2 arg3 harg3 arg4 harg4 arg5 harg5 arg6 harg6 arg7 harg7 arg8 harg8 arg9 harg9 arg10 harg10 arg11 harg11 arg12 harg12 arg13 harg13 lanes v1 v3 x2 x3 x4 x5 x6 k h1 h2).1 f11 f12 = dPieces k (qOdd_q0 c i arg2 harg2 arg3 harg3 arg4 harg4 arg5 harg5 arg6 harg6 arg7 harg7 arg8 harg8 arg9 harg9 arg10 harg10 arg11 harg11 arg12 harg12 arg13 harg13 v1 v3 k x2 x3 x4 x5 x6 f11 f12 h2) (qOdd_q1 c i arg2 harg2 arg3 harg3 arg4 harg4 arg5 harg5 arg6 harg6 arg7 harg7 arg8 harg8 arg9 harg9 arg10 harg10 arg11 harg11 arg12 harg12 arg13 harg13 v1 v3 k x2 x3 x4 x5 x6 f11 f12 h2) := by
  rw [← qOdd_e0 c i arg2 harg2 arg3 harg3 arg4 harg4 arg5 harg5 arg6 harg6 arg7 harg7 arg8 harg8 arg9 harg9 arg10 harg10 arg11 harg11 arg12 harg12 arg13 harg13 v1 v3 k x2 x3 x4 x5 x6 f11 f12 h2, ← qOdd_e1 c i arg2 harg2 arg3 harg3 arg4 harg4 arg5 harg5 arg6 harg6 arg7 harg7 arg8 harg8 arg9 harg9 arg10 harg10 arg11 harg11 arg12 harg12 arg13 harg13 v1 v3 k x2 x3 x4 x5 x6 f11 f12 h2]
  unfold qOdd
  have e00 : qOdd.sl.v176 c i arg2 harg2 arg3 harg3 arg4 harg4 arg5 harg5 arg6 harg6 arg7 harg7 arg8 harg8 arg9 harg9 arg10 harg10 arg11 harg11 arg12 harg12 arg13 harg13 lanes v1 v3 x2 x3 x4 x5 x6 k h2 f11 f12 = _ := rdH00 arg10.view (arg10.view.writes (Elt F) arg10.view.junk (qOdd.sl.H10_2 c i arg2 harg2 arg3 harg3 arg4 harg4 arg5 harg5 arg6 harg6 arg7 harg7 arg8 harg8 arg9 harg9 arg10 harg10 arg11 harg11 arg12 harg12 arg13 harg13 lanes v1 v3 x2 x3 x4 x5 x6 k h2 f11 f12))
  have e01 : qOdd.sl.v178 c i arg2 harg2 arg3 harg3 arg4 harg4 arg5 harg5 arg6 harg6 arg7 harg7 arg8 harg8 arg9 harg9 arg10 harg10 arg11 harg11 arg12 harg12 arg13 harg13 lanes v1 v3 x2 x3 x4 x5 x6 k h2 f11 f12 = _ := rdH01 arg10.view (arg10.view.writes (Elt F) arg10.view.junk (qOdd.sl.H10_2 c i arg2 harg2 arg3 harg3 arg4 harg4 arg5 harg5 arg6 harg6 arg7 harg7 arg8 harg8 arg9 harg9 arg10 harg10 arg11 harg11 arg12 harg12 arg13 harg13 lanes v1 v3 x2 x3 x4 x5 x6 k h2 f11 f12))
  have e10 : qOdd.sl.v192 c i arg2 harg2 arg3 harg3 arg4 harg4 arg5 harg5 arg6 harg6 arg7 harg7 arg8 harg8 arg9 harg9 arg10 harg10 arg11 harg11 arg12 harg12 arg13 harg13 lanes v1 v3 x2 x3 x4 x5 x6 k h2 f11 f12 = _ := rdH10 arg10.view (arg10.view.writes (Elt F) arg10.view.junk (qOdd.sl.H10_2 c i arg2 harg2 arg3 harg3 arg4 harg4 arg5 harg5 arg6 harg6 arg7 harg7 arg8 harg8 arg9 harg9 arg10 harg10 arg11 harg11 arg12 harg12 arg13 harg13 lanes v1 v3 x2 x3 x4 x5 x6 k h2 f11 f12))
  have e11 : qOdd.sl.v194 c i arg2 harg2 arg3 harg3 arg4 harg4 arg5 harg5 arg6 harg6 arg7 harg7 arg8 harg8 arg9 harg9 arg10 harg10 arg11 harg11 arg12 harg12 arg13 harg13 lanes v1 v3 x2 x3 x4 x5 x6 k h2 f11 f12 = _ := rdH11 arg10.view (arg10.view.writes (Elt F) arg10.view.junk (qOdd.sl.H10_2 c i arg2 harg2 arg3 harg3 arg4 harg4 arg5 harg5 arg6 harg6 arg7 harg7 arg8 harg8 arg9 harg9 arg10 harg10 arg11 harg11 arg12 harg12 arg13 harg13 lanes v1 v3 x2 x3 x4 x5 x6 k h2 f11 f12))
  exact congr (congr (congr (congrArg (dPc k) e00) e01) e10) e11
end qOdd

end Turn

end Cert.Kernel2Ideal.Attn
-- ==== Proof.BwdInv.lean ====
module

public import proofs.«01_k».proof.Proof.BwdMath
public import proofs.«01_k».proof.Proof.BwdTurn

@[expose] public section

set_option maxRecDepth 16384

noncomputable section

namespace Cert.Kernel2Ideal.Attn

open Idealize.ShloMosaic Idealize.ShloMosaic.TcCoe Idealize.ShloMosaic.Tactic
open Cert.Kernel2Ideal.Gen

/-! # The accumulators of the backward kernel, from block to block -/

section Closed
theorem btrips1 : k1_t1_loop.trips = 8 := by decide +kernel
theorem btrips2 : ∀ k : Fin k1_t1_loop.trips, (k1_t2_loop k).trips = k.val / 2 := by decide +kernel
theorem bcond_even : ∀ k : Fin k1_t1_loop.trips, k1_cond1 k = 1#1 ↔ k.val % 2 = 0 := by decide +kernel
theorem bqi_val : ∀ k : Fin k1_t1_loop.trips, bqi k = BitVec.ofNat 32 k.val := by decide +kernel
theorem bqi_pred : ∀ k : Fin k1_t1_loop.trips, k.val % 2 = 1 → Scalar.subi (bqi k) 1#32 = BitVec.ofNat 32 (k.val - 1) := by decide +kernel
theorem boffs : ∀ k : Fin k1_t1_loop.trips, k1_off1 k = ![256 * k.val, 0] ∧ k1_off4 k = ![256 * k.val, 128] ∧ k1_off2 k = ![256 * k.val, 0] ∧ k1_off3 k = ![256 * k.val, 128]
    ∧ k1_off5 k = ![256 * k.val, 256] ∧ k1_off6 k = ![256 * k.val, 384] ∧ k1_off28 k = ![0, 256 * k.val, 0] ∧ k1_off29 k = ![0, 256 * k.val, 128] := by decide +kernel
theorem boffs_last : ∀ k : Fin k1_t1_loop.trips, k1_off19 k = ![256 * k.val, 0] ∧ k1_off20 k = ![256 * k.val, 128] ∧ k1_off21 k = ![256 * k.val, 0]
    ∧ k1_off24 k = ![256 * k.val, 0] ∧ k1_off25 k = ![256 * k.val, 128] ∧ k1_off27 k = ![256 * k.val, 0] := by decide +kernel
theorem boffs_odd : ∀ k : Fin k1_t1_loop.trips, k.val % 2 = 1 → k1_off22 k = ![256 * (k.val - 1), 0] ∧ k1_off23 k = ![256 * (k.val - 1), 128] ∧ k1_off26 k = ![256 * (k.val - 1), 0] := by decide +kernel
theorem boffs_pair : ∀ (k : Fin k1_t1_loop.trips) (j : Fin (k1_t2_loop k).trips), k1_off7 k j = ![256 * (2 * j.val), 0] ∧ k1_off8 k j = ![256 * (2 * j.val), 128]
    ∧ k1_off9 k j = ![256 * (2 * j.val + 1), 0] ∧ k1_off10 k j = ![256 * (2 * j.val + 1), 128] ∧ k1_off11 k j = ![256 * (2 * j.val), 0] ∧ k1_off12 k j = ![256 * (2 * j.val + 1), 0] := by decide +kernel
theorem bkb_pair : ∀ (k : Fin k1_t1_loop.trips) (j : Fin (k1_t2_loop k).trips), kbA k j = BitVec.ofNat 32 (2 * j.val) ∧ kbB k j = BitVec.ofNat 32 (2 * j.val + 1) := by decide +kernel
end Closed

section Blocks
variable (n : ℕ) (Q D : ℕ → Fin 512 → Fin 128 → ℝ) (K V : ℕ → ℕ → Fin 128 → ℝ) (A11 A12 : ℕ → ℕ → Fin 128 → ℝ)
/-- A lane pair's query gradient over the keys before block `b`. -/
def dqR (p b : ℕ) (r : Fin 512) (l : Fin 128) : ℝ := ∑ j ∈ Finset.range (256 * b), gR n (Q p) (D p) (K p) (V p) r j * K p j l

/-- The four accumulators once the blocks before `b` are done. -/
structure BInv {κ : Kind} {sp : Space} (w10 : View sig κ sp S2x512x128 .f32) (w11 w12 : View sig κ sp S2x2048x128 .f32) (w13 : View sig κ sp S2x512x1 .f32) (b : ℕ)
    (g10 : w10.ty.Contents (Elt Ideal)) (g11 : w11.ty.Contents (Elt Ideal)) (g12 : w12.ty.Contents (Elt Ideal)) (g13 : w13.ty.Contents (Elt Ideal)) : Prop where
  q0 : ∀ r l, w10.readAt (Elt Ideal) slabO0.toLoadRect g10 (ix3 0 r l) = ((dqR n Q D K V 0 b r l : ℝ) : EReal)
  q1 : ∀ r l, w10.readAt (Elt Ideal) slabO1.toLoadRect g10 (ix3 0 r l) = ((dqR n Q D K V 1 b r l : ℝ) : EReal)
  e0 : ∀ r, w13.readAt (Elt Ideal) slabC0.toLoadRect g13 (ix3 0 r 0) = ((pR n (Q 0) (D 0) (K 0) (V 0) r (256 * b) : ℝ) : EReal)
  e1 : ∀ r, w13.readAt (Elt Ideal) slabC1.toLoadRect g13 (ix3 0 r 0) = ((pR n (Q 1) (D 1) (K 1) (V 1) r (256 * b) : ℝ) : EReal)
  k : Acc w11 g11 (part A11 (fun p => kR n (Q p) (D p) (K p) (V p)) b)
  v : Acc w12 g12 (part A12 (fun p => vR n (Q p) (D p) (K p)) b)

variable {n Q D K V}
/-- A block's mask, number and tiles, for one lane pair. -/
structure BlkOk (n : ℕ) (K V : ℕ → Fin 128 → ℝ) (b : ℕ) (m : FVec Ideal S512x256 .f32 → FVec Ideal S512x256 .f32) (kb : BitVec 32) (kt vt : Vec Ideal S256x128 .bf16) : Prop where
  m : Msk n b m
  kb : kb = BitVec.ofNat 32 b
  k : Blk K b kt
  v : Blk V b vt
  le : b ≤ n

variable {p b : ℕ} {ntri : FVec Ideal S512x256 .bf16} {tri : FVec Ideal S256x256 .bf16} {T : Side Ideal} {m m' : FVec Ideal S512x256 .f32 → FVec Ideal S512x256 .f32} {kb kb' : BitVec 32}
  {kt vt kt' vt' : Vec Ideal S256x128 .bf16} {ec : FVec Ideal S512x1 .f32} {a : FVec Ideal S512x128 .f32}
  (hn : n < 8) (ht : Tri ntri) (hu : Upto tri) (hT : SideOk n (Q p) (D p) (K p) T) (h : BlkOk n (K p) (V p) b m kb kt vt) (h' : BlkOk n (K p) (V p) (b + 1) m' kb' kt' vt')
  (he : ∀ r, ec (ix2 r 0) = ((pR n (Q p) (D p) (K p) (V p) r (256 * b) : ℝ) : EReal))
  (ha : ∀ r l, a (ix2 r l) = ((dqR n Q D K V p b r l : ℝ) : EReal))
include hn ht hT h he in
theorem ec_one (r : Fin 512) : bEc m ntri T kb kt vt ec (ix2 r 0) = ((pR n (Q p) (D p) (K p) (V p) r (256 * (b + 1)) : ℝ) : EReal) :=
  ec_block h.m ht hT h.kb h.k h.v h.le hn he r
theorem dqR_succ (r : Fin 512) (l : Fin 128) : dqR n Q D K V p (b + 1) r l = dqR n Q D K V p b r l + ∑ j ∈ Finset.Ico (256 * b) (256 * (b + 1)), gR n (Q p) (D p) (K p) (V p) r j * K p j l :=
  (Finset.sum_range_add_sum_Ico _ (by omega)).symm
include hn ht hu hT h he ha in
theorem q_one (r : Fin 512) (l : Fin 128) : outO (addf a (bQ m ntri tri T kb kt vt ec)) (ix3 0 r l) = ((dqR n Q D K V p (b + 1) r l : ℝ) : EReal) := by
  refine (outO_at _ r l).trans (Eq.trans (by pointwise : (addf a (bQ m ntri tri T kb kt vt ec) : FVec Ideal S512x128 .f32) (ix2 r l) = a (ix2 r l) + bQ m ntri tri T kb kt vt ec (ix2 r l)) ?_)
  rw [ha, q_block h.m ht hu hT h.kb h.k h.v h.le hn he, ← EReal.coe_add, dqR_succ]
include hn ht hu hT h h' he ha in
theorem q_two (r : Fin 512) (l : Fin 128) : outO (addf a (addf (bQ m ntri tri T kb kt vt ec) (bQ m' ntri tri T kb' kt' vt' (bEc m ntri T kb kt vt ec)))) (ix3 0 r l)
    = ((dqR n Q D K V p (b + 2) r l : ℝ) : EReal) := by
  refine (outO_at _ r l).trans (Eq.trans (by pointwise : (addf a (addf (bQ m ntri tri T kb kt vt ec) (bQ m' ntri tri T kb' kt' vt' (bEc m ntri T kb kt vt ec))) : FVec Ideal S512x128 .f32) (ix2 r l)
    = a (ix2 r l) + (bQ m ntri tri T kb kt vt ec (ix2 r l) + bQ m' ntri tri T kb' kt' vt' (bEc m ntri T kb kt vt ec) (ix2 r l))) ?_)
  rw [ha, q_block h.m ht hu hT h.kb h.k h.v h.le hn he, q_block h'.m ht hu hT h'.kb h'.k h'.v h'.le hn (ec_one hn ht hT h he), ← EReal.coe_add, ← EReal.coe_add, dqR_succ (b := b + 1), dqR_succ (b := b)]
  congr 1; ring

/-- Key and value rows of one block, both lane pairs. -/
theorem kv_one {κ : Kind} {sp : Space} (w : View sig κ sp S2x2048x128 .f32) {f : w.ty.Contents (Elt Ideal)} {A : ℕ → ℕ → Fin 128 → ℝ} {off : Fin 2 → ℕ} (eo : off = ![256 * b, 0])
    (ho : ∀ a, off a + S256x128.size a ≤ S2048x128.size a) {L : List (View.Piece (Elt Ideal) S2x2048x128 .f32)} {T0 T1 : Side Ideal} {kt0 vt0 kt1 vt1 : Vec Ideal S256x128 .bf16} {e0 e1 : FVec Ideal S512x1 .f32}
    (hn : n < 8) (ht : Tri ntri) (hu : Upto tri) (hT0 : SideOk n (Q 0) (D 0) (K 0) T0) (hT1 : SideOk n (Q 1) (D 1) (K 1) T1)
    (h0 : BlkOk n (K 0) (V 0) b m kb kt0 vt0) (h1 : BlkOk n (K 1) (V 1) b m kb kt1 vt1)
    (he0 : ∀ r, e0 (ix2 r 0) = ((pR n (Q 0) (D 0) (K 0) (V 0) r (256 * b) : ℝ) : EReal)) (he1 : ∀ r, e1 (ix2 r 0) = ((pR n (Q 1) (D 1) (K 1) (V 1) r (256 * b) : ℝ) : EReal)) :
    (Acc w (w.writes (Elt Ideal) f L) (part A (fun p => kR n (Q p) (D p) (K p) (V p)) b) →
      Acc w (w.writes (Elt Ideal) f (upd 1 (by decide) off ho w f (bK m ntri tri T1 kb kt1 vt1 e1) (upd 0 (by decide) off ho w f (bK m ntri tri T0 kb kt0 vt0 e0) L))) (part A (fun p => kR n (Q p) (D p) (K p) (V p)) (b + 1)))
    ∧ (Acc w (w.writes (Elt Ideal) f L) (part A (fun p => vR n (Q p) (D p) (K p)) b) →
      Acc w (w.writes (Elt Ideal) f (upd 1 (by decide) off ho w f (bV m ntri T1 kb kt1) (upd 0 (by decide) off ho w f (bV m ntri T0 kb kt0) L))) (part A (fun p => vR n (Q p) (D p) (K p)) (b + 1))) :=
  ⟨fun hA => acc_block w eo ho hA (fun a x j l ha => k_block h0.m ht hu hT0 h0.kb h0.k h0.v h0.le hn he0 a x j l ha) (fun a x j l ha => k_block h1.m ht hu hT1 h1.kb h1.k h1.v h1.le hn he1 a x j l ha),
   fun hA => acc_block w eo ho hA (fun a x j l ha => v_block h0.m ht hT0 h0.kb h0.k h0.le hn a x j l ha) (fun a x j l ha => v_block h1.m ht hT1 h1.kb h1.k h1.le hn a x j l ha)⟩
end Blocks

section Pair
variable (c : Dev nD) (i : grid1.Coords)
  (arg2 : Memref sig .tc .vmem S2048x256 .bf16) (harg2 : arg2.IsWhole) (arg3 : Memref sig .tc .vmem S2048x256 .bf16) (harg3 : arg3.IsWhole)
  (arg4 : Memref sig .tc .vmem S2048x256 .bf16) (harg4 : arg4.IsWhole) (arg5 : Memref sig .tc .vmem S2048x256 .bf16) (harg5 : arg5.IsWhole)
  (arg6 : Memref sig .tc .vmem S2048x512 .f32) (harg6 : arg6.IsWhole) (arg7 : Memref sig .tc .vmem S512x256 .bf16) (harg7 : arg7.IsWhole)
  (arg8 : Memref sig .tc .vmem S256x256 .bf16) (harg8 : arg8.IsWhole) (arg9 : Memref sig .tc .vmem S3x2048x256 .bf16) (harg9 : arg9.IsWhole)
  (arg10 : Memref sig .tc .vmem S2x512x128 .f32) (harg10 : arg10.IsWhole) (arg11 : Memref sig .tc .vmem S2x2048x128 .f32) (harg11 : arg11.IsWhole)
  (arg12 : Memref sig .tc .vmem S2x2048x128 .f32) (harg12 : arg12.IsWhole) (arg13 : Memref sig .tc .vmem S2x512x1 .f32) (harg13 : arg13.IsWhole)
variable (v2 : FVec Ideal S512x256 .bf16) (v4 : FVec Ideal S256x256 .bf16) (v12 : IVec S512x256 1) (k1_t1 : Fin k1_t1_loop.trips) (arg14 : BitVec 32)
  (v64 v79 : FVec Ideal S512x128 .bf16) (v86 : FVec Ideal S512x128 .f32) (v103 v118 : FVec Ideal S512x128 .bf16) (v125 : FVec Ideal S512x128 .f32) (v130 : FVec Ideal S2x512x128 .f32)
variable (x3 : BufTy.Contents (Elt Ideal) arg3.view.ty) (x4 : BufTy.Contents (Elt Ideal) arg4.view.ty)
variable {y3 y4 : Vec Ideal S2048x256 .bf16} (h3 : arg3.view.read (Elt Ideal) x3 = y3) (h4 : arg4.view.read (Elt Ideal) x4 = y4) {Xk Xv : ℕ → ℕ → ℝ} (hk : Mat Xk y3) (hv : Mat Xv y4)
  {Q D : ℕ → Fin 512 → Fin 128 → ℝ} (ht : Tri v2) (hu : Upto v4)
  (hT0 : SideOk k1_t1.val (Q 0) (D 0) (lanesOf Xk 0) ⟨v64, v79, v86⟩) (hT1 : SideOk k1_t1.val (Q 1) (D 1) (lanesOf Xk 1) ⟨v103, v118, v125⟩) {A11 A12 : ℕ → ℕ → Fin 128 → ℝ}

include h3 h4 hk hv ht hu hT0 hT1 in
/-- One pair of blocks before the tile's own. -/
theorem trip_inv (k : Fin (k1_t2_loop k1_t1).trips) (f10 : BufTy.Contents (Elt Ideal) arg10.view.ty) (f11 : BufTy.Contents (Elt Ideal) arg11.view.ty) (f12 : BufTy.Contents (Elt Ideal) arg12.view.ty) (f13 : BufTy.Contents (Elt Ideal) arg13.view.ty)
    (H : BInv k1_t1.val Q D (lanesOf Xk) (lanesOf Xv) A11 A12 arg10.view arg11.view arg12.view arg13.view (2 * k.val) f10 f11 f12 f13) :
    BInv k1_t1.val Q D (lanesOf Xk) (lanesOf Xv) A11 A12 arg10.view arg11.view arg12.view arg13.view (2 * (k.val + 1))
      (arg10.view.writes (Elt Ideal) f10 ((theTrip c i arg2 harg2 arg3 harg3 arg4 harg4 arg5 harg5 arg6 harg6 arg7 harg7 arg8 harg8 arg9 harg9 arg10 harg10 arg11 harg11 arg12 harg12 arg13 harg13 v2 v4 v12 k1_t1 arg14 v64 v79 v86 v103 v118 v125 v130 x3 x4 k).1 f10 f11 f12 f13)) (arg11.view.writes (Elt Ideal) f11 ((theTrip c i arg2 harg2 arg3 harg3 arg4 harg4 arg5 harg5 arg6 harg6 arg7 harg7 arg8 harg8 arg9 harg9 arg10 harg10 arg11 harg11 arg12 harg12 arg13 harg13 v2 v4 v12 k1_t1 arg14 v64 v79 v86 v103 v118 v125 v130 x3 x4 k).2.1 f10 f11 f12 f13))
      (arg12.view.writes (Elt Ideal) f12 ((theTrip c i arg2 harg2 arg3 harg3 arg4 harg4 arg5 harg5 arg6 harg6 arg7 harg7 arg8 harg8 arg9 harg9 arg10 harg10 arg11 harg11 arg12 harg12 arg13 harg13 v2 v4 v12 k1_t1 arg14 v64 v79 v86 v103 v118 v125 v130 x3 x4 k).2.2.1 f10 f11 f12 f13)) (arg13.view.writes (Elt Ideal) f13 ((theTrip c i arg2 harg2 arg3 harg3 arg4 harg4 arg5 harg5 arg6 harg6 arg7 harg7 arg8 harg8 arg9 harg9 arg10 harg10 arg11 harg11 arg12 harg12 arg13 harg13 v2 v4 v12 k1_t1 arg14 v64 v79 v86 v103 v118 v125 v130 x3 x4 k).2.2.2.1 f10 f11 f12 f13)) := by
  have hn : k1_t1.val < 8 := btrips1 ▸ k1_t1.isLt
  have hj : k.val < k1_t1.val / 2 := btrips2 k1_t1 ▸ k.isLt
  obtain ⟨o7, o8, o9, o10, o11, o12⟩ := boffs_pair k1_t1 k
  obtain ⟨kA, kB⟩ := bkb_pair k1_t1 k
  have a0 : BlkOk k1_t1.val (lanesOf Xk 0) (lanesOf Xv 0) (2 * k.val) keep (kbA k1_t1 k) (tK arg3 x3 _ (k1_off7_inb k1_t1 k)) (tK arg4 x4 _ (k1_off7_inb k1_t1 k)) :=
    ⟨keep_msk _ _ (by omega), kA, load_blk h3 hk _ (pp := 0) o7, load_blk h4 hv _ (pp := 0) o7, by omega⟩
  have a1 : BlkOk k1_t1.val (lanesOf Xk 1) (lanesOf Xv 1) (2 * k.val) keep (kbA k1_t1 k) (tK arg3 x3 _ (k1_off8_inb k1_t1 k)) (tK arg4 x4 _ (k1_off8_inb k1_t1 k)) :=
    ⟨keep_msk _ _ (by omega), kA, load_blk h3 hk _ (pp := 1) o8, load_blk h4 hv _ (pp := 1) o8, by omega⟩
  have b0 : BlkOk k1_t1.val (lanesOf Xk 0) (lanesOf Xv 0) (2 * k.val + 1) keep (kbB k1_t1 k) (tK arg3 x3 _ (k1_off9_inb k1_t1 k)) (tK arg4 x4 _ (k1_off9_inb k1_t1 k)) :=
    ⟨keep_msk _ _ (by omega), kB, load_blk h3 hk _ (pp := 0) o9, load_blk h4 hv _ (pp := 0) o9, by omega⟩
  have b1 : BlkOk k1_t1.val (lanesOf Xk 1) (lanesOf Xv 1) (2 * k.val + 1) keep (kbB k1_t1 k) (tK arg3 x3 _ (k1_off10_inb k1_t1 k)) (tK arg4 x4 _ (k1_off10_inb k1_t1 k)) :=
    ⟨keep_msk _ _ (by omega), kB, load_blk h3 hk _ (pp := 1) o10, load_blk h4 hv _ (pp := 1) o10, by omega⟩
  have e0 : ∀ r, inC (arg13.view.readAt (Elt Ideal) slabC0.toLoadRect f13) (ix2 r 0) = _ := fun r => (inC_at _ r).trans (H.e0 r)
  have e1 : ∀ r, inC (arg13.view.readAt (Elt Ideal) slabC1.toLoadRect f13) (ix2 r 0) = _ := fun r => (inC_at _ r).trans (H.e1 r)
  rw [show 2 * (k.val + 1) = 2 * k.val + 2 by ring]
  constructor
  · intro r l
    rw [trip_dq]
    refine (congrFun ((rdO0 ..).trans (rdO0' ..)) _).trans ?_
    exact q_two hn ht hu hT0 a0 b0 e0 (fun r l => (inO_at _ r l).trans (H.q0 r l)) r l
  · intro r l
    rw [trip_dq]
    refine (congrFun (rdO1 ..) _).trans ?_
    exact q_two hn ht hu hT1 a1 b1 e1 (fun r l => (inO_at _ r l).trans (H.q1 r l)) r l
  · intro r
    rw [trip_ec]
    refine (congrFun ((rdC0 ..).trans (rdC0' ..)) _).trans ((outC_at _ r).trans ?_)
    exact ec_one hn ht hT0 b0 (ec_one hn ht hT0 a0 e0) r
  · intro r
    rw [trip_ec]
    refine (congrFun (rdC1 ..) _).trans ((outC_at _ r).trans ?_)
    exact ec_one hn ht hT1 b1 (ec_one hn ht hT1 a1 e1) r
  · rw [trip_dk]
    exact (kv_one arg11.view o12 _ hn ht hu hT0 hT1 b0 b1 (ec_one hn ht hT0 a0 e0) (ec_one hn ht hT1 a1 e1)).1 ((kv_one arg11.view o11 _ hn ht hu hT0 hT1 a0 a1 e0 e1).1 H.k)
  · rw [trip_dv]
    exact (kv_one arg12.view o12 _ hn ht hu hT0 hT1 b0 b1 (ec_one hn ht hT0 a0 e0) (ec_one hn ht hT1 a1 e1)).2 ((kv_one arg12.view o11 _ hn ht hu hT0 hT1 a0 a1 e0 e1).2 H.v)

include h3 h4 hk hv ht hu hT0 hT1 in
/-- All the pairs before the tile's own blocks. -/
theorem pairs_all (f10 : BufTy.Contents (Elt Ideal) arg10.view.ty) (f11 : BufTy.Contents (Elt Ideal) arg11.view.ty) (f12 : BufTy.Contents (Elt Ideal) arg12.view.ty) (f13 : BufTy.Contents (Elt Ideal) arg13.view.ty)
    (H : BInv k1_t1.val Q D (lanesOf Xk) (lanesOf Xv) A11 A12 arg10.view arg11.view arg12.view arg13.view 0 f10 f11 f12 f13) : ∀ j ≤ (k1_t2_loop k1_t1).trips,
    BInv k1_t1.val Q D (lanesOf Xk) (lanesOf Xv) A11 A12 arg10.view arg11.view arg12.view arg13.view (2 * j)
      (arg10.view.writes (Elt Ideal) f10 (pPc c i arg2 harg2 arg3 harg3 arg4 harg4 arg5 harg5 arg6 harg6 arg7 harg7 arg8 harg8 arg9 harg9 arg10 harg10 arg11 harg11 arg12 harg12 arg13 harg13 lanes v2 v4 v12 k1_t1 arg14 v64 v79 v86 v103 v118 v125 v130 x3 x4 f10 f11 f12 f13 j).1) (arg11.view.writes (Elt Ideal) f11 (pPc c i arg2 harg2 arg3 harg3 arg4 harg4 arg5 harg5 arg6 harg6 arg7 harg7 arg8 harg8 arg9 harg9 arg10 harg10 arg11 harg11 arg12 harg12 arg13 harg13 lanes v2 v4 v12 k1_t1 arg14 v64 v79 v86 v103 v118 v125 v130 x3 x4 f10 f11 f12 f13 j).2.1)
      (arg12.view.writes (Elt Ideal) f12 (pPc c i arg2 harg2 arg3 harg3 arg4 harg4 arg5 harg5 arg6 harg6 arg7 harg7 arg8 harg8 arg9 harg9 arg10 harg10 arg11 harg11 arg12 harg12 arg13 harg13 lanes v2 v4 v12 k1_t1 arg14 v64 v79 v86 v103 v118 v125 v130 x3 x4 f10 f11 f12 f13 j).2.2.1) (arg13.view.writes (Elt Ideal) f13 (pPc c i arg2 harg2 arg3 harg3 arg4 harg4 arg5 harg5 arg6 harg6 arg7 harg7 arg8 harg8 arg9 harg9 arg10 harg10 arg11 harg11 arg12 harg12 arg13 harg13 lanes v2 v4 v12 k1_t1 arg14 v64 v79 v86 v103 v118 v125 v130 x3 x4 f10 f11 f12 f13 j).2.2.2) := fun j => by
  induction j with
  | zero => exact fun _ => H
  | succ j ih =>
    intro hj
    have e := pPc_succ c i arg2 harg2 arg3 harg3 arg4 harg4 arg5 harg5 arg6 harg6 arg7 harg7 arg8 harg8 arg9 harg9 arg10 harg10 arg11 harg11 arg12 harg12 arg13 harg13 lanes v2 v4 v12 k1_t1 arg14 v64 v79 v86 v103 v118 v125 v130 x3 x4 f10 f11 f12 f13 ⟨j, hj⟩
    dsimp only at e
    rw [e]
    simp only [View.writes_append]
    exact trip_inv c i arg2 harg2 arg3 harg3 arg4 harg4 arg5 harg5 arg6 harg6 arg7 harg7 arg8 harg8 arg9 harg9 arg10 harg10 arg11 harg11 arg12 harg12 arg13 harg13 v2 v4 v12 k1_t1 arg14 v64 v79 v86 v103 v118 v125 v130 x3 x4 h3 h4 hk hv ht hu hT0 hT1 ⟨j, hj⟩ _ _ _ _ (ih (by omega))
end Pair

end Cert.Kernel2Ideal.Attn
-- ==== Proof.AttnOut.lean ====
module

public import proofs.«01_k».proof.Proof.AttnInv
import all proofs.«01_k».proof.Proof.AttnFwd

@[expose] public section

set_option maxRecDepth 16384

noncomputable section

namespace Cert.Kernel2Ideal.Attn

open Idealize.ShloMosaic Idealize.ShloMosaic.TcCoe Idealize.ShloMosaic.Tactic
open Cert.Kernel2Ideal.Gen

/-! # The forward kernel's blocks, entry by entry -/

section Spec
variable (Xq Xk Xv : ℕ → ℕ → ℝ)
/-- The stacked row of row `a` at lane `b`. -/
def rowOf (a b : ℕ) : Fin 512 := ⟨b % 128 / 64 * 256 + a % 256, by omega⟩
/-- The output at row `a` and lane `b`. -/
def oSpec (a b : ℕ) : ℝ := ∑ j ∈ Finset.Ico (256 * 0) (256 * (a / 256 + 1)),
  wR (a / 256) (stackOf Xq (a / 256) (b / 128)) (lanesOf Xk (b / 128)) (rowOf a b) j * lanesOf Xv (b / 128) j ⟨b % 128, Nat.mod_lt _ (by decide)⟩
/-- The sum carried into block `b % 128` of row `a`, by pairs of heads and their halves. -/
def cSpec (a b : ℕ) : ℝ := if b % 128 ≤ a / 256 then
  -tR (a / 256) (stackOf Xq (a / 256) (b / 256)) (lanesOf Xk (b / 256)) ⟨b % 256 / 128 * 256 + a % 256, by omega⟩ (256 * (b % 128 + 1)) else 0
def oBlk (y : S1x2048x256.Idx) : Elt Ideal .bf16 := ((oSpec Xq Xk Xv (y 1).val (y 2).val : ℝ) : EReal)
def cBlk (y : S2048x512.Idx) : Elt Ideal .f32 := ((cSpec Xq Xk (y 0).val (y 1).val : ℝ) : EReal)
end Spec

theorem half0_at (x : Vec Ideal S1x512x128 .f32) (i : Fin 256) (l : Fin 128) : half0 x (ix3 0 i l) = x (ix3 0 ⟨i.val, by omega⟩ l) :=
  congrArg x (funext fun a => Fin.ext (by fin_cases a <;> simp))
theorem half1_at (x : Vec Ideal S1x512x128 .f32) (i : Fin 256) (l : Fin 128) : half1 x (ix3 0 i l) = x (ix3 0 ⟨256 + i.val, by omega⟩ l) :=
  congrArg x (funext fun a => Fin.ext (by fin_cases a <;> simp))

theorem merge5_at (x y : Vec Ideal S1x256x128 .f32) (i : Fin 256) (l : Fin 128) : k0_pay5 x y (ix3 0 i l) = if l.val < 64 then x (ix3 0 i l) else y (ix3 0 i l) := by
  unfold k0_pay5; pointwise
  exact sel_eq (word_half l) _ _
theorem merge_at (x y : Vec Ideal S1x256x128 .f32) (i : Fin 256) (l : Fin 128) : k0_pay147 lanes x y (ix3 0 i l) = if l.val < 64 then x (ix3 0 i l) else y (ix3 0 i l) := by
  unfold k0_pay147; pointwise
  exact sel_eq (word_half l) _ _
theorem drop_at (x : Vec Ideal S1x256x128 .f32) (i : Fin 256) (l : Fin 128) : k0_pay4 x (ix2 i l) = x (ix3 0 i l) := by
  unfold k0_pay4; pointwise

theorem offs_out : ∀ k : Fin k0_t1_loop.trips, k0_off19 k = ![0, 256 * k.val, 0] ∧ k0_off22 k = ![0, 256 * k.val, 128]
    ∧ k0_off17 k = ![256 * k.val, 0] ∧ k0_off18 k = ![256 * k.val, 128] ∧ k0_off20 k = ![256 * k.val, 256] ∧ k0_off21 k = ![256 * k.val, 384] := by decide +kernel

/-- A piece of a buffer of rank 2 or 3 whose slice starts at `off` holds the entries of `G` there. -/
theorem piece3 {off : Fin 3 → ℕ} (h : ∀ a, off a + S1x256x128.size a ≤ S1x2048x256.size a) {n p : ℕ} (e : off = ![0, 256 * n, 128 * p]) (w : Vec Ideal S1x256x128 .bf16) (G : ℕ → ℕ → ℝ)
    (hw : ∀ (i : Fin 256) (l : Fin 128), w (ix3 0 i l) = ((G (256 * n + i.val) (128 * p + l.val) : ℝ) : EReal)) (x : (Rect.unit (s := S1x2048x256) off S1x256x128.size h).shape.Idx) :
    w x = ((G ((Rect.unit (s := S1x2048x256) off S1x256x128.size h).emb x 1).val ((Rect.unit (s := S1x2048x256) off S1x256x128.size h).emb x 2).val : ℝ) : EReal) := by
  subst e
  have hx : x = ix3 (0 : Fin 1) (x 1 : Fin 256) (x 2 : Fin 128) := funext fun a => by
    fin_cases a
    · exact Subsingleton.elim (α := Fin 1) _ _
    · rfl
    · rfl
  refine (congrArg w hx).trans ((hw (x 1) (x 2)).trans ?_)
  congr 2
  · exact (congrArg (256 * n + ·) (one_mul (x 1).val)).symm
  · exact (congrArg (128 * p + ·) (one_mul (x 2).val)).symm

theorem piece2 {off : Fin 2 → ℕ} (h : ∀ a, off a + S256x128.size a ≤ S2048x512.size a) {n p : ℕ} (e : off = ![256 * n, 128 * p]) (w : Vec Ideal S256x128 .f32) (G : ℕ → ℕ → ℝ)
    (hw : ∀ (i : Fin 256) (l : Fin 128), w (ix2 i l) = ((G (256 * n + i.val) (128 * p + l.val) : ℝ) : EReal)) (x : (Rect.unit (s := S2048x512) off S256x128.size h).shape.Idx) :
    w x = ((G ((Rect.unit (s := S2048x512) off S256x128.size h).emb x 0).val ((Rect.unit (s := S2048x512) off S256x128.size h).emb x 1).val : ℝ) : EReal) := by
  subst e
  have hx : x = ix2 (x 0 : Fin 256) (x 1 : Fin 128) := funext fun a => by fin_cases a <;> rfl
  refine (congrArg w hx).trans ((hw (x 0) (x 1)).trans ?_)
  congr 2
  · exact (congrArg (256 * n + ·) (one_mul (x 0).val)).symm
  · exact (congrArg (128 * p + ·) (one_mul (x 1).val)).symm

section Tile
variable {n pp : ℕ} {Xq Xk Xv : ℕ → ℕ → ℝ} {s : St Ideal} (h : Inv n (stackOf Xq n pp) (lanesOf Xk pp) (lanesOf Xv pp) 0 s)
include h

theorem out_o (i : Fin 256) (l : Fin 128) : (if l.val < 64 then half0 s.o (ix3 0 i l) else half1 s.o (ix3 0 i l)) = ((oSpec Xq Xk Xv (256 * n + i.val) (128 * pp + l.val) : ℝ) : EReal) := by
  have e1 : (256 * n + i.val) / 256 = n := by omega
  have e2 : (128 * pp + l.val) / 128 = pp := by omega
  have e3 : (⟨(128 * pp + l.val) % 128, Nat.mod_lt _ (by decide)⟩ : Fin 128) = l := Fin.ext (show (128 * pp + l.val) % 128 = l.val by omega)
  unfold oSpec
  rw [e1, e2, e3]
  split
  · rw [half0_at, h.o, show (⟨i.val, by omega⟩ : Fin 512) = rowOf (256 * n + i.val) (128 * pp + l.val) from Fin.ext (by simp only [rowOf]; omega)]
  · rw [half1_at, h.o, show (⟨256 + i.val, by omega⟩ : Fin 512) = rowOf (256 * n + i.val) (128 * pp + l.val) from Fin.ext (by simp only [rowOf]; omega)]

theorem out_c (i : Fin 256) (l : Fin 128) : k0_pay4 (half0 s.m) (ix2 i l) = ((cSpec Xq Xk (256 * n + i.val) (128 * (2 * pp) + l.val) : ℝ) : EReal)
    ∧ k0_pay4 (half1 s.m) (ix2 i l) = ((cSpec Xq Xk (256 * n + i.val) (128 * (2 * pp + 1) + l.val) : ℝ) : EReal) := by
  have e1 : (256 * n + i.val) / 256 = n := by omega
  constructor
  · rw [drop_at, half0_at, h.m, cSpec, e1, show (128 * (2 * pp) + l.val) / 256 = pp by omega, show (128 * (2 * pp) + l.val) % 128 = l.val by omega]
    congr 1
    refine if_congr (by omega) (congrArg (fun r => -tR _ _ _ r _) (Fin.ext ?_)) rfl
    simp; omega
  · rw [drop_at, half1_at, h.m, cSpec, e1, show (128 * (2 * pp + 1) + l.val) / 256 = pp by omega, show (128 * (2 * pp + 1) + l.val) % 128 = l.val by omega]
    congr 1
    refine if_congr (by omega) (congrArg (fun r => -tR _ _ _ r _) (Fin.ext ?_)) rfl
    simp; omega
end Tile

section All
variable (c : Dev nD) (i : grid0.Coords) (arg2 : Memref sig .tc .vmem S2048x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S512x256 .bf16) (harg5 : arg5.IsWhole) (arg6 : Memref sig .tc .vmem S1x2048x256 .bf16) (harg6 : arg6.IsWhole) (arg7 : Memref sig .tc .vmem S2048x512 .f32) (harg7 : arg7.IsWhole) (arg8 : Memref sig .tc .vmem S2x512x128 .f32) (harg8 : arg8.IsWhole) (arg9 : Memref sig .tc .vmem S2x512x128 .f32) (harg9 : arg9.IsWhole) (arg10 : Memref sig .tc .vmem S2x512x1 .f32) (harg10 : arg10.IsWhole)
variable (v1 : Vec Ideal S512x256 .bf16)
variable (x2 : BufTy.Contents (Elt Ideal) arg2.view.ty) (x3 : BufTy.Contents (Elt Ideal) arg3.view.ty) (x4 : BufTy.Contents (Elt Ideal) arg4.view.ty)
  {y2 y3 y4 : Vec Ideal S2048x256 .bf16} (h2 : arg2.view.read (Elt Ideal) x2 = y2) (h3 : arg3.view.read (Elt Ideal) x3 = y3) (h4 : arg4.view.read (Elt Ideal) x4 = y4)
  {Xq Xk Xv : ℕ → ℕ → ℝ} (hq : Mat Xq y2) (hk : Mat Xk y3) (hv : Mat Xv y4) (ht : Tri (k0_pay1 v1))
include h2 h3 h4 hq hk hv ht

theorem all_pieces (n : ℕ) (hn : n ≤ k0_t1_loop.trips) :
    (∀ p ∈ fO c i arg2 harg2 arg3 harg3 arg4 harg4 arg5 harg5 arg6 harg6 arg7 harg7 arg8 harg8 arg9 harg9 arg10 harg10 lanes v1 x2 x3 x4 n, ∀ x, p.2 x = ((oSpec Xq Xk Xv (p.1.emb x 1).val (p.1.emb x 2).val : ℝ) : EReal))
    ∧ ∀ p ∈ fC c i arg2 harg2 arg3 harg3 arg4 harg4 arg5 harg5 arg6 harg6 arg7 harg7 arg8 harg8 arg9 harg9 arg10 harg10 lanes v1 x2 x3 x4 n, ∀ x, p.2 x = ((cSpec Xq Xk (p.1.emb x 0).val (p.1.emb x 1).val : ℝ) : EReal) := by
  induction n with
  | zero => constructor <;> (intro p hp; exact absurd hp (List.not_mem_nil))
  | succ n ih =>
    obtain ⟨io, ic⟩ := ih (by omega)
    have f0 := fin0_inv arg2 arg3 arg4 v1 ⟨n, hn⟩ x2 x3 x4 h2 h3 h4 hq hk hv ht
    have f1 := fin1_inv arg2 arg3 arg4 v1 ⟨n, hn⟩ x2 x3 x4 h2 h3 h4 hq hk hv ht
    obtain ⟨ro, rc⟩ := run_pieces c i arg2 harg2 arg3 harg3 arg4 harg4 arg5 harg5 arg6 harg6 arg7 harg7 arg8 harg8 arg9 harg9 arg10 harg10 v1 ⟨n, hn⟩ x2 x3 x4
    obtain ⟨a1, a2, a3, a4, a5, a6⟩ := offs_out ⟨n, hn⟩
    constructor
    · intro p hp
      rw [fO_succ c i arg2 harg2 arg3 harg3 arg4 harg4 arg5 harg5 arg6 harg6 arg7 harg7 arg8 harg8 arg9 harg9 arg10 harg10 lanes v1 x2 x3 x4 ⟨n, hn⟩, ro] at hp
      rcases List.mem_append.1 hp with hp | hp
      · rcases List.mem_cons.1 hp with rfl | hp
        · exact piece3 (k0_off22_inb ⟨n, hn⟩) (p := 1) a2 _ _ fun i l => (merge5_at _ _ i l).trans (out_o f1 i l)
        · rcases List.mem_singleton.1 hp with rfl
          exact piece3 (k0_off19_inb ⟨n, hn⟩) (p := 0) a1 _ _ fun i l => (merge_at _ _ i l).trans (out_o f0 i l)
      · exact io p hp
    · intro p hp
      rw [fC_succ c i arg2 harg2 arg3 harg3 arg4 harg4 arg5 harg5 arg6 harg6 arg7 harg7 arg8 harg8 arg9 harg9 arg10 harg10 lanes v1 x2 x3 x4 ⟨n, hn⟩, rc] at hp
      rcases List.mem_append.1 hp with hp | hp
      · rcases List.mem_cons.1 hp with rfl | hp
        · exact piece2 (k0_off21_inb ⟨n, hn⟩) (p := 3) a6 _ _ fun i l => (out_c f1 i l).2
        rcases List.mem_cons.1 hp with rfl | hp
        · exact piece2 (k0_off20_inb ⟨n, hn⟩) (p := 2) a5 _ _ fun i l => (out_c f1 i l).1
        rcases List.mem_cons.1 hp with rfl | hp
        · exact piece2 (k0_off18_inb ⟨n, hn⟩) (p := 1) a4 _ _ fun i l => (out_c f0 i l).2
        rcases List.mem_singleton.1 hp with rfl
        exact piece2 (k0_off17_inb ⟨n, hn⟩) (p := 0) a3 _ _ fun i l => (out_c f0 i l).1
      · exact ic p hp
end All

theorem tri_read {w : Memref sig .tc .vmem S512x256 .bf16} (f : w.view.ty.Contents (Elt Ideal)) {y : Vec Ideal S512x256 .bf16} (hf : w.view.read (Elt Ideal) f = y) (ht : Tri y) :
    Tri (k0_pay1 (w.view.readAt (Elt Ideal) (Rect.unit (s := S512x256) ![0, 0] S512x256.size inb_S512x256_S512x256_0_0).toLoadRect f)) := fun p j => by
  have e : ∀ v : Vec Ideal S512x256 .bf16, k0_pay1 v (ix2 p j) = v (ix2 p j) := fun v => by unfold k0_pay1; pointwise
  rw [e, View.readAt_eq_ld, hf]
  refine Eq.trans (congrArg y (funext fun a => Fin.ext ?_)) (ht p j)
  fin_cases a <;> exact (LoadRect.idx_apply ..).trans (by simp)

theorem blocks (c : Dev nD) (t : Fin cfg0.N) {y0 y1 y2 : Vec Ideal S2048x256 .bf16} {y3 : Vec Ideal S512x256 .bf16} {Xq Xk Xv : ℕ → ℕ → ℝ} (hq : Mat Xq y0) (hk : Mat Xk y1) (hv : Mat Xv y2) (ht : Tri y3) :
    (∀ (a : Fin 2048) (b : Fin 256), out0_4 c t y0 y1 y2 y3 (ix3 0 a b) = ((oSpec Xq Xk Xv a.val b.val : ℝ) : EReal))
    ∧ ∀ (a : Fin 2048) (b : Fin 512), out0_5 c t y0 y1 y2 y3 (ix2 a b) = ((cSpec Xq Xk a.val b.val : ℝ) : EReal) := by
  have H := all_pieces c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (Memref.whole cc0_scratch0) (Memref.isWhole_whole _) (Memref.whole cc0_scratch1) (Memref.isWhole_whole _) (Memref.whole cc0_scratch2) (Memref.isWhole_whole _) _ _ _ _
    ((hstage0_0 ((cfg0.slots t 0).cast nbuf0_0)).read_unread y0) ((hstage0_1 ((cfg0.slots t 1).cast nbuf0_1)).read_unread y1) ((hstage0_2 ((cfg0.slots t 2).cast nbuf0_2)).read_unread y2)
    hq hk hv (tri_read _ ((hstage0_3 ((cfg0.slots t 3).cast nbuf0_3)).read_unread y3) ht) k0_t1_loop.trips le_rfl
  have h0 : ∀ p ∈ (fAt (F := Ideal) c t y0 y1 y2 y3).1, ∀ x, p.2 x = oBlk Xq Xk Xv (p.1.emb x) := H.1
  have h1 : ∀ p ∈ (fAt (F := Ideal) c t y0 y1 y2 y3).2.1, ∀ x, p.2 x = cBlk Xq Xk (p.1.emb x) := H.2
  constructor
  · intro a b
    have := View.canon_append_of_pieces (oBlk Xq Xk Xv) [] _ h0 (ix3 0 a b) (cover0_4 c t y0 y1 y2 y3 _)
    rw [List.append_nil] at this
    exact this
  · intro a b
    have := View.canon_append_of_pieces (cBlk Xq Xk) [] _ h1 (ix2 a b) (cover0_5 c t y0 y1 y2 y3 _)
    rw [List.append_nil] at this
    exact this

end Cert.Kernel2Ideal.Attn
-- ==== Proof.BwdEnd.lean ====
module

public import proofs.«01_k».proof.Proof.BwdInv
public import proofs.«01_k».proof.Proof.AttnOut
import all proofs.«01_k».proof.Proof.BwdTurn
import all proofs.«01_k».proof.Proof.BwdTile
import all proofs.«01_k».proof.Proof.AttnBwd

@[expose] public section

set_option maxRecDepth 16384

noncomputable section

namespace Cert.Kernel2Ideal.Attn

open Idealize.ShloMosaic Idealize.ShloMosaic.TcCoe Idealize.ShloMosaic.Tactic
open Cert.Kernel2Ideal.Gen

/-! # What one query tile of the backward kernel leaves, in real numbers -/

section Sides
/-- The stacked cotangents of tile `n`. -/
def ctOf (X : ℕ → ℕ → ℝ) (n pp : ℕ) : Fin 512 → Fin 128 → ℝ :=
  fun r l => if l.val / 64 = r.val / 256 then X (256 * n + r.val % 256) (128 * pp + l.val) else 0

theorem dStack_at (x : Vec Ideal S256x128 .bf16) (r : Fin 512) (l : Fin 128) :
    k1_pay221 lanes x (ix2 r l) = if l.val / 64 = r.val / 256 then x (ix2 ⟨r.val % 256, by omega⟩ l) else 0 := by
  unfold k1_pay221; pointwise
  split
  · rename_i h
    refine (sel_eq (word_half l) _ _).trans (if_congr ?_ ?_ rfl)
    · have := l.isLt; omega
    · congr 2; exact Fin.ext (by simp; omega)
  · rename_i h
    refine (sel_eq (word_half' l) _ _).trans (if_congr ?_ ?_ rfl)
    · have := l.isLt; have := r.isLt; omega
    · congr 2; exact Fin.ext (by simp; omega)
theorem cStack_at (x y : Vec Ideal S256x128 .f32) (r : Fin 512) (l : Fin 128) :
    k1_pay222 x y (ix2 r l) = if r.val < 256 then x (ix2 ⟨r.val % 256, by omega⟩ l) else y (ix2 ⟨r.val % 256, by omega⟩ l) := by
  unfold k1_pay222; pointwise
  split
  · rename_i h; congr 2; exact Fin.ext (by simp; omega)
  · rename_i h; congr 2; exact Fin.ext (by simp; have := r.isLt; omega)

/-- The carried sums in the array of the forward kernel. -/
def Car (Xq Xk : ℕ → ℕ → ℝ) (y : Vec Ideal S2048x512 .f32) : Prop := ∀ (a : Fin 2048) (b : Fin 512), y (ix2 a b) = ((cSpec Xq Xk a.val b.val : ℝ) : EReal)
theorem load_car {κ : Kind} {sp : Space} {w : Memref sig κ sp S2048x512 .f32} {x : w.view.ty.Contents (Elt Ideal)} {y : Vec Ideal S2048x512 .f32}
    (hx : w.view.read (Elt Ideal) x = y) {Xq Xk : ℕ → ℕ → ℝ} (hy : Car Xq Xk y) {off : Fin 2 → ℕ} (h : ∀ a, off a + S256x128.size a ≤ S2048x512.size a) {n u : ℕ} (e : off = ![256 * n, 128 * u])
    (j : Fin 256) (l : Fin 128) :
    w.view.readAt (Elt Ideal) (Rect.unit (s := S2048x512) off S256x128.size h).toLoadRect x (ix2 j l) = ((cSpec Xq Xk (256 * n + j.val) (128 * u + l.val) : ℝ) : EReal) := by
  subst e
  have h0 : 256 * n + 256 ≤ 2048 := h 0
  have h1 : 128 * u + 128 ≤ 512 := h 1
  have hj := j.isLt; have hl := l.isLt
  rw [View.readAt_eq_ld, hx]
  refine Eq.trans ?_ (hy ⟨256 * n + j.val, by omega⟩ ⟨128 * u + l.val, by omega⟩)
  refine congrArg y (funext fun a => Fin.ext ?_)
  fin_cases a
  · exact (LoadRect.idx_apply ..).trans (congrArg (256 * n + ·) (one_mul j.val))
  · exact (LoadRect.idx_apply ..).trans (congrArg (128 * u + ·) (one_mul l.val))
/-- A tile's sums of one lane pair: the two heads' rows, one above the other. -/
theorem car_side {w : Memref sig .tc .vmem S2048x512 .f32} {x : w.view.ty.Contents (Elt Ideal)} {y : Vec Ideal S2048x512 .f32}
    (hx : w.view.read (Elt Ideal) x = y) {Xq Xk : ℕ → ℕ → ℝ} (hy : Car Xq Xk y) {o o' : Fin 2 → ℕ} (h : ∀ a, o a + S256x128.size a ≤ S2048x512.size a) (h' : ∀ a, o' a + S256x128.size a ≤ S2048x512.size a)
    {n pp : ℕ} (e : o = ![256 * n, 128 * (2 * pp)]) (e' : o' = ![256 * n, 128 * (2 * pp + 1)]) (r : Fin 512) (l : Fin 128) (hl : l.val ≤ n) :
    k1_pay222 (w.view.readAt (Elt Ideal) (Rect.unit (s := S2048x512) o S256x128.size h).toLoadRect x) (w.view.readAt (Elt Ideal) (Rect.unit (s := S2048x512) o' S256x128.size h').toLoadRect x) (ix2 r l)
      = ((-tR n (stackOf Xq n pp) (lanesOf Xk pp) r (256 * (l.val + 1)) : ℝ) : EReal) := by
  have hr := r.isLt; have hl' := l.isLt
  have hh : ∀ (u : ℕ), u < 2 → r.val / 256 = u → cSpec Xq Xk (256 * n + r.val % 256) (128 * (2 * pp + u) + l.val) = -tR n (stackOf Xq n pp) (lanesOf Xk pp) r (256 * (l.val + 1)) := fun u hu hr2 => by
    have e1 : (256 * n + r.val % 256) / 256 = n := by omega
    have e2 : (128 * (2 * pp + u) + l.val) % 128 = l.val := by omega
    have e3 : (128 * (2 * pp + u) + l.val) / 256 = pp := by omega
    unfold cSpec
    rw [e1, e2, e3, if_pos hl]
    congr 2
    exact Fin.ext (by show (128 * (2 * pp + u) + l.val) % 256 / 128 * 256 + (256 * n + r.val % 256) % 256 = r.val; omega)
  rw [cStack_at]
  split
  · rw [load_car hx hy h e]; exact congrArg _ (hh 0 (by decide) (by omega))
  · rw [load_car hx hy h' e']; exact congrArg _ (hh 1 (by decide) (by omega))
end Sides

section Zero
variable (n : ℕ) (Q D : ℕ → Fin 512 → Fin 128 → ℝ) (K V : ℕ → ℕ → Fin 128 → ℝ) (A11 A12 : ℕ → ℕ → Fin 128 → ℝ) (arg10 : Memref sig .tc .vmem S2x512x128 .f32) (arg13 : Memref sig .tc .vmem S2x512x1 .f32)
theorem zero_q (y : S2x512x128.Idx) : k1_pay230 (k1_pay229 (F := Ideal)) y = 0 := by
  idx_vars y; unfold k1_pay230 k1_pay229; pointwise
theorem zero_e (y : S2x512x1.Idx) : k1_pay228 (F := Ideal) y = 0 := by
  idx_vars y; unfold k1_pay228; pointwise
theorem start_inv (w11 w12 : View sig .tc .vmem S2x2048x128 .f32) {f11 : w11.ty.Contents (Elt Ideal)} {f12 : w12.ty.Contents (Elt Ideal)} (h11 : Acc w11 f11 A11) (h12 : Acc w12 f12 A12) :
    BInv n Q D K V A11 A12 arg10.view w11 w12 arg13.view 0 (z10 arg10) f11 f12 (z13 arg13) := by
  constructor
  · intro r l
    refine (congrFun (View.readCov_fill arg10.view _ _ _ _ (by decide)) _).trans ((zero_q _).trans ?_)
    simp [dqR]
  · intro r l
    refine (congrFun (View.readCov_fill arg10.view _ _ _ _ (by decide)) _).trans ((zero_q _).trans ?_)
    simp [dqR]
  · intro r
    refine (congrFun (View.readCov_fill arg13.view _ _ _ _ (by decide)) _).trans ((zero_e _).trans ?_)
    simp [pR]
  · intro r
    refine (congrFun (View.readCov_fill arg13.view _ _ _ _ (by decide)) _).trans ((zero_e _).trans ?_)
    simp [pR]
  · intro p j l; rw [h11]; simp [part]
  · intro p j l; rw [h12]; simp [part]
end Zero

section Tile
variable (c : Dev nD) (i : grid1.Coords)
  (arg2 : Memref sig .tc .vmem S2048x256 .bf16) (harg2 : arg2.IsWhole) (arg3 : Memref sig .tc .vmem S2048x256 .bf16) (harg3 : arg3.IsWhole)
  (arg4 : Memref sig .tc .vmem S2048x256 .bf16) (harg4 : arg4.IsWhole) (arg5 : Memref sig .tc .vmem S2048x256 .bf16) (harg5 : arg5.IsWhole)
  (arg6 : Memref sig .tc .vmem S2048x512 .f32) (harg6 : arg6.IsWhole) (arg7 : Memref sig .tc .vmem S512x256 .bf16) (harg7 : arg7.IsWhole)
  (arg8 : Memref sig .tc .vmem S256x256 .bf16) (harg8 : arg8.IsWhole) (arg9 : Memref sig .tc .vmem S3x2048x256 .bf16) (harg9 : arg9.IsWhole)
  (arg10 : Memref sig .tc .vmem S2x512x128 .f32) (harg10 : arg10.IsWhole) (arg11 : Memref sig .tc .vmem S2x2048x128 .f32) (harg11 : arg11.IsWhole)
  (arg12 : Memref sig .tc .vmem S2x2048x128 .f32) (harg12 : arg12.IsWhole) (arg13 : Memref sig .tc .vmem S2x512x1 .f32) (harg13 : arg13.IsWhole)
variable (v1 : Vec Ideal S512x256 .bf16) (v3 : Vec Ideal S256x256 .bf16) (k : Fin k1_t1_loop.trips)
variable (x2 : BufTy.Contents (Elt Ideal) arg2.view.ty) (x3 : BufTy.Contents (Elt Ideal) arg3.view.ty) (x4 : BufTy.Contents (Elt Ideal) arg4.view.ty) (x5 : BufTy.Contents (Elt Ideal) arg5.view.ty) (x6 : BufTy.Contents (Elt Ideal) arg6.view.ty)
variable (f11 : BufTy.Contents (Elt Ideal) arg11.view.ty) (f12 : BufTy.Contents (Elt Ideal) arg12.view.ty)

variable {y2 y3 y4 y5 : Vec Ideal S2048x256 .bf16} {y6 : Vec Ideal S2048x512 .f32} (h2 : arg2.view.read (Elt Ideal) x2 = y2) (h3 : arg3.view.read (Elt Ideal) x3 = y3) (h4 : arg4.view.read (Elt Ideal) x4 = y4)
  (h5 : arg5.view.read (Elt Ideal) x5 = y5) (h6 : arg6.view.read (Elt Ideal) x6 = y6)
  {Xq Xk Xv Xd : ℕ → ℕ → ℝ} (hq : Mat Xq y2) (hk : Mat Xk y3) (hv : Mat Xv y4) (hd : Mat Xd y5) (hc : Car Xq Xk y6) (ht : Tri (k1_pay251 v1)) (hu : Upto (k1_pay252 v3)) {A11 A12 : ℕ → ℕ → Fin 128 → ℝ}

include h2 h5 h6 hq hd hc in
theorem sides : SideOk k.val (stackOf Xq k.val 0) (ctOf Xd k.val 0) (lanesOf Xk 0) (sd0 arg2 arg5 arg6 k x2 x5 x6) ∧ SideOk k.val (stackOf Xq k.val 1) (ctOf Xd k.val 1) (lanesOf Xk 1) (sd1 arg2 arg5 arg6 k x2 x5 x6) := by
  obtain ⟨o1, o4, o2, o3, o5, o6, -, -⟩ := boffs k
  refine ⟨⟨load_qry h2 hq _ (pp := 0) o1, fun r l => ?_, fun r l hl => car_side h6 hc _ _ (pp := 0) o2 o3 r l hl⟩, ⟨load_qry h2 hq _ (pp := 1) o4, fun r l => ?_, fun r l hl => car_side h6 hc _ _ (pp := 1) o5 o6 r l hl⟩⟩
  · refine (dStack_at _ r l).trans ?_
    unfold ctOf; split
    · exact load_at h5 hd _ (pp := 0) o1 _ l
    · rfl
  · refine (dStack_at _ r l).trans ?_
    unfold ctOf; split
    · exact load_at h5 hd _ (pp := 1) o4 _ l
    · rfl

/-- What tile `n` adds to the key and the value gradients. -/
def kAdd (Xq Xk Xv Xd : ℕ → ℕ → ℝ) (n : ℕ) : ℕ → ℕ → Fin 128 → ℝ := fun p => kR n (stackOf Xq n p) (ctOf Xd n p) (lanesOf Xk p) (lanesOf Xv p)
def vAdd (Xq Xk Xd : ℕ → ℕ → ℝ) (n : ℕ) : ℕ → ℕ → Fin 128 → ℝ := fun p => vR n (stackOf Xq n p) (ctOf Xd n p) (lanesOf Xk p)
/-- The stacked query gradient of tile `n`. -/
def qSum (Xq Xk Xv Xd : ℕ → ℕ → ℝ) (n p : ℕ) : Fin 512 → Fin 128 → ℝ := dqR n (stackOf Xq n) (ctOf Xd n) (lanesOf Xk) (lanesOf Xv) p (n + 1)

theorem part_full {A G : ℕ → ℕ → Fin 128 → ℝ} {n : ℕ} (h : ∀ p j l, 256 * (n + 1) ≤ j → G p j l = 0) : part A G (n + 1) = fun p j l => A p j l + G p j l := by
  funext p j l
  unfold part
  by_cases hj : j < 256 * (n + 1)
  · rw [if_pos hj]
  · rw [if_neg hj, h p j l (by omega)]

include h2 h3 h4 h5 h6 hq hk hv hd hc ht hu in
set_option maxHeartbeats 1000000 in
theorem tile_end (h11 : Acc arg11.view f11 A11) (h12 : Acc arg12.view f12 A12) : ∃ s0 s1 : Vec Ideal S1x512x128 .f32,
    (qRun c i arg2 harg2 arg3 harg3 arg4 harg4 arg5 harg5 arg6 harg6 arg7 harg7 arg8 harg8 arg9 harg9 arg10 harg10 arg11 harg11 arg12 harg12 arg13 harg13 lanes v1 v3 x2 x3 x4 x5 x6 k).1 f11 f12 = dPieces k s0 s1 ∧ (∀ r l, s0 (ix3 0 r l) = ((qSum Xq Xk Xv Xd k.val 0 r l : ℝ) : EReal)) ∧ (∀ r l, s1 (ix3 0 r l) = ((qSum Xq Xk Xv Xd k.val 1 r l : ℝ) : EReal))
    ∧ Acc arg11.view (arg11.view.writes (Elt Ideal) f11 ((qRun c i arg2 harg2 arg3 harg3 arg4 harg4 arg5 harg5 arg6 harg6 arg7 harg7 arg8 harg8 arg9 harg9 arg10 harg10 arg11 harg11 arg12 harg12 arg13 harg13 lanes v1 v3 x2 x3 x4 x5 x6 k).2.1 f11 f12)) (fun p j l => A11 p j l + kAdd Xq Xk Xv Xd k.val p j l)
    ∧ Acc arg12.view (arg12.view.writes (Elt Ideal) f12 ((qRun c i arg2 harg2 arg3 harg3 arg4 harg4 arg5 harg5 arg6 harg6 arg7 harg7 arg8 harg8 arg9 harg9 arg10 harg10 arg11 harg11 arg12 harg12 arg13 harg13 lanes v1 v3 x2 x3 x4 x5 x6 k).2.2.1 f11 f12)) (fun p j l => A12 p j l + vAdd Xq Xk Xd k.val p j l) := by
  have hn : k.val < 8 := btrips1 ▸ k.isLt
  obtain ⟨hT0, hT1⟩ := sides arg2 arg5 arg6 k x2 x5 x6 h2 h5 h6 hq hd hc (Xk := Xk)
  have P := pairs_all c i arg2 harg2 arg3 harg3 arg4 harg4 arg5 harg5 arg6 harg6 arg7 harg7 arg8 harg8 arg9 harg9 arg10 harg10 arg11 harg11 arg12 harg12 arg13 harg13 (k1_pay251 v1) (k1_pay252 v3) k1_pay253 k (bqi k) _ _ _ _ _ _ k1_pay229 x3 x4 h3 h4 hk hv ht hu
    (Q := stackOf Xq k.val) (D := ctOf Xd k.val) hT0 hT1 (z10 arg10) f11 f12 (z13 arg13) (start_inv k.val _ _ _ _ A11 A12 arg10 arg13 arg11.view arg12.view h11 h12) (bpairs k) le_rfl
  rw [show 2 * bpairs k = k.val - k.val % 2 by have : bpairs k = k.val / 2 := btrips2 k; omega] at P
  have fk := part_full (A := A11) (G := kAdd Xq Xk Xv Xd k.val) (n := k.val) fun p j l hj => kR_out _ _ _ _ _ hj
  have fv := part_full (A := A12) (G := vAdd Xq Xk Xd k.val) (n := k.val) fun p j l hj => vR_out _ _ _ _ hj
  have e0 : ∀ r, inC (arg13.view.readAt (Elt Ideal) slabC0.toLoadRect (c13 c i arg2 harg2 arg3 harg3 arg4 harg4 arg5 harg5 arg6 harg6 arg7 harg7 arg8 harg8 arg9 harg9 arg10 harg10 arg11 harg11 arg12 harg12 arg13 harg13 v1 v3 k x2 x3 x4 x5 x6 f11 f12)) (ix2 r 0) = _ := fun r => (inC_at _ r).trans (P.e0 r)
  have e1 : ∀ r, inC (arg13.view.readAt (Elt Ideal) slabC1.toLoadRect (c13 c i arg2 harg2 arg3 harg3 arg4 harg4 arg5 harg5 arg6 harg6 arg7 harg7 arg8 harg8 arg9 harg9 arg10 harg10 arg11 harg11 arg12 harg12 arg13 harg13 v1 v3 k x2 x3 x4 x5 x6 f11 f12)) (ix2 r 0) = _ := fun r => (inC_at _ r).trans (P.e1 r)
  have q0 : ∀ r l, inO (arg10.view.readAt (Elt Ideal) slabO0.toLoadRect (c10 c i arg2 harg2 arg3 harg3 arg4 harg4 arg5 harg5 arg6 harg6 arg7 harg7 arg8 harg8 arg9 harg9 arg10 harg10 arg11 harg11 arg12 harg12 arg13 harg13 v1 v3 k x2 x3 x4 x5 x6 f11 f12)) (ix2 r l) = _ := fun r l => (inO_at _ r l).trans (P.q0 r l)
  have q1 : ∀ r l, inO (arg10.view.readAt (Elt Ideal) slabO1.toLoadRect (c10 c i arg2 harg2 arg3 harg3 arg4 harg4 arg5 harg5 arg6 harg6 arg7 harg7 arg8 harg8 arg9 harg9 arg10 harg10 arg11 harg11 arg12 harg12 arg13 harg13 v1 v3 k x2 x3 x4 x5 x6 f11 f12)) (ix2 r l) = _ := fun r l => (inO_at _ r l).trans (P.q1 r l)
  obtain ⟨o19, o20, o21, o24, o25, o27⟩ := boffs_last k
  rw [← fk, ← fv]
  unfold qRun
  by_cases h : k1_cond1 k = 1#1
  · rw [dif_pos h]
    have hz : k.val - k.val % 2 = k.val := by have := (bcond_even k).1 h; omega
    rw [hz] at e0 e1 q0 q1
    have Pk := P.k; have Pv := P.v
    rw [hz] at Pk Pv
    have b0 : BlkOk k.val (lanesOf Xk 0) (lanesOf Xv 0) k.val see (bqi k) (tK arg3 x3 _ (k1_off19_inb k h)) (tK arg4 x4 _ (k1_off19_inb k h)) :=
      ⟨see_msk _, bqi_val k, load_blk h3 hk _ (pp := 0) o19, load_blk h4 hv _ (pp := 0) o19, le_rfl⟩
    have b1 : BlkOk k.val (lanesOf Xk 1) (lanesOf Xv 1) k.val see (bqi k) (tK arg3 x3 _ (k1_off20_inb k h)) (tK arg4 x4 _ (k1_off20_inb k h)) :=
      ⟨see_msk _, bqi_val k, load_blk h3 hk _ (pp := 1) o20, load_blk h4 hv _ (pp := 1) o20, le_rfl⟩
    refine ⟨_, _, qEven_dq c i arg2 harg2 arg3 harg3 arg4 harg4 arg5 harg5 arg6 harg6 arg7 harg7 arg8 harg8 arg9 harg9 arg10 harg10 arg11 harg11 arg12 harg12 arg13 harg13 v1 v3 k x2 x3 x4 x5 x6 f11 f12 h _, q_one hn ht hu hT0 b0 e0 q0, q_one hn ht hu hT1 b1 e1 q1, ?_, ?_⟩
    · rw [qEven_dk]
      exact (kv_one arg11.view o21 _ hn ht hu hT0 hT1 b0 b1 e0 e1).1 Pk
    · rw [qEven_dv]
      exact (kv_one arg12.view o21 _ hn ht hu hT0 hT1 b0 b1 e0 e1).2 Pv
  · rw [dif_neg h]
    have ho : k.val % 2 = 1 := by have := mt (bcond_even k).2 h; omega
    have h2 := (qParity k).2 h
    have hz : k.val - k.val % 2 = k.val - 1 := by omega
    have hs : k.val - 1 + 1 = k.val := by omega
    rw [hz] at e0 e1 q0 q1
    have Pk := P.k; have Pv := P.v
    rw [hz] at Pk Pv
    obtain ⟨o22, o23, o26⟩ := boffs_odd k ho
    have a0 : BlkOk k.val (lanesOf Xk 0) (lanesOf Xv 0) (k.val - 1) keep (Scalar.subi (bqi k) 1#32) (tK arg3 x3 _ (k1_off22_inb k h2)) (tK arg4 x4 _ (k1_off22_inb k h2)) :=
      ⟨keep_msk _ _ (by omega), bqi_pred k ho, load_blk h3 hk _ (pp := 0) o22, load_blk h4 hv _ (pp := 0) o22, by omega⟩
    have a1 : BlkOk k.val (lanesOf Xk 1) (lanesOf Xv 1) (k.val - 1) keep (Scalar.subi (bqi k) 1#32) (tK arg3 x3 _ (k1_off23_inb k h2)) (tK arg4 x4 _ (k1_off23_inb k h2)) :=
      ⟨keep_msk _ _ (by omega), bqi_pred k ho, load_blk h3 hk _ (pp := 1) o23, load_blk h4 hv _ (pp := 1) o23, by omega⟩
    have b0 : BlkOk k.val (lanesOf Xk 0) (lanesOf Xv 0) (k.val - 1 + 1) see (bqi k) (tK arg3 x3 _ (k1_off24_inb k h2)) (tK arg4 x4 _ (k1_off24_inb k h2)) := by
      rw [hs]; exact ⟨see_msk _, bqi_val k, load_blk h3 hk _ (pp := 0) o24, load_blk h4 hv _ (pp := 0) o24, le_rfl⟩
    have b1 : BlkOk k.val (lanesOf Xk 1) (lanesOf Xv 1) (k.val - 1 + 1) see (bqi k) (tK arg3 x3 _ (k1_off25_inb k h2)) (tK arg4 x4 _ (k1_off25_inb k h2)) := by
      rw [hs]; exact ⟨see_msk _, bqi_val k, load_blk h3 hk _ (pp := 1) o25, load_blk h4 hv _ (pp := 1) o25, le_rfl⟩
    have o27' : k1_off27 k = ![256 * (k.val - 1 + 1), 0] := by rw [hs]; exact o27
    have s0 := q_two hn ht hu hT0 a0 b0 e0 q0
    have s1 := q_two hn ht hu hT1 a1 b1 e1 q1
    have k2 := (kv_one arg11.view o27' (k1_off27_inb k h2) hn ht hu hT0 hT1 b0 b1 (ec_one hn ht hT0 a0 e0) (ec_one hn ht hT1 a1 e1)).1 ((kv_one arg11.view o26 (k1_off26_inb k h2) hn ht hu hT0 hT1 a0 a1 e0 e1).1 Pk)
    have v2 := (kv_one arg12.view o27' (k1_off27_inb k h2) hn ht hu hT0 hT1 b0 b1 (ec_one hn ht hT0 a0 e0) (ec_one hn ht hT1 a1 e1)).2 ((kv_one arg12.view o26 (k1_off26_inb k h2) hn ht hu hT0 hT1 a0 a1 e0 e1).2 Pv)
    rw [show k.val - 1 + 2 = k.val + 1 by omega] at s0 s1
    rw [hs] at k2 v2
    refine ⟨_, _, qOdd_dq c i arg2 harg2 arg3 harg3 arg4 harg4 arg5 harg5 arg6 harg6 arg7 harg7 arg8 harg8 arg9 harg9 arg10 harg10 arg11 harg11 arg12 harg12 arg13 harg13 v1 v3 k x2 x3 x4 x5 x6 f11 f12 h h2, s0, s1, ?_, ?_⟩
    · rw [qOdd_dk]; exact k2
    · rw [qOdd_dv]; exact v2
end Tile

end Cert.Kernel2Ideal.Attn
-- ==== Proof.BwdOut.lean ====
module

public import proofs.«01_k».proof.Proof.BwdEnd
public import proofs.«01_k».proof.Proof.AttnRun
public import Idealize.ShloMosaic.Lib.VecWindow
import all proofs.«01_k».proof.Proof.BwdTurn
import all proofs.«01_k».proof.Proof.BwdTile
import all proofs.«01_k».proof.Proof.AttnBwd

@[expose] public section

set_option maxRecDepth 16384

noncomputable section

namespace Cert.Kernel2Ideal.Attn

open Idealize.ShloMosaic Idealize.ShloMosaic.TcCoe Idealize.ShloMosaic.Tactic
open Cert.Kernel2Ideal.Gen

/-! # The backward kernel's block, entry by entry -/

section Spec
variable (Xq Xk Xv Xd : ℕ → ℕ → ℝ)
/-- What the tiles before `n` add to the key and to the value gradients. -/
def kSum (n : ℕ) (p j : ℕ) (l : Fin 128) : ℝ := ∑ m ∈ Finset.range n, kAdd Xq Xk Xv Xd m p j l
def vSum (n : ℕ) (p j : ℕ) (l : Fin 128) : ℝ := ∑ m ∈ Finset.range n, vAdd Xq Xk Xd m p j l
/-- A lane among its pair of heads. -/
def laneOf (b : ℕ) : Fin 128 := ⟨b % 128, Nat.mod_lt _ (by decide)⟩
/-- The three gradients at row `a` and lane `b`. -/
def dSpec (s a b : ℕ) : ℝ := if s = 0 then qSum Xq Xk Xv Xd (a / 256) (b / 128) (rowOf a b) (laneOf b) * (1 / 8)
  else if s = 1 then kSum Xq Xk Xv Xd 8 (b / 128) a (laneOf b) else vSum Xq Xk Xd 8 (b / 128) a (laneOf b)
def dBlk (y : S3x2048x256.Idx) : Elt Ideal .bf16 := ((dSpec Xq Xk Xv Xd (y 0).val (y 1).val (y 2).val : ℝ) : EReal)
end Spec

theorem eighth32 : Ideal.ofBits .f32 0x3E000000#32 = ((1 / 8 : ℝ) : EReal) := by
  simp [Ideal.ofBits, Ideal.ieee]
  rw [← EReal.coe_mul]; norm_num
theorem dq0_at (x y : Vec Ideal S1x256x128 .f32) (i : Fin 256) (l : Fin 128) : k1_pay249 lanes x y (ix3 0 i l) = (if l.val < 64 then x (ix3 0 i l) else y (ix3 0 i l)) * ((1 / 8 : ℝ) : EReal) := by
  unfold k1_pay249; pointwise
  exact congr (congrArg _ (sel_eq (word_half l) _ _)) eighth32
theorem dq1_at (x y : Vec Ideal S1x256x128 .f32) (i : Fin 256) (l : Fin 128) : k1_pay250 lanes x y (ix3 0 i l) = (if l.val < 64 then x (ix3 0 i l) else y (ix3 0 i l)) * ((1 / 8 : ℝ) : EReal) := by
  unfold k1_pay250; pointwise
  exact congr (congrArg _ (sel_eq (word_half l) _ _)) eighth32
theorem full256_at (x : Vec Ideal S1x2048x128 .f32) (i : Fin 2048) (l : Fin 128) : k1_pay256 x (ix3 0 i l) = x (ix3 0 i l) := by unfold k1_pay256; pointwise
theorem full1_at (x : Vec Ideal S1x2048x128 .f32) (i : Fin 2048) (l : Fin 128) : k1_pay1 x (ix3 0 i l) = x (ix3 0 i l) := by unfold k1_pay1; pointwise
theorem full2_at (x : Vec Ideal S1x2048x128 .f32) (i : Fin 2048) (l : Fin 128) : k1_pay2 x (ix3 0 i l) = x (ix3 0 i l) := by unfold k1_pay2; pointwise
theorem full3_at (x : Vec Ideal S1x2048x128 .f32) (i : Fin 2048) (l : Fin 128) : k1_pay3 x (ix3 0 i l) = x (ix3 0 i l) := by unfold k1_pay3; pointwise

/-- A piece of the output whose slice starts at row `a` and lane `b` of slab `s`. -/
theorem pieceD {m : ℕ} {off : Fin 3 → ℕ} (h : ∀ a, off a + (![1, m, 128] : Fin 3 → ℕ) a ≤ S3x2048x256.size a) {s r b : ℕ} (e : off = ![s, r, b]) (w : Vec Ideal ⟨3, ![1, m, 128]⟩ .bf16) (G : ℕ → ℕ → ℕ → ℝ)
    (hw : ∀ (i : Fin m) (l : Fin 128), w (ix3 0 i l) = ((G s (r + i.val) (b + l.val) : ℝ) : EReal)) (x : (Rect.unit (s := S3x2048x256) off ![1, m, 128] h).shape.Idx) :
    w x = ((G ((Rect.unit (s := S3x2048x256) off ![1, m, 128] h).emb x 0).val ((Rect.unit (s := S3x2048x256) off ![1, m, 128] h).emb x 1).val ((Rect.unit (s := S3x2048x256) off ![1, m, 128] h).emb x 2).val : ℝ) : EReal) := by
  subst e
  have h0 : (x 0).val = 0 := Nat.lt_one_iff.1 (x 0).isLt
  have hx : x = ix3 (0 : Fin 1) (x 1 : Fin m) (x 2 : Fin 128) := funext fun a => by
    fin_cases a
    · exact Fin.ext h0
    · rfl
    · rfl
  refine (congrArg w hx).trans ((hw (x 1) (x 2)).trans ?_)
  congr 2
  · show s = s + 1 * (x 0).val
    omega
  · exact (congrArg (r + ·) (one_mul (x 1).val)).symm
  · exact (congrArg (b + ·) (one_mul (x 2).val)).symm

theorem acc_load {κ : Kind} {sp : Space} {w : View sig κ sp S2x2048x128 .f32} {f : w.ty.Contents (Elt Ideal)} {A : ℕ → ℕ → Fin 128 → ℝ} (hA : Acc w f A) {p : ℕ} (hp : p < 2)
    (h : ∀ a, (![p, 0, 0] : Fin 3 → ℕ) a + S1x2048x128.size a ≤ S2x2048x128.size a) (j : Fin 2048) (l : Fin 128) :
    w.readAt (Elt Ideal) (Rect.unit (s := S2x2048x128) ![p, 0, 0] S1x2048x128.size h).toLoadRect f (ix3 0 j l) = ((A p j.val l : ℝ) : EReal) := by
  rw [View.readAt_eq_ld]
  refine Eq.trans ?_ (hA ⟨p, hp⟩ j l)
  refine congrArg (w.read (Elt Ideal) f) (funext fun a => Fin.ext ?_)
  fin_cases a <;> exact (LoadRect.idx_apply ..).trans (by simp)

theorem acc_zero (w : View sig .tc .vmem S2x2048x128 .f32) (Z : Vec Ideal S2x2048x128 .f32) (hZ : ∀ y, Z y = 0) (A : ℕ → ℕ → Fin 128 → ℝ) (hA : ∀ p j l, A p j l = 0) :
    Acc w (w.writes (Elt Ideal) w.junk [⟨Rect.unit ![0, 0, 0] S2x2048x128.size inb_S2x2048x128_S2x2048x128_0_0_0, Z⟩]) A := fun p j l => by
  have : w.read (Elt Ideal) (w.writes (Elt Ideal) w.junk [⟨Rect.unit ![0, 0, 0] S2x2048x128.size inb_S2x2048x128_S2x2048x128_0_0_0, Z⟩]) = Z :=
    View.read_writes_full w _ _ _ _
  rw [this, hZ, hA]; rfl

section Tile
variable {n pp : ℕ} {Xq Xk Xv Xd : ℕ → ℕ → ℝ} {s : Vec Ideal S1x512x128 .f32} (h : ∀ r l, s (ix3 0 r l) = ((qSum Xq Xk Xv Xd n pp r l : ℝ) : EReal))
include h
theorem out_dq (i : Fin 256) (l : Fin 128) : (if l.val < 64 then half0 s (ix3 0 i l) else half1 s (ix3 0 i l)) * ((1 / 8 : ℝ) : EReal) = ((dSpec Xq Xk Xv Xd 0 (256 * n + i.val) (128 * pp + l.val) : ℝ) : EReal) := by
  have e1 : (256 * n + i.val) / 256 = n := by omega
  have e2 : (128 * pp + l.val) / 128 = pp := by omega
  have e3 : laneOf (128 * pp + l.val) = l := Fin.ext (show (128 * pp + l.val) % 128 = l.val by omega)
  unfold dSpec
  rw [if_pos rfl, e1, e2, e3, EReal.coe_mul]
  congr 1
  split
  · rw [half0_at, h, show (⟨i.val, by omega⟩ : Fin 512) = rowOf (256 * n + i.val) (128 * pp + l.val) from Fin.ext (by simp only [rowOf]; omega)]
  · rw [half1_at, h, show (⟨256 + i.val, by omega⟩ : Fin 512) = rowOf (256 * n + i.val) (128 * pp + l.val) from Fin.ext (by simp only [rowOf]; omega)]
end Tile

section All
variable (c : Dev nD) (i : grid1.Coords)
  (arg2 : Memref sig .tc .vmem S2048x256 .bf16) (harg2 : arg2.IsWhole) (arg3 : Memref sig .tc .vmem S2048x256 .bf16) (harg3 : arg3.IsWhole)
  (arg4 : Memref sig .tc .vmem S2048x256 .bf16) (harg4 : arg4.IsWhole) (arg5 : Memref sig .tc .vmem S2048x256 .bf16) (harg5 : arg5.IsWhole)
  (arg6 : Memref sig .tc .vmem S2048x512 .f32) (harg6 : arg6.IsWhole) (arg7 : Memref sig .tc .vmem S512x256 .bf16) (harg7 : arg7.IsWhole)
  (arg8 : Memref sig .tc .vmem S256x256 .bf16) (harg8 : arg8.IsWhole) (arg9 : Memref sig .tc .vmem S3x2048x256 .bf16) (harg9 : arg9.IsWhole)
  (arg10 : Memref sig .tc .vmem S2x512x128 .f32) (harg10 : arg10.IsWhole) (arg11 : Memref sig .tc .vmem S2x2048x128 .f32) (harg11 : arg11.IsWhole)
  (arg12 : Memref sig .tc .vmem S2x2048x128 .f32) (harg12 : arg12.IsWhole) (arg13 : Memref sig .tc .vmem S2x512x1 .f32) (harg13 : arg13.IsWhole)
variable (v1 : Vec Ideal S512x256 .bf16) (v3 : Vec Ideal S256x256 .bf16)
variable (x2 : BufTy.Contents (Elt Ideal) arg2.view.ty) (x3 : BufTy.Contents (Elt Ideal) arg3.view.ty) (x4 : BufTy.Contents (Elt Ideal) arg4.view.ty) (x5 : BufTy.Contents (Elt Ideal) arg5.view.ty) (x6 : BufTy.Contents (Elt Ideal) arg6.view.ty)
variable (f11 : BufTy.Contents (Elt Ideal) arg11.view.ty) (f12 : BufTy.Contents (Elt Ideal) arg12.view.ty)
variable {y2 y3 y4 y5 : Vec Ideal S2048x256 .bf16} {y6 : Vec Ideal S2048x512 .f32} (h2 : arg2.view.read (Elt Ideal) x2 = y2) (h3 : arg3.view.read (Elt Ideal) x3 = y3) (h4 : arg4.view.read (Elt Ideal) x4 = y4)
  (h5 : arg5.view.read (Elt Ideal) x5 = y5) (h6 : arg6.view.read (Elt Ideal) x6 = y6)
  {Xq Xk Xv Xd : ℕ → ℕ → ℝ} (hq : Mat Xq y2) (hk : Mat Xk y3) (hv : Mat Xv y4) (hd : Mat Xd y5) (hc : Car Xq Xk y6) (ht : Tri (k1_pay251 v1)) (hu : Upto (k1_pay252 v3))

include h2 h3 h4 h5 h6 hq hk hv hd hc ht hu in
theorem tiles_all (h11 : Acc arg11.view f11 (kSum Xq Xk Xv Xd 0)) (h12 : Acc arg12.view f12 (vSum Xq Xk Xd 0)) (n : ℕ) (hn : n ≤ k1_t1_loop.trips) :
    (∀ p ∈ (qPc c i arg2 harg2 arg3 harg3 arg4 harg4 arg5 harg5 arg6 harg6 arg7 harg7 arg8 harg8 arg9 harg9 arg10 harg10 arg11 harg11 arg12 harg12 arg13 harg13 lanes v1 v3 x2 x3 x4 x5 x6 f11 f12 n).1, ∀ x, p.2 x = ((dSpec Xq Xk Xv Xd (p.1.emb x 0).val (p.1.emb x 1).val (p.1.emb x 2).val : ℝ) : EReal))
    ∧ Acc arg11.view (arg11.view.writes (Elt Ideal) f11 (qPc c i arg2 harg2 arg3 harg3 arg4 harg4 arg5 harg5 arg6 harg6 arg7 harg7 arg8 harg8 arg9 harg9 arg10 harg10 arg11 harg11 arg12 harg12 arg13 harg13 lanes v1 v3 x2 x3 x4 x5 x6 f11 f12 n).2.1) (kSum Xq Xk Xv Xd n)
    ∧ Acc arg12.view (arg12.view.writes (Elt Ideal) f12 (qPc c i arg2 harg2 arg3 harg3 arg4 harg4 arg5 harg5 arg6 harg6 arg7 harg7 arg8 harg8 arg9 harg9 arg10 harg10 arg11 harg11 arg12 harg12 arg13 harg13 lanes v1 v3 x2 x3 x4 x5 x6 f11 f12 n).2.2) (vSum Xq Xk Xd n) := by
  induction n with
  | zero => exact ⟨fun p hp => absurd hp List.not_mem_nil, h11, h12⟩
  | succ n ih =>
    obtain ⟨ip, ik, iv⟩ := ih (by omega)
    obtain ⟨s0, s1, ed, hs0, hs1, hk', hv'⟩ := tile_end c i arg2 harg2 arg3 harg3 arg4 harg4 arg5 harg5 arg6 harg6 arg7 harg7 arg8 harg8 arg9 harg9 arg10 harg10 arg11 harg11 arg12 harg12 arg13 harg13 v1 v3 ⟨n, hn⟩ x2 x3 x4 x5 x6 _ _ h2 h3 h4 h5 h6 hq hk hv hd hc ht hu ik iv
    obtain ⟨-, -, -, -, -, -, o28, o29⟩ := boffs ⟨n, hn⟩
    have e := qPc_succ c i arg2 harg2 arg3 harg3 arg4 harg4 arg5 harg5 arg6 harg6 arg7 harg7 arg8 harg8 arg9 harg9 arg10 harg10 arg11 harg11 arg12 harg12 arg13 harg13 lanes v1 v3 x2 x3 x4 x5 x6 f11 f12 ⟨n, hn⟩
    dsimp only at e
    rw [e]
    refine ⟨?_, ?_, ?_⟩
    · intro p hp
      dsimp only at hp
      rw [ed] at hp
      rcases List.mem_append.1 hp with hp | hp
      · rcases List.mem_cons.1 hp with rfl | hp
        · exact pieceD (k1_off29_inb ⟨n, hn⟩) o29 _ (dSpec Xq Xk Xv Xd) fun i l => (dq1_at _ _ i l).trans (out_dq hs1 i l)
        · rcases List.mem_singleton.1 hp with rfl
          refine pieceD (k1_off28_inb ⟨n, hn⟩) o28 _ (dSpec Xq Xk Xv Xd) fun i l => (dq0_at _ _ i l).trans ((out_dq hs0 i l).trans ?_)
          rw [Nat.mul_zero]
      · exact ip p hp
    · simp only [View.writes_append]
      refine fun p j l => (hk' p j l).trans ?_
      exact congrArg _ (Finset.sum_range_succ (fun m => kAdd Xq Xk Xv Xd m p.val j.val l) n).symm
    · simp only [View.writes_append]
      refine fun p j l => (hv' p j l).trans ?_
      exact congrArg _ (Finset.sum_range_succ (fun m => vAdd Xq Xk Xd m p.val j.val l) n).symm
end All

theorem tria_read {w : Memref sig .tc .vmem S512x256 .bf16} (f : w.view.ty.Contents (Elt Ideal)) {y : Vec Ideal S512x256 .bf16} (hf : w.view.read (Elt Ideal) f = y) (ht : Tri y) :
    Tri (k1_pay251 (w.view.readAt (Elt Ideal) (Rect.unit (s := S512x256) ![0, 0] S512x256.size inb_S512x256_S512x256_0_0).toLoadRect f)) := tri_read f hf ht
theorem trii_read {w : Memref sig .tc .vmem S256x256 .bf16} (f : w.view.ty.Contents (Elt Ideal)) {y : Vec Ideal S256x256 .bf16} (hf : w.view.read (Elt Ideal) f = y) (hu : Upto y) :
    Upto (k1_pay252 (w.view.readAt (Elt Ideal) (Rect.unit (s := S256x256) ![0, 0] S256x256.size inb_S256x256_S256x256_0_0).toLoadRect f)) := fun p j => by
  have e : ∀ v : Vec Ideal S256x256 .bf16, k1_pay252 v (ix2 p j) = v (ix2 p j) := fun v => by unfold k1_pay252; pointwise
  rw [e, View.readAt_eq_ld, hf]
  refine Eq.trans (congrArg y (funext fun a => Fin.ext ?_)) (hu p j)
  fin_cases a <;> exact (LoadRect.idx_apply ..).trans (by simp)

theorem zero11 (y : S2x2048x128.Idx) : k1_pay254 (F := Ideal) y = 0 := by
  idx_vars y; unfold k1_pay254; pointwise
theorem zero12 (y : S2x2048x128.Idx) : k1_pay255 (F := Ideal) y = 0 := by
  idx_vars y; unfold k1_pay255; pointwise

set_option maxHeartbeats 1000000 in
theorem grads (c : Dev nD) (t : Fin cfg1.N) {y0 y1 y2 y3 : Vec Ideal S2048x256 .bf16} {y4 : Vec Ideal S2048x512 .f32} {y5 : Vec Ideal S512x256 .bf16} {y6 : Vec Ideal S256x256 .bf16} {Xq Xk Xv Xd : ℕ → ℕ → ℝ}
    (hq : Mat Xq y0) (hk : Mat Xk y1) (hv : Mat Xv y2) (hd : Mat Xd y3) (hc : Car Xq Xk y4) (ht : Tri y5) (hu : Upto y6) (s : Fin 3) (a : Fin 2048) (b : Fin 256) :
    out1_7 c t y0 y1 y2 y3 y4 y5 y6 (ix3 s a b) = ((dSpec Xq Xk Xv Xd s.val a.val b.val : ℝ) : EReal) := by
  have H := tiles_all c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (Memref.whole cc1_scratch0) (Memref.isWhole_whole _) (Memref.whole cc1_scratch1) (Memref.isWhole_whole _) (Memref.whole cc1_scratch2) (Memref.isWhole_whole _) (Memref.whole cc1_scratch3) (Memref.isWhole_whole _) _ _ _ _ _ _ _ _ _
    ((hstage1_0 ((cfg1.slots t 0).cast nbuf1_0)).read_unread y0) ((hstage1_1 ((cfg1.slots t 1).cast nbuf1_1)).read_unread y1) ((hstage1_2 ((cfg1.slots t 2).cast nbuf1_2)).read_unread y2) ((hstage1_3 ((cfg1.slots t 3).cast nbuf1_3)).read_unread y3) ((hstage1_4 ((cfg1.slots t 4).cast nbuf1_4)).read_unread y4)
    hq hk hv hd hc (tria_read _ ((hstage1_5 ((cfg1.slots t 5).cast nbuf1_5)).read_unread y5) ht) (trii_read _ ((hstage1_6 ((cfg1.slots t 6).cast nbuf1_6)).read_unread y6) hu)
    (acc_zero (Memref.whole cc1_scratch1).view (k1_pay254 (F := Ideal)) zero11 (kSum Xq Xk Xv Xd 0) fun p j l => rfl) (acc_zero (Memref.whole cc1_scratch2).view (k1_pay255 (F := Ideal)) zero12 (vSum Xq Xk Xd 0) fun p j l => rfl) k1_t1_loop.trips le_rfl
  obtain ⟨Hp, Hk, Hv⟩ := H
  have h8 : k1_t1_loop.trips = 8 := btrips1
  have hk8 : kSum Xq Xk Xv Xd k1_t1_loop.trips = kSum Xq Xk Xv Xd 8 := by rw [h8]
  have hv8 : vSum Xq Xk Xd k1_t1_loop.trips = vSum Xq Xk Xd 8 := by rw [h8]
  rw [hk8, ← View.writes_append] at Hk
  rw [hv8, ← View.writes_append] at Hv
  have l1 : ∀ (p : ℕ) (j : ℕ) (l : Fin 128), kSum Xq Xk Xv Xd 8 p j l = dSpec Xq Xk Xv Xd 1 (0 + j) (128 * p + l.val) := fun p j l => by
    rw [dSpec, if_neg (by decide), if_pos rfl, Nat.zero_add, show (128 * p + l.val) / 128 = p by omega, show laneOf (128 * p + l.val) = l from Fin.ext (show (128 * p + l.val) % 128 = l.val by omega)]
  have l2 : ∀ (p : ℕ) (j : ℕ) (l : Fin 128), vSum Xq Xk Xd 8 p j l = dSpec Xq Xk Xv Xd 2 (0 + j) (128 * p + l.val) := fun p j l => by
    rw [dSpec, if_neg (by decide), if_neg (by decide), Nat.zero_add, show (128 * p + l.val) / 128 = p by omega, show laneOf (128 * p + l.val) = l from Fin.ext (show (128 * p + l.val) % 128 = l.val by omega)]
  have ev40 : ∀ (j : Fin 2048) (l : Fin 128), qBody.sl.v40 (F := Ideal) c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (Memref.whole cc1_scratch0) (Memref.isWhole_whole _) (Memref.whole cc1_scratch1) (Memref.isWhole_whole _) (Memref.whole cc1_scratch2) (Memref.isWhole_whole _) (Memref.whole cc1_scratch3) (Memref.isWhole_whole _) y0 y1 y2 y3 y4 y5 y6 (ix3 0 j l) = ((vSum Xq Xk Xd 8 1 j.val l : ℝ) : EReal) := by
    unfold qBody.sl.v40
    exact fun j l => acc_load Hv (p := 1) (by decide) _ j l
  have ev34 : ∀ (j : Fin 2048) (l : Fin 128), qBody.sl.v34 (F := Ideal) c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (Memref.whole cc1_scratch0) (Memref.isWhole_whole _) (Memref.whole cc1_scratch1) (Memref.isWhole_whole _) (Memref.whole cc1_scratch2) (Memref.isWhole_whole _) (Memref.whole cc1_scratch3) (Memref.isWhole_whole _) y0 y1 y2 y3 y4 y5 y6 (ix3 0 j l) = ((kSum Xq Xk Xv Xd 8 1 j.val l : ℝ) : EReal) := by
    unfold qBody.sl.v34
    exact fun j l => acc_load Hk (p := 1) (by decide) _ j l
  have ev28 : ∀ (j : Fin 2048) (l : Fin 128), qBody.sl.v28 (F := Ideal) c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (Memref.whole cc1_scratch0) (Memref.isWhole_whole _) (Memref.whole cc1_scratch1) (Memref.isWhole_whole _) (Memref.whole cc1_scratch2) (Memref.isWhole_whole _) (Memref.whole cc1_scratch3) (Memref.isWhole_whole _) y0 y1 y2 y3 y4 y5 y6 (ix3 0 j l) = ((vSum Xq Xk Xd 8 0 j.val l : ℝ) : EReal) := by
    unfold qBody.sl.v28
    exact fun j l => acc_load Hv (p := 0) (by decide) _ j l
  have ev22 : ∀ (j : Fin 2048) (l : Fin 128), qBody.sl.v22 (F := Ideal) c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (Memref.whole cc1_scratch0) (Memref.isWhole_whole _) (Memref.whole cc1_scratch1) (Memref.isWhole_whole _) (Memref.whole cc1_scratch2) (Memref.isWhole_whole _) (Memref.whole cc1_scratch3) (Memref.isWhole_whole _) y0 y1 y2 y3 y4 y5 y6 (ix3 0 j l) = ((kSum Xq Xk Xv Xd 8 0 j.val l : ℝ) : EReal) := by
    unfold qBody.sl.v22
    exact fun j l => acc_load Hk (p := 0) (by decide) _ j l
  have h0 : ∀ p ∈ (qAt (F := Ideal) c t y0 y1 y2 y3 y4 y5 y6).1, ∀ x, p.2 x = dBlk Xq Xk Xv Xd (p.1.emb x) := by
    intro p hp
    unfold qAt qBody at hp
    rcases List.mem_cons.1 hp with rfl | hp
    · exact pieceD (m := 2048) (s := 2) (r := 0) (b := 128 * 1) inb_S3x2048x256_S1x2048x128_2_0_128 rfl (k1_pay3 (F := Ideal) (qBody.sl.v40 (F := Ideal) c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (Memref.whole cc1_scratch0) (Memref.isWhole_whole _) (Memref.whole cc1_scratch1) (Memref.isWhole_whole _) (Memref.whole cc1_scratch2) (Memref.isWhole_whole _) (Memref.whole cc1_scratch3) (Memref.isWhole_whole _) y0 y1 y2 y3 y4 y5 y6)) (dSpec Xq Xk Xv Xd) fun i l => (full3_at _ i l).trans ((ev40 i l).trans (congrArg _ (l2 1 i.val l)))
    rcases List.mem_cons.1 hp with rfl | hp
    · exact pieceD (m := 2048) (s := 1) (r := 0) (b := 128 * 1) inb_S3x2048x256_S1x2048x128_1_0_128 rfl (k1_pay2 (F := Ideal) (qBody.sl.v34 (F := Ideal) c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (Memref.whole cc1_scratch0) (Memref.isWhole_whole _) (Memref.whole cc1_scratch1) (Memref.isWhole_whole _) (Memref.whole cc1_scratch2) (Memref.isWhole_whole _) (Memref.whole cc1_scratch3) (Memref.isWhole_whole _) y0 y1 y2 y3 y4 y5 y6)) (dSpec Xq Xk Xv Xd) fun i l => (full2_at _ i l).trans ((ev34 i l).trans (congrArg _ (l1 1 i.val l)))
    rcases List.mem_cons.1 hp with rfl | hp
    · exact pieceD (m := 2048) (s := 2) (r := 0) (b := 128 * 0) inb_S3x2048x256_S1x2048x128_2_0_0 rfl (k1_pay1 (F := Ideal) (qBody.sl.v28 (F := Ideal) c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (Memref.whole cc1_scratch0) (Memref.isWhole_whole _) (Memref.whole cc1_scratch1) (Memref.isWhole_whole _) (Memref.whole cc1_scratch2) (Memref.isWhole_whole _) (Memref.whole cc1_scratch3) (Memref.isWhole_whole _) y0 y1 y2 y3 y4 y5 y6)) (dSpec Xq Xk Xv Xd) fun i l => (full1_at _ i l).trans ((ev28 i l).trans (congrArg _ (l2 0 i.val l)))
    rcases List.mem_cons.1 hp with rfl | hp
    · exact pieceD (m := 2048) (s := 1) (r := 0) (b := 128 * 0) inb_S3x2048x256_S1x2048x128_1_0_0 rfl (k1_pay256 (F := Ideal) (qBody.sl.v22 (F := Ideal) c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (Memref.whole cc1_scratch0) (Memref.isWhole_whole _) (Memref.whole cc1_scratch1) (Memref.isWhole_whole _) (Memref.whole cc1_scratch2) (Memref.isWhole_whole _) (Memref.whole cc1_scratch3) (Memref.isWhole_whole _) y0 y1 y2 y3 y4 y5 y6)) (dSpec Xq Xk Xv Xd) fun i l => (full256_at _ i l).trans ((ev22 i l).trans (congrArg _ (l1 0 i.val l)))
    exact Hp p hp
  have := View.canon_append_of_pieces (dBlk Xq Xk Xv Xd) [] _ h0 (ix3 s a b) (cover1_7 c t y0 y1 y2 y3 y4 y5 y6 _)
  rw [List.append_nil] at this
  exact this

end Cert.Kernel2Ideal.Attn
-- ==== Proof.HeadMath.lean ====
module

public import proofs.«01_k».proof.Proof.BwdOut

@[expose] public section

noncomputable section

namespace Cert.Kernel2Ideal.Attn

open Idealize.ShloMosaic

/-! # One head of stick-breaking attention and its gradients, in real numbers -/

section Head
variable (Q K V D : ℕ → Fin 64 → ℝ)
/-- The logit, the softplus the causal mask keeps, and its sum from key `j` on. -/
def zH (i j : ℕ) : ℝ := (∑ x : Fin 64, Q i x * K j x) * (1 / 8)
def sH (i j : ℕ) : ℝ := if j < i then spR (zH Q K i j) else 0
def tH (i j : ℕ) : ℝ := ∑ j' ∈ Finset.Ico j 2048, sH Q K i j'
/-- The weight, and the output. -/
def wH (i j : ℕ) : ℝ := if j < i then Real.exp (zH Q K i j - tH Q K i j) else 0
def oH (i : ℕ) (x : Fin 64) : ℝ := ∑ j ∈ Finset.range 2048, wH Q K i j * V j x
/-- The gradient at the logarithm of the weight, and at the logit. -/
def eH (i j : ℕ) : ℝ := wH Q K i j * ∑ x : Fin 64, D i x * V j x
def gH (i j : ℕ) : ℝ := if j < i then eH Q K V D i j - Real.exp (zH Q K i j - spR (zH Q K i j)) * ∑ j' ∈ Finset.range (j + 1), eH Q K V D i j' else 0
/-- The gradients of queries, keys and values. -/
def qH (i : ℕ) (x : Fin 64) : ℝ := (∑ j ∈ Finset.range 2048, gH Q K V D i j * K j x) * (1 / 8)
def kH (j : ℕ) (x : Fin 64) : ℝ := (∑ i ∈ Finset.range 2048, gH Q K V D i j * Q i x) * (1 / 8)
def vH (j : ℕ) (x : Fin 64) : ℝ := ∑ i ∈ Finset.range 2048, wH Q K i j * D i x
end Head

/-- The rows of head `u` of an array of heads side by side. -/
def headOf (X : ℕ → ℕ → ℝ) (u : ℕ) : ℕ → Fin 64 → ℝ := fun i x => X i (64 * u + x.val)

section Lanes
/-- A sum over two heads' lanes of which one head's count. -/
theorem sum_half (f : ℕ → ℝ) (c : ℕ) (hc : c < 2) : (∑ l : Fin 128, if l.val / 64 = c then f l.val else 0) = ∑ x : Fin 64, f (64 * c + x.val) := by
  rw [Fin.sum_univ_eq_sum_range (fun l => if l / 64 = c then f l else 0) 128, Fin.sum_univ_eq_sum_range (fun x => f (64 * c + x)) 64,
    show (128 : ℕ) = 64 + 64 from rfl, Finset.sum_range_add]
  obtain rfl | rfl : c = 0 ∨ c = 1 := by omega
  · rw [Finset.sum_congr rfl (g := fun x => f (64 * 0 + x)) fun x hx => by
        rw [if_pos (by have := Finset.mem_range.1 hx; omega)]; congr 1; omega,
      Finset.sum_eq_zero (s := Finset.range 64) (f := fun x => if (64 + x) / 64 = 0 then f (64 + x) else 0) fun x hx => if_neg (by omega), add_zero]
  · rw [Finset.sum_eq_zero (s := Finset.range 64) (f := fun x => if x / 64 = 1 then f x else 0) fun x hx => if_neg (by have := Finset.mem_range.1 hx; omega), zero_add]
    exact Finset.sum_congr rfl fun x hx => by rw [if_pos (by have := Finset.mem_range.1 hx; omega)]
/-- A sum over two heads' stacked rows of which one head's count. -/
theorem sum_rows (f : ℕ → ℝ) (c : ℕ) (hc : c < 2) : (∑ r : Fin 512, if c = r.val / 256 then f (r.val % 256) else 0) = ∑ x ∈ Finset.range 256, f x := by
  rw [Fin.sum_univ_eq_sum_range (fun r => if c = r / 256 then f (r % 256) else 0) 512, show (512 : ℕ) = 256 + 256 from rfl, Finset.sum_range_add]
  obtain rfl | rfl : c = 0 ∨ c = 1 := by omega
  · rw [Finset.sum_congr rfl (g := f) fun x hx => by
        have := Finset.mem_range.1 hx
        rw [if_pos (by omega)]; congr 1; omega,
      Finset.sum_eq_zero (s := Finset.range 256) (f := fun x => if 0 = (256 + x) / 256 then f ((256 + x) % 256) else 0) fun x hx => if_neg (by omega), add_zero]
  · rw [Finset.sum_eq_zero (s := Finset.range 256) (f := fun x => if 1 = x / 256 then f (x % 256) else 0) fun x hx => if_neg (by have := Finset.mem_range.1 hx; omega), zero_add]
    refine Finset.sum_congr rfl fun x hx => ?_
    have := Finset.mem_range.1 hx
    rw [if_pos (by omega)]; congr 1; omega
/-- Rows by tiles of 256. -/
theorem sum_tiles (f : ℕ → ℝ) (M : ℕ) : ∑ m ∈ Finset.range M, ∑ x ∈ Finset.range 256, f (256 * m + x) = ∑ i ∈ Finset.range (256 * M), f i := by
  induction M with
  | zero => simp
  | succ M ih => rw [Finset.sum_range_succ, ih, show 256 * (M + 1) = 256 * M + 256 by ring, Finset.sum_range_add]
end Lanes

section Tile
variable (Xq Xk Xv Xd : ℕ → ℕ → ℝ) (n pp : ℕ) (r : Fin 512)

theorem zR_head (j : ℕ) : zR (stackOf Xq n pp) (lanesOf Xk pp) r j = zH (headOf Xq (2 * pp + r.val / 256)) (headOf Xk (2 * pp + r.val / 256)) (256 * n + r.val % 256) j := by
  unfold zR zH stackOf lanesOf headOf
  refine (Finset.sum_congr rfl fun l _ => (?_ : _ = if l.val / 64 = r.val / 256 then (fun y => Xq (256 * n + r.val % 256) (128 * pp + y) * (1 / 8) * Xk j (128 * pp + y)) l.val else 0)).trans ((sum_half (fun y => Xq (256 * n + r.val % 256) (128 * pp + y) * (1 / 8) * Xk j (128 * pp + y)) (r.val / 256) (by have := r.isLt; omega)).trans ?_)
  · by_cases h : l.val / 64 = r.val / 256
    · rw [if_pos h, if_pos h]
    · rw [if_neg h, if_neg h, zero_mul]
  · rw [Finset.sum_mul]
    refine Finset.sum_congr rfl fun x _ => ?_
    rw [show 64 * (2 * pp + r.val / 256) + x.val = 128 * pp + (64 * (r.val / 256) + x.val) by ring]
    ring
theorem zD_head (j : ℕ) : zR (ctOf Xd n pp) (lanesOf Xv pp) r j = ∑ x : Fin 64, headOf Xd (2 * pp + r.val / 256) (256 * n + r.val % 256) x * headOf Xv (2 * pp + r.val / 256) j x := by
  unfold zR ctOf lanesOf headOf
  refine (Finset.sum_congr rfl fun l _ => (?_ : _ = if l.val / 64 = r.val / 256 then (fun y => Xd (256 * n + r.val % 256) (128 * pp + y) * Xv j (128 * pp + y)) l.val else 0)).trans ((sum_half (fun y => Xd (256 * n + r.val % 256) (128 * pp + y) * Xv j (128 * pp + y)) (r.val / 256) (by have := r.isLt; omega)).trans ?_)
  · by_cases h : l.val / 64 = r.val / 256
    · rw [if_pos h, if_pos h]
    · rw [if_neg h, if_neg h, zero_mul]
  · refine Finset.sum_congr rfl fun x _ => ?_
    rw [show 64 * (2 * pp + r.val / 256) + x.val = 128 * pp + (64 * (r.val / 256) + x.val) by ring]

variable {n} (hn : n < 8)
include hn
theorem tR_head (a : ℕ) : tR n (stackOf Xq n pp) (lanesOf Xk pp) r a = tH (headOf Xq (2 * pp + r.val / 256)) (headOf Xk (2 * pp + r.val / 256)) (256 * n + r.val % 256) a := by
  unfold tR tH
  refine (Finset.sum_congr rfl fun j _ => ?_).trans (Finset.sum_subset (Finset.Ico_subset_Ico_right (by omega)) fun j hj hj' => ?_)
  · unfold sR sH; rw [zR_head]
  · rw [Finset.mem_Ico] at hj hj'
    exact if_neg (by omega)
theorem wR_head (j : ℕ) : wR n (stackOf Xq n pp) (lanesOf Xk pp) r j = wH (headOf Xq (2 * pp + r.val / 256)) (headOf Xk (2 * pp + r.val / 256)) (256 * n + r.val % 256) j := by
  unfold wR wH; rw [zR_head, tR_head _ _ _ _ hn]
theorem eR_head (j : ℕ) : eR n (stackOf Xq n pp) (ctOf Xd n pp) (lanesOf Xk pp) (lanesOf Xv pp) r j
    = eH (headOf Xq (2 * pp + r.val / 256)) (headOf Xk (2 * pp + r.val / 256)) (headOf Xv (2 * pp + r.val / 256)) (headOf Xd (2 * pp + r.val / 256)) (256 * n + r.val % 256) j := by
  unfold eR eH; rw [zD_head, wR_head _ _ _ _ hn]
theorem gR_head (j : ℕ) : gR n (stackOf Xq n pp) (ctOf Xd n pp) (lanesOf Xk pp) (lanesOf Xv pp) r j
    = gH (headOf Xq (2 * pp + r.val / 256)) (headOf Xk (2 * pp + r.val / 256)) (headOf Xv (2 * pp + r.val / 256)) (headOf Xd (2 * pp + r.val / 256)) (256 * n + r.val % 256) j := by
  unfold gR gH pR
  rw [zR_head, eR_head _ _ _ _ _ _ hn]
  refine if_congr Iff.rfl (congrArg (fun s => _ - _ * s) (Finset.sum_congr rfl fun j' _ => eR_head _ _ _ _ _ _ hn j')) rfl
end Tile

section Spec
variable (Xq Xk Xv Xd : ℕ → ℕ → ℝ) (a b : ℕ)
/-- A lane within its head. -/
def lane64 (b : ℕ) : Fin 64 := ⟨b % 64, Nat.mod_lt _ (by decide)⟩
theorem headOf_lane (X : ℕ → ℕ → ℝ) (i : ℕ) : X i b = headOf X (b / 64) i (lane64 b) :=
  congrArg (X i) (show b = 64 * (b / 64) + b % 64 by omega)
theorem rowOf_head : 2 * (b / 128) + (rowOf a b).val / 256 = b / 64 := by simp only [rowOf]; omega
theorem rowOf_row : 256 * (a / 256) + (rowOf a b).val % 256 = a := by simp only [rowOf]; omega

variable (ha : a < 2048)
include ha
theorem oSpec_head : oSpec Xq Xk Xv a b = oH (headOf Xq (b / 64)) (headOf Xk (b / 64)) (headOf Xv (b / 64)) a (lane64 b) := by
  unfold oSpec oH
  refine (Finset.sum_congr rfl fun j _ => ?_).trans ((Finset.sum_subset (s₂ := Finset.range 2048) (fun j hj => ?_) fun j hj hj' => ?_))
  · rw [wR_head _ _ _ _ (by omega), rowOf_head, rowOf_row]
    refine congrArg (HMul.hMul _) (Eq.trans ?_ (headOf_lane b Xv j))
    exact congrArg (Xv j) (show 128 * (b / 128) + b % 128 = b by omega)
  · rw [Finset.mem_Ico] at hj; rw [Finset.mem_range]; omega
  · rw [Finset.mem_Ico] at hj'; rw [Finset.mem_range] at hj
    rw [wH, if_neg (by omega), zero_mul]
theorem qSum_head : qSum Xq Xk Xv Xd (a / 256) (b / 128) (rowOf a b) (laneOf b) * (1 / 8) = qH (headOf Xq (b / 64)) (headOf Xk (b / 64)) (headOf Xv (b / 64)) (headOf Xd (b / 64)) a (lane64 b) := by
  unfold qSum dqR qH
  congr 1
  refine (Finset.sum_congr rfl fun j _ => ?_).trans ((Finset.sum_subset (s₂ := Finset.range 2048) (fun j hj => ?_) fun j hj hj' => ?_))
  · rw [gR_head _ _ _ _ _ _ (by omega), rowOf_head, rowOf_row]
    refine congrArg (HMul.hMul _) (Eq.trans ?_ (headOf_lane b Xk j))
    exact congrArg (Xk j) (show 128 * (b / 128) + b % 128 = b by omega)
  · rw [Finset.mem_range] at *; omega
  · rw [Finset.mem_range] at *
    rw [gH, if_neg (by omega), zero_mul]
omit ha in
theorem kSum_head : kSum Xq Xk Xv Xd 8 (b / 128) a (laneOf b) = kH (headOf Xq (b / 64)) (headOf Xk (b / 64)) (headOf Xv (b / 64)) (headOf Xd (b / 64)) a (lane64 b) := by
  have hb : ∀ (X : ℕ → ℕ → ℝ) i, X i (128 * (b / 128) + b % 128) = headOf X (b / 64) i (lane64 b) := fun X i =>
    (congrArg (X i) (show 128 * (b / 128) + b % 128 = b by omega)).trans (headOf_lane b X i)
  unfold kSum kAdd kH
  rw [Finset.sum_mul, ← sum_tiles _ 8]
  refine Finset.sum_congr rfl fun m hm => ?_
  have hm := Finset.mem_range.1 hm
  unfold kR
  refine (Finset.sum_congr rfl fun r _ => ?_).trans (sum_rows (fun x => gH (headOf Xq (b / 64)) (headOf Xk (b / 64)) (headOf Xv (b / 64)) (headOf Xd (b / 64)) (256 * m + x) a
    * headOf Xq (b / 64) (256 * m + x) (lane64 b) * (1 / 8)) (b % 128 / 64) (by omega))
  rw [gR_head _ _ _ _ _ _ hm, stackOf]
  by_cases h : b % 128 / 64 = r.val / 256
  · rw [if_pos h, show 2 * (b / 128) + r.val / 256 = b / 64 by omega]
    refine (congrArg (HMul.hMul _) (if_pos h)).trans ?_
    show _ * (Xq _ (128 * (b / 128) + b % 128) * _) = _
    rw [hb Xq, mul_assoc]
  · rw [if_neg h]
    exact (congrArg (HMul.hMul _) (if_neg h)).trans (mul_zero _)
omit ha in
theorem vSum_head : vSum Xq Xk Xd 8 (b / 128) a (laneOf b) = vH (headOf Xq (b / 64)) (headOf Xk (b / 64)) (headOf Xd (b / 64)) a (lane64 b) := by
  have hb : ∀ (X : ℕ → ℕ → ℝ) i, X i (128 * (b / 128) + b % 128) = headOf X (b / 64) i (lane64 b) := fun X i =>
    (congrArg (X i) (show 128 * (b / 128) + b % 128 = b by omega)).trans (headOf_lane b X i)
  unfold vSum vAdd vH
  rw [← sum_tiles _ 8]
  refine Finset.sum_congr rfl fun m hm => ?_
  have hm := Finset.mem_range.1 hm
  unfold vR
  refine (Finset.sum_congr rfl fun r _ => ?_).trans (sum_rows (fun x => wH (headOf Xq (b / 64)) (headOf Xk (b / 64)) (256 * m + x) a
    * headOf Xd (b / 64) (256 * m + x) (lane64 b)) (b % 128 / 64) (by omega))
  rw [wR_head _ _ _ _ hm, ctOf]
  by_cases h : b % 128 / 64 = r.val / 256
  · rw [if_pos h, show 2 * (b / 128) + r.val / 256 = b / 64 by omega]
    exact (congrArg (HMul.hMul _) (if_pos h)).trans (congrArg (HMul.hMul _) (hb _ _))
  · rw [if_neg h]
    exact (congrArg (HMul.hMul _) (if_neg h)).trans (mul_zero _)
/-- The three gradients by heads. -/
def dH (s : ℕ) (Q K V D : ℕ → Fin 64 → ℝ) (a : ℕ) (x : Fin 64) : ℝ := if s = 0 then qH Q K V D a x else if s = 1 then kH Q K V D a x else vH Q K D a x
theorem dSpec_head (s : ℕ) : dSpec Xq Xk Xv Xd s a b = dH s (headOf Xq (b / 64)) (headOf Xk (b / 64)) (headOf Xv (b / 64)) (headOf Xd (b / 64)) a (lane64 b) := by
  unfold dSpec dH
  rw [qSum_head _ _ _ _ _ _ ha, kSum_head, vSum_head]
end Spec

end Cert.Kernel2Ideal.Attn
-- ==== Proof.AttnVal.lean ====
module

public import proofs.«01_k».proof.Proof.HeadMath
public import Idealize.ShloMosaic.Lib.Pipeline.ValueKit
public import Idealize.ShloMosaic.Lib.Claim
public import Idealize.ShloMosaic.Lib.WordCmp

@[expose] public section

set_option maxRecDepth 16384

noncomputable section

open Idealize.ShloMosaic Idealize.ShloMosaic.TcCoe Idealize.SL.Sem
open Idealize.ShloMosaic.Pipeline (Dat)

namespace Cert.Kernel2Ideal.Attn

open Cert.Kernel2Ideal Cert.Kernel2Ideal.Gen

/-! # The arrays the two kernels leave -/

theorem idx0 : ∀ t : Fin cfg0.N, win0_0.index t = ![t.val / 2, t.val % 2] ∧ win0_1.index t = ![t.val / 2, 2 + t.val % 2] ∧ win0_2.index t = ![t.val / 2, 4 + t.val % 2]
    ∧ win0_3.index t = ![0, 0] ∧ win0_4.index t = ![0, t.val / 2, t.val % 2] ∧ win0_5.index t = ![t.val / 2, t.val % 2] ∧ t.val < 4 :=
  (by decide +kernel : ∀ t : Fin grid0.N, _)
theorem idx1 : ∀ t : Fin cfg1.N, win1_0.index t = ![t.val / 2, t.val % 2] ∧ win1_1.index t = ![t.val / 2, 2 + t.val % 2] ∧ win1_2.index t = ![t.val / 2, 4 + t.val % 2]
    ∧ win1_3.index t = ![t.val / 2, t.val % 2] ∧ win1_4.index t = ![t.val / 2, t.val % 2] ∧ win1_5.index t = ![0, 0] ∧ win1_6.index t = ![0, 0]
    ∧ win1_7.index t = ![0, t.val / 2, t.val % 2] ∧ t.val < 4 :=
  (by decide +kernel : ∀ t : Fin grid1.N, _)

/-- An array of real numbers. -/
def Real2 {a b : ℕ} {e : FTy} (X : ℕ → ℕ → ℝ) (y : FVec Ideal ⟨2, ![a, b]⟩ e) : Prop := ∀ (i : Fin a) (j : Fin b), y (ix2 i j) = ((X i.val j.val : ℝ) : EReal)
/-- The block of grid point `t`, `o` blocks of 256 lanes to the right. -/
def shift (X : ℕ → ℕ → ℝ) (o t : ℕ) : ℕ → ℕ → ℝ := fun a b => X (2048 * (t / 2) + a) (256 * (o + t % 2) + b)

section Blocks
variable (V : (c : Dev nD) → (b : Ref sig .tc) → Buf (Elt Ideal) ((c : Thread nD τ).loc b)) (c : Dev nD) {P C D : ℕ → ℕ → ℝ}
  (hP : Real2 (e := .bf16) P (V c main_v1)) (hD : Real2 (e := .bf16) D (V c main_v3))
include hP in
theorem mats0 (t : Fin cfg0.N) : Mat (shift P 0 t) (iblk0 V c 0 t) ∧ Mat (shift P 2 t) (iblk0 V c 1 t) ∧ Mat (shift P 4 t) (iblk0 V c 2 t) := by
  have ht := (idx0 t).2.2.2.2.2.2
  refine ⟨fun a b => ?_, fun a b => ?_, fun a b => ?_⟩
  · refine Eq.trans ?_ (hP ⟨2048 * (t.val / 2) + a.val, by omega⟩ ⟨256 * (0 + t.val % 2) + b.val, by omega⟩)
    blk_simp [iblk0]
    blk_ext [idx0 t]
  · refine Eq.trans ?_ (hP ⟨2048 * (t.val / 2) + a.val, by omega⟩ ⟨256 * (2 + t.val % 2) + b.val, by omega⟩)
    blk_simp [iblk0]
    blk_ext [idx0 t]
  · refine Eq.trans ?_ (hP ⟨2048 * (t.val / 2) + a.val, by omega⟩ ⟨256 * (4 + t.val % 2) + b.val, by omega⟩)
    blk_simp [iblk0]
    blk_ext [idx0 t]
include hP hD in
theorem mats1 (t : Fin cfg1.N) : Mat (shift P 0 t) (iblk1 V c 0 t) ∧ Mat (shift P 2 t) (iblk1 V c 1 t) ∧ Mat (shift P 4 t) (iblk1 V c 2 t) ∧ Mat (shift D 0 t) (iblk1 V c 3 t) := by
  have ht := (idx1 t).2.2.2.2.2.2.2.2
  refine ⟨fun a b => ?_, fun a b => ?_, fun a b => ?_, fun a b => ?_⟩
  · refine Eq.trans ?_ (hP ⟨2048 * (t.val / 2) + a.val, by omega⟩ ⟨256 * (0 + t.val % 2) + b.val, by omega⟩)
    blk_simp [iblk1]
    blk_ext [idx1 t]
  · refine Eq.trans ?_ (hP ⟨2048 * (t.val / 2) + a.val, by omega⟩ ⟨256 * (2 + t.val % 2) + b.val, by omega⟩)
    blk_simp [iblk1]
    blk_ext [idx1 t]
  · refine Eq.trans ?_ (hP ⟨2048 * (t.val / 2) + a.val, by omega⟩ ⟨256 * (4 + t.val % 2) + b.val, by omega⟩)
    blk_simp [iblk1]
    blk_ext [idx1 t]
  · refine Eq.trans ?_ (hD ⟨2048 * (t.val / 2) + a.val, by omega⟩ ⟨256 * (0 + t.val % 2) + b.val, by omega⟩)
    blk_simp [iblk1]
    blk_ext [idx1 t]

theorem tri0 (hT : Tri (V c main_v14)) (t : Fin cfg0.N) : Tri (iblk0 V c 3 t) := fun a b => by
  refine Eq.trans ?_ (hT a b)
  blk_simp [iblk0]
  blk_ext [idx0 t]
theorem tri1 (hT : Tri (V c main_v14)) (t : Fin cfg1.N) : Tri (iblk1 V c 5 t) := fun a b => by
  refine Eq.trans ?_ (hT a b)
  blk_simp [iblk1]
  blk_ext [idx1 t]
theorem upto1 (hU : Upto (V c main_v20)) (t : Fin cfg1.N) : Upto (iblk1 V c 6 t) := fun a b => by
  refine Eq.trans ?_ (hU a b)
  blk_simp [iblk1]
  blk_ext [idx1 t]

/-- The carried sums, block by block. -/
def carr (P : ℕ → ℕ → ℝ) (a b : ℕ) : ℝ := cSpec (shift P 0 (2 * (a / 2048) + b / 512)) (shift P 2 (2 * (a / 2048) + b / 512)) (a % 2048) (b % 512)
/-- The outputs, block by block. -/
def oArr (P : ℕ → ℕ → ℝ) (a b : ℕ) : ℝ :=
  oSpec (shift P 0 (2 * (a / 2048) + b / 256)) (shift P 2 (2 * (a / 2048) + b / 256)) (shift P 4 (2 * (a / 2048) + b / 256)) (a % 2048) (b % 256)
/-- The three gradients, block by block. -/
def dArr (P D : ℕ → ℕ → ℝ) (s a b : ℕ) : ℝ :=
  dSpec (shift P 0 (2 * (a / 2048) + b / 256)) (shift P 2 (2 * (a / 2048) + b / 256)) (shift P 4 (2 * (a / 2048) + b / 256)) (shift D 0 (2 * (a / 2048) + b / 256)) s (a % 2048) (b % 256)

theorem carr_at (P : ℕ → ℕ → ℝ) (t a b : ℕ) (ha : a < 2048) (hb : b < 512) : carr P (t / 2 * 2048 + a) (t % 2 * 512 + b) = cSpec (shift P 0 t) (shift P 2 t) a b := by
  unfold carr
  rw [show 2 * ((t / 2 * 2048 + a) / 2048) + (t % 2 * 512 + b) / 512 = t by omega, show (t / 2 * 2048 + a) % 2048 = a by omega, show (t % 2 * 512 + b) % 512 = b by omega]
theorem oArr_at (P : ℕ → ℕ → ℝ) (t a b : ℕ) (ha : a < 2048) (hb : b < 256) : oArr P (t / 2 * 2048 + a) (t % 2 * 256 + b) = oSpec (shift P 0 t) (shift P 2 t) (shift P 4 t) a b := by
  unfold oArr
  rw [show 2 * ((t / 2 * 2048 + a) / 2048) + (t % 2 * 256 + b) / 256 = t by omega, show (t / 2 * 2048 + a) % 2048 = a by omega, show (t % 2 * 256 + b) % 256 = b by omega]
theorem dArr_at (P D : ℕ → ℕ → ℝ) (s : ℕ) (t a b : ℕ) (ha : a < 2048) (hb : b < 256) : dArr P D s (t / 2 * 2048 + a) (t % 2 * 256 + b) = dSpec (shift P 0 t) (shift P 2 t) (shift P 4 t) (shift D 0 t) s a b := by
  unfold dArr
  rw [show 2 * ((t / 2 * 2048 + a) / 2048) + (t % 2 * 256 + b) / 256 = t by omega, show (t / 2 * 2048 + a) % 2048 = a by omega, show (t % 2 * 256 + b) % 256 = b by omega]

include hP in
theorem cs_array (hT : Tri (V c main_v14)) : Real2 (e := .f32) (carr P) ((dat0 V c).arrAt 5 cfg0.N) := by
  have h : (dat0 V c).arrAt 5 cfg0.N = fun i : S4096x1024.Idx => ((carr P (i 0).val (i 1).val : ℝ) : EReal) := by
    refine (dat0 V c).arrAt_eq_of_covers 5 _ (by decide +kernel) fun t _ y => ?_
    have ht := (idx0 t).2.2.2.2.2.2
    blk_simp
    rw [after0_5]
    idx_vars y
    obtain ⟨h0, h1, h2⟩ := mats0 V c hP t
    refine ((blocks c t h0 h1 h2 (tri0 V c hT t)).2 _ _).trans ?_
    refine congrArg _ (Eq.symm ?_)
    rw [(idx0 t).2.2.2.2.2.1]
    exact carr_at P t.val y0.val y1.val y0.isLt y1.isLt
  exact fun i j => congrFun h (ix2 i j)

include hP in
theorem o_array (hT : Tri (V c main_v14)) (i : Fin 4096) (j : Fin 512) : ((dat0 V c).arrAt 4 cfg0.N : FVec Ideal S2x4096x512 .bf16) (ix3 0 i j) = ((oArr P i.val j.val : ℝ) : EReal) := by
  have h : (dat0 V c).arrAt 4 cfg0.N = fun i : S2x4096x512.Idx => if (i 0).val / 1 = 0 then ((oArr P (i 1).val (i 2).val : ℝ) : EReal) else (dat0 V c).A 4 i := by
    refine (dat0 V c).arrAt_eq_of_coversWhere 4 (fun i => ((oArr P (i 1).val (i 2).val : ℝ) : EReal)) (Q := fun β => β (0 : Fin _) = 0) (by decide +kernel) (fun t _ y => ?_) (fun j => Iff.rfl)
    have ht := (idx0 t).2.2.2.2.2.2
    blk_simp
    rw [after0_4]
    idx_vars y
    obtain ⟨h0, h1, h2⟩ := mats0 V c hP t
    obtain rfl : y0 = 0 := Subsingleton.elim _ _
    refine ((blocks c t h0 h1 h2 (tri0 V c hT t)).1 _ _).trans ?_
    refine congrArg _ (Eq.symm ?_)
    rw [(idx0 t).2.2.2.2.1]
    exact oArr_at P t.val y1.val y2.val y1.isLt y2.isLt
  exact (congrFun h (ix3 0 i j)).trans (if_pos (Nat.zero_div 1))

include hP hD in
theorem d_array (hT : Tri (V c main_v14)) (hU : Upto (V c main_v20)) (hC : Real2 (e := .f32) (carr P) (V c main_v21_1)) (s : Fin 3) (i : Fin 4096) (j : Fin 512) :
    ((dat1 V c).arrAt 7 cfg1.N : FVec Ideal S4x4096x512 .bf16) (ix3 ⟨s.val, by omega⟩ i j) = ((dArr P D s.val i.val j.val : ℝ) : EReal) := by
  have h : (dat1 V c).arrAt 7 cfg1.N = fun i : S4x4096x512.Idx => if (i 0).val / 3 = 0 then ((dArr P D (i 0).val (i 1).val (i 2).val : ℝ) : EReal) else (dat1 V c).A 7 i := by
    refine (dat1 V c).arrAt_eq_of_coversWhere 7 (fun i => ((dArr P D (i 0).val (i 1).val (i 2).val : ℝ) : EReal)) (Q := fun β => β (0 : Fin _) = 0) (by decide +kernel) (fun t _ y => ?_) (fun j => Iff.rfl)
    have ht := (idx1 t).2.2.2.2.2.2.2.2
    blk_simp
    rw [after1_7]
    have e0 : (y 0).val = ((cfg1.win 7).xinj (cfg1.grid.coords t) y 0).val := rfl
    have e1 : (y 1).val = ((cfg1.win 7).xinj (cfg1.grid.coords t) y 1).val := rfl
    have e2 : (y 2).val = ((cfg1.win 7).xinj (cfg1.grid.coords t) y 2).val := rfl
    rw [e0, e1, e2]
    generalize hz : (cfg1.win 7).xinj (cfg1.grid.coords t) y = z
    clear hz e0 e1 e2
    change S3x2048x256.Idx at z
    idx_vars z
    obtain ⟨h0, h1, h2, h3⟩ := mats1 V c hP hD t
    have h4 : Car (shift P 0 t) (shift P 2 t) (iblk1 V c 4 t) := fun a b => by
      rw [← carr_at P t.val a.val b.val a.isLt b.isLt]
      refine Eq.trans ?_ (hC ⟨t.val / 2 * 2048 + a.val, by omega⟩ ⟨t.val % 2 * 512 + b.val, by omega⟩)
      blk_simp [iblk1]
      blk_ext [idx1 t]
    refine (grads c t h0 h1 h2 h3 h4 (tri1 V c hT t) (upto1 V c hU t) _ _ _).trans ?_
    refine congrArg _ (Eq.symm ?_)
    rw [(idx1 t).2.2.2.2.2.2.2.1]
    refine (congrArg (fun s => dArr P D s _ _) (show 0 * 3 + z0.val = z0.val by omega)).trans ?_
    exact dArr_at P D _ t.val z1.val z2.val z1.isLt z2.isLt
  exact (congrFun h (ix3 ⟨s.val, by omega⟩ i j)).trans (if_pos (Nat.div_eq_of_lt s.isLt))
end Blocks

section Entry
variable (m : (ℓ : Loc nD τ sig) → Buf (Elt Ideal) ℓ) (c : Dev nD) {rq rk rv rd : ℕ → ℕ → ℝ}

/-- The three projections side by side, and the cotangent with its padding. -/
def side (rq rk rv : ℕ → ℕ → ℝ) (a b : ℕ) : ℝ := if b < 512 then rq a b else if b < 1024 then rk a (b - 512) else if b < 1536 then rv a (b - 1024) else 0
def padd (rd : ℕ → ℕ → ℝ) (a b : ℕ) : ℝ := if b < 512 then rd a b else 0

/-- The three projections and the padding, side by side. -/
def projOf (q k v : FVec Ideal S4096x512 .bf16) : FVec Ideal S4096x2048 .bf16 :=
  concatenate S4096x2048 1 [⟨S4096x512, q⟩, ⟨S4096x512, k⟩, ⟨S4096x512, v⟩, ⟨S4096x512, (broadcastInDim S4096x512 ![] bcast_S_S4096x512 (constant S_ .bf16 0x0000#16 : FVec Ideal S_ .bf16) : FVec Ideal S4096x512 .bf16)⟩]
    concatenates_S4096x512_S4096x512_S4096x512_S4096x512_S4096x2048_d1

theorem projOf_real {q k v : FVec Ideal S4096x512 .bf16} (hq : Real2 rq q) (hk : Real2 rk k) (hv : Real2 rv v) : Real2 (side rq rk rv) (projOf q k v) := fun a b => by
  unfold projOf
  pointwise
  unfold side
  have hb := b.isLt
  by_cases h1 : b.val < 512
  · rw [dif_pos h1, if_pos h1]; exact hq a ⟨b.val, h1⟩
  rw [dif_neg h1, if_neg h1]
  by_cases h2 : b.val < 1024
  · rw [dif_pos (by omega), if_pos h2]; exact hk a ⟨b.val - 512, by omega⟩
  rw [dif_neg (by omega), if_neg h2]
  by_cases h3 : b.val < 1536
  · rw [dif_pos (by omega), if_pos h3]; exact (hv a ⟨b.val - 512 - 512, by omega⟩).trans (congrArg (fun n => ((rv a.val n : ℝ) : EReal)) (by show b.val - 512 - 512 = _; omega))
  rw [dif_neg (by omega), if_neg h3]
  rfl

theorem after_split (l₁ l₂ : List (HloOp τ sig (Elt Ideal))) (W : Valuation τ sig (Elt Ideal)) : StableHlo.after (l₁ ++ l₂) W = StableHlo.after l₂ (StableHlo.after l₁ W) := by
  induction l₁ generalizing W with
  | nil => rfl
  | cons op l ih => exact ih _

theorem cat4 {q k v z q' k' v' : FVec Ideal S4096x512 .bf16} (h0 : q = q') (h1 : k = k') (h2 : v = v')
    (h3 : z = broadcastInDim S4096x512 ![] bcast_S_S4096x512 (constant S_ .bf16 0x0000#16 : FVec Ideal S_ .bf16)) :
    concatenate S4096x2048 1 [⟨S4096x512, q⟩, ⟨S4096x512, k⟩, ⟨S4096x512, v⟩, ⟨S4096x512, z⟩] concatenates_S4096x512_S4096x512_S4096x512_S4096x512_S4096x2048_d1 = projOf q' k' v' := by
  subst h0; subst h1; subst h2; subst h3; rfl

theorem host_proj (W : Valuation τ sig (Elt Ideal)) :
    StableHlo.after hostOps0 W (Proc.devRef .tc main_v1) = projOf (W (Proc.devRef .tc main_arg0)) (W (Proc.devRef .tc main_arg1)) (W (Proc.devRef .tc main_arg2)) := by
  have e : (hostOps0 : List (HloOp τ sig (Elt Ideal))) = hostOps0.take 3 ++ hostOps0.drop 3 := rfl
  rw [e, after_split]
  refine (StableHlo.after_of_forall_not_mem _ _ fun op h => ?_).trans ?_
  · have hw : (hostOps0.drop 3 : List (HloOp τ sig (Elt Ideal))).Forall fun op => (Proc.devRef .tc main_v1 : DevRef τ sig) ∉ op.writes := by
      simp only [List.drop, List.Forall, StableHlo.unary_writes, StableHlo.nullary_writes, StableHlo.binary_writes, StableHlo.reshape_writes, Finset.mem_singleton]
      refine ⟨?_, ?_, ?_, ?_, ?_, ?_, ?_, ?_, ?_, ?_, ?_, ?_, ?_, ?_, ?_, ?_, ?_, ?_, ?_, ?_⟩ <;> exact fun h => absurd (Proc.devRef_injective _ h) (by decide)
    exact (List.forall_iff_forall_mem.mp hw) op h
  · show StableHlo.after [_, _, _] W _ = _
    simp only [StableHlo.after_cons, StableHlo.after_nil]
    refine (StableHlo.nary_result _ _ _ _ _ _).trans ?_
    exact cat4 ((StableHlo.unary_result_ne _ _ _ _ _ _ (by decide)).trans (StableHlo.nullary_result_ne _ _ _ _ (by decide)))
      ((StableHlo.unary_result_ne _ _ _ _ _ _ (by decide)).trans (StableHlo.nullary_result_ne _ _ _ _ (by decide)))
      ((StableHlo.unary_result_ne _ _ _ _ _ _ (by decide)).trans (StableHlo.nullary_result_ne _ _ _ _ (by decide)))
      ((StableHlo.unary_result _ _ _ _ _ _).trans (congrArg _ (StableHlo.nullary_result _ _ _ _)))

/-- The bit of a comparison as a number. -/
theorem bit_real (p : Prop) [Decidable p] : FloatOps.uitofp (F := Ideal) .bf16 (BitVec.ofBool (decide p)) = ((if p then 1 else 0 : ℝ) : EReal) := by
  by_cases h : p
  · rw [if_pos h, decide_eq_true h]; show (((1 : ℕ) : ℝ) : EReal) = _; norm_num
  · rw [if_neg h, decide_eq_false h]; show (((0 : ℕ) : ℝ) : EReal) = _; norm_num
theorem word_le (i j : ℕ) (hi : i < 256) (hj : j < 256) : IntOp.cmpi .sle (BitVec.ofNat 32 i) (BitVec.ofNat 32 j) = BitVec.ofBool (decide (i ≤ j)) := by
  rw [WordCmp.cmpi_sle_of_lt (by rw [BitVec.toNat_ofNat]; omega) (by rw [BitVec.toNat_ofNat]; omega), BitVec.toNat_ofNat, BitVec.toNat_ofNat, Nat.mod_eq_of_lt (by omega), Nat.mod_eq_of_lt (by omega)]
theorem word_ge (i j : ℕ) (hi : i < 256) (hj : j < 256) : IntOp.cmpi .sge (BitVec.ofNat 32 i) (BitVec.ofNat 32 j) = BitVec.ofBool (decide (j ≤ i)) :=
  Eq.trans rfl (word_le j i hj hi)

theorem host_side (hq : Real2 (e := .bf16) rq (W0 m c (Proc.devRef .tc main_arg0))) (hk : Real2 (e := .bf16) rk (W0 m c (Proc.devRef .tc main_arg1)))
    (hv : Real2 (e := .bf16) rv (W0 m c (Proc.devRef .tc main_arg2))) : Real2 (e := .bf16) (side rq rk rv) (W1 m c (Proc.devRef .tc main_v1)) := fun a b =>
  (congrFun (host_proj (W0 m c)) (ix2 a b)).trans (projOf_real hq hk hv a b)

theorem host_padd (hd : Real2 (e := .bf16) rd (W0 m c (Proc.devRef .tc main_arg3))) : Real2 (e := .bf16) (padd rd) (W1 m c (Proc.devRef .tc main_v3)) := fun a b => by
  show StableHlo.after hostOps0 (W0 m c) (Proc.devRef .tc main_v3) (ix2 a b) = _
  entry_read
  pointwise
  unfold padd
  by_cases h1 : b.val < 512
  · rw [dif_pos h1, if_pos h1]; exact hd a ⟨b.val, h1⟩
  rw [dif_neg h1, if_neg h1]
  rfl

theorem host_tri : Tri (W1 m c (Proc.devRef .tc main_v14)) := fun a b => by
  show StableHlo.after hostOps0 (W0 m c) (Proc.devRef .tc main_v14) (ix2 a b) = _
  entry_read
  pointwise
  rw [word_ge _ _ (Nat.mod_lt _ (by decide)) b.isLt, bit_real, ← EReal.coe_neg]
  refine congrArg _ ?_
  split <;> norm_num
theorem host_upto : Upto (W1 m c (Proc.devRef .tc main_v20)) := fun a b => by
  show StableHlo.after hostOps0 (W0 m c) (Proc.devRef .tc main_v20) (ix2 a b) = _
  entry_read
  pointwise
  rw [word_le _ _ a.isLt b.isLt, bit_real]

/-! ## The results -/
variable (hq : Real2 (e := .bf16) rq (W0 m c (Proc.devRef .tc main_arg0))) (hk : Real2 (e := .bf16) rk (W0 m c (Proc.devRef .tc main_arg1)))
  (hv : Real2 (e := .bf16) rv (W0 m c (Proc.devRef .tc main_arg2))) (hd : Real2 (e := .bf16) rd (W0 m c (Proc.devRef .tc main_arg3)))
include hq hk hv in
theorem cs_out : Real2 (e := .f32) (carr (side rq rk rv)) (W2 m c (Proc.devRef .tc main_v21_1)) := fun a b =>
  (congrFun (W2_arr m c 5) (ix2 a b)).trans (cs_array (fun c b => W1 m c (Proc.devRef .tc b)) c (host_side m c hq hk hv) (host_tri m c) a b)
include hq hk hv in
theorem o_out (a : Fin 4096) (b : Fin 512) : (W4 m c (Proc.devRef .tc main_v24) : FVec Ideal S4096x512 .bf16) (ix2 a b) = ((oArr (side rq rk rv) a.val b.val : ℝ) : EReal) := by
  refine Eq.trans ?_ (o_array (fun c b => W1 m c (Proc.devRef .tc b)) c (host_side m c hq hk hv) (host_tri m c) a b)
  refine Eq.trans ?_ (congrFun ((W3_rest m c main_v21_0 (by decide)).trans (W2_arr m c 4)) (ix3 0 a b))
  show StableHlo.after hostOps2 (W3 m c) (Proc.devRef .tc main_v24) (ix2 a b) = _
  generalize W3 m c = w
  entry_read
  pointwise
include hq hk hv hd in
theorem d_out (s : Fin 3) (a : Fin 4096) (b : Fin 512) : (W4 m c (Proc.devRef .tc main_v25) : FVec Ideal S3x4096x512 .bf16) (ix3 s a b) = ((dArr (side rq rk rv) (padd rd) s.val a.val b.val : ℝ) : EReal) := by
  have h1 : W2 m c (Proc.devRef .tc main_v1) = W1 m c (Proc.devRef .tc main_v1) := W2_in m c 0 rfl
  have h14 : W2 m c (Proc.devRef .tc main_v14) = W1 m c (Proc.devRef .tc main_v14) := W2_in m c 3 rfl
  have h3 : W2 m c (Proc.devRef .tc main_v3) = W1 m c (Proc.devRef .tc main_v3) := W2_rest m c main_v3 (by decide)
  have h20 : W2 m c (Proc.devRef .tc main_v20) = W1 m c (Proc.devRef .tc main_v20) := W2_rest m c main_v20 (by decide)
  refine Eq.trans ?_ (d_array (fun c b => W2 m c (Proc.devRef .tc b)) c (h1 ▸ host_side m c hq hk hv) (h3 ▸ host_padd m c hd) (h14 ▸ host_tri m c) (h20 ▸ host_upto m c) (cs_out m c hq hk hv) s a b)
  refine Eq.trans ?_ (congrFun (W3_arr m c 7) (ix3 ⟨s.val, by omega⟩ a b))
  show StableHlo.after hostOps2 (W3 m c) (Proc.devRef .tc main_v25) (ix3 s a b) = _
  generalize W3 m c = w
  entry_read
  pointwise

/-! ## The results, head by head -/
/-- Head `h` of sequence `s`. -/
def hdOf (X : ℕ → ℕ → ℝ) (s h i : ℕ) (x : Fin 64) : ℝ := X (2048 * s + i) (64 * h + x.val)

theorem head_side (t u : ℕ) (hu : u < 4) : headOf (shift (side rq rk rv) 0 t) u = hdOf rq (t / 2) (4 * (t % 2) + u)
    ∧ headOf (shift (side rq rk rv) 2 t) u = hdOf rk (t / 2) (4 * (t % 2) + u) ∧ headOf (shift (side rq rk rv) 4 t) u = hdOf rv (t / 2) (4 * (t % 2) + u) := by
  refine ⟨?_, ?_, ?_⟩ <;> funext i x <;> have hx := x.isLt <;> unfold headOf shift side hdOf
  · rw [if_pos (by omega)]; exact congrArg _ (by omega)
  · rw [if_neg (by omega), if_pos (by omega)]; exact congrArg _ (by omega)
  · rw [if_neg (by omega), if_neg (by omega), if_pos (by omega)]; exact congrArg _ (by omega)
theorem head_padd (t u : ℕ) (hu : u < 4) : headOf (shift (padd rd) 0 t) u = hdOf rd (t / 2) (4 * (t % 2) + u) := by
  funext i x; have hx := x.isLt; unfold headOf shift padd hdOf
  rw [if_pos (by omega)]; exact congrArg _ (by omega)

theorem place (a b : ℕ) (hb : b < 512) (ha : a < 4096) : (2 * (a / 2048) + b / 256) / 2 = a / 2048 ∧ 4 * ((2 * (a / 2048) + b / 256) % 2) + b % 256 / 64 = b / 64 ∧ b % 256 / 64 < 4
    ∧ lane64 (b % 256) = lane64 b := by
  refine ⟨by omega, by omega, by omega, Fin.ext ?_⟩
  show b % 256 % 64 = b % 64
  omega

theorem oArr_head (a b : ℕ) (ha : a < 4096) (hb : b < 512) : oArr (side rq rk rv) a b
    = oH (hdOf rq (a / 2048) (b / 64)) (hdOf rk (a / 2048) (b / 64)) (hdOf rv (a / 2048) (b / 64)) (a % 2048) (lane64 b) := by
  obtain ⟨e1, e2, e3, e4⟩ := place a b hb ha
  unfold oArr
  rw [oSpec_head _ _ _ _ _ (by omega), (head_side _ _ e3).1, (head_side _ _ e3).2.1, (head_side _ _ e3).2.2, e1, e2, e4]
theorem dArr_head (s a b : ℕ) (ha : a < 4096) (hb : b < 512) : dArr (side rq rk rv) (padd rd) s a b
    = dH s (hdOf rq (a / 2048) (b / 64)) (hdOf rk (a / 2048) (b / 64)) (hdOf rv (a / 2048) (b / 64)) (hdOf rd (a / 2048) (b / 64)) (a % 2048) (lane64 b) := by
  obtain ⟨e1, e2, e3, e4⟩ := place a b hb ha
  unfold dArr
  rw [dSpec_head _ _ _ _ _ _ (by omega), (head_side _ _ e3).1, (head_side _ _ e3).2.1, (head_side _ _ e3).2.2, head_padd _ _ e3, e1, e2, e4]
end Entry
end Cert.Kernel2Ideal.Attn
-- ==== Proof.AttnRef.lean ====
module

public import proofs.«01_k».proof.Proof.AttnVal
public import proofs.«01_k».proof.Proof.Gen.Reference2Ideal.Run
public import Idealize.ShloMosaic.Lib.WordCmp

@[expose] public section

set_option maxRecDepth 16384

noncomputable section

open Idealize.ShloMosaic Idealize.ShloMosaic.TcCoe Idealize.SL.Sem
open Cert.Kernel2Ideal.Attn (Real2 hdOf zH sH tH wH oH eH gH qH kH vH dH lane64 spR coe_sum eighth32)

namespace Cert.Reference2Ideal.Attn

open Cert.Reference2Ideal Cert.Reference2Ideal.Gen Cert.Reference2Ideal.Value

/-! # The reference's arrays, entry by entry -/

/-! ## Running sums -/
theorem foldl_sum (N : ℕ) (g : Fin N → EReal) : (List.finRange N).foldl (fun r n => r + g n) 0 = ∑ n, g n := by
  rw [Fin.sum_univ_def, List.sum_eq_foldl, List.foldl_map]

/-- The index of a window of one row. -/
theorem win_idx (n : Fin (⟨4, ![1, 1, 1, 2048]⟩ : Shape).numel) (a : Fin 4) :
    ((⟨4, ![1, 1, 1, 2048]⟩ : Shape).rowMajor.symm n a).val = if a = 3 then n.val else 0 := by
  generalize hk : (⟨4, ![1, 1, 1, 2048]⟩ : Shape).rowMajor.symm n = k
  have hn : ((⟨4, ![1, 1, 1, 2048]⟩ : Shape).rowMajor k).val = n.val := by rw [← hk, Equiv.apply_symm_apply]
  rw [Shape.rowMajor_val_four] at hn
  have h0 : (k 0).val < 1 := (k 0).isLt
  have h1 : (k 1).val < 1 := (k 1).isLt
  have h2 : (k 2).val < 1 := (k 2).isLt
  change (((k 0).val * 1 + (k 1).val) * 1 + (k 2).val) * 2048 + (k 3).val = n.val at hn
  fin_cases a
  · exact (Nat.lt_one_iff.1 h0).trans (if_neg (by decide)).symm
  · exact (Nat.lt_one_iff.1 h1).trans (if_neg (by decide)).symm
  · exact (Nat.lt_one_iff.1 h2).trans (if_neg (by decide)).symm
  · refine Eq.trans ?_ (if_pos rfl).symm
    show (k 3).val = n.val
    omega

/-- A float running sum along the last axis: the window's terms that fall inside the row. -/
theorem window_at (L H : ℕ) (x : FVec Ideal S2x8x2048x2048 .f32) {X : ℕ → ℝ} (c : FVec Ideal S_ .f32) (hc : ∀ k, c k = 0) (h) (hu) (s : Fin 2) (u : Fin 8) (i j : Fin 2048)
    (hx : ∀ j' : Fin 2048, x (ix4 s u i j') = (((X j'.val : ℝ)) : EReal)) :
    (Host.reduceWindowAdd ![1, 1, 1, 2048] ![1, 1, 1, 1] ![0, 0, 0, L] ![0, 0, 0, H] x c h hu : FVec Ideal S2x8x2048x2048 .f32) (ix4 s u i j)
      = (((∑ n ∈ Finset.range 2048, if L ≤ j.val + n ∧ j.val + n - L < 2048 then X (j.val + n - L) else 0 : ℝ)) : EReal) := by
  unfold Host.reduceWindowAdd
  rw [Ideal.hostReduceWindowAdd_def, hc]
  unfold Ideal.hostReduceWindowAdd Host.reduceWindow
  refine (foldl_sum _ _).trans ?_
  rw [coe_sum, ← Fin.sum_univ_eq_sum_range (fun n => (((if L ≤ j.val + n ∧ j.val + n - L < 2048 then X (j.val + n - L) else 0 : ℝ)) : EReal)) 2048]
  refine Fintype.sum_equiv (finCongr (by decide)) _ _ fun n => ?_
  have e0 := (win_idx n 0).trans (if_neg (by decide))
  have e1 := (win_idx n 1).trans (if_neg (by decide))
  have e2 := (win_idx n 2).trans (if_neg (by decide))
  have e3 := (win_idx n 3).trans (if_pos rfl)
  by_cases hp : L ≤ j.val + n.val ∧ j.val + n.val - L < 2048
  · rw [if_pos (by exact hp)]
    refine (dif_pos ?_).trans ((congrArg x (funext fun a => Fin.ext ?_)).trans (hx ⟨j.val + n.val - L, hp.2⟩))
    · intro a
      fin_cases a
      · exact ⟨Nat.zero_le _, by show s.val * 1 + ((⟨4, ![1, 1, 1, 2048]⟩ : Shape).rowMajor.symm n 0).val - 0 < 2; omega⟩
      · exact ⟨Nat.zero_le _, by show u.val * 1 + ((⟨4, ![1, 1, 1, 2048]⟩ : Shape).rowMajor.symm n 1).val - 0 < 8; omega⟩
      · exact ⟨Nat.zero_le _, by show i.val * 1 + ((⟨4, ![1, 1, 1, 2048]⟩ : Shape).rowMajor.symm n 2).val - 0 < 2048; omega⟩
      · exact ⟨by show L ≤ j.val * 1 + ((⟨4, ![1, 1, 1, 2048]⟩ : Shape).rowMajor.symm n 3).val; omega, by show j.val * 1 + ((⟨4, ![1, 1, 1, 2048]⟩ : Shape).rowMajor.symm n 3).val - L < 2048; omega⟩
    · fin_cases a
      · show s.val * 1 + ((⟨4, ![1, 1, 1, 2048]⟩ : Shape).rowMajor.symm n 0).val - 0 = s.val; omega
      · show u.val * 1 + ((⟨4, ![1, 1, 1, 2048]⟩ : Shape).rowMajor.symm n 1).val - 0 = u.val; omega
      · show i.val * 1 + ((⟨4, ![1, 1, 1, 2048]⟩ : Shape).rowMajor.symm n 2).val - 0 = i.val; omega
      · show j.val * 1 + ((⟨4, ![1, 1, 1, 2048]⟩ : Shape).rowMajor.symm n 3).val - L = j.val + n.val - L; omega
  · rw [if_neg (by exact hp)]
    refine (dif_neg fun hin => hp ?_).trans EReal.coe_zero.symm
    have g1 : L ≤ j.val * 1 + ((⟨4, ![1, 1, 1, 2048]⟩ : Shape).rowMajor.symm n 3).val := (hin 3).1
    have g2 : j.val * 1 + ((⟨4, ![1, 1, 1, 2048]⟩ : Shape).rowMajor.symm n 3).val - L < 2048 := (hin 3).2
    exact ⟨by omega, by omega⟩
theorem pre_sum (X : ℕ → ℝ) (j : ℕ) (hj : j < 2048) :
    (∑ n ∈ Finset.range 2048, if 2047 ≤ j + n ∧ j + n - 2047 < 2048 then X (j + n - 2047) else 0) = ∑ j' ∈ Finset.range (j + 1), X j' := by
  rw [← Finset.sum_filter]
  refine Finset.sum_nbij' (fun n => j + n - 2047) (fun m => m + 2047 - j) ?_ ?_ ?_ ?_ ?_ <;> intro n hn <;> simp only [Finset.mem_filter, Finset.mem_range] at hn ⊢ <;> omega
theorem suf_sum (X : ℕ → ℝ) (j : ℕ) (hj : j < 2048) :
    (∑ n ∈ Finset.range 2048, if 0 ≤ j + n ∧ j + n - 0 < 2048 then X (j + n - 0) else 0) = ∑ j' ∈ Finset.Ico j 2048, X j' := by
  rw [← Finset.sum_filter]
  refine Finset.sum_nbij' (fun n => j + n) (fun m => m - j) ?_ ?_ ?_ ?_ ?_ <;> intro n hn <;> simp only [Finset.mem_filter, Finset.mem_range, Finset.mem_Ico] at hn ⊢ <;> first | omega | rfl

/-! ## The softplus -/
theorem exp_sp (z : ℝ) : Real.exp (spR z) = 1 + Real.exp z := by
  unfold spR
  rw [Real.exp_add, Real.exp_log (by positivity)]
  rcases le_total 0 z with h | h
  · rw [max_eq_left h, abs_of_nonneg h, mul_add, ← Real.exp_add, add_neg_cancel, Real.exp_zero, mul_one, add_comm]
  · rw [max_eq_right h, abs_of_nonpos h, neg_neg, Real.exp_zero, one_mul]
theorem sp_neg (z : ℝ) : spR (-z) = spR z - z := by
  apply Real.exp_injective
  rw [Real.exp_sub, exp_sp, exp_sp, add_div, div_self (Real.exp_pos z).ne', Real.exp_neg, one_div, add_comm]
theorem exp_neg_sp (z : ℝ) : Real.exp (-spR z) = 1 - Real.exp (z - spR z) := by
  rw [Real.exp_sub, Real.exp_neg, exp_sp]
  have : 0 < 1 + Real.exp z := by positivity
  field_simp
  ring

theorem softplus_at (Z : FVec Ideal S2x8x2048x2048 .f32) (c : FVec Ideal S_ .f32) (hc : ∀ k, c k = 0) (hb) (s : Fin 2) (u : Fin 8) (i j : Fin 2048) {z : ℝ} (h : Z (ix4 s u i j) = (((z : ℝ)) : EReal)) :
    (select (cmpf .une (subf Z (broadcastInDim S2x8x2048x2048 ![] hb c)) (subf Z (broadcastInDim S2x8x2048x2048 ![] hb c))) (addf Z (broadcastInDim S2x8x2048x2048 ![] hb c))
      (addf (maximumf Z (broadcastInDim S2x8x2048x2048 ![] hb c)) (Host.log1p (Host.exp (Host.negf (Host.absf (subf Z (broadcastInDim S2x8x2048x2048 ![] hb c))))))) : FVec Ideal S2x8x2048x2048 .f32) (ix4 s u i j) = (((spR z : ℝ)) : EReal) := by
  pointwise [h, hc]
  rw [if_neg (fun h => h rfl)]
  have ha : (FloatOps.absf (F := Ideal) (φ := .f32) (z : EReal) : EReal) = ((|z| : ℝ) : EReal) := by
    show max (z : EReal) (-z) = _; exact (EReal.coe_strictMono.monotone.map_max (a := z) (b := -z)).symm
  have hp : 0 < 1 + Real.exp (-|z|) := by positivity
  rw [ha, ← EReal.coe_neg, Ideal.exp_coe]
  unfold spR
  rw [EReal.coe_add, EReal.coe_strictMono.monotone.map_max, EReal.coe_zero]
  congr 1
  unfold Ideal.log1p
  rw [← EReal.coe_one, ← EReal.coe_add, Ideal.log_coe]
  simp [hp]

/-- A value kept where it is not infinite. -/
theorem keep_at (Z : FVec Ideal S2x8x2048x2048 .f32) (hb) (hb') (s : Fin 2) (u : Fin 8) (i j : Fin 2048) {z : ℝ} (h : Z (ix4 s u i j) = (((z : ℝ)) : EReal)) :
    (select (cmpf .oeq Z (broadcastInDim S2x8x2048x2048 ![] hb (constant S_ .f32 0x7F800000#32))) (broadcastInDim S2x8x2048x2048 ![] hb' (constant S_ .f32 0x00000000#32)) Z : FVec Ideal S2x8x2048x2048 .f32) (ix4 s u i j) = (((z : ℝ)) : EReal) := by
  pointwise [h]
  exact if_neg fun e => EReal.coe_ne_top z (e.trans (by simp [Ideal.ofBits, Ideal.ieee]))

section Steps
variable (V : Valuation τ sig (Elt Ideal)) {rq rk rv rd : ℕ → ℕ → ℝ}

theorem split_at (y : FVec Ideal S4096x512 .bf16) (h1) (h2) (h3) (s : Fin 2) (u : Fin 8) (i : Fin 2048) (x : Fin 64) {X : ℕ → ℕ → ℝ} (h : Real2 X y) :
    (transpose S2x8x2048x64 [0, 2, 1, 3] (shapeCast S2x2048x8x64 (extf .f32 y h1) h2) h3 : FVec Ideal S2x8x2048x64 .f32) (ix4 s u i x)
      = (((hdOf X s.val u.val i.val x : ℝ)) : EReal) := by
  pointwise
  refine (h _ _).trans (congrArg _ ?_)
  unfold hdOf
  exact congrArg₂ X (by show s.val * 2048 + i.val = _; omega) (by show u.val * 64 + x.val = _; omega)

variable (hq : Real2 (e := .bf16) rq (V (Proc.devRef .tc main_arg0))) (hk : Real2 (e := .bf16) rk (V (Proc.devRef .tc main_arg1)))
  (hv : Real2 (e := .bf16) rv (V (Proc.devRef .tc main_arg2))) (hd : Real2 (e := .bf16) rd (V (Proc.devRef .tc main_arg3)))
include hq in
theorem q_at (s : Fin 2) (u : Fin 8) (i : Fin 2048) (x : Fin 64) : res_main_v2 V (ix4 s u i x) = (((hdOf rq s.val u.val i.val x : ℝ)) : EReal) := split_at _ _ _ _ s u i x hq
include hk in
theorem k_at (s : Fin 2) (u : Fin 8) (i : Fin 2048) (x : Fin 64) : res_main_v5 V (ix4 s u i x) = (((hdOf rk s.val u.val i.val x : ℝ)) : EReal) := split_at _ _ _ _ s u i x hk
include hv in
theorem v_at (s : Fin 2) (u : Fin 8) (i : Fin 2048) (x : Fin 64) : res_main_v8 V (ix4 s u i x) = (((hdOf rv s.val u.val i.val x : ℝ)) : EReal) := split_at _ _ _ _ s u i x hv
include hd in
theorem d_at (s : Fin 2) (u : Fin 8) (i : Fin 2048) (x : Fin 64) : res_main_v11 V (ix4 s u i x) = (((hdOf rd s.val u.val i.val x : ℝ)) : EReal) := split_at _ _ _ _ s u i x hd

/-- A product along the last axis. -/
theorem dot_at (X Y : FVec Ideal S2x8x2048x64 .f32) (s : Fin 2) (u : Fin 8) (i j : Fin 2048) {P Q : ℕ → Fin 64 → ℝ}
    (hX : ∀ (i : Fin 2048) x, X (ix4 s u i x) = (((P i.val x : ℝ)) : EReal)) (hY : ∀ (i : Fin 2048) x, Y (ix4 s u i x) = (((Q i.val x : ℝ)) : EReal)) :
    Host.dotGeneral dot_S2x8x2048x64_S2x8x2048x64_S2x8x2048x2048_3_3_2_2_01_01 none X Y (ix4 s u i j) = (((∑ x : Fin 64, P i.val x * Q j.val x : ℝ)) : EReal) := by
  pointwise
  rw [coe_sum]
  exact Finset.sum_congr rfl fun x _ => by rw [hX, hY, ← EReal.coe_mul]

theorem mask_at (i j : Fin 2048) : res_main_v21 V (ix2 i j) = BitVec.ofBool (decide (j.val < i.val)) := by
  unfold res_main_v21
  pointwise
  rw [WordCmp.cmpi_slt_of_lt (by rw [BitVec.toNat_ofNat]; omega) (by rw [BitVec.toNat_ofNat]; omega), BitVec.toNat_ofNat, BitVec.toNat_ofNat, Nat.mod_eq_of_lt (by omega), Nat.mod_eq_of_lt (by omega)]

/-- The causal mask over all heads. -/
theorem masked_at (M : IVec S2048x2048 1) (X W : FVec Ideal S2x8x2048x2048 .f32) (hb) (s : Fin 2) (u : Fin 8) (i j : Fin 2048) (hM : M (ix2 i j) = BitVec.ofBool (decide (j.val < i.val))) :
    (select (broadcastInDim S2x8x2048x2048 ![2, 3] hb M) X W : FVec Ideal S2x8x2048x2048 .f32) (ix4 s u i j) = if j.val < i.val then X (ix4 s u i j) else W (ix4 s u i j) := by
  pointwise [hM]

include hq hk in
theorem z_at (s : Fin 2) (u : Fin 8) (i j : Fin 2048) : res_main_v14 V (ix4 s u i j) = (((zH (hdOf rq s.val u.val) (hdOf rk s.val u.val) i.val j.val : ℝ)) : EReal) := by
  unfold res_main_v14
  refine Eq.trans ?_ (EReal.coe_mul _ _).symm
  exact congrArg₂ HMul.hMul (dot_at _ _ s u i j (fun i x => q_at V hq s u i x) (fun i x => k_at V hk s u i x)) eighth32
include hq hk in
theorem sp_at (s : Fin 2) (u : Fin 8) (i j : Fin 2048) : res_main_v22_0 V (ix4 s u i j) = (((spR (zH (hdOf rq s.val u.val) (hdOf rk s.val u.val) i.val j.val) : ℝ)) : EReal) :=
  softplus_at _ (res_main_call0_cst V) (fun _ => Ideal.ofBits_zero_f32) _ s u i j (z_at V hq hk s u i j)
include hq hk in
theorem nz_at (s : Fin 2) (u : Fin 8) (i j : Fin 2048) : res_main_call3_v0 V (ix4 s u i j) = (((-zH (hdOf rq s.val u.val) (hdOf rk s.val u.val) i.val j.val : ℝ)) : EReal) := by
  unfold res_main_call3_v0
  exact (congrArg (fun x : EReal => -x) (z_at V hq hk s u i j)).trans (EReal.coe_neg _).symm
include hq hk in
theorem spn_at (s : Fin 2) (u : Fin 8) (i j : Fin 2048) : res_main_call3_v1_0 V (ix4 s u i j) = (((spR (-zH (hdOf rq s.val u.val) (hdOf rk s.val u.val) i.val j.val) : ℝ)) : EReal) :=
  softplus_at _ (res_main_call3_call0_cst V) (fun _ => Ideal.ofBits_zero_f32) _ s u i j (nz_at V hq hk s u i j)
include hq hk in
theorem s_at (s : Fin 2) (u : Fin 8) (i j : Fin 2048) : res_main_v24_0 V (ix4 s u i j) = (((-sH (hdOf rq s.val u.val) (hdOf rk s.val u.val) i.val j.val : ℝ)) : EReal) := by
  refine (masked_at _ _ _ _ s u i j (mask_at V i j)).trans ?_
  unfold sH
  split
  · exact (congrArg (fun x : EReal => -x) (sp_at V hq hk s u i j)).trans (EReal.coe_neg _).symm
  · rw [neg_zero]; exact Ideal.ofBits_zero_f32

include hq hk in
/-- The exponential before its mask, kept keys only. -/
theorem x_at (s : Fin 2) (u : Fin 8) (i j : Fin 2048) : res_main_v30 V (ix4 s u i j) = (((if j.val < i.val then Real.exp (zH (hdOf rq s.val u.val) (hdOf rk s.val u.val) i.val j.val - tH (hdOf rq s.val u.val) (hdOf rk s.val u.val) i.val j.val) else 1 : ℝ)) : EReal) := by
  have hr := (window_at 0 2047 (res_main_v24_0 V) (X := fun j' => -sH (hdOf rq s.val u.val) (hdOf rk s.val u.val) i.val j') (broadcastInDim S_ ![] bcast_S_S_ (constant S_ .f32 0x00000000#32)) (fun _ => Ideal.ofBits_zero_f32)
    reduceWindows_S2x8x2048x2048_S2x8x2048x2048_w1s1p0_0_w1s1p0_0_w1s1p0_0_w2048s1p0_2047 h_S_ s u i j (fun j' => s_at V hq hk s u i j')).trans (congrArg _ (suf_sum (fun j' => -sH (hdOf rq s.val u.val) (hdOf rk s.val u.val) i.val j') j.val j.isLt))
  refine (congrArg Ideal.exp (masked_at (res_main_v21 V) _ _ _ s u i j (mask_at V i j))).trans ?_
  by_cases h : j.val < i.val
  · rw [if_pos h, if_pos h]
    have e : -spR (-zH (hdOf rq s.val u.val) (hdOf rk s.val u.val) i.val j.val) + ((∑ j' ∈ Finset.Ico j.val 2048, -sH (hdOf rq s.val u.val) (hdOf rk s.val u.val) i.val j') - -sH (hdOf rq s.val u.val) (hdOf rk s.val u.val) i.val j.val) = zH (hdOf rq s.val u.val) (hdOf rk s.val u.val) i.val j.val - tH (hdOf rq s.val u.val) (hdOf rk s.val u.val) i.val j.val := by
      rw [Finset.sum_neg_distrib, sp_neg]
      unfold tH
      rw [show sH (hdOf rq s.val u.val) (hdOf rk s.val u.val) i.val j.val = spR (zH (hdOf rq s.val u.val) (hdOf rk s.val u.val) i.val j.val) from if_pos h]
      ring
    rw [← e, ← Ideal.exp_coe]
    refine congrArg Ideal.exp ?_
    rw [EReal.coe_add, EReal.coe_neg, EReal.coe_sub]
    exact congrArg₂ HAdd.hAdd (congrArg (fun x : EReal => -x) (spn_at V hq hk s u i j)) (congrArg₂ HSub.hSub hr (s_at V hq hk s u i j))
  · rw [if_neg h, if_neg h, ← Real.exp_zero, ← Ideal.exp_coe]
    exact congrArg Ideal.exp Ideal.ofBits_zero_f32
include hq hk in
theorem w_at (s : Fin 2) (u : Fin 8) (i j : Fin 2048) : res_main_v31_0 V (ix4 s u i j) = (((wH (hdOf rq s.val u.val) (hdOf rk s.val u.val) i.val j.val : ℝ)) : EReal) := by
  refine (masked_at (res_main_v21 V) _ _ _ s u i j (mask_at V i j)).trans ?_
  unfold wH
  by_cases h : j.val < i.val
  · rw [if_pos h, if_pos h, x_at V hq hk s u i j, if_pos h]
  · rw [if_neg h, if_neg h]; exact Ideal.ofBits_zero_f32
include hq hk hv hd in
theorem e_at (s : Fin 2) (u : Fin 8) (i j : Fin 2048) : res_main_v41 V (ix4 s u i j) = (((eH (hdOf rq s.val u.val) (hdOf rk s.val u.val) (hdOf rv s.val u.val) (hdOf rd s.val u.val) i.val j.val : ℝ)) : EReal) := by
  refine (masked_at (res_main_v21 V) _ _ _ s u i j (mask_at V i j)).trans ?_
  unfold eH wH
  by_cases h : j.val < i.val
  · rw [if_pos h, if_pos h, mul_comm, EReal.coe_mul]
    refine congrArg₂ HMul.hMul ((masked_at (res_main_v21 V) _ _ _ s u i j (mask_at V i j)).trans ((if_pos h).trans ?_)) ((x_at V hq hk s u i j).trans (congrArg _ (if_pos h)))
    exact dot_at _ _ s u i j (fun i x => d_at V hd s u i x) (fun i x => v_at V hv s u i x)
  · rw [if_neg h, if_neg h, zero_mul]; exact Ideal.ofBits_zero_f32
include hq hk hv hd in
theorem g_at (s : Fin 2) (u : Fin 8) (i j : Fin 2048) : res_main_v51 V (ix4 s u i j) = (((gH (hdOf rq s.val u.val) (hdOf rk s.val u.val) (hdOf rv s.val u.val) (hdOf rd s.val u.val) i.val j.val * (1 / 8) : ℝ)) : EReal) := by
  have hp := (window_at 2047 0 (res_main_v41 V) (X := fun j' => eH (hdOf rq s.val u.val) (hdOf rk s.val u.val) (hdOf rv s.val u.val) (hdOf rd s.val u.val) i.val j') (broadcastInDim S_ ![] bcast_S_S_ (constant S_ .f32 0x00000000#32)) (fun _ => Ideal.ofBits_zero_f32)
    reduceWindows_S2x8x2048x2048_S2x8x2048x2048_w1s1p0_0_w1s1p0_0_w1s1p0_0_w2048s1p2047_0 h_S_ s u i j (fun j' => e_at V hq hk hv hd s u i j')).trans (congrArg _ (pre_sum (fun j' => eH (hdOf rq s.val u.val) (hdOf rk s.val u.val) (hdOf rv s.val u.val) (hdOf rd s.val u.val) i.val j') j.val j.isLt))
  have he := e_at V hq hk hv hd s u i j
  have h1 : gH (hdOf rq s.val u.val) (hdOf rk s.val u.val) (hdOf rv s.val u.val) (hdOf rd s.val u.val) i.val j.val = -(-eH (hdOf rq s.val u.val) (hdOf rk s.val u.val) (hdOf rv s.val u.val) (hdOf rd s.val u.val) i.val j.val * Real.exp (-zH (hdOf rq s.val u.val) (hdOf rk s.val u.val) i.val j.val - spR (-zH (hdOf rq s.val u.val) (hdOf rk s.val u.val) i.val j.val)))
      + -(if j.val < i.val then -eH (hdOf rq s.val u.val) (hdOf rk s.val u.val) (hdOf rv s.val u.val) (hdOf rd s.val u.val) i.val j.val + ∑ j' ∈ Finset.range (j.val + 1), eH (hdOf rq s.val u.val) (hdOf rk s.val u.val) (hdOf rv s.val u.val) (hdOf rd s.val u.val) i.val j' else 0) * Real.exp (zH (hdOf rq s.val u.val) (hdOf rk s.val u.val) i.val j.val - spR (zH (hdOf rq s.val u.val) (hdOf rk s.val u.val) i.val j.val)) := by
    rw [show -zH (hdOf rq s.val u.val) (hdOf rk s.val u.val) i.val j.val - spR (-zH (hdOf rq s.val u.val) (hdOf rk s.val u.val) i.val j.val) = -spR (zH (hdOf rq s.val u.val) (hdOf rk s.val u.val) i.val j.val) by rw [sp_neg]; ring, exp_neg_sp]
    unfold gH
    by_cases h : j.val < i.val
    · rw [if_pos h, if_pos h]; ring
    · rw [if_neg h, if_neg h, show eH (hdOf rq s.val u.val) (hdOf rk s.val u.val) (hdOf rv s.val u.val) (hdOf rd s.val u.val) i.val j.val = 0 by unfold eH wH; rw [if_neg h, zero_mul]]; ring
  rw [EReal.coe_mul, h1, EReal.coe_add, EReal.coe_neg, EReal.coe_mul, EReal.coe_neg, EReal.coe_mul, EReal.coe_neg]
  refine congrArg₂ HMul.hMul (congrArg₂ HAdd.hAdd (congrArg (fun x : EReal => -x) (congrArg₂ HMul.hMul (congrArg (fun x : EReal => -x) he) ?_)) (congrArg₂ HMul.hMul (congrArg (fun x : EReal => -x) ?_) ?_)) eighth32
  · rw [← Ideal.exp_coe, EReal.coe_sub]
    exact congrArg Ideal.exp (congrArg₂ HSub.hSub (keep_at _ _ _ s u i j (nz_at V hq hk s u i j)) (keep_at _ _ _ s u i j (spn_at V hq hk s u i j)))
  · refine (masked_at (res_main_v21 V) _ _ _ s u i j (mask_at V i j)).trans ?_
    by_cases h : j.val < i.val
    · rw [if_pos h, if_pos h, EReal.coe_add, EReal.coe_neg]
      exact congrArg₂ HAdd.hAdd (congrArg (fun x : EReal => -x) he) hp
    · rw [if_neg h, if_neg h]; exact Ideal.ofBits_zero_f32
  · rw [← Ideal.exp_coe, EReal.coe_sub]
    exact congrArg Ideal.exp (congrArg₂ HSub.hSub (keep_at _ _ _ s u i j (z_at V hq hk s u i j)) (keep_at _ _ _ s u i j (sp_at V hq hk s u i j)))

/-- The three gradients stacked. -/
theorem stack_at (A B C : FVec Ideal S4096x512 .bf16) (hb) (hc) (e : Fin 3) (a : Fin 4096) (b : Fin 512) :
    (concatenate S3x4096x512 0 [⟨S1x4096x512, broadcastInDim S1x4096x512 ![1, 2] hb A⟩, ⟨S1x4096x512, broadcastInDim S1x4096x512 ![1, 2] hb B⟩, ⟨S1x4096x512, broadcastInDim S1x4096x512 ![1, 2] hb C⟩] hc
      : FVec Ideal S3x4096x512 .bf16) (ix3 e a b) = if e.val < 1 then A (ix2 a b) else if e.val - 1 < 1 then B (ix2 a b) else C (ix2 a b) := by
  pointwise
  by_cases h1 : e.val < 1
  · rw [dif_pos h1, if_pos h1]
  rw [dif_neg h1, if_neg h1]
  exact dite_eq_ite

/-- The heads put side by side again. -/
theorem merge_at (Y : FVec Ideal S2x8x2048x64 .f32) (h1) (h2) (h3) (a : Fin 4096) (b : Fin 512) (f : ℕ → ℕ → ℕ → Fin 64 → ℝ)
    (hY : ∀ (s : Fin 2) (u : Fin 8) (i : Fin 2048) (x : Fin 64), Y (ix4 s u i x) = (((f s.val u.val i.val x : ℝ)) : EReal)) :
    (truncf .bf16 (shapeCast S4096x512 (transpose S2x2048x8x64 [0, 2, 1, 3] Y h1) h2) h3 : FVec Ideal S4096x512 .bf16) (ix2 a b) = (((f (a.val / 2048) (b.val / 64) (a.val % 2048) (lane64 b.val) : ℝ)) : EReal) := by
  pointwise
  exact hY _ _ _ _

theorem dot32_at (Y : FVec Ideal S2x8x2048x2048 .f32) (Z : FVec Ideal S2x8x2048x64 .f32) (s : Fin 2) (u : Fin 8) (i : Fin 2048) (x : Fin 64) {W : ℕ → ℕ → ℝ} {P : ℕ → Fin 64 → ℝ}
    (hY : ∀ i j : Fin 2048, Y (ix4 s u i j) = (((W i.val j.val : ℝ)) : EReal)) (hZ : ∀ (j : Fin 2048) x, Z (ix4 s u j x) = (((P j.val x : ℝ)) : EReal)) :
    Host.dotGeneral dot_S2x8x2048x2048_S2x8x2048x64_S2x8x2048x64_3_2_2_3_01_01 none Y Z (ix4 s u i x) = (((∑ j ∈ Finset.range 2048, W i.val j * P j x : ℝ)) : EReal) := by
  pointwise
  rw [← Fin.sum_univ_eq_sum_range (fun j => W i.val j * P j x) 2048, coe_sum]
  exact Finset.sum_congr rfl fun j _ => by rw [hY, hZ, EReal.coe_mul]
theorem dot22_at (Y : FVec Ideal S2x8x2048x2048 .f32) (Z : FVec Ideal S2x8x2048x64 .f32) (s : Fin 2) (u : Fin 8) (i : Fin 2048) (x : Fin 64) {W : ℕ → ℕ → ℝ} {P : ℕ → Fin 64 → ℝ}
    (hY : ∀ i j : Fin 2048, Y (ix4 s u i j) = (((W i.val j.val : ℝ)) : EReal)) (hZ : ∀ (j : Fin 2048) x, Z (ix4 s u j x) = (((P j.val x : ℝ)) : EReal)) :
    Host.dotGeneral dot_S2x8x2048x2048_S2x8x2048x64_S2x8x2048x64_2_2_3_3_01_01 none Y Z (ix4 s u i x) = (((∑ j ∈ Finset.range 2048, W j i.val * P j x : ℝ)) : EReal) := by
  pointwise
  rw [← Fin.sum_univ_eq_sum_range (fun j => W j i.val * P j x) 2048, coe_sum]
  exact Finset.sum_congr rfl fun j _ => by rw [hY, hZ, EReal.coe_mul]
theorem dotT_at (Y : FVec Ideal S2x8x2048x2048 .f32) (Z : FVec Ideal S2x8x2048x64 .f32) (s : Fin 2) (u : Fin 8) (i : Fin 2048) (x : Fin 64) {W : ℕ → ℕ → ℝ} {P : ℕ → Fin 64 → ℝ}
    (hY : ∀ i j : Fin 2048, Y (ix4 s u i j) = (((W i.val j.val : ℝ)) : EReal)) (hZ : ∀ (j : Fin 2048) x, Z (ix4 s u j x) = (((P j.val x : ℝ)) : EReal)) :
    Host.dotGeneral dot_S2x8x2048x64_S2x8x2048x2048_S2x8x64x2048_2_2_3_3_01_01 none Z Y (ix4 s u x i) = (((∑ j ∈ Finset.range 2048, W j i.val * P j x : ℝ)) : EReal) := by
  pointwise
  rw [← Fin.sum_univ_eq_sum_range (fun j => W j i.val * P j x) 2048, coe_sum]
  exact Finset.sum_congr rfl fun j _ => by rw [hY, hZ, EReal.coe_mul, mul_comm]
include hq hk hv in
theorem o_at (a : Fin 4096) (b : Fin 512) (h1) (h2) (h3) : (truncf .bf16 (shapeCast S4096x512 (transpose S2x2048x8x64 [0, 2, 1, 3] (Host.dotGeneral (φ₁ := .f32) (φ₂ := .f32) dot_S2x8x2048x2048_S2x8x2048x64_S2x8x2048x64_3_2_2_3_01_01 none (res_main_v31_0 V) (res_main_v8 V)) h1) h2) h3 : FVec Ideal S4096x512 .bf16) (ix2 a b)
      = (((oH (hdOf rq (a.val / 2048) (b.val / 64)) (hdOf rk (a.val / 2048) (b.val / 64)) (hdOf rv (a.val / 2048) (b.val / 64)) (a.val % 2048) (lane64 b.val) : ℝ)) : EReal) :=
  merge_at _ _ _ _ a b (fun s u => oH (hdOf rq s u) (hdOf rk s u) (hdOf rv s u)) fun s u i x => dot32_at _ _ s u i x (fun i j => w_at V hq hk s u i j) (fun j x => v_at V hv s u j x)
theorem pull (f g : ℕ → ℝ) : (∑ j ∈ Finset.range 2048, f j * (1 / 8) * g j) = (∑ j ∈ Finset.range 2048, f j * g j) * (1 / 8) := by
  rw [Finset.sum_mul]; exact Finset.sum_congr rfl fun j _ => mul_right_comm _ _ _
include hq hk hv hd in
theorem dq_at (a : Fin 4096) (b : Fin 512) (h1) (h2) (h3) : (truncf .bf16 (shapeCast S4096x512 (transpose S2x2048x8x64 [0, 2, 1, 3] (Host.dotGeneral (φ₁ := .f32) (φ₂ := .f32) dot_S2x8x2048x2048_S2x8x2048x64_S2x8x2048x64_3_2_2_3_01_01 none (res_main_v51 V) (res_main_v5 V)) h1) h2) h3 : FVec Ideal S4096x512 .bf16) (ix2 a b)
      = (((qH (hdOf rq (a.val / 2048) (b.val / 64)) (hdOf rk (a.val / 2048) (b.val / 64)) (hdOf rv (a.val / 2048) (b.val / 64)) (hdOf rd (a.val / 2048) (b.val / 64)) (a.val % 2048) (lane64 b.val) : ℝ)) : EReal) :=
  merge_at _ _ _ _ a b (fun s u => qH (hdOf rq s u) (hdOf rk s u) (hdOf rv s u) (hdOf rd s u)) fun s u i x => (dot32_at (W := fun i j => gH (hdOf rq s.val u.val) (hdOf rk s.val u.val) (hdOf rv s.val u.val) (hdOf rd s.val u.val) i j * (1 / 8)) _ _ s u i x (fun i j => g_at V hq hk hv hd s u i j) (fun j x => k_at V hk s u j x)).trans (congrArg _ (pull (fun j => gH (hdOf rq s.val u.val) (hdOf rk s.val u.val) (hdOf rv s.val u.val) (hdOf rd s.val u.val) i.val j) (fun j => (hdOf rk s.val u.val) j x)))
include hq hk hv hd in
theorem dk_at (a : Fin 4096) (b : Fin 512) (h1) (h2) (h3) : (truncf .bf16 (shapeCast S4096x512 (transpose S2x2048x8x64 [0, 2, 1, 3] (Host.dotGeneral (φ₁ := .f32) (φ₂ := .f32) dot_S2x8x2048x2048_S2x8x2048x64_S2x8x2048x64_2_2_3_3_01_01 none (res_main_v51 V) (res_main_v2 V)) h1) h2) h3 : FVec Ideal S4096x512 .bf16) (ix2 a b)
      = (((kH (hdOf rq (a.val / 2048) (b.val / 64)) (hdOf rk (a.val / 2048) (b.val / 64)) (hdOf rv (a.val / 2048) (b.val / 64)) (hdOf rd (a.val / 2048) (b.val / 64)) (a.val % 2048) (lane64 b.val) : ℝ)) : EReal) :=
  merge_at _ _ _ _ a b (fun s u => kH (hdOf rq s u) (hdOf rk s u) (hdOf rv s u) (hdOf rd s u)) fun s u i x => (dot22_at (W := fun i j => gH (hdOf rq s.val u.val) (hdOf rk s.val u.val) (hdOf rv s.val u.val) (hdOf rd s.val u.val) i j * (1 / 8)) _ _ s u i x (fun i j => g_at V hq hk hv hd s u i j) (fun j x => q_at V hq s u j x)).trans (congrArg _ (pull (fun j => gH (hdOf rq s.val u.val) (hdOf rk s.val u.val) (hdOf rv s.val u.val) (hdOf rd s.val u.val) j i.val) (fun j => (hdOf rq s.val u.val) j x)))
include hq hk hd in
theorem dv_at (a : Fin 4096) (b : Fin 512) (h0) (h1) (h2) (h3) : (truncf .bf16 (shapeCast S4096x512 (transpose S2x2048x8x64 [0, 2, 1, 3] (transpose S2x8x2048x64 [0, 1, 3, 2] (Host.dotGeneral (φ₁ := .f32) (φ₂ := .f32) dot_S2x8x2048x64_S2x8x2048x2048_S2x8x64x2048_2_2_3_3_01_01 none (res_main_v11 V) (res_main_v31_0 V)) h0) h1) h2) h3 : FVec Ideal S4096x512 .bf16) (ix2 a b)
      = (((vH (hdOf rq (a.val / 2048) (b.val / 64)) (hdOf rk (a.val / 2048) (b.val / 64)) (hdOf rd (a.val / 2048) (b.val / 64)) (a.val % 2048) (lane64 b.val) : ℝ)) : EReal) :=
  merge_at _ _ _ _ a b (fun s u => vH (hdOf rq s u) (hdOf rk s u) (hdOf rd s u)) fun s u i x => by
    refine Eq.trans ?_ (dotT_at _ _ s u i x (fun i j => w_at V hq hk s u i j) (fun j x => d_at V hd s u j x))
    generalize Host.dotGeneral (F := Ideal) (φ₁ := .f32) (φ₂ := .f32) dot_S2x8x2048x64_S2x8x2048x2048_S2x8x64x2048_2_2_3_3_01_01 none (res_main_v11 V) (res_main_v31_0 V) = Y
    pointwise

end Steps
end Cert.Reference2Ideal.Attn
-- ==== Proof.AttnEq.lean ====
module

public import proofs.«01_k».proof.Proof.AttnRef
public import proofs.«01_k».proof.Proof.Equations
public import proofs.«01_k».proof.Pre_finite_attention

@[expose] public section

set_option maxRecDepth 16384

noncomputable section

open Idealize.ShloMosaic Idealize.ShloMosaic.TcCoe Idealize.SL.Sem
open Cert.Equations (IsReal real_of_abs_lt)
open Cert.Kernel2Ideal.Attn (Real2)

namespace Cert.Attention

/-! # Finite arguments, and the two programs' results side by side -/

/-- A test of the absolute values of a widened array against infinity. -/
theorem reals_of_all {t u : Shape} [Subsingleton t.Idx] {axes : List (Fin (⟨2, ![4096, 512]⟩ : Shape).rank)} (x : FVec Ideal ⟨2, ![4096, 512]⟩ .bf16) (hw)
    (hb : (⟨0, ![]⟩ : Shape).BroadcastsInDim ⟨2, ![4096, 512]⟩ ![]) (init : u.Idx → BitVec 1) (hr : (⟨2, ![4096, 512]⟩ : Shape).ReducesTo axes t) (hu : 0 < u.numel) (j : t.Idx)
    (e : Host.reduce IntOp.andi (cmpf .olt (Host.absf (extf .f32 x hw)) (broadcastInDim ⟨2, ![4096, 512]⟩ ![] hb (constant ⟨0, ![]⟩ .f32 0x7F800000#32))) init hr hu j = 1#1) :
    ∃ X : ℕ → ℕ → ℝ, Real2 X x := by
  have h : ∀ i, IsReal (x i) := fun i => real_of_abs_lt _ (Host.reduce_andi_all _ init hr hu j e i)
  choose f hf using h
  refine ⟨fun a b => if h : a < 4096 ∧ b < 512 then f (ix2 ⟨a, h.1⟩ ⟨b, h.2⟩) else 0, fun a b => ?_⟩
  dsimp only
  rw [dif_pos ⟨a.isLt, b.isLt⟩]
  exact hf _

theorem reals (hF : Cert.Pre_finite_attention.Facts) (x0 x1 x2 x3)
    (h : Cert.Pre_finite_attention.fn (F := Ideal) x0 x1 x2 x3 = fun _ => 1#1) :
    (∃ X : ℕ → ℕ → ℝ, Real2 X x0) ∧ (∃ X : ℕ → ℕ → ℝ, Real2 X x1) ∧ (∃ X : ℕ → ℕ → ℝ, Real2 X x2) ∧ ∃ X : ℕ → ℕ → ℝ, Real2 X x3 := by
  haveI : Subsingleton Cert.Pre_finite_attention.S_.Idx := ⟨fun a b => funext fun i => i.elim0⟩
  have h := congrFun h ((fun i => i.elim0 : Cert.Pre_finite_attention.S_.Idx))
  dsimp only [Cert.Pre_finite_attention.fn, Cert.Pre_finite_attention.fn_part1] at h
  have h2 : ∀ p q : BitVec 1, p &&& q = 1#1 → p = 1#1 ∧ q = 1#1 := by decide
  obtain ⟨h, e3⟩ := h2 _ _ h
  obtain ⟨h, e2⟩ := h2 _ _ h
  obtain ⟨e0, e1⟩ := h2 _ _ h
  exact ⟨reals_of_all _ _ _ _ _ _ _ e0, reals_of_all _ _ _ _ _ _ _ e1, reals_of_all _ _ _ _ _ _ _ e2, reals_of_all _ _ _ _ _ _ _ e3⟩

open Cert.Kernel2Ideal Cert.Kernel2Ideal.Gen Cert.Kernel2Ideal.Attn in
/-- The kernel's two results are what its last item leaves in them. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v24) = W4 m c (Proc.devRef .tc main_v24)
      ∧ r.2.mem ((c.tc : Thread nD τ).loc main_v25) = W4 m c (Proc.devRef .tc main_v25)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨h.1 c main_v24 (mem_uc _ (by decide)), h.1 c main_v25 (mem_uc _ (by decide)),
    (h.1 c main_arg0 (mem_uc _ (by decide))).trans (W4_arg m c main_arg0 (by decide) (by decide) (by decide) (by decide)),
    (h.1 c main_arg1 (mem_uc _ (by decide))).trans (W4_arg m c main_arg1 (by decide) (by decide) (by decide) (by decide)),
    (h.1 c main_arg2 (mem_uc _ (by decide))).trans (W4_arg m c main_arg2 (by decide) (by decide) (by decide) (by decide)),
    (h.1 c main_arg3 (mem_uc _ (by decide))).trans (W4_arg m c main_arg3 (by decide) (by decide) (by decide) (by decide))⟩) (run_arrays m ρ)

section Same
open Cert.Reference2Ideal Cert.Reference2Ideal.Gen Cert.Reference2Ideal.Attn Cert.Reference2Ideal.Value
open Cert.Kernel2Ideal.Attn (oArr_head dArr_head o_out d_out W4 W0 oH qH kH vH dH hdOf lane64)

variable {rq rk rv rd : ℕ → ℕ → ℝ} (V : Valuation τ sig (Elt Ideal))
    (hq : Real2 (e := .bf16) rq (V (Proc.devRef .tc main_arg0))) (hk : Real2 (e := .bf16) rk (V (Proc.devRef .tc main_arg1)))
    (hv : Real2 (e := .bf16) rv (V (Proc.devRef .tc main_arg2))) (hd : Real2 (e := .bf16) rd (V (Proc.devRef .tc main_arg3)))
    (m : (ℓ : Loc Cert.Kernel2Ideal.nD Cert.Kernel2Ideal.τ Cert.Kernel2Ideal.sig) → Buf (Elt Ideal) ℓ) (c : Dev Cert.Kernel2Ideal.nD)
    (kq : Real2 (e := .bf16) rq (W0 m c (Proc.devRef .tc Cert.Kernel2Ideal.main_arg0))) (kk : Real2 (e := .bf16) rk (W0 m c (Proc.devRef .tc Cert.Kernel2Ideal.main_arg1)))
    (kv : Real2 (e := .bf16) rv (W0 m c (Proc.devRef .tc Cert.Kernel2Ideal.main_arg2))) (kd : Real2 (e := .bf16) rd (W0 m c (Proc.devRef .tc Cert.Kernel2Ideal.main_arg3)))

include hq hk hv kq kk kv in
/-- The attention's result is the same in both programs. -/
theorem o_same (h1) (h2) (h3) : (truncf .bf16 (shapeCast S4096x512 (transpose S2x2048x8x64 [0, 2, 1, 3] (Host.dotGeneral (φ₁ := .f32) (φ₂ := .f32) dot_S2x8x2048x2048_S2x8x2048x64_S2x8x2048x64_3_2_2_3_01_01 none (res_main_v31_0 V) (res_main_v8 V)) h1) h2) h3 : FVec Ideal S4096x512 .bf16) = (W4 m c (Proc.devRef .tc Cert.Kernel2Ideal.main_v24) : FVec Ideal S4096x512 .bf16) := by
  funext i
  idx_vars i
  exact (o_at V hq hk hv i0 i1 _ _ _).trans ((o_out m c kq kk kv i0 i1).trans (congrArg _ (oArr_head i0 i1 i0.isLt i1.isLt))).symm

include hq hk hv hd kq kk kv kd in
/-- The three gradients are the same in both programs. -/
theorem d_same (g11) (g12) (g13) (g21) (g22) (g23) (g30) (g31) (g32) (g33) (hb) (hc) :
    (concatenate S3x4096x512 0 [⟨S1x4096x512, broadcastInDim S1x4096x512 ![1, 2] hb (truncf .bf16 (shapeCast S4096x512 (transpose S2x2048x8x64 [0, 2, 1, 3] (Host.dotGeneral (φ₁ := .f32) (φ₂ := .f32) dot_S2x8x2048x2048_S2x8x2048x64_S2x8x2048x64_3_2_2_3_01_01 none (res_main_v51 V) (res_main_v5 V)) g11) g12) g13 : FVec Ideal S4096x512 .bf16)⟩,
      ⟨S1x4096x512, broadcastInDim S1x4096x512 ![1, 2] hb (truncf .bf16 (shapeCast S4096x512 (transpose S2x2048x8x64 [0, 2, 1, 3] (Host.dotGeneral (φ₁ := .f32) (φ₂ := .f32) dot_S2x8x2048x2048_S2x8x2048x64_S2x8x2048x64_2_2_3_3_01_01 none (res_main_v51 V) (res_main_v2 V)) g21) g22) g23 : FVec Ideal S4096x512 .bf16)⟩,
      ⟨S1x4096x512, broadcastInDim S1x4096x512 ![1, 2] hb (truncf .bf16 (shapeCast S4096x512 (transpose S2x2048x8x64 [0, 2, 1, 3] (transpose S2x8x2048x64 [0, 1, 3, 2] (Host.dotGeneral (φ₁ := .f32) (φ₂ := .f32) dot_S2x8x2048x64_S2x8x2048x2048_S2x8x64x2048_2_2_3_3_01_01 none (res_main_v11 V) (res_main_v31_0 V)) g30) g31) g32) g33 : FVec Ideal S4096x512 .bf16)⟩] hc : FVec Ideal S3x4096x512 .bf16)
      = (W4 m c (Proc.devRef .tc Cert.Kernel2Ideal.main_v25) : FVec Ideal S3x4096x512 .bf16) := by
  funext i
  idx_vars i
  refine (stack_at _ _ _ _ _ i0 i1 i2).trans (Eq.trans ?_ ((d_out m c kq kk kv kd i0 i1 i2).trans (congrArg _ (dArr_head i0 i1 i2 i1.isLt i2.isLt))).symm)
  rw [dq_at V hq hk hv hd i1 i2 _ _ _, dk_at V hq hk hv hd i1 i2 _ _ _, dv_at V hq hk hd i1 i2 _ _ _ _]
  unfold dH
  rcases (by have := i0.isLt; omega : i0.val = 0 ∨ i0.val = 1 ∨ i0.val = 2) with h | h | h <;> rw [h]
  · rw [if_pos (by decide), if_pos rfl]
  · rw [if_neg (by decide), if_pos (by decide), if_neg (by decide), if_pos rfl]
  · rw [if_neg (by decide), if_neg (by decide), if_neg (by decide), if_neg (by decide)]

end Same

end Cert.Attention
-- ==== Proof.PoolMath.lean ====
module

public import Mathlib.Data.Real.Basic
public import Mathlib.Algebra.BigOperators.Intervals
public import Mathlib.Algebra.Order.BigOperators.Group.Finset

@[expose] public section

noncomputable section

namespace Cert.Pool

open Finset

/-! # The mean over the last `w` rows, and its transpose, over the reals -/

/-- The sum of the rows of the window that ends at row `t`. -/
def lastSum (w : ℕ) (f : ℕ → ℝ) (t : ℕ) : ℝ := ∑ s ∈ Ico (t + 1 - w) (t + 1), f s

/-- The sum over the rows whose window holds row `t`. -/
def nextSum (w : ℕ) (f : ℕ → ℝ) (t : ℕ) : ℝ := ∑ s ∈ Ico t (min (t + w) 2048), f s

/-- How many rows the window that ends at row `t` has. -/
def rows (w t : ℕ) : ℝ := ((min (t + 1) w : ℕ) : ℝ)

/-- A row's window mean less the row itself. -/
def pooled (w : ℕ) (f : ℕ → ℝ) (t : ℕ) : ℝ := lastSum w f t / rows w t - f t

/-- The gradient of the rows from the gradient of their pooled values. -/
def unpool (w : ℕ) (d : ℕ → ℝ) (t : ℕ) : ℝ := nextSum w (fun s => d s / rows w s) t - d t

theorem lastSum_one (f : ℕ → ℝ) (t : ℕ) : lastSum 1 f t = f t := by
  unfold lastSum
  rw [show t + 1 - 1 = t by omega, Nat.Ico_succ_singleton, sum_singleton]

theorem nextSum_one (f : ℕ → ℝ) (t : ℕ) (ht : t < 2048) : nextSum 1 f t = f t := by
  unfold nextSum
  rw [show min (t + 1) 2048 = t + 1 by omega, Nat.Ico_succ_singleton, sum_singleton]

/-- Two neighbouring windows make one of twice the length. -/
theorem lastSum_double (w : ℕ) (f : ℕ → ℝ) (t : ℕ) :
    lastSum w f t + (if w ≤ t then lastSum w f (t - w) else 0) = lastSum (2 * w) f t := by
  unfold lastSum
  split_ifs with h
  · rw [show t + 1 - 2 * w = t - w + 1 - w by omega, show t - w + 1 = t + 1 - w by omega, add_comm]
    exact sum_Ico_consecutive _ (by omega) (by omega)
  · rw [add_zero, show t + 1 - w = 0 by omega, show t + 1 - 2 * w = 0 by omega]

theorem nextSum_double (w : ℕ) (f : ℕ → ℝ) (t : ℕ) (hw : w ≤ 2048) (ht : t < 2048) :
    nextSum w f t + (if t < 2048 - w then nextSum w f (t + w) else 0) = nextSum (2 * w) f t := by
  unfold nextSum
  split_ifs with h
  · rw [show t + 2 * w = t + w + w by omega, show min (t + w) 2048 = t + w by omega]
    exact sum_Ico_consecutive _ (by omega) (by omega)
  · rw [add_zero, show min (t + w) 2048 = 2048 by omega, show min (t + 2 * w) 2048 = 2048 by omega]

/-- A window as the difference of two running sums. -/
theorem lastSum_sub (w : ℕ) (f : ℕ → ℝ) (t : ℕ) (hw : 0 < w) :
    (∑ s ∈ range (t + 1), f s) - ∑ s ∈ range (t + 1 - w), f s = lastSum w f t :=
  (sum_Ico_eq_sub _ (by omega)).symm

/-- The gradient of a running sum reached from both of a window's ends: the later rows' sum of what lands there. -/
theorem nextSum_of_ends (w : ℕ) (a : ℕ → ℝ) (t : ℕ) (hw : 0 < w) (ht : t < 2048) :
    ∑ r ∈ Ico t 2048, (a r - ∑ s ∈ range 2048, if s + 1 - w = r + 1 then a s else 0) = nextSum w a t := by
  have hin : ∀ s ∈ range 2048, (∑ r ∈ Ico t 2048, if s + 1 - w = r + 1 then a s else 0) = if t + w ≤ s then a s else 0 := by
    intro s hs
    have hs' := mem_range.1 hs
    by_cases h : t + w ≤ s
    · rw [if_pos h, sum_eq_single (s - w)]
      · exact if_pos (by omega)
      · intro r _ hr
        exact if_neg (by omega)
      · intro hr
        exact absurd (mem_Ico.2 ⟨by omega, by omega⟩) hr
    · rw [if_neg h]
      refine sum_eq_zero fun r hr => if_neg ?_
      have := mem_Ico.1 hr
      omega
  rw [sum_sub_distrib, sum_comm, sum_congr rfl hin, ← sum_filter]
  have hset : (range 2048).filter (fun s => t + w ≤ s) = Ico (min (t + w) 2048) 2048 := by
    ext s
    simp only [mem_filter, mem_range, mem_Ico]
    omega
  rw [hset, sub_eq_iff_eq_add]
  exact (sum_Ico_consecutive _ (by omega) (by omega)).symm

end Cert.Pool
end
-- ==== Proof.PoolTile.lean ====
module

public import proofs.«01_k».proof.Proof.Gen.Kernel3Ideal.Frame
public import proofs.«01_k».proof.Proof.PoolMath
public import Idealize.ShloMosaic.Lib.Pipeline.ValueKit
public import Idealize.ShloMosaic.Lib.WordCmp

@[expose] public section

set_option maxRecDepth 16384

noncomputable section

open Idealize.ShloMosaic Idealize.ShloMosaic.TcCoe Idealize.SL.Sem

namespace Cert.Pool

open Cert.Kernel3Ideal Cert.Kernel3Ideal.Gen

/-! # One group of one sequence on the chip -/

theorem coe_sum {α : Type*} (s : Finset α) (f : α → ℝ) : ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- The array `y` holds the real matrix `X`. -/
def Holds {a b : ℕ} {e : FTy} (X : ℕ → ℕ → ℝ) (y : FVec Ideal ⟨2, ![a, b]⟩ e) : Prop :=
  ∀ (i : Fin a) (j : Fin b), y (ix2 i j) = ((X i.val j.val : ℝ) : EReal)

/-- The number of each row. -/
def rowNo : IVec S2048x1 32 := iota .tc S2048x1 32 [0] iota_S2048x1_d0_w32

/-- The mask of a comparison of the rows' numbers, over all lanes. -/
def lanes (q : IVec S2048x1 1) : IVec S2048x128 1 :=
  broadcastTo S2048x128 (shapeCast S2048x1 q shapeCasts_S2048x1_S2048x1) broadcasts_S2048x1_S2048x128

/-- Each row plus the row `n` before it. -/
def back (n : BitVec 32) (x : FVec Ideal S2048x128 .f32) : FVec Ideal S2048x128 .f32 :=
  addf x (select (lanes (cmpi .sge rowNo (broadcast S2048x1 n))) (dynamicRotate 0 n none x rotates_S2048x128_d0) (broadcast S2048x128 (Scalar.ofBits .f32 0x00000000#32)))

/-- Each row plus the row that turning by `n` brings to it, the rows from `n` on left as they are. -/
def ahead (n : BitVec 32) (x : FVec Ideal S2048x128 .f32) : FVec Ideal S2048x128 .f32 :=
  addf x (select (lanes (cmpi .slt rowNo (broadcast S2048x1 n))) (dynamicRotate 0 n none x rotates_S2048x128_d0) (broadcast S2048x128 (Scalar.ofBits .f32 0x00000000#32)))

/-- How many rows each window has, over all lanes. -/
def sizes (w : BitVec 32) : FVec Ideal S2048x128 .f32 :=
  broadcastTo S2048x128 (sitofp .f32 (minsi (addi rowNo (broadcast S2048x1 1#32)) (broadcast S2048x1 w))) broadcasts_S2048x1_S2048x128

theorem back_holds (n : ℕ) (h0 : 0 < n) (hn : n < 2048) {X : ℕ → ℕ → ℝ} {x : FVec Ideal S2048x128 .f32} (hx : Holds X x) :
    Holds (fun t j => X t j + if n ≤ t then X (t - n) j else 0) (back (BitVec.ofNat 32 n) x) := by
  intro t j
  unfold back lanes rowNo
  pointwise [hx _ _]
  rw [WordCmp.cmpi_sge_of_lt (by rw [BitVec.toNat_ofNat]; omega) (by rw [BitVec.toNat_ofNat]; omega), WordCmp.toNat_ofNat_of_lt (by omega), WordCmp.toNat_ofNat_of_lt (by omega), EReal.coe_add]
  refine congrArg _ ?_
  by_cases h : n ≤ t.val
  · rw [if_pos h, decide_eq_true h, show (t.val + 2048 - n % 2048) % 2048 = t.val - n by omega]; rfl
  · rw [if_neg h, decide_eq_false h]; rfl

theorem ahead_holds (n : ℕ) (h0 : 0 < n) (hn : n < 2048) {X : ℕ → ℕ → ℝ} {x : FVec Ideal S2048x128 .f32} (hx : Holds X x) :
    Holds (fun t j => X t j + if t < 2048 - n then X (t + n) j else 0) (ahead (BitVec.ofNat 32 (2048 - n)) x) := by
  intro t j
  unfold ahead lanes rowNo
  pointwise [hx _ _]
  rw [WordCmp.cmpi_slt_of_lt (by rw [BitVec.toNat_ofNat]; omega) (by rw [BitVec.toNat_ofNat]; omega), WordCmp.toNat_ofNat_of_lt (by omega), WordCmp.toNat_ofNat_of_lt (by omega), EReal.coe_add]
  refine congrArg _ ?_
  by_cases h : t.val < 2048 - n
  · rw [if_pos h, decide_eq_true h, show (t.val + 2048 - (2048 - n) % 2048) % 2048 = t.val + n by omega]; rfl
  · rw [if_neg h, decide_eq_false h]; rfl

/-- The smaller of two small words. -/
theorem min_word {a b : ℕ} (ha : a < 2 ^ 31) (hb : b < 2 ^ 31) : IntOp.minsi (BitVec.ofNat 32 a) (BitVec.ofNat 32 b) = BitVec.ofNat 32 (min a b) := by
  unfold IntOp.minsi BitVec.slt
  rw [WordCmp.toInt_ofNat_of_lt ha, WordCmp.toInt_ofNat_of_lt hb]
  rcases lt_or_ge a b with h | h
  · rw [if_pos (decide_eq_true (by exact_mod_cast h)), min_eq_left h.le]
  · rw [if_neg (by simpa using h), min_eq_right h]

theorem sizes_at (w : ℕ) (h0 : 0 < w) (hw : w < 2048) (t : Fin 2048) (j : Fin 128) :
    sizes (BitVec.ofNat 32 w) (ix2 t j) = ((rows w t.val : ℝ) : EReal) := by
  unfold sizes rowNo
  pointwise
  have hm : IntOp.minsi (IntOp.addi (BitVec.ofNat 32 t.val) 1#32) (BitVec.ofNat 32 w) = BitVec.ofNat 32 (min (t.val + 1) w) := by
    rw [show IntOp.addi (BitVec.ofNat 32 t.val) 1#32 = BitVec.ofNat 32 (t.val + 1) from (BitVec.ofNat_add _ _).symm]
    exact min_word (by omega) (by omega)
  rw [hm]
  show (((BitVec.ofNat 32 (min (t.val + 1) w)).toInt : ℝ) : EReal) = _
  rw [WordCmp.toInt_ofNat_of_lt (by omega)]
  unfold rows
  norm_cast

theorem Holds.congr {a b : ℕ} {e : FTy} {X Y : ℕ → ℕ → ℝ} {y : FVec Ideal ⟨2, ![a, b]⟩ e} (h : Holds X y) (hXY : ∀ i < a, ∀ j < b, X i j = Y i j) : Holds Y y :=
  fun i j => (h i j).trans (congrArg _ (hXY _ i.isLt _ j.isLt))

/-- The window sums over `2 ^ g` rows, by doubling. -/
def sums : ℕ → FVec Ideal S2048x128 .f32 → FVec Ideal S2048x128 .f32
  | 0, x => x
  | g + 1, x => back (BitVec.ofNat 32 (2 ^ g)) (sums g x)

/-- The sums over the `2 ^ g` rows from a row on, by doubling. -/
def aheads : ℕ → FVec Ideal S2048x128 .f32 → FVec Ideal S2048x128 .f32
  | 0, x => x
  | g + 1, x => ahead (BitVec.ofNat 32 (2048 - 2 ^ g)) (aheads g x)

theorem pow_small {g : ℕ} (hg : g ≤ 10) : 0 < 2 ^ g ∧ 2 ^ g < 2048 :=
  ⟨Nat.two_pow_pos g, Nat.lt_of_le_of_lt (Nat.pow_le_pow_right (by decide) hg) (by decide)⟩

theorem sums_holds {X : ℕ → ℕ → ℝ} {x : FVec Ideal S2048x128 .f32} (hx : Holds X x) :
    ∀ g : ℕ, g ≤ 10 → Holds (fun t j => lastSum (2 ^ g) (fun s => X s j) t) (sums g x)
  | 0, _ => hx.congr fun t _ j _ => (lastSum_one (fun s => X s j) t).symm
  | g + 1, hg => by
    refine (back_holds (2 ^ g) (pow_small (by omega)).1 (pow_small (by omega)).2 (sums_holds hx g (by omega))).congr fun t _ j _ => ?_
    rw [pow_succ']
    exact lastSum_double (2 ^ g) (fun s => X s j) t

theorem aheads_holds {X : ℕ → ℕ → ℝ} {x : FVec Ideal S2048x128 .f32} (hx : Holds X x) :
    ∀ g : ℕ, g ≤ 10 → Holds (fun t j => nextSum (2 ^ g) (fun s => X s j) t) (aheads g x)
  | 0, _ => hx.congr fun t ht j _ => (nextSum_one (fun s => X s j) t ht).symm
  | g + 1, hg => by
    refine (ahead_holds (2 ^ g) (pow_small (by omega)).1 (pow_small (by omega)).2 (aheads_holds hx g (by omega))).congr fun t ht j _ => ?_
    rw [pow_succ']
    exact nextSum_double (2 ^ g) (fun s => X s j) t (pow_small (by omega)).2.le ht

theorem rows_ne (w t : ℕ) (hw : 0 < w) : rows w t ≠ 0 := by
  unfold rows
  exact_mod_cast (show min (t + 1) w ≠ 0 by omega)

/-- Division by the window's length. -/
theorem over_holds (w : ℕ) (h0 : 0 < w) (hw : w < 2048) {X : ℕ → ℕ → ℝ} {x : FVec Ideal S2048x128 .f32} (hx : Holds X x) :
    Holds (fun t j => X t j / rows w t) (divf x (sizes (BitVec.ofNat 32 w))) := by
  intro t j
  show Ideal.div (x (ix2 t j)) (sizes (BitVec.ofNat 32 w) (ix2 t j)) = _
  rw [hx, sizes_at w h0 hw, Ideal.div_coe (rows_ne w _ h0), ← EReal.coe_mul, mul_one_div]

theorem sub_holds {X Y : ℕ → ℕ → ℝ} {x y : FVec Ideal S2048x128 .f32} (hx : Holds X x) (hy : Holds Y y) : Holds (fun t j => X t j - Y t j) (subf x y) :=
  fun t j => (congrArg₂ HSub.hSub (hx t j) (hy t j)).trans (EReal.coe_sub _ _).symm

/-- The pooled rows of a group. -/
def poolT (g : ℕ) (x : FVec Ideal S2048x128 .bf16) : FVec Ideal S2048x128 .bf16 :=
  truncf .bf16 (subf (divf (sums g (extf .f32 x bitsLt_bf16_f32)) (sizes (BitVec.ofNat 32 (2 ^ g)))) (extf .f32 x bitsLt_bf16_f32)) bitsLt_bf16_f32

/-- The mixed rows of a group. -/
def mixT (g : ℕ) (x : FVec Ideal S2048x128 .bf16) (w : FVec Ideal S1x128x128 .f32) : FVec Ideal S2048x128 .f32 :=
  matmul dot_S2048x128_S128x128_S2048x128_1_0_0_1_n_n none (poolT g x) (k0_pay3 w) (constant S2048x128 .f32 0x00000000#32)

/-- The gradient of the scale from a group of one sequence. -/
def scaleT (g : ℕ) (x d : FVec Ideal S2048x128 .bf16) (w : FVec Ideal S1x128x128 .f32) : FVec Ideal S1x128 .f32 :=
  shapeCast S1x128 (multiReduction .add [0] S128 (mulf (k0_pay4 d) (mixT g x w)) 0x00000000#32 reduces_S2048x128_S128 (.inl rfl) rfl) shapeCasts_S128_S1x128

/-- The gradient of the mixing matrix from a group of one sequence. -/
def weightT (g : ℕ) (x d : FVec Ideal S2048x128 .bf16) (s : FVec Ideal S1x128 .f32) : FVec Ideal S128x128 .f32 :=
  matmul dot_S2048x128_S2048x128_S128x128_0_0_1_1_n_n none (poolT g x) (k0_pay8 (k0_pay4 d) (k0_pay7 s)) (constant S128x128 .f32 0x00000000#32)

/-- The gradient of the pooled rows of a group. -/
def dpoolT (d : FVec Ideal S2048x128 .bf16) (w : FVec Ideal S1x128x128 .f32) (s : FVec Ideal S1x128 .f32) : FVec Ideal S2048x128 .f32 :=
  matmul dot_S2048x128_S128x128_S2048x128_1_1_0_0_n_n none (k0_pay8 (k0_pay4 d) (k0_pay7 s)) (k0_pay3 w) (constant S2048x128 .f32 0x00000000#32)

/-- The gradient of the rows of a group. -/
def rowsT (g : ℕ) (d : FVec Ideal S2048x128 .bf16) (w : FVec Ideal S1x128x128 .f32) (s : FVec Ideal S1x128 .f32) : FVec Ideal S1x2048x128 .bf16 :=
  shapeCast S1x2048x128 (truncf .bf16 (subf (aheads g (divf (dpoolT d w s) (sizes (BitVec.ofNat 32 (2 ^ g))))) (dpoolT d w s)) bitsLt_bf16_f32) shapeCasts_S2048x128_S1x2048x128

section Group
variable (g : ℕ) (hg : g ≤ 10) {X D W : ℕ → ℕ → ℝ} {S : ℕ → ℝ} {x d : FVec Ideal S2048x128 .bf16} {w : FVec Ideal S1x128x128 .f32} {s : FVec Ideal S1x128 .f32}
  (hx : Holds X x) (hd : Holds D d) (hw : ∀ k j : Fin 128, w (ix3 0 k j) = ((W k.val j.val : ℝ) : EReal)) (hs : ∀ j : Fin 128, s (ix2 0 j) = ((S j.val : ℝ) : EReal))

include hg hx in
theorem poolT_holds : Holds (fun t j => pooled (2 ^ g) (fun s => X s j) t) (poolT g x) :=
  sub_holds (over_holds _ (pow_small hg).1 (pow_small hg).2 (sums_holds (x := extf .f32 x bitsLt_bf16_f32) hx g hg)) hx

include hg hx hw in
theorem mixT_holds : Holds (fun t j => ∑ k : Fin 128, pooled (2 ^ g) (fun s => X s k.val) t * W k.val j) (mixT g x w) := by
  intro t j
  unfold mixT
  pointwise [k0_pay3]
  rw [coe_sum]
  exact Finset.sum_congr rfl fun k _ => by rw [poolT_holds g hg hx, hw, ← EReal.coe_mul]

include hg hx hd hw in
theorem scaleT_at (j : Fin 128) : scaleT g x d w (ix2 0 j) = ((∑ t : Fin 2048, D t.val j.val * ∑ k : Fin 128, pooled (2 ^ g) (fun s => X s k.val) t.val * W k.val j.val : ℝ) : EReal) := by
  unfold scaleT
  pointwise [k0_pay4]
  rw [coe_sum]
  exact Finset.sum_congr rfl fun t _ => by rw [mixT_holds g hg hx hw, hd, ← EReal.coe_mul]

include hd hs in
theorem dys_holds : Holds (fun t j => D t j * S j) (k0_pay8 (k0_pay4 d) (k0_pay7 s)) := by
  intro t j
  pointwise [k0_pay8, k0_pay4, k0_pay7]
  rw [hd, hs, ← EReal.coe_mul]

include hg hx hd hs in
theorem weightT_holds : Holds (fun k j => ∑ t : Fin 2048, pooled (2 ^ g) (fun s => X s k) t.val * (D t.val j * S j)) (weightT g x d s) := by
  intro k j
  unfold weightT
  pointwise
  rw [coe_sum]
  exact Finset.sum_congr rfl fun t _ => by rw [poolT_holds g hg hx, dys_holds hd hs, ← EReal.coe_mul]

include hd hw hs in
theorem dpoolT_holds : Holds (fun t k => ∑ j : Fin 128, D t j.val * S j.val * W k j.val) (dpoolT d w s) := by
  intro t k
  unfold dpoolT
  pointwise [k0_pay3]
  rw [coe_sum]
  exact Finset.sum_congr rfl fun j _ => by rw [dys_holds hd hs, hw, ← EReal.coe_mul]

include hg hd hw hs in
theorem rowsT_at (t : Fin 2048) (k : Fin 128) :
    rowsT g d w s (ix3 0 t k) = ((unpool (2 ^ g) (fun r => ∑ j : Fin 128, D r j.val * S j.val * W k.val j.val) t.val : ℝ) : EReal) := by
  have h := dpoolT_holds hd hw hs
  unfold rowsT
  pointwise
  exact sub_holds (aheads_holds (over_holds _ (pow_small hg).1 (pow_small hg).2 h) g hg) h t k

end Group

end Cert.Pool
end
-- ==== Proof.PoolOut.lean ====
module

public import proofs.«01_k».proof.Proof.PoolTile

@[expose] public section

set_option maxRecDepth 16384

noncomputable section

open Idealize.ShloMosaic Idealize.ShloMosaic.TcCoe Idealize.SL.Sem

namespace Cert.Pool

open Cert.Kernel3Ideal Cert.Kernel3Ideal.Gen

/-! # The blocks a point leaves -/

/-- Lane `k` of group `g`. -/
def col (g : Fin 4) (k : Fin 128) : Fin 512 := ⟨g.val * 128 + k.val, by omega⟩

/-- Four stores of a quarter of the lanes each, read back. -/
theorem canon_rows (p0 p1 p2 p3 : FVec Ideal S1x2048x128 .bf16) (g : Fin 4) (a : Fin 2048) (k : Fin 128) :
    View.canon (Val := Elt Ideal) (s := S1x2048x512) (e := .bf16) [⟨Rect.unit ![0, 0, 384] ![1, 2048, 128] inb_S1x2048x512_S1x2048x128_0_0_384, p3⟩, ⟨Rect.unit ![0, 0, 256] ![1, 2048, 128] inb_S1x2048x512_S1x2048x128_0_0_256, p2⟩,
      ⟨Rect.unit ![0, 0, 128] ![1, 2048, 128] inb_S1x2048x512_S1x2048x128_0_0_128, p1⟩, ⟨Rect.unit ![0, 0, 0] ![1, 2048, 128] inb_S1x2048x512_S1x2048x128_0_0_0, p0⟩] (ix3 0 a (col g k))
      = (![p0, p1, p2, p3] : Fin 4 → _) g (ix3 0 a k) := by
  canon_tiles x h
  all_goals
    idx_vars x
    obtain rfl : x0 = 0 := Subsingleton.elim _ _
    obtain rfl : a = x1 := Fin.ext h1
    change g.val * 128 + k.val = _ at h2
  · obtain rfl : g = 3 := Fin.ext (by show _ = 3; omega)
    obtain rfl : k = x2 := Fin.ext (by change 3 * 128 + k.val = _ at h2; omega)
    rfl
  · obtain rfl : g = 2 := Fin.ext (by show _ = 2; omega)
    obtain rfl : k = x2 := Fin.ext (by change 2 * 128 + k.val = _ at h2; omega)
    rfl
  · obtain rfl : g = 1 := Fin.ext (by show _ = 1; omega)
    obtain rfl : k = x2 := Fin.ext (by change 1 * 128 + k.val = _ at h2; omega)
    rfl
  · obtain rfl : g = 0 := Fin.ext (by show _ = 0; omega)
    obtain rfl : k = x2 := Fin.ext (by change 0 * 128 + k.val = _ at h2; omega)
    rfl

/-- Four stores of one mixing matrix each, read back. -/
theorem canon_weights (p0 p1 p2 p3 : FVec Ideal S1x128x128 .f32) (g : Fin 4) (k j : Fin 128) :
    View.canon (Val := Elt Ideal) (s := S4x128x128) (e := .f32) [⟨Rect.unit ![3, 0, 0] ![1, 128, 128] inb_S4x128x128_S1x128x128_3_0_0, p3⟩, ⟨Rect.unit ![2, 0, 0] ![1, 128, 128] inb_S4x128x128_S1x128x128_2_0_0, p2⟩,
      ⟨Rect.unit ![1, 0, 0] ![1, 128, 128] inb_S4x128x128_S1x128x128_1_0_0, p1⟩, ⟨Rect.unit ![0, 0, 0] ![1, 128, 128] inb_S4x128x128_S1x128x128_0_0_0, p0⟩] (ix3 g k j)
      = (![p0, p1, p2, p3] : Fin 4 → _) g (ix3 0 k j) := by
  canon_tiles x h
  all_goals
    idx_vars x
    obtain rfl : x0 = 0 := Subsingleton.elim _ _
    obtain rfl : k = x1 := Fin.ext h1
    obtain rfl : j = x2 := Fin.ext h2
  · obtain rfl : g = 3 := Fin.ext h0
    rfl
  · obtain rfl : g = 2 := Fin.ext h0
    rfl
  · obtain rfl : g = 1 := Fin.ext h0
    rfl
  · obtain rfl : g = 0 := Fin.ext h0
    rfl

/-- Four stores of a quarter of a row each, read back. -/
theorem canon_scale (p0 p1 p2 p3 : FVec Ideal S1x128 .f32) (g : Fin 4) (k : Fin 128) :
    View.canon (Val := Elt Ideal) (s := S1x512) (e := .f32) [⟨Rect.unit ![0, 384] ![1, 128] inb_S1x512_S1x128_0_384, p3⟩, ⟨Rect.unit ![0, 256] ![1, 128] inb_S1x512_S1x128_0_256, p2⟩,
      ⟨Rect.unit ![0, 128] ![1, 128] inb_S1x512_S1x128_0_128, p1⟩, ⟨Rect.unit ![0, 0] ![1, 128] inb_S1x512_S1x128_0_0, p0⟩] (ix2 0 (col g k))
      = (![p0, p1, p2, p3] : Fin 4 → _) g (ix2 0 k) := by
  canon_tiles x h
  all_goals
    idx_vars x
    obtain rfl : x0 = 0 := Subsingleton.elim _ _
    change g.val * 128 + k.val = _ at h1
  · obtain rfl : g = 3 := Fin.ext (by show _ = 3; omega)
    obtain rfl : k = x1 := Fin.ext (by change 3 * 128 + k.val = _ at h1; omega)
    rfl
  · obtain rfl : g = 2 := Fin.ext (by show _ = 2; omega)
    obtain rfl : k = x1 := Fin.ext (by change 2 * 128 + k.val = _ at h1; omega)
    rfl
  · obtain rfl : g = 1 := Fin.ext (by show _ = 1; omega)
    obtain rfl : k = x1 := Fin.ext (by change 1 * 128 + k.val = _ at h1; omega)
    rfl
  · obtain rfl : g = 0 := Fin.ext (by show _ = 0; omega)
    obtain rfl : k = x1 := Fin.ext (by change 0 * 128 + k.val = _ at h1; omega)
    rfl

/-- The stored form of a mixing matrix's gradient, and the form that adds it to what was there. -/
def weightP (g : ℕ) (x d : FVec Ideal S2048x128 .bf16) (s : FVec Ideal S1x128 .f32) : FVec Ideal S1x128x128 .f32 :=
  shapeCast S1x128x128 (weightT g x d s) shapeCasts_S128x128_S1x128x128
def weightQ (g : ℕ) (x d : FVec Ideal S2048x128 .bf16) (s : FVec Ideal S1x128 .f32) (o : FVec Ideal S1x128x128 .f32) : FVec Ideal S1x128x128 .f32 :=
  shapeCast S1x128x128 (addf (shapeCast S128x128 o shapeCasts_S1x128x128_S128x128) (weightT g x d s)) shapeCasts_S128x128_S1x128x128
/-- The scale's gradient added to what was there. -/
def scaleQ (g : ℕ) (x d : FVec Ideal S2048x128 .bf16) (w : FVec Ideal S1x128x128 .f32) (o : FVec Ideal S1x128 .f32) : FVec Ideal S1x128 .f32 :=
  addf (shapeCast S1x128 o shapeCasts_S1x128_S1x128) (scaleT g x d w)

theorem weightP_at (g : ℕ) (x d s) (k j : Fin 128) : weightP g x d s (ix3 0 k j) = weightT g x d s (ix2 k j) := by
  unfold weightP; pointwise
theorem weightQ_at (g : ℕ) (x d s o) (k j : Fin 128) : weightQ g x d s o (ix3 0 k j) = o (ix3 0 k j) + weightT g x d s (ix2 k j) := by
  unfold weightQ; pointwise
theorem scaleQ_at (g : ℕ) (x d w o) (j : Fin 128) : scaleQ g x d w o (ix2 0 j) = o (ix2 0 j) + scaleT g x d w (ix2 0 j) := by
  unfold scaleQ; pointwise

/-- The parts of a point's blocks that a group reads. -/
def colsOf (x : FVec Ideal S2048x512 .bf16) (o : ℕ) (hb : ∀ a, (![0, o] : Fin 2 → ℕ) a + (![2048, 128] : Fin 2 → ℕ) a ≤ S2048x512.size a) : FVec Ideal S2048x128 .bf16 :=
  View.ld (Val := Elt Ideal) (S := S2048x512) (e' := .bf16) x (Rect.unit ![0, o] ![2048, 128] hb)
def matOf (x : FVec Ideal S4x128x128 .f32) (g : ℕ) (hb : ∀ a, (![g, 0, 0] : Fin 3 → ℕ) a + (![1, 128, 128] : Fin 3 → ℕ) a ≤ S4x128x128.size a) : FVec Ideal S1x128x128 .f32 :=
  View.ld (Val := Elt Ideal) (S := S4x128x128) (e' := .f32) x (Rect.unit ![g, 0, 0] ![1, 128, 128] hb)
def sclOf (x : FVec Ideal S1x512 .f32) (o : ℕ) (hb : ∀ a, (![0, o] : Fin 2 → ℕ) a + (![1, 128] : Fin 2 → ℕ) a ≤ S1x512.size a) : FVec Ideal S1x128 .f32 :=
  View.ld (Val := Elt Ideal) (S := S1x512) (e' := .f32) x (Rect.unit ![0, o] ![1, 128] hb)

/-! ## The results of one sequence -/
section Seq
variable (X D : ℕ → ℕ → ℝ) (W : ℕ → ℕ → ℕ → ℝ) (S : ℕ → ℝ)

/-- The gradient of row `t`, lane `k` of group `g`; of the mixing matrices; of the scale. -/
def rowsR (g t k : ℕ) : ℝ := unpool (2 ^ (g + 1)) (fun r => ∑ j : Fin 128, D r (g * 128 + j.val) * S (g * 128 + j.val) * W g k j.val) t
def weightR (g k j : ℕ) : ℝ := ∑ t : Fin 2048, pooled (2 ^ (g + 1)) (fun s => X s (g * 128 + k)) t.val * (D t.val (g * 128 + j) * S (g * 128 + j))
def scaleR (g j : ℕ) : ℝ := ∑ t : Fin 2048, D t.val (g * 128 + j) * ∑ k : Fin 128, pooled (2 ^ (g + 1)) (fun s => X s (g * 128 + k.val)) t.val * W g k.val j

variable {X D W S} {x0 x1 : FVec Ideal S2048x512 .bf16} {x2 : FVec Ideal S4x128x128 .f32} {x3 : FVec Ideal S1x512 .f32}
  (h0 : Holds X x0) (h1 : Holds D x1) (h2 : ∀ (g : Fin 4) (k j : Fin 128), x2 (ix3 g k j) = ((W g.val k.val j.val : ℝ) : EReal)) (h3 : ∀ j : Fin 512, x3 (ix2 0 j) = ((S j.val : ℝ) : EReal))

theorem cols_holds {X : ℕ → ℕ → ℝ} {x : FVec Ideal S2048x512 .bf16} (h : Holds X x) (o : ℕ) (hb) : Holds (fun t j => X t (o + j)) (colsOf x o hb) := by
  intro t j
  unfold colsOf
  pointwise [h _ _]

include h2 in
theorem mat_holds (g : ℕ) (hg : g < 4) (hb) (k j : Fin 128) : matOf x2 g hb (ix3 0 k j) = ((W g k.val j.val : ℝ) : EReal) := by
  unfold matOf
  pointwise
  exact (h2 ⟨g, hg⟩ k j)

include h3 in
theorem scl_holds (o : ℕ) (hb) (j : Fin 128) : sclOf x3 o hb (ix2 0 j) = ((S (o + j.val) : ℝ) : EReal) := by
  unfold sclOf
  pointwise
  exact h3 _

end Seq

variable (m : (ℓ : Loc nD τ sig) → Buf (Elt Ideal) ℓ) (ρ : Dev nD → PrngReg) (c : Dev nD) (t : Fin cfg0.N)
  {X D : ℕ → ℕ → ℝ} {W : ℕ → ℕ → ℕ → ℝ} {S : ℕ → ℝ}
  (h0 : Holds (a := 2048) (b := 512) (e := .bf16) X (iblk m c 0 t)) (h1 : Holds (a := 2048) (b := 512) (e := .bf16) D (iblk m c 1 t))
  (h2 : ∀ (g : Fin 4) (k j : Fin 128), iblk m c 2 t (ix3 g k j) = ((W g.val k.val j.val : ℝ) : EReal)) (h3 : ∀ j : Fin 512, iblk m c 3 t (ix2 0 j) = ((S j.val : ℝ) : EReal))

include h1 h2 h3 in
theorem out_rows (g : Fin 4) (a : Fin 2048) (k : Fin 128) : (outsAt0 m c t.val t.isLt).1 (ix3 0 a (col g k)) = ((rowsR D W S g.val a.val k.val : ℝ) : EReal) := by
  have hr : ∀ (q : ℕ) (hq : q < 4) (b1 b2 b3), rowsT (q + 1) (colsOf (iblk m c 1 t) (q * 128) b1) (matOf (iblk m c 2 t) q b2) (sclOf (iblk m c 3 t) (q * 128) b3) (ix3 0 a k)
      = ((rowsR D W S q a.val k.val : ℝ) : EReal) := fun q hq b1 b2 b3 =>
    rowsT_at (q + 1) (by omega) (W := W q) (S := fun j => S (q * 128 + j)) (cols_holds h1 (q * 128) b1) (mat_holds h2 q hq b2) (scl_holds h3 (q * 128) b3) a k
  rcases Nat.mod_two_eq_zero_or_one t.val with ht | ht
  · have hn : ¬t.val % 2 = 1 := by omega
    rw [outsAt0_A m c t ht hn ht hn ht hn ht hn ht hn ht hn ht hn ht hn]
    dsimp only
    frame_out
    refine (canon_rows _ _ _ _ g a k).trans ?_
    fin_cases g
    · exact hr 0 (by decide) _ _ _
    · exact hr 1 (by decide) _ _ _
    · exact hr 2 (by decide) _ _ _
    · exact hr 3 (by decide) _ _ _
  · have hn : ¬t.val % 2 = 0 := by omega
    rw [outsAt0_B m c t hn ht hn ht hn ht hn ht hn ht hn ht hn ht hn ht]
    dsimp only
    frame_out
    refine (canon_rows _ _ _ _ g a k).trans ?_
    fin_cases g
    · exact hr 0 (by decide) _ _ _
    · exact hr 1 (by decide) _ _ _
    · exact hr 2 (by decide) _ _ _
    · exact hr 3 (by decide) _ _ _

include h0 h1 h2 in
theorem scale_part (q : ℕ) (hq : q < 4) (k : Fin 128) (b1 b2 b3) : scaleT (q + 1) (colsOf (iblk m c 0 t) (q * 128) b1) (colsOf (iblk m c 1 t) (q * 128) b2) (matOf (iblk m c 2 t) q b3) (ix2 0 k)
    = ((scaleR X D W q k.val : ℝ) : EReal) :=
  scaleT_at (q + 1) (by omega) (W := W q) (cols_holds h0 (q * 128) b1) (cols_holds h1 (q * 128) b2) (mat_holds h2 q hq b3) k

include h0 h1 h3 in
theorem weight_part (q : ℕ) (hq : q < 4) (k j : Fin 128) (b1 b2 b3) : weightT (q + 1) (colsOf (iblk m c 0 t) (q * 128) b1) (colsOf (iblk m c 1 t) (q * 128) b2) (sclOf (iblk m c 3 t) (q * 128) b3) (ix2 k j)
    = ((weightR X D S q k.val j.val : ℝ) : EReal) :=
  weightT_holds (q + 1) (by omega) (S := fun j => S (q * 128 + j)) (cols_holds h0 (q * 128) b1) (cols_holds h1 (q * 128) b2) (scl_holds h3 (q * 128) b3) k j

include h0 h1 h3 in
theorem out_weights_first (ht : t.val % 2 = 0) (g : Fin 4) (k j : Fin 128) : (outsAt0 m c t.val t.isLt).2.1 (ix3 g k j) = ((weightR X D S g.val k.val j.val : ℝ) : EReal) := by
  have hr := fun q hq b1 b2 b3 => (weightP_at _ _ _ _ k j).trans (weight_part m c t h0 h1 h3 q hq k j b1 b2 b3)
  have hn : ¬t.val % 2 = 1 := by omega
  rw [outsAt0_A m c t ht hn ht hn ht hn ht hn ht hn ht hn ht hn ht hn]
  dsimp only
  frame_out
  refine (canon_weights _ _ _ _ g k j).trans ?_
  fin_cases g
  · exact hr 0 (by decide) _ _ _
  · exact hr 1 (by decide) _ _ _
  · exact hr 2 (by decide) _ _ _
  · exact hr 3 (by decide) _ _ _

include h0 h1 h3 in
theorem out_weights_next (ht : t.val % 2 = 1) (g : Fin 4) (k j : Fin 128) : (outsAt0 m c t.val t.isLt).2.1 (ix3 g k j)
    = (outsAt0 m c (t.val - 1) (Nat.lt_of_le_of_lt (Nat.sub_le _ _) t.isLt)).2.1 (ix3 g k j) + ((weightR X D S g.val k.val j.val : ℝ) : EReal) := by
  have hr : ∀ (o : FVec Ideal S4x128x128 .f32) (q : ℕ) (hq : q < 4) (b0 b1 b2 b3), weightQ (q + 1) (colsOf (iblk m c 0 t) (q * 128) b1) (colsOf (iblk m c 1 t) (q * 128) b2) (sclOf (iblk m c 3 t) (q * 128) b3) (matOf o q b0) (ix3 0 k j)
      = o (ix3 ⟨q, hq⟩ k j) + ((weightR X D S q k.val j.val : ℝ) : EReal) := fun o q hq b0 b1 b2 b3 =>
    (weightQ_at _ _ _ _ _ k j).trans (congrArg₂ HAdd.hAdd (by unfold matOf; pointwise) (weight_part m c t h0 h1 h3 q hq k j b1 b2 b3))
  have hn : ¬t.val % 2 = 0 := by omega
  rw [outsAt0_B m c t hn ht hn ht hn ht hn ht hn ht hn ht hn ht hn ht]
  dsimp only
  frame_out
  refine (canon_weights _ _ _ _ g k j).trans ?_
  fin_cases g
  · exact hr _ 0 (by decide) _ _ _ _
  · exact hr _ 1 (by decide) _ _ _ _
  · exact hr _ 2 (by decide) _ _ _ _
  · exact hr _ 3 (by decide) _ _ _ _

include h0 h1 h2 in
theorem out_scale_first (ht : t.val % 2 = 0) (g : Fin 4) (k : Fin 128) : (outsAt0 m c t.val t.isLt).2.2 (ix2 0 (col g k)) = ((scaleR X D W g.val k.val : ℝ) : EReal) := by
  have hr := fun q hq => scale_part m c t h0 h1 h2 q hq k
  have hn : ¬t.val % 2 = 1 := by omega
  rw [outsAt0_A m c t ht hn ht hn ht hn ht hn ht hn ht hn ht hn ht hn]
  dsimp only
  frame_out
  refine (canon_scale _ _ _ _ g k).trans ?_
  fin_cases g
  · exact hr 0 (by decide) _ _ _
  · exact hr 1 (by decide) _ _ _
  · exact hr 2 (by decide) _ _ _
  · exact hr 3 (by decide) _ _ _

include h0 h1 h2 in
theorem out_scale_next (ht : t.val % 2 = 1) (g : Fin 4) (k : Fin 128) : (outsAt0 m c t.val t.isLt).2.2 (ix2 0 (col g k))
    = (outsAt0 m c (t.val - 1) (Nat.lt_of_le_of_lt (Nat.sub_le _ _) t.isLt)).2.2 (ix2 0 (col g k)) + ((scaleR X D W g.val k.val : ℝ) : EReal) := by
  have hr : ∀ (o : FVec Ideal S1x512 .f32) (q : ℕ) (hq : q < 4) (b0 b1 b2 b3), scaleQ (q + 1) (colsOf (iblk m c 0 t) (q * 128) b1) (colsOf (iblk m c 1 t) (q * 128) b2) (matOf (iblk m c 2 t) q b3) (sclOf o (q * 128) b0) (ix2 0 k)
      = o (ix2 0 (col ⟨q, hq⟩ k)) + ((scaleR X D W q k.val : ℝ) : EReal) := fun o q hq b0 b1 b2 b3 =>
    (scaleQ_at _ _ _ _ _ k).trans (congrArg₂ HAdd.hAdd (by unfold sclOf col; pointwise) (scale_part m c t h0 h1 h2 q hq k b1 b2 b3))
  have hn : ¬t.val % 2 = 0 := by omega
  rw [outsAt0_B m c t hn ht hn ht hn ht hn ht hn ht hn ht hn ht hn ht]
  dsimp only
  frame_out
  refine (canon_scale _ _ _ _ g k).trans ?_
  fin_cases g
  · exact hr _ 0 (by decide) _ _ _ _
  · exact hr _ 1 (by decide) _ _ _ _
  · exact hr _ 2 (by decide) _ _ _ _
  · exact hr _ 3 (by decide) _ _ _ _

end Cert.Pool
end
-- ==== Proof.PoolVal.lean ====
module

public import proofs.«01_k».proof.Proof.PoolOut
public import proofs.«01_k».proof.Proof.Gen.Kernel3Ideal.Value

@[expose] public section

set_option maxRecDepth 16384

noncomputable section

open Idealize.ShloMosaic Idealize.ShloMosaic.TcCoe Idealize.SL.Sem

namespace Cert.Pool

open Cert.Kernel3Ideal Cert.Kernel3Ideal.Gen

/-! # The arrays the kernel leaves -/

theorem idx0 : ∀ t : Fin cfg0.N, win0_0.index t = ![t.val, 3] ∧ win0_1.index t = ![t.val, 1]
    ∧ win0_2.index t = ![0, 0, 0] ∧ win0_3.index t = ![0, 0] ∧ win0_4.index t = ![3, t.val, 0]
    ∧ win0_5.index t = ![0, 0, 0] ∧ win0_6.index t = ![0, 0] ∧ t.val < 2 :=
  (by decide +kernel : ∀ t : Fin grid0.N, _)

variable (m : (ℓ : Loc nD τ sig) → Buf (Elt Ideal) ℓ) (c : Dev nD)
  {P Q : ℕ → ℕ → ℝ} {W : ℕ → ℕ → ℕ → ℝ} {S : ℕ → ℝ}
  (hP : Holds (a := 4096) (b := 2048) (e := .bf16) P (m ((c : Thread nD τ).loc main_arg0))) (hQ : Holds (a := 4096) (b := 1024) (e := .bf16) Q (m ((c : Thread nD τ).loc main_arg1)))
  (hW : ∀ (g : Fin 4) (k j : Fin 128), m ((c : Thread nD τ).loc main_arg2) (ix4 0 g k j) = ((W g.val k.val j.val : ℝ) : EReal))
  (hS : ∀ j : Fin 512, m ((c : Thread nD τ).loc main_arg3) (ix2 0 j) = ((S j.val : ℝ) : EReal))

/-- The rows and the gradients of sequence `s`. -/
def rowsOf (P : ℕ → ℕ → ℝ) (s : ℕ) (a b : ℕ) : ℝ := P (s * 2048 + a) (1536 + b)
def gradsOf (Q : ℕ → ℕ → ℝ) (s : ℕ) (a b : ℕ) : ℝ := Q (s * 2048 + a) (512 + b)

include hP in
theorem blk_rows (t : Fin cfg0.N) : Holds (a := 2048) (b := 512) (e := .bf16) (rowsOf P t.val) (iblk m c 0 t) := by
  intro a b
  have ht := (idx0 t).2.2.2.2.2.2.2
  refine Eq.trans ?_ ((hP ⟨t.val * 2048 + a.val, by omega⟩ ⟨1536 + b.val, by omega⟩).trans rfl)
  rw [← V_main_arg0 m c]
  blk_ext [iblk, idx0 t]

include hQ in
theorem blk_grads (t : Fin cfg0.N) : Holds (a := 2048) (b := 512) (e := .bf16) (gradsOf Q t.val) (iblk m c 1 t) := by
  intro a b
  have ht := (idx0 t).2.2.2.2.2.2.2
  refine Eq.trans ?_ ((hQ ⟨t.val * 2048 + a.val, by omega⟩ ⟨512 + b.val, by omega⟩).trans rfl)
  rw [← V_main_arg1 m c]
  blk_ext [iblk, idx0 t]

theorem entry_mat (g : Fin 4) (k j : Fin 128) : V m c main_v0 (ix3 g k j) = m ((c : Thread nD τ).loc main_arg2) (ix4 0 g k j) := by
  show StableHlo.after hostOps0 _ (Proc.devRef .tc main_v0) (ix3 g k j) = _
  entry_read
  pointwise

include hW in
theorem blk_mat (t : Fin cfg0.N) (g : Fin 4) (k j : Fin 128) : iblk m c 2 t (ix3 g k j) = ((W g.val k.val j.val : ℝ) : EReal) := by
  refine Eq.trans ?_ ((entry_mat m c g k j).trans (hW g k j))
  blk_ext [iblk, idx0 t]

include hS in
theorem blk_scale (t : Fin cfg0.N) (j : Fin 512) : iblk m c 3 t (ix2 0 j) = ((S j.val : ℝ) : EReal) := by
  refine Eq.trans ?_ (hS j)
  rw [← V_main_arg3 m c]
  blk_ext [iblk, idx0 t]

theorem col_split (b : Fin 512) : col ⟨b.val / 128, by omega⟩ ⟨b.val % 128, by omega⟩ = b := Fin.ext (Nat.div_add_mod' b.val 128)

/-- The gradient of the projection's slab `e`: the three slabs that come in stay, the fourth is the pooling mixer's. -/
def slab (Q : ℕ → ℕ → ℝ) (W : ℕ → ℕ → ℕ → ℝ) (S : ℕ → ℝ) (r b : ℕ) : ℝ := rowsR (gradsOf Q (r / 2048)) W S (b / 128) (r % 2048) (b % 128)

include hQ hW hS in
theorem rows_array : (dats m 0 c).arrAt 4 cfg0.N = fun i : S4x4096x512.Idx => if (i 0).val / 1 = 3 then ((slab Q W S (i 1).val (i 2).val : ℝ) : EReal) else (dats m 0 c).A 4 i := by
  refine (dats m 0 c).arrAt_eq_of_coversWhere 4 (fun i => ((slab Q W S (i 1).val (i 2).val : ℝ) : EReal)) (Q := fun β => β (0 : Fin _) = 3) (by decide +kernel) (fun t _ y => ?_) (fun j => Iff.rfl)
  have ht := (idx0 t).2.2.2.2.2.2.2
  blk_simp
  rw [after0_4]
  idx_vars y
  obtain rfl : y0 = 0 := Subsingleton.elim _ _
  have h := out_rows m c t (blk_grads m c hQ t) (blk_mat m c hW t) (blk_scale m c hS t) ⟨y2.val / 128, by omega⟩ y1 ⟨y2.val % 128, by omega⟩
  rw [col_split] at h
  refine h.trans ?_
  refine congrArg _ (Eq.symm ?_)
  rw [(idx0 t).2.2.2.2.1]
  show rowsR (gradsOf Q ((t.val * 2048 + y1.val) / 2048)) W S ((0 * 512 + y2.val) / 128) ((t.val * 2048 + y1.val) % 2048) ((0 * 512 + y2.val) % 128) = _
  rw [Nat.zero_mul, Nat.zero_add, show (t.val * 2048 + y1.val) / 2048 = t.val by omega, show (t.val * 2048 + y1.val) % 2048 = y1.val by omega]

include hP hQ hS in
theorem weights_last (g : Fin 4) (k j : Fin 128) : (outsAt0 m c t0_1.val t0_1.isLt).2.1 (ix3 g k j)
    = ((weightR (rowsOf P 0) (gradsOf Q 0) S g.val k.val j.val + weightR (rowsOf P 1) (gradsOf Q 1) S g.val k.val j.val : ℝ) : EReal) := by
  rw [out_weights_next m c t0_1 (blk_rows m c hP t0_1) (blk_grads m c hQ t0_1) (blk_scale m c hS t0_1) rfl, EReal.coe_add]
  exact congrArg (· + _) (out_weights_first m c t0_0 (blk_rows m c hP t0_0) (blk_grads m c hQ t0_0) (blk_scale m c hS t0_0) rfl g k j)

include hP hQ hW in
theorem scale_last (g : Fin 4) (k : Fin 128) : (outsAt0 m c t0_1.val t0_1.isLt).2.2 (ix2 0 (col g k))
    = ((scaleR (rowsOf P 0) (gradsOf Q 0) W g.val k.val + scaleR (rowsOf P 1) (gradsOf Q 1) W g.val k.val : ℝ) : EReal) := by
  rw [out_scale_next m c t0_1 (blk_rows m c hP t0_1) (blk_grads m c hQ t0_1) (blk_mat m c hW t0_1) rfl, EReal.coe_add]
  exact congrArg (· + _) (out_scale_first m c t0_0 (blk_rows m c hP t0_0) (blk_grads m c hQ t0_0) (blk_mat m c hW t0_0) rfl g k)

include hP hQ hS in
theorem weights_array (g : Fin 4) (k j : Fin 128) : ((dats m 0 c).arrAt 5 cfg0.N : FVec Ideal S4x128x128 .f32) (ix3 g k j)
    = ((weightR (rowsOf P 0) (gradsOf Q 0) S g.val k.val j.val + weightR (rowsOf P 1) (gradsOf Q 1) S g.val k.val j.val : ℝ) : EReal) := by
  rw [← weights_last m c hP hQ hS]
  refine congrFun (f := ((dats m 0 c).arrAt 5 cfg0.N : FVec Ideal S4x128x128 .f32)) (g := (outsAt0 m c t0_1.val t0_1.isLt).2.1) ?_ _
  refine (dats m 0 c).arrAt_eq_of_after_last 5 t0_1 (by decide +kernel) _ fun j => ?_
  blk_simp
  rw [after0_5]

include hP hQ hW in
theorem scale_array (b : Fin 512) : ((dats m 0 c).arrAt 6 cfg0.N : FVec Ideal S1x512 .f32) (ix2 0 b)
    = ((scaleR (rowsOf P 0) (gradsOf Q 0) W (b.val / 128) (b.val % 128) + scaleR (rowsOf P 1) (gradsOf Q 1) W (b.val / 128) (b.val % 128) : ℝ) : EReal) := by
  have h := scale_last m c hP hQ hW ⟨b.val / 128, by omega⟩ ⟨b.val % 128, by omega⟩
  rw [col_split] at h
  rw [← h]
  refine congrFun (f := ((dats m 0 c).arrAt 6 cfg0.N : FVec Ideal S1x512 .f32)) (g := (outsAt0 m c t0_1.val t0_1.isLt).2.2) ?_ _
  refine (dats m 0 c).arrAt_eq_of_after_last 6 t0_1 (by decide +kernel) _ fun j => ?_
  blk_simp
  rw [after0_6]

end Cert.Pool
end
-- ==== Proof.PoolScan.lean ====
module

public import proofs.«01_k».proof.Proof.PoolTile
public import proofs.«01_k».proof.Proof.Gen.Reference3Ideal.Run
public import Idealize.ShloMosaic.Lib.WordCmp
public import Idealize.ShloMosaic.Lib.Routing.OpsPair

@[expose] public section

set_option maxRecDepth 16384

noncomputable section

open Idealize.ShloMosaic Idealize.ShloMosaic.TcCoe Idealize.SL.Sem

namespace Cert.Pool

open Cert.Reference3Ideal Cert.Reference3Ideal.Value Cert.Reference3Ideal.Facts₀

/-! # The reference's steps on the rows of a sequence -/

/-- A block of sequences that holds the reals of `X`. -/
def Holds3 {a b d : ℕ} {e : FTy} (X : ℕ → ℕ → ℕ → ℝ) (y : FVec Ideal ⟨3, ![a, b, d]⟩ e) : Prop :=
  ∀ (s : Fin a) (i : Fin b) (j : Fin d), y (ix3 s i j) = ((X s.val i.val j.val : ℝ) : EReal)

theorem Holds3.congr {a b d : ℕ} {e : FTy} {X Y : ℕ → ℕ → ℕ → ℝ} {y : FVec Ideal ⟨3, ![a, b, d]⟩ e} (h : Holds3 X y)
    (hXY : ∀ s < a, ∀ i < b, ∀ j < d, X s i j = Y s i j) : Holds3 Y y :=
  fun s i j => (h s i j).trans (congrArg _ (hXY _ s.isLt _ i.isLt _ j.isLt))

theorem sum_steps (N : ℕ) (g : Fin N → EReal) : (List.finRange N).foldl (fun r n => r + g n) 0 = ∑ n, g n := by
  rw [Fin.sum_univ_def, List.sum_eq_foldl, List.foldl_map]

/-- The index of a window of 2048 rows. -/
theorem win_row (n : Fin (⟨3, ![1, 2048, 1]⟩ : Shape).numel) (a : Fin 3) :
    ((⟨3, ![1, 2048, 1]⟩ : Shape).rowMajor.symm n a).val = if a = 1 then n.val else 0 := by
  generalize hk : (⟨3, ![1, 2048, 1]⟩ : Shape).rowMajor.symm n = k
  have hn : ((⟨3, ![1, 2048, 1]⟩ : Shape).rowMajor k).val = n.val := by rw [← hk, Equiv.apply_symm_apply]
  rw [Shape.rowMajor_val_three] at hn
  have h0 : (k 0).val < 1 := (k 0).isLt
  have h2 : (k 2).val < 1 := (k 2).isLt
  change ((k 0).val * 2048 + (k 1).val) * 1 + (k 2).val = n.val at hn
  fin_cases a
  · exact (Nat.lt_one_iff.1 h0).trans (if_neg (by decide)).symm
  · refine Eq.trans ?_ (if_pos rfl).symm
    show (k 1).val = n.val
    omega
  · exact (Nat.lt_one_iff.1 h2).trans (if_neg (by decide)).symm

/-- A sum over a window of rows: the rows that fall inside the sequence. -/
theorem scan_at (L H : ℕ) {X : ℕ → ℕ → ℕ → ℝ} {x : FVec Ideal S2x2048x512 .f32} (hx : Holds3 X x) (c : FVec Ideal S_ .f32) (hc : ∀ k, c k = 0) (h) (hu) (s : Fin 2) (t : Fin 2048) (j : Fin 512) :
    (Host.reduceWindowAdd ![1, 2048, 1] ![1, 1, 1] ![0, L, 0] ![0, H, 0] x c h hu : FVec Ideal S2x2048x512 .f32) (ix3 s t j)
      = (((∑ n ∈ Finset.range 2048, if L ≤ t.val + n ∧ t.val + n - L < 2048 then X s.val (t.val + n - L) j.val else 0 : ℝ)) : EReal) := by
  unfold Host.reduceWindowAdd
  rw [Ideal.hostReduceWindowAdd_def, hc]
  unfold Ideal.hostReduceWindowAdd Host.reduceWindow
  refine (sum_steps _ _).trans ?_
  rw [coe_sum, ← Fin.sum_univ_eq_sum_range (fun n => (((if L ≤ t.val + n ∧ t.val + n - L < 2048 then X s.val (t.val + n - L) j.val else 0 : ℝ)) : EReal)) 2048]
  refine Fintype.sum_equiv (finCongr (by decide)) _ _ fun n => ?_
  have e0 := (win_row n 0).trans (if_neg (by decide))
  have e1 := (win_row n 1).trans (if_pos rfl)
  have e2 := (win_row n 2).trans (if_neg (by decide))
  by_cases hp : L ≤ t.val + n.val ∧ t.val + n.val - L < 2048
  · rw [if_pos (by exact hp)]
    refine (dif_pos ?_).trans ((congrArg x (funext fun a => Fin.ext ?_)).trans (hx s ⟨t.val + n.val - L, hp.2⟩ j))
    · intro a
      fin_cases a
      · exact ⟨Nat.zero_le _, by show s.val * 1 + ((⟨3, ![1, 2048, 1]⟩ : Shape).rowMajor.symm n 0).val - 0 < 2; omega⟩
      · exact ⟨by show L ≤ t.val * 1 + ((⟨3, ![1, 2048, 1]⟩ : Shape).rowMajor.symm n 1).val; omega, by show t.val * 1 + ((⟨3, ![1, 2048, 1]⟩ : Shape).rowMajor.symm n 1).val - L < 2048; omega⟩
      · exact ⟨Nat.zero_le _, by show j.val * 1 + ((⟨3, ![1, 2048, 1]⟩ : Shape).rowMajor.symm n 2).val - 0 < 512; omega⟩
    · fin_cases a
      · show s.val * 1 + ((⟨3, ![1, 2048, 1]⟩ : Shape).rowMajor.symm n 0).val - 0 = s.val; omega
      · show t.val * 1 + ((⟨3, ![1, 2048, 1]⟩ : Shape).rowMajor.symm n 1).val - L = t.val + n.val - L; omega
      · show j.val * 1 + ((⟨3, ![1, 2048, 1]⟩ : Shape).rowMajor.symm n 2).val - 0 = j.val; omega
  · rw [if_neg (by exact hp)]
    refine (dif_neg fun hin => hp ?_).trans EReal.coe_zero.symm
    have g1 : L ≤ t.val * 1 + ((⟨3, ![1, 2048, 1]⟩ : Shape).rowMajor.symm n 1).val := (hin 1).1
    have g2 : t.val * 1 + ((⟨3, ![1, 2048, 1]⟩ : Shape).rowMajor.symm n 1).val - L < 2048 := (hin 1).2
    exact ⟨by omega, by omega⟩

theorem rows_upto (X : ℕ → ℝ) (j : ℕ) (hj : j < 2048) :
    (∑ n ∈ Finset.range 2048, if 2047 ≤ j + n ∧ j + n - 2047 < 2048 then X (j + n - 2047) else 0) = ∑ i ∈ Finset.range (j + 1), X i := by
  rw [← Finset.sum_filter]
  refine Finset.sum_nbij' (fun n => j + n - 2047) (fun i => i + 2047 - j) ?_ ?_ ?_ ?_ ?_ <;> intro n hn <;> simp only [Finset.mem_filter, Finset.mem_range] at hn ⊢ <;> omega

theorem rows_from (X : ℕ → ℝ) (j : ℕ) (hj : j < 2048) :
    (∑ n ∈ Finset.range 2048, if 0 ≤ j + n ∧ j + n - 0 < 2048 then X (j + n - 0) else 0) = ∑ i ∈ Finset.Ico j 2048, X i := by
  rw [← Finset.sum_filter]
  refine Finset.sum_nbij' (fun n => j + n) (fun i => i - j) ?_ ?_ ?_ ?_ ?_ <;> intro n hn <;> simp only [Finset.mem_filter, Finset.mem_range, Finset.mem_Ico] at hn ⊢ <;> first | omega | rfl

/-! ## The first row of a window, as a word -/

theorem first_word {a w : ℕ} (ha : a < 2048) (hw : w < 2048) :
    IntOp.maxsi (IntOp.subi (IntOp.addi (BitVec.ofNat 32 a) 1#32) (BitVec.ofNat 32 w)) 0#32 = BitVec.ofNat 32 (a + 1 - w) := by
  rw [show IntOp.addi (BitVec.ofNat 32 a) 1#32 = BitVec.ofNat 32 (a + 1) from (BitVec.ofNat_add _ _).symm]
  have hi : (IntOp.subi (BitVec.ofNat 32 (a + 1)) (BitVec.ofNat 32 w)).toInt = (a + 1 : ℤ) - w := by
    unfold IntOp.subi
    rw [BitVec.toInt_sub, WordCmp.toInt_ofNat_of_lt (by omega), WordCmp.toInt_ofNat_of_lt (by omega), Int.bmod_eq_of_le] <;> push_cast <;> omega
  refine BitVec.eq_of_toInt_eq ?_
  rw [WordCmp.toInt_ofNat_of_lt (by omega)]
  unfold IntOp.maxsi BitVec.slt
  rw [hi]
  show (if decide _ = true then _ else _ : BitVec 32).toInt = _
  have h0 : (0#32 : BitVec 32).toInt = 0 := by decide
  rw [h0]
  split_ifs with h
  all_goals simp only [decide_eq_true_eq] at h
  all_goals first | rw [hi] | rw [h0]
  all_goals omega

/-- The first row of the window of `w` rows that ends at each row. -/
def firstRow (w : BitVec 32) : IVec S2048 32 :=
  maxsi (subi (addi (iotaInDim S2048 32 0) (broadcastInDim S2048 ![] bcast_S_S2048 (constantI S_ 32 1#32))) (broadcastInDim S2048 ![] bcast_S_S2048 (constantI S_ 32 w))) (broadcastInDim S2048 ![] bcast_S_S2048 (constantI S_ 32 0#32))

theorem firstRow_at {w : ℕ} (hw : w < 2048) (t : Fin 2048) : firstRow (BitVec.ofNat 32 w) (ix1 t) = BitVec.ofNat 32 (t.val + 1 - w) := by
  unfold firstRow
  pointwise
  exact first_word t.isLt hw

/-- The same, as the places a gather reads. -/
def places (w : BitVec 32) : IVec S2048x1 32 :=
  broadcastInDim S2048x1 ![0] bcast_S2048_S2048x1_0 (select (cmpi .slt (firstRow w) (broadcastInDim S2048 ![] bcast_S_S2048 (constantI S_ 32 0#32))) (addi (firstRow w) (broadcastInDim S2048 ![] bcast_S_S2048 (constantI S_ 32 2049#32))) (firstRow w))

theorem places_at {w : ℕ} (hw : w < 2048) (t : Fin 2048) (z : Fin 1) : places (BitVec.ofNat 32 w) (ix2 t z) = BitVec.ofNat 32 (t.val + 1 - w) := by
  unfold places
  pointwise [firstRow_at hw]
  rw [WordCmp.cmpi_slt_zero, WordCmp.toNat_ofNat_of_lt (by omega), decide_eq_false (by omega)]
  rfl

/-- How many rows each window has. -/
def counts (w : BitVec 32) : FVec Ideal S1x2048x1 .f32 :=
  broadcastInDim S1x2048x1 ![1] bcast_S2048_S1x2048x1_1 (sitofp .f32 (subi (addi (iotaInDim S2048 32 0) (broadcastInDim S2048 ![] bcast_S_S2048 (constantI S_ 32 1#32))) (firstRow w)))

theorem counts_at {w : ℕ} (hw : w < 2048) (t : Fin 2048) (y z : Fin 1) : counts (BitVec.ofNat 32 w) (ix3 y t z) = ((rows w t.val : ℝ) : EReal) := by
  unfold counts
  pointwise [firstRow_at hw]
  have he : IntOp.subi (IntOp.addi (BitVec.ofNat 32 t.val) 1#32) (BitVec.ofNat 32 (t.val + 1 - w)) = BitVec.ofNat 32 (min (t.val + 1) w) := by
    rw [show IntOp.addi (BitVec.ofNat 32 t.val) 1#32 = BitVec.ofNat 32 (t.val + 1) from (BitVec.ofNat_add _ _).symm]
    refine BitVec.eq_of_toNat_eq ?_
    unfold IntOp.subi
    rw [BitVec.toNat_sub, WordCmp.toNat_ofNat_of_lt (by omega), WordCmp.toNat_ofNat_of_lt (by omega), WordCmp.toNat_ofNat_of_lt (by omega)]
    omega
  rw [he]
  show (((BitVec.ofNat 32 (min (t.val + 1) w)).toInt : ℝ) : EReal) = _
  rw [WordCmp.toInt_ofNat_of_lt (by omega)]
  unfold rows
  norm_cast

/-! ## The gather and the scatter -/

theorem gather_at {w : ℕ} (hw : w < 2048) {X : ℕ → ℕ → ℕ → ℝ} {x : FVec Ideal S2x2049x128 .f32} (hx : Holds3 X x) :
    Holds3 (fun s t k => X s (t + 1 - w) k) (Host.gather gather_S2x2049x128_S2048x1_S2x2048x128_02_1_n_n_1_1_21128 x (places (BitVec.ofNat 32 w)) : FVec Ideal S2x2048x128 .f32) := by
  intro s t k
  have hs : gather_S2x2049x128_S2048x1_S2x2048x128_02_1_n_n_1_1_21128.start (ix3 s t k) (places (BitVec.ofNat 32 w)) 1 = t.val + 1 - w := by
    refine (congrArg (fun v : BitVec 32 => min v.toInt.toNat 2048) ((congrArg (places (BitVec.ofNat 32 w)) (funext fun b => by fin_cases b <;> rfl)).trans (places_at hw t 0))).trans ?_
    rw [WordCmp.toInt_ofNat_of_lt (by omega), Int.toNat_natCast]
    omega
  refine (congrArg x (funext fun a => Fin.ext ?_)).trans (hx s ⟨t.val + 1 - w, by omega⟩ k)
  fin_cases a
  · exact (Nat.zero_add _)
  · exact congrArg (· + 0 + 0) hs
  · exact (Nat.zero_add _)

theorem start_at (j : S2x2048x128.Idx) (q : IVec S2048x1 32) :
    scatter_S2x2049x128_S2048x1_S2x2048x128_02_1_1_1.start j q 0 + (scatter_S2x2049x128_S2048x1_S2x2048x128_02_1_1_1.window j 0 : ℤ) = ((j 0).val : ℤ)
    ∧ scatter_S2x2049x128_S2048x1_S2x2048x128_02_1_1_1.start j q 1 + (scatter_S2x2049x128_S2048x1_S2x2048x128_02_1_1_1.window j 1 : ℤ) = (q (ix2 (j 1) 0)).toInt
    ∧ scatter_S2x2049x128_S2048x1_S2x2048x128_02_1_1_1.start j q 2 + (scatter_S2x2049x128_S2048x1_S2x2048x128_02_1_1_1.window j 2 : ℤ) = ((j 2).val : ℤ) := by
  refine ⟨zero_add _, ?_, zero_add _⟩
  refine (add_zero _).trans (congrArg BitVec.toInt (congrArg q ?_))
  funext b
  fin_cases b <;> rfl

/-- Where an update of the scatter goes. -/
theorem lands {w : ℕ} (hw : w < 2048) (s : Fin 2) (p : Fin 2049) (k : Fin 128) (j : S2x2048x128.Idx) :
    scatter_S2x2049x128_S2048x1_S2x2048x128_02_1_1_1.resultIdx? j (places (BitVec.ofNat 32 w)) = some (ix3 s p k) ↔ (j 0).val = s.val ∧ (j 1).val + 1 - w = p.val ∧ (j 2).val = k.val := by
  obtain ⟨g0, g1, g2⟩ := start_at j (places (BitVec.ofNat 32 w))
  rw [places_at hw (j 1) 0, WordCmp.toInt_ofNat_of_lt (Nat.lt_of_le_of_lt (Nat.sub_le _ _) (Nat.lt_trans (Nat.succ_lt_succ (j 1).isLt) (by decide)))] at g1
  rw [Routing.resultIdx?_eq_some]
  generalize scatter_S2x2049x128_S2048x1_S2x2048x128_02_1_1_1.start j (places (BitVec.ofNat 32 w)) = f at g0 g1 g2 ⊢
  constructor
  · intro h
    exact ⟨Int.ofNat.inj (g0.symm.trans (h 0)), Int.ofNat.inj (g1.symm.trans (h 1)), Int.ofNat.inj (g2.symm.trans (h 2))⟩
  · rintro ⟨e0, e1, e2⟩ a
    fin_cases a
    · exact g0.trans (congrArg Int.ofNat e0)
    · exact g1.trans (congrArg Int.ofNat e1)
    · exact g2.trans (congrArg Int.ofNat e2)

theorem scatter_at {w : ℕ} (hw : w < 2048) {A : ℕ → ℕ → ℕ → ℝ} {x : FVec Ideal S2x2049x128 .f32} (h0 : Holds3 (fun _ _ _ => 0) x) {a : FVec Ideal S2x2048x128 .f32} (ha : Holds3 A a) :
    Holds3 (fun s p k => ∑ r ∈ Finset.range 2048, if r + 1 - w = p then A s r k else 0) (Host.scatterAdd scatter_S2x2049x128_S2048x1_S2x2048x128_02_1_1_1 x (places (BitVec.ofNat 32 w)) a : FVec Ideal S2x2049x128 .f32) := by
  intro s p k
  have hl := lands hw s p k
  unfold Host.scatterAdd
  rw [Ideal.hostScatterAdd_def]
  unfold Ideal.hostScatterAdd
  rw [h0 s p k, EReal.coe_zero, zero_add, coe_sum, ← Fin.sum_univ_eq_sum_range (fun r => (((if r + 1 - w = p.val then A s.val r k.val else 0 : ℝ)) : EReal)) 2048]
  rw [← Finset.sum_filter_add_sum_filter_not Finset.univ (fun r : Fin 2048 => r.val + 1 - w = p.val)]
  rw [Finset.sum_eq_zero (s := Finset.univ.filter fun r : Fin 2048 => ¬r.val + 1 - w = p.val) (fun r hr => by rw [if_neg (Finset.mem_filter.1 hr).2, EReal.coe_zero]), add_zero]
  refine Finset.sum_nbij' (fun j => j 1) (fun r => ix3 s r k) (fun j hj => ?_) (fun r hr => ?_) (fun j hj => ?_) (fun r hr => rfl) (fun j hj => ?_)
  · exact Finset.mem_filter.2 ⟨Finset.mem_univ _, ((hl j).1 (Finset.mem_filter.1 hj).2).2.1⟩
  · exact Finset.mem_filter.2 ⟨Finset.mem_univ _, (hl _).2 ⟨rfl, (Finset.mem_filter.1 hr).2, rfl⟩⟩
  · obtain ⟨e0, e1, e2⟩ := (hl j).1 (Finset.mem_filter.1 hj).2
    funext a
    fin_cases a
    · exact Fin.ext e0.symm
    · rfl
    · exact Fin.ext e2.symm
  · obtain ⟨e0, e1, e2⟩ := (hl j).1 (Finset.mem_filter.1 hj).2
    rw [if_pos e1]
    idx_vars j
    refine (ha _ _ _).trans ?_
    rw [show j0.val = s.val from e0, show j2.val = k.val from e2]

end Cert.Pool
end
-- ==== Proof.PoolRef.lean ====
module

public import proofs.«01_k».proof.Proof.PoolScan
public import proofs.«01_k».proof.Proof.PoolVal

@[expose] public section

set_option maxRecDepth 16384

noncomputable section

open Idealize.ShloMosaic Idealize.ShloMosaic.TcCoe Idealize.SL.Sem

namespace Cert.Pool

open Cert.Reference3Ideal Cert.Reference3Ideal.Value Cert.Reference3Ideal.Facts₀

/-! # The reference's arrays -/

/-- One entry of a group's pooled rows, from the running sums and the rows. -/
theorem group_ref {w : ℕ} (h0 : 0 < w) (hw : w < 2048) {X : ℕ → ℕ → ℕ → ℝ} {cs : FVec Ideal S2x2049x128 .f32} (hc : Holds3 (fun s t k => ∑ r ∈ Finset.range t, X s r k) cs)
    (s : Fin 2) (t : Fin 2048) (k : Fin 128) {u : EReal} (hu : u = ((X s.val t.val k.val : ℝ) : EReal)) (ht : 1 + t.val < 2049) :
    Ideal.div (cs (ix3 s ⟨1 + t.val, ht⟩ k) - Host.gather gather_S2x2049x128_S2048x1_S2x2048x128_02_1_n_n_1_1_21128 cs (places (BitVec.ofNat 32 w)) (ix3 s t k)) (counts (BitVec.ofNat 32 w) (ix3 0 t 0)) - u
      = ((pooled w (fun r => X s.val r k.val) t.val : ℝ) : EReal) := by
  have h1 : cs (ix3 s ⟨1 + t.val, ht⟩ k) = ((∑ r ∈ Finset.range (t.val + 1), X s.val r k.val : ℝ) : EReal) := by
    refine (hc s ⟨1 + t.val, ht⟩ k).trans ?_
    rw [show (⟨1 + t.val, ht⟩ : Fin 2049).val = t.val + 1 from Nat.add_comm _ _]
  rw [gather_at hw hc s t k, h1, counts_at hw, hu, ← EReal.coe_sub, Ideal.div_coe (rows_ne w t.val h0), ← EReal.coe_mul, ← EReal.coe_sub, mul_one_div]
  unfold pooled
  rw [← lastSum_sub w (fun r => X s.val r k.val) t.val h0]

/-- One group of columns out of the rows. -/
theorem part_ref {x : FVec Ideal S2x2049x512 .f32} {X : ℕ → ℕ → ℕ → ℝ} (hx : Holds3 X x) (o : ℕ) (h : S2x2049x512.Slices ![0, 0, o] S2x2049x128) (ho : o + 128 ≤ 512) :
    Holds3 (a := 2) (b := 2049) (d := 128) (e := .f32) (fun s t k => X s t (o + k)) (extractStridedSlice S2x2049x128 ![0, 0, o] x h) := by
  intro s t k
  refine (congrArg x (funext fun a => Fin.ext ?_)).trans (hx s t ⟨o + k.val, by omega⟩)
  fin_cases a
  · exact Nat.zero_add _
  · exact Nat.zero_add _
  · rfl

theorem sum_products {n : ℕ} {f g : Fin n → EReal} {F G : Fin n → ℝ} (hf : ∀ x, f x = ((F x : ℝ) : EReal)) (hg : ∀ x, g x = ((G x : ℝ) : EReal)) :
    ∑ x, f x * g x = ((∑ x, F x * G x : ℝ) : EReal) := by
  rw [coe_sum]
  exact Finset.sum_congr rfl fun x _ => by rw [hf, hg, ← EReal.coe_mul]

/-- The rows that are pooled, cut out of the projection; their running sums, from nothing on; one group's columns of these. -/
def rowsA (a0 : FVec Ideal S4096x2048 .bf16) : FVec Ideal S2x2048x512 .f32 :=
  shapeCast _ (extf .f32 (extractStridedSlice S4096x512 ![0, 1536] a0 slices_S4096x2048_S4096x512_0_1536) bitsLt_bf16_f32) shapeCasts_S4096x512_S2x2048x512
def runsA (a0 : FVec Ideal S4096x2048 .bf16) : FVec Ideal S2x2049x512 .f32 :=
  concatenate S2x2049x512 1 [⟨S2x1x512, (broadcastInDim S2x1x512 ![] bcast_S_S2x1x512 (constant S_ .f32 0x00000000#32))⟩, ⟨S2x2048x512, (Host.reduceWindowAdd ![1, 2048, 1] ![1, 1, 1] ![0, 2047, 0] ![0, 0, 0] (rowsA a0) (broadcastInDim S_ ![] bcast_S_S_ (constant S_ .f32 0x00000000#32)) reduceWindows_S2x2048x512_S2x2048x512_w1s1p0_0_w2048s1p2047_0_w1s1p0_0 h_S_)⟩] concatenates_S2x1x512_S2x2048x512_S2x2049x512_d1
def cutA (a0 : FVec Ideal S4096x2048 .bf16) (o : ℕ) (h : S2x2049x512.Slices ![0, 0, o] S2x2049x128) : FVec Ideal S2x2049x128 .f32 :=
  extractStridedSlice S2x2049x128 ![0, 0, o] (runsA a0) h

/-- One group's pooled rows, of a window of `w` rows; all groups'; the rows they are mixed to. -/
def groupA (a0 : FVec Ideal S4096x2048 .bf16) (o : ℕ) (w : BitVec 32) (h : S2x2049x512.Slices ![0, 0, o] S2x2049x128) (h' : S2x2048x512.Slices ![0, 0, o] S2x2048x128) : FVec Ideal S2x2048x1x128 .f32 :=
  broadcastInDim S2x2048x1x128 ![0, 1, 3] bcast_S2x2048x128_S2x2048x1x128_0_1_3 (subf (Host.divf (subf (extractStridedSlice S2x2048x128 ![0, 1, 0] (cutA a0 o h) slices_S2x2049x128_S2x2048x128_0_1_0)
    (Host.gather gather_S2x2049x128_S2048x1_S2x2048x128_02_1_n_n_1_1_21128 (cutA a0 o h) (places w))) (broadcastInDim S2x2048x128 ![0, 1, 2] bcast_S1x2048x1_S2x2048x128_0_1_2 (counts w))) (extractStridedSlice S2x2048x128 ![0, 0, o] (rowsA a0) h'))
def poolA (a0 : FVec Ideal S4096x2048 .bf16) : FVec Ideal S2x2048x4x128 .f32 :=
  concatenate S2x2048x4x128 2 [⟨S2x2048x1x128, groupA a0 0 2#32 slices_S2x2049x512_S2x2049x128_0_0_0 slices_S2x2048x512_S2x2048x128_0_0_0⟩, ⟨S2x2048x1x128, groupA a0 128 4#32 slices_S2x2049x512_S2x2049x128_0_0_128 slices_S2x2048x512_S2x2048x128_0_0_128⟩,
    ⟨S2x2048x1x128, groupA a0 256 8#32 slices_S2x2049x512_S2x2049x128_0_0_256 slices_S2x2048x512_S2x2048x128_0_0_256⟩, ⟨S2x2048x1x128, groupA a0 384 16#32 slices_S2x2049x512_S2x2049x128_0_0_384 slices_S2x2048x512_S2x2048x128_0_0_384⟩] concatenates_S2x2048x1x128_S2x2048x1x128_S2x2048x1x128_S2x2048x1x128_S2x2048x4x128_d2
def mixA (a0 : FVec Ideal S4096x2048 .bf16) (w : FVec Ideal S4x128x128 .f32) : FVec Ideal S2x2048x512 .f32 :=
  shapeCast _ (transpose S2x2048x4x128 [2, 3, 0, 1] (Host.dotGeneral (φ₁ := .f32) (φ₂ := .f32) dot_S4x128x128_S2x2048x4x128_S4x128x2x2048_1_3_2_01_0_2 none w (poolA a0) : FVec Ideal S4x128x2x2048 .f32) transposes_S4x128x2x2048_S2x2048x4x128_2_3_0_1) shapeCasts_S2x2048x4x128_S2x2048x512

section Arrays
variable {P : ℕ → ℕ → ℝ} {W : ℕ → ℕ → ℕ → ℝ} {a0 : FVec Ideal S4096x2048 .bf16} {w : FVec Ideal S4x128x128 .f32} (h0 : Holds P a0) (hw : Holds3 W w)

include h0 in
theorem rowsA_at : Holds3 (rowsOf P) (rowsA a0) := by
  intro s t j
  unfold rowsA
  pointwise
  exact h0 ⟨s.val * 2048 + t.val, by omega⟩ ⟨1536 + j.val, by omega⟩

include h0 in
theorem runsA_at : Holds3 (fun s t j => ∑ r ∈ Finset.range t, rowsOf P s r j) (runsA a0) := by
  intro s t j
  unfold runsA
  pointwise
  by_cases h : t.val < 1
  · rw [dif_pos h, show t.val = 0 by omega, Finset.range_zero, Finset.sum_empty]
    rfl
  · rw [dif_neg h]
    refine (scan_at 2047 0 (rowsA_at h0) (broadcastInDim S_ ![] bcast_S_S_ (constant S_ .f32 0x00000000#32)) (fun _ => Ideal.ofBits_zero_f32) _ _ s ⟨t.val - 1, by omega⟩ j).trans (congrArg _ ?_)
    refine (rows_upto (fun r => rowsOf P s.val r j.val) (t.val - 1) (by omega)).trans ?_
    rw [show t.val - 1 + 1 = t.val by omega]

include h0 in
theorem groupA_at (o w : ℕ) (hw0 : 0 < w) (hw : w < 2048) (ho : o + 128 ≤ 512) (h h') (s : Fin 2) (t : Fin 2048) (z : Fin 1) (k : Fin 128) :
    groupA a0 o (BitVec.ofNat 32 w) h h' (ix4 s t z k) = ((pooled w (fun r => rowsOf P s.val r (o + k.val)) t.val : ℝ) : EReal) := by
  unfold groupA
  pointwise
  exact group_ref hw0 hw (X := fun s r k => rowsOf P s r (o + k)) (part_ref (runsA_at h0) o h ho) s t k (rowsA_at h0 s t ⟨o + k.val, by omega⟩) (by omega)

include h0 in
theorem poolA_at (s : Fin 2) (t : Fin 2048) (g : Fin 4) (k : Fin 128) :
    poolA a0 (ix4 s t g k) = ((pooled (2 ^ (g.val + 1)) (fun r => rowsOf P s.val r (g.val * 128 + k.val)) t.val : ℝ) : EReal) := by
  have hr := fun o w h0' hw ho h h' => groupA_at h0 o w h0' hw ho h h' s t 0 k
  unfold poolA
  pointwise
  fin_cases g
  · exact hr (0 * 128) 2 (by decide) (by decide) (by decide) _ _
  · exact hr 128 4 (by decide) (by decide) (by decide) _ _
  · exact hr 256 8 (by decide) (by decide) (by decide) _ _
  · exact hr 384 16 (by decide) (by decide) (by decide) _ _

include h0 hw in
theorem mixA_at (s : Fin 2) (t : Fin 2048) (g : Fin 4) (j : Fin 128) :
    mixA a0 w (ix3 s t (col g j)) = ((∑ k : Fin 128, pooled (2 ^ (g.val + 1)) (fun r => rowsOf P s.val r (g.val * 128 + k.val)) t.val * W g.val k.val j.val : ℝ) : EReal) := by
  unfold mixA
  pointwise
  refine (sum_products (fun k => hw _ k _) (fun k => poolA_at h0 s t _ k)).trans (congrArg _ (Finset.sum_congr rfl fun k _ => ?_))
  show W ((g.val * 128 + j.val) / 128) k.val ((g.val * 128 + j.val) % 128) * pooled (2 ^ ((g.val * 128 + j.val) / 128 + 1)) (fun r => rowsOf P s.val r ((g.val * 128 + j.val) / 128 * 128 + k.val)) t.val = _
  rw [show (g.val * 128 + j.val) / 128 = g.val by omega, show (g.val * 128 + j.val) % 128 = j.val by omega, mul_comm]

end Arrays

variable {V : Valuation τ sig (Elt Ideal)} {P Q : ℕ → ℕ → ℝ} {W : ℕ → ℕ → ℕ → ℝ} {S : ℕ → ℝ}
  (hP : Holds (a := 4096) (b := 2048) (e := .bf16) P (V (Proc.devRef .tc main_arg0))) (hQ : Holds (a := 4096) (b := 1024) (e := .bf16) Q (V (Proc.devRef .tc main_arg1)))
  (hW : ∀ (g : Fin 4) (k j : Fin 128), V (Proc.devRef .tc main_arg2) (ix4 0 g k j) = ((W g.val k.val j.val : ℝ) : EReal))
  (hS : ∀ j : Fin 512, V (Proc.devRef .tc main_arg3) (ix2 0 j) = ((S j.val : ℝ) : EReal))

include hP in
theorem rows_ref : Holds3 (a := 2) (b := 2048) (d := 512) (e := .f32) (rowsOf P) (res_main_v2 V) := rowsA_at hP

include hQ in
theorem grads_ref : Holds3 (a := 2) (b := 2048) (d := 512) (e := .f32) (gradsOf Q) (res_main_v5 V) := by
  intro s t j
  unfold res_main_v5
  pointwise
  exact hQ ⟨s.val * 2048 + t.val, by omega⟩ ⟨512 + j.val, by omega⟩

include hW in
theorem mats_ref : Holds3 (a := 4) (b := 128) (d := 128) (e := .f32) W (res_main_v6 V) := by
  intro g k j
  unfold res_main_v6
  pointwise
  exact hW g k j

include hP in
theorem pooled_ref (s : Fin 2) (t : Fin 2048) (g : Fin 4) (k : Fin 128) :
    res_main_v117 V (ix4 s t g k) = ((pooled (2 ^ (g.val + 1)) (fun r => rowsOf P s.val r (g.val * 128 + k.val)) t.val : ℝ) : EReal) :=
  poolA_at hP s t g k

include hQ hS in
theorem scaled_ref (g : Fin 4) (j : Fin 128) (s : Fin 2) (t : Fin 2048) :
    res_main_v131 V (ix4 g j s t) = ((gradsOf Q s.val t.val (g.val * 128 + j.val) * S (g.val * 128 + j.val) : ℝ) : EReal) := by
  unfold res_main_v131 res_main_v121
  pointwise
  rw [grads_ref hQ, hS, ← EReal.coe_mul]

include hQ hW hS in
theorem back_ref (s : Fin 2) (t : Fin 2048) (g : Fin 4) (k : Fin 128) :
    res_main_v133 V (ix4 s t g k) = ((∑ j : Fin 128, gradsOf Q s.val t.val (g.val * 128 + j.val) * S (g.val * 128 + j.val) * W g.val k.val j.val : ℝ) : EReal) := by
  unfold res_main_v133
  pointwise
  exact sum_products (fun j => scaled_ref hQ hS g j s t) (fun j => mats_ref hW g k j)

include hP hW in
theorem mixed_ref (s : Fin 2) (t : Fin 2048) (g : Fin 4) (j : Fin 128) :
    res_main_v120 V (ix3 s t (col g j)) = ((∑ k : Fin 128, pooled (2 ^ (g.val + 1)) (fun r => rowsOf P s.val r (g.val * 128 + k.val)) t.val * W g.val k.val j.val : ℝ) : EReal) :=
  mixA_at hP (mats_ref hW) s t g j

/-- A product over the sequences and their rows. -/
theorem rows_dot (X : FVec Ideal S4x128x2x2048 .f32) (Y : FVec Ideal S2x2048x4x128 .f32) (g : Fin 4) (k j : Fin 128) (h) :
    transpose S4x128x128 [0, 2, 1] (Host.dotGeneral dot_S4x128x2x2048_S2x2048x4x128_S4x128x128_23_01_1_3_0_2 none X Y : FVec Ideal S4x128x128 .f32) h (ix3 g k j)
      = ∑ s : Fin 2, ∑ t : Fin 2048, X (ix4 g j s t) * Y (ix4 s t g k) := by
  pointwise

include hP hQ hS in
theorem weights_ref (g : Fin 4) (k j : Fin 128) (h) :
    transpose S4x128x128 [0, 2, 1] (Host.dotGeneral (φ₁ := .f32) (φ₂ := .f32) dot_S4x128x2x2048_S2x2048x4x128_S4x128x128_23_01_1_3_0_2 none (res_main_v131 V) (res_main_v117 V) : FVec Ideal S4x128x128 .f32) h (ix3 g k j)
      = ((weightR (rowsOf P 0) (gradsOf Q 0) S g.val k.val j.val + weightR (rowsOf P 1) (gradsOf Q 1) S g.val k.val j.val : ℝ) : EReal) := by
  refine (rows_dot _ _ g k j h).trans ?_
  rw [Fin.sum_univ_two, EReal.coe_add]
  have hs : ∀ s : Fin 2, ∑ t : Fin 2048, _ = _ := fun s => (sum_products (fun t => scaled_ref hQ hS g j s t) (fun t => pooled_ref hP s t g k)).trans
    (congrArg _ (show _ = weightR (rowsOf P s.val) (gradsOf Q s.val) S g.val k.val j.val from Finset.sum_congr rfl fun t _ => mul_comm _ _))
  exact congrArg₂ HAdd.hAdd (hs 0) (hs 1)

/-- The sum over the rows of every sequence. -/
theorem total_at {n0 n1 n2 : ℕ} (x : FVec Ideal ⟨3, ![n0, n1, n2]⟩ .f32) (c : FVec Ideal S_ .f32) (hc : ∀ k, c k = 0) (h : (⟨3, ![n0, n1, n2]⟩ : Shape).ReducesTo [0, 1] ⟨1, ![n2]⟩) (hu) (j : Fin n2) :
    (Host.reduceAdd x c h hu : FVec Ideal ⟨1, ![n2]⟩ .f32) (ix1 j) = ∑ s : Fin n0, ∑ t : Fin n1, x (ix3 s t j) := by
  refine (Host.reduceAdd_apply x c h hu (ix1 j)).trans ?_
  rw [Ideal.hostReduceAdd_def, hc]
  unfold Ideal.hostReduceAdd
  rw [zero_add]
  refine (Finset.sum_filter_eq_sum_of_fiber _ (fun k : Fin n0 × Fin n1 => ix3 k.1 k.2 j) (fun _ _ e => Prod.ext (congrFun e 0) (congrFun e 1)) (fun i => ?_) x).trans (Fintype.sum_prod_type _)
  constructor
  · intro e
    refine ⟨(i 0, i 1), ?_⟩
    funext a
    fin_cases a
    · rfl
    · rfl
    · exact (congrFun e 0).symm
  · rintro ⟨k, rfl⟩
    funext b
    fin_cases b
    rfl

theorem total_twice (x : FVec Ideal S2x2048x512 .f32) (c : Fin 512) :
    (broadcastInDim S1x512 ![1] bcast_S512_S1x512_1 (Host.reduceAdd (shapeCast S1x1x512 (Host.reduceAdd x (constant S_ .f32 0x00000000#32) reducesTo_S2x2048x512_S512_d0_1 h_S_ : FVec Ideal S512 .f32) shapeCasts_S512_S1x1x512)
      (constant S_ .f32 0x00000000#32) reducesTo_S1x1x512_S512_d0_1 h_S_ : FVec Ideal S512 .f32)) (ix2 0 c) = ∑ s : Fin 2, ∑ t : Fin 2048, x (ix3 s t c) := by
  rw [← total_at x (constant S_ .f32 0x00000000#32) (fun _ => Ideal.ofBits_zero_f32) reducesTo_S2x2048x512_S512_d0_1 h_S_ c]
  generalize (Host.reduceAdd x (constant S_ .f32 0x00000000#32) reducesTo_S2x2048x512_S512_d0_1 h_S_ : FVec Ideal S512 .f32) = y
  refine (?_ : _ = (Host.reduceAdd (shapeCast S1x1x512 y shapeCasts_S512_S1x1x512) (constant S_ .f32 0x00000000#32) reducesTo_S1x1x512_S512_d0_1 h_S_ : FVec Ideal S512 .f32) (ix1 c)).trans ?_
  · generalize (Host.reduceAdd (shapeCast S1x1x512 y shapeCasts_S512_S1x1x512) (constant S_ .f32 0x00000000#32) reducesTo_S1x1x512_S512_d0_1 h_S_ : FVec Ideal S512 .f32) = z
    pointwise
  · refine (total_at (shapeCast S1x1x512 y shapeCasts_S512_S1x1x512) (constant S_ .f32 0x00000000#32) (fun _ => Ideal.ofBits_zero_f32) reducesTo_S1x1x512_S512_d0_1 h_S_ c).trans ?_
    rw [Fin.sum_univ_one, Fin.sum_univ_one]
    pointwise

include hP hQ hW in
theorem scale_ref (g : Fin 4) (j : Fin 128) :
    (broadcastInDim S1x512 ![1] bcast_S512_S1x512_1 (Host.reduceAdd (shapeCast S1x1x512 (Host.reduceAdd (mulf (res_main_v120 V) (res_main_v5 V)) (constant S_ .f32 0x00000000#32) reducesTo_S2x2048x512_S512_d0_1 h_S_ : FVec Ideal S512 .f32) shapeCasts_S512_S1x1x512)
      (constant S_ .f32 0x00000000#32) reducesTo_S1x1x512_S512_d0_1 h_S_ : FVec Ideal S512 .f32)) (ix2 0 (col g j))
      = ((scaleR (rowsOf P 0) (gradsOf Q 0) W g.val j.val + scaleR (rowsOf P 1) (gradsOf Q 1) W g.val j.val : ℝ) : EReal) := by
  refine (total_twice _ (col g j)).trans ?_
  rw [Fin.sum_univ_two, EReal.coe_add]
  have hs : ∀ s : Fin 2, ∑ t : Fin 2048, _ = _ := fun s => (sum_products (fun t => mixed_ref hP hW s t g j) (fun t => grads_ref hQ s t (col g j))).trans
    (congrArg _ (show _ = scaleR (rowsOf P s.val) (gradsOf Q s.val) W g.val j.val from Finset.sum_congr rfl fun t _ => mul_comm _ _))
  exact congrArg₂ HAdd.hAdd (hs 0) (hs 1)

end Cert.Pool
end
-- ==== Proof.PoolGrad.lean ====
module

public import proofs.«01_k».proof.Proof.PoolRef
public import Idealize.ShloMosaic.Lib.KernelVsHost

@[expose] public section

set_option maxRecDepth 16384

noncomputable section

open Idealize.ShloMosaic Idealize.ShloMosaic.TcCoe Idealize.SL.Sem

namespace Cert.Pool

open Cert.Reference3Ideal Cert.Reference3Ideal.Value Cert.Reference3Ideal.Facts₀

/-! # The reference's gradient of the rows -/

/-- The gradient of a group's pooled rows. -/
def pooledGrad (Q : ℕ → ℕ → ℝ) (W : ℕ → ℕ → ℕ → ℝ) (S : ℕ → ℝ) (g s t k : ℕ) : ℝ := ∑ j : Fin 128, gradsOf Q s t (g * 128 + j.val) * S (g * 128 + j.val) * W g k j.val

/-- A group cut out of the four. -/
theorem cut_group {x : FVec Ideal S2x2048x4x128 .f32} {X : ℕ → ℕ → ℕ → ℕ → ℝ} (hx : ∀ (s : Fin 2) (t : Fin 2048) (g : Fin 4) (k : Fin 128), x (ix4 s t g k) = ((X g.val s.val t.val k.val : ℝ) : EReal))
    (o : ℕ) (ho : o < 4) (h : S2x2048x4x128.Slices ![0, 0, o, 0] S2x2048x1x128) (h') :
    Holds3 (X o) (shapeCast S2x2048x128 (extractStridedSlice S2x2048x1x128 ![0, 0, o, 0] x h) h' : FVec Ideal S2x2048x128 .f32) := by
  intro s t k
  pointwise
  exact hx s t ⟨o, ho⟩ k

/-- A group's rows over the windows' lengths. -/
theorem shares_ref {w : ℕ} (h0 : 0 < w) (hw : w < 2048) {X : ℕ → ℕ → ℕ → ℝ} {x : FVec Ideal S2x2048x128 .f32} (hx : Holds3 X x) :
    Holds3 (fun s t k => X s t k / rows w t) (Host.divf x (broadcastInDim S2x2048x128 ![0, 1, 2] bcast_S1x2048x1_S2x2048x128_0_1_2 (counts (BitVec.ofNat 32 w)))) := by
  intro s t k
  pointwise [counts_at hw]
  rw [hx s t k, Ideal.div_coe (rows_ne w t.val h0), ← EReal.coe_mul, mul_one_div]

/-- What each running sum's row gets: what its windows' last rows send and what their first rows take back. -/
theorem ends_ref {w : ℕ} (hw : w < 2048) {A : ℕ → ℕ → ℕ → ℝ} {a : FVec Ideal S2x2048x128 .f32} (ha : Holds3 A a) (h1) (h2) :
    Holds3 (fun s p k => (∑ r ∈ Finset.range 2048, if r + 1 - w = p then -A s r k else 0) + if p = 0 then 0 else A s (p - 1) k)
      (addf (Host.scatterAdd scatter_S2x2049x128_S2048x1_S2x2048x128_02_1_1_1 (broadcastInDim S2x2049x128 ![] bcast_S_S2x2049x128 (constant S_ .f32 0x00000000#32)) (places (BitVec.ofNat 32 w)) (Host.negf a))
        (pad S2x2049x128 ![0, 1, 0] ![0, 0, 0] ![0, 0, 0] a (constant S_ .f32 0x00000000#32) h1 h2)) := by
  intro s p k
  refine (congrArg₂ HAdd.hAdd (scatter_at hw (A := fun s r k => -A s r k) (fun _ _ _ => Ideal.ofBits_zero_f32) (fun s t k => ?_) s p k) ?_).trans (EReal.coe_add _ _).symm
  · exact (congrArg (fun z : EReal => -z) (ha s t k)).trans (EReal.coe_neg _).symm
  · pointwise
    by_cases hp : p.val = 0
    · rw [dif_neg (by omega), if_pos hp]
      rfl
    · rw [dif_pos (by omega), if_neg hp]
      exact ha s ⟨p.val - 1, by omega⟩ k

/-- A group's columns set among all of them. -/
theorem pad_at {n : ℕ} (o q : ℕ) (ho : o % 128 = 0) (x : FVec Ideal ⟨3, ![2, n, 128]⟩ .f32) (h1) (h2) (s : Fin 2) (p : Fin n) (g : Fin 4) (k : Fin 128) :
    pad ⟨3, ![2, n, 512]⟩ ![0, 0, o] ![0, 0, q] ![0, 0, 0] x (constant S_ .f32 0x00000000#32 : FVec Ideal S_ .f32) h1 h2 (ix3 s p (col g k)) = if g.val * 128 = o then x (ix3 s p k) else 0 := by
  split_ifs with h
  · refine pad_apply_of_inside _ _ _ x _ h1 h2 _ (ix3 s p k) fun a => ?_
    fin_cases a
    · show s.val = 0 + s.val * (0 + 1)
      omega
    · show p.val = 0 + p.val * (0 + 1)
      omega
    · show g.val * 128 + k.val = o + k.val * (0 + 1)
      omega
  · refine (pad_apply_of_not_inside _ _ _ x _ h1 h2 _ 2 fun hin => h ?_).trans Ideal.ofBits_zero_f32
    have e1 : o ≤ g.val * 128 + k.val := hin.1
    have e2 : (g.val * 128 + k.val - o) / (0 + 1) < 128 := hin.2.2
    rw [Nat.div_one] at e2
    omega

/-- The four groups side by side. -/
theorem four_at {n : ℕ} {X : ℕ → ℕ → ℕ → ℕ → ℝ} {x0 x1 x2 x3 : FVec Ideal ⟨3, ![2, n, 128]⟩ .f32} (e0 : Holds3 (X 0) x0) (e1 : Holds3 (X 1) x1) (e2 : Holds3 (X 2) x2) (e3 : Holds3 (X 3) x3)
    (a0) (a1) (a2) (a3) (b) (s : Fin 2) (p : Fin n) (g : Fin 4) (k : Fin 128) :
    addf (addf (addf (pad ⟨3, ![2, n, 512]⟩ ![0, 0, 384] ![0, 0, 0] ![0, 0, 0] x3 (constant S_ .f32 0x00000000#32 : FVec Ideal S_ .f32) a3 b)
      (pad ⟨3, ![2, n, 512]⟩ ![0, 0, 256] ![0, 0, 128] ![0, 0, 0] x2 (constant S_ .f32 0x00000000#32 : FVec Ideal S_ .f32) a2 b))
      (pad ⟨3, ![2, n, 512]⟩ ![0, 0, 128] ![0, 0, 256] ![0, 0, 0] x1 (constant S_ .f32 0x00000000#32 : FVec Ideal S_ .f32) a1 b))
      (pad ⟨3, ![2, n, 512]⟩ ![0, 0, 0] ![0, 0, 384] ![0, 0, 0] x0 (constant S_ .f32 0x00000000#32 : FVec Ideal S_ .f32) a0 b) (ix3 s p (col g k)) = ((X g.val s.val p.val k.val : ℝ) : EReal) := by
  show (pad _ _ _ _ x3 _ a3 b (ix3 s p (col g k)) + pad _ _ _ _ x2 _ a2 b (ix3 s p (col g k)) + pad _ _ _ _ x1 _ a1 b (ix3 s p (col g k)) + pad _ _ _ _ x0 _ a0 b (ix3 s p (col g k)) : EReal) = _
  rw [pad_at _ _ (by decide) x3, pad_at _ _ (by decide) x2, pad_at _ _ (by decide) x1, pad_at _ _ (by decide) x0, e0 s p k, e1 s p k, e2 s p k, e3 s p k]
  fin_cases g <;> simp

/-- What a group's running sums get. -/
def endsGrad (Q : ℕ → ℕ → ℝ) (W : ℕ → ℕ → ℕ → ℝ) (S : ℕ → ℝ) (g s p k : ℕ) : ℝ :=
  (∑ r ∈ Finset.range 2048, if r + 1 - 2 ^ (g + 1) = p then -(pooledGrad Q W S g s r k / rows (2 ^ (g + 1)) r) else 0)
    + if p = 0 then 0 else pooledGrad Q W S g s (p - 1) k / rows (2 ^ (g + 1)) (p - 1)

theorem endsGrad_sum (Q : ℕ → ℕ → ℝ) (W : ℕ → ℕ → ℕ → ℝ) (S : ℕ → ℝ) (g s t k : ℕ) (ht : t < 2048) :
    ∑ r ∈ Finset.Ico t 2048, endsGrad Q W S g s (r + 1) k = nextSum (2 ^ (g + 1)) (fun r => pooledGrad Q W S g s r k / rows (2 ^ (g + 1)) r) t := by
  rw [← nextSum_of_ends (2 ^ (g + 1)) (fun r => pooledGrad Q W S g s r k / rows (2 ^ (g + 1)) r) t (by positivity) ht]
  refine Finset.sum_congr rfl fun r _ => ?_
  unfold endsGrad
  rw [if_neg (Nat.succ_ne_zero r), Nat.add_sub_cancel, sub_eq_add_neg, ← Finset.sum_neg_distrib, add_comm]
  refine congrArg _ (Finset.sum_congr rfl fun q _ => ?_)
  split_ifs
  · rfl
  · exact neg_zero.symm

variable {V : Valuation τ sig (Elt Ideal)} {P Q : ℕ → ℕ → ℝ} {W : ℕ → ℕ → ℕ → ℝ} {S : ℕ → ℝ}
  (hQ : Holds (a := 4096) (b := 1024) (e := .bf16) Q (V (Proc.devRef .tc main_arg1)))
  (hW : ∀ (g : Fin 4) (k j : Fin 128), V (Proc.devRef .tc main_arg2) (ix4 0 g k j) = ((W g.val k.val j.val : ℝ) : EReal))
  (hS : ∀ j : Fin 512, V (Proc.devRef .tc main_arg3) (ix2 0 j) = ((S j.val : ℝ) : EReal))

include hQ hW hS in
theorem group_grad (o : ℕ) (ho : o < 4) (h : S2x2048x4x128.Slices ![0, 0, o, 0] S2x2048x1x128) (h') :
    Holds3 (pooledGrad Q W S o) (shapeCast S2x2048x128 (extractStridedSlice S2x2048x1x128 ![0, 0, o, 0] (res_main_v133 V : FVec Ideal S2x2048x4x128 .f32) h) h' : FVec Ideal S2x2048x128 .f32) :=
  cut_group (X := pooledGrad Q W S) (fun s t g k => back_ref hQ hW hS s t g k) o ho h h'

theorem ends_group {g w : ℕ} (hw : w = 2 ^ (g + 1)) (hg : g < 4) {x : FVec Ideal S2x2048x128 .f32} (hx : Holds3 (pooledGrad Q W S g) x) (h1) (h2) :
    Holds3 (endsGrad Q W S g)
      (addf (Host.scatterAdd scatter_S2x2049x128_S2048x1_S2x2048x128_02_1_1_1 (broadcastInDim S2x2049x128 ![] bcast_S_S2x2049x128 (constant S_ .f32 0x00000000#32)) (places (BitVec.ofNat 32 w)) (Host.negf (Host.divf x (broadcastInDim S2x2048x128 ![0, 1, 2] bcast_S1x2048x1_S2x2048x128_0_1_2 (counts (BitVec.ofNat 32 w))))))
        (pad S2x2049x128 ![0, 1, 0] ![0, 0, 0] ![0, 0, 0] (Host.divf x (broadcastInDim S2x2048x128 ![0, 1, 2] bcast_S1x2048x1_S2x2048x128_0_1_2 (counts (BitVec.ofNat 32 w)))) (constant S_ .f32 0x00000000#32) h1 h2)) := by
  have h0 : 0 < w := by rw [hw]; positivity
  have h3 : w < 2048 := by
    rw [hw]
    exact Nat.lt_of_le_of_lt (Nat.pow_le_pow_right (by decide) (show g + 1 ≤ 4 by omega)) (by decide)
  subst hw
  exact ends_ref h3 (shares_ref h0 h3 hx) h1 h2

include hQ hW hS in
theorem ends_at (s : Fin 2) (p : Fin 2049) (g : Fin 4) (k : Fin 128) : res_main_v189 V (ix3 s p (col g k)) = ((endsGrad Q W S g.val s.val p.val k.val : ℝ) : EReal) :=
  four_at (X := endsGrad Q W S) (ends_group (w := 2) rfl (by decide) (group_grad hQ hW hS 0 (by decide) _ _) _ _) (ends_group (w := 4) rfl (by decide) (group_grad hQ hW hS 1 (by decide) _ _) _ _)
    (ends_group (w := 8) rfl (by decide) (group_grad hQ hW hS 2 (by decide) _ _) _ _) (ends_group (w := 16) rfl (by decide) (group_grad hQ hW hS 3 (by decide) _ _) _ _) _ _ _ _ _ s p g k

theorem neg_holds {X : ℕ → ℕ → ℕ → ℝ} {x : FVec Ideal S2x2048x128 .f32} (hx : Holds3 X x) : Holds3 (fun s t k => -X s t k) (Host.negf x) :=
  fun s t k => (congrArg (fun z : EReal => -z) (hx s t k)).trans (EReal.coe_neg _).symm

/-- The gradient of the rows, entry by entry. -/
theorem back_sum {D E : ℕ → ℕ → ℕ → ℕ → ℝ} {x0 x1 x2 x3 : FVec Ideal S2x2048x128 .f32} {y : FVec Ideal S2x2049x512 .f32} (e0 : Holds3 (D 0) x0) (e1 : Holds3 (D 1) x1) (e2 : Holds3 (D 2) x2) (e3 : Holds3 (D 3) x3)
    (hy : ∀ (s : Fin 2) (p : Fin 2049) (g : Fin 4) (k : Fin 128), y (ix3 s p (col g k)) = ((E g.val s.val p.val k.val : ℝ) : EReal)) (a0) (a1) (a2) (a3) (b) (hs) (hr) (s : Fin 2) (t : Fin 2048) (g : Fin 4) (k : Fin 128) :
    (addf (addf (addf (addf (pad S2x2048x512 ![0, 0, 384] ![0, 0, 0] ![0, 0, 0] (Host.negf x3) (constant S_ .f32 0x00000000#32) a3 b) (pad S2x2048x512 ![0, 0, 256] ![0, 0, 128] ![0, 0, 0] (Host.negf x2) (constant S_ .f32 0x00000000#32) a2 b))
      (pad S2x2048x512 ![0, 0, 128] ![0, 0, 256] ![0, 0, 0] (Host.negf x1) (constant S_ .f32 0x00000000#32) a1 b)) (pad S2x2048x512 ![0, 0, 0] ![0, 0, 384] ![0, 0, 0] (Host.negf x0) (constant S_ .f32 0x00000000#32) a0 b))
      (Host.reduceWindowAdd ![1, 2048, 1] ![1, 1, 1] ![0, 0, 0] ![0, 2047, 0] (extractStridedSlice S2x2048x512 ![0, 1, 0] y hs) (broadcastInDim S_ ![] bcast_S_S_ (constant S_ .f32 0x00000000#32)) hr b) : FVec Ideal S2x2048x512 .f32) (ix3 s t (col g k))
      = ((-D g.val s.val t.val k.val + ∑ r ∈ Finset.Ico t.val 2048, E g.val s.val (r + 1) k.val : ℝ) : EReal) := by
  refine (congrArg₂ HAdd.hAdd (four_at (X := fun g s t k => -D g s t k) (neg_holds e0) (neg_holds e1) (neg_holds e2) (neg_holds e3) a0 a1 a2 a3 b s t g k) ?_).trans (EReal.coe_add _ _).symm
  have hx : Holds3 (a := 2) (b := 2048) (d := 512) (e := .f32) (fun s t c => E (c / 128) s (t + 1) (c % 128)) (extractStridedSlice S2x2048x512 ![0, 1, 0] y hs) := by
    intro s t c
    have h := hy s ⟨t.val + 1, by omega⟩ ⟨c.val / 128, by omega⟩ ⟨c.val % 128, by omega⟩
    rw [col_split] at h
    refine (congrArg y (funext fun a => Fin.ext ?_)).trans h
    fin_cases a
    · exact Nat.zero_add _
    · exact Nat.add_comm _ _
    · exact Nat.zero_add _
  refine (scan_at 0 2047 hx (broadcastInDim S_ ![] bcast_S_S_ (constant S_ .f32 0x00000000#32)) (fun _ => Ideal.ofBits_zero_f32) hr b s t (col g k)).trans (congrArg _ ?_)
  refine (rows_from (fun r => E ((g.val * 128 + k.val) / 128) s.val (r + 1) ((g.val * 128 + k.val) % 128)) t.val t.isLt).trans ?_
  rw [show (g.val * 128 + k.val) / 128 = g.val by omega, show (g.val * 128 + k.val) % 128 = k.val by omega]

/-- The gradient of the projection as the reference leaves it. -/
theorem slab_of {Q : ℕ → ℕ → ℝ} {W : ℕ → ℕ → ℕ → ℝ} {S : ℕ → ℝ} {x : FVec Ideal S2x2048x512 .f32} {y : FVec Ideal S4x4096x512 .bf16}
    (hx : ∀ (s : Fin 2) (t : Fin 2048) (g : Fin 4) (k : Fin 128), x (ix3 s t (col g k)) = ((rowsR (gradsOf Q s.val) W S g.val t.val k.val : ℝ) : EReal)) (h1) (h2) (h3) (h4) :
    (concatenate S4x4096x512 0 [⟨S3x4096x512, (extractStridedSlice S3x4096x512 ![0, 0, 0] y h1)⟩, ⟨S1x4096x512, (truncf .bf16 (shapeCast S1x4096x512 x h2) h3)⟩] h4 : FVec Ideal S4x4096x512 .bf16)
      = fun i : S4x4096x512.Idx => if (i 0).val / 1 = 3 then ((slab Q W S (i 1).val (i 2).val : ℝ) : EReal) else y i := by
  funext i
  idx_vars i
  pointwise
  by_cases h : i0.val < 3
  · rw [dif_pos h, if_neg (by omega)]
  · rw [dif_neg h, if_pos (by omega)]
    have e := hx ⟨i1.val / 2048, by omega⟩ ⟨i1.val % 2048, by omega⟩ ⟨i2.val / 128, by omega⟩ ⟨i2.val % 128, by omega⟩
    rw [col_split] at e
    exact e

include hQ hW hS in
theorem slab_ref (y : FVec Ideal S4x4096x512 .bf16) :
    (concatenate S4x4096x512 0 [⟨S3x4096x512, (extractStridedSlice S3x4096x512 ![0, 0, 0] y slices_S4x4096x512_S3x4096x512_0_0_0)⟩, ⟨S1x4096x512, (truncf .bf16 (shapeCast S1x4096x512 (addf (addf (addf (addf (pad S2x2048x512 ![0, 0, 384] ![0, 0, 0] ![0, 0, 0] (Host.negf (F := Ideal) (φ := .f32) (res_main_v143 V)) (constant S_ .f32 0x00000000#32) pads_S2x2048x128_S2x2048x512_000_000_38400 h_S_) (pad S2x2048x512 ![0, 0, 256] ![0, 0, 128] ![0, 0, 0] (Host.negf (F := Ideal) (φ := .f32) (res_main_v141 V)) (constant S_ .f32 0x00000000#32) pads_S2x2048x128_S2x2048x512_000_000_2561280 h_S_)) (pad S2x2048x512 ![0, 0, 128] ![0, 0, 256] ![0, 0, 0] (Host.negf (F := Ideal) (φ := .f32) (res_main_v139 V)) (constant S_ .f32 0x00000000#32) pads_S2x2048x128_S2x2048x512_000_000_1282560 h_S_)) (pad S2x2048x512 ![0, 0, 0] ![0, 0, 384] ![0, 0, 0] (Host.negf (F := Ideal) (φ := .f32) (res_main_v137 V)) (constant S_ .f32 0x00000000#32) pads_S2x2048x128_S2x2048x512_000_000_03840 h_S_)) (Host.reduceWindowAdd ![1, 2048, 1] ![1, 1, 1] ![0, 0, 0] ![0, 2047, 0] (extractStridedSlice S2x2048x512 ![0, 1, 0] (res_main_v189 V) slices_S2x2049x512_S2x2048x512_0_1_0) (broadcastInDim S_ ![] bcast_S_S_ (constant S_ .f32 0x00000000#32)) reduceWindows_S2x2048x512_S2x2048x512_w1s1p0_0_w2048s1p0_2047_w1s1p0_0 h_S_)) shapeCasts_S2x2048x512_S1x4096x512) bitsLt_bf16_f32)⟩] concatenates_S3x4096x512_S1x4096x512_S4x4096x512_d0 : FVec Ideal S4x4096x512 .bf16)
      = fun i : S4x4096x512.Idx => if (i 0).val / 1 = 3 then ((slab Q W S (i 1).val (i 2).val : ℝ) : EReal) else y i := by
  refine slab_of (fun s t g k => ?_) _ _ _ _
  refine (back_sum (D := pooledGrad Q W S) (group_grad hQ hW hS 0 (by decide) _ _) (group_grad hQ hW hS 1 (by decide) _ _) (group_grad hQ hW hS 2 (by decide) _ _) (group_grad hQ hW hS 3 (by decide) _ _)
    (ends_at hQ hW hS) _ _ _ _ _ _ _ s t g k).trans (congrArg _ ?_)
  rw [endsGrad_sum Q W S g.val s.val t.val k.val t.isLt]
  exact neg_add_eq_sub _ _

end Cert.Pool
end
-- ==== Proof.PoolEq.lean ====
module

public import proofs.«01_k».proof.Proof.PoolVal
public import proofs.«01_k».proof.Proof.PoolGrad
public import proofs.«01_k».proof.Proof.Equations
public import proofs.«01_k».proof.Pre_finite_pool

@[expose] public section

set_option maxRecDepth 16384

noncomputable section

open Idealize.ShloMosaic Idealize.ShloMosaic.TcCoe Idealize.SL.Sem
open Cert.Equations (IsReal real_of_abs_lt)

namespace Cert.Pool

/-! # Finite arguments, and the two programs' results side by side -/

theorem holds_of {a b : ℕ} {e : FTy} {x : FVec Ideal ⟨2, ![a, b]⟩ e} (h : ∀ i, IsReal (x i)) : ∃ X : ℕ → ℕ → ℝ, Holds X x := by
  choose f hf using h
  refine ⟨fun i j => if h : i < a ∧ j < b then f (ix2 ⟨i, h.1⟩ ⟨j, h.2⟩) else 0, fun i j => ?_⟩
  dsimp only
  rw [dif_pos ⟨i.isLt, j.isLt⟩]
  exact hf _

theorem mats_of {x : FVec Ideal ⟨4, ![1, 4, 128, 128]⟩ .f32} (h : ∀ i, IsReal (x i)) : ∃ W : ℕ → ℕ → ℕ → ℝ, ∀ (g : Fin 4) (k j : Fin 128), x (ix4 0 g k j) = ((W g.val k.val j.val : ℝ) : EReal) := by
  choose f hf using h
  refine ⟨fun g k j => if h : g < 4 ∧ k < 128 ∧ j < 128 then f (ix4 0 ⟨g, h.1⟩ ⟨k, h.2.1⟩ ⟨j, h.2.2⟩) else 0, fun g k j => ?_⟩
  dsimp only
  rw [dif_pos ⟨g.isLt, k.isLt, j.isLt⟩]
  exact hf _

theorem reals (hF : Cert.Pre_finite_pool.Facts) (x0 x1 x2 x3 x4)
    (h : Cert.Pre_finite_pool.fn (F := Ideal) x0 x1 x2 x3 x4 = fun _ => 1#1) :
    (∃ P : ℕ → ℕ → ℝ, Holds (a := 4096) (b := 2048) (e := .bf16) P x0) ∧ (∃ Q : ℕ → ℕ → ℝ, Holds (a := 4096) (b := 1024) (e := .bf16) Q x1)
      ∧ (∃ W : ℕ → ℕ → ℕ → ℝ, ∀ (g : Fin 4) (k j : Fin 128), x2 (ix4 0 g k j) = ((W g.val k.val j.val : ℝ) : EReal)) ∧ ∃ S : ℕ → ℝ, ∀ j : Fin 512, x3 (ix2 0 j) = ((S j.val : ℝ) : EReal) := by
  haveI : Subsingleton Cert.Pre_finite_pool.S_.Idx := ⟨fun a b => funext fun i => i.elim0⟩
  have h := congrFun h ((fun i => i.elim0 : Cert.Pre_finite_pool.S_.Idx))
  dsimp only [Cert.Pre_finite_pool.fn, Cert.Pre_finite_pool.fn_part1] at h
  have h2 : ∀ p q : BitVec 1, p &&& q = 1#1 → p = 1#1 ∧ q = 1#1 := by decide
  obtain ⟨h, e3⟩ := h2 _ _ h
  obtain ⟨h, e2⟩ := h2 _ _ h
  obtain ⟨e0, e1⟩ := h2 _ _ h
  refine ⟨holds_of fun i => real_of_abs_lt _ (Host.reduce_andi_all _ _ _ _ _ e0 i), holds_of fun i => real_of_abs_lt _ (Host.reduce_andi_all _ _ _ _ _ e1 i),
    mats_of fun i => real_of_abs_lt _ (Host.reduce_andi_all _ _ _ _ _ e2 i), ?_⟩
  obtain ⟨X, hX⟩ := holds_of (a := 1) (b := 512) (e := .f32) (x := x3) fun i => real_of_abs_lt _ (Host.reduce_andi_all _ _ _ _ _ e3 i)
  exact ⟨X 0, fun j => hX 0 j⟩

section Same

variable {P Q : ℕ → ℕ → ℝ} {W : ℕ → ℕ → ℕ → ℝ} {S : ℕ → ℝ}

section Kernel

open Cert.Kernel3Ideal Cert.Kernel3Ideal.Gen

variable (m : (ℓ : Loc nD τ sig) → Buf (Elt Ideal) ℓ) (c : Dev nD)

theorem entry_in : (dats m 0 c).A 4 = m ((c : Thread nD τ).loc main_arg4) := by
  rw [A_eq m c 4]
  funext i
  show StableHlo.after hostOps0 _ (Proc.devRef .tc main_v1_0) i = _
  entry_read
  rfl

/-- The array the kernel returns in place: its last slab is the gradient of the pooled rows. -/
theorem rows_out (hQ : Holds (a := 4096) (b := 1024) (e := .bf16) Q (m ((c : Thread nD τ).loc main_arg1)))
    (hW : ∀ (g : Fin 4) (k j : Fin 128), m ((c : Thread nD τ).loc main_arg2) (ix4 0 g k j) = ((W g.val k.val j.val : ℝ) : EReal))
    (hS : ∀ j : Fin 512, m ((c : Thread nD τ).loc main_arg3) (ix2 0 j) = ((S j.val : ℝ) : EReal)) :
    ((dats m 0 c).arrAt 4 cfg0.N : FVec Ideal S4x4096x512 .bf16) = fun i : S4x4096x512.Idx => if (i 0).val / 1 = 3 then ((slab Q W S (i 1).val (i 2).val : ℝ) : EReal) else (m ((c : Thread nD τ).loc main_arg4) : FVec Ideal S4x4096x512 .bf16) i := by
  have h := rows_array m c hQ hW hS
  rw [entry_in m c] at h
  exact h

end Kernel

open Cert.Reference3Ideal Cert.Reference3Ideal.Value Cert.Reference3Ideal.Facts₀

variable (V : Valuation τ sig (Elt Ideal))
  (hP : Holds (a := 4096) (b := 2048) (e := .bf16) P (V (Proc.devRef .tc main_arg0)))
  (hQ : Holds (a := 4096) (b := 1024) (e := .bf16) Q (V (Proc.devRef .tc main_arg1)))
  (hW : ∀ (g : Fin 4) (k j : Fin 128), V (Proc.devRef .tc main_arg2) (ix4 0 g k j) = ((W g.val k.val j.val : ℝ) : EReal))
  (hS : ∀ j : Fin 512, V (Proc.devRef .tc main_arg3) (ix2 0 j) = ((S j.val : ℝ) : EReal))
  (m : (ℓ : Loc Cert.Kernel3Ideal.nD Cert.Kernel3Ideal.τ Cert.Kernel3Ideal.sig) → Buf (Elt Ideal) ℓ) (c : Dev Cert.Kernel3Ideal.nD)
  (kP : Holds (a := 4096) (b := 2048) (e := .bf16) P (m ((c : Thread Cert.Kernel3Ideal.nD Cert.Kernel3Ideal.τ).loc Cert.Kernel3Ideal.main_arg0)))
  (kQ : Holds (a := 4096) (b := 1024) (e := .bf16) Q (m ((c : Thread Cert.Kernel3Ideal.nD Cert.Kernel3Ideal.τ).loc Cert.Kernel3Ideal.main_arg1)))
  (kW : ∀ (g : Fin 4) (k j : Fin 128), m ((c : Thread Cert.Kernel3Ideal.nD Cert.Kernel3Ideal.τ).loc Cert.Kernel3Ideal.main_arg2) (ix4 0 g k j) = ((W g.val k.val j.val : ℝ) : EReal))
  (kS : ∀ j : Fin 512, m ((c : Thread Cert.Kernel3Ideal.nD Cert.Kernel3Ideal.τ).loc Cert.Kernel3Ideal.main_arg3) (ix2 0 j) = ((S j.val : ℝ) : EReal))

include hP hQ hS kP kQ kS in
/-- The gradient of the pooling matrices is the same in both programs. -/
theorem weights_same (h) : (transpose S4x128x128 [0, 2, 1] (Host.dotGeneral (φ₁ := .f32) (φ₂ := .f32) dot_S4x128x2x2048_S2x2048x4x128_S4x128x128_23_01_1_3_0_2 none (res_main_v131 V) (res_main_v117 V)) h : FVec Ideal S4x128x128 .f32)
    = ((Cert.Kernel3Ideal.Gen.dats m 0 c).arrAt 5 Cert.Kernel3Ideal.cfg0.N : FVec Ideal S4x128x128 .f32) := by
  funext i
  idx_vars i
  exact (weights_ref hP hQ hS i0 i1 i2 h).trans (weights_array m c kP kQ kS i0 i1 i2).symm

include hP hQ hW kP kQ kW in
/-- The gradient of the pooling scale is the same in both programs. -/
theorem scale_same : (broadcastInDim S1x512 ![1] bcast_S512_S1x512_1 (Host.reduceAdd (shapeCast S1x1x512 (Host.reduceAdd (mulf (res_main_v120 V) (res_main_v5 V)) (constant S_ .f32 0x00000000#32) reducesTo_S2x2048x512_S512_d0_1 h_S_) shapeCasts_S512_S1x1x512) (constant S_ .f32 0x00000000#32) reducesTo_S1x1x512_S512_d0_1 h_S_) : FVec Ideal S1x512 .f32)
    = ((Cert.Kernel3Ideal.Gen.dats m 0 c).arrAt 6 Cert.Kernel3Ideal.cfg0.N : FVec Ideal S1x512 .f32) := by
  funext i
  idx_vars i
  obtain rfl : i0 = 0 := Subsingleton.elim _ _
  refine Eq.trans ?_ (scale_array m c kP kQ kW i1).symm
  have h := scale_ref hP hQ hW ⟨i1.val / 128, by have := i1.isLt; omega⟩ ⟨i1.val % 128, by omega⟩
  rw [col_split i1] at h
  exact h

end Same

end Cert.Pool
end
-- ==== Proof.PreBody.lean ====
module

public import proofs.«01_k».proof.Proof.Gen.Kernel4Ideal.Skeleton
public import proofs.«01_k».proof.Proof.Gen.Kernel4Ideal.Points
public import Idealize.ShloMosaic.Lib.Claim

@[expose] public section

set_option maxRecDepth 16384

noncomputable section

namespace Cert.Kernel4Ideal.Pre

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel4Ideal.Gen

variable {F : FTy → Type} [FloatOps F]

local notation "𝕄" => MT nD τ sig Unit (Elt F) ℕ (UR sig nD τ) ℕ

/-- The buffers the kernel's body is called on. -/
structure Bufs where
  a1 : Memref sig .tc .vmem S4x512x512 .bf16
  h1 : a1.IsWhole
  a2 : Memref sig .tc .vmem S4x512x1024 .bf16
  h2 : a2.IsWhole
  a3 : Memref sig .tc .vmem S512x1024 .f32
  h3 : a3.IsWhole
  a4 : Memref sig .tc .vmem S512x1024 .f32
  h4 : a4.IsWhole
  a5 : Memref sig .tc .vmem S1x1024 .f32
  h5 : a5.IsWhole
  a6 : Memref sig .tc .vmem S1x6x1024 .f32
  h6 : a6.IsWhole
  a7 : Memref sig .tc .vmem S512x1024 .f32
  h7 : a7.IsWhole
  a8 : Memref sig .tc .vmem S1x1x1024 .f32
  h8 : a8.IsWhole
  a9 : Memref sig .tc .vmem S1x1x1024 .f32
  h9 : a9.IsWhole
  a10 : Memref sig .tc .vmem S1x1024 .f32
  h10 : a10.IsWhole
  a11 : Memref sig .tc .vmem S512x1024 .f32
  h11 : a11.IsWhole

abbrev Bufs.body (B : Bufs) (i : grid0.Coords) : Prog (TpuEff nD τ sig (Elt F) Λ₀ .tc) PUnit :=
  cc0_dh1_bwd_pre i B.a1 B.h1 B.a2 B.h2 B.a3 B.h3 B.a4 B.h4 B.a5 B.h5 B.a6 B.h6 B.a7 B.h7 B.a8 B.h8 B.a9 B.h9 B.a10 B.h10 B.a11 B.h11

abbrev atFirst (i : grid0.Coords) : BitVec 1 := Scalar.cmpi .ne (Scalar.extui (Scalar.cmpi .eq (BitVec.ofNat 32 (i 0).val) 0#32) : BitVec 32) 0#32

section Body

variable (c : Dev nD) (i : grid0.Coords) (B : Bufs)
  (y1 : Vec F S4x512x512 .bf16) (y2 : Vec F S4x512x1024 .bf16) (y3 y4 : Vec F S512x1024 .f32) (y5 : Vec F S1x1024 .f32) (y6 : Vec F S1x6x1024 .f32)
  (y8 y9 : Vec F S1x1x1024 .f32) (y10 : Vec F S1x1024 .f32) (y11 : Vec F S512x1024 .f32)

/-- The first point: the product of the first tile is kept, nothing else is touched. -/
def head (h1 : atFirst i = 1#1) (h2 : ¬ k0_cond2 i = 1#1) (h9 : ¬ k0_cond9 i = 1#1) :
    { L11 : List (View.Piece (Elt F) S512x1024 .f32) // ∀ (K : PUnit → sProp 𝕄),
    iprop(owns (c : Thread nD τ) B.a1 fullShare y1 ∗ owns (c : Thread nD τ) B.a2 fullShare y2 ∗ (∃ d, owns (c : Thread nD τ) B.a11 fullShare d)
        ∗ (iprop(owns (c : Thread nD τ) B.a1 fullShare y1 ∗ owns (c : Thread nD τ) B.a2 fullShare y2
        ∗ (∃ f, B.a11.view.loc (c : Thread nD τ) ↦[B.a11.view.set]{fullShare} B.a11.view.writes (Elt F) f L11)) -∗ K ⟨⟩))
      ⊢ wp frame (wpE (defs₀ (F := F)) Variants.none c none) Set.univ (B.body i) K } := by
  refine ⟨?_, fun K => ?run⟩
  case run =>
    unfold Bufs.body
    simp only [cc0_dh1_bwd_pre_eq_skeleton]; unfold cc0_dh1_bwd_pre_skel
    unfold owns
    iintro ⟨⟨%f1, %hf1, H1⟩, ⟨%f2, %hf2, H2⟩, ⟨%d11, %f11, -, H11⟩, Hk⟩
    obtain rfl := B.h1.eq_unread hf1; obtain rfl := B.h2.eq_unread hf2
    sl_exec
    sl_step
    iapply Hk
    isplitl [H1]
    · iexists _; isplitr; · ipureintro; exact B.h1.read_unread _
      iexact H1
    isplitl [H2]
    · iexists _; isplitr; · ipureintro; exact B.h2.read_unread _
      iexact H2
    iexists _; iexact H11

/-- The six inputs at their contents. -/
def Held : sProp 𝕄 :=
  iprop(owns (c : Thread nD τ) B.a1 fullShare y1 ∗ owns (c : Thread nD τ) B.a2 fullShare y2 ∗ owns (c : Thread nD τ) B.a3 fullShare y3
    ∗ owns (c : Thread nD τ) B.a4 fullShare y4 ∗ owns (c : Thread nD τ) B.a5 fullShare y5 ∗ owns (c : Thread nD τ) B.a6 fullShare y6)

abbrev Known8 : sProp 𝕄 := owns (c : Thread nD τ) B.a8 fullShare y8
abbrev Known9 : sProp 𝕄 := owns (c : Thread nD τ) B.a9 fullShare y9
abbrev Known10 : sProp 𝕄 := owns (c : Thread nD τ) B.a10 fullShare y10
abbrev Any8 : sProp 𝕄 := iprop(∃ d, owns (c : Thread nD τ) B.a8 fullShare d)
abbrev Any9 : sProp 𝕄 := iprop(∃ d, owns (c : Thread nD τ) B.a9 fullShare d)
abbrev Any10 : sProp 𝕄 := iprop(∃ d, owns (c : Thread nD τ) B.a10 fullShare d)

/-- A point after the first: the rows of the tile before are finished from the kept product, the three sums taken on from
    what they hold, and the next product (if any) is kept. -/
abbrev Turn (P8 P9 P10 : sProp 𝕄) : Type _ :=
  Σ' (L7 : List (View.Piece (Elt F) S512x1024 .f32)) (L8 L9 : List (View.Piece (Elt F) S1x1x1024 .f32)) (L10 : List (View.Piece (Elt F) S1x1024 .f32)),
    { L11 : List (View.Piece (Elt F) S512x1024 .f32) // ∀ (K : PUnit → sProp 𝕄),
    iprop(Held c B y1 y2 y3 y4 y5 y6 ∗ (∃ d, owns (c : Thread nD τ) B.a7 fullShare d) ∗ P8 ∗ P9 ∗ P10 ∗ owns (c : Thread nD τ) B.a11 fullShare y11
        ∗ (iprop(Held c B y1 y2 y3 y4 y5 y6
        ∗ (∃ f, B.a7.view.loc (c : Thread nD τ) ↦[B.a7.view.set]{fullShare} B.a7.view.writes (Elt F) f L7)
        ∗ (∃ f, B.a8.view.loc (c : Thread nD τ) ↦[B.a8.view.set]{fullShare} B.a8.view.writes (Elt F) f L8)
        ∗ (∃ f, B.a9.view.loc (c : Thread nD τ) ↦[B.a9.view.set]{fullShare} B.a9.view.writes (Elt F) f L9)
        ∗ (∃ f, B.a10.view.loc (c : Thread nD τ) ↦[B.a10.view.set]{fullShare} B.a10.view.writes (Elt F) f L10)
        ∗ (∃ f, B.a11.view.loc (c : Thread nD τ) ↦[B.a11.view.set]{fullShare} B.a11.view.writes (Elt F) f L11)) -∗ K ⟨⟩))
      ⊢ wp frame (wpE (defs₀ (F := F)) Variants.none c none) Set.univ (B.body i) K }

abbrev Inner : Prop := ¬ atFirst i = 1#1 ∧ k0_cond2 i = 1#1 ∧ ¬ k0_cond9 i = 1#1
abbrev Last : Prop := ¬ atFirst i = 1#1 ∧ ¬ k0_cond2 i = 1#1 ∧ k0_cond9 i = 1#1
abbrev Opens : Prop := k0_cond3 i = 1#1 ∧ ¬ k0_cond4 i = 1#1 ∧ k0_cond5 i = 1#1 ∧ ¬ k0_cond6 i = 1#1
abbrev Stays : Prop := ¬ k0_cond3 i = 1#1 ∧ k0_cond4 i = 1#1 ∧ ¬ k0_cond5 i = 1#1 ∧ k0_cond6 i = 1#1
abbrev Starts : Prop := k0_cond7 i = 1#1 ∧ ¬ k0_cond8 i = 1#1
abbrev Runs : Prop := ¬ k0_cond7 i = 1#1 ∧ k0_cond8 i = 1#1

set_option maxHeartbeats 1000000 in
/-- The second point: all sums begin. -/
def turnFirst (h : Inner i) (hs : Opens i) (hf : Starts i) : Turn (F := F) c i B y1 y2 y3 y4 y5 y6 y11 (Any8 c B) (Any9 c B) (Any10 c B) := by
  refine ⟨?_, ?_, ?_, ?_, ?_, fun K => ?run⟩
  case run =>
    obtain ⟨g1, g2, g9⟩ := h
    obtain ⟨e3, e4, e5, e6⟩ := hs
    obtain ⟨e7, e8⟩ := hf
    unfold Bufs.body
    simp only [cc0_dh1_bwd_pre_eq_skeleton]; unfold cc0_dh1_bwd_pre_skel
    unfold Held Any8 Any9 Any10 owns
    iintro ⟨⟨⟨%f1, %hf1, H1⟩, ⟨%f2, %hf2, H2⟩, ⟨%f3, %hf3, H3⟩, ⟨%f4, %hf4, H4⟩, ⟨%f5, %hf5, H5⟩, ⟨%f6, %hf6, H6⟩⟩,
      ⟨%d7, %f7, -, H7⟩, ⟨%d8, %f8, -, H8⟩, ⟨%d9, %f9, -, H9⟩, ⟨%d10, %f10, -, H10⟩, ⟨%f11, %hf11, H11⟩, Hk⟩
    obtain rfl := B.h1.eq_unread hf1; obtain rfl := B.h2.eq_unread hf2; obtain rfl := B.h3.eq_unread hf3
    obtain rfl := B.h4.eq_unread hf4; obtain rfl := B.h5.eq_unread hf5; obtain rfl := B.h6.eq_unread hf6
    obtain rfl := B.h11.eq_unread hf11
    sl_exec
    sl_step
    iapply Hk
    isplitl [H1 H2 H3 H4 H5 H6]
    · isplitl [H1]; · iexists _; isplitr; · ipureintro; exact B.h1.read_unread _
                      iexact H1
      isplitl [H2]; · iexists _; isplitr; · ipureintro; exact B.h2.read_unread _
                      iexact H2
      isplitl [H3]; · iexists _; isplitr; · ipureintro; exact B.h3.read_unread _
                      iexact H3
      isplitl [H4]; · iexists _; isplitr; · ipureintro; exact B.h4.read_unread _
                      iexact H4
      isplitl [H5]; · iexists _; isplitr; · ipureintro; exact B.h5.read_unread _
                      iexact H5
      iexists _; isplitr; · ipureintro; exact B.h6.read_unread _
      iexact H6
    isplitl [H7]; · iexists _; iexact H7
    isplitl [H8]; · iexists _; iexact H8
    isplitl [H9]; · iexists _; iexact H9
    isplitl [H10]; · iexists _; iexact H10
    iexists _; iexact H11

set_option maxHeartbeats 1000000 in
/-- The first point of the second sequence: its own sums begin. -/
def turnOpen (h : Inner i) (hs : Opens i) (hf : Runs i) : Turn (F := F) c i B y1 y2 y3 y4 y5 y6 y11 (Any8 c B) (Any9 c B) (Known10 c B y10) := by
  refine ⟨?_, ?_, ?_, ?_, ?_, fun K => ?run⟩
  case run =>
    obtain ⟨g1, g2, g9⟩ := h
    obtain ⟨e3, e4, e5, e6⟩ := hs
    obtain ⟨e7, e8⟩ := hf
    unfold Bufs.body
    simp only [cc0_dh1_bwd_pre_eq_skeleton]; unfold cc0_dh1_bwd_pre_skel
    unfold Held Any8 Any9 Known10 owns
    iintro ⟨⟨⟨%f1, %hf1, H1⟩, ⟨%f2, %hf2, H2⟩, ⟨%f3, %hf3, H3⟩, ⟨%f4, %hf4, H4⟩, ⟨%f5, %hf5, H5⟩, ⟨%f6, %hf6, H6⟩⟩,
      ⟨%d7, %f7, -, H7⟩, ⟨%d8, %f8, -, H8⟩, ⟨%d9, %f9, -, H9⟩, ⟨%f10, %hf10, H10⟩, ⟨%f11, %hf11, H11⟩, Hk⟩
    obtain rfl := B.h1.eq_unread hf1; obtain rfl := B.h2.eq_unread hf2; obtain rfl := B.h3.eq_unread hf3
    obtain rfl := B.h4.eq_unread hf4; obtain rfl := B.h5.eq_unread hf5; obtain rfl := B.h6.eq_unread hf6
    obtain rfl := B.h10.eq_unread hf10
    obtain rfl := B.h11.eq_unread hf11
    sl_exec
    sl_step
    iapply Hk
    isplitl [H1 H2 H3 H4 H5 H6]
    · isplitl [H1]; · iexists _; isplitr; · ipureintro; exact B.h1.read_unread _
                      iexact H1
      isplitl [H2]; · iexists _; isplitr; · ipureintro; exact B.h2.read_unread _
                      iexact H2
      isplitl [H3]; · iexists _; isplitr; · ipureintro; exact B.h3.read_unread _
                      iexact H3
      isplitl [H4]; · iexists _; isplitr; · ipureintro; exact B.h4.read_unread _
                      iexact H4
      isplitl [H5]; · iexists _; isplitr; · ipureintro; exact B.h5.read_unread _
                      iexact H5
      iexists _; isplitr; · ipureintro; exact B.h6.read_unread _
      iexact H6
    isplitl [H7]; · iexists _; iexact H7
    isplitl [H8]; · iexists _; iexact H8
    isplitl [H9]; · iexists _; iexact H9
    isplitl [H10]; · iexists _; iexact H10
    iexists _; iexact H11

set_option maxHeartbeats 1000000 in
/-- A point within a sequence: every sum goes on. -/
def turnOn (h : Inner i) (hs : Stays i) (hf : Runs i) : Turn (F := F) c i B y1 y2 y3 y4 y5 y6 y11 (Known8 c B y8) (Known9 c B y9) (Known10 c B y10) := by
  refine ⟨?_, ?_, ?_, ?_, ?_, fun K => ?run⟩
  case run =>
    obtain ⟨g1, g2, g9⟩ := h
    obtain ⟨e3, e4, e5, e6⟩ := hs
    obtain ⟨e7, e8⟩ := hf
    unfold Bufs.body
    simp only [cc0_dh1_bwd_pre_eq_skeleton]; unfold cc0_dh1_bwd_pre_skel
    unfold Held Known8 Known9 Known10 owns
    iintro ⟨⟨⟨%f1, %hf1, H1⟩, ⟨%f2, %hf2, H2⟩, ⟨%f3, %hf3, H3⟩, ⟨%f4, %hf4, H4⟩, ⟨%f5, %hf5, H5⟩, ⟨%f6, %hf6, H6⟩⟩,
      ⟨%d7, %f7, -, H7⟩, ⟨%f8, %hf8, H8⟩, ⟨%f9, %hf9, H9⟩, ⟨%f10, %hf10, H10⟩, ⟨%f11, %hf11, H11⟩, Hk⟩
    obtain rfl := B.h1.eq_unread hf1; obtain rfl := B.h2.eq_unread hf2; obtain rfl := B.h3.eq_unread hf3
    obtain rfl := B.h4.eq_unread hf4; obtain rfl := B.h5.eq_unread hf5; obtain rfl := B.h6.eq_unread hf6
    obtain rfl := B.h8.eq_unread hf8; obtain rfl := B.h9.eq_unread hf9; obtain rfl := B.h10.eq_unread hf10
    obtain rfl := B.h11.eq_unread hf11
    sl_exec
    sl_step
    iapply Hk
    isplitl [H1 H2 H3 H4 H5 H6]
    · isplitl [H1]; · iexists _; isplitr; · ipureintro; exact B.h1.read_unread _
                      iexact H1
      isplitl [H2]; · iexists _; isplitr; · ipureintro; exact B.h2.read_unread _
                      iexact H2
      isplitl [H3]; · iexists _; isplitr; · ipureintro; exact B.h3.read_unread _
                      iexact H3
      isplitl [H4]; · iexists _; isplitr; · ipureintro; exact B.h4.read_unread _
                      iexact H4
      isplitl [H5]; · iexists _; isplitr; · ipureintro; exact B.h5.read_unread _
                      iexact H5
      iexists _; isplitr; · ipureintro; exact B.h6.read_unread _
      iexact H6
    isplitl [H7]; · iexists _; iexact H7
    isplitl [H8]; · iexists _; iexact H8
    isplitl [H9]; · iexists _; iexact H9
    isplitl [H10]; · iexists _; iexact H10
    iexists _; iexact H11

/-- The last point as `Turn`, the kept product left as it is. -/
abbrev EndTurn : Type _ :=
  Σ' (L7 : List (View.Piece (Elt F) S512x1024 .f32)) (L8 L9 : List (View.Piece (Elt F) S1x1x1024 .f32)),
    { L10 : List (View.Piece (Elt F) S1x1024 .f32) // ∀ (K : PUnit → sProp 𝕄),
    iprop(Held c B y1 y2 y3 y4 y5 y6 ∗ (∃ d, owns (c : Thread nD τ) B.a7 fullShare d) ∗ owns (c : Thread nD τ) B.a8 fullShare y8
        ∗ owns (c : Thread nD τ) B.a9 fullShare y9 ∗ owns (c : Thread nD τ) B.a10 fullShare y10 ∗ owns (c : Thread nD τ) B.a11 fullShare y11
        ∗ (iprop(Held c B y1 y2 y3 y4 y5 y6
        ∗ (∃ f, B.a7.view.loc (c : Thread nD τ) ↦[B.a7.view.set]{fullShare} B.a7.view.writes (Elt F) f L7)
        ∗ (∃ f, B.a8.view.loc (c : Thread nD τ) ↦[B.a8.view.set]{fullShare} B.a8.view.writes (Elt F) f L8)
        ∗ (∃ f, B.a9.view.loc (c : Thread nD τ) ↦[B.a9.view.set]{fullShare} B.a9.view.writes (Elt F) f L9)
        ∗ (∃ f, B.a10.view.loc (c : Thread nD τ) ↦[B.a10.view.set]{fullShare} B.a10.view.writes (Elt F) f L10)
        ∗ owns (c : Thread nD τ) B.a11 fullShare y11) -∗ K ⟨⟩))
      ⊢ wp frame (wpE (defs₀ (F := F)) Variants.none c none) Set.univ (B.body i) K }

set_option maxHeartbeats 1000000 in
/-- The last point: every sum goes on, and no product is kept. -/
def turnLast (h : Last i) (hs : ¬ k0_cond10 i = 1#1 ∧ k0_cond11 i = 1#1 ∧ ¬ k0_cond12 i = 1#1 ∧ k0_cond13 i = 1#1)
    (hf : ¬ k0_cond14 i = 1#1 ∧ k0_cond15 i = 1#1) : EndTurn (F := F) c i B y1 y2 y3 y4 y5 y6 y8 y9 y10 y11 := by
  refine ⟨?_, ?_, ?_, ?_, fun K => ?run⟩
  case run =>
    obtain ⟨g1, g2, g9⟩ := h
    obtain ⟨e3, e4, e5, e6⟩ := hs
    obtain ⟨e7, e8⟩ := hf
    unfold Bufs.body
    simp only [cc0_dh1_bwd_pre_eq_skeleton]; unfold cc0_dh1_bwd_pre_skel
    unfold Held owns
    iintro ⟨⟨⟨%f1, %hf1, H1⟩, ⟨%f2, %hf2, H2⟩, ⟨%f3, %hf3, H3⟩, ⟨%f4, %hf4, H4⟩, ⟨%f5, %hf5, H5⟩, ⟨%f6, %hf6, H6⟩⟩,
      ⟨%d7, %f7, -, H7⟩, ⟨%f8, %hf8, H8⟩, ⟨%f9, %hf9, H9⟩, ⟨%f10, %hf10, H10⟩, ⟨%f11, %hf11, H11⟩, Hk⟩
    obtain rfl := B.h1.eq_unread hf1; obtain rfl := B.h2.eq_unread hf2; obtain rfl := B.h3.eq_unread hf3
    obtain rfl := B.h4.eq_unread hf4; obtain rfl := B.h5.eq_unread hf5; obtain rfl := B.h6.eq_unread hf6
    obtain rfl := B.h8.eq_unread hf8; obtain rfl := B.h9.eq_unread hf9; obtain rfl := B.h10.eq_unread hf10
    obtain rfl := B.h11.eq_unread hf11
    sl_exec
    sl_step
    iapply Hk
    isplitl [H1 H2 H3 H4 H5 H6]
    · isplitl [H1]; · iexists _; isplitr; · ipureintro; exact B.h1.read_unread _
                      iexact H1
      isplitl [H2]; · iexists _; isplitr; · ipureintro; exact B.h2.read_unread _
                      iexact H2
      isplitl [H3]; · iexists _; isplitr; · ipureintro; exact B.h3.read_unread _
                      iexact H3
      isplitl [H4]; · iexists _; isplitr; · ipureintro; exact B.h4.read_unread _
                      iexact H4
      isplitl [H5]; · iexists _; isplitr; · ipureintro; exact B.h5.read_unread _
                      iexact H5
      iexists _; isplitr; · ipureintro; exact B.h6.read_unread _
      iexact H6
    isplitl [H7]; · iexists _; iexact H7
    isplitl [H8]; · iexists _; iexact H8
    isplitl [H9]; · iexists _; iexact H9
    isplitl [H10]; · iexists _; iexact H10
    iexists _; isplitr; · ipureintro; exact B.h11.read_unread _
    iexact H11

end Body

end Cert.Kernel4Ideal.Pre
end
-- ==== Proof.PreRun.lean ====
module

public import proofs.«01_k».proof.Proof.PreBody
public import proofs.«01_k».proof.Proof.Gen.Kernel4Ideal.Launch
public import Idealize.ShloMosaic.Lib.Pipeline.FrameBody
public import Idealize.ShloMosaic.Lib.Pipeline.TableIdle
public import Idealize.ShloMosaic.Lib.Ring

@[expose] public section

set_option maxRecDepth 16384

noncomputable section

namespace Cert.Kernel4Ideal.Pre

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.Kernel4Ideal.Gen

variable {F : FTy → Type} [FloatOps F]

local notation "𝕄" => MT nD τ sig Unit (Elt F) ℕ (UR sig nD τ) ℕ

/-- The buffers point `t` is run on. -/
abbrev bufs (t : Fin cfg0.N) : Bufs :=
  ⟨win0_0.stage (cfg0.slots t 0), hstage0_0 ((cfg0.slots t 0).cast nbuf0_0), win0_1.stage (cfg0.slots t 1), hstage0_1 ((cfg0.slots t 1).cast nbuf0_1), win0_2.stage (cfg0.slots t 2), hstage0_2 ((cfg0.slots t 2).cast nbuf0_2), win0_3.stage (cfg0.slots t 3), hstage0_3 ((cfg0.slots t 3).cast nbuf0_3), win0_4.stage (cfg0.slots t 4), hstage0_4 ((cfg0.slots t 4).cast nbuf0_4), win0_5.stage (cfg0.slots t 5), hstage0_5 ((cfg0.slots t 5).cast nbuf0_5), win0_6.stage (cfg0.slots t 6), hstage0_6 ((cfg0.slots t 6).cast nbuf0_6), win0_7.stage (cfg0.slots t 7), hstage0_7 ((cfg0.slots t 7).cast nbuf0_7), win0_8.stage (cfg0.slots t 8), hstage0_8 ((cfg0.slots t 8).cast nbuf0_8), win0_9.stage (cfg0.slots t 9), hstage0_9 ((cfg0.slots t 9).cast nbuf0_9), Memref.whole cc0_scratch0, Memref.isWhole_whole _⟩

theorem first_conds : ∀ t : Fin cfg0.N, t.val = 1 → Inner (grid0.coords t) ∧ Opens (grid0.coords t) ∧ Starts (grid0.coords t) :=
  (by decide +kernel : ∀ t : Fin grid0.N, t.val = 1 → Inner (grid0.coords t) ∧ Opens (grid0.coords t) ∧ Starts (grid0.coords t))
theorem open_conds : ∀ t : Fin cfg0.N, t.val = 5 → Inner (grid0.coords t) ∧ Opens (grid0.coords t) ∧ Runs (grid0.coords t) :=
  (by decide +kernel : ∀ t : Fin grid0.N, t.val = 5 → Inner (grid0.coords t) ∧ Opens (grid0.coords t) ∧ Runs (grid0.coords t))
theorem on_conds : ∀ t : Fin cfg0.N, t.val ≠ 0 → t.val ≠ 1 → t.val ≠ 5 → t.val ≠ 8 → Inner (grid0.coords t) ∧ Stays (grid0.coords t) ∧ Runs (grid0.coords t) :=
  (by decide +kernel : ∀ t : Fin grid0.N, t.val ≠ 0 → t.val ≠ 1 → t.val ≠ 5 → t.val ≠ 8 → Inner (grid0.coords t) ∧ Stays (grid0.coords t) ∧ Runs (grid0.coords t))
theorem last_conds : ∀ t : Fin cfg0.N, t.val = 8 → Last (grid0.coords t)
    ∧ (¬ k0_cond10 (grid0.coords t) = 1#1 ∧ k0_cond11 (grid0.coords t) = 1#1 ∧ ¬ k0_cond12 (grid0.coords t) = 1#1 ∧ k0_cond13 (grid0.coords t) = 1#1)
    ∧ (¬ k0_cond14 (grid0.coords t) = 1#1 ∧ k0_cond15 (grid0.coords t) = 1#1) :=
  (by decide +kernel : ∀ t : Fin grid0.N, t.val = 8 → Last (grid0.coords t)
    ∧ (¬ k0_cond10 (grid0.coords t) = 1#1 ∧ k0_cond11 (grid0.coords t) = 1#1 ∧ ¬ k0_cond12 (grid0.coords t) = 1#1 ∧ k0_cond13 (grid0.coords t) = 1#1)
    ∧ (¬ k0_cond14 (grid0.coords t) = 1#1 ∧ k0_cond15 (grid0.coords t) = 1#1))
theorem head_conds : ∀ t : Fin cfg0.N, t.val = 0 → atFirst (grid0.coords t) = 1#1 ∧ ¬ k0_cond2 (grid0.coords t) = 1#1 ∧ ¬ k0_cond9 (grid0.coords t) = 1#1 :=
  (by decide +kernel : ∀ t : Fin grid0.N, t.val = 0 → atFirst (grid0.coords t) = 1#1 ∧ ¬ k0_cond2 (grid0.coords t) = 1#1 ∧ ¬ k0_cond9 (grid0.coords t) = 1#1)

/-- What the kernel's buffers hold between two points: the three sums, the tile just finished, the product kept for the next. -/
structure Kept (F : FTy → Type) [FloatOps F] where
  s7 : Vec F S512x1024 .f32
  s8 : Vec F S1x1x1024 .f32
  s9 : Vec F S1x1x1024 .f32
  s10 : Vec F S1x1024 .f32
  s11 : Vec F S512x1024 .f32

section Steps

variable (c : Dev nD) (t : Fin cfg0.N)
  (y1 : Vec F S4x512x512 .bf16) (y2 : Vec F S4x512x1024 .bf16) (y3 y4 : Vec F S512x1024 .f32) (y5 : Vec F S1x1024 .f32) (y6 : Vec F S1x6x1024 .f32) (k : Kept F)

abbrev headAt (h : t.val = 0) := head (F := F) c (grid0.coords t) (bufs t) y1 y2 (head_conds t h).1 (head_conds t h).2.1 (head_conds t h).2.2
abbrev firstAt (h : t.val = 1) := turnFirst (F := F) c (grid0.coords t) (bufs t) y1 y2 y3 y4 y5 y6 k.s11 (first_conds t h).1 (first_conds t h).2.1 (first_conds t h).2.2
abbrev openAt (h : t.val = 5) := turnOpen (F := F) c (grid0.coords t) (bufs t) y1 y2 y3 y4 y5 y6 k.s10 k.s11 (open_conds t h).1 (open_conds t h).2.1 (open_conds t h).2.2
abbrev onAt (h0 : t.val ≠ 0) (h1 : t.val ≠ 1) (h5 : t.val ≠ 5) (h8 : t.val ≠ 8) :=
  turnOn (F := F) c (grid0.coords t) (bufs t) y1 y2 y3 y4 y5 y6 k.s8 k.s9 k.s10 k.s11 (on_conds t h0 h1 h5 h8).1 (on_conds t h0 h1 h5 h8).2.1 (on_conds t h0 h1 h5 h8).2.2
abbrev lastAt (h : t.val = 8) := turnLast (F := F) c (grid0.coords t) (bufs t) y1 y2 y3 y4 y5 y6 k.s8 k.s9 k.s10 k.s11 (last_conds t h).1 (last_conds t h).2.1 (last_conds t h).2.2

/-- What a turn leaves, read off what it writes. -/
abbrev ofTurn {i : grid0.Coords} {B : Bufs} {y11 : Vec F S512x1024 .f32} {P8 P9 P10 : sProp 𝕄} (T : Turn (F := F) c i B y1 y2 y3 y4 y5 y6 y11 P8 P9 P10) : Kept F :=
  ⟨View.canon T.1, View.canon T.2.1, View.canon T.2.2.1, View.canon T.2.2.2.1, View.canon T.2.2.2.2.1⟩

/-- What the last point leaves. -/
abbrev ofLast {i : grid0.Coords} {B : Bufs} (y8 y9 : Vec F S1x1x1024 .f32) (y10 : Vec F S1x1024 .f32) (y11 : Vec F S512x1024 .f32)
    (T : EndTurn (F := F) c i B y1 y2 y3 y4 y5 y6 y8 y9 y10 y11) : Kept F :=
  ⟨View.canon T.1, View.canon T.2.1, View.canon T.2.2.1, View.canon T.2.2.2.1, y11⟩

/-- What point `t` leaves, from what the point before left. -/
def step : Kept F :=
  if h0 : t.val = 0 then ⟨k.s7, k.s8, k.s9, k.s10, View.canon (headAt c t y1 y2 h0).1⟩
  else if h1 : t.val = 1 then ofTurn c y1 y2 y3 y4 y5 y6 (firstAt c t y1 y2 y3 y4 y5 y6 k h1)
  else if h5 : t.val = 5 then ofTurn c y1 y2 y3 y4 y5 y6 (openAt c t y1 y2 y3 y4 y5 y6 k h5)
  else if h8 : t.val = 8 then
    ofLast c y1 y2 y3 y4 y5 y6 _ _ _ _ (lastAt c t y1 y2 y3 y4 y5 y6 k h8)
  else ofTurn c y1 y2 y3 y4 y5 y6 (onAt c t y1 y2 y3 y4 y5 y6 k h0 h1 h5 h8)

/-- Every buffer a turn writes is written whole. -/
abbrev Covers {i : grid0.Coords} {B : Bufs} {y11 : Vec F S512x1024 .f32} {P8 P9 P10 : sProp 𝕄} (T : Turn (F := F) c i B y1 y2 y3 y4 y5 y6 y11 P8 P9 P10) : Prop :=
  (∀ y, ∃ p ∈ T.1, y ∈ p.1.set) ∧ (∀ y, ∃ p ∈ T.2.1, y ∈ p.1.set) ∧ (∀ y, ∃ p ∈ T.2.2.1, y ∈ p.1.set) ∧ (∀ y, ∃ p ∈ T.2.2.2.1, y ∈ p.1.set)
    ∧ ∀ y, ∃ p ∈ T.2.2.2.2.1, y ∈ p.1.set

theorem head_cover (h : t.val = 0) : ∀ y, ∃ p ∈ (headAt (F := F) c t y1 y2 h).1, y ∈ p.1.set :=
  View.cover_of_tiledL _ S512x256.size (by sl_kernel_rfl)
set_option maxHeartbeats 1000000 in
theorem first_cover (h : t.val = 1) : Covers c y1 y2 y3 y4 y5 y6 (firstAt (F := F) c t y1 y2 y3 y4 y5 y6 k h) :=
  ⟨View.cover_of_tiledL _ S64x1024.size (by sl_kernel_rfl), View.cover_of_wholeMem _ (View.Piece.wholeMem_here (by sl_kernel_rfl)),
    View.cover_of_wholeMem _ (View.Piece.wholeMem_here (by sl_kernel_rfl)), View.cover_of_wholeMem _ (View.Piece.wholeMem_here (by sl_kernel_rfl)),
    View.cover_of_tiledL _ S512x256.size (by sl_kernel_rfl)⟩
set_option maxHeartbeats 1000000 in
theorem open_cover (h : t.val = 5) : Covers c y1 y2 y3 y4 y5 y6 (openAt (F := F) c t y1 y2 y3 y4 y5 y6 k h) :=
  ⟨View.cover_of_tiledL _ S64x1024.size (by sl_kernel_rfl), View.cover_of_wholeMem _ (View.Piece.wholeMem_here (by sl_kernel_rfl)),
    View.cover_of_wholeMem _ (View.Piece.wholeMem_here (by sl_kernel_rfl)), View.cover_of_wholeMem _ (View.Piece.wholeMem_here (by sl_kernel_rfl)),
    View.cover_of_tiledL _ S512x256.size (by sl_kernel_rfl)⟩
set_option maxHeartbeats 1000000 in
theorem on_cover (h0 : t.val ≠ 0) (h1 : t.val ≠ 1) (h5 : t.val ≠ 5) (h8 : t.val ≠ 8) : Covers c y1 y2 y3 y4 y5 y6 (onAt (F := F) c t y1 y2 y3 y4 y5 y6 k h0 h1 h5 h8) :=
  ⟨View.cover_of_tiledL _ S64x1024.size (by sl_kernel_rfl), View.cover_of_wholeMem _ (View.Piece.wholeMem_here (by sl_kernel_rfl)),
    View.cover_of_wholeMem _ (View.Piece.wholeMem_here (by sl_kernel_rfl)), View.cover_of_wholeMem _ (View.Piece.wholeMem_here (by sl_kernel_rfl)),
    View.cover_of_tiledL _ S512x256.size (by sl_kernel_rfl)⟩
set_option maxHeartbeats 1000000 in
theorem last_cover (h : t.val = 8) : (∀ y, ∃ p ∈ (lastAt (F := F) c t y1 y2 y3 y4 y5 y6 k h).1, y ∈ p.1.set)
    ∧ (∀ y, ∃ p ∈ (lastAt (F := F) c t y1 y2 y3 y4 y5 y6 k h).2.1, y ∈ p.1.set)
    ∧ (∀ y, ∃ p ∈ (lastAt (F := F) c t y1 y2 y3 y4 y5 y6 k h).2.2.1, y ∈ p.1.set)
    ∧ ∀ y, ∃ p ∈ (lastAt (F := F) c t y1 y2 y3 y4 y5 y6 k h).2.2.2.1, y ∈ p.1.set :=
  ⟨View.cover_of_tiledL _ S64x1024.size (by sl_kernel_rfl), View.cover_of_wholeMem _ (View.Piece.wholeMem_here (by sl_kernel_rfl)),
    View.cover_of_wholeMem _ (View.Piece.wholeMem_here (by sl_kernel_rfl)), View.cover_of_wholeMem _ (View.Piece.wholeMem_here (by sl_kernel_rfl))⟩

end Steps

variable (m : (ℓ : Loc nD τ sig) → Buf (Elt F) ℓ) (ρ : Dev nD → PrngReg)

/-- Core `c`'s buffers when the kernel is entered: after the host's preparation. -/
abbrev V (c : Dev nD) (b : Ref sig .tc) : Buf (Elt F) ((c : Thread nD τ).loc b) := StableHlo.after hostOps0 (fun b => m (c, b)) b

/-- Window `w`'s block at point `t`, read off its array as the kernel finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (arrRef spec0 w))

/-- What point `t` leaves on its own blocks. -/
abbrev stepAt (c : Dev nD) (t : Fin cfg0.N) (k : Kept F) : Kept F :=
  step c t (iblk m c 0 t) (iblk m c 1 t) (iblk m c 2 t) (iblk m c 3 t) (iblk m c 4 t) (iblk m c 5 t) k

/-- What the buffers hold after point `n`. -/
def kept (c : Dev nD) : ℕ → Kept F
  | 0 => stepAt m c t0_0 ⟨View.canon [], View.canon [], View.canon [], View.canon [], View.canon []⟩
  | n + 1 => if h : n + 1 < cfg0.N then stepAt m c ⟨n + 1, h⟩ (kept c n) else kept c n

theorem kept_of_pos (c : Dev nD) (t : Fin cfg0.N) (h : t.val ≠ 0) : kept m c t.val = stepAt m c t (kept m c (t.val - 1)) := by
  obtain ⟨n, hn⟩ := t
  obtain ⟨n, rfl⟩ := Nat.exists_eq_succ_of_ne_zero h
  exact (congrFun (congrFun rfl c) _).trans (dif_pos hn)

/-- What the kernel holds of its own between points: the kept product, and the generator register at some state. -/
def Carry (c : Dev nD) (n : ℕ) : sProp 𝕄 :=
  iprop((match n with
    | 0 => iprop(∃ f : Buf (Elt F) ((c : Thread nD τ).loc cc0_scratch0), ((c : Thread nD τ).loc cc0_scratch0) ↦{fullShare} f)
    | n + 1 => owns (c : Thread nD τ) (Memref.whole cc0_scratch0) fullShare (kept m c n).s11) ∗ ∃ r, prngReg c r)

/-- The proof data on core `c`. -/
def dats (_ : Fin 1) (c : Dev nD) : Dat τ (Elt F) Unit ℕ (UR sig nD τ) ℕ cfg0 c where
  A w := V m c (arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (kept m c t.val).s7
    | ⟨7, _⟩ => (kept m c t.val).s8
    | ⟨8, _⟩ => (kept m c t.val).s9
    | ⟨9, _⟩ => (kept m c t.val).s10
  Φ t := Carry m c t.val
  q _ := fullShare
  owed _ := 0

theorem A_eq (c : Dev nD) (w : Fin cfg0.W) : (dats m 0 c).A w = V m c (arrRef spec0 w) := by dsimp only [dats]

theorem before_0 (c : Dev nD) (t : Fin cfg0.N) (d) : (dats m 0 c).before 0 t d = iblk m c 0 t :=
  ((dats m 0 c).before_in_eq_fetched 0 rfl (fun _ => rfl) (fun _ _ _ => rfl) (fun t => by dsimp only [dats]; rfl) t d).trans (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by dsimp only [dats]; rfl) t d).trans (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by dsimp only [dats]; rfl) t d).trans (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by dsimp only [dats]; rfl) t d).trans (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by dsimp only [dats]; rfl) t d).trans (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by dsimp only [dats]; rfl) t d).trans (by unfold Dat.fetched Dat.blockOf iblk; rw [A_eq]; try rfl)
theorem after_6 (c : Dev nD) (t : Fin cfg0.N) : (dats m 0 c).after 6 t = (kept m c t.val).s7 := by dsimp only [dats]
theorem after_7 (c : Dev nD) (t : Fin cfg0.N) : (dats m 0 c).after 7 t = (kept m c t.val).s8 := by dsimp only [dats]
theorem after_8 (c : Dev nD) (t : Fin cfg0.N) : (dats m 0 c).after 8 t = (kept m c t.val).s9 := by dsimp only [dats]
theorem after_9 (c : Dev nD) (t : Fin cfg0.N) : (dats m 0 c).after 9 t = (kept m c t.val).s10 := by dsimp only [dats]

theorem live : ∀ t : Fin cfg0.N, t.val ≠ 0 → cfg0.idle 6 (grid0.coords t) = false ∧ cfg0.idle 7 (grid0.coords t) = false
    ∧ cfg0.idle 8 (grid0.coords t) = false ∧ cfg0.idle 9 (grid0.coords t) = false :=
  (by decide +kernel : ∀ t : Fin grid0.N, t.val ≠ 0 → cfg0.idle 6 (grid0.coords t) = false ∧ cfg0.idle 7 (grid0.coords t) = false
    ∧ cfg0.idle 8 (grid0.coords t) = false ∧ cfg0.idle 9 (grid0.coords t) = false)
theorem still : ∀ t : Fin cfg0.N, t.val = 0 → (cfg0.idle 6 (grid0.coords t) = true ∧ cfg0.idle 7 (grid0.coords t) = true
    ∧ cfg0.idle 8 (grid0.coords t) = true ∧ cfg0.idle 9 (grid0.coords t) = true) ∧ (cfg0.win 6).flush t = false ∧ (cfg0.win 7).flush t = false
    ∧ (cfg0.win 8).flush t = false ∧ (cfg0.win 9).flush t = false :=
  (by decide +kernel : ∀ t : Fin grid0.N, t.val = 0 → (cfg0.idle 6 (grid0.coords t) = true ∧ cfg0.idle 7 (grid0.coords t) = true
    ∧ cfg0.idle 8 (grid0.coords t) = true ∧ cfg0.idle 9 (grid0.coords t) = true) ∧ (cfg0.win 6).flush t = false ∧ (cfg0.win 7).flush t = false
    ∧ (cfg0.win 8).flush t = false ∧ (cfg0.win 9).flush t = false)
theorem stays : ∀ t : Fin cfg0.N, (t.val ≠ 4 → (cfg0.win 7).flush t = true → t.val = 8) ∧ (t.val ≠ 4 → (cfg0.win 8).flush t = true → t.val = 8) ∧ ((cfg0.win 9).flush t = true → t.val = 8) :=
  (by decide +kernel : ∀ t : Fin grid0.N, (t.val ≠ 4 → (cfg0.win 7).flush t = true → t.val = 8) ∧ (t.val ≠ 4 → (cfg0.win 8).flush t = true → t.val = 8) ∧ ((cfg0.win 9).flush t = true → t.val = 8))

/-- At a point past the first an output's buffer, not just written back, holds what the point before left. -/
theorem before_out (c : Dev nD) (w : Fin cfg0.W) (hw : (cfg0.win w).isOut = true) (hl : ∀ t : Fin cfg0.N, t.val ≠ 0 → cfg0.idle w (grid0.coords t) = false)
    (hclip : ∀ (i : cfg0.grid.Coords) a, (cfg0.win w).clip i a = none)
    (t : Fin cfg0.N) (h0 : t.val ≠ 0) (h1 : t.val ≠ 1) (hf : (cfg0.win w).flush ⟨t.val - 1, Nat.lt_of_le_of_lt (Nat.sub_le _ _) t.isLt⟩ = false) (d) :
    (dats m 0 c).before w t d = (dats m 0 c).after w ⟨t.val - 1, Nat.lt_of_le_of_lt (Nat.sub_le _ _) t.isLt⟩ := by
  have hi := hl ⟨t.val - 1, Nat.lt_of_le_of_lt (Nat.sub_le _ _) t.isLt⟩ (by show t.val - 1 ≠ 0; omega)
  rw [(dats m 0 c).before_of_pos w t h0 ((cfg0.win w).fetch_out hw t), if_neg (by rw [hf]; exact Bool.false_ne_true)]
  unfold Dat.left
  rw [show cfg0.idle w (cfg0.grid.coords ⟨t.val - 1, Nat.lt_of_le_of_lt (Nat.sub_le _ _) t.isLt⟩) = false from hi]
  show Dat.kept _ w _ d = _
  unfold Dat.kept
  rw [fill_of_clip_none w _ (hclip _) d ((dats m 0 c).after w _), Window.fill_cut]

theorem leaves_live (c : Dev nD) (w : Fin cfg0.W) (t : Fin cfg0.N) (hi : cfg0.idle w (cfg0.grid.coords t) = false) (hl : cfg0.loose w = false) :
    (dats m 0 c).leavesExact w t = owns (c : Thread nD τ) ((cfg0.win w).stage (cfg0.slots t w)) fullShare ((dats m 0 c).after w t) := by
  unfold Dat.leavesExact; rw [hi]

/-- The body's triple, at a point. -/
abbrev Sound (c : Dev nD) (t : Fin cfg0.N) : Prop :=
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare ((dats m 0 c).before 5 t d))
      ∗ (∃ d, owns (c : Thread nD τ) (st0_6 t) fullShare ((dats m 0 c).before 6 t d))
      ∗ (∃ d, owns (c : Thread nD τ) (st0_7 t) fullShare ((dats m 0 c).before 7 t d))
      ∗ (∃ d, owns (c : Thread nD τ) (st0_8 t) fullShare ((dats m 0 c).before 8 t d))
      ∗ (∃ d, owns (c : Thread nD τ) (st0_9 t) fullShare ((dats m 0 c).before 9 t d)))
    ⊢ wp frame (wpE (defs₀ (F := F)) Variants.none c none) Set.univ (bodyAt0 t) (fun _ =>
      iprop((dats m 0 c).Φ t.succ ∗ (dats m 0 c).owesAt () t.succ
        ∗ owns (c : Thread nD τ) (st0_0 t) fullShare ((dats m 0 c).after 0 t)
        ∗ owns (c : Thread nD τ) (st0_1 t) fullShare ((dats m 0 c).after 1 t)
        ∗ owns (c : Thread nD τ) (st0_2 t) fullShare ((dats m 0 c).after 2 t)
        ∗ owns (c : Thread nD τ) (st0_3 t) fullShare ((dats m 0 c).after 3 t)
        ∗ owns (c : Thread nD τ) (st0_4 t) fullShare ((dats m 0 c).after 4 t)
        ∗ owns (c : Thread nD τ) (st0_5 t) fullShare ((dats m 0 c).after 5 t)
        ∗ (dats m 0 c).leavesExact 6 t ∗ (dats m 0 c).leavesExact 7 t ∗ (dats m 0 c).leavesExact 8 t ∗ (dats m 0 c).leavesExact 9 t))

set_option maxHeartbeats 1000000 in
/-- A turn is sound at its point, given what its sums' buffers hold before it and that it writes its buffers whole. -/
theorem sound_turn (c : Dev nD) (t : Fin cfg0.N) (h0 : t.val ≠ 0) {P8 P9 P10 : sProp 𝕄}
    (T : Turn (F := F) c (grid0.coords t) (bufs t) (iblk m c 0 t) (iblk m c 1 t) (iblk m c 2 t) (iblk m c 3 t) (iblk m c 4 t) (iblk m c 5 t) (kept m c (t.val - 1)).s11 P8 P9 P10)
    (hT : Covers c _ _ _ _ _ _ T) (hk : kept m c t.val = ofTurn c _ _ _ _ _ _ T)
    (h8 : ∀ d, owns (c : Thread nD τ) (st0_7 t) fullShare ((dats m 0 c).before 7 t d) ⊢ P8)
    (h9 : ∀ d, owns (c : Thread nD τ) (st0_8 t) fullShare ((dats m 0 c).before 8 t d) ⊢ P9)
    (h10 : ∀ d, owns (c : Thread nD τ) (st0_9 t) fullShare ((dats m 0 c).before 9 t d) ⊢ P10) : Sound m c t := by
  obtain ⟨c7, c8, c9, c10, c11⟩ := hT
  obtain ⟨l6, l7, l8, l9⟩ := live t h0
  unfold Sound bodyAt0
  rw [leaves_live m c 6 t l6 rfl, leaves_live m c 7 t l7 rfl, leaves_live m c 8 t l8 rfl, leaves_live m c 9 t l9 rfl, after_6, after_7, after_8, after_9, hk]
  simp only [before_0, before_1, before_2, before_3, before_4, before_5]
  rw [show (dats m 0 c).owesAt () t.succ = (dats m 0 c).owesAt () t.castSucc from rfl, show (dats m 0 c).Φ t.castSucc = Carry m c t.val from rfl,
    show (dats m 0 c).Φ t.succ = Carry m c (t.val + 1) from rfl, show Carry m c t.val = Carry m c (t.val - 1 + 1) from by rw [Nat.sub_add_cancel (Nat.pos_of_ne_zero h0)]]
  unfold Carry
  dsimp only
  rw [hk]
  iintro ⟨⟨H11, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (T.2.2.2.2.2 _)
  isplitl [H0 H1 H2 H3 H4 H5]
  · unfold Held
    isplitl [H0]; · iexact H0
    isplitl [H1]; · iexact H1
    isplitl [H2]; · iexact H2
    isplitl [H3]; · iexact H3
    isplitl [H4]; · iexact H4
    iexact H5
  isplitl [H6]; · iexists _; iexact H6
  isplitl [H7]; · iapply (h8 d7); iexact H7
  isplitl [H8]; · iapply (h9 d8); iexact H8
  isplitl [H9]; · iapply (h10 d9); iexact H9
  isplitl [H11]; · iexact H11
  unfold Held
  iintro ⟨⟨H0, H1, H2, H3, H4, H5⟩, ⟨%f7, H6⟩, ⟨%f8, H7⟩, ⟨%f9, H8⟩, ⟨%f10, H9⟩, ⟨%f11, H11⟩⟩
  isplitl [H11 Hp]
  · isplitl [H11]
    · unfold owns; iexists _; isplitr; swap; · iexact H11
      ipureintro; exact View.read_writes_eq_canon _ _ _ c11
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr; swap; · iexact H6
    ipureintro; exact View.read_writes_eq_canon _ _ _ c7
  isplitl [H7]
  · unfold owns; iexists _; isplitr; swap; · iexact H7
    ipureintro; exact View.read_writes_eq_canon _ _ _ c8
  isplitl [H8]
  · unfold owns; iexists _; isplitr; swap; · iexact H8
    ipureintro; exact View.read_writes_eq_canon _ _ _ c9
  unfold owns; iexists _; isplitr; swap; · iexact H9
  ipureintro; exact View.read_writes_eq_canon _ _ _ c10

theorem before_sum8 (c : Dev nD) (t : Fin cfg0.N) (h0 : t.val ≠ 0) (h1 : t.val ≠ 1) (h5 : t.val ≠ 5) (d) : (dats m 0 c).before 7 t d = (kept m c (t.val - 1)).s8 :=
  (before_out m c 7 rfl (fun t h => (live t h).2.1) (fun _ _ => rfl) t h0 h1 (Bool.eq_false_iff.mpr fun h => by
    have h' := (stays _).1 (by show t.val - 1 ≠ 4; omega) h; have := lt_of_lt_of_eq t.isLt (show cfg0.N = 9 from N_0); simp only at h'; omega) d).trans (after_7 m c _)
theorem before_sum9 (c : Dev nD) (t : Fin cfg0.N) (h0 : t.val ≠ 0) (h1 : t.val ≠ 1) (h5 : t.val ≠ 5) (d) : (dats m 0 c).before 8 t d = (kept m c (t.val - 1)).s9 :=
  (before_out m c 8 rfl (fun t h => (live t h).2.2.1) (fun _ _ => rfl) t h0 h1 (Bool.eq_false_iff.mpr fun h => by
    have h' := (stays _).2.1 (by show t.val - 1 ≠ 4; omega) h; have := lt_of_lt_of_eq t.isLt (show cfg0.N = 9 from N_0); simp only at h'; omega) d).trans (after_8 m c _)
theorem before_sum10 (c : Dev nD) (t : Fin cfg0.N) (h0 : t.val ≠ 0) (h1 : t.val ≠ 1) (d) : (dats m 0 c).before 9 t d = (kept m c (t.val - 1)).s10 :=
  (before_out m c 9 rfl (fun t h => (live t h).2.2.2) (fun _ _ => rfl) t h0 h1 (Bool.eq_false_iff.mpr fun h => by
    have h' := (stays _).2.2 h; have := lt_of_lt_of_eq t.isLt (show cfg0.N = 9 from N_0); simp only at h'; omega) d).trans (after_9 m c _)

theorem kept_first (c : Dev nD) (t : Fin cfg0.N) (h : t.val = 1) : kept m c t.val = ofTurn c _ _ _ _ _ _ (firstAt c t (iblk m c 0 t) (iblk m c 1 t) (iblk m c 2 t) (iblk m c 3 t) (iblk m c 4 t) (iblk m c 5 t) (kept m c (t.val - 1)) h) := by
  rw [kept_of_pos m c t (by omega)]; unfold stepAt step; rw [dif_neg (by omega), dif_pos h]
theorem kept_open (c : Dev nD) (t : Fin cfg0.N) (h : t.val = 5) : kept m c t.val = ofTurn c _ _ _ _ _ _ (openAt c t (iblk m c 0 t) (iblk m c 1 t) (iblk m c 2 t) (iblk m c 3 t) (iblk m c 4 t) (iblk m c 5 t) (kept m c (t.val - 1)) h) := by
  rw [kept_of_pos m c t (by omega)]; unfold stepAt step; rw [dif_neg (by omega), dif_neg (by omega), dif_pos h]
theorem kept_on (c : Dev nD) (t : Fin cfg0.N) (h0 : t.val ≠ 0) (h1 : t.val ≠ 1) (h5 : t.val ≠ 5) (h8 : t.val ≠ 8) :
    kept m c t.val = ofTurn c _ _ _ _ _ _ (onAt c t (iblk m c 0 t) (iblk m c 1 t) (iblk m c 2 t) (iblk m c 3 t) (iblk m c 4 t) (iblk m c 5 t) (kept m c (t.val - 1)) h0 h1 h5 h8) := by
  rw [kept_of_pos m c t h0]; unfold stepAt step; rw [dif_neg h0, dif_neg h1, dif_neg h5, dif_neg h8]
theorem kept_last (c : Dev nD) (t : Fin cfg0.N) (h : t.val = 8) : kept m c t.val =
    ofLast c _ _ _ _ _ _ _ _ _ _ (lastAt c t (iblk m c 0 t) (iblk m c 1 t) (iblk m c 2 t) (iblk m c 3 t) (iblk m c 4 t) (iblk m c 5 t) (kept m c (t.val - 1)) h) := by
  rw [kept_of_pos m c t (by omega)]; unfold stepAt step; rw [dif_neg (by omega), dif_neg (by omega), dif_neg (by omega), dif_pos h]

set_option maxHeartbeats 1000000 in
theorem sound_last (c : Dev nD) (t : Fin cfg0.N) (h : t.val = 8) : Sound m c t := by
  have h0 : t.val ≠ 0 := by omega
  obtain ⟨c7, c8, c9, c10⟩ := last_cover c t (iblk m c 0 t) (iblk m c 1 t) (iblk m c 2 t) (iblk m c 3 t) (iblk m c 4 t) (iblk m c 5 t) (kept m c (t.val - 1)) h
  have hk := kept_last m c t h
  obtain ⟨l6, l7, l8, l9⟩ := live t h0
  unfold Sound bodyAt0
  rw [leaves_live m c 6 t l6 rfl, leaves_live m c 7 t l7 rfl, leaves_live m c 8 t l8 rfl, leaves_live m c 9 t l9 rfl, after_6, after_7, after_8, after_9, hk]
  simp only [before_0, before_1, before_2, before_3, before_4, before_5, before_sum8 m c t h0 (by omega) (by omega), before_sum9 m c t h0 (by omega) (by omega), before_sum10 m c t h0 (by omega)]
  rw [show (dats m 0 c).owesAt () t.succ = (dats m 0 c).owesAt () t.castSucc from rfl, show (dats m 0 c).Φ t.castSucc = Carry m c t.val from rfl,
    show (dats m 0 c).Φ t.succ = Carry m c (t.val + 1) from rfl, show Carry m c t.val = Carry m c (t.val - 1 + 1) from by rw [Nat.sub_add_cancel (Nat.pos_of_ne_zero h0)]]
  unfold Carry
  dsimp only
  rw [hk]
  iintro ⟨⟨H11, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((lastAt c t (iblk m c 0 t) (iblk m c 1 t) (iblk m c 2 t) (iblk m c 3 t) (iblk m c 4 t) (iblk m c 5 t) (kept m c (t.val - 1)) h).2.2.2.2 _)
  isplitl [H0 H1 H2 H3 H4 H5]
  · unfold Held
    isplitl [H0]; · iexact H0
    isplitl [H1]; · iexact H1
    isplitl [H2]; · iexact H2
    isplitl [H3]; · iexact H3
    isplitl [H4]; · iexact H4
    iexact H5
  isplitl [H6]; · iexists _; iexact H6
  isplitl [H7]; · iexact H7
  isplitl [H8]; · iexact H8
  isplitl [H9]; · iexact H9
  isplitl [H11]; · iexact H11
  unfold Held
  iintro ⟨⟨H0, H1, H2, H3, H4, H5⟩, ⟨%f7, H6⟩, ⟨%f8, H7⟩, ⟨%f9, H8⟩, ⟨%f10, H9⟩, H11⟩
  isplitl [H11 Hp]
  · isplitl [H11]; · iexact H11
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr; swap; · iexact H6
    ipureintro; exact View.read_writes_eq_canon _ _ _ c7
  isplitl [H7]
  · unfold owns; iexists _; isplitr; swap; · iexact H7
    ipureintro; exact View.read_writes_eq_canon _ _ _ c8
  isplitl [H8]
  · unfold owns; iexists _; isplitr; swap; · iexact H8
    ipureintro; exact View.read_writes_eq_canon _ _ _ c9
  unfold owns; iexists _; isplitr; swap; · iexact H9
  ipureintro; exact View.read_writes_eq_canon _ _ _ c10

set_option maxHeartbeats 1000000 in
theorem sound_head (c : Dev nD) (t : Fin cfg0.N) (h : t.val = 0) : Sound m c t := by
  have c11 := head_cover c t (iblk m c 0 t) (iblk m c 1 t) h
  obtain ⟨⟨i6, i7, i8, i9⟩, f6, f7, f8, f9⟩ := still t h
  have hk : (kept m c t.val).s11 = View.canon (headAt c t (iblk m c 0 t) (iblk m c 1 t) h).1 := by
    obtain ⟨n, hn⟩ := t
    obtain rfl : n = 0 := h
    show (stepAt m c t0_0 _).s11 = _
    unfold stepAt step; rw [dif_pos (show (t0_0 : Fin cfg0.N).val = 0 from rfl)]; rfl
  unfold Sound bodyAt0
  rw [(dats m 0 c).leavesExact_idle 6 t i6 f6, (dats m 0 c).leavesExact_idle 7 t i7 f7, (dats m 0 c).leavesExact_idle 8 t i8 f8, (dats m 0 c).leavesExact_idle 9 t i9 f9]
  simp only [before_0, before_1, before_2, before_3, before_4, before_5]
  rw [show (dats m 0 c).owesAt () t.succ = (dats m 0 c).owesAt () t.castSucc from rfl, show (dats m 0 c).Φ t.castSucc = Carry m c t.val from rfl,
    show (dats m 0 c).Φ t.succ = Carry m c (t.val + 1) from rfl, show Carry m c t.val = Carry m c 0 from by rw [h]]
  unfold Carry
  dsimp only
  rw [hk]
  iintro ⟨⟨⟨%g, H11⟩, Hp⟩, Ho, ⟨%d0, H0⟩, ⟨%d1, H1⟩, ⟨%d2, H2⟩, ⟨%d3, H3⟩, ⟨%d4, H4⟩, ⟨%d5, H5⟩, H6, H7, H8, H9⟩
  iapply ((headAt c t (iblk m c 0 t) (iblk m c 1 t) h).2 _)
  isplitl [H0]; · iexact H0
  isplitl [H1]; · iexact H1
  isplitl [H11]; · iexists _; iapply (Entails.of_eq (owns_whole (c : Thread nD τ) cc0_scratch0 fullShare g).symm); iexact H11
  iintro ⟨H0, H1, ⟨%f11, H11⟩⟩
  isplitl [H11 Hp]
  · isplitl [H11]
    · unfold owns; iexists _; isplitr; swap; · iexact H11
      ipureintro; exact View.read_writes_eq_canon _ _ _ c11
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body's triple at every point. -/
theorem sound (c : Dev nD) (t : Fin cfg0.N) : Sound m c t := by
  by_cases h0 : t.val = 0
  · exact sound_head m c t h0
  by_cases h1 : t.val = 1
  · exact sound_turn m c t h0 (firstAt c t _ _ _ _ _ _ (kept m c (t.val - 1)) h1) (first_cover c t _ _ _ _ _ _ _ h1) (kept_first m c t h1)
      (fun d => by iintro H; iexists _; iexact H) (fun d => by iintro H; iexists _; iexact H) (fun d => by iintro H; iexists _; iexact H)
  by_cases h5 : t.val = 5
  · exact sound_turn m c t h0 (openAt c t _ _ _ _ _ _ (kept m c (t.val - 1)) h5) (open_cover c t _ _ _ _ _ _ _ h5) (kept_open m c t h5)
      (fun d => by iintro H; iexists _; iexact H) (fun d => by iintro H; iexists _; iexact H) (fun d => Entails.of_eq (by rw [before_sum10 m c t h0 h1]))
  by_cases h8 : t.val = 8
  · exact sound_last m c t h8
  exact sound_turn m c t h0 (onAt c t _ _ _ _ _ _ (kept m c (t.val - 1)) h0 h1 h5 h8) (on_cover c t _ _ _ _ _ _ _ h0 h1 h5 h8) (kept_on m c t h0 h1 h5 h8)
    (fun d => Entails.of_eq (by rw [before_sum8 m c t h0 h1 h5])) (fun d => Entails.of_eq (by rw [before_sum9 m c t h0 h1 h5])) (fun d => Entails.of_eq (by rw [before_sum10 m c t h0 h1]))

theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (sound m c t) rfl .rfl fun _ => .rfl

theorem hostOps0_fresh : (hostOps0 : List (HloOp τ sig (Elt F))).Forall fun op => op.fresh = ∅ := by
  simp only [List.Forall]; repeat' constructor

set_option maxHeartbeats 800000 in
set_option backward.isDefEq.respectTransparency.types false in
/-- The run: every array of the kernel ends at what the proof data computes, every other buffer as the kernel found it. -/
theorem run (ρ : Dev nD → PrngReg) : θ_run defs (onTc (τ := τ) (main (F := F))) (s₀ m ρ) (fun r => FramePost cfgs (dats m) 0 (V m) r ∧ r.2.sem = fun _ => 0) :=
  θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain_prefix cfgs 0 defs₀ Variants.none m main hostOps0 hostOps0_sub hostOps0_fresh main_chain) (hA := A_eq m)
    (hin := fun c => by
      show ΦA spec0 c ⊢ Carry m c 0
      unfold ΦA Carry
      rw [scopedRest0_eq])
    (hout := fun c => by
      show Carry m c (8 + 1) ⊢ ΦA spec0 c
      unfold ΦA Carry
      rw [scopedRest0_eq]
      dsimp only
      rw [owns_whole]
      iintro ⟨H, Hp⟩
      isplitl [H]; · iexists _; iexact H
      iexact Hp)

/-- The host's preparation writes no argument. -/
theorem V_arg (c : Dev nD) (b : Ref sig .tc) (h : b ∉ [main_v0, main_v1, main_v2, main_v3]) : V m c b = m ((c : Thread nD τ).loc b) := by
  refine StableHlo.after_of_forall_not_mem (b := Proc.devRef .tc b) _ _ (List.forall_iff_forall_mem.mp ?_)
  simp only [List.mem_cons, List.not_mem_nil, or_false, not_or] at h
  obtain ⟨h0, h1, h2, h3⟩ := h
  simp only [hostOps0, List.Forall, StableHlo.unary_writes, StableHlo.reshape_writes, Finset.mem_singleton]
  exact ⟨StableHlo.devRef_ne_of_ne h0, StableHlo.devRef_ne_of_ne h1, StableHlo.devRef_ne_of_ne h2, StableHlo.devRef_ne_of_ne h3⟩

/-- The arguments end unchanged. -/
theorem args_kept {r} (h : FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).1 0).trans (((dats m 0 c).arrAt_in 0 rfl _).trans ((A_eq m c 0).trans (V_arg m c _ (by decide)))),
    ((h c).2 main_arg1 (mem_restRefs_of main_arg1 (by decide) (by decide))).trans (V_arg m c _ (by decide)),
    ((h c).1 2).trans (((dats m 0 c).arrAt_in 2 rfl _).trans ((A_eq m c 2).trans (V_arg m c _ (by decide)))),
    ((h c).1 3).trans (((dats m 0 c).arrAt_in 3 rfl _).trans ((A_eq m c 3).trans (V_arg m c _ (by decide)))),
    ((h c).1 4).trans (((dats m 0 c).arrAt_in 4 rfl _).trans ((A_eq m c 4).trans (V_arg m c _ (by decide)))),
    ((h c).1 5).trans (((dats m 0 c).arrAt_in 5 rfl _).trans ((A_eq m c 5).trans (V_arg m c _ (by decide))))⟩

/-- The program terminates without a fault, its arguments as they were and every counter at zero, at any reading of the floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun r h => ⟨fun c => args_kept m h.1 c, h.2⟩) (run m ρ)

end Cert.Kernel4Ideal.Pre
end
-- ==== Proof.PreTile.lean ====
module

public import proofs.«01_k».proof.Proof.PreBody
public import Idealize.ShloMosaic.Lib.Pipeline.FrameBody
public import Idealize.ShloMosaic.Lib.Pipeline.ValueKit.Acc

@[expose] public section

set_option maxRecDepth 16384

noncomputable section

namespace Cert.Kernel4Ideal.Pre

open Idealize.ShloMosaic Idealize.ShloMosaic.TcCoe Idealize.ShloMosaic.Tactic
open Cert.Kernel4Ideal.Gen

/-! # What the turns write, as lists over one form each: products by columns, tiles by rows, and sums by repeated adding. -/

variable {F : FTy → Type} [FloatOps F]

section Chain
variable {sg : RefSig} {κ : Kind} {sp : Space} {S : Shape} (v : View sg κ sp S .f32) (off : Fin S.rank → ℕ) (h : ∀ a, off a + S.size a ≤ S.size a)

/-- Whole-shape writes, each of a function of what the write before left; the latest first. -/
def chain (L0 : List (View.Piece (Elt F) S .f32)) : List ((S.Idx → F .f32) → (S.Idx → F .f32)) → List (View.Piece (Elt F) S .f32)
  | [] => L0
  | p :: ps =>
    let r : Rect S := Rect.unit (s := S) off S.size h
    let w : S.Idx → F .f32 := v.readCov (chain L0 ps) r.toLoadRect
    (⟨r, p w⟩ : View.Piece (Elt F) S .f32) :: chain L0 ps

theorem chain_form (z : off = fun _ => 0) (w : S.Idx → F .f32) (ps : List ((S.Idx → F .f32) → (S.Idx → F .f32))) :
    ∃ L, chain v off h [(⟨Rect.unit (s := S) off S.size h, w⟩ : View.Piece (Elt F) S .f32)] ps = (⟨Rect.unit (s := S) off S.size h, ps.foldr (· ·) w⟩ : View.Piece (Elt F) S .f32) :: L := by
  induction ps with
  | nil => exact ⟨[], rfl⟩
  | cons p ps ih =>
    obtain ⟨L, e⟩ := ih
    refine ⟨chain v off h [(⟨Rect.unit (s := S) off S.size h, w⟩ : View.Piece (Elt F) S .f32)] ps, ?_⟩
    simp only [chain, List.foldr_cons]
    rw [e]
    exact congrArg (fun u : S.Idx → F .f32 => (⟨Rect.unit (s := S) off S.size h, p u⟩ : View.Piece (Elt F) S .f32) :: _)
      (View.readCov_cons_unit_lit' v h h _ L (fun a => congrFun z a) fun a => congrFun z a)

theorem canon_chain (z : off = fun _ => 0) (w : S.Idx → F .f32) (ps : List ((S.Idx → F .f32) → (S.Idx → F .f32))) :
    View.canon (chain v off h [(⟨Rect.unit (s := S) off S.size h, w⟩ : View.Piece (Elt F) S .f32)] ps) = ps.foldr (· ·) w := by
  obtain ⟨L, e⟩ := chain_form v off h z w ps
  rw [e]
  exact View.canon_cons_unit_lit h _ L fun a => congrFun z a

end Chain

/-- One column block of the product: four pairs of blocks, each multiplied and added. -/
def colProd (a0 a1 a2 a3 : Vec F S1x512x512 .bf16) (b0 b1 b2 b3 : Vec F S1x512x256 .bf16) : FVec F S512x256 .f32 :=
  let p (a : Vec F S1x512x512 .bf16) (b : Vec F S1x512x256 .bf16) : FVec F S512x256 .f32 :=
    matmul dot_S512x512_S512x256_S512x256_1_0_0_1_n_n none (shapeCast S512x512 a shapeCasts_S1x512x512_S512x512 : FVec F S512x512 .bf16)
      (shapeCast S512x256 b shapeCasts_S1x512x256_S512x256 : FVec F S512x256 .bf16) (constant S512x256 .f32 0#32)
  shapeCast S512x256 (addf (addf (addf (p a0 b0) (p a1 b1)) (p a2 b2)) (p a3 b3)) shapeCasts_S512x256_S512x256

section Reads
variable (B : Bufs) (y1 : Vec F S4x512x512 .bf16) (y2 : Vec F S4x512x1024 .bf16) (y3 y4 : Vec F S512x1024 .f32) (y5 : Vec F S1x1024 .f32) (y6 : Vec F S1x6x1024 .f32)
  (y11 : Vec F S512x1024 .f32)

def readA (n : ℕ) (h : ∀ a, ![n, 0, 0] a + S1x512x512.size a ≤ S4x512x512.size a) : Vec F S1x512x512 .bf16 :=
  View.readAt (Elt F) B.a1.view (Rect.unit (s := S4x512x512) ![n, 0, 0] S1x512x512.size h).toLoadRect (B.h1.unread y1)
def readB (n q : ℕ) (h : ∀ a, ![n, 0, q] a + S1x512x256.size a ≤ S4x512x1024.size a) : Vec F S1x512x256 .bf16 :=
  View.readAt (Elt F) B.a2.view (Rect.unit (s := S4x512x1024) ![n, 0, q] S1x512x256.size h).toLoadRect (B.h2.unread y2)
def readD (n : ℕ) (h : ∀ a, ![n, 0] a + S64x1024.size a ≤ S512x1024.size a) : Vec F S64x1024 .f32 :=
  View.readAt (Elt F) B.a3.view (Rect.unit (s := S512x1024) ![n, 0] S64x1024.size h).toLoadRect (B.h3.unread y3)
def readX (n : ℕ) (h : ∀ a, ![n, 0] a + S64x1024.size a ≤ S512x1024.size a) : Vec F S64x1024 .f32 :=
  View.readAt (Elt F) B.a4.view (Rect.unit (s := S512x1024) ![n, 0] S64x1024.size h).toLoadRect (B.h4.unread y4)
def readH (n : ℕ) (h : ∀ a, ![n, 0] a + S64x1024.size a ≤ S512x1024.size a) : Vec F S64x1024 .f32 :=
  View.readAt (Elt F) B.a11.view (Rect.unit (s := S512x1024) ![n, 0] S64x1024.size h).toLoadRect (B.h11.unread y11)
def readG : Vec F S1x1024 .f32 :=
  View.readAt (Elt F) B.a5.view (Rect.unit (s := S1x1024) ![0, 0] S1x1024.size inb_S1x1024_S1x1024_0_0).toLoadRect (B.h5.unread y5)
def readM : Vec F S1x1x1024 .f32 :=
  View.readAt (Elt F) B.a6.view (Rect.unit (s := S1x6x1024) ![0, 1, 0] S1x1x1024.size inb_S1x6x1024_S1x1x1024_0_1_0).toLoadRect (B.h6.unread y6)

/-- One column block of the kept product, with the place it is written to. -/
def prodPiece (q : ℕ) (h0 : ∀ a, ![0, 0, q] a + S1x512x256.size a ≤ S4x512x1024.size a) (h1 : ∀ a, ![1, 0, q] a + S1x512x256.size a ≤ S4x512x1024.size a)
    (h2 : ∀ a, ![2, 0, q] a + S1x512x256.size a ≤ S4x512x1024.size a) (h3 : ∀ a, ![3, 0, q] a + S1x512x256.size a ≤ S4x512x1024.size a)
    (h : ∀ a, ![0, q] a + S512x256.size a ≤ S512x1024.size a) : View.Piece (Elt F) S512x1024 .f32 :=
  ⟨Rect.unit (s := S512x1024) ![0, q] S512x256.size h, colProd (readA B y1 0 inb_S4x512x512_S1x512x512_0_0_0) (readA B y1 1 inb_S4x512x512_S1x512x512_1_0_0)
    (readA B y1 2 inb_S4x512x512_S1x512x512_2_0_0) (readA B y1 3 inb_S4x512x512_S1x512x512_3_0_0)
    (readB B y2 0 q h0) (readB B y2 1 q h1) (readB B y2 2 q h2) (readB B y2 3 q h3)⟩

def prodPieces : List (View.Piece (Elt F) S512x1024 .f32) :=
  [prodPiece B y1 y2 768 inb_S4x512x1024_S1x512x256_0_0_768 inb_S4x512x1024_S1x512x256_1_0_768 inb_S4x512x1024_S1x512x256_2_0_768 inb_S4x512x1024_S1x512x256_3_0_768 inb_S512x1024_S512x256_0_768,
   prodPiece B y1 y2 512 inb_S4x512x1024_S1x512x256_0_0_512 inb_S4x512x1024_S1x512x256_1_0_512 inb_S4x512x1024_S1x512x256_2_0_512 inb_S4x512x1024_S1x512x256_3_0_512 inb_S512x1024_S512x256_0_512,
   prodPiece B y1 y2 256 inb_S4x512x1024_S1x512x256_0_0_256 inb_S4x512x1024_S1x512x256_1_0_256 inb_S4x512x1024_S1x512x256_2_0_256 inb_S4x512x1024_S1x512x256_3_0_256 inb_S512x1024_S512x256_0_256,
   prodPiece B y1 y2 0 inb_S4x512x1024_S1x512x256_0_0_0 inb_S4x512x1024_S1x512x256_1_0_0 inb_S4x512x1024_S1x512x256_2_0_0 inb_S4x512x1024_S1x512x256_3_0_0 inb_S512x1024_S512x256_0_0]

/-- Rows `n` to `n + 63` of the gradient of the input. -/
def rowPiece (n : ℕ) (h : ∀ a, ![n, 0] a + S64x1024.size a ≤ S512x1024.size a) : View.Piece (Elt F) S512x1024 .f32 :=
  ⟨Rect.unit (s := S512x1024) ![n, 0] S64x1024.size h, k0_pay29 (readH B y11 n h) (k0_pay17 (readX B y4 n h)) (k0_pay18 (readX B y4 n h)) (readG B y5) (readM B y6) (readD B y3 n h)⟩

/-- A list of eight, one for each block of 64 rows, the last block first. -/
def eight {α : Type*} (f : ∀ n : ℕ, (∀ a, ![n, 0] a + S64x1024.size a ≤ S512x1024.size a) → α) : List α :=
  [f 448 inb_S512x1024_S64x1024_448_0, f 384 inb_S512x1024_S64x1024_384_0, f 320 inb_S512x1024_S64x1024_320_0, f 256 inb_S512x1024_S64x1024_256_0,
   f 192 inb_S512x1024_S64x1024_192_0, f 128 inb_S512x1024_S64x1024_128_0, f 64 inb_S512x1024_S64x1024_64_0, f 0 inb_S512x1024_S64x1024_0_0]

def rowPieces : List (View.Piece (Elt F) S512x1024 .f32) := eight (rowPiece B y3 y4 y5 y6 y11)

/-- The adding of one block's column sums, for the three sums. -/
def addShift (n : ℕ) (h : ∀ a, ![n, 0] a + S64x1024.size a ≤ S512x1024.size a) : (S1x1x1024.Idx → F .f32) → (S1x1x1024.Idx → F .f32) :=
  fun z => k0_pay21 (readH B y11 n h) z
def addScale (n : ℕ) (h : ∀ a, ![n, 0] a + S64x1024.size a ≤ S512x1024.size a) : (S1x1x1024.Idx → F .f32) → (S1x1x1024.Idx → F .f32) :=
  fun z => k0_pay25 (k0_pay22 (readH B y11 n h) (readX B y4 n h) (readG B y5)) z
def addGain (n : ℕ) (h : ∀ a, ![n, 0] a + S64x1024.size a ≤ S512x1024.size a) : (S1x1024.Idx → F .f32) → (S1x1024.Idx → F .f32) :=
  fun z => k0_pay28 (readH B y11 n h) (k0_pay18 (readX B y4 n h)) (readM B y6) z

end Reads

section Turns
variable (c : Dev nD) {i : grid0.Coords} (B : Bufs)
  (y1 : Vec F S4x512x512 .bf16) (y2 : Vec F S4x512x1024 .bf16) (y3 y4 : Vec F S512x1024 .f32) (y5 : Vec F S1x1024 .f32) (y6 : Vec F S1x6x1024 .f32)
  (y8 y9 : Vec F S1x1x1024 .f32) (y10 : Vec F S1x1024 .f32) (y11 : Vec F S512x1024 .f32)

/-- The three chains of sums, from what the first block leaves. -/
def shiftChain (w : S1x1x1024.Idx → F .f32) : List (View.Piece (Elt F) S1x1x1024 .f32) := chain B.a8.view ![0, 0, 0] inb_S1x1x1024_S1x1x1024_0_0_0
  [(⟨Rect.unit (s := S1x1x1024) ![0, 0, 0] S1x1x1024.size inb_S1x1x1024_S1x1x1024_0_0_0, w⟩ : View.Piece (Elt F) S1x1x1024 .f32)] (eight (addShift B y11)).dropLast
def scaleChain (w : S1x1x1024.Idx → F .f32) : List (View.Piece (Elt F) S1x1x1024 .f32) := chain B.a9.view ![0, 0, 0] inb_S1x1x1024_S1x1x1024_0_0_0
  [(⟨Rect.unit (s := S1x1x1024) ![0, 0, 0] S1x1x1024.size inb_S1x1x1024_S1x1x1024_0_0_0, w⟩ : View.Piece (Elt F) S1x1x1024 .f32)] (eight (addScale B y4 y5 y11)).dropLast
def gainChain (w : S1x1024.Idx → F .f32) : List (View.Piece (Elt F) S1x1024 .f32) := chain B.a10.view ![0, 0] inb_S1x1024_S1x1024_0_0
  [(⟨Rect.unit (s := S1x1024) ![0, 0] S1x1024.size inb_S1x1024_S1x1024_0_0, w⟩ : View.Piece (Elt F) S1x1024 .f32)] (eight (addGain B y4 y6 y11)).dropLast

/-- The sums as they were before the turn. -/
def was8 : S1x1x1024.Idx → F .f32 := View.readAt (Elt F) B.a8.view (Rect.unit (s := S1x1x1024) ![0, 0, 0] S1x1x1024.size inb_S1x1x1024_S1x1x1024_0_0_0).toLoadRect (B.h8.unread y8)
def was9 : S1x1x1024.Idx → F .f32 := View.readAt (Elt F) B.a9.view (Rect.unit (s := S1x1x1024) ![0, 0, 0] S1x1x1024.size inb_S1x1x1024_S1x1x1024_0_0_0).toLoadRect (B.h9.unread y9)
def was10 : S1x1024.Idx → F .f32 := View.readAt (Elt F) B.a10.view (Rect.unit (s := S1x1024) ![0, 0] S1x1024.size inb_S1x1024_S1x1024_0_0).toLoadRect (B.h10.unread y10)
/-- The first block's column sums alone. -/
def newShift : S1x1x1024.Idx → F .f32 := k0_pay20 (readH B y11 0 inb_S512x1024_S64x1024_0_0)
def newScale : S1x1x1024.Idx → F .f32 := k0_pay24 (k0_pay22 (readH B y11 0 inb_S512x1024_S64x1024_0_0) (readX B y4 0 inb_S512x1024_S64x1024_0_0) (readG B y5))
def newGain : S1x1024.Idx → F .f32 := k0_pay27 (readH B y11 0 inb_S512x1024_S64x1024_0_0) (k0_pay18 (readX B y4 0 inb_S512x1024_S64x1024_0_0)) (readM B y6)
/-- The first block's column sums added to what was there. -/
def moreShift := addShift B y11 0 inb_S512x1024_S64x1024_0_0 (was8 B y8)
def moreScale := addScale B y4 y5 y11 0 inb_S512x1024_S64x1024_0_0 (was9 B y9)
def moreGain := addGain B y4 y6 y11 0 inb_S512x1024_S64x1024_0_0 (was10 B y10)

set_option maxHeartbeats 2000000 in
theorem head_lists (h1 h2 h9) : (head (F := F) c i B y1 y2 h1 h2 h9).1 = prodPieces B y1 y2 := by sl_kernel_rfl

set_option maxHeartbeats 2000000 in
theorem first_lists (h hs hf) : let T := turnFirst (F := F) c i B y1 y2 y3 y4 y5 y6 y11 h hs hf
    T.1 = rowPieces B y3 y4 y5 y6 y11 ∧ T.2.1 = shiftChain B y11 (newShift B y11) ∧ T.2.2.1 = scaleChain B y4 y5 y11 (newScale B y4 y5 y11)
      ∧ T.2.2.2.1 = gainChain B y4 y6 y11 (newGain B y4 y6 y11) ∧ T.2.2.2.2.1 = prodPieces B y1 y2 :=
  ⟨by sl_kernel_rfl, by sl_kernel_rfl, by sl_kernel_rfl, by sl_kernel_rfl, by sl_kernel_rfl⟩

set_option maxHeartbeats 2000000 in
theorem open_lists (h hs hf) : let T := turnOpen (F := F) c i B y1 y2 y3 y4 y5 y6 y10 y11 h hs hf
    T.1 = rowPieces B y3 y4 y5 y6 y11 ∧ T.2.1 = shiftChain B y11 (newShift B y11) ∧ T.2.2.1 = scaleChain B y4 y5 y11 (newScale B y4 y5 y11)
      ∧ T.2.2.2.1 = gainChain B y4 y6 y11 (moreGain B y4 y6 y10 y11) ∧ T.2.2.2.2.1 = prodPieces B y1 y2 :=
  ⟨by sl_kernel_rfl, by sl_kernel_rfl, by sl_kernel_rfl, by sl_kernel_rfl, by sl_kernel_rfl⟩

set_option maxHeartbeats 2000000 in
theorem on_lists (h hs hf) : let T := turnOn (F := F) c i B y1 y2 y3 y4 y5 y6 y8 y9 y10 y11 h hs hf
    T.1 = rowPieces B y3 y4 y5 y6 y11 ∧ T.2.1 = shiftChain B y11 (moreShift B y8 y11) ∧ T.2.2.1 = scaleChain B y4 y5 y11 (moreScale B y4 y5 y9 y11)
      ∧ T.2.2.2.1 = gainChain B y4 y6 y11 (moreGain B y4 y6 y10 y11) ∧ T.2.2.2.2.1 = prodPieces B y1 y2 :=
  ⟨by sl_kernel_rfl, by sl_kernel_rfl, by sl_kernel_rfl, by sl_kernel_rfl, by sl_kernel_rfl⟩

set_option maxHeartbeats 2000000 in
theorem last_lists (h hs hf) : let T := turnLast (F := F) c i B y1 y2 y3 y4 y5 y6 y8 y9 y10 y11 h hs hf
    T.1 = rowPieces B y3 y4 y5 y6 y11 ∧ T.2.1 = shiftChain B y11 (moreShift B y8 y11) ∧ T.2.2.1 = scaleChain B y4 y5 y11 (moreScale B y4 y5 y9 y11)
      ∧ T.2.2.2.1 = gainChain B y4 y6 y11 (moreGain B y4 y6 y10 y11) :=
  ⟨by sl_kernel_rfl, by sl_kernel_rfl, by sl_kernel_rfl, by sl_kernel_rfl⟩

end Turns

end Cert.Kernel4Ideal.Pre
-- ==== Proof.PreSum.lean ====
module

public import proofs.«01_k».proof.Proof.PreTile
public import Idealize.ShloMosaic.Lib.ValueIdx
public import Idealize.ShloMosaic.Lib.Pointwise

@[expose] public section

noncomputable section

namespace Cert.Kernel4Ideal.Pre

open Idealize.ShloMosaic Idealize.ShloMosaic.TcCoe Idealize.ShloMosaic.Tactic
open Cert.Kernel4Ideal.Gen

/-! # The turns' arithmetic over the reals. -/

theorem real_sum {α : Type*} (s : Finset α) (f : α → ℝ) : ((∑ i ∈ s, f i : ℝ) : EReal) = ∑ i ∈ s, (f i : EReal) := map_sum (⟨⟨((↑) : ℝ → EReal), EReal.coe_zero⟩, EReal.coe_add⟩ : ℝ →+ EReal) f s

/-- The number added under the root. -/
def tiny : ℝ := 8796093 / 8796093022208
theorem tiny_bits : Ideal.ofBits .f32 0x358637BD#32 = ((tiny : ℝ) : EReal) := by
  simp [Ideal.ofBits, Ideal.ieee]; unfold tiny; rw [← EReal.coe_mul]; norm_num
theorem width_bits : Ideal.ofBits .f32 0x44800000#32 = ((1024 : ℝ) : EReal) := by
  simp [Ideal.ofBits, Ideal.ieee]; rw [← EReal.coe_mul]; norm_num
theorem one_bits : Ideal.ofBits .f32 0x3F800000#32 = ((1 : ℝ) : EReal) := by
  simp [Ideal.ofBits, Ideal.ieee]; rw [← EReal.coe_mul]; norm_num

/-- Under the root. -/
def under (x : ℕ → ℝ) : ℝ := (∑ l : Fin 1024, x l.val * x l.val) * (1 / 1024) + tiny
theorem under_pos (x : ℕ → ℝ) : 0 < under x := by
  have : 0 ≤ ∑ l : Fin 1024, x l.val * x l.val := Finset.sum_nonneg fun l _ => mul_self_nonneg _
  unfold under tiny; positivity
/-- The reciprocal root of a row's mean square. -/
def inv (x : ℕ → ℝ) : ℝ := (√(under x))⁻¹
theorem rsqrt_under (x : ℕ → ℝ) : Ideal.rsqrt ((under x : ℝ) : EReal) = ((inv x : ℝ) : EReal) := by
  rw [Ideal.rsqrt_coe, if_neg (not_lt.mpr (under_pos x).le), if_neg (under_pos x).ne']; rfl

/-- A row's gradient, from its product row `d`, its input `x`, and the row added. -/
def back (d x e g s : ℕ → ℝ) (j : ℕ) : ℝ :=
  e j + inv x * (d j * (1 + s j) * g j - x j * inv x * ((∑ l : Fin 1024, d l.val * (1 + s l.val) * g l.val * (x l.val * inv x)) * (1 / 1024)))

def Rows {a b : ℕ} (X : ℕ → ℕ → ℝ) (y : FVec Ideal (⟨2, ![a, b]⟩ : Shape) .f32) : Prop := ∀ (i : Fin a) (j : Fin b), y (ix2 i j) = ((X i.val j.val : ℝ) : EReal)

section Block
variable {d x e : Vec Ideal S64x1024 .f32} {D X E : ℕ → ℕ → ℝ} (hd : Rows D d) (hx : Rows X x) (he : Rows E e)
  {g : Vec Ideal S1x1024 .f32} {G : ℕ → ℝ} (hg : ∀ j : Fin 1024, g (ix2 0 j) = ((G j.val : ℝ) : EReal))
  {s : Vec Ideal S1x1x1024 .f32} {S : ℕ → ℝ} (hs : ∀ j : Fin 1024, s (ix3 0 0 j) = ((S j.val : ℝ) : EReal))

include hx in
theorem inv_at (r : Fin 64) : k0_pay17 (F := Ideal) x (ix2 r 0) = ((inv (X r.val) : ℝ) : EReal) := by
  unfold k0_pay17
  pointwise [hx _ _, width_bits, tiny_bits]
  simp only [← EReal.coe_mul, ← real_sum]
  rw [Ideal.div_coe (by norm_num), ← EReal.coe_mul, ← EReal.coe_add]
  exact rsqrt_under _

include hx in
theorem unit_at : Rows (fun r j => X r j * inv (X r)) (k0_pay18 (F := Ideal) x) := by
  intro r j
  unfold k0_pay18
  pointwise [inv_at hx, hx _ _]
  rw [← EReal.coe_mul]

include hd in
theorem shift_at (j : Fin 1024) : k0_pay19 (F := Ideal) d (ix2 0 j) = ((∑ r : Fin 64, D r.val j.val : ℝ) : EReal) := by
  unfold k0_pay19
  pointwise [hd _ _]
  rw [real_sum]

include hd hx hg in
theorem scale_at (j : Fin 1024) : k0_pay22 (F := Ideal) d x g (ix1 j) = ((∑ r : Fin 64, D r.val j.val * (X r.val j.val * inv (X r.val)) * G j.val : ℝ) : EReal) := by
  unfold k0_pay22
  pointwise [hd _ _, unit_at hx _ _, hg _]
  simp only [← EReal.coe_mul, ← real_sum]

include hd hs in
theorem scaled_at : Rows (fun r j => D r j * (1 + S j)) (k0_pay26 (F := Ideal) d s) := by
  intro r j
  unfold k0_pay26
  pointwise [hd _ _, hs _, one_bits]
  rw [← EReal.coe_add, ← EReal.coe_mul]

include hd hx hs in
theorem gain_at (j : Fin 1024) : k0_pay27 (F := Ideal) d (k0_pay18 x) s (ix2 0 j) = ((∑ r : Fin 64, D r.val j.val * (1 + S j.val) * (X r.val j.val * inv (X r.val)) : ℝ) : EReal) := by
  unfold k0_pay27
  pointwise [scaled_at hd hs _ _, unit_at hx _ _]
  simp only [← EReal.coe_mul, ← real_sum]

include hd hx he hg hs in
theorem back_at : Rows (fun r j => back (D r) (X r) (E r) G S j) (k0_pay29 (F := Ideal) d (k0_pay17 x) (k0_pay18 x) g s e) := by
  intro r j
  unfold k0_pay29
  pointwise [scaled_at hd hs _ _, unit_at hx _ _, inv_at hx _, hg _, he _ _, width_bits]
  simp only [← EReal.coe_mul, ← real_sum]
  rw [Ideal.div_coe (by norm_num)]
  simp only [← EReal.coe_mul, ← EReal.coe_sub, ← EReal.coe_add]
  rfl

end Block

end Cert.Kernel4Ideal.Pre
-- ==== Proof.PreTurn.lean ====
module

public import proofs.«01_k».proof.Proof.PreSum
public import Idealize.ShloMosaic.Lib.Pipeline.CanonAppend

@[expose] public section

noncomputable section

namespace Cert.Kernel4Ideal.Pre

open Idealize.ShloMosaic Idealize.ShloMosaic.TcCoe Idealize.ShloMosaic.Tactic
open Cert.Kernel4Ideal.Gen

/-! # What a turn leaves, over the reals -/

theorem sum_blocks (f : ℕ → ℝ) : ∑ r : Fin 512, f r.val = (∑ r : Fin 64, f (0 + r.val)) + (∑ r : Fin 64, f (64 + r.val)) + (∑ r : Fin 64, f (128 + r.val))
    + (∑ r : Fin 64, f (192 + r.val)) + (∑ r : Fin 64, f (256 + r.val)) + (∑ r : Fin 64, f (320 + r.val)) + (∑ r : Fin 64, f (384 + r.val)) + (∑ r : Fin 64, f (448 + r.val)) := by
  have e (n : ℕ) : ∑ r : Fin 64, f (n + r.val) = ∑ r ∈ Finset.range 64, f (n + r) := (Finset.sum_range fun r => f (n + r)).symm
  rw [← Finset.sum_range f]
  simp only [e]
  rw [show 512 = 448 + 64 from rfl, Finset.sum_range_add, show 448 = 384 + 64 from rfl, Finset.sum_range_add, show 384 = 320 + 64 from rfl, Finset.sum_range_add,
    show 320 = 256 + 64 from rfl, Finset.sum_range_add, show 256 = 192 + 64 from rfl, Finset.sum_range_add, show 192 = 128 + 64 from rfl, Finset.sum_range_add,
    show 128 = 64 + 64 from rfl, Finset.sum_range_add]
  simp only [zero_add]

/-- Eight steps of adding, at one place. -/
theorem eight_sum {α : Type} (add : ∀ n : ℕ, (∀ a, ![n, 0] a + S64x1024.size a ≤ S512x1024.size a) → (α → EReal) → (α → EReal)) (f : ℕ → ℝ) (k : α)
    (hadd : ∀ n h z, add n h z k = z k + ((∑ r : Fin 64, f (n + r.val) : ℝ) : EReal)) (w : α → EReal) (u : ℝ) (hw : w k = ((u + ∑ r : Fin 64, f (0 + r.val) : ℝ) : EReal)) :
    (eight add).dropLast.foldr (· ·) w k = ((u + ∑ r : Fin 512, f r.val : ℝ) : EReal) := by
  rw [sum_blocks]
  simp only [eight, List.dropLast, List.foldr, hadd, hw]
  simp only [← EReal.coe_add, add_assoc]

section Read
variable {sg : RefSig} {κ : Kind} {sp : Space} {w : Memref sg κ sp S512x1024 .f32} (hw : w.IsWhole) {y : Vec Ideal S512x1024 .f32} {Y : ℕ → ℕ → ℝ} (hy : Rows Y y)

include hy in
theorem read_rows (n : ℕ) (h : ∀ a, ![n, 0] a + S64x1024.size a ≤ S512x1024.size a) : Rows (fun r j => Y (n + r) j)
    (View.readAt (Elt Ideal) w.view (Rect.unit (s := S512x1024) ![n, 0] S64x1024.size h).toLoadRect (hw.unread y)) := by
  intro r j
  have h0 : n + 64 ≤ 512 := h 0
  have hr := r.isLt
  rw [View.readAt_eq_ld, hw.read_unread y]
  refine Eq.trans (congrArg y (funext fun a => Fin.ext ?_)) (hy ⟨n + r.val, by omega⟩ j)
  fin_cases a
  · exact (LoadRect.idx_apply ..).trans (congrArg (n + ·) (one_mul r.val))
  · exact (LoadRect.idx_apply ..).trans ((congrArg (0 + ·) (one_mul j.val)).trans (zero_add j.val))
end Read

section Whole
variable {sg : RefSig} {κ : Kind} {sp : Space} {S : Shape} {w : Memref sg κ sp S .f32} (hw : w.IsWhole) (y : Vec Ideal S .f32)
theorem read_whole {off : Fin S.rank → ℕ} (h : ∀ a, off a + S.size a ≤ S.size a) (z : ∀ a, off a = 0) :
    View.readAt (Elt Ideal) w.view (Rect.unit (s := S) off S.size h).toLoadRect (hw.unread y) = y := by
  rw [View.readAt_eq_ld, hw.read_unread y]
  funext i
  refine congrArg y (funext fun a => Fin.ext ?_)
  exact (LoadRect.idx_apply ..).trans (by simp [Rect.toLoadRect, Rect.unit, z a])
end Whole

variable (B : Bufs) {y1 : Vec Ideal S4x512x512 .bf16} {y2 : Vec Ideal S4x512x1024 .bf16} {y3 y4 : Vec Ideal S512x1024 .f32} {y5 : Vec Ideal S1x1024 .f32} {y6 : Vec Ideal S1x6x1024 .f32}
  {y8 y9 : Vec Ideal S1x1x1024 .f32} {y10 : Vec Ideal S1x1024 .f32} {y11 : Vec Ideal S512x1024 .f32}
  {A W : ℕ → ℕ → ℕ → ℝ} {E X D : ℕ → ℕ → ℝ} {G S : ℕ → ℝ}
  (ha : ∀ (g : Fin 4) (r k : Fin 512), y1 (ix3 g r k) = ((A g.val r.val k.val : ℝ) : EReal)) (hb : ∀ (g : Fin 4) (k : Fin 512) (j : Fin 1024), y2 (ix3 g k j) = ((W g.val k.val j.val : ℝ) : EReal))
  (he : Rows E y3) (hx : Rows X y4) (hg : ∀ j : Fin 1024, y5 (ix2 0 j) = ((G j.val : ℝ) : EReal)) (hs : ∀ j : Fin 1024, y6 (ix3 0 1 j) = ((S j.val : ℝ) : EReal))
  (hd : Rows D y11)

include hg in
theorem read_gain (j : Fin 1024) : readG B y5 (ix2 0 j) = ((G j.val : ℝ) : EReal) :=
  (congrFun (read_whole B.h5 y5 inb_S1x1024_S1x1024_0_0 (by decide)) _).trans (hg j)

include hs in
theorem read_mod (j : Fin 1024) : readM B y6 (ix3 0 0 j) = ((S j.val : ℝ) : EReal) := by
  unfold readM
  rw [View.readAt_eq_ld, B.h6.read_unread y6]
  refine Eq.trans (congrArg y6 (funext fun a => Fin.ext ?_)) (hs j)
  fin_cases a
  · exact (LoadRect.idx_apply ..).trans rfl
  · exact (LoadRect.idx_apply ..).trans rfl
  · exact (LoadRect.idx_apply ..).trans ((congrArg (0 + ·) (one_mul j.val)).trans (zero_add j.val))

include ha in
theorem read_a (n : ℕ) (hn : n < 4) (h) (r k : Fin 512) : readA B y1 n h (ix3 0 r k) = ((A n r.val k.val : ℝ) : EReal) := by
  unfold readA
  rw [View.readAt_eq_ld, B.h1.read_unread y1]
  refine Eq.trans (congrArg y1 (funext fun a => Fin.ext ?_)) (ha ⟨n, hn⟩ r k)
  fin_cases a
  · exact (LoadRect.idx_apply ..).trans rfl
  · exact (LoadRect.idx_apply ..).trans ((congrArg (0 + ·) (one_mul r.val)).trans (zero_add _))
  · exact (LoadRect.idx_apply ..).trans ((congrArg (0 + ·) (one_mul k.val)).trans (zero_add _))

include hb in
theorem read_b (n : ℕ) (hn : n < 4) (q : ℕ) (hq : q + 256 ≤ 1024) (h) (k : Fin 512) (j : Fin 256) : readB B y2 n q h (ix3 0 k j) = ((W n k.val (q + j.val) : ℝ) : EReal) := by
  unfold readB
  rw [View.readAt_eq_ld, B.h2.read_unread y2]
  refine Eq.trans (congrArg y2 (funext fun a => Fin.ext ?_)) (hb ⟨n, hn⟩ k ⟨q + j.val, by omega⟩)
  fin_cases a
  · exact (LoadRect.idx_apply ..).trans rfl
  · exact (LoadRect.idx_apply ..).trans ((congrArg (0 + ·) (one_mul k.val)).trans (zero_add _))
  · exact (LoadRect.idx_apply ..).trans (congrArg (q + ·) (one_mul j.val))

/-- The product of a tile. -/
def prodR (A W : ℕ → ℕ → ℕ → ℝ) (r j : ℕ) : ℝ := ∑ g : Fin 4, ∑ k : Fin 512, A g.val r k.val * W g.val k.val j

include ha hb in
theorem col_at (q : ℕ) (hq : q + 256 ≤ 1024) (h0 h1 h2 h3 h) (r : Fin 512) (j : Fin 256) :
    (prodPiece B y1 y2 q h0 h1 h2 h3 h).2 (ix2 r j) = ((prodR A W r.val (q + j.val) : ℝ) : EReal) := by
  show colProd _ _ _ _ _ _ _ _ (ix2 r j) = _
  unfold colProd
  pointwise [read_a B ha 0 (by omega) _ _ _, read_a B ha 1 (by omega) _ _ _, read_a B ha 2 (by omega) _ _ _, read_a B ha 3 (by omega) _ _ _,
    read_b B hb 0 (by omega) q hq _ _ _, read_b B hb 1 (by omega) q hq _ _ _, read_b B hb 2 (by omega) q hq _ _ _, read_b B hb 3 (by omega) q hq _ _ _]
  simp only [← EReal.coe_mul, ← real_sum, ← EReal.coe_add]
  rw [prodR, Fin.sum_univ_four]
  rfl

include ha hb in
theorem prod_value (hc : ∀ y, ∃ p ∈ prodPieces (F := Ideal) B y1 y2, y ∈ p.1.set) : Rows (prodR A W) (View.canon (prodPieces B y1 y2)) := by
  intro r j
  refine (congrFun (congrArg View.canon (List.append_nil _).symm) _).trans ((View.canon_append_of_pieces (fun i => ((prodR A W (i 0).val (i 1).val : ℝ) : EReal)) [] _ ?_ _ (hc _)).trans rfl)
  intro p hp x
  have key (q : ℕ) (hq : q + 256 ≤ 1024) (h0 h1 h2 h3 h) (x : S512x256.Idx) : (prodPiece B y1 y2 q h0 h1 h2 h3 h).2 x
      = ((prodR A W ((prodPiece B y1 y2 q h0 h1 h2 h3 h).1.emb x 0).val ((prodPiece B y1 y2 q h0 h1 h2 h3 h).1.emb x 1).val : ℝ) : EReal) := by
    idx_vars x
    have e0 : ((prodPiece B y1 y2 q h0 h1 h2 h3 h).1.emb (ix2 x0 x1) 0).val = x0.val := (congrArg (0 + ·) (one_mul _)).trans (zero_add _)
    have e1 : ((prodPiece B y1 y2 q h0 h1 h2 h3 h).1.emb (ix2 x0 x1) 1).val = q + x1.val := congrArg (q + ·) (one_mul _)
    rw [e0, e1]
    exact col_at B ha hb q hq _ _ _ _ _ _ _
  simp only [prodPieces, List.mem_cons, List.mem_nil_iff, or_false] at hp
  rcases hp with rfl | rfl | rfl | rfl
  all_goals exact key _ (by omega) _ _ _ _ _ x

include hd hx he hg hs in
theorem rows_value (hc : ∀ y, ∃ p ∈ rowPieces (F := Ideal) B y3 y4 y5 y6 y11, y ∈ p.1.set) :
    Rows (fun r j => back (D r) (X r) (E r) G S j) (View.canon (rowPieces B y3 y4 y5 y6 y11)) := by
  intro r j
  refine (congrFun (congrArg View.canon (List.append_nil _).symm) _).trans ((View.canon_append_of_pieces
    (fun i => ((back (D (i 0).val) (X (i 0).val) (E (i 0).val) G S (i 1).val : ℝ) : EReal)) [] _ ?_ _ (hc _)).trans rfl)
  intro p hp x
  have key (n : ℕ) (h) (x : S64x1024.Idx) : (rowPiece B y3 y4 y5 y6 y11 n h).2 x
      = ((back (D ((rowPiece B y3 y4 y5 y6 y11 n h).1.emb x 0).val) (X ((rowPiece B y3 y4 y5 y6 y11 n h).1.emb x 0).val)
        (E ((rowPiece B y3 y4 y5 y6 y11 n h).1.emb x 0).val) G S ((rowPiece B y3 y4 y5 y6 y11 n h).1.emb x 1).val : ℝ) : EReal) := by
    idx_vars x
    refine (back_at (read_rows B.h11 hd n h) (read_rows B.h4 hx n h) (read_rows B.h3 he n h) (read_gain B hg) (read_mod B hs) x0 x1).trans ?_
    have e0 : ((rowPiece B y3 y4 y5 y6 y11 n h).1.emb (ix2 x0 x1) 0).val = n + x0.val := congrArg (n + ·) (one_mul _)
    have e1 : ((rowPiece B y3 y4 y5 y6 y11 n h).1.emb (ix2 x0 x1) 1).val = x1.val := (congrArg (0 + ·) (one_mul _)).trans (zero_add _)
    rw [e0, e1]
  simp only [rowPieces, eight, List.mem_cons, List.mem_nil_iff, or_false] at hp
  rcases hp with rfl | rfl | rfl | rfl | rfl | rfl | rfl | rfl
  all_goals exact key _ _ x

/-! The sums -/

def shiftR (D : ℕ → ℕ → ℝ) (j : ℕ) : ℝ := ∑ r : Fin 512, D r.val j
def scaleR (D X : ℕ → ℕ → ℝ) (G : ℕ → ℝ) (j : ℕ) : ℝ := ∑ r : Fin 512, D r.val j * (X r.val j * inv (X r.val)) * G j
def gainR (D X : ℕ → ℕ → ℝ) (S : ℕ → ℝ) (j : ℕ) : ℝ := ∑ r : Fin 512, D r.val j * (1 + S j) * (X r.val j * inv (X r.val))

include hd in
theorem addShift_at (n h) (z : S1x1x1024.Idx → EReal) (j : Fin 1024) : addShift (F := Ideal) B y11 n h z (ix3 0 0 j) = z (ix3 0 0 j) + ((∑ r : Fin 64, D (n + r.val) j.val : ℝ) : EReal) := by
  rw [← shift_at (read_rows B.h11 hd n h) j]
  show k0_pay21 (F := Ideal) (readH B y11 n h) z (ix3 0 0 j) = z (ix3 0 0 j) + k0_pay19 (readH B y11 n h) (ix2 0 j)
  unfold k0_pay21
  pointwise

include hd hx hg in
theorem addScale_at (n h) (z : S1x1x1024.Idx → EReal) (j : Fin 1024) : addScale (F := Ideal) B y4 y5 y11 n h z (ix3 0 0 j)
    = z (ix3 0 0 j) + ((∑ r : Fin 64, D (n + r.val) j.val * (X (n + r.val) j.val * inv (X (n + r.val))) * G j.val : ℝ) : EReal) := by
  rw [← scale_at (read_rows B.h11 hd n h) (read_rows B.h4 hx n h) (read_gain B hg) j]
  show k0_pay25 (F := Ideal) (k0_pay22 (readH B y11 n h) (readX B y4 n h) (readG B y5)) z (ix3 0 0 j) = z (ix3 0 0 j) + k0_pay22 (readH B y11 n h) (readX B y4 n h) (readG B y5) (ix1 j)
  unfold k0_pay25 k0_pay23
  pointwise

include hd hx hs in
theorem addGain_at (n h) (z : S1x1024.Idx → EReal) (j : Fin 1024) : addGain (F := Ideal) B y4 y6 y11 n h z (ix2 0 j)
    = z (ix2 0 j) + ((∑ r : Fin 64, D (n + r.val) j.val * (1 + S j.val) * (X (n + r.val) j.val * inv (X (n + r.val))) : ℝ) : EReal) := by
  rw [← gain_at (read_rows B.h11 hd n h) (read_rows B.h4 hx n h) (read_mod B hs) j]
  show k0_pay28 (F := Ideal) (readH B y11 n h) (k0_pay18 (readX B y4 n h)) (readM B y6) z (ix2 0 j) = z (ix2 0 j) + k0_pay27 (readH B y11 n h) (k0_pay18 (readX B y4 n h)) (readM B y6) (ix2 0 j)
  unfold k0_pay28
  pointwise

theorem zeros3 : (![0, 0, 0] : Fin 3 → ℕ) = fun _ => 0 := by decide
theorem zeros2 : (![0, 0] : Fin 2 → ℕ) = fun _ => 0 := by decide

include hd in
theorem shift_total {w : S1x1x1024.Idx → EReal} (u : ℕ → ℝ) (j : Fin 1024) (hw : w (ix3 0 0 j) = ((u j.val + ∑ r : Fin 64, D (0 + r.val) j.val : ℝ) : EReal)) :
    View.canon (shiftChain (F := Ideal) B y11 w) (ix3 0 0 j) = ((u j.val + shiftR D j.val : ℝ) : EReal) := by
  unfold shiftChain
  rw [canon_chain _ _ _ zeros3]
  exact eight_sum (addShift (F := Ideal) B y11) (fun r => D r j.val) (ix3 0 0 j) (fun n h z => addShift_at B hd n h z j) w _ hw

include hd hx hg in
theorem scale_total {w : S1x1x1024.Idx → EReal} (u : ℕ → ℝ) (j : Fin 1024)
    (hw : w (ix3 0 0 j) = ((u j.val + ∑ r : Fin 64, D (0 + r.val) j.val * (X (0 + r.val) j.val * inv (X (0 + r.val))) * G j.val : ℝ) : EReal)) :
    View.canon (scaleChain (F := Ideal) B y4 y5 y11 w) (ix3 0 0 j) = ((u j.val + scaleR D X G j.val : ℝ) : EReal) := by
  unfold scaleChain
  rw [canon_chain _ _ _ zeros3]
  exact eight_sum (addScale (F := Ideal) B y4 y5 y11) (fun r => D r j.val * (X r j.val * inv (X r)) * G j.val) (ix3 0 0 j) (fun n h z => addScale_at B hx hg hd n h z j) w _ hw

include hd hx hs in
theorem gain_total {w : S1x1024.Idx → EReal} (u : ℕ → ℝ) (j : Fin 1024)
    (hw : w (ix2 0 j) = ((u j.val + ∑ r : Fin 64, D (0 + r.val) j.val * (1 + S j.val) * (X (0 + r.val) j.val * inv (X (0 + r.val))) : ℝ) : EReal)) :
    View.canon (gainChain (F := Ideal) B y4 y6 y11 w) (ix2 0 j) = ((u j.val + gainR D X S j.val : ℝ) : EReal) := by
  unfold gainChain
  rw [canon_chain _ _ _ zeros2]
  exact eight_sum (addGain (F := Ideal) B y4 y6 y11) (fun r => D r j.val * (1 + S j.val) * (X r j.val * inv (X r))) (ix2 0 j) (fun n h z => addGain_at B hx hs hd n h z j) w _ hw

include hd in
theorem shift_new (j : Fin 1024) : View.canon (shiftChain (F := Ideal) B y11 (newShift B y11)) (ix3 0 0 j) = ((shiftR D j.val : ℝ) : EReal) := by
  refine (shift_total B hd (fun _ => 0) j ?_).trans (by rw [zero_add])
  rw [zero_add, ← shift_at (read_rows B.h11 hd 0 inb_S512x1024_S64x1024_0_0) j]
  show k0_pay20 (F := Ideal) (readH B y11 0 _) (ix3 0 0 j) = k0_pay19 (readH B y11 0 _) (ix2 0 j)
  unfold k0_pay20
  pointwise

include hd in
theorem shift_more {U : ℕ → ℝ} (j : Fin 1024) (hu : y8 (ix3 0 0 j) = ((U j.val : ℝ) : EReal)) :
    View.canon (shiftChain (F := Ideal) B y11 (moreShift B y8 y11)) (ix3 0 0 j) = ((U j.val + shiftR D j.val : ℝ) : EReal) := by
  refine shift_total B hd U j ?_
  rw [EReal.coe_add, ← hu]
  refine (addShift_at B hd _ _ _ j).trans (congrArg (· + _) ?_)
  exact congrFun (read_whole B.h8 y8 inb_S1x1x1024_S1x1x1024_0_0_0 (by decide)) _

include hd hx hg in
theorem scale_new (j : Fin 1024) : View.canon (scaleChain (F := Ideal) B y4 y5 y11 (newScale B y4 y5 y11)) (ix3 0 0 j) = ((scaleR D X G j.val : ℝ) : EReal) := by
  refine (scale_total B hx hg hd (fun _ => 0) j ?_).trans (by rw [zero_add])
  rw [zero_add, ← scale_at (read_rows B.h11 hd 0 inb_S512x1024_S64x1024_0_0) (read_rows B.h4 hx 0 inb_S512x1024_S64x1024_0_0) (read_gain B hg) j]
  show k0_pay24 (F := Ideal) (k0_pay22 (readH B y11 0 _) (readX B y4 0 _) (readG B y5)) (ix3 0 0 j) = k0_pay22 (readH B y11 0 _) (readX B y4 0 _) (readG B y5) (ix1 j)
  unfold k0_pay24 k0_pay23
  pointwise

include hd hx hg in
theorem scale_more {U : ℕ → ℝ} (j : Fin 1024) (hu : y9 (ix3 0 0 j) = ((U j.val : ℝ) : EReal)) :
    View.canon (scaleChain (F := Ideal) B y4 y5 y11 (moreScale B y4 y5 y9 y11)) (ix3 0 0 j) = ((U j.val + scaleR D X G j.val : ℝ) : EReal) := by
  refine scale_total B hx hg hd U j ?_
  rw [EReal.coe_add, ← hu]
  refine (addScale_at B hx hg hd _ _ _ j).trans (congrArg (· + _) ?_)
  exact congrFun (read_whole B.h9 y9 inb_S1x1x1024_S1x1x1024_0_0_0 (by decide)) _

include hd hx hs in
theorem gain_new (j : Fin 1024) : View.canon (gainChain (F := Ideal) B y4 y6 y11 (newGain B y4 y6 y11)) (ix2 0 j) = ((gainR D X S j.val : ℝ) : EReal) := by
  refine (gain_total B hx hs hd (fun _ => 0) j ?_).trans (by rw [zero_add])
  rw [zero_add]
  exact gain_at (read_rows B.h11 hd 0 inb_S512x1024_S64x1024_0_0) (read_rows B.h4 hx 0 inb_S512x1024_S64x1024_0_0) (read_mod B hs) j

include hd hx hs in
theorem gain_more {U : ℕ → ℝ} (j : Fin 1024) (hu : y10 (ix2 0 j) = ((U j.val : ℝ) : EReal)) :
    View.canon (gainChain (F := Ideal) B y4 y6 y11 (moreGain B y4 y6 y10 y11)) (ix2 0 j) = ((U j.val + gainR D X S j.val : ℝ) : EReal) := by
  refine gain_total B hx hs hd U j ?_
  rw [EReal.coe_add, ← hu]
  refine (addGain_at B hx hs hd _ _ _ j).trans (congrArg (· + _) ?_)
  exact congrFun (read_whole B.h10 y10 inb_S1x1024_S1x1024_0_0 (by decide)) _

end Cert.Kernel4Ideal.Pre
-- ==== Proof.PreKept.lean ====
module

public import proofs.«01_k».proof.Proof.PreRun
public import proofs.«01_k».proof.Proof.PreTurn
public import Idealize.ShloMosaic.Lib.Pipeline.ValueKit

@[expose] public section

set_option maxRecDepth 16384

noncomputable section

namespace Cert.Kernel4Ideal.Pre

open Idealize.ShloMosaic Idealize.ShloMosaic.TcCoe Idealize.ShloMosaic.Tactic Idealize.ShloMosaic.Pipeline
open Idealize.SL Idealize.SL.RA Idealize.SL.BI
open Cert.Kernel4Ideal.Gen

/-! # What every point leaves, over the reals -/

theorem idx0 : ∀ t : Fin cfg0.N, (t.val < 8 → win0_0.index t = ![0, t.val, 0]) ∧ win0_1.index t = ![0, 0, 0] ∧ win0_2.index t = ![t.val - 1, 0] ∧ win0_3.index t = ![t.val - 1, 0]
    ∧ win0_4.index t = ![0, 0] ∧ win0_5.index t = ![(t.val - 1) / 4, 0, 0] ∧ t.val < 9 :=
  (by decide +kernel : ∀ t : Fin grid0.N, _)

variable (m : (ℓ : Loc nD τ sig) → Buf (Elt Ideal) ℓ) (c : Dev nD)

/-- The arrays the kernel reads, as real numbers. -/
structure Reads (A W : ℕ → ℕ → ℕ → ℝ) (E X : ℕ → ℕ → ℝ) (G : ℕ → ℝ) (M : ℕ → ℕ → ℝ) : Prop where
  a : ∀ (g : Fin 4) (r : Fin 4096) (k : Fin 512), (V m c main_arg0 : Vec Ideal S4x4096x512 .bf16) (ix3 g r k) = ((A g.val r.val k.val : ℝ) : EReal)
  w : ∀ (g : Fin 4) (k : Fin 512) (j : Fin 1024), (V m c main_v3 : Vec Ideal S4x512x1024 .bf16) (ix3 g k j) = ((W g.val k.val j.val : ℝ) : EReal)
  e : Rows E (V m c main_arg2 : Vec Ideal S4096x1024 .f32)
  x : Rows X (V m c main_arg3 : Vec Ideal S4096x1024 .f32)
  g : ∀ j : Fin 1024, (V m c main_arg4 : Vec Ideal S1x1024 .f32) (ix2 0 j) = ((G j.val : ℝ) : EReal)
  m : ∀ (s : Fin 2) (j : Fin 1024), (V m c main_arg5 : Vec Ideal S2x6x1024 .f32) (ix3 s 1 j) = ((M s.val j.val : ℝ) : EReal)

/-- Rows of tile `n`. -/
def tile (P : ℕ → ℕ → ℝ) (n : ℕ) : ℕ → ℕ → ℝ := fun r j => P (512 * n + r) j

variable {m c} {A W : ℕ → ℕ → ℕ → ℝ} {E X : ℕ → ℕ → ℝ} {G : ℕ → ℝ} {M : ℕ → ℕ → ℝ} (R : Reads m c A W E X G M)

include R in
theorem blk_a (t : Fin cfg0.N) (h : t.val < 8) (g : Fin 4) (r k : Fin 512) : iblk m c 0 t (ix3 g r k) = ((A g.val (512 * t.val + r.val) k.val : ℝ) : EReal) := by
  refine Eq.trans ?_ (R.a g ⟨512 * t.val + r.val, by omega⟩ k)
  have e := (idx0 t).1 h
  blk_simp [iblk]
  blk_ext [e]
include R in
theorem blk_w (t : Fin cfg0.N) (g : Fin 4) (k : Fin 512) (j : Fin 1024) : iblk m c 1 t (ix3 g k j) = ((W g.val k.val j.val : ℝ) : EReal) := by
  refine Eq.trans ?_ (R.w g k j)
  blk_simp [iblk]
  blk_ext [idx0 t]
include R in
theorem blk_e (t : Fin cfg0.N) : Rows (tile E (t.val - 1)) (iblk m c 2 t) := fun r j => by
  have ht := (idx0 t).2.2.2.2.2.2
  refine Eq.trans ?_ (R.e ⟨512 * (t.val - 1) + r.val, by omega⟩ j)
  blk_simp [iblk]
  blk_ext [idx0 t]
include R in
theorem blk_x (t : Fin cfg0.N) : Rows (tile X (t.val - 1)) (iblk m c 3 t) := fun r j => by
  have ht := (idx0 t).2.2.2.2.2.2
  refine Eq.trans ?_ (R.x ⟨512 * (t.val - 1) + r.val, by omega⟩ j)
  blk_simp [iblk]
  blk_ext [idx0 t]
include R in
theorem blk_g (t : Fin cfg0.N) (j : Fin 1024) : iblk m c 4 t (ix2 0 j) = ((G j.val : ℝ) : EReal) := by
  refine Eq.trans ?_ (R.g j)
  blk_simp [iblk]
  blk_ext [idx0 t]
include R in
theorem blk_m (t : Fin cfg0.N) (j : Fin 1024) : iblk m c 5 t (ix3 0 1 j) = ((M ((t.val - 1) / 4) j.val : ℝ) : EReal) := by
  have ht := (idx0 t).2.2.2.2.2.2
  refine Eq.trans ?_ (R.m ⟨(t.val - 1) / 4, by omega⟩ j)
  blk_simp [iblk]
  blk_ext [idx0 t]

/-- The product of the whole arrays. -/
def prodArr (A W : ℕ → ℕ → ℕ → ℝ) : ℕ → ℕ → ℝ := prodR A W

def backArr (A W : ℕ → ℕ → ℕ → ℝ) (E X : ℕ → ℕ → ℝ) (G : ℕ → ℝ) (M : ℕ → ℕ → ℝ) (r j : ℕ) : ℝ := back (prodR A W r) (X r) (E r) G (M (r / 2048)) j
/-- The column sums of one tile. -/
def shiftT (A W : ℕ → ℕ → ℕ → ℝ) (n j : ℕ) : ℝ := shiftR (tile (prodR A W) n) j
def scaleT (A W : ℕ → ℕ → ℕ → ℝ) (X : ℕ → ℕ → ℝ) (G : ℕ → ℝ) (n j : ℕ) : ℝ := scaleR (tile (prodR A W) n) (tile X n) G j
def gainT (A W : ℕ → ℕ → ℕ → ℝ) (X : ℕ → ℕ → ℝ) (M : ℕ → ℕ → ℝ) (n j : ℕ) : ℝ := gainR (tile (prodR A W) n) (tile X n) (M (n / 4)) j

/-- What is kept once tile `n` is finished. -/
structure Done (A W : ℕ → ℕ → ℕ → ℝ) (E X : ℕ → ℕ → ℝ) (G : ℕ → ℝ) (M : ℕ → ℕ → ℝ) (n : ℕ) (K : Kept Ideal) : Prop where
  gx : Rows (tile (backArr A W E X G M) n) K.s7
  shift : ∀ j : Fin 1024, K.s8 (ix3 0 0 j) = ((∑ i ∈ Finset.range (n % 4 + 1), shiftT A W (4 * (n / 4) + i) j.val : ℝ) : EReal)
  scale : ∀ j : Fin 1024, K.s9 (ix3 0 0 j) = ((∑ i ∈ Finset.range (n % 4 + 1), scaleT A W X G (4 * (n / 4) + i) j.val : ℝ) : EReal)
  gain : ∀ j : Fin 1024, K.s10 (ix2 0 j) = ((∑ i ∈ Finset.range (n + 1), gainT A W X M i j.val : ℝ) : EReal)

theorem next_sum (f : ℕ → ℝ) (n : ℕ) (h : n % 4 ≠ 0) :
    (∑ i ∈ Finset.range (n % 4 + 1), f (4 * (n / 4) + i)) = (∑ i ∈ Finset.range ((n - 1) % 4 + 1), f (4 * ((n - 1) / 4) + i)) + f n := by
  rw [show (n - 1) / 4 = n / 4 by omega, show (n - 1) % 4 + 1 = n % 4 by omega, Finset.sum_range_succ, show 4 * (n / 4) + n % 4 = n by omega]
theorem first_sum (f : ℕ → ℝ) (n : ℕ) (h : n % 4 = 0) : (∑ i ∈ Finset.range (n % 4 + 1), f (4 * (n / 4) + i)) = f n := by
  rw [h, zero_add, Finset.sum_range_one, show 4 * (n / 4) + 0 = n by omega]

include R in
theorem rows_done (t : Fin cfg0.N) (B : Bufs) {y11 : Vec Ideal S512x1024 .f32} (hd : Rows (tile (prodR A W) (t.val - 1)) y11)
    (hc : ∀ y, ∃ p ∈ rowPieces (F := Ideal) B (iblk m c 2 t) (iblk m c 3 t) (iblk m c 4 t) (iblk m c 5 t) y11, y ∈ p.1.set) :
    Rows (tile (backArr A W E X G M) (t.val - 1)) (View.canon (rowPieces B (iblk m c 2 t) (iblk m c 3 t) (iblk m c 4 t) (iblk m c 5 t) y11)) := fun r j => by
  refine (rows_value B (blk_e R t) (blk_x R t) (blk_g R t) (blk_m R t) hd hc r j).trans ?_
  unfold tile backArr
  rw [show (512 * (t.val - 1) + r.val) / 2048 = (t.val - 1) / 4 by omega]

include R in
theorem prod_done (t : Fin cfg0.N) (h : t.val < 8) {L : List (View.Piece (Elt Ideal) S512x1024 .f32)} (e : L = prodPieces (bufs t) (iblk m c 0 t) (iblk m c 1 t))
    (hc : ∀ y, ∃ p ∈ L, y ∈ p.1.set) : Rows (tile (prodR A W) t.val) (View.canon L) := by
  subst e
  exact prod_value (A := fun g r k => A g (512 * t.val + r) k) (bufs t) (fun g r k => blk_a R t h g r k) (blk_w R t) hc

include R in
theorem head_kept (t : Fin cfg0.N) (h : t.val = 0) : Rows (tile (prodR A W) t.val) (kept m c t.val).s11 := by
  have hk : (kept m c t.val).s11 = View.canon (headAt c t (iblk m c 0 t) (iblk m c 1 t) h).1 := by
    obtain ⟨n, hn⟩ := t
    obtain rfl : n = 0 := h
    show (stepAt m c t0_0 _).s11 = _
    unfold stepAt step; rw [dif_pos (show (t0_0 : Fin cfg0.N).val = 0 from rfl)]; rfl
  rw [hk]
  exact prod_done R t (by omega) (head_lists c (i := grid0.coords t) (bufs t) (iblk m c 0 t) (iblk m c 1 t) (head_conds t h).1 (head_conds t h).2.1 (head_conds t h).2.2)
    (head_cover c t (iblk m c 0 t) (iblk m c 1 t) h)

include R in
/-- A turn's tile and sums, from the forms of its lists. -/
theorem turn_done (t : Fin cfg0.N) {K K' : Kept Ideal} (hd : Rows (tile (prodR A W) (t.val - 1)) K.s11)
    {L7 : List (View.Piece (Elt Ideal) S512x1024 .f32)} (e7 : L7 = rowPieces (bufs t) (iblk m c 2 t) (iblk m c 3 t) (iblk m c 4 t) (iblk m c 5 t) K.s11)
    (hc : ∀ y, ∃ p ∈ L7, y ∈ p.1.set) (k7 : K'.s7 = View.canon L7)
    (h8 : ((t.val - 1) % 4 = 0 ∧ K'.s8 = View.canon (shiftChain (bufs t) K.s11 (newShift (bufs t) K.s11)) ∧ K'.s9 = View.canon (scaleChain (bufs t) (iblk m c 3 t) (iblk m c 4 t) K.s11 (newScale (bufs t) (iblk m c 3 t) (iblk m c 4 t) K.s11)))
      ∨ ((t.val - 1) % 4 ≠ 0 ∧ Done A W E X G M (t.val - 1 - 1) K ∧ K'.s8 = View.canon (shiftChain (bufs t) K.s11 (moreShift (bufs t) K.s8 K.s11))
        ∧ K'.s9 = View.canon (scaleChain (bufs t) (iblk m c 3 t) (iblk m c 4 t) K.s11 (moreScale (bufs t) (iblk m c 3 t) (iblk m c 4 t) K.s9 K.s11))))
    (h10 : (t.val - 1 = 0 ∧ K'.s10 = View.canon (gainChain (bufs t) (iblk m c 3 t) (iblk m c 5 t) K.s11 (newGain (bufs t) (iblk m c 3 t) (iblk m c 5 t) K.s11)))
      ∨ (t.val - 1 ≠ 0 ∧ Done A W E X G M (t.val - 1 - 1) K ∧ K'.s10 = View.canon (gainChain (bufs t) (iblk m c 3 t) (iblk m c 5 t) K.s11 (moreGain (bufs t) (iblk m c 3 t) (iblk m c 5 t) K.s10 K.s11)))) :
    Done A W E X G M (t.val - 1) K' := by
  refine ⟨?_, fun j => ?_, fun j => ?_, fun j => ?_⟩
  · rw [k7, e7]; exact rows_done R t (bufs t) hd (e7 ▸ hc)
  · rcases h8 with ⟨h, e, -⟩ | ⟨h, D, e, -⟩
    · rw [e, first_sum (fun n => shiftT A W n j.val) _ h]; exact shift_new _ hd j
    · rw [e, next_sum (fun n => shiftT A W n j.val) _ h]
      exact shift_more (U := fun j => ∑ i ∈ Finset.range ((t.val - 1 - 1) % 4 + 1), shiftT A W (4 * ((t.val - 1 - 1) / 4) + i) j) _ hd j (D.shift j)
  · rcases h8 with ⟨h, -, e⟩ | ⟨h, D, -, e⟩
    · rw [e, first_sum (fun n => scaleT A W X G n j.val) _ h]; exact scale_new _ (blk_x R t) (blk_g R t) hd j
    · rw [e, next_sum (fun n => scaleT A W X G n j.val) _ h]
      exact scale_more (U := fun j => ∑ i ∈ Finset.range ((t.val - 1 - 1) % 4 + 1), scaleT A W X G (4 * ((t.val - 1 - 1) / 4) + i) j) _ (blk_x R t) (blk_g R t) hd j (D.scale j)
  · rcases h10 with ⟨h, e⟩ | ⟨h, D, e⟩
    · rw [e]
      refine (gain_new _ (blk_x R t) (blk_m R t) hd j).trans ?_
      rw [h, Finset.sum_range_one]; rfl
    · rw [e, Finset.sum_range_succ]
      have hu := D.gain j
      rw [show t.val - 1 - 1 + 1 = t.val - 1 by omega] at hu
      exact gain_more (U := fun j => ∑ i ∈ Finset.range (t.val - 1), gainT A W X M i j) _ (blk_x R t) (blk_m R t) hd j hu

include R in
/-- A turn's tile, sums and product, for any turn whose lists have the forms. -/
theorem turn_kept (t : Fin cfg0.N) {K : Kept Ideal} (hd : Rows (tile (prodR A W) (t.val - 1)) K.s11) {i : grid0.Coords} {P8 P9 P10 : sProp (MT nD τ sig Unit (Elt Ideal) ℕ (UR sig nD τ) ℕ)}
    (T : Turn (F := Ideal) c i (bufs t) (iblk m c 0 t) (iblk m c 1 t) (iblk m c 2 t) (iblk m c 3 t) (iblk m c 4 t) (iblk m c 5 t) K.s11 P8 P9 P10)
    (hc : Covers c _ _ _ _ _ _ T) {w8 w9 : S1x1x1024.Idx → EReal} {w10 : S1x1024.Idx → EReal}
    (l : T.1 = rowPieces (bufs t) (iblk m c 2 t) (iblk m c 3 t) (iblk m c 4 t) (iblk m c 5 t) K.s11 ∧ T.2.1 = shiftChain (bufs t) K.s11 w8
      ∧ T.2.2.1 = scaleChain (bufs t) (iblk m c 3 t) (iblk m c 4 t) K.s11 w9 ∧ T.2.2.2.1 = gainChain (bufs t) (iblk m c 3 t) (iblk m c 5 t) K.s11 w10
      ∧ T.2.2.2.2.1 = prodPieces (bufs t) (iblk m c 0 t) (iblk m c 1 t))
    (h8 : ((t.val - 1) % 4 = 0 ∧ w8 = newShift (bufs t) K.s11 ∧ w9 = newScale (bufs t) (iblk m c 3 t) (iblk m c 4 t) K.s11)
      ∨ ((t.val - 1) % 4 ≠ 0 ∧ Done A W E X G M (t.val - 1 - 1) K ∧ w8 = moreShift (bufs t) K.s8 K.s11 ∧ w9 = moreScale (bufs t) (iblk m c 3 t) (iblk m c 4 t) K.s9 K.s11))
    (h10 : (t.val - 1 = 0 ∧ w10 = newGain (bufs t) (iblk m c 3 t) (iblk m c 5 t) K.s11)
      ∨ (t.val - 1 ≠ 0 ∧ Done A W E X G M (t.val - 1 - 1) K ∧ w10 = moreGain (bufs t) (iblk m c 3 t) (iblk m c 5 t) K.s10 K.s11)) :
    (t.val < 8 → Rows (tile (prodR A W) t.val) (ofTurn c _ _ _ _ _ _ T).s11) ∧ (1 ≤ t.val → Done A W E X G M (t.val - 1) (ofTurn c _ _ _ _ _ _ T)) := by
  obtain ⟨l7, l8, l9, l10, l11⟩ := l
  refine ⟨fun h => prod_done R t h l11 hc.2.2.2.2, fun _ => turn_done R t hd l7 hc.1 rfl ?_ ?_⟩
  · exact h8.imp (fun ⟨h, e, e'⟩ => ⟨h, e ▸ congrArg View.canon l8, e' ▸ congrArg View.canon l9⟩) (fun ⟨h, D, e, e'⟩ => ⟨h, D, e ▸ congrArg View.canon l8, e' ▸ congrArg View.canon l9⟩)
  · exact h10.imp (fun ⟨h, e⟩ => ⟨h, e ▸ congrArg View.canon l10⟩) (fun ⟨h, D, e⟩ => ⟨h, D, e ▸ congrArg View.canon l10⟩)

include R in
/-- The last point's tile and sums. -/
theorem last_kept (t : Fin cfg0.N) (h8 : t.val = 8) {K : Kept Ideal} (hd : Rows (tile (prodR A W) (t.val - 1)) K.s11) (D : Done A W E X G M (t.val - 1 - 1) K) {i : grid0.Coords}
    (T : EndTurn (F := Ideal) c i (bufs t) (iblk m c 0 t) (iblk m c 1 t) (iblk m c 2 t) (iblk m c 3 t) (iblk m c 4 t) (iblk m c 5 t) K.s8 K.s9 K.s10 K.s11)
    (hc : ∀ y, ∃ p ∈ T.1, y ∈ p.1.set)
    (l : T.1 = rowPieces (bufs t) (iblk m c 2 t) (iblk m c 3 t) (iblk m c 4 t) (iblk m c 5 t) K.s11 ∧ T.2.1 = shiftChain (bufs t) K.s11 (moreShift (bufs t) K.s8 K.s11)
      ∧ T.2.2.1 = scaleChain (bufs t) (iblk m c 3 t) (iblk m c 4 t) K.s11 (moreScale (bufs t) (iblk m c 3 t) (iblk m c 4 t) K.s9 K.s11)
      ∧ T.2.2.2.1 = gainChain (bufs t) (iblk m c 3 t) (iblk m c 5 t) K.s11 (moreGain (bufs t) (iblk m c 3 t) (iblk m c 5 t) K.s10 K.s11)) :
    Done A W E X G M (t.val - 1) (ofLast c _ _ _ _ _ _ _ _ _ _ T) := by
  obtain ⟨l7, l8, l9, l10⟩ := l
  exact turn_done R t hd l7 hc rfl (.inr ⟨by omega, D, congrArg View.canon l8, congrArg View.canon l9⟩) (.inr ⟨by omega, D, congrArg View.canon l10⟩)

include R in
theorem good_step (t : Fin cfg0.N) (h0 : t.val ≠ 0) (hd : Rows (tile (prodR A W) (t.val - 1)) (kept m c (t.val - 1)).s11) (hD : 2 ≤ t.val → Done A W E X G M (t.val - 1 - 1) (kept m c (t.val - 1))) :
    (t.val < 8 → Rows (tile (prodR A W) t.val) (kept m c t.val).s11) ∧ (1 ≤ t.val → Done A W E X G M (t.val - 1) (kept m c t.val)) := by
  have ht := (idx0 t).2.2.2.2.2.2
  by_cases h1 : t.val = 1
  · rw [kept_first m c t h1]
    exact turn_kept R t hd _ (first_cover c t _ _ _ _ _ _ _ h1) (first_lists c (bufs t) _ _ _ _ _ _ _ _ _ _) (.inl ⟨by omega, rfl, rfl⟩) (.inl ⟨by omega, rfl⟩)
  by_cases h5 : t.val = 5
  · rw [kept_open m c t h5]
    exact turn_kept R t hd _ (open_cover c t _ _ _ _ _ _ _ h5) (open_lists c (bufs t) _ _ _ _ _ _ _ _ _ _ _) (.inl ⟨by omega, rfl, rfl⟩) (.inr ⟨by omega, hD (by omega), rfl⟩)
  by_cases h8 : t.val = 8
  · rw [kept_last m c t h8]
    exact ⟨fun h => absurd h (by omega), fun _ => last_kept R t h8 hd (hD (by omega)) _ (last_cover c t _ _ _ _ _ _ _ h8).1 (last_lists c (bufs t) _ _ _ _ _ _ _ _ _ _ _ _ _)⟩
  · rw [kept_on m c t h0 h1 h5 h8]
    exact turn_kept R t hd _ (on_cover c t _ _ _ _ _ _ _ h0 h1 h5 h8) (on_lists c (bufs t) _ _ _ _ _ _ _ _ _ _ _ _ _) (.inr ⟨by omega, hD (by omega), rfl, rfl⟩) (.inr ⟨by omega, hD (by omega), rfl⟩)

include R in
theorem good : ∀ n, n < 9 → (n < 8 → Rows (tile (prodR A W) n) (kept m c n).s11) ∧ (1 ≤ n → Done A W E X G M (n - 1) (kept m c n)) := by
  intro n
  induction n with
  | zero => exact fun h => ⟨fun _ => head_kept R ⟨0, lt_of_lt_of_eq h (show 9 = cfg0.N from N_0.symm)⟩ rfl, fun h => absurd h (by omega)⟩
  | succ n ih =>
    intro hn
    obtain ⟨hd, hD⟩ := ih (by omega)
    exact good_step R ⟨n + 1, lt_of_lt_of_eq hn (show 9 = cfg0.N from N_0.symm)⟩ (Nat.succ_ne_zero n) (hd (by omega)) (fun h => hD (by simp at h; omega))

end Cert.Kernel4Ideal.Pre
-- ==== Proof.PreVal.lean ====
module

public import proofs.«01_k».proof.Proof.PreKept

@[expose] public section

set_option maxRecDepth 16384

noncomputable section

namespace Cert.Kernel4Ideal.Pre

open Idealize.ShloMosaic Idealize.ShloMosaic.TcCoe Idealize.ShloMosaic.Tactic Idealize.ShloMosaic.Pipeline
open Cert.Kernel4Ideal.Gen

/-! # The arrays the kernel leaves -/

theorem idx_out : ∀ t : Fin cfg0.N, (1 ≤ t.val → win0_6.index t = ![t.val - 1, 0]) ∧ (1 ≤ t.val → win0_7.index t = ![(t.val - 1) / 4, 0, 0]) ∧ (1 ≤ t.val → win0_8.index t = ![(t.val - 1) / 4, 0, 0])
    ∧ ((cfg0.win 6).flush t = true → 1 ≤ t.val) ∧ ((cfg0.win 7).flush t = true → 1 ≤ t.val ∧ (t.val - 1) % 4 = 3) ∧ ((cfg0.win 8).flush t = true → 1 ≤ t.val ∧ (t.val - 1) % 4 = 3) :=
  (by decide +kernel : ∀ t : Fin grid0.N, (1 ≤ t.val → win0_6.index t = ![t.val - 1, 0]) ∧ (1 ≤ t.val → win0_7.index t = ![(t.val - 1) / 4, 0, 0]) ∧ (1 ≤ t.val → win0_8.index t = ![(t.val - 1) / 4, 0, 0])
    ∧ ((cfg0.win 6).flush t = true → 1 ≤ t.val) ∧ ((cfg0.win 7).flush t = true → 1 ≤ t.val ∧ (t.val - 1) % 4 = 3) ∧ ((cfg0.win 8).flush t = true → 1 ≤ t.val ∧ (t.val - 1) % 4 = 3))

variable {m : (ℓ : Loc nD τ sig) → Buf (Elt Ideal) ℓ} {c : Dev nD}
variable {A W : ℕ → ℕ → ℕ → ℝ} {E X : ℕ → ℕ → ℝ} {G : ℕ → ℝ} {M : ℕ → ℕ → ℝ} (R : Reads m c A W E X G M)

include R in
theorem done (t : Fin cfg0.N) (h : 1 ≤ t.val) : Done A W E X G M (t.val - 1) (kept m c t.val) :=
  (good R t.val (idx0 t).2.2.2.2.2.2).2 h

/-- The sum over a sequence's tiles. -/
def seqSum (f : ℕ → ℕ → ℝ) (s j : ℕ) : ℝ := ∑ i ∈ Finset.range 4, f (4 * s + i) j

include R in
theorem gx_array : Rows (backArr A W E X G M) ((dats m 0 c).arrAt 6 cfg0.N : FVec Ideal S4096x1024 .f32) := by
  have h : ((dats m 0 c).arrAt 6 cfg0.N : FVec Ideal S4096x1024 .f32) = fun i : S4096x1024.Idx => ((backArr A W E X G M (i 0).val (i 1).val : ℝ) : EReal) := by
    refine (dats m 0 c).arrAt_eq_of_covers 6 _ (by decide +kernel) fun t hf y => ?_
    have ht := (idx0 t).2.2.2.2.2.2
    have h1 := (idx_out t).2.2.2.1 hf
    blk_simp
    rw [after_6]
    idx_vars y
    refine ((done R t h1).gx _ _).trans ?_
    refine congrArg _ (Eq.symm ?_)
    rw [(idx_out t).1 h1]
    show backArr A W E X G M ((t.val - 1) * 512 + y0.val) (0 * 1024 + y1.val) = backArr A W E X G M (512 * (t.val - 1) + y0.val) y1.val
    rw [Nat.zero_mul, Nat.zero_add, Nat.mul_comm]
  exact fun i j => congrFun h (ix2 i j)

include R in
theorem shift_array (s : Fin 2) (j : Fin 1024) : ((dats m 0 c).arrAt 7 cfg0.N : FVec Ideal S2x1x1024 .f32) (ix3 s 0 j) = ((seqSum (shiftT A W) s.val j.val : ℝ) : EReal) := by
  have h : ((dats m 0 c).arrAt 7 cfg0.N : FVec Ideal S2x1x1024 .f32) = fun i : S2x1x1024.Idx => ((seqSum (shiftT A W) (i 0).val (i 2).val : ℝ) : EReal) := by
    refine (dats m 0 c).arrAt_eq_of_covers 7 _ (by decide +kernel) fun t hf y => ?_
    have ht := (idx0 t).2.2.2.2.2.2
    obtain ⟨h1, h2⟩ := (idx_out t).2.2.2.2.1 hf
    blk_simp
    rw [after_7]
    idx_vars y
    obtain rfl : y0 = 0 := Subsingleton.elim _ _
    obtain rfl : y1 = 0 := Subsingleton.elim _ _
    refine ((done R t h1).shift _).trans ?_
    refine congrArg _ (Eq.symm ?_)
    rw [(idx_out t).2.1 h1]
    show seqSum (shiftT A W) ((t.val - 1) / 4) (0 * 1024 + y2.val) = _
    rw [Nat.zero_mul, Nat.zero_add, h2]; rfl
  exact congrFun h (ix3 s 0 j)

include R in
theorem scale_array (s : Fin 2) (j : Fin 1024) : ((dats m 0 c).arrAt 8 cfg0.N : FVec Ideal S2x1x1024 .f32) (ix3 s 0 j) = ((seqSum (scaleT A W X G) s.val j.val : ℝ) : EReal) := by
  have h : ((dats m 0 c).arrAt 8 cfg0.N : FVec Ideal S2x1x1024 .f32) = fun i : S2x1x1024.Idx => ((seqSum (scaleT A W X G) (i 0).val (i 2).val : ℝ) : EReal) := by
    refine (dats m 0 c).arrAt_eq_of_covers 8 _ (by decide +kernel) fun t hf y => ?_
    have ht := (idx0 t).2.2.2.2.2.2
    obtain ⟨h1, h2⟩ := (idx_out t).2.2.2.2.2 hf
    blk_simp
    rw [after_8]
    idx_vars y
    obtain rfl : y0 = 0 := Subsingleton.elim _ _
    obtain rfl : y1 = 0 := Subsingleton.elim _ _
    refine ((done R t h1).scale _).trans ?_
    refine congrArg _ (Eq.symm ?_)
    rw [(idx_out t).2.2.1 h1]
    show seqSum (scaleT A W X G) ((t.val - 1) / 4) (0 * 1024 + y2.val) = _
    rw [Nat.zero_mul, Nat.zero_add, h2]; rfl
  exact congrFun h (ix3 s 0 j)

theorem last_lt : (8 : ℕ) < cfg0.N := lt_of_lt_of_eq (by decide) (show 9 = cfg0.N from N_0.symm)
/-- The last point. -/
abbrev lastPt : Fin cfg0.N := ⟨8, last_lt⟩

include R in
theorem gain_array (j : Fin 1024) : ((dats m 0 c).arrAt 9 cfg0.N : FVec Ideal S1x1024 .f32) (ix2 0 j) = ((∑ i ∈ Finset.range 8, gainT A W X M i j.val : ℝ) : EReal) := by
  refine Eq.trans ?_ ((done R lastPt (show 1 ≤ 8 by decide)).gain j)
  refine congrFun (f := ((dats m 0 c).arrAt 9 cfg0.N : FVec Ideal S1x1024 .f32)) (g := (kept m c 8).s10) ?_ _
  refine (dats m 0 c).arrAt_eq_of_after_last 9 lastPt (by decide +kernel) _ fun j => ?_
  blk_simp
  rw [after_9]

end Cert.Kernel4Ideal.Pre
end
-- ==== Proof.PreRef.lean ====
module

public import proofs.«01_k».proof.Proof.PreTurn
public import proofs.«01_k».proof.Proof.PoolRef
public import proofs.«01_k».proof.Proof.Gen.Reference4Ideal.Run

@[expose] public section

set_option maxRecDepth 16384

noncomputable section

open Idealize.ShloMosaic Idealize.ShloMosaic.TcCoe Idealize.ShloMosaic.Tactic

namespace Cert.Pre

open Cert.Reference4Ideal Cert.Reference4Ideal.Gen
open Cert.Kernel4Ideal.Pre (under under_pos inv rsqrt_under back real_sum width_bits tiny_bits one_bits Rows prodR)
open Cert.Pool (Holds3 total_at)

/-! # The reference's stages, over the reals -/

theorem lane_lt (g : Fin 4) (k : Fin 512) : 512 * g.val + k.val < 2048 := by omega
/-- Lane `k` of group `g`. -/
def lane (g : Fin 4) (k : Fin 512) : Fin 2048 := ⟨512 * g.val + k.val, lane_lt g k⟩

/-- Row `t` of sequence `s`. -/
def seqRows (X : ℕ → ℕ → ℝ) : ℕ → ℕ → ℕ → ℝ := fun s t j => X (2048 * s + t) j

/-- A number on one lane for every row. -/
def Col (X : ℕ → ℕ → ℝ) (y : FVec Ideal S2x2048x1 .f32) : Prop := ∀ (s : Fin 2) (t : Fin 2048), y (ix3 s t 0) = ((X s.val t.val : ℝ) : EReal)

section Shapes
variable {x : FVec Ideal S4096x1024 .f32} {X : ℕ → ℕ → ℝ} (hx : Rows X x)
include hx in
theorem seq_ref : Holds3 (seqRows X) (shapeCast S2x2048x1024 x shapeCasts_S4096x1024_S2x2048x1024) := by
  intro s t j
  pointwise
  refine Eq.trans (congrArg x ?_) (hx ⟨2048 * s.val + t.val, by omega⟩ j)
  funext a
  fin_cases a <;> apply Fin.ext <;> simp <;> omega
end Shapes

section Stages
variable {x d e : FVec Ideal S2x2048x1024 .f32} {X D E : ℕ → ℕ → ℕ → ℝ} (hx : Holds3 X x) (hd : Holds3 D d) (he : Holds3 E e)
  {g : FVec Ideal S1x1x1024 .f32} {G : ℕ → ℝ} (hg : ∀ j : Fin 1024, g (ix3 0 0 j) = ((G j.val : ℝ) : EReal))
  {u : FVec Ideal S2x1x1024 .f32} {U : ℕ → ℕ → ℝ} (hu : ∀ (s : Fin 2) (j : Fin 1024), u (ix3 s 0 j) = ((U s.val j.val : ℝ) : EReal))

/-- Sum over a row. -/
def rowSum (x : FVec Ideal S2x2048x1024 .f32) : FVec Ideal S2x2048 .f32 := Host.reduceAdd x (constant S_ .f32 0x00000000#32) reducesTo_S2x2048x1024_S2x2048_d2 h_S_
include hx in
theorem rowSum_at (s : Fin 2) (t : Fin 2048) : rowSum x (ix2 s t) = ((∑ l : Fin 1024, X s.val t.val l.val : ℝ) : EReal) := by
  unfold rowSum
  pointwise [hx _ _ _]
  rw [real_sum]

/-- Under the root. -/
def meanSq (x : FVec Ideal S2x2048x1024 .f32) : FVec Ideal S2x2048x1 .f32 :=
  addf (Host.divf (broadcastInDim S2x2048x1 ![0, 1] bcast_S2x2048_S2x2048x1_0_1 (rowSum (mulf x x))) (broadcastInDim S2x2048x1 ![] bcast_S_S2x2048x1 (constant S_ .f32 0x44800000#32 : FVec Ideal S_ .f32)))
    (broadcastInDim S2x2048x1 ![] bcast_S_S2x2048x1 (constant S_ .f32 0x358637BD#32 : FVec Ideal S_ .f32))
theorem mul_holds {a b : ℕ} {c : ℕ} {x y : FVec Ideal ⟨3, ![a, b, c]⟩ .f32} {X Y : ℕ → ℕ → ℕ → ℝ} (hx : Holds3 X x) (hy : Holds3 Y y) : Holds3 (fun s t j => X s t j * Y s t j) (mulf x y) := fun s t j => by
  pointwise [hx _ _ _, hy _ _ _]
  rw [← EReal.coe_mul]
theorem add_holds {a b : ℕ} {c : ℕ} {x y : FVec Ideal ⟨3, ![a, b, c]⟩ .f32} {X Y : ℕ → ℕ → ℕ → ℝ} (hx : Holds3 X x) (hy : Holds3 Y y) : Holds3 (fun s t j => X s t j + Y s t j) (addf x y) := fun s t j => by
  pointwise [hx _ _ _, hy _ _ _]
  rw [← EReal.coe_add]
include hx in
theorem meanSq_at : Col (fun s t => under (X s t)) (meanSq x) := by
  intro s t
  unfold meanSq
  pointwise [rowSum_at (mul_holds hx hx) _ _, width_bits, tiny_bits]
  rw [Ideal.div_coe (by norm_num), ← EReal.coe_mul, ← EReal.coe_add]
  rfl

theorem root_at {q : FVec Ideal S2x2048x1 .f32} (hq : Col (fun s t => under (X s t)) q) : Col (fun s t => inv (X s t)) (Host.rsqrt q) := by
  intro s t
  pointwise [hq _ _]
  exact rsqrt_under _

theorem half_bits : Ideal.ofBits .f32 0xBF000000#32 = ((-(1 / 2) : ℝ) : EReal) := by
  simp [Ideal.ofBits, Ideal.ieee]; rw [← EReal.coe_mul]; norm_num

/-- What the root sends back. -/
def rootBack (r q : FVec Ideal S2x2048x1 .f32) : FVec Ideal S2x2048x1 .f32 :=
  mulf (broadcastInDim S2x2048x1 ![] bcast_S_S2x2048x1 (constant S_ .f32 0xBF000000#32 : FVec Ideal S_ .f32)) (Host.divf r q)
theorem rootBack_at {r q : FVec Ideal S2x2048x1 .f32} (hr : Col (fun s t => inv (X s t)) r) (hq : Col (fun s t => under (X s t)) q) :
    Col (fun s t => -(1 / 2) * (inv (X s t) * (1 / under (X s t)))) (rootBack r q) := by
  intro s t
  unfold rootBack
  pointwise [hr _ _, hq _ _, half_bits]
  rw [Ideal.div_coe (under_pos _).ne', ← EReal.coe_mul, ← EReal.coe_mul]

theorem lanes_holds {r : FVec Ideal S2x2048x1 .f32} {R : ℕ → ℕ → ℝ} (hr : Col R r) : Holds3 (fun s t _ => R s t) (broadcastInDim S2x2048x1024 ![0, 1, 2] bcast_S2x2048x1_S2x2048x1024_0_1_2 r) := fun s t j => by
  pointwise [hr _ _]
include hg in
theorem gain_holds : Holds3 (fun _ _ j => G j) (broadcastInDim S2x2048x1024 ![0, 1, 2] bcast_S1x1x1024_S2x2048x1024_0_1_2 g) := fun s t j => by
  pointwise [hg _]
include hu in
theorem mod_holds : Holds3 (fun s _ j => U s j) (broadcastInDim S2x2048x1024 ![0, 1, 2] bcast_S2x1x1024_S2x2048x1024_0_1_2 u) := fun s t j => by
  pointwise [hu _ _]

/-- Sum over a sequence's rows. -/
def colSum (x : FVec Ideal S2x2048x1024 .f32) : FVec Ideal S2x1x1024 .f32 :=
  shapeCast S2x1x1024 (Host.reduceAdd x (constant S_ .f32 0x00000000#32) reducesTo_S2x2048x1024_S2x1024_d1 h_S_ : FVec Ideal S2x1024 .f32) shapeCasts_S2x1024_S2x1x1024
include hx in
theorem colSum_at (s : Fin 2) (j : Fin 1024) : colSum x (ix3 s 0 j) = ((∑ t : Fin 2048, X s.val t.val j.val : ℝ) : EReal) := by
  unfold colSum
  pointwise [hx _ _ _]
  rw [real_sum]

/-- Sum over all rows. -/
def allSum (x : FVec Ideal S2x2048x1024 .f32) : FVec Ideal S1x1024 .f32 :=
  broadcastInDim S1x1024 ![1] bcast_S1024_S1x1024_1 (Host.reduceAdd (shapeCast S1x1x1024 (Host.reduceAdd x (constant S_ .f32 0x00000000#32) reducesTo_S2x2048x1024_S1024_d0_1 h_S_ : FVec Ideal S1024 .f32) shapeCasts_S1024_S1x1x1024)
    (constant S_ .f32 0x00000000#32) reducesTo_S1x1x1024_S1024_d0_1 h_S_ : FVec Ideal S1024 .f32)
include hx in
theorem allSum_at (j : Fin 1024) : allSum x (ix2 0 j) = ((∑ s : Fin 2, ∑ t : Fin 2048, X s.val t.val j.val : ℝ) : EReal) := by
  have e : (Host.reduceAdd x (constant S_ .f32 0x00000000#32) reducesTo_S2x2048x1024_S1024_d0_1 h_S_ : FVec Ideal S1024 .f32) (ix1 j) = ((∑ s : Fin 2, ∑ t : Fin 2048, X s.val t.val j.val : ℝ) : EReal) := by
    refine (total_at x _ (fun _ => Ideal.ofBits_zero_f32) _ _ j).trans ?_
    simp only [real_sum, hx _ _ _]
  rw [← e]
  unfold allSum
  generalize (Host.reduceAdd x (constant S_ .f32 0x00000000#32) reducesTo_S2x2048x1024_S1024_d0_1 h_S_ : FVec Ideal S1024 .f32) = y
  refine (?_ : _ = (Host.reduceAdd (shapeCast S1x1x1024 y shapeCasts_S1024_S1x1x1024) (constant S_ .f32 0x00000000#32) reducesTo_S1x1x1024_S1024_d0_1 h_S_ : FVec Ideal S1024 .f32) (ix1 j)).trans ?_
  · generalize (Host.reduceAdd (shapeCast S1x1x1024 y shapeCasts_S1024_S1x1x1024) (constant S_ .f32 0x00000000#32) reducesTo_S1x1x1024_S1024_d0_1 h_S_ : FVec Ideal S1024 .f32) = z
    pointwise
  · refine (total_at (shapeCast S1x1x1024 y shapeCasts_S1024_S1x1x1024) _ (fun _ => Ideal.ofBits_zero_f32) _ _ j).trans ?_
    rw [Fin.sum_univ_one, Fin.sum_univ_one]
    pointwise

/-- What the mean sends back to each lane. -/
def meanBack (y : FVec Ideal S2x2048x1024 .f32) (w : FVec Ideal S2x2048x1 .f32) : FVec Ideal S2x2048x1024 .f32 :=
  broadcastInDim S2x2048x1024 ![0, 1] bcast_S2x2048_S2x2048x1024_0_1 (Host.reduceAdd (Host.divf (mulf (shapeCast S2x2048x1 (rowSum y) shapeCasts_S2x2048_S2x2048x1) w)
    (broadcastInDim S2x2048x1 ![] bcast_S_S2x2048x1 (constant S_ .f32 0x44800000#32 : FVec Ideal S_ .f32))) (constant S_ .f32 0x00000000#32) reducesTo_S2x2048x1_S2x2048_d2 h_S_ : FVec Ideal S2x2048 .f32)
theorem meanBack_at {y : FVec Ideal S2x2048x1024 .f32} {Y : ℕ → ℕ → ℕ → ℝ} (hy : Holds3 Y y) {w : FVec Ideal S2x2048x1 .f32} {R : ℕ → ℕ → ℝ} (hw : Col R w) :
    Holds3 (fun s t _ => (∑ l : Fin 1024, Y s t l.val) * R s t * (1 / 1024)) (meanBack y w) := fun s t j => by
  unfold meanBack
  pointwise [rowSum_at hy _ _, hw _ _, width_bits]
  rw [Fin.sum_univ_one]
  pointwise [rowSum_at hy _ _, hw _ _, width_bits]
  rw [← EReal.coe_mul, Ideal.div_coe (by norm_num), ← EReal.coe_mul]

end Stages

/-! # From the arguments -/

section Args
variable {a0 : FVec Ideal S4x4096x512 .bf16} {a1 : FVec Ideal S1x1024x2048 .f32} {a2 a3 : FVec Ideal S4096x1024 .f32} {a4 : FVec Ideal S1x1024 .f32} {a5 : FVec Ideal S2x6x1024 .f32}
  {A W : ℕ → ℕ → ℕ → ℝ} {E X M : ℕ → ℕ → ℝ} {G : ℕ → ℝ}
  (h0 : ∀ (g : Fin 4) (r : Fin 4096) (k : Fin 512), a0 (ix3 g r k) = ((A g.val r.val k.val : ℝ) : EReal))
  (h1 : ∀ (g : Fin 4) (k : Fin 512) (j : Fin 1024), a1 (ix3 0 j (lane g k)) = ((W g.val k.val j.val : ℝ) : EReal))
  (h2 : Rows E a2) (h3 : Rows X a3) (h4 : ∀ j : Fin 1024, a4 (ix2 0 j) = ((G j.val : ℝ) : EReal))
  (h5 : ∀ (s : Fin 2) (j : Fin 1024), a5 (ix3 s 1 j) = ((M s.val j.val : ℝ) : EReal))

/-- The rows as sequences. -/
def seqs (x : FVec Ideal S4096x1024 .f32) : FVec Ideal S2x2048x1024 .f32 := shapeCast S2x2048x1024 x shapeCasts_S4096x1024_S2x2048x1024
/-- The gain on every row. -/
def gains (a4 : FVec Ideal S1x1024 .f32) : FVec Ideal S2x2048x1024 .f32 :=
  broadcastInDim S2x2048x1024 ![0, 1, 2] bcast_S1x1x1024_S2x2048x1024_0_1_2 (broadcastInDim S1x1x1024 ![2] bcast_S1024_S1x1x1024_2 (shapeCast S1024 a4 shapeCasts_S1x1024_S1024 : FVec Ideal S1024 .f32))
include h4 in
theorem gains_at : Holds3 (fun _ _ j => G j) (gains a4) := by
  refine gain_holds fun j => ?_
  pointwise [h4 _]

/-- One and the scale, on every row of a sequence. -/
def scales (a5 : FVec Ideal S2x6x1024 .f32) : FVec Ideal S2x2048x1024 .f32 :=
  broadcastInDim S2x2048x1024 ![0, 1, 2] bcast_S2x1x1024_S2x2048x1024_0_1_2 (addf (broadcastInDim S2x1x1024 ![] bcast_S_S2x1x1024 (constant S_ .f32 0x3F800000#32)) (extractStridedSlice S2x1x1024 ![0, 1, 0] a5 slices_S2x6x1024_S2x1x1024_0_1_0))
include h5 in
theorem scales_at : Holds3 (fun s _ j => 1 + M s j) (scales a5) := by
  refine mod_holds fun s j => ?_
  pointwise [h5 _ _, one_bits]
  rw [← EReal.coe_add]

theorem sum_groups (f : ℕ → ℝ) : ∑ k : Fin 2048, f k.val = ∑ g : Fin 4, ∑ k : Fin 512, f (512 * g.val + k.val) := by
  have e : ∀ n, ∑ k : Fin 512, f (n + k.val) = ∑ k ∈ Finset.range 512, f (n + k) := fun n => Fin.sum_univ_eq_sum_range (fun k => f (n + k)) 512
  rw [Fin.sum_univ_eq_sum_range f 2048, Fin.sum_univ_four, e, e, e, e, show 2048 = 512 + 512 + 512 + 512 from rfl, Finset.sum_range_add, Finset.sum_range_add, Finset.sum_range_add]
  simp

/-- A sequence is four tiles of rows. -/
theorem seq_groups (f : ℕ → ℝ) (s : ℕ) : ∑ t : Fin 2048, f (2048 * s + t.val) = ∑ i ∈ Finset.range 4, ∑ r : Fin 512, f (512 * (4 * s + i) + r.val) := by
  rw [sum_groups fun t => f (2048 * s + t), Finset.sum_range]
  refine Finset.sum_congr rfl fun g _ => Finset.sum_congr rfl fun k _ => congrArg f ?_
  omega

theorem prod_groups (A W : ℕ → ℕ → ℕ → ℝ) (r j : ℕ) : ∑ k : Fin 2048, A (k.val / 512) r (k.val % 512) * W (k.val / 512) (k.val % 512) j = prodR A W r j := by
  refine (sum_groups fun k => A (k / 512) r (k % 512) * W (k / 512) (k % 512) j).trans ?_
  refine Finset.sum_congr rfl fun g _ => Finset.sum_congr rfl fun k _ => ?_
  rw [show (512 * g.val + k.val) / 512 = g.val by omega, show (512 * g.val + k.val) % 512 = k.val by omega]

/-- The product with the input weights. -/
def dhRef (a0 : FVec Ideal S4x4096x512 .bf16) (a1 : FVec Ideal S1x1024x2048 .f32) : FVec Ideal S2x2048x1024 .f32 :=
  Host.dotGeneral dot_S2x2048x2048_S1024x2048_S2x2048x1024_2_1_01_0_n_n none (shapeCast S2x2048x2048 (transpose S4096x4x512 [1, 0, 2] (extf .f32 a0 bitsLt_bf16_f32) transposes_S4x4096x512_S4096x4x512_1_0_2) shapeCasts_S4096x4x512_S2x2048x2048)
    (shapeCast S1024x2048 a1 shapeCasts_S1x1024x2048_S1024x2048)
include h0 in
theorem left_at (s : Fin 2) (t k : Fin 2048) :
    (shapeCast S2x2048x2048 (transpose S4096x4x512 [1, 0, 2] (extf .f32 a0 bitsLt_bf16_f32) transposes_S4x4096x512_S4096x4x512_1_0_2) shapeCasts_S4096x4x512_S2x2048x2048 : FVec Ideal S2x2048x2048 .f32) (ix3 s t k)
      = ((A (k.val / 512) (2048 * s.val + t.val) (k.val % 512) : ℝ) : EReal) := by
  pointwise
  refine Eq.trans (congrArg a0 ?_) (h0 ⟨k.val / 512, by omega⟩ ⟨2048 * s.val + t.val, by omega⟩ ⟨k.val % 512, by omega⟩)
  funext a
  fin_cases a <;> apply Fin.ext <;> simp <;> omega
include h1 in
theorem right_at (j : Fin 1024) (k : Fin 2048) : (shapeCast S1024x2048 a1 shapeCasts_S1x1024x2048_S1024x2048 : FVec Ideal S1024x2048 .f32) (ix2 j k) = ((W (k.val / 512) (k.val % 512) j.val : ℝ) : EReal) := by
  pointwise
  refine Eq.trans (congrArg a1 ?_) (h1 ⟨k.val / 512, by omega⟩ ⟨k.val % 512, by omega⟩ j)
  funext a
  fin_cases a <;> apply Fin.ext <;> simp [lane] <;> omega
include h0 h1 in
theorem dhRef_at : Holds3 (seqRows (prodR A W)) (dhRef a0 a1) := by
  intro s t j
  unfold dhRef
  have hl := left_at h0
  have hr := right_at h1
  revert hl hr
  generalize (shapeCast S2x2048x2048 (transpose S4096x4x512 [1, 0, 2] (extf .f32 a0 bitsLt_bf16_f32) transposes_S4x4096x512_S4096x4x512_1_0_2) shapeCasts_S4096x4x512_S2x2048x2048 : FVec Ideal S2x2048x2048 .f32) = l
  generalize (shapeCast S1024x2048 a1 shapeCasts_S1x1024x2048_S1024x2048 : FVec Ideal S1024x2048 .f32) = r
  intro hl hr
  pointwise [hl _ _ _, hr _ _]
  simp only [← EReal.coe_mul]
  exact (real_sum Finset.univ (fun k : Fin 2048 => A (k.val / 512) (2048 * s.val + t.val) (k.val % 512) * W (k.val / 512) (k.val % 512) j.val)).symm.trans (congrArg Real.toEReal (prod_groups A W _ _))

/-- The reference's gradient of the rows. -/
def gradX (d u g x e : FVec Ideal S2x2048x1024 .f32) : FVec Ideal S4096x1024 .f32 :=
  shapeCast S4096x1024 (addf (addf (addf e (mulf (mulf (mulf d u) g) (broadcastInDim S2x2048x1024 ![0, 1, 2] bcast_S2x2048x1_S2x2048x1024_0_1_2 (Host.rsqrt (meanSq x)))))
    (mulf x (meanBack (mulf x (mulf (mulf d u) g)) (rootBack (Host.rsqrt (meanSq x)) (meanSq x))))) (mulf (meanBack (mulf x (mulf (mulf d u) g)) (rootBack (Host.rsqrt (meanSq x)) (meanSq x))) x)) shapeCasts_S2x2048x1024_S4096x1024

theorem inv_twice (x : ℕ → ℝ) : 1 / under x = inv x * inv x := by
  unfold Cert.Kernel4Ideal.Pre.inv
  rw [← mul_inv, Real.mul_self_sqrt (under_pos x).le, one_div]

theorem back_eq (d x e g s : ℕ → ℝ) (j : ℕ) :
    e j + d j * (1 + s j) * g j * inv x + x j * ((∑ l : Fin 1024, x l.val * (d l.val * (1 + s l.val) * g l.val)) * (-(1 / 2) * (inv x * (1 / under x))) * (1 / 1024))
      + (∑ l : Fin 1024, x l.val * (d l.val * (1 + s l.val) * g l.val)) * (-(1 / 2) * (inv x * (1 / under x))) * (1 / 1024) * x j = back d x e g s j := by
  have h : ∑ l : Fin 1024, d l.val * (1 + s l.val) * g l.val * (x l.val * inv x) = (∑ l : Fin 1024, x l.val * (d l.val * (1 + s l.val) * g l.val)) * inv x := by
    rw [Finset.sum_mul]
    exact Finset.sum_congr rfl fun l _ => by ring
  unfold back
  rw [h, inv_twice]
  ring

theorem rows_of_seq {y : FVec Ideal S2x2048x1024 .f32} {Y : ℕ → ℕ → ℝ} (hy : ∀ (s : Fin 2) (t : Fin 2048) (j : Fin 1024), y (ix3 s t j) = ((Y (2048 * s.val + t.val) j.val : ℝ) : EReal)) :
    Rows Y (shapeCast S4096x1024 y shapeCasts_S2x2048x1024_S4096x1024 : FVec Ideal S4096x1024 .f32) := by
  intro r j
  pointwise
  have e := hy ⟨r.val / 2048, by omega⟩ ⟨r.val % 2048, by omega⟩ j
  rw [show 2048 * (r.val / 2048) + r.val % 2048 = r.val by omega] at e
  refine Eq.trans (congrArg y ?_) e
  funext a
  fin_cases a <;> apply Fin.ext <;> simp <;> omega

include h0 h1 h2 h3 h4 h5 in
theorem gradX_at : Rows (fun r j => back (prodR A W r) (X r) (E r) G (M (r / 2048)) j) (gradX (dhRef a0 a1) (scales a5) (gains a4) (seqs a3) (seqs a2)) := by
  refine rows_of_seq fun s t j => ?_
  have hX := seq_ref h3
  have hQ := meanSq_at hX
  have hR := root_at hQ
  have hN := mul_holds (mul_holds (dhRef_at h0 h1) (scales_at h5)) (gains_at h4)
  have hB := meanBack_at (mul_holds hX hN) (rootBack_at hR hQ)
  refine (add_holds (add_holds (add_holds (seq_ref h2) (mul_holds hN (lanes_holds hR))) (mul_holds hX hB)) (mul_holds hB hX) s t j).trans ?_
  rw [← back_eq, show (2048 * s.val + t.val) / 2048 = s.val by omega]
  rfl

/-- The rows over their size. -/
def unitRef (x : FVec Ideal S2x2048x1024 .f32) : FVec Ideal S2x2048x1024 .f32 := mulf x (broadcastInDim S2x2048x1024 ![0, 1, 2] bcast_S2x2048x1_S2x2048x1024_0_1_2 (Host.rsqrt (meanSq x)))
include h3 in
theorem unitRef_at : Holds3 (seqRows fun r j => X r j * Cert.Kernel4Ideal.Pre.inv (X r)) (unitRef (seqs a3)) :=
  mul_holds (seq_ref h3) (lanes_holds (root_at (meanSq_at (seq_ref h3))))

include h0 h1 in
theorem shift_ref (s : Fin 2) (j : Fin 1024) : colSum (dhRef a0 a1) (ix3 s 0 j) = ((∑ t : Fin 2048, prodR A W (2048 * s.val + t.val) j.val : ℝ) : EReal) := colSum_at (dhRef_at h0 h1) s j
include h0 h1 h3 h4 in
theorem scale_ref (s : Fin 2) (j : Fin 1024) : colSum (mulf (mulf (unitRef (seqs a3)) (gains a4)) (dhRef a0 a1)) (ix3 s 0 j)
    = ((∑ t : Fin 2048, X (2048 * s.val + t.val) j.val * inv (X (2048 * s.val + t.val)) * G j.val * prodR A W (2048 * s.val + t.val) j.val : ℝ) : EReal) :=
  colSum_at (mul_holds (mul_holds (unitRef_at h3) (gains_at h4)) (dhRef_at h0 h1)) s j
include h0 h1 h3 h5 in
theorem gain_ref (j : Fin 1024) : allSum (mulf (unitRef (seqs a3)) (mulf (dhRef a0 a1) (scales a5))) (ix2 0 j)
    = ((∑ s : Fin 2, ∑ t : Fin 2048, X (2048 * s.val + t.val) j.val * inv (X (2048 * s.val + t.val)) * (prodR A W (2048 * s.val + t.val) j.val * (1 + M s.val j.val)) : ℝ) : EReal) :=
  allSum_at (mul_holds (unitRef_at h3) (mul_holds (dhRef_at h0 h1) (scales_at h5))) j

end Args

end Cert.Pre
end
-- ==== Proof.PreEq.lean ====
module

public import proofs.«01_k».proof.Proof.PreVal
public import proofs.«01_k».proof.Proof.PreRef
public import proofs.«01_k».proof.Proof.Equations
public import proofs.«01_k».proof.Proof.PoolEq
public import proofs.«01_k».proof.Pre_finite_pre

@[expose] public section

set_option maxRecDepth 16384

noncomputable section

open Idealize.ShloMosaic Idealize.ShloMosaic.TcCoe Idealize.ShloMosaic.Tactic Idealize.SL.Sem
open Cert.Equations (IsReal real_of_abs_lt)

namespace Cert.Pre

open Cert.Kernel4Ideal.Pre (inv under back Rows prodR backArr Reads shiftT scaleT gainT seqSum shiftR scaleR gainR tile gx_array shift_array scale_array gain_array V V_arg dats)

/-! # Finite arguments, and the two programs' results side by side -/

/-- The arguments are these real numbers. -/
structure Given (a0 : FVec Ideal ⟨3, ![4, 4096, 512]⟩ .bf16) (a1 : FVec Ideal ⟨3, ![1, 1024, 2048]⟩ .f32) (a2 a3 : FVec Ideal ⟨2, ![4096, 1024]⟩ .f32) (a4 : FVec Ideal ⟨2, ![1, 1024]⟩ .f32)
    (a5 : FVec Ideal ⟨3, ![2, 6, 1024]⟩ .f32) (A W : ℕ → ℕ → ℕ → ℝ) (E X : ℕ → ℕ → ℝ) (G : ℕ → ℝ) (M : ℕ → ℕ → ℝ) : Prop where
  a : ∀ (g : Fin 4) (r : Fin 4096) (k : Fin 512), a0 (ix3 g r k) = ((A g.val r.val k.val : ℝ) : EReal)
  w : ∀ (g : Fin 4) (k : Fin 512) (j : Fin 1024), a1 (ix3 0 j (lane g k)) = ((W g.val k.val j.val : ℝ) : EReal)
  e : Rows E a2
  x : Rows X a3
  g : ∀ j : Fin 1024, a4 (ix2 0 j) = ((G j.val : ℝ) : EReal)
  m : ∀ (s : Fin 2) (j : Fin 1024), a5 (ix3 s 1 j) = ((M s.val j.val : ℝ) : EReal)

theorem cubes_of {a b d : ℕ} {e : FTy} {x : FVec Ideal ⟨3, ![a, b, d]⟩ e} (h : ∀ i, IsReal (x i)) :
    ∃ X : ℕ → ℕ → ℕ → ℝ, ∀ (s : Fin a) (t : Fin b) (k : Fin d), x (ix3 s t k) = ((X s.val t.val k.val : ℝ) : EReal) := by
  choose f hf using h
  refine ⟨fun s t k => if h : s < a ∧ t < b ∧ k < d then f (ix3 ⟨s, h.1⟩ ⟨t, h.2.1⟩ ⟨k, h.2.2⟩) else 0, fun s t k => ?_⟩
  dsimp only
  rw [dif_pos ⟨s.isLt, t.isLt, k.isLt⟩]
  exact hf _

theorem reals (hF : Cert.Pre_finite_pre.Facts) (a0 a1 a2 a3 a4 a5) (h : Cert.Pre_finite_pre.fn (F := Ideal) a0 a1 a2 a3 a4 a5 = fun _ => 1#1) :
    ∃ A W E X G M, Given a0 a1 a2 a3 a4 a5 A W E X G M := by
  haveI : Subsingleton Cert.Pre_finite_pre.S_.Idx := ⟨fun a b => funext fun i => i.elim0⟩
  have h := congrFun h ((fun i => i.elim0 : Cert.Pre_finite_pre.S_.Idx))
  dsimp only [Cert.Pre_finite_pre.fn, Cert.Pre_finite_pre.fn_part1] at h
  have both : ∀ p q : BitVec 1, p &&& q = 1#1 → p = 1#1 ∧ q = 1#1 := by decide
  obtain ⟨h, e5⟩ := both _ _ h
  obtain ⟨h, e4⟩ := both _ _ h
  obtain ⟨h, e3⟩ := both _ _ h
  obtain ⟨h, e2⟩ := both _ _ h
  obtain ⟨e0, e1⟩ := both _ _ h
  obtain ⟨A, hA⟩ := cubes_of (x := a0) (e := .bf16) fun i => real_of_abs_lt _ (Host.reduce_andi_all _ _ _ _ _ e0 i)
  obtain ⟨W, hW⟩ := cubes_of (x := a1) fun i => real_of_abs_lt _ (Host.reduce_andi_all _ _ _ _ _ e1 i)
  obtain ⟨E, hE⟩ := Cert.Pool.holds_of (x := a2) fun i => real_of_abs_lt _ (Host.reduce_andi_all _ _ _ _ _ e2 i)
  obtain ⟨X, hX⟩ := Cert.Pool.holds_of (x := a3) fun i => real_of_abs_lt _ (Host.reduce_andi_all _ _ _ _ _ e3 i)
  obtain ⟨G, hG⟩ := Cert.Pool.holds_of (x := a4) fun i => real_of_abs_lt _ (Host.reduce_andi_all _ _ _ _ _ e4 i)
  obtain ⟨M, hM⟩ := cubes_of (x := a5) fun i => real_of_abs_lt _ (Host.reduce_andi_all _ _ _ _ _ e5 i)
  exact ⟨A, fun g k j => W 0 j (512 * g + k), E, X, G 0, fun s j => M s 1 j, hA, fun g k j => hW 0 j (lane g k), fun r j => hE r j, fun r j => hX r j, fun j => hG 0 j, fun s j => hM s 1 j⟩

section Kernel

open Cert.Kernel4Ideal Cert.Kernel4Ideal.Gen

variable (m : (ℓ : Loc nD τ sig) → Buf (Elt Ideal) ℓ) (c : Dev nD) {A W : ℕ → ℕ → ℕ → ℝ} {E X M : ℕ → ℕ → ℝ} {G : ℕ → ℝ}

/-- What the kernel finds at its entry. -/
theorem reads (h : Given (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) A W E X G M) :
    Reads m c A W E X G M where
  a g r k := (congrFun (V_arg m c main_arg0 (by decide)) (ix3 g r k)).trans (h.a g r k)
  w g k j := by
    refine Eq.trans ?_ (h.w g k j)
    show StableHlo.after hostOps0 _ (Proc.devRef .tc main_v3) (ix3 g k j) = _
    entry_read
    pointwise
    exact congrArg (fun q : Fin 2048 => (m ((c : Thread nD τ).loc main_arg1) : FVec Ideal S1x1024x2048 .f32) (ix3 0 j q)) (Fin.ext (by show g.val * 512 + k.val = 512 * g.val + k.val; omega))
  e r j := (congrFun (V_arg m c main_arg2 (by decide)) (ix2 r j)).trans (h.e r j)
  x r j := (congrFun (V_arg m c main_arg3 (by decide)) (ix2 r j)).trans (h.x r j)
  g j := (congrFun (V_arg m c main_arg4 (by decide)) (ix2 0 j)).trans (h.g j)
  m s j := (congrFun (V_arg m c main_arg5 (by decide)) (ix3 s 1 j)).trans (h.m s j)

/-- The run, read at the results. -/
theorem run_arrays (ρ : Dev nD → PrngReg) : θ_run defs (onTc (τ := τ) (main (F := Ideal))) ⟨m, fun _ => 0, ρ⟩ (fun r => ∀ c : Dev nD,
    r.2.mem ((c.tc : Thread nD τ).loc main_v4_0) = (dats m 0 c).arrAt 6 cfg0.N ∧ r.2.mem ((c.tc : Thread nD τ).loc main_v4_1) = (dats m 0 c).arrAt 7 cfg0.N
    ∧ r.2.mem ((c.tc : Thread nD τ).loc main_v4_2) = (dats m 0 c).arrAt 8 cfg0.N ∧ r.2.mem ((c.tc : Thread nD τ).loc main_v4_3) = (dats m 0 c).arrAt 9 cfg0.N
    ∧ r.2.mem ((c.tc : Thread nD τ).loc main_arg0) = m ((c.tc : Thread nD τ).loc main_arg0) ∧ r.2.mem ((c.tc : Thread nD τ).loc main_arg1) = m ((c.tc : Thread nD τ).loc main_arg1)
    ∧ r.2.mem ((c.tc : Thread nD τ).loc main_arg2) = m ((c.tc : Thread nD τ).loc main_arg2) ∧ r.2.mem ((c.tc : Thread nD τ).loc main_arg3) = m ((c.tc : Thread nD τ).loc main_arg3)
    ∧ r.2.mem ((c.tc : Thread nD τ).loc main_arg4) = m ((c.tc : Thread nD τ).loc main_arg4) ∧ r.2.mem ((c.tc : Thread nD τ).loc main_arg5) = m ((c.tc : Thread nD τ).loc main_arg5)) :=
  (θ_run defs _ _).mono (fun r h c => ⟨(h.1 c).1 6, (h.1 c).1 7, (h.1 c).1 8, (h.1 c).1 9, Cert.Kernel4Ideal.Pre.args_kept m h.1 c⟩) (Cert.Kernel4Ideal.Pre.run m ρ)

end Kernel

section Same

variable {a0 : FVec Ideal ⟨3, ![4, 4096, 512]⟩ .bf16} {a1 : FVec Ideal ⟨3, ![1, 1024, 2048]⟩ .f32} {a2 a3 : FVec Ideal ⟨2, ![4096, 1024]⟩ .f32} {a4 : FVec Ideal ⟨2, ![1, 1024]⟩ .f32} {a5 : FVec Ideal ⟨3, ![2, 6, 1024]⟩ .f32}
  {A W : ℕ → ℕ → ℕ → ℝ} {E X M : ℕ → ℕ → ℝ} {G : ℕ → ℝ} (h : Given a0 a1 a2 a3 a4 a5 A W E X G M)
  {m : (ℓ : Loc Cert.Kernel4Ideal.nD Cert.Kernel4Ideal.τ Cert.Kernel4Ideal.sig) → Buf (Elt Ideal) ℓ} {c : Dev Cert.Kernel4Ideal.nD} (R : Reads m c A W E X G M)

include h R in
/-- The gradient of the rows is the same in both programs. -/
theorem rows_same : gradX (dhRef a0 a1) (scales a5) (gains a4) (seqs a3) (seqs a2) = ((dats m 0 c).arrAt 6 Cert.Kernel4Ideal.cfg0.N : FVec Ideal ⟨2, ![4096, 1024]⟩ .f32) := by
  funext i
  idx_vars i
  exact (gradX_at h.a h.w h.e h.x h.g h.m i0 i1).trans (gx_array R i0 i1).symm

include h R in
/-- The gradient of the shift is the same in both programs. -/
theorem shift_same : colSum (dhRef a0 a1) = ((dats m 0 c).arrAt 7 Cert.Kernel4Ideal.cfg0.N : FVec Ideal ⟨3, ![2, 1, 1024]⟩ .f32) := by
  funext i
  idx_vars i
  obtain rfl : i1 = 0 := Subsingleton.elim _ _
  refine (shift_ref h.a h.w i0 i2).trans (Eq.trans (congrArg Real.toEReal ?_) (shift_array R i0 i2).symm)
  exact seq_groups (fun r => prodR A W r i2.val) i0.val

include h R in
/-- The gradient of the scale is the same in both programs. -/
theorem scale_same : colSum (mulf (mulf (unitRef (seqs a3)) (gains a4)) (dhRef a0 a1)) = ((dats m 0 c).arrAt 8 Cert.Kernel4Ideal.cfg0.N : FVec Ideal ⟨3, ![2, 1, 1024]⟩ .f32) := by
  funext i
  idx_vars i
  obtain rfl : i1 = 0 := Subsingleton.elim _ _
  refine (scale_ref h.a h.w h.x h.g i0 i2).trans (Eq.trans (congrArg Real.toEReal ?_) (scale_array R i0 i2).symm)
  refine (seq_groups (fun r => X r i2.val * inv (X r) * G i2.val * prodR A W r i2.val) i0.val).trans ?_
  refine Finset.sum_congr rfl fun i _ => ?_
  unfold scaleT scaleR
  refine Finset.sum_congr rfl fun r _ => ?_
  rw [show tile X (4 * i0.val + i) r.val = X (512 * (4 * i0.val + i) + r.val) from rfl]
  dsimp only [tile]
  ring

include h R in
/-- The gradient of the gain is the same in both programs. -/
theorem gain_same : allSum (mulf (unitRef (seqs a3)) (mulf (dhRef a0 a1) (scales a5))) = ((dats m 0 c).arrAt 9 Cert.Kernel4Ideal.cfg0.N : FVec Ideal ⟨2, ![1, 1024]⟩ .f32) := by
  funext i
  idx_vars i
  obtain rfl : i0 = 0 := Subsingleton.elim _ _
  refine (gain_ref h.a h.w h.x h.m i1).trans (Eq.trans (congrArg Real.toEReal ?_) (gain_array R i1).symm)
  have tileSum : ∀ s i : ℕ, i < 4 → ∑ r : Fin 512, X (512 * (4 * s + i) + r.val) i1.val * inv (X (512 * (4 * s + i) + r.val)) * (prodR A W (512 * (4 * s + i) + r.val) i1.val * (1 + M s i1.val)) = gainT A W X M (4 * s + i) i1.val := by
    intro s i hi
    unfold gainT gainR
    refine Finset.sum_congr rfl fun r _ => ?_
    rw [show (4 * s + i) / 4 = s by omega, show tile X (4 * s + i) r.val = X (512 * (4 * s + i) + r.val) from rfl]
    dsimp only [tile]
    ring
  have seqIs : ∀ s : ℕ, ∑ t : Fin 2048, X (2048 * s + t.val) i1.val * inv (X (2048 * s + t.val)) * (prodR A W (2048 * s + t.val) i1.val * (1 + M s i1.val)) = ∑ i ∈ Finset.range 4, gainT A W X M (4 * s + i) i1.val := by
    intro s
    refine (seq_groups (fun r => X r i1.val * inv (X r) * (prodR A W r i1.val * (1 + M s i1.val))) s).trans ?_
    exact Finset.sum_congr rfl fun i hi => tileSum s i (Finset.mem_range.mp hi)
  rw [Fin.sum_univ_two]
  refine (congrArg₂ (· + ·) (seqIs 0) (seqIs 1)).trans ?_
  rw [show Finset.range 8 = Finset.range (4 + 4) from rfl, Finset.sum_range_add]
  simp

end Same

end Cert.Pre
end
-- ==== Proof.PostBody.lean ====
module

public import proofs.«01_k».proof.Proof.Gen.Kernel5Ideal.Skeleton
public import proofs.«01_k».proof.Proof.Gen.Kernel5Ideal.Points
public import Idealize.ShloMosaic.Lib.Claim

@[expose] public section

set_option maxRecDepth 16384

noncomputable section

namespace Cert.Kernel5Ideal.Post

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel5Ideal.Gen

variable {F : FTy → Type} [FloatOps F]

local notation "𝕄" => MT nD τ sig Unit (Elt F) ℕ (UR sig nD τ) ℕ

/-- The twelve buffers of a point: six inputs, five outputs and the product kept for the next point. -/
structure Bufs where
  (a1 : Memref sig .tc .vmem S512x2816 .bf16) (h1 : a1.IsWhole)
  (a2 : Memref sig .tc .vmem S2816x1024 .bf16) (h2 : a2.IsWhole)
  (a3 : Memref sig .tc .vmem S512x1024 .f32) (h3 : a3.IsWhole)
  (a4 : Memref sig .tc .vmem S512x1024 .f32) (h4 : a4.IsWhole)
  (a5 : Memref sig .tc .vmem S1x1024 .f32) (h5 : a5.IsWhole)
  (a6 : Memref sig .tc .vmem S1x6x1024 .f32) (h6 : a6.IsWhole)
  (a7 : Memref sig .tc .vmem S1x128 .f32) (h7 : a7.IsWhole)
  (a8 : Memref sig .tc .vmem S512x1024 .f32) (h8 : a8.IsWhole)
  (a9 : Memref sig .tc .vmem S512x1024 .bf16) (h9 : a9.IsWhole)
  (a10 : Memref sig .tc .vmem S1x1x1024 .f32) (h10 : a10.IsWhole)
  (a11 : Memref sig .tc .vmem S1x1024 .f32) (h11 : a11.IsWhole)
  (a12 : Memref sig .tc .vmem S512x1024 .f32) (h12 : a12.IsWhole)

abbrev Bufs.body (B : Bufs) (i : grid0.Coords) : Prog (TpuEff nD τ sig (Elt F) Λ₀ .tc) PUnit :=
  cc0_ffn_down_post i B.a1 B.h1 B.a2 B.h2 B.a3 B.h3 B.a4 B.h4 B.a5 B.h5 B.a6 B.h6 B.a7 B.h7 B.a8 B.h8 B.a9 B.h9 B.a10 B.h10 B.a11 B.h11 B.a12 B.h12

abbrev atFirst (i : grid0.Coords) : BitVec 1 := Scalar.cmpi .ne (Scalar.extui (Scalar.cmpi .eq (BitVec.ofNat 32 (i 0).val) 0#32) : BitVec 32) 0#32

/-- What a point after the first does: all sums begin, a sequence begins, all sums go on, or they go on and no product is left to take. -/
inductive Kind
  | first | opens | goes | last
  deriving DecidableEq

/-- The branches the body takes at a point of each kind. -/
def Conds (i : grid0.Coords) : Kind → Prop
  | .first => ¬ atFirst i = 1#1 ∧ k0_cond2 i = 1#1 ∧ ¬ k0_cond9 i = 1#1
      ∧ k0_cond3 i = 1#1 ∧ ¬ k0_cond4 i = 1#1 ∧ k0_cond5 i = 1#1 ∧ ¬ k0_cond6 i = 1#1 ∧ k0_cond7 i = 1#1 ∧ ¬ k0_cond8 i = 1#1
  | .opens => ¬ atFirst i = 1#1 ∧ k0_cond2 i = 1#1 ∧ ¬ k0_cond9 i = 1#1
      ∧ ¬ k0_cond3 i = 1#1 ∧ k0_cond4 i = 1#1 ∧ k0_cond5 i = 1#1 ∧ ¬ k0_cond6 i = 1#1 ∧ ¬ k0_cond7 i = 1#1 ∧ k0_cond8 i = 1#1
  | .goes => ¬ atFirst i = 1#1 ∧ k0_cond2 i = 1#1 ∧ ¬ k0_cond9 i = 1#1
      ∧ ¬ k0_cond3 i = 1#1 ∧ k0_cond4 i = 1#1 ∧ ¬ k0_cond5 i = 1#1 ∧ k0_cond6 i = 1#1 ∧ ¬ k0_cond7 i = 1#1 ∧ k0_cond8 i = 1#1
  | .last => ¬ atFirst i = 1#1 ∧ ¬ k0_cond2 i = 1#1 ∧ k0_cond9 i = 1#1
      ∧ ¬ k0_cond10 i = 1#1 ∧ k0_cond11 i = 1#1 ∧ ¬ k0_cond12 i = 1#1 ∧ k0_cond13 i = 1#1 ∧ ¬ k0_cond14 i = 1#1 ∧ k0_cond15 i = 1#1

instance (i : grid0.Coords) (k : Kind) : Decidable (Conds i k) := by cases k <;> (unfold Conds; infer_instance)

/-- What a sum over all tiles must hold before the point: anything where it begins. -/
def Overall {α : Type} (y d : α) : Kind → Prop
  | .first => True
  | _ => d = y

/-- The same of a sum over one sequence. -/
def Within {α : Type} (y d : α) : Kind → Prop
  | .first | .opens => True
  | _ => d = y

section Body

variable (c : Dev nD) (i : grid0.Coords) (B : Bufs)
  (y1 : Vec F S512x2816 .bf16) (y2 : Vec F S2816x1024 .bf16) (y3 y4 : Vec F S512x1024 .f32) (y5 : Vec F S1x1024 .f32) (y6 : Vec F S1x6x1024 .f32)
  (y7 : Vec F S1x128 .f32) (y10 : Vec F S1x1x1024 .f32) (y11 : Vec F S1x1024 .f32) (y12 : Vec F S512x1024 .f32)

/-- The first point keeps the product of the first tile and touches no output. -/
def head (h1 : atFirst i = 1#1) (h2 : ¬ k0_cond2 i = 1#1) (h9 : ¬ k0_cond9 i = 1#1) :
    { L12 : List (View.Piece (Elt F) S512x1024 .f32) // ∀ (K : PUnit → sProp 𝕄),
    iprop(owns (c : Thread nD τ) B.a1 fullShare y1 ∗ owns (c : Thread nD τ) B.a2 fullShare y2 ∗ (∃ d, owns (c : Thread nD τ) B.a12 fullShare d)
        ∗ (iprop(owns (c : Thread nD τ) B.a1 fullShare y1 ∗ owns (c : Thread nD τ) B.a2 fullShare y2
        ∗ (∃ f, B.a12.view.loc (c : Thread nD τ) ↦[B.a12.view.set]{fullShare} B.a12.view.writes (Elt F) f L12)) -∗ K ⟨⟩))
      ⊢ wp frame (wpE (defs₀ (F := F)) Variants.none c none) Set.univ (B.body i) K } := by
  refine ⟨?_, fun K => ?run⟩
  case run =>
    unfold Bufs.body
    simp only [cc0_ffn_down_post_eq_skeleton]; unfold cc0_ffn_down_post_skel
    unfold owns
    iintro ⟨⟨%f1, %e1, H1⟩, ⟨%f2, %e2, H2⟩, ⟨%d12, %f12, -, H12⟩, Hk⟩
    obtain rfl := B.h1.eq_unread e1; obtain rfl := B.h2.eq_unread e2
    sl_exec
    sl_step
    iapply Hk
    isplitl [H1]
    · iexists _; isplitr; swap; · iexact H1
      ipureintro; exact B.h1.read_unread _
    isplitl [H2]
    · iexists _; isplitr; swap; · iexact H2
      ipureintro; exact B.h2.read_unread _
    iexists _; iexact H12

/-- The six inputs at their contents. -/
def Held : sProp 𝕄 :=
  iprop(owns (c : Thread nD τ) B.a1 fullShare y1 ∗ owns (c : Thread nD τ) B.a2 fullShare y2 ∗ owns (c : Thread nD τ) B.a3 fullShare y3
    ∗ owns (c : Thread nD τ) B.a4 fullShare y4 ∗ owns (c : Thread nD τ) B.a5 fullShare y5 ∗ owns (c : Thread nD τ) B.a6 fullShare y6)

/-- A point after the first: what it writes to each output and to the kept product. -/
abbrev Turn (k : Kind) : Type _ :=
  Σ' (L7 : List (View.Piece (Elt F) S1x128 .f32)) (L8 : List (View.Piece (Elt F) S512x1024 .f32)) (L9 : List (View.Piece (Elt F) S512x1024 .bf16))
    (L10 : List (View.Piece (Elt F) S1x1x1024 .f32)) (L11 : List (View.Piece (Elt F) S1x1024 .f32)),
    { L12 : List (View.Piece (Elt F) S512x1024 .f32) // ∀ (d7 : Vec F S1x128 .f32) (d10 : Vec F S1x1x1024 .f32) (d11 : Vec F S1x1024 .f32),
      Overall y7 d7 k → Within y10 d10 k → Overall y11 d11 k → ∀ (K : PUnit → sProp 𝕄),
    iprop(Held c B y1 y2 y3 y4 y5 y6 ∗ owns (c : Thread nD τ) B.a7 fullShare d7 ∗ (∃ d, owns (c : Thread nD τ) B.a8 fullShare d)
        ∗ (∃ d, owns (c : Thread nD τ) B.a9 fullShare d) ∗ owns (c : Thread nD τ) B.a10 fullShare d10 ∗ owns (c : Thread nD τ) B.a11 fullShare d11
        ∗ owns (c : Thread nD τ) B.a12 fullShare y12
        ∗ (iprop(Held c B y1 y2 y3 y4 y5 y6
        ∗ (∃ f, B.a7.view.loc (c : Thread nD τ) ↦[B.a7.view.set]{fullShare} B.a7.view.writes (Elt F) f L7)
        ∗ (∃ f, B.a8.view.loc (c : Thread nD τ) ↦[B.a8.view.set]{fullShare} B.a8.view.writes (Elt F) f L8)
        ∗ (∃ f, B.a9.view.loc (c : Thread nD τ) ↦[B.a9.view.set]{fullShare} B.a9.view.writes (Elt F) f L9)
        ∗ (∃ f, B.a10.view.loc (c : Thread nD τ) ↦[B.a10.view.set]{fullShare} B.a10.view.writes (Elt F) f L10)
        ∗ (∃ f, B.a11.view.loc (c : Thread nD τ) ↦[B.a11.view.set]{fullShare} B.a11.view.writes (Elt F) f L11)
        ∗ (B.a12.view.loc (c : Thread nD τ) ↦[B.a12.view.set]{fullShare} B.a12.view.writes (Elt F) (B.h12.unread y12) L12)) -∗ K ⟨⟩))
      ⊢ wp frame (wpE (defs₀ (F := F)) Variants.none c none) Set.univ (B.body i) K }

set_option maxHeartbeats 4000000 in
/-- The rows of the tile before are finished from the kept product, the three sums begun or taken on, and the next product kept. -/
def turn (k : Kind) (h : Conds i k) : Turn (F := F) c i B y1 y2 y3 y4 y5 y6 y7 y10 y11 y12 k := by
  cases k
  case' last => refine ⟨?_, ?_, ?_, ?_, ?_, [], fun d7 d10 d11 o7 o10 o11 K => ?_⟩
  case' first | opens | goes => refine ⟨?_, ?_, ?_, ?_, ?_, ?_, fun d7 d10 d11 o7 o10 o11 K => ?_⟩
  all_goals
    try
      obtain ⟨g1, g2, g9, e3, e4, e5, e6, e7, e8⟩ := h
      unfold Bufs.body
      simp only [cc0_ffn_down_post_eq_skeleton]; unfold cc0_ffn_down_post_skel
      unfold Held owns
      iintro ⟨⟨⟨%f1, %w1, H1⟩, ⟨%f2, %w2, H2⟩, ⟨%f3, %w3, H3⟩, ⟨%f4, %w4, H4⟩, ⟨%f5, %w5, H5⟩, ⟨%f6, %w6, H6⟩⟩,
        ⟨%f7, %w7, H7⟩, ⟨%d8, %f8, -, H8⟩, ⟨%d9, %f9, -, H9⟩, ⟨%f10, %w10, H10⟩, ⟨%f11, %w11, H11⟩, ⟨%f12, %w12, H12⟩, Hk⟩
      obtain rfl := B.h1.eq_unread w1; obtain rfl := B.h2.eq_unread w2; obtain rfl := B.h3.eq_unread w3
      obtain rfl := B.h4.eq_unread w4; obtain rfl := B.h5.eq_unread w5; obtain rfl := B.h6.eq_unread w6
      obtain rfl := B.h12.eq_unread w12
      try (rw [show d7 = y7 from o7] at w7; obtain rfl := B.h7.eq_unread w7)
      try (rw [show d10 = y10 from o10] at w10; obtain rfl := B.h10.eq_unread w10)
      try (rw [show d11 = y11 from o11] at w11; obtain rfl := B.h11.eq_unread w11)
      sl_exec
      sl_step
      iapply Hk
      isplitl [H1 H2 H3 H4 H5 H6]
      · isplitl [H1]; · iexists _; isplitr; swap; · iexact H1
                        ipureintro; exact B.h1.read_unread _
        isplitl [H2]; · iexists _; isplitr; swap; · iexact H2
                        ipureintro; exact B.h2.read_unread _
        isplitl [H3]; · iexists _; isplitr; swap; · iexact H3
                        ipureintro; exact B.h3.read_unread _
        isplitl [H4]; · iexists _; isplitr; swap; · iexact H4
                        ipureintro; exact B.h4.read_unread _
        isplitl [H5]; · iexists _; isplitr; swap; · iexact H5
                        ipureintro; exact B.h5.read_unread _
        iexists _; isplitr; swap; · iexact H6
        ipureintro; exact B.h6.read_unread _
      isplitl [H7]; · iexists _; iexact H7
      isplitl [H8]; · iexists _; iexact H8
      isplitl [H9]; · iexists _; iexact H9
      isplitl [H10]; · iexists _; iexact H10
      isplitl [H11]; · iexists _; iexact H11
      iexact H12

end Body

end Cert.Kernel5Ideal.Post
end
-- ==== Proof.PostRun.lean ====
module

public import proofs.«01_k».proof.Proof.PostBody
public import proofs.«01_k».proof.Proof.Gen.Kernel5Ideal.Launch
public import Idealize.ShloMosaic.Lib.Pipeline.FrameBody
public import Idealize.ShloMosaic.Lib.Pipeline.TableIdle
public import Idealize.ShloMosaic.Lib.Ring

@[expose] public section

set_option maxRecDepth 16384

noncomputable section

namespace Cert.Kernel5Ideal.Post

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.Kernel5Ideal.Gen

variable {F : FTy → Type} [FloatOps F]

local notation "𝕄" => MT nD τ sig Unit (Elt F) ℕ (UR sig nD τ) ℕ

/-- The buffers of point `t`. -/
abbrev bufs (t : Fin cfg0.N) : Bufs :=
  ⟨win0_0.stage (cfg0.slots t 0), hstage0_0 ((cfg0.slots t 0).cast nbuf0_0),
    win0_1.stage (cfg0.slots t 1), hstage0_1 ((cfg0.slots t 1).cast nbuf0_1),
    win0_2.stage (cfg0.slots t 2), hstage0_2 ((cfg0.slots t 2).cast nbuf0_2),
    win0_3.stage (cfg0.slots t 3), hstage0_3 ((cfg0.slots t 3).cast nbuf0_3),
    win0_4.stage (cfg0.slots t 4), hstage0_4 ((cfg0.slots t 4).cast nbuf0_4),
    win0_5.stage (cfg0.slots t 5), hstage0_5 ((cfg0.slots t 5).cast nbuf0_5),
    win0_6.stage (cfg0.slots t 6), hstage0_6 ((cfg0.slots t 6).cast nbuf0_6),
    win0_7.stage (cfg0.slots t 7), hstage0_7 ((cfg0.slots t 7).cast nbuf0_7),
    win0_8.stage (cfg0.slots t 8), hstage0_8 ((cfg0.slots t 8).cast nbuf0_8),
    win0_9.stage (cfg0.slots t 9), hstage0_9 ((cfg0.slots t 9).cast nbuf0_9),
    win0_10.stage (cfg0.slots t 10), hstage0_10 ((cfg0.slots t 10).cast nbuf0_10), Memref.whole cc0_scratch0, Memref.isWhole_whole _⟩

/-- The kind of point `n`, `n` not zero. -/
def kind : ℕ → Kind
  | 1 => .first
  | 5 => .opens
  | 8 => .last
  | _ => .goes

theorem conds : ∀ t : Fin cfg0.N, t.val ≠ 0 → Conds (grid0.coords t) (kind t.val) :=
  (by decide +kernel : ∀ t : Fin grid0.N, t.val ≠ 0 → Conds (grid0.coords t) (kind t.val))
theorem head_conds : ∀ t : Fin cfg0.N, t.val = 0 → atFirst (grid0.coords t) = 1#1 ∧ ¬ k0_cond2 (grid0.coords t) = 1#1 ∧ ¬ k0_cond9 (grid0.coords t) = 1#1 :=
  (by decide +kernel : ∀ t : Fin grid0.N, t.val = 0 → atFirst (grid0.coords t) = 1#1 ∧ ¬ k0_cond2 (grid0.coords t) = 1#1 ∧ ¬ k0_cond9 (grid0.coords t) = 1#1)

/-- What the buffers hold between two points: the five outputs and the product kept for the next point. -/
structure Kept (F : FTy → Type) [FloatOps F] where
  s7 : Vec F S1x128 .f32
  s8 : Vec F S512x1024 .f32
  s9 : Vec F S512x1024 .bf16
  s10 : Vec F S1x1x1024 .f32
  s11 : Vec F S1x1024 .f32
  s12 : Vec F S512x1024 .f32

section Steps

variable (c : Dev nD) (t : Fin cfg0.N)
  (y1 : Vec F S512x2816 .bf16) (y2 : Vec F S2816x1024 .bf16) (y3 y4 : Vec F S512x1024 .f32) (y5 : Vec F S1x1024 .f32) (y6 : Vec F S1x6x1024 .f32)
  (s : Kept F) (k : Kind)

abbrev headAt (h : t.val = 0) := head (F := F) c (grid0.coords t) (bufs t) y1 y2 (head_conds t h).1 (head_conds t h).2.1 (head_conds t h).2.2
abbrev turnAt (h : Conds (grid0.coords t) k) := turn (F := F) c (grid0.coords t) (bufs t) y1 y2 y3 y4 y5 y6 s.s7 s.s10 s.s11 s.s12 k h

/-- What the kept product is after a turn: the next one, or at the last point the old one. -/
def carried (y : Vec F S512x1024 .f32) (L : List (View.Piece (Elt F) S512x1024 .f32)) : Kind → Vec F S512x1024 .f32
  | .last => y
  | _ => View.canon L

/-- What a turn leaves. -/
def left (h : Conds (grid0.coords t) k) : Kept F :=
  let T := turnAt c t y1 y2 y3 y4 y5 y6 s k h
  ⟨View.canon T.1, View.canon T.2.1, View.canon T.2.2.1, View.canon T.2.2.2.1, View.canon T.2.2.2.2.1, carried s.s12 T.2.2.2.2.2.1 k⟩

/-- What point `t` leaves, given what the point before left. -/
def step : Kept F :=
  if h : t.val = 0 then { s with s12 := View.canon (headAt c t y1 y2 h).1 } else left c t y1 y2 y3 y4 y5 y6 s (kind t.val) (conds t h)

theorem head_cover (h : t.val = 0) : ∀ y, ∃ p ∈ (headAt (F := F) c t y1 y2 h).1, y ∈ p.1.set :=
  View.cover_of_tiledL _ S512x256.size (by sl_kernel_rfl)

set_option maxHeartbeats 2000000 in
/-- Every output is written whole. -/
theorem turn_cover (h : Conds (grid0.coords t) k) : let T := turnAt (F := F) c t y1 y2 y3 y4 y5 y6 s k h
    (∀ y, ∃ p ∈ T.1, y ∈ p.1.set) ∧ (∀ y, ∃ p ∈ T.2.1, y ∈ p.1.set) ∧ (∀ y, ∃ p ∈ T.2.2.1, y ∈ p.1.set) ∧ (∀ y, ∃ p ∈ T.2.2.2.1, y ∈ p.1.set)
      ∧ ∀ y, ∃ p ∈ T.2.2.2.2.1, y ∈ p.1.set := by
  cases k <;>
  exact ⟨View.cover_of_wholeMem _ (View.Piece.wholeMem_here (by sl_kernel_rfl)), View.cover_of_tiledL _ S64x1024.size (by sl_kernel_rfl),
    View.cover_of_tiledL _ S64x1024.size (by sl_kernel_rfl), View.cover_of_wholeMem _ (View.Piece.wholeMem_here (by sl_kernel_rfl)),
    View.cover_of_wholeMem _ (View.Piece.wholeMem_here (by sl_kernel_rfl))⟩

set_option maxHeartbeats 2000000 in
/-- The kept product's buffer ends at what is kept. -/
theorem turn_carried (h : Conds (grid0.coords t) k) : (bufs t).a12.view.read (Elt F) ((bufs t).a12.view.writes (Elt F) ((bufs t).h12.unread s.s12)
    (turnAt (F := F) c t y1 y2 y3 y4 y5 y6 s k h).2.2.2.2.2.1) = carried s.s12 (turnAt (F := F) c t y1 y2 y3 y4 y5 y6 s k h).2.2.2.2.2.1 k := by
  cases k
  case last => exact (bufs t).h12.read_unread _
  all_goals exact View.read_writes_eq_canon _ _ _ (View.cover_of_tiledL _ S512x256.size (by sl_kernel_rfl))

end Steps

variable (m : (ℓ : Loc nD τ sig) → Buf (Elt F) ℓ) (ρ : Dev nD → PrngReg)

/-- Core `c`'s buffers after the host's preparation. -/
abbrev V (c : Dev nD) (b : Ref sig .tc) : Buf (Elt F) ((c : Thread nD τ).loc b) := StableHlo.after hostOps0 (fun b => m (c, b)) b

/-- The block window `w` shows at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (arrRef spec0 w))

/-- `step` on the blocks of point `t`. -/
abbrev stepAt (c : Dev nD) (t : Fin cfg0.N) (s : Kept F) : Kept F :=
  step c t (iblk m c 0 t) (iblk m c 1 t) (iblk m c 2 t) (iblk m c 3 t) (iblk m c 4 t) (iblk m c 5 t) s

/-- What the buffers hold after point `n`. -/
def kept (c : Dev nD) : ℕ → Kept F
  | 0 => stepAt m c t0_0 ⟨View.canon [], View.canon [], View.canon [], View.canon [], View.canon [], View.canon []⟩
  | n + 1 => if h : n + 1 < cfg0.N then stepAt m c ⟨n + 1, h⟩ (kept c n) else kept c n

theorem kept_turn (c : Dev nD) (t : Fin cfg0.N) (h : t.val ≠ 0) : kept m c t.val =
    left c t (iblk m c 0 t) (iblk m c 1 t) (iblk m c 2 t) (iblk m c 3 t) (iblk m c 4 t) (iblk m c 5 t) (kept m c (t.val - 1)) (kind t.val) (conds t h) := by
  refine Eq.trans (b := stepAt m c t (kept m c (t.val - 1))) ?_ (dif_neg h)
  obtain ⟨n, hn⟩ := t
  obtain ⟨n, rfl⟩ := Nat.exists_eq_succ_of_ne_zero h
  exact (congrFun (congrFun rfl c) _).trans (dif_pos hn)

/-- Between points: the kept product, and the generator register at some state. -/
def Carry (c : Dev nD) (n : ℕ) : sProp 𝕄 :=
  iprop((match n with
    | 0 => iprop(∃ f : Buf (Elt F) ((c : Thread nD τ).loc cc0_scratch0), ((c : Thread nD τ).loc cc0_scratch0) ↦{fullShare} f)
    | n + 1 => owns (c : Thread nD τ) (Memref.whole cc0_scratch0) fullShare (kept m c n).s12) ∗ ∃ r, prngReg c r)

/-- The proof data on core `c`. -/
def dats (_ : Fin 1) (c : Dev nD) : Dat τ (Elt F) Unit ℕ (UR sig nD τ) ℕ cfg0 c where
  A w := V m c (arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (kept m c t.val).s7
    | ⟨7, _⟩ => (kept m c t.val).s8
    | ⟨8, _⟩ => (kept m c t.val).s9
    | ⟨9, _⟩ => (kept m c t.val).s10
    | ⟨10, _⟩ => (kept m c t.val).s11
  Φ t := Carry m c t.val
  q _ := fullShare
  owed _ := 0

theorem A_eq (c : Dev nD) (w : Fin cfg0.W) : (dats m 0 c).A w = V m c (arrRef spec0 w) := by dsimp only [dats]

theorem before_in (c : Dev nD) (t : Fin cfg0.N) : (∀ d, (dats m 0 c).before 0 t d = iblk m c 0 t) ∧ (∀ d, (dats m 0 c).before 1 t d = iblk m c 1 t)
    ∧ (∀ d, (dats m 0 c).before 2 t d = iblk m c 2 t) ∧ (∀ d, (dats m 0 c).before 3 t d = iblk m c 3 t)
    ∧ (∀ d, (dats m 0 c).before 4 t d = iblk m c 4 t) ∧ ∀ d, (dats m 0 c).before 5 t d = iblk m c 5 t := by
  refine ⟨fun d => ?_, fun d => ?_, fun d => ?_, fun d => ?_, fun d => ?_, fun d => ?_⟩ <;>
    exact ((dats m 0 c).before_in_eq_fetched _ rfl (fun _ => rfl) (fun _ _ _ => rfl) (fun t => by dsimp only [dats]; rfl) t d).trans
      (by unfold Dat.fetched Dat.blockOf iblk; rw [A_eq]; try rfl)

theorem after_out (c : Dev nD) (t : Fin cfg0.N) : (dats m 0 c).after 6 t = (kept m c t.val).s7 ∧ (dats m 0 c).after 7 t = (kept m c t.val).s8
    ∧ (dats m 0 c).after 8 t = (kept m c t.val).s9 ∧ (dats m 0 c).after 9 t = (kept m c t.val).s10 ∧ (dats m 0 c).after 10 t = (kept m c t.val).s11 := by
  refine ⟨?_, ?_, ?_, ?_, ?_⟩ <;> dsimp only [dats]

theorem live : ∀ (t : Fin cfg0.N) (w : Fin cfg0.W), (cfg0.win w).isOut = true → t.val ≠ 0 → cfg0.idle w (grid0.coords t) = false :=
  (by decide +kernel : ∀ (t : Fin grid0.N) (w : Fin 11), (cfg0.win w).isOut = true → t.val ≠ 0 → cfg0.idle w (grid0.coords t) = false)
theorem still : ∀ (t : Fin cfg0.N) (w : Fin cfg0.W), (cfg0.win w).isOut = true → t.val = 0 → cfg0.idle w (grid0.coords t) = true ∧ (cfg0.win w).flush t = false :=
  (by decide +kernel : ∀ (t : Fin grid0.N) (w : Fin 11), (cfg0.win w).isOut = true → t.val = 0 → cfg0.idle w (grid0.coords t) = true ∧ (cfg0.win w).flush t = false)
theorem stays : ∀ t : Fin cfg0.N, ((cfg0.win 6).flush t = true → t.val = 8) ∧ ((cfg0.win 9).flush t = true → t.val = 4 ∨ t.val = 8) ∧ ((cfg0.win 10).flush t = true → t.val = 8) :=
  (by decide +kernel : ∀ t : Fin grid0.N, ((cfg0.win 6).flush t = true → t.val = 8) ∧ ((cfg0.win 9).flush t = true → t.val = 4 ∨ t.val = 8) ∧ ((cfg0.win 10).flush t = true → t.val = 8))

/-- An output's buffer not just written back holds what the point before left. -/
theorem before_out (c : Dev nD) (w : Fin cfg0.W) (hw : (cfg0.win w).isOut = true) (hclip : ∀ (i : cfg0.grid.Coords) a, (cfg0.win w).clip i a = none)
    (t : Fin cfg0.N) (h0 : t.val ≠ 0) (h1 : t.val ≠ 1) (hf : (cfg0.win w).flush ⟨t.val - 1, Nat.lt_of_le_of_lt (Nat.sub_le _ _) t.isLt⟩ = false) (d) :
    (dats m 0 c).before w t d = (dats m 0 c).after w ⟨t.val - 1, Nat.lt_of_le_of_lt (Nat.sub_le _ _) t.isLt⟩ := by
  have hi := live ⟨t.val - 1, Nat.lt_of_le_of_lt (Nat.sub_le _ _) t.isLt⟩ w hw (by show t.val - 1 ≠ 0; omega)
  rw [(dats m 0 c).before_of_pos w t h0 ((cfg0.win w).fetch_out hw t), if_neg (by rw [hf]; exact Bool.false_ne_true)]
  unfold Dat.left
  rw [show cfg0.idle w (cfg0.grid.coords ⟨t.val - 1, Nat.lt_of_le_of_lt (Nat.sub_le _ _) t.isLt⟩) = false from hi]
  show Dat.kept _ w _ d = _
  unfold Dat.kept
  rw [fill_of_clip_none w _ (hclip _) d ((dats m 0 c).after w _), Window.fill_cut]

theorem kind_cases (n : ℕ) : n = 1 ∧ kind n = .first ∨ n = 5 ∧ kind n = .opens ∨ n ≠ 1 ∧ n ≠ 5 ∧ (kind n = .goes ∨ kind n = .last) := by
  unfold kind; split <;> simp_all

/-- What the sums' buffers hold before a point is what a turn asks. -/
theorem asked (c : Dev nD) (t : Fin cfg0.N) (h0 : t.val ≠ 0) : (∀ d, Overall (kept m c (t.val - 1)).s7 ((dats m 0 c).before 6 t d) (kind t.val))
    ∧ (∀ d, Within (kept m c (t.val - 1)).s10 ((dats m 0 c).before 9 t d) (kind t.val)) ∧ ∀ d, Overall (kept m c (t.val - 1)).s11 ((dats m 0 c).before 10 t d) (kind t.val) := by
  have hN := lt_of_lt_of_eq t.isLt (show cfg0.N = 9 from N_0)
  have st := stays ⟨t.val - 1, Nat.lt_of_le_of_lt (Nat.sub_le _ _) t.isLt⟩
  have e6 : t.val ≠ 1 → ∀ d, (dats m 0 c).before 6 t d = (kept m c (t.val - 1)).s7 := fun h1 d =>
    (before_out m c 6 rfl (fun _ _ => rfl) t h0 h1 (Bool.eq_false_iff.mpr fun h => by have := st.1 h; simp only at this; omega) d).trans (after_out m c _).1
  have e9 : t.val ≠ 1 → t.val ≠ 5 → ∀ d, (dats m 0 c).before 9 t d = (kept m c (t.val - 1)).s10 := fun h1 h5 d =>
    (before_out m c 9 rfl (fun _ _ => rfl) t h0 h1 (Bool.eq_false_iff.mpr fun h => by have := st.2.1 h; simp only at this; omega) d).trans (after_out m c _).2.2.2.1
  have e10 : t.val ≠ 1 → ∀ d, (dats m 0 c).before 10 t d = (kept m c (t.val - 1)).s11 := fun h1 d =>
    (before_out m c 10 rfl (fun _ _ => rfl) t h0 h1 (Bool.eq_false_iff.mpr fun h => by have := st.2.2 h; simp only at this; omega) d).trans (after_out m c _).2.2.2.2
  rcases kind_cases t.val with ⟨h, hk⟩ | ⟨h, hk⟩ | ⟨h1, h5, hk | hk⟩ <;> rw [hk]
  · exact ⟨fun _ => trivial, fun _ => trivial, fun _ => trivial⟩
  · exact ⟨e6 (by omega), fun _ => trivial, e10 (by omega)⟩
  · exact ⟨e6 h1, e9 h1 h5, e10 h1⟩
  · exact ⟨e6 h1, e9 h1 h5, e10 h1⟩

theorem leaves_live (c : Dev nD) (w : Fin cfg0.W) (t : Fin cfg0.N) (hi : cfg0.idle w (cfg0.grid.coords t) = false) (hl : cfg0.loose w = false) :
    (dats m 0 c).leavesExact w t = owns (c : Thread nD τ) ((cfg0.win w).stage (cfg0.slots t w)) fullShare ((dats m 0 c).after w t) := by
  unfold Dat.leavesExact; rw [hi]

/-- The body's triple at point `t`. -/
abbrev Sound (c : Dev nD) (t : Fin cfg0.N) : Prop :=
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare ((dats m 0 c).before 5 t d))
      ∗ (∃ d, owns (c : Thread nD τ) (st0_6 t) fullShare ((dats m 0 c).before 6 t d))
      ∗ (∃ d, owns (c : Thread nD τ) (st0_7 t) fullShare ((dats m 0 c).before 7 t d))
      ∗ (∃ d, owns (c : Thread nD τ) (st0_8 t) fullShare ((dats m 0 c).before 8 t d))
      ∗ (∃ d, owns (c : Thread nD τ) (st0_9 t) fullShare ((dats m 0 c).before 9 t d))
      ∗ (∃ d, owns (c : Thread nD τ) (st0_10 t) fullShare ((dats m 0 c).before 10 t d)))
    ⊢ wp frame (wpE (defs₀ (F := F)) Variants.none c none) Set.univ (bodyAt0 t) (fun _ =>
      iprop((dats m 0 c).Φ t.succ ∗ (dats m 0 c).owesAt () t.succ
        ∗ owns (c : Thread nD τ) (st0_0 t) fullShare ((dats m 0 c).after 0 t)
        ∗ owns (c : Thread nD τ) (st0_1 t) fullShare ((dats m 0 c).after 1 t)
        ∗ owns (c : Thread nD τ) (st0_2 t) fullShare ((dats m 0 c).after 2 t)
        ∗ owns (c : Thread nD τ) (st0_3 t) fullShare ((dats m 0 c).after 3 t)
        ∗ owns (c : Thread nD τ) (st0_4 t) fullShare ((dats m 0 c).after 4 t)
        ∗ owns (c : Thread nD τ) (st0_5 t) fullShare ((dats m 0 c).after 5 t)
        ∗ (dats m 0 c).leavesExact 6 t ∗ (dats m 0 c).leavesExact 7 t ∗ (dats m 0 c).leavesExact 8 t ∗ (dats m 0 c).leavesExact 9 t ∗ (dats m 0 c).leavesExact 10 t))

set_option maxHeartbeats 1000000 in
theorem sound_turn (c : Dev nD) (t : Fin cfg0.N) (h0 : t.val ≠ 0) : Sound m c t := by
  obtain ⟨c7, c8, c9, c10, c11⟩ := turn_cover c t (iblk m c 0 t) (iblk m c 1 t) (iblk m c 2 t) (iblk m c 3 t) (iblk m c 4 t) (iblk m c 5 t) (kept m c (t.val - 1)) _ (conds t h0)
  have c12 := turn_carried c t (iblk m c 0 t) (iblk m c 1 t) (iblk m c 2 t) (iblk m c 3 t) (iblk m c 4 t) (iblk m c 5 t) (kept m c (t.val - 1)) _ (conds t h0)
  obtain ⟨o7, o10, o11⟩ := asked m c t h0
  obtain ⟨b0, b1, b2, b3, b4, b5⟩ := before_in m c t
  obtain ⟨a6, a7, a8, a9, a10⟩ := after_out m c t
  have hk := kept_turn m c t h0
  unfold Sound bodyAt0
  rw [leaves_live m c 6 t (live t 6 rfl h0) rfl, leaves_live m c 7 t (live t 7 rfl h0) rfl, leaves_live m c 8 t (live t 8 rfl h0) rfl, leaves_live m c 9 t (live t 9 rfl h0) rfl,
    leaves_live m c 10 t (live t 10 rfl h0) rfl, a6, a7, a8, a9, a10, hk]
  simp only [b0, b1, b2, b3, b4, b5]
  rw [show (dats m 0 c).owesAt () t.succ = (dats m 0 c).owesAt () t.castSucc from rfl, show (dats m 0 c).Φ t.castSucc = Carry m c t.val from rfl,
    show (dats m 0 c).Φ t.succ = Carry m c (t.val + 1) from rfl, show Carry m c t.val = Carry m c (t.val - 1 + 1) from by rw [Nat.sub_add_cancel (Nat.pos_of_ne_zero h0)]]
  unfold Carry
  dsimp only
  rw [hk]
  iintro ⟨⟨H12, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((turnAt c t (iblk m c 0 t) (iblk m c 1 t) (iblk m c 2 t) (iblk m c 3 t) (iblk m c 4 t) (iblk m c 5 t) (kept m c (t.val - 1)) _ (conds t h0)).2.2.2.2.2.2 _ _ _ (o7 d6) (o10 d9) (o11 d10) _)
  isplitl [H0 H1 H2 H3 H4 H5]
  · unfold Held
    isplitl [H0]; · iexact H0
    isplitl [H1]; · iexact H1
    isplitl [H2]; · iexact H2
    isplitl [H3]; · iexact H3
    isplitl [H4]; · iexact H4
    iexact H5
  isplitl [H6]; · iexact H6
  isplitl [H7]; · iexists _; iexact H7
  isplitl [H8]; · iexists _; iexact H8
  isplitl [H9]; · iexact H9
  isplitl [H10]; · iexact H10
  isplitl [H12]; · iexact H12
  unfold Held
  iintro ⟨⟨H0, H1, H2, H3, H4, H5⟩, ⟨%f7, H6⟩, ⟨%f8, H7⟩, ⟨%f9, H8⟩, ⟨%f10, H9⟩, ⟨%f11, H10⟩, H12⟩
  isplitl [H12 Hp]
  · isplitl [H12]
    · unfold owns; iexists _; isplitr; swap; · iexact H12
      ipureintro; exact c12
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr; swap; · iexact H6
    ipureintro; exact View.read_writes_eq_canon _ _ _ c7
  isplitl [H7]
  · unfold owns; iexists _; isplitr; swap; · iexact H7
    ipureintro; exact View.read_writes_eq_canon _ _ _ c8
  isplitl [H8]
  · unfold owns; iexists _; isplitr; swap; · iexact H8
    ipureintro; exact View.read_writes_eq_canon _ _ _ c9
  isplitl [H9]
  · unfold owns; iexists _; isplitr; swap; · iexact H9
    ipureintro; exact View.read_writes_eq_canon _ _ _ c10
  unfold owns; iexists _; isplitr; swap; · iexact H10
  ipureintro; exact View.read_writes_eq_canon _ _ _ c11

set_option maxHeartbeats 1000000 in
theorem sound_head (c : Dev nD) (t : Fin cfg0.N) (h : t.val = 0) : Sound m c t := by
  have c12 := head_cover c t (iblk m c 0 t) (iblk m c 1 t) h
  obtain ⟨b0, b1, b2, b3, b4, b5⟩ := before_in m c t
  have hk : (kept m c t.val).s12 = View.canon (headAt c t (iblk m c 0 t) (iblk m c 1 t) h).1 := by
    obtain ⟨n, hn⟩ := t
    obtain rfl : n = 0 := h
    show (stepAt m c t0_0 _).s12 = _
    unfold stepAt step; rw [dif_pos (show (t0_0 : Fin cfg0.N).val = 0 from rfl)]; rfl
  unfold Sound bodyAt0
  rw [(dats m 0 c).leavesExact_idle 6 t (still t 6 rfl h).1 (still t 6 rfl h).2, (dats m 0 c).leavesExact_idle 7 t (still t 7 rfl h).1 (still t 7 rfl h).2,
    (dats m 0 c).leavesExact_idle 8 t (still t 8 rfl h).1 (still t 8 rfl h).2, (dats m 0 c).leavesExact_idle 9 t (still t 9 rfl h).1 (still t 9 rfl h).2,
    (dats m 0 c).leavesExact_idle 10 t (still t 10 rfl h).1 (still t 10 rfl h).2]
  simp only [b0, b1, b2, b3, b4, b5]
  rw [show (dats m 0 c).owesAt () t.succ = (dats m 0 c).owesAt () t.castSucc from rfl, show (dats m 0 c).Φ t.castSucc = Carry m c t.val from rfl,
    show (dats m 0 c).Φ t.succ = Carry m c (t.val + 1) from rfl, show Carry m c t.val = Carry m c 0 from by rw [h]]
  unfold Carry
  dsimp only
  rw [hk]
  iintro ⟨⟨⟨%g, H12⟩, Hp⟩, Ho, ⟨%d0, H0⟩, ⟨%d1, H1⟩, ⟨%d2, H2⟩, ⟨%d3, H3⟩, ⟨%d4, H4⟩, ⟨%d5, H5⟩, Hr⟩
  iapply ((headAt c t (iblk m c 0 t) (iblk m c 1 t) h).2 _)
  isplitl [H0]; · iexact H0
  isplitl [H1]; · iexact H1
  isplitl [H12]; · iexists _; iapply (Entails.of_eq (owns_whole (c : Thread nD τ) cc0_scratch0 fullShare g).symm); iexact H12
  iintro ⟨H0, H1, ⟨%f12, H12⟩⟩
  isplitl [H12 Hp]
  · isplitl [H12]
    · unfold owns; iexists _; isplitr; swap; · iexact H12
      ipureintro; exact View.read_writes_eq_canon _ _ _ c12
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact Hr

theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (if h : t.val = 0 then sound_head m c t h else sound_turn m c t h) rfl .rfl fun _ => .rfl

theorem hostOps0_fresh : (hostOps0 : List (HloOp τ sig (Elt F))).Forall fun op => op.fresh = ∅ := by
  simp only [List.Forall]; repeat' constructor

set_option maxHeartbeats 800000 in
set_option backward.isDefEq.respectTransparency.types false in
/-- The run: the kernel's arrays end at what the proof data computes, every other buffer as the kernel found it. -/
theorem run (ρ : Dev nD → PrngReg) : θ_run defs (onTc (τ := τ) (main (F := F))) (s₀ m ρ) (fun r => FramePost cfgs (dats m) 0 (V m) r ∧ r.2.sem = fun _ => 0) :=
  θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain_prefix cfgs 0 defs₀ Variants.none m main hostOps0 hostOps0_sub hostOps0_fresh main_chain) (hA := A_eq m)
    (hin := fun c => by
      show ΦA spec0 c ⊢ Carry m c 0
      unfold ΦA Carry
      rw [scopedRest0_eq])
    (hout := fun c => by
      show Carry m c (8 + 1) ⊢ ΦA spec0 c
      unfold ΦA Carry
      rw [scopedRest0_eq]
      dsimp only
      rw [owns_whole]
      iintro ⟨H, Hp⟩
      isplitl [H]; · iexists _; iexact H
      iexact Hp)

/-- The host's preparation writes no argument. -/
theorem V_arg (c : Dev nD) (b : Ref sig .tc) (h : b ∉ [main_v0, main_v1]) : V m c b = m ((c : Thread nD τ).loc b) := by
  refine StableHlo.after_of_forall_not_mem (b := Proc.devRef .tc b) _ _ (List.forall_iff_forall_mem.mp ?_)
  simp only [List.mem_cons, List.not_mem_nil, or_false, not_or] at h
  simp only [hostOps0, List.Forall, StableHlo.unary_writes, StableHlo.reshape_writes, Finset.mem_singleton]
  exact ⟨StableHlo.devRef_ne_of_ne h.1, StableHlo.devRef_ne_of_ne h.2⟩

/-- The arguments end unchanged. -/
theorem args_kept {r} (h : FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  have keep := fun (w : Fin cfg0.W) hw ha => ((h c).1 w).trans (((dats m 0 c).arrAt_in w hw _).trans ((A_eq m c w).trans (V_arg m c _ ha)))
  ⟨keep 0 rfl (by decide), ((h c).2 main_arg1 (mem_restRefs_of main_arg1 (by decide) (by decide))).trans (V_arg m c _ (by decide)),
    keep 2 rfl (by decide), keep 3 rfl (by decide), keep 4 rfl (by decide), keep 5 rfl (by decide)⟩

/-- The program ends without a fault with its arguments as they were and every counter at zero, at any reading of the floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun r h => ⟨fun c => args_kept m h.1 c, h.2⟩) (run m ρ)

end Cert.Kernel5Ideal.Post
end
-- ==== Proof.PostTile.lean ====
module

public import proofs.«01_k».proof.Proof.PostBody
public import proofs.«01_k».proof.Proof.PreTurn

@[expose] public section

set_option maxRecDepth 16384

noncomputable section

namespace Cert.Kernel5Ideal.Post

open Idealize.ShloMosaic Idealize.ShloMosaic.TcCoe Idealize.ShloMosaic.Tactic
open Cert.Kernel5Ideal.Gen
open Cert.Kernel4Ideal.Pre (chain eight)

/-! # The lists a turn writes, in one form for all blocks -/

variable {F : FTy → Type} [FloatOps F] (c : Dev nD) {i : grid0.Coords} (B : Bufs)
  (y1 : Vec F S512x2816 .bf16) (y2 : Vec F S2816x1024 .bf16) (y3 y4 : Vec F S512x1024 .f32) (y5 : Vec F S1x1024 .f32) (y6 : Vec F S1x6x1024 .f32)
  (y7 : Vec F S1x128 .f32) (y10 : Vec F S1x1x1024 .f32) (y11 : Vec F S1x1024 .f32) (y12 : Vec F S512x1024 .f32)

/-- Sixty-four rows from `n` of a tile fit. -/
abbrev Fits (n : ℕ) : Prop := ∀ a, ![n, 0] a + S64x1024.size a ≤ S512x1024.size a

/-- A block of 64 rows of a tile's buffer. -/
def rowsOf (w : Memref sig .tc .vmem S512x1024 .f32) (hw : w.IsWhole) (y : Vec F S512x1024 .f32) (n : ℕ) (h : Fits n) : Vec F S64x1024 .f32 :=
  View.readAt (Elt F) w.view (Rect.unit (s := S512x1024) ![n, 0] S64x1024.size h).toLoadRect (hw.unread y)
/-- A buffer read whole. -/
abbrev allOf {S : Shape} {e : EltTy} (w : Memref sig .tc .vmem S e) (hw : w.IsWhole) (y : Vec F S e) (off : Fin S.rank → ℕ) (h : ∀ a, off a + S.size a ≤ S.size a) : Vec F S e :=
  View.readAt (Elt F) w.view (Rect.unit (s := S) off S.size h).toLoadRect (hw.unread y)

def colsOf (q : ℕ) (h : ∀ a, ![0, q] a + S2816x256.size a ≤ S2816x1024.size a) : Vec F S2816x256 .bf16 :=
  View.readAt (Elt F) B.a2.view (Rect.unit (s := S2816x1024) ![0, q] S2816x256.size h).toLoadRect (B.h2.unread y2)
def gain : Vec F S1x1024 .f32 := allOf B.a5 B.h5 y5 ![0, 0] inb_S1x1024_S1x1024_0_0
def gate : Vec F S1x1x1024 .f32 :=
  View.readAt (Elt F) B.a6.view (Rect.unit (s := S1x6x1024) ![0, 5, 0] S1x1x1024.size inb_S1x6x1024_S1x1x1024_0_5_0).toLoadRect (B.h6.unread y6)
abbrev prodRows (n : ℕ) (h : Fits n) : Vec F S64x1024 .f32 := rowsOf B.a12 B.h12 y12 n h

/-- A column block of the next product. -/
def colPiece (q : ℕ) (h : ∀ a, ![0, q] a + S2816x256.size a ≤ S2816x1024.size a) (h' : ∀ a, ![0, q] a + S512x256.size a ≤ S512x1024.size a) : View.Piece (Elt F) S512x1024 .f32 :=
  ⟨Rect.unit (s := S512x1024) ![0, q] S512x256.size h', k0_pay5 (allOf B.a1 B.h1 y1 ![0, 0] inb_S512x2816_S512x2816_0_0) (colsOf B y2 q h)⟩
def colPieces : List (View.Piece (Elt F) S512x1024 .f32) :=
  [colPiece B y1 y2 768 inb_S2816x1024_S2816x256_0_768 inb_S512x1024_S512x256_0_768, colPiece B y1 y2 512 inb_S2816x1024_S2816x256_0_512 inb_S512x1024_S512x256_0_512,
   colPiece B y1 y2 256 inb_S2816x1024_S2816x256_0_256 inb_S512x1024_S512x256_0_256, colPiece B y1 y2 0 inb_S2816x1024_S2816x256_0_0 inb_S512x1024_S512x256_0_0]

/-- The error of a block: the output less the target. -/
def error (n : ℕ) (h : Fits n) : FVec F S64x1024 .f32 :=
  k0_pay13 (prodRows B y12 n h) (gain B y5) (gate B y6) (rowsOf B.a3 B.h3 y3 n h) (rowsOf B.a4 B.h4 y4 n h)
def outPiece (n : ℕ) (h : Fits n) : View.Piece (Elt F) S512x1024 .f32 :=
  ⟨Rect.unit (s := S512x1024) ![n, 0] S64x1024.size h, k0_pay16 (error B y3 y4 y5 y6 y12 n h)⟩
def downPiece (n : ℕ) (h : Fits n) : View.Piece (Elt F) S512x1024 .bf16 :=
  ⟨Rect.unit (s := S512x1024) ![n, 0] S64x1024.size h, k0_pay23 (k0_pay9 (prodRows B y12 n h)) (k0_pay10 (prodRows B y12 n h))
    (k0_pay20 (k0_pay12 (gate B y6)) (error B y3 y4 y5 y6 y12 n h)) (gain B y5)⟩

/-- What a block adds to each sum, and where it begins one. -/
def lossOf (n : ℕ) (h : Fits n) : FVec F S1x128 .f32 :=
  k0_pay14 (prodRows B y12 n h) (gain B y5) (gate B y6) (rowsOf B.a3 B.h3 y3 n h) (rowsOf B.a4 B.h4 y4 n h)
def addLoss (n : ℕ) (h : Fits n) : (S1x128.Idx → F .f32) → (S1x128.Idx → F .f32) := fun z => k0_pay15 (lossOf B y3 y4 y5 y6 y12 n h) z
def addGate (n : ℕ) (h : Fits n) : (S1x1x1024.Idx → F .f32) → (S1x1x1024.Idx → F .f32) :=
  fun z => k0_pay19 (k0_pay11 (prodRows B y12 n h) (gain B y5)) (error B y3 y4 y5 y6 y12 n h) z
def addGain (n : ℕ) (h : Fits n) : (S1x1024.Idx → F .f32) → (S1x1024.Idx → F .f32) :=
  fun z => k0_pay22 (k0_pay10 (prodRows B y12 n h)) (k0_pay12 (gate B y6)) (error B y3 y4 y5 y6 y12 n h) z

abbrev fits0 : Fits 0 := inb_S512x1024_S64x1024_0_0
/-- Each sum after its first block. -/
def fromLoss : Kind → (S1x128.Idx → F .f32)
  | .first => lossOf B y3 y4 y5 y6 y12 0 fits0
  | _ => addLoss B y3 y4 y5 y6 y12 0 fits0 (allOf B.a7 B.h7 y7 ![0, 0] inb_S1x128_S1x128_0_0)
def fromGate : Kind → (S1x1x1024.Idx → F .f32)
  | .first | .opens => k0_pay18 (k0_pay11 (prodRows B y12 0 fits0) (gain B y5)) (error B y3 y4 y5 y6 y12 0 fits0)
  | _ => addGate B y3 y4 y5 y6 y12 0 fits0 (allOf B.a10 B.h10 y10 ![0, 0, 0] inb_S1x1x1024_S1x1x1024_0_0_0)
def fromGain : Kind → (S1x1024.Idx → F .f32)
  | .first => k0_pay21 (k0_pay10 (prodRows B y12 0 fits0)) (k0_pay12 (gate B y6)) (error B y3 y4 y5 y6 y12 0 fits0)
  | _ => addGain B y3 y4 y5 y6 y12 0 fits0 (allOf B.a11 B.h11 y11 ![0, 0] inb_S1x1024_S1x1024_0_0)

/-- Seven more blocks added, from what the first left. -/
def sumOf {S : Shape} (w : Memref sig .tc .vmem S .f32) (off : Fin S.rank → ℕ) (h : ∀ a, off a + S.size a ≤ S.size a) (z : S.Idx → F .f32)
    (add : ∀ n : ℕ, Fits n → (S.Idx → F .f32) → (S.Idx → F .f32)) : List (View.Piece (Elt F) S .f32) :=
  chain w.view off h [(⟨Rect.unit (s := S) off S.size h, z⟩ : View.Piece (Elt F) S .f32)] (eight add).dropLast

def nextCols : Kind → List (View.Piece (Elt F) S512x1024 .f32)
  | .last => []
  | _ => colPieces B y1 y2

set_option maxHeartbeats 2000000 in
theorem head_lists (h1 h2 h9) : (head (F := F) c i B y1 y2 h1 h2 h9).1 = colPieces B y1 y2 := by sl_kernel_rfl

set_option maxHeartbeats 4000000 in
theorem turn_lists (k : Kind) (h : Conds i k) : let T := turn (F := F) c i B y1 y2 y3 y4 y5 y6 y7 y10 y11 y12 k h
    T.1 = sumOf B.a7 ![0, 0] inb_S1x128_S1x128_0_0 (fromLoss B y3 y4 y5 y6 y7 y12 k) (addLoss B y3 y4 y5 y6 y12)
      ∧ T.2.1 = eight (outPiece B y3 y4 y5 y6 y12) ∧ T.2.2.1 = eight (downPiece B y3 y4 y5 y6 y12)
      ∧ T.2.2.2.1 = sumOf B.a10 ![0, 0, 0] inb_S1x1x1024_S1x1x1024_0_0_0 (fromGate B y3 y4 y5 y6 y10 y12 k) (addGate B y3 y4 y5 y6 y12)
      ∧ T.2.2.2.2.1 = sumOf B.a11 ![0, 0] inb_S1x1024_S1x1024_0_0 (fromGain B y3 y4 y5 y6 y11 y12 k) (addGain B y3 y4 y5 y6 y12)
      ∧ T.2.2.2.2.2.1 = nextCols B y1 y2 k := by
  cases k <;> exact ⟨by sl_kernel_rfl, by sl_kernel_rfl, by sl_kernel_rfl, by sl_kernel_rfl, by sl_kernel_rfl, by sl_kernel_rfl⟩

end Cert.Kernel5Ideal.Post
-- ==== Proof.PostSum.lean ====
module

public import proofs.«01_k».proof.Proof.PostTile
public import Idealize.ShloMosaic.Lib.ValueIdx
public import Idealize.ShloMosaic.Lib.Pointwise

@[expose] public section

noncomputable section

namespace Cert.Kernel5Ideal.Post

open Idealize.ShloMosaic Idealize.ShloMosaic.TcCoe Idealize.ShloMosaic.Tactic
open Cert.Kernel5Ideal.Gen
open Cert.Kernel4Ideal.Pre (canon_chain eight eight_sum Rows real_sum inv rsqrt_under under tiny width_bits tiny_bits one_bits read_rows read_whole zeros2 zeros3)

/-! # The arithmetic of a turn over the reals -/

theorem share_bits : Ideal.ofBits .f32 0x3A800000#32 = ((1 / 1024 : ℝ) : EReal) := by
  simp [Ideal.ofBits, Ideal.ieee]; rw [← EReal.coe_mul]; norm_num

/-- The error at a place, from the product row, the two rows added and taken away, the gain and the gate. -/
def miss (h x t g s : ℕ → ℝ) (j : ℕ) : ℝ := x j + s j * (h j * inv h * g j) - t j
/-- The gradient of the normed row. -/
def back (h x t g s : ℕ → ℝ) (j : ℕ) : ℝ := miss h x t g s j * (1 / 1024) * s j
/-- The gradient of the product row. -/
def down (h x t g s : ℕ → ℝ) (j : ℕ) : ℝ :=
  inv h * (back h x t g s j * g j - h j * inv h * ((∑ l : Fin 1024, back h x t g s l.val * g l.val * (h l.val * inv h)) * (1 / 1024)))
/-- What a row adds to the three sums. -/
def lossRow (h x t g s : ℕ → ℝ) : ℝ := ∑ l : Fin 1024, miss h x t g s l.val * miss h x t g s l.val
def gateRow (h x t g s : ℕ → ℝ) (j : ℕ) : ℝ := miss h x t g s j * (1 / 1024) * (h j * inv h * g j)
def gainRow (h x t g s : ℕ → ℝ) (j : ℕ) : ℝ := back h x t g s j * (h j * inv h)

section Block
variable {h x t : Vec Ideal S64x1024 .f32} {H X T : ℕ → ℕ → ℝ} (hh : Rows H h) (hx : Rows X x) (ht : Rows T t)
  {g : Vec Ideal S1x1024 .f32} {G : ℕ → ℝ} (hg : ∀ j : Fin 1024, g (ix2 0 j) = ((G j.val : ℝ) : EReal))
  {s : Vec Ideal S1x1x1024 .f32} {S : ℕ → ℝ} (hs : ∀ j : Fin 1024, s (ix3 0 0 j) = ((S j.val : ℝ) : EReal))

include hh in
theorem inv_at (r : Fin 64) : k0_pay9 (F := Ideal) h (ix2 r 0) = ((inv (H r.val) : ℝ) : EReal) := by
  unfold k0_pay9
  pointwise [hh _ _, width_bits, tiny_bits]
  simp only [← EReal.coe_mul, ← real_sum]
  rw [Ideal.div_coe (by norm_num), ← EReal.coe_mul, ← EReal.coe_add]
  exact rsqrt_under _

include hh in
theorem unit_at : Rows (fun r j => H r j * inv (H r)) (k0_pay10 (F := Ideal) h) := fun r j => by
  unfold k0_pay10
  pointwise [inv_at hh, hh _ _]
  rw [← EReal.coe_mul]

include hh hg in
theorem normed_at : Rows (fun r j => H r j * inv (H r) * G j) (k0_pay11 (F := Ideal) h g) := fun r j => by
  unfold k0_pay11
  pointwise [unit_at hh _ _, hg _]
  rw [← EReal.coe_mul]

include hs in
theorem gate_at (j : Fin 1024) : k0_pay12 (F := Ideal) s (ix2 0 j) = ((S j.val : ℝ) : EReal) := by
  unfold k0_pay12
  pointwise [hs _]

include hh hx ht hg hs in
theorem miss_at : Rows (fun r j => miss (H r) (X r) (T r) G S j) (k0_pay13 (F := Ideal) h g s x t) := fun r j => by
  unfold k0_pay13
  pointwise [normed_at hh hg _ _, gate_at hs _, hx _ _, ht _ _]
  rw [← EReal.coe_mul, ← EReal.coe_add, ← EReal.coe_sub]
  rfl

include hh hx ht hg hs in
theorem loss_at (j : Fin 128) : k0_pay14 (F := Ideal) h g s x t (ix2 0 j) = ((∑ r : Fin 64, lossRow (H r.val) (X r.val) (T r.val) G S : ℝ) : EReal) := by
  unfold k0_pay14
  pointwise [miss_at hh hx ht hg hs _ _, one_bits]
  simp only [← EReal.coe_mul, ← real_sum]
  rw [mul_one, Finset.sum_comm]
  rfl

variable {e : FVec Ideal S64x1024 .f32} {E : ℕ → ℕ → ℝ} (he : Rows E e)

include he in
theorem out_at : Rows (fun r j => E r j * (1 / 1024)) (k0_pay16 (F := Ideal) e) := fun r j => by
  unfold k0_pay16
  pointwise [he _ _, share_bits]
  rw [← EReal.coe_mul]

include hh hg he in
theorem gateSum_at (j : Fin 1024) : k0_pay17 (F := Ideal) (k0_pay11 h g) e (ix2 0 j) = ((∑ r : Fin 64, E r.val j.val * (1 / 1024) * (H r.val j.val * inv (H r.val) * G j.val) : ℝ) : EReal) := by
  unfold k0_pay17
  pointwise [out_at he _ _, normed_at hh hg _ _]
  simp only [← EReal.coe_mul, ← real_sum]

include hs he in
theorem back_at : Rows (fun r j => E r j * (1 / 1024) * S j) (k0_pay20 (F := Ideal) (k0_pay12 s) e) := fun r j => by
  unfold k0_pay20
  pointwise [out_at he _ _, gate_at hs _]
  rw [← EReal.coe_mul]

include hh hs he in
theorem gainSum_at (j : Fin 1024) : k0_pay21 (F := Ideal) (k0_pay10 h) (k0_pay12 s) e (ix2 0 j) = ((∑ r : Fin 64, E r.val j.val * (1 / 1024) * S j.val * (H r.val j.val * inv (H r.val)) : ℝ) : EReal) := by
  unfold k0_pay21
  pointwise [back_at hs he _ _, unit_at hh _ _]
  simp only [← EReal.coe_mul, ← real_sum]

include hh hx ht hg hs in
theorem down_at (r : Fin 64) (j : Fin 1024) : k0_pay23 (F := Ideal) (k0_pay9 h) (k0_pay10 h) (k0_pay20 (k0_pay12 s) (k0_pay13 h g s x t)) g (ix2 r j)
    = ((down (H r.val) (X r.val) (T r.val) G S j.val : ℝ) : EReal) := by
  have hb := back_at hs (miss_at hh hx ht hg hs)
  unfold k0_pay23
  pointwise [hb _ _, unit_at hh _ _, inv_at hh _, hg _, width_bits]
  simp only [← EReal.coe_mul, ← real_sum]
  rw [Ideal.div_coe (by norm_num)]
  simp only [← EReal.coe_mul, ← EReal.coe_sub]
  rfl

end Block

variable (B : Bufs) {y1 : Vec Ideal S512x2816 .bf16} {y2 : Vec Ideal S2816x1024 .bf16} {y3 y4 : Vec Ideal S512x1024 .f32} {y5 : Vec Ideal S1x1024 .f32} {y6 : Vec Ideal S1x6x1024 .f32}
  {y7 : Vec Ideal S1x128 .f32} {y10 : Vec Ideal S1x1x1024 .f32} {y11 : Vec Ideal S1x1024 .f32} {y12 : Vec Ideal S512x1024 .f32}
  {A W X T H : ℕ → ℕ → ℝ} {G S : ℕ → ℝ} (ha : ∀ (r : Fin 512) (k : Fin 2816), y1 (ix2 r k) = ((A r.val k.val : ℝ) : EReal))
  (hb : ∀ (k : Fin 2816) (j : Fin 1024), y2 (ix2 k j) = ((W k.val j.val : ℝ) : EReal))
  (hx : Rows X y3) (ht : Rows T y4) (hg : ∀ j : Fin 1024, y5 (ix2 0 j) = ((G j.val : ℝ) : EReal)) (hs : ∀ j : Fin 1024, y6 (ix3 0 5 j) = ((S j.val : ℝ) : EReal))
  (hh : Rows H y12)

include hg in
theorem gain_read (j : Fin 1024) : gain B y5 (ix2 0 j) = ((G j.val : ℝ) : EReal) :=
  (congrFun (read_whole B.h5 y5 inb_S1x1024_S1x1024_0_0 (by decide)) _).trans (hg j)

include hs in
theorem gate_read (j : Fin 1024) : gate B y6 (ix3 0 0 j) = ((S j.val : ℝ) : EReal) := by
  unfold gate
  rw [View.readAt_eq_ld, B.h6.read_unread y6]
  refine Eq.trans (congrArg y6 (funext fun a => Fin.ext ?_)) (hs j)
  fin_cases a
  · exact (LoadRect.idx_apply ..).trans rfl
  · exact (LoadRect.idx_apply ..).trans rfl
  · exact (LoadRect.idx_apply ..).trans ((congrArg (0 + ·) (one_mul j.val)).trans (zero_add j.val))

theorem act_read (r : Fin 512) (k : Fin 2816) : allOf (F := Ideal) B.a1 B.h1 y1 ![0, 0] inb_S512x2816_S512x2816_0_0 (ix2 r k) = y1 (ix2 r k) := by
  unfold allOf
  rw [View.readAt_eq_ld, B.h1.read_unread y1]
  refine congrArg y1 (funext fun a => Fin.ext ?_)
  fin_cases a
  · exact (LoadRect.idx_apply ..).trans ((congrArg (0 + ·) (one_mul r.val)).trans (zero_add _))
  · exact (LoadRect.idx_apply ..).trans ((congrArg (0 + ·) (one_mul k.val)).trans (zero_add _))

include hb in
theorem cols_read (q : ℕ) (hq : q + 256 ≤ 1024) (h) (k : Fin 2816) (j : Fin 256) : colsOf B y2 q h (ix2 k j) = ((W k.val (q + j.val) : ℝ) : EReal) := by
  unfold colsOf
  rw [View.readAt_eq_ld, B.h2.read_unread y2]
  refine Eq.trans (congrArg y2 (funext fun a => Fin.ext ?_)) (hb k ⟨q + j.val, by omega⟩)
  fin_cases a
  · exact (LoadRect.idx_apply ..).trans ((congrArg (0 + ·) (one_mul k.val)).trans (zero_add _))
  · exact (LoadRect.idx_apply ..).trans (congrArg (q + ·) (one_mul j.val))

/-- The product. -/
def prod (A W : ℕ → ℕ → ℝ) (r j : ℕ) : ℝ := ∑ k : Fin 2816, A r k.val * W k.val j

include ha hb in
theorem col_at (q : ℕ) (hq : q + 256 ≤ 1024) (h h') (r : Fin 512) (j : Fin 256) : (colPiece B y1 y2 q h h').2 (ix2 r j) = ((prod A W r.val (q + j.val) : ℝ) : EReal) := by
  show k0_pay5 _ _ (ix2 r j) = _
  unfold k0_pay5
  pointwise [act_read B _ _, ha _ _, cols_read B hb q hq _ _ _]
  simp only [← EReal.coe_mul, ← real_sum]
  rfl

/-- Eight blocks of rows that agree with one array leave it. -/
theorem eight_rows {e : EltTy} (P : ∀ n : ℕ, Fits n → View.Piece (Elt Ideal) S512x1024 e) (val : EReal → Elt Ideal e) (f : ℕ → ℕ → ℝ)
    (hP : ∀ n h, ∃ v : Vec Ideal S64x1024 e, P n h = ⟨Rect.unit (s := S512x1024) ![n, 0] S64x1024.size h, v⟩ ∧ ∀ (r : Fin 64) (j : Fin 1024), v (ix2 r j) = val ((f (n + r.val) j.val : ℝ) : EReal))
    (hc : ∀ y, ∃ p ∈ eight P, y ∈ p.1.set) (r : Fin 512) (j : Fin 1024) : View.canon (eight P) (ix2 r j) = val ((f r.val j.val : ℝ) : EReal) := by
  refine (congrFun (congrArg View.canon (List.append_nil _).symm) _).trans ((View.canon_append_of_pieces (fun i => val ((f (i 0).val (i 1).val : ℝ) : EReal)) [] _ ?_ _ (hc _)).trans rfl)
  intro p hp x
  have key (n : ℕ) (h : Fits n) (x : S64x1024.Idx) (v : Vec Ideal S64x1024 e) (hv : ∀ (r : Fin 64) (j : Fin 1024), v (ix2 r j) = val ((f (n + r.val) j.val : ℝ) : EReal)) :
      v x = val ((f ((Rect.unit (s := S512x1024) ![n, 0] S64x1024.size h).emb x 0).val ((Rect.unit (s := S512x1024) ![n, 0] S64x1024.size h).emb x 1).val : ℝ) : EReal) := by
    idx_vars x
    have e0 : ((Rect.unit (s := S512x1024) ![n, 0] S64x1024.size h).emb (ix2 x0 x1) 0).val = n + x0.val := congrArg (n + ·) (one_mul _)
    have e1 : ((Rect.unit (s := S512x1024) ![n, 0] S64x1024.size h).emb (ix2 x0 x1) 1).val = x1.val := (congrArg (0 + ·) (one_mul _)).trans (zero_add _)
    rw [e0, e1]
    exact hv x0 x1
  obtain ⟨n, h, rfl⟩ : ∃ n h, p = P n h := by
    simp only [eight, List.mem_cons, List.mem_nil_iff, or_false] at hp
    rcases hp with h | h | h | h | h | h | h | h <;> exact ⟨_, _, h⟩
  obtain ⟨v, e, hv⟩ := hP n h
  revert x
  rw [e]
  exact fun x => key n h x v hv

include ha hb in
theorem prod_value (hc : ∀ y, ∃ p ∈ colPieces (F := Ideal) B y1 y2, y ∈ p.1.set) : Rows (prod A W) (View.canon (colPieces B y1 y2)) := fun r j => by
  refine (congrFun (congrArg View.canon (List.append_nil _).symm) _).trans ((View.canon_append_of_pieces (fun i => ((prod A W (i 0).val (i 1).val : ℝ) : EReal)) [] _ ?_ _ (hc _)).trans rfl)
  intro p hp x
  have key (q : ℕ) (hq : q + 256 ≤ 1024) (h h') (x : S512x256.Idx) : (colPiece B y1 y2 q h h').2 x
      = ((prod A W ((colPiece B y1 y2 q h h').1.emb x 0).val ((colPiece B y1 y2 q h h').1.emb x 1).val : ℝ) : EReal) := by
    idx_vars x
    have e0 : ((colPiece B y1 y2 q h h').1.emb (ix2 x0 x1) 0).val = x0.val := (congrArg (0 + ·) (one_mul _)).trans (zero_add _)
    have e1 : ((colPiece B y1 y2 q h h').1.emb (ix2 x0 x1) 1).val = q + x1.val := congrArg (q + ·) (one_mul _)
    rw [e0, e1]
    exact col_at B ha hb q hq _ _ _ _
  simp only [colPieces, List.mem_cons, List.mem_nil_iff, or_false] at hp
  rcases hp with rfl | rfl | rfl | rfl
  all_goals exact key _ (by omega) _ _ x

section Sums
include hx ht hg hs hh

theorem error_rows (n h) : Rows (fun r j => miss (H (n + r)) (X (n + r)) (T (n + r)) G S j) (error B y3 y4 y5 y6 y12 n h) :=
  miss_at (read_rows B.h12 hh n h) (read_rows B.h3 hx n h) (read_rows B.h4 ht n h) (gain_read B hg) (gate_read B hs)

theorem out_value (hc : ∀ y, ∃ p ∈ eight (outPiece (F := Ideal) B y3 y4 y5 y6 y12), y ∈ p.1.set) :
    Rows (fun r j => miss (H r) (X r) (T r) G S j * (1 / 1024)) (View.canon (eight (outPiece B y3 y4 y5 y6 y12))) := fun r j =>
  eight_rows (e := .f32) _ id (fun r j => miss (H r) (X r) (T r) G S j * (1 / 1024)) (fun n h => ⟨_, rfl, fun r j => out_at (error_rows B hx ht hg hs hh n h) r j⟩) hc r j

theorem down_value (hc : ∀ y, ∃ p ∈ eight (downPiece (F := Ideal) B y3 y4 y5 y6 y12), y ∈ p.1.set) (r : Fin 512) (j : Fin 1024) :
    View.canon (eight (downPiece (F := Ideal) B y3 y4 y5 y6 y12)) (ix2 r j) = ((down (H r.val) (X r.val) (T r.val) G S j.val : ℝ) : EReal) :=
  eight_rows (e := .bf16) _ id (fun r j => down (H r) (X r) (T r) G S j) (fun n h => ⟨_, rfl, fun r j =>
    down_at (read_rows B.h12 hh n h) (read_rows B.h3 hx n h) (read_rows B.h4 ht n h) (gain_read B hg) (gate_read B hs) r j⟩) hc r j

theorem lossOf_at (n h) (j : Fin 128) : lossOf (F := Ideal) B y3 y4 y5 y6 y12 n h (ix2 0 j) = ((∑ r : Fin 64, lossRow (H (n + r.val)) (X (n + r.val)) (T (n + r.val)) G S : ℝ) : EReal) :=
  loss_at (read_rows B.h12 hh n h) (read_rows B.h3 hx n h) (read_rows B.h4 ht n h) (gain_read B hg) (gate_read B hs) j

theorem addLoss_at (n h) (z : S1x128.Idx → EReal) (j : Fin 128) : addLoss (F := Ideal) B y3 y4 y5 y6 y12 n h z (ix2 0 j)
    = z (ix2 0 j) + ((∑ r : Fin 64, lossRow (H (n + r.val)) (X (n + r.val)) (T (n + r.val)) G S : ℝ) : EReal) := by
  rw [← lossOf_at B hx ht hg hs hh n h j]
  show k0_pay15 (F := Ideal) _ z (ix2 0 j) = _
  unfold k0_pay15
  pointwise

theorem gateSum (n h) (j : Fin 1024) : k0_pay17 (F := Ideal) (k0_pay11 (prodRows B y12 n h) (gain B y5)) (error B y3 y4 y5 y6 y12 n h) (ix2 0 j)
    = ((∑ r : Fin 64, gateRow (H (n + r.val)) (X (n + r.val)) (T (n + r.val)) G S j.val : ℝ) : EReal) :=
  gateSum_at (read_rows B.h12 hh n h) (gain_read B hg) (error_rows B hx ht hg hs hh n h) j

theorem addGate_at (n h) (z : S1x1x1024.Idx → EReal) (j : Fin 1024) : addGate (F := Ideal) B y3 y4 y5 y6 y12 n h z (ix3 0 0 j)
    = z (ix3 0 0 j) + ((∑ r : Fin 64, gateRow (H (n + r.val)) (X (n + r.val)) (T (n + r.val)) G S j.val : ℝ) : EReal) := by
  rw [← gateSum B hx ht hg hs hh n h j]
  show k0_pay19 (F := Ideal) _ _ z (ix3 0 0 j) = _
  unfold k0_pay19
  pointwise

theorem gainSum (n h) (j : Fin 1024) : k0_pay21 (F := Ideal) (k0_pay10 (prodRows B y12 n h)) (k0_pay12 (gate B y6)) (error B y3 y4 y5 y6 y12 n h) (ix2 0 j)
    = ((∑ r : Fin 64, gainRow (H (n + r.val)) (X (n + r.val)) (T (n + r.val)) G S j.val : ℝ) : EReal) :=
  gainSum_at (read_rows B.h12 hh n h) (gate_read B hs) (error_rows B hx ht hg hs hh n h) j

theorem addGain_at (n h) (z : S1x1024.Idx → EReal) (j : Fin 1024) : addGain (F := Ideal) B y3 y4 y5 y6 y12 n h z (ix2 0 j)
    = z (ix2 0 j) + ((∑ r : Fin 64, gainRow (H (n + r.val)) (X (n + r.val)) (T (n + r.val)) G S j.val : ℝ) : EReal) := by
  rw [← gainSum B hx ht hg hs hh n h j]
  show k0_pay22 (F := Ideal) _ _ _ z (ix2 0 j) = _
  unfold k0_pay22
  pointwise

/-- The loss's sum after a turn: the tile's rows, added to what was there unless the sum begins. -/
theorem loss_value (k : Kind) (u : ℝ) (j : Fin 128) (hu : (k = .first ∧ u = 0) ∨ (k ≠ .first ∧ y7 (ix2 0 j) = ((u : ℝ) : EReal))) :
    View.canon (sumOf (F := Ideal) B.a7 ![0, 0] inb_S1x128_S1x128_0_0 (fromLoss B y3 y4 y5 y6 y7 y12 k) (addLoss B y3 y4 y5 y6 y12)) (ix2 0 j)
      = ((u + ∑ r : Fin 512, lossRow (H r.val) (X r.val) (T r.val) G S : ℝ) : EReal) := by
  unfold sumOf
  rw [canon_chain _ _ _ zeros2]
  refine eight_sum (addLoss (F := Ideal) B y3 y4 y5 y6 y12) (fun r => lossRow (H r) (X r) (T r) G S) (ix2 0 j) (fun n h z => addLoss_at B hx ht hg hs hh n h z j) _ u ?_
  rcases hu with ⟨rfl, rfl⟩ | ⟨hk, hu⟩
  · rw [zero_add]; exact lossOf_at B hx ht hg hs hh 0 fits0 j
  · rw [EReal.coe_add, ← hu, show fromLoss (F := Ideal) B y3 y4 y5 y6 y7 y12 k = addLoss B y3 y4 y5 y6 y12 0 fits0 (allOf B.a7 B.h7 y7 ![0, 0] inb_S1x128_S1x128_0_0) from by cases k <;> first | rfl | exact absurd rfl hk]
    exact (addLoss_at B hx ht hg hs hh _ _ _ j).trans (congrArg (· + _) (congrFun (read_whole B.h7 y7 inb_S1x128_S1x128_0_0 (by decide)) _))

/-- The gate's sum after a turn. -/
theorem gate_value (k : Kind) (u : ℕ → ℝ) (j : Fin 1024) (hu : ((k = .first ∨ k = .opens) ∧ u j.val = 0) ∨ ((k = .goes ∨ k = .last) ∧ y10 (ix3 0 0 j) = ((u j.val : ℝ) : EReal))) :
    View.canon (sumOf (F := Ideal) B.a10 ![0, 0, 0] inb_S1x1x1024_S1x1x1024_0_0_0 (fromGate B y3 y4 y5 y6 y10 y12 k) (addGate B y3 y4 y5 y6 y12)) (ix3 0 0 j)
      = ((u j.val + ∑ r : Fin 512, gateRow (H r.val) (X r.val) (T r.val) G S j.val : ℝ) : EReal) := by
  unfold sumOf
  rw [canon_chain _ _ _ zeros3]
  refine eight_sum (addGate (F := Ideal) B y3 y4 y5 y6 y12) (fun r => gateRow (H r) (X r) (T r) G S j.val) (ix3 0 0 j) (fun n h z => addGate_at B hx ht hg hs hh n h z j) _ (u j.val) ?_
  rcases hu with ⟨hk, hu⟩ | ⟨hk, hu⟩
  · rw [hu, zero_add, ← gateSum B hx ht hg hs hh 0 fits0 j]
    rcases hk with rfl | rfl <;>
    · show k0_pay18 (F := Ideal) _ _ (ix3 0 0 j) = _
      unfold k0_pay18
      pointwise
  · rw [EReal.coe_add, ← hu]
    rcases hk with rfl | rfl <;>
    exact (addGate_at B hx ht hg hs hh _ _ _ j).trans (congrArg (· + _) (congrFun (read_whole B.h10 y10 inb_S1x1x1024_S1x1x1024_0_0_0 (by decide)) _))

/-- The gain's sum after a turn. -/
theorem gain_value (k : Kind) (u : ℕ → ℝ) (j : Fin 1024) (hu : (k = .first ∧ u j.val = 0) ∨ (k ≠ .first ∧ y11 (ix2 0 j) = ((u j.val : ℝ) : EReal))) :
    View.canon (sumOf (F := Ideal) B.a11 ![0, 0] inb_S1x1024_S1x1024_0_0 (fromGain B y3 y4 y5 y6 y11 y12 k) (addGain B y3 y4 y5 y6 y12)) (ix2 0 j)
      = ((u j.val + ∑ r : Fin 512, gainRow (H r.val) (X r.val) (T r.val) G S j.val : ℝ) : EReal) := by
  unfold sumOf
  rw [canon_chain _ _ _ zeros2]
  refine eight_sum (addGain (F := Ideal) B y3 y4 y5 y6 y12) (fun r => gainRow (H r) (X r) (T r) G S j.val) (ix2 0 j) (fun n h z => addGain_at B hx ht hg hs hh n h z j) _ (u j.val) ?_
  rcases hu with ⟨rfl, hu⟩ | ⟨hk, hu⟩
  · rw [hu, zero_add]; exact gainSum B hx ht hg hs hh 0 fits0 j
  · rw [EReal.coe_add, ← hu, show fromGain (F := Ideal) B y3 y4 y5 y6 y11 y12 k = addGain B y3 y4 y5 y6 y12 0 fits0 (allOf B.a11 B.h11 y11 ![0, 0] inb_S1x1024_S1x1024_0_0) from by cases k <;> first | rfl | exact absurd rfl hk]
    exact (addGain_at B hx ht hg hs hh _ _ _ j).trans (congrArg (· + _) (congrFun (read_whole B.h11 y11 inb_S1x1024_S1x1024_0_0 (by decide)) _))

end Sums

end Cert.Kernel5Ideal.Post
-- ==== Proof.PostVal.lean ====
module

public import proofs.«01_k».proof.Proof.PostRun
public import proofs.«01_k».proof.Proof.PostSum
public import proofs.«01_k».proof.Proof.PreVal

@[expose] public section

set_option maxRecDepth 16384

noncomputable section

namespace Cert.Kernel5Ideal.Post

open Idealize.ShloMosaic Idealize.ShloMosaic.TcCoe Idealize.ShloMosaic.Tactic Idealize.ShloMosaic.Pipeline
open Cert.Kernel5Ideal.Gen
open Cert.Kernel4Ideal.Pre (Rows tile seqSum next_sum first_sum)

/-! # What every point leaves, and the arrays, over the reals -/

theorem idx0 : ∀ t : Fin cfg0.N, (t.val < 8 → win0_0.index t = ![t.val, 0]) ∧ win0_1.index t = ![0, 0] ∧ win0_2.index t = ![t.val - 1, 0] ∧ win0_3.index t = ![t.val - 1, 0]
    ∧ win0_4.index t = ![0, 0] ∧ win0_5.index t = ![(t.val - 1) / 4, 0, 0] ∧ t.val < 9 :=
  (by decide +kernel : ∀ t : Fin grid0.N, _)

theorem idx_out : ∀ t : Fin cfg0.N, (1 ≤ t.val → win0_7.index t = ![t.val - 1, 0] ∧ win0_8.index t = ![t.val - 1, 0] ∧ win0_9.index t = ![(t.val - 1) / 4, 0, 0])
    ∧ ((cfg0.win 7).flush t = true → 1 ≤ t.val) ∧ ((cfg0.win 8).flush t = true → 1 ≤ t.val) ∧ ((cfg0.win 9).flush t = true → 1 ≤ t.val ∧ (t.val - 1) % 4 = 3) :=
  (by decide +kernel : ∀ t : Fin grid0.N, (1 ≤ t.val → win0_7.index t = ![t.val - 1, 0] ∧ win0_8.index t = ![t.val - 1, 0] ∧ win0_9.index t = ![(t.val - 1) / 4, 0, 0])
    ∧ ((cfg0.win 7).flush t = true → 1 ≤ t.val) ∧ ((cfg0.win 8).flush t = true → 1 ≤ t.val) ∧ ((cfg0.win 9).flush t = true → 1 ≤ t.val ∧ (t.val - 1) % 4 = 3))

variable (m : (ℓ : Loc nD τ sig) → Buf (Elt Ideal) ℓ) (c : Dev nD)

/-- The arrays the kernel reads, as real numbers. -/
structure Reads (A W X T : ℕ → ℕ → ℝ) (G : ℕ → ℝ) (S : ℕ → ℕ → ℝ) : Prop where
  a : ∀ (r : Fin 4096) (k : Fin 2816), (V m c main_arg0 : Vec Ideal S4096x2816 .bf16) (ix2 r k) = ((A r.val k.val : ℝ) : EReal)
  w : ∀ (k : Fin 2816) (j : Fin 1024), (V m c main_v1 : Vec Ideal S2816x1024 .bf16) (ix2 k j) = ((W k.val j.val : ℝ) : EReal)
  x : Rows X (V m c main_arg2 : Vec Ideal S4096x1024 .f32)
  t : Rows T (V m c main_arg3 : Vec Ideal S4096x1024 .f32)
  g : ∀ j : Fin 1024, (V m c main_arg4 : Vec Ideal S1x1024 .f32) (ix2 0 j) = ((G j.val : ℝ) : EReal)
  s : ∀ (n : Fin 2) (j : Fin 1024), (V m c main_arg5 : Vec Ideal S2x6x1024 .f32) (ix3 n 5 j) = ((S n.val j.val : ℝ) : EReal)

variable {m c} {A W X T : ℕ → ℕ → ℝ} {G : ℕ → ℝ} {S : ℕ → ℕ → ℝ} (R : Reads m c A W X T G S)

include R in
theorem blk_a (t : Fin cfg0.N) (h : t.val < 8) (r : Fin 512) (k : Fin 2816) : iblk m c 0 t (ix2 r k) = ((tile A t.val r.val k.val : ℝ) : EReal) := by
  refine Eq.trans ?_ (R.a ⟨512 * t.val + r.val, by omega⟩ k)
  have e := (idx0 t).1 h
  blk_simp [iblk]
  blk_ext [e]
include R in
theorem blk_w (t : Fin cfg0.N) (k : Fin 2816) (j : Fin 1024) : iblk m c 1 t (ix2 k j) = ((W k.val j.val : ℝ) : EReal) := by
  refine Eq.trans ?_ (R.w k j)
  blk_simp [iblk]
  blk_ext [idx0 t]
include R in
theorem blk_x (t : Fin cfg0.N) : Rows (tile X (t.val - 1)) (iblk m c 2 t) := fun r j => by
  have ht := (idx0 t).2.2.2.2.2.2
  refine Eq.trans ?_ (R.x ⟨512 * (t.val - 1) + r.val, by omega⟩ j)
  blk_simp [iblk]
  blk_ext [idx0 t]
include R in
theorem blk_t (t : Fin cfg0.N) : Rows (tile T (t.val - 1)) (iblk m c 3 t) := fun r j => by
  have ht := (idx0 t).2.2.2.2.2.2
  refine Eq.trans ?_ (R.t ⟨512 * (t.val - 1) + r.val, by omega⟩ j)
  blk_simp [iblk]
  blk_ext [idx0 t]
include R in
theorem blk_g (t : Fin cfg0.N) (j : Fin 1024) : iblk m c 4 t (ix2 0 j) = ((G j.val : ℝ) : EReal) := by
  refine Eq.trans ?_ (R.g j)
  blk_simp [iblk]
  blk_ext [idx0 t]
include R in
theorem blk_s (t : Fin cfg0.N) (j : Fin 1024) : iblk m c 5 t (ix3 0 5 j) = ((S ((t.val - 1) / 4) j.val : ℝ) : EReal) := by
  have ht := (idx0 t).2.2.2.2.2.2
  refine Eq.trans ?_ (R.s ⟨(t.val - 1) / 4, by omega⟩ j)
  blk_simp [iblk]
  blk_ext [idx0 t]

/-- The results, row by row, and a tile's part of the sums. -/
def outArr (A W X T : ℕ → ℕ → ℝ) (G : ℕ → ℝ) (S : ℕ → ℕ → ℝ) (r j : ℕ) : ℝ := miss (prod A W r) (X r) (T r) G (S (r / 2048)) j * (1 / 1024)
def downArr (A W X T : ℕ → ℕ → ℝ) (G : ℕ → ℝ) (S : ℕ → ℕ → ℝ) (r j : ℕ) : ℝ := down (prod A W r) (X r) (T r) G (S (r / 2048)) j
def lossT (A W X T : ℕ → ℕ → ℝ) (G : ℕ → ℝ) (S : ℕ → ℕ → ℝ) (n : ℕ) : ℝ := ∑ r : Fin 512, lossRow (prod A W (512 * n + r.val)) (X (512 * n + r.val)) (T (512 * n + r.val)) G (S (n / 4))
def gateT (A W X T : ℕ → ℕ → ℝ) (G : ℕ → ℝ) (S : ℕ → ℕ → ℝ) (n j : ℕ) : ℝ := ∑ r : Fin 512, gateRow (prod A W (512 * n + r.val)) (X (512 * n + r.val)) (T (512 * n + r.val)) G (S (n / 4)) j
def gainT (A W X T : ℕ → ℕ → ℝ) (G : ℕ → ℝ) (S : ℕ → ℕ → ℝ) (n j : ℕ) : ℝ := ∑ r : Fin 512, gainRow (prod A W (512 * n + r.val)) (X (512 * n + r.val)) (T (512 * n + r.val)) G (S (n / 4)) j

/-- What is kept once tile `n` is finished. -/
structure Done (A W X T : ℕ → ℕ → ℝ) (G : ℕ → ℝ) (S : ℕ → ℕ → ℝ) (n : ℕ) (K : Kept Ideal) : Prop where
  loss : ∀ j : Fin 128, K.s7 (ix2 0 j) = ((∑ i ∈ Finset.range (n + 1), lossT A W X T G S i : ℝ) : EReal)
  out : Rows (tile (outArr A W X T G S) n) K.s8
  down : ∀ (r : Fin 512) (j : Fin 1024), K.s9 (ix2 r j) = ((tile (downArr A W X T G S) n r.val j.val : ℝ) : EReal)
  gate : ∀ j : Fin 1024, K.s10 (ix3 0 0 j) = ((∑ i ∈ Finset.range (n % 4 + 1), gateT A W X T G S (4 * (n / 4) + i) j.val : ℝ) : EReal)
  gain : ∀ j : Fin 1024, K.s11 (ix2 0 j) = ((∑ i ∈ Finset.range (n + 1), gainT A W X T G S i j.val : ℝ) : EReal)

include R in
theorem prod_done (t : Fin cfg0.N) (h : t.val < 8) {L : List (View.Piece (Elt Ideal) S512x1024 .f32)} (e : L = colPieces (bufs t) (iblk m c 0 t) (iblk m c 1 t))
    (hc : ∀ y, ∃ p ∈ L, y ∈ p.1.set) : Rows (tile (prod A W) t.val) (View.canon L) := by
  subst e
  exact prod_value (A := tile A t.val) (bufs t) (fun r k => blk_a R t h r k) (blk_w R t) hc

include R in
theorem head_kept (t : Fin cfg0.N) (h : t.val = 0) : Rows (tile (prod A W) t.val) (kept m c t.val).s12 := by
  have hk : (kept m c t.val).s12 = View.canon (headAt c t (iblk m c 0 t) (iblk m c 1 t) h).1 := by
    obtain ⟨n, hn⟩ := t
    obtain rfl : n = 0 := h
    show (stepAt m c t0_0 _).s12 = _
    unfold stepAt step; rw [dif_pos (show (t0_0 : Fin cfg0.N).val = 0 from rfl)]; rfl
  rw [hk]
  exact prod_done R t (by omega) (head_lists c (i := grid0.coords t) (bufs t) (iblk m c 0 t) (iblk m c 1 t) (head_conds t h).1 (head_conds t h).2.1 (head_conds t h).2.2)
    (head_cover c t (iblk m c 0 t) (iblk m c 1 t) h)

theorem kind_at : ∀ n, n < 9 → n ≠ 0 → (n = 1 ∧ kind n = .first) ∨ (n = 5 ∧ kind n = .opens) ∨ (n ≠ 1 ∧ n ≠ 5 ∧ n ≠ 8 ∧ kind n = .goes) ∨ (n = 8 ∧ kind n = .last) := by
  decide

theorem cols_cover (c : Dev nD) (t : Fin cfg0.N) : ∀ y, ∃ p ∈ colPieces (F := Ideal) (bufs t) (iblk m c 0 t) (iblk m c 1 t), y ∈ p.1.set :=
  View.cover_of_tiledL _ S512x256.size (by sl_kernel_rfl)

include R in
theorem good_step (t : Fin cfg0.N) (h0 : t.val ≠ 0) (hd : Rows (tile (prod A W) (t.val - 1)) (kept m c (t.val - 1)).s12) (hD : 2 ≤ t.val → Done A W X T G S (t.val - 1 - 1) (kept m c (t.val - 1))) :
    (t.val < 8 → Rows (tile (prod A W) t.val) (kept m c t.val).s12) ∧ Done A W X T G S (t.val - 1) (kept m c t.val) := by
  have ht := (idx0 t).2.2.2.2.2.2
  have hk := kind_at t.val ht h0
  obtain ⟨l7, l8, l9, l10, l11, l12⟩ := turn_lists c (bufs t) (iblk m c 0 t) (iblk m c 1 t) (iblk m c 2 t) (iblk m c 3 t) (iblk m c 4 t) (iblk m c 5 t)
    (kept m c (t.val - 1)).s7 (kept m c (t.val - 1)).s10 (kept m c (t.val - 1)).s11 (kept m c (t.val - 1)).s12 (kind t.val) (conds t h0)
  obtain ⟨-, c8, c9, -, -⟩ := turn_cover c t (iblk m c 0 t) (iblk m c 1 t) (iblk m c 2 t) (iblk m c 3 t) (iblk m c 4 t) (iblk m c 5 t) (kept m c (t.val - 1)) _ (conds t h0)
  rw [kept_turn m c t h0]
  have hr : ∀ r : Fin 512, (512 * (t.val - 1) + r.val) / 2048 = (t.val - 1) / 4 := fun r => by omega
  refine ⟨fun h8 => ?_, fun j => ?_, fun r j => ?_, fun r j => ?_, fun j => ?_, fun j => ?_⟩
  · have e : (left c t (iblk m c 0 t) (iblk m c 1 t) (iblk m c 2 t) (iblk m c 3 t) (iblk m c 4 t) (iblk m c 5 t) (kept m c (t.val - 1)) (kind t.val) (conds t h0)).s12
        = View.canon (colPieces (bufs t) (iblk m c 0 t) (iblk m c 1 t)) := by
      refine (congrArg (fun L => carried (kept m c (t.val - 1)).s12 L (kind t.val)) l12).trans ?_
      rcases hk with ⟨-, h⟩ | ⟨-, h⟩ | ⟨-, -, -, h⟩ | ⟨h, -⟩
      · rw [h]; rfl
      · rw [h]; rfl
      · rw [h]; rfl
      · omega
    rw [e]
    exact prod_done R t h8 rfl (cols_cover c t)
  · refine (congrFun (congrArg View.canon l7) _).trans ?_
    rw [Finset.sum_range_succ]
    refine loss_value (bufs t) (blk_x R t) (blk_t R t) (blk_g R t) (blk_s R t) hd (kind t.val) _ j ?_
    rcases hk with ⟨h, h'⟩ | ⟨h, h'⟩ | ⟨h, -, -, h'⟩ | ⟨h, h'⟩
    · exact .inl ⟨h', by rw [h]; rfl⟩
    all_goals
      refine .inr ⟨by rw [h']; exact nofun, ((hD (by omega)).loss j).trans ?_⟩
      rw [show t.val - 1 - 1 + 1 = t.val - 1 by omega]
  · refine (congrFun (congrArg View.canon l8) _).trans ((out_value (bufs t) (blk_x R t) (blk_t R t) (blk_g R t) (blk_s R t) hd (l8 ▸ c8) r j).trans ?_)
    unfold tile outArr
    rw [hr r]
  · refine (congrFun (congrArg View.canon l9) _).trans ((down_value (bufs t) (blk_x R t) (blk_t R t) (blk_g R t) (blk_s R t) hd (l9 ▸ c9) r j).trans ?_)
    unfold tile downArr
    rw [hr r]
  · refine (congrFun (congrArg View.canon l10) _).trans ?_
    rcases hk with ⟨h, h'⟩ | ⟨h, h'⟩ | ⟨h, h5, -, h'⟩ | ⟨h, h'⟩
    · rw [first_sum (fun n => gateT A W X T G S n j.val) _ (by omega)]
      exact (gate_value (bufs t) (blk_x R t) (blk_t R t) (blk_g R t) (blk_s R t) hd (kind t.val) (fun _ => 0) j (.inl ⟨.inl h', rfl⟩)).trans (congrArg _ (zero_add _))
    · rw [first_sum (fun n => gateT A W X T G S n j.val) _ (by omega)]
      exact (gate_value (bufs t) (blk_x R t) (blk_t R t) (blk_g R t) (blk_s R t) hd (kind t.val) (fun _ => 0) j (.inl ⟨.inr h', rfl⟩)).trans (congrArg _ (zero_add _))
    · rw [next_sum (fun n => gateT A W X T G S n j.val) _ (by omega)]
      exact gate_value (bufs t) (blk_x R t) (blk_t R t) (blk_g R t) (blk_s R t) hd (kind t.val)
        (fun j => ∑ i ∈ Finset.range ((t.val - 1 - 1) % 4 + 1), gateT A W X T G S (4 * ((t.val - 1 - 1) / 4) + i) j) j (.inr ⟨.inl h', (hD (by omega)).gate j⟩)
    · rw [next_sum (fun n => gateT A W X T G S n j.val) _ (by omega)]
      exact gate_value (bufs t) (blk_x R t) (blk_t R t) (blk_g R t) (blk_s R t) hd (kind t.val)
        (fun j => ∑ i ∈ Finset.range ((t.val - 1 - 1) % 4 + 1), gateT A W X T G S (4 * ((t.val - 1 - 1) / 4) + i) j) j (.inr ⟨.inr h', (hD (by omega)).gate j⟩)
  · refine (congrFun (congrArg View.canon l11) _).trans ?_
    rw [Finset.sum_range_succ]
    refine gain_value (bufs t) (blk_x R t) (blk_t R t) (blk_g R t) (blk_s R t) hd (kind t.val) (fun j => ∑ i ∈ Finset.range (t.val - 1), gainT A W X T G S i j) j ?_
    rcases hk with ⟨h, h'⟩ | ⟨h, h'⟩ | ⟨h, -, -, h'⟩ | ⟨h, h'⟩
    · exact .inl ⟨h', by rw [h]; rfl⟩
    all_goals
      refine .inr ⟨by rw [h']; exact nofun, ((hD (by omega)).gain j).trans ?_⟩
      rw [show t.val - 1 - 1 + 1 = t.val - 1 by omega]

include R in
theorem good : ∀ n, n < 9 → (n < 8 → Rows (tile (prod A W) n) (kept m c n).s12) ∧ (1 ≤ n → Done A W X T G S (n - 1) (kept m c n)) := by
  intro n
  induction n with
  | zero => exact fun h => ⟨fun _ => head_kept R ⟨0, lt_of_lt_of_eq h (show 9 = cfg0.N from N_0.symm)⟩ rfl, fun h => absurd h (by omega)⟩
  | succ n ih =>
    intro hn
    obtain ⟨hd, hD⟩ := ih (by omega)
    have g := good_step R ⟨n + 1, lt_of_lt_of_eq hn (show 9 = cfg0.N from N_0.symm)⟩ (Nat.succ_ne_zero n) (hd (by omega)) (fun h => hD (by simp at h; omega))
    exact ⟨g.1, fun _ => g.2⟩

include R in
theorem done (t : Fin cfg0.N) (h : 1 ≤ t.val) : Done A W X T G S (t.val - 1) (kept m c t.val) :=
  (good R t.val (idx0 t).2.2.2.2.2.2).2 h

theorem last_lt : (8 : ℕ) < cfg0.N := lt_of_lt_of_eq (by decide) (show 9 = cfg0.N from N_0.symm)
/-- The last point. -/
abbrev lastPt : Fin cfg0.N := ⟨8, last_lt⟩

include R in
theorem loss_array (j : Fin 128) : ((dats m 0 c).arrAt 6 cfg0.N : FVec Ideal S1x128 .f32) (ix2 0 j) = ((∑ i ∈ Finset.range 8, lossT A W X T G S i : ℝ) : EReal) := by
  refine Eq.trans ?_ ((done R lastPt (show 1 ≤ 8 by decide)).loss j)
  refine congrFun (f := ((dats m 0 c).arrAt 6 cfg0.N : FVec Ideal S1x128 .f32)) (g := (kept m c 8).s7) ?_ _
  refine (dats m 0 c).arrAt_eq_of_after_last 6 lastPt (by decide +kernel) _ fun j => ?_
  blk_simp
  rw [(after_out m c _).1]

include R in
theorem gain_array (j : Fin 1024) : ((dats m 0 c).arrAt 10 cfg0.N : FVec Ideal S1x1024 .f32) (ix2 0 j) = ((∑ i ∈ Finset.range 8, gainT A W X T G S i j.val : ℝ) : EReal) := by
  refine Eq.trans ?_ ((done R lastPt (show 1 ≤ 8 by decide)).gain j)
  refine congrFun (f := ((dats m 0 c).arrAt 10 cfg0.N : FVec Ideal S1x1024 .f32)) (g := (kept m c 8).s11) ?_ _
  refine (dats m 0 c).arrAt_eq_of_after_last 10 lastPt (by decide +kernel) _ fun j => ?_
  blk_simp
  rw [(after_out m c _).2.2.2.2]

include R in
theorem out_array : Rows (outArr A W X T G S) ((dats m 0 c).arrAt 7 cfg0.N : FVec Ideal S4096x1024 .f32) := by
  have h : ((dats m 0 c).arrAt 7 cfg0.N : FVec Ideal S4096x1024 .f32) = fun i : S4096x1024.Idx => ((outArr A W X T G S (i 0).val (i 1).val : ℝ) : EReal) := by
    refine (dats m 0 c).arrAt_eq_of_covers 7 _ (by decide +kernel) fun t hf y => ?_
    have h1 := (idx_out t).2.1 hf
    blk_simp
    rw [(after_out m c t).2.1]
    idx_vars y
    refine ((done R t h1).out _ _).trans ?_
    refine congrArg _ (Eq.symm ?_)
    rw [((idx_out t).1 h1).1]
    show outArr A W X T G S ((t.val - 1) * 512 + y0.val) (0 * 1024 + y1.val) = outArr A W X T G S (512 * (t.val - 1) + y0.val) y1.val
    rw [Nat.zero_mul, Nat.zero_add, Nat.mul_comm]
  exact fun i j => congrFun h (ix2 i j)

include R in
theorem down_array (i : Fin 4096) (j : Fin 1024) : ((dats m 0 c).arrAt 8 cfg0.N : FVec Ideal S4096x1024 .bf16) (ix2 i j) = ((downArr A W X T G S i.val j.val : ℝ) : EReal) := by
  have h : ((dats m 0 c).arrAt 8 cfg0.N : FVec Ideal S4096x1024 .bf16) = fun i : S4096x1024.Idx => ((downArr A W X T G S (i 0).val (i 1).val : ℝ) : EReal) := by
    refine (dats m 0 c).arrAt_eq_of_covers 8 _ (by decide +kernel) fun t hf y => ?_
    have h1 := (idx_out t).2.2.1 hf
    blk_simp
    rw [(after_out m c t).2.2.1]
    idx_vars y
    refine ((done R t h1).down _ _).trans ?_
    refine congrArg _ (Eq.symm ?_)
    rw [((idx_out t).1 h1).2.1]
    show downArr A W X T G S ((t.val - 1) * 512 + y0.val) (0 * 1024 + y1.val) = downArr A W X T G S (512 * (t.val - 1) + y0.val) y1.val
    rw [Nat.zero_mul, Nat.zero_add, Nat.mul_comm]
  exact congrFun h (ix2 i j)

include R in
theorem gate_array (s : Fin 2) (j : Fin 1024) : ((dats m 0 c).arrAt 9 cfg0.N : FVec Ideal S2x1x1024 .f32) (ix3 s 0 j) = ((seqSum (gateT A W X T G S) s.val j.val : ℝ) : EReal) := by
  have h : ((dats m 0 c).arrAt 9 cfg0.N : FVec Ideal S2x1x1024 .f32) = fun i : S2x1x1024.Idx => ((seqSum (gateT A W X T G S) (i 0).val (i 2).val : ℝ) : EReal) := by
    refine (dats m 0 c).arrAt_eq_of_covers 9 _ (by decide +kernel) fun t hf y => ?_
    obtain ⟨h1, h2⟩ := (idx_out t).2.2.2 hf
    blk_simp
    rw [(after_out m c t).2.2.2.1]
    idx_vars y
    obtain rfl : y0 = 0 := Subsingleton.elim _ _
    obtain rfl : y1 = 0 := Subsingleton.elim _ _
    refine ((done R t h1).gate _).trans ?_
    refine congrArg _ (Eq.symm ?_)
    rw [((idx_out t).1 h1).2.2]
    show seqSum (gateT A W X T G S) ((t.val - 1) / 4) (0 * 1024 + y2.val) = _
    rw [Nat.zero_mul, Nat.zero_add, h2]; rfl
  exact congrFun h (ix3 s 0 j)

end Cert.Kernel5Ideal.Post
end
-- ==== Proof.PostRef.lean ====
module

public import proofs.«01_k».proof.Proof.PostSum
public import proofs.«01_k».proof.Proof.PreRef
public import proofs.«01_k».proof.Proof.Gen.Reference5Ideal.Run

@[expose] public section

set_option maxRecDepth 16384

noncomputable section

open Idealize.ShloMosaic Idealize.ShloMosaic.TcCoe Idealize.ShloMosaic.Tactic

namespace Cert.Post

open Cert.Reference5Ideal Cert.Reference5Ideal.Gen
open Cert.Kernel4Ideal.Pre (under under_pos inv real_sum width_bits one_bits Rows)
open Cert.Kernel5Ideal.Post (miss back down lossRow gateRow gainRow prod)
open Cert.Pool (Holds3)
open Cert.Pre (seqRows Col seq_ref rowSum rowSum_at meanSq meanSq_at mul_holds add_holds root_at rootBack rootBack_at lanes_holds mod_holds colSum colSum_at allSum allSum_at meanBack meanBack_at seqs gains gains_at rows_of_seq unitRef inv_twice)

/-! # The reference's loss and its gradients, over the reals -/

theorem two_bits : Ideal.ofBits .f32 0x40000000#32 = ((2 : ℝ) : EReal) := by
  simp [Ideal.ofBits, Ideal.ieee]; rw [← EReal.coe_mul]; norm_num
theorem halved_bits : Ideal.ofBits .f32 0x3F000000#32 = ((1 / 2 : ℝ) : EReal) := by
  simp [Ideal.ofBits, Ideal.ieee]; rw [← EReal.coe_mul]; norm_num
theorem rows_bits : Ideal.ofBits .f32 0x45000000#32 = ((2048 : ℝ) : EReal) := by
  simp [Ideal.ofBits, Ideal.ieee]; rw [← EReal.coe_mul]; norm_num

/-- The sum over a whole table. -/
theorem all_at {n0 n1 : ℕ} (x : FVec Ideal ⟨2, ![n0, n1]⟩ .f32) (c : FVec Ideal S_ .f32) (hc : ∀ k, c k = 0) (h : (⟨2, ![n0, n1]⟩ : Shape).ReducesTo [0, 1] S_) (hu) (k : S_.Idx) :
    (Host.reduceAdd x c h hu : FVec Ideal S_ .f32) k = ∑ s : Fin n0, ∑ t : Fin n1, x (ix2 s t) := by
  refine (Host.reduceAdd_apply x c h hu k).trans ?_
  rw [Ideal.hostReduceAdd_def, hc]
  unfold Ideal.hostReduceAdd
  rw [zero_add]
  refine (Finset.sum_filter_eq_sum_of_fiber _ (fun k : Fin n0 × Fin n1 => ix2 k.1 k.2) (fun _ _ e => Prod.ext (congrFun e 0) (congrFun e 1)) (fun i => ?_) x).trans (Fintype.sum_prod_type _)
  refine ⟨fun _ => ⟨(i 0, i 1), ?_⟩, fun _ => funext fun b => b.elim0⟩
  funext a
  fin_cases a <;> rfl

/-- Halving, doubling and the mean over a row cancel to the mean of the row. -/
def doubled (x : FVec Ideal S2x2048x1024 .f32) : FVec Ideal S2x2048x1024 .f32 :=
  mulf (broadcastInDim S2x2048x1024 ![0, 1] bcast_S2x2048_S2x2048x1024_0_1 (Host.divf (broadcastInDim S2x2048 ![] bcast_S_S2x2048 (mulf (constant S_ .f32 0x3F000000#32) (constant S_ .f32 0x3F800000#32) : FVec Ideal S_ .f32))
    (broadcastInDim S2x2048 ![] bcast_S_S2x2048 (constant S_ .f32 0x44800000#32)) : FVec Ideal S2x2048 .f32)) (mulf (broadcastInDim S2x2048x1024 ![] bcast_S_S2x2048x1024 (constant S_ .f32 0x40000000#32)) x)
theorem doubled_at {x : FVec Ideal S2x2048x1024 .f32} {X : ℕ → ℕ → ℕ → ℝ} (hx : Holds3 X x) : Holds3 (fun s t j => X s t j * (1 / 1024)) (doubled x) := fun s t j => by
  unfold doubled
  pointwise [hx _ _ _, halved_bits, one_bits, two_bits, width_bits]
  rw [← EReal.coe_mul, ← EReal.coe_mul, Ideal.div_coe (by norm_num), ← EReal.coe_mul, ← EReal.coe_mul]
  exact congrArg Real.toEReal (by ring)

/-- The loss: half the sum of the rows' means, times the rows of a sequence. -/
def lossRef (x : FVec Ideal S2x2048x1024 .f32) : FVec Ideal S1x128 .f32 :=
  broadcastInDim S1x128 ![] bcast_S_S1x128 (mulf (mulf (constant S_ .f32 0x3F000000#32) (Host.reduceAdd (Host.divf (rowSum (mulf x x)) (broadcastInDim S2x2048 ![] bcast_S_S2x2048 (constant S_ .f32 0x44800000#32)) : FVec Ideal S2x2048 .f32)
    (constant S_ .f32 0x00000000#32) reducesTo_S2x2048_S_d0_1 h_S_ : FVec Ideal S_ .f32)) (constant S_ .f32 0x45000000#32))
theorem lossRef_at {x : FVec Ideal S2x2048x1024 .f32} {X : ℕ → ℕ → ℕ → ℝ} (hx : Holds3 X x) (j : Fin 128) :
    lossRef x (ix2 0 j) = ((∑ s : Fin 2, ∑ t : Fin 2048, ∑ l : Fin 1024, X s.val t.val l.val * X s.val t.val l.val : ℝ) : EReal) := by
  have hy : ∀ k, (Host.reduceAdd (Host.divf (rowSum (mulf x x)) (broadcastInDim S2x2048 ![] bcast_S_S2x2048 (constant S_ .f32 0x44800000#32)) : FVec Ideal S2x2048 .f32)
      (constant S_ .f32 0x00000000#32) reducesTo_S2x2048_S_d0_1 h_S_ : FVec Ideal S_ .f32) k = ((∑ s : Fin 2, ∑ t : Fin 2048, (∑ l : Fin 1024, X s.val t.val l.val * X s.val t.val l.val) * (1 / 1024) : ℝ) : EReal) := fun k => by
    refine (all_at _ _ (fun _ => Ideal.ofBits_zero_f32) _ _ k).trans ?_
    simp only [real_sum Finset.univ]
    refine Finset.sum_congr rfl fun s _ => Finset.sum_congr rfl fun t _ => ?_
    pointwise [rowSum_at (mul_holds hx hx) _ _, width_bits]
    rw [Ideal.div_coe (by norm_num), ← EReal.coe_mul]
  unfold lossRef
  revert hy
  generalize (Host.reduceAdd (Host.divf (rowSum (mulf x x)) (broadcastInDim S2x2048 ![] bcast_S_S2x2048 (constant S_ .f32 0x44800000#32)) : FVec Ideal S2x2048 .f32)
      (constant S_ .f32 0x00000000#32) reducesTo_S2x2048_S_d0_1 h_S_ : FVec Ideal S_ .f32) = y
  intro hy
  pointwise [hy _, halved_bits, rows_bits]
  rw [← EReal.coe_mul, ← EReal.coe_mul]
  refine congrArg Real.toEReal ?_
  simp only [← Finset.sum_mul]
  ring

section Args
variable {a0 : FVec Ideal S4096x2816 .bf16} {a1 : FVec Ideal S1x2816x1024 .f32} {a2 a3 : FVec Ideal S4096x1024 .f32} {a4 : FVec Ideal S1x1024 .f32} {a5 : FVec Ideal S2x6x1024 .f32}
  {A W X T S : ℕ → ℕ → ℝ} {G : ℕ → ℝ}
  (h0 : ∀ (r : Fin 4096) (k : Fin 2816), a0 (ix2 r k) = ((A r.val k.val : ℝ) : EReal)) (h1 : ∀ (k : Fin 2816) (j : Fin 1024), a1 (ix3 0 k j) = ((W k.val j.val : ℝ) : EReal))
  (h2 : Rows X a2) (h3 : Rows T a3) (h4 : ∀ j : Fin 1024, a4 (ix2 0 j) = ((G j.val : ℝ) : EReal)) (h5 : ∀ (s : Fin 2) (j : Fin 1024), a5 (ix3 s 5 j) = ((S s.val j.val : ℝ) : EReal))

/-- The product with the output weights. -/
def prodRef (a0 : FVec Ideal S4096x2816 .bf16) (a1 : FVec Ideal S1x2816x1024 .f32) : FVec Ideal S2x2048x1024 .f32 :=
  Host.dotGeneral dot_S2x2048x2816_S2816x1024_S2x2048x1024_2_0_01_1_n_n none (shapeCast S2x2048x2816 (extf .f32 a0 bitsLt_bf16_f32) shapeCasts_S4096x2816_S2x2048x2816) (shapeCast S2816x1024 a1 shapeCasts_S1x2816x1024_S2816x1024)

include h0 in
theorem left_at (s : Fin 2) (t : Fin 2048) (k : Fin 2816) : (shapeCast S2x2048x2816 (extf .f32 a0 bitsLt_bf16_f32) shapeCasts_S4096x2816_S2x2048x2816 : FVec Ideal S2x2048x2816 .f32) (ix3 s t k)
    = ((A (2048 * s.val + t.val) k.val : ℝ) : EReal) := by
  pointwise
  refine Eq.trans (congrArg a0 ?_) (h0 ⟨2048 * s.val + t.val, by omega⟩ k)
  funext a
  fin_cases a <;> apply Fin.ext <;> simp <;> omega
include h1 in
theorem right_at (k : Fin 2816) (j : Fin 1024) : (shapeCast S2816x1024 a1 shapeCasts_S1x2816x1024_S2816x1024 : FVec Ideal S2816x1024 .f32) (ix2 k j) = ((W k.val j.val : ℝ) : EReal) := by
  pointwise [h1 _ _]
include h0 h1 in
theorem prodRef_at : Holds3 (seqRows (prod A W)) (prodRef a0 a1) := by
  intro s t j
  unfold prodRef
  have hl := left_at h0
  have hr := right_at h1
  revert hl hr
  generalize (shapeCast S2x2048x2816 (extf .f32 a0 bitsLt_bf16_f32) shapeCasts_S4096x2816_S2x2048x2816 : FVec Ideal S2x2048x2816 .f32) = l
  generalize (shapeCast S2816x1024 a1 shapeCasts_S1x2816x1024_S2816x1024 : FVec Ideal S2816x1024 .f32) = r
  intro hl hr
  pointwise [hl _ _ _, hr _ _]
  simp only [← EReal.coe_mul]
  exact (real_sum Finset.univ (fun k : Fin 2816 => A (2048 * s.val + t.val) k.val * W k.val j.val)).symm

/-- The gate on every row of a sequence. -/
def gates (a5 : FVec Ideal S2x6x1024 .f32) : FVec Ideal S2x2048x1024 .f32 :=
  broadcastInDim S2x2048x1024 ![0, 1, 2] bcast_S2x1x1024_S2x2048x1024_0_1_2 (extractStridedSlice S2x1x1024 ![0, 5, 0] a5 slices_S2x6x1024_S2x1x1024_0_5_0)
include h5 in
theorem gates_at : Holds3 (fun s _ j => S s j) (gates a5) := by
  refine mod_holds fun s j => ?_
  pointwise [h5 _ _]

theorem sub_holds {x y : FVec Ideal S2x2048x1024 .f32} {X Y : ℕ → ℕ → ℕ → ℝ} (hx : Holds3 X x) (hy : Holds3 Y y) : Holds3 (fun s t j => X s t j - Y s t j) (subf x y) := fun s t j => by
  pointwise [hx _ _ _, hy _ _ _]
  rw [← EReal.coe_sub]

/-- The normed rows. -/
def normRef (f : FVec Ideal S2x2048x1024 .f32) (a4 : FVec Ideal S1x1024 .f32) : FVec Ideal S2x2048x1024 .f32 := mulf (unitRef f) (gains a4)
/-- The error. -/
def missRef (f : FVec Ideal S2x2048x1024 .f32) (a2 a3 : FVec Ideal S4096x1024 .f32) (a4 : FVec Ideal S1x1024 .f32) (a5 : FVec Ideal S2x6x1024 .f32) : FVec Ideal S2x2048x1024 .f32 :=
  subf (addf (seqs a2) (mulf (gates a5) (normRef f a4))) (seqs a3)

/-- The gradient of the product. -/
def downRef (f n : FVec Ideal S2x2048x1024 .f32) : FVec Ideal S4096x1024 .bf16 :=
  truncf .bf16 (shapeCast S4096x1024 (addf (addf (mulf n (broadcastInDim S2x2048x1024 ![0, 1, 2] bcast_S2x2048x1_S2x2048x1024_0_1_2 (Host.rsqrt (meanSq f))))
    (mulf f (meanBack (mulf f n) (rootBack (Host.rsqrt (meanSq f)) (meanSq f))))) (mulf (meanBack (mulf f n) (rootBack (Host.rsqrt (meanSq f)) (meanSq f))) f)) shapeCasts_S2x2048x1024_S4096x1024 : FVec Ideal S4096x1024 .f32) bitsLt_bf16_f32

theorem down_eq (h n : ℕ → ℝ) (j : ℕ) :
    n j * inv h + h j * ((∑ l : Fin 1024, h l.val * n l.val) * (-(1 / 2) * (inv h * (1 / under h))) * (1 / 1024)) + (∑ l : Fin 1024, h l.val * n l.val) * (-(1 / 2) * (inv h * (1 / under h))) * (1 / 1024) * h j
      = inv h * (n j - h j * inv h * ((∑ l : Fin 1024, n l.val * (h l.val * inv h)) * (1 / 1024))) := by
  have e : ∑ l : Fin 1024, n l.val * (h l.val * inv h) = (∑ l : Fin 1024, h l.val * n l.val) * inv h := by
    rw [Finset.sum_mul]
    exact Finset.sum_congr rfl fun l _ => by ring
  rw [e, inv_twice]
  ring

theorem downRef_at {f n : FVec Ideal S2x2048x1024 .f32} {H N : ℕ → ℕ → ℝ} (hf : Holds3 (seqRows H) f) (hn : Holds3 (seqRows N) n) (r : Fin 4096) (j : Fin 1024) :
    downRef f n (ix2 r j) = ((inv (H r.val) * (N r.val j.val - H r.val j.val * inv (H r.val) * ((∑ l : Fin 1024, N r.val l.val * (H r.val l.val * inv (H r.val))) * (1 / 1024))) : ℝ) : EReal) := by
  have key := rows_of_seq (Y := fun r j => inv (H r) * (N r j - H r j * inv (H r) * ((∑ l : Fin 1024, N r l.val * (H r l.val * inv (H r))) * (1 / 1024)))) (fun s t j => by
    have hQ := meanSq_at hf
    have hR := root_at hQ
    have hB := meanBack_at (mul_holds hf hn) (rootBack_at hR hQ)
    refine (add_holds (add_holds (mul_holds hn (lanes_holds hR)) (mul_holds hf hB)) (mul_holds hB hf) s t j).trans ?_
    rw [← down_eq]
    rfl) r j
  refine Eq.trans ?_ key
  unfold downRef
  generalize (shapeCast S4096x1024 _ shapeCasts_S2x2048x1024_S4096x1024 : FVec Ideal S4096x1024 .f32) = y
  pointwise

theorem seq_of (s : ℕ) (t : Fin 2048) : (2048 * s + t.val) / 2048 = s := by omega

include h0 h1 in
theorem unit_at : Holds3 (seqRows fun r j => prod A W r j * inv (prod A W r)) (unitRef (prodRef a0 a1)) :=
  mul_holds (prodRef_at h0 h1) (lanes_holds (root_at (meanSq_at (prodRef_at h0 h1))))
include h0 h1 h4 in
theorem norm_at : Holds3 (seqRows fun r j => prod A W r j * inv (prod A W r) * G j) (normRef (prodRef a0 a1) a4) :=
  mul_holds (unit_at h0 h1) (gains_at h4)
include h0 h1 h2 h3 h4 h5 in
theorem miss_at : Holds3 (seqRows fun r j => miss (prod A W r) (X r) (T r) G (S (r / 2048)) j) (missRef (prodRef a0 a1) a2 a3 a4 a5) := fun s t j => by
  refine (sub_holds (add_holds (seq_ref h2) (mul_holds (gates_at h5) (norm_at h0 h1 h4))) (seq_ref h3) s t j).trans ?_
  show _ = ((miss _ _ _ G (S ((2048 * s.val + t.val) / 2048)) j.val : ℝ) : EReal)
  rw [seq_of]
  rfl
include h0 h1 h2 h3 h4 h5 in
theorem out_at : Holds3 (seqRows fun r j => miss (prod A W r) (X r) (T r) G (S (r / 2048)) j * (1 / 1024)) (doubled (missRef (prodRef a0 a1) a2 a3 a4 a5)) :=
  doubled_at (miss_at h0 h1 h2 h3 h4 h5)
include h0 h1 h2 h3 h4 h5 in
theorem back_at : Holds3 (seqRows fun r j => back (prod A W r) (X r) (T r) G (S (r / 2048)) j) (mulf (gates a5) (doubled (missRef (prodRef a0 a1) a2 a3 a4 a5))) := fun s t j => by
  refine (mul_holds (gates_at h5) (out_at h0 h1 h2 h3 h4 h5) s t j).trans (congrArg Real.toEReal ?_)
  show _ = back _ _ _ G (S ((2048 * s.val + t.val) / 2048)) j.val
  dsimp only [seqRows]
  unfold back
  rw [seq_of, mul_comm]

include h0 h1 h2 h3 h4 h5 in
theorem out_ref : Rows (fun r j => miss (prod A W r) (X r) (T r) G (S (r / 2048)) j * (1 / 1024)) (shapeCast S4096x1024 (doubled (missRef (prodRef a0 a1) a2 a3 a4 a5)) shapeCasts_S2x2048x1024_S4096x1024 : FVec Ideal S4096x1024 .f32) :=
  rows_of_seq (out_at h0 h1 h2 h3 h4 h5)
include h0 h1 h2 h3 h4 h5 in
theorem down_ref (r : Fin 4096) (j : Fin 1024) : downRef (prodRef a0 a1) (mulf (mulf (gates a5) (doubled (missRef (prodRef a0 a1) a2 a3 a4 a5))) (gains a4)) (ix2 r j)
    = ((down (prod A W r.val) (X r.val) (T r.val) G (S (r.val / 2048)) j.val : ℝ) : EReal) :=
  downRef_at (N := fun r j => back (prod A W r) (X r) (T r) G (S (r / 2048)) j * G j) (prodRef_at h0 h1) (mul_holds (back_at h0 h1 h2 h3 h4 h5) (gains_at h4)) r j
include h0 h1 h2 h3 h4 h5 in
theorem loss_ref (j : Fin 128) : lossRef (missRef (prodRef a0 a1) a2 a3 a4 a5) (ix2 0 j)
    = ((∑ s : Fin 2, ∑ t : Fin 2048, lossRow (prod A W (2048 * s.val + t.val)) (X (2048 * s.val + t.val)) (T (2048 * s.val + t.val)) G (S ((2048 * s.val + t.val) / 2048)) : ℝ) : EReal) :=
  lossRef_at (miss_at h0 h1 h2 h3 h4 h5) j
include h0 h1 h2 h3 h4 h5 in
theorem gate_ref (s : Fin 2) (j : Fin 1024) : colSum (mulf (doubled (missRef (prodRef a0 a1) a2 a3 a4 a5)) (normRef (prodRef a0 a1) a4)) (ix3 s 0 j)
    = ((∑ t : Fin 2048, gateRow (prod A W (2048 * s.val + t.val)) (X (2048 * s.val + t.val)) (T (2048 * s.val + t.val)) G (S ((2048 * s.val + t.val) / 2048)) j.val : ℝ) : EReal) :=
  colSum_at (mul_holds (out_at h0 h1 h2 h3 h4 h5) (norm_at h0 h1 h4)) s j
include h0 h1 h2 h3 h4 h5 in
theorem gain_ref (j : Fin 1024) : allSum (mulf (unitRef (prodRef a0 a1)) (mulf (gates a5) (doubled (missRef (prodRef a0 a1) a2 a3 a4 a5)))) (ix2 0 j)
    = ((∑ s : Fin 2, ∑ t : Fin 2048, gainRow (prod A W (2048 * s.val + t.val)) (X (2048 * s.val + t.val)) (T (2048 * s.val + t.val)) G (S ((2048 * s.val + t.val) / 2048)) j.val : ℝ) : EReal) := by
  refine (allSum_at (mul_holds (unit_at h0 h1) (back_at h0 h1 h2 h3 h4 h5)) j).trans (congrArg Real.toEReal ?_)
  exact Finset.sum_congr rfl fun s _ => Finset.sum_congr rfl fun t _ => mul_comm _ _

end Args

end Cert.Post
end
-- ==== Proof.PostEq.lean ====
module

public import proofs.«01_k».proof.Proof.PostVal
public import proofs.«01_k».proof.Proof.PostRef
public import proofs.«01_k».proof.Proof.PreEq
public import proofs.«01_k».proof.Pre_finite_post

@[expose] public section

set_option maxRecDepth 16384

noncomputable section

open Idealize.ShloMosaic Idealize.ShloMosaic.TcCoe Idealize.ShloMosaic.Tactic Idealize.SL.Sem
open Cert.Equations (IsReal real_of_abs_lt)

namespace Cert.Post

open Cert.Kernel4Ideal.Pre (Rows tile seqSum)
open Cert.Kernel5Ideal.Post (miss down lossRow gateRow gainRow prod Reads lossT gateT gainT loss_array out_array down_array gate_array gain_array V V_arg dats)
open Cert.Pre (cubes_of seq_groups colSum allSum unitRef gains)

/-! # Finite arguments, and the two programs' results side by side -/

/-- The arguments are these real numbers. -/
structure Given (a0 : FVec Ideal ⟨2, ![4096, 2816]⟩ .bf16) (a1 : FVec Ideal ⟨3, ![1, 2816, 1024]⟩ .f32) (a2 a3 : FVec Ideal ⟨2, ![4096, 1024]⟩ .f32) (a4 : FVec Ideal ⟨2, ![1, 1024]⟩ .f32)
    (a5 : FVec Ideal ⟨3, ![2, 6, 1024]⟩ .f32) (A W X T : ℕ → ℕ → ℝ) (G : ℕ → ℝ) (S : ℕ → ℕ → ℝ) : Prop where
  a : ∀ (r : Fin 4096) (k : Fin 2816), a0 (ix2 r k) = ((A r.val k.val : ℝ) : EReal)
  w : ∀ (k : Fin 2816) (j : Fin 1024), a1 (ix3 0 k j) = ((W k.val j.val : ℝ) : EReal)
  x : Rows X a2
  t : Rows T a3
  g : ∀ j : Fin 1024, a4 (ix2 0 j) = ((G j.val : ℝ) : EReal)
  s : ∀ (n : Fin 2) (j : Fin 1024), a5 (ix3 n 5 j) = ((S n.val j.val : ℝ) : EReal)

theorem table_of {a b : ℕ} {e : FTy} {x : FVec Ideal ⟨2, ![a, b]⟩ e} (h : ∀ i, IsReal (x i)) :
    ∃ X : ℕ → ℕ → ℝ, ∀ (s : Fin a) (t : Fin b), x (ix2 s t) = ((X s.val t.val : ℝ) : EReal) := by
  choose f hf using h
  refine ⟨fun s t => if h : s < a ∧ t < b then f (ix2 ⟨s, h.1⟩ ⟨t, h.2⟩) else 0, fun s t => ?_⟩
  dsimp only
  rw [dif_pos ⟨s.isLt, t.isLt⟩]
  exact hf _

theorem reals (hF : Cert.Pre_finite_post.Facts) (a0 a1 a2 a3 a4 a5) (h : Cert.Pre_finite_post.fn (F := Ideal) a0 a1 a2 a3 a4 a5 = fun _ => 1#1) :
    ∃ A W X T G S, Given a0 a1 a2 a3 a4 a5 A W X T G S := by
  haveI : Subsingleton Cert.Pre_finite_post.S_.Idx := ⟨fun a b => funext fun i => i.elim0⟩
  have h := congrFun h ((fun i => i.elim0 : Cert.Pre_finite_post.S_.Idx))
  dsimp only [Cert.Pre_finite_post.fn, Cert.Pre_finite_post.fn_part1] at h
  have both : ∀ p q : BitVec 1, p &&& q = 1#1 → p = 1#1 ∧ q = 1#1 := by decide
  obtain ⟨h, e5⟩ := both _ _ h
  obtain ⟨h, e4⟩ := both _ _ h
  obtain ⟨h, e3⟩ := both _ _ h
  obtain ⟨h, e2⟩ := both _ _ h
  obtain ⟨e0, e1⟩ := both _ _ h
  obtain ⟨A, hA⟩ := table_of (x := a0) (e := .bf16) fun i => real_of_abs_lt _ (Host.reduce_andi_all _ _ _ _ _ e0 i)
  obtain ⟨W, hW⟩ := cubes_of (x := a1) fun i => real_of_abs_lt _ (Host.reduce_andi_all _ _ _ _ _ e1 i)
  obtain ⟨X, hX⟩ := table_of (x := a2) fun i => real_of_abs_lt _ (Host.reduce_andi_all _ _ _ _ _ e2 i)
  obtain ⟨T, hT⟩ := table_of (x := a3) fun i => real_of_abs_lt _ (Host.reduce_andi_all _ _ _ _ _ e3 i)
  obtain ⟨G, hG⟩ := table_of (x := a4) fun i => real_of_abs_lt _ (Host.reduce_andi_all _ _ _ _ _ e4 i)
  obtain ⟨S, hS⟩ := cubes_of (x := a5) fun i => real_of_abs_lt _ (Host.reduce_andi_all _ _ _ _ _ e5 i)
  exact ⟨A, W 0, X, T, G 0, fun s j => S s 5 j, hA, fun k j => hW 0 k j, fun r j => hX r j, fun r j => hT r j, fun j => hG 0 j, fun s j => hS s 5 j⟩

section Kernel

open Cert.Kernel5Ideal Cert.Kernel5Ideal.Gen

variable (m : (ℓ : Loc nD τ sig) → Buf (Elt Ideal) ℓ) (c : Dev nD) {A W X T S : ℕ → ℕ → ℝ} {G : ℕ → ℝ}

/-- What the kernel finds at its entry. -/
theorem reads (h : Given (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) A W X T G S) :
    Reads m c A W X T G S where
  a r k := (congrFun (V_arg m c main_arg0 (by decide)) (ix2 r k)).trans (h.a r k)
  w k j := by
    refine Eq.trans ?_ (h.w k j)
    show StableHlo.after hostOps0 _ (Proc.devRef .tc main_v1) (ix2 k j) = _
    entry_read
    pointwise
  x r j := (congrFun (V_arg m c main_arg2 (by decide)) (ix2 r j)).trans (h.x r j)
  t r j := (congrFun (V_arg m c main_arg3 (by decide)) (ix2 r j)).trans (h.t r j)
  g j := (congrFun (V_arg m c main_arg4 (by decide)) (ix2 0 j)).trans (h.g j)
  s n j := (congrFun (V_arg m c main_arg5 (by decide)) (ix3 n 5 j)).trans (h.s n j)

/-- The run, read at the results. -/
theorem run_arrays (ρ : Dev nD → PrngReg) : θ_run defs (onTc (τ := τ) (main (F := Ideal))) ⟨m, fun _ => 0, ρ⟩ (fun r => ∀ c : Dev nD,
    r.2.mem ((c.tc : Thread nD τ).loc main_v2_0) = (dats m 0 c).arrAt 6 cfg0.N ∧ r.2.mem ((c.tc : Thread nD τ).loc main_v2_1) = (dats m 0 c).arrAt 7 cfg0.N
    ∧ r.2.mem ((c.tc : Thread nD τ).loc main_v2_2) = (dats m 0 c).arrAt 8 cfg0.N ∧ r.2.mem ((c.tc : Thread nD τ).loc main_v2_3) = (dats m 0 c).arrAt 9 cfg0.N
    ∧ r.2.mem ((c.tc : Thread nD τ).loc main_v2_4) = (dats m 0 c).arrAt 10 cfg0.N
    ∧ r.2.mem ((c.tc : Thread nD τ).loc main_arg0) = m ((c.tc : Thread nD τ).loc main_arg0) ∧ r.2.mem ((c.tc : Thread nD τ).loc main_arg1) = m ((c.tc : Thread nD τ).loc main_arg1)
    ∧ r.2.mem ((c.tc : Thread nD τ).loc main_arg2) = m ((c.tc : Thread nD τ).loc main_arg2) ∧ r.2.mem ((c.tc : Thread nD τ).loc main_arg3) = m ((c.tc : Thread nD τ).loc main_arg3)
    ∧ r.2.mem ((c.tc : Thread nD τ).loc main_arg4) = m ((c.tc : Thread nD τ).loc main_arg4) ∧ r.2.mem ((c.tc : Thread nD τ).loc main_arg5) = m ((c.tc : Thread nD τ).loc main_arg5)) :=
  (θ_run defs _ _).mono (fun r h c => ⟨(h.1 c).1 6, (h.1 c).1 7, (h.1 c).1 8, (h.1 c).1 9, (h.1 c).1 10, Cert.Kernel5Ideal.Post.args_kept m h.1 c⟩) (Cert.Kernel5Ideal.Post.run m ρ)

end Kernel

/-- All rows are eight tiles. -/
theorem all_groups (f : ℕ → ℕ → ℝ) : ∑ s : Fin 2, ∑ t : Fin 2048, f ((2048 * s.val + t.val) / 2048) (2048 * s.val + t.val)
    = ∑ i ∈ Finset.range 8, ∑ r : Fin 512, f (i / 4) (512 * i + r.val) := by
  have e : ∀ s : ℕ, ∑ t : Fin 2048, f ((2048 * s + t.val) / 2048) (2048 * s + t.val) = ∑ i ∈ Finset.range 4, ∑ r : Fin 512, f ((4 * s + i) / 4) (512 * (4 * s + i) + r.val) := fun s => by
    refine (seq_groups (fun r => f (r / 2048) r) s).trans (Finset.sum_congr rfl fun i hi => Finset.sum_congr rfl fun r _ => ?_)
    have := Finset.mem_range.mp hi
    rw [show (512 * (4 * s + i) + r.val) / 2048 = (4 * s + i) / 4 by omega]
  rw [Fin.sum_univ_two]
  refine (congrArg₂ (· + ·) (e 0) (e 1)).trans ?_
  rw [show Finset.range 8 = Finset.range (4 + 4) from rfl, Finset.sum_range_add]
  simp

section Same

variable {a0 : FVec Ideal ⟨2, ![4096, 2816]⟩ .bf16} {a1 : FVec Ideal ⟨3, ![1, 2816, 1024]⟩ .f32} {a2 a3 : FVec Ideal ⟨2, ![4096, 1024]⟩ .f32} {a4 : FVec Ideal ⟨2, ![1, 1024]⟩ .f32} {a5 : FVec Ideal ⟨3, ![2, 6, 1024]⟩ .f32}
  {A W X T S : ℕ → ℕ → ℝ} {G : ℕ → ℝ} (h : Given a0 a1 a2 a3 a4 a5 A W X T G S)
  {m : (ℓ : Loc Cert.Kernel5Ideal.nD Cert.Kernel5Ideal.τ Cert.Kernel5Ideal.sig) → Buf (Elt Ideal) ℓ} {c : Dev Cert.Kernel5Ideal.nD} (R : Reads m c A W X T G S)
include h R

/-- The loss is the same in both programs. -/
theorem loss_same : lossRef (missRef (prodRef a0 a1) a2 a3 a4 a5) = ((dats m 0 c).arrAt 6 Cert.Kernel5Ideal.cfg0.N : FVec Ideal ⟨2, ![1, 128]⟩ .f32) := by
  funext i
  idx_vars i
  obtain rfl : i0 = 0 := Subsingleton.elim _ _
  refine (loss_ref h.a h.w h.x h.t h.g h.s i1).trans (Eq.trans (congrArg Real.toEReal ?_) (loss_array R i1).symm)
  exact all_groups fun s r => lossRow (prod A W r) (X r) (T r) G (S s)

/-- The gradient of the rows is the same in both programs. -/
theorem out_same : (shapeCast Cert.Reference5Ideal.S4096x1024 (doubled (missRef (prodRef a0 a1) a2 a3 a4 a5)) Cert.Reference5Ideal.Gen.shapeCasts_S2x2048x1024_S4096x1024 : FVec Ideal ⟨2, ![4096, 1024]⟩ .f32)
    = ((dats m 0 c).arrAt 7 Cert.Kernel5Ideal.cfg0.N : FVec Ideal ⟨2, ![4096, 1024]⟩ .f32) := by
  funext i
  idx_vars i
  exact (out_ref h.a h.w h.x h.t h.g h.s i0 i1).trans (out_array R i0 i1).symm

/-- The gradient of the product is the same in both programs. -/
theorem down_same : downRef (prodRef a0 a1) (mulf (mulf (gates a5) (doubled (missRef (prodRef a0 a1) a2 a3 a4 a5))) (gains a4)) = ((dats m 0 c).arrAt 8 Cert.Kernel5Ideal.cfg0.N : FVec Ideal ⟨2, ![4096, 1024]⟩ .bf16) := by
  funext i
  idx_vars i
  exact (down_ref h.a h.w h.x h.t h.g h.s i0 i1).trans (down_array R i0 i1).symm

/-- The gradient of the gate is the same in both programs. -/
theorem gate_same : colSum (mulf (doubled (missRef (prodRef a0 a1) a2 a3 a4 a5)) (normRef (prodRef a0 a1) a4)) = ((dats m 0 c).arrAt 9 Cert.Kernel5Ideal.cfg0.N : FVec Ideal ⟨3, ![2, 1, 1024]⟩ .f32) := by
  funext i
  idx_vars i
  obtain rfl : i1 = 0 := Subsingleton.elim _ _
  refine (gate_ref h.a h.w h.x h.t h.g h.s i0 i2).trans (Eq.trans (congrArg Real.toEReal ?_) (gate_array R i0 i2).symm)
  refine (seq_groups (fun r => gateRow (prod A W r) (X r) (T r) G (S (r / 2048)) i2.val) i0.val).trans (Finset.sum_congr rfl fun i hi => Finset.sum_congr rfl fun r _ => ?_)
  have := Finset.mem_range.mp hi
  rw [show (512 * (4 * i0.val + i) + r.val) / 2048 = (4 * i0.val + i) / 4 by omega]

/-- The gradient of the gain is the same in both programs. -/
theorem gain_same : allSum (mulf (unitRef (prodRef a0 a1)) (mulf (gates a5) (doubled (missRef (prodRef a0 a1) a2 a3 a4 a5)))) = ((dats m 0 c).arrAt 10 Cert.Kernel5Ideal.cfg0.N : FVec Ideal ⟨2, ![1, 1024]⟩ .f32) := by
  funext i
  idx_vars i
  obtain rfl : i0 = 0 := Subsingleton.elim _ _
  refine (gain_ref h.a h.w h.x h.t h.g h.s i1).trans (Eq.trans (congrArg Real.toEReal ?_) (gain_array R i1).symm)
  exact all_groups fun s r => gainRow (prod A W r) (X r) (T r) G (S s) i1.val

end Same

end Cert.Post
end
-- ==== Proof.MidBody.lean ====
module

public import proofs.«01_k».proof.Proof.Gen.Kernel6Ideal.Skeleton
public import proofs.«01_k».proof.Proof.Gen.Kernel6Ideal.Points
public import Idealize.ShloMosaic.Lib.Claim

@[expose] public section

set_option maxRecDepth 16384

noncomputable section

namespace Cert.Kernel6Ideal.Mid

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel6Ideal.Gen

variable {F : FTy → Type} [FloatOps F]

local notation "𝕄" => MT nD τ sig Unit (Elt F) ℕ (UR sig nD τ) ℕ

/-- The sixteen buffers of a point: eight inputs, seven outputs and the product kept for the next point. -/
structure Bufs where
  (a1 : Memref sig .tc .vmem S2x512x2816 .bf16) (h1 : a1.IsWhole)
  (a2 : Memref sig .tc .vmem S2x2816x1024 .bf16) (h2 : a2.IsWhole)
  (a3 : Memref sig .tc .vmem S512x1024 .f32) (h3 : a3.IsWhole)
  (a4 : Memref sig .tc .vmem S512x1024 .f32) (h4 : a4.IsWhole)
  (a5 : Memref sig .tc .vmem S512x1024 .f32) (h5 : a5.IsWhole)
  (a6 : Memref sig .tc .vmem S1x1024 .f32) (h6 : a6.IsWhole)
  (a7 : Memref sig .tc .vmem S1x1024 .f32) (h7 : a7.IsWhole)
  (a8 : Memref sig .tc .vmem S1x6x1024 .f32) (h8 : a8.IsWhole)
  (a9 : Memref sig .tc .vmem S512x1024 .f32) (h9 : a9.IsWhole)
  (a10 : Memref sig .tc .vmem S512x1024 .bf16) (h10 : a10.IsWhole)
  (a11 : Memref sig .tc .vmem S1x1x1024 .f32) (h11 : a11.IsWhole)
  (a12 : Memref sig .tc .vmem S1x1x1024 .f32) (h12 : a12.IsWhole)
  (a13 : Memref sig .tc .vmem S1x1x1024 .f32) (h13 : a13.IsWhole)
  (a14 : Memref sig .tc .vmem S1x1024 .f32) (h14 : a14.IsWhole)
  (a15 : Memref sig .tc .vmem S1x1024 .f32) (h15 : a15.IsWhole)
  (a16 : Memref sig .tc .vmem S512x1024 .f32) (h16 : a16.IsWhole)

abbrev Bufs.body (B : Bufs) (i : grid0.Coords) : Prog (TpuEff nD τ sig (Elt F) Λ₀ .tc) PUnit :=
  cc0_dh2_bwd_mid i B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16

abbrev atFirst (i : grid0.Coords) : BitVec 1 := Scalar.cmpi .ne (Scalar.extui (Scalar.cmpi .eq (BitVec.ofNat 32 (i 0).val) 0#32) : BitVec 32) 0#32

/-- What a point after the first does: all sums begin, a sequence begins, all sums go on, or they go on and no product is left to take. -/
inductive Kind
  | first | opens | goes | last
  deriving DecidableEq

/-- The branches the body takes at a point of each kind. -/
def Conds (i : grid0.Coords) : Kind → Prop
  | .first => ¬ atFirst i = 1#1 ∧ k0_cond2 i = 1#1 ∧ ¬ k0_cond13 i = 1#1
      ∧ k0_cond3 i = 1#1 ∧ ¬ k0_cond4 i = 1#1 ∧ k0_cond5 i = 1#1 ∧ ¬ k0_cond6 i = 1#1 ∧ k0_cond9 i = 1#1 ∧ ¬ k0_cond10 i = 1#1 ∧ k0_cond7 i = 1#1 ∧ ¬ k0_cond8 i = 1#1 ∧ k0_cond11 i = 1#1 ∧ ¬ k0_cond12 i = 1#1
  | .opens => ¬ atFirst i = 1#1 ∧ k0_cond2 i = 1#1 ∧ ¬ k0_cond13 i = 1#1
      ∧ k0_cond3 i = 1#1 ∧ ¬ k0_cond4 i = 1#1 ∧ k0_cond5 i = 1#1 ∧ ¬ k0_cond6 i = 1#1 ∧ k0_cond9 i = 1#1 ∧ ¬ k0_cond10 i = 1#1 ∧ ¬ k0_cond7 i = 1#1 ∧ k0_cond8 i = 1#1 ∧ ¬ k0_cond11 i = 1#1 ∧ k0_cond12 i = 1#1
  | .goes => ¬ atFirst i = 1#1 ∧ k0_cond2 i = 1#1 ∧ ¬ k0_cond13 i = 1#1
      ∧ ¬ k0_cond3 i = 1#1 ∧ k0_cond4 i = 1#1 ∧ ¬ k0_cond5 i = 1#1 ∧ k0_cond6 i = 1#1 ∧ ¬ k0_cond9 i = 1#1 ∧ k0_cond10 i = 1#1 ∧ ¬ k0_cond7 i = 1#1 ∧ k0_cond8 i = 1#1 ∧ ¬ k0_cond11 i = 1#1 ∧ k0_cond12 i = 1#1
  | .last => ¬ atFirst i = 1#1 ∧ ¬ k0_cond2 i = 1#1 ∧ k0_cond13 i = 1#1
      ∧ ¬ k0_cond14 i = 1#1 ∧ k0_cond15 i = 1#1 ∧ ¬ k0_cond16 i = 1#1 ∧ k0_cond17 i = 1#1 ∧ ¬ k0_cond20 i = 1#1 ∧ k0_cond21 i = 1#1 ∧ ¬ k0_cond18 i = 1#1 ∧ k0_cond19 i = 1#1 ∧ ¬ k0_cond22 i = 1#1 ∧ k0_cond23 i = 1#1

instance (i : grid0.Coords) (k : Kind) : Decidable (Conds i k) := by cases k <;> (unfold Conds; infer_instance)

/-- What a sum over all tiles must hold before the point: anything where it begins. -/
def Overall {α : Type} (y d : α) : Kind → Prop
  | .first => True
  | _ => d = y

/-- The same of a sum over one sequence. -/
def Within {α : Type} (y d : α) : Kind → Prop
  | .first | .opens => True
  | _ => d = y

section Body

variable (c : Dev nD) (i : grid0.Coords) (B : Bufs)
  (y1 : Vec F S2x512x2816 .bf16) (y2 : Vec F S2x2816x1024 .bf16) (y3 : Vec F S512x1024 .f32) (y4 : Vec F S512x1024 .f32) (y5 : Vec F S512x1024 .f32) (y6 : Vec F S1x1024 .f32) (y7 : Vec F S1x1024 .f32) (y8 : Vec F S1x6x1024 .f32)
  (y11 : Vec F S1x1x1024 .f32) (y12 : Vec F S1x1x1024 .f32) (y13 : Vec F S1x1x1024 .f32) (y14 : Vec F S1x1024 .f32) (y15 : Vec F S1x1024 .f32) (y16 : Vec F S512x1024 .f32)

/-- The first point keeps the product of the first tile and touches no output. -/
def head (h1 : atFirst i = 1#1) (h2 : ¬ k0_cond2 i = 1#1) (h13 : ¬ k0_cond13 i = 1#1) :
    { L16 : List (View.Piece (Elt F) S512x1024 .f32) // ∀ (K : PUnit → sProp 𝕄),
    iprop(owns (c : Thread nD τ) B.a1 fullShare y1 ∗ owns (c : Thread nD τ) B.a2 fullShare y2 ∗ (∃ d, owns (c : Thread nD τ) B.a16 fullShare d)
        ∗ (iprop(owns (c : Thread nD τ) B.a1 fullShare y1 ∗ owns (c : Thread nD τ) B.a2 fullShare y2
        ∗ (∃ f, B.a16.view.loc (c : Thread nD τ) ↦[B.a16.view.set]{fullShare} B.a16.view.writes (Elt F) f L16)) -∗ K ⟨⟩))
      ⊢ wp frame (wpE (defs₀ (F := F)) Variants.none c none) Set.univ (B.body i) K } := by
  refine ⟨?_, fun K => ?run⟩
  case run =>
    unfold Bufs.body
    simp only [cc0_dh2_bwd_mid_eq_skeleton]; unfold cc0_dh2_bwd_mid_skel
    unfold owns
    iintro ⟨⟨%f1, %e1, H1⟩, ⟨%f2, %e2, H2⟩, ⟨%d16, %f16, -, H16⟩, Hk⟩
    obtain rfl := B.h1.eq_unread e1; obtain rfl := B.h2.eq_unread e2
    sl_exec
    sl_step
    iapply Hk
    isplitl [H1]
    · iexists _; isplitr; swap; · iexact H1
      ipureintro; exact B.h1.read_unread _
    isplitl [H2]
    · iexists _; isplitr; swap; · iexact H2
      ipureintro; exact B.h2.read_unread _
    iexists _; iexact H16

/-- The eight inputs at their contents. -/
def Held : sProp 𝕄 :=
  iprop(owns (c : Thread nD τ) B.a1 fullShare y1
    ∗ owns (c : Thread nD τ) B.a2 fullShare y2
    ∗ owns (c : Thread nD τ) B.a3 fullShare y3
    ∗ owns (c : Thread nD τ) B.a4 fullShare y4
    ∗ owns (c : Thread nD τ) B.a5 fullShare y5
    ∗ owns (c : Thread nD τ) B.a6 fullShare y6
    ∗ owns (c : Thread nD τ) B.a7 fullShare y7
    ∗ owns (c : Thread nD τ) B.a8 fullShare y8)

/-- A point after the first: what it writes to each output and to the kept product. -/
abbrev Turn (k : Kind) : Type _ :=
  Σ' (L9 : List (View.Piece (Elt F) S512x1024 .f32)) (L10 : List (View.Piece (Elt F) S512x1024 .bf16)) (L11 : List (View.Piece (Elt F) S1x1x1024 .f32)) (L12 : List (View.Piece (Elt F) S1x1x1024 .f32)) (L13 : List (View.Piece (Elt F) S1x1x1024 .f32)) (L14 : List (View.Piece (Elt F) S1x1024 .f32)) (L15 : List (View.Piece (Elt F) S1x1024 .f32)),
    { L16 : List (View.Piece (Elt F) S512x1024 .f32) // ∀ (d11 : Vec F S1x1x1024 .f32) (d12 : Vec F S1x1x1024 .f32) (d13 : Vec F S1x1x1024 .f32) (d14 : Vec F S1x1024 .f32) (d15 : Vec F S1x1024 .f32),
      Within y11 d11 k → Within y12 d12 k → Within y13 d13 k → Overall y14 d14 k → Overall y15 d15 k → ∀ (K : PUnit → sProp 𝕄),
    iprop(Held c B y1 y2 y3 y4 y5 y6 y7 y8
        ∗ (∃ d, owns (c : Thread nD τ) B.a9 fullShare d)
        ∗ (∃ d, owns (c : Thread nD τ) B.a10 fullShare d)
        ∗ owns (c : Thread nD τ) B.a11 fullShare d11
        ∗ owns (c : Thread nD τ) B.a12 fullShare d12
        ∗ owns (c : Thread nD τ) B.a13 fullShare d13
        ∗ owns (c : Thread nD τ) B.a14 fullShare d14
        ∗ owns (c : Thread nD τ) B.a15 fullShare d15
        ∗ owns (c : Thread nD τ) B.a16 fullShare y16
        ∗ (iprop(Held c B y1 y2 y3 y4 y5 y6 y7 y8
        ∗ (∃ f, B.a9.view.loc (c : Thread nD τ) ↦[B.a9.view.set]{fullShare} B.a9.view.writes (Elt F) f L9)
        ∗ (∃ f, B.a10.view.loc (c : Thread nD τ) ↦[B.a10.view.set]{fullShare} B.a10.view.writes (Elt F) f L10)
        ∗ (∃ f, B.a11.view.loc (c : Thread nD τ) ↦[B.a11.view.set]{fullShare} B.a11.view.writes (Elt F) f L11)
        ∗ (∃ f, B.a12.view.loc (c : Thread nD τ) ↦[B.a12.view.set]{fullShare} B.a12.view.writes (Elt F) f L12)
        ∗ (∃ f, B.a13.view.loc (c : Thread nD τ) ↦[B.a13.view.set]{fullShare} B.a13.view.writes (Elt F) f L13)
        ∗ (∃ f, B.a14.view.loc (c : Thread nD τ) ↦[B.a14.view.set]{fullShare} B.a14.view.writes (Elt F) f L14)
        ∗ (∃ f, B.a15.view.loc (c : Thread nD τ) ↦[B.a15.view.set]{fullShare} B.a15.view.writes (Elt F) f L15)
        ∗ (B.a16.view.loc (c : Thread nD τ) ↦[B.a16.view.set]{fullShare} B.a16.view.writes (Elt F) (B.h16.unread y16) L16)) -∗ K ⟨⟩))
      ⊢ wp frame (wpE (defs₀ (F := F)) Variants.none c none) Set.univ (B.body i) K }

set_option maxHeartbeats 16000000 in
/-- The rows of the tile before are finished from the kept product, the five sums begun or taken on, and the next product kept. -/
def turn (k : Kind) (h : Conds i k) : Turn (F := F) c i B y1 y2 y3 y4 y5 y6 y7 y8 y11 y12 y13 y14 y15 y16 k := by
  cases k
  case' last => refine ⟨?_, ?_, ?_, ?_, ?_, ?_, ?_, [], fun d11 d12 d13 d14 d15 o11 o12 o13 o14 o15 K => ?_⟩
  case' first | opens | goes => refine ⟨?_, ?_, ?_, ?_, ?_, ?_, ?_, ?_, fun d11 d12 d13 d14 d15 o11 o12 o13 o14 o15 K => ?_⟩
  all_goals
    try
      obtain ⟨g1, g2, g13, e3, e4, e5, e6, e9, e10, e7, e8, e11, e12⟩ := h
      unfold Bufs.body
      simp only [cc0_dh2_bwd_mid_eq_skeleton]; unfold cc0_dh2_bwd_mid_skel
      unfold Held owns
      iintro ⟨⟨⟨%f1, %w1, H1⟩, ⟨%f2, %w2, H2⟩, ⟨%f3, %w3, H3⟩, ⟨%f4, %w4, H4⟩, ⟨%f5, %w5, H5⟩, ⟨%f6, %w6, H6⟩, ⟨%f7, %w7, H7⟩, ⟨%f8, %w8, H8⟩⟩,
        ⟨%d9, %f9, -, H9⟩, ⟨%d10, %f10, -, H10⟩, ⟨%f11, %w11, H11⟩, ⟨%f12, %w12, H12⟩, ⟨%f13, %w13, H13⟩, ⟨%f14, %w14, H14⟩, ⟨%f15, %w15, H15⟩, ⟨%f16, %w16, H16⟩, Hk⟩
      obtain rfl := B.h1.eq_unread w1; obtain rfl := B.h2.eq_unread w2; obtain rfl := B.h3.eq_unread w3; obtain rfl := B.h4.eq_unread w4; obtain rfl := B.h5.eq_unread w5; obtain rfl := B.h6.eq_unread w6; obtain rfl := B.h7.eq_unread w7; obtain rfl := B.h8.eq_unread w8; obtain rfl := B.h16.eq_unread w16
      try (rw [show d11 = y11 from o11] at w11; obtain rfl := B.h11.eq_unread w11)
      try (rw [show d12 = y12 from o12] at w12; obtain rfl := B.h12.eq_unread w12)
      try (rw [show d13 = y13 from o13] at w13; obtain rfl := B.h13.eq_unread w13)
      try (rw [show d14 = y14 from o14] at w14; obtain rfl := B.h14.eq_unread w14)
      try (rw [show d15 = y15 from o15] at w15; obtain rfl := B.h15.eq_unread w15)
      sl_exec
      sl_step
      iapply Hk
      isplitl [H1 H2 H3 H4 H5 H6 H7 H8]
      · isplitl [H1]; · iexists _; isplitr; swap; · iexact H1
                        ipureintro; exact B.h1.read_unread _
        isplitl [H2]; · iexists _; isplitr; swap; · iexact H2
                        ipureintro; exact B.h2.read_unread _
        isplitl [H3]; · iexists _; isplitr; swap; · iexact H3
                        ipureintro; exact B.h3.read_unread _
        isplitl [H4]; · iexists _; isplitr; swap; · iexact H4
                        ipureintro; exact B.h4.read_unread _
        isplitl [H5]; · iexists _; isplitr; swap; · iexact H5
                        ipureintro; exact B.h5.read_unread _
        isplitl [H6]; · iexists _; isplitr; swap; · iexact H6
                        ipureintro; exact B.h6.read_unread _
        isplitl [H7]; · iexists _; isplitr; swap; · iexact H7
                        ipureintro; exact B.h7.read_unread _
        iexists _; isplitr; swap; · iexact H8
        ipureintro; exact B.h8.read_unread _
      isplitl [H9]; · iexists _; iexact H9
      isplitl [H10]; · iexists _; iexact H10
      isplitl [H11]; · iexists _; iexact H11
      isplitl [H12]; · iexists _; iexact H12
      isplitl [H13]; · iexists _; iexact H13
      isplitl [H14]; · iexists _; iexact H14
      isplitl [H15]; · iexists _; iexact H15
      iexact H16

end Body

end Cert.Kernel6Ideal.Mid
end
-- ==== Proof.MidRun.lean ====
module

public import proofs.«01_k».proof.Proof.MidBody
public import proofs.«01_k».proof.Proof.Gen.Kernel6Ideal.Launch
public import Idealize.ShloMosaic.Lib.Pipeline.FrameBody
public import Idealize.ShloMosaic.Lib.Pipeline.TableIdle
public import Idealize.ShloMosaic.Lib.Ring

@[expose] public section

set_option maxRecDepth 16384

noncomputable section

namespace Cert.Kernel6Ideal.Mid

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.Kernel6Ideal.Gen

variable {F : FTy → Type} [FloatOps F]

local notation "𝕄" => MT nD τ sig Unit (Elt F) ℕ (UR sig nD τ) ℕ

/-- The buffers of point `t`. -/
abbrev bufs (t : Fin cfg0.N) : Bufs :=
  ⟨win0_0.stage (cfg0.slots t 0), hstage0_0 ((cfg0.slots t 0).cast nbuf0_0),
    win0_1.stage (cfg0.slots t 1), hstage0_1 ((cfg0.slots t 1).cast nbuf0_1),
    win0_2.stage (cfg0.slots t 2), hstage0_2 ((cfg0.slots t 2).cast nbuf0_2),
    win0_3.stage (cfg0.slots t 3), hstage0_3 ((cfg0.slots t 3).cast nbuf0_3),
    win0_4.stage (cfg0.slots t 4), hstage0_4 ((cfg0.slots t 4).cast nbuf0_4),
    win0_5.stage (cfg0.slots t 5), hstage0_5 ((cfg0.slots t 5).cast nbuf0_5),
    win0_6.stage (cfg0.slots t 6), hstage0_6 ((cfg0.slots t 6).cast nbuf0_6),
    win0_7.stage (cfg0.slots t 7), hstage0_7 ((cfg0.slots t 7).cast nbuf0_7),
    win0_8.stage (cfg0.slots t 8), hstage0_8 ((cfg0.slots t 8).cast nbuf0_8),
    win0_9.stage (cfg0.slots t 9), hstage0_9 ((cfg0.slots t 9).cast nbuf0_9),
    win0_10.stage (cfg0.slots t 10), hstage0_10 ((cfg0.slots t 10).cast nbuf0_10),
    win0_11.stage (cfg0.slots t 11), hstage0_11 ((cfg0.slots t 11).cast nbuf0_11),
    win0_12.stage (cfg0.slots t 12), hstage0_12 ((cfg0.slots t 12).cast nbuf0_12),
    win0_13.stage (cfg0.slots t 13), hstage0_13 ((cfg0.slots t 13).cast nbuf0_13),
    win0_14.stage (cfg0.slots t 14), hstage0_14 ((cfg0.slots t 14).cast nbuf0_14), Memref.whole cc0_scratch0, Memref.isWhole_whole _⟩

/-- The kind of point `n`, `n` not zero. -/
def kind : ℕ → Kind
  | 1 => .first
  | 5 => .opens
  | 8 => .last
  | _ => .goes

theorem conds : ∀ t : Fin cfg0.N, t.val ≠ 0 → Conds (grid0.coords t) (kind t.val) :=
  (by decide +kernel : ∀ t : Fin grid0.N, t.val ≠ 0 → Conds (grid0.coords t) (kind t.val))
theorem head_conds : ∀ t : Fin cfg0.N, t.val = 0 → atFirst (grid0.coords t) = 1#1 ∧ ¬ k0_cond2 (grid0.coords t) = 1#1 ∧ ¬ k0_cond13 (grid0.coords t) = 1#1 :=
  (by decide +kernel : ∀ t : Fin grid0.N, t.val = 0 → atFirst (grid0.coords t) = 1#1 ∧ ¬ k0_cond2 (grid0.coords t) = 1#1 ∧ ¬ k0_cond13 (grid0.coords t) = 1#1)

/-- What the buffers hold between two points: the seven outputs and the product kept for the next point. -/
structure Kept (F : FTy → Type) [FloatOps F] where
  s9 : Vec F S512x1024 .f32
  s10 : Vec F S512x1024 .bf16
  s11 : Vec F S1x1x1024 .f32
  s12 : Vec F S1x1x1024 .f32
  s13 : Vec F S1x1x1024 .f32
  s14 : Vec F S1x1024 .f32
  s15 : Vec F S1x1024 .f32
  s16 : Vec F S512x1024 .f32

section Steps

variable (c : Dev nD) (t : Fin cfg0.N)
  (y1 : Vec F S2x512x2816 .bf16) (y2 : Vec F S2x2816x1024 .bf16) (y3 : Vec F S512x1024 .f32) (y4 : Vec F S512x1024 .f32) (y5 : Vec F S512x1024 .f32) (y6 : Vec F S1x1024 .f32) (y7 : Vec F S1x1024 .f32) (y8 : Vec F S1x6x1024 .f32)
  (s : Kept F) (k : Kind)

abbrev headAt (h : t.val = 0) := head (F := F) c (grid0.coords t) (bufs t) y1 y2 (head_conds t h).1 (head_conds t h).2.1 (head_conds t h).2.2
abbrev turnAt (h : Conds (grid0.coords t) k) := turn (F := F) c (grid0.coords t) (bufs t) y1 y2 y3 y4 y5 y6 y7 y8 s.s11 s.s12 s.s13 s.s14 s.s15 s.s16 k h

/-- What the kept product is after a turn: the next one, or at the last point the old one. -/
def carried (y : Vec F S512x1024 .f32) (L : List (View.Piece (Elt F) S512x1024 .f32)) : Kind → Vec F S512x1024 .f32
  | .last => y
  | _ => View.canon L

/-- What a turn leaves. -/
def left (h : Conds (grid0.coords t) k) : Kept F :=
  let T := turnAt c t y1 y2 y3 y4 y5 y6 y7 y8 s k h
  ⟨View.canon T.1, View.canon T.2.1, View.canon T.2.2.1, View.canon T.2.2.2.1, View.canon T.2.2.2.2.1, View.canon T.2.2.2.2.2.1, View.canon T.2.2.2.2.2.2.1, carried s.s16 T.2.2.2.2.2.2.2.1 k⟩

/-- What point `t` leaves, given what the point before left. -/
def step : Kept F :=
  if h : t.val = 0 then { s with s16 := View.canon (headAt c t y1 y2 h).1 } else left c t y1 y2 y3 y4 y5 y6 y7 y8 s (kind t.val) (conds t h)

theorem head_cover (h : t.val = 0) : ∀ y, ∃ p ∈ (headAt (F := F) c t y1 y2 h).1, y ∈ p.1.set :=
  View.cover_of_tiledL _ S512x256.size (by sl_kernel_rfl)

set_option maxHeartbeats 8000000 in
/-- Every output is written whole. -/
theorem turn_cover (h : Conds (grid0.coords t) k) : let T := turnAt (F := F) c t y1 y2 y3 y4 y5 y6 y7 y8 s k h
    (∀ y, ∃ p ∈ T.1, y ∈ p.1.set) ∧ (∀ y, ∃ p ∈ T.2.1, y ∈ p.1.set) ∧ (∀ y, ∃ p ∈ T.2.2.1, y ∈ p.1.set) ∧ (∀ y, ∃ p ∈ T.2.2.2.1, y ∈ p.1.set) ∧ (∀ y, ∃ p ∈ T.2.2.2.2.1, y ∈ p.1.set) ∧ (∀ y, ∃ p ∈ T.2.2.2.2.2.1, y ∈ p.1.set) ∧ (∀ y, ∃ p ∈ T.2.2.2.2.2.2.1, y ∈ p.1.set) := by
  cases k <;>
  exact ⟨View.cover_of_tiledL _ S64x1024.size (by sl_kernel_rfl), View.cover_of_tiledL _ S64x1024.size (by sl_kernel_rfl),
    View.cover_of_wholeMem _ (View.Piece.wholeMem_here (by sl_kernel_rfl)), View.cover_of_wholeMem _ (View.Piece.wholeMem_here (by sl_kernel_rfl)), View.cover_of_wholeMem _ (View.Piece.wholeMem_here (by sl_kernel_rfl)), View.cover_of_wholeMem _ (View.Piece.wholeMem_here (by sl_kernel_rfl)), View.cover_of_wholeMem _ (View.Piece.wholeMem_here (by sl_kernel_rfl))⟩

set_option maxHeartbeats 8000000 in
/-- The kept product's buffer ends at what is kept. -/
theorem turn_carried (h : Conds (grid0.coords t) k) : (bufs t).a16.view.read (Elt F) ((bufs t).a16.view.writes (Elt F) ((bufs t).h16.unread s.s16)
    (turnAt (F := F) c t y1 y2 y3 y4 y5 y6 y7 y8 s k h).2.2.2.2.2.2.2.1) = carried s.s16 (turnAt (F := F) c t y1 y2 y3 y4 y5 y6 y7 y8 s k h).2.2.2.2.2.2.2.1 k := by
  cases k
  case last => exact (bufs t).h16.read_unread _
  all_goals exact View.read_writes_eq_canon _ _ _ (View.cover_of_tiledL _ S512x256.size (by sl_kernel_rfl))

end Steps

variable (m : (ℓ : Loc nD τ sig) → Buf (Elt F) ℓ) (ρ : Dev nD → PrngReg)

/-- Core `c`'s buffers after the host's preparation. -/
abbrev V (c : Dev nD) (b : Ref sig .tc) : Buf (Elt F) ((c : Thread nD τ).loc b) := StableHlo.after hostOps0 (fun b => m (c, b)) b

/-- The block window `w` shows at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (arrRef spec0 w))

/-- `step` on the blocks of point `t`. -/
abbrev stepAt (c : Dev nD) (t : Fin cfg0.N) (s : Kept F) : Kept F := step c t (iblk m c 0 t) (iblk m c 1 t) (iblk m c 2 t) (iblk m c 3 t) (iblk m c 4 t) (iblk m c 5 t) (iblk m c 6 t) (iblk m c 7 t) s

/-- What the buffers hold after point `n`. -/
def kept (c : Dev nD) : ℕ → Kept F
  | 0 => stepAt m c t0_0 ⟨View.canon [], View.canon [], View.canon [], View.canon [], View.canon [], View.canon [], View.canon [], View.canon []⟩
  | n + 1 => if h : n + 1 < cfg0.N then stepAt m c ⟨n + 1, h⟩ (kept c n) else kept c n

theorem kept_turn (c : Dev nD) (t : Fin cfg0.N) (h : t.val ≠ 0) : kept m c t.val =
    left c t (iblk m c 0 t) (iblk m c 1 t) (iblk m c 2 t) (iblk m c 3 t) (iblk m c 4 t) (iblk m c 5 t) (iblk m c 6 t) (iblk m c 7 t) (kept m c (t.val - 1)) (kind t.val) (conds t h) := by
  refine Eq.trans (b := stepAt m c t (kept m c (t.val - 1))) ?_ (dif_neg h)
  obtain ⟨n, hn⟩ := t
  obtain ⟨n, rfl⟩ := Nat.exists_eq_succ_of_ne_zero h
  exact (congrFun (congrFun rfl c) _).trans (dif_pos hn)

/-- Between points: the kept product, and the generator register at some state. -/
def Carry (c : Dev nD) (n : ℕ) : sProp 𝕄 :=
  iprop((match n with
    | 0 => iprop(∃ f : Buf (Elt F) ((c : Thread nD τ).loc cc0_scratch0), ((c : Thread nD τ).loc cc0_scratch0) ↦{fullShare} f)
    | n + 1 => owns (c : Thread nD τ) (Memref.whole cc0_scratch0) fullShare (kept m c n).s16) ∗ ∃ r, prngReg c r)

/-- The proof data on core `c`. -/
def dats (_ : Fin 1) (c : Dev nD) : Dat τ (Elt F) Unit ℕ (UR sig nD τ) ℕ cfg0 c where
  A w := V m c (arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (kept m c t.val).s9
    | ⟨9, _⟩ => (kept m c t.val).s10
    | ⟨10, _⟩ => (kept m c t.val).s11
    | ⟨11, _⟩ => (kept m c t.val).s12
    | ⟨12, _⟩ => (kept m c t.val).s13
    | ⟨13, _⟩ => (kept m c t.val).s14
    | ⟨14, _⟩ => (kept m c t.val).s15
  Φ t := Carry m c t.val
  q _ := fullShare
  owed _ := 0

theorem A_eq (c : Dev nD) (w : Fin cfg0.W) : (dats m 0 c).A w = V m c (arrRef spec0 w) := by dsimp only [dats]

theorem before_in (c : Dev nD) (t : Fin cfg0.N) : (∀ d, (dats m 0 c).before 0 t d = iblk m c 0 t)
    ∧ (∀ d, (dats m 0 c).before 1 t d = iblk m c 1 t)
    ∧ (∀ d, (dats m 0 c).before 2 t d = iblk m c 2 t)
    ∧ (∀ d, (dats m 0 c).before 3 t d = iblk m c 3 t)
    ∧ (∀ d, (dats m 0 c).before 4 t d = iblk m c 4 t)
    ∧ (∀ d, (dats m 0 c).before 5 t d = iblk m c 5 t)
    ∧ (∀ d, (dats m 0 c).before 6 t d = iblk m c 6 t)
    ∧ (∀ d, (dats m 0 c).before 7 t d = iblk m c 7 t) := by
  refine ⟨fun d => ?_, fun d => ?_, fun d => ?_, fun d => ?_, fun d => ?_, fun d => ?_, fun d => ?_, fun d => ?_⟩ <;>
    exact ((dats m 0 c).before_in_eq_fetched _ rfl (fun _ => rfl) (fun _ _ _ => rfl) (fun t => by dsimp only [dats]; rfl) t d).trans
      (by unfold Dat.fetched Dat.blockOf iblk; rw [A_eq]; try rfl)

theorem after_out (c : Dev nD) (t : Fin cfg0.N) : (dats m 0 c).after 8 t = (kept m c t.val).s9
    ∧ (dats m 0 c).after 9 t = (kept m c t.val).s10
    ∧ (dats m 0 c).after 10 t = (kept m c t.val).s11
    ∧ (dats m 0 c).after 11 t = (kept m c t.val).s12
    ∧ (dats m 0 c).after 12 t = (kept m c t.val).s13
    ∧ (dats m 0 c).after 13 t = (kept m c t.val).s14
    ∧ (dats m 0 c).after 14 t = (kept m c t.val).s15 := by
  refine ⟨?_, ?_, ?_, ?_, ?_, ?_, ?_⟩ <;> dsimp only [dats]

theorem live : ∀ (t : Fin cfg0.N) (w : Fin cfg0.W), (cfg0.win w).isOut = true → t.val ≠ 0 → cfg0.idle w (grid0.coords t) = false :=
  (by decide +kernel : ∀ (t : Fin grid0.N) (w : Fin 15), (cfg0.win w).isOut = true → t.val ≠ 0 → cfg0.idle w (grid0.coords t) = false)
theorem still : ∀ (t : Fin cfg0.N) (w : Fin cfg0.W), (cfg0.win w).isOut = true → t.val = 0 → cfg0.idle w (grid0.coords t) = true ∧ (cfg0.win w).flush t = false :=
  (by decide +kernel : ∀ (t : Fin grid0.N) (w : Fin 15), (cfg0.win w).isOut = true → t.val = 0 → cfg0.idle w (grid0.coords t) = true ∧ (cfg0.win w).flush t = false)
theorem stays : ∀ t : Fin cfg0.N, ((cfg0.win 10).flush t = true → t.val = 4 ∨ t.val = 8) ∧ ((cfg0.win 11).flush t = true → t.val = 4 ∨ t.val = 8) ∧ ((cfg0.win 12).flush t = true → t.val = 4 ∨ t.val = 8) ∧ ((cfg0.win 13).flush t = true → t.val = 8) ∧ ((cfg0.win 14).flush t = true → t.val = 8) :=
  (by decide +kernel : ∀ t : Fin grid0.N, ((cfg0.win 10).flush t = true → t.val = 4 ∨ t.val = 8) ∧ ((cfg0.win 11).flush t = true → t.val = 4 ∨ t.val = 8) ∧ ((cfg0.win 12).flush t = true → t.val = 4 ∨ t.val = 8) ∧ ((cfg0.win 13).flush t = true → t.val = 8) ∧ ((cfg0.win 14).flush t = true → t.val = 8))

/-- An output's buffer not just written back holds what the point before left. -/
theorem before_out (c : Dev nD) (w : Fin cfg0.W) (hw : (cfg0.win w).isOut = true) (hclip : ∀ (i : cfg0.grid.Coords) a, (cfg0.win w).clip i a = none)
    (t : Fin cfg0.N) (h0 : t.val ≠ 0) (h1 : t.val ≠ 1) (hf : (cfg0.win w).flush ⟨t.val - 1, Nat.lt_of_le_of_lt (Nat.sub_le _ _) t.isLt⟩ = false) (d) :
    (dats m 0 c).before w t d = (dats m 0 c).after w ⟨t.val - 1, Nat.lt_of_le_of_lt (Nat.sub_le _ _) t.isLt⟩ := by
  have hi := live ⟨t.val - 1, Nat.lt_of_le_of_lt (Nat.sub_le _ _) t.isLt⟩ w hw (by show t.val - 1 ≠ 0; omega)
  rw [(dats m 0 c).before_of_pos w t h0 ((cfg0.win w).fetch_out hw t), if_neg (by rw [hf]; exact Bool.false_ne_true)]
  unfold Dat.left
  rw [show cfg0.idle w (cfg0.grid.coords ⟨t.val - 1, Nat.lt_of_le_of_lt (Nat.sub_le _ _) t.isLt⟩) = false from hi]
  show Dat.kept _ w _ d = _
  unfold Dat.kept
  rw [fill_of_clip_none w _ (hclip _) d ((dats m 0 c).after w _), Window.fill_cut]

theorem kind_cases (n : ℕ) : n = 1 ∧ kind n = .first ∨ n = 5 ∧ kind n = .opens ∨ n ≠ 1 ∧ n ≠ 5 ∧ (kind n = .goes ∨ kind n = .last) := by
  unfold kind; split <;> simp_all

/-- What the sums' buffers hold before a point is what a turn asks. -/
theorem asked (c : Dev nD) (t : Fin cfg0.N) (h0 : t.val ≠ 0) : (∀ d, Within (kept m c (t.val - 1)).s11 ((dats m 0 c).before 10 t d) (kind t.val))
    ∧ (∀ d, Within (kept m c (t.val - 1)).s12 ((dats m 0 c).before 11 t d) (kind t.val))
    ∧ (∀ d, Within (kept m c (t.val - 1)).s13 ((dats m 0 c).before 12 t d) (kind t.val))
    ∧ (∀ d, Overall (kept m c (t.val - 1)).s14 ((dats m 0 c).before 13 t d) (kind t.val))
    ∧ (∀ d, Overall (kept m c (t.val - 1)).s15 ((dats m 0 c).before 14 t d) (kind t.val)) := by
  have hN := lt_of_lt_of_eq t.isLt (show cfg0.N = 9 from N_0)
  obtain ⟨s10, s11, s12, s13, s14⟩ := stays ⟨t.val - 1, Nat.lt_of_le_of_lt (Nat.sub_le _ _) t.isLt⟩
  obtain ⟨-, -, a10, a11, a12, a13, a14⟩ := after_out m c ⟨t.val - 1, Nat.lt_of_le_of_lt (Nat.sub_le _ _) t.isLt⟩
  have e10 : t.val ≠ 1 → t.val ≠ 5 → ∀ d, (dats m 0 c).before 10 t d = (kept m c (t.val - 1)).s11 := fun h1 h5 d =>
    (before_out m c 10 rfl (fun _ _ => rfl) t h0 h1 (Bool.eq_false_iff.mpr fun h => by have := s10 h; simp only at this; omega) d).trans a10
  have e11 : t.val ≠ 1 → t.val ≠ 5 → ∀ d, (dats m 0 c).before 11 t d = (kept m c (t.val - 1)).s12 := fun h1 h5 d =>
    (before_out m c 11 rfl (fun _ _ => rfl) t h0 h1 (Bool.eq_false_iff.mpr fun h => by have := s11 h; simp only at this; omega) d).trans a11
  have e12 : t.val ≠ 1 → t.val ≠ 5 → ∀ d, (dats m 0 c).before 12 t d = (kept m c (t.val - 1)).s13 := fun h1 h5 d =>
    (before_out m c 12 rfl (fun _ _ => rfl) t h0 h1 (Bool.eq_false_iff.mpr fun h => by have := s12 h; simp only at this; omega) d).trans a12
  have e13 : t.val ≠ 1 → ∀ d, (dats m 0 c).before 13 t d = (kept m c (t.val - 1)).s14 := fun h1 d =>
    (before_out m c 13 rfl (fun _ _ => rfl) t h0 h1 (Bool.eq_false_iff.mpr fun h => by have := s13 h; simp only at this; omega) d).trans a13
  have e14 : t.val ≠ 1 → ∀ d, (dats m 0 c).before 14 t d = (kept m c (t.val - 1)).s15 := fun h1 d =>
    (before_out m c 14 rfl (fun _ _ => rfl) t h0 h1 (Bool.eq_false_iff.mpr fun h => by have := s14 h; simp only at this; omega) d).trans a14
  rcases kind_cases t.val with ⟨h, hk⟩ | ⟨h, hk⟩ | ⟨h1, h5, hk | hk⟩ <;> rw [hk]
  · exact ⟨fun _ => trivial, fun _ => trivial, fun _ => trivial, fun _ => trivial, fun _ => trivial⟩
  · exact ⟨fun _ => trivial, fun _ => trivial, fun _ => trivial, e13 (by omega), e14 (by omega)⟩
  · exact ⟨e10 h1 h5, e11 h1 h5, e12 h1 h5, e13 h1, e14 h1⟩
  · exact ⟨e10 h1 h5, e11 h1 h5, e12 h1 h5, e13 h1, e14 h1⟩

theorem leaves_live (c : Dev nD) (w : Fin cfg0.W) (t : Fin cfg0.N) (hi : cfg0.idle w (cfg0.grid.coords t) = false) (hl : cfg0.loose w = false) :
    (dats m 0 c).leavesExact w t = owns (c : Thread nD τ) ((cfg0.win w).stage (cfg0.slots t w)) fullShare ((dats m 0 c).after w t) := by
  unfold Dat.leavesExact; rw [hi]

/-- The body's triple at point `t`. -/
abbrev Sound (c : Dev nD) (t : Fin cfg0.N) : Prop :=
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare ((dats m 0 c).before 5 t d))
      ∗ (∃ d, owns (c : Thread nD τ) (st0_6 t) fullShare ((dats m 0 c).before 6 t d))
      ∗ (∃ d, owns (c : Thread nD τ) (st0_7 t) fullShare ((dats m 0 c).before 7 t d))
      ∗ (∃ d, owns (c : Thread nD τ) (st0_8 t) fullShare ((dats m 0 c).before 8 t d))
      ∗ (∃ d, owns (c : Thread nD τ) (st0_9 t) fullShare ((dats m 0 c).before 9 t d))
      ∗ (∃ d, owns (c : Thread nD τ) (st0_10 t) fullShare ((dats m 0 c).before 10 t d))
      ∗ (∃ d, owns (c : Thread nD τ) (st0_11 t) fullShare ((dats m 0 c).before 11 t d))
      ∗ (∃ d, owns (c : Thread nD τ) (st0_12 t) fullShare ((dats m 0 c).before 12 t d))
      ∗ (∃ d, owns (c : Thread nD τ) (st0_13 t) fullShare ((dats m 0 c).before 13 t d))
      ∗ (∃ d, owns (c : Thread nD τ) (st0_14 t) fullShare ((dats m 0 c).before 14 t d)))
    ⊢ wp frame (wpE (defs₀ (F := F)) Variants.none c none) Set.univ (bodyAt0 t) (fun _ =>
      iprop((dats m 0 c).Φ t.succ ∗ (dats m 0 c).owesAt () t.succ
        ∗ owns (c : Thread nD τ) (st0_0 t) fullShare ((dats m 0 c).after 0 t)
        ∗ owns (c : Thread nD τ) (st0_1 t) fullShare ((dats m 0 c).after 1 t)
        ∗ owns (c : Thread nD τ) (st0_2 t) fullShare ((dats m 0 c).after 2 t)
        ∗ owns (c : Thread nD τ) (st0_3 t) fullShare ((dats m 0 c).after 3 t)
        ∗ owns (c : Thread nD τ) (st0_4 t) fullShare ((dats m 0 c).after 4 t)
        ∗ owns (c : Thread nD τ) (st0_5 t) fullShare ((dats m 0 c).after 5 t)
        ∗ owns (c : Thread nD τ) (st0_6 t) fullShare ((dats m 0 c).after 6 t)
        ∗ owns (c : Thread nD τ) (st0_7 t) fullShare ((dats m 0 c).after 7 t)
        ∗ (dats m 0 c).leavesExact 8 t ∗ (dats m 0 c).leavesExact 9 t ∗ (dats m 0 c).leavesExact 10 t ∗ (dats m 0 c).leavesExact 11 t ∗ (dats m 0 c).leavesExact 12 t ∗ (dats m 0 c).leavesExact 13 t ∗ (dats m 0 c).leavesExact 14 t))

set_option maxHeartbeats 4000000 in
theorem sound_turn (c : Dev nD) (t : Fin cfg0.N) (h0 : t.val ≠ 0) : Sound m c t := by
  obtain ⟨c9, c10, c11, c12, c13, c14, c15⟩ := turn_cover c t (iblk m c 0 t) (iblk m c 1 t) (iblk m c 2 t) (iblk m c 3 t) (iblk m c 4 t) (iblk m c 5 t) (iblk m c 6 t) (iblk m c 7 t) (kept m c (t.val - 1)) _ (conds t h0)
  have c16 := turn_carried c t (iblk m c 0 t) (iblk m c 1 t) (iblk m c 2 t) (iblk m c 3 t) (iblk m c 4 t) (iblk m c 5 t) (iblk m c 6 t) (iblk m c 7 t) (kept m c (t.val - 1)) _ (conds t h0)
  obtain ⟨o11, o12, o13, o14, o15⟩ := asked m c t h0
  obtain ⟨b0, b1, b2, b3, b4, b5, b6, b7⟩ := before_in m c t
  obtain ⟨a8, a9, a10, a11, a12, a13, a14⟩ := after_out m c t
  have hk := kept_turn m c t h0
  unfold Sound bodyAt0
  rw [leaves_live m c 8 t (live t 8 rfl h0) rfl, leaves_live m c 9 t (live t 9 rfl h0) rfl, leaves_live m c 10 t (live t 10 rfl h0) rfl, leaves_live m c 11 t (live t 11 rfl h0) rfl, leaves_live m c 12 t (live t 12 rfl h0) rfl, leaves_live m c 13 t (live t 13 rfl h0) rfl, leaves_live m c 14 t (live t 14 rfl h0) rfl, a8, a9, a10, a11, a12, a13, a14, hk]
  simp only [b0, b1, b2, b3, b4, b5, b6, b7]
  rw [show (dats m 0 c).owesAt () t.succ = (dats m 0 c).owesAt () t.castSucc from rfl, show (dats m 0 c).Φ t.castSucc = Carry m c t.val from rfl,
    show (dats m 0 c).Φ t.succ = Carry m c (t.val + 1) from rfl, show Carry m c t.val = Carry m c (t.val - 1 + 1) from by rw [Nat.sub_add_cancel (Nat.pos_of_ne_zero h0)]]
  unfold Carry
  dsimp only
  rw [hk]
  iintro ⟨⟨Hs, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((turnAt c t (iblk m c 0 t) (iblk m c 1 t) (iblk m c 2 t) (iblk m c 3 t) (iblk m c 4 t) (iblk m c 5 t) (iblk m c 6 t) (iblk m c 7 t) (kept m c (t.val - 1)) _ (conds t h0)).2.2.2.2.2.2.2.2 _ _ _ _ _ (o11 d10) (o12 d11) (o13 d12) (o14 d13) (o15 d14) _)
  isplitl [H0 H1 H2 H3 H4 H5 H6 H7]
  · unfold Held
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H8]; · iexists _; iexact H8
  isplitl [H9]; · iexists _; iexact H9
  isplitl [H10]; · iexact H10
  isplitl [H11]; · iexact H11
  isplitl [H12]; · iexact H12
  isplitl [H13]; · iexact H13
  isplitl [H14]; · iexact H14
  isplitl [Hs]; · iexact Hs
  unfold Held
  iintro ⟨⟨H0, H1, H2, H3, H4, H5, H6, H7⟩, ⟨%f8, H8⟩, ⟨%f9, H9⟩, ⟨%f10, H10⟩, ⟨%f11, H11⟩, ⟨%f12, H12⟩, ⟨%f13, H13⟩, ⟨%f14, H14⟩, Hs⟩
  isplitl [Hs Hp]
  · isplitl [Hs]
    · unfold owns; iexists _; isplitr; swap; · iexact Hs
      ipureintro; exact c16
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr; swap; · iexact H8
    ipureintro; exact View.read_writes_eq_canon _ _ _ c9
  isplitl [H9]
  · unfold owns; iexists _; isplitr; swap; · iexact H9
    ipureintro; exact View.read_writes_eq_canon _ _ _ c10
  isplitl [H10]
  · unfold owns; iexists _; isplitr; swap; · iexact H10
    ipureintro; exact View.read_writes_eq_canon _ _ _ c11
  isplitl [H11]
  · unfold owns; iexists _; isplitr; swap; · iexact H11
    ipureintro; exact View.read_writes_eq_canon _ _ _ c12
  isplitl [H12]
  · unfold owns; iexists _; isplitr; swap; · iexact H12
    ipureintro; exact View.read_writes_eq_canon _ _ _ c13
  isplitl [H13]
  · unfold owns; iexists _; isplitr; swap; · iexact H13
    ipureintro; exact View.read_writes_eq_canon _ _ _ c14
  unfold owns; iexists _; isplitr; swap; · iexact H14
  ipureintro; exact View.read_writes_eq_canon _ _ _ c15

set_option maxHeartbeats 1000000 in
theorem sound_head (c : Dev nD) (t : Fin cfg0.N) (h : t.val = 0) : Sound m c t := by
  have c16 := head_cover c t (iblk m c 0 t) (iblk m c 1 t) h
  obtain ⟨b0, b1, b2, b3, b4, b5, b6, b7⟩ := before_in m c t
  have hk : (kept m c t.val).s16 = View.canon (headAt c t (iblk m c 0 t) (iblk m c 1 t) h).1 := by
    obtain ⟨n, hn⟩ := t
    obtain rfl : n = 0 := h
    show (stepAt m c t0_0 _).s16 = _
    unfold stepAt step; rw [dif_pos (show (t0_0 : Fin cfg0.N).val = 0 from rfl)]; rfl
  unfold Sound bodyAt0
  rw [(dats m 0 c).leavesExact_idle 8 t (still t 8 rfl h).1 (still t 8 rfl h).2, (dats m 0 c).leavesExact_idle 9 t (still t 9 rfl h).1 (still t 9 rfl h).2, (dats m 0 c).leavesExact_idle 10 t (still t 10 rfl h).1 (still t 10 rfl h).2, (dats m 0 c).leavesExact_idle 11 t (still t 11 rfl h).1 (still t 11 rfl h).2, (dats m 0 c).leavesExact_idle 12 t (still t 12 rfl h).1 (still t 12 rfl h).2, (dats m 0 c).leavesExact_idle 13 t (still t 13 rfl h).1 (still t 13 rfl h).2, (dats m 0 c).leavesExact_idle 14 t (still t 14 rfl h).1 (still t 14 rfl h).2]
  simp only [b0, b1, b2, b3, b4, b5, b6, b7]
  rw [show (dats m 0 c).owesAt () t.succ = (dats m 0 c).owesAt () t.castSucc from rfl, show (dats m 0 c).Φ t.castSucc = Carry m c t.val from rfl,
    show (dats m 0 c).Φ t.succ = Carry m c (t.val + 1) from rfl, show Carry m c t.val = Carry m c 0 from by rw [h]]
  unfold Carry
  dsimp only
  rw [hk]
  iintro ⟨⟨⟨%g, Hs⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, Hr⟩
  iapply ((headAt c t (iblk m c 0 t) (iblk m c 1 t) h).2 _)
  isplitl [H0]; · iexact H0
  isplitl [H1]; · iexact H1
  isplitl [Hs]; · iexists _; iapply (Entails.of_eq (owns_whole (c : Thread nD τ) cc0_scratch0 fullShare g).symm); iexact Hs
  iintro ⟨H0, H1, ⟨%fs, Hs⟩⟩
  isplitl [Hs Hp]
  · isplitl [Hs]
    · unfold owns; iexists _; isplitr; swap; · iexact Hs
      ipureintro; exact View.read_writes_eq_canon _ _ _ c16
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact Hr

theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (if h : t.val = 0 then sound_head m c t h else sound_turn m c t h) rfl .rfl fun _ => .rfl

theorem hostOps0_fresh : (hostOps0 : List (HloOp τ sig (Elt F))).Forall fun op => op.fresh = ∅ := by
  simp only [List.Forall]; repeat' constructor

set_option maxHeartbeats 800000 in
set_option backward.isDefEq.respectTransparency.types false in
/-- The run: the kernel's arrays end at what the proof data computes, every other buffer as the kernel found it. -/
theorem run (ρ : Dev nD → PrngReg) : θ_run defs (onTc (τ := τ) (main (F := F))) (s₀ m ρ) (fun r => FramePost cfgs (dats m) 0 (V m) r ∧ r.2.sem = fun _ => 0) :=
  θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain_prefix cfgs 0 defs₀ Variants.none m main hostOps0 hostOps0_sub hostOps0_fresh main_chain) (hA := A_eq m)
    (hin := fun c => by
      show ΦA spec0 c ⊢ Carry m c 0
      unfold ΦA Carry
      rw [scopedRest0_eq])
    (hout := fun c => by
      show Carry m c (8 + 1) ⊢ ΦA spec0 c
      unfold ΦA Carry
      rw [scopedRest0_eq]
      dsimp only
      rw [owns_whole]
      iintro ⟨H, Hp⟩
      isplitl [H]; · iexists _; iexact H
      iexact Hp)

/-- The host's preparation writes no argument. -/
theorem V_arg (c : Dev nD) (b : Ref sig .tc) (h : b ∉ [main_v0, main_v1, main_v2, main_v3, main_v4, main_v5, main_v6, main_v7, main_v8, main_v9, main_v10, main_v11, main_v12, main_v13, main_v14, main_v15, main_v16, main_cst, main_v17, main_v18, main_cst_0, main_v19, main_v20, main_cst_1, main_v21, main_v22, main_v23, main_v24, main_v25, main_v26, main_v27, main_v28, main_v29, main_v30, main_v31, main_v32, main_v33]) : V m c b = m ((c : Thread nD τ).loc b) := by
  refine StableHlo.after_of_forall_not_mem (b := Proc.devRef .tc b) _ _ (List.forall_iff_forall_mem.mp ?_)
  simp only [List.mem_cons, List.not_mem_nil, or_false, not_or] at h
  obtain ⟨h0, h1, h2, h3, h4, h5, h6, h7, h8, h9, h10, h11, h12, h13, h14, h15, h16, h17, h18, h19, h20, h21, h22, h23, h24, h25, h26, h27, h28, h29, h30, h31, h32, h33, h34, h35, h36⟩ := h
  have ne : ∀ {a : Ref sig .tc}, b ≠ a → Proc.devRef (τ := τ) .tc b ≠ Proc.devRef .tc a := StableHlo.devRef_ne_of_ne
  simp only [hostOps0, List.Forall, StableHlo.unary_writes, StableHlo.binary_writes, StableHlo.nullary_writes, StableHlo.reshape_writes, Finset.mem_singleton]
  exact ⟨ne h0, ne h1, ne h2, ne h3, ne h4, ne h5, ne h6, ne h7, ne h8, ne h9, ne h10, ne h11, ne h12, ne h13, ne h14, ne h15, ne h16, ne h17, ne h18, ne h19, ne h20, ne h21, ne h22, ne h23, ne h24, ne h25, ne h26, ne h27, ne h28, ne h29, ne h30, ne h31, ne h32, ne h33, ne h34, ne h35, ne h36⟩

/-- The arguments end unchanged. -/
theorem args_kept {r} (h : FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  have keep := fun (w : Fin cfg0.W) hw ha => ((h c).1 w).trans (((dats m 0 c).arrAt_in w hw _).trans ((A_eq m c w).trans (V_arg m c _ ha)))
  have rest := fun b hb hs ha => ((h c).2 b (mem_restRefs_of b hb hs)).trans (V_arg m c b ha)
  ⟨keep 0 rfl (by decide), rest main_arg1 (by decide) (by decide) (by decide), rest main_arg2 (by decide) (by decide) (by decide), keep 2 rfl (by decide), rest main_arg4 (by decide) (by decide) (by decide), rest main_arg5 (by decide) (by decide) (by decide), rest main_arg6 (by decide) (by decide) (by decide),
    keep 5 rfl (by decide), keep 6 rfl (by decide), keep 7 rfl (by decide)⟩

/-- The program ends without a fault with its arguments as they were and every counter at zero, at any reading of the floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) ∧ r.2.sem = fun _ => 0) :=
  (θ_run defs _ _).mono (fun r h => ⟨fun c => args_kept m h.1 c, h.2⟩) (run m ρ)

end Cert.Kernel6Ideal.Mid
end
-- ==== Proof.MidTile.lean ====
module

public import proofs.«01_k».proof.Proof.MidBody
public import proofs.«01_k».proof.Proof.PreTurn

@[expose] public section

set_option maxRecDepth 16384

noncomputable section

namespace Cert.Kernel6Ideal.Mid

open Idealize.ShloMosaic Idealize.ShloMosaic.TcCoe Idealize.ShloMosaic.Tactic
open Cert.Kernel6Ideal.Gen
open Cert.Kernel4Ideal.Pre (chain eight)

/-! # The lists a turn writes, in one form for all blocks -/

variable {F : FTy → Type} [FloatOps F] (c : Dev nD) {i : grid0.Coords} (B : Bufs)
  (y1 : Vec F S2x512x2816 .bf16) (y2 : Vec F S2x2816x1024 .bf16) (y3 y4 y5 : Vec F S512x1024 .f32) (y6 y7 : Vec F S1x1024 .f32) (y8 : Vec F S1x6x1024 .f32)
  (y11 y12 y13 : Vec F S1x1x1024 .f32) (y14 y15 : Vec F S1x1024 .f32) (y16 : Vec F S512x1024 .f32)

/-- Sixty-four rows from `n` of a tile fit. -/
abbrev Fits (n : ℕ) : Prop := ∀ a, ![n, 0] a + S64x1024.size a ≤ S512x1024.size a
abbrev fits0 : Fits 0 := inb_S512x1024_S64x1024_0_0

/-- A part of a buffer. -/
abbrev cut {S T : Shape} {e : EltTy} (w : Memref sig .tc .vmem S e) (hw : w.IsWhole) (y : Vec F S e) (off : Fin S.rank → ℕ) (size : Fin S.rank → ℕ) (h : ∀ a, off a + size a ≤ S.size a) :
    Vec F ⟨S.rank, size⟩ e :=
  View.readAt (Elt F) w.view (Rect.unit (s := S) off size h).toLoadRect (hw.unread y)

/-- The gradient half `p` of the tile, and the weights' half `p` of a block of columns. -/
def side (p : ℕ) (h : ∀ a, ![p, 0, 0] a + S1x512x2816.size a ≤ S2x512x2816.size a) : Vec F S1x512x2816 .bf16 := cut (T := S1x512x2816) B.a1 B.h1 y1 ![p, 0, 0] S1x512x2816.size h
def cols (p q : ℕ) (h : ∀ a, ![p, 0, q] a + S1x2816x256.size a ≤ S2x2816x1024.size a) : Vec F S1x2816x256 .bf16 := cut (T := S1x2816x256) B.a2 B.h2 y2 ![p, 0, q] S1x2816x256.size h
/-- A block of rows of a tile. -/
def rows (w : Memref sig .tc .vmem S512x1024 .f32) (hw : w.IsWhole) (y : Vec F S512x1024 .f32) (n : ℕ) (h : Fits n) : Vec F S64x1024 .f32 := cut (T := S64x1024) w hw y ![n, 0] S64x1024.size h
def gain (w : Memref sig .tc .vmem S1x1024 .f32) (hw : w.IsWhole) (y : Vec F S1x1024 .f32) : Vec F S1x1024 .f32 := cut (T := S1x1024) w hw y ![0, 0] S1x1024.size inb_S1x1024_S1x1024_0_0
def factor (p : ℕ) (h : ∀ a, ![0, p, 0] a + S1x1x1024.size a ≤ S1x6x1024.size a) : Vec F S1x1x1024 .f32 := cut (T := S1x1x1024) B.a8 B.h8 y8 ![0, p, 0] S1x1x1024.size h
abbrev scale : Vec F S1x1x1024 .f32 := factor B y8 4 inb_S1x6x1024_S1x1x1024_0_4_0
abbrev gate : Vec F S1x1x1024 .f32 := factor B y8 2 inb_S1x6x1024_S1x1x1024_0_2_0

/-- A column block of the next product. -/
def colPiece (q : ℕ) (h : ∀ a, ![0, 0, q] a + S1x2816x256.size a ≤ S2x2816x1024.size a) (h' : ∀ a, ![1, 0, q] a + S1x2816x256.size a ≤ S2x2816x1024.size a)
    (h'' : ∀ a, ![0, q] a + S512x256.size a ≤ S512x1024.size a) : View.Piece (Elt F) S512x1024 .f32 :=
  ⟨Rect.unit (s := S512x1024) ![0, q] S512x256.size h'', k0_pay1 (k0_pay7 (side B y1 0 inb_S2x512x2816_S1x512x2816_0_0_0) (cols B y2 0 q h) (side B y1 1 inb_S2x512x2816_S1x512x2816_1_0_0) (cols B y2 1 q h'))⟩
def colPieces : List (View.Piece (Elt F) S512x1024 .f32) :=
  [colPiece B y1 y2 768 inb_S2x2816x1024_S1x2816x256_0_0_768 inb_S2x2816x1024_S1x2816x256_1_0_768 inb_S512x1024_S512x256_0_768,
   colPiece B y1 y2 512 inb_S2x2816x1024_S1x2816x256_0_0_512 inb_S2x2816x1024_S1x2816x256_1_0_512 inb_S512x1024_S512x256_0_512,
   colPiece B y1 y2 256 inb_S2x2816x1024_S1x2816x256_0_0_256 inb_S2x2816x1024_S1x2816x256_1_0_256 inb_S512x1024_S512x256_0_256,
   colPiece B y1 y2 0 inb_S2x2816x1024_S1x2816x256_0_0_0 inb_S2x2816x1024_S1x2816x256_1_0_0 inb_S512x1024_S512x256_0_0]

section Rows
variable (n : ℕ) (h : Fits n)
/-- The gradient reaching the rows of a block, and what goes on to the product before. -/
abbrev prodRows : Vec F S64x1024 .f32 := rows B.a16 B.h16 y16 n h
abbrev inRows : Vec F S64x1024 .f32 := rows B.a4 B.h4 y4 n h
abbrev mixRows : Vec F S64x1024 .f32 := rows B.a5 B.h5 y5 n h
def dx : FVec F S64x1024 .f32 := k0_pay29 (prodRows B y16 n h) (k0_pay16 (inRows B y4 n h)) (k0_pay17 (inRows B y4 n h)) (gain B.a6 B.h6 y6) (scale B y8) (rows B.a3 B.h3 y3 n h)
def outPiece : View.Piece (Elt F) S512x1024 .f32 := ⟨Rect.unit (s := S512x1024) ![n, 0] S64x1024.size h, dx B y3 y4 y6 y8 y16 n h⟩
def mixPiece : View.Piece (Elt F) S512x1024 .bf16 :=
  ⟨Rect.unit (s := S512x1024) ![n, 0] S64x1024.size h, k0_pay41 (k0_pay31 (mixRows B y5 n h)) (k0_pay32 (mixRows B y5 n h))
    (k0_pay39 (dx B y3 y4 y6 y8 y16 n h) (gain B.a7 B.h7 y7) (gate B y8)) (k0_pay40 (dx B y3 y4 y6 y8 y16 n h) (mixRows B y5 n h) (gain B.a7 B.h7 y7) (gate B y8))⟩

/-- What a block adds to each of the five sums. -/
def addShift (z : S1x1x1024.Idx → F .f32) : S1x1x1024.Idx → F .f32 := k0_pay20 (prodRows B y16 n h) z
def addScale (z : S1x1x1024.Idx → F .f32) : S1x1x1024.Idx → F .f32 := k0_pay25 (k0_pay21 (prodRows B y16 n h) (inRows B y4 n h)) (k0_pay22 (gain B.a6 B.h6 y6)) z
def addGate (z : S1x1x1024.Idx → F .f32) : S1x1x1024.Idx → F .f32 := k0_pay35 (dx B y3 y4 y6 y8 y16 n h) (mixRows B y5 n h) (gain B.a7 B.h7 y7) z
def addPre (z : S1x1024.Idx → F .f32) : S1x1024.Idx → F .f32 := k0_pay28 (prodRows B y16 n h) (k0_pay17 (inRows B y4 n h)) (scale B y8) z
def addPost (z : S1x1024.Idx → F .f32) : S1x1024.Idx → F .f32 := k0_pay38 (dx B y3 y4 y6 y8 y16 n h) (mixRows B y5 n h) (gate B y8) z
end Rows

/-- Whether a sum over all tiles, or over one sequence, begins. -/
def begins : Kind → Bool
  | .first => true
  | _ => false
def opening : Kind → Bool
  | .first | .opens => true
  | _ => false

/-- A sum's list: begun from `z0` or taken on from the buffer, then seven more blocks. -/
def sumOf {S : Shape} (w : Memref sig .tc .vmem S .f32) (hw : w.IsWhole) (y : Vec F S .f32) (off : Fin S.rank → ℕ) (h : ∀ a, off a + S.size a ≤ S.size a) (b : Bool) (z0 : S.Idx → F .f32)
    (add : ∀ n : ℕ, Fits n → (S.Idx → F .f32) → (S.Idx → F .f32)) : List (View.Piece (Elt F) S .f32) :=
  chain w.view off h [(⟨Rect.unit (s := S) off S.size h, match b with | true => z0 | false => add 0 fits0 (cut (T := S) w hw y off S.size h)⟩ : View.Piece (Elt F) S .f32)] (eight add).dropLast

abbrev shiftList (k : Kind) := sumOf B.a11 B.h11 y11 ![0, 0, 0] inb_S1x1x1024_S1x1x1024_0_0_0 (opening k) (k0_pay19 (prodRows B y16 0 fits0)) (addShift B y16)
abbrev scaleList (k : Kind) := sumOf B.a12 B.h12 y12 ![0, 0, 0] inb_S1x1x1024_S1x1x1024_0_0_0 (opening k) (k0_pay24 (k0_pay21 (prodRows B y16 0 fits0) (inRows B y4 0 fits0)) (k0_pay22 (gain B.a6 B.h6 y6))) (addScale B y4 y6 y16)
abbrev gateList (k : Kind) := sumOf B.a13 B.h13 y13 ![0, 0, 0] inb_S1x1x1024_S1x1x1024_0_0_0 (opening k) (k0_pay34 (dx B y3 y4 y6 y8 y16 0 fits0) (mixRows B y5 0 fits0) (gain B.a7 B.h7 y7)) (addGate B y3 y4 y5 y6 y7 y8 y16)
abbrev preList (k : Kind) := sumOf B.a14 B.h14 y14 ![0, 0] inb_S1x1024_S1x1024_0_0 (begins k) (k0_pay27 (prodRows B y16 0 fits0) (k0_pay17 (inRows B y4 0 fits0)) (scale B y8)) (addPre B y4 y8 y16)
abbrev postList (k : Kind) := sumOf B.a15 B.h15 y15 ![0, 0] inb_S1x1024_S1x1024_0_0 (begins k) (k0_pay37 (dx B y3 y4 y6 y8 y16 0 fits0) (mixRows B y5 0 fits0) (gate B y8)) (addPost B y3 y4 y5 y6 y8 y16)

def nextCols : Kind → List (View.Piece (Elt F) S512x1024 .f32)
  | .last => []
  | _ => colPieces B y1 y2

set_option maxHeartbeats 2000000 in
theorem head_lists (h1 h2 h13) : (head (F := F) c i B y1 y2 h1 h2 h13).1 = colPieces B y1 y2 := by sl_kernel_rfl

set_option maxHeartbeats 16000000 in
theorem turn_lists (k : Kind) (h : Conds i k) : let T := turn (F := F) c i B y1 y2 y3 y4 y5 y6 y7 y8 y11 y12 y13 y14 y15 y16 k h
    T.1 = eight (outPiece B y3 y4 y6 y8 y16) ∧ T.2.1 = eight (mixPiece B y3 y4 y5 y6 y7 y8 y16)
      ∧ T.2.2.1 = shiftList B y11 y16 k ∧ T.2.2.2.1 = scaleList B y4 y6 y12 y16 k ∧ T.2.2.2.2.1 = gateList B y3 y4 y5 y6 y7 y8 y13 y16 k
      ∧ T.2.2.2.2.2.1 = preList B y4 y8 y14 y16 k ∧ T.2.2.2.2.2.2.1 = postList B y3 y4 y5 y6 y8 y15 y16 k ∧ T.2.2.2.2.2.2.2.1 = nextCols B y1 y2 k := by
  cases k <;> exact ⟨by sl_kernel_rfl, by sl_kernel_rfl, by sl_kernel_rfl, by sl_kernel_rfl, by sl_kernel_rfl, by sl_kernel_rfl, by sl_kernel_rfl, by sl_kernel_rfl⟩

end Cert.Kernel6Ideal.Mid
-- ==== Proof.MidRow.lean ====
module

public import proofs.«01_k».proof.Proof.Gen.Kernel6Ideal.Skeleton
public import proofs.«01_k».proof.Proof.PreTurn
public import Idealize.ShloMosaic.Lib.ValueIdx
public import Idealize.ShloMosaic.Lib.Pointwise

@[expose] public section

set_option maxRecDepth 16384

noncomputable section

namespace Cert.Kernel6Ideal.Mid

open Idealize.ShloMosaic Idealize.ShloMosaic.TcCoe Idealize.ShloMosaic.Tactic
open Cert.Kernel6Ideal.Gen
open Cert.Kernel4Ideal.Pre (Rows real_sum inv rsqrt_under width_bits tiny_bits one_bits)

/-! # The arithmetic of a block of rows over the reals -/

/-- What a row's gradients are computed from: the gradient of the modulated row, the row the first norm took, the gradient that passes it by,
the row the second norm took, the two gains, the scale and the gate. -/
structure Row where
  (h x d k g q s e : ℕ → ℝ)

/-- The gradient of a row from the gradient `n` of the row normed. -/
def normBack (x n : ℕ → ℝ) (j : ℕ) : ℝ := inv x * (n j - x j * inv x * ((∑ l : Fin 1024, n l.val * (x l.val * inv x)) * (1 / 1024)))

namespace Row
variable (ρ : Row)
def unit (j : ℕ) : ℝ := ρ.x j * inv ρ.x
def mixUnit (j : ℕ) : ℝ := ρ.k j * inv ρ.k
def dn (j : ℕ) : ℝ := ρ.h j * (1 + ρ.s j)
def dx (j : ℕ) : ℝ := ρ.d j + normBack ρ.x (fun j => ρ.dn j * ρ.g j) j
def de (j : ℕ) : ℝ := ρ.dx j * ρ.e j
def dk : ℕ → ℝ := normBack ρ.k (fun j => ρ.de j * ρ.q j)
/-- What the row adds to the sums of the scale, the gate and the two gains. -/
def toScale (j : ℕ) : ℝ := ρ.h j * ρ.unit j * ρ.g j
def toGate (j : ℕ) : ℝ := ρ.dx j * ρ.mixUnit j * ρ.q j
def toPre (j : ℕ) : ℝ := ρ.dn j * ρ.unit j
def toPost (j : ℕ) : ℝ := ρ.de j * ρ.mixUnit j
end Row

/-- The blocks a chunk reads hold the rows `ρ`. -/
structure Block (ρ : ℕ → Row) (h x d k : Vec Ideal S64x1024 .f32) (g q : Vec Ideal S1x1024 .f32) (s e : Vec Ideal S1x1x1024 .f32) : Prop where
  h : Rows (fun r => (ρ r).h) h
  x : Rows (fun r => (ρ r).x) x
  d : Rows (fun r => (ρ r).d) d
  k : Rows (fun r => (ρ r).k) k
  g : ∀ (r : Fin 64) (j : Fin 1024), g (ix2 0 j) = (((ρ r.val).g j.val : ℝ) : EReal)
  q : ∀ (r : Fin 64) (j : Fin 1024), q (ix2 0 j) = (((ρ r.val).q j.val : ℝ) : EReal)
  s : ∀ (r : Fin 64) (j : Fin 1024), s (ix3 0 0 j) = (((ρ r.val).s j.val : ℝ) : EReal)
  e : ∀ (r : Fin 64) (j : Fin 1024), e (ix3 0 0 j) = (((ρ r.val).e j.val : ℝ) : EReal)

theorem inv_at {x : Vec Ideal S64x1024 .f32} {X : ℕ → ℕ → ℝ} (hx : Rows X x) (r : Fin 64) : k0_pay16 (F := Ideal) x (ix2 r 0) = ((inv (X r.val) : ℝ) : EReal) := by
  unfold k0_pay16 k0_pay15
  pointwise [hx _ _, width_bits, tiny_bits]
  simp only [← EReal.coe_mul, ← real_sum]
  rw [Ideal.div_coe (by norm_num), ← EReal.coe_mul, ← EReal.coe_add]
  exact rsqrt_under _
theorem unit_at {x : Vec Ideal S64x1024 .f32} {X : ℕ → ℕ → ℝ} (hx : Rows X x) : Rows (fun r j => X r j * inv (X r)) (k0_pay17 (F := Ideal) x) := fun r j => by
  unfold k0_pay17 k0_pay15
  pointwise [inv_at hx _, hx _ _]
  rw [← EReal.coe_mul]

/-- The second norm's steps are the first's on other rows. -/
theorem mix_inv (x : Vec Ideal S64x1024 .f32) : k0_pay31 (F := Ideal) x = k0_pay16 x := rfl
theorem mix_unit (x : Vec Ideal S64x1024 .f32) : k0_pay32 (F := Ideal) x = k0_pay17 x := rfl

section Block
variable {ρ : ℕ → Row} {h x d k : Vec Ideal S64x1024 .f32} {g q : Vec Ideal S1x1024 .f32} {s e : Vec Ideal S1x1x1024 .f32} (b : Block ρ h x d k g q s e)
include b

theorem dn_at : Rows (fun r => (ρ r).dn) (k0_pay26 (F := Ideal) h s) := fun r j => by
  unfold k0_pay26
  pointwise [b.h _ _, b.s r _, one_bits]
  rw [← EReal.coe_add, ← EReal.coe_mul]; rfl

theorem dx_at : Rows (fun r => (ρ r).dx) (k0_pay29 (F := Ideal) h (k0_pay16 x) (k0_pay17 x) g s d) := fun r j => by
  unfold k0_pay29
  pointwise [dn_at b _ _, inv_at b.x _, unit_at b.x _ _, b.g r _, b.d _ _, width_bits]
  simp only [← EReal.coe_mul, ← real_sum]
  rw [Ideal.div_coe (by norm_num)]
  simp only [← EReal.coe_mul, ← EReal.coe_sub, ← EReal.coe_add]
  rfl

theorem scale_at (j : Fin 1024) : k0_pay23 (F := Ideal) (k0_pay21 h x) (k0_pay22 g) (ix2 0 j) = ((∑ r : Fin 64, (ρ r.val).toScale j.val : ℝ) : EReal) := by
  unfold k0_pay23 k0_pay21 k0_pay22
  pointwise [b.h _ _, unit_at b.x _ _]
  refine Eq.trans ?_ (real_sum Finset.univ (fun r : Fin 64 => (ρ r.val).toScale j.val)).symm
  exact Finset.sum_congr rfl fun r _ => by rw [b.g r j, ← EReal.coe_mul, ← EReal.coe_mul]; rfl

theorem shift_at (j : Fin 1024) : k0_pay18 (F := Ideal) h (ix2 0 j) = ((∑ r : Fin 64, (ρ r.val).h j.val : ℝ) : EReal) := by
  unfold k0_pay18
  pointwise [b.h _ _]
  rw [real_sum]

theorem pre_at (j : Fin 1024) : k0_pay27 (F := Ideal) h (k0_pay17 x) s (ix2 0 j) = ((∑ r : Fin 64, (ρ r.val).toPre j.val : ℝ) : EReal) := by
  unfold k0_pay27
  pointwise [dn_at b _ _, unit_at b.x _ _]
  simp only [← EReal.coe_mul, ← real_sum]
  rfl

variable {v : FVec Ideal S64x1024 .f32} (hv : Rows (fun r => (ρ r).dx) v)
include hv

theorem gate_at (j : Fin 1024) : k0_pay33 (F := Ideal) v k q (ix2 0 j) = ((∑ r : Fin 64, (ρ r.val).toGate j.val : ℝ) : EReal) := by
  unfold k0_pay33
  rw [mix_unit]
  pointwise [hv _ _, unit_at b.k _ _]
  refine Eq.trans ?_ (real_sum Finset.univ (fun r : Fin 64 => (ρ r.val).toGate j.val)).symm
  exact Finset.sum_congr rfl fun r _ => by rw [b.q r j, ← EReal.coe_mul, ← EReal.coe_mul]; rfl

theorem de_at : Rows (fun r => (ρ r).de) (k0_pay36 (F := Ideal) v e) := fun r j => by
  unfold k0_pay36
  pointwise [hv _ _, b.e r _]
  rw [← EReal.coe_mul]; rfl

theorem post_at (j : Fin 1024) : k0_pay37 (F := Ideal) v k e (ix2 0 j) = ((∑ r : Fin 64, (ρ r.val).toPost j.val : ℝ) : EReal) := by
  unfold k0_pay37
  rw [mix_unit]
  pointwise [de_at b hv _ _, unit_at b.k _ _]
  simp only [← EReal.coe_mul, ← real_sum]
  rfl

theorem dk_at (r : Fin 64) (j : Fin 1024) : k0_pay41 (F := Ideal) (k0_pay31 k) (k0_pay32 k) (k0_pay39 v q e) (k0_pay40 v k q e) (ix2 r j) = (((ρ r.val).dk j.val : ℝ) : EReal) := by
  have h39 : Rows (fun r j => (ρ r).de j * (ρ r).q j) (k0_pay39 (F := Ideal) v q e) := fun r j => by
    unfold k0_pay39
    pointwise [de_at b hv _ _, b.q r _]
    rw [← EReal.coe_mul]
  unfold k0_pay41 k0_pay40
  rw [mix_unit, mix_inv]
  pointwise [h39 _ _, inv_at b.k _, unit_at b.k _ _, width_bits]
  simp only [← EReal.coe_mul, ← real_sum]
  rw [Ideal.div_coe (by norm_num)]
  simp only [← EReal.coe_mul, ← EReal.coe_sub]
  rfl

end Block

/-! A sum begun, and a sum taken on. -/
section Taken
variable (a b : FVec Ideal S64x1024 .f32) (x : Vec Ideal S64x1024 .f32) (g : Vec Ideal S1x1024 .f32) (s z : Vec Ideal S1x1x1024 .f32) (w : Vec Ideal S1x1024 .f32) (j : Fin 1024)
theorem shift_first : k0_pay19 (F := Ideal) x (ix3 0 0 j) = k0_pay18 x (ix2 0 j) := by unfold k0_pay19; pointwise
theorem shift_next : k0_pay20 (F := Ideal) x z (ix3 0 0 j) = z (ix3 0 0 j) + k0_pay18 x (ix2 0 j) := by unfold k0_pay20; pointwise
theorem scale_first : k0_pay24 (F := Ideal) a b (ix3 0 0 j) = k0_pay23 a b (ix2 0 j) := by unfold k0_pay24; pointwise
theorem scale_next : k0_pay25 (F := Ideal) a b z (ix3 0 0 j) = z (ix3 0 0 j) + k0_pay23 a b (ix2 0 j) := by unfold k0_pay25; pointwise
theorem gate_first : k0_pay34 (F := Ideal) a x g (ix3 0 0 j) = k0_pay33 a x g (ix2 0 j) := by unfold k0_pay34; pointwise
theorem gate_next : k0_pay35 (F := Ideal) a x g z (ix3 0 0 j) = z (ix3 0 0 j) + k0_pay33 a x g (ix2 0 j) := by unfold k0_pay35; pointwise
theorem pre_next : k0_pay28 (F := Ideal) x a s w (ix2 0 j) = w (ix2 0 j) + k0_pay27 x a s (ix2 0 j) := by unfold k0_pay28; pointwise
theorem post_next : k0_pay38 (F := Ideal) a x s w (ix2 0 j) = w (ix2 0 j) + k0_pay37 a x s (ix2 0 j) := by unfold k0_pay38; pointwise
end Taken

/-- The product: both halves of the gradient with their weights. -/
def prod (A W : ℕ → ℕ → ℕ → ℝ) (r j : ℕ) : ℝ := (∑ k : Fin 2816, A 0 r k.val * W 0 k.val j) + ∑ k : Fin 2816, A 1 r k.val * W 1 k.val j

/-- The arguments' numbers: the gradient's halves `A` with their weights `W`, the heads' rows `C` with their weights `O`, the modulation `S`,
the gradient `D` that passes by, the rows `P` that enter the block, and the gains. -/
structure Data where
  (A W C S : ℕ → ℕ → ℕ → ℝ)
  (D O P : ℕ → ℕ → ℝ)
  (g q : ℕ → ℝ)
namespace Data
variable (T : Data)
/-- The mixed row, and the row after the mixing. -/
def mix (r j : ℕ) : ℝ := ∑ k : Fin 1024, T.C (k.val / 512) r (k.val % 512) * T.O k.val j
def mid (r j : ℕ) : ℝ := T.P r j + T.S (r / 2048) 2 j * (T.mix r j * inv (T.mix r) * T.q j)
def row (r : ℕ) : Row := ⟨prod T.A T.W r, T.mid r, T.D r, T.mix r, T.g, T.q, T.S (r / 2048) 4, T.S (r / 2048) 2⟩
end Data

end Cert.Kernel6Ideal.Mid
-- ==== Proof.MidSum.lean ====
module

public import proofs.«01_k».proof.Proof.MidTile
public import proofs.«01_k».proof.Proof.MidRow
public import proofs.«01_k».proof.Proof.PostSum

@[expose] public section

set_option maxRecDepth 16384

noncomputable section

namespace Cert.Kernel6Ideal.Mid

open Idealize.ShloMosaic Idealize.ShloMosaic.TcCoe Idealize.ShloMosaic.Tactic
open Cert.Kernel6Ideal.Gen
open Cert.Kernel4Ideal.Pre (canon_chain eight eight_sum Rows real_sum read_rows read_whole zeros2 zeros3)

/-! # What a turn leaves, over the reals -/

/-- The buffers a turn reads hold the rows `ρ`. -/
structure Tile (ρ : ℕ → Row) (y3 y4 y5 : Vec Ideal S512x1024 .f32) (y6 y7 : Vec Ideal S1x1024 .f32) (y8 : Vec Ideal S1x6x1024 .f32) (y16 : Vec Ideal S512x1024 .f32) : Prop where
  h : Rows (fun r => (ρ r).h) y16
  x : Rows (fun r => (ρ r).x) y4
  d : Rows (fun r => (ρ r).d) y3
  k : Rows (fun r => (ρ r).k) y5
  g : ∀ (r : Fin 512) (j : Fin 1024), y6 (ix2 0 j) = (((ρ r.val).g j.val : ℝ) : EReal)
  q : ∀ (r : Fin 512) (j : Fin 1024), y7 (ix2 0 j) = (((ρ r.val).q j.val : ℝ) : EReal)
  s : ∀ (r : Fin 512) (j : Fin 1024), y8 (ix3 0 4 j) = (((ρ r.val).s j.val : ℝ) : EReal)
  e : ∀ (r : Fin 512) (j : Fin 1024), y8 (ix3 0 2 j) = (((ρ r.val).e j.val : ℝ) : EReal)

variable (B : Bufs) {y1 : Vec Ideal S2x512x2816 .bf16} {y2 : Vec Ideal S2x2816x1024 .bf16} {y3 y4 y5 : Vec Ideal S512x1024 .f32} {y6 y7 : Vec Ideal S1x1024 .f32} {y8 : Vec Ideal S1x6x1024 .f32}
  {y11 y12 y13 : Vec Ideal S1x1x1024 .f32} {y14 y15 : Vec Ideal S1x1024 .f32} {y16 : Vec Ideal S512x1024 .f32}

theorem factor_read (y8 : Vec Ideal S1x6x1024 .f32) (p : Fin 6) (h) (j : Fin 1024) : factor B y8 p.val h (ix3 0 0 j) = y8 (ix3 0 p j) := by
  unfold factor cut
  rw [View.readAt_eq_ld, B.h8.read_unread y8]
  refine congrArg y8 (funext fun a => Fin.ext ?_)
  fin_cases a
  · exact (LoadRect.idx_apply ..).trans rfl
  · exact (LoadRect.idx_apply ..).trans rfl
  · exact (LoadRect.idx_apply ..).trans ((congrArg (0 + ·) (one_mul j.val)).trans (zero_add j.val))

theorem Tile.block {ρ : ℕ → Row} (T : Tile ρ y3 y4 y5 y6 y7 y8 y16) (n : ℕ) (h : Fits n) :
    Block (fun r => ρ (n + r)) (prodRows B y16 n h) (inRows B y4 n h) (rows B.a3 B.h3 y3 n h) (mixRows B y5 n h) (gain B.a6 B.h6 y6) (gain B.a7 B.h7 y7) (scale B y8) (gate B y8) := by
  have hn : n + 64 ≤ 512 := h 0
  exact {
    h := read_rows B.h16 T.h n h
    x := read_rows B.h4 T.x n h
    d := read_rows B.h3 T.d n h
    k := read_rows B.h5 T.k n h
    g := fun r j => (congrFun (read_whole B.h6 y6 inb_S1x1024_S1x1024_0_0 (by decide)) _).trans (T.g ⟨n + r.val, by omega⟩ j)
    q := fun r j => (congrFun (read_whole B.h7 y7 inb_S1x1024_S1x1024_0_0 (by decide)) _).trans (T.q ⟨n + r.val, by omega⟩ j)
    s := fun r j => (factor_read B y8 4 _ j).trans (T.s ⟨n + r.val, by omega⟩ j)
    e := fun r j => (factor_read B y8 2 _ j).trans (T.e ⟨n + r.val, by omega⟩ j) }

section Product
variable {A W : ℕ → ℕ → ℕ → ℝ} (ha : ∀ (p : Fin 2) (r : Fin 512) (k : Fin 2816), y1 (ix3 p r k) = ((A p.val r.val k.val : ℝ) : EReal))
  (hb : ∀ (p : Fin 2) (k : Fin 2816) (j : Fin 1024), y2 (ix3 p k j) = ((W p.val k.val j.val : ℝ) : EReal))

include ha in
theorem side_read (p : Fin 2) (h) (r : Fin 512) (k : Fin 2816) : side B y1 p.val h (ix3 0 r k) = ((A p.val r.val k.val : ℝ) : EReal) := by
  unfold side cut
  rw [View.readAt_eq_ld, B.h1.read_unread y1]
  refine Eq.trans (congrArg y1 (funext fun a => Fin.ext ?_)) (ha p r k)
  fin_cases a
  · exact (LoadRect.idx_apply ..).trans rfl
  · exact (LoadRect.idx_apply ..).trans ((congrArg (0 + ·) (one_mul r.val)).trans (zero_add _))
  · exact (LoadRect.idx_apply ..).trans ((congrArg (0 + ·) (one_mul k.val)).trans (zero_add _))

include hb in
theorem cols_read (p : Fin 2) (q : ℕ) (hq : q + 256 ≤ 1024) (h) (k : Fin 2816) (j : Fin 256) : cols B y2 p.val q h (ix3 0 k j) = ((W p.val k.val (q + j.val) : ℝ) : EReal) := by
  unfold cols cut
  rw [View.readAt_eq_ld, B.h2.read_unread y2]
  refine Eq.trans (congrArg y2 (funext fun a => Fin.ext ?_)) (hb p k ⟨q + j.val, by omega⟩)
  fin_cases a
  · exact (LoadRect.idx_apply ..).trans rfl
  · exact (LoadRect.idx_apply ..).trans ((congrArg (0 + ·) (one_mul k.val)).trans (zero_add _))
  · exact (LoadRect.idx_apply ..).trans (congrArg (q + ·) (one_mul j.val))

include ha hb in
theorem col_at (q : ℕ) (hq : q + 256 ≤ 1024) (h h' h'') (r : Fin 512) (j : Fin 256) : (colPiece B y1 y2 q h h' h'').2 (ix2 r j) = ((prod A W r.val (q + j.val) : ℝ) : EReal) := by
  have a0 := side_read B ha 0 inb_S2x512x2816_S1x512x2816_0_0_0
  have a1 := side_read B ha 1 inb_S2x512x2816_S1x512x2816_1_0_0
  have b0 := cols_read B hb 0 q hq h
  have b1 := cols_read B hb 1 q hq h'
  show k0_pay1 (k0_pay7 (side B y1 (0 : Fin 2).val _) (cols B y2 (0 : Fin 2).val q h) (side B y1 (1 : Fin 2).val _) (cols B y2 (1 : Fin 2).val q h')) (ix2 r j) = _
  revert a0 a1 b0 b1
  generalize side B y1 (0 : Fin 2).val _ = u0
  generalize side B y1 (1 : Fin 2).val _ = u1
  generalize cols B y2 (0 : Fin 2).val q h = v0
  generalize cols B y2 (1 : Fin 2).val q h' = v1
  intro a0 a1 b0 b1
  unfold k0_pay1 k0_pay7
  pointwise [a0 _ _, a1 _ _, b0 _ _, b1 _ _]
  simp only [← EReal.coe_mul, ← real_sum, ← EReal.coe_add]
  rfl

include ha hb in
theorem prod_value (hc : ∀ y, ∃ p ∈ colPieces (F := Ideal) B y1 y2, y ∈ p.1.set) : Rows (prod A W) (View.canon (colPieces B y1 y2)) := fun r j => by
  refine (congrFun (congrArg View.canon (List.append_nil _).symm) _).trans ((View.canon_append_of_pieces (fun i => ((prod A W (i 0).val (i 1).val : ℝ) : EReal)) [] _ ?_ _ (hc _)).trans rfl)
  intro p hp x
  have key (q : ℕ) (hq : q + 256 ≤ 1024) (h h' h'') (x : S512x256.Idx) : (colPiece B y1 y2 q h h' h'').2 x
      = ((prod A W ((colPiece B y1 y2 q h h' h'').1.emb x 0).val ((colPiece B y1 y2 q h h' h'').1.emb x 1).val : ℝ) : EReal) := by
    idx_vars x
    have e0 : ((colPiece B y1 y2 q h h' h'').1.emb (ix2 x0 x1) 0).val = x0.val := (congrArg (0 + ·) (one_mul _)).trans (zero_add _)
    have e1 : ((colPiece B y1 y2 q h h' h'').1.emb (ix2 x0 x1) 1).val = q + x1.val := congrArg (q + ·) (one_mul _)
    rw [e0, e1]
    exact col_at B ha hb q hq _ _ _ _ _
  simp only [colPieces, List.mem_cons, List.mem_nil_iff, or_false] at hp
  rcases hp with rfl | rfl | rfl | rfl
  all_goals exact key _ (by omega) _ _ _ x
end Product

/-- A sum after a turn: the tile's rows, added to what was there unless the sum begins. -/
theorem sum_value {S : Shape} {w : Memref sig .tc .vmem S .f32} (hw : w.IsWhole) {y : Vec Ideal S .f32} {off : Fin S.rank → ℕ} (h : ∀ a, off a + S.size a ≤ S.size a) (z : off = fun _ => 0)
    {z0 : S.Idx → EReal} {add : ∀ n : ℕ, Fits n → (S.Idx → EReal) → (S.Idx → EReal)} (f : ℕ → ℝ) (i : S.Idx)
    (hadd : ∀ n h z, add n h z i = z i + ((∑ r : Fin 64, f (n + r.val) : ℝ) : EReal)) (hz : z0 i = ((∑ r : Fin 64, f (0 + r.val) : ℝ) : EReal)) {b : Bool} {u : ℝ}
    (hu : (b = true ∧ u = 0) ∨ (b = false ∧ y i = ((u : ℝ) : EReal))) :
    View.canon (sumOf (F := Ideal) w hw y off h b z0 add) i = ((u + ∑ r : Fin 512, f r.val : ℝ) : EReal) := by
  unfold sumOf
  rw [canon_chain _ _ _ z]
  refine eight_sum add f i hadd _ u ?_
  rcases hu with ⟨rfl, rfl⟩ | ⟨rfl, hu⟩
  · rw [zero_add]; exact hz
  · rw [EReal.coe_add, ← hu]
    exact (hadd _ _ _).trans (congrArg (· + _) (congrFun (read_whole hw y h fun a => congrFun z a) _))

section Values
variable {ρ : ℕ → Row} (T : Tile ρ y3 y4 y5 y6 y7 y8 y16)
include T

theorem dx_rows (n h) : Rows (fun r => (ρ (n + r)).dx) (dx B y3 y4 y6 y8 y16 n h) := dx_at (T.block B n h)

theorem out_value (hc : ∀ y, ∃ p ∈ eight (outPiece (F := Ideal) B y3 y4 y6 y8 y16), y ∈ p.1.set) : Rows (fun r => (ρ r).dx) (View.canon (eight (outPiece B y3 y4 y6 y8 y16))) := fun r j =>
  Kernel5Ideal.Post.eight_rows (e := .f32) _ id (fun r => (ρ r).dx) (fun n h => ⟨_, rfl, fun r j => dx_rows B T n h r j⟩) hc r j

theorem mix_value (hc : ∀ y, ∃ p ∈ eight (mixPiece (F := Ideal) B y3 y4 y5 y6 y7 y8 y16), y ∈ p.1.set) (r : Fin 512) (j : Fin 1024) :
    View.canon (eight (mixPiece (F := Ideal) B y3 y4 y5 y6 y7 y8 y16)) (ix2 r j) = (((ρ r.val).dk j.val : ℝ) : EReal) :=
  Kernel5Ideal.Post.eight_rows (e := .bf16) _ id (fun r => (ρ r).dk) (fun n h => ⟨_, rfl, fun r j => dk_at (T.block B n h) (dx_rows B T n h) r j⟩) hc r j

variable (k : Kind) (u : ℝ) (j : Fin 1024)

theorem shift_value (hu : (opening k = true ∧ u = 0) ∨ (opening k = false ∧ y11 (ix3 0 0 j) = ((u : ℝ) : EReal))) :
    View.canon (shiftList (F := Ideal) B y11 y16 k) (ix3 0 0 j) = ((u + ∑ r : Fin 512, (ρ r.val).h j.val : ℝ) : EReal) :=
  sum_value B.h11 _ zeros3 (fun r => (ρ r).h j.val) _ (fun n h z => (shift_next _ z j).trans (congrArg _ (shift_at (T.block B n h) j)))
    ((shift_first _ j).trans (shift_at (T.block B 0 fits0) j)) hu

theorem scale_value (hu : (opening k = true ∧ u = 0) ∨ (opening k = false ∧ y12 (ix3 0 0 j) = ((u : ℝ) : EReal))) :
    View.canon (scaleList (F := Ideal) B y4 y6 y12 y16 k) (ix3 0 0 j) = ((u + ∑ r : Fin 512, (ρ r.val).toScale j.val : ℝ) : EReal) :=
  sum_value B.h12 _ zeros3 (fun r => (ρ r).toScale j.val) _ (fun n h z => (scale_next _ _ z j).trans (congrArg _ (scale_at (T.block B n h) j)))
    ((scale_first _ _ j).trans (scale_at (T.block B 0 fits0) j)) hu

theorem gate_value (hu : (opening k = true ∧ u = 0) ∨ (opening k = false ∧ y13 (ix3 0 0 j) = ((u : ℝ) : EReal))) :
    View.canon (gateList (F := Ideal) B y3 y4 y5 y6 y7 y8 y13 y16 k) (ix3 0 0 j) = ((u + ∑ r : Fin 512, (ρ r.val).toGate j.val : ℝ) : EReal) :=
  sum_value B.h13 _ zeros3 (fun r => (ρ r).toGate j.val) _ (fun n h z => (gate_next _ _ _ z j).trans (congrArg _ (gate_at (T.block B n h) (dx_rows B T n h) j)))
    ((gate_first _ _ _ j).trans (gate_at (T.block B 0 fits0) (dx_rows B T 0 fits0) j)) hu

theorem pre_value (hu : (begins k = true ∧ u = 0) ∨ (begins k = false ∧ y14 (ix2 0 j) = ((u : ℝ) : EReal))) :
    View.canon (preList (F := Ideal) B y4 y8 y14 y16 k) (ix2 0 j) = ((u + ∑ r : Fin 512, (ρ r.val).toPre j.val : ℝ) : EReal) :=
  sum_value B.h14 _ zeros2 (fun r => (ρ r).toPre j.val) _ (fun n h z => (pre_next _ _ _ z j).trans (congrArg _ (pre_at (T.block B n h) j)))
    (pre_at (T.block B 0 fits0) j) hu

theorem post_value (hu : (begins k = true ∧ u = 0) ∨ (begins k = false ∧ y15 (ix2 0 j) = ((u : ℝ) : EReal))) :
    View.canon (postList (F := Ideal) B y3 y4 y5 y6 y8 y15 y16 k) (ix2 0 j) = ((u + ∑ r : Fin 512, (ρ r.val).toPost j.val : ℝ) : EReal) :=
  sum_value B.h15 _ zeros2 (fun r => (ρ r).toPost j.val) _ (fun n h z => (post_next _ _ _ z j).trans (congrArg _ (post_at (T.block B n h) (dx_rows B T n h) j)))
    (post_at (T.block B 0 fits0) (dx_rows B T 0 fits0) j) hu

end Values

end Cert.Kernel6Ideal.Mid
-- ==== Proof.MidVal.lean ====
module

public import proofs.«01_k».proof.Proof.MidRun
public import proofs.«01_k».proof.Proof.MidSum
public import proofs.«01_k».proof.Proof.PreVal

@[expose] public section

set_option maxRecDepth 16384

noncomputable section

namespace Cert.Kernel6Ideal.Mid

open Idealize.ShloMosaic Idealize.ShloMosaic.TcCoe Idealize.ShloMosaic.Tactic Idealize.ShloMosaic.Pipeline
open Cert.Kernel6Ideal.Gen
open Cert.Kernel4Ideal.Pre (Rows tile seqSum next_sum first_sum)

/-! # Every point's blocks, what it leaves, and the arrays at the end -/

theorem idx0 : ∀ t : Fin cfg0.N, (t.val < 8 → win0_0.index t = ![0, t.val, 0]) ∧ win0_1.index t = ![0, 0, 0] ∧ win0_2.index t = ![t.val - 1, 0] ∧ win0_3.index t = ![t.val - 1, 0]
    ∧ win0_4.index t = ![t.val - 1, 0] ∧ win0_5.index t = ![0, 0] ∧ win0_6.index t = ![0, 0] ∧ win0_7.index t = ![(t.val - 1) / 4, 0, 0] ∧ t.val < 9 :=
  (by decide +kernel : ∀ t : Fin grid0.N, _)

theorem idx_out : ∀ t : Fin cfg0.N, (1 ≤ t.val → win0_8.index t = ![t.val - 1, 0] ∧ win0_9.index t = ![t.val - 1, 0] ∧ win0_10.index t = ![(t.val - 1) / 4, 0, 0]
      ∧ win0_11.index t = ![(t.val - 1) / 4, 0, 0] ∧ win0_12.index t = ![(t.val - 1) / 4, 0, 0])
    ∧ ((cfg0.win 8).flush t = true → 1 ≤ t.val) ∧ ((cfg0.win 9).flush t = true → 1 ≤ t.val) ∧ ((cfg0.win 10).flush t = true → 1 ≤ t.val ∧ (t.val - 1) % 4 = 3)
    ∧ ((cfg0.win 11).flush t = true → 1 ≤ t.val ∧ (t.val - 1) % 4 = 3) ∧ ((cfg0.win 12).flush t = true → 1 ≤ t.val ∧ (t.val - 1) % 4 = 3) :=
  (by decide +kernel : ∀ t : Fin grid0.N, (1 ≤ t.val → win0_8.index t = ![t.val - 1, 0] ∧ win0_9.index t = ![t.val - 1, 0] ∧ win0_10.index t = ![(t.val - 1) / 4, 0, 0]
      ∧ win0_11.index t = ![(t.val - 1) / 4, 0, 0] ∧ win0_12.index t = ![(t.val - 1) / 4, 0, 0])
    ∧ ((cfg0.win 8).flush t = true → 1 ≤ t.val) ∧ ((cfg0.win 9).flush t = true → 1 ≤ t.val) ∧ ((cfg0.win 10).flush t = true → 1 ≤ t.val ∧ (t.val - 1) % 4 = 3)
    ∧ ((cfg0.win 11).flush t = true → 1 ≤ t.val ∧ (t.val - 1) % 4 = 3) ∧ ((cfg0.win 12).flush t = true → 1 ≤ t.val ∧ (t.val - 1) % 4 = 3))

variable (m : (ℓ : Loc nD τ sig) → Buf (Elt Ideal) ℓ) (c : Dev nD)

/-- The arrays the kernel reads, as real numbers. -/
structure Reads (T : Data) : Prop where
  a : ∀ (p : Fin 2) (r : Fin 4096) (k : Fin 2816), (V m c main_arg0 : Vec Ideal S2x4096x2816 .bf16) (ix3 p r k) = ((T.A p.val r.val k.val : ℝ) : EReal)
  w : ∀ (p : Fin 2) (k : Fin 2816) (j : Fin 1024), (V m c main_v7 : Vec Ideal S2x2816x1024 .bf16) (ix3 p k j) = ((T.W p.val k.val j.val : ℝ) : EReal)
  d : Rows T.D (V m c main_arg3 : Vec Ideal S4096x1024 .f32)
  x : Rows T.mid (V m c main_v32 : Vec Ideal S4096x1024 .f32)
  k : Rows T.mix (V m c main_v33 : Vec Ideal S4096x1024 .f32)
  g : ∀ j : Fin 1024, (V m c main_arg7 : Vec Ideal S1x1024 .f32) (ix2 0 j) = ((T.g j.val : ℝ) : EReal)
  q : ∀ j : Fin 1024, (V m c main_arg8 : Vec Ideal S1x1024 .f32) (ix2 0 j) = ((T.q j.val : ℝ) : EReal)
  s : ∀ (n : Fin 2) (i : Fin 6) (j : Fin 1024), (V m c main_arg9 : Vec Ideal S2x6x1024 .f32) (ix3 n i j) = ((T.S n.val i.val j.val : ℝ) : EReal)

variable {m c} {T : Data} (R : Reads m c T)

section Blocks
include R
theorem blk_a (t : Fin cfg0.N) (h : t.val < 8) (p : Fin 2) (r : Fin 512) (k : Fin 2816) : iblk m c 0 t (ix3 p r k) = ((T.A p.val (512 * t.val + r.val) k.val : ℝ) : EReal) := by
  refine Eq.trans ?_ (R.a p ⟨512 * t.val + r.val, by omega⟩ k)
  have e := (idx0 t).1 h
  blk_simp [iblk]
  blk_ext [e]
theorem blk_w (t : Fin cfg0.N) (p : Fin 2) (k : Fin 2816) (j : Fin 1024) : iblk m c 1 t (ix3 p k j) = ((T.W p.val k.val j.val : ℝ) : EReal) := by
  refine Eq.trans ?_ (R.w p k j)
  blk_simp [iblk]
  blk_ext [idx0 t]

set_option maxHeartbeats 2000000 in
/-- The blocks of a turn, and the product kept from the point before, are the rows of tile `t - 1`. -/
theorem blks (t : Fin cfg0.N) {y16 : Vec Ideal S512x1024 .f32} (hd : Rows (tile (prod T.A T.W) (t.val - 1)) y16) :
    Tile (fun r => T.row (512 * (t.val - 1) + r)) (iblk m c 2 t) (iblk m c 3 t) (iblk m c 4 t) (iblk m c 5 t) (iblk m c 6 t) (iblk m c 7 t) y16 := by
  have ht : t.val < 9 := (idx0 t).2.2.2.2.2.2.2.2
  have hr : ∀ r : Fin 512, (512 * (t.val - 1) + r.val) / 2048 = (t.val - 1) / 4 := fun r => by omega
  have hs (i : Fin 6) (r : Fin 512) (j : Fin 1024) : iblk m c 7 t (ix3 0 i j) = ((T.S ((512 * (t.val - 1) + r.val) / 2048) i.val j.val : ℝ) : EReal) := by
    rw [hr r]
    refine Eq.trans ?_ (R.s ⟨(t.val - 1) / 4, by omega⟩ i j)
    blk_simp [iblk]
    blk_ext [idx0 t]
  refine ⟨hd, fun r j => ?_, fun r j => ?_, fun r j => ?_, fun r j => ?_, fun r j => ?_, hs 4, hs 2⟩
  · refine Eq.trans ?_ (R.x ⟨512 * (t.val - 1) + r.val, by omega⟩ j)
    blk_simp [iblk]
    blk_ext [idx0 t]
  · refine Eq.trans ?_ (R.d ⟨512 * (t.val - 1) + r.val, by omega⟩ j)
    blk_simp [iblk]
    blk_ext [idx0 t]
  · refine Eq.trans ?_ (R.k ⟨512 * (t.val - 1) + r.val, by omega⟩ j)
    blk_simp [iblk]
    blk_ext [idx0 t]
  · refine Eq.trans ?_ (R.g j)
    blk_simp [iblk]
    blk_ext [idx0 t]
  · refine Eq.trans ?_ (R.q j)
    blk_simp [iblk]
    blk_ext [idx0 t]
end Blocks

/-! ## The sums, tile by tile -/

/-- A tile's part of a sum, the sum of a sequence so far, and the sum of all tiles so far. -/
def part (T : Data) (f : Row → ℕ → ℝ) (n j : ℕ) : ℝ := ∑ r : Fin 512, f (T.row (512 * n + r.val)) j
def seqPart (T : Data) (f : Row → ℕ → ℝ) (n j : ℕ) : ℝ := ∑ i ∈ Finset.range (n % 4 + 1), part T f (4 * (n / 4) + i) j
def allPart (T : Data) (f : Row → ℕ → ℝ) (n j : ℕ) : ℝ := ∑ i ∈ Finset.range (n + 1), part T f i j

theorem kind_at : ∀ n, n < 9 → n ≠ 0 → (begins (kind n) = true ↔ n = 1) ∧ (opening (kind n) = true ↔ (n - 1) % 4 = 0) ∧ (kind n = .last ↔ n = 8) := by
  decide

theorem seq_step (f : Row → ℕ → ℝ) (n j : ℕ) (hn : n < 9) (h0 : n ≠ 0) (z : EReal) (hz : 2 ≤ n → z = ((seqPart T f (n - 1 - 1) j : ℝ) : EReal)) :
    ∃ u : ℝ, ((opening (kind n) = true ∧ u = 0) ∨ (opening (kind n) = false ∧ z = ((u : ℝ) : EReal))) ∧ u + part T f (n - 1) j = seqPart T f (n - 1) j := by
  have e := (kind_at n hn h0).2.1
  by_cases h : (n - 1) % 4 = 0
  · exact ⟨0, .inl ⟨e.mpr h, rfl⟩, (zero_add _).trans (first_sum (fun n => part T f n j) _ h).symm⟩
  · exact ⟨_, .inr ⟨Bool.eq_false_iff.mpr fun h' => h (e.mp h'), hz (by omega)⟩, (next_sum (fun n => part T f n j) _ h).symm⟩
theorem all_step (f : Row → ℕ → ℝ) (n j : ℕ) (hn : n < 9) (h0 : n ≠ 0) (z : EReal) (hz : 2 ≤ n → z = ((allPart T f (n - 1 - 1) j : ℝ) : EReal)) :
    ∃ u : ℝ, ((begins (kind n) = true ∧ u = 0) ∨ (begins (kind n) = false ∧ z = ((u : ℝ) : EReal))) ∧ u + part T f (n - 1) j = allPart T f (n - 1) j := by
  have e := (kind_at n hn h0).1
  by_cases h : n = 1
  · subst h
    exact ⟨0, .inl ⟨rfl, rfl⟩, (zero_add _).trans (Finset.sum_range_one (fun i => part T f i j)).symm⟩
  · refine ⟨_, .inr ⟨Bool.eq_false_iff.mpr fun h' => h (e.mp h'), hz (by omega)⟩, ?_⟩
    unfold allPart
    rw [Finset.sum_range_succ _ (n - 1), show n - 1 - 1 + 1 = n - 1 by omega]

/-- What is kept once tile `n` is finished. -/
structure Done (T : Data) (n : ℕ) (K : Kept Ideal) : Prop where
  out : Rows (tile (fun r => (T.row r).dx) n) K.s9
  mix : ∀ (r : Fin 512) (j : Fin 1024), K.s10 (ix2 r j) = ((tile (fun r => (T.row r).dk) n r.val j.val : ℝ) : EReal)
  shift : ∀ j : Fin 1024, K.s11 (ix3 0 0 j) = ((seqPart T Row.h n j.val : ℝ) : EReal)
  scale : ∀ j : Fin 1024, K.s12 (ix3 0 0 j) = ((seqPart T Row.toScale n j.val : ℝ) : EReal)
  gate : ∀ j : Fin 1024, K.s13 (ix3 0 0 j) = ((seqPart T Row.toGate n j.val : ℝ) : EReal)
  pre : ∀ j : Fin 1024, K.s14 (ix2 0 j) = ((allPart T Row.toPre n j.val : ℝ) : EReal)
  post : ∀ j : Fin 1024, K.s15 (ix2 0 j) = ((allPart T Row.toPost n j.val : ℝ) : EReal)

include R in
theorem prod_done (t : Fin cfg0.N) (h : t.val < 8) {L : List (View.Piece (Elt Ideal) S512x1024 .f32)} (e : L = colPieces (bufs t) (iblk m c 0 t) (iblk m c 1 t))
    (hc : ∀ y, ∃ p ∈ L, y ∈ p.1.set) : Rows (tile (prod T.A T.W) t.val) (View.canon L) := by
  subst e
  exact prod_value (A := fun p r k => T.A p (512 * t.val + r) k) (bufs t) (fun p r k => blk_a R t h p r k) (blk_w R t) hc

include R in
theorem head_kept (t : Fin cfg0.N) (h : t.val = 0) : Rows (tile (prod T.A T.W) t.val) (kept m c t.val).s16 := by
  have hk : (kept m c t.val).s16 = View.canon (headAt c t (iblk m c 0 t) (iblk m c 1 t) h).1 := by
    obtain ⟨n, hn⟩ := t
    obtain rfl : n = 0 := h
    show (stepAt m c t0_0 _).s16 = _
    unfold stepAt step; rw [dif_pos (show (t0_0 : Fin cfg0.N).val = 0 from rfl)]; rfl
  rw [hk]
  exact prod_done R t (by omega) (head_lists c (i := grid0.coords t) (bufs t) (iblk m c 0 t) (iblk m c 1 t) (head_conds t h).1 (head_conds t h).2.1 (head_conds t h).2.2)
    (head_cover c t (iblk m c 0 t) (iblk m c 1 t) h)

theorem cols_cover (c : Dev nD) (t : Fin cfg0.N) : ∀ y, ∃ p ∈ colPieces (F := Ideal) (bufs t) (iblk m c 0 t) (iblk m c 1 t), y ∈ p.1.set :=
  View.cover_of_tiledL _ S512x256.size (by sl_kernel_rfl)

theorem carried_next {y : Vec Ideal S512x1024 .f32} {B : Bufs} {y1 y2} (k : Kind) (h : k ≠ .last) : carried y (nextCols (F := Ideal) B y1 y2 k) k = View.canon (colPieces B y1 y2) := by
  cases k <;> first | rfl | exact absurd rfl h

include R in
theorem good_step (t : Fin cfg0.N) (h0 : t.val ≠ 0) (hd : Rows (tile (prod T.A T.W) (t.val - 1)) (kept m c (t.val - 1)).s16) (hD : 2 ≤ t.val → Done T (t.val - 1 - 1) (kept m c (t.val - 1))) :
    (t.val < 8 → Rows (tile (prod T.A T.W) t.val) (kept m c t.val).s16) ∧ Done T (t.val - 1) (kept m c t.val) := by
  have ht : t.val < 9 := (idx0 t).2.2.2.2.2.2.2.2
  have b := blks R t hd
  obtain ⟨l9, l10, l11, l12, l13, l14, l15, l16⟩ := turn_lists c (bufs t) (iblk m c 0 t) (iblk m c 1 t) (iblk m c 2 t) (iblk m c 3 t) (iblk m c 4 t) (iblk m c 5 t) (iblk m c 6 t) (iblk m c 7 t)
    (kept m c (t.val - 1)).s11 (kept m c (t.val - 1)).s12 (kept m c (t.val - 1)).s13 (kept m c (t.val - 1)).s14 (kept m c (t.val - 1)).s15 (kept m c (t.val - 1)).s16 (kind t.val) (conds t h0)
  obtain ⟨c9, c10, -⟩ := turn_cover c t (iblk m c 0 t) (iblk m c 1 t) (iblk m c 2 t) (iblk m c 3 t) (iblk m c 4 t) (iblk m c 5 t) (iblk m c 6 t) (iblk m c 7 t) (kept m c (t.val - 1)) _ (conds t h0)
  rw [kept_turn m c t h0]
  refine ⟨fun h8 => ?_, fun r j => ?_, fun r j => ?_, fun j => ?_, fun j => ?_, fun j => ?_, fun j => ?_, fun j => ?_⟩
  · have e : (left c t (iblk m c 0 t) (iblk m c 1 t) (iblk m c 2 t) (iblk m c 3 t) (iblk m c 4 t) (iblk m c 5 t) (iblk m c 6 t) (iblk m c 7 t) (kept m c (t.val - 1)) (kind t.val) (conds t h0)).s16
        = View.canon (colPieces (bufs t) (iblk m c 0 t) (iblk m c 1 t)) :=
      (congrArg (fun L => carried (kept m c (t.val - 1)).s16 L (kind t.val)) l16).trans (carried_next _ fun h => absurd ((kind_at t.val ht h0).2.2.mp h) (by omega))
    rw [e]
    exact prod_done R t h8 rfl (cols_cover c t)
  · exact (congrFun (congrArg View.canon l9) _).trans (out_value (bufs t) b (l9 ▸ c9) r j)
  · exact (congrFun (congrArg View.canon l10) _).trans (mix_value (bufs t) b (l10 ▸ c10) r j)
  · obtain ⟨u, hu, e⟩ := seq_step Row.h t.val j.val ht h0 _ fun h => (hD h).shift j
    exact (congrFun (congrArg View.canon l11) _).trans ((shift_value (bufs t) b _ u j hu).trans (congrArg Real.toEReal e))
  · obtain ⟨u, hu, e⟩ := seq_step Row.toScale t.val j.val ht h0 _ fun h => (hD h).scale j
    exact (congrFun (congrArg View.canon l12) _).trans ((scale_value (bufs t) b _ u j hu).trans (congrArg Real.toEReal e))
  · obtain ⟨u, hu, e⟩ := seq_step Row.toGate t.val j.val ht h0 _ fun h => (hD h).gate j
    exact (congrFun (congrArg View.canon l13) _).trans ((gate_value (bufs t) b _ u j hu).trans (congrArg Real.toEReal e))
  · obtain ⟨u, hu, e⟩ := all_step Row.toPre t.val j.val ht h0 _ fun h => (hD h).pre j
    exact (congrFun (congrArg View.canon l14) _).trans ((pre_value (bufs t) b _ u j hu).trans (congrArg Real.toEReal e))
  · obtain ⟨u, hu, e⟩ := all_step Row.toPost t.val j.val ht h0 _ fun h => (hD h).post j
    exact (congrFun (congrArg View.canon l15) _).trans ((post_value (bufs t) b _ u j hu).trans (congrArg Real.toEReal e))

include R in
theorem good : ∀ n, n < 9 → (n < 8 → Rows (tile (prod T.A T.W) n) (kept m c n).s16) ∧ (1 ≤ n → Done T (n - 1) (kept m c n)) := by
  intro n
  induction n with
  | zero => exact fun h => ⟨fun _ => head_kept R ⟨0, lt_of_lt_of_eq h (show 9 = cfg0.N from N_0.symm)⟩ rfl, fun h => absurd h (by omega)⟩
  | succ n ih =>
    intro hn
    obtain ⟨hd, hD⟩ := ih (by omega)
    have g := good_step R ⟨n + 1, lt_of_lt_of_eq hn (show 9 = cfg0.N from N_0.symm)⟩ (Nat.succ_ne_zero n) (hd (by omega)) (fun h => hD (by simp at h; omega))
    exact ⟨g.1, fun _ => g.2⟩

include R in
theorem done (t : Fin cfg0.N) (h : 1 ≤ t.val) : Done T (t.val - 1) (kept m c t.val) :=
  (good R t.val (idx0 t).2.2.2.2.2.2.2.2).2 h

/-! ## The arrays -/

theorem last_lt : (8 : ℕ) < cfg0.N := lt_of_lt_of_eq (by decide) (show 9 = cfg0.N from N_0.symm)
/-- The last point. -/
abbrev lastPt : Fin cfg0.N := ⟨8, last_lt⟩

section Arrays
include R

theorem pre_array (j : Fin 1024) : ((dats m 0 c).arrAt 13 cfg0.N : FVec Ideal S1x1024 .f32) (ix2 0 j) = ((allPart T Row.toPre 7 j.val : ℝ) : EReal) := by
  refine Eq.trans (congrFun (g := (kept m c 8).s14) ?_ _) ((done R lastPt (show 1 ≤ 8 by decide)).pre j)
  refine (dats m 0 c).arrAt_eq_of_after_last 13 lastPt (by decide +kernel) _ fun j => ?_
  blk_simp
  rw [(after_out m c _).2.2.2.2.2.1]

theorem post_array (j : Fin 1024) : ((dats m 0 c).arrAt 14 cfg0.N : FVec Ideal S1x1024 .f32) (ix2 0 j) = ((allPart T Row.toPost 7 j.val : ℝ) : EReal) := by
  refine Eq.trans (congrFun (g := (kept m c 8).s15) ?_ _) ((done R lastPt (show 1 ≤ 8 by decide)).post j)
  refine (dats m 0 c).arrAt_eq_of_after_last 14 lastPt (by decide +kernel) _ fun j => ?_
  blk_simp
  rw [(after_out m c _).2.2.2.2.2.2]

theorem out_array : Rows (fun r => (T.row r).dx) ((dats m 0 c).arrAt 8 cfg0.N : FVec Ideal S4096x1024 .f32) := by
  have h : ((dats m 0 c).arrAt 8 cfg0.N : FVec Ideal S4096x1024 .f32) = fun i : S4096x1024.Idx => (((T.row (i 0).val).dx (i 1).val : ℝ) : EReal) := by
    refine (dats m 0 c).arrAt_eq_of_covers 8 _ (by decide +kernel) fun t hf y => ?_
    have h1 := (idx_out t).2.1 hf
    blk_simp
    rw [(after_out m c t).1]
    idx_vars y
    refine ((done R t h1).out _ _).trans (congrArg _ (Eq.symm ?_))
    rw [((idx_out t).1 h1).1]
    show (T.row ((t.val - 1) * 512 + y0.val)).dx (0 * 1024 + y1.val) = (T.row (512 * (t.val - 1) + y0.val)).dx y1.val
    rw [Nat.zero_mul, Nat.zero_add, Nat.mul_comm]
  exact fun i j => congrFun h (ix2 i j)

theorem mix_array (i : Fin 4096) (j : Fin 1024) : ((dats m 0 c).arrAt 9 cfg0.N : FVec Ideal S4096x1024 .bf16) (ix2 i j) = (((T.row i.val).dk j.val : ℝ) : EReal) := by
  have h : ((dats m 0 c).arrAt 9 cfg0.N : FVec Ideal S4096x1024 .bf16) = fun i : S4096x1024.Idx => (((T.row (i 0).val).dk (i 1).val : ℝ) : EReal) := by
    refine (dats m 0 c).arrAt_eq_of_covers 9 _ (by decide +kernel) fun t hf y => ?_
    have h1 := (idx_out t).2.2.1 hf
    blk_simp
    rw [(after_out m c t).2.1]
    idx_vars y
    refine ((done R t h1).mix _ _).trans (congrArg _ (Eq.symm ?_))
    rw [((idx_out t).1 h1).2.1]
    show (T.row ((t.val - 1) * 512 + y0.val)).dk (0 * 1024 + y1.val) = (T.row (512 * (t.val - 1) + y0.val)).dk y1.val
    rw [Nat.zero_mul, Nat.zero_add, Nat.mul_comm]
  exact congrFun h (ix2 i j)

omit R in
theorem seq_end (f : Row → ℕ → ℝ) (n j : ℕ) (h : n % 4 = 3) : seqPart T f n j = seqSum (part T f) (n / 4) (0 * 1024 + j) := by
  unfold seqPart
  rw [h, Nat.zero_mul, Nat.zero_add]; rfl

theorem shift_array (s : Fin 2) (j : Fin 1024) : ((dats m 0 c).arrAt 10 cfg0.N : FVec Ideal S2x1x1024 .f32) (ix3 s 0 j) = ((seqSum (part T Row.h) s.val j.val : ℝ) : EReal) := by
  have h : ((dats m 0 c).arrAt 10 cfg0.N : FVec Ideal S2x1x1024 .f32) = fun i : S2x1x1024.Idx => ((seqSum (part T Row.h) (i 0).val (i 2).val : ℝ) : EReal) := by
    refine (dats m 0 c).arrAt_eq_of_covers 10 _ (by decide +kernel) fun t hf y => ?_
    obtain ⟨h1, h2⟩ := (idx_out t).2.2.2.1 hf
    blk_simp
    rw [(after_out m c t).2.2.1]
    idx_vars y
    obtain rfl : y0 = 0 := Subsingleton.elim _ _
    obtain rfl : y1 = 0 := Subsingleton.elim _ _
    refine ((done R t h1).shift _).trans ((congrArg _ (seq_end Row.h _ _ h2)).trans ?_)
    rw [((idx_out t).1 h1).2.2.1]
    rfl
  exact congrFun h (ix3 s 0 j)

theorem scale_array (s : Fin 2) (j : Fin 1024) : ((dats m 0 c).arrAt 11 cfg0.N : FVec Ideal S2x1x1024 .f32) (ix3 s 0 j) = ((seqSum (part T Row.toScale) s.val j.val : ℝ) : EReal) := by
  have h : ((dats m 0 c).arrAt 11 cfg0.N : FVec Ideal S2x1x1024 .f32) = fun i : S2x1x1024.Idx => ((seqSum (part T Row.toScale) (i 0).val (i 2).val : ℝ) : EReal) := by
    refine (dats m 0 c).arrAt_eq_of_covers 11 _ (by decide +kernel) fun t hf y => ?_
    obtain ⟨h1, h2⟩ := (idx_out t).2.2.2.2.1 hf
    blk_simp
    rw [(after_out m c t).2.2.2.1]
    idx_vars y
    obtain rfl : y0 = 0 := Subsingleton.elim _ _
    obtain rfl : y1 = 0 := Subsingleton.elim _ _
    refine ((done R t h1).scale _).trans ((congrArg _ (seq_end Row.toScale _ _ h2)).trans ?_)
    rw [((idx_out t).1 h1).2.2.2.1]
    rfl
  exact congrFun h (ix3 s 0 j)

theorem gate_array (s : Fin 2) (j : Fin 1024) : ((dats m 0 c).arrAt 12 cfg0.N : FVec Ideal S2x1x1024 .f32) (ix3 s 0 j) = ((seqSum (part T Row.toGate) s.val j.val : ℝ) : EReal) := by
  have h : ((dats m 0 c).arrAt 12 cfg0.N : FVec Ideal S2x1x1024 .f32) = fun i : S2x1x1024.Idx => ((seqSum (part T Row.toGate) (i 0).val (i 2).val : ℝ) : EReal) := by
    refine (dats m 0 c).arrAt_eq_of_covers 12 _ (by decide +kernel) fun t hf y => ?_
    obtain ⟨h1, h2⟩ := (idx_out t).2.2.2.2.2 hf
    blk_simp
    rw [(after_out m c t).2.2.2.2.1]
    idx_vars y
    obtain rfl : y0 = 0 := Subsingleton.elim _ _
    obtain rfl : y1 = 0 := Subsingleton.elim _ _
    refine ((done R t h1).gate _).trans ((congrArg _ (seq_end Row.toGate _ _ h2)).trans ?_)
    rw [((idx_out t).1 h1).2.2.2.2]
    rfl
  exact congrFun h (ix3 s 0 j)

end Arrays

end Cert.Kernel6Ideal.Mid
end
-- ==== Proof.MidRef.lean ====
module

public import proofs.«01_k».proof.Proof.MidRow
public import proofs.«01_k».proof.Proof.PostRef
public import proofs.«01_k».proof.Proof.Gen.Reference6Ideal.Run

@[expose] public section

set_option maxRecDepth 16384

noncomputable section

open Idealize.ShloMosaic Idealize.ShloMosaic.TcCoe Idealize.ShloMosaic.Tactic

namespace Cert.Mid

open Cert.Reference6Ideal Cert.Reference6Ideal.Gen
open Cert.Kernel4Ideal.Pre (inv real_sum one_bits Rows)
open Cert.Kernel6Ideal.Mid (Row normBack prod Data)
open Cert.Pool (Holds3)
open Cert.Pre (seqRows Col seq_ref meanSq meanSq_at mul_holds add_holds root_at rootBack rootBack_at lanes_holds mod_holds colSum colSum_at allSum allSum_at meanBack meanBack_at seqs gains gains_at rows_of_seq unitRef)
open Cert.Post (downRef downRef_at down_eq seq_of)

/-! # The reference's two norms and their gradients, over the reals -/

/-- The stages hold the rows `ρ`: the gradient of the modulated rows, the rows the norms took, the gradient that passes by, the gains, one and the scale, the gate. -/
structure Stages (ρ : ℕ → Row) (h x d k g q s e : FVec Ideal S2x2048x1024 .f32) : Prop where
  h : Holds3 (seqRows fun r => (ρ r).h) h
  x : Holds3 (seqRows fun r => (ρ r).x) x
  d : Holds3 (seqRows fun r => (ρ r).d) d
  k : Holds3 (seqRows fun r => (ρ r).k) k
  g : Holds3 (seqRows fun r => (ρ r).g) g
  q : Holds3 (seqRows fun r => (ρ r).q) q
  s : Holds3 (seqRows fun r j => 1 + (ρ r).s j) s
  e : Holds3 (seqRows fun r => (ρ r).e) e

/-- The gradient `n` of the rows normed, taken to the rows `x` and added to `d`. -/
def addBack (d n x : FVec Ideal S2x2048x1024 .f32) : FVec Ideal S2x2048x1024 .f32 :=
  addf (addf (addf d (mulf n (broadcastInDim S2x2048x1024 ![0, 1, 2] bcast_S2x2048x1_S2x2048x1024_0_1_2 (Host.rsqrt (meanSq x)))))
    (mulf x (meanBack (mulf x n) (rootBack (Host.rsqrt (meanSq x)) (meanSq x))))) (mulf (meanBack (mulf x n) (rootBack (Host.rsqrt (meanSq x)) (meanSq x))) x)
theorem addBack_at {d n x : FVec Ideal S2x2048x1024 .f32} {D N X : ℕ → ℕ → ℝ} (hd : Holds3 (seqRows D) d) (hn : Holds3 (seqRows N) n) (hx : Holds3 (seqRows X) x) :
    Holds3 (seqRows fun r j => D r j + normBack (X r) (N r) j) (addBack d n x) := fun s t j => by
  have hQ := meanSq_at hx
  have hR := root_at hQ
  have hB := meanBack_at (mul_holds hx hn) (rootBack_at hR hQ)
  refine (add_holds (add_holds (add_holds hd (mul_holds hn (lanes_holds hR))) (mul_holds hx hB)) (mul_holds hB hx) s t j).trans (congrArg Real.toEReal ?_)
  show _ = D (2048 * s.val + t.val) j.val + normBack (X (2048 * s.val + t.val)) (N (2048 * s.val + t.val)) j.val
  unfold normBack
  rw [← down_eq, ← add_assoc, ← add_assoc]
  rfl
theorem unit_holds {x : FVec Ideal S2x2048x1024 .f32} {X : ℕ → ℕ → ℝ} (hx : Holds3 (seqRows X) x) : Holds3 (seqRows fun r j => X r j * inv (X r)) (unitRef x) :=
  mul_holds hx (lanes_holds (root_at (meanSq_at hx)))

section Stages
variable {ρ : ℕ → Row} {h x d k g q s e : FVec Ideal S2x2048x1024 .f32} (T : Stages ρ h x d k g q s e)
include T

theorem dn_holds : Holds3 (seqRows fun r => (ρ r).dn) (mulf h s) := mul_holds T.h T.s
theorem dx_holds : Holds3 (seqRows fun r => (ρ r).dx) (addBack d (mulf (mulf h s) g) x) := addBack_at T.d (mul_holds (dn_holds T) T.g) T.x
theorem de_holds : Holds3 (seqRows fun r => (ρ r).de) (mulf e (addBack d (mulf (mulf h s) g) x)) := fun a t j =>
  (mul_holds T.e (dx_holds T) a t j).trans (congrArg Real.toEReal (mul_comm _ _))

theorem out_ref : Rows (fun r => (ρ r).dx) (shapeCast S4096x1024 (addBack d (mulf (mulf h s) g) x) shapeCasts_S2x2048x1024_S4096x1024 : FVec Ideal S4096x1024 .f32) :=
  rows_of_seq (dx_holds T)
theorem mix_ref (r : Fin 4096) (j : Fin 1024) : downRef k (mulf (mulf e (addBack d (mulf (mulf h s) g) x)) q) (ix2 r j) = (((ρ r.val).dk j.val : ℝ) : EReal) :=
  downRef_at (N := fun r j => (ρ r).de j * (ρ r).q j) T.k (mul_holds (de_holds T) T.q) r j
theorem shift_ref (a : Fin 2) (j : Fin 1024) : colSum h (ix3 a 0 j) = ((∑ t : Fin 2048, (ρ (2048 * a.val + t.val)).h j.val : ℝ) : EReal) := colSum_at T.h a j
theorem scale_ref (a : Fin 2) (j : Fin 1024) : colSum (mulf (mulf (unitRef x) g) h) (ix3 a 0 j) = ((∑ t : Fin 2048, (ρ (2048 * a.val + t.val)).toScale j.val : ℝ) : EReal) :=
  (colSum_at (mul_holds (mul_holds (unit_holds T.x) T.g) T.h) a j).trans (congrArg Real.toEReal (Finset.sum_congr rfl fun t _ => by
    unfold Row.toScale Row.unit seqRows; ring))
theorem gate_ref (a : Fin 2) (j : Fin 1024) : colSum (mulf (addBack d (mulf (mulf h s) g) x) (mulf (unitRef k) q)) (ix3 a 0 j) = ((∑ t : Fin 2048, (ρ (2048 * a.val + t.val)).toGate j.val : ℝ) : EReal) :=
  (colSum_at (mul_holds (dx_holds T) (mul_holds (unit_holds T.k) T.q)) a j).trans (congrArg Real.toEReal (Finset.sum_congr rfl fun t _ => by
    unfold Row.toGate Row.mixUnit seqRows; ring))
theorem pre_ref (j : Fin 1024) : allSum (mulf (unitRef x) (mulf h s)) (ix2 0 j) = ((∑ a : Fin 2, ∑ t : Fin 2048, (ρ (2048 * a.val + t.val)).toPre j.val : ℝ) : EReal) :=
  (allSum_at (mul_holds (unit_holds T.x) (dn_holds T)) j).trans (congrArg Real.toEReal (Finset.sum_congr rfl fun a _ => Finset.sum_congr rfl fun t _ => mul_comm _ _))
theorem post_ref (j : Fin 1024) : allSum (mulf (unitRef k) (mulf e (addBack d (mulf (mulf h s) g) x))) (ix2 0 j) = ((∑ a : Fin 2, ∑ t : Fin 2048, (ρ (2048 * a.val + t.val)).toPost j.val : ℝ) : EReal) :=
  (allSum_at (mul_holds (unit_holds T.k) (de_holds T)) j).trans (congrArg Real.toEReal (Finset.sum_congr rfl fun a _ => Finset.sum_congr rfl fun t _ => mul_comm _ _))

end Stages

/-! # The stages from the arguments -/

section Args
variable {a0 : FVec Ideal S2x4096x2816 .bf16} {a1 a2 : FVec Ideal S1x1024x2816 .f32} {a3 a6 : FVec Ideal S4096x1024 .f32} {a4 : FVec Ideal S2x4096x512 .bf16} {a5 : FVec Ideal S1x1024x1024 .f32}
  {a7 a8 : FVec Ideal S1x1024 .f32} {a9 : FVec Ideal S2x6x1024 .f32}

/-- The arguments are these real numbers. -/
structure Given (a0 : FVec Ideal S2x4096x2816 .bf16) (a1 a2 : FVec Ideal S1x1024x2816 .f32) (a3 : FVec Ideal S4096x1024 .f32) (a4 : FVec Ideal S2x4096x512 .bf16) (a5 : FVec Ideal S1x1024x1024 .f32)
    (a6 : FVec Ideal S4096x1024 .f32) (a7 a8 : FVec Ideal S1x1024 .f32) (a9 : FVec Ideal S2x6x1024 .f32) (T : Data) : Prop where
  a : ∀ (p : Fin 2) (r : Fin 4096) (k : Fin 2816), a0 (ix3 p r k) = ((T.A p.val r.val k.val : ℝ) : EReal)
  w : ∀ (k : Fin 2816) (j : Fin 1024), a1 (ix3 0 j k) = ((T.W 0 k.val j.val : ℝ) : EReal) ∧ a2 (ix3 0 j k) = ((T.W 1 k.val j.val : ℝ) : EReal)
  d : Rows T.D a3
  c : ∀ (p : Fin 2) (r : Fin 4096) (k : Fin 512), a4 (ix3 p r k) = ((T.C p.val r.val k.val : ℝ) : EReal)
  o : ∀ k j : Fin 1024, a5 (ix3 0 k j) = ((T.O k.val j.val : ℝ) : EReal)
  p : Rows T.P a6
  g : ∀ j : Fin 1024, a7 (ix2 0 j) = ((T.g j.val : ℝ) : EReal)
  q : ∀ j : Fin 1024, a8 (ix2 0 j) = ((T.q j.val : ℝ) : EReal)
  s : ∀ (n : Fin 2) (i : Fin 6) (j : Fin 1024), a9 (ix3 n i j) = ((T.S n.val i.val j.val : ℝ) : EReal)

theorem Given.move {b0 b1 b2 b3 b4 b5 b6 b7 b8 b9 T} (h : Given a0 a1 a2 a3 a4 a5 a6 a7 a8 a9 T) (e : b0 = a0 ∧ b1 = a1 ∧ b2 = a2 ∧ b3 = a3 ∧ b4 = a4 ∧ b5 = a5 ∧ b6 = a6 ∧ b7 = a7 ∧ b8 = a8 ∧ b9 = a9) :
    Given b0 b1 b2 b3 b4 b5 b6 b7 b8 b9 T := by
  obtain ⟨rfl, rfl, rfl, rfl, rfl, rfl, rfl, rfl, rfl, rfl⟩ := e
  exact h

/-- The heads' rows times their weights. -/
def mixOf (a4 : FVec Ideal S2x4096x512 .bf16) (a5 : FVec Ideal S1x1024x1024 .f32) : FVec Ideal S2x2048x1024 .f32 :=
  Host.dotGeneral dot_S2x2048x1024_S1024x1024_S2x2048x1024_2_0_01_1_n_n none (shapeCast S2x2048x1024 (transpose S4096x2x512 [1, 0, 2] (extf .f32 a4 bitsLt_bf16_f32) transposes_S2x4096x512_S4096x2x512_1_0_2) shapeCasts_S4096x2x512_S2x2048x1024)
    (shapeCast S1024x1024 a5 shapeCasts_S1x1024x1024_S1024x1024)
theorem heads_at {C : ℕ → ℕ → ℕ → ℝ} (hc : ∀ (p : Fin 2) (r : Fin 4096) (k : Fin 512), a4 (ix3 p r k) = ((C p.val r.val k.val : ℝ) : EReal)) (s : Fin 2) (t : Fin 2048) (k : Fin 1024) :
    (shapeCast S2x2048x1024 (transpose S4096x2x512 [1, 0, 2] (extf .f32 a4 bitsLt_bf16_f32) transposes_S2x4096x512_S4096x2x512_1_0_2) shapeCasts_S4096x2x512_S2x2048x1024 : FVec Ideal S2x2048x1024 .f32) (ix3 s t k)
      = ((C (k.val / 512) (2048 * s.val + t.val) (k.val % 512) : ℝ) : EReal) := by
  pointwise
  refine Eq.trans (congrArg a4 ?_) (hc ⟨k.val / 512, by omega⟩ ⟨2048 * s.val + t.val, by omega⟩ ⟨k.val % 512, by omega⟩)
  funext a
  fin_cases a <;> apply Fin.ext <;> simp <;> omega
theorem mixOf_at {T : Data} (hc : ∀ (p : Fin 2) (r : Fin 4096) (k : Fin 512), a4 (ix3 p r k) = ((T.C p.val r.val k.val : ℝ) : EReal)) (ho : ∀ k j : Fin 1024, a5 (ix3 0 k j) = ((T.O k.val j.val : ℝ) : EReal)) :
    Holds3 (seqRows T.mix) (mixOf a4 a5) := by
  intro s t j
  unfold mixOf
  have hl := heads_at hc
  have hr : ∀ k j : Fin 1024, (shapeCast S1024x1024 a5 shapeCasts_S1x1024x1024_S1024x1024 : FVec Ideal S1024x1024 .f32) (ix2 k j) = ((T.O k.val j.val : ℝ) : EReal) := fun k j => by
    pointwise [ho _ _]
  revert hl hr
  generalize (shapeCast S2x2048x1024 (transpose S4096x2x512 [1, 0, 2] (extf .f32 a4 bitsLt_bf16_f32) transposes_S2x4096x512_S4096x2x512_1_0_2) shapeCasts_S4096x2x512_S2x2048x1024 : FVec Ideal S2x2048x1024 .f32) = l
  generalize (shapeCast S1024x1024 a5 shapeCasts_S1x1024x1024_S1024x1024 : FVec Ideal S1024x1024 .f32) = r
  intro hl hr
  pointwise [hl _ _ _, hr _ _]
  simp only [← EReal.coe_mul]
  exact (real_sum Finset.univ (fun k : Fin 1024 => T.C (k.val / 512) (2048 * s.val + t.val) (k.val % 512) * T.O k.val j.val)).symm

/-- A half of the gradient as sequences, and its product with its weights. -/
def halfOf (n : ℕ) (hn : S2x2x2048x2816.Slices ![n, 0, 0, 0] S1x2x2048x2816) (a0 : FVec Ideal S2x4096x2816 .bf16) : FVec Ideal S2x2048x2816 .f32 :=
  shapeCast S2x2048x2816 (extractStridedSlice S1x2x2048x2816 ![n, 0, 0, 0] (shapeCast S2x2x2048x2816 (extf .f32 a0 bitsLt_bf16_f32 : FVec Ideal S2x4096x2816 .f32) shapeCasts_S2x4096x2816_S2x2x2048x2816) hn) shapeCasts_S1x2x2048x2816_S2x2048x2816
theorem halfOf_at {A : ℕ → ℕ → ℕ → ℝ} (ha : ∀ (p : Fin 2) (r : Fin 4096) (k : Fin 2816), a0 (ix3 p r k) = ((A p.val r.val k.val : ℝ) : EReal)) (p : Fin 2) (hn) (s : Fin 2) (t : Fin 2048) (k : Fin 2816) :
    halfOf p.val hn a0 (ix3 s t k) = ((A p.val (2048 * s.val + t.val) k.val : ℝ) : EReal) := by
  unfold halfOf
  pointwise
  refine Eq.trans (congrArg a0 ?_) (ha p ⟨2048 * s.val + t.val, by omega⟩ k)
  funext a
  fin_cases a <;> apply Fin.ext <;> simp <;> omega
def partOf (x : FVec Ideal S2x2048x2816 .f32) (a : FVec Ideal S1x1024x2816 .f32) : FVec Ideal S2x2048x1024 .f32 :=
  Host.dotGeneral dot_S2x2048x2816_S1024x2816_S2x2048x1024_2_1_01_0_n_n none x (shapeCast S1024x2816 a shapeCasts_S1x1024x2816_S1024x2816)
theorem partOf_at {l : FVec Ideal S2x2048x2816 .f32} {A W : ℕ → ℕ → ℝ} (hl : ∀ (s : Fin 2) (t : Fin 2048) (k : Fin 2816), l (ix3 s t k) = ((A (2048 * s.val + t.val) k.val : ℝ) : EReal))
    (hw : ∀ (k : Fin 2816) (j : Fin 1024), a1 (ix3 0 j k) = ((W k.val j.val : ℝ) : EReal)) : Holds3 (seqRows fun r j => ∑ k : Fin 2816, A r k.val * W k.val j) (partOf l a1) := by
  intro s t j
  unfold partOf
  have hr : ∀ (j : Fin 1024) (k : Fin 2816), (shapeCast S1024x2816 a1 shapeCasts_S1x1024x2816_S1024x2816 : FVec Ideal S1024x2816 .f32) (ix2 j k) = ((W k.val j.val : ℝ) : EReal) := fun j k => by
    pointwise [hw _ _]
  revert hr
  generalize (shapeCast S1024x2816 a1 shapeCasts_S1x1024x2816_S1024x2816 : FVec Ideal S1024x2816 .f32) = r
  intro hr
  pointwise [hl _ _ _, hr _ _]
  simp only [← EReal.coe_mul]
  exact (real_sum Finset.univ (fun k : Fin 2816 => A (2048 * s.val + t.val) k.val * W k.val j.val)).symm

/-- The gradient of the modulated rows. -/
def gradOf (a0 : FVec Ideal S2x4096x2816 .bf16) (a1 a2 : FVec Ideal S1x1024x2816 .f32) : FVec Ideal S2x2048x1024 .f32 :=
  addf (partOf (halfOf 1 slices_S2x2x2048x2816_S1x2x2048x2816_1_0_0_0 a0) a2) (partOf (halfOf 0 slices_S2x2x2048x2816_S1x2x2048x2816_0_0_0_0 a0) a1)
/-- The gate, and one and the scale, on every row of a sequence. -/
def gateOf (a9 : FVec Ideal S2x6x1024 .f32) : FVec Ideal S2x2048x1024 .f32 :=
  broadcastInDim S2x2048x1024 ![0, 1, 2] bcast_S2x1x1024_S2x2048x1024_0_1_2 (extractStridedSlice S2x1x1024 ![0, 2, 0] a9 slices_S2x6x1024_S2x1x1024_0_2_0)
def scaleOf (a9 : FVec Ideal S2x6x1024 .f32) : FVec Ideal S2x2048x1024 .f32 :=
  broadcastInDim S2x2048x1024 ![0, 1, 2] bcast_S2x1x1024_S2x2048x1024_0_1_2 (addf (broadcastInDim S2x1x1024 ![] bcast_S_S2x1x1024 (constant S_ .f32 0x3F800000#32)) (extractStridedSlice S2x1x1024 ![0, 4, 0] a9 slices_S2x6x1024_S2x1x1024_0_4_0))
/-- The rows after the mixing. -/
def midOf (a6 : FVec Ideal S4096x1024 .f32) (k : FVec Ideal S2x2048x1024 .f32) (a8 : FVec Ideal S1x1024 .f32) (a9 : FVec Ideal S2x6x1024 .f32) : FVec Ideal S2x2048x1024 .f32 :=
  addf (seqs a6) (mulf (gateOf a9) (mulf (unitRef k) (gains a8)))

theorem gateOf_at {S : ℕ → ℕ → ℕ → ℝ} (hs : ∀ (n : Fin 2) (i : Fin 6) (j : Fin 1024), a9 (ix3 n i j) = ((S n.val i.val j.val : ℝ) : EReal)) : Holds3 (seqRows fun r => S (r / 2048) 2) (gateOf a9) := fun s t j => by
  refine (mod_holds (U := fun s j => S s 2 j) (fun s j => ?_) s t j).trans ?_
  · pointwise
    exact hs s 2 j
  · show _ = ((S ((2048 * s.val + t.val) / 2048) 2 j.val : ℝ) : EReal)
    rw [seq_of]
theorem midOf_at {T : Data} {k : FVec Ideal S2x2048x1024 .f32} (hp : Rows T.P a6) (hk : Holds3 (seqRows T.mix) k) (hq : ∀ j : Fin 1024, a8 (ix2 0 j) = ((T.q j.val : ℝ) : EReal))
    (hs : ∀ (n : Fin 2) (i : Fin 6) (j : Fin 1024), a9 (ix3 n i j) = ((T.S n.val i.val j.val : ℝ) : EReal)) : Holds3 (seqRows T.mid) (midOf a6 k a8 a9) :=
  add_holds (seq_ref hp) (mul_holds (gateOf_at hs) (mul_holds (unit_holds hk) (gains_at hq)))

theorem stages {T : Data} (G : Given a0 a1 a2 a3 a4 a5 a6 a7 a8 a9 T) :
    Stages T.row (gradOf a0 a1 a2) (midOf a6 (mixOf a4 a5) a8 a9) (seqs a3) (mixOf a4 a5) (gains a7) (gains a8) (scaleOf a9) (gateOf a9) where
  h s t j := (add_holds (partOf_at (halfOf_at G.a 1 _) fun k j => (G.w k j).2) (partOf_at (halfOf_at G.a 0 _) fun k j => (G.w k j).1) s t j).trans (congrArg Real.toEReal (add_comm _ _))
  x := midOf_at G.p (mixOf_at G.c G.o) G.q G.s
  d := seq_ref G.d
  k := mixOf_at G.c G.o
  g := gains_at G.g
  q := gains_at G.q
  s a t j := by
    refine (mod_holds (U := fun s j => 1 + T.S s 4 j) (fun s j => ?_) a t j).trans ?_
    · pointwise [G.s _ 4 _, one_bits]
      rw [← EReal.coe_add]
    · show _ = ((1 + T.S ((2048 * a.val + t.val) / 2048) 4 j.val : ℝ) : EReal)
      rw [seq_of]
  e := gateOf_at G.s

end Args

end Cert.Mid
end
-- ==== Proof.MidHost.lean ====
module

public import proofs.«01_k».proof.Proof.MidRef
public import proofs.«01_k».proof.Proof.Gen.Kernel6Ideal.Launch

@[expose] public section

set_option maxRecDepth 16384

noncomputable section

open Idealize.ShloMosaic Idealize.ShloMosaic.TcCoe Idealize.ShloMosaic.Tactic

namespace Cert.Mid

open Cert.Kernel6Ideal Cert.Kernel6Ideal.Gen
open Cert.Kernel4Ideal.Pre (Rows)
open Cert.Kernel6Ideal.Mid (Data)
open Cert.Pre (rows_of_seq)

/-! # What the host prepares for the kernel -/

variable (m : (ℓ : Loc nD τ sig) → Buf (Elt Ideal) ℓ) (c : Dev nD)

theorem mix_host : (StableHlo.after hostOps0 (fun b => m (c, b)) (Proc.devRef .tc main_v33) : FVec Ideal S4096x1024 .f32)
    = shapeCast S4096x1024 (mixOf (m ((c : Thread nD τ).loc main_arg4)) (m ((c : Thread nD τ).loc main_arg5))) shapeCasts_S2x2048x1024_S4096x1024 := by
  after_results_simp <;> rfl

theorem mid_host : (StableHlo.after hostOps0 (fun b => m (c, b)) (Proc.devRef .tc main_v32) : FVec Ideal S4096x1024 .f32)
    = shapeCast S4096x1024 (midOf (m ((c : Thread nD τ).loc main_arg6)) (mixOf (m ((c : Thread nD τ).loc main_arg4)) (m ((c : Thread nD τ).loc main_arg5))) (m ((c : Thread nD τ).loc main_arg8)) (m ((c : Thread nD τ).loc main_arg9)))
      shapeCasts_S2x2048x1024_S4096x1024 := by
  after_results_simp <;> rfl

theorem weights_host {W : ℕ → ℕ → ℕ → ℝ} (hw : ∀ (k : Fin 2816) (j : Fin 1024), (m ((c : Thread nD τ).loc main_arg1) : FVec Ideal S1x1024x2816 .f32) (ix3 0 j k) = ((W 0 k.val j.val : ℝ) : EReal)
      ∧ (m ((c : Thread nD τ).loc main_arg2) : FVec Ideal S1x1024x2816 .f32) (ix3 0 j k) = ((W 1 k.val j.val : ℝ) : EReal)) (p : Fin 2) (k : Fin 2816) (j : Fin 1024) :
    (StableHlo.after hostOps0 (fun b => m (c, b)) (Proc.devRef .tc main_v7) : FVec Ideal S2x2816x1024 .bf16) (ix3 p k j) = ((W p.val k.val j.val : ℝ) : EReal) := by
  match p with
  | 0 =>
    refine Eq.trans ?_ (hw k j).1
    entry_read
    pointwise
  | 1 =>
    refine Eq.trans ?_ (hw k j).2
    entry_read
    pointwise

end Cert.Mid
end
-- ==== Proof.MidEq.lean ====
module

public import proofs.«01_k».proof.Proof.MidVal
public import proofs.«01_k».proof.Proof.MidHost
public import proofs.«01_k».proof.Proof.PostEq
public import proofs.«01_k».proof.Pre_finite_mid

@[expose] public section

set_option maxRecDepth 16384

noncomputable section

open Idealize.ShloMosaic Idealize.ShloMosaic.TcCoe Idealize.ShloMosaic.Tactic Idealize.SL.Sem
open Cert.Equations (IsReal real_of_abs_lt)

namespace Cert.Mid

open Cert.Kernel4Ideal.Pre (Rows seqSum)
open Cert.Kernel6Ideal.Mid (Row Data Reads part seqPart allPart V V_arg dats pre_array post_array out_array mix_array shift_array scale_array gate_array)
open Cert.Pre (cubes_of seq_groups colSum allSum unitRef gains seqs rows_of_seq)
open Cert.Post (table_of all_groups downRef)

/-! # Finite arguments, and the results of both programs -/

theorem reals (hF : Cert.Pre_finite_mid.Facts) (a0 a1 a2 a3 a4 a5 a6 a7 a8 a9) (h : Cert.Pre_finite_mid.fn (F := Ideal) a0 a1 a2 a3 a4 a5 a6 a7 a8 a9 = fun _ => 1#1) :
    ∃ T, Given a0 a1 a2 a3 a4 a5 a6 a7 a8 a9 T := by
  haveI : Subsingleton Cert.Pre_finite_mid.S_.Idx := ⟨fun a b => funext fun i => i.elim0⟩
  have h := congrFun h ((fun i => i.elim0 : Cert.Pre_finite_mid.S_.Idx))
  dsimp only [Cert.Pre_finite_mid.fn, Cert.Pre_finite_mid.fn_part1, Cert.Pre_finite_mid.fn_part2] at h
  have both : ∀ p q : BitVec 1, p &&& q = 1#1 → p = 1#1 ∧ q = 1#1 := by decide
  obtain ⟨h, e9⟩ := both _ _ h
  obtain ⟨h, e8⟩ := both _ _ h
  obtain ⟨h, e7⟩ := both _ _ h
  obtain ⟨h, e6⟩ := both _ _ h
  obtain ⟨h, e5⟩ := both _ _ h
  obtain ⟨h, e4⟩ := both _ _ h
  obtain ⟨h, e3⟩ := both _ _ h
  obtain ⟨h, e2⟩ := both _ _ h
  obtain ⟨e0, e1⟩ := both _ _ h
  obtain ⟨A, hA⟩ := cubes_of (x := a0) (e := .bf16) fun i => real_of_abs_lt _ (Host.reduce_andi_all _ _ _ _ _ e0 i)
  obtain ⟨U, hU⟩ := cubes_of (x := a1) fun i => real_of_abs_lt _ (Host.reduce_andi_all _ _ _ _ _ e1 i)
  obtain ⟨W, hW⟩ := cubes_of (x := a2) fun i => real_of_abs_lt _ (Host.reduce_andi_all _ _ _ _ _ e2 i)
  obtain ⟨D, hD⟩ := table_of (x := a3) fun i => real_of_abs_lt _ (Host.reduce_andi_all _ _ _ _ _ e3 i)
  obtain ⟨C, hC⟩ := cubes_of (x := a4) (e := .bf16) fun i => real_of_abs_lt _ (Host.reduce_andi_all _ _ _ _ _ e4 i)
  obtain ⟨O, hO⟩ := cubes_of (x := a5) fun i => real_of_abs_lt _ (Host.reduce_andi_all _ _ _ _ _ e5 i)
  obtain ⟨P, hP⟩ := table_of (x := a6) fun i => real_of_abs_lt _ (Host.reduce_andi_all _ _ _ _ _ e6 i)
  obtain ⟨G, hG⟩ := table_of (x := a7) fun i => real_of_abs_lt _ (Host.reduce_andi_all _ _ _ _ _ e7 i)
  obtain ⟨Q, hQ⟩ := table_of (x := a8) fun i => real_of_abs_lt _ (Host.reduce_andi_all _ _ _ _ _ e8 i)
  obtain ⟨S, hS⟩ := cubes_of (x := a9) fun i => real_of_abs_lt _ (Host.reduce_andi_all _ _ _ _ _ e9 i)
  exact ⟨⟨A, fun p k j => if p = 0 then U 0 j k else W 0 j k, C, S, D, O 0, P, G 0, Q 0⟩, hA, fun k j => ⟨hU 0 j k, hW 0 j k⟩, fun r j => hD r j, hC, fun k j => hO 0 k j, fun r j => hP r j, fun j => hG 0 j, fun j => hQ 0 j, hS⟩

section Kernel

open Cert.Kernel6Ideal Cert.Kernel6Ideal.Gen

variable (m : (ℓ : Loc nD τ sig) → Buf (Elt Ideal) ℓ) (c : Dev nD) {T : Data}

/-- What the kernel finds at its entry. -/
theorem reads (h : Given (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) T) : Reads m c T where
  a p r k := (congrFun (V_arg m c main_arg0 (by decide)) (ix3 p r k)).trans (h.a p r k)
  w p k j := weights_host m c h.w p k j
  d r j := (congrFun (V_arg m c main_arg3 (by decide)) (ix2 r j)).trans (h.d r j)
  x r j := (congrFun (mid_host m c) (ix2 r j)).trans (rows_of_seq (midOf_at h.p (mixOf_at h.c h.o) h.q h.s) r j)
  k r j := (congrFun (mix_host m c) (ix2 r j)).trans (rows_of_seq (mixOf_at h.c h.o) r j)
  g j := (congrFun (V_arg m c main_arg7 (by decide)) (ix2 0 j)).trans (h.g j)
  q j := (congrFun (V_arg m c main_arg8 (by decide)) (ix2 0 j)).trans (h.q j)
  s n i j := (congrFun (V_arg m c main_arg9 (by decide)) (ix3 n i j)).trans (h.s n i j)

/-- The run, read at the results. -/
theorem run_arrays (ρ : Dev nD → PrngReg) : θ_run defs (onTc (τ := τ) (main (F := Ideal))) ⟨m, fun _ => 0, ρ⟩ (fun r => ∀ c : Dev nD,
    r.2.mem ((c.tc : Thread nD τ).loc main_v34_0) = (dats m 0 c).arrAt 8 cfg0.N ∧ r.2.mem ((c.tc : Thread nD τ).loc main_v34_1) = (dats m 0 c).arrAt 9 cfg0.N ∧ r.2.mem ((c.tc : Thread nD τ).loc main_v34_2) = (dats m 0 c).arrAt 10 cfg0.N ∧ r.2.mem ((c.tc : Thread nD τ).loc main_v34_3) = (dats m 0 c).arrAt 11 cfg0.N ∧ r.2.mem ((c.tc : Thread nD τ).loc main_v34_4) = (dats m 0 c).arrAt 12 cfg0.N ∧ r.2.mem ((c.tc : Thread nD τ).loc main_v34_5) = (dats m 0 c).arrAt 13 cfg0.N ∧ r.2.mem ((c.tc : Thread nD τ).loc main_v34_6) = (dats m 0 c).arrAt 14 cfg0.N
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)) :=
  (θ_run defs _ _).mono (fun r h c => ⟨(h.1 c).1 8, (h.1 c).1 9, (h.1 c).1 10, (h.1 c).1 11, (h.1 c).1 12, (h.1 c).1 13, (h.1 c).1 14, Cert.Kernel6Ideal.Mid.args_kept m h.1 c⟩) (Cert.Kernel6Ideal.Mid.run m ρ)

end Kernel

section Same

variable {h x d k g q s e : FVec Ideal ⟨3, ![2, 2048, 1024]⟩ .f32} {T : Data} (H : Stages T.row h x d k g q s e)
  {m : (ℓ : Loc Cert.Kernel6Ideal.nD Cert.Kernel6Ideal.τ Cert.Kernel6Ideal.sig) → Buf (Elt Ideal) ℓ} {c : Dev Cert.Kernel6Ideal.nD} (R : Reads m c T)

/-- A sum over a sequence is the sum over its four tiles. -/
theorem seq_parts (f : Row → ℕ → ℝ) (s j : ℕ) : ∑ t : Fin 2048, f (T.row (2048 * s + t.val)) j = seqSum (part T f) s j :=
  seq_groups (fun r => f (T.row r) j) s
/-- A sum over all rows is the sum over the eight tiles. -/
theorem all_parts (f : Row → ℕ → ℝ) (j : ℕ) : ∑ s : Fin 2, ∑ t : Fin 2048, f (T.row (2048 * s.val + t.val)) j = allPart T f 7 j :=
  all_groups fun _ r => f (T.row r) j

include H R

/-- The gradient of the rows is the same in both programs. -/
theorem out_same : (shapeCast Cert.Reference6Ideal.S4096x1024 (addBack d (mulf (mulf h s) g) x) Cert.Reference6Ideal.Gen.shapeCasts_S2x2048x1024_S4096x1024 : FVec Ideal ⟨2, ![4096, 1024]⟩ .f32)
    = ((dats m 0 c).arrAt 8 Cert.Kernel6Ideal.cfg0.N : FVec Ideal ⟨2, ![4096, 1024]⟩ .f32) := by
  funext i
  idx_vars i
  exact (out_ref H i0 i1).trans (out_array R i0 i1).symm
/-- So is the gradient of the mixed rows. -/
theorem mix_same : downRef k (mulf (mulf e (addBack d (mulf (mulf h s) g) x)) q) = ((dats m 0 c).arrAt 9 Cert.Kernel6Ideal.cfg0.N : FVec Ideal ⟨2, ![4096, 1024]⟩ .bf16) := by
  funext i
  idx_vars i
  exact (mix_ref H i0 i1).trans (mix_array R i0 i1).symm
/-- So are the sums over a sequence: shift, scale and gate. -/
theorem shift_same : colSum h = ((dats m 0 c).arrAt 10 Cert.Kernel6Ideal.cfg0.N : FVec Ideal ⟨3, ![2, 1, 1024]⟩ .f32) := by
  funext i
  idx_vars i
  obtain rfl : i1 = 0 := Subsingleton.elim _ _
  exact (shift_ref H i0 i2).trans ((congrArg Real.toEReal (seq_parts Row.h _ _)).trans (shift_array R i0 i2).symm)
theorem scale_same : colSum (mulf (mulf (unitRef x) g) h) = ((dats m 0 c).arrAt 11 Cert.Kernel6Ideal.cfg0.N : FVec Ideal ⟨3, ![2, 1, 1024]⟩ .f32) := by
  funext i
  idx_vars i
  obtain rfl : i1 = 0 := Subsingleton.elim _ _
  exact (scale_ref H i0 i2).trans ((congrArg Real.toEReal (seq_parts Row.toScale _ _)).trans (scale_array R i0 i2).symm)
theorem gate_same : colSum (mulf (addBack d (mulf (mulf h s) g) x) (mulf (unitRef k) q)) = ((dats m 0 c).arrAt 12 Cert.Kernel6Ideal.cfg0.N : FVec Ideal ⟨3, ![2, 1, 1024]⟩ .f32) := by
  funext i
  idx_vars i
  obtain rfl : i1 = 0 := Subsingleton.elim _ _
  exact (gate_ref H i0 i2).trans ((congrArg Real.toEReal (seq_parts Row.toGate _ _)).trans (gate_array R i0 i2).symm)
/-- So are the gradients of the two gains. -/
theorem pre_same : allSum (mulf (unitRef x) (mulf h s)) = ((dats m 0 c).arrAt 13 Cert.Kernel6Ideal.cfg0.N : FVec Ideal ⟨2, ![1, 1024]⟩ .f32) := by
  funext i
  idx_vars i
  obtain rfl : i0 = 0 := Subsingleton.elim _ _
  exact (pre_ref H i1).trans ((congrArg Real.toEReal (all_parts Row.toPre _)).trans (pre_array R i1).symm)
theorem post_same : allSum (mulf (unitRef k) (mulf e (addBack d (mulf (mulf h s) g) x))) = ((dats m 0 c).arrAt 14 Cert.Kernel6Ideal.cfg0.N : FVec Ideal ⟨2, ![1, 1024]⟩ .f32) := by
  funext i
  idx_vars i
  obtain rfl : i0 = 0 := Subsingleton.elim _ _
  exact (post_ref H i1).trans ((congrArg Real.toEReal (all_parts Row.toPost _)).trans (post_array R i1).symm)

end Same

end Cert.Mid
end
-- ==== Proof.MixVal.lean ====
module

public import proofs.«01_k».proof.Proof.PoolRef
public import proofs.«01_k».proof.Proof.Gen.Kernel7Ideal.Value

@[expose] public section

set_option maxRecDepth 16384

noncomputable section

open Idealize.ShloMosaic Idealize.ShloMosaic.TcCoe Idealize.SL.Sem
open Cert.Pool

namespace Cert.Mixer

open Cert.Kernel7Ideal Cert.Kernel7Ideal.Gen

/-! # The pooling mixer's own rows -/

/-- One group of one sequence on the chip: the mixed rows, scaled. -/
def scaledT (g : ℕ) (x : FVec Ideal S2048x128 .bf16) (w : FVec Ideal S1x128x128 .f32) (s : FVec Ideal S1x128 .f32) : FVec Ideal S1x2048x128 .bf16 :=
  shapeCast S1x2048x128 (truncf .bf16 (mulf (mixT g x w) (broadcastTo S2048x128 s broadcasts_S1x128_S2048x128)) bitsLt_bf16_f32) shapeCasts_S2048x128_S1x2048x128

/-- Row `t`, lane `j` of group `g`, from one sequence's rows. -/
def mixR (X : ℕ → ℕ → ℝ) (W : ℕ → ℕ → ℕ → ℝ) (S : ℕ → ℝ) (g t j : ℕ) : ℝ :=
  (∑ k : Fin 128, pooled (2 ^ (g + 1)) (fun r => X r (g * 128 + k.val)) t * W g k.val j) * S (g * 128 + j)

/-- The slab of all groups and both sequences. -/
def mixSlab (P : ℕ → ℕ → ℝ) (W : ℕ → ℕ → ℕ → ℝ) (S : ℕ → ℝ) (r b : ℕ) : ℝ := mixR (rowsOf P (r / 2048)) W S (b / 128) (r % 2048) (b % 128)

theorem scaledT_at {g : ℕ} (hg : g ≤ 10) {X W : ℕ → ℕ → ℝ} {S : ℕ → ℝ} {x : FVec Ideal S2048x128 .bf16} {w : FVec Ideal S1x128x128 .f32} {s : FVec Ideal S1x128 .f32}
    (hx : Holds X x) (hw : ∀ k j : Fin 128, w (ix3 0 k j) = ((W k.val j.val : ℝ) : EReal)) (hs : ∀ j : Fin 128, s (ix2 0 j) = ((S j.val : ℝ) : EReal)) (t : Fin 2048) (j : Fin 128) :
    scaledT g x w s (ix3 0 t j) = (((∑ k : Fin 128, pooled (2 ^ g) (fun r => X r k.val) t.val * W k.val j.val) * S j.val : ℝ) : EReal) := by
  unfold scaledT
  pointwise
  rw [mixT_holds g hg hx hw, hs, ← EReal.coe_mul]

theorem idx0 : ∀ t : Fin cfg0.N, win0_0.index t = ![t.val, 3] ∧ win0_1.index t = ![0, 0, 0] ∧ win0_2.index t = ![0, 0] ∧ win0_3.index t = ![1, t.val, 0] ∧ t.val < 2 :=
  (by decide +kernel : ∀ t : Fin grid0.N, _)

variable (m : (ℓ : Loc nD τ sig) → Buf (Elt Ideal) ℓ) (c : Dev nD) {P : ℕ → ℕ → ℝ} {W : ℕ → ℕ → ℕ → ℝ} {S : ℕ → ℝ}
  (hP : Holds (a := 4096) (b := 2048) (e := .bf16) P (m ((c : Thread nD τ).loc main_arg0)))
  (hW : ∀ (g : Fin 4) (k j : Fin 128), m ((c : Thread nD τ).loc main_arg1) (ix4 0 g k j) = ((W g.val k.val j.val : ℝ) : EReal))
  (hS : ∀ j : Fin 512, m ((c : Thread nD τ).loc main_arg2) (ix2 0 j) = ((S j.val : ℝ) : EReal))

include hP in
theorem blk_rows (t : Fin cfg0.N) : Holds (a := 2048) (b := 512) (e := .bf16) (rowsOf P t.val) (iblk m c 0 t) := by
  intro a b
  have ht := (idx0 t).2.2.2.2
  refine Eq.trans ?_ (hP ⟨t.val * 2048 + a.val, by omega⟩ ⟨1536 + b.val, by omega⟩)
  rw [← V_main_arg0 m c]
  blk_ext [iblk, idx0 t]

include hW in
theorem blk_mat (t : Fin cfg0.N) (g : Fin 4) (k j : Fin 128) : iblk m c 1 t (ix3 g k j) = ((W g.val k.val j.val : ℝ) : EReal) := by
  have e : V m c main_v0 (ix3 g k j) = m ((c : Thread nD τ).loc main_arg1) (ix4 0 g k j) := by
    show StableHlo.after hostOps0 _ (Proc.devRef .tc main_v0) (ix3 g k j) = _
    entry_read
    pointwise
  refine Eq.trans ?_ (e.trans (hW g k j))
  blk_ext [iblk, idx0 t]

include hS in
theorem blk_scale (t : Fin cfg0.N) (j : Fin 512) : iblk m c 2 t (ix2 0 j) = ((S j.val : ℝ) : EReal) := by
  refine Eq.trans ?_ (hS j)
  rw [← V_main_arg2 m c]
  blk_ext [iblk, idx0 t]

include hP hW hS in
theorem out_rows (t : Fin cfg0.N) (g : Fin 4) (a : Fin 2048) (j : Fin 128) : outsAt0 m c t (ix3 0 a (col g j)) = ((mixR (rowsOf P t.val) W S g.val a.val j.val : ℝ) : EReal) := by
  have hr : ∀ (q : ℕ) (hq : q < 4) (b1 b2 b3), scaledT (q + 1) (colsOf (iblk m c 0 t) (q * 128) b1) (matOf (iblk m c 1 t) q b2) (sclOf (iblk m c 2 t) (q * 128) b3) (ix3 0 a j)
      = ((mixR (rowsOf P t.val) W S q a.val j.val : ℝ) : EReal) := fun q hq b1 b2 b3 =>
    scaledT_at (by omega) (W := W q) (S := fun j => S (q * 128 + j)) (cols_holds (blk_rows m c hP t) (q * 128) b1) (mat_holds (blk_mat m c hW t) q hq b2) (scl_holds (blk_scale m c hS t) (q * 128) b3) a j
  unfold outsAt0
  frame_out
  refine (canon_rows _ _ _ _ g a j).trans ?_
  fin_cases g
  · exact hr 0 (by decide) _ _ _
  · exact hr 1 (by decide) _ _ _
  · exact hr 2 (by decide) _ _ _
  · exact hr 3 (by decide) _ _ _

include hP hW hS in
theorem array : ((dats m 0 c).arrAt 3 cfg0.N : FVec Ideal S2x4096x512 .bf16)
    = fun i : S2x4096x512.Idx => if (i 0).val / 1 = 1 then ((mixSlab P W S (i 1).val (i 2).val : ℝ) : EReal) else (m ((c : Thread nD τ).loc main_arg3) : FVec Ideal S2x4096x512 .bf16) i := by
  have e : (dats m 0 c).A 3 = m ((c : Thread nD τ).loc main_arg3) := by
    rw [A_eq m c 3]
    funext i
    show StableHlo.after hostOps0 _ (Proc.devRef .tc main_v1) i = _
    entry_read
    rfl
  rw [← e]
  refine (dats m 0 c).arrAt_eq_of_coversWhere 3 (fun i => ((mixSlab P W S (i 1).val (i 2).val : ℝ) : EReal)) (Q := fun β => β (0 : Fin _) = 1) (by decide +kernel) (fun t _ y => ?_) (fun j => Iff.rfl)
  have ht := (idx0 t).2.2.2.2
  blk_simp
  rw [after0_3]
  idx_vars y
  obtain rfl : y0 = 0 := Subsingleton.elim _ _
  have h := out_rows m c hP hW hS t ⟨y2.val / 128, by omega⟩ y1 ⟨y2.val % 128, by omega⟩
  rw [col_split] at h
  refine h.trans (congrArg _ (Eq.symm ?_))
  rw [(idx0 t).2.2.2.1]
  show mixR (rowsOf P ((t.val * 2048 + y1.val) / 2048)) W S ((0 * 512 + y2.val) / 128) ((t.val * 2048 + y1.val) % 2048) ((0 * 512 + y2.val) % 128) = _
  rw [Nat.zero_mul, Nat.zero_add, show (t.val * 2048 + y1.val) / 2048 = t.val by omega, show (t.val * 2048 + y1.val) % 2048 = y1.val by omega]

end Cert.Mixer
end
-- ==== Proof.MixEq.lean ====
module

public import proofs.«01_k».proof.Proof.MixVal
public import proofs.«01_k».proof.Proof.PoolEq
public import proofs.«01_k».proof.Proof.Gen.Reference7Ideal.Run
public import proofs.«01_k».proof.Pre_finite_mixer

@[expose] public section

set_option maxRecDepth 16384

noncomputable section

open Idealize.ShloMosaic Idealize.ShloMosaic.TcCoe Idealize.SL.Sem
open Cert.Equations (real_of_abs_lt)
open Cert.Pool

namespace Cert.Mixer

/-! # The mixer's finite arguments, and the reference's array -/

theorem reals (hF : Cert.Pre_finite_mixer.Facts) (x0 x1 x2 x3) (h : Cert.Pre_finite_mixer.fn (F := Ideal) x0 x1 x2 x3 = fun _ => 1#1) :
    (∃ P : ℕ → ℕ → ℝ, Holds (a := 4096) (b := 2048) (e := .bf16) P x0)
      ∧ (∃ W : ℕ → ℕ → ℕ → ℝ, ∀ (g : Fin 4) (k j : Fin 128), x1 (ix4 0 g k j) = ((W g.val k.val j.val : ℝ) : EReal)) ∧ ∃ S : ℕ → ℝ, ∀ j : Fin 512, x2 (ix2 0 j) = ((S j.val : ℝ) : EReal) := by
  haveI : Subsingleton Cert.Pre_finite_mixer.S_.Idx := ⟨fun a b => funext fun i => i.elim0⟩
  have h := congrFun h (fun i => i.elim0 : Cert.Pre_finite_mixer.S_.Idx)
  dsimp only [Cert.Pre_finite_mixer.fn] at h
  have both : ∀ p q : BitVec 1, p &&& q = 1#1 → p = 1#1 ∧ q = 1#1 := by decide
  obtain ⟨h, e2⟩ := both _ _ h
  obtain ⟨e0, e1⟩ := both _ _ h
  obtain ⟨X, hX⟩ := holds_of (a := 1) (b := 512) (e := .f32) (x := x2) fun i => real_of_abs_lt _ (Host.reduce_andi_all _ _ _ _ _ e2 i)
  exact ⟨holds_of fun i => real_of_abs_lt _ (Host.reduce_andi_all _ _ _ _ _ e0 i), mats_of fun i => real_of_abs_lt _ (Host.reduce_andi_all _ _ _ _ _ e1 i), X 0, fun j => hX 0 j⟩

open Cert.Reference7Ideal Cert.Reference7Ideal.Value Cert.Reference7Ideal.Facts₀

/-- The reference's array over the arguments. -/
def wholeA (a0 : FVec Ideal S4096x2048 .bf16) (a1 : FVec Ideal S1x4x128x128 .f32) (a2 : FVec Ideal S1x512 .f32) (a3 : FVec Ideal S2x4096x512 .bf16) : FVec Ideal S2x4096x512 .bf16 :=
  concatenate S2x4096x512 0 [⟨S1x4096x512, (extractStridedSlice S1x4096x512 ![0, 0, 0] a3 slices_S2x4096x512_S1x4096x512_0_0_0)⟩,
    ⟨S1x4096x512, (truncf .bf16 (shapeCast S1x4096x512 (mulf (mixA a0 (shapeCast _ a1 shapeCasts_S1x4x128x128_S4x128x128))
      (broadcastInDim S2x2048x512 ![0, 1, 2] bcast_S1x1x512_S2x2048x512_0_1_2 (broadcastInDim S1x1x512 ![2] bcast_S512_S1x1x512_2 (shapeCast _ a2 shapeCasts_S1x512_S512)))) shapeCasts_S2x2048x512_S1x4096x512) bitsLt_bf16_f32)⟩]
    concatenates_S1x4096x512_S1x4096x512_S2x4096x512_d0

variable {P : ℕ → ℕ → ℝ} {W : ℕ → ℕ → ℕ → ℝ} {S : ℕ → ℝ} {a0 : FVec Ideal S4096x2048 .bf16} {a1 : FVec Ideal S1x4x128x128 .f32} {a2 : FVec Ideal S1x512 .f32} {a3 : FVec Ideal S2x4096x512 .bf16}
  (h0 : Holds P a0) (h1 : ∀ (g : Fin 4) (k j : Fin 128), a1 (ix4 0 g k j) = ((W g.val k.val j.val : ℝ) : EReal)) (h2 : ∀ j : Fin 512, a2 (ix2 0 j) = ((S j.val : ℝ) : EReal))

include h0 h1 h2 in
theorem wholeA_eq : wholeA a0 a1 a2 a3 = fun i : S2x4096x512.Idx => if (i 0).val / 1 = 1 then ((mixSlab P W S (i 1).val (i 2).val : ℝ) : EReal) else a3 i := by
  have hw : Holds3 W (shapeCast S4x128x128 a1 shapeCasts_S1x4x128x128_S4x128x128) := by
    intro g k j
    pointwise
    exact h1 g k j
  funext i
  idx_vars i
  unfold wholeA
  pointwise
  by_cases h : i0.val < 1
  · rw [dif_pos h, if_neg (by omega)]
  · rw [dif_neg h, if_pos (by omega)]
    have e := mixA_at h0 hw ⟨i1.val / 2048, by omega⟩ ⟨i1.val % 2048, by omega⟩ ⟨i2.val / 128, by omega⟩ ⟨i2.val % 128, by omega⟩
    rw [col_split] at e
    refine (congrArg₂ HMul.hMul e (h2 i2)).trans ((EReal.coe_mul _ _).symm.trans (congrArg _ ?_))
    show _ = mixR (rowsOf P (i1.val / 2048)) W S (i2.val / 128) (i1.val % 2048) (i2.val % 128)
    unfold mixR
    rw [Nat.div_add_mod' i2.val 128]

include h0 h1 h2 in
/-- The two programs leave the same array. -/
theorem out_same (m : (ℓ : Loc Cert.Kernel7Ideal.nD Cert.Kernel7Ideal.τ Cert.Kernel7Ideal.sig) → Buf (Elt Ideal) ℓ) (c : Dev Cert.Kernel7Ideal.nD)
    (e0 : a0 = m ((c : Thread Cert.Kernel7Ideal.nD Cert.Kernel7Ideal.τ).loc Cert.Kernel7Ideal.main_arg0))
    (e1 : a1 = m ((c : Thread Cert.Kernel7Ideal.nD Cert.Kernel7Ideal.τ).loc Cert.Kernel7Ideal.main_arg1))
    (e2 : a2 = m ((c : Thread Cert.Kernel7Ideal.nD Cert.Kernel7Ideal.τ).loc Cert.Kernel7Ideal.main_arg2))
    (e3 : a3 = m ((c : Thread Cert.Kernel7Ideal.nD Cert.Kernel7Ideal.τ).loc Cert.Kernel7Ideal.main_arg3)) :
    wholeA a0 a1 a2 a3 = ((Cert.Kernel7Ideal.Gen.dats m 0 c).arrAt 3 Cert.Kernel7Ideal.cfg0.N : FVec Ideal S2x4096x512 .bf16) := by
  subst e0 e1 e2 e3
  exact (wholeA_eq h0 h1 h2).trans (array m c h0 h1 h2).symm

end Cert.Mixer
end
-- ==== Proof.NormVal.lean ====
module

public import proofs.«01_k».proof.Defs
public import proofs.«01_k».proof.Proof.Gen.Kernel8Ideal.Frame
public import proofs.«01_k».proof.Proof.Gen.Kernel9Ideal.Frame
public import Idealize.ShloMosaic.Lib.Pipeline.ValueKit

@[expose] public section

set_option maxRecDepth 16384

noncomputable section

open Idealize.ShloMosaic Idealize.ShloMosaic.TcCoe Idealize.SL.Sem

/-! # The normalised rows before the mixer -/

namespace Cert.Normed

open Cert.Kernel8Ideal Cert.Kernel8Ideal.Gen

/-- Row `i` over the root of its mean square, by the gains, scaled and shifted with its sequence's values. -/
def normed (X : FVec Ideal S4096x1024 .f32) (G : FVec Ideal S1x1024 .f32) (M : FVec Ideal S2x6x1024 .f32) (i : Fin 4096) (j : Fin 1024) : EReal :=
  X (ix2 i j) * Ideal.rsqrt (Ideal.div (∑ k : Fin 1024, X (ix2 i k) * X (ix2 i k)) (Ideal.ofBits .f32 0x44800000#32) + Ideal.ofBits .f32 0x358637BD#32) * G (ix2 0 j)
    * (Ideal.ofBits .f32 0x3F800000#32 + M (ix3 ⟨i.val / 2048, by omega⟩ 1 j)) + M (ix3 ⟨i.val / 2048, by omega⟩ 0 j)

variable (m : (ℓ : Loc nD τ sig) → Buf (Elt Ideal) ℓ) (c : Dev nD)

theorem idx0 : ∀ t : Fin cfg0.N, win0_0.index t = ![t.val, 0] ∧ win0_1.index t = ![0, 0] ∧ win0_2.index t = ![t.val / 8, 0, 0] ∧ win0_3.index t = ![t.val, 0] ∧ t.val < 16 :=
  (by decide +kernel : ∀ t : Fin grid0.N, _)

theorem blk_rows (t : Fin cfg0.N) (a : Fin 256) (k : Fin 1024) : iblk m c 0 t (ix2 a k) = m ((c : Thread nD τ).loc main_arg0) (ix2 ⟨t.val * 256 + a.val, by have := (idx0 t).2.2.2.2; omega⟩ k) := by
  rw [← V_main_arg0 m c]
  blk_ext [iblk, idx0 t]

theorem blk_gains (t : Fin cfg0.N) (k : Fin 1024) : iblk m c 1 t (ix2 0 k) = m ((c : Thread nD τ).loc main_arg1) (ix2 0 k) := by
  rw [← V_main_arg1 m c]
  blk_ext [iblk, idx0 t]

theorem blk_mod (t : Fin cfg0.N) (q : Fin 6) (k : Fin 1024) : iblk m c 2 t (ix3 0 q k) = m ((c : Thread nD τ).loc main_arg2) (ix3 ⟨t.val / 8, by have := (idx0 t).2.2.2.2; omega⟩ q k) := by
  rw [← V_main_arg2 m c]
  blk_ext [iblk, idx0 t]

theorem point (t : Fin cfg0.N) (a : Fin 256) (b : Fin 1024) : out0_3 (iblk m c 0 t) (iblk m c 1 t) (iblk m c 2 t) (ix2 a b)
    = normed (m ((c : Thread nD τ).loc main_arg0)) (m ((c : Thread nD τ).loc main_arg1)) (m ((c : Thread nD τ).loc main_arg2)) ⟨t.val * 256 + a.val, by have := (idx0 t).2.2.2.2; omega⟩ b := by
  have ht := (idx0 t).2.2.2.2
  have hs : (t.val * 256 + a.val) / 2048 = t.val / 8 := by omega
  frame_out
  pointwise [k0_pay1, normed, blk_rows m c t, blk_gains m c t, blk_mod m c t, hs]

theorem array : (dats m 0 c).arrAt 3 cfg0.N
    = fun i : S4096x1024.Idx => normed (m ((c : Thread nD τ).loc main_arg0)) (m ((c : Thread nD τ).loc main_arg1)) (m ((c : Thread nD τ).loc main_arg2)) (i 0) (i 1) := by
  refine (dats m 0 c).arrAt_eq_of_covers 3 _ (by decide +kernel) fun t _ y => ?_
  blk_simp
  rw [after0_3]
  idx_vars y
  have e : (win0_3.blk t).view.emb (ix2 y0 y1) = ix2 ⟨t.val * 256 + y0.val, by have := (idx0 t).2.2.2.2; omega⟩ y1 := by blk_ext [idx0 t]
  rw [e]
  exact point m c t y0 y1

end Cert.Normed

/-! # The modulation's columns -/

namespace Cert.Condition

open Cert.Kernel9Ideal Cert.Kernel9Ideal.Gen

/-- One entry of the conditions behind their gate, by the weights, with the bias. -/
def conditioned (C : FVec Ideal S16x1024 .f32) (W : FVec Ideal S1x1024x768 .f32) (B : FVec Ideal S1x768 .f32) (i : Fin 16) (j : Fin 768) : EReal :=
  (∑ k : Fin 1024, C (ix2 i k) * Ideal.logistic (C (ix2 i k)) * W (ix3 0 k j)) + B (ix2 0 j)

variable (m : (ℓ : Loc nD τ sig) → Buf (Elt Ideal) ℓ) (c : Dev nD)

theorem idx0 : ∀ t : Fin cfg0.N, win0_0.index t = ![0, 0] ∧ win0_1.index t = ![0, 0] ∧ win0_2.index t = ![0, 0] ∧ win0_3.index t = ![0, 0] :=
  (by decide +kernel : ∀ t : Fin grid0.N, _)

theorem blk_cond (t : Fin cfg0.N) (a : Fin 16) (k : Fin 1024) : iblk m c 0 t (ix2 a k) = m ((c : Thread nD τ).loc main_arg0) (ix2 a k) := by
  rw [← V_main_arg0 m c]
  blk_ext [iblk, idx0 t]

theorem blk_weights (t : Fin cfg0.N) (k : Fin 1024) (b : Fin 768) : iblk m c 1 t (ix2 k b) = m ((c : Thread nD τ).loc main_arg1) (ix3 0 k b) := by
  have e : V m c main_v0 (ix2 k b) = m ((c : Thread nD τ).loc main_arg1) (ix3 0 k b) := by
    show StableHlo.after hostOps0 _ (Proc.devRef .tc main_v0) (ix2 k b) = _
    entry_read
    pointwise
  refine Eq.trans ?_ e
  blk_ext [iblk, idx0 t]

theorem blk_bias (t : Fin cfg0.N) (b : Fin 768) : iblk m c 2 t (ix2 0 b) = m ((c : Thread nD τ).loc main_arg2) (ix2 0 b) := by
  rw [← V_main_arg2 m c]
  blk_ext [iblk, idx0 t]

theorem array : (dats m 0 c).arrAt 3 cfg0.N
    = fun i : S16x768.Idx => conditioned (m ((c : Thread nD τ).loc main_arg0)) (m ((c : Thread nD τ).loc main_arg1)) (m ((c : Thread nD τ).loc main_arg2)) (i 0) (i 1) := by
  refine (dats m 0 c).arrAt_eq_of_covers 3 _ (by decide +kernel) fun t _ y => ?_
  blk_simp
  rw [after0_3]
  idx_vars y
  have h : out0_3 (iblk m c 0 t) (iblk m c 1 t) (iblk m c 2 t) (ix2 y0 y1)
      = conditioned (m ((c : Thread nD τ).loc main_arg0)) (m ((c : Thread nD τ).loc main_arg1)) (m ((c : Thread nD τ).loc main_arg2)) y0 y1 := by
    frame_out
    pointwise [k0_pay1, conditioned, blk_cond m c t, blk_weights m c t, blk_bias m c t]
  have e : (win0_3.blk t).view.emb (ix2 y0 y1) = ix2 y0 y1 := by blk_ext [idx0 t]
  rw [e]
  exact h

end Cert.Condition
end
-- ==== Proof.NormRef.lean ====
module

public import proofs.«01_k».proof.Proof.NormVal
public import proofs.«01_k».proof.Proof.Gen.Reference8Ideal.Run
public import proofs.«01_k».proof.Proof.Gen.Reference9Ideal.Run

@[expose] public section

set_option maxRecDepth 16384

noncomputable section

open Idealize.ShloMosaic Idealize.ShloMosaic.TcCoe Idealize.SL.Sem

/-! # The references' arrays for the normalised rows and the modulation's columns -/

namespace Cert.Normed

open Cert.Reference8Ideal Cert.Reference8Ideal.Value Cert.Reference8Ideal.Facts₀

variable (x : FVec Ideal S4096x1024 .f32) (g : FVec Ideal S1x1024 .f32) (u : FVec Ideal S2x6x1024 .f32)

/-- The rows by sequences; what stands under the root; the whole of the reference. -/
def seqA : FVec Ideal S2x2048x1024 .f32 := shapeCast _ x shapeCasts_S4096x1024_S2x2048x1024
def underA : FVec Ideal S2x2048x1 .f32 :=
  addf (Host.divf (broadcastInDim S2x2048x1 ![0, 1] bcast_S2x2048_S2x2048x1_0_1 (Host.reduceAdd (mulf (seqA x) (seqA x)) (constant S_ .f32 0x00000000#32) reducesTo_S2x2048x1024_S2x2048_d2 h_S_))
    (broadcastInDim S2x2048x1 ![] bcast_S_S2x2048x1 (constant S_ .f32 0x44800000#32 : FVec Ideal S_ .f32))) (broadcastInDim S2x2048x1 ![] bcast_S_S2x2048x1 (constant S_ .f32 0x358637BD#32 : FVec Ideal S_ .f32))
def wholeA : FVec Ideal S4096x1024 .bf16 :=
  truncf .bf16 (shapeCast _ (addf (mulf (mulf (mulf (seqA x) (broadcastInDim S2x2048x1024 ![0, 1, 2] bcast_S2x2048x1_S2x2048x1024_0_1_2 (Host.rsqrt (underA x))))
      (broadcastInDim S2x2048x1024 ![0, 1, 2] bcast_S1x1x1024_S2x2048x1024_0_1_2 (broadcastInDim S1x1x1024 ![2] bcast_S1024_S1x1x1024_2 (shapeCast _ g shapeCasts_S1x1024_S1024))))
      (broadcastInDim S2x2048x1024 ![0, 1, 2] bcast_S2x1x1024_S2x2048x1024_0_1_2 (addf (broadcastInDim S2x1x1024 ![] bcast_S_S2x1x1024 (constant S_ .f32 0x3F800000#32)) (extractStridedSlice S2x1x1024 ![0, 1, 0] u slices_S2x6x1024_S2x1x1024_0_1_0))))
      (broadcastInDim S2x2048x1024 ![0, 1, 2] bcast_S2x1x1024_S2x2048x1024_0_1_2 (extractStridedSlice S2x1x1024 ![0, 0, 0] u slices_S2x6x1024_S2x1x1024_0_0_0))) shapeCasts_S2x2048x1024_S4096x1024) bitsLt_bf16_f32

theorem wholeA_at (i : Fin 4096) (j : Fin 1024) : wholeA x g u (ix2 i j) = normed x g u i j := by
  have hs : ∀ (s : Fin 2) (t : Fin 2048) (k : Fin 1024), seqA x (ix3 s t k) = x (ix2 ⟨s.val * 2048 + t.val, by omega⟩ k) := fun s t k => by
    unfold seqA
    pointwise
  have hm : i.val / 2048 * 2048 + i.val % 2048 = i.val := Nat.div_add_mod' _ _
  unfold wholeA underA
  pointwise [hs, normed, hm]

variable {x g u} in
theorem out_same (m : (ℓ : Loc Cert.Kernel8Ideal.nD Cert.Kernel8Ideal.τ Cert.Kernel8Ideal.sig) → Buf (Elt Ideal) ℓ) (c : Dev Cert.Kernel8Ideal.nD)
    (e0 : x = m ((c : Thread Cert.Kernel8Ideal.nD Cert.Kernel8Ideal.τ).loc Cert.Kernel8Ideal.main_arg0))
    (e1 : g = m ((c : Thread Cert.Kernel8Ideal.nD Cert.Kernel8Ideal.τ).loc Cert.Kernel8Ideal.main_arg1))
    (e2 : u = m ((c : Thread Cert.Kernel8Ideal.nD Cert.Kernel8Ideal.τ).loc Cert.Kernel8Ideal.main_arg2)) :
    wholeA x g u = (Cert.Kernel8Ideal.Gen.dats m 0 c).arrAt 3 Cert.Kernel8Ideal.cfg0.N := by
  subst e0 e1 e2
  rw [array m c]
  funext i
  idx_vars i
  exact wholeA_at _ _ _ i0 i1

end Cert.Normed

namespace Cert.Condition

open Cert.Reference9Ideal Cert.Reference9Ideal.Value Cert.Reference9Ideal.Facts₀

variable (x : FVec Ideal S16x1024 .f32) (w : FVec Ideal S1x1024x768 .f32) (b : FVec Ideal S1x768 .f32)

/-- The whole of the reference. -/
def wholeA : FVec Ideal S16x768 .f32 :=
  addf (Host.dotGeneral dot_S16x1024_S1024x768_S16x768_1_0_0_1_n_n none (mulf x (Host.divf (broadcastInDim S16x1024 ![] bcast_S_S16x1024 (constant S_ .f32 0x3F800000#32))
    (addf (broadcastInDim S16x1024 ![] bcast_S_S16x1024 (constant S_ .f32 0x3F800000#32)) (Host.exp (Host.negf x))))) (shapeCast _ w shapeCasts_S1x1024x768_S1024x768)) (broadcastInDim S16x768 ![0, 1] bcast_S1x768_S16x768_0_1 b)

theorem wholeA_at (i : Fin 16) (j : Fin 768) : wholeA x w b (ix2 i j) = conditioned x w b i j := by
  unfold wholeA
  pointwise [conditioned]
  rfl

variable {x w b} in
theorem out_same (m : (ℓ : Loc Cert.Kernel9Ideal.nD Cert.Kernel9Ideal.τ Cert.Kernel9Ideal.sig) → Buf (Elt Ideal) ℓ) (c : Dev Cert.Kernel9Ideal.nD)
    (e0 : x = m ((c : Thread Cert.Kernel9Ideal.nD Cert.Kernel9Ideal.τ).loc Cert.Kernel9Ideal.main_arg0))
    (e1 : w = m ((c : Thread Cert.Kernel9Ideal.nD Cert.Kernel9Ideal.τ).loc Cert.Kernel9Ideal.main_arg1))
    (e2 : b = m ((c : Thread Cert.Kernel9Ideal.nD Cert.Kernel9Ideal.τ).loc Cert.Kernel9Ideal.main_arg2)) :
    wholeA x w b = (Cert.Kernel9Ideal.Gen.dats m 0 c).arrAt 3 Cert.Kernel9Ideal.cfg0.N := by
  subst e0 e1 e2
  rw [array m c]
  funext i
  idx_vars i
  exact wholeA_at _ _ _ i0 i1

end Cert.Condition
end
-- ==== Proof.StepMath.lean ====
module

public import proofs.«01_k».proof.Defs
public import Idealize.ShloMosaic.Lib.Pipeline.ValueKit

@[expose] public section

set_option maxRecDepth 16384

noncomputable section

open Idealize.ShloMosaic Idealize.ShloMosaic.TcCoe Idealize.SL.Sem

/-! # One step of the optimiser, entry by entry -/

namespace Cert.Step

/-- The first and the second moment after the step, and what the step adds to the weight. -/
def mean (g m : EReal) : EReal := Ideal.ofBits .f32 0x3F666666#32 * m + Ideal.ofBits .f32 0x3DCCCCCD#32 * g
def spread (g v : EReal) : EReal := Ideal.ofBits .f32 0x3F7FBE77#32 * v + Ideal.ofBits .f32 0x3A83126F#32 * (g * g)
def moved (w g m v : EReal) : EReal :=
  Ideal.ofBits .f32 0xBA83126F#32 * (Ideal.div (Ideal.div (mean g m) (Ideal.ofBits .f32 0x3F26BD02#32))
    (Ideal.sqrt (Ideal.div (spread g v) (Ideal.ofBits .f32 0x3C231ACC#32)) + Ideal.ofBits .f32 0x322BCC77#32) + Ideal.ofBits .f32 0x3C23D70A#32 * w)

variable {T S : Shape}

/-- The same over a whole array. -/
def meanA (g m : FVec Ideal S .f32) : FVec Ideal S .f32 := fun i => mean (g i) (m i)
def spreadA (g v : FVec Ideal S .f32) : FVec Ideal S .f32 := fun i => spread (g i) (v i)
def movedA (w g m v : FVec Ideal S .f32) : FVec Ideal S .f32 := fun i => moved (w i) (g i) (m i) (v i)

variable (d : Fin T.rank → Fin S.rank) (b : T.BroadcastsInDim S d)

/-- The same as the references write it, with every constant spread over the array. -/
def meanT (g m : FVec Ideal S .f32) : FVec Ideal S .f32 :=
  addf (mulf (broadcastInDim S d b (constant T .f32 0x3F666666#32)) m) (mulf (broadcastInDim S d b (constant T .f32 0x3DCCCCCD#32)) g)
def spreadT (g v : FVec Ideal S .f32) : FVec Ideal S .f32 :=
  addf (mulf (broadcastInDim S d b (constant T .f32 0x3F7FBE77#32)) v) (mulf (broadcastInDim S d b (constant T .f32 0x3A83126F#32)) (mulf g g))
def movedT (w g m v : FVec Ideal S .f32) : FVec Ideal S .f32 :=
  mulf (broadcastInDim S d b (constant T .f32 0xBA83126F#32)) (addf (Host.divf (Host.divf (meanT d b g m) (broadcastInDim S d b (constant T .f32 0x3F26BD02#32)))
    (addf (Host.sqrt (Host.divf (spreadT d b g v) (broadcastInDim S d b (constant T .f32 0x3C231ACC#32)))) (broadcastInDim S d b (constant T .f32 0x322BCC77#32)))) (mulf (broadcastInDim S d b (constant T .f32 0x3C23D70A#32)) w))

theorem meanT_eq (g m : FVec Ideal S .f32) : meanT d b g m = meanA g m := rfl
theorem spreadT_eq (g v : FVec Ideal S .f32) : spreadT d b g v = spreadA g v := rfl
theorem movedT_eq (w g m v : FVec Ideal S .f32) : movedT d b w g m v = movedA w g m v := rfl

end Cert.Step
end
-- ==== Proof.CondStep.lean ====
module

public import proofs.«01_k».proof.Proof.StepMath
public import proofs.«01_k».proof.Proof.Gen.Kernel10Ideal.Frame

@[expose] public section

set_option maxRecDepth 16384

noncomputable section

open Idealize.ShloMosaic Idealize.ShloMosaic.TcCoe Idealize.SL.Sem
open Cert.Step

/-! # The modulation's weights and bias: their gradients and their step -/

namespace Cert.Condition

open Cert.Kernel10Ideal Cert.Kernel10Ideal.Gen Cert.Kernel10Ideal.Facts₀

/-- The gradients of the weights and of the bias. -/
def gradW (C : FVec Ideal S16x1024 .f32) (D : FVec Ideal S16x768 .f32) : FVec Ideal S1024x768 .f32 :=
  fun i => ∑ k : Fin 16, C (ix2 k (i 0)) * Ideal.logistic (C (ix2 k (i 0))) * D (ix2 k (i 1))
def gradB (D : FVec Ideal S16x6144 .f32) : FVec Ideal S1x6144 .f32 := fun i => ∑ k : Fin 16, D (ix2 k (i 1))

variable (m : (ℓ : Loc nD τ sig) → Buf (Elt Ideal) ℓ) (c : Dev nD)

/-- A weight, or a moment of it, without its leading axis. -/
def flat (W : FVec Ideal S1x1024x768 .f32) : FVec Ideal S1024x768 .f32 := shapeCast _ W Facts₀.shapeCasts_S1x1024x768_S1024x768

theorem at0 : ∀ t : Fin cfg0.N, (win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0])
    ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] :=
  (by decide +kernel : ∀ t : Fin grid0.N, _)

theorem flat_arg : V m c main_v0 = flat (m ((c : Thread nD τ).loc main_arg3)) ∧ V m c main_v1 = flat (m ((c : Thread nD τ).loc main_arg4)) ∧ V m c main_v2 = flat (m ((c : Thread nD τ).loc main_arg5)) := by
  refine ⟨?_, ?_, ?_⟩ <;> funext i
  · show StableHlo.after hostOps0 _ (Proc.devRef .tc main_v0) i = _
    entry_read; rfl
  · show StableHlo.after hostOps0 _ (Proc.devRef .tc main_v1) i = _
    entry_read; rfl
  · show StableHlo.after hostOps0 _ (Proc.devRef .tc main_v2) i = _
    entry_read; rfl

/-- Each block the call reads is its whole array. -/
theorem whole (t : Fin cfg0.N) : (iblk m c 0 t = V m c main_arg0 ∧ iblk m c 1 t = V m c main_arg1 ∧ iblk m c 2 t = V m c main_arg2)
    ∧ (iblk m c 3 t = V m c main_v0 ∧ iblk m c 4 t = V m c main_v1 ∧ iblk m c 5 t = V m c main_v2)
    ∧ iblk m c 6 t = V m c main_arg6 ∧ iblk m c 7 t = V m c main_arg7 ∧ iblk m c 8 t = V m c main_arg8 := by
  refine ⟨⟨?_, ?_, ?_⟩, ⟨?_, ?_, ?_⟩, ?_, ?_, ?_⟩ <;> funext i <;> idx_vars i <;> blk_ext [iblk, at0 t]

variable {C : FVec Ideal S16x1024 .f32} {E : FVec Ideal S16x6144 .f32} {D : FVec Ideal S16x768 .f32} {W M U : FVec Ideal S1024x768 .f32} {B N R : FVec Ideal S1x6144 .f32}
  (h0 : V m c main_arg0 = C) (h1 : V m c main_arg1 = E) (h2 : V m c main_arg2 = D) (h3 : V m c main_v0 = W) (h4 : V m c main_v1 = M) (h5 : V m c main_v2 = U)
  (h6 : V m c main_arg6 = B) (h7 : V m c main_arg7 = N) (h8 : V m c main_arg8 = R)

set_option maxHeartbeats 4000000 in
include h0 h1 h2 h3 h4 h5 h6 h7 h8 in
theorem arrays : ((dats m 0 c).arrAt 9 cfg0.N = gradW C D ∧ (dats m 0 c).arrAt 10 cfg0.N = movedA W (gradW C D) M U
      ∧ (dats m 0 c).arrAt 11 cfg0.N = meanA (gradW C D) M ∧ (dats m 0 c).arrAt 12 cfg0.N = spreadA (gradW C D) U)
    ∧ (dats m 0 c).arrAt 13 cfg0.N = gradB E ∧ (dats m 0 c).arrAt 14 cfg0.N = movedA B (gradB E) N R
      ∧ (dats m 0 c).arrAt 15 cfg0.N = meanA (gradB E) N ∧ (dats m 0 c).arrAt 16 cfg0.N = spreadA (gradB E) R := by
  refine ⟨⟨(dats m 0 c).arrAt_eq_of_covers 9 _ (by decide +kernel) ?_, (dats m 0 c).arrAt_eq_of_covers 10 _ (by decide +kernel) ?_,
      (dats m 0 c).arrAt_eq_of_covers 11 _ (by decide +kernel) ?_, (dats m 0 c).arrAt_eq_of_covers 12 _ (by decide +kernel) ?_⟩,
    (dats m 0 c).arrAt_eq_of_covers 13 _ (by decide +kernel) ?_, (dats m 0 c).arrAt_eq_of_covers 14 _ (by decide +kernel) ?_,
    (dats m 0 c).arrAt_eq_of_covers 15 _ (by decide +kernel) ?_, (dats m 0 c).arrAt_eq_of_covers 16 _ (by decide +kernel) ?_⟩
  all_goals
    intro t _ y
    obtain ⟨⟨b0, b1, b2⟩, ⟨b3, b4, b5⟩, b6, b7, b8⟩ := whole m c t
    blk_simp
    first
      | rw [after0_9]
      | rw [after0_10]
      | rw [after0_11]
      | rw [after0_12]
      | rw [after0_13]
      | rw [after0_14]
      | rw [after0_15]
      | rw [after0_16]
    rw [b0, b1, b2, b3, b4, b5, b6, b7, b8, h0, h1, h2, h3, h4, h5, h6, h7, h8]
    idx_vars y
    refine Eq.trans ?_ (congrArg _ (?_ : ix2 y0 y1 = _))
    · frame_out
      pointwise [k0_pay1, k0_pay2, k0_pay3, k0_pay4, k0_pay5, k0_pay6, k0_pay7, k0_pay8, k0_pay9, movedA, moved, meanA, mean, spreadA, spread, gradW, gradB]
    · symm
      blk_ext [at0 t]

end Cert.Condition
end
-- ==== Proof.CondRef.lean ====
module

public import proofs.«01_k».proof.Proof.CondStep
public import proofs.«01_k».proof.Proof.Gen.Reference10Ideal.Run

@[expose] public section

set_option maxRecDepth 16384

noncomputable section

open Idealize.ShloMosaic Idealize.ShloMosaic.TcCoe Idealize.SL.Sem
open Cert.Step

/-! # The reference's arrays for the step of the modulation's weights and bias -/

namespace Cert.Condition

section
open Cert.Reference10Ideal Cert.Reference10Ideal.Value Cert.Reference10Ideal.Facts₀

variable (C : FVec Ideal S16x1024 .f32) (D : FVec Ideal S16x768 .f32) (E : FVec Ideal S16x6144 .f32)

/-- The two gradients; the two steps. -/
def gradWT : FVec Ideal S1024x768 .f32 :=
  transpose S1024x768 [1, 0] (Host.dotGeneral dot_S16x768_S16x1024_S768x1024_0_0_1_1_n_n none D (mulf C (Host.divf (broadcastInDim S16x1024 ![] bcast_S_S16x1024 (constant S_ .f32 0x3F800000#32))
    (addf (broadcastInDim S16x1024 ![] bcast_S_S16x1024 (constant S_ .f32 0x3F800000#32)) (Host.exp (Host.negf C)))))) transposes_S768x1024_S1024x768_1_0
def gradBT : FVec Ideal S1x6144 .f32 :=
  broadcastInDim S1x6144 ![1] bcast_S6144_S1x6144_1 (Host.reduceAdd (shapeCast S1x6144 (Host.reduceAdd E (constant S_ .f32 0x00000000#32) reducesTo_S16x6144_S6144_d0 h_S_ : FVec Ideal S6144 .f32) shapeCasts_S6144_S1x6144)
    (constant S_ .f32 0x00000000#32) reducesTo_S1x6144_S6144_d0 h_S_)
abbrev movedWT := @movedT S_ S1024x768 ![] bcast_S_S1024x768
abbrev meanWT := @meanT S_ S1024x768 ![] bcast_S_S1024x768
abbrev spreadWT := @spreadT S_ S1024x768 ![] bcast_S_S1024x768
abbrev movedBT := @movedT S_ S1x6144 ![] bcast_S_S1x6144
abbrev meanBT := @meanT S_ S1x6144 ![] bcast_S_S1x6144
abbrev spreadBT := @spreadT S_ S1x6144 ![] bcast_S_S1x6144

theorem gradWT_eq : gradWT C D = gradW C D := by
  funext i
  idx_vars i
  unfold gradWT
  pointwise [gradW]
  exact Finset.sum_congr rfl fun k _ => mul_comm _ _

theorem gradBT_eq : gradBT E = gradB E := by
  funext i
  idx_vars i
  unfold gradBT
  pointwise [gradB]
  exact Fin.sum_univ_one _

end

open Cert.Kernel10Ideal Cert.Kernel10Ideal.Gen

variable {C : FVec Ideal S16x1024 .f32} {D : FVec Ideal S16x768 .f32} {E : FVec Ideal S16x6144 .f32} {W M U : FVec Ideal S1x1024x768 .f32} {B N R : FVec Ideal S1x6144 .f32}

theorem step_same (m : (ℓ : Loc nD τ sig) → Buf (Elt Ideal) ℓ) (c : Dev nD)
    (h0 : C = m ((c : Thread nD τ).loc main_arg0)) (h1 : E = m ((c : Thread nD τ).loc main_arg1)) (h2 : D = m ((c : Thread nD τ).loc main_arg2))
    (h3 : W = m ((c : Thread nD τ).loc main_arg3)) (h4 : M = m ((c : Thread nD τ).loc main_arg4)) (h5 : U = m ((c : Thread nD τ).loc main_arg5))
    (h6 : B = m ((c : Thread nD τ).loc main_arg6)) (h7 : N = m ((c : Thread nD τ).loc main_arg7)) (h8 : R = m ((c : Thread nD τ).loc main_arg8)) :
    (gradWT C D = (dats m 0 c).arrAt 9 cfg0.N ∧ movedWT (flat W) (gradWT C D) (flat M) (flat U) = (dats m 0 c).arrAt 10 cfg0.N
      ∧ meanWT (gradWT C D) (flat M) = (dats m 0 c).arrAt 11 cfg0.N ∧ spreadWT (gradWT C D) (flat U) = (dats m 0 c).arrAt 12 cfg0.N)
    ∧ gradBT E = (dats m 0 c).arrAt 13 cfg0.N ∧ movedBT B (gradBT E) N R = (dats m 0 c).arrAt 14 cfg0.N
      ∧ meanBT (gradBT E) N = (dats m 0 c).arrAt 15 cfg0.N ∧ spreadBT (gradBT E) R = (dats m 0 c).arrAt 16 cfg0.N := by
  subst h0 h1 h2 h3 h4 h5 h6 h7 h8
  obtain ⟨f3, f4, f5⟩ := flat_arg m c
  obtain ⟨⟨a1, a2, a3, a4⟩, a5, a6, a7, a8⟩ := arrays m c (V_main_arg0 m c) (V_main_arg1 m c) (V_main_arg2 m c) f3 f4 f5 (V_main_arg6 m c) (V_main_arg7 m c) (V_main_arg8 m c)
  rw [gradWT_eq, gradBT_eq]
  exact ⟨⟨a1.symm, a2.symm, a3.symm, a4.symm⟩, a5.symm, a6.symm, a7.symm, a8.symm⟩

end Cert.Condition
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.FfnRun
public import proofs.«01_k».proof.Proof.Equations
public import proofs.«01_k».proof.Proof.AttnRun
public import proofs.«01_k».proof.Proof.AttnVal
public import proofs.«01_k».proof.Proof.AttnRef
public import proofs.«01_k».proof.Proof.AttnEq
public import proofs.«01_k».proof.Proof.Gen.Kernel2
public import proofs.«01_k».proof.Proof.Gen.Kernel2.Skeleton
public import proofs.«01_k».proof.Proof.Gen.Kernel2.Loops
public import proofs.«01_k».proof.Proof.Gen.Kernel2.Launch
public import proofs.«01_k».proof.Proof.Gen.Kernel2.Regions
public import proofs.«01_k».proof.Proof.Gen.Kernel2.Points
public import proofs.«01_k».proof.Proof.Gen.Kernel2Ideal
public import proofs.«01_k».proof.Proof.Gen.Kernel2Ideal.Skeleton
public import proofs.«01_k».proof.Proof.Gen.Kernel2Ideal.Loops
public import proofs.«01_k».proof.Proof.Gen.Kernel2Ideal.Launch
public import proofs.«01_k».proof.Proof.Gen.Kernel2Ideal.Regions
public import proofs.«01_k».proof.Proof.Gen.Kernel2Ideal.Points
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel5
public import proofs.«01_k».proof.Proof.Gen.Kernel6
public import proofs.«01_k».proof.Proof.Gen.Kernel5.Skeleton
public import proofs.«01_k».proof.Proof.Gen.Kernel6.Skeleton
public import proofs.«01_k».proof.Proof.Gen.Kernel5.Launch
public import proofs.«01_k».proof.Proof.Gen.Kernel6.Launch
public import proofs.«01_k».proof.Proof.Gen.Kernel5.Points
public import proofs.«01_k».proof.Proof.Gen.Kernel6.Points
public import proofs.«01_k».proof.Proof.Gen.Kernel5Ideal
public import proofs.«01_k».proof.Proof.Gen.Kernel6Ideal
public import proofs.«01_k».proof.Proof.Gen.Kernel5Ideal.Skeleton
public import proofs.«01_k».proof.Proof.Gen.Kernel6Ideal.Skeleton
public import proofs.«01_k».proof.Proof.Gen.Kernel5Ideal.Launch
public import proofs.«01_k».proof.Proof.Gen.Kernel6Ideal.Launch
public import proofs.«01_k».proof.Proof.Gen.Kernel5Ideal.Points
public import proofs.«01_k».proof.Proof.Gen.Kernel6Ideal.Points
public import proofs.«01_k».proof.Proof.Gen.Reference5Ideal
public import proofs.«01_k».proof.Proof.Gen.Reference6Ideal
public import proofs.«01_k».proof.Proof.Gen.Reference5Ideal.Run
public import proofs.«01_k».proof.Proof.Gen.Reference6Ideal.Run
public import proofs.«01_k».proof.Proof.Gen.Reference4Ideal
public import proofs.«01_k».proof.Proof.Gen.Reference4Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.PoolEq
public import proofs.«01_k».proof.Proof.PreEq
public import proofs.«01_k».proof.Proof.PostEq
public import proofs.«01_k».proof.Proof.MidEq
public import proofs.«01_k».proof.Proof.MixEq
public import proofs.«01_k».proof.Proof.NormRef
public import proofs.«01_k».proof.Proof.CondRef
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import Idealize.ShloMosaic.Adequacy
public import Idealize.ShloMosaic.Init

@[expose] public section

set_option maxRecDepth 16384

noncomputable section

namespace Cert.Proof

open Idealize.ShloMosaic Idealize.SL.Sem Cert.KernelIdeal.Ffn Cert.Equations

theorem pre_facts : Cert.Pre_finite_ffn.Facts := by
  constructor <;> decide

theorem frame_r : Cert.quiescent_ReferenceIdeal := fun m g _ =>
  (θ_run Cert.ReferenceIdeal.defs _ _).mono (fun r h => ⟨fun c => (h c).2.2.2, sem_eq_zero_of_no_sems (by decide) r.2⟩)
    (Cert.ReferenceIdeal.Value.run m g)

theorem algebraic : Cert.algebraic_KernelIdeal_ReferenceIdeal_pre_finite_ffn (hPre_finite_ffn := pre_facts) := by
  pair_intro
  · run_from Cert.KernelIdeal.Ffn.run m g
  · run_from Cert.ReferenceIdeal.Value.run m' g'
    · funext i
      idx_vars i
      refine (ref_stack _ _ _ _ _ i0 i1 i2).trans ?_
      refine if_congr Iff.rfl (ref_lin _ _ _ _ _ _) (ref_lin _ _ _ _ _ _)
    · funext i
      idx_vars i
      refine congrArg₂ HMul.hMul (congrArg₂ HMul.hMul (ref_lin _ _ _ _ _ _) ((ref_sigmoid _ _ _ _).trans (congrArg _ (ref_lin _ _ _ _ _ _)))) (ref_lin _ _ _ _ _ _)
    · obtain ⟨h0, h2, h3, h4⟩ := finite _ _ _ _ _ _ (hpre c)
      rw [(hagree c).2.2.2.2]
      refine Eq.trans ?_ (dgu_eq _ _ _ _ _ h0 h2 h3 h4)
      funext i
      idx_vars i
      refine (ref_stack _ _ _ _ _ i0 i1 i2).trans ?_
      exact if_congr Iff.rfl (ref_dg _ _ _ _ i1 i2 (ref_lin _ _ _ _ _ _) (ref_lin _ _ _ _ _ _) (ref_back _ _ _ _ _ _))
        (ref_du _ _ _ i1 i2 (ref_lin _ _ _ _ _ _) (ref_back _ _ _ _ _ _))

theorem pre_facts₂ : Cert.Pre_finite_attention.Facts := by
  constructor <;> decide

theorem frame_k₂ : Cert.quiescent_Kernel2Ideal := fun m g _ => Cert.Kernel2Ideal.Attn.frame m g

/-- The program read at machine words is the same program as the one read at the extended reals. -/
theorem same₂ : Cert.quiescent_Kernel2 = (∀ (m : (ℓ : Loc Cert.Kernel2Ideal.nD Cert.Kernel2Ideal.τ Cert.Kernel2Ideal.sig) → Buf (Elt Bits) ℓ) (g : Dev Cert.Kernel2Ideal.nD → PrngReg),
    Cert.Pre_Kernel2 m → θ_run (Cert.Kernel2Ideal.defs (F := Bits)) (onTc (τ := Cert.Kernel2Ideal.τ) (Cert.Kernel2Ideal.main (F := Bits))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)) := by
  sl_kernel_rfl

theorem frame_b₂ : Cert.quiescent_Kernel2 := by
  rw [same₂]; exact fun m g _ => Cert.Kernel2Ideal.Attn.frame m g

theorem frame_r₂ : Cert.quiescent_Reference2Ideal := fun m g _ =>
  (θ_run Cert.Reference2Ideal.defs _ _).mono (fun r h => ⟨fun c => (h c).2.2, sem_eq_zero_of_no_sems (by decide) r.2⟩)
    (Cert.Reference2Ideal.Value.run m g)

theorem algebraic₂ : Cert.algebraic_Kernel2Ideal_Reference2Ideal_pre_finite_attention (hPre_finite_attention := pre_facts₂) := by
  pair_intro
  · run_from Cert.Attention.run m g
  · run_from Cert.Reference2Ideal.Value.run m' g'
    all_goals
      obtain ⟨⟨rq, hq⟩, ⟨rk, hk⟩, ⟨rv, hv⟩, ⟨rd, hd⟩⟩ := Cert.Attention.reals _ _ _ _ _ (hpre c)
      obtain ⟨eq, ek, ev, ed⟩ := hagree c
      have hq' := hq; have hk' := hk; have hv' := hv; have hd' := hd
      rw [← eq] at hq'; rw [← ek] at hk'; rw [← ev] at hv'; rw [← ed] at hd'
    · exact Cert.Attention.o_same (Idealize.ShloMosaic.StableHlo.launchContents m' c) hq' hk' hv' m c hq hk hv _ _ _
    · exact Cert.Attention.d_same (Idealize.ShloMosaic.StableHlo.launchContents m' c) hq' hk' hv' hd' m c hq hk hv hd _ _ _ _ _ _ _ _ _ _ _ _

theorem pre_facts₃ : Cert.Pre_finite_pool.Facts := by
  constructor <;> decide

theorem frame_r₃ : Cert.quiescent_Reference3Ideal := fun m g _ =>
  (θ_run Cert.Reference3Ideal.defs _ _).mono (fun r h => ⟨fun c => (h c).2.2.2, sem_eq_zero_of_no_sems (by decide) r.2⟩)
    (Cert.Reference3Ideal.Value.run m g)

theorem algebraic₃ : Cert.algebraic_Kernel3Ideal_Reference3Ideal_pre_finite_pool (hPre_finite_pool := pre_facts₃) := by
  pair_intro
  · run_from Cert.Kernel3Ideal.Value.run_blocks m g
  · run_from Cert.Reference3Ideal.Value.run m' g'
    all_goals
      obtain ⟨⟨rP, hP⟩, ⟨rQ, hQ⟩, ⟨rW, hW⟩, ⟨rS, hS⟩⟩ := Cert.Pool.reals pre_facts₃ _ _ _ _ _ (hpre c)
      obtain ⟨eP, eQ, eW, eS, eY⟩ := hagree c
      have hP' := hP; have hQ' := hQ; have hW' := hW; have hS' := hS
      rw [← eP] at hP'; rw [← eQ] at hQ'; rw [← eW] at hW'; rw [← eS] at hS'
    · have out := Cert.Pool.rows_out m c hQ hW hS
      rw [← eY] at out
      exact (Cert.Pool.slab_ref (V := Idealize.ShloMosaic.StableHlo.launchContents m' c) hQ' hW' hS' _).trans out.symm
    · exact Cert.Pool.weights_same (Idealize.ShloMosaic.StableHlo.launchContents m' c) hP' hQ' hS' m c hP hQ hS _
    · exact Cert.Pool.scale_same (Idealize.ShloMosaic.StableHlo.launchContents m' c) hP' hQ' hW' m c hP hQ hW

theorem pre_facts₄ : Cert.Pre_finite_pre.Facts := by
  constructor <;> decide

theorem frame_k₄ : Cert.quiescent_Kernel4Ideal := fun m g _ => Cert.Kernel4Ideal.Pre.frame m g

/-- The program read at machine words is the same program as the one read at the extended reals. -/
theorem same₄ : Cert.quiescent_Kernel4 = (∀ (m : (ℓ : Loc Cert.Kernel4Ideal.nD Cert.Kernel4Ideal.τ Cert.Kernel4Ideal.sig) → Buf (Elt Bits) ℓ) (g : Dev Cert.Kernel4Ideal.nD → PrngReg),
    Cert.Pre_Kernel4 m → θ_run (Cert.Kernel4Ideal.defs (F := Bits)) (onTc (τ := Cert.Kernel4Ideal.τ) (Cert.Kernel4Ideal.main (F := Bits))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)) := by
  sl_kernel_rfl

theorem frame_b₄ : Cert.quiescent_Kernel4 := by
  rw [same₄]; exact fun m g _ => Cert.Kernel4Ideal.Pre.frame m g

theorem frame_r₄ : Cert.quiescent_Reference4Ideal := fun m g _ =>
  (θ_run Cert.Reference4Ideal.defs _ _).mono (fun r h => ⟨fun c => (h c).2.2.2.2, sem_eq_zero_of_no_sems (by decide) r.2⟩)
    (Cert.Reference4Ideal.Value.run m g)

theorem algebraic₄ : Cert.algebraic_Kernel4Ideal_Reference4Ideal_pre_finite_pre (hPre_finite_pre := pre_facts₄) := by
  pair_intro
  · run_from Cert.Pre.run_arrays m g
  · run_from Cert.Reference4Ideal.Value.run m' g'
    all_goals
      obtain ⟨A, W, E, X, G, M, h⟩ := Cert.Pre.reals pre_facts₄ _ _ _ _ _ _ (hpre c)
      obtain ⟨e0, e1, e2, e3, e4, e5⟩ := hagree c
      have R := Cert.Pre.reads m c h
    · rw [← e0, ← e1, ← e2, ← e3, ← e4, ← e5] at h
      exact Cert.Pre.rows_same h R
    · exact Cert.Pre.shift_same h R
    · exact Cert.Pre.scale_same h R
    · exact Cert.Pre.gain_same h R

theorem pre_facts₅ : Cert.Pre_finite_post.Facts := by
  constructor <;> decide

theorem frame_k₅ : Cert.quiescent_Kernel5Ideal := fun m g _ => Cert.Kernel5Ideal.Post.frame m g

/-- The program read at machine words is the same program as the one read at the extended reals. -/
theorem same₅ : Cert.quiescent_Kernel5 = (∀ (m : (ℓ : Loc Cert.Kernel5Ideal.nD Cert.Kernel5Ideal.τ Cert.Kernel5Ideal.sig) → Buf (Elt Bits) ℓ) (g : Dev Cert.Kernel5Ideal.nD → PrngReg),
    Cert.Pre_Kernel5 m → θ_run (Cert.Kernel5Ideal.defs (F := Bits)) (onTc (τ := Cert.Kernel5Ideal.τ) (Cert.Kernel5Ideal.main (F := Bits))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)) := by
  sl_kernel_rfl

theorem frame_b₅ : Cert.quiescent_Kernel5 := by
  rw [same₅]; exact fun m g _ => Cert.Kernel5Ideal.Post.frame m g

theorem frame_r₅ : Cert.quiescent_Reference5Ideal := fun m g _ =>
  (θ_run Cert.Reference5Ideal.defs _ _).mono (fun r h => ⟨fun c => (h c).2.2.2.2.2, sem_eq_zero_of_no_sems (by decide) r.2⟩)
    (Cert.Reference5Ideal.Value.run m g)

theorem algebraic₅ : Cert.algebraic_Kernel5Ideal_Reference5Ideal_pre_finite_post (hPre_finite_post := pre_facts₅) := by
  pair_intro
  · run_from Cert.Post.run_arrays m g
  · run_from Cert.Reference5Ideal.Value.run m' g'
    all_goals
      obtain ⟨A, W, X, T, G, S, h⟩ := Cert.Post.reals pre_facts₅ _ _ _ _ _ _ (hpre c)
      obtain ⟨e0, e1, e2, e3, e4, e5⟩ := hagree c
      have R := Cert.Post.reads m c h
    · rw [← e0, ← e1, ← e2, ← e3, ← e4, ← e5] at h
      exact Cert.Post.loss_same h R
    · exact Cert.Post.out_same h R
    · rw [← e0, ← e1, ← e2, ← e3, ← e4, ← e5] at h
      exact Cert.Post.down_same h R
    · exact Cert.Post.gate_same h R
    · rw [← e0, ← e1, ← e2, ← e3, ← e4, ← e5] at h
      exact Cert.Post.gain_same h R

theorem pre_facts₆ : Cert.Pre_finite_mid.Facts := by
  constructor <;> decide

theorem frame_k₆ : Cert.quiescent_Kernel6Ideal := fun m g _ => Cert.Kernel6Ideal.Mid.frame m g

/-- The program read at machine words is the same program as the one read at the extended reals. -/
theorem same₆ : Cert.quiescent_Kernel6 = (∀ (m : (ℓ : Loc Cert.Kernel6Ideal.nD Cert.Kernel6Ideal.τ Cert.Kernel6Ideal.sig) → Buf (Elt Bits) ℓ) (g : Dev Cert.Kernel6Ideal.nD → PrngReg),
    Cert.Pre_Kernel6 m → θ_run (Cert.Kernel6Ideal.defs (F := Bits)) (onTc (τ := Cert.Kernel6Ideal.τ) (Cert.Kernel6Ideal.main (F := Bits))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)) := by
  sl_kernel_rfl

theorem frame_b₆ : Cert.quiescent_Kernel6 := by
  rw [same₆]; exact fun m g _ => Cert.Kernel6Ideal.Mid.frame m g

theorem frame_r₆ : Cert.quiescent_Reference6Ideal := fun m g _ =>
  (θ_run Cert.Reference6Ideal.defs _ _).mono (fun r h => ⟨fun c => (h c).2.2.2.2.2.2.2, sem_eq_zero_of_no_sems (by decide) r.2⟩)
    (Cert.Reference6Ideal.Value.run m g)

theorem algebraic₆ : Cert.algebraic_Kernel6Ideal_Reference6Ideal_pre_finite_mid (hPre_finite_mid := pre_facts₆) := by
  pair_intro
  · run_from Cert.Mid.run_arrays m g
  · run_from Cert.Reference6Ideal.Value.run m' g'
    all_goals
      obtain ⟨T, h⟩ := Cert.Mid.reals pre_facts₆ _ _ _ _ _ _ _ _ _ _ (hpre c)
      have R := Cert.Mid.reads m c h
      have H := Cert.Mid.stages (h.move (hagree c))
    · exact Cert.Mid.out_same H R
    · exact Cert.Mid.mix_same H R
    · exact Cert.Mid.shift_same H R
    · exact Cert.Mid.scale_same H R
    · exact Cert.Mid.gate_same H R
    · exact Cert.Mid.pre_same H R
    · exact Cert.Mid.post_same H R

theorem pre_facts₇ : Cert.Pre_finite_mixer.Facts := by
  constructor <;> decide

theorem frame_r₇ : Cert.quiescent_Reference7Ideal := fun m g _ =>
  (θ_run Cert.Reference7Ideal.defs _ _).mono (fun r h => ⟨fun c => (h c).2, sem_eq_zero_of_no_sems (by decide) r.2⟩)
    (Cert.Reference7Ideal.Value.run m g)

theorem algebraic₇ : Cert.algebraic_Kernel7Ideal_Reference7Ideal_pre_finite_mixer (hPre_finite_mixer := pre_facts₇) := by
  pair_intro
  · run_from Cert.Kernel7Ideal.Value.run_blocks m g
  · run_from Cert.Reference7Ideal.Value.run m' g'
    obtain ⟨⟨rP, hP⟩, ⟨rW, hW⟩, ⟨rS, hS⟩⟩ := Cert.Mixer.reals pre_facts₇ _ _ _ _ (hpre c)
    obtain ⟨e0, e1, e2, e3⟩ := hagree c
    exact Cert.Mixer.out_same (e0 ▸ hP) (e1 ▸ hW) (e2 ▸ hS) m c e0 e1 e2 e3

theorem frame_r₈ : Cert.quiescent_Reference8Ideal := fun m g _ =>
  (θ_run Cert.Reference8Ideal.defs _ _).mono (fun r h => ⟨fun c => (h c).2, sem_eq_zero_of_no_sems (by decide) r.2⟩)
    (Cert.Reference8Ideal.Value.run m g)

theorem algebraic₈ : Cert.algebraic_Kernel8Ideal_Reference8Ideal := by
  pair_intro
  · run_from Cert.Kernel8Ideal.Value.run_blocks m g
  · run_from Cert.Reference8Ideal.Value.run m' g'
    exact Cert.Normed.out_same m c rfl rfl rfl

theorem frame_r₉ : Cert.quiescent_Reference9Ideal := fun m g _ =>
  (θ_run Cert.Reference9Ideal.defs _ _).mono (fun r h => ⟨fun c => (h c).2, sem_eq_zero_of_no_sems (by decide) r.2⟩)
    (Cert.Reference9Ideal.Value.run m g)

theorem algebraic₉ : Cert.algebraic_Kernel9Ideal_Reference9Ideal := by
  pair_intro
  · run_from Cert.Kernel9Ideal.Value.run_blocks m g
  · run_from Cert.Reference9Ideal.Value.run m' g'
    exact Cert.Condition.out_same m c rfl rfl rfl

theorem frame_r₁₀ : Cert.quiescent_Reference10Ideal := fun m g _ =>
  (θ_run Cert.Reference10Ideal.defs _ _).mono (fun r h => ⟨fun c => (h c).2.2.2.2.2.2.2.2, sem_eq_zero_of_no_sems (by decide) r.2⟩)
    (Cert.Reference10Ideal.Value.run m g)

theorem algebraic₁₀ : Cert.algebraic_Kernel10Ideal_Reference10Ideal := by
  pair_intro
  · run_from Cert.Kernel10Ideal.Value.run_blocks m g
  · run_from Cert.Reference10Ideal.Value.run m' g'
    all_goals obtain ⟨⟨a1, a2, a3, a4⟩, a5, a6, a7, a8⟩ := Cert.Condition.step_same m c rfl rfl rfl rfl rfl rfl rfl rfl rfl
    · exact a1
    · exact a2
    · exact a3
    · exact a4
    · exact a5
    · exact a6
    · exact a7
    · exact a8

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts, Cert.Kernel7.Gen.facts, Cert.Kernel7Ideal.Gen.facts,
    Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts,
    Cert.Kernel10.Gen.facts, Cert.Kernel10Ideal.Gen.facts, Cert.Reference10Ideal.Gen.facts, pre_facts, pre_facts₂, pre_facts₃, pre_facts₄, pre_facts₅, pre_facts₆, pre_facts₇,
    fun m g _ => Cert.Kernel.Gen.frame m g, fun m g _ => Cert.KernelIdeal.Gen.frame m g, fun m g _ => Cert.KernelIdeal.Gen.frame m g,
    frame_r, fun m g _ => frame_r m g trivial,
    frame_b₂, frame_k₂, fun m g _ => frame_k₂ m g trivial, frame_r₂, fun m g _ => frame_r₂ m g trivial,
    fun m g _ => Cert.Kernel3.Gen.frame m g, fun m g _ => Cert.Kernel3Ideal.Gen.frame m g, fun m g _ => Cert.Kernel3Ideal.Gen.frame m g,
    frame_r₃, fun m g _ => frame_r₃ m g trivial,
    frame_b₄, frame_k₄, fun m g _ => frame_k₄ m g trivial, frame_r₄, fun m g _ => frame_r₄ m g trivial,
    frame_b₅, frame_k₅, fun m g _ => frame_k₅ m g trivial, frame_r₅, fun m g _ => frame_r₅ m g trivial,
    frame_b₆, frame_k₆, fun m g _ => frame_k₆ m g trivial, frame_r₆, fun m g _ => frame_r₆ m g trivial,
    fun m g _ => Cert.Kernel7.Gen.frame m g, fun m g _ => Cert.Kernel7Ideal.Gen.frame m g, fun m g _ => Cert.Kernel7Ideal.Gen.frame m g,
    frame_r₇, fun m g _ => frame_r₇ m g trivial,
    fun m g _ => Cert.Kernel8.Gen.frame m g, fun m g _ => Cert.Kernel8Ideal.Gen.frame m g, frame_r₈,
    fun m g _ => Cert.Kernel9.Gen.frame m g, fun m g _ => Cert.Kernel9Ideal.Gen.frame m g, frame_r₉,
    fun m g _ => Cert.Kernel10.Gen.frame m g, fun m g _ => Cert.Kernel10Ideal.Gen.frame m g, frame_r₁₀,
    trivial, algebraic, trivial, algebraic₂, trivial, algebraic₃, trivial, algebraic₄, trivial, algebraic₅, trivial, algebraic₆, trivial, algebraic₇, trivial, algebraic₈, trivial, algebraic₉, trivial, algebraic₁₀⟩

end Cert.Proof

end
